-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v5056)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5056) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5055) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2x256x32x32 : Shape := ⟨5, ![4, 2, 256, 32, 32]⟩
abbrev S4x256 : Shape := ⟨2, ![4, 256]⟩
abbrev S6x256x256 : Shape := ⟨3, ![6, 256, 256]⟩
abbrev S6x256 : Shape := ⟨2, ![6, 256]⟩
abbrev S6x256x128 : Shape := ⟨3, ![6, 256, 128]⟩
abbrev S6x128 : Shape := ⟨2, ![6, 128]⟩
abbrev S6x256x1024 : Shape := ⟨3, ![6, 256, 1024]⟩
abbrev S6x1024 : Shape := ⟨2, ![6, 1024]⟩
abbrev S6x1024x256 : Shape := ⟨3, ![6, 1024, 256]⟩
abbrev S4x2 : Shape := ⟨2, ![4, 2]⟩
abbrev S4x2x256x1024 : Shape := ⟨4, ![4, 2, 256, 1024]⟩
abbrev S2x4x1024x256 : Shape := ⟨4, ![2, 4, 1024, 256]⟩
abbrev S2x4096x256 : Shape := ⟨3, ![2, 4096, 256]⟩
abbrev S1x4x1x256 : Shape := ⟨4, ![1, 4, 1, 256]⟩
abbrev S_ : Shape := ⟨0, ![]⟩
abbrev S2x4x2 : Shape := ⟨3, ![2, 4, 2]⟩
abbrev S31 : Shape := ⟨1, ![31]⟩
abbrev S1 : Shape := ⟨1, ![1]⟩
abbrev S32 : Shape := ⟨1, ![32]⟩
abbrev S32x32 : Shape := ⟨2, ![32, 32]⟩
abbrev S1024 : Shape := ⟨1, ![1024]⟩
abbrev S1x1024 : Shape := ⟨2, ![1, 1024]⟩
abbrev S2x1x1 : Shape := ⟨3, ![2, 1, 1]⟩
abbrev S2 : Shape := ⟨1, ![2]⟩
abbrev S2x1 : Shape := ⟨2, ![2, 1]⟩
abbrev S2x1024 : Shape := ⟨2, ![2, 1024]⟩
abbrev S2x1024x1 : Shape := ⟨3, ![2, 1024, 1]⟩
abbrev S2x1024x2 : Shape := ⟨3, ![2, 1024, 2]⟩
abbrev S2x4096x2 : Shape := ⟨3, ![2, 4096, 2]⟩
abbrev S2x4096x1x2 : Shape := ⟨4, ![2, 4096, 1, 2]⟩
abbrev S2x1x4x2 : Shape := ⟨4, ![2, 1, 4, 2]⟩
abbrev S2x4096x4x2 : Shape := ⟨4, ![2, 4096, 4, 2]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x1x256 : Shape := ⟨3, ![1, 1, 256]⟩
abbrev S2x4096x8x32 : Shape := ⟨4, ![2, 4096, 8, 32]⟩
abbrev S2x4096x8x4x4x2 : Shape := ⟨6, ![2, 4096, 8, 4, 4, 2]⟩
abbrev S1x256x128 : Shape := ⟨3, ![1, 256, 128]⟩
abbrev S256x128 : Shape := ⟨2, ![256, 128]⟩
abbrev S2x4096x128 : Shape := ⟨3, ![2, 4096, 128]⟩
abbrev S1x128 : Shape := ⟨2, ![1, 128]⟩
abbrev S128 : Shape := ⟨1, ![128]⟩
abbrev S1x1x128 : Shape := ⟨3, ![1, 1, 128]⟩
abbrev S2x4096x8x16 : Shape := ⟨4, ![2, 4096, 8, 16]⟩
abbrev S2x4096x8 : Shape := ⟨3, ![2, 4096, 8]⟩
abbrev S2x4096x8x1 : Shape := ⟨4, ![2, 4096, 8, 1]⟩
abbrev S2x4096x8x4x4 : Shape := ⟨5, ![2, 4096, 8, 4, 4]⟩
abbrev S2x4096x1x4x1x2 : Shape := ⟨6, ![2, 4096, 1, 4, 1, 2]⟩
abbrev S1x1x1x4x1x2 : Shape := ⟨6, ![1, 1, 1, 4, 1, 2]⟩
abbrev S2x1024x8x32 : Shape := ⟨4, ![2, 1024, 8, 32]⟩
abbrev S2x8x32x1024 : Shape := ⟨4, ![2, 8, 32, 1024]⟩
abbrev S16x32x32x32 : Shape := ⟨4, ![16, 32, 32, 32]⟩
abbrev S2x4096x8x1x4x2 : Shape := ⟨6, ![2, 4096, 8, 1, 4, 2]⟩
abbrev S2x4096x8x4x2 : Shape := ⟨5, ![2, 4096, 8, 4, 2]⟩
abbrev S2x8x4096x4x2 : Shape := ⟨5, ![2, 8, 4096, 4, 2]⟩
abbrev S16x4096x4x2 : Shape := ⟨4, ![16, 4096, 4, 2]⟩
abbrev S16x4096x4x1 : Shape := ⟨4, ![16, 4096, 4, 1]⟩
abbrev S16x4096x4 : Shape := ⟨3, ![16, 4096, 4]⟩
abbrev S16x32x1024 : Shape := ⟨3, ![16, 32, 1024]⟩
abbrev S16x16384 : Shape := ⟨2, ![16, 16384]⟩
abbrev S16x1x16384 : Shape := ⟨3, ![16, 1, 16384]⟩
abbrev S16x32x16384 : Shape := ⟨3, ![16, 32, 16384]⟩
abbrev S16x32x16384x1 : Shape := ⟨4, ![16, 32, 16384, 1]⟩
abbrev S1x1x1x1 : Shape := ⟨4, ![1, 1, 1, 1]⟩
abbrev S16x32x4096x4 : Shape := ⟨4, ![16, 32, 4096, 4]⟩
abbrev S16x1x4096x4 : Shape := ⟨4, ![16, 1, 4096, 4]⟩
abbrev S16x32x4096x1x4 : Shape := ⟨5, ![16, 32, 4096, 1, 4]⟩
abbrev S16x32x4096x4x4 : Shape := ⟨5, ![16, 32, 4096, 4, 4]⟩
abbrev S16x32x4096x16 : Shape := ⟨4, ![16, 32, 4096, 16]⟩
abbrev S2x8x4096x4x4 : Shape := ⟨5, ![2, 8, 4096, 4, 4]⟩
abbrev S16x1x4096x16 : Shape := ⟨4, ![16, 1, 4096, 16]⟩
abbrev S16x32x4096 : Shape := ⟨3, ![16, 32, 4096]⟩
abbrev S2x256x4096 : Shape := ⟨3, ![2, 256, 4096]⟩
abbrev S2x4096 : Shape := ⟨2, ![2, 4096]⟩
abbrev S2x4096x1 : Shape := ⟨3, ![2, 4096, 1]⟩
abbrev S1x256x1024 : Shape := ⟨3, ![1, 256, 1024]⟩
abbrev S256x1024 : Shape := ⟨2, ![256, 1024]⟩
abbrev S2x4096x1024 : Shape := ⟨3, ![2, 4096, 1024]⟩
abbrev S1x1x1024 : Shape := ⟨3, ![1, 1, 1024]⟩
abbrev S1x1024x256 : Shape := ⟨3, ![1, 1024, 256]⟩
abbrev S1024x256 : Shape := ⟨2, ![1024, 256]⟩

abbrev nBuf : Space → Nat
  | .hbm => 9450
  | .vmem => 2
  | .smem => 0
  | _ => 0

abbrev hbmTy0_0 (i : Nat) : BufTy := match i % 128 with
  | 0 => ⟨S4x2x256x32x32, .f32⟩
  | 1 => ⟨S4x2x256x32x32, .f32⟩
  | 2 => ⟨S4x256, .f32⟩
  | 3 => ⟨S6x256x256, .f32⟩
  | 4 => ⟨S6x256, .f32⟩
  | 5 => ⟨S6x256x256, .f32⟩
  | 6 => ⟨S6x256, .f32⟩
  | 7 => ⟨S6x256x128, .f32⟩
  | 8 => ⟨S6x128, .f32⟩
  | 9 => ⟨S6x256x256, .f32⟩
  | 10 => ⟨S6x256, .f32⟩
  | 11 => ⟨S6x256, .f32⟩
  | 12 => ⟨S6x256, .f32⟩
  | 13 => ⟨S6x256x1024, .f32⟩
  | 14 => ⟨S6x1024, .f32⟩
  | 15 => ⟨S6x1024x256, .f32⟩
  | 16 => ⟨S6x256, .f32⟩
  | 17 => ⟨S6x256, .f32⟩
  | 18 => ⟨S6x256, .f32⟩
  | 19 => ⟨S4x2, .f32⟩
  | 20 => ⟨S4x2x256x1024, .f32⟩
  | 21 => ⟨S2x4x1024x256, .f32⟩
  | 22 => ⟨S2x4096x256, .f32⟩
  | 23 => ⟨S4x2x256x1024, .f32⟩
  | 24 => ⟨S2x4x1024x256, .f32⟩
  | 25 => ⟨S1x4x1x256, .f32⟩
  | 26 => ⟨S2x4x1024x256, .f32⟩
  | 27 => ⟨S2x4x1024x256, .f32⟩
  | 28 => ⟨S2x4096x256, .f32⟩
  | 29 => ⟨S_, .f32⟩
  | 30 => ⟨S2x4x2, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S31, .f32⟩
  | 39 => ⟨S_, .f32⟩
  | 40 => ⟨S31, .f32⟩
  | 41 => ⟨S31, .f32⟩
  | 42 => ⟨S1, .f32⟩
  | 43 => ⟨S_, .f32⟩
  | 44 => ⟨S31, .f32⟩
  | 45 => ⟨S31, .f32⟩
  | 46 => ⟨S31, .f32⟩
  | 47 => ⟨S31, .f32⟩
  | 48 => ⟨S1, .f32⟩
  | 49 => ⟨S31, .f32⟩
  | 50 => ⟨S31, .f32⟩
  | 51 => ⟨S31, .f32⟩
  | 52 => ⟨S1, .f32⟩
  | 53 => ⟨S32, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S31, .f32⟩
  | 62 => ⟨S_, .f32⟩
  | 63 => ⟨S31, .f32⟩
  | 64 => ⟨S31, .f32⟩
  | 65 => ⟨S1, .f32⟩
  | 66 => ⟨S_, .f32⟩
  | 67 => ⟨S31, .f32⟩
  | 68 => ⟨S31, .f32⟩
  | 69 => ⟨S31, .f32⟩
  | 70 => ⟨S31, .f32⟩
  | 71 => ⟨S1, .f32⟩
  | 72 => ⟨S31, .f32⟩
  | 73 => ⟨S31, .f32⟩
  | 74 => ⟨S31, .f32⟩
  | 75 => ⟨S1, .f32⟩
  | 76 => ⟨S32, .f32⟩
  | 77 => ⟨S32x32, .f32⟩
  | 78 => ⟨S32x32, .f32⟩
  | 79 => ⟨S1024, .f32⟩
  | 80 => ⟨S1x1024, .f32⟩
  | 81 => ⟨S2x1x1, .f32⟩
  | 82 => ⟨S2, .f32⟩
  | 83 => ⟨S2x1, .f32⟩
  | 84 => ⟨S_, .f32⟩
  | 85 => ⟨S2x1, .f32⟩
  | 86 => ⟨S2x1, .f32⟩
  | 87 => ⟨S2x1024, .f32⟩
  | 88 => ⟨S2x1024, .f32⟩
  | 89 => ⟨S2x1024, .f32⟩
  | 90 => ⟨S1024, .f32⟩
  | 91 => ⟨S1x1024, .f32⟩
  | 92 => ⟨S2x1x1, .f32⟩
  | 93 => ⟨S2, .f32⟩
  | 94 => ⟨S2x1, .f32⟩
  | 95 => ⟨S_, .f32⟩
  | 96 => ⟨S2x1, .f32⟩
  | 97 => ⟨S2x1, .f32⟩
  | 98 => ⟨S2x1024, .f32⟩
  | 99 => ⟨S2x1024, .f32⟩
  | 100 => ⟨S2x1024, .f32⟩
  | 101 => ⟨S2x1024x1, .f32⟩
  | 102 => ⟨S2x1024x1, .f32⟩
  | 103 => ⟨S2x1024x2, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S31, .f32⟩
  | 112 => ⟨S_, .f32⟩
  | 113 => ⟨S31, .f32⟩
  | 114 => ⟨S31, .f32⟩
  | 115 => ⟨S1, .f32⟩
  | 116 => ⟨S_, .f32⟩
  | 117 => ⟨S31, .f32⟩
  | 118 => ⟨S31, .f32⟩
  | 119 => ⟨S31, .f32⟩
  | 120 => ⟨S31, .f32⟩
  | 121 => ⟨S1, .f32⟩
  | 122 => ⟨S31, .f32⟩
  | 123 => ⟨S31, .f32⟩
  | 124 => ⟨S31, .f32⟩
  | 125 => ⟨S1, .f32⟩
  | 126 => ⟨S32, .f32⟩
  | 127 => ⟨S_, .f32⟩
  | _ => ⟨S4x2x256x32x32, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S31, .f32⟩
  | 7 => ⟨S_, .f32⟩
  | 8 => ⟨S31, .f32⟩
  | 9 => ⟨S31, .f32⟩
  | 10 => ⟨S1, .f32⟩
  | 11 => ⟨S_, .f32⟩
  | 12 => ⟨S31, .f32⟩
  | 13 => ⟨S31, .f32⟩
  | 14 => ⟨S31, .f32⟩
  | 15 => ⟨S31, .f32⟩
  | 16 => ⟨S1, .f32⟩
  | 17 => ⟨S31, .f32⟩
  | 18 => ⟨S31, .f32⟩
  | 19 => ⟨S31, .f32⟩
  | 20 => ⟨S1, .f32⟩
  | 21 => ⟨S32, .f32⟩
  | 22 => ⟨S32x32, .f32⟩
  | 23 => ⟨S32x32, .f32⟩
  | 24 => ⟨S1024, .f32⟩
  | 25 => ⟨S1x1024, .f32⟩
  | 26 => ⟨S2x1x1, .f32⟩
  | 27 => ⟨S2, .f32⟩
  | 28 => ⟨S2x1, .f32⟩
  | 29 => ⟨S_, .f32⟩
  | 30 => ⟨S2x1, .f32⟩
  | 31 => ⟨S2x1, .f32⟩
  | 32 => ⟨S2x1024, .f32⟩
  | 33 => ⟨S2x1024, .f32⟩
  | 34 => ⟨S2x1024, .f32⟩
  | 35 => ⟨S1024, .f32⟩
  | 36 => ⟨S1x1024, .f32⟩
  | 37 => ⟨S2x1x1, .f32⟩
  | 38 => ⟨S2, .f32⟩
  | 39 => ⟨S2x1, .f32⟩
  | 40 => ⟨S_, .f32⟩
  | 41 => ⟨S2x1, .f32⟩
  | 42 => ⟨S2x1, .f32⟩
  | 43 => ⟨S2x1024, .f32⟩
  | 44 => ⟨S2x1024, .f32⟩
  | 45 => ⟨S2x1024, .f32⟩
  | 46 => ⟨S2x1024x1, .f32⟩
  | 47 => ⟨S2x1024x1, .f32⟩
  | 48 => ⟨S2x1024x2, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S31, .f32⟩
  | 57 => ⟨S_, .f32⟩
  | 58 => ⟨S31, .f32⟩
  | 59 => ⟨S31, .f32⟩
  | 60 => ⟨S1, .f32⟩
  | 61 => ⟨S_, .f32⟩
  | 62 => ⟨S31, .f32⟩
  | 63 => ⟨S31, .f32⟩
  | 64 => ⟨S31, .f32⟩
  | 65 => ⟨S31, .f32⟩
  | 66 => ⟨S1, .f32⟩
  | 67 => ⟨S31, .f32⟩
  | 68 => ⟨S31, .f32⟩
  | 69 => ⟨S31, .f32⟩
  | 70 => ⟨S1, .f32⟩
  | 71 => ⟨S32, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S31, .f32⟩
  | 80 => ⟨S_, .f32⟩
  | 81 => ⟨S31, .f32⟩
  | 82 => ⟨S31, .f32⟩
  | 83 => ⟨S1, .f32⟩
  | 84 => ⟨S_, .f32⟩
  | 85 => ⟨S31, .f32⟩
  | 86 => ⟨S31, .f32⟩
  | 87 => ⟨S31, .f32⟩
  | 88 => ⟨S31, .f32⟩
  | 89 => ⟨S1, .f32⟩
  | 90 => ⟨S31, .f32⟩
  | 91 => ⟨S31, .f32⟩
  | 92 => ⟨S31, .f32⟩
  | 93 => ⟨S1, .f32⟩
  | 94 => ⟨S32, .f32⟩
  | 95 => ⟨S32x32, .f32⟩
  | 96 => ⟨S32x32, .f32⟩
  | 97 => ⟨S1024, .f32⟩
  | 98 => ⟨S1x1024, .f32⟩
  | 99 => ⟨S2x1x1, .f32⟩
  | 100 => ⟨S2, .f32⟩
  | 101 => ⟨S2x1, .f32⟩
  | 102 => ⟨S_, .f32⟩
  | 103 => ⟨S2x1, .f32⟩
  | 104 => ⟨S2x1, .f32⟩
  | 105 => ⟨S2x1024, .f32⟩
  | 106 => ⟨S2x1024, .f32⟩
  | 107 => ⟨S2x1024, .f32⟩
  | 108 => ⟨S1024, .f32⟩
  | 109 => ⟨S1x1024, .f32⟩
  | 110 => ⟨S2x1x1, .f32⟩
  | 111 => ⟨S2, .f32⟩
  | 112 => ⟨S2x1, .f32⟩
  | 113 => ⟨S_, .f32⟩
  | 114 => ⟨S2x1, .f32⟩
  | 115 => ⟨S2x1, .f32⟩
  | 116 => ⟨S2x1024, .f32⟩
  | 117 => ⟨S2x1024, .f32⟩
  | 118 => ⟨S2x1024, .f32⟩
  | 119 => ⟨S2x1024x1, .f32⟩
  | 120 => ⟨S2x1024x1, .f32⟩
  | 121 => ⟨S2x1024x2, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4x2x256x32x32, .f32⟩

abbrev hbmTy0_2 (i : Nat) : BufTy := match i % 128 with
  | 0 => ⟨S_, .f32⟩
  | 1 => ⟨S31, .f32⟩
  | 2 => ⟨S_, .f32⟩
  | 3 => ⟨S31, .f32⟩
  | 4 => ⟨S31, .f32⟩
  | 5 => ⟨S1, .f32⟩
  | 6 => ⟨S_, .f32⟩
  | 7 => ⟨S31, .f32⟩
  | 8 => ⟨S31, .f32⟩
  | 9 => ⟨S31, .f32⟩
  | 10 => ⟨S31, .f32⟩
  | 11 => ⟨S1, .f32⟩
  | 12 => ⟨S31, .f32⟩
  | 13 => ⟨S31, .f32⟩
  | 14 => ⟨S31, .f32⟩
  | 15 => ⟨S1, .f32⟩
  | 16 => ⟨S32, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S31, .f32⟩
  | 25 => ⟨S_, .f32⟩
  | 26 => ⟨S31, .f32⟩
  | 27 => ⟨S31, .f32⟩
  | 28 => ⟨S1, .f32⟩
  | 29 => ⟨S_, .f32⟩
  | 30 => ⟨S31, .f32⟩
  | 31 => ⟨S31, .f32⟩
  | 32 => ⟨S31, .f32⟩
  | 33 => ⟨S31, .f32⟩
  | 34 => ⟨S1, .f32⟩
  | 35 => ⟨S31, .f32⟩
  | 36 => ⟨S31, .f32⟩
  | 37 => ⟨S31, .f32⟩
  | 38 => ⟨S1, .f32⟩
  | 39 => ⟨S32, .f32⟩
  | 40 => ⟨S32x32, .f32⟩
  | 41 => ⟨S32x32, .f32⟩
  | 42 => ⟨S1024, .f32⟩
  | 43 => ⟨S1x1024, .f32⟩
  | 44 => ⟨S2x1x1, .f32⟩
  | 45 => ⟨S2, .f32⟩
  | 46 => ⟨S2x1, .f32⟩
  | 47 => ⟨S_, .f32⟩
  | 48 => ⟨S2x1, .f32⟩
  | 49 => ⟨S2x1, .f32⟩
  | 50 => ⟨S2x1024, .f32⟩
  | 51 => ⟨S2x1024, .f32⟩
  | 52 => ⟨S2x1024, .f32⟩
  | 53 => ⟨S1024, .f32⟩
  | 54 => ⟨S1x1024, .f32⟩
  | 55 => ⟨S2x1x1, .f32⟩
  | 56 => ⟨S2, .f32⟩
  | 57 => ⟨S2x1, .f32⟩
  | 58 => ⟨S_, .f32⟩
  | 59 => ⟨S2x1, .f32⟩
  | 60 => ⟨S2x1, .f32⟩
  | 61 => ⟨S2x1024, .f32⟩
  | 62 => ⟨S2x1024, .f32⟩
  | 63 => ⟨S2x1024, .f32⟩
  | 64 => ⟨S2x1024x1, .f32⟩
  | 65 => ⟨S2x1024x1, .f32⟩
  | 66 => ⟨S2x1024x2, .f32⟩
  | 67 => ⟨S2x4096x2, .f32⟩
  | 68 => ⟨S2x4096x1x2, .f32⟩
  | 69 => ⟨S2x1x4x2, .f32⟩
  | 70 => ⟨S2x4096x4x2, .f32⟩
  | 71 => ⟨S2x4096x4x2, .f32⟩
  | 72 => ⟨S2x4096x4x2, .f32⟩
  | 73 => ⟨S2x4096x256, .f32⟩
  | 74 => ⟨S1x256x256, .f32⟩
  | 75 => ⟨S256x256, .f32⟩
  | 76 => ⟨S2x4096x256, .f32⟩
  | 77 => ⟨S1x256, .f32⟩
  | 78 => ⟨S256, .f32⟩
  | 79 => ⟨S1x1x256, .f32⟩
  | 80 => ⟨S2x4096x256, .f32⟩
  | 81 => ⟨S2x4096x256, .f32⟩
  | 82 => ⟨S2x4096x8x32, .f32⟩
  | 83 => ⟨S1x256x256, .f32⟩
  | 84 => ⟨S256x256, .f32⟩
  | 85 => ⟨S2x4096x256, .f32⟩
  | 86 => ⟨S1x256, .f32⟩
  | 87 => ⟨S256, .f32⟩
  | 88 => ⟨S1x1x256, .f32⟩
  | 89 => ⟨S2x4096x256, .f32⟩
  | 90 => ⟨S2x4096x256, .f32⟩
  | 91 => ⟨S2x4096x8x4x4x2, .f32⟩
  | 92 => ⟨S1x256x128, .f32⟩
  | 93 => ⟨S256x128, .f32⟩
  | 94 => ⟨S2x4096x128, .f32⟩
  | 95 => ⟨S1x128, .f32⟩
  | 96 => ⟨S128, .f32⟩
  | 97 => ⟨S1x1x128, .f32⟩
  | 98 => ⟨S2x4096x128, .f32⟩
  | 99 => ⟨S2x4096x128, .f32⟩
  | 100 => ⟨S2x4096x8x16, .f32⟩
  | 101 => ⟨S_, .f32⟩
  | 102 => ⟨S2x4096x8, .f32⟩
  | 103 => ⟨S_, .f32⟩
  | 104 => ⟨S2x4096x8, .f32⟩
  | 105 => ⟨S2x4096x8, .f32⟩
  | 106 => ⟨S2x4096x8x1, .f32⟩
  | 107 => ⟨S2x4096x8x16, .f32⟩
  | 108 => ⟨S2x4096x8x16, .f32⟩
  | 109 => ⟨S2x4096x8x16, .f32⟩
  | 110 => ⟨S_, .f32⟩
  | 111 => ⟨S2x4096x8, .f32⟩
  | 112 => ⟨S2x4096x8x1, .f32⟩
  | 113 => ⟨S2x4096x8x16, .f32⟩
  | 114 => ⟨S2x4096x8x16, .f32⟩
  | 115 => ⟨S2x4096x8x4x4, .f32⟩
  | 116 => ⟨S2x4096x1x4x1x2, .f32⟩
  | 117 => ⟨S1x1x1x4x1x2, .f32⟩
  | 118 => ⟨S2x4096x8x4x4x2, .f32⟩
  | 119 => ⟨S2x4096x8x4x4x2, .f32⟩
  | 120 => ⟨S2x4096x8x4x4x2, .f32⟩
  | 121 => ⟨S2x4096x8x4x4x2, .f32⟩
  | 122 => ⟨S_, .f32⟩
  | 123 => ⟨S2x4096x8x4x4x2, .f32⟩
  | 124 => ⟨S2x4096x8x4x4x2, .f32⟩
  | 125 => ⟨S_, .f32⟩
  | 126 => ⟨S2x4096x8x4x4x2, .f32⟩
  | 127 => ⟨S2x4096x8x4x4x2, .f32⟩
  | _ => ⟨S4x2x256x32x32, .f32⟩

abbrev hbmTy0_3 (i : Nat) : BufTy := match i % 128 with
  | 0 => ⟨S2x1024x8x32, .f32⟩
  | 1 => ⟨S2x8x32x1024, .f32⟩
  | 2 => ⟨S16x32x32x32, .f32⟩
  | 3 => ⟨S2x4096x8x1x4x2, .f32⟩
  | 4 => ⟨S2x4096x8x4x2, .f32⟩
  | 5 => ⟨S2x8x4096x4x2, .f32⟩
  | 6 => ⟨S16x4096x4x2, .f32⟩
  | 7 => ⟨S16x4096x4x1, .f32⟩
  | 8 => ⟨S16x4096x4, .f32⟩
  | 9 => ⟨S_, .f32⟩
  | 10 => ⟨S16x4096x4, .f32⟩
  | 11 => ⟨S16x4096x4, .f32⟩
  | 12 => ⟨S_, .f32⟩
  | 13 => ⟨S16x4096x4, .f32⟩
  | 14 => ⟨S16x4096x4, .f32⟩
  | 15 => ⟨S_, .f32⟩
  | 16 => ⟨S16x4096x4, .f32⟩
  | 17 => ⟨S16x4096x4, .f32⟩
  | 18 => ⟨S_, .f32⟩
  | 19 => ⟨S16x4096x4, .f32⟩
  | 20 => ⟨S16x4096x4, .f32⟩
  | 21 => ⟨S16x4096x4x1, .f32⟩
  | 22 => ⟨S16x4096x4, .f32⟩
  | 23 => ⟨S_, .f32⟩
  | 24 => ⟨S16x4096x4, .f32⟩
  | 25 => ⟨S16x4096x4, .f32⟩
  | 26 => ⟨S_, .f32⟩
  | 27 => ⟨S16x4096x4, .f32⟩
  | 28 => ⟨S16x4096x4, .f32⟩
  | 29 => ⟨S_, .f32⟩
  | 30 => ⟨S16x4096x4, .f32⟩
  | 31 => ⟨S16x4096x4, .f32⟩
  | 32 => ⟨S_, .f32⟩
  | 33 => ⟨S16x4096x4, .f32⟩
  | 34 => ⟨S16x4096x4, .f32⟩
  | 35 => ⟨S16x4096x4, .f32⟩
  | 36 => ⟨S16x4096x4, .f32⟩
  | 37 => ⟨S_, .f32⟩
  | 38 => ⟨S16x4096x4, .f32⟩
  | 39 => ⟨S16x4096x4, .f32⟩
  | 40 => ⟨S_, .f32⟩
  | 41 => ⟨S16x4096x4, .f32⟩
  | 42 => ⟨S16x4096x4, .f32⟩
  | 43 => ⟨S16x4096x4, .f32⟩
  | 44 => ⟨S16x4096x4, .f32⟩
  | 45 => ⟨S16x4096x4, .f32⟩
  | 46 => ⟨S16x4096x4, .f32⟩
  | 47 => ⟨S16x4096x4, .f32⟩
  | 48 => ⟨S16x4096x4, .f32⟩
  | 49 => ⟨S16x4096x4, .f32⟩
  | 50 => ⟨S16x4096x4, .f32⟩
  | 51 => ⟨S16x4096x4, .f32⟩
  | 52 => ⟨S16x4096x4, .f32⟩
  | 53 => ⟨S16x4096x4, .f32⟩
  | 54 => ⟨S16x4096x4, .f32⟩
  | 55 => ⟨S16x32x1024, .f32⟩
  | 56 => ⟨S_, .f32⟩
  | 57 => ⟨S16x4096x4, .f32⟩
  | 58 => ⟨S16x4096x4, .i1⟩
  | 59 => ⟨S_, .f32⟩
  | 60 => ⟨S16x4096x4, .f32⟩
  | 61 => ⟨S16x4096x4, .i1⟩
  | 62 => ⟨S16x4096x4, .i1⟩
  | 63 => ⟨S_, .f32⟩
  | 64 => ⟨S16x4096x4, .f32⟩
  | 65 => ⟨S16x4096x4, .i1⟩
  | 66 => ⟨S16x4096x4, .i1⟩
  | 67 => ⟨S_, .f32⟩
  | 68 => ⟨S16x4096x4, .f32⟩
  | 69 => ⟨S16x4096x4, .i1⟩
  | 70 => ⟨S16x4096x4, .i1⟩
  | 71 => ⟨S_, .i32⟩
  | 72 => ⟨S_, .i32⟩
  | 73 => ⟨S_, .f32⟩
  | 74 => ⟨S16x4096x4, .f32⟩
  | 75 => ⟨S16x4096x4, .f32⟩
  | 76 => ⟨S_, .f32⟩
  | 77 => ⟨S16x4096x4, .f32⟩
  | 78 => ⟨S16x4096x4, .f32⟩
  | 79 => ⟨S16x4096x4, .i32⟩
  | 80 => ⟨S_, .i32⟩
  | 81 => ⟨S_, .i32⟩
  | 82 => ⟨S_, .f32⟩
  | 83 => ⟨S16x4096x4, .f32⟩
  | 84 => ⟨S16x4096x4, .f32⟩
  | 85 => ⟨S_, .f32⟩
  | 86 => ⟨S16x4096x4, .f32⟩
  | 87 => ⟨S16x4096x4, .f32⟩
  | 88 => ⟨S16x4096x4, .i32⟩
  | 89 => ⟨S_, .i32⟩
  | 90 => ⟨S16x4096x4, .i32⟩
  | 91 => ⟨S16x4096x4, .i32⟩
  | 92 => ⟨S16x4096x4, .i32⟩
  | 93 => ⟨S16x16384, .i32⟩
  | 94 => ⟨S16x1x16384, .i32⟩
  | 95 => ⟨S16x32x16384, .i32⟩
  | 96 => ⟨S_, .i32⟩
  | 97 => ⟨S16x32x16384, .i32⟩
  | 98 => ⟨S16x32x16384, .i1⟩
  | 99 => ⟨S_, .i32⟩
  | 100 => ⟨S16x32x16384, .i32⟩
  | 101 => ⟨S16x32x16384, .i32⟩
  | 102 => ⟨S16x32x16384, .i32⟩
  | 103 => ⟨S16x32x16384x1, .i32⟩
  | 104 => ⟨S1, .i32⟩
  | 105 => ⟨S_, .i32⟩
  | 106 => ⟨S16x32x16384x1, .i32⟩
  | 107 => ⟨S16x32x16384x1, .i1⟩
  | 108 => ⟨S1x1x1x1, .i32⟩
  | 109 => ⟨S16x32x16384x1, .i32⟩
  | 110 => ⟨S16x32x16384x1, .i1⟩
  | 111 => ⟨S16x32x16384x1, .i1⟩
  | 112 => ⟨S_, .i1⟩
  | 113 => ⟨S16x32x16384, .i1⟩
  | 114 => ⟨S16x32x16384, .f32⟩
  | 115 => ⟨S_, .f32⟩
  | 116 => ⟨S16x32x16384, .f32⟩
  | 117 => ⟨S16x32x16384, .f32⟩
  | 118 => ⟨S16x32x4096x4, .f32⟩
  | 119 => ⟨S16x1x4096x4, .i1⟩
  | 120 => ⟨S16x1x4096x4, .f32⟩
  | 121 => ⟨S16x32x4096x4, .f32⟩
  | 122 => ⟨S16x32x4096x4, .f32⟩
  | 123 => ⟨S16x1x4096x4, .f32⟩
  | 124 => ⟨S16x32x4096x4, .f32⟩
  | 125 => ⟨S16x32x4096x4, .f32⟩
  | 126 => ⟨S_, .f32⟩
  | 127 => ⟨S16x4096x4, .f32⟩
  | _ => ⟨S4x2x256x32x32, .f32⟩

abbrev hbmTy0_4 (i : Nat) : BufTy := match i % 128 with
  | 0 => ⟨S16x4096x4, .i1⟩
  | 1 => ⟨S_, .f32⟩
  | 2 => ⟨S16x4096x4, .f32⟩
  | 3 => ⟨S16x4096x4, .i1⟩
  | 4 => ⟨S16x4096x4, .i1⟩
  | 5 => ⟨S_, .f32⟩
  | 6 => ⟨S16x4096x4, .f32⟩
  | 7 => ⟨S16x4096x4, .i1⟩
  | 8 => ⟨S16x4096x4, .i1⟩
  | 9 => ⟨S_, .f32⟩
  | 10 => ⟨S16x4096x4, .f32⟩
  | 11 => ⟨S16x4096x4, .i1⟩
  | 12 => ⟨S16x4096x4, .i1⟩
  | 13 => ⟨S_, .i32⟩
  | 14 => ⟨S_, .i32⟩
  | 15 => ⟨S_, .f32⟩
  | 16 => ⟨S16x4096x4, .f32⟩
  | 17 => ⟨S16x4096x4, .f32⟩
  | 18 => ⟨S_, .f32⟩
  | 19 => ⟨S16x4096x4, .f32⟩
  | 20 => ⟨S16x4096x4, .f32⟩
  | 21 => ⟨S16x4096x4, .i32⟩
  | 22 => ⟨S_, .i32⟩
  | 23 => ⟨S_, .i32⟩
  | 24 => ⟨S_, .f32⟩
  | 25 => ⟨S16x4096x4, .f32⟩
  | 26 => ⟨S16x4096x4, .f32⟩
  | 27 => ⟨S_, .f32⟩
  | 28 => ⟨S16x4096x4, .f32⟩
  | 29 => ⟨S16x4096x4, .f32⟩
  | 30 => ⟨S16x4096x4, .i32⟩
  | 31 => ⟨S_, .i32⟩
  | 32 => ⟨S16x4096x4, .i32⟩
  | 33 => ⟨S16x4096x4, .i32⟩
  | 34 => ⟨S16x4096x4, .i32⟩
  | 35 => ⟨S16x16384, .i32⟩
  | 36 => ⟨S16x1x16384, .i32⟩
  | 37 => ⟨S16x32x16384, .i32⟩
  | 38 => ⟨S_, .i32⟩
  | 39 => ⟨S16x32x16384, .i32⟩
  | 40 => ⟨S16x32x16384, .i1⟩
  | 41 => ⟨S_, .i32⟩
  | 42 => ⟨S16x32x16384, .i32⟩
  | 43 => ⟨S16x32x16384, .i32⟩
  | 44 => ⟨S16x32x16384, .i32⟩
  | 45 => ⟨S16x32x16384x1, .i32⟩
  | 46 => ⟨S1, .i32⟩
  | 47 => ⟨S_, .i32⟩
  | 48 => ⟨S16x32x16384x1, .i32⟩
  | 49 => ⟨S16x32x16384x1, .i1⟩
  | 50 => ⟨S1x1x1x1, .i32⟩
  | 51 => ⟨S16x32x16384x1, .i32⟩
  | 52 => ⟨S16x32x16384x1, .i1⟩
  | 53 => ⟨S16x32x16384x1, .i1⟩
  | 54 => ⟨S_, .i1⟩
  | 55 => ⟨S16x32x16384, .i1⟩
  | 56 => ⟨S16x32x16384, .f32⟩
  | 57 => ⟨S_, .f32⟩
  | 58 => ⟨S16x32x16384, .f32⟩
  | 59 => ⟨S16x32x16384, .f32⟩
  | 60 => ⟨S16x32x4096x4, .f32⟩
  | 61 => ⟨S16x1x4096x4, .i1⟩
  | 62 => ⟨S16x1x4096x4, .f32⟩
  | 63 => ⟨S16x32x4096x4, .f32⟩
  | 64 => ⟨S16x32x4096x4, .f32⟩
  | 65 => ⟨S16x1x4096x4, .f32⟩
  | 66 => ⟨S16x32x4096x4, .f32⟩
  | 67 => ⟨S16x32x4096x4, .f32⟩
  | 68 => ⟨S16x32x4096x4, .f32⟩
  | 69 => ⟨S_, .f32⟩
  | 70 => ⟨S16x4096x4, .f32⟩
  | 71 => ⟨S16x4096x4, .i1⟩
  | 72 => ⟨S_, .f32⟩
  | 73 => ⟨S16x4096x4, .f32⟩
  | 74 => ⟨S16x4096x4, .i1⟩
  | 75 => ⟨S16x4096x4, .i1⟩
  | 76 => ⟨S_, .f32⟩
  | 77 => ⟨S16x4096x4, .f32⟩
  | 78 => ⟨S16x4096x4, .i1⟩
  | 79 => ⟨S16x4096x4, .i1⟩
  | 80 => ⟨S_, .f32⟩
  | 81 => ⟨S16x4096x4, .f32⟩
  | 82 => ⟨S16x4096x4, .i1⟩
  | 83 => ⟨S16x4096x4, .i1⟩
  | 84 => ⟨S_, .i32⟩
  | 85 => ⟨S_, .i32⟩
  | 86 => ⟨S_, .f32⟩
  | 87 => ⟨S16x4096x4, .f32⟩
  | 88 => ⟨S16x4096x4, .f32⟩
  | 89 => ⟨S_, .f32⟩
  | 90 => ⟨S16x4096x4, .f32⟩
  | 91 => ⟨S16x4096x4, .f32⟩
  | 92 => ⟨S16x4096x4, .i32⟩
  | 93 => ⟨S_, .i32⟩
  | 94 => ⟨S_, .i32⟩
  | 95 => ⟨S_, .f32⟩
  | 96 => ⟨S16x4096x4, .f32⟩
  | 97 => ⟨S16x4096x4, .f32⟩
  | 98 => ⟨S_, .f32⟩
  | 99 => ⟨S16x4096x4, .f32⟩
  | 100 => ⟨S16x4096x4, .f32⟩
  | 101 => ⟨S16x4096x4, .i32⟩
  | 102 => ⟨S_, .i32⟩
  | 103 => ⟨S16x4096x4, .i32⟩
  | 104 => ⟨S16x4096x4, .i32⟩
  | 105 => ⟨S16x4096x4, .i32⟩
  | 106 => ⟨S16x16384, .i32⟩
  | 107 => ⟨S16x1x16384, .i32⟩
  | 108 => ⟨S16x32x16384, .i32⟩
  | 109 => ⟨S_, .i32⟩
  | 110 => ⟨S16x32x16384, .i32⟩
  | 111 => ⟨S16x32x16384, .i1⟩
  | 112 => ⟨S_, .i32⟩
  | 113 => ⟨S16x32x16384, .i32⟩
  | 114 => ⟨S16x32x16384, .i32⟩
  | 115 => ⟨S16x32x16384, .i32⟩
  | 116 => ⟨S16x32x16384x1, .i32⟩
  | 117 => ⟨S1, .i32⟩
  | 118 => ⟨S_, .i32⟩
  | 119 => ⟨S16x32x16384x1, .i32⟩
  | 120 => ⟨S16x32x16384x1, .i1⟩
  | 121 => ⟨S1x1x1x1, .i32⟩
  | 122 => ⟨S16x32x16384x1, .i32⟩
  | 123 => ⟨S16x32x16384x1, .i1⟩
  | 124 => ⟨S16x32x16384x1, .i1⟩
  | 125 => ⟨S_, .i1⟩
  | 126 => ⟨S16x32x16384, .i1⟩
  | 127 => ⟨S16x32x16384, .f32⟩
  | _ => ⟨S4x2x256x32x32, .f32⟩

abbrev hbmTy0_5 (i : Nat) : BufTy := match i % 128 with
  | 0 => ⟨S_, .f32⟩
  | 1 => ⟨S16x32x16384, .f32⟩
  | 2 => ⟨S16x32x16384, .f32⟩
  | 3 => ⟨S16x32x4096x4, .f32⟩
  | 4 => ⟨S16x1x4096x4, .i1⟩
  | 5 => ⟨S16x1x4096x4, .f32⟩
  | 6 => ⟨S16x32x4096x4, .f32⟩
  | 7 => ⟨S16x32x4096x4, .f32⟩
  | 8 => ⟨S16x1x4096x4, .f32⟩
  | 9 => ⟨S16x32x4096x4, .f32⟩
  | 10 => ⟨S16x32x4096x4, .f32⟩
  | 11 => ⟨S16x32x4096x4, .f32⟩
  | 12 => ⟨S_, .f32⟩
  | 13 => ⟨S16x4096x4, .f32⟩
  | 14 => ⟨S16x4096x4, .i1⟩
  | 15 => ⟨S_, .f32⟩
  | 16 => ⟨S16x4096x4, .f32⟩
  | 17 => ⟨S16x4096x4, .i1⟩
  | 18 => ⟨S16x4096x4, .i1⟩
  | 19 => ⟨S_, .f32⟩
  | 20 => ⟨S16x4096x4, .f32⟩
  | 21 => ⟨S16x4096x4, .i1⟩
  | 22 => ⟨S16x4096x4, .i1⟩
  | 23 => ⟨S_, .f32⟩
  | 24 => ⟨S16x4096x4, .f32⟩
  | 25 => ⟨S16x4096x4, .i1⟩
  | 26 => ⟨S16x4096x4, .i1⟩
  | 27 => ⟨S_, .i32⟩
  | 28 => ⟨S_, .i32⟩
  | 29 => ⟨S_, .f32⟩
  | 30 => ⟨S16x4096x4, .f32⟩
  | 31 => ⟨S16x4096x4, .f32⟩
  | 32 => ⟨S_, .f32⟩
  | 33 => ⟨S16x4096x4, .f32⟩
  | 34 => ⟨S16x4096x4, .f32⟩
  | 35 => ⟨S16x4096x4, .i32⟩
  | 36 => ⟨S_, .i32⟩
  | 37 => ⟨S_, .i32⟩
  | 38 => ⟨S_, .f32⟩
  | 39 => ⟨S16x4096x4, .f32⟩
  | 40 => ⟨S16x4096x4, .f32⟩
  | 41 => ⟨S_, .f32⟩
  | 42 => ⟨S16x4096x4, .f32⟩
  | 43 => ⟨S16x4096x4, .f32⟩
  | 44 => ⟨S16x4096x4, .i32⟩
  | 45 => ⟨S_, .i32⟩
  | 46 => ⟨S16x4096x4, .i32⟩
  | 47 => ⟨S16x4096x4, .i32⟩
  | 48 => ⟨S16x4096x4, .i32⟩
  | 49 => ⟨S16x16384, .i32⟩
  | 50 => ⟨S16x1x16384, .i32⟩
  | 51 => ⟨S16x32x16384, .i32⟩
  | 52 => ⟨S_, .i32⟩
  | 53 => ⟨S16x32x16384, .i32⟩
  | 54 => ⟨S16x32x16384, .i1⟩
  | 55 => ⟨S_, .i32⟩
  | 56 => ⟨S16x32x16384, .i32⟩
  | 57 => ⟨S16x32x16384, .i32⟩
  | 58 => ⟨S16x32x16384, .i32⟩
  | 59 => ⟨S16x32x16384x1, .i32⟩
  | 60 => ⟨S1, .i32⟩
  | 61 => ⟨S_, .i32⟩
  | 62 => ⟨S16x32x16384x1, .i32⟩
  | 63 => ⟨S16x32x16384x1, .i1⟩
  | 64 => ⟨S1x1x1x1, .i32⟩
  | 65 => ⟨S16x32x16384x1, .i32⟩
  | 66 => ⟨S16x32x16384x1, .i1⟩
  | 67 => ⟨S16x32x16384x1, .i1⟩
  | 68 => ⟨S_, .i1⟩
  | 69 => ⟨S16x32x16384, .i1⟩
  | 70 => ⟨S16x32x16384, .f32⟩
  | 71 => ⟨S_, .f32⟩
  | 72 => ⟨S16x32x16384, .f32⟩
  | 73 => ⟨S16x32x16384, .f32⟩
  | 74 => ⟨S16x32x4096x4, .f32⟩
  | 75 => ⟨S16x1x4096x4, .i1⟩
  | 76 => ⟨S16x1x4096x4, .f32⟩
  | 77 => ⟨S16x32x4096x4, .f32⟩
  | 78 => ⟨S16x32x4096x4, .f32⟩
  | 79 => ⟨S16x1x4096x4, .f32⟩
  | 80 => ⟨S16x32x4096x4, .f32⟩
  | 81 => ⟨S16x32x4096x4, .f32⟩
  | 82 => ⟨S16x32x4096x4, .f32⟩
  | 83 => ⟨S2x1024x8x32, .f32⟩
  | 84 => ⟨S2x8x32x1024, .f32⟩
  | 85 => ⟨S16x32x32x32, .f32⟩
  | 86 => ⟨S2x4096x8x1x4x2, .f32⟩
  | 87 => ⟨S2x4096x8x4x2, .f32⟩
  | 88 => ⟨S2x8x4096x4x2, .f32⟩
  | 89 => ⟨S16x4096x4x2, .f32⟩
  | 90 => ⟨S16x4096x4x1, .f32⟩
  | 91 => ⟨S16x4096x4, .f32⟩
  | 92 => ⟨S_, .f32⟩
  | 93 => ⟨S16x4096x4, .f32⟩
  | 94 => ⟨S16x4096x4, .f32⟩
  | 95 => ⟨S_, .f32⟩
  | 96 => ⟨S16x4096x4, .f32⟩
  | 97 => ⟨S16x4096x4, .f32⟩
  | 98 => ⟨S_, .f32⟩
  | 99 => ⟨S16x4096x4, .f32⟩
  | 100 => ⟨S16x4096x4, .f32⟩
  | 101 => ⟨S_, .f32⟩
  | 102 => ⟨S16x4096x4, .f32⟩
  | 103 => ⟨S16x4096x4, .f32⟩
  | 104 => ⟨S16x4096x4x1, .f32⟩
  | 105 => ⟨S16x4096x4, .f32⟩
  | 106 => ⟨S_, .f32⟩
  | 107 => ⟨S16x4096x4, .f32⟩
  | 108 => ⟨S16x4096x4, .f32⟩
  | 109 => ⟨S_, .f32⟩
  | 110 => ⟨S16x4096x4, .f32⟩
  | 111 => ⟨S16x4096x4, .f32⟩
  | 112 => ⟨S_, .f32⟩
  | 113 => ⟨S16x4096x4, .f32⟩
  | 114 => ⟨S16x4096x4, .f32⟩
  | 115 => ⟨S_, .f32⟩
  | 116 => ⟨S16x4096x4, .f32⟩
  | 117 => ⟨S16x4096x4, .f32⟩
  | 118 => ⟨S16x4096x4, .f32⟩
  | 119 => ⟨S16x4096x4, .f32⟩
  | 120 => ⟨S_, .f32⟩
  | 121 => ⟨S16x4096x4, .f32⟩
  | 122 => ⟨S16x4096x4, .f32⟩
  | 123 => ⟨S_, .f32⟩
  | 124 => ⟨S16x4096x4, .f32⟩
  | 125 => ⟨S16x4096x4, .f32⟩
  | 126 => ⟨S16x4096x4, .f32⟩
  | 127 => ⟨S16x4096x4, .f32⟩
  | _ => ⟨S4x2x256x32x32, .f32⟩

abbrev hbmTy0_6 (i : Nat) : BufTy := match i % 128 with
  | 0 => ⟨S16x4096x4, .f32⟩
  | 1 => ⟨S16x4096x4, .f32⟩
  | 2 => ⟨S16x4096x4, .f32⟩
  | 3 => ⟨S16x4096x4, .f32⟩
  | 4 => ⟨S16x4096x4, .f32⟩
  | 5 => ⟨S16x4096x4, .f32⟩
  | 6 => ⟨S16x4096x4, .f32⟩
  | 7 => ⟨S16x4096x4, .f32⟩
  | 8 => ⟨S16x4096x4, .f32⟩
  | 9 => ⟨S16x4096x4, .f32⟩
  | 10 => ⟨S16x32x1024, .f32⟩
  | 11 => ⟨S_, .f32⟩
  | 12 => ⟨S16x4096x4, .f32⟩
  | 13 => ⟨S16x4096x4, .i1⟩
  | 14 => ⟨S_, .f32⟩
  | 15 => ⟨S16x4096x4, .f32⟩
  | 16 => ⟨S16x4096x4, .i1⟩
  | 17 => ⟨S16x4096x4, .i1⟩
  | 18 => ⟨S_, .f32⟩
  | 19 => ⟨S16x4096x4, .f32⟩
  | 20 => ⟨S16x4096x4, .i1⟩
  | 21 => ⟨S16x4096x4, .i1⟩
  | 22 => ⟨S_, .f32⟩
  | 23 => ⟨S16x4096x4, .f32⟩
  | 24 => ⟨S16x4096x4, .i1⟩
  | 25 => ⟨S16x4096x4, .i1⟩
  | 26 => ⟨S_, .i32⟩
  | 27 => ⟨S_, .i32⟩
  | 28 => ⟨S_, .f32⟩
  | 29 => ⟨S16x4096x4, .f32⟩
  | 30 => ⟨S16x4096x4, .f32⟩
  | 31 => ⟨S_, .f32⟩
  | 32 => ⟨S16x4096x4, .f32⟩
  | 33 => ⟨S16x4096x4, .f32⟩
  | 34 => ⟨S16x4096x4, .i32⟩
  | 35 => ⟨S_, .i32⟩
  | 36 => ⟨S_, .i32⟩
  | 37 => ⟨S_, .f32⟩
  | 38 => ⟨S16x4096x4, .f32⟩
  | 39 => ⟨S16x4096x4, .f32⟩
  | 40 => ⟨S_, .f32⟩
  | 41 => ⟨S16x4096x4, .f32⟩
  | 42 => ⟨S16x4096x4, .f32⟩
  | 43 => ⟨S16x4096x4, .i32⟩
  | 44 => ⟨S_, .i32⟩
  | 45 => ⟨S16x4096x4, .i32⟩
  | 46 => ⟨S16x4096x4, .i32⟩
  | 47 => ⟨S16x4096x4, .i32⟩
  | 48 => ⟨S16x16384, .i32⟩
  | 49 => ⟨S16x1x16384, .i32⟩
  | 50 => ⟨S16x32x16384, .i32⟩
  | 51 => ⟨S_, .i32⟩
  | 52 => ⟨S16x32x16384, .i32⟩
  | 53 => ⟨S16x32x16384, .i1⟩
  | 54 => ⟨S_, .i32⟩
  | 55 => ⟨S16x32x16384, .i32⟩
  | 56 => ⟨S16x32x16384, .i32⟩
  | 57 => ⟨S16x32x16384, .i32⟩
  | 58 => ⟨S16x32x16384x1, .i32⟩
  | 59 => ⟨S1, .i32⟩
  | 60 => ⟨S_, .i32⟩
  | 61 => ⟨S16x32x16384x1, .i32⟩
  | 62 => ⟨S16x32x16384x1, .i1⟩
  | 63 => ⟨S1x1x1x1, .i32⟩
  | 64 => ⟨S16x32x16384x1, .i32⟩
  | 65 => ⟨S16x32x16384x1, .i1⟩
  | 66 => ⟨S16x32x16384x1, .i1⟩
  | 67 => ⟨S_, .i1⟩
  | 68 => ⟨S16x32x16384, .i1⟩
  | 69 => ⟨S16x32x16384, .f32⟩
  | 70 => ⟨S_, .f32⟩
  | 71 => ⟨S16x32x16384, .f32⟩
  | 72 => ⟨S16x32x16384, .f32⟩
  | 73 => ⟨S16x32x4096x4, .f32⟩
  | 74 => ⟨S16x1x4096x4, .i1⟩
  | 75 => ⟨S16x1x4096x4, .f32⟩
  | 76 => ⟨S16x32x4096x4, .f32⟩
  | 77 => ⟨S16x32x4096x4, .f32⟩
  | 78 => ⟨S16x1x4096x4, .f32⟩
  | 79 => ⟨S16x32x4096x4, .f32⟩
  | 80 => ⟨S16x32x4096x4, .f32⟩
  | 81 => ⟨S_, .f32⟩
  | 82 => ⟨S16x4096x4, .f32⟩
  | 83 => ⟨S16x4096x4, .i1⟩
  | 84 => ⟨S_, .f32⟩
  | 85 => ⟨S16x4096x4, .f32⟩
  | 86 => ⟨S16x4096x4, .i1⟩
  | 87 => ⟨S16x4096x4, .i1⟩
  | 88 => ⟨S_, .f32⟩
  | 89 => ⟨S16x4096x4, .f32⟩
  | 90 => ⟨S16x4096x4, .i1⟩
  | 91 => ⟨S16x4096x4, .i1⟩
  | 92 => ⟨S_, .f32⟩
  | 93 => ⟨S16x4096x4, .f32⟩
  | 94 => ⟨S16x4096x4, .i1⟩
  | 95 => ⟨S16x4096x4, .i1⟩
  | 96 => ⟨S_, .i32⟩
  | 97 => ⟨S_, .i32⟩
  | 98 => ⟨S_, .f32⟩
  | 99 => ⟨S16x4096x4, .f32⟩
  | 100 => ⟨S16x4096x4, .f32⟩
  | 101 => ⟨S_, .f32⟩
  | 102 => ⟨S16x4096x4, .f32⟩
  | 103 => ⟨S16x4096x4, .f32⟩
  | 104 => ⟨S16x4096x4, .i32⟩
  | 105 => ⟨S_, .i32⟩
  | 106 => ⟨S_, .i32⟩
  | 107 => ⟨S_, .f32⟩
  | 108 => ⟨S16x4096x4, .f32⟩
  | 109 => ⟨S16x4096x4, .f32⟩
  | 110 => ⟨S_, .f32⟩
  | 111 => ⟨S16x4096x4, .f32⟩
  | 112 => ⟨S16x4096x4, .f32⟩
  | 113 => ⟨S16x4096x4, .i32⟩
  | 114 => ⟨S_, .i32⟩
  | 115 => ⟨S16x4096x4, .i32⟩
  | 116 => ⟨S16x4096x4, .i32⟩
  | 117 => ⟨S16x4096x4, .i32⟩
  | 118 => ⟨S16x16384, .i32⟩
  | 119 => ⟨S16x1x16384, .i32⟩
  | 120 => ⟨S16x32x16384, .i32⟩
  | 121 => ⟨S_, .i32⟩
  | 122 => ⟨S16x32x16384, .i32⟩
  | 123 => ⟨S16x32x16384, .i1⟩
  | 124 => ⟨S_, .i32⟩
  | 125 => ⟨S16x32x16384, .i32⟩
  | 126 => ⟨S16x32x16384, .i32⟩
  | 127 => ⟨S16x32x16384, .i32⟩
  | _ => ⟨S4x2x256x32x32, .f32⟩

abbrev hbmTy0_7 (i : Nat) : BufTy := match i % 128 with
  | 0 => ⟨S16x32x16384x1, .i32⟩
  | 1 => ⟨S1, .i32⟩
  | 2 => ⟨S_, .i32⟩
  | 3 => ⟨S16x32x16384x1, .i32⟩
  | 4 => ⟨S16x32x16384x1, .i1⟩
  | 5 => ⟨S1x1x1x1, .i32⟩
  | 6 => ⟨S16x32x16384x1, .i32⟩
  | 7 => ⟨S16x32x16384x1, .i1⟩
  | 8 => ⟨S16x32x16384x1, .i1⟩
  | 9 => ⟨S_, .i1⟩
  | 10 => ⟨S16x32x16384, .i1⟩
  | 11 => ⟨S16x32x16384, .f32⟩
  | 12 => ⟨S_, .f32⟩
  | 13 => ⟨S16x32x16384, .f32⟩
  | 14 => ⟨S16x32x16384, .f32⟩
  | 15 => ⟨S16x32x4096x4, .f32⟩
  | 16 => ⟨S16x1x4096x4, .i1⟩
  | 17 => ⟨S16x1x4096x4, .f32⟩
  | 18 => ⟨S16x32x4096x4, .f32⟩
  | 19 => ⟨S16x32x4096x4, .f32⟩
  | 20 => ⟨S16x1x4096x4, .f32⟩
  | 21 => ⟨S16x32x4096x4, .f32⟩
  | 22 => ⟨S16x32x4096x4, .f32⟩
  | 23 => ⟨S16x32x4096x4, .f32⟩
  | 24 => ⟨S_, .f32⟩
  | 25 => ⟨S16x4096x4, .f32⟩
  | 26 => ⟨S16x4096x4, .i1⟩
  | 27 => ⟨S_, .f32⟩
  | 28 => ⟨S16x4096x4, .f32⟩
  | 29 => ⟨S16x4096x4, .i1⟩
  | 30 => ⟨S16x4096x4, .i1⟩
  | 31 => ⟨S_, .f32⟩
  | 32 => ⟨S16x4096x4, .f32⟩
  | 33 => ⟨S16x4096x4, .i1⟩
  | 34 => ⟨S16x4096x4, .i1⟩
  | 35 => ⟨S_, .f32⟩
  | 36 => ⟨S16x4096x4, .f32⟩
  | 37 => ⟨S16x4096x4, .i1⟩
  | 38 => ⟨S16x4096x4, .i1⟩
  | 39 => ⟨S_, .i32⟩
  | 40 => ⟨S_, .i32⟩
  | 41 => ⟨S_, .f32⟩
  | 42 => ⟨S16x4096x4, .f32⟩
  | 43 => ⟨S16x4096x4, .f32⟩
  | 44 => ⟨S_, .f32⟩
  | 45 => ⟨S16x4096x4, .f32⟩
  | 46 => ⟨S16x4096x4, .f32⟩
  | 47 => ⟨S16x4096x4, .i32⟩
  | 48 => ⟨S_, .i32⟩
  | 49 => ⟨S_, .i32⟩
  | 50 => ⟨S_, .f32⟩
  | 51 => ⟨S16x4096x4, .f32⟩
  | 52 => ⟨S16x4096x4, .f32⟩
  | 53 => ⟨S_, .f32⟩
  | 54 => ⟨S16x4096x4, .f32⟩
  | 55 => ⟨S16x4096x4, .f32⟩
  | 56 => ⟨S16x4096x4, .i32⟩
  | 57 => ⟨S_, .i32⟩
  | 58 => ⟨S16x4096x4, .i32⟩
  | 59 => ⟨S16x4096x4, .i32⟩
  | 60 => ⟨S16x4096x4, .i32⟩
  | 61 => ⟨S16x16384, .i32⟩
  | 62 => ⟨S16x1x16384, .i32⟩
  | 63 => ⟨S16x32x16384, .i32⟩
  | 64 => ⟨S_, .i32⟩
  | 65 => ⟨S16x32x16384, .i32⟩
  | 66 => ⟨S16x32x16384, .i1⟩
  | 67 => ⟨S_, .i32⟩
  | 68 => ⟨S16x32x16384, .i32⟩
  | 69 => ⟨S16x32x16384, .i32⟩
  | 70 => ⟨S16x32x16384, .i32⟩
  | 71 => ⟨S16x32x16384x1, .i32⟩
  | 72 => ⟨S1, .i32⟩
  | 73 => ⟨S_, .i32⟩
  | 74 => ⟨S16x32x16384x1, .i32⟩
  | 75 => ⟨S16x32x16384x1, .i1⟩
  | 76 => ⟨S1x1x1x1, .i32⟩
  | 77 => ⟨S16x32x16384x1, .i32⟩
  | 78 => ⟨S16x32x16384x1, .i1⟩
  | 79 => ⟨S16x32x16384x1, .i1⟩
  | 80 => ⟨S_, .i1⟩
  | 81 => ⟨S16x32x16384, .i1⟩
  | 82 => ⟨S16x32x16384, .f32⟩
  | 83 => ⟨S_, .f32⟩
  | 84 => ⟨S16x32x16384, .f32⟩
  | 85 => ⟨S16x32x16384, .f32⟩
  | 86 => ⟨S16x32x4096x4, .f32⟩
  | 87 => ⟨S16x1x4096x4, .i1⟩
  | 88 => ⟨S16x1x4096x4, .f32⟩
  | 89 => ⟨S16x32x4096x4, .f32⟩
  | 90 => ⟨S16x32x4096x4, .f32⟩
  | 91 => ⟨S16x1x4096x4, .f32⟩
  | 92 => ⟨S16x32x4096x4, .f32⟩
  | 93 => ⟨S16x32x4096x4, .f32⟩
  | 94 => ⟨S16x32x4096x4, .f32⟩
  | 95 => ⟨S_, .f32⟩
  | 96 => ⟨S16x4096x4, .f32⟩
  | 97 => ⟨S16x4096x4, .i1⟩
  | 98 => ⟨S_, .f32⟩
  | 99 => ⟨S16x4096x4, .f32⟩
  | 100 => ⟨S16x4096x4, .i1⟩
  | 101 => ⟨S16x4096x4, .i1⟩
  | 102 => ⟨S_, .f32⟩
  | 103 => ⟨S16x4096x4, .f32⟩
  | 104 => ⟨S16x4096x4, .i1⟩
  | 105 => ⟨S16x4096x4, .i1⟩
  | 106 => ⟨S_, .f32⟩
  | 107 => ⟨S16x4096x4, .f32⟩
  | 108 => ⟨S16x4096x4, .i1⟩
  | 109 => ⟨S16x4096x4, .i1⟩
  | 110 => ⟨S_, .i32⟩
  | 111 => ⟨S_, .i32⟩
  | 112 => ⟨S_, .f32⟩
  | 113 => ⟨S16x4096x4, .f32⟩
  | 114 => ⟨S16x4096x4, .f32⟩
  | 115 => ⟨S_, .f32⟩
  | 116 => ⟨S16x4096x4, .f32⟩
  | 117 => ⟨S16x4096x4, .f32⟩
  | 118 => ⟨S16x4096x4, .i32⟩
  | 119 => ⟨S_, .i32⟩
  | 120 => ⟨S_, .i32⟩
  | 121 => ⟨S_, .f32⟩
  | 122 => ⟨S16x4096x4, .f32⟩
  | 123 => ⟨S16x4096x4, .f32⟩
  | 124 => ⟨S_, .f32⟩
  | 125 => ⟨S16x4096x4, .f32⟩
  | 126 => ⟨S16x4096x4, .f32⟩
  | 127 => ⟨S16x4096x4, .i32⟩
  | _ => ⟨S4x2x256x32x32, .f32⟩

abbrev hbmTy0_8 (i : Nat) : BufTy := match i % 128 with
  | 0 => ⟨S_, .i32⟩
  | 1 => ⟨S16x4096x4, .i32⟩
  | 2 => ⟨S16x4096x4, .i32⟩
  | 3 => ⟨S16x4096x4, .i32⟩
  | 4 => ⟨S16x16384, .i32⟩
  | 5 => ⟨S16x1x16384, .i32⟩
  | 6 => ⟨S16x32x16384, .i32⟩
  | 7 => ⟨S_, .i32⟩
  | 8 => ⟨S16x32x16384, .i32⟩
  | 9 => ⟨S16x32x16384, .i1⟩
  | 10 => ⟨S_, .i32⟩
  | 11 => ⟨S16x32x16384, .i32⟩
  | 12 => ⟨S16x32x16384, .i32⟩
  | 13 => ⟨S16x32x16384, .i32⟩
  | 14 => ⟨S16x32x16384x1, .i32⟩
  | 15 => ⟨S1, .i32⟩
  | 16 => ⟨S_, .i32⟩
  | 17 => ⟨S16x32x16384x1, .i32⟩
  | 18 => ⟨S16x32x16384x1, .i1⟩
  | 19 => ⟨S1x1x1x1, .i32⟩
  | 20 => ⟨S16x32x16384x1, .i32⟩
  | 21 => ⟨S16x32x16384x1, .i1⟩
  | 22 => ⟨S16x32x16384x1, .i1⟩
  | 23 => ⟨S_, .i1⟩
  | 24 => ⟨S16x32x16384, .i1⟩
  | 25 => ⟨S16x32x16384, .f32⟩
  | 26 => ⟨S_, .f32⟩
  | 27 => ⟨S16x32x16384, .f32⟩
  | 28 => ⟨S16x32x16384, .f32⟩
  | 29 => ⟨S16x32x4096x4, .f32⟩
  | 30 => ⟨S16x1x4096x4, .i1⟩
  | 31 => ⟨S16x1x4096x4, .f32⟩
  | 32 => ⟨S16x32x4096x4, .f32⟩
  | 33 => ⟨S16x32x4096x4, .f32⟩
  | 34 => ⟨S16x1x4096x4, .f32⟩
  | 35 => ⟨S16x32x4096x4, .f32⟩
  | 36 => ⟨S16x32x4096x4, .f32⟩
  | 37 => ⟨S16x32x4096x4, .f32⟩
  | 38 => ⟨S2x1024x8x32, .f32⟩
  | 39 => ⟨S2x8x32x1024, .f32⟩
  | 40 => ⟨S16x32x32x32, .f32⟩
  | 41 => ⟨S2x4096x8x1x4x2, .f32⟩
  | 42 => ⟨S2x4096x8x4x2, .f32⟩
  | 43 => ⟨S2x8x4096x4x2, .f32⟩
  | 44 => ⟨S16x4096x4x2, .f32⟩
  | 45 => ⟨S16x4096x4x1, .f32⟩
  | 46 => ⟨S16x4096x4, .f32⟩
  | 47 => ⟨S_, .f32⟩
  | 48 => ⟨S16x4096x4, .f32⟩
  | 49 => ⟨S16x4096x4, .f32⟩
  | 50 => ⟨S_, .f32⟩
  | 51 => ⟨S16x4096x4, .f32⟩
  | 52 => ⟨S16x4096x4, .f32⟩
  | 53 => ⟨S_, .f32⟩
  | 54 => ⟨S16x4096x4, .f32⟩
  | 55 => ⟨S16x4096x4, .f32⟩
  | 56 => ⟨S_, .f32⟩
  | 57 => ⟨S16x4096x4, .f32⟩
  | 58 => ⟨S16x4096x4, .f32⟩
  | 59 => ⟨S16x4096x4x1, .f32⟩
  | 60 => ⟨S16x4096x4, .f32⟩
  | 61 => ⟨S_, .f32⟩
  | 62 => ⟨S16x4096x4, .f32⟩
  | 63 => ⟨S16x4096x4, .f32⟩
  | 64 => ⟨S_, .f32⟩
  | 65 => ⟨S16x4096x4, .f32⟩
  | 66 => ⟨S16x4096x4, .f32⟩
  | 67 => ⟨S_, .f32⟩
  | 68 => ⟨S16x4096x4, .f32⟩
  | 69 => ⟨S16x4096x4, .f32⟩
  | 70 => ⟨S_, .f32⟩
  | 71 => ⟨S16x4096x4, .f32⟩
  | 72 => ⟨S16x4096x4, .f32⟩
  | 73 => ⟨S16x4096x4, .f32⟩
  | 74 => ⟨S16x4096x4, .f32⟩
  | 75 => ⟨S_, .f32⟩
  | 76 => ⟨S16x4096x4, .f32⟩
  | 77 => ⟨S16x4096x4, .f32⟩
  | 78 => ⟨S_, .f32⟩
  | 79 => ⟨S16x4096x4, .f32⟩
  | 80 => ⟨S16x4096x4, .f32⟩
  | 81 => ⟨S16x4096x4, .f32⟩
  | 82 => ⟨S16x4096x4, .f32⟩
  | 83 => ⟨S16x4096x4, .f32⟩
  | 84 => ⟨S16x4096x4, .f32⟩
  | 85 => ⟨S16x4096x4, .f32⟩
  | 86 => ⟨S16x4096x4, .f32⟩
  | 87 => ⟨S16x4096x4, .f32⟩
  | 88 => ⟨S16x4096x4, .f32⟩
  | 89 => ⟨S16x4096x4, .f32⟩
  | 90 => ⟨S16x4096x4, .f32⟩
  | 91 => ⟨S16x4096x4, .f32⟩
  | 92 => ⟨S16x4096x4, .f32⟩
  | 93 => ⟨S16x32x1024, .f32⟩
  | 94 => ⟨S_, .f32⟩
  | 95 => ⟨S16x4096x4, .f32⟩
  | 96 => ⟨S16x4096x4, .i1⟩
  | 97 => ⟨S_, .f32⟩
  | 98 => ⟨S16x4096x4, .f32⟩
  | 99 => ⟨S16x4096x4, .i1⟩
  | 100 => ⟨S16x4096x4, .i1⟩
  | 101 => ⟨S_, .f32⟩
  | 102 => ⟨S16x4096x4, .f32⟩
  | 103 => ⟨S16x4096x4, .i1⟩
  | 104 => ⟨S16x4096x4, .i1⟩
  | 105 => ⟨S_, .f32⟩
  | 106 => ⟨S16x4096x4, .f32⟩
  | 107 => ⟨S16x4096x4, .i1⟩
  | 108 => ⟨S16x4096x4, .i1⟩
  | 109 => ⟨S_, .i32⟩
  | 110 => ⟨S_, .i32⟩
  | 111 => ⟨S_, .f32⟩
  | 112 => ⟨S16x4096x4, .f32⟩
  | 113 => ⟨S16x4096x4, .f32⟩
  | 114 => ⟨S_, .f32⟩
  | 115 => ⟨S16x4096x4, .f32⟩
  | 116 => ⟨S16x4096x4, .f32⟩
  | 117 => ⟨S16x4096x4, .i32⟩
  | 118 => ⟨S_, .i32⟩
  | 119 => ⟨S_, .i32⟩
  | 120 => ⟨S_, .f32⟩
  | 121 => ⟨S16x4096x4, .f32⟩
  | 122 => ⟨S16x4096x4, .f32⟩
  | 123 => ⟨S_, .f32⟩
  | 124 => ⟨S16x4096x4, .f32⟩
  | 125 => ⟨S16x4096x4, .f32⟩
  | 126 => ⟨S16x4096x4, .i32⟩
  | 127 => ⟨S_, .i32⟩
  | _ => ⟨S4x2x256x32x32, .f32⟩

abbrev hbmTy0_9 (i : Nat) : BufTy := match i % 128 with
  | 0 => ⟨S16x4096x4, .i32⟩
  | 1 => ⟨S16x4096x4, .i32⟩
  | 2 => ⟨S16x4096x4, .i32⟩
  | 3 => ⟨S16x16384, .i32⟩
  | 4 => ⟨S16x1x16384, .i32⟩
  | 5 => ⟨S16x32x16384, .i32⟩
  | 6 => ⟨S_, .i32⟩
  | 7 => ⟨S16x32x16384, .i32⟩
  | 8 => ⟨S16x32x16384, .i1⟩
  | 9 => ⟨S_, .i32⟩
  | 10 => ⟨S16x32x16384, .i32⟩
  | 11 => ⟨S16x32x16384, .i32⟩
  | 12 => ⟨S16x32x16384, .i32⟩
  | 13 => ⟨S16x32x16384x1, .i32⟩
  | 14 => ⟨S1, .i32⟩
  | 15 => ⟨S_, .i32⟩
  | 16 => ⟨S16x32x16384x1, .i32⟩
  | 17 => ⟨S16x32x16384x1, .i1⟩
  | 18 => ⟨S1x1x1x1, .i32⟩
  | 19 => ⟨S16x32x16384x1, .i32⟩
  | 20 => ⟨S16x32x16384x1, .i1⟩
  | 21 => ⟨S16x32x16384x1, .i1⟩
  | 22 => ⟨S_, .i1⟩
  | 23 => ⟨S16x32x16384, .i1⟩
  | 24 => ⟨S16x32x16384, .f32⟩
  | 25 => ⟨S_, .f32⟩
  | 26 => ⟨S16x32x16384, .f32⟩
  | 27 => ⟨S16x32x16384, .f32⟩
  | 28 => ⟨S16x32x4096x4, .f32⟩
  | 29 => ⟨S16x1x4096x4, .i1⟩
  | 30 => ⟨S16x1x4096x4, .f32⟩
  | 31 => ⟨S16x32x4096x4, .f32⟩
  | 32 => ⟨S16x32x4096x4, .f32⟩
  | 33 => ⟨S16x1x4096x4, .f32⟩
  | 34 => ⟨S16x32x4096x4, .f32⟩
  | 35 => ⟨S16x32x4096x4, .f32⟩
  | 36 => ⟨S_, .f32⟩
  | 37 => ⟨S16x4096x4, .f32⟩
  | 38 => ⟨S16x4096x4, .i1⟩
  | 39 => ⟨S_, .f32⟩
  | 40 => ⟨S16x4096x4, .f32⟩
  | 41 => ⟨S16x4096x4, .i1⟩
  | 42 => ⟨S16x4096x4, .i1⟩
  | 43 => ⟨S_, .f32⟩
  | 44 => ⟨S16x4096x4, .f32⟩
  | 45 => ⟨S16x4096x4, .i1⟩
  | 46 => ⟨S16x4096x4, .i1⟩
  | 47 => ⟨S_, .f32⟩
  | 48 => ⟨S16x4096x4, .f32⟩
  | 49 => ⟨S16x4096x4, .i1⟩
  | 50 => ⟨S16x4096x4, .i1⟩
  | 51 => ⟨S_, .i32⟩
  | 52 => ⟨S_, .i32⟩
  | 53 => ⟨S_, .f32⟩
  | 54 => ⟨S16x4096x4, .f32⟩
  | 55 => ⟨S16x4096x4, .f32⟩
  | 56 => ⟨S_, .f32⟩
  | 57 => ⟨S16x4096x4, .f32⟩
  | 58 => ⟨S16x4096x4, .f32⟩
  | 59 => ⟨S16x4096x4, .i32⟩
  | 60 => ⟨S_, .i32⟩
  | 61 => ⟨S_, .i32⟩
  | 62 => ⟨S_, .f32⟩
  | 63 => ⟨S16x4096x4, .f32⟩
  | 64 => ⟨S16x4096x4, .f32⟩
  | 65 => ⟨S_, .f32⟩
  | 66 => ⟨S16x4096x4, .f32⟩
  | 67 => ⟨S16x4096x4, .f32⟩
  | 68 => ⟨S16x4096x4, .i32⟩
  | 69 => ⟨S_, .i32⟩
  | 70 => ⟨S16x4096x4, .i32⟩
  | 71 => ⟨S16x4096x4, .i32⟩
  | 72 => ⟨S16x4096x4, .i32⟩
  | 73 => ⟨S16x16384, .i32⟩
  | 74 => ⟨S16x1x16384, .i32⟩
  | 75 => ⟨S16x32x16384, .i32⟩
  | 76 => ⟨S_, .i32⟩
  | 77 => ⟨S16x32x16384, .i32⟩
  | 78 => ⟨S16x32x16384, .i1⟩
  | 79 => ⟨S_, .i32⟩
  | 80 => ⟨S16x32x16384, .i32⟩
  | 81 => ⟨S16x32x16384, .i32⟩
  | 82 => ⟨S16x32x16384, .i32⟩
  | 83 => ⟨S16x32x16384x1, .i32⟩
  | 84 => ⟨S1, .i32⟩
  | 85 => ⟨S_, .i32⟩
  | 86 => ⟨S16x32x16384x1, .i32⟩
  | 87 => ⟨S16x32x16384x1, .i1⟩
  | 88 => ⟨S1x1x1x1, .i32⟩
  | 89 => ⟨S16x32x16384x1, .i32⟩
  | 90 => ⟨S16x32x16384x1, .i1⟩
  | 91 => ⟨S16x32x16384x1, .i1⟩
  | 92 => ⟨S_, .i1⟩
  | 93 => ⟨S16x32x16384, .i1⟩
  | 94 => ⟨S16x32x16384, .f32⟩
  | 95 => ⟨S_, .f32⟩
  | 96 => ⟨S16x32x16384, .f32⟩
  | 97 => ⟨S16x32x16384, .f32⟩
  | 98 => ⟨S16x32x4096x4, .f32⟩
  | 99 => ⟨S16x1x4096x4, .i1⟩
  | 100 => ⟨S16x1x4096x4, .f32⟩
  | 101 => ⟨S16x32x4096x4, .f32⟩
  | 102 => ⟨S16x32x4096x4, .f32⟩
  | 103 => ⟨S16x1x4096x4, .f32⟩
  | 104 => ⟨S16x32x4096x4, .f32⟩
  | 105 => ⟨S16x32x4096x4, .f32⟩
  | 106 => ⟨S16x32x4096x4, .f32⟩
  | 107 => ⟨S_, .f32⟩
  | 108 => ⟨S16x4096x4, .f32⟩
  | 109 => ⟨S16x4096x4, .i1⟩
  | 110 => ⟨S_, .f32⟩
  | 111 => ⟨S16x4096x4, .f32⟩
  | 112 => ⟨S16x4096x4, .i1⟩
  | 113 => ⟨S16x4096x4, .i1⟩
  | 114 => ⟨S_, .f32⟩
  | 115 => ⟨S16x4096x4, .f32⟩
  | 116 => ⟨S16x4096x4, .i1⟩
  | 117 => ⟨S16x4096x4, .i1⟩
  | 118 => ⟨S_, .f32⟩
  | 119 => ⟨S16x4096x4, .f32⟩
  | 120 => ⟨S16x4096x4, .i1⟩
  | 121 => ⟨S16x4096x4, .i1⟩
  | 122 => ⟨S_, .i32⟩
  | 123 => ⟨S_, .i32⟩
  | 124 => ⟨S_, .f32⟩
  | 125 => ⟨S16x4096x4, .f32⟩
  | 126 => ⟨S16x4096x4, .f32⟩
  | 127 => ⟨S_, .f32⟩
  | _ => ⟨S4x2x256x32x32, .f32⟩

abbrev hbmTy0_10 (i : Nat) : BufTy := match i % 128 with
  | 0 => ⟨S16x4096x4, .f32⟩
  | 1 => ⟨S16x4096x4, .f32⟩
  | 2 => ⟨S16x4096x4, .i32⟩
  | 3 => ⟨S_, .i32⟩
  | 4 => ⟨S_, .i32⟩
  | 5 => ⟨S_, .f32⟩
  | 6 => ⟨S16x4096x4, .f32⟩
  | 7 => ⟨S16x4096x4, .f32⟩
  | 8 => ⟨S_, .f32⟩
  | 9 => ⟨S16x4096x4, .f32⟩
  | 10 => ⟨S16x4096x4, .f32⟩
  | 11 => ⟨S16x4096x4, .i32⟩
  | 12 => ⟨S_, .i32⟩
  | 13 => ⟨S16x4096x4, .i32⟩
  | 14 => ⟨S16x4096x4, .i32⟩
  | 15 => ⟨S16x4096x4, .i32⟩
  | 16 => ⟨S16x16384, .i32⟩
  | 17 => ⟨S16x1x16384, .i32⟩
  | 18 => ⟨S16x32x16384, .i32⟩
  | 19 => ⟨S_, .i32⟩
  | 20 => ⟨S16x32x16384, .i32⟩
  | 21 => ⟨S16x32x16384, .i1⟩
  | 22 => ⟨S_, .i32⟩
  | 23 => ⟨S16x32x16384, .i32⟩
  | 24 => ⟨S16x32x16384, .i32⟩
  | 25 => ⟨S16x32x16384, .i32⟩
  | 26 => ⟨S16x32x16384x1, .i32⟩
  | 27 => ⟨S1, .i32⟩
  | 28 => ⟨S_, .i32⟩
  | 29 => ⟨S16x32x16384x1, .i32⟩
  | 30 => ⟨S16x32x16384x1, .i1⟩
  | 31 => ⟨S1x1x1x1, .i32⟩
  | 32 => ⟨S16x32x16384x1, .i32⟩
  | 33 => ⟨S16x32x16384x1, .i1⟩
  | 34 => ⟨S16x32x16384x1, .i1⟩
  | 35 => ⟨S_, .i1⟩
  | 36 => ⟨S16x32x16384, .i1⟩
  | 37 => ⟨S16x32x16384, .f32⟩
  | 38 => ⟨S_, .f32⟩
  | 39 => ⟨S16x32x16384, .f32⟩
  | 40 => ⟨S16x32x16384, .f32⟩
  | 41 => ⟨S16x32x4096x4, .f32⟩
  | 42 => ⟨S16x1x4096x4, .i1⟩
  | 43 => ⟨S16x1x4096x4, .f32⟩
  | 44 => ⟨S16x32x4096x4, .f32⟩
  | 45 => ⟨S16x32x4096x4, .f32⟩
  | 46 => ⟨S16x1x4096x4, .f32⟩
  | 47 => ⟨S16x32x4096x4, .f32⟩
  | 48 => ⟨S16x32x4096x4, .f32⟩
  | 49 => ⟨S16x32x4096x4, .f32⟩
  | 50 => ⟨S_, .f32⟩
  | 51 => ⟨S16x4096x4, .f32⟩
  | 52 => ⟨S16x4096x4, .i1⟩
  | 53 => ⟨S_, .f32⟩
  | 54 => ⟨S16x4096x4, .f32⟩
  | 55 => ⟨S16x4096x4, .i1⟩
  | 56 => ⟨S16x4096x4, .i1⟩
  | 57 => ⟨S_, .f32⟩
  | 58 => ⟨S16x4096x4, .f32⟩
  | 59 => ⟨S16x4096x4, .i1⟩
  | 60 => ⟨S16x4096x4, .i1⟩
  | 61 => ⟨S_, .f32⟩
  | 62 => ⟨S16x4096x4, .f32⟩
  | 63 => ⟨S16x4096x4, .i1⟩
  | 64 => ⟨S16x4096x4, .i1⟩
  | 65 => ⟨S_, .i32⟩
  | 66 => ⟨S_, .i32⟩
  | 67 => ⟨S_, .f32⟩
  | 68 => ⟨S16x4096x4, .f32⟩
  | 69 => ⟨S16x4096x4, .f32⟩
  | 70 => ⟨S_, .f32⟩
  | 71 => ⟨S16x4096x4, .f32⟩
  | 72 => ⟨S16x4096x4, .f32⟩
  | 73 => ⟨S16x4096x4, .i32⟩
  | 74 => ⟨S_, .i32⟩
  | 75 => ⟨S_, .i32⟩
  | 76 => ⟨S_, .f32⟩
  | 77 => ⟨S16x4096x4, .f32⟩
  | 78 => ⟨S16x4096x4, .f32⟩
  | 79 => ⟨S_, .f32⟩
  | 80 => ⟨S16x4096x4, .f32⟩
  | 81 => ⟨S16x4096x4, .f32⟩
  | 82 => ⟨S16x4096x4, .i32⟩
  | 83 => ⟨S_, .i32⟩
  | 84 => ⟨S16x4096x4, .i32⟩
  | 85 => ⟨S16x4096x4, .i32⟩
  | 86 => ⟨S16x4096x4, .i32⟩
  | 87 => ⟨S16x16384, .i32⟩
  | 88 => ⟨S16x1x16384, .i32⟩
  | 89 => ⟨S16x32x16384, .i32⟩
  | 90 => ⟨S_, .i32⟩
  | 91 => ⟨S16x32x16384, .i32⟩
  | 92 => ⟨S16x32x16384, .i1⟩
  | 93 => ⟨S_, .i32⟩
  | 94 => ⟨S16x32x16384, .i32⟩
  | 95 => ⟨S16x32x16384, .i32⟩
  | 96 => ⟨S16x32x16384, .i32⟩
  | 97 => ⟨S16x32x16384x1, .i32⟩
  | 98 => ⟨S1, .i32⟩
  | 99 => ⟨S_, .i32⟩
  | 100 => ⟨S16x32x16384x1, .i32⟩
  | 101 => ⟨S16x32x16384x1, .i1⟩
  | 102 => ⟨S1x1x1x1, .i32⟩
  | 103 => ⟨S16x32x16384x1, .i32⟩
  | 104 => ⟨S16x32x16384x1, .i1⟩
  | 105 => ⟨S16x32x16384x1, .i1⟩
  | 106 => ⟨S_, .i1⟩
  | 107 => ⟨S16x32x16384, .i1⟩
  | 108 => ⟨S16x32x16384, .f32⟩
  | 109 => ⟨S_, .f32⟩
  | 110 => ⟨S16x32x16384, .f32⟩
  | 111 => ⟨S16x32x16384, .f32⟩
  | 112 => ⟨S16x32x4096x4, .f32⟩
  | 113 => ⟨S16x1x4096x4, .i1⟩
  | 114 => ⟨S16x1x4096x4, .f32⟩
  | 115 => ⟨S16x32x4096x4, .f32⟩
  | 116 => ⟨S16x32x4096x4, .f32⟩
  | 117 => ⟨S16x1x4096x4, .f32⟩
  | 118 => ⟨S16x32x4096x4, .f32⟩
  | 119 => ⟨S16x32x4096x4, .f32⟩
  | 120 => ⟨S16x32x4096x4, .f32⟩
  | 121 => ⟨S2x1024x8x32, .f32⟩
  | 122 => ⟨S2x8x32x1024, .f32⟩
  | 123 => ⟨S16x32x32x32, .f32⟩
  | 124 => ⟨S2x4096x8x1x4x2, .f32⟩
  | 125 => ⟨S2x4096x8x4x2, .f32⟩
  | 126 => ⟨S2x8x4096x4x2, .f32⟩
  | 127 => ⟨S16x4096x4x2, .f32⟩
  | _ => ⟨S4x2x256x32x32, .f32⟩

abbrev hbmTy0_11 (i : Nat) : BufTy := match i % 128 with
  | 0 => ⟨S16x4096x4x1, .f32⟩
  | 1 => ⟨S16x4096x4, .f32⟩
  | 2 => ⟨S_, .f32⟩
  | 3 => ⟨S16x4096x4, .f32⟩
  | 4 => ⟨S16x4096x4, .f32⟩
  | 5 => ⟨S_, .f32⟩
  | 6 => ⟨S16x4096x4, .f32⟩
  | 7 => ⟨S16x4096x4, .f32⟩
  | 8 => ⟨S_, .f32⟩
  | 9 => ⟨S16x4096x4, .f32⟩
  | 10 => ⟨S16x4096x4, .f32⟩
  | 11 => ⟨S_, .f32⟩
  | 12 => ⟨S16x4096x4, .f32⟩
  | 13 => ⟨S16x4096x4, .f32⟩
  | 14 => ⟨S16x4096x4x1, .f32⟩
  | 15 => ⟨S16x4096x4, .f32⟩
  | 16 => ⟨S_, .f32⟩
  | 17 => ⟨S16x4096x4, .f32⟩
  | 18 => ⟨S16x4096x4, .f32⟩
  | 19 => ⟨S_, .f32⟩
  | 20 => ⟨S16x4096x4, .f32⟩
  | 21 => ⟨S16x4096x4, .f32⟩
  | 22 => ⟨S_, .f32⟩
  | 23 => ⟨S16x4096x4, .f32⟩
  | 24 => ⟨S16x4096x4, .f32⟩
  | 25 => ⟨S_, .f32⟩
  | 26 => ⟨S16x4096x4, .f32⟩
  | 27 => ⟨S16x4096x4, .f32⟩
  | 28 => ⟨S16x4096x4, .f32⟩
  | 29 => ⟨S16x4096x4, .f32⟩
  | 30 => ⟨S_, .f32⟩
  | 31 => ⟨S16x4096x4, .f32⟩
  | 32 => ⟨S16x4096x4, .f32⟩
  | 33 => ⟨S_, .f32⟩
  | 34 => ⟨S16x4096x4, .f32⟩
  | 35 => ⟨S16x4096x4, .f32⟩
  | 36 => ⟨S16x4096x4, .f32⟩
  | 37 => ⟨S16x4096x4, .f32⟩
  | 38 => ⟨S16x4096x4, .f32⟩
  | 39 => ⟨S16x4096x4, .f32⟩
  | 40 => ⟨S16x4096x4, .f32⟩
  | 41 => ⟨S16x4096x4, .f32⟩
  | 42 => ⟨S16x4096x4, .f32⟩
  | 43 => ⟨S16x4096x4, .f32⟩
  | 44 => ⟨S16x4096x4, .f32⟩
  | 45 => ⟨S16x4096x4, .f32⟩
  | 46 => ⟨S16x4096x4, .f32⟩
  | 47 => ⟨S16x4096x4, .f32⟩
  | 48 => ⟨S16x32x1024, .f32⟩
  | 49 => ⟨S_, .f32⟩
  | 50 => ⟨S16x4096x4, .f32⟩
  | 51 => ⟨S16x4096x4, .i1⟩
  | 52 => ⟨S_, .f32⟩
  | 53 => ⟨S16x4096x4, .f32⟩
  | 54 => ⟨S16x4096x4, .i1⟩
  | 55 => ⟨S16x4096x4, .i1⟩
  | 56 => ⟨S_, .f32⟩
  | 57 => ⟨S16x4096x4, .f32⟩
  | 58 => ⟨S16x4096x4, .i1⟩
  | 59 => ⟨S16x4096x4, .i1⟩
  | 60 => ⟨S_, .f32⟩
  | 61 => ⟨S16x4096x4, .f32⟩
  | 62 => ⟨S16x4096x4, .i1⟩
  | 63 => ⟨S16x4096x4, .i1⟩
  | 64 => ⟨S_, .i32⟩
  | 65 => ⟨S_, .i32⟩
  | 66 => ⟨S_, .f32⟩
  | 67 => ⟨S16x4096x4, .f32⟩
  | 68 => ⟨S16x4096x4, .f32⟩
  | 69 => ⟨S_, .f32⟩
  | 70 => ⟨S16x4096x4, .f32⟩
  | 71 => ⟨S16x4096x4, .f32⟩
  | 72 => ⟨S16x4096x4, .i32⟩
  | 73 => ⟨S_, .i32⟩
  | 74 => ⟨S_, .i32⟩
  | 75 => ⟨S_, .f32⟩
  | 76 => ⟨S16x4096x4, .f32⟩
  | 77 => ⟨S16x4096x4, .f32⟩
  | 78 => ⟨S_, .f32⟩
  | 79 => ⟨S16x4096x4, .f32⟩
  | 80 => ⟨S16x4096x4, .f32⟩
  | 81 => ⟨S16x4096x4, .i32⟩
  | 82 => ⟨S_, .i32⟩
  | 83 => ⟨S16x4096x4, .i32⟩
  | 84 => ⟨S16x4096x4, .i32⟩
  | 85 => ⟨S16x4096x4, .i32⟩
  | 86 => ⟨S16x16384, .i32⟩
  | 87 => ⟨S16x1x16384, .i32⟩
  | 88 => ⟨S16x32x16384, .i32⟩
  | 89 => ⟨S_, .i32⟩
  | 90 => ⟨S16x32x16384, .i32⟩
  | 91 => ⟨S16x32x16384, .i1⟩
  | 92 => ⟨S_, .i32⟩
  | 93 => ⟨S16x32x16384, .i32⟩
  | 94 => ⟨S16x32x16384, .i32⟩
  | 95 => ⟨S16x32x16384, .i32⟩
  | 96 => ⟨S16x32x16384x1, .i32⟩
  | 97 => ⟨S1, .i32⟩
  | 98 => ⟨S_, .i32⟩
  | 99 => ⟨S16x32x16384x1, .i32⟩
  | 100 => ⟨S16x32x16384x1, .i1⟩
  | 101 => ⟨S1x1x1x1, .i32⟩
  | 102 => ⟨S16x32x16384x1, .i32⟩
  | 103 => ⟨S16x32x16384x1, .i1⟩
  | 104 => ⟨S16x32x16384x1, .i1⟩
  | 105 => ⟨S_, .i1⟩
  | 106 => ⟨S16x32x16384, .i1⟩
  | 107 => ⟨S16x32x16384, .f32⟩
  | 108 => ⟨S_, .f32⟩
  | 109 => ⟨S16x32x16384, .f32⟩
  | 110 => ⟨S16x32x16384, .f32⟩
  | 111 => ⟨S16x32x4096x4, .f32⟩
  | 112 => ⟨S16x1x4096x4, .i1⟩
  | 113 => ⟨S16x1x4096x4, .f32⟩
  | 114 => ⟨S16x32x4096x4, .f32⟩
  | 115 => ⟨S16x32x4096x4, .f32⟩
  | 116 => ⟨S16x1x4096x4, .f32⟩
  | 117 => ⟨S16x32x4096x4, .f32⟩
  | 118 => ⟨S16x32x4096x4, .f32⟩
  | 119 => ⟨S_, .f32⟩
  | 120 => ⟨S16x4096x4, .f32⟩
  | 121 => ⟨S16x4096x4, .i1⟩
  | 122 => ⟨S_, .f32⟩
  | 123 => ⟨S16x4096x4, .f32⟩
  | 124 => ⟨S16x4096x4, .i1⟩
  | 125 => ⟨S16x4096x4, .i1⟩
  | 126 => ⟨S_, .f32⟩
  | 127 => ⟨S16x4096x4, .f32⟩
  | _ => ⟨S4x2x256x32x32, .f32⟩

abbrev hbmTy0_12 (i : Nat) : BufTy := match i % 128 with
  | 0 => ⟨S16x4096x4, .i1⟩
  | 1 => ⟨S16x4096x4, .i1⟩
  | 2 => ⟨S_, .f32⟩
  | 3 => ⟨S16x4096x4, .f32⟩
  | 4 => ⟨S16x4096x4, .i1⟩
  | 5 => ⟨S16x4096x4, .i1⟩
  | 6 => ⟨S_, .i32⟩
  | 7 => ⟨S_, .i32⟩
  | 8 => ⟨S_, .f32⟩
  | 9 => ⟨S16x4096x4, .f32⟩
  | 10 => ⟨S16x4096x4, .f32⟩
  | 11 => ⟨S_, .f32⟩
  | 12 => ⟨S16x4096x4, .f32⟩
  | 13 => ⟨S16x4096x4, .f32⟩
  | 14 => ⟨S16x4096x4, .i32⟩
  | 15 => ⟨S_, .i32⟩
  | 16 => ⟨S_, .i32⟩
  | 17 => ⟨S_, .f32⟩
  | 18 => ⟨S16x4096x4, .f32⟩
  | 19 => ⟨S16x4096x4, .f32⟩
  | 20 => ⟨S_, .f32⟩
  | 21 => ⟨S16x4096x4, .f32⟩
  | 22 => ⟨S16x4096x4, .f32⟩
  | 23 => ⟨S16x4096x4, .i32⟩
  | 24 => ⟨S_, .i32⟩
  | 25 => ⟨S16x4096x4, .i32⟩
  | 26 => ⟨S16x4096x4, .i32⟩
  | 27 => ⟨S16x4096x4, .i32⟩
  | 28 => ⟨S16x16384, .i32⟩
  | 29 => ⟨S16x1x16384, .i32⟩
  | 30 => ⟨S16x32x16384, .i32⟩
  | 31 => ⟨S_, .i32⟩
  | 32 => ⟨S16x32x16384, .i32⟩
  | 33 => ⟨S16x32x16384, .i1⟩
  | 34 => ⟨S_, .i32⟩
  | 35 => ⟨S16x32x16384, .i32⟩
  | 36 => ⟨S16x32x16384, .i32⟩
  | 37 => ⟨S16x32x16384, .i32⟩
  | 38 => ⟨S16x32x16384x1, .i32⟩
  | 39 => ⟨S1, .i32⟩
  | 40 => ⟨S_, .i32⟩
  | 41 => ⟨S16x32x16384x1, .i32⟩
  | 42 => ⟨S16x32x16384x1, .i1⟩
  | 43 => ⟨S1x1x1x1, .i32⟩
  | 44 => ⟨S16x32x16384x1, .i32⟩
  | 45 => ⟨S16x32x16384x1, .i1⟩
  | 46 => ⟨S16x32x16384x1, .i1⟩
  | 47 => ⟨S_, .i1⟩
  | 48 => ⟨S16x32x16384, .i1⟩
  | 49 => ⟨S16x32x16384, .f32⟩
  | 50 => ⟨S_, .f32⟩
  | 51 => ⟨S16x32x16384, .f32⟩
  | 52 => ⟨S16x32x16384, .f32⟩
  | 53 => ⟨S16x32x4096x4, .f32⟩
  | 54 => ⟨S16x1x4096x4, .i1⟩
  | 55 => ⟨S16x1x4096x4, .f32⟩
  | 56 => ⟨S16x32x4096x4, .f32⟩
  | 57 => ⟨S16x32x4096x4, .f32⟩
  | 58 => ⟨S16x1x4096x4, .f32⟩
  | 59 => ⟨S16x32x4096x4, .f32⟩
  | 60 => ⟨S16x32x4096x4, .f32⟩
  | 61 => ⟨S16x32x4096x4, .f32⟩
  | 62 => ⟨S_, .f32⟩
  | 63 => ⟨S16x4096x4, .f32⟩
  | 64 => ⟨S16x4096x4, .i1⟩
  | 65 => ⟨S_, .f32⟩
  | 66 => ⟨S16x4096x4, .f32⟩
  | 67 => ⟨S16x4096x4, .i1⟩
  | 68 => ⟨S16x4096x4, .i1⟩
  | 69 => ⟨S_, .f32⟩
  | 70 => ⟨S16x4096x4, .f32⟩
  | 71 => ⟨S16x4096x4, .i1⟩
  | 72 => ⟨S16x4096x4, .i1⟩
  | 73 => ⟨S_, .f32⟩
  | 74 => ⟨S16x4096x4, .f32⟩
  | 75 => ⟨S16x4096x4, .i1⟩
  | 76 => ⟨S16x4096x4, .i1⟩
  | 77 => ⟨S_, .i32⟩
  | 78 => ⟨S_, .i32⟩
  | 79 => ⟨S_, .f32⟩
  | 80 => ⟨S16x4096x4, .f32⟩
  | 81 => ⟨S16x4096x4, .f32⟩
  | 82 => ⟨S_, .f32⟩
  | 83 => ⟨S16x4096x4, .f32⟩
  | 84 => ⟨S16x4096x4, .f32⟩
  | 85 => ⟨S16x4096x4, .i32⟩
  | 86 => ⟨S_, .i32⟩
  | 87 => ⟨S_, .i32⟩
  | 88 => ⟨S_, .f32⟩
  | 89 => ⟨S16x4096x4, .f32⟩
  | 90 => ⟨S16x4096x4, .f32⟩
  | 91 => ⟨S_, .f32⟩
  | 92 => ⟨S16x4096x4, .f32⟩
  | 93 => ⟨S16x4096x4, .f32⟩
  | 94 => ⟨S16x4096x4, .i32⟩
  | 95 => ⟨S_, .i32⟩
  | 96 => ⟨S16x4096x4, .i32⟩
  | 97 => ⟨S16x4096x4, .i32⟩
  | 98 => ⟨S16x4096x4, .i32⟩
  | 99 => ⟨S16x16384, .i32⟩
  | 100 => ⟨S16x1x16384, .i32⟩
  | 101 => ⟨S16x32x16384, .i32⟩
  | 102 => ⟨S_, .i32⟩
  | 103 => ⟨S16x32x16384, .i32⟩
  | 104 => ⟨S16x32x16384, .i1⟩
  | 105 => ⟨S_, .i32⟩
  | 106 => ⟨S16x32x16384, .i32⟩
  | 107 => ⟨S16x32x16384, .i32⟩
  | 108 => ⟨S16x32x16384, .i32⟩
  | 109 => ⟨S16x32x16384x1, .i32⟩
  | 110 => ⟨S1, .i32⟩
  | 111 => ⟨S_, .i32⟩
  | 112 => ⟨S16x32x16384x1, .i32⟩
  | 113 => ⟨S16x32x16384x1, .i1⟩
  | 114 => ⟨S1x1x1x1, .i32⟩
  | 115 => ⟨S16x32x16384x1, .i32⟩
  | 116 => ⟨S16x32x16384x1, .i1⟩
  | 117 => ⟨S16x32x16384x1, .i1⟩
  | 118 => ⟨S_, .i1⟩
  | 119 => ⟨S16x32x16384, .i1⟩
  | 120 => ⟨S16x32x16384, .f32⟩
  | 121 => ⟨S_, .f32⟩
  | 122 => ⟨S16x32x16384, .f32⟩
  | 123 => ⟨S16x32x16384, .f32⟩
  | 124 => ⟨S16x32x4096x4, .f32⟩
  | 125 => ⟨S16x1x4096x4, .i1⟩
  | 126 => ⟨S16x1x4096x4, .f32⟩
  | 127 => ⟨S16x32x4096x4, .f32⟩
  | _ => ⟨S4x2x256x32x32, .f32⟩

abbrev hbmTy0_13 (i : Nat) : BufTy := match i % 128 with
  | 0 => ⟨S16x32x4096x4, .f32⟩
  | 1 => ⟨S16x1x4096x4, .f32⟩
  | 2 => ⟨S16x32x4096x4, .f32⟩
  | 3 => ⟨S16x32x4096x4, .f32⟩
  | 4 => ⟨S16x32x4096x4, .f32⟩
  | 5 => ⟨S_, .f32⟩
  | 6 => ⟨S16x4096x4, .f32⟩
  | 7 => ⟨S16x4096x4, .i1⟩
  | 8 => ⟨S_, .f32⟩
  | 9 => ⟨S16x4096x4, .f32⟩
  | 10 => ⟨S16x4096x4, .i1⟩
  | 11 => ⟨S16x4096x4, .i1⟩
  | 12 => ⟨S_, .f32⟩
  | 13 => ⟨S16x4096x4, .f32⟩
  | 14 => ⟨S16x4096x4, .i1⟩
  | 15 => ⟨S16x4096x4, .i1⟩
  | 16 => ⟨S_, .f32⟩
  | 17 => ⟨S16x4096x4, .f32⟩
  | 18 => ⟨S16x4096x4, .i1⟩
  | 19 => ⟨S16x4096x4, .i1⟩
  | 20 => ⟨S_, .i32⟩
  | 21 => ⟨S_, .i32⟩
  | 22 => ⟨S_, .f32⟩
  | 23 => ⟨S16x4096x4, .f32⟩
  | 24 => ⟨S16x4096x4, .f32⟩
  | 25 => ⟨S_, .f32⟩
  | 26 => ⟨S16x4096x4, .f32⟩
  | 27 => ⟨S16x4096x4, .f32⟩
  | 28 => ⟨S16x4096x4, .i32⟩
  | 29 => ⟨S_, .i32⟩
  | 30 => ⟨S_, .i32⟩
  | 31 => ⟨S_, .f32⟩
  | 32 => ⟨S16x4096x4, .f32⟩
  | 33 => ⟨S16x4096x4, .f32⟩
  | 34 => ⟨S_, .f32⟩
  | 35 => ⟨S16x4096x4, .f32⟩
  | 36 => ⟨S16x4096x4, .f32⟩
  | 37 => ⟨S16x4096x4, .i32⟩
  | 38 => ⟨S_, .i32⟩
  | 39 => ⟨S16x4096x4, .i32⟩
  | 40 => ⟨S16x4096x4, .i32⟩
  | 41 => ⟨S16x4096x4, .i32⟩
  | 42 => ⟨S16x16384, .i32⟩
  | 43 => ⟨S16x1x16384, .i32⟩
  | 44 => ⟨S16x32x16384, .i32⟩
  | 45 => ⟨S_, .i32⟩
  | 46 => ⟨S16x32x16384, .i32⟩
  | 47 => ⟨S16x32x16384, .i1⟩
  | 48 => ⟨S_, .i32⟩
  | 49 => ⟨S16x32x16384, .i32⟩
  | 50 => ⟨S16x32x16384, .i32⟩
  | 51 => ⟨S16x32x16384, .i32⟩
  | 52 => ⟨S16x32x16384x1, .i32⟩
  | 53 => ⟨S1, .i32⟩
  | 54 => ⟨S_, .i32⟩
  | 55 => ⟨S16x32x16384x1, .i32⟩
  | 56 => ⟨S16x32x16384x1, .i1⟩
  | 57 => ⟨S1x1x1x1, .i32⟩
  | 58 => ⟨S16x32x16384x1, .i32⟩
  | 59 => ⟨S16x32x16384x1, .i1⟩
  | 60 => ⟨S16x32x16384x1, .i1⟩
  | 61 => ⟨S_, .i1⟩
  | 62 => ⟨S16x32x16384, .i1⟩
  | 63 => ⟨S16x32x16384, .f32⟩
  | 64 => ⟨S_, .f32⟩
  | 65 => ⟨S16x32x16384, .f32⟩
  | 66 => ⟨S16x32x16384, .f32⟩
  | 67 => ⟨S16x32x4096x4, .f32⟩
  | 68 => ⟨S16x1x4096x4, .i1⟩
  | 69 => ⟨S16x1x4096x4, .f32⟩
  | 70 => ⟨S16x32x4096x4, .f32⟩
  | 71 => ⟨S16x32x4096x4, .f32⟩
  | 72 => ⟨S16x1x4096x4, .f32⟩
  | 73 => ⟨S16x32x4096x4, .f32⟩
  | 74 => ⟨S16x32x4096x4, .f32⟩
  | 75 => ⟨S16x32x4096x4, .f32⟩
  | 76 => ⟨S16x32x4096x1x4, .f32⟩
  | 77 => ⟨S16x32x4096x1x4, .f32⟩
  | 78 => ⟨S16x32x4096x1x4, .f32⟩
  | 79 => ⟨S16x32x4096x1x4, .f32⟩
  | 80 => ⟨S16x32x4096x4x4, .f32⟩
  | 81 => ⟨S16x32x4096x16, .f32⟩
  | 82 => ⟨S2x8x4096x4x4, .f32⟩
  | 83 => ⟨S16x1x4096x16, .f32⟩
  | 84 => ⟨S16x32x4096x16, .f32⟩
  | 85 => ⟨S16x32x4096x16, .f32⟩
  | 86 => ⟨S_, .f32⟩
  | 87 => ⟨S16x32x4096, .f32⟩
  | 88 => ⟨S2x256x4096, .f32⟩
  | 89 => ⟨S2x4096x256, .f32⟩
  | 90 => ⟨S1x256x256, .f32⟩
  | 91 => ⟨S256x256, .f32⟩
  | 92 => ⟨S2x4096x256, .f32⟩
  | 93 => ⟨S1x256, .f32⟩
  | 94 => ⟨S256, .f32⟩
  | 95 => ⟨S1x1x256, .f32⟩
  | 96 => ⟨S2x4096x256, .f32⟩
  | 97 => ⟨S2x4096x256, .f32⟩
  | 98 => ⟨S2x4096x256, .f32⟩
  | 99 => ⟨S1x256, .f32⟩
  | 100 => ⟨S256, .f32⟩
  | 101 => ⟨S1x256, .f32⟩
  | 102 => ⟨S256, .f32⟩
  | 103 => ⟨S_, .f32⟩
  | 104 => ⟨S2x4096, .f32⟩
  | 105 => ⟨S2x4096x1, .f32⟩
  | 106 => ⟨S_, .f32⟩
  | 107 => ⟨S2x4096x1, .f32⟩
  | 108 => ⟨S2x4096x1, .f32⟩
  | 109 => ⟨S2x4096x256, .f32⟩
  | 110 => ⟨S2x4096x256, .f32⟩
  | 111 => ⟨S2x4096x256, .f32⟩
  | 112 => ⟨S_, .f32⟩
  | 113 => ⟨S2x4096, .f32⟩
  | 114 => ⟨S2x4096x1, .f32⟩
  | 115 => ⟨S_, .f32⟩
  | 116 => ⟨S2x4096x1, .f32⟩
  | 117 => ⟨S2x4096x1, .f32⟩
  | 118 => ⟨S2x4096x256, .f32⟩
  | 119 => ⟨S2x4096x256, .f32⟩
  | 120 => ⟨S_, .f32⟩
  | 121 => ⟨S2x4096x1, .f32⟩
  | 122 => ⟨S2x4096x1, .f32⟩
  | 123 => ⟨S2x4096x1, .f32⟩
  | 124 => ⟨S2x4096x256, .f32⟩
  | 125 => ⟨S2x4096x256, .f32⟩
  | 126 => ⟨S1x1x256, .f32⟩
  | 127 => ⟨S2x4096x256, .f32⟩
  | _ => ⟨S4x2x256x32x32, .f32⟩

abbrev hbmTy0_14 (i : Nat) : BufTy := match i % 128 with
  | 0 => ⟨S2x4096x256, .f32⟩
  | 1 => ⟨S1x1x256, .f32⟩
  | 2 => ⟨S2x4096x256, .f32⟩
  | 3 => ⟨S2x4096x256, .f32⟩
  | 4 => ⟨S1x256x1024, .f32⟩
  | 5 => ⟨S256x1024, .f32⟩
  | 6 => ⟨S2x4096x1024, .f32⟩
  | 7 => ⟨S1x1024, .f32⟩
  | 8 => ⟨S1024, .f32⟩
  | 9 => ⟨S1x1x1024, .f32⟩
  | 10 => ⟨S2x4096x1024, .f32⟩
  | 11 => ⟨S2x4096x1024, .f32⟩
  | 12 => ⟨S_, .f32⟩
  | 13 => ⟨S2x4096x1024, .f32⟩
  | 14 => ⟨S2x4096x1024, .f32⟩
  | 15 => ⟨S1x1024x256, .f32⟩
  | 16 => ⟨S1024x256, .f32⟩
  | 17 => ⟨S2x4096x256, .f32⟩
  | 18 => ⟨S1x256, .f32⟩
  | 19 => ⟨S256, .f32⟩
  | 20 => ⟨S1x1x256, .f32⟩
  | 21 => ⟨S2x4096x256, .f32⟩
  | 22 => ⟨S2x4096x256, .f32⟩
  | 23 => ⟨S2x4096x256, .f32⟩
  | 24 => ⟨S1x256, .f32⟩
  | 25 => ⟨S256, .f32⟩
  | 26 => ⟨S1x256, .f32⟩
  | 27 => ⟨S256, .f32⟩
  | 28 => ⟨S_, .f32⟩
  | 29 => ⟨S2x4096, .f32⟩
  | 30 => ⟨S2x4096x1, .f32⟩
  | 31 => ⟨S_, .f32⟩
  | 32 => ⟨S2x4096x1, .f32⟩
  | 33 => ⟨S2x4096x1, .f32⟩
  | 34 => ⟨S2x4096x256, .f32⟩
  | 35 => ⟨S2x4096x256, .f32⟩
  | 36 => ⟨S2x4096x256, .f32⟩
  | 37 => ⟨S_, .f32⟩
  | 38 => ⟨S2x4096, .f32⟩
  | 39 => ⟨S2x4096x1, .f32⟩
  | 40 => ⟨S_, .f32⟩
  | 41 => ⟨S2x4096x1, .f32⟩
  | 42 => ⟨S2x4096x1, .f32⟩
  | 43 => ⟨S2x4096x256, .f32⟩
  | 44 => ⟨S2x4096x256, .f32⟩
  | 45 => ⟨S_, .f32⟩
  | 46 => ⟨S2x4096x1, .f32⟩
  | 47 => ⟨S2x4096x1, .f32⟩
  | 48 => ⟨S2x4096x1, .f32⟩
  | 49 => ⟨S2x4096x256, .f32⟩
  | 50 => ⟨S2x4096x256, .f32⟩
  | 51 => ⟨S1x1x256, .f32⟩
  | 52 => ⟨S2x4096x256, .f32⟩
  | 53 => ⟨S2x4096x256, .f32⟩
  | 54 => ⟨S1x1x256, .f32⟩
  | 55 => ⟨S2x4096x256, .f32⟩
  | 56 => ⟨S2x4096x256, .f32⟩
  | 57 => ⟨S2x4096x256, .f32⟩
  | 58 => ⟨S1x256x256, .f32⟩
  | 59 => ⟨S256x256, .f32⟩
  | 60 => ⟨S2x4096x256, .f32⟩
  | 61 => ⟨S1x256, .f32⟩
  | 62 => ⟨S256, .f32⟩
  | 63 => ⟨S1x1x256, .f32⟩
  | 64 => ⟨S2x4096x256, .f32⟩
  | 65 => ⟨S2x4096x256, .f32⟩
  | 66 => ⟨S2x4096x8x32, .f32⟩
  | 67 => ⟨S1x256x256, .f32⟩
  | 68 => ⟨S256x256, .f32⟩
  | 69 => ⟨S2x4096x256, .f32⟩
  | 70 => ⟨S1x256, .f32⟩
  | 71 => ⟨S256, .f32⟩
  | 72 => ⟨S1x1x256, .f32⟩
  | 73 => ⟨S2x4096x256, .f32⟩
  | 74 => ⟨S2x4096x256, .f32⟩
  | 75 => ⟨S2x4096x8x4x4x2, .f32⟩
  | 76 => ⟨S1x256x128, .f32⟩
  | 77 => ⟨S256x128, .f32⟩
  | 78 => ⟨S2x4096x128, .f32⟩
  | 79 => ⟨S1x128, .f32⟩
  | 80 => ⟨S128, .f32⟩
  | 81 => ⟨S1x1x128, .f32⟩
  | 82 => ⟨S2x4096x128, .f32⟩
  | 83 => ⟨S2x4096x128, .f32⟩
  | 84 => ⟨S2x4096x8x16, .f32⟩
  | 85 => ⟨S_, .f32⟩
  | 86 => ⟨S2x4096x8, .f32⟩
  | 87 => ⟨S_, .f32⟩
  | 88 => ⟨S2x4096x8, .f32⟩
  | 89 => ⟨S2x4096x8, .f32⟩
  | 90 => ⟨S2x4096x8x1, .f32⟩
  | 91 => ⟨S2x4096x8x16, .f32⟩
  | 92 => ⟨S2x4096x8x16, .f32⟩
  | 93 => ⟨S2x4096x8x16, .f32⟩
  | 94 => ⟨S_, .f32⟩
  | 95 => ⟨S2x4096x8, .f32⟩
  | 96 => ⟨S2x4096x8x1, .f32⟩
  | 97 => ⟨S2x4096x8x16, .f32⟩
  | 98 => ⟨S2x4096x8x16, .f32⟩
  | 99 => ⟨S2x4096x8x4x4, .f32⟩
  | 100 => ⟨S2x4096x1x4x1x2, .f32⟩
  | 101 => ⟨S1x1x1x4x1x2, .f32⟩
  | 102 => ⟨S2x4096x8x4x4x2, .f32⟩
  | 103 => ⟨S2x4096x8x4x4x2, .f32⟩
  | 104 => ⟨S2x4096x8x4x4x2, .f32⟩
  | 105 => ⟨S2x4096x8x4x4x2, .f32⟩
  | 106 => ⟨S_, .f32⟩
  | 107 => ⟨S2x4096x8x4x4x2, .f32⟩
  | 108 => ⟨S2x4096x8x4x4x2, .f32⟩
  | 109 => ⟨S_, .f32⟩
  | 110 => ⟨S2x4096x8x4x4x2, .f32⟩
  | 111 => ⟨S2x4096x8x4x4x2, .f32⟩
  | 112 => ⟨S2x1024x8x32, .f32⟩
  | 113 => ⟨S2x8x32x1024, .f32⟩
  | 114 => ⟨S16x32x32x32, .f32⟩
  | 115 => ⟨S2x4096x8x1x4x2, .f32⟩
  | 116 => ⟨S2x4096x8x4x2, .f32⟩
  | 117 => ⟨S2x8x4096x4x2, .f32⟩
  | 118 => ⟨S16x4096x4x2, .f32⟩
  | 119 => ⟨S16x4096x4x1, .f32⟩
  | 120 => ⟨S16x4096x4, .f32⟩
  | 121 => ⟨S_, .f32⟩
  | 122 => ⟨S16x4096x4, .f32⟩
  | 123 => ⟨S16x4096x4, .f32⟩
  | 124 => ⟨S_, .f32⟩
  | 125 => ⟨S16x4096x4, .f32⟩
  | 126 => ⟨S16x4096x4, .f32⟩
  | 127 => ⟨S_, .f32⟩
  | _ => ⟨S4x2x256x32x32, .f32⟩

abbrev hbmTy0_15 (i : Nat) : BufTy := match i % 128 with
  | 0 => ⟨S16x4096x4, .f32⟩
  | 1 => ⟨S16x4096x4, .f32⟩
  | 2 => ⟨S_, .f32⟩
  | 3 => ⟨S16x4096x4, .f32⟩
  | 4 => ⟨S16x4096x4, .f32⟩
  | 5 => ⟨S16x4096x4x1, .f32⟩
  | 6 => ⟨S16x4096x4, .f32⟩
  | 7 => ⟨S_, .f32⟩
  | 8 => ⟨S16x4096x4, .f32⟩
  | 9 => ⟨S16x4096x4, .f32⟩
  | 10 => ⟨S_, .f32⟩
  | 11 => ⟨S16x4096x4, .f32⟩
  | 12 => ⟨S16x4096x4, .f32⟩
  | 13 => ⟨S_, .f32⟩
  | 14 => ⟨S16x4096x4, .f32⟩
  | 15 => ⟨S16x4096x4, .f32⟩
  | 16 => ⟨S_, .f32⟩
  | 17 => ⟨S16x4096x4, .f32⟩
  | 18 => ⟨S16x4096x4, .f32⟩
  | 19 => ⟨S16x4096x4, .f32⟩
  | 20 => ⟨S16x4096x4, .f32⟩
  | 21 => ⟨S_, .f32⟩
  | 22 => ⟨S16x4096x4, .f32⟩
  | 23 => ⟨S16x4096x4, .f32⟩
  | 24 => ⟨S_, .f32⟩
  | 25 => ⟨S16x4096x4, .f32⟩
  | 26 => ⟨S16x4096x4, .f32⟩
  | 27 => ⟨S16x4096x4, .f32⟩
  | 28 => ⟨S16x4096x4, .f32⟩
  | 29 => ⟨S16x4096x4, .f32⟩
  | 30 => ⟨S16x4096x4, .f32⟩
  | 31 => ⟨S16x4096x4, .f32⟩
  | 32 => ⟨S16x4096x4, .f32⟩
  | 33 => ⟨S16x4096x4, .f32⟩
  | 34 => ⟨S16x4096x4, .f32⟩
  | 35 => ⟨S16x4096x4, .f32⟩
  | 36 => ⟨S16x4096x4, .f32⟩
  | 37 => ⟨S16x4096x4, .f32⟩
  | 38 => ⟨S16x4096x4, .f32⟩
  | 39 => ⟨S16x32x1024, .f32⟩
  | 40 => ⟨S_, .f32⟩
  | 41 => ⟨S16x4096x4, .f32⟩
  | 42 => ⟨S16x4096x4, .i1⟩
  | 43 => ⟨S_, .f32⟩
  | 44 => ⟨S16x4096x4, .f32⟩
  | 45 => ⟨S16x4096x4, .i1⟩
  | 46 => ⟨S16x4096x4, .i1⟩
  | 47 => ⟨S_, .f32⟩
  | 48 => ⟨S16x4096x4, .f32⟩
  | 49 => ⟨S16x4096x4, .i1⟩
  | 50 => ⟨S16x4096x4, .i1⟩
  | 51 => ⟨S_, .f32⟩
  | 52 => ⟨S16x4096x4, .f32⟩
  | 53 => ⟨S16x4096x4, .i1⟩
  | 54 => ⟨S16x4096x4, .i1⟩
  | 55 => ⟨S_, .i32⟩
  | 56 => ⟨S_, .i32⟩
  | 57 => ⟨S_, .f32⟩
  | 58 => ⟨S16x4096x4, .f32⟩
  | 59 => ⟨S16x4096x4, .f32⟩
  | 60 => ⟨S_, .f32⟩
  | 61 => ⟨S16x4096x4, .f32⟩
  | 62 => ⟨S16x4096x4, .f32⟩
  | 63 => ⟨S16x4096x4, .i32⟩
  | 64 => ⟨S_, .i32⟩
  | 65 => ⟨S_, .i32⟩
  | 66 => ⟨S_, .f32⟩
  | 67 => ⟨S16x4096x4, .f32⟩
  | 68 => ⟨S16x4096x4, .f32⟩
  | 69 => ⟨S_, .f32⟩
  | 70 => ⟨S16x4096x4, .f32⟩
  | 71 => ⟨S16x4096x4, .f32⟩
  | 72 => ⟨S16x4096x4, .i32⟩
  | 73 => ⟨S_, .i32⟩
  | 74 => ⟨S16x4096x4, .i32⟩
  | 75 => ⟨S16x4096x4, .i32⟩
  | 76 => ⟨S16x4096x4, .i32⟩
  | 77 => ⟨S16x16384, .i32⟩
  | 78 => ⟨S16x1x16384, .i32⟩
  | 79 => ⟨S16x32x16384, .i32⟩
  | 80 => ⟨S_, .i32⟩
  | 81 => ⟨S16x32x16384, .i32⟩
  | 82 => ⟨S16x32x16384, .i1⟩
  | 83 => ⟨S_, .i32⟩
  | 84 => ⟨S16x32x16384, .i32⟩
  | 85 => ⟨S16x32x16384, .i32⟩
  | 86 => ⟨S16x32x16384, .i32⟩
  | 87 => ⟨S16x32x16384x1, .i32⟩
  | 88 => ⟨S1, .i32⟩
  | 89 => ⟨S_, .i32⟩
  | 90 => ⟨S16x32x16384x1, .i32⟩
  | 91 => ⟨S16x32x16384x1, .i1⟩
  | 92 => ⟨S1x1x1x1, .i32⟩
  | 93 => ⟨S16x32x16384x1, .i32⟩
  | 94 => ⟨S16x32x16384x1, .i1⟩
  | 95 => ⟨S16x32x16384x1, .i1⟩
  | 96 => ⟨S_, .i1⟩
  | 97 => ⟨S16x32x16384, .i1⟩
  | 98 => ⟨S16x32x16384, .f32⟩
  | 99 => ⟨S_, .f32⟩
  | 100 => ⟨S16x32x16384, .f32⟩
  | 101 => ⟨S16x32x16384, .f32⟩
  | 102 => ⟨S16x32x4096x4, .f32⟩
  | 103 => ⟨S16x1x4096x4, .i1⟩
  | 104 => ⟨S16x1x4096x4, .f32⟩
  | 105 => ⟨S16x32x4096x4, .f32⟩
  | 106 => ⟨S16x32x4096x4, .f32⟩
  | 107 => ⟨S16x1x4096x4, .f32⟩
  | 108 => ⟨S16x32x4096x4, .f32⟩
  | 109 => ⟨S16x32x4096x4, .f32⟩
  | 110 => ⟨S_, .f32⟩
  | 111 => ⟨S16x4096x4, .f32⟩
  | 112 => ⟨S16x4096x4, .i1⟩
  | 113 => ⟨S_, .f32⟩
  | 114 => ⟨S16x4096x4, .f32⟩
  | 115 => ⟨S16x4096x4, .i1⟩
  | 116 => ⟨S16x4096x4, .i1⟩
  | 117 => ⟨S_, .f32⟩
  | 118 => ⟨S16x4096x4, .f32⟩
  | 119 => ⟨S16x4096x4, .i1⟩
  | 120 => ⟨S16x4096x4, .i1⟩
  | 121 => ⟨S_, .f32⟩
  | 122 => ⟨S16x4096x4, .f32⟩
  | 123 => ⟨S16x4096x4, .i1⟩
  | 124 => ⟨S16x4096x4, .i1⟩
  | 125 => ⟨S_, .i32⟩
  | 126 => ⟨S_, .i32⟩
  | 127 => ⟨S_, .f32⟩
  | _ => ⟨S4x2x256x32x32, .f32⟩

abbrev hbmTy0_16 (i : Nat) : BufTy := match i % 128 with
  | 0 => ⟨S16x4096x4, .f32⟩
  | 1 => ⟨S16x4096x4, .f32⟩
  | 2 => ⟨S_, .f32⟩
  | 3 => ⟨S16x4096x4, .f32⟩
  | 4 => ⟨S16x4096x4, .f32⟩
  | 5 => ⟨S16x4096x4, .i32⟩
  | 6 => ⟨S_, .i32⟩
  | 7 => ⟨S_, .i32⟩
  | 8 => ⟨S_, .f32⟩
  | 9 => ⟨S16x4096x4, .f32⟩
  | 10 => ⟨S16x4096x4, .f32⟩
  | 11 => ⟨S_, .f32⟩
  | 12 => ⟨S16x4096x4, .f32⟩
  | 13 => ⟨S16x4096x4, .f32⟩
  | 14 => ⟨S16x4096x4, .i32⟩
  | 15 => ⟨S_, .i32⟩
  | 16 => ⟨S16x4096x4, .i32⟩
  | 17 => ⟨S16x4096x4, .i32⟩
  | 18 => ⟨S16x4096x4, .i32⟩
  | 19 => ⟨S16x16384, .i32⟩
  | 20 => ⟨S16x1x16384, .i32⟩
  | 21 => ⟨S16x32x16384, .i32⟩
  | 22 => ⟨S_, .i32⟩
  | 23 => ⟨S16x32x16384, .i32⟩
  | 24 => ⟨S16x32x16384, .i1⟩
  | 25 => ⟨S_, .i32⟩
  | 26 => ⟨S16x32x16384, .i32⟩
  | 27 => ⟨S16x32x16384, .i32⟩
  | 28 => ⟨S16x32x16384, .i32⟩
  | 29 => ⟨S16x32x16384x1, .i32⟩
  | 30 => ⟨S1, .i32⟩
  | 31 => ⟨S_, .i32⟩
  | 32 => ⟨S16x32x16384x1, .i32⟩
  | 33 => ⟨S16x32x16384x1, .i1⟩
  | 34 => ⟨S1x1x1x1, .i32⟩
  | 35 => ⟨S16x32x16384x1, .i32⟩
  | 36 => ⟨S16x32x16384x1, .i1⟩
  | 37 => ⟨S16x32x16384x1, .i1⟩
  | 38 => ⟨S_, .i1⟩
  | 39 => ⟨S16x32x16384, .i1⟩
  | 40 => ⟨S16x32x16384, .f32⟩
  | 41 => ⟨S_, .f32⟩
  | 42 => ⟨S16x32x16384, .f32⟩
  | 43 => ⟨S16x32x16384, .f32⟩
  | 44 => ⟨S16x32x4096x4, .f32⟩
  | 45 => ⟨S16x1x4096x4, .i1⟩
  | 46 => ⟨S16x1x4096x4, .f32⟩
  | 47 => ⟨S16x32x4096x4, .f32⟩
  | 48 => ⟨S16x32x4096x4, .f32⟩
  | 49 => ⟨S16x1x4096x4, .f32⟩
  | 50 => ⟨S16x32x4096x4, .f32⟩
  | 51 => ⟨S16x32x4096x4, .f32⟩
  | 52 => ⟨S16x32x4096x4, .f32⟩
  | 53 => ⟨S_, .f32⟩
  | 54 => ⟨S16x4096x4, .f32⟩
  | 55 => ⟨S16x4096x4, .i1⟩
  | 56 => ⟨S_, .f32⟩
  | 57 => ⟨S16x4096x4, .f32⟩
  | 58 => ⟨S16x4096x4, .i1⟩
  | 59 => ⟨S16x4096x4, .i1⟩
  | 60 => ⟨S_, .f32⟩
  | 61 => ⟨S16x4096x4, .f32⟩
  | 62 => ⟨S16x4096x4, .i1⟩
  | 63 => ⟨S16x4096x4, .i1⟩
  | 64 => ⟨S_, .f32⟩
  | 65 => ⟨S16x4096x4, .f32⟩
  | 66 => ⟨S16x4096x4, .i1⟩
  | 67 => ⟨S16x4096x4, .i1⟩
  | 68 => ⟨S_, .i32⟩
  | 69 => ⟨S_, .i32⟩
  | 70 => ⟨S_, .f32⟩
  | 71 => ⟨S16x4096x4, .f32⟩
  | 72 => ⟨S16x4096x4, .f32⟩
  | 73 => ⟨S_, .f32⟩
  | 74 => ⟨S16x4096x4, .f32⟩
  | 75 => ⟨S16x4096x4, .f32⟩
  | 76 => ⟨S16x4096x4, .i32⟩
  | 77 => ⟨S_, .i32⟩
  | 78 => ⟨S_, .i32⟩
  | 79 => ⟨S_, .f32⟩
  | 80 => ⟨S16x4096x4, .f32⟩
  | 81 => ⟨S16x4096x4, .f32⟩
  | 82 => ⟨S_, .f32⟩
  | 83 => ⟨S16x4096x4, .f32⟩
  | 84 => ⟨S16x4096x4, .f32⟩
  | 85 => ⟨S16x4096x4, .i32⟩
  | 86 => ⟨S_, .i32⟩
  | 87 => ⟨S16x4096x4, .i32⟩
  | 88 => ⟨S16x4096x4, .i32⟩
  | 89 => ⟨S16x4096x4, .i32⟩
  | 90 => ⟨S16x16384, .i32⟩
  | 91 => ⟨S16x1x16384, .i32⟩
  | 92 => ⟨S16x32x16384, .i32⟩
  | 93 => ⟨S_, .i32⟩
  | 94 => ⟨S16x32x16384, .i32⟩
  | 95 => ⟨S16x32x16384, .i1⟩
  | 96 => ⟨S_, .i32⟩
  | 97 => ⟨S16x32x16384, .i32⟩
  | 98 => ⟨S16x32x16384, .i32⟩
  | 99 => ⟨S16x32x16384, .i32⟩
  | 100 => ⟨S16x32x16384x1, .i32⟩
  | 101 => ⟨S1, .i32⟩
  | 102 => ⟨S_, .i32⟩
  | 103 => ⟨S16x32x16384x1, .i32⟩
  | 104 => ⟨S16x32x16384x1, .i1⟩
  | 105 => ⟨S1x1x1x1, .i32⟩
  | 106 => ⟨S16x32x16384x1, .i32⟩
  | 107 => ⟨S16x32x16384x1, .i1⟩
  | 108 => ⟨S16x32x16384x1, .i1⟩
  | 109 => ⟨S_, .i1⟩
  | 110 => ⟨S16x32x16384, .i1⟩
  | 111 => ⟨S16x32x16384, .f32⟩
  | 112 => ⟨S_, .f32⟩
  | 113 => ⟨S16x32x16384, .f32⟩
  | 114 => ⟨S16x32x16384, .f32⟩
  | 115 => ⟨S16x32x4096x4, .f32⟩
  | 116 => ⟨S16x1x4096x4, .i1⟩
  | 117 => ⟨S16x1x4096x4, .f32⟩
  | 118 => ⟨S16x32x4096x4, .f32⟩
  | 119 => ⟨S16x32x4096x4, .f32⟩
  | 120 => ⟨S16x1x4096x4, .f32⟩
  | 121 => ⟨S16x32x4096x4, .f32⟩
  | 122 => ⟨S16x32x4096x4, .f32⟩
  | 123 => ⟨S16x32x4096x4, .f32⟩
  | 124 => ⟨S_, .f32⟩
  | 125 => ⟨S16x4096x4, .f32⟩
  | 126 => ⟨S16x4096x4, .i1⟩
  | 127 => ⟨S_, .f32⟩
  | _ => ⟨S4x2x256x32x32, .f32⟩

abbrev hbmTy0_17 (i : Nat) : BufTy := match i % 128 with
  | 0 => ⟨S16x4096x4, .f32⟩
  | 1 => ⟨S16x4096x4, .i1⟩
  | 2 => ⟨S16x4096x4, .i1⟩
  | 3 => ⟨S_, .f32⟩
  | 4 => ⟨S16x4096x4, .f32⟩
  | 5 => ⟨S16x4096x4, .i1⟩
  | 6 => ⟨S16x4096x4, .i1⟩
  | 7 => ⟨S_, .f32⟩
  | 8 => ⟨S16x4096x4, .f32⟩
  | 9 => ⟨S16x4096x4, .i1⟩
  | 10 => ⟨S16x4096x4, .i1⟩
  | 11 => ⟨S_, .i32⟩
  | 12 => ⟨S_, .i32⟩
  | 13 => ⟨S_, .f32⟩
  | 14 => ⟨S16x4096x4, .f32⟩
  | 15 => ⟨S16x4096x4, .f32⟩
  | 16 => ⟨S_, .f32⟩
  | 17 => ⟨S16x4096x4, .f32⟩
  | 18 => ⟨S16x4096x4, .f32⟩
  | 19 => ⟨S16x4096x4, .i32⟩
  | 20 => ⟨S_, .i32⟩
  | 21 => ⟨S_, .i32⟩
  | 22 => ⟨S_, .f32⟩
  | 23 => ⟨S16x4096x4, .f32⟩
  | 24 => ⟨S16x4096x4, .f32⟩
  | 25 => ⟨S_, .f32⟩
  | 26 => ⟨S16x4096x4, .f32⟩
  | 27 => ⟨S16x4096x4, .f32⟩
  | 28 => ⟨S16x4096x4, .i32⟩
  | 29 => ⟨S_, .i32⟩
  | 30 => ⟨S16x4096x4, .i32⟩
  | 31 => ⟨S16x4096x4, .i32⟩
  | 32 => ⟨S16x4096x4, .i32⟩
  | 33 => ⟨S16x16384, .i32⟩
  | 34 => ⟨S16x1x16384, .i32⟩
  | 35 => ⟨S16x32x16384, .i32⟩
  | 36 => ⟨S_, .i32⟩
  | 37 => ⟨S16x32x16384, .i32⟩
  | 38 => ⟨S16x32x16384, .i1⟩
  | 39 => ⟨S_, .i32⟩
  | 40 => ⟨S16x32x16384, .i32⟩
  | 41 => ⟨S16x32x16384, .i32⟩
  | 42 => ⟨S16x32x16384, .i32⟩
  | 43 => ⟨S16x32x16384x1, .i32⟩
  | 44 => ⟨S1, .i32⟩
  | 45 => ⟨S_, .i32⟩
  | 46 => ⟨S16x32x16384x1, .i32⟩
  | 47 => ⟨S16x32x16384x1, .i1⟩
  | 48 => ⟨S1x1x1x1, .i32⟩
  | 49 => ⟨S16x32x16384x1, .i32⟩
  | 50 => ⟨S16x32x16384x1, .i1⟩
  | 51 => ⟨S16x32x16384x1, .i1⟩
  | 52 => ⟨S_, .i1⟩
  | 53 => ⟨S16x32x16384, .i1⟩
  | 54 => ⟨S16x32x16384, .f32⟩
  | 55 => ⟨S_, .f32⟩
  | 56 => ⟨S16x32x16384, .f32⟩
  | 57 => ⟨S16x32x16384, .f32⟩
  | 58 => ⟨S16x32x4096x4, .f32⟩
  | 59 => ⟨S16x1x4096x4, .i1⟩
  | 60 => ⟨S16x1x4096x4, .f32⟩
  | 61 => ⟨S16x32x4096x4, .f32⟩
  | 62 => ⟨S16x32x4096x4, .f32⟩
  | 63 => ⟨S16x1x4096x4, .f32⟩
  | 64 => ⟨S16x32x4096x4, .f32⟩
  | 65 => ⟨S16x32x4096x4, .f32⟩
  | 66 => ⟨S16x32x4096x4, .f32⟩
  | 67 => ⟨S2x1024x8x32, .f32⟩
  | 68 => ⟨S2x8x32x1024, .f32⟩
  | 69 => ⟨S16x32x32x32, .f32⟩
  | 70 => ⟨S2x4096x8x1x4x2, .f32⟩
  | 71 => ⟨S2x4096x8x4x2, .f32⟩
  | 72 => ⟨S2x8x4096x4x2, .f32⟩
  | 73 => ⟨S16x4096x4x2, .f32⟩
  | 74 => ⟨S16x4096x4x1, .f32⟩
  | 75 => ⟨S16x4096x4, .f32⟩
  | 76 => ⟨S_, .f32⟩
  | 77 => ⟨S16x4096x4, .f32⟩
  | 78 => ⟨S16x4096x4, .f32⟩
  | 79 => ⟨S_, .f32⟩
  | 80 => ⟨S16x4096x4, .f32⟩
  | 81 => ⟨S16x4096x4, .f32⟩
  | 82 => ⟨S_, .f32⟩
  | 83 => ⟨S16x4096x4, .f32⟩
  | 84 => ⟨S16x4096x4, .f32⟩
  | 85 => ⟨S_, .f32⟩
  | 86 => ⟨S16x4096x4, .f32⟩
  | 87 => ⟨S16x4096x4, .f32⟩
  | 88 => ⟨S16x4096x4x1, .f32⟩
  | 89 => ⟨S16x4096x4, .f32⟩
  | 90 => ⟨S_, .f32⟩
  | 91 => ⟨S16x4096x4, .f32⟩
  | 92 => ⟨S16x4096x4, .f32⟩
  | 93 => ⟨S_, .f32⟩
  | 94 => ⟨S16x4096x4, .f32⟩
  | 95 => ⟨S16x4096x4, .f32⟩
  | 96 => ⟨S_, .f32⟩
  | 97 => ⟨S16x4096x4, .f32⟩
  | 98 => ⟨S16x4096x4, .f32⟩
  | 99 => ⟨S_, .f32⟩
  | 100 => ⟨S16x4096x4, .f32⟩
  | 101 => ⟨S16x4096x4, .f32⟩
  | 102 => ⟨S16x4096x4, .f32⟩
  | 103 => ⟨S16x4096x4, .f32⟩
  | 104 => ⟨S_, .f32⟩
  | 105 => ⟨S16x4096x4, .f32⟩
  | 106 => ⟨S16x4096x4, .f32⟩
  | 107 => ⟨S_, .f32⟩
  | 108 => ⟨S16x4096x4, .f32⟩
  | 109 => ⟨S16x4096x4, .f32⟩
  | 110 => ⟨S16x4096x4, .f32⟩
  | 111 => ⟨S16x4096x4, .f32⟩
  | 112 => ⟨S16x4096x4, .f32⟩
  | 113 => ⟨S16x4096x4, .f32⟩
  | 114 => ⟨S16x4096x4, .f32⟩
  | 115 => ⟨S16x4096x4, .f32⟩
  | 116 => ⟨S16x4096x4, .f32⟩
  | 117 => ⟨S16x4096x4, .f32⟩
  | 118 => ⟨S16x4096x4, .f32⟩
  | 119 => ⟨S16x4096x4, .f32⟩
  | 120 => ⟨S16x4096x4, .f32⟩
  | 121 => ⟨S16x4096x4, .f32⟩
  | 122 => ⟨S16x32x1024, .f32⟩
  | 123 => ⟨S_, .f32⟩
  | 124 => ⟨S16x4096x4, .f32⟩
  | 125 => ⟨S16x4096x4, .i1⟩
  | 126 => ⟨S_, .f32⟩
  | 127 => ⟨S16x4096x4, .f32⟩
  | _ => ⟨S4x2x256x32x32, .f32⟩

abbrev hbmTy0_18 (i : Nat) : BufTy := match i % 128 with
  | 0 => ⟨S16x4096x4, .i1⟩
  | 1 => ⟨S16x4096x4, .i1⟩
  | 2 => ⟨S_, .f32⟩
  | 3 => ⟨S16x4096x4, .f32⟩
  | 4 => ⟨S16x4096x4, .i1⟩
  | 5 => ⟨S16x4096x4, .i1⟩
  | 6 => ⟨S_, .f32⟩
  | 7 => ⟨S16x4096x4, .f32⟩
  | 8 => ⟨S16x4096x4, .i1⟩
  | 9 => ⟨S16x4096x4, .i1⟩
  | 10 => ⟨S_, .i32⟩
  | 11 => ⟨S_, .i32⟩
  | 12 => ⟨S_, .f32⟩
  | 13 => ⟨S16x4096x4, .f32⟩
  | 14 => ⟨S16x4096x4, .f32⟩
  | 15 => ⟨S_, .f32⟩
  | 16 => ⟨S16x4096x4, .f32⟩
  | 17 => ⟨S16x4096x4, .f32⟩
  | 18 => ⟨S16x4096x4, .i32⟩
  | 19 => ⟨S_, .i32⟩
  | 20 => ⟨S_, .i32⟩
  | 21 => ⟨S_, .f32⟩
  | 22 => ⟨S16x4096x4, .f32⟩
  | 23 => ⟨S16x4096x4, .f32⟩
  | 24 => ⟨S_, .f32⟩
  | 25 => ⟨S16x4096x4, .f32⟩
  | 26 => ⟨S16x4096x4, .f32⟩
  | 27 => ⟨S16x4096x4, .i32⟩
  | 28 => ⟨S_, .i32⟩
  | 29 => ⟨S16x4096x4, .i32⟩
  | 30 => ⟨S16x4096x4, .i32⟩
  | 31 => ⟨S16x4096x4, .i32⟩
  | 32 => ⟨S16x16384, .i32⟩
  | 33 => ⟨S16x1x16384, .i32⟩
  | 34 => ⟨S16x32x16384, .i32⟩
  | 35 => ⟨S_, .i32⟩
  | 36 => ⟨S16x32x16384, .i32⟩
  | 37 => ⟨S16x32x16384, .i1⟩
  | 38 => ⟨S_, .i32⟩
  | 39 => ⟨S16x32x16384, .i32⟩
  | 40 => ⟨S16x32x16384, .i32⟩
  | 41 => ⟨S16x32x16384, .i32⟩
  | 42 => ⟨S16x32x16384x1, .i32⟩
  | 43 => ⟨S1, .i32⟩
  | 44 => ⟨S_, .i32⟩
  | 45 => ⟨S16x32x16384x1, .i32⟩
  | 46 => ⟨S16x32x16384x1, .i1⟩
  | 47 => ⟨S1x1x1x1, .i32⟩
  | 48 => ⟨S16x32x16384x1, .i32⟩
  | 49 => ⟨S16x32x16384x1, .i1⟩
  | 50 => ⟨S16x32x16384x1, .i1⟩
  | 51 => ⟨S_, .i1⟩
  | 52 => ⟨S16x32x16384, .i1⟩
  | 53 => ⟨S16x32x16384, .f32⟩
  | 54 => ⟨S_, .f32⟩
  | 55 => ⟨S16x32x16384, .f32⟩
  | 56 => ⟨S16x32x16384, .f32⟩
  | 57 => ⟨S16x32x4096x4, .f32⟩
  | 58 => ⟨S16x1x4096x4, .i1⟩
  | 59 => ⟨S16x1x4096x4, .f32⟩
  | 60 => ⟨S16x32x4096x4, .f32⟩
  | 61 => ⟨S16x32x4096x4, .f32⟩
  | 62 => ⟨S16x1x4096x4, .f32⟩
  | 63 => ⟨S16x32x4096x4, .f32⟩
  | 64 => ⟨S16x32x4096x4, .f32⟩
  | 65 => ⟨S_, .f32⟩
  | 66 => ⟨S16x4096x4, .f32⟩
  | 67 => ⟨S16x4096x4, .i1⟩
  | 68 => ⟨S_, .f32⟩
  | 69 => ⟨S16x4096x4, .f32⟩
  | 70 => ⟨S16x4096x4, .i1⟩
  | 71 => ⟨S16x4096x4, .i1⟩
  | 72 => ⟨S_, .f32⟩
  | 73 => ⟨S16x4096x4, .f32⟩
  | 74 => ⟨S16x4096x4, .i1⟩
  | 75 => ⟨S16x4096x4, .i1⟩
  | 76 => ⟨S_, .f32⟩
  | 77 => ⟨S16x4096x4, .f32⟩
  | 78 => ⟨S16x4096x4, .i1⟩
  | 79 => ⟨S16x4096x4, .i1⟩
  | 80 => ⟨S_, .i32⟩
  | 81 => ⟨S_, .i32⟩
  | 82 => ⟨S_, .f32⟩
  | 83 => ⟨S16x4096x4, .f32⟩
  | 84 => ⟨S16x4096x4, .f32⟩
  | 85 => ⟨S_, .f32⟩
  | 86 => ⟨S16x4096x4, .f32⟩
  | 87 => ⟨S16x4096x4, .f32⟩
  | 88 => ⟨S16x4096x4, .i32⟩
  | 89 => ⟨S_, .i32⟩
  | 90 => ⟨S_, .i32⟩
  | 91 => ⟨S_, .f32⟩
  | 92 => ⟨S16x4096x4, .f32⟩
  | 93 => ⟨S16x4096x4, .f32⟩
  | 94 => ⟨S_, .f32⟩
  | 95 => ⟨S16x4096x4, .f32⟩
  | 96 => ⟨S16x4096x4, .f32⟩
  | 97 => ⟨S16x4096x4, .i32⟩
  | 98 => ⟨S_, .i32⟩
  | 99 => ⟨S16x4096x4, .i32⟩
  | 100 => ⟨S16x4096x4, .i32⟩
  | 101 => ⟨S16x4096x4, .i32⟩
  | 102 => ⟨S16x16384, .i32⟩
  | 103 => ⟨S16x1x16384, .i32⟩
  | 104 => ⟨S16x32x16384, .i32⟩
  | 105 => ⟨S_, .i32⟩
  | 106 => ⟨S16x32x16384, .i32⟩
  | 107 => ⟨S16x32x16384, .i1⟩
  | 108 => ⟨S_, .i32⟩
  | 109 => ⟨S16x32x16384, .i32⟩
  | 110 => ⟨S16x32x16384, .i32⟩
  | 111 => ⟨S16x32x16384, .i32⟩
  | 112 => ⟨S16x32x16384x1, .i32⟩
  | 113 => ⟨S1, .i32⟩
  | 114 => ⟨S_, .i32⟩
  | 115 => ⟨S16x32x16384x1, .i32⟩
  | 116 => ⟨S16x32x16384x1, .i1⟩
  | 117 => ⟨S1x1x1x1, .i32⟩
  | 118 => ⟨S16x32x16384x1, .i32⟩
  | 119 => ⟨S16x32x16384x1, .i1⟩
  | 120 => ⟨S16x32x16384x1, .i1⟩
  | 121 => ⟨S_, .i1⟩
  | 122 => ⟨S16x32x16384, .i1⟩
  | 123 => ⟨S16x32x16384, .f32⟩
  | 124 => ⟨S_, .f32⟩
  | 125 => ⟨S16x32x16384, .f32⟩
  | 126 => ⟨S16x32x16384, .f32⟩
  | 127 => ⟨S16x32x4096x4, .f32⟩
  | _ => ⟨S4x2x256x32x32, .f32⟩

abbrev hbmTy0_19 (i : Nat) : BufTy := match i % 128 with
  | 0 => ⟨S16x1x4096x4, .i1⟩
  | 1 => ⟨S16x1x4096x4, .f32⟩
  | 2 => ⟨S16x32x4096x4, .f32⟩
  | 3 => ⟨S16x32x4096x4, .f32⟩
  | 4 => ⟨S16x1x4096x4, .f32⟩
  | 5 => ⟨S16x32x4096x4, .f32⟩
  | 6 => ⟨S16x32x4096x4, .f32⟩
  | 7 => ⟨S16x32x4096x4, .f32⟩
  | 8 => ⟨S_, .f32⟩
  | 9 => ⟨S16x4096x4, .f32⟩
  | 10 => ⟨S16x4096x4, .i1⟩
  | 11 => ⟨S_, .f32⟩
  | 12 => ⟨S16x4096x4, .f32⟩
  | 13 => ⟨S16x4096x4, .i1⟩
  | 14 => ⟨S16x4096x4, .i1⟩
  | 15 => ⟨S_, .f32⟩
  | 16 => ⟨S16x4096x4, .f32⟩
  | 17 => ⟨S16x4096x4, .i1⟩
  | 18 => ⟨S16x4096x4, .i1⟩
  | 19 => ⟨S_, .f32⟩
  | 20 => ⟨S16x4096x4, .f32⟩
  | 21 => ⟨S16x4096x4, .i1⟩
  | 22 => ⟨S16x4096x4, .i1⟩
  | 23 => ⟨S_, .i32⟩
  | 24 => ⟨S_, .i32⟩
  | 25 => ⟨S_, .f32⟩
  | 26 => ⟨S16x4096x4, .f32⟩
  | 27 => ⟨S16x4096x4, .f32⟩
  | 28 => ⟨S_, .f32⟩
  | 29 => ⟨S16x4096x4, .f32⟩
  | 30 => ⟨S16x4096x4, .f32⟩
  | 31 => ⟨S16x4096x4, .i32⟩
  | 32 => ⟨S_, .i32⟩
  | 33 => ⟨S_, .i32⟩
  | 34 => ⟨S_, .f32⟩
  | 35 => ⟨S16x4096x4, .f32⟩
  | 36 => ⟨S16x4096x4, .f32⟩
  | 37 => ⟨S_, .f32⟩
  | 38 => ⟨S16x4096x4, .f32⟩
  | 39 => ⟨S16x4096x4, .f32⟩
  | 40 => ⟨S16x4096x4, .i32⟩
  | 41 => ⟨S_, .i32⟩
  | 42 => ⟨S16x4096x4, .i32⟩
  | 43 => ⟨S16x4096x4, .i32⟩
  | 44 => ⟨S16x4096x4, .i32⟩
  | 45 => ⟨S16x16384, .i32⟩
  | 46 => ⟨S16x1x16384, .i32⟩
  | 47 => ⟨S16x32x16384, .i32⟩
  | 48 => ⟨S_, .i32⟩
  | 49 => ⟨S16x32x16384, .i32⟩
  | 50 => ⟨S16x32x16384, .i1⟩
  | 51 => ⟨S_, .i32⟩
  | 52 => ⟨S16x32x16384, .i32⟩
  | 53 => ⟨S16x32x16384, .i32⟩
  | 54 => ⟨S16x32x16384, .i32⟩
  | 55 => ⟨S16x32x16384x1, .i32⟩
  | 56 => ⟨S1, .i32⟩
  | 57 => ⟨S_, .i32⟩
  | 58 => ⟨S16x32x16384x1, .i32⟩
  | 59 => ⟨S16x32x16384x1, .i1⟩
  | 60 => ⟨S1x1x1x1, .i32⟩
  | 61 => ⟨S16x32x16384x1, .i32⟩
  | 62 => ⟨S16x32x16384x1, .i1⟩
  | 63 => ⟨S16x32x16384x1, .i1⟩
  | 64 => ⟨S_, .i1⟩
  | 65 => ⟨S16x32x16384, .i1⟩
  | 66 => ⟨S16x32x16384, .f32⟩
  | 67 => ⟨S_, .f32⟩
  | 68 => ⟨S16x32x16384, .f32⟩
  | 69 => ⟨S16x32x16384, .f32⟩
  | 70 => ⟨S16x32x4096x4, .f32⟩
  | 71 => ⟨S16x1x4096x4, .i1⟩
  | 72 => ⟨S16x1x4096x4, .f32⟩
  | 73 => ⟨S16x32x4096x4, .f32⟩
  | 74 => ⟨S16x32x4096x4, .f32⟩
  | 75 => ⟨S16x1x4096x4, .f32⟩
  | 76 => ⟨S16x32x4096x4, .f32⟩
  | 77 => ⟨S16x32x4096x4, .f32⟩
  | 78 => ⟨S16x32x4096x4, .f32⟩
  | 79 => ⟨S_, .f32⟩
  | 80 => ⟨S16x4096x4, .f32⟩
  | 81 => ⟨S16x4096x4, .i1⟩
  | 82 => ⟨S_, .f32⟩
  | 83 => ⟨S16x4096x4, .f32⟩
  | 84 => ⟨S16x4096x4, .i1⟩
  | 85 => ⟨S16x4096x4, .i1⟩
  | 86 => ⟨S_, .f32⟩
  | 87 => ⟨S16x4096x4, .f32⟩
  | 88 => ⟨S16x4096x4, .i1⟩
  | 89 => ⟨S16x4096x4, .i1⟩
  | 90 => ⟨S_, .f32⟩
  | 91 => ⟨S16x4096x4, .f32⟩
  | 92 => ⟨S16x4096x4, .i1⟩
  | 93 => ⟨S16x4096x4, .i1⟩
  | 94 => ⟨S_, .i32⟩
  | 95 => ⟨S_, .i32⟩
  | 96 => ⟨S_, .f32⟩
  | 97 => ⟨S16x4096x4, .f32⟩
  | 98 => ⟨S16x4096x4, .f32⟩
  | 99 => ⟨S_, .f32⟩
  | 100 => ⟨S16x4096x4, .f32⟩
  | 101 => ⟨S16x4096x4, .f32⟩
  | 102 => ⟨S16x4096x4, .i32⟩
  | 103 => ⟨S_, .i32⟩
  | 104 => ⟨S_, .i32⟩
  | 105 => ⟨S_, .f32⟩
  | 106 => ⟨S16x4096x4, .f32⟩
  | 107 => ⟨S16x4096x4, .f32⟩
  | 108 => ⟨S_, .f32⟩
  | 109 => ⟨S16x4096x4, .f32⟩
  | 110 => ⟨S16x4096x4, .f32⟩
  | 111 => ⟨S16x4096x4, .i32⟩
  | 112 => ⟨S_, .i32⟩
  | 113 => ⟨S16x4096x4, .i32⟩
  | 114 => ⟨S16x4096x4, .i32⟩
  | 115 => ⟨S16x4096x4, .i32⟩
  | 116 => ⟨S16x16384, .i32⟩
  | 117 => ⟨S16x1x16384, .i32⟩
  | 118 => ⟨S16x32x16384, .i32⟩
  | 119 => ⟨S_, .i32⟩
  | 120 => ⟨S16x32x16384, .i32⟩
  | 121 => ⟨S16x32x16384, .i1⟩
  | 122 => ⟨S_, .i32⟩
  | 123 => ⟨S16x32x16384, .i32⟩
  | 124 => ⟨S16x32x16384, .i32⟩
  | 125 => ⟨S16x32x16384, .i32⟩
  | 126 => ⟨S16x32x16384x1, .i32⟩
  | 127 => ⟨S1, .i32⟩
  | _ => ⟨S4x2x256x32x32, .f32⟩

abbrev hbmTy0_20 (i : Nat) : BufTy := match i % 128 with
  | 0 => ⟨S_, .i32⟩
  | 1 => ⟨S16x32x16384x1, .i32⟩
  | 2 => ⟨S16x32x16384x1, .i1⟩
  | 3 => ⟨S1x1x1x1, .i32⟩
  | 4 => ⟨S16x32x16384x1, .i32⟩
  | 5 => ⟨S16x32x16384x1, .i1⟩
  | 6 => ⟨S16x32x16384x1, .i1⟩
  | 7 => ⟨S_, .i1⟩
  | 8 => ⟨S16x32x16384, .i1⟩
  | 9 => ⟨S16x32x16384, .f32⟩
  | 10 => ⟨S_, .f32⟩
  | 11 => ⟨S16x32x16384, .f32⟩
  | 12 => ⟨S16x32x16384, .f32⟩
  | 13 => ⟨S16x32x4096x4, .f32⟩
  | 14 => ⟨S16x1x4096x4, .i1⟩
  | 15 => ⟨S16x1x4096x4, .f32⟩
  | 16 => ⟨S16x32x4096x4, .f32⟩
  | 17 => ⟨S16x32x4096x4, .f32⟩
  | 18 => ⟨S16x1x4096x4, .f32⟩
  | 19 => ⟨S16x32x4096x4, .f32⟩
  | 20 => ⟨S16x32x4096x4, .f32⟩
  | 21 => ⟨S16x32x4096x4, .f32⟩
  | 22 => ⟨S2x1024x8x32, .f32⟩
  | 23 => ⟨S2x8x32x1024, .f32⟩
  | 24 => ⟨S16x32x32x32, .f32⟩
  | 25 => ⟨S2x4096x8x1x4x2, .f32⟩
  | 26 => ⟨S2x4096x8x4x2, .f32⟩
  | 27 => ⟨S2x8x4096x4x2, .f32⟩
  | 28 => ⟨S16x4096x4x2, .f32⟩
  | 29 => ⟨S16x4096x4x1, .f32⟩
  | 30 => ⟨S16x4096x4, .f32⟩
  | 31 => ⟨S_, .f32⟩
  | 32 => ⟨S16x4096x4, .f32⟩
  | 33 => ⟨S16x4096x4, .f32⟩
  | 34 => ⟨S_, .f32⟩
  | 35 => ⟨S16x4096x4, .f32⟩
  | 36 => ⟨S16x4096x4, .f32⟩
  | 37 => ⟨S_, .f32⟩
  | 38 => ⟨S16x4096x4, .f32⟩
  | 39 => ⟨S16x4096x4, .f32⟩
  | 40 => ⟨S_, .f32⟩
  | 41 => ⟨S16x4096x4, .f32⟩
  | 42 => ⟨S16x4096x4, .f32⟩
  | 43 => ⟨S16x4096x4x1, .f32⟩
  | 44 => ⟨S16x4096x4, .f32⟩
  | 45 => ⟨S_, .f32⟩
  | 46 => ⟨S16x4096x4, .f32⟩
  | 47 => ⟨S16x4096x4, .f32⟩
  | 48 => ⟨S_, .f32⟩
  | 49 => ⟨S16x4096x4, .f32⟩
  | 50 => ⟨S16x4096x4, .f32⟩
  | 51 => ⟨S_, .f32⟩
  | 52 => ⟨S16x4096x4, .f32⟩
  | 53 => ⟨S16x4096x4, .f32⟩
  | 54 => ⟨S_, .f32⟩
  | 55 => ⟨S16x4096x4, .f32⟩
  | 56 => ⟨S16x4096x4, .f32⟩
  | 57 => ⟨S16x4096x4, .f32⟩
  | 58 => ⟨S16x4096x4, .f32⟩
  | 59 => ⟨S_, .f32⟩
  | 60 => ⟨S16x4096x4, .f32⟩
  | 61 => ⟨S16x4096x4, .f32⟩
  | 62 => ⟨S_, .f32⟩
  | 63 => ⟨S16x4096x4, .f32⟩
  | 64 => ⟨S16x4096x4, .f32⟩
  | 65 => ⟨S16x4096x4, .f32⟩
  | 66 => ⟨S16x4096x4, .f32⟩
  | 67 => ⟨S16x4096x4, .f32⟩
  | 68 => ⟨S16x4096x4, .f32⟩
  | 69 => ⟨S16x4096x4, .f32⟩
  | 70 => ⟨S16x4096x4, .f32⟩
  | 71 => ⟨S16x4096x4, .f32⟩
  | 72 => ⟨S16x4096x4, .f32⟩
  | 73 => ⟨S16x4096x4, .f32⟩
  | 74 => ⟨S16x4096x4, .f32⟩
  | 75 => ⟨S16x4096x4, .f32⟩
  | 76 => ⟨S16x4096x4, .f32⟩
  | 77 => ⟨S16x32x1024, .f32⟩
  | 78 => ⟨S_, .f32⟩
  | 79 => ⟨S16x4096x4, .f32⟩
  | 80 => ⟨S16x4096x4, .i1⟩
  | 81 => ⟨S_, .f32⟩
  | 82 => ⟨S16x4096x4, .f32⟩
  | 83 => ⟨S16x4096x4, .i1⟩
  | 84 => ⟨S16x4096x4, .i1⟩
  | 85 => ⟨S_, .f32⟩
  | 86 => ⟨S16x4096x4, .f32⟩
  | 87 => ⟨S16x4096x4, .i1⟩
  | 88 => ⟨S16x4096x4, .i1⟩
  | 89 => ⟨S_, .f32⟩
  | 90 => ⟨S16x4096x4, .f32⟩
  | 91 => ⟨S16x4096x4, .i1⟩
  | 92 => ⟨S16x4096x4, .i1⟩
  | 93 => ⟨S_, .i32⟩
  | 94 => ⟨S_, .i32⟩
  | 95 => ⟨S_, .f32⟩
  | 96 => ⟨S16x4096x4, .f32⟩
  | 97 => ⟨S16x4096x4, .f32⟩
  | 98 => ⟨S_, .f32⟩
  | 99 => ⟨S16x4096x4, .f32⟩
  | 100 => ⟨S16x4096x4, .f32⟩
  | 101 => ⟨S16x4096x4, .i32⟩
  | 102 => ⟨S_, .i32⟩
  | 103 => ⟨S_, .i32⟩
  | 104 => ⟨S_, .f32⟩
  | 105 => ⟨S16x4096x4, .f32⟩
  | 106 => ⟨S16x4096x4, .f32⟩
  | 107 => ⟨S_, .f32⟩
  | 108 => ⟨S16x4096x4, .f32⟩
  | 109 => ⟨S16x4096x4, .f32⟩
  | 110 => ⟨S16x4096x4, .i32⟩
  | 111 => ⟨S_, .i32⟩
  | 112 => ⟨S16x4096x4, .i32⟩
  | 113 => ⟨S16x4096x4, .i32⟩
  | 114 => ⟨S16x4096x4, .i32⟩
  | 115 => ⟨S16x16384, .i32⟩
  | 116 => ⟨S16x1x16384, .i32⟩
  | 117 => ⟨S16x32x16384, .i32⟩
  | 118 => ⟨S_, .i32⟩
  | 119 => ⟨S16x32x16384, .i32⟩
  | 120 => ⟨S16x32x16384, .i1⟩
  | 121 => ⟨S_, .i32⟩
  | 122 => ⟨S16x32x16384, .i32⟩
  | 123 => ⟨S16x32x16384, .i32⟩
  | 124 => ⟨S16x32x16384, .i32⟩
  | 125 => ⟨S16x32x16384x1, .i32⟩
  | 126 => ⟨S1, .i32⟩
  | 127 => ⟨S_, .i32⟩
  | _ => ⟨S4x2x256x32x32, .f32⟩

abbrev hbmTy0_21 (i : Nat) : BufTy := match i % 128 with
  | 0 => ⟨S16x32x16384x1, .i32⟩
  | 1 => ⟨S16x32x16384x1, .i1⟩
  | 2 => ⟨S1x1x1x1, .i32⟩
  | 3 => ⟨S16x32x16384x1, .i32⟩
  | 4 => ⟨S16x32x16384x1, .i1⟩
  | 5 => ⟨S16x32x16384x1, .i1⟩
  | 6 => ⟨S_, .i1⟩
  | 7 => ⟨S16x32x16384, .i1⟩
  | 8 => ⟨S16x32x16384, .f32⟩
  | 9 => ⟨S_, .f32⟩
  | 10 => ⟨S16x32x16384, .f32⟩
  | 11 => ⟨S16x32x16384, .f32⟩
  | 12 => ⟨S16x32x4096x4, .f32⟩
  | 13 => ⟨S16x1x4096x4, .i1⟩
  | 14 => ⟨S16x1x4096x4, .f32⟩
  | 15 => ⟨S16x32x4096x4, .f32⟩
  | 16 => ⟨S16x32x4096x4, .f32⟩
  | 17 => ⟨S16x1x4096x4, .f32⟩
  | 18 => ⟨S16x32x4096x4, .f32⟩
  | 19 => ⟨S16x32x4096x4, .f32⟩
  | 20 => ⟨S_, .f32⟩
  | 21 => ⟨S16x4096x4, .f32⟩
  | 22 => ⟨S16x4096x4, .i1⟩
  | 23 => ⟨S_, .f32⟩
  | 24 => ⟨S16x4096x4, .f32⟩
  | 25 => ⟨S16x4096x4, .i1⟩
  | 26 => ⟨S16x4096x4, .i1⟩
  | 27 => ⟨S_, .f32⟩
  | 28 => ⟨S16x4096x4, .f32⟩
  | 29 => ⟨S16x4096x4, .i1⟩
  | 30 => ⟨S16x4096x4, .i1⟩
  | 31 => ⟨S_, .f32⟩
  | 32 => ⟨S16x4096x4, .f32⟩
  | 33 => ⟨S16x4096x4, .i1⟩
  | 34 => ⟨S16x4096x4, .i1⟩
  | 35 => ⟨S_, .i32⟩
  | 36 => ⟨S_, .i32⟩
  | 37 => ⟨S_, .f32⟩
  | 38 => ⟨S16x4096x4, .f32⟩
  | 39 => ⟨S16x4096x4, .f32⟩
  | 40 => ⟨S_, .f32⟩
  | 41 => ⟨S16x4096x4, .f32⟩
  | 42 => ⟨S16x4096x4, .f32⟩
  | 43 => ⟨S16x4096x4, .i32⟩
  | 44 => ⟨S_, .i32⟩
  | 45 => ⟨S_, .i32⟩
  | 46 => ⟨S_, .f32⟩
  | 47 => ⟨S16x4096x4, .f32⟩
  | 48 => ⟨S16x4096x4, .f32⟩
  | 49 => ⟨S_, .f32⟩
  | 50 => ⟨S16x4096x4, .f32⟩
  | 51 => ⟨S16x4096x4, .f32⟩
  | 52 => ⟨S16x4096x4, .i32⟩
  | 53 => ⟨S_, .i32⟩
  | 54 => ⟨S16x4096x4, .i32⟩
  | 55 => ⟨S16x4096x4, .i32⟩
  | 56 => ⟨S16x4096x4, .i32⟩
  | 57 => ⟨S16x16384, .i32⟩
  | 58 => ⟨S16x1x16384, .i32⟩
  | 59 => ⟨S16x32x16384, .i32⟩
  | 60 => ⟨S_, .i32⟩
  | 61 => ⟨S16x32x16384, .i32⟩
  | 62 => ⟨S16x32x16384, .i1⟩
  | 63 => ⟨S_, .i32⟩
  | 64 => ⟨S16x32x16384, .i32⟩
  | 65 => ⟨S16x32x16384, .i32⟩
  | 66 => ⟨S16x32x16384, .i32⟩
  | 67 => ⟨S16x32x16384x1, .i32⟩
  | 68 => ⟨S1, .i32⟩
  | 69 => ⟨S_, .i32⟩
  | 70 => ⟨S16x32x16384x1, .i32⟩
  | 71 => ⟨S16x32x16384x1, .i1⟩
  | 72 => ⟨S1x1x1x1, .i32⟩
  | 73 => ⟨S16x32x16384x1, .i32⟩
  | 74 => ⟨S16x32x16384x1, .i1⟩
  | 75 => ⟨S16x32x16384x1, .i1⟩
  | 76 => ⟨S_, .i1⟩
  | 77 => ⟨S16x32x16384, .i1⟩
  | 78 => ⟨S16x32x16384, .f32⟩
  | 79 => ⟨S_, .f32⟩
  | 80 => ⟨S16x32x16384, .f32⟩
  | 81 => ⟨S16x32x16384, .f32⟩
  | 82 => ⟨S16x32x4096x4, .f32⟩
  | 83 => ⟨S16x1x4096x4, .i1⟩
  | 84 => ⟨S16x1x4096x4, .f32⟩
  | 85 => ⟨S16x32x4096x4, .f32⟩
  | 86 => ⟨S16x32x4096x4, .f32⟩
  | 87 => ⟨S16x1x4096x4, .f32⟩
  | 88 => ⟨S16x32x4096x4, .f32⟩
  | 89 => ⟨S16x32x4096x4, .f32⟩
  | 90 => ⟨S16x32x4096x4, .f32⟩
  | 91 => ⟨S_, .f32⟩
  | 92 => ⟨S16x4096x4, .f32⟩
  | 93 => ⟨S16x4096x4, .i1⟩
  | 94 => ⟨S_, .f32⟩
  | 95 => ⟨S16x4096x4, .f32⟩
  | 96 => ⟨S16x4096x4, .i1⟩
  | 97 => ⟨S16x4096x4, .i1⟩
  | 98 => ⟨S_, .f32⟩
  | 99 => ⟨S16x4096x4, .f32⟩
  | 100 => ⟨S16x4096x4, .i1⟩
  | 101 => ⟨S16x4096x4, .i1⟩
  | 102 => ⟨S_, .f32⟩
  | 103 => ⟨S16x4096x4, .f32⟩
  | 104 => ⟨S16x4096x4, .i1⟩
  | 105 => ⟨S16x4096x4, .i1⟩
  | 106 => ⟨S_, .i32⟩
  | 107 => ⟨S_, .i32⟩
  | 108 => ⟨S_, .f32⟩
  | 109 => ⟨S16x4096x4, .f32⟩
  | 110 => ⟨S16x4096x4, .f32⟩
  | 111 => ⟨S_, .f32⟩
  | 112 => ⟨S16x4096x4, .f32⟩
  | 113 => ⟨S16x4096x4, .f32⟩
  | 114 => ⟨S16x4096x4, .i32⟩
  | 115 => ⟨S_, .i32⟩
  | 116 => ⟨S_, .i32⟩
  | 117 => ⟨S_, .f32⟩
  | 118 => ⟨S16x4096x4, .f32⟩
  | 119 => ⟨S16x4096x4, .f32⟩
  | 120 => ⟨S_, .f32⟩
  | 121 => ⟨S16x4096x4, .f32⟩
  | 122 => ⟨S16x4096x4, .f32⟩
  | 123 => ⟨S16x4096x4, .i32⟩
  | 124 => ⟨S_, .i32⟩
  | 125 => ⟨S16x4096x4, .i32⟩
  | 126 => ⟨S16x4096x4, .i32⟩
  | 127 => ⟨S16x4096x4, .i32⟩
  | _ => ⟨S4x2x256x32x32, .f32⟩

abbrev hbmTy0_22 (i : Nat) : BufTy := match i % 128 with
  | 0 => ⟨S16x16384, .i32⟩
  | 1 => ⟨S16x1x16384, .i32⟩
  | 2 => ⟨S16x32x16384, .i32⟩
  | 3 => ⟨S_, .i32⟩
  | 4 => ⟨S16x32x16384, .i32⟩
  | 5 => ⟨S16x32x16384, .i1⟩
  | 6 => ⟨S_, .i32⟩
  | 7 => ⟨S16x32x16384, .i32⟩
  | 8 => ⟨S16x32x16384, .i32⟩
  | 9 => ⟨S16x32x16384, .i32⟩
  | 10 => ⟨S16x32x16384x1, .i32⟩
  | 11 => ⟨S1, .i32⟩
  | 12 => ⟨S_, .i32⟩
  | 13 => ⟨S16x32x16384x1, .i32⟩
  | 14 => ⟨S16x32x16384x1, .i1⟩
  | 15 => ⟨S1x1x1x1, .i32⟩
  | 16 => ⟨S16x32x16384x1, .i32⟩
  | 17 => ⟨S16x32x16384x1, .i1⟩
  | 18 => ⟨S16x32x16384x1, .i1⟩
  | 19 => ⟨S_, .i1⟩
  | 20 => ⟨S16x32x16384, .i1⟩
  | 21 => ⟨S16x32x16384, .f32⟩
  | 22 => ⟨S_, .f32⟩
  | 23 => ⟨S16x32x16384, .f32⟩
  | 24 => ⟨S16x32x16384, .f32⟩
  | 25 => ⟨S16x32x4096x4, .f32⟩
  | 26 => ⟨S16x1x4096x4, .i1⟩
  | 27 => ⟨S16x1x4096x4, .f32⟩
  | 28 => ⟨S16x32x4096x4, .f32⟩
  | 29 => ⟨S16x32x4096x4, .f32⟩
  | 30 => ⟨S16x1x4096x4, .f32⟩
  | 31 => ⟨S16x32x4096x4, .f32⟩
  | 32 => ⟨S16x32x4096x4, .f32⟩
  | 33 => ⟨S16x32x4096x4, .f32⟩
  | 34 => ⟨S_, .f32⟩
  | 35 => ⟨S16x4096x4, .f32⟩
  | 36 => ⟨S16x4096x4, .i1⟩
  | 37 => ⟨S_, .f32⟩
  | 38 => ⟨S16x4096x4, .f32⟩
  | 39 => ⟨S16x4096x4, .i1⟩
  | 40 => ⟨S16x4096x4, .i1⟩
  | 41 => ⟨S_, .f32⟩
  | 42 => ⟨S16x4096x4, .f32⟩
  | 43 => ⟨S16x4096x4, .i1⟩
  | 44 => ⟨S16x4096x4, .i1⟩
  | 45 => ⟨S_, .f32⟩
  | 46 => ⟨S16x4096x4, .f32⟩
  | 47 => ⟨S16x4096x4, .i1⟩
  | 48 => ⟨S16x4096x4, .i1⟩
  | 49 => ⟨S_, .i32⟩
  | 50 => ⟨S_, .i32⟩
  | 51 => ⟨S_, .f32⟩
  | 52 => ⟨S16x4096x4, .f32⟩
  | 53 => ⟨S16x4096x4, .f32⟩
  | 54 => ⟨S_, .f32⟩
  | 55 => ⟨S16x4096x4, .f32⟩
  | 56 => ⟨S16x4096x4, .f32⟩
  | 57 => ⟨S16x4096x4, .i32⟩
  | 58 => ⟨S_, .i32⟩
  | 59 => ⟨S_, .i32⟩
  | 60 => ⟨S_, .f32⟩
  | 61 => ⟨S16x4096x4, .f32⟩
  | 62 => ⟨S16x4096x4, .f32⟩
  | 63 => ⟨S_, .f32⟩
  | 64 => ⟨S16x4096x4, .f32⟩
  | 65 => ⟨S16x4096x4, .f32⟩
  | 66 => ⟨S16x4096x4, .i32⟩
  | 67 => ⟨S_, .i32⟩
  | 68 => ⟨S16x4096x4, .i32⟩
  | 69 => ⟨S16x4096x4, .i32⟩
  | 70 => ⟨S16x4096x4, .i32⟩
  | 71 => ⟨S16x16384, .i32⟩
  | 72 => ⟨S16x1x16384, .i32⟩
  | 73 => ⟨S16x32x16384, .i32⟩
  | 74 => ⟨S_, .i32⟩
  | 75 => ⟨S16x32x16384, .i32⟩
  | 76 => ⟨S16x32x16384, .i1⟩
  | 77 => ⟨S_, .i32⟩
  | 78 => ⟨S16x32x16384, .i32⟩
  | 79 => ⟨S16x32x16384, .i32⟩
  | 80 => ⟨S16x32x16384, .i32⟩
  | 81 => ⟨S16x32x16384x1, .i32⟩
  | 82 => ⟨S1, .i32⟩
  | 83 => ⟨S_, .i32⟩
  | 84 => ⟨S16x32x16384x1, .i32⟩
  | 85 => ⟨S16x32x16384x1, .i1⟩
  | 86 => ⟨S1x1x1x1, .i32⟩
  | 87 => ⟨S16x32x16384x1, .i32⟩
  | 88 => ⟨S16x32x16384x1, .i1⟩
  | 89 => ⟨S16x32x16384x1, .i1⟩
  | 90 => ⟨S_, .i1⟩
  | 91 => ⟨S16x32x16384, .i1⟩
  | 92 => ⟨S16x32x16384, .f32⟩
  | 93 => ⟨S_, .f32⟩
  | 94 => ⟨S16x32x16384, .f32⟩
  | 95 => ⟨S16x32x16384, .f32⟩
  | 96 => ⟨S16x32x4096x4, .f32⟩
  | 97 => ⟨S16x1x4096x4, .i1⟩
  | 98 => ⟨S16x1x4096x4, .f32⟩
  | 99 => ⟨S16x32x4096x4, .f32⟩
  | 100 => ⟨S16x32x4096x4, .f32⟩
  | 101 => ⟨S16x1x4096x4, .f32⟩
  | 102 => ⟨S16x32x4096x4, .f32⟩
  | 103 => ⟨S16x32x4096x4, .f32⟩
  | 104 => ⟨S16x32x4096x4, .f32⟩
  | 105 => ⟨S2x1024x8x32, .f32⟩
  | 106 => ⟨S2x8x32x1024, .f32⟩
  | 107 => ⟨S16x32x32x32, .f32⟩
  | 108 => ⟨S2x4096x8x1x4x2, .f32⟩
  | 109 => ⟨S2x4096x8x4x2, .f32⟩
  | 110 => ⟨S2x8x4096x4x2, .f32⟩
  | 111 => ⟨S16x4096x4x2, .f32⟩
  | 112 => ⟨S16x4096x4x1, .f32⟩
  | 113 => ⟨S16x4096x4, .f32⟩
  | 114 => ⟨S_, .f32⟩
  | 115 => ⟨S16x4096x4, .f32⟩
  | 116 => ⟨S16x4096x4, .f32⟩
  | 117 => ⟨S_, .f32⟩
  | 118 => ⟨S16x4096x4, .f32⟩
  | 119 => ⟨S16x4096x4, .f32⟩
  | 120 => ⟨S_, .f32⟩
  | 121 => ⟨S16x4096x4, .f32⟩
  | 122 => ⟨S16x4096x4, .f32⟩
  | 123 => ⟨S_, .f32⟩
  | 124 => ⟨S16x4096x4, .f32⟩
  | 125 => ⟨S16x4096x4, .f32⟩
  | 126 => ⟨S16x4096x4x1, .f32⟩
  | 127 => ⟨S16x4096x4, .f32⟩
  | _ => ⟨S4x2x256x32x32, .f32⟩

abbrev hbmTy0_23 (i : Nat) : BufTy := match i % 128 with
  | 0 => ⟨S_, .f32⟩
  | 1 => ⟨S16x4096x4, .f32⟩
  | 2 => ⟨S16x4096x4, .f32⟩
  | 3 => ⟨S_, .f32⟩
  | 4 => ⟨S16x4096x4, .f32⟩
  | 5 => ⟨S16x4096x4, .f32⟩
  | 6 => ⟨S_, .f32⟩
  | 7 => ⟨S16x4096x4, .f32⟩
  | 8 => ⟨S16x4096x4, .f32⟩
  | 9 => ⟨S_, .f32⟩
  | 10 => ⟨S16x4096x4, .f32⟩
  | 11 => ⟨S16x4096x4, .f32⟩
  | 12 => ⟨S16x4096x4, .f32⟩
  | 13 => ⟨S16x4096x4, .f32⟩
  | 14 => ⟨S_, .f32⟩
  | 15 => ⟨S16x4096x4, .f32⟩
  | 16 => ⟨S16x4096x4, .f32⟩
  | 17 => ⟨S_, .f32⟩
  | 18 => ⟨S16x4096x4, .f32⟩
  | 19 => ⟨S16x4096x4, .f32⟩
  | 20 => ⟨S16x4096x4, .f32⟩
  | 21 => ⟨S16x4096x4, .f32⟩
  | 22 => ⟨S16x4096x4, .f32⟩
  | 23 => ⟨S16x4096x4, .f32⟩
  | 24 => ⟨S16x4096x4, .f32⟩
  | 25 => ⟨S16x4096x4, .f32⟩
  | 26 => ⟨S16x4096x4, .f32⟩
  | 27 => ⟨S16x4096x4, .f32⟩
  | 28 => ⟨S16x4096x4, .f32⟩
  | 29 => ⟨S16x4096x4, .f32⟩
  | 30 => ⟨S16x4096x4, .f32⟩
  | 31 => ⟨S16x4096x4, .f32⟩
  | 32 => ⟨S16x32x1024, .f32⟩
  | 33 => ⟨S_, .f32⟩
  | 34 => ⟨S16x4096x4, .f32⟩
  | 35 => ⟨S16x4096x4, .i1⟩
  | 36 => ⟨S_, .f32⟩
  | 37 => ⟨S16x4096x4, .f32⟩
  | 38 => ⟨S16x4096x4, .i1⟩
  | 39 => ⟨S16x4096x4, .i1⟩
  | 40 => ⟨S_, .f32⟩
  | 41 => ⟨S16x4096x4, .f32⟩
  | 42 => ⟨S16x4096x4, .i1⟩
  | 43 => ⟨S16x4096x4, .i1⟩
  | 44 => ⟨S_, .f32⟩
  | 45 => ⟨S16x4096x4, .f32⟩
  | 46 => ⟨S16x4096x4, .i1⟩
  | 47 => ⟨S16x4096x4, .i1⟩
  | 48 => ⟨S_, .i32⟩
  | 49 => ⟨S_, .i32⟩
  | 50 => ⟨S_, .f32⟩
  | 51 => ⟨S16x4096x4, .f32⟩
  | 52 => ⟨S16x4096x4, .f32⟩
  | 53 => ⟨S_, .f32⟩
  | 54 => ⟨S16x4096x4, .f32⟩
  | 55 => ⟨S16x4096x4, .f32⟩
  | 56 => ⟨S16x4096x4, .i32⟩
  | 57 => ⟨S_, .i32⟩
  | 58 => ⟨S_, .i32⟩
  | 59 => ⟨S_, .f32⟩
  | 60 => ⟨S16x4096x4, .f32⟩
  | 61 => ⟨S16x4096x4, .f32⟩
  | 62 => ⟨S_, .f32⟩
  | 63 => ⟨S16x4096x4, .f32⟩
  | 64 => ⟨S16x4096x4, .f32⟩
  | 65 => ⟨S16x4096x4, .i32⟩
  | 66 => ⟨S_, .i32⟩
  | 67 => ⟨S16x4096x4, .i32⟩
  | 68 => ⟨S16x4096x4, .i32⟩
  | 69 => ⟨S16x4096x4, .i32⟩
  | 70 => ⟨S16x16384, .i32⟩
  | 71 => ⟨S16x1x16384, .i32⟩
  | 72 => ⟨S16x32x16384, .i32⟩
  | 73 => ⟨S_, .i32⟩
  | 74 => ⟨S16x32x16384, .i32⟩
  | 75 => ⟨S16x32x16384, .i1⟩
  | 76 => ⟨S_, .i32⟩
  | 77 => ⟨S16x32x16384, .i32⟩
  | 78 => ⟨S16x32x16384, .i32⟩
  | 79 => ⟨S16x32x16384, .i32⟩
  | 80 => ⟨S16x32x16384x1, .i32⟩
  | 81 => ⟨S1, .i32⟩
  | 82 => ⟨S_, .i32⟩
  | 83 => ⟨S16x32x16384x1, .i32⟩
  | 84 => ⟨S16x32x16384x1, .i1⟩
  | 85 => ⟨S1x1x1x1, .i32⟩
  | 86 => ⟨S16x32x16384x1, .i32⟩
  | 87 => ⟨S16x32x16384x1, .i1⟩
  | 88 => ⟨S16x32x16384x1, .i1⟩
  | 89 => ⟨S_, .i1⟩
  | 90 => ⟨S16x32x16384, .i1⟩
  | 91 => ⟨S16x32x16384, .f32⟩
  | 92 => ⟨S_, .f32⟩
  | 93 => ⟨S16x32x16384, .f32⟩
  | 94 => ⟨S16x32x16384, .f32⟩
  | 95 => ⟨S16x32x4096x4, .f32⟩
  | 96 => ⟨S16x1x4096x4, .i1⟩
  | 97 => ⟨S16x1x4096x4, .f32⟩
  | 98 => ⟨S16x32x4096x4, .f32⟩
  | 99 => ⟨S16x32x4096x4, .f32⟩
  | 100 => ⟨S16x1x4096x4, .f32⟩
  | 101 => ⟨S16x32x4096x4, .f32⟩
  | 102 => ⟨S16x32x4096x4, .f32⟩
  | 103 => ⟨S_, .f32⟩
  | 104 => ⟨S16x4096x4, .f32⟩
  | 105 => ⟨S16x4096x4, .i1⟩
  | 106 => ⟨S_, .f32⟩
  | 107 => ⟨S16x4096x4, .f32⟩
  | 108 => ⟨S16x4096x4, .i1⟩
  | 109 => ⟨S16x4096x4, .i1⟩
  | 110 => ⟨S_, .f32⟩
  | 111 => ⟨S16x4096x4, .f32⟩
  | 112 => ⟨S16x4096x4, .i1⟩
  | 113 => ⟨S16x4096x4, .i1⟩
  | 114 => ⟨S_, .f32⟩
  | 115 => ⟨S16x4096x4, .f32⟩
  | 116 => ⟨S16x4096x4, .i1⟩
  | 117 => ⟨S16x4096x4, .i1⟩
  | 118 => ⟨S_, .i32⟩
  | 119 => ⟨S_, .i32⟩
  | 120 => ⟨S_, .f32⟩
  | 121 => ⟨S16x4096x4, .f32⟩
  | 122 => ⟨S16x4096x4, .f32⟩
  | 123 => ⟨S_, .f32⟩
  | 124 => ⟨S16x4096x4, .f32⟩
  | 125 => ⟨S16x4096x4, .f32⟩
  | 126 => ⟨S16x4096x4, .i32⟩
  | 127 => ⟨S_, .i32⟩
  | _ => ⟨S4x2x256x32x32, .f32⟩

abbrev hbmTy0_24 (i : Nat) : BufTy := match i % 128 with
  | 0 => ⟨S_, .i32⟩
  | 1 => ⟨S_, .f32⟩
  | 2 => ⟨S16x4096x4, .f32⟩
  | 3 => ⟨S16x4096x4, .f32⟩
  | 4 => ⟨S_, .f32⟩
  | 5 => ⟨S16x4096x4, .f32⟩
  | 6 => ⟨S16x4096x4, .f32⟩
  | 7 => ⟨S16x4096x4, .i32⟩
  | 8 => ⟨S_, .i32⟩
  | 9 => ⟨S16x4096x4, .i32⟩
  | 10 => ⟨S16x4096x4, .i32⟩
  | 11 => ⟨S16x4096x4, .i32⟩
  | 12 => ⟨S16x16384, .i32⟩
  | 13 => ⟨S16x1x16384, .i32⟩
  | 14 => ⟨S16x32x16384, .i32⟩
  | 15 => ⟨S_, .i32⟩
  | 16 => ⟨S16x32x16384, .i32⟩
  | 17 => ⟨S16x32x16384, .i1⟩
  | 18 => ⟨S_, .i32⟩
  | 19 => ⟨S16x32x16384, .i32⟩
  | 20 => ⟨S16x32x16384, .i32⟩
  | 21 => ⟨S16x32x16384, .i32⟩
  | 22 => ⟨S16x32x16384x1, .i32⟩
  | 23 => ⟨S1, .i32⟩
  | 24 => ⟨S_, .i32⟩
  | 25 => ⟨S16x32x16384x1, .i32⟩
  | 26 => ⟨S16x32x16384x1, .i1⟩
  | 27 => ⟨S1x1x1x1, .i32⟩
  | 28 => ⟨S16x32x16384x1, .i32⟩
  | 29 => ⟨S16x32x16384x1, .i1⟩
  | 30 => ⟨S16x32x16384x1, .i1⟩
  | 31 => ⟨S_, .i1⟩
  | 32 => ⟨S16x32x16384, .i1⟩
  | 33 => ⟨S16x32x16384, .f32⟩
  | 34 => ⟨S_, .f32⟩
  | 35 => ⟨S16x32x16384, .f32⟩
  | 36 => ⟨S16x32x16384, .f32⟩
  | 37 => ⟨S16x32x4096x4, .f32⟩
  | 38 => ⟨S16x1x4096x4, .i1⟩
  | 39 => ⟨S16x1x4096x4, .f32⟩
  | 40 => ⟨S16x32x4096x4, .f32⟩
  | 41 => ⟨S16x32x4096x4, .f32⟩
  | 42 => ⟨S16x1x4096x4, .f32⟩
  | 43 => ⟨S16x32x4096x4, .f32⟩
  | 44 => ⟨S16x32x4096x4, .f32⟩
  | 45 => ⟨S16x32x4096x4, .f32⟩
  | 46 => ⟨S_, .f32⟩
  | 47 => ⟨S16x4096x4, .f32⟩
  | 48 => ⟨S16x4096x4, .i1⟩
  | 49 => ⟨S_, .f32⟩
  | 50 => ⟨S16x4096x4, .f32⟩
  | 51 => ⟨S16x4096x4, .i1⟩
  | 52 => ⟨S16x4096x4, .i1⟩
  | 53 => ⟨S_, .f32⟩
  | 54 => ⟨S16x4096x4, .f32⟩
  | 55 => ⟨S16x4096x4, .i1⟩
  | 56 => ⟨S16x4096x4, .i1⟩
  | 57 => ⟨S_, .f32⟩
  | 58 => ⟨S16x4096x4, .f32⟩
  | 59 => ⟨S16x4096x4, .i1⟩
  | 60 => ⟨S16x4096x4, .i1⟩
  | 61 => ⟨S_, .i32⟩
  | 62 => ⟨S_, .i32⟩
  | 63 => ⟨S_, .f32⟩
  | 64 => ⟨S16x4096x4, .f32⟩
  | 65 => ⟨S16x4096x4, .f32⟩
  | 66 => ⟨S_, .f32⟩
  | 67 => ⟨S16x4096x4, .f32⟩
  | 68 => ⟨S16x4096x4, .f32⟩
  | 69 => ⟨S16x4096x4, .i32⟩
  | 70 => ⟨S_, .i32⟩
  | 71 => ⟨S_, .i32⟩
  | 72 => ⟨S_, .f32⟩
  | 73 => ⟨S16x4096x4, .f32⟩
  | 74 => ⟨S16x4096x4, .f32⟩
  | 75 => ⟨S_, .f32⟩
  | 76 => ⟨S16x4096x4, .f32⟩
  | 77 => ⟨S16x4096x4, .f32⟩
  | 78 => ⟨S16x4096x4, .i32⟩
  | 79 => ⟨S_, .i32⟩
  | 80 => ⟨S16x4096x4, .i32⟩
  | 81 => ⟨S16x4096x4, .i32⟩
  | 82 => ⟨S16x4096x4, .i32⟩
  | 83 => ⟨S16x16384, .i32⟩
  | 84 => ⟨S16x1x16384, .i32⟩
  | 85 => ⟨S16x32x16384, .i32⟩
  | 86 => ⟨S_, .i32⟩
  | 87 => ⟨S16x32x16384, .i32⟩
  | 88 => ⟨S16x32x16384, .i1⟩
  | 89 => ⟨S_, .i32⟩
  | 90 => ⟨S16x32x16384, .i32⟩
  | 91 => ⟨S16x32x16384, .i32⟩
  | 92 => ⟨S16x32x16384, .i32⟩
  | 93 => ⟨S16x32x16384x1, .i32⟩
  | 94 => ⟨S1, .i32⟩
  | 95 => ⟨S_, .i32⟩
  | 96 => ⟨S16x32x16384x1, .i32⟩
  | 97 => ⟨S16x32x16384x1, .i1⟩
  | 98 => ⟨S1x1x1x1, .i32⟩
  | 99 => ⟨S16x32x16384x1, .i32⟩
  | 100 => ⟨S16x32x16384x1, .i1⟩
  | 101 => ⟨S16x32x16384x1, .i1⟩
  | 102 => ⟨S_, .i1⟩
  | 103 => ⟨S16x32x16384, .i1⟩
  | 104 => ⟨S16x32x16384, .f32⟩
  | 105 => ⟨S_, .f32⟩
  | 106 => ⟨S16x32x16384, .f32⟩
  | 107 => ⟨S16x32x16384, .f32⟩
  | 108 => ⟨S16x32x4096x4, .f32⟩
  | 109 => ⟨S16x1x4096x4, .i1⟩
  | 110 => ⟨S16x1x4096x4, .f32⟩
  | 111 => ⟨S16x32x4096x4, .f32⟩
  | 112 => ⟨S16x32x4096x4, .f32⟩
  | 113 => ⟨S16x1x4096x4, .f32⟩
  | 114 => ⟨S16x32x4096x4, .f32⟩
  | 115 => ⟨S16x32x4096x4, .f32⟩
  | 116 => ⟨S16x32x4096x4, .f32⟩
  | 117 => ⟨S_, .f32⟩
  | 118 => ⟨S16x4096x4, .f32⟩
  | 119 => ⟨S16x4096x4, .i1⟩
  | 120 => ⟨S_, .f32⟩
  | 121 => ⟨S16x4096x4, .f32⟩
  | 122 => ⟨S16x4096x4, .i1⟩
  | 123 => ⟨S16x4096x4, .i1⟩
  | 124 => ⟨S_, .f32⟩
  | 125 => ⟨S16x4096x4, .f32⟩
  | 126 => ⟨S16x4096x4, .i1⟩
  | 127 => ⟨S16x4096x4, .i1⟩
  | _ => ⟨S4x2x256x32x32, .f32⟩

abbrev hbmTy0_25 (i : Nat) : BufTy := match i % 128 with
  | 0 => ⟨S_, .f32⟩
  | 1 => ⟨S16x4096x4, .f32⟩
  | 2 => ⟨S16x4096x4, .i1⟩
  | 3 => ⟨S16x4096x4, .i1⟩
  | 4 => ⟨S_, .i32⟩
  | 5 => ⟨S_, .i32⟩
  | 6 => ⟨S_, .f32⟩
  | 7 => ⟨S16x4096x4, .f32⟩
  | 8 => ⟨S16x4096x4, .f32⟩
  | 9 => ⟨S_, .f32⟩
  | 10 => ⟨S16x4096x4, .f32⟩
  | 11 => ⟨S16x4096x4, .f32⟩
  | 12 => ⟨S16x4096x4, .i32⟩
  | 13 => ⟨S_, .i32⟩
  | 14 => ⟨S_, .i32⟩
  | 15 => ⟨S_, .f32⟩
  | 16 => ⟨S16x4096x4, .f32⟩
  | 17 => ⟨S16x4096x4, .f32⟩
  | 18 => ⟨S_, .f32⟩
  | 19 => ⟨S16x4096x4, .f32⟩
  | 20 => ⟨S16x4096x4, .f32⟩
  | 21 => ⟨S16x4096x4, .i32⟩
  | 22 => ⟨S_, .i32⟩
  | 23 => ⟨S16x4096x4, .i32⟩
  | 24 => ⟨S16x4096x4, .i32⟩
  | 25 => ⟨S16x4096x4, .i32⟩
  | 26 => ⟨S16x16384, .i32⟩
  | 27 => ⟨S16x1x16384, .i32⟩
  | 28 => ⟨S16x32x16384, .i32⟩
  | 29 => ⟨S_, .i32⟩
  | 30 => ⟨S16x32x16384, .i32⟩
  | 31 => ⟨S16x32x16384, .i1⟩
  | 32 => ⟨S_, .i32⟩
  | 33 => ⟨S16x32x16384, .i32⟩
  | 34 => ⟨S16x32x16384, .i32⟩
  | 35 => ⟨S16x32x16384, .i32⟩
  | 36 => ⟨S16x32x16384x1, .i32⟩
  | 37 => ⟨S1, .i32⟩
  | 38 => ⟨S_, .i32⟩
  | 39 => ⟨S16x32x16384x1, .i32⟩
  | 40 => ⟨S16x32x16384x1, .i1⟩
  | 41 => ⟨S1x1x1x1, .i32⟩
  | 42 => ⟨S16x32x16384x1, .i32⟩
  | 43 => ⟨S16x32x16384x1, .i1⟩
  | 44 => ⟨S16x32x16384x1, .i1⟩
  | 45 => ⟨S_, .i1⟩
  | 46 => ⟨S16x32x16384, .i1⟩
  | 47 => ⟨S16x32x16384, .f32⟩
  | 48 => ⟨S_, .f32⟩
  | 49 => ⟨S16x32x16384, .f32⟩
  | 50 => ⟨S16x32x16384, .f32⟩
  | 51 => ⟨S16x32x4096x4, .f32⟩
  | 52 => ⟨S16x1x4096x4, .i1⟩
  | 53 => ⟨S16x1x4096x4, .f32⟩
  | 54 => ⟨S16x32x4096x4, .f32⟩
  | 55 => ⟨S16x32x4096x4, .f32⟩
  | 56 => ⟨S16x1x4096x4, .f32⟩
  | 57 => ⟨S16x32x4096x4, .f32⟩
  | 58 => ⟨S16x32x4096x4, .f32⟩
  | 59 => ⟨S16x32x4096x4, .f32⟩
  | 60 => ⟨S16x32x4096x1x4, .f32⟩
  | 61 => ⟨S16x32x4096x1x4, .f32⟩
  | 62 => ⟨S16x32x4096x1x4, .f32⟩
  | 63 => ⟨S16x32x4096x1x4, .f32⟩
  | 64 => ⟨S16x32x4096x4x4, .f32⟩
  | 65 => ⟨S16x32x4096x16, .f32⟩
  | 66 => ⟨S2x8x4096x4x4, .f32⟩
  | 67 => ⟨S16x1x4096x16, .f32⟩
  | 68 => ⟨S16x32x4096x16, .f32⟩
  | 69 => ⟨S16x32x4096x16, .f32⟩
  | 70 => ⟨S_, .f32⟩
  | 71 => ⟨S16x32x4096, .f32⟩
  | 72 => ⟨S2x256x4096, .f32⟩
  | 73 => ⟨S2x4096x256, .f32⟩
  | 74 => ⟨S1x256x256, .f32⟩
  | 75 => ⟨S256x256, .f32⟩
  | 76 => ⟨S2x4096x256, .f32⟩
  | 77 => ⟨S1x256, .f32⟩
  | 78 => ⟨S256, .f32⟩
  | 79 => ⟨S1x1x256, .f32⟩
  | 80 => ⟨S2x4096x256, .f32⟩
  | 81 => ⟨S2x4096x256, .f32⟩
  | 82 => ⟨S2x4096x256, .f32⟩
  | 83 => ⟨S1x256, .f32⟩
  | 84 => ⟨S256, .f32⟩
  | 85 => ⟨S1x256, .f32⟩
  | 86 => ⟨S256, .f32⟩
  | 87 => ⟨S_, .f32⟩
  | 88 => ⟨S2x4096, .f32⟩
  | 89 => ⟨S2x4096x1, .f32⟩
  | 90 => ⟨S_, .f32⟩
  | 91 => ⟨S2x4096x1, .f32⟩
  | 92 => ⟨S2x4096x1, .f32⟩
  | 93 => ⟨S2x4096x256, .f32⟩
  | 94 => ⟨S2x4096x256, .f32⟩
  | 95 => ⟨S2x4096x256, .f32⟩
  | 96 => ⟨S_, .f32⟩
  | 97 => ⟨S2x4096, .f32⟩
  | 98 => ⟨S2x4096x1, .f32⟩
  | 99 => ⟨S_, .f32⟩
  | 100 => ⟨S2x4096x1, .f32⟩
  | 101 => ⟨S2x4096x1, .f32⟩
  | 102 => ⟨S2x4096x256, .f32⟩
  | 103 => ⟨S2x4096x256, .f32⟩
  | 104 => ⟨S_, .f32⟩
  | 105 => ⟨S2x4096x1, .f32⟩
  | 106 => ⟨S2x4096x1, .f32⟩
  | 107 => ⟨S2x4096x1, .f32⟩
  | 108 => ⟨S2x4096x256, .f32⟩
  | 109 => ⟨S2x4096x256, .f32⟩
  | 110 => ⟨S1x1x256, .f32⟩
  | 111 => ⟨S2x4096x256, .f32⟩
  | 112 => ⟨S2x4096x256, .f32⟩
  | 113 => ⟨S1x1x256, .f32⟩
  | 114 => ⟨S2x4096x256, .f32⟩
  | 115 => ⟨S2x4096x256, .f32⟩
  | 116 => ⟨S1x256x1024, .f32⟩
  | 117 => ⟨S256x1024, .f32⟩
  | 118 => ⟨S2x4096x1024, .f32⟩
  | 119 => ⟨S1x1024, .f32⟩
  | 120 => ⟨S1024, .f32⟩
  | 121 => ⟨S1x1x1024, .f32⟩
  | 122 => ⟨S2x4096x1024, .f32⟩
  | 123 => ⟨S2x4096x1024, .f32⟩
  | 124 => ⟨S_, .f32⟩
  | 125 => ⟨S2x4096x1024, .f32⟩
  | 126 => ⟨S2x4096x1024, .f32⟩
  | 127 => ⟨S1x1024x256, .f32⟩
  | _ => ⟨S4x2x256x32x32, .f32⟩

abbrev hbmTy0_26 (i : Nat) : BufTy := match i % 128 with
  | 0 => ⟨S1024x256, .f32⟩
  | 1 => ⟨S2x4096x256, .f32⟩
  | 2 => ⟨S1x256, .f32⟩
  | 3 => ⟨S256, .f32⟩
  | 4 => ⟨S1x1x256, .f32⟩
  | 5 => ⟨S2x4096x256, .f32⟩
  | 6 => ⟨S2x4096x256, .f32⟩
  | 7 => ⟨S2x4096x256, .f32⟩
  | 8 => ⟨S1x256, .f32⟩
  | 9 => ⟨S256, .f32⟩
  | 10 => ⟨S1x256, .f32⟩
  | 11 => ⟨S256, .f32⟩
  | 12 => ⟨S_, .f32⟩
  | 13 => ⟨S2x4096, .f32⟩
  | 14 => ⟨S2x4096x1, .f32⟩
  | 15 => ⟨S_, .f32⟩
  | 16 => ⟨S2x4096x1, .f32⟩
  | 17 => ⟨S2x4096x1, .f32⟩
  | 18 => ⟨S2x4096x256, .f32⟩
  | 19 => ⟨S2x4096x256, .f32⟩
  | 20 => ⟨S2x4096x256, .f32⟩
  | 21 => ⟨S_, .f32⟩
  | 22 => ⟨S2x4096, .f32⟩
  | 23 => ⟨S2x4096x1, .f32⟩
  | 24 => ⟨S_, .f32⟩
  | 25 => ⟨S2x4096x1, .f32⟩
  | 26 => ⟨S2x4096x1, .f32⟩
  | 27 => ⟨S2x4096x256, .f32⟩
  | 28 => ⟨S2x4096x256, .f32⟩
  | 29 => ⟨S_, .f32⟩
  | 30 => ⟨S2x4096x1, .f32⟩
  | 31 => ⟨S2x4096x1, .f32⟩
  | 32 => ⟨S2x4096x1, .f32⟩
  | 33 => ⟨S2x4096x256, .f32⟩
  | 34 => ⟨S2x4096x256, .f32⟩
  | 35 => ⟨S1x1x256, .f32⟩
  | 36 => ⟨S2x4096x256, .f32⟩
  | 37 => ⟨S2x4096x256, .f32⟩
  | 38 => ⟨S1x1x256, .f32⟩
  | 39 => ⟨S2x4096x256, .f32⟩
  | 40 => ⟨S2x4096x256, .f32⟩
  | 41 => ⟨S2x4096x256, .f32⟩
  | 42 => ⟨S1x256x256, .f32⟩
  | 43 => ⟨S256x256, .f32⟩
  | 44 => ⟨S2x4096x256, .f32⟩
  | 45 => ⟨S1x256, .f32⟩
  | 46 => ⟨S256, .f32⟩
  | 47 => ⟨S1x1x256, .f32⟩
  | 48 => ⟨S2x4096x256, .f32⟩
  | 49 => ⟨S2x4096x256, .f32⟩
  | 50 => ⟨S2x4096x8x32, .f32⟩
  | 51 => ⟨S1x256x256, .f32⟩
  | 52 => ⟨S256x256, .f32⟩
  | 53 => ⟨S2x4096x256, .f32⟩
  | 54 => ⟨S1x256, .f32⟩
  | 55 => ⟨S256, .f32⟩
  | 56 => ⟨S1x1x256, .f32⟩
  | 57 => ⟨S2x4096x256, .f32⟩
  | 58 => ⟨S2x4096x256, .f32⟩
  | 59 => ⟨S2x4096x8x4x4x2, .f32⟩
  | 60 => ⟨S1x256x128, .f32⟩
  | 61 => ⟨S256x128, .f32⟩
  | 62 => ⟨S2x4096x128, .f32⟩
  | 63 => ⟨S1x128, .f32⟩
  | 64 => ⟨S128, .f32⟩
  | 65 => ⟨S1x1x128, .f32⟩
  | 66 => ⟨S2x4096x128, .f32⟩
  | 67 => ⟨S2x4096x128, .f32⟩
  | 68 => ⟨S2x4096x8x16, .f32⟩
  | 69 => ⟨S_, .f32⟩
  | 70 => ⟨S2x4096x8, .f32⟩
  | 71 => ⟨S_, .f32⟩
  | 72 => ⟨S2x4096x8, .f32⟩
  | 73 => ⟨S2x4096x8, .f32⟩
  | 74 => ⟨S2x4096x8x1, .f32⟩
  | 75 => ⟨S2x4096x8x16, .f32⟩
  | 76 => ⟨S2x4096x8x16, .f32⟩
  | 77 => ⟨S2x4096x8x16, .f32⟩
  | 78 => ⟨S_, .f32⟩
  | 79 => ⟨S2x4096x8, .f32⟩
  | 80 => ⟨S2x4096x8x1, .f32⟩
  | 81 => ⟨S2x4096x8x16, .f32⟩
  | 82 => ⟨S2x4096x8x16, .f32⟩
  | 83 => ⟨S2x4096x8x4x4, .f32⟩
  | 84 => ⟨S2x4096x1x4x1x2, .f32⟩
  | 85 => ⟨S1x1x1x4x1x2, .f32⟩
  | 86 => ⟨S2x4096x8x4x4x2, .f32⟩
  | 87 => ⟨S2x4096x8x4x4x2, .f32⟩
  | 88 => ⟨S2x4096x8x4x4x2, .f32⟩
  | 89 => ⟨S2x4096x8x4x4x2, .f32⟩
  | 90 => ⟨S_, .f32⟩
  | 91 => ⟨S2x4096x8x4x4x2, .f32⟩
  | 92 => ⟨S2x4096x8x4x4x2, .f32⟩
  | 93 => ⟨S_, .f32⟩
  | 94 => ⟨S2x4096x8x4x4x2, .f32⟩
  | 95 => ⟨S2x4096x8x4x4x2, .f32⟩
  | 96 => ⟨S2x1024x8x32, .f32⟩
  | 97 => ⟨S2x8x32x1024, .f32⟩
  | 98 => ⟨S16x32x32x32, .f32⟩
  | 99 => ⟨S2x4096x8x1x4x2, .f32⟩
  | 100 => ⟨S2x4096x8x4x2, .f32⟩
  | 101 => ⟨S2x8x4096x4x2, .f32⟩
  | 102 => ⟨S16x4096x4x2, .f32⟩
  | 103 => ⟨S16x4096x4x1, .f32⟩
  | 104 => ⟨S16x4096x4, .f32⟩
  | 105 => ⟨S_, .f32⟩
  | 106 => ⟨S16x4096x4, .f32⟩
  | 107 => ⟨S16x4096x4, .f32⟩
  | 108 => ⟨S_, .f32⟩
  | 109 => ⟨S16x4096x4, .f32⟩
  | 110 => ⟨S16x4096x4, .f32⟩
  | 111 => ⟨S_, .f32⟩
  | 112 => ⟨S16x4096x4, .f32⟩
  | 113 => ⟨S16x4096x4, .f32⟩
  | 114 => ⟨S_, .f32⟩
  | 115 => ⟨S16x4096x4, .f32⟩
  | 116 => ⟨S16x4096x4, .f32⟩
  | 117 => ⟨S16x4096x4x1, .f32⟩
  | 118 => ⟨S16x4096x4, .f32⟩
  | 119 => ⟨S_, .f32⟩
  | 120 => ⟨S16x4096x4, .f32⟩
  | 121 => ⟨S16x4096x4, .f32⟩
  | 122 => ⟨S_, .f32⟩
  | 123 => ⟨S16x4096x4, .f32⟩
  | 124 => ⟨S16x4096x4, .f32⟩
  | 125 => ⟨S_, .f32⟩
  | 126 => ⟨S16x4096x4, .f32⟩
  | 127 => ⟨S16x4096x4, .f32⟩
  | _ => ⟨S4x2x256x32x32, .f32⟩

abbrev hbmTy0_27 (i : Nat) : BufTy := match i % 128 with
  | 0 => ⟨S_, .f32⟩
  | 1 => ⟨S16x4096x4, .f32⟩
  | 2 => ⟨S16x4096x4, .f32⟩
  | 3 => ⟨S16x4096x4, .f32⟩
  | 4 => ⟨S16x4096x4, .f32⟩
  | 5 => ⟨S_, .f32⟩
  | 6 => ⟨S16x4096x4, .f32⟩
  | 7 => ⟨S16x4096x4, .f32⟩
  | 8 => ⟨S_, .f32⟩
  | 9 => ⟨S16x4096x4, .f32⟩
  | 10 => ⟨S16x4096x4, .f32⟩
  | 11 => ⟨S16x4096x4, .f32⟩
  | 12 => ⟨S16x4096x4, .f32⟩
  | 13 => ⟨S16x4096x4, .f32⟩
  | 14 => ⟨S16x4096x4, .f32⟩
  | 15 => ⟨S16x4096x4, .f32⟩
  | 16 => ⟨S16x4096x4, .f32⟩
  | 17 => ⟨S16x4096x4, .f32⟩
  | 18 => ⟨S16x4096x4, .f32⟩
  | 19 => ⟨S16x4096x4, .f32⟩
  | 20 => ⟨S16x4096x4, .f32⟩
  | 21 => ⟨S16x4096x4, .f32⟩
  | 22 => ⟨S16x4096x4, .f32⟩
  | 23 => ⟨S16x32x1024, .f32⟩
  | 24 => ⟨S_, .f32⟩
  | 25 => ⟨S16x4096x4, .f32⟩
  | 26 => ⟨S16x4096x4, .i1⟩
  | 27 => ⟨S_, .f32⟩
  | 28 => ⟨S16x4096x4, .f32⟩
  | 29 => ⟨S16x4096x4, .i1⟩
  | 30 => ⟨S16x4096x4, .i1⟩
  | 31 => ⟨S_, .f32⟩
  | 32 => ⟨S16x4096x4, .f32⟩
  | 33 => ⟨S16x4096x4, .i1⟩
  | 34 => ⟨S16x4096x4, .i1⟩
  | 35 => ⟨S_, .f32⟩
  | 36 => ⟨S16x4096x4, .f32⟩
  | 37 => ⟨S16x4096x4, .i1⟩
  | 38 => ⟨S16x4096x4, .i1⟩
  | 39 => ⟨S_, .i32⟩
  | 40 => ⟨S_, .i32⟩
  | 41 => ⟨S_, .f32⟩
  | 42 => ⟨S16x4096x4, .f32⟩
  | 43 => ⟨S16x4096x4, .f32⟩
  | 44 => ⟨S_, .f32⟩
  | 45 => ⟨S16x4096x4, .f32⟩
  | 46 => ⟨S16x4096x4, .f32⟩
  | 47 => ⟨S16x4096x4, .i32⟩
  | 48 => ⟨S_, .i32⟩
  | 49 => ⟨S_, .i32⟩
  | 50 => ⟨S_, .f32⟩
  | 51 => ⟨S16x4096x4, .f32⟩
  | 52 => ⟨S16x4096x4, .f32⟩
  | 53 => ⟨S_, .f32⟩
  | 54 => ⟨S16x4096x4, .f32⟩
  | 55 => ⟨S16x4096x4, .f32⟩
  | 56 => ⟨S16x4096x4, .i32⟩
  | 57 => ⟨S_, .i32⟩
  | 58 => ⟨S16x4096x4, .i32⟩
  | 59 => ⟨S16x4096x4, .i32⟩
  | 60 => ⟨S16x4096x4, .i32⟩
  | 61 => ⟨S16x16384, .i32⟩
  | 62 => ⟨S16x1x16384, .i32⟩
  | 63 => ⟨S16x32x16384, .i32⟩
  | 64 => ⟨S_, .i32⟩
  | 65 => ⟨S16x32x16384, .i32⟩
  | 66 => ⟨S16x32x16384, .i1⟩
  | 67 => ⟨S_, .i32⟩
  | 68 => ⟨S16x32x16384, .i32⟩
  | 69 => ⟨S16x32x16384, .i32⟩
  | 70 => ⟨S16x32x16384, .i32⟩
  | 71 => ⟨S16x32x16384x1, .i32⟩
  | 72 => ⟨S1, .i32⟩
  | 73 => ⟨S_, .i32⟩
  | 74 => ⟨S16x32x16384x1, .i32⟩
  | 75 => ⟨S16x32x16384x1, .i1⟩
  | 76 => ⟨S1x1x1x1, .i32⟩
  | 77 => ⟨S16x32x16384x1, .i32⟩
  | 78 => ⟨S16x32x16384x1, .i1⟩
  | 79 => ⟨S16x32x16384x1, .i1⟩
  | 80 => ⟨S_, .i1⟩
  | 81 => ⟨S16x32x16384, .i1⟩
  | 82 => ⟨S16x32x16384, .f32⟩
  | 83 => ⟨S_, .f32⟩
  | 84 => ⟨S16x32x16384, .f32⟩
  | 85 => ⟨S16x32x16384, .f32⟩
  | 86 => ⟨S16x32x4096x4, .f32⟩
  | 87 => ⟨S16x1x4096x4, .i1⟩
  | 88 => ⟨S16x1x4096x4, .f32⟩
  | 89 => ⟨S16x32x4096x4, .f32⟩
  | 90 => ⟨S16x32x4096x4, .f32⟩
  | 91 => ⟨S16x1x4096x4, .f32⟩
  | 92 => ⟨S16x32x4096x4, .f32⟩
  | 93 => ⟨S16x32x4096x4, .f32⟩
  | 94 => ⟨S_, .f32⟩
  | 95 => ⟨S16x4096x4, .f32⟩
  | 96 => ⟨S16x4096x4, .i1⟩
  | 97 => ⟨S_, .f32⟩
  | 98 => ⟨S16x4096x4, .f32⟩
  | 99 => ⟨S16x4096x4, .i1⟩
  | 100 => ⟨S16x4096x4, .i1⟩
  | 101 => ⟨S_, .f32⟩
  | 102 => ⟨S16x4096x4, .f32⟩
  | 103 => ⟨S16x4096x4, .i1⟩
  | 104 => ⟨S16x4096x4, .i1⟩
  | 105 => ⟨S_, .f32⟩
  | 106 => ⟨S16x4096x4, .f32⟩
  | 107 => ⟨S16x4096x4, .i1⟩
  | 108 => ⟨S16x4096x4, .i1⟩
  | 109 => ⟨S_, .i32⟩
  | 110 => ⟨S_, .i32⟩
  | 111 => ⟨S_, .f32⟩
  | 112 => ⟨S16x4096x4, .f32⟩
  | 113 => ⟨S16x4096x4, .f32⟩
  | 114 => ⟨S_, .f32⟩
  | 115 => ⟨S16x4096x4, .f32⟩
  | 116 => ⟨S16x4096x4, .f32⟩
  | 117 => ⟨S16x4096x4, .i32⟩
  | 118 => ⟨S_, .i32⟩
  | 119 => ⟨S_, .i32⟩
  | 120 => ⟨S_, .f32⟩
  | 121 => ⟨S16x4096x4, .f32⟩
  | 122 => ⟨S16x4096x4, .f32⟩
  | 123 => ⟨S_, .f32⟩
  | 124 => ⟨S16x4096x4, .f32⟩
  | 125 => ⟨S16x4096x4, .f32⟩
  | 126 => ⟨S16x4096x4, .i32⟩
  | 127 => ⟨S_, .i32⟩
  | _ => ⟨S4x2x256x32x32, .f32⟩

abbrev hbmTy0_28 (i : Nat) : BufTy := match i % 128 with
  | 0 => ⟨S16x4096x4, .i32⟩
  | 1 => ⟨S16x4096x4, .i32⟩
  | 2 => ⟨S16x4096x4, .i32⟩
  | 3 => ⟨S16x16384, .i32⟩
  | 4 => ⟨S16x1x16384, .i32⟩
  | 5 => ⟨S16x32x16384, .i32⟩
  | 6 => ⟨S_, .i32⟩
  | 7 => ⟨S16x32x16384, .i32⟩
  | 8 => ⟨S16x32x16384, .i1⟩
  | 9 => ⟨S_, .i32⟩
  | 10 => ⟨S16x32x16384, .i32⟩
  | 11 => ⟨S16x32x16384, .i32⟩
  | 12 => ⟨S16x32x16384, .i32⟩
  | 13 => ⟨S16x32x16384x1, .i32⟩
  | 14 => ⟨S1, .i32⟩
  | 15 => ⟨S_, .i32⟩
  | 16 => ⟨S16x32x16384x1, .i32⟩
  | 17 => ⟨S16x32x16384x1, .i1⟩
  | 18 => ⟨S1x1x1x1, .i32⟩
  | 19 => ⟨S16x32x16384x1, .i32⟩
  | 20 => ⟨S16x32x16384x1, .i1⟩
  | 21 => ⟨S16x32x16384x1, .i1⟩
  | 22 => ⟨S_, .i1⟩
  | 23 => ⟨S16x32x16384, .i1⟩
  | 24 => ⟨S16x32x16384, .f32⟩
  | 25 => ⟨S_, .f32⟩
  | 26 => ⟨S16x32x16384, .f32⟩
  | 27 => ⟨S16x32x16384, .f32⟩
  | 28 => ⟨S16x32x4096x4, .f32⟩
  | 29 => ⟨S16x1x4096x4, .i1⟩
  | 30 => ⟨S16x1x4096x4, .f32⟩
  | 31 => ⟨S16x32x4096x4, .f32⟩
  | 32 => ⟨S16x32x4096x4, .f32⟩
  | 33 => ⟨S16x1x4096x4, .f32⟩
  | 34 => ⟨S16x32x4096x4, .f32⟩
  | 35 => ⟨S16x32x4096x4, .f32⟩
  | 36 => ⟨S16x32x4096x4, .f32⟩
  | 37 => ⟨S_, .f32⟩
  | 38 => ⟨S16x4096x4, .f32⟩
  | 39 => ⟨S16x4096x4, .i1⟩
  | 40 => ⟨S_, .f32⟩
  | 41 => ⟨S16x4096x4, .f32⟩
  | 42 => ⟨S16x4096x4, .i1⟩
  | 43 => ⟨S16x4096x4, .i1⟩
  | 44 => ⟨S_, .f32⟩
  | 45 => ⟨S16x4096x4, .f32⟩
  | 46 => ⟨S16x4096x4, .i1⟩
  | 47 => ⟨S16x4096x4, .i1⟩
  | 48 => ⟨S_, .f32⟩
  | 49 => ⟨S16x4096x4, .f32⟩
  | 50 => ⟨S16x4096x4, .i1⟩
  | 51 => ⟨S16x4096x4, .i1⟩
  | 52 => ⟨S_, .i32⟩
  | 53 => ⟨S_, .i32⟩
  | 54 => ⟨S_, .f32⟩
  | 55 => ⟨S16x4096x4, .f32⟩
  | 56 => ⟨S16x4096x4, .f32⟩
  | 57 => ⟨S_, .f32⟩
  | 58 => ⟨S16x4096x4, .f32⟩
  | 59 => ⟨S16x4096x4, .f32⟩
  | 60 => ⟨S16x4096x4, .i32⟩
  | 61 => ⟨S_, .i32⟩
  | 62 => ⟨S_, .i32⟩
  | 63 => ⟨S_, .f32⟩
  | 64 => ⟨S16x4096x4, .f32⟩
  | 65 => ⟨S16x4096x4, .f32⟩
  | 66 => ⟨S_, .f32⟩
  | 67 => ⟨S16x4096x4, .f32⟩
  | 68 => ⟨S16x4096x4, .f32⟩
  | 69 => ⟨S16x4096x4, .i32⟩
  | 70 => ⟨S_, .i32⟩
  | 71 => ⟨S16x4096x4, .i32⟩
  | 72 => ⟨S16x4096x4, .i32⟩
  | 73 => ⟨S16x4096x4, .i32⟩
  | 74 => ⟨S16x16384, .i32⟩
  | 75 => ⟨S16x1x16384, .i32⟩
  | 76 => ⟨S16x32x16384, .i32⟩
  | 77 => ⟨S_, .i32⟩
  | 78 => ⟨S16x32x16384, .i32⟩
  | 79 => ⟨S16x32x16384, .i1⟩
  | 80 => ⟨S_, .i32⟩
  | 81 => ⟨S16x32x16384, .i32⟩
  | 82 => ⟨S16x32x16384, .i32⟩
  | 83 => ⟨S16x32x16384, .i32⟩
  | 84 => ⟨S16x32x16384x1, .i32⟩
  | 85 => ⟨S1, .i32⟩
  | 86 => ⟨S_, .i32⟩
  | 87 => ⟨S16x32x16384x1, .i32⟩
  | 88 => ⟨S16x32x16384x1, .i1⟩
  | 89 => ⟨S1x1x1x1, .i32⟩
  | 90 => ⟨S16x32x16384x1, .i32⟩
  | 91 => ⟨S16x32x16384x1, .i1⟩
  | 92 => ⟨S16x32x16384x1, .i1⟩
  | 93 => ⟨S_, .i1⟩
  | 94 => ⟨S16x32x16384, .i1⟩
  | 95 => ⟨S16x32x16384, .f32⟩
  | 96 => ⟨S_, .f32⟩
  | 97 => ⟨S16x32x16384, .f32⟩
  | 98 => ⟨S16x32x16384, .f32⟩
  | 99 => ⟨S16x32x4096x4, .f32⟩
  | 100 => ⟨S16x1x4096x4, .i1⟩
  | 101 => ⟨S16x1x4096x4, .f32⟩
  | 102 => ⟨S16x32x4096x4, .f32⟩
  | 103 => ⟨S16x32x4096x4, .f32⟩
  | 104 => ⟨S16x1x4096x4, .f32⟩
  | 105 => ⟨S16x32x4096x4, .f32⟩
  | 106 => ⟨S16x32x4096x4, .f32⟩
  | 107 => ⟨S16x32x4096x4, .f32⟩
  | 108 => ⟨S_, .f32⟩
  | 109 => ⟨S16x4096x4, .f32⟩
  | 110 => ⟨S16x4096x4, .i1⟩
  | 111 => ⟨S_, .f32⟩
  | 112 => ⟨S16x4096x4, .f32⟩
  | 113 => ⟨S16x4096x4, .i1⟩
  | 114 => ⟨S16x4096x4, .i1⟩
  | 115 => ⟨S_, .f32⟩
  | 116 => ⟨S16x4096x4, .f32⟩
  | 117 => ⟨S16x4096x4, .i1⟩
  | 118 => ⟨S16x4096x4, .i1⟩
  | 119 => ⟨S_, .f32⟩
  | 120 => ⟨S16x4096x4, .f32⟩
  | 121 => ⟨S16x4096x4, .i1⟩
  | 122 => ⟨S16x4096x4, .i1⟩
  | 123 => ⟨S_, .i32⟩
  | 124 => ⟨S_, .i32⟩
  | 125 => ⟨S_, .f32⟩
  | 126 => ⟨S16x4096x4, .f32⟩
  | 127 => ⟨S16x4096x4, .f32⟩
  | _ => ⟨S4x2x256x32x32, .f32⟩

abbrev hbmTy0_29 (i : Nat) : BufTy := match i % 128 with
  | 0 => ⟨S_, .f32⟩
  | 1 => ⟨S16x4096x4, .f32⟩
  | 2 => ⟨S16x4096x4, .f32⟩
  | 3 => ⟨S16x4096x4, .i32⟩
  | 4 => ⟨S_, .i32⟩
  | 5 => ⟨S_, .i32⟩
  | 6 => ⟨S_, .f32⟩
  | 7 => ⟨S16x4096x4, .f32⟩
  | 8 => ⟨S16x4096x4, .f32⟩
  | 9 => ⟨S_, .f32⟩
  | 10 => ⟨S16x4096x4, .f32⟩
  | 11 => ⟨S16x4096x4, .f32⟩
  | 12 => ⟨S16x4096x4, .i32⟩
  | 13 => ⟨S_, .i32⟩
  | 14 => ⟨S16x4096x4, .i32⟩
  | 15 => ⟨S16x4096x4, .i32⟩
  | 16 => ⟨S16x4096x4, .i32⟩
  | 17 => ⟨S16x16384, .i32⟩
  | 18 => ⟨S16x1x16384, .i32⟩
  | 19 => ⟨S16x32x16384, .i32⟩
  | 20 => ⟨S_, .i32⟩
  | 21 => ⟨S16x32x16384, .i32⟩
  | 22 => ⟨S16x32x16384, .i1⟩
  | 23 => ⟨S_, .i32⟩
  | 24 => ⟨S16x32x16384, .i32⟩
  | 25 => ⟨S16x32x16384, .i32⟩
  | 26 => ⟨S16x32x16384, .i32⟩
  | 27 => ⟨S16x32x16384x1, .i32⟩
  | 28 => ⟨S1, .i32⟩
  | 29 => ⟨S_, .i32⟩
  | 30 => ⟨S16x32x16384x1, .i32⟩
  | 31 => ⟨S16x32x16384x1, .i1⟩
  | 32 => ⟨S1x1x1x1, .i32⟩
  | 33 => ⟨S16x32x16384x1, .i32⟩
  | 34 => ⟨S16x32x16384x1, .i1⟩
  | 35 => ⟨S16x32x16384x1, .i1⟩
  | 36 => ⟨S_, .i1⟩
  | 37 => ⟨S16x32x16384, .i1⟩
  | 38 => ⟨S16x32x16384, .f32⟩
  | 39 => ⟨S_, .f32⟩
  | 40 => ⟨S16x32x16384, .f32⟩
  | 41 => ⟨S16x32x16384, .f32⟩
  | 42 => ⟨S16x32x4096x4, .f32⟩
  | 43 => ⟨S16x1x4096x4, .i1⟩
  | 44 => ⟨S16x1x4096x4, .f32⟩
  | 45 => ⟨S16x32x4096x4, .f32⟩
  | 46 => ⟨S16x32x4096x4, .f32⟩
  | 47 => ⟨S16x1x4096x4, .f32⟩
  | 48 => ⟨S16x32x4096x4, .f32⟩
  | 49 => ⟨S16x32x4096x4, .f32⟩
  | 50 => ⟨S16x32x4096x4, .f32⟩
  | 51 => ⟨S2x1024x8x32, .f32⟩
  | 52 => ⟨S2x8x32x1024, .f32⟩
  | 53 => ⟨S16x32x32x32, .f32⟩
  | 54 => ⟨S2x4096x8x1x4x2, .f32⟩
  | 55 => ⟨S2x4096x8x4x2, .f32⟩
  | 56 => ⟨S2x8x4096x4x2, .f32⟩
  | 57 => ⟨S16x4096x4x2, .f32⟩
  | 58 => ⟨S16x4096x4x1, .f32⟩
  | 59 => ⟨S16x4096x4, .f32⟩
  | 60 => ⟨S_, .f32⟩
  | 61 => ⟨S16x4096x4, .f32⟩
  | 62 => ⟨S16x4096x4, .f32⟩
  | 63 => ⟨S_, .f32⟩
  | 64 => ⟨S16x4096x4, .f32⟩
  | 65 => ⟨S16x4096x4, .f32⟩
  | 66 => ⟨S_, .f32⟩
  | 67 => ⟨S16x4096x4, .f32⟩
  | 68 => ⟨S16x4096x4, .f32⟩
  | 69 => ⟨S_, .f32⟩
  | 70 => ⟨S16x4096x4, .f32⟩
  | 71 => ⟨S16x4096x4, .f32⟩
  | 72 => ⟨S16x4096x4x1, .f32⟩
  | 73 => ⟨S16x4096x4, .f32⟩
  | 74 => ⟨S_, .f32⟩
  | 75 => ⟨S16x4096x4, .f32⟩
  | 76 => ⟨S16x4096x4, .f32⟩
  | 77 => ⟨S_, .f32⟩
  | 78 => ⟨S16x4096x4, .f32⟩
  | 79 => ⟨S16x4096x4, .f32⟩
  | 80 => ⟨S_, .f32⟩
  | 81 => ⟨S16x4096x4, .f32⟩
  | 82 => ⟨S16x4096x4, .f32⟩
  | 83 => ⟨S_, .f32⟩
  | 84 => ⟨S16x4096x4, .f32⟩
  | 85 => ⟨S16x4096x4, .f32⟩
  | 86 => ⟨S16x4096x4, .f32⟩
  | 87 => ⟨S16x4096x4, .f32⟩
  | 88 => ⟨S_, .f32⟩
  | 89 => ⟨S16x4096x4, .f32⟩
  | 90 => ⟨S16x4096x4, .f32⟩
  | 91 => ⟨S_, .f32⟩
  | 92 => ⟨S16x4096x4, .f32⟩
  | 93 => ⟨S16x4096x4, .f32⟩
  | 94 => ⟨S16x4096x4, .f32⟩
  | 95 => ⟨S16x4096x4, .f32⟩
  | 96 => ⟨S16x4096x4, .f32⟩
  | 97 => ⟨S16x4096x4, .f32⟩
  | 98 => ⟨S16x4096x4, .f32⟩
  | 99 => ⟨S16x4096x4, .f32⟩
  | 100 => ⟨S16x4096x4, .f32⟩
  | 101 => ⟨S16x4096x4, .f32⟩
  | 102 => ⟨S16x4096x4, .f32⟩
  | 103 => ⟨S16x4096x4, .f32⟩
  | 104 => ⟨S16x4096x4, .f32⟩
  | 105 => ⟨S16x4096x4, .f32⟩
  | 106 => ⟨S16x32x1024, .f32⟩
  | 107 => ⟨S_, .f32⟩
  | 108 => ⟨S16x4096x4, .f32⟩
  | 109 => ⟨S16x4096x4, .i1⟩
  | 110 => ⟨S_, .f32⟩
  | 111 => ⟨S16x4096x4, .f32⟩
  | 112 => ⟨S16x4096x4, .i1⟩
  | 113 => ⟨S16x4096x4, .i1⟩
  | 114 => ⟨S_, .f32⟩
  | 115 => ⟨S16x4096x4, .f32⟩
  | 116 => ⟨S16x4096x4, .i1⟩
  | 117 => ⟨S16x4096x4, .i1⟩
  | 118 => ⟨S_, .f32⟩
  | 119 => ⟨S16x4096x4, .f32⟩
  | 120 => ⟨S16x4096x4, .i1⟩
  | 121 => ⟨S16x4096x4, .i1⟩
  | 122 => ⟨S_, .i32⟩
  | 123 => ⟨S_, .i32⟩
  | 124 => ⟨S_, .f32⟩
  | 125 => ⟨S16x4096x4, .f32⟩
  | 126 => ⟨S16x4096x4, .f32⟩
  | 127 => ⟨S_, .f32⟩
  | _ => ⟨S4x2x256x32x32, .f32⟩

abbrev hbmTy0_30 (i : Nat) : BufTy := match i % 128 with
  | 0 => ⟨S16x4096x4, .f32⟩
  | 1 => ⟨S16x4096x4, .f32⟩
  | 2 => ⟨S16x4096x4, .i32⟩
  | 3 => ⟨S_, .i32⟩
  | 4 => ⟨S_, .i32⟩
  | 5 => ⟨S_, .f32⟩
  | 6 => ⟨S16x4096x4, .f32⟩
  | 7 => ⟨S16x4096x4, .f32⟩
  | 8 => ⟨S_, .f32⟩
  | 9 => ⟨S16x4096x4, .f32⟩
  | 10 => ⟨S16x4096x4, .f32⟩
  | 11 => ⟨S16x4096x4, .i32⟩
  | 12 => ⟨S_, .i32⟩
  | 13 => ⟨S16x4096x4, .i32⟩
  | 14 => ⟨S16x4096x4, .i32⟩
  | 15 => ⟨S16x4096x4, .i32⟩
  | 16 => ⟨S16x16384, .i32⟩
  | 17 => ⟨S16x1x16384, .i32⟩
  | 18 => ⟨S16x32x16384, .i32⟩
  | 19 => ⟨S_, .i32⟩
  | 20 => ⟨S16x32x16384, .i32⟩
  | 21 => ⟨S16x32x16384, .i1⟩
  | 22 => ⟨S_, .i32⟩
  | 23 => ⟨S16x32x16384, .i32⟩
  | 24 => ⟨S16x32x16384, .i32⟩
  | 25 => ⟨S16x32x16384, .i32⟩
  | 26 => ⟨S16x32x16384x1, .i32⟩
  | 27 => ⟨S1, .i32⟩
  | 28 => ⟨S_, .i32⟩
  | 29 => ⟨S16x32x16384x1, .i32⟩
  | 30 => ⟨S16x32x16384x1, .i1⟩
  | 31 => ⟨S1x1x1x1, .i32⟩
  | 32 => ⟨S16x32x16384x1, .i32⟩
  | 33 => ⟨S16x32x16384x1, .i1⟩
  | 34 => ⟨S16x32x16384x1, .i1⟩
  | 35 => ⟨S_, .i1⟩
  | 36 => ⟨S16x32x16384, .i1⟩
  | 37 => ⟨S16x32x16384, .f32⟩
  | 38 => ⟨S_, .f32⟩
  | 39 => ⟨S16x32x16384, .f32⟩
  | 40 => ⟨S16x32x16384, .f32⟩
  | 41 => ⟨S16x32x4096x4, .f32⟩
  | 42 => ⟨S16x1x4096x4, .i1⟩
  | 43 => ⟨S16x1x4096x4, .f32⟩
  | 44 => ⟨S16x32x4096x4, .f32⟩
  | 45 => ⟨S16x32x4096x4, .f32⟩
  | 46 => ⟨S16x1x4096x4, .f32⟩
  | 47 => ⟨S16x32x4096x4, .f32⟩
  | 48 => ⟨S16x32x4096x4, .f32⟩
  | 49 => ⟨S_, .f32⟩
  | 50 => ⟨S16x4096x4, .f32⟩
  | 51 => ⟨S16x4096x4, .i1⟩
  | 52 => ⟨S_, .f32⟩
  | 53 => ⟨S16x4096x4, .f32⟩
  | 54 => ⟨S16x4096x4, .i1⟩
  | 55 => ⟨S16x4096x4, .i1⟩
  | 56 => ⟨S_, .f32⟩
  | 57 => ⟨S16x4096x4, .f32⟩
  | 58 => ⟨S16x4096x4, .i1⟩
  | 59 => ⟨S16x4096x4, .i1⟩
  | 60 => ⟨S_, .f32⟩
  | 61 => ⟨S16x4096x4, .f32⟩
  | 62 => ⟨S16x4096x4, .i1⟩
  | 63 => ⟨S16x4096x4, .i1⟩
  | 64 => ⟨S_, .i32⟩
  | 65 => ⟨S_, .i32⟩
  | 66 => ⟨S_, .f32⟩
  | 67 => ⟨S16x4096x4, .f32⟩
  | 68 => ⟨S16x4096x4, .f32⟩
  | 69 => ⟨S_, .f32⟩
  | 70 => ⟨S16x4096x4, .f32⟩
  | 71 => ⟨S16x4096x4, .f32⟩
  | 72 => ⟨S16x4096x4, .i32⟩
  | 73 => ⟨S_, .i32⟩
  | 74 => ⟨S_, .i32⟩
  | 75 => ⟨S_, .f32⟩
  | 76 => ⟨S16x4096x4, .f32⟩
  | 77 => ⟨S16x4096x4, .f32⟩
  | 78 => ⟨S_, .f32⟩
  | 79 => ⟨S16x4096x4, .f32⟩
  | 80 => ⟨S16x4096x4, .f32⟩
  | 81 => ⟨S16x4096x4, .i32⟩
  | 82 => ⟨S_, .i32⟩
  | 83 => ⟨S16x4096x4, .i32⟩
  | 84 => ⟨S16x4096x4, .i32⟩
  | 85 => ⟨S16x4096x4, .i32⟩
  | 86 => ⟨S16x16384, .i32⟩
  | 87 => ⟨S16x1x16384, .i32⟩
  | 88 => ⟨S16x32x16384, .i32⟩
  | 89 => ⟨S_, .i32⟩
  | 90 => ⟨S16x32x16384, .i32⟩
  | 91 => ⟨S16x32x16384, .i1⟩
  | 92 => ⟨S_, .i32⟩
  | 93 => ⟨S16x32x16384, .i32⟩
  | 94 => ⟨S16x32x16384, .i32⟩
  | 95 => ⟨S16x32x16384, .i32⟩
  | 96 => ⟨S16x32x16384x1, .i32⟩
  | 97 => ⟨S1, .i32⟩
  | 98 => ⟨S_, .i32⟩
  | 99 => ⟨S16x32x16384x1, .i32⟩
  | 100 => ⟨S16x32x16384x1, .i1⟩
  | 101 => ⟨S1x1x1x1, .i32⟩
  | 102 => ⟨S16x32x16384x1, .i32⟩
  | 103 => ⟨S16x32x16384x1, .i1⟩
  | 104 => ⟨S16x32x16384x1, .i1⟩
  | 105 => ⟨S_, .i1⟩
  | 106 => ⟨S16x32x16384, .i1⟩
  | 107 => ⟨S16x32x16384, .f32⟩
  | 108 => ⟨S_, .f32⟩
  | 109 => ⟨S16x32x16384, .f32⟩
  | 110 => ⟨S16x32x16384, .f32⟩
  | 111 => ⟨S16x32x4096x4, .f32⟩
  | 112 => ⟨S16x1x4096x4, .i1⟩
  | 113 => ⟨S16x1x4096x4, .f32⟩
  | 114 => ⟨S16x32x4096x4, .f32⟩
  | 115 => ⟨S16x32x4096x4, .f32⟩
  | 116 => ⟨S16x1x4096x4, .f32⟩
  | 117 => ⟨S16x32x4096x4, .f32⟩
  | 118 => ⟨S16x32x4096x4, .f32⟩
  | 119 => ⟨S16x32x4096x4, .f32⟩
  | 120 => ⟨S_, .f32⟩
  | 121 => ⟨S16x4096x4, .f32⟩
  | 122 => ⟨S16x4096x4, .i1⟩
  | 123 => ⟨S_, .f32⟩
  | 124 => ⟨S16x4096x4, .f32⟩
  | 125 => ⟨S16x4096x4, .i1⟩
  | 126 => ⟨S16x4096x4, .i1⟩
  | 127 => ⟨S_, .f32⟩
  | _ => ⟨S4x2x256x32x32, .f32⟩

abbrev hbmTy0_31 (i : Nat) : BufTy := match i % 128 with
  | 0 => ⟨S16x4096x4, .f32⟩
  | 1 => ⟨S16x4096x4, .i1⟩
  | 2 => ⟨S16x4096x4, .i1⟩
  | 3 => ⟨S_, .f32⟩
  | 4 => ⟨S16x4096x4, .f32⟩
  | 5 => ⟨S16x4096x4, .i1⟩
  | 6 => ⟨S16x4096x4, .i1⟩
  | 7 => ⟨S_, .i32⟩
  | 8 => ⟨S_, .i32⟩
  | 9 => ⟨S_, .f32⟩
  | 10 => ⟨S16x4096x4, .f32⟩
  | 11 => ⟨S16x4096x4, .f32⟩
  | 12 => ⟨S_, .f32⟩
  | 13 => ⟨S16x4096x4, .f32⟩
  | 14 => ⟨S16x4096x4, .f32⟩
  | 15 => ⟨S16x4096x4, .i32⟩
  | 16 => ⟨S_, .i32⟩
  | 17 => ⟨S_, .i32⟩
  | 18 => ⟨S_, .f32⟩
  | 19 => ⟨S16x4096x4, .f32⟩
  | 20 => ⟨S16x4096x4, .f32⟩
  | 21 => ⟨S_, .f32⟩
  | 22 => ⟨S16x4096x4, .f32⟩
  | 23 => ⟨S16x4096x4, .f32⟩
  | 24 => ⟨S16x4096x4, .i32⟩
  | 25 => ⟨S_, .i32⟩
  | 26 => ⟨S16x4096x4, .i32⟩
  | 27 => ⟨S16x4096x4, .i32⟩
  | 28 => ⟨S16x4096x4, .i32⟩
  | 29 => ⟨S16x16384, .i32⟩
  | 30 => ⟨S16x1x16384, .i32⟩
  | 31 => ⟨S16x32x16384, .i32⟩
  | 32 => ⟨S_, .i32⟩
  | 33 => ⟨S16x32x16384, .i32⟩
  | 34 => ⟨S16x32x16384, .i1⟩
  | 35 => ⟨S_, .i32⟩
  | 36 => ⟨S16x32x16384, .i32⟩
  | 37 => ⟨S16x32x16384, .i32⟩
  | 38 => ⟨S16x32x16384, .i32⟩
  | 39 => ⟨S16x32x16384x1, .i32⟩
  | 40 => ⟨S1, .i32⟩
  | 41 => ⟨S_, .i32⟩
  | 42 => ⟨S16x32x16384x1, .i32⟩
  | 43 => ⟨S16x32x16384x1, .i1⟩
  | 44 => ⟨S1x1x1x1, .i32⟩
  | 45 => ⟨S16x32x16384x1, .i32⟩
  | 46 => ⟨S16x32x16384x1, .i1⟩
  | 47 => ⟨S16x32x16384x1, .i1⟩
  | 48 => ⟨S_, .i1⟩
  | 49 => ⟨S16x32x16384, .i1⟩
  | 50 => ⟨S16x32x16384, .f32⟩
  | 51 => ⟨S_, .f32⟩
  | 52 => ⟨S16x32x16384, .f32⟩
  | 53 => ⟨S16x32x16384, .f32⟩
  | 54 => ⟨S16x32x4096x4, .f32⟩
  | 55 => ⟨S16x1x4096x4, .i1⟩
  | 56 => ⟨S16x1x4096x4, .f32⟩
  | 57 => ⟨S16x32x4096x4, .f32⟩
  | 58 => ⟨S16x32x4096x4, .f32⟩
  | 59 => ⟨S16x1x4096x4, .f32⟩
  | 60 => ⟨S16x32x4096x4, .f32⟩
  | 61 => ⟨S16x32x4096x4, .f32⟩
  | 62 => ⟨S16x32x4096x4, .f32⟩
  | 63 => ⟨S_, .f32⟩
  | 64 => ⟨S16x4096x4, .f32⟩
  | 65 => ⟨S16x4096x4, .i1⟩
  | 66 => ⟨S_, .f32⟩
  | 67 => ⟨S16x4096x4, .f32⟩
  | 68 => ⟨S16x4096x4, .i1⟩
  | 69 => ⟨S16x4096x4, .i1⟩
  | 70 => ⟨S_, .f32⟩
  | 71 => ⟨S16x4096x4, .f32⟩
  | 72 => ⟨S16x4096x4, .i1⟩
  | 73 => ⟨S16x4096x4, .i1⟩
  | 74 => ⟨S_, .f32⟩
  | 75 => ⟨S16x4096x4, .f32⟩
  | 76 => ⟨S16x4096x4, .i1⟩
  | 77 => ⟨S16x4096x4, .i1⟩
  | 78 => ⟨S_, .i32⟩
  | 79 => ⟨S_, .i32⟩
  | 80 => ⟨S_, .f32⟩
  | 81 => ⟨S16x4096x4, .f32⟩
  | 82 => ⟨S16x4096x4, .f32⟩
  | 83 => ⟨S_, .f32⟩
  | 84 => ⟨S16x4096x4, .f32⟩
  | 85 => ⟨S16x4096x4, .f32⟩
  | 86 => ⟨S16x4096x4, .i32⟩
  | 87 => ⟨S_, .i32⟩
  | 88 => ⟨S_, .i32⟩
  | 89 => ⟨S_, .f32⟩
  | 90 => ⟨S16x4096x4, .f32⟩
  | 91 => ⟨S16x4096x4, .f32⟩
  | 92 => ⟨S_, .f32⟩
  | 93 => ⟨S16x4096x4, .f32⟩
  | 94 => ⟨S16x4096x4, .f32⟩
  | 95 => ⟨S16x4096x4, .i32⟩
  | 96 => ⟨S_, .i32⟩
  | 97 => ⟨S16x4096x4, .i32⟩
  | 98 => ⟨S16x4096x4, .i32⟩
  | 99 => ⟨S16x4096x4, .i32⟩
  | 100 => ⟨S16x16384, .i32⟩
  | 101 => ⟨S16x1x16384, .i32⟩
  | 102 => ⟨S16x32x16384, .i32⟩
  | 103 => ⟨S_, .i32⟩
  | 104 => ⟨S16x32x16384, .i32⟩
  | 105 => ⟨S16x32x16384, .i1⟩
  | 106 => ⟨S_, .i32⟩
  | 107 => ⟨S16x32x16384, .i32⟩
  | 108 => ⟨S16x32x16384, .i32⟩
  | 109 => ⟨S16x32x16384, .i32⟩
  | 110 => ⟨S16x32x16384x1, .i32⟩
  | 111 => ⟨S1, .i32⟩
  | 112 => ⟨S_, .i32⟩
  | 113 => ⟨S16x32x16384x1, .i32⟩
  | 114 => ⟨S16x32x16384x1, .i1⟩
  | 115 => ⟨S1x1x1x1, .i32⟩
  | 116 => ⟨S16x32x16384x1, .i32⟩
  | 117 => ⟨S16x32x16384x1, .i1⟩
  | 118 => ⟨S16x32x16384x1, .i1⟩
  | 119 => ⟨S_, .i1⟩
  | 120 => ⟨S16x32x16384, .i1⟩
  | 121 => ⟨S16x32x16384, .f32⟩
  | 122 => ⟨S_, .f32⟩
  | 123 => ⟨S16x32x16384, .f32⟩
  | 124 => ⟨S16x32x16384, .f32⟩
  | 125 => ⟨S16x32x4096x4, .f32⟩
  | 126 => ⟨S16x1x4096x4, .i1⟩
  | 127 => ⟨S16x1x4096x4, .f32⟩
  | _ => ⟨S4x2x256x32x32, .f32⟩

abbrev hbmTy0_32 (i : Nat) : BufTy := match i % 128 with
  | 0 => ⟨S16x32x4096x4, .f32⟩
  | 1 => ⟨S16x32x4096x4, .f32⟩
  | 2 => ⟨S16x1x4096x4, .f32⟩
  | 3 => ⟨S16x32x4096x4, .f32⟩
  | 4 => ⟨S16x32x4096x4, .f32⟩
  | 5 => ⟨S16x32x4096x4, .f32⟩
  | 6 => ⟨S2x1024x8x32, .f32⟩
  | 7 => ⟨S2x8x32x1024, .f32⟩
  | 8 => ⟨S16x32x32x32, .f32⟩
  | 9 => ⟨S2x4096x8x1x4x2, .f32⟩
  | 10 => ⟨S2x4096x8x4x2, .f32⟩
  | 11 => ⟨S2x8x4096x4x2, .f32⟩
  | 12 => ⟨S16x4096x4x2, .f32⟩
  | 13 => ⟨S16x4096x4x1, .f32⟩
  | 14 => ⟨S16x4096x4, .f32⟩
  | 15 => ⟨S_, .f32⟩
  | 16 => ⟨S16x4096x4, .f32⟩
  | 17 => ⟨S16x4096x4, .f32⟩
  | 18 => ⟨S_, .f32⟩
  | 19 => ⟨S16x4096x4, .f32⟩
  | 20 => ⟨S16x4096x4, .f32⟩
  | 21 => ⟨S_, .f32⟩
  | 22 => ⟨S16x4096x4, .f32⟩
  | 23 => ⟨S16x4096x4, .f32⟩
  | 24 => ⟨S_, .f32⟩
  | 25 => ⟨S16x4096x4, .f32⟩
  | 26 => ⟨S16x4096x4, .f32⟩
  | 27 => ⟨S16x4096x4x1, .f32⟩
  | 28 => ⟨S16x4096x4, .f32⟩
  | 29 => ⟨S_, .f32⟩
  | 30 => ⟨S16x4096x4, .f32⟩
  | 31 => ⟨S16x4096x4, .f32⟩
  | 32 => ⟨S_, .f32⟩
  | 33 => ⟨S16x4096x4, .f32⟩
  | 34 => ⟨S16x4096x4, .f32⟩
  | 35 => ⟨S_, .f32⟩
  | 36 => ⟨S16x4096x4, .f32⟩
  | 37 => ⟨S16x4096x4, .f32⟩
  | 38 => ⟨S_, .f32⟩
  | 39 => ⟨S16x4096x4, .f32⟩
  | 40 => ⟨S16x4096x4, .f32⟩
  | 41 => ⟨S16x4096x4, .f32⟩
  | 42 => ⟨S16x4096x4, .f32⟩
  | 43 => ⟨S_, .f32⟩
  | 44 => ⟨S16x4096x4, .f32⟩
  | 45 => ⟨S16x4096x4, .f32⟩
  | 46 => ⟨S_, .f32⟩
  | 47 => ⟨S16x4096x4, .f32⟩
  | 48 => ⟨S16x4096x4, .f32⟩
  | 49 => ⟨S16x4096x4, .f32⟩
  | 50 => ⟨S16x4096x4, .f32⟩
  | 51 => ⟨S16x4096x4, .f32⟩
  | 52 => ⟨S16x4096x4, .f32⟩
  | 53 => ⟨S16x4096x4, .f32⟩
  | 54 => ⟨S16x4096x4, .f32⟩
  | 55 => ⟨S16x4096x4, .f32⟩
  | 56 => ⟨S16x4096x4, .f32⟩
  | 57 => ⟨S16x4096x4, .f32⟩
  | 58 => ⟨S16x4096x4, .f32⟩
  | 59 => ⟨S16x4096x4, .f32⟩
  | 60 => ⟨S16x4096x4, .f32⟩
  | 61 => ⟨S16x32x1024, .f32⟩
  | 62 => ⟨S_, .f32⟩
  | 63 => ⟨S16x4096x4, .f32⟩
  | 64 => ⟨S16x4096x4, .i1⟩
  | 65 => ⟨S_, .f32⟩
  | 66 => ⟨S16x4096x4, .f32⟩
  | 67 => ⟨S16x4096x4, .i1⟩
  | 68 => ⟨S16x4096x4, .i1⟩
  | 69 => ⟨S_, .f32⟩
  | 70 => ⟨S16x4096x4, .f32⟩
  | 71 => ⟨S16x4096x4, .i1⟩
  | 72 => ⟨S16x4096x4, .i1⟩
  | 73 => ⟨S_, .f32⟩
  | 74 => ⟨S16x4096x4, .f32⟩
  | 75 => ⟨S16x4096x4, .i1⟩
  | 76 => ⟨S16x4096x4, .i1⟩
  | 77 => ⟨S_, .i32⟩
  | 78 => ⟨S_, .i32⟩
  | 79 => ⟨S_, .f32⟩
  | 80 => ⟨S16x4096x4, .f32⟩
  | 81 => ⟨S16x4096x4, .f32⟩
  | 82 => ⟨S_, .f32⟩
  | 83 => ⟨S16x4096x4, .f32⟩
  | 84 => ⟨S16x4096x4, .f32⟩
  | 85 => ⟨S16x4096x4, .i32⟩
  | 86 => ⟨S_, .i32⟩
  | 87 => ⟨S_, .i32⟩
  | 88 => ⟨S_, .f32⟩
  | 89 => ⟨S16x4096x4, .f32⟩
  | 90 => ⟨S16x4096x4, .f32⟩
  | 91 => ⟨S_, .f32⟩
  | 92 => ⟨S16x4096x4, .f32⟩
  | 93 => ⟨S16x4096x4, .f32⟩
  | 94 => ⟨S16x4096x4, .i32⟩
  | 95 => ⟨S_, .i32⟩
  | 96 => ⟨S16x4096x4, .i32⟩
  | 97 => ⟨S16x4096x4, .i32⟩
  | 98 => ⟨S16x4096x4, .i32⟩
  | 99 => ⟨S16x16384, .i32⟩
  | 100 => ⟨S16x1x16384, .i32⟩
  | 101 => ⟨S16x32x16384, .i32⟩
  | 102 => ⟨S_, .i32⟩
  | 103 => ⟨S16x32x16384, .i32⟩
  | 104 => ⟨S16x32x16384, .i1⟩
  | 105 => ⟨S_, .i32⟩
  | 106 => ⟨S16x32x16384, .i32⟩
  | 107 => ⟨S16x32x16384, .i32⟩
  | 108 => ⟨S16x32x16384, .i32⟩
  | 109 => ⟨S16x32x16384x1, .i32⟩
  | 110 => ⟨S1, .i32⟩
  | 111 => ⟨S_, .i32⟩
  | 112 => ⟨S16x32x16384x1, .i32⟩
  | 113 => ⟨S16x32x16384x1, .i1⟩
  | 114 => ⟨S1x1x1x1, .i32⟩
  | 115 => ⟨S16x32x16384x1, .i32⟩
  | 116 => ⟨S16x32x16384x1, .i1⟩
  | 117 => ⟨S16x32x16384x1, .i1⟩
  | 118 => ⟨S_, .i1⟩
  | 119 => ⟨S16x32x16384, .i1⟩
  | 120 => ⟨S16x32x16384, .f32⟩
  | 121 => ⟨S_, .f32⟩
  | 122 => ⟨S16x32x16384, .f32⟩
  | 123 => ⟨S16x32x16384, .f32⟩
  | 124 => ⟨S16x32x4096x4, .f32⟩
  | 125 => ⟨S16x1x4096x4, .i1⟩
  | 126 => ⟨S16x1x4096x4, .f32⟩
  | 127 => ⟨S16x32x4096x4, .f32⟩
  | _ => ⟨S4x2x256x32x32, .f32⟩

abbrev hbmTy0_33 (i : Nat) : BufTy := match i % 128 with
  | 0 => ⟨S16x32x4096x4, .f32⟩
  | 1 => ⟨S16x1x4096x4, .f32⟩
  | 2 => ⟨S16x32x4096x4, .f32⟩
  | 3 => ⟨S16x32x4096x4, .f32⟩
  | 4 => ⟨S_, .f32⟩
  | 5 => ⟨S16x4096x4, .f32⟩
  | 6 => ⟨S16x4096x4, .i1⟩
  | 7 => ⟨S_, .f32⟩
  | 8 => ⟨S16x4096x4, .f32⟩
  | 9 => ⟨S16x4096x4, .i1⟩
  | 10 => ⟨S16x4096x4, .i1⟩
  | 11 => ⟨S_, .f32⟩
  | 12 => ⟨S16x4096x4, .f32⟩
  | 13 => ⟨S16x4096x4, .i1⟩
  | 14 => ⟨S16x4096x4, .i1⟩
  | 15 => ⟨S_, .f32⟩
  | 16 => ⟨S16x4096x4, .f32⟩
  | 17 => ⟨S16x4096x4, .i1⟩
  | 18 => ⟨S16x4096x4, .i1⟩
  | 19 => ⟨S_, .i32⟩
  | 20 => ⟨S_, .i32⟩
  | 21 => ⟨S_, .f32⟩
  | 22 => ⟨S16x4096x4, .f32⟩
  | 23 => ⟨S16x4096x4, .f32⟩
  | 24 => ⟨S_, .f32⟩
  | 25 => ⟨S16x4096x4, .f32⟩
  | 26 => ⟨S16x4096x4, .f32⟩
  | 27 => ⟨S16x4096x4, .i32⟩
  | 28 => ⟨S_, .i32⟩
  | 29 => ⟨S_, .i32⟩
  | 30 => ⟨S_, .f32⟩
  | 31 => ⟨S16x4096x4, .f32⟩
  | 32 => ⟨S16x4096x4, .f32⟩
  | 33 => ⟨S_, .f32⟩
  | 34 => ⟨S16x4096x4, .f32⟩
  | 35 => ⟨S16x4096x4, .f32⟩
  | 36 => ⟨S16x4096x4, .i32⟩
  | 37 => ⟨S_, .i32⟩
  | 38 => ⟨S16x4096x4, .i32⟩
  | 39 => ⟨S16x4096x4, .i32⟩
  | 40 => ⟨S16x4096x4, .i32⟩
  | 41 => ⟨S16x16384, .i32⟩
  | 42 => ⟨S16x1x16384, .i32⟩
  | 43 => ⟨S16x32x16384, .i32⟩
  | 44 => ⟨S_, .i32⟩
  | 45 => ⟨S16x32x16384, .i32⟩
  | 46 => ⟨S16x32x16384, .i1⟩
  | 47 => ⟨S_, .i32⟩
  | 48 => ⟨S16x32x16384, .i32⟩
  | 49 => ⟨S16x32x16384, .i32⟩
  | 50 => ⟨S16x32x16384, .i32⟩
  | 51 => ⟨S16x32x16384x1, .i32⟩
  | 52 => ⟨S1, .i32⟩
  | 53 => ⟨S_, .i32⟩
  | 54 => ⟨S16x32x16384x1, .i32⟩
  | 55 => ⟨S16x32x16384x1, .i1⟩
  | 56 => ⟨S1x1x1x1, .i32⟩
  | 57 => ⟨S16x32x16384x1, .i32⟩
  | 58 => ⟨S16x32x16384x1, .i1⟩
  | 59 => ⟨S16x32x16384x1, .i1⟩
  | 60 => ⟨S_, .i1⟩
  | 61 => ⟨S16x32x16384, .i1⟩
  | 62 => ⟨S16x32x16384, .f32⟩
  | 63 => ⟨S_, .f32⟩
  | 64 => ⟨S16x32x16384, .f32⟩
  | 65 => ⟨S16x32x16384, .f32⟩
  | 66 => ⟨S16x32x4096x4, .f32⟩
  | 67 => ⟨S16x1x4096x4, .i1⟩
  | 68 => ⟨S16x1x4096x4, .f32⟩
  | 69 => ⟨S16x32x4096x4, .f32⟩
  | 70 => ⟨S16x32x4096x4, .f32⟩
  | 71 => ⟨S16x1x4096x4, .f32⟩
  | 72 => ⟨S16x32x4096x4, .f32⟩
  | 73 => ⟨S16x32x4096x4, .f32⟩
  | 74 => ⟨S16x32x4096x4, .f32⟩
  | 75 => ⟨S_, .f32⟩
  | 76 => ⟨S16x4096x4, .f32⟩
  | 77 => ⟨S16x4096x4, .i1⟩
  | 78 => ⟨S_, .f32⟩
  | 79 => ⟨S16x4096x4, .f32⟩
  | 80 => ⟨S16x4096x4, .i1⟩
  | 81 => ⟨S16x4096x4, .i1⟩
  | 82 => ⟨S_, .f32⟩
  | 83 => ⟨S16x4096x4, .f32⟩
  | 84 => ⟨S16x4096x4, .i1⟩
  | 85 => ⟨S16x4096x4, .i1⟩
  | 86 => ⟨S_, .f32⟩
  | 87 => ⟨S16x4096x4, .f32⟩
  | 88 => ⟨S16x4096x4, .i1⟩
  | 89 => ⟨S16x4096x4, .i1⟩
  | 90 => ⟨S_, .i32⟩
  | 91 => ⟨S_, .i32⟩
  | 92 => ⟨S_, .f32⟩
  | 93 => ⟨S16x4096x4, .f32⟩
  | 94 => ⟨S16x4096x4, .f32⟩
  | 95 => ⟨S_, .f32⟩
  | 96 => ⟨S16x4096x4, .f32⟩
  | 97 => ⟨S16x4096x4, .f32⟩
  | 98 => ⟨S16x4096x4, .i32⟩
  | 99 => ⟨S_, .i32⟩
  | 100 => ⟨S_, .i32⟩
  | 101 => ⟨S_, .f32⟩
  | 102 => ⟨S16x4096x4, .f32⟩
  | 103 => ⟨S16x4096x4, .f32⟩
  | 104 => ⟨S_, .f32⟩
  | 105 => ⟨S16x4096x4, .f32⟩
  | 106 => ⟨S16x4096x4, .f32⟩
  | 107 => ⟨S16x4096x4, .i32⟩
  | 108 => ⟨S_, .i32⟩
  | 109 => ⟨S16x4096x4, .i32⟩
  | 110 => ⟨S16x4096x4, .i32⟩
  | 111 => ⟨S16x4096x4, .i32⟩
  | 112 => ⟨S16x16384, .i32⟩
  | 113 => ⟨S16x1x16384, .i32⟩
  | 114 => ⟨S16x32x16384, .i32⟩
  | 115 => ⟨S_, .i32⟩
  | 116 => ⟨S16x32x16384, .i32⟩
  | 117 => ⟨S16x32x16384, .i1⟩
  | 118 => ⟨S_, .i32⟩
  | 119 => ⟨S16x32x16384, .i32⟩
  | 120 => ⟨S16x32x16384, .i32⟩
  | 121 => ⟨S16x32x16384, .i32⟩
  | 122 => ⟨S16x32x16384x1, .i32⟩
  | 123 => ⟨S1, .i32⟩
  | 124 => ⟨S_, .i32⟩
  | 125 => ⟨S16x32x16384x1, .i32⟩
  | 126 => ⟨S16x32x16384x1, .i1⟩
  | 127 => ⟨S1x1x1x1, .i32⟩
  | _ => ⟨S4x2x256x32x32, .f32⟩

abbrev hbmTy0_34 (i : Nat) : BufTy := match i % 128 with
  | 0 => ⟨S16x32x16384x1, .i32⟩
  | 1 => ⟨S16x32x16384x1, .i1⟩
  | 2 => ⟨S16x32x16384x1, .i1⟩
  | 3 => ⟨S_, .i1⟩
  | 4 => ⟨S16x32x16384, .i1⟩
  | 5 => ⟨S16x32x16384, .f32⟩
  | 6 => ⟨S_, .f32⟩
  | 7 => ⟨S16x32x16384, .f32⟩
  | 8 => ⟨S16x32x16384, .f32⟩
  | 9 => ⟨S16x32x4096x4, .f32⟩
  | 10 => ⟨S16x1x4096x4, .i1⟩
  | 11 => ⟨S16x1x4096x4, .f32⟩
  | 12 => ⟨S16x32x4096x4, .f32⟩
  | 13 => ⟨S16x32x4096x4, .f32⟩
  | 14 => ⟨S16x1x4096x4, .f32⟩
  | 15 => ⟨S16x32x4096x4, .f32⟩
  | 16 => ⟨S16x32x4096x4, .f32⟩
  | 17 => ⟨S16x32x4096x4, .f32⟩
  | 18 => ⟨S_, .f32⟩
  | 19 => ⟨S16x4096x4, .f32⟩
  | 20 => ⟨S16x4096x4, .i1⟩
  | 21 => ⟨S_, .f32⟩
  | 22 => ⟨S16x4096x4, .f32⟩
  | 23 => ⟨S16x4096x4, .i1⟩
  | 24 => ⟨S16x4096x4, .i1⟩
  | 25 => ⟨S_, .f32⟩
  | 26 => ⟨S16x4096x4, .f32⟩
  | 27 => ⟨S16x4096x4, .i1⟩
  | 28 => ⟨S16x4096x4, .i1⟩
  | 29 => ⟨S_, .f32⟩
  | 30 => ⟨S16x4096x4, .f32⟩
  | 31 => ⟨S16x4096x4, .i1⟩
  | 32 => ⟨S16x4096x4, .i1⟩
  | 33 => ⟨S_, .i32⟩
  | 34 => ⟨S_, .i32⟩
  | 35 => ⟨S_, .f32⟩
  | 36 => ⟨S16x4096x4, .f32⟩
  | 37 => ⟨S16x4096x4, .f32⟩
  | 38 => ⟨S_, .f32⟩
  | 39 => ⟨S16x4096x4, .f32⟩
  | 40 => ⟨S16x4096x4, .f32⟩
  | 41 => ⟨S16x4096x4, .i32⟩
  | 42 => ⟨S_, .i32⟩
  | 43 => ⟨S_, .i32⟩
  | 44 => ⟨S_, .f32⟩
  | 45 => ⟨S16x4096x4, .f32⟩
  | 46 => ⟨S16x4096x4, .f32⟩
  | 47 => ⟨S_, .f32⟩
  | 48 => ⟨S16x4096x4, .f32⟩
  | 49 => ⟨S16x4096x4, .f32⟩
  | 50 => ⟨S16x4096x4, .i32⟩
  | 51 => ⟨S_, .i32⟩
  | 52 => ⟨S16x4096x4, .i32⟩
  | 53 => ⟨S16x4096x4, .i32⟩
  | 54 => ⟨S16x4096x4, .i32⟩
  | 55 => ⟨S16x16384, .i32⟩
  | 56 => ⟨S16x1x16384, .i32⟩
  | 57 => ⟨S16x32x16384, .i32⟩
  | 58 => ⟨S_, .i32⟩
  | 59 => ⟨S16x32x16384, .i32⟩
  | 60 => ⟨S16x32x16384, .i1⟩
  | 61 => ⟨S_, .i32⟩
  | 62 => ⟨S16x32x16384, .i32⟩
  | 63 => ⟨S16x32x16384, .i32⟩
  | 64 => ⟨S16x32x16384, .i32⟩
  | 65 => ⟨S16x32x16384x1, .i32⟩
  | 66 => ⟨S1, .i32⟩
  | 67 => ⟨S_, .i32⟩
  | 68 => ⟨S16x32x16384x1, .i32⟩
  | 69 => ⟨S16x32x16384x1, .i1⟩
  | 70 => ⟨S1x1x1x1, .i32⟩
  | 71 => ⟨S16x32x16384x1, .i32⟩
  | 72 => ⟨S16x32x16384x1, .i1⟩
  | 73 => ⟨S16x32x16384x1, .i1⟩
  | 74 => ⟨S_, .i1⟩
  | 75 => ⟨S16x32x16384, .i1⟩
  | 76 => ⟨S16x32x16384, .f32⟩
  | 77 => ⟨S_, .f32⟩
  | 78 => ⟨S16x32x16384, .f32⟩
  | 79 => ⟨S16x32x16384, .f32⟩
  | 80 => ⟨S16x32x4096x4, .f32⟩
  | 81 => ⟨S16x1x4096x4, .i1⟩
  | 82 => ⟨S16x1x4096x4, .f32⟩
  | 83 => ⟨S16x32x4096x4, .f32⟩
  | 84 => ⟨S16x32x4096x4, .f32⟩
  | 85 => ⟨S16x1x4096x4, .f32⟩
  | 86 => ⟨S16x32x4096x4, .f32⟩
  | 87 => ⟨S16x32x4096x4, .f32⟩
  | 88 => ⟨S16x32x4096x4, .f32⟩
  | 89 => ⟨S2x1024x8x32, .f32⟩
  | 90 => ⟨S2x8x32x1024, .f32⟩
  | 91 => ⟨S16x32x32x32, .f32⟩
  | 92 => ⟨S2x4096x8x1x4x2, .f32⟩
  | 93 => ⟨S2x4096x8x4x2, .f32⟩
  | 94 => ⟨S2x8x4096x4x2, .f32⟩
  | 95 => ⟨S16x4096x4x2, .f32⟩
  | 96 => ⟨S16x4096x4x1, .f32⟩
  | 97 => ⟨S16x4096x4, .f32⟩
  | 98 => ⟨S_, .f32⟩
  | 99 => ⟨S16x4096x4, .f32⟩
  | 100 => ⟨S16x4096x4, .f32⟩
  | 101 => ⟨S_, .f32⟩
  | 102 => ⟨S16x4096x4, .f32⟩
  | 103 => ⟨S16x4096x4, .f32⟩
  | 104 => ⟨S_, .f32⟩
  | 105 => ⟨S16x4096x4, .f32⟩
  | 106 => ⟨S16x4096x4, .f32⟩
  | 107 => ⟨S_, .f32⟩
  | 108 => ⟨S16x4096x4, .f32⟩
  | 109 => ⟨S16x4096x4, .f32⟩
  | 110 => ⟨S16x4096x4x1, .f32⟩
  | 111 => ⟨S16x4096x4, .f32⟩
  | 112 => ⟨S_, .f32⟩
  | 113 => ⟨S16x4096x4, .f32⟩
  | 114 => ⟨S16x4096x4, .f32⟩
  | 115 => ⟨S_, .f32⟩
  | 116 => ⟨S16x4096x4, .f32⟩
  | 117 => ⟨S16x4096x4, .f32⟩
  | 118 => ⟨S_, .f32⟩
  | 119 => ⟨S16x4096x4, .f32⟩
  | 120 => ⟨S16x4096x4, .f32⟩
  | 121 => ⟨S_, .f32⟩
  | 122 => ⟨S16x4096x4, .f32⟩
  | 123 => ⟨S16x4096x4, .f32⟩
  | 124 => ⟨S16x4096x4, .f32⟩
  | 125 => ⟨S16x4096x4, .f32⟩
  | 126 => ⟨S_, .f32⟩
  | 127 => ⟨S16x4096x4, .f32⟩
  | _ => ⟨S4x2x256x32x32, .f32⟩

abbrev hbmTy0_35 (i : Nat) : BufTy := match i % 128 with
  | 0 => ⟨S16x4096x4, .f32⟩
  | 1 => ⟨S_, .f32⟩
  | 2 => ⟨S16x4096x4, .f32⟩
  | 3 => ⟨S16x4096x4, .f32⟩
  | 4 => ⟨S16x4096x4, .f32⟩
  | 5 => ⟨S16x4096x4, .f32⟩
  | 6 => ⟨S16x4096x4, .f32⟩
  | 7 => ⟨S16x4096x4, .f32⟩
  | 8 => ⟨S16x4096x4, .f32⟩
  | 9 => ⟨S16x4096x4, .f32⟩
  | 10 => ⟨S16x4096x4, .f32⟩
  | 11 => ⟨S16x4096x4, .f32⟩
  | 12 => ⟨S16x4096x4, .f32⟩
  | 13 => ⟨S16x4096x4, .f32⟩
  | 14 => ⟨S16x4096x4, .f32⟩
  | 15 => ⟨S16x4096x4, .f32⟩
  | 16 => ⟨S16x32x1024, .f32⟩
  | 17 => ⟨S_, .f32⟩
  | 18 => ⟨S16x4096x4, .f32⟩
  | 19 => ⟨S16x4096x4, .i1⟩
  | 20 => ⟨S_, .f32⟩
  | 21 => ⟨S16x4096x4, .f32⟩
  | 22 => ⟨S16x4096x4, .i1⟩
  | 23 => ⟨S16x4096x4, .i1⟩
  | 24 => ⟨S_, .f32⟩
  | 25 => ⟨S16x4096x4, .f32⟩
  | 26 => ⟨S16x4096x4, .i1⟩
  | 27 => ⟨S16x4096x4, .i1⟩
  | 28 => ⟨S_, .f32⟩
  | 29 => ⟨S16x4096x4, .f32⟩
  | 30 => ⟨S16x4096x4, .i1⟩
  | 31 => ⟨S16x4096x4, .i1⟩
  | 32 => ⟨S_, .i32⟩
  | 33 => ⟨S_, .i32⟩
  | 34 => ⟨S_, .f32⟩
  | 35 => ⟨S16x4096x4, .f32⟩
  | 36 => ⟨S16x4096x4, .f32⟩
  | 37 => ⟨S_, .f32⟩
  | 38 => ⟨S16x4096x4, .f32⟩
  | 39 => ⟨S16x4096x4, .f32⟩
  | 40 => ⟨S16x4096x4, .i32⟩
  | 41 => ⟨S_, .i32⟩
  | 42 => ⟨S_, .i32⟩
  | 43 => ⟨S_, .f32⟩
  | 44 => ⟨S16x4096x4, .f32⟩
  | 45 => ⟨S16x4096x4, .f32⟩
  | 46 => ⟨S_, .f32⟩
  | 47 => ⟨S16x4096x4, .f32⟩
  | 48 => ⟨S16x4096x4, .f32⟩
  | 49 => ⟨S16x4096x4, .i32⟩
  | 50 => ⟨S_, .i32⟩
  | 51 => ⟨S16x4096x4, .i32⟩
  | 52 => ⟨S16x4096x4, .i32⟩
  | 53 => ⟨S16x4096x4, .i32⟩
  | 54 => ⟨S16x16384, .i32⟩
  | 55 => ⟨S16x1x16384, .i32⟩
  | 56 => ⟨S16x32x16384, .i32⟩
  | 57 => ⟨S_, .i32⟩
  | 58 => ⟨S16x32x16384, .i32⟩
  | 59 => ⟨S16x32x16384, .i1⟩
  | 60 => ⟨S_, .i32⟩
  | 61 => ⟨S16x32x16384, .i32⟩
  | 62 => ⟨S16x32x16384, .i32⟩
  | 63 => ⟨S16x32x16384, .i32⟩
  | 64 => ⟨S16x32x16384x1, .i32⟩
  | 65 => ⟨S1, .i32⟩
  | 66 => ⟨S_, .i32⟩
  | 67 => ⟨S16x32x16384x1, .i32⟩
  | 68 => ⟨S16x32x16384x1, .i1⟩
  | 69 => ⟨S1x1x1x1, .i32⟩
  | 70 => ⟨S16x32x16384x1, .i32⟩
  | 71 => ⟨S16x32x16384x1, .i1⟩
  | 72 => ⟨S16x32x16384x1, .i1⟩
  | 73 => ⟨S_, .i1⟩
  | 74 => ⟨S16x32x16384, .i1⟩
  | 75 => ⟨S16x32x16384, .f32⟩
  | 76 => ⟨S_, .f32⟩
  | 77 => ⟨S16x32x16384, .f32⟩
  | 78 => ⟨S16x32x16384, .f32⟩
  | 79 => ⟨S16x32x4096x4, .f32⟩
  | 80 => ⟨S16x1x4096x4, .i1⟩
  | 81 => ⟨S16x1x4096x4, .f32⟩
  | 82 => ⟨S16x32x4096x4, .f32⟩
  | 83 => ⟨S16x32x4096x4, .f32⟩
  | 84 => ⟨S16x1x4096x4, .f32⟩
  | 85 => ⟨S16x32x4096x4, .f32⟩
  | 86 => ⟨S16x32x4096x4, .f32⟩
  | 87 => ⟨S_, .f32⟩
  | 88 => ⟨S16x4096x4, .f32⟩
  | 89 => ⟨S16x4096x4, .i1⟩
  | 90 => ⟨S_, .f32⟩
  | 91 => ⟨S16x4096x4, .f32⟩
  | 92 => ⟨S16x4096x4, .i1⟩
  | 93 => ⟨S16x4096x4, .i1⟩
  | 94 => ⟨S_, .f32⟩
  | 95 => ⟨S16x4096x4, .f32⟩
  | 96 => ⟨S16x4096x4, .i1⟩
  | 97 => ⟨S16x4096x4, .i1⟩
  | 98 => ⟨S_, .f32⟩
  | 99 => ⟨S16x4096x4, .f32⟩
  | 100 => ⟨S16x4096x4, .i1⟩
  | 101 => ⟨S16x4096x4, .i1⟩
  | 102 => ⟨S_, .i32⟩
  | 103 => ⟨S_, .i32⟩
  | 104 => ⟨S_, .f32⟩
  | 105 => ⟨S16x4096x4, .f32⟩
  | 106 => ⟨S16x4096x4, .f32⟩
  | 107 => ⟨S_, .f32⟩
  | 108 => ⟨S16x4096x4, .f32⟩
  | 109 => ⟨S16x4096x4, .f32⟩
  | 110 => ⟨S16x4096x4, .i32⟩
  | 111 => ⟨S_, .i32⟩
  | 112 => ⟨S_, .i32⟩
  | 113 => ⟨S_, .f32⟩
  | 114 => ⟨S16x4096x4, .f32⟩
  | 115 => ⟨S16x4096x4, .f32⟩
  | 116 => ⟨S_, .f32⟩
  | 117 => ⟨S16x4096x4, .f32⟩
  | 118 => ⟨S16x4096x4, .f32⟩
  | 119 => ⟨S16x4096x4, .i32⟩
  | 120 => ⟨S_, .i32⟩
  | 121 => ⟨S16x4096x4, .i32⟩
  | 122 => ⟨S16x4096x4, .i32⟩
  | 123 => ⟨S16x4096x4, .i32⟩
  | 124 => ⟨S16x16384, .i32⟩
  | 125 => ⟨S16x1x16384, .i32⟩
  | 126 => ⟨S16x32x16384, .i32⟩
  | 127 => ⟨S_, .i32⟩
  | _ => ⟨S4x2x256x32x32, .f32⟩

abbrev hbmTy0_36 (i : Nat) : BufTy := match i % 128 with
  | 0 => ⟨S16x32x16384, .i32⟩
  | 1 => ⟨S16x32x16384, .i1⟩
  | 2 => ⟨S_, .i32⟩
  | 3 => ⟨S16x32x16384, .i32⟩
  | 4 => ⟨S16x32x16384, .i32⟩
  | 5 => ⟨S16x32x16384, .i32⟩
  | 6 => ⟨S16x32x16384x1, .i32⟩
  | 7 => ⟨S1, .i32⟩
  | 8 => ⟨S_, .i32⟩
  | 9 => ⟨S16x32x16384x1, .i32⟩
  | 10 => ⟨S16x32x16384x1, .i1⟩
  | 11 => ⟨S1x1x1x1, .i32⟩
  | 12 => ⟨S16x32x16384x1, .i32⟩
  | 13 => ⟨S16x32x16384x1, .i1⟩
  | 14 => ⟨S16x32x16384x1, .i1⟩
  | 15 => ⟨S_, .i1⟩
  | 16 => ⟨S16x32x16384, .i1⟩
  | 17 => ⟨S16x32x16384, .f32⟩
  | 18 => ⟨S_, .f32⟩
  | 19 => ⟨S16x32x16384, .f32⟩
  | 20 => ⟨S16x32x16384, .f32⟩
  | 21 => ⟨S16x32x4096x4, .f32⟩
  | 22 => ⟨S16x1x4096x4, .i1⟩
  | 23 => ⟨S16x1x4096x4, .f32⟩
  | 24 => ⟨S16x32x4096x4, .f32⟩
  | 25 => ⟨S16x32x4096x4, .f32⟩
  | 26 => ⟨S16x1x4096x4, .f32⟩
  | 27 => ⟨S16x32x4096x4, .f32⟩
  | 28 => ⟨S16x32x4096x4, .f32⟩
  | 29 => ⟨S16x32x4096x4, .f32⟩
  | 30 => ⟨S_, .f32⟩
  | 31 => ⟨S16x4096x4, .f32⟩
  | 32 => ⟨S16x4096x4, .i1⟩
  | 33 => ⟨S_, .f32⟩
  | 34 => ⟨S16x4096x4, .f32⟩
  | 35 => ⟨S16x4096x4, .i1⟩
  | 36 => ⟨S16x4096x4, .i1⟩
  | 37 => ⟨S_, .f32⟩
  | 38 => ⟨S16x4096x4, .f32⟩
  | 39 => ⟨S16x4096x4, .i1⟩
  | 40 => ⟨S16x4096x4, .i1⟩
  | 41 => ⟨S_, .f32⟩
  | 42 => ⟨S16x4096x4, .f32⟩
  | 43 => ⟨S16x4096x4, .i1⟩
  | 44 => ⟨S16x4096x4, .i1⟩
  | 45 => ⟨S_, .i32⟩
  | 46 => ⟨S_, .i32⟩
  | 47 => ⟨S_, .f32⟩
  | 48 => ⟨S16x4096x4, .f32⟩
  | 49 => ⟨S16x4096x4, .f32⟩
  | 50 => ⟨S_, .f32⟩
  | 51 => ⟨S16x4096x4, .f32⟩
  | 52 => ⟨S16x4096x4, .f32⟩
  | 53 => ⟨S16x4096x4, .i32⟩
  | 54 => ⟨S_, .i32⟩
  | 55 => ⟨S_, .i32⟩
  | 56 => ⟨S_, .f32⟩
  | 57 => ⟨S16x4096x4, .f32⟩
  | 58 => ⟨S16x4096x4, .f32⟩
  | 59 => ⟨S_, .f32⟩
  | 60 => ⟨S16x4096x4, .f32⟩
  | 61 => ⟨S16x4096x4, .f32⟩
  | 62 => ⟨S16x4096x4, .i32⟩
  | 63 => ⟨S_, .i32⟩
  | 64 => ⟨S16x4096x4, .i32⟩
  | 65 => ⟨S16x4096x4, .i32⟩
  | 66 => ⟨S16x4096x4, .i32⟩
  | 67 => ⟨S16x16384, .i32⟩
  | 68 => ⟨S16x1x16384, .i32⟩
  | 69 => ⟨S16x32x16384, .i32⟩
  | 70 => ⟨S_, .i32⟩
  | 71 => ⟨S16x32x16384, .i32⟩
  | 72 => ⟨S16x32x16384, .i1⟩
  | 73 => ⟨S_, .i32⟩
  | 74 => ⟨S16x32x16384, .i32⟩
  | 75 => ⟨S16x32x16384, .i32⟩
  | 76 => ⟨S16x32x16384, .i32⟩
  | 77 => ⟨S16x32x16384x1, .i32⟩
  | 78 => ⟨S1, .i32⟩
  | 79 => ⟨S_, .i32⟩
  | 80 => ⟨S16x32x16384x1, .i32⟩
  | 81 => ⟨S16x32x16384x1, .i1⟩
  | 82 => ⟨S1x1x1x1, .i32⟩
  | 83 => ⟨S16x32x16384x1, .i32⟩
  | 84 => ⟨S16x32x16384x1, .i1⟩
  | 85 => ⟨S16x32x16384x1, .i1⟩
  | 86 => ⟨S_, .i1⟩
  | 87 => ⟨S16x32x16384, .i1⟩
  | 88 => ⟨S16x32x16384, .f32⟩
  | 89 => ⟨S_, .f32⟩
  | 90 => ⟨S16x32x16384, .f32⟩
  | 91 => ⟨S16x32x16384, .f32⟩
  | 92 => ⟨S16x32x4096x4, .f32⟩
  | 93 => ⟨S16x1x4096x4, .i1⟩
  | 94 => ⟨S16x1x4096x4, .f32⟩
  | 95 => ⟨S16x32x4096x4, .f32⟩
  | 96 => ⟨S16x32x4096x4, .f32⟩
  | 97 => ⟨S16x1x4096x4, .f32⟩
  | 98 => ⟨S16x32x4096x4, .f32⟩
  | 99 => ⟨S16x32x4096x4, .f32⟩
  | 100 => ⟨S16x32x4096x4, .f32⟩
  | 101 => ⟨S_, .f32⟩
  | 102 => ⟨S16x4096x4, .f32⟩
  | 103 => ⟨S16x4096x4, .i1⟩
  | 104 => ⟨S_, .f32⟩
  | 105 => ⟨S16x4096x4, .f32⟩
  | 106 => ⟨S16x4096x4, .i1⟩
  | 107 => ⟨S16x4096x4, .i1⟩
  | 108 => ⟨S_, .f32⟩
  | 109 => ⟨S16x4096x4, .f32⟩
  | 110 => ⟨S16x4096x4, .i1⟩
  | 111 => ⟨S16x4096x4, .i1⟩
  | 112 => ⟨S_, .f32⟩
  | 113 => ⟨S16x4096x4, .f32⟩
  | 114 => ⟨S16x4096x4, .i1⟩
  | 115 => ⟨S16x4096x4, .i1⟩
  | 116 => ⟨S_, .i32⟩
  | 117 => ⟨S_, .i32⟩
  | 118 => ⟨S_, .f32⟩
  | 119 => ⟨S16x4096x4, .f32⟩
  | 120 => ⟨S16x4096x4, .f32⟩
  | 121 => ⟨S_, .f32⟩
  | 122 => ⟨S16x4096x4, .f32⟩
  | 123 => ⟨S16x4096x4, .f32⟩
  | 124 => ⟨S16x4096x4, .i32⟩
  | 125 => ⟨S_, .i32⟩
  | 126 => ⟨S_, .i32⟩
  | 127 => ⟨S_, .f32⟩
  | _ => ⟨S4x2x256x32x32, .f32⟩

abbrev hbmTy0_37 (i : Nat) : BufTy := match i % 128 with
  | 0 => ⟨S16x4096x4, .f32⟩
  | 1 => ⟨S16x4096x4, .f32⟩
  | 2 => ⟨S_, .f32⟩
  | 3 => ⟨S16x4096x4, .f32⟩
  | 4 => ⟨S16x4096x4, .f32⟩
  | 5 => ⟨S16x4096x4, .i32⟩
  | 6 => ⟨S_, .i32⟩
  | 7 => ⟨S16x4096x4, .i32⟩
  | 8 => ⟨S16x4096x4, .i32⟩
  | 9 => ⟨S16x4096x4, .i32⟩
  | 10 => ⟨S16x16384, .i32⟩
  | 11 => ⟨S16x1x16384, .i32⟩
  | 12 => ⟨S16x32x16384, .i32⟩
  | 13 => ⟨S_, .i32⟩
  | 14 => ⟨S16x32x16384, .i32⟩
  | 15 => ⟨S16x32x16384, .i1⟩
  | 16 => ⟨S_, .i32⟩
  | 17 => ⟨S16x32x16384, .i32⟩
  | 18 => ⟨S16x32x16384, .i32⟩
  | 19 => ⟨S16x32x16384, .i32⟩
  | 20 => ⟨S16x32x16384x1, .i32⟩
  | 21 => ⟨S1, .i32⟩
  | 22 => ⟨S_, .i32⟩
  | 23 => ⟨S16x32x16384x1, .i32⟩
  | 24 => ⟨S16x32x16384x1, .i1⟩
  | 25 => ⟨S1x1x1x1, .i32⟩
  | 26 => ⟨S16x32x16384x1, .i32⟩
  | 27 => ⟨S16x32x16384x1, .i1⟩
  | 28 => ⟨S16x32x16384x1, .i1⟩
  | 29 => ⟨S_, .i1⟩
  | 30 => ⟨S16x32x16384, .i1⟩
  | 31 => ⟨S16x32x16384, .f32⟩
  | 32 => ⟨S_, .f32⟩
  | 33 => ⟨S16x32x16384, .f32⟩
  | 34 => ⟨S16x32x16384, .f32⟩
  | 35 => ⟨S16x32x4096x4, .f32⟩
  | 36 => ⟨S16x1x4096x4, .i1⟩
  | 37 => ⟨S16x1x4096x4, .f32⟩
  | 38 => ⟨S16x32x4096x4, .f32⟩
  | 39 => ⟨S16x32x4096x4, .f32⟩
  | 40 => ⟨S16x1x4096x4, .f32⟩
  | 41 => ⟨S16x32x4096x4, .f32⟩
  | 42 => ⟨S16x32x4096x4, .f32⟩
  | 43 => ⟨S16x32x4096x4, .f32⟩
  | 44 => ⟨S16x32x4096x1x4, .f32⟩
  | 45 => ⟨S16x32x4096x1x4, .f32⟩
  | 46 => ⟨S16x32x4096x1x4, .f32⟩
  | 47 => ⟨S16x32x4096x1x4, .f32⟩
  | 48 => ⟨S16x32x4096x4x4, .f32⟩
  | 49 => ⟨S16x32x4096x16, .f32⟩
  | 50 => ⟨S2x8x4096x4x4, .f32⟩
  | 51 => ⟨S16x1x4096x16, .f32⟩
  | 52 => ⟨S16x32x4096x16, .f32⟩
  | 53 => ⟨S16x32x4096x16, .f32⟩
  | 54 => ⟨S_, .f32⟩
  | 55 => ⟨S16x32x4096, .f32⟩
  | 56 => ⟨S2x256x4096, .f32⟩
  | 57 => ⟨S2x4096x256, .f32⟩
  | 58 => ⟨S1x256x256, .f32⟩
  | 59 => ⟨S256x256, .f32⟩
  | 60 => ⟨S2x4096x256, .f32⟩
  | 61 => ⟨S1x256, .f32⟩
  | 62 => ⟨S256, .f32⟩
  | 63 => ⟨S1x1x256, .f32⟩
  | 64 => ⟨S2x4096x256, .f32⟩
  | 65 => ⟨S2x4096x256, .f32⟩
  | 66 => ⟨S2x4096x256, .f32⟩
  | 67 => ⟨S1x256, .f32⟩
  | 68 => ⟨S256, .f32⟩
  | 69 => ⟨S1x256, .f32⟩
  | 70 => ⟨S256, .f32⟩
  | 71 => ⟨S_, .f32⟩
  | 72 => ⟨S2x4096, .f32⟩
  | 73 => ⟨S2x4096x1, .f32⟩
  | 74 => ⟨S_, .f32⟩
  | 75 => ⟨S2x4096x1, .f32⟩
  | 76 => ⟨S2x4096x1, .f32⟩
  | 77 => ⟨S2x4096x256, .f32⟩
  | 78 => ⟨S2x4096x256, .f32⟩
  | 79 => ⟨S2x4096x256, .f32⟩
  | 80 => ⟨S_, .f32⟩
  | 81 => ⟨S2x4096, .f32⟩
  | 82 => ⟨S2x4096x1, .f32⟩
  | 83 => ⟨S_, .f32⟩
  | 84 => ⟨S2x4096x1, .f32⟩
  | 85 => ⟨S2x4096x1, .f32⟩
  | 86 => ⟨S2x4096x256, .f32⟩
  | 87 => ⟨S2x4096x256, .f32⟩
  | 88 => ⟨S_, .f32⟩
  | 89 => ⟨S2x4096x1, .f32⟩
  | 90 => ⟨S2x4096x1, .f32⟩
  | 91 => ⟨S2x4096x1, .f32⟩
  | 92 => ⟨S2x4096x256, .f32⟩
  | 93 => ⟨S2x4096x256, .f32⟩
  | 94 => ⟨S1x1x256, .f32⟩
  | 95 => ⟨S2x4096x256, .f32⟩
  | 96 => ⟨S2x4096x256, .f32⟩
  | 97 => ⟨S1x1x256, .f32⟩
  | 98 => ⟨S2x4096x256, .f32⟩
  | 99 => ⟨S2x4096x256, .f32⟩
  | 100 => ⟨S1x256x1024, .f32⟩
  | 101 => ⟨S256x1024, .f32⟩
  | 102 => ⟨S2x4096x1024, .f32⟩
  | 103 => ⟨S1x1024, .f32⟩
  | 104 => ⟨S1024, .f32⟩
  | 105 => ⟨S1x1x1024, .f32⟩
  | 106 => ⟨S2x4096x1024, .f32⟩
  | 107 => ⟨S2x4096x1024, .f32⟩
  | 108 => ⟨S_, .f32⟩
  | 109 => ⟨S2x4096x1024, .f32⟩
  | 110 => ⟨S2x4096x1024, .f32⟩
  | 111 => ⟨S1x1024x256, .f32⟩
  | 112 => ⟨S1024x256, .f32⟩
  | 113 => ⟨S2x4096x256, .f32⟩
  | 114 => ⟨S1x256, .f32⟩
  | 115 => ⟨S256, .f32⟩
  | 116 => ⟨S1x1x256, .f32⟩
  | 117 => ⟨S2x4096x256, .f32⟩
  | 118 => ⟨S2x4096x256, .f32⟩
  | 119 => ⟨S2x4096x256, .f32⟩
  | 120 => ⟨S1x256, .f32⟩
  | 121 => ⟨S256, .f32⟩
  | 122 => ⟨S1x256, .f32⟩
  | 123 => ⟨S256, .f32⟩
  | 124 => ⟨S_, .f32⟩
  | 125 => ⟨S2x4096, .f32⟩
  | 126 => ⟨S2x4096x1, .f32⟩
  | 127 => ⟨S_, .f32⟩
  | _ => ⟨S4x2x256x32x32, .f32⟩

abbrev hbmTy0_38 (i : Nat) : BufTy := match i % 128 with
  | 0 => ⟨S2x4096x1, .f32⟩
  | 1 => ⟨S2x4096x1, .f32⟩
  | 2 => ⟨S2x4096x256, .f32⟩
  | 3 => ⟨S2x4096x256, .f32⟩
  | 4 => ⟨S2x4096x256, .f32⟩
  | 5 => ⟨S_, .f32⟩
  | 6 => ⟨S2x4096, .f32⟩
  | 7 => ⟨S2x4096x1, .f32⟩
  | 8 => ⟨S_, .f32⟩
  | 9 => ⟨S2x4096x1, .f32⟩
  | 10 => ⟨S2x4096x1, .f32⟩
  | 11 => ⟨S2x4096x256, .f32⟩
  | 12 => ⟨S2x4096x256, .f32⟩
  | 13 => ⟨S_, .f32⟩
  | 14 => ⟨S2x4096x1, .f32⟩
  | 15 => ⟨S2x4096x1, .f32⟩
  | 16 => ⟨S2x4096x1, .f32⟩
  | 17 => ⟨S2x4096x256, .f32⟩
  | 18 => ⟨S2x4096x256, .f32⟩
  | 19 => ⟨S1x1x256, .f32⟩
  | 20 => ⟨S2x4096x256, .f32⟩
  | 21 => ⟨S2x4096x256, .f32⟩
  | 22 => ⟨S1x1x256, .f32⟩
  | 23 => ⟨S2x4096x256, .f32⟩
  | 24 => ⟨S2x4096x256, .f32⟩
  | 25 => ⟨S2x4096x256, .f32⟩
  | 26 => ⟨S1x256x256, .f32⟩
  | 27 => ⟨S256x256, .f32⟩
  | 28 => ⟨S2x4096x256, .f32⟩
  | 29 => ⟨S1x256, .f32⟩
  | 30 => ⟨S256, .f32⟩
  | 31 => ⟨S1x1x256, .f32⟩
  | 32 => ⟨S2x4096x256, .f32⟩
  | 33 => ⟨S2x4096x256, .f32⟩
  | 34 => ⟨S2x4096x8x32, .f32⟩
  | 35 => ⟨S1x256x256, .f32⟩
  | 36 => ⟨S256x256, .f32⟩
  | 37 => ⟨S2x4096x256, .f32⟩
  | 38 => ⟨S1x256, .f32⟩
  | 39 => ⟨S256, .f32⟩
  | 40 => ⟨S1x1x256, .f32⟩
  | 41 => ⟨S2x4096x256, .f32⟩
  | 42 => ⟨S2x4096x256, .f32⟩
  | 43 => ⟨S2x4096x8x4x4x2, .f32⟩
  | 44 => ⟨S1x256x128, .f32⟩
  | 45 => ⟨S256x128, .f32⟩
  | 46 => ⟨S2x4096x128, .f32⟩
  | 47 => ⟨S1x128, .f32⟩
  | 48 => ⟨S128, .f32⟩
  | 49 => ⟨S1x1x128, .f32⟩
  | 50 => ⟨S2x4096x128, .f32⟩
  | 51 => ⟨S2x4096x128, .f32⟩
  | 52 => ⟨S2x4096x8x16, .f32⟩
  | 53 => ⟨S_, .f32⟩
  | 54 => ⟨S2x4096x8, .f32⟩
  | 55 => ⟨S_, .f32⟩
  | 56 => ⟨S2x4096x8, .f32⟩
  | 57 => ⟨S2x4096x8, .f32⟩
  | 58 => ⟨S2x4096x8x1, .f32⟩
  | 59 => ⟨S2x4096x8x16, .f32⟩
  | 60 => ⟨S2x4096x8x16, .f32⟩
  | 61 => ⟨S2x4096x8x16, .f32⟩
  | 62 => ⟨S_, .f32⟩
  | 63 => ⟨S2x4096x8, .f32⟩
  | 64 => ⟨S2x4096x8x1, .f32⟩
  | 65 => ⟨S2x4096x8x16, .f32⟩
  | 66 => ⟨S2x4096x8x16, .f32⟩
  | 67 => ⟨S2x4096x8x4x4, .f32⟩
  | 68 => ⟨S2x4096x1x4x1x2, .f32⟩
  | 69 => ⟨S1x1x1x4x1x2, .f32⟩
  | 70 => ⟨S2x4096x8x4x4x2, .f32⟩
  | 71 => ⟨S2x4096x8x4x4x2, .f32⟩
  | 72 => ⟨S2x4096x8x4x4x2, .f32⟩
  | 73 => ⟨S2x4096x8x4x4x2, .f32⟩
  | 74 => ⟨S_, .f32⟩
  | 75 => ⟨S2x4096x8x4x4x2, .f32⟩
  | 76 => ⟨S2x4096x8x4x4x2, .f32⟩
  | 77 => ⟨S_, .f32⟩
  | 78 => ⟨S2x4096x8x4x4x2, .f32⟩
  | 79 => ⟨S2x4096x8x4x4x2, .f32⟩
  | 80 => ⟨S2x1024x8x32, .f32⟩
  | 81 => ⟨S2x8x32x1024, .f32⟩
  | 82 => ⟨S16x32x32x32, .f32⟩
  | 83 => ⟨S2x4096x8x1x4x2, .f32⟩
  | 84 => ⟨S2x4096x8x4x2, .f32⟩
  | 85 => ⟨S2x8x4096x4x2, .f32⟩
  | 86 => ⟨S16x4096x4x2, .f32⟩
  | 87 => ⟨S16x4096x4x1, .f32⟩
  | 88 => ⟨S16x4096x4, .f32⟩
  | 89 => ⟨S_, .f32⟩
  | 90 => ⟨S16x4096x4, .f32⟩
  | 91 => ⟨S16x4096x4, .f32⟩
  | 92 => ⟨S_, .f32⟩
  | 93 => ⟨S16x4096x4, .f32⟩
  | 94 => ⟨S16x4096x4, .f32⟩
  | 95 => ⟨S_, .f32⟩
  | 96 => ⟨S16x4096x4, .f32⟩
  | 97 => ⟨S16x4096x4, .f32⟩
  | 98 => ⟨S_, .f32⟩
  | 99 => ⟨S16x4096x4, .f32⟩
  | 100 => ⟨S16x4096x4, .f32⟩
  | 101 => ⟨S16x4096x4x1, .f32⟩
  | 102 => ⟨S16x4096x4, .f32⟩
  | 103 => ⟨S_, .f32⟩
  | 104 => ⟨S16x4096x4, .f32⟩
  | 105 => ⟨S16x4096x4, .f32⟩
  | 106 => ⟨S_, .f32⟩
  | 107 => ⟨S16x4096x4, .f32⟩
  | 108 => ⟨S16x4096x4, .f32⟩
  | 109 => ⟨S_, .f32⟩
  | 110 => ⟨S16x4096x4, .f32⟩
  | 111 => ⟨S16x4096x4, .f32⟩
  | 112 => ⟨S_, .f32⟩
  | 113 => ⟨S16x4096x4, .f32⟩
  | 114 => ⟨S16x4096x4, .f32⟩
  | 115 => ⟨S16x4096x4, .f32⟩
  | 116 => ⟨S16x4096x4, .f32⟩
  | 117 => ⟨S_, .f32⟩
  | 118 => ⟨S16x4096x4, .f32⟩
  | 119 => ⟨S16x4096x4, .f32⟩
  | 120 => ⟨S_, .f32⟩
  | 121 => ⟨S16x4096x4, .f32⟩
  | 122 => ⟨S16x4096x4, .f32⟩
  | 123 => ⟨S16x4096x4, .f32⟩
  | 124 => ⟨S16x4096x4, .f32⟩
  | 125 => ⟨S16x4096x4, .f32⟩
  | 126 => ⟨S16x4096x4, .f32⟩
  | 127 => ⟨S16x4096x4, .f32⟩
  | _ => ⟨S4x2x256x32x32, .f32⟩

abbrev hbmTy0_39 (i : Nat) : BufTy := match i % 128 with
  | 0 => ⟨S16x4096x4, .f32⟩
  | 1 => ⟨S16x4096x4, .f32⟩
  | 2 => ⟨S16x4096x4, .f32⟩
  | 3 => ⟨S16x4096x4, .f32⟩
  | 4 => ⟨S16x4096x4, .f32⟩
  | 5 => ⟨S16x4096x4, .f32⟩
  | 6 => ⟨S16x4096x4, .f32⟩
  | 7 => ⟨S16x32x1024, .f32⟩
  | 8 => ⟨S_, .f32⟩
  | 9 => ⟨S16x4096x4, .f32⟩
  | 10 => ⟨S16x4096x4, .i1⟩
  | 11 => ⟨S_, .f32⟩
  | 12 => ⟨S16x4096x4, .f32⟩
  | 13 => ⟨S16x4096x4, .i1⟩
  | 14 => ⟨S16x4096x4, .i1⟩
  | 15 => ⟨S_, .f32⟩
  | 16 => ⟨S16x4096x4, .f32⟩
  | 17 => ⟨S16x4096x4, .i1⟩
  | 18 => ⟨S16x4096x4, .i1⟩
  | 19 => ⟨S_, .f32⟩
  | 20 => ⟨S16x4096x4, .f32⟩
  | 21 => ⟨S16x4096x4, .i1⟩
  | 22 => ⟨S16x4096x4, .i1⟩
  | 23 => ⟨S_, .i32⟩
  | 24 => ⟨S_, .i32⟩
  | 25 => ⟨S_, .f32⟩
  | 26 => ⟨S16x4096x4, .f32⟩
  | 27 => ⟨S16x4096x4, .f32⟩
  | 28 => ⟨S_, .f32⟩
  | 29 => ⟨S16x4096x4, .f32⟩
  | 30 => ⟨S16x4096x4, .f32⟩
  | 31 => ⟨S16x4096x4, .i32⟩
  | 32 => ⟨S_, .i32⟩
  | 33 => ⟨S_, .i32⟩
  | 34 => ⟨S_, .f32⟩
  | 35 => ⟨S16x4096x4, .f32⟩
  | 36 => ⟨S16x4096x4, .f32⟩
  | 37 => ⟨S_, .f32⟩
  | 38 => ⟨S16x4096x4, .f32⟩
  | 39 => ⟨S16x4096x4, .f32⟩
  | 40 => ⟨S16x4096x4, .i32⟩
  | 41 => ⟨S_, .i32⟩
  | 42 => ⟨S16x4096x4, .i32⟩
  | 43 => ⟨S16x4096x4, .i32⟩
  | 44 => ⟨S16x4096x4, .i32⟩
  | 45 => ⟨S16x16384, .i32⟩
  | 46 => ⟨S16x1x16384, .i32⟩
  | 47 => ⟨S16x32x16384, .i32⟩
  | 48 => ⟨S_, .i32⟩
  | 49 => ⟨S16x32x16384, .i32⟩
  | 50 => ⟨S16x32x16384, .i1⟩
  | 51 => ⟨S_, .i32⟩
  | 52 => ⟨S16x32x16384, .i32⟩
  | 53 => ⟨S16x32x16384, .i32⟩
  | 54 => ⟨S16x32x16384, .i32⟩
  | 55 => ⟨S16x32x16384x1, .i32⟩
  | 56 => ⟨S1, .i32⟩
  | 57 => ⟨S_, .i32⟩
  | 58 => ⟨S16x32x16384x1, .i32⟩
  | 59 => ⟨S16x32x16384x1, .i1⟩
  | 60 => ⟨S1x1x1x1, .i32⟩
  | 61 => ⟨S16x32x16384x1, .i32⟩
  | 62 => ⟨S16x32x16384x1, .i1⟩
  | 63 => ⟨S16x32x16384x1, .i1⟩
  | 64 => ⟨S_, .i1⟩
  | 65 => ⟨S16x32x16384, .i1⟩
  | 66 => ⟨S16x32x16384, .f32⟩
  | 67 => ⟨S_, .f32⟩
  | 68 => ⟨S16x32x16384, .f32⟩
  | 69 => ⟨S16x32x16384, .f32⟩
  | 70 => ⟨S16x32x4096x4, .f32⟩
  | 71 => ⟨S16x1x4096x4, .i1⟩
  | 72 => ⟨S16x1x4096x4, .f32⟩
  | 73 => ⟨S16x32x4096x4, .f32⟩
  | 74 => ⟨S16x32x4096x4, .f32⟩
  | 75 => ⟨S16x1x4096x4, .f32⟩
  | 76 => ⟨S16x32x4096x4, .f32⟩
  | 77 => ⟨S16x32x4096x4, .f32⟩
  | 78 => ⟨S_, .f32⟩
  | 79 => ⟨S16x4096x4, .f32⟩
  | 80 => ⟨S16x4096x4, .i1⟩
  | 81 => ⟨S_, .f32⟩
  | 82 => ⟨S16x4096x4, .f32⟩
  | 83 => ⟨S16x4096x4, .i1⟩
  | 84 => ⟨S16x4096x4, .i1⟩
  | 85 => ⟨S_, .f32⟩
  | 86 => ⟨S16x4096x4, .f32⟩
  | 87 => ⟨S16x4096x4, .i1⟩
  | 88 => ⟨S16x4096x4, .i1⟩
  | 89 => ⟨S_, .f32⟩
  | 90 => ⟨S16x4096x4, .f32⟩
  | 91 => ⟨S16x4096x4, .i1⟩
  | 92 => ⟨S16x4096x4, .i1⟩
  | 93 => ⟨S_, .i32⟩
  | 94 => ⟨S_, .i32⟩
  | 95 => ⟨S_, .f32⟩
  | 96 => ⟨S16x4096x4, .f32⟩
  | 97 => ⟨S16x4096x4, .f32⟩
  | 98 => ⟨S_, .f32⟩
  | 99 => ⟨S16x4096x4, .f32⟩
  | 100 => ⟨S16x4096x4, .f32⟩
  | 101 => ⟨S16x4096x4, .i32⟩
  | 102 => ⟨S_, .i32⟩
  | 103 => ⟨S_, .i32⟩
  | 104 => ⟨S_, .f32⟩
  | 105 => ⟨S16x4096x4, .f32⟩
  | 106 => ⟨S16x4096x4, .f32⟩
  | 107 => ⟨S_, .f32⟩
  | 108 => ⟨S16x4096x4, .f32⟩
  | 109 => ⟨S16x4096x4, .f32⟩
  | 110 => ⟨S16x4096x4, .i32⟩
  | 111 => ⟨S_, .i32⟩
  | 112 => ⟨S16x4096x4, .i32⟩
  | 113 => ⟨S16x4096x4, .i32⟩
  | 114 => ⟨S16x4096x4, .i32⟩
  | 115 => ⟨S16x16384, .i32⟩
  | 116 => ⟨S16x1x16384, .i32⟩
  | 117 => ⟨S16x32x16384, .i32⟩
  | 118 => ⟨S_, .i32⟩
  | 119 => ⟨S16x32x16384, .i32⟩
  | 120 => ⟨S16x32x16384, .i1⟩
  | 121 => ⟨S_, .i32⟩
  | 122 => ⟨S16x32x16384, .i32⟩
  | 123 => ⟨S16x32x16384, .i32⟩
  | 124 => ⟨S16x32x16384, .i32⟩
  | 125 => ⟨S16x32x16384x1, .i32⟩
  | 126 => ⟨S1, .i32⟩
  | 127 => ⟨S_, .i32⟩
  | _ => ⟨S4x2x256x32x32, .f32⟩

abbrev hbmTy0_40 (i : Nat) : BufTy := match i % 128 with
  | 0 => ⟨S16x32x16384x1, .i32⟩
  | 1 => ⟨S16x32x16384x1, .i1⟩
  | 2 => ⟨S1x1x1x1, .i32⟩
  | 3 => ⟨S16x32x16384x1, .i32⟩
  | 4 => ⟨S16x32x16384x1, .i1⟩
  | 5 => ⟨S16x32x16384x1, .i1⟩
  | 6 => ⟨S_, .i1⟩
  | 7 => ⟨S16x32x16384, .i1⟩
  | 8 => ⟨S16x32x16384, .f32⟩
  | 9 => ⟨S_, .f32⟩
  | 10 => ⟨S16x32x16384, .f32⟩
  | 11 => ⟨S16x32x16384, .f32⟩
  | 12 => ⟨S16x32x4096x4, .f32⟩
  | 13 => ⟨S16x1x4096x4, .i1⟩
  | 14 => ⟨S16x1x4096x4, .f32⟩
  | 15 => ⟨S16x32x4096x4, .f32⟩
  | 16 => ⟨S16x32x4096x4, .f32⟩
  | 17 => ⟨S16x1x4096x4, .f32⟩
  | 18 => ⟨S16x32x4096x4, .f32⟩
  | 19 => ⟨S16x32x4096x4, .f32⟩
  | 20 => ⟨S16x32x4096x4, .f32⟩
  | 21 => ⟨S_, .f32⟩
  | 22 => ⟨S16x4096x4, .f32⟩
  | 23 => ⟨S16x4096x4, .i1⟩
  | 24 => ⟨S_, .f32⟩
  | 25 => ⟨S16x4096x4, .f32⟩
  | 26 => ⟨S16x4096x4, .i1⟩
  | 27 => ⟨S16x4096x4, .i1⟩
  | 28 => ⟨S_, .f32⟩
  | 29 => ⟨S16x4096x4, .f32⟩
  | 30 => ⟨S16x4096x4, .i1⟩
  | 31 => ⟨S16x4096x4, .i1⟩
  | 32 => ⟨S_, .f32⟩
  | 33 => ⟨S16x4096x4, .f32⟩
  | 34 => ⟨S16x4096x4, .i1⟩
  | 35 => ⟨S16x4096x4, .i1⟩
  | 36 => ⟨S_, .i32⟩
  | 37 => ⟨S_, .i32⟩
  | 38 => ⟨S_, .f32⟩
  | 39 => ⟨S16x4096x4, .f32⟩
  | 40 => ⟨S16x4096x4, .f32⟩
  | 41 => ⟨S_, .f32⟩
  | 42 => ⟨S16x4096x4, .f32⟩
  | 43 => ⟨S16x4096x4, .f32⟩
  | 44 => ⟨S16x4096x4, .i32⟩
  | 45 => ⟨S_, .i32⟩
  | 46 => ⟨S_, .i32⟩
  | 47 => ⟨S_, .f32⟩
  | 48 => ⟨S16x4096x4, .f32⟩
  | 49 => ⟨S16x4096x4, .f32⟩
  | 50 => ⟨S_, .f32⟩
  | 51 => ⟨S16x4096x4, .f32⟩
  | 52 => ⟨S16x4096x4, .f32⟩
  | 53 => ⟨S16x4096x4, .i32⟩
  | 54 => ⟨S_, .i32⟩
  | 55 => ⟨S16x4096x4, .i32⟩
  | 56 => ⟨S16x4096x4, .i32⟩
  | 57 => ⟨S16x4096x4, .i32⟩
  | 58 => ⟨S16x16384, .i32⟩
  | 59 => ⟨S16x1x16384, .i32⟩
  | 60 => ⟨S16x32x16384, .i32⟩
  | 61 => ⟨S_, .i32⟩
  | 62 => ⟨S16x32x16384, .i32⟩
  | 63 => ⟨S16x32x16384, .i1⟩
  | 64 => ⟨S_, .i32⟩
  | 65 => ⟨S16x32x16384, .i32⟩
  | 66 => ⟨S16x32x16384, .i32⟩
  | 67 => ⟨S16x32x16384, .i32⟩
  | 68 => ⟨S16x32x16384x1, .i32⟩
  | 69 => ⟨S1, .i32⟩
  | 70 => ⟨S_, .i32⟩
  | 71 => ⟨S16x32x16384x1, .i32⟩
  | 72 => ⟨S16x32x16384x1, .i1⟩
  | 73 => ⟨S1x1x1x1, .i32⟩
  | 74 => ⟨S16x32x16384x1, .i32⟩
  | 75 => ⟨S16x32x16384x1, .i1⟩
  | 76 => ⟨S16x32x16384x1, .i1⟩
  | 77 => ⟨S_, .i1⟩
  | 78 => ⟨S16x32x16384, .i1⟩
  | 79 => ⟨S16x32x16384, .f32⟩
  | 80 => ⟨S_, .f32⟩
  | 81 => ⟨S16x32x16384, .f32⟩
  | 82 => ⟨S16x32x16384, .f32⟩
  | 83 => ⟨S16x32x4096x4, .f32⟩
  | 84 => ⟨S16x1x4096x4, .i1⟩
  | 85 => ⟨S16x1x4096x4, .f32⟩
  | 86 => ⟨S16x32x4096x4, .f32⟩
  | 87 => ⟨S16x32x4096x4, .f32⟩
  | 88 => ⟨S16x1x4096x4, .f32⟩
  | 89 => ⟨S16x32x4096x4, .f32⟩
  | 90 => ⟨S16x32x4096x4, .f32⟩
  | 91 => ⟨S16x32x4096x4, .f32⟩
  | 92 => ⟨S_, .f32⟩
  | 93 => ⟨S16x4096x4, .f32⟩
  | 94 => ⟨S16x4096x4, .i1⟩
  | 95 => ⟨S_, .f32⟩
  | 96 => ⟨S16x4096x4, .f32⟩
  | 97 => ⟨S16x4096x4, .i1⟩
  | 98 => ⟨S16x4096x4, .i1⟩
  | 99 => ⟨S_, .f32⟩
  | 100 => ⟨S16x4096x4, .f32⟩
  | 101 => ⟨S16x4096x4, .i1⟩
  | 102 => ⟨S16x4096x4, .i1⟩
  | 103 => ⟨S_, .f32⟩
  | 104 => ⟨S16x4096x4, .f32⟩
  | 105 => ⟨S16x4096x4, .i1⟩
  | 106 => ⟨S16x4096x4, .i1⟩
  | 107 => ⟨S_, .i32⟩
  | 108 => ⟨S_, .i32⟩
  | 109 => ⟨S_, .f32⟩
  | 110 => ⟨S16x4096x4, .f32⟩
  | 111 => ⟨S16x4096x4, .f32⟩
  | 112 => ⟨S_, .f32⟩
  | 113 => ⟨S16x4096x4, .f32⟩
  | 114 => ⟨S16x4096x4, .f32⟩
  | 115 => ⟨S16x4096x4, .i32⟩
  | 116 => ⟨S_, .i32⟩
  | 117 => ⟨S_, .i32⟩
  | 118 => ⟨S_, .f32⟩
  | 119 => ⟨S16x4096x4, .f32⟩
  | 120 => ⟨S16x4096x4, .f32⟩
  | 121 => ⟨S_, .f32⟩
  | 122 => ⟨S16x4096x4, .f32⟩
  | 123 => ⟨S16x4096x4, .f32⟩
  | 124 => ⟨S16x4096x4, .i32⟩
  | 125 => ⟨S_, .i32⟩
  | 126 => ⟨S16x4096x4, .i32⟩
  | 127 => ⟨S16x4096x4, .i32⟩
  | _ => ⟨S4x2x256x32x32, .f32⟩

abbrev hbmTy0_41 (i : Nat) : BufTy := match i % 128 with
  | 0 => ⟨S16x4096x4, .i32⟩
  | 1 => ⟨S16x16384, .i32⟩
  | 2 => ⟨S16x1x16384, .i32⟩
  | 3 => ⟨S16x32x16384, .i32⟩
  | 4 => ⟨S_, .i32⟩
  | 5 => ⟨S16x32x16384, .i32⟩
  | 6 => ⟨S16x32x16384, .i1⟩
  | 7 => ⟨S_, .i32⟩
  | 8 => ⟨S16x32x16384, .i32⟩
  | 9 => ⟨S16x32x16384, .i32⟩
  | 10 => ⟨S16x32x16384, .i32⟩
  | 11 => ⟨S16x32x16384x1, .i32⟩
  | 12 => ⟨S1, .i32⟩
  | 13 => ⟨S_, .i32⟩
  | 14 => ⟨S16x32x16384x1, .i32⟩
  | 15 => ⟨S16x32x16384x1, .i1⟩
  | 16 => ⟨S1x1x1x1, .i32⟩
  | 17 => ⟨S16x32x16384x1, .i32⟩
  | 18 => ⟨S16x32x16384x1, .i1⟩
  | 19 => ⟨S16x32x16384x1, .i1⟩
  | 20 => ⟨S_, .i1⟩
  | 21 => ⟨S16x32x16384, .i1⟩
  | 22 => ⟨S16x32x16384, .f32⟩
  | 23 => ⟨S_, .f32⟩
  | 24 => ⟨S16x32x16384, .f32⟩
  | 25 => ⟨S16x32x16384, .f32⟩
  | 26 => ⟨S16x32x4096x4, .f32⟩
  | 27 => ⟨S16x1x4096x4, .i1⟩
  | 28 => ⟨S16x1x4096x4, .f32⟩
  | 29 => ⟨S16x32x4096x4, .f32⟩
  | 30 => ⟨S16x32x4096x4, .f32⟩
  | 31 => ⟨S16x1x4096x4, .f32⟩
  | 32 => ⟨S16x32x4096x4, .f32⟩
  | 33 => ⟨S16x32x4096x4, .f32⟩
  | 34 => ⟨S16x32x4096x4, .f32⟩
  | 35 => ⟨S2x1024x8x32, .f32⟩
  | 36 => ⟨S2x8x32x1024, .f32⟩
  | 37 => ⟨S16x32x32x32, .f32⟩
  | 38 => ⟨S2x4096x8x1x4x2, .f32⟩
  | 39 => ⟨S2x4096x8x4x2, .f32⟩
  | 40 => ⟨S2x8x4096x4x2, .f32⟩
  | 41 => ⟨S16x4096x4x2, .f32⟩
  | 42 => ⟨S16x4096x4x1, .f32⟩
  | 43 => ⟨S16x4096x4, .f32⟩
  | 44 => ⟨S_, .f32⟩
  | 45 => ⟨S16x4096x4, .f32⟩
  | 46 => ⟨S16x4096x4, .f32⟩
  | 47 => ⟨S_, .f32⟩
  | 48 => ⟨S16x4096x4, .f32⟩
  | 49 => ⟨S16x4096x4, .f32⟩
  | 50 => ⟨S_, .f32⟩
  | 51 => ⟨S16x4096x4, .f32⟩
  | 52 => ⟨S16x4096x4, .f32⟩
  | 53 => ⟨S_, .f32⟩
  | 54 => ⟨S16x4096x4, .f32⟩
  | 55 => ⟨S16x4096x4, .f32⟩
  | 56 => ⟨S16x4096x4x1, .f32⟩
  | 57 => ⟨S16x4096x4, .f32⟩
  | 58 => ⟨S_, .f32⟩
  | 59 => ⟨S16x4096x4, .f32⟩
  | 60 => ⟨S16x4096x4, .f32⟩
  | 61 => ⟨S_, .f32⟩
  | 62 => ⟨S16x4096x4, .f32⟩
  | 63 => ⟨S16x4096x4, .f32⟩
  | 64 => ⟨S_, .f32⟩
  | 65 => ⟨S16x4096x4, .f32⟩
  | 66 => ⟨S16x4096x4, .f32⟩
  | 67 => ⟨S_, .f32⟩
  | 68 => ⟨S16x4096x4, .f32⟩
  | 69 => ⟨S16x4096x4, .f32⟩
  | 70 => ⟨S16x4096x4, .f32⟩
  | 71 => ⟨S16x4096x4, .f32⟩
  | 72 => ⟨S_, .f32⟩
  | 73 => ⟨S16x4096x4, .f32⟩
  | 74 => ⟨S16x4096x4, .f32⟩
  | 75 => ⟨S_, .f32⟩
  | 76 => ⟨S16x4096x4, .f32⟩
  | 77 => ⟨S16x4096x4, .f32⟩
  | 78 => ⟨S16x4096x4, .f32⟩
  | 79 => ⟨S16x4096x4, .f32⟩
  | 80 => ⟨S16x4096x4, .f32⟩
  | 81 => ⟨S16x4096x4, .f32⟩
  | 82 => ⟨S16x4096x4, .f32⟩
  | 83 => ⟨S16x4096x4, .f32⟩
  | 84 => ⟨S16x4096x4, .f32⟩
  | 85 => ⟨S16x4096x4, .f32⟩
  | 86 => ⟨S16x4096x4, .f32⟩
  | 87 => ⟨S16x4096x4, .f32⟩
  | 88 => ⟨S16x4096x4, .f32⟩
  | 89 => ⟨S16x4096x4, .f32⟩
  | 90 => ⟨S16x32x1024, .f32⟩
  | 91 => ⟨S_, .f32⟩
  | 92 => ⟨S16x4096x4, .f32⟩
  | 93 => ⟨S16x4096x4, .i1⟩
  | 94 => ⟨S_, .f32⟩
  | 95 => ⟨S16x4096x4, .f32⟩
  | 96 => ⟨S16x4096x4, .i1⟩
  | 97 => ⟨S16x4096x4, .i1⟩
  | 98 => ⟨S_, .f32⟩
  | 99 => ⟨S16x4096x4, .f32⟩
  | 100 => ⟨S16x4096x4, .i1⟩
  | 101 => ⟨S16x4096x4, .i1⟩
  | 102 => ⟨S_, .f32⟩
  | 103 => ⟨S16x4096x4, .f32⟩
  | 104 => ⟨S16x4096x4, .i1⟩
  | 105 => ⟨S16x4096x4, .i1⟩
  | 106 => ⟨S_, .i32⟩
  | 107 => ⟨S_, .i32⟩
  | 108 => ⟨S_, .f32⟩
  | 109 => ⟨S16x4096x4, .f32⟩
  | 110 => ⟨S16x4096x4, .f32⟩
  | 111 => ⟨S_, .f32⟩
  | 112 => ⟨S16x4096x4, .f32⟩
  | 113 => ⟨S16x4096x4, .f32⟩
  | 114 => ⟨S16x4096x4, .i32⟩
  | 115 => ⟨S_, .i32⟩
  | 116 => ⟨S_, .i32⟩
  | 117 => ⟨S_, .f32⟩
  | 118 => ⟨S16x4096x4, .f32⟩
  | 119 => ⟨S16x4096x4, .f32⟩
  | 120 => ⟨S_, .f32⟩
  | 121 => ⟨S16x4096x4, .f32⟩
  | 122 => ⟨S16x4096x4, .f32⟩
  | 123 => ⟨S16x4096x4, .i32⟩
  | 124 => ⟨S_, .i32⟩
  | 125 => ⟨S16x4096x4, .i32⟩
  | 126 => ⟨S16x4096x4, .i32⟩
  | 127 => ⟨S16x4096x4, .i32⟩
  | _ => ⟨S4x2x256x32x32, .f32⟩

abbrev hbmTy0_42 (i : Nat) : BufTy := match i % 128 with
  | 0 => ⟨S16x16384, .i32⟩
  | 1 => ⟨S16x1x16384, .i32⟩
  | 2 => ⟨S16x32x16384, .i32⟩
  | 3 => ⟨S_, .i32⟩
  | 4 => ⟨S16x32x16384, .i32⟩
  | 5 => ⟨S16x32x16384, .i1⟩
  | 6 => ⟨S_, .i32⟩
  | 7 => ⟨S16x32x16384, .i32⟩
  | 8 => ⟨S16x32x16384, .i32⟩
  | 9 => ⟨S16x32x16384, .i32⟩
  | 10 => ⟨S16x32x16384x1, .i32⟩
  | 11 => ⟨S1, .i32⟩
  | 12 => ⟨S_, .i32⟩
  | 13 => ⟨S16x32x16384x1, .i32⟩
  | 14 => ⟨S16x32x16384x1, .i1⟩
  | 15 => ⟨S1x1x1x1, .i32⟩
  | 16 => ⟨S16x32x16384x1, .i32⟩
  | 17 => ⟨S16x32x16384x1, .i1⟩
  | 18 => ⟨S16x32x16384x1, .i1⟩
  | 19 => ⟨S_, .i1⟩
  | 20 => ⟨S16x32x16384, .i1⟩
  | 21 => ⟨S16x32x16384, .f32⟩
  | 22 => ⟨S_, .f32⟩
  | 23 => ⟨S16x32x16384, .f32⟩
  | 24 => ⟨S16x32x16384, .f32⟩
  | 25 => ⟨S16x32x4096x4, .f32⟩
  | 26 => ⟨S16x1x4096x4, .i1⟩
  | 27 => ⟨S16x1x4096x4, .f32⟩
  | 28 => ⟨S16x32x4096x4, .f32⟩
  | 29 => ⟨S16x32x4096x4, .f32⟩
  | 30 => ⟨S16x1x4096x4, .f32⟩
  | 31 => ⟨S16x32x4096x4, .f32⟩
  | 32 => ⟨S16x32x4096x4, .f32⟩
  | 33 => ⟨S_, .f32⟩
  | 34 => ⟨S16x4096x4, .f32⟩
  | 35 => ⟨S16x4096x4, .i1⟩
  | 36 => ⟨S_, .f32⟩
  | 37 => ⟨S16x4096x4, .f32⟩
  | 38 => ⟨S16x4096x4, .i1⟩
  | 39 => ⟨S16x4096x4, .i1⟩
  | 40 => ⟨S_, .f32⟩
  | 41 => ⟨S16x4096x4, .f32⟩
  | 42 => ⟨S16x4096x4, .i1⟩
  | 43 => ⟨S16x4096x4, .i1⟩
  | 44 => ⟨S_, .f32⟩
  | 45 => ⟨S16x4096x4, .f32⟩
  | 46 => ⟨S16x4096x4, .i1⟩
  | 47 => ⟨S16x4096x4, .i1⟩
  | 48 => ⟨S_, .i32⟩
  | 49 => ⟨S_, .i32⟩
  | 50 => ⟨S_, .f32⟩
  | 51 => ⟨S16x4096x4, .f32⟩
  | 52 => ⟨S16x4096x4, .f32⟩
  | 53 => ⟨S_, .f32⟩
  | 54 => ⟨S16x4096x4, .f32⟩
  | 55 => ⟨S16x4096x4, .f32⟩
  | 56 => ⟨S16x4096x4, .i32⟩
  | 57 => ⟨S_, .i32⟩
  | 58 => ⟨S_, .i32⟩
  | 59 => ⟨S_, .f32⟩
  | 60 => ⟨S16x4096x4, .f32⟩
  | 61 => ⟨S16x4096x4, .f32⟩
  | 62 => ⟨S_, .f32⟩
  | 63 => ⟨S16x4096x4, .f32⟩
  | 64 => ⟨S16x4096x4, .f32⟩
  | 65 => ⟨S16x4096x4, .i32⟩
  | 66 => ⟨S_, .i32⟩
  | 67 => ⟨S16x4096x4, .i32⟩
  | 68 => ⟨S16x4096x4, .i32⟩
  | 69 => ⟨S16x4096x4, .i32⟩
  | 70 => ⟨S16x16384, .i32⟩
  | 71 => ⟨S16x1x16384, .i32⟩
  | 72 => ⟨S16x32x16384, .i32⟩
  | 73 => ⟨S_, .i32⟩
  | 74 => ⟨S16x32x16384, .i32⟩
  | 75 => ⟨S16x32x16384, .i1⟩
  | 76 => ⟨S_, .i32⟩
  | 77 => ⟨S16x32x16384, .i32⟩
  | 78 => ⟨S16x32x16384, .i32⟩
  | 79 => ⟨S16x32x16384, .i32⟩
  | 80 => ⟨S16x32x16384x1, .i32⟩
  | 81 => ⟨S1, .i32⟩
  | 82 => ⟨S_, .i32⟩
  | 83 => ⟨S16x32x16384x1, .i32⟩
  | 84 => ⟨S16x32x16384x1, .i1⟩
  | 85 => ⟨S1x1x1x1, .i32⟩
  | 86 => ⟨S16x32x16384x1, .i32⟩
  | 87 => ⟨S16x32x16384x1, .i1⟩
  | 88 => ⟨S16x32x16384x1, .i1⟩
  | 89 => ⟨S_, .i1⟩
  | 90 => ⟨S16x32x16384, .i1⟩
  | 91 => ⟨S16x32x16384, .f32⟩
  | 92 => ⟨S_, .f32⟩
  | 93 => ⟨S16x32x16384, .f32⟩
  | 94 => ⟨S16x32x16384, .f32⟩
  | 95 => ⟨S16x32x4096x4, .f32⟩
  | 96 => ⟨S16x1x4096x4, .i1⟩
  | 97 => ⟨S16x1x4096x4, .f32⟩
  | 98 => ⟨S16x32x4096x4, .f32⟩
  | 99 => ⟨S16x32x4096x4, .f32⟩
  | 100 => ⟨S16x1x4096x4, .f32⟩
  | 101 => ⟨S16x32x4096x4, .f32⟩
  | 102 => ⟨S16x32x4096x4, .f32⟩
  | 103 => ⟨S16x32x4096x4, .f32⟩
  | 104 => ⟨S_, .f32⟩
  | 105 => ⟨S16x4096x4, .f32⟩
  | 106 => ⟨S16x4096x4, .i1⟩
  | 107 => ⟨S_, .f32⟩
  | 108 => ⟨S16x4096x4, .f32⟩
  | 109 => ⟨S16x4096x4, .i1⟩
  | 110 => ⟨S16x4096x4, .i1⟩
  | 111 => ⟨S_, .f32⟩
  | 112 => ⟨S16x4096x4, .f32⟩
  | 113 => ⟨S16x4096x4, .i1⟩
  | 114 => ⟨S16x4096x4, .i1⟩
  | 115 => ⟨S_, .f32⟩
  | 116 => ⟨S16x4096x4, .f32⟩
  | 117 => ⟨S16x4096x4, .i1⟩
  | 118 => ⟨S16x4096x4, .i1⟩
  | 119 => ⟨S_, .i32⟩
  | 120 => ⟨S_, .i32⟩
  | 121 => ⟨S_, .f32⟩
  | 122 => ⟨S16x4096x4, .f32⟩
  | 123 => ⟨S16x4096x4, .f32⟩
  | 124 => ⟨S_, .f32⟩
  | 125 => ⟨S16x4096x4, .f32⟩
  | 126 => ⟨S16x4096x4, .f32⟩
  | 127 => ⟨S16x4096x4, .i32⟩
  | _ => ⟨S4x2x256x32x32, .f32⟩

abbrev hbmTy0_43 (i : Nat) : BufTy := match i % 128 with
  | 0 => ⟨S_, .i32⟩
  | 1 => ⟨S_, .i32⟩
  | 2 => ⟨S_, .f32⟩
  | 3 => ⟨S16x4096x4, .f32⟩
  | 4 => ⟨S16x4096x4, .f32⟩
  | 5 => ⟨S_, .f32⟩
  | 6 => ⟨S16x4096x4, .f32⟩
  | 7 => ⟨S16x4096x4, .f32⟩
  | 8 => ⟨S16x4096x4, .i32⟩
  | 9 => ⟨S_, .i32⟩
  | 10 => ⟨S16x4096x4, .i32⟩
  | 11 => ⟨S16x4096x4, .i32⟩
  | 12 => ⟨S16x4096x4, .i32⟩
  | 13 => ⟨S16x16384, .i32⟩
  | 14 => ⟨S16x1x16384, .i32⟩
  | 15 => ⟨S16x32x16384, .i32⟩
  | 16 => ⟨S_, .i32⟩
  | 17 => ⟨S16x32x16384, .i32⟩
  | 18 => ⟨S16x32x16384, .i1⟩
  | 19 => ⟨S_, .i32⟩
  | 20 => ⟨S16x32x16384, .i32⟩
  | 21 => ⟨S16x32x16384, .i32⟩
  | 22 => ⟨S16x32x16384, .i32⟩
  | 23 => ⟨S16x32x16384x1, .i32⟩
  | 24 => ⟨S1, .i32⟩
  | 25 => ⟨S_, .i32⟩
  | 26 => ⟨S16x32x16384x1, .i32⟩
  | 27 => ⟨S16x32x16384x1, .i1⟩
  | 28 => ⟨S1x1x1x1, .i32⟩
  | 29 => ⟨S16x32x16384x1, .i32⟩
  | 30 => ⟨S16x32x16384x1, .i1⟩
  | 31 => ⟨S16x32x16384x1, .i1⟩
  | 32 => ⟨S_, .i1⟩
  | 33 => ⟨S16x32x16384, .i1⟩
  | 34 => ⟨S16x32x16384, .f32⟩
  | 35 => ⟨S_, .f32⟩
  | 36 => ⟨S16x32x16384, .f32⟩
  | 37 => ⟨S16x32x16384, .f32⟩
  | 38 => ⟨S16x32x4096x4, .f32⟩
  | 39 => ⟨S16x1x4096x4, .i1⟩
  | 40 => ⟨S16x1x4096x4, .f32⟩
  | 41 => ⟨S16x32x4096x4, .f32⟩
  | 42 => ⟨S16x32x4096x4, .f32⟩
  | 43 => ⟨S16x1x4096x4, .f32⟩
  | 44 => ⟨S16x32x4096x4, .f32⟩
  | 45 => ⟨S16x32x4096x4, .f32⟩
  | 46 => ⟨S16x32x4096x4, .f32⟩
  | 47 => ⟨S_, .f32⟩
  | 48 => ⟨S16x4096x4, .f32⟩
  | 49 => ⟨S16x4096x4, .i1⟩
  | 50 => ⟨S_, .f32⟩
  | 51 => ⟨S16x4096x4, .f32⟩
  | 52 => ⟨S16x4096x4, .i1⟩
  | 53 => ⟨S16x4096x4, .i1⟩
  | 54 => ⟨S_, .f32⟩
  | 55 => ⟨S16x4096x4, .f32⟩
  | 56 => ⟨S16x4096x4, .i1⟩
  | 57 => ⟨S16x4096x4, .i1⟩
  | 58 => ⟨S_, .f32⟩
  | 59 => ⟨S16x4096x4, .f32⟩
  | 60 => ⟨S16x4096x4, .i1⟩
  | 61 => ⟨S16x4096x4, .i1⟩
  | 62 => ⟨S_, .i32⟩
  | 63 => ⟨S_, .i32⟩
  | 64 => ⟨S_, .f32⟩
  | 65 => ⟨S16x4096x4, .f32⟩
  | 66 => ⟨S16x4096x4, .f32⟩
  | 67 => ⟨S_, .f32⟩
  | 68 => ⟨S16x4096x4, .f32⟩
  | 69 => ⟨S16x4096x4, .f32⟩
  | 70 => ⟨S16x4096x4, .i32⟩
  | 71 => ⟨S_, .i32⟩
  | 72 => ⟨S_, .i32⟩
  | 73 => ⟨S_, .f32⟩
  | 74 => ⟨S16x4096x4, .f32⟩
  | 75 => ⟨S16x4096x4, .f32⟩
  | 76 => ⟨S_, .f32⟩
  | 77 => ⟨S16x4096x4, .f32⟩
  | 78 => ⟨S16x4096x4, .f32⟩
  | 79 => ⟨S16x4096x4, .i32⟩
  | 80 => ⟨S_, .i32⟩
  | 81 => ⟨S16x4096x4, .i32⟩
  | 82 => ⟨S16x4096x4, .i32⟩
  | 83 => ⟨S16x4096x4, .i32⟩
  | 84 => ⟨S16x16384, .i32⟩
  | 85 => ⟨S16x1x16384, .i32⟩
  | 86 => ⟨S16x32x16384, .i32⟩
  | 87 => ⟨S_, .i32⟩
  | 88 => ⟨S16x32x16384, .i32⟩
  | 89 => ⟨S16x32x16384, .i1⟩
  | 90 => ⟨S_, .i32⟩
  | 91 => ⟨S16x32x16384, .i32⟩
  | 92 => ⟨S16x32x16384, .i32⟩
  | 93 => ⟨S16x32x16384, .i32⟩
  | 94 => ⟨S16x32x16384x1, .i32⟩
  | 95 => ⟨S1, .i32⟩
  | 96 => ⟨S_, .i32⟩
  | 97 => ⟨S16x32x16384x1, .i32⟩
  | 98 => ⟨S16x32x16384x1, .i1⟩
  | 99 => ⟨S1x1x1x1, .i32⟩
  | 100 => ⟨S16x32x16384x1, .i32⟩
  | 101 => ⟨S16x32x16384x1, .i1⟩
  | 102 => ⟨S16x32x16384x1, .i1⟩
  | 103 => ⟨S_, .i1⟩
  | 104 => ⟨S16x32x16384, .i1⟩
  | 105 => ⟨S16x32x16384, .f32⟩
  | 106 => ⟨S_, .f32⟩
  | 107 => ⟨S16x32x16384, .f32⟩
  | 108 => ⟨S16x32x16384, .f32⟩
  | 109 => ⟨S16x32x4096x4, .f32⟩
  | 110 => ⟨S16x1x4096x4, .i1⟩
  | 111 => ⟨S16x1x4096x4, .f32⟩
  | 112 => ⟨S16x32x4096x4, .f32⟩
  | 113 => ⟨S16x32x4096x4, .f32⟩
  | 114 => ⟨S16x1x4096x4, .f32⟩
  | 115 => ⟨S16x32x4096x4, .f32⟩
  | 116 => ⟨S16x32x4096x4, .f32⟩
  | 117 => ⟨S16x32x4096x4, .f32⟩
  | 118 => ⟨S2x1024x8x32, .f32⟩
  | 119 => ⟨S2x8x32x1024, .f32⟩
  | 120 => ⟨S16x32x32x32, .f32⟩
  | 121 => ⟨S2x4096x8x1x4x2, .f32⟩
  | 122 => ⟨S2x4096x8x4x2, .f32⟩
  | 123 => ⟨S2x8x4096x4x2, .f32⟩
  | 124 => ⟨S16x4096x4x2, .f32⟩
  | 125 => ⟨S16x4096x4x1, .f32⟩
  | 126 => ⟨S16x4096x4, .f32⟩
  | 127 => ⟨S_, .f32⟩
  | _ => ⟨S4x2x256x32x32, .f32⟩

abbrev hbmTy0_44 (i : Nat) : BufTy := match i % 128 with
  | 0 => ⟨S16x4096x4, .f32⟩
  | 1 => ⟨S16x4096x4, .f32⟩
  | 2 => ⟨S_, .f32⟩
  | 3 => ⟨S16x4096x4, .f32⟩
  | 4 => ⟨S16x4096x4, .f32⟩
  | 5 => ⟨S_, .f32⟩
  | 6 => ⟨S16x4096x4, .f32⟩
  | 7 => ⟨S16x4096x4, .f32⟩
  | 8 => ⟨S_, .f32⟩
  | 9 => ⟨S16x4096x4, .f32⟩
  | 10 => ⟨S16x4096x4, .f32⟩
  | 11 => ⟨S16x4096x4x1, .f32⟩
  | 12 => ⟨S16x4096x4, .f32⟩
  | 13 => ⟨S_, .f32⟩
  | 14 => ⟨S16x4096x4, .f32⟩
  | 15 => ⟨S16x4096x4, .f32⟩
  | 16 => ⟨S_, .f32⟩
  | 17 => ⟨S16x4096x4, .f32⟩
  | 18 => ⟨S16x4096x4, .f32⟩
  | 19 => ⟨S_, .f32⟩
  | 20 => ⟨S16x4096x4, .f32⟩
  | 21 => ⟨S16x4096x4, .f32⟩
  | 22 => ⟨S_, .f32⟩
  | 23 => ⟨S16x4096x4, .f32⟩
  | 24 => ⟨S16x4096x4, .f32⟩
  | 25 => ⟨S16x4096x4, .f32⟩
  | 26 => ⟨S16x4096x4, .f32⟩
  | 27 => ⟨S_, .f32⟩
  | 28 => ⟨S16x4096x4, .f32⟩
  | 29 => ⟨S16x4096x4, .f32⟩
  | 30 => ⟨S_, .f32⟩
  | 31 => ⟨S16x4096x4, .f32⟩
  | 32 => ⟨S16x4096x4, .f32⟩
  | 33 => ⟨S16x4096x4, .f32⟩
  | 34 => ⟨S16x4096x4, .f32⟩
  | 35 => ⟨S16x4096x4, .f32⟩
  | 36 => ⟨S16x4096x4, .f32⟩
  | 37 => ⟨S16x4096x4, .f32⟩
  | 38 => ⟨S16x4096x4, .f32⟩
  | 39 => ⟨S16x4096x4, .f32⟩
  | 40 => ⟨S16x4096x4, .f32⟩
  | 41 => ⟨S16x4096x4, .f32⟩
  | 42 => ⟨S16x4096x4, .f32⟩
  | 43 => ⟨S16x4096x4, .f32⟩
  | 44 => ⟨S16x4096x4, .f32⟩
  | 45 => ⟨S16x32x1024, .f32⟩
  | 46 => ⟨S_, .f32⟩
  | 47 => ⟨S16x4096x4, .f32⟩
  | 48 => ⟨S16x4096x4, .i1⟩
  | 49 => ⟨S_, .f32⟩
  | 50 => ⟨S16x4096x4, .f32⟩
  | 51 => ⟨S16x4096x4, .i1⟩
  | 52 => ⟨S16x4096x4, .i1⟩
  | 53 => ⟨S_, .f32⟩
  | 54 => ⟨S16x4096x4, .f32⟩
  | 55 => ⟨S16x4096x4, .i1⟩
  | 56 => ⟨S16x4096x4, .i1⟩
  | 57 => ⟨S_, .f32⟩
  | 58 => ⟨S16x4096x4, .f32⟩
  | 59 => ⟨S16x4096x4, .i1⟩
  | 60 => ⟨S16x4096x4, .i1⟩
  | 61 => ⟨S_, .i32⟩
  | 62 => ⟨S_, .i32⟩
  | 63 => ⟨S_, .f32⟩
  | 64 => ⟨S16x4096x4, .f32⟩
  | 65 => ⟨S16x4096x4, .f32⟩
  | 66 => ⟨S_, .f32⟩
  | 67 => ⟨S16x4096x4, .f32⟩
  | 68 => ⟨S16x4096x4, .f32⟩
  | 69 => ⟨S16x4096x4, .i32⟩
  | 70 => ⟨S_, .i32⟩
  | 71 => ⟨S_, .i32⟩
  | 72 => ⟨S_, .f32⟩
  | 73 => ⟨S16x4096x4, .f32⟩
  | 74 => ⟨S16x4096x4, .f32⟩
  | 75 => ⟨S_, .f32⟩
  | 76 => ⟨S16x4096x4, .f32⟩
  | 77 => ⟨S16x4096x4, .f32⟩
  | 78 => ⟨S16x4096x4, .i32⟩
  | 79 => ⟨S_, .i32⟩
  | 80 => ⟨S16x4096x4, .i32⟩
  | 81 => ⟨S16x4096x4, .i32⟩
  | 82 => ⟨S16x4096x4, .i32⟩
  | 83 => ⟨S16x16384, .i32⟩
  | 84 => ⟨S16x1x16384, .i32⟩
  | 85 => ⟨S16x32x16384, .i32⟩
  | 86 => ⟨S_, .i32⟩
  | 87 => ⟨S16x32x16384, .i32⟩
  | 88 => ⟨S16x32x16384, .i1⟩
  | 89 => ⟨S_, .i32⟩
  | 90 => ⟨S16x32x16384, .i32⟩
  | 91 => ⟨S16x32x16384, .i32⟩
  | 92 => ⟨S16x32x16384, .i32⟩
  | 93 => ⟨S16x32x16384x1, .i32⟩
  | 94 => ⟨S1, .i32⟩
  | 95 => ⟨S_, .i32⟩
  | 96 => ⟨S16x32x16384x1, .i32⟩
  | 97 => ⟨S16x32x16384x1, .i1⟩
  | 98 => ⟨S1x1x1x1, .i32⟩
  | 99 => ⟨S16x32x16384x1, .i32⟩
  | 100 => ⟨S16x32x16384x1, .i1⟩
  | 101 => ⟨S16x32x16384x1, .i1⟩
  | 102 => ⟨S_, .i1⟩
  | 103 => ⟨S16x32x16384, .i1⟩
  | 104 => ⟨S16x32x16384, .f32⟩
  | 105 => ⟨S_, .f32⟩
  | 106 => ⟨S16x32x16384, .f32⟩
  | 107 => ⟨S16x32x16384, .f32⟩
  | 108 => ⟨S16x32x4096x4, .f32⟩
  | 109 => ⟨S16x1x4096x4, .i1⟩
  | 110 => ⟨S16x1x4096x4, .f32⟩
  | 111 => ⟨S16x32x4096x4, .f32⟩
  | 112 => ⟨S16x32x4096x4, .f32⟩
  | 113 => ⟨S16x1x4096x4, .f32⟩
  | 114 => ⟨S16x32x4096x4, .f32⟩
  | 115 => ⟨S16x32x4096x4, .f32⟩
  | 116 => ⟨S_, .f32⟩
  | 117 => ⟨S16x4096x4, .f32⟩
  | 118 => ⟨S16x4096x4, .i1⟩
  | 119 => ⟨S_, .f32⟩
  | 120 => ⟨S16x4096x4, .f32⟩
  | 121 => ⟨S16x4096x4, .i1⟩
  | 122 => ⟨S16x4096x4, .i1⟩
  | 123 => ⟨S_, .f32⟩
  | 124 => ⟨S16x4096x4, .f32⟩
  | 125 => ⟨S16x4096x4, .i1⟩
  | 126 => ⟨S16x4096x4, .i1⟩
  | 127 => ⟨S_, .f32⟩
  | _ => ⟨S4x2x256x32x32, .f32⟩

abbrev hbmTy0_45 (i : Nat) : BufTy := match i % 128 with
  | 0 => ⟨S16x4096x4, .f32⟩
  | 1 => ⟨S16x4096x4, .i1⟩
  | 2 => ⟨S16x4096x4, .i1⟩
  | 3 => ⟨S_, .i32⟩
  | 4 => ⟨S_, .i32⟩
  | 5 => ⟨S_, .f32⟩
  | 6 => ⟨S16x4096x4, .f32⟩
  | 7 => ⟨S16x4096x4, .f32⟩
  | 8 => ⟨S_, .f32⟩
  | 9 => ⟨S16x4096x4, .f32⟩
  | 10 => ⟨S16x4096x4, .f32⟩
  | 11 => ⟨S16x4096x4, .i32⟩
  | 12 => ⟨S_, .i32⟩
  | 13 => ⟨S_, .i32⟩
  | 14 => ⟨S_, .f32⟩
  | 15 => ⟨S16x4096x4, .f32⟩
  | 16 => ⟨S16x4096x4, .f32⟩
  | 17 => ⟨S_, .f32⟩
  | 18 => ⟨S16x4096x4, .f32⟩
  | 19 => ⟨S16x4096x4, .f32⟩
  | 20 => ⟨S16x4096x4, .i32⟩
  | 21 => ⟨S_, .i32⟩
  | 22 => ⟨S16x4096x4, .i32⟩
  | 23 => ⟨S16x4096x4, .i32⟩
  | 24 => ⟨S16x4096x4, .i32⟩
  | 25 => ⟨S16x16384, .i32⟩
  | 26 => ⟨S16x1x16384, .i32⟩
  | 27 => ⟨S16x32x16384, .i32⟩
  | 28 => ⟨S_, .i32⟩
  | 29 => ⟨S16x32x16384, .i32⟩
  | 30 => ⟨S16x32x16384, .i1⟩
  | 31 => ⟨S_, .i32⟩
  | 32 => ⟨S16x32x16384, .i32⟩
  | 33 => ⟨S16x32x16384, .i32⟩
  | 34 => ⟨S16x32x16384, .i32⟩
  | 35 => ⟨S16x32x16384x1, .i32⟩
  | 36 => ⟨S1, .i32⟩
  | 37 => ⟨S_, .i32⟩
  | 38 => ⟨S16x32x16384x1, .i32⟩
  | 39 => ⟨S16x32x16384x1, .i1⟩
  | 40 => ⟨S1x1x1x1, .i32⟩
  | 41 => ⟨S16x32x16384x1, .i32⟩
  | 42 => ⟨S16x32x16384x1, .i1⟩
  | 43 => ⟨S16x32x16384x1, .i1⟩
  | 44 => ⟨S_, .i1⟩
  | 45 => ⟨S16x32x16384, .i1⟩
  | 46 => ⟨S16x32x16384, .f32⟩
  | 47 => ⟨S_, .f32⟩
  | 48 => ⟨S16x32x16384, .f32⟩
  | 49 => ⟨S16x32x16384, .f32⟩
  | 50 => ⟨S16x32x4096x4, .f32⟩
  | 51 => ⟨S16x1x4096x4, .i1⟩
  | 52 => ⟨S16x1x4096x4, .f32⟩
  | 53 => ⟨S16x32x4096x4, .f32⟩
  | 54 => ⟨S16x32x4096x4, .f32⟩
  | 55 => ⟨S16x1x4096x4, .f32⟩
  | 56 => ⟨S16x32x4096x4, .f32⟩
  | 57 => ⟨S16x32x4096x4, .f32⟩
  | 58 => ⟨S16x32x4096x4, .f32⟩
  | 59 => ⟨S_, .f32⟩
  | 60 => ⟨S16x4096x4, .f32⟩
  | 61 => ⟨S16x4096x4, .i1⟩
  | 62 => ⟨S_, .f32⟩
  | 63 => ⟨S16x4096x4, .f32⟩
  | 64 => ⟨S16x4096x4, .i1⟩
  | 65 => ⟨S16x4096x4, .i1⟩
  | 66 => ⟨S_, .f32⟩
  | 67 => ⟨S16x4096x4, .f32⟩
  | 68 => ⟨S16x4096x4, .i1⟩
  | 69 => ⟨S16x4096x4, .i1⟩
  | 70 => ⟨S_, .f32⟩
  | 71 => ⟨S16x4096x4, .f32⟩
  | 72 => ⟨S16x4096x4, .i1⟩
  | 73 => ⟨S16x4096x4, .i1⟩
  | 74 => ⟨S_, .i32⟩
  | 75 => ⟨S_, .i32⟩
  | 76 => ⟨S_, .f32⟩
  | 77 => ⟨S16x4096x4, .f32⟩
  | 78 => ⟨S16x4096x4, .f32⟩
  | 79 => ⟨S_, .f32⟩
  | 80 => ⟨S16x4096x4, .f32⟩
  | 81 => ⟨S16x4096x4, .f32⟩
  | 82 => ⟨S16x4096x4, .i32⟩
  | 83 => ⟨S_, .i32⟩
  | 84 => ⟨S_, .i32⟩
  | 85 => ⟨S_, .f32⟩
  | 86 => ⟨S16x4096x4, .f32⟩
  | 87 => ⟨S16x4096x4, .f32⟩
  | 88 => ⟨S_, .f32⟩
  | 89 => ⟨S16x4096x4, .f32⟩
  | 90 => ⟨S16x4096x4, .f32⟩
  | 91 => ⟨S16x4096x4, .i32⟩
  | 92 => ⟨S_, .i32⟩
  | 93 => ⟨S16x4096x4, .i32⟩
  | 94 => ⟨S16x4096x4, .i32⟩
  | 95 => ⟨S16x4096x4, .i32⟩
  | 96 => ⟨S16x16384, .i32⟩
  | 97 => ⟨S16x1x16384, .i32⟩
  | 98 => ⟨S16x32x16384, .i32⟩
  | 99 => ⟨S_, .i32⟩
  | 100 => ⟨S16x32x16384, .i32⟩
  | 101 => ⟨S16x32x16384, .i1⟩
  | 102 => ⟨S_, .i32⟩
  | 103 => ⟨S16x32x16384, .i32⟩
  | 104 => ⟨S16x32x16384, .i32⟩
  | 105 => ⟨S16x32x16384, .i32⟩
  | 106 => ⟨S16x32x16384x1, .i32⟩
  | 107 => ⟨S1, .i32⟩
  | 108 => ⟨S_, .i32⟩
  | 109 => ⟨S16x32x16384x1, .i32⟩
  | 110 => ⟨S16x32x16384x1, .i1⟩
  | 111 => ⟨S1x1x1x1, .i32⟩
  | 112 => ⟨S16x32x16384x1, .i32⟩
  | 113 => ⟨S16x32x16384x1, .i1⟩
  | 114 => ⟨S16x32x16384x1, .i1⟩
  | 115 => ⟨S_, .i1⟩
  | 116 => ⟨S16x32x16384, .i1⟩
  | 117 => ⟨S16x32x16384, .f32⟩
  | 118 => ⟨S_, .f32⟩
  | 119 => ⟨S16x32x16384, .f32⟩
  | 120 => ⟨S16x32x16384, .f32⟩
  | 121 => ⟨S16x32x4096x4, .f32⟩
  | 122 => ⟨S16x1x4096x4, .i1⟩
  | 123 => ⟨S16x1x4096x4, .f32⟩
  | 124 => ⟨S16x32x4096x4, .f32⟩
  | 125 => ⟨S16x32x4096x4, .f32⟩
  | 126 => ⟨S16x1x4096x4, .f32⟩
  | 127 => ⟨S16x32x4096x4, .f32⟩
  | _ => ⟨S4x2x256x32x32, .f32⟩

abbrev hbmTy0_46 (i : Nat) : BufTy := match i % 128 with
  | 0 => ⟨S16x32x4096x4, .f32⟩
  | 1 => ⟨S16x32x4096x4, .f32⟩
  | 2 => ⟨S_, .f32⟩
  | 3 => ⟨S16x4096x4, .f32⟩
  | 4 => ⟨S16x4096x4, .i1⟩
  | 5 => ⟨S_, .f32⟩
  | 6 => ⟨S16x4096x4, .f32⟩
  | 7 => ⟨S16x4096x4, .i1⟩
  | 8 => ⟨S16x4096x4, .i1⟩
  | 9 => ⟨S_, .f32⟩
  | 10 => ⟨S16x4096x4, .f32⟩
  | 11 => ⟨S16x4096x4, .i1⟩
  | 12 => ⟨S16x4096x4, .i1⟩
  | 13 => ⟨S_, .f32⟩
  | 14 => ⟨S16x4096x4, .f32⟩
  | 15 => ⟨S16x4096x4, .i1⟩
  | 16 => ⟨S16x4096x4, .i1⟩
  | 17 => ⟨S_, .i32⟩
  | 18 => ⟨S_, .i32⟩
  | 19 => ⟨S_, .f32⟩
  | 20 => ⟨S16x4096x4, .f32⟩
  | 21 => ⟨S16x4096x4, .f32⟩
  | 22 => ⟨S_, .f32⟩
  | 23 => ⟨S16x4096x4, .f32⟩
  | 24 => ⟨S16x4096x4, .f32⟩
  | 25 => ⟨S16x4096x4, .i32⟩
  | 26 => ⟨S_, .i32⟩
  | 27 => ⟨S_, .i32⟩
  | 28 => ⟨S_, .f32⟩
  | 29 => ⟨S16x4096x4, .f32⟩
  | 30 => ⟨S16x4096x4, .f32⟩
  | 31 => ⟨S_, .f32⟩
  | 32 => ⟨S16x4096x4, .f32⟩
  | 33 => ⟨S16x4096x4, .f32⟩
  | 34 => ⟨S16x4096x4, .i32⟩
  | 35 => ⟨S_, .i32⟩
  | 36 => ⟨S16x4096x4, .i32⟩
  | 37 => ⟨S16x4096x4, .i32⟩
  | 38 => ⟨S16x4096x4, .i32⟩
  | 39 => ⟨S16x16384, .i32⟩
  | 40 => ⟨S16x1x16384, .i32⟩
  | 41 => ⟨S16x32x16384, .i32⟩
  | 42 => ⟨S_, .i32⟩
  | 43 => ⟨S16x32x16384, .i32⟩
  | 44 => ⟨S16x32x16384, .i1⟩
  | 45 => ⟨S_, .i32⟩
  | 46 => ⟨S16x32x16384, .i32⟩
  | 47 => ⟨S16x32x16384, .i32⟩
  | 48 => ⟨S16x32x16384, .i32⟩
  | 49 => ⟨S16x32x16384x1, .i32⟩
  | 50 => ⟨S1, .i32⟩
  | 51 => ⟨S_, .i32⟩
  | 52 => ⟨S16x32x16384x1, .i32⟩
  | 53 => ⟨S16x32x16384x1, .i1⟩
  | 54 => ⟨S1x1x1x1, .i32⟩
  | 55 => ⟨S16x32x16384x1, .i32⟩
  | 56 => ⟨S16x32x16384x1, .i1⟩
  | 57 => ⟨S16x32x16384x1, .i1⟩
  | 58 => ⟨S_, .i1⟩
  | 59 => ⟨S16x32x16384, .i1⟩
  | 60 => ⟨S16x32x16384, .f32⟩
  | 61 => ⟨S_, .f32⟩
  | 62 => ⟨S16x32x16384, .f32⟩
  | 63 => ⟨S16x32x16384, .f32⟩
  | 64 => ⟨S16x32x4096x4, .f32⟩
  | 65 => ⟨S16x1x4096x4, .i1⟩
  | 66 => ⟨S16x1x4096x4, .f32⟩
  | 67 => ⟨S16x32x4096x4, .f32⟩
  | 68 => ⟨S16x32x4096x4, .f32⟩
  | 69 => ⟨S16x1x4096x4, .f32⟩
  | 70 => ⟨S16x32x4096x4, .f32⟩
  | 71 => ⟨S16x32x4096x4, .f32⟩
  | 72 => ⟨S16x32x4096x4, .f32⟩
  | 73 => ⟨S2x1024x8x32, .f32⟩
  | 74 => ⟨S2x8x32x1024, .f32⟩
  | 75 => ⟨S16x32x32x32, .f32⟩
  | 76 => ⟨S2x4096x8x1x4x2, .f32⟩
  | 77 => ⟨S2x4096x8x4x2, .f32⟩
  | 78 => ⟨S2x8x4096x4x2, .f32⟩
  | 79 => ⟨S16x4096x4x2, .f32⟩
  | 80 => ⟨S16x4096x4x1, .f32⟩
  | 81 => ⟨S16x4096x4, .f32⟩
  | 82 => ⟨S_, .f32⟩
  | 83 => ⟨S16x4096x4, .f32⟩
  | 84 => ⟨S16x4096x4, .f32⟩
  | 85 => ⟨S_, .f32⟩
  | 86 => ⟨S16x4096x4, .f32⟩
  | 87 => ⟨S16x4096x4, .f32⟩
  | 88 => ⟨S_, .f32⟩
  | 89 => ⟨S16x4096x4, .f32⟩
  | 90 => ⟨S16x4096x4, .f32⟩
  | 91 => ⟨S_, .f32⟩
  | 92 => ⟨S16x4096x4, .f32⟩
  | 93 => ⟨S16x4096x4, .f32⟩
  | 94 => ⟨S16x4096x4x1, .f32⟩
  | 95 => ⟨S16x4096x4, .f32⟩
  | 96 => ⟨S_, .f32⟩
  | 97 => ⟨S16x4096x4, .f32⟩
  | 98 => ⟨S16x4096x4, .f32⟩
  | 99 => ⟨S_, .f32⟩
  | 100 => ⟨S16x4096x4, .f32⟩
  | 101 => ⟨S16x4096x4, .f32⟩
  | 102 => ⟨S_, .f32⟩
  | 103 => ⟨S16x4096x4, .f32⟩
  | 104 => ⟨S16x4096x4, .f32⟩
  | 105 => ⟨S_, .f32⟩
  | 106 => ⟨S16x4096x4, .f32⟩
  | 107 => ⟨S16x4096x4, .f32⟩
  | 108 => ⟨S16x4096x4, .f32⟩
  | 109 => ⟨S16x4096x4, .f32⟩
  | 110 => ⟨S_, .f32⟩
  | 111 => ⟨S16x4096x4, .f32⟩
  | 112 => ⟨S16x4096x4, .f32⟩
  | 113 => ⟨S_, .f32⟩
  | 114 => ⟨S16x4096x4, .f32⟩
  | 115 => ⟨S16x4096x4, .f32⟩
  | 116 => ⟨S16x4096x4, .f32⟩
  | 117 => ⟨S16x4096x4, .f32⟩
  | 118 => ⟨S16x4096x4, .f32⟩
  | 119 => ⟨S16x4096x4, .f32⟩
  | 120 => ⟨S16x4096x4, .f32⟩
  | 121 => ⟨S16x4096x4, .f32⟩
  | 122 => ⟨S16x4096x4, .f32⟩
  | 123 => ⟨S16x4096x4, .f32⟩
  | 124 => ⟨S16x4096x4, .f32⟩
  | 125 => ⟨S16x4096x4, .f32⟩
  | 126 => ⟨S16x4096x4, .f32⟩
  | 127 => ⟨S16x4096x4, .f32⟩
  | _ => ⟨S4x2x256x32x32, .f32⟩

abbrev hbmTy0_47 (i : Nat) : BufTy := match i % 128 with
  | 0 => ⟨S16x32x1024, .f32⟩
  | 1 => ⟨S_, .f32⟩
  | 2 => ⟨S16x4096x4, .f32⟩
  | 3 => ⟨S16x4096x4, .i1⟩
  | 4 => ⟨S_, .f32⟩
  | 5 => ⟨S16x4096x4, .f32⟩
  | 6 => ⟨S16x4096x4, .i1⟩
  | 7 => ⟨S16x4096x4, .i1⟩
  | 8 => ⟨S_, .f32⟩
  | 9 => ⟨S16x4096x4, .f32⟩
  | 10 => ⟨S16x4096x4, .i1⟩
  | 11 => ⟨S16x4096x4, .i1⟩
  | 12 => ⟨S_, .f32⟩
  | 13 => ⟨S16x4096x4, .f32⟩
  | 14 => ⟨S16x4096x4, .i1⟩
  | 15 => ⟨S16x4096x4, .i1⟩
  | 16 => ⟨S_, .i32⟩
  | 17 => ⟨S_, .i32⟩
  | 18 => ⟨S_, .f32⟩
  | 19 => ⟨S16x4096x4, .f32⟩
  | 20 => ⟨S16x4096x4, .f32⟩
  | 21 => ⟨S_, .f32⟩
  | 22 => ⟨S16x4096x4, .f32⟩
  | 23 => ⟨S16x4096x4, .f32⟩
  | 24 => ⟨S16x4096x4, .i32⟩
  | 25 => ⟨S_, .i32⟩
  | 26 => ⟨S_, .i32⟩
  | 27 => ⟨S_, .f32⟩
  | 28 => ⟨S16x4096x4, .f32⟩
  | 29 => ⟨S16x4096x4, .f32⟩
  | 30 => ⟨S_, .f32⟩
  | 31 => ⟨S16x4096x4, .f32⟩
  | 32 => ⟨S16x4096x4, .f32⟩
  | 33 => ⟨S16x4096x4, .i32⟩
  | 34 => ⟨S_, .i32⟩
  | 35 => ⟨S16x4096x4, .i32⟩
  | 36 => ⟨S16x4096x4, .i32⟩
  | 37 => ⟨S16x4096x4, .i32⟩
  | 38 => ⟨S16x16384, .i32⟩
  | 39 => ⟨S16x1x16384, .i32⟩
  | 40 => ⟨S16x32x16384, .i32⟩
  | 41 => ⟨S_, .i32⟩
  | 42 => ⟨S16x32x16384, .i32⟩
  | 43 => ⟨S16x32x16384, .i1⟩
  | 44 => ⟨S_, .i32⟩
  | 45 => ⟨S16x32x16384, .i32⟩
  | 46 => ⟨S16x32x16384, .i32⟩
  | 47 => ⟨S16x32x16384, .i32⟩
  | 48 => ⟨S16x32x16384x1, .i32⟩
  | 49 => ⟨S1, .i32⟩
  | 50 => ⟨S_, .i32⟩
  | 51 => ⟨S16x32x16384x1, .i32⟩
  | 52 => ⟨S16x32x16384x1, .i1⟩
  | 53 => ⟨S1x1x1x1, .i32⟩
  | 54 => ⟨S16x32x16384x1, .i32⟩
  | 55 => ⟨S16x32x16384x1, .i1⟩
  | 56 => ⟨S16x32x16384x1, .i1⟩
  | 57 => ⟨S_, .i1⟩
  | 58 => ⟨S16x32x16384, .i1⟩
  | 59 => ⟨S16x32x16384, .f32⟩
  | 60 => ⟨S_, .f32⟩
  | 61 => ⟨S16x32x16384, .f32⟩
  | 62 => ⟨S16x32x16384, .f32⟩
  | 63 => ⟨S16x32x4096x4, .f32⟩
  | 64 => ⟨S16x1x4096x4, .i1⟩
  | 65 => ⟨S16x1x4096x4, .f32⟩
  | 66 => ⟨S16x32x4096x4, .f32⟩
  | 67 => ⟨S16x32x4096x4, .f32⟩
  | 68 => ⟨S16x1x4096x4, .f32⟩
  | 69 => ⟨S16x32x4096x4, .f32⟩
  | 70 => ⟨S16x32x4096x4, .f32⟩
  | 71 => ⟨S_, .f32⟩
  | 72 => ⟨S16x4096x4, .f32⟩
  | 73 => ⟨S16x4096x4, .i1⟩
  | 74 => ⟨S_, .f32⟩
  | 75 => ⟨S16x4096x4, .f32⟩
  | 76 => ⟨S16x4096x4, .i1⟩
  | 77 => ⟨S16x4096x4, .i1⟩
  | 78 => ⟨S_, .f32⟩
  | 79 => ⟨S16x4096x4, .f32⟩
  | 80 => ⟨S16x4096x4, .i1⟩
  | 81 => ⟨S16x4096x4, .i1⟩
  | 82 => ⟨S_, .f32⟩
  | 83 => ⟨S16x4096x4, .f32⟩
  | 84 => ⟨S16x4096x4, .i1⟩
  | 85 => ⟨S16x4096x4, .i1⟩
  | 86 => ⟨S_, .i32⟩
  | 87 => ⟨S_, .i32⟩
  | 88 => ⟨S_, .f32⟩
  | 89 => ⟨S16x4096x4, .f32⟩
  | 90 => ⟨S16x4096x4, .f32⟩
  | 91 => ⟨S_, .f32⟩
  | 92 => ⟨S16x4096x4, .f32⟩
  | 93 => ⟨S16x4096x4, .f32⟩
  | 94 => ⟨S16x4096x4, .i32⟩
  | 95 => ⟨S_, .i32⟩
  | 96 => ⟨S_, .i32⟩
  | 97 => ⟨S_, .f32⟩
  | 98 => ⟨S16x4096x4, .f32⟩
  | 99 => ⟨S16x4096x4, .f32⟩
  | 100 => ⟨S_, .f32⟩
  | 101 => ⟨S16x4096x4, .f32⟩
  | 102 => ⟨S16x4096x4, .f32⟩
  | 103 => ⟨S16x4096x4, .i32⟩
  | 104 => ⟨S_, .i32⟩
  | 105 => ⟨S16x4096x4, .i32⟩
  | 106 => ⟨S16x4096x4, .i32⟩
  | 107 => ⟨S16x4096x4, .i32⟩
  | 108 => ⟨S16x16384, .i32⟩
  | 109 => ⟨S16x1x16384, .i32⟩
  | 110 => ⟨S16x32x16384, .i32⟩
  | 111 => ⟨S_, .i32⟩
  | 112 => ⟨S16x32x16384, .i32⟩
  | 113 => ⟨S16x32x16384, .i1⟩
  | 114 => ⟨S_, .i32⟩
  | 115 => ⟨S16x32x16384, .i32⟩
  | 116 => ⟨S16x32x16384, .i32⟩
  | 117 => ⟨S16x32x16384, .i32⟩
  | 118 => ⟨S16x32x16384x1, .i32⟩
  | 119 => ⟨S1, .i32⟩
  | 120 => ⟨S_, .i32⟩
  | 121 => ⟨S16x32x16384x1, .i32⟩
  | 122 => ⟨S16x32x16384x1, .i1⟩
  | 123 => ⟨S1x1x1x1, .i32⟩
  | 124 => ⟨S16x32x16384x1, .i32⟩
  | 125 => ⟨S16x32x16384x1, .i1⟩
  | 126 => ⟨S16x32x16384x1, .i1⟩
  | 127 => ⟨S_, .i1⟩
  | _ => ⟨S4x2x256x32x32, .f32⟩

abbrev hbmTy0_48 (i : Nat) : BufTy := match i % 128 with
  | 0 => ⟨S16x32x16384, .i1⟩
  | 1 => ⟨S16x32x16384, .f32⟩
  | 2 => ⟨S_, .f32⟩
  | 3 => ⟨S16x32x16384, .f32⟩
  | 4 => ⟨S16x32x16384, .f32⟩
  | 5 => ⟨S16x32x4096x4, .f32⟩
  | 6 => ⟨S16x1x4096x4, .i1⟩
  | 7 => ⟨S16x1x4096x4, .f32⟩
  | 8 => ⟨S16x32x4096x4, .f32⟩
  | 9 => ⟨S16x32x4096x4, .f32⟩
  | 10 => ⟨S16x1x4096x4, .f32⟩
  | 11 => ⟨S16x32x4096x4, .f32⟩
  | 12 => ⟨S16x32x4096x4, .f32⟩
  | 13 => ⟨S16x32x4096x4, .f32⟩
  | 14 => ⟨S_, .f32⟩
  | 15 => ⟨S16x4096x4, .f32⟩
  | 16 => ⟨S16x4096x4, .i1⟩
  | 17 => ⟨S_, .f32⟩
  | 18 => ⟨S16x4096x4, .f32⟩
  | 19 => ⟨S16x4096x4, .i1⟩
  | 20 => ⟨S16x4096x4, .i1⟩
  | 21 => ⟨S_, .f32⟩
  | 22 => ⟨S16x4096x4, .f32⟩
  | 23 => ⟨S16x4096x4, .i1⟩
  | 24 => ⟨S16x4096x4, .i1⟩
  | 25 => ⟨S_, .f32⟩
  | 26 => ⟨S16x4096x4, .f32⟩
  | 27 => ⟨S16x4096x4, .i1⟩
  | 28 => ⟨S16x4096x4, .i1⟩
  | 29 => ⟨S_, .i32⟩
  | 30 => ⟨S_, .i32⟩
  | 31 => ⟨S_, .f32⟩
  | 32 => ⟨S16x4096x4, .f32⟩
  | 33 => ⟨S16x4096x4, .f32⟩
  | 34 => ⟨S_, .f32⟩
  | 35 => ⟨S16x4096x4, .f32⟩
  | 36 => ⟨S16x4096x4, .f32⟩
  | 37 => ⟨S16x4096x4, .i32⟩
  | 38 => ⟨S_, .i32⟩
  | 39 => ⟨S_, .i32⟩
  | 40 => ⟨S_, .f32⟩
  | 41 => ⟨S16x4096x4, .f32⟩
  | 42 => ⟨S16x4096x4, .f32⟩
  | 43 => ⟨S_, .f32⟩
  | 44 => ⟨S16x4096x4, .f32⟩
  | 45 => ⟨S16x4096x4, .f32⟩
  | 46 => ⟨S16x4096x4, .i32⟩
  | 47 => ⟨S_, .i32⟩
  | 48 => ⟨S16x4096x4, .i32⟩
  | 49 => ⟨S16x4096x4, .i32⟩
  | 50 => ⟨S16x4096x4, .i32⟩
  | 51 => ⟨S16x16384, .i32⟩
  | 52 => ⟨S16x1x16384, .i32⟩
  | 53 => ⟨S16x32x16384, .i32⟩
  | 54 => ⟨S_, .i32⟩
  | 55 => ⟨S16x32x16384, .i32⟩
  | 56 => ⟨S16x32x16384, .i1⟩
  | 57 => ⟨S_, .i32⟩
  | 58 => ⟨S16x32x16384, .i32⟩
  | 59 => ⟨S16x32x16384, .i32⟩
  | 60 => ⟨S16x32x16384, .i32⟩
  | 61 => ⟨S16x32x16384x1, .i32⟩
  | 62 => ⟨S1, .i32⟩
  | 63 => ⟨S_, .i32⟩
  | 64 => ⟨S16x32x16384x1, .i32⟩
  | 65 => ⟨S16x32x16384x1, .i1⟩
  | 66 => ⟨S1x1x1x1, .i32⟩
  | 67 => ⟨S16x32x16384x1, .i32⟩
  | 68 => ⟨S16x32x16384x1, .i1⟩
  | 69 => ⟨S16x32x16384x1, .i1⟩
  | 70 => ⟨S_, .i1⟩
  | 71 => ⟨S16x32x16384, .i1⟩
  | 72 => ⟨S16x32x16384, .f32⟩
  | 73 => ⟨S_, .f32⟩
  | 74 => ⟨S16x32x16384, .f32⟩
  | 75 => ⟨S16x32x16384, .f32⟩
  | 76 => ⟨S16x32x4096x4, .f32⟩
  | 77 => ⟨S16x1x4096x4, .i1⟩
  | 78 => ⟨S16x1x4096x4, .f32⟩
  | 79 => ⟨S16x32x4096x4, .f32⟩
  | 80 => ⟨S16x32x4096x4, .f32⟩
  | 81 => ⟨S16x1x4096x4, .f32⟩
  | 82 => ⟨S16x32x4096x4, .f32⟩
  | 83 => ⟨S16x32x4096x4, .f32⟩
  | 84 => ⟨S16x32x4096x4, .f32⟩
  | 85 => ⟨S_, .f32⟩
  | 86 => ⟨S16x4096x4, .f32⟩
  | 87 => ⟨S16x4096x4, .i1⟩
  | 88 => ⟨S_, .f32⟩
  | 89 => ⟨S16x4096x4, .f32⟩
  | 90 => ⟨S16x4096x4, .i1⟩
  | 91 => ⟨S16x4096x4, .i1⟩
  | 92 => ⟨S_, .f32⟩
  | 93 => ⟨S16x4096x4, .f32⟩
  | 94 => ⟨S16x4096x4, .i1⟩
  | 95 => ⟨S16x4096x4, .i1⟩
  | 96 => ⟨S_, .f32⟩
  | 97 => ⟨S16x4096x4, .f32⟩
  | 98 => ⟨S16x4096x4, .i1⟩
  | 99 => ⟨S16x4096x4, .i1⟩
  | 100 => ⟨S_, .i32⟩
  | 101 => ⟨S_, .i32⟩
  | 102 => ⟨S_, .f32⟩
  | 103 => ⟨S16x4096x4, .f32⟩
  | 104 => ⟨S16x4096x4, .f32⟩
  | 105 => ⟨S_, .f32⟩
  | 106 => ⟨S16x4096x4, .f32⟩
  | 107 => ⟨S16x4096x4, .f32⟩
  | 108 => ⟨S16x4096x4, .i32⟩
  | 109 => ⟨S_, .i32⟩
  | 110 => ⟨S_, .i32⟩
  | 111 => ⟨S_, .f32⟩
  | 112 => ⟨S16x4096x4, .f32⟩
  | 113 => ⟨S16x4096x4, .f32⟩
  | 114 => ⟨S_, .f32⟩
  | 115 => ⟨S16x4096x4, .f32⟩
  | 116 => ⟨S16x4096x4, .f32⟩
  | 117 => ⟨S16x4096x4, .i32⟩
  | 118 => ⟨S_, .i32⟩
  | 119 => ⟨S16x4096x4, .i32⟩
  | 120 => ⟨S16x4096x4, .i32⟩
  | 121 => ⟨S16x4096x4, .i32⟩
  | 122 => ⟨S16x16384, .i32⟩
  | 123 => ⟨S16x1x16384, .i32⟩
  | 124 => ⟨S16x32x16384, .i32⟩
  | 125 => ⟨S_, .i32⟩
  | 126 => ⟨S16x32x16384, .i32⟩
  | 127 => ⟨S16x32x16384, .i1⟩
  | _ => ⟨S4x2x256x32x32, .f32⟩

abbrev hbmTy0_49 (i : Nat) : BufTy := match i % 128 with
  | 0 => ⟨S_, .i32⟩
  | 1 => ⟨S16x32x16384, .i32⟩
  | 2 => ⟨S16x32x16384, .i32⟩
  | 3 => ⟨S16x32x16384, .i32⟩
  | 4 => ⟨S16x32x16384x1, .i32⟩
  | 5 => ⟨S1, .i32⟩
  | 6 => ⟨S_, .i32⟩
  | 7 => ⟨S16x32x16384x1, .i32⟩
  | 8 => ⟨S16x32x16384x1, .i1⟩
  | 9 => ⟨S1x1x1x1, .i32⟩
  | 10 => ⟨S16x32x16384x1, .i32⟩
  | 11 => ⟨S16x32x16384x1, .i1⟩
  | 12 => ⟨S16x32x16384x1, .i1⟩
  | 13 => ⟨S_, .i1⟩
  | 14 => ⟨S16x32x16384, .i1⟩
  | 15 => ⟨S16x32x16384, .f32⟩
  | 16 => ⟨S_, .f32⟩
  | 17 => ⟨S16x32x16384, .f32⟩
  | 18 => ⟨S16x32x16384, .f32⟩
  | 19 => ⟨S16x32x4096x4, .f32⟩
  | 20 => ⟨S16x1x4096x4, .i1⟩
  | 21 => ⟨S16x1x4096x4, .f32⟩
  | 22 => ⟨S16x32x4096x4, .f32⟩
  | 23 => ⟨S16x32x4096x4, .f32⟩
  | 24 => ⟨S16x1x4096x4, .f32⟩
  | 25 => ⟨S16x32x4096x4, .f32⟩
  | 26 => ⟨S16x32x4096x4, .f32⟩
  | 27 => ⟨S16x32x4096x4, .f32⟩
  | 28 => ⟨S16x32x4096x1x4, .f32⟩
  | 29 => ⟨S16x32x4096x1x4, .f32⟩
  | 30 => ⟨S16x32x4096x1x4, .f32⟩
  | 31 => ⟨S16x32x4096x1x4, .f32⟩
  | 32 => ⟨S16x32x4096x4x4, .f32⟩
  | 33 => ⟨S16x32x4096x16, .f32⟩
  | 34 => ⟨S2x8x4096x4x4, .f32⟩
  | 35 => ⟨S16x1x4096x16, .f32⟩
  | 36 => ⟨S16x32x4096x16, .f32⟩
  | 37 => ⟨S16x32x4096x16, .f32⟩
  | 38 => ⟨S_, .f32⟩
  | 39 => ⟨S16x32x4096, .f32⟩
  | 40 => ⟨S2x256x4096, .f32⟩
  | 41 => ⟨S2x4096x256, .f32⟩
  | 42 => ⟨S1x256x256, .f32⟩
  | 43 => ⟨S256x256, .f32⟩
  | 44 => ⟨S2x4096x256, .f32⟩
  | 45 => ⟨S1x256, .f32⟩
  | 46 => ⟨S256, .f32⟩
  | 47 => ⟨S1x1x256, .f32⟩
  | 48 => ⟨S2x4096x256, .f32⟩
  | 49 => ⟨S2x4096x256, .f32⟩
  | 50 => ⟨S2x4096x256, .f32⟩
  | 51 => ⟨S1x256, .f32⟩
  | 52 => ⟨S256, .f32⟩
  | 53 => ⟨S1x256, .f32⟩
  | 54 => ⟨S256, .f32⟩
  | 55 => ⟨S_, .f32⟩
  | 56 => ⟨S2x4096, .f32⟩
  | 57 => ⟨S2x4096x1, .f32⟩
  | 58 => ⟨S_, .f32⟩
  | 59 => ⟨S2x4096x1, .f32⟩
  | 60 => ⟨S2x4096x1, .f32⟩
  | 61 => ⟨S2x4096x256, .f32⟩
  | 62 => ⟨S2x4096x256, .f32⟩
  | 63 => ⟨S2x4096x256, .f32⟩
  | 64 => ⟨S_, .f32⟩
  | 65 => ⟨S2x4096, .f32⟩
  | 66 => ⟨S2x4096x1, .f32⟩
  | 67 => ⟨S_, .f32⟩
  | 68 => ⟨S2x4096x1, .f32⟩
  | 69 => ⟨S2x4096x1, .f32⟩
  | 70 => ⟨S2x4096x256, .f32⟩
  | 71 => ⟨S2x4096x256, .f32⟩
  | 72 => ⟨S_, .f32⟩
  | 73 => ⟨S2x4096x1, .f32⟩
  | 74 => ⟨S2x4096x1, .f32⟩
  | 75 => ⟨S2x4096x1, .f32⟩
  | 76 => ⟨S2x4096x256, .f32⟩
  | 77 => ⟨S2x4096x256, .f32⟩
  | 78 => ⟨S1x1x256, .f32⟩
  | 79 => ⟨S2x4096x256, .f32⟩
  | 80 => ⟨S2x4096x256, .f32⟩
  | 81 => ⟨S1x1x256, .f32⟩
  | 82 => ⟨S2x4096x256, .f32⟩
  | 83 => ⟨S2x4096x256, .f32⟩
  | 84 => ⟨S1x256x1024, .f32⟩
  | 85 => ⟨S256x1024, .f32⟩
  | 86 => ⟨S2x4096x1024, .f32⟩
  | 87 => ⟨S1x1024, .f32⟩
  | 88 => ⟨S1024, .f32⟩
  | 89 => ⟨S1x1x1024, .f32⟩
  | 90 => ⟨S2x4096x1024, .f32⟩
  | 91 => ⟨S2x4096x1024, .f32⟩
  | 92 => ⟨S_, .f32⟩
  | 93 => ⟨S2x4096x1024, .f32⟩
  | 94 => ⟨S2x4096x1024, .f32⟩
  | 95 => ⟨S1x1024x256, .f32⟩
  | 96 => ⟨S1024x256, .f32⟩
  | 97 => ⟨S2x4096x256, .f32⟩
  | 98 => ⟨S1x256, .f32⟩
  | 99 => ⟨S256, .f32⟩
  | 100 => ⟨S1x1x256, .f32⟩
  | 101 => ⟨S2x4096x256, .f32⟩
  | 102 => ⟨S2x4096x256, .f32⟩
  | 103 => ⟨S2x4096x256, .f32⟩
  | 104 => ⟨S1x256, .f32⟩
  | 105 => ⟨S256, .f32⟩
  | 106 => ⟨S1x256, .f32⟩
  | 107 => ⟨S256, .f32⟩
  | 108 => ⟨S_, .f32⟩
  | 109 => ⟨S2x4096, .f32⟩
  | 110 => ⟨S2x4096x1, .f32⟩
  | 111 => ⟨S_, .f32⟩
  | 112 => ⟨S2x4096x1, .f32⟩
  | 113 => ⟨S2x4096x1, .f32⟩
  | 114 => ⟨S2x4096x256, .f32⟩
  | 115 => ⟨S2x4096x256, .f32⟩
  | 116 => ⟨S2x4096x256, .f32⟩
  | 117 => ⟨S_, .f32⟩
  | 118 => ⟨S2x4096, .f32⟩
  | 119 => ⟨S2x4096x1, .f32⟩
  | 120 => ⟨S_, .f32⟩
  | 121 => ⟨S2x4096x1, .f32⟩
  | 122 => ⟨S2x4096x1, .f32⟩
  | 123 => ⟨S2x4096x256, .f32⟩
  | 124 => ⟨S2x4096x256, .f32⟩
  | 125 => ⟨S_, .f32⟩
  | 126 => ⟨S2x4096x1, .f32⟩
  | 127 => ⟨S2x4096x1, .f32⟩
  | _ => ⟨S4x2x256x32x32, .f32⟩

abbrev hbmTy0_50 (i : Nat) : BufTy := match i % 128 with
  | 0 => ⟨S2x4096x1, .f32⟩
  | 1 => ⟨S2x4096x256, .f32⟩
  | 2 => ⟨S2x4096x256, .f32⟩
  | 3 => ⟨S1x1x256, .f32⟩
  | 4 => ⟨S2x4096x256, .f32⟩
  | 5 => ⟨S2x4096x256, .f32⟩
  | 6 => ⟨S1x1x256, .f32⟩
  | 7 => ⟨S2x4096x256, .f32⟩
  | 8 => ⟨S2x4096x256, .f32⟩
  | 9 => ⟨S2x4096x256, .f32⟩
  | 10 => ⟨S1x256x256, .f32⟩
  | 11 => ⟨S256x256, .f32⟩
  | 12 => ⟨S2x4096x256, .f32⟩
  | 13 => ⟨S1x256, .f32⟩
  | 14 => ⟨S256, .f32⟩
  | 15 => ⟨S1x1x256, .f32⟩
  | 16 => ⟨S2x4096x256, .f32⟩
  | 17 => ⟨S2x4096x256, .f32⟩
  | 18 => ⟨S2x4096x8x32, .f32⟩
  | 19 => ⟨S1x256x256, .f32⟩
  | 20 => ⟨S256x256, .f32⟩
  | 21 => ⟨S2x4096x256, .f32⟩
  | 22 => ⟨S1x256, .f32⟩
  | 23 => ⟨S256, .f32⟩
  | 24 => ⟨S1x1x256, .f32⟩
  | 25 => ⟨S2x4096x256, .f32⟩
  | 26 => ⟨S2x4096x256, .f32⟩
  | 27 => ⟨S2x4096x8x4x4x2, .f32⟩
  | 28 => ⟨S1x256x128, .f32⟩
  | 29 => ⟨S256x128, .f32⟩
  | 30 => ⟨S2x4096x128, .f32⟩
  | 31 => ⟨S1x128, .f32⟩
  | 32 => ⟨S128, .f32⟩
  | 33 => ⟨S1x1x128, .f32⟩
  | 34 => ⟨S2x4096x128, .f32⟩
  | 35 => ⟨S2x4096x128, .f32⟩
  | 36 => ⟨S2x4096x8x16, .f32⟩
  | 37 => ⟨S_, .f32⟩
  | 38 => ⟨S2x4096x8, .f32⟩
  | 39 => ⟨S_, .f32⟩
  | 40 => ⟨S2x4096x8, .f32⟩
  | 41 => ⟨S2x4096x8, .f32⟩
  | 42 => ⟨S2x4096x8x1, .f32⟩
  | 43 => ⟨S2x4096x8x16, .f32⟩
  | 44 => ⟨S2x4096x8x16, .f32⟩
  | 45 => ⟨S2x4096x8x16, .f32⟩
  | 46 => ⟨S_, .f32⟩
  | 47 => ⟨S2x4096x8, .f32⟩
  | 48 => ⟨S2x4096x8x1, .f32⟩
  | 49 => ⟨S2x4096x8x16, .f32⟩
  | 50 => ⟨S2x4096x8x16, .f32⟩
  | 51 => ⟨S2x4096x8x4x4, .f32⟩
  | 52 => ⟨S2x4096x1x4x1x2, .f32⟩
  | 53 => ⟨S1x1x1x4x1x2, .f32⟩
  | 54 => ⟨S2x4096x8x4x4x2, .f32⟩
  | 55 => ⟨S2x4096x8x4x4x2, .f32⟩
  | 56 => ⟨S2x4096x8x4x4x2, .f32⟩
  | 57 => ⟨S2x4096x8x4x4x2, .f32⟩
  | 58 => ⟨S_, .f32⟩
  | 59 => ⟨S2x4096x8x4x4x2, .f32⟩
  | 60 => ⟨S2x4096x8x4x4x2, .f32⟩
  | 61 => ⟨S_, .f32⟩
  | 62 => ⟨S2x4096x8x4x4x2, .f32⟩
  | 63 => ⟨S2x4096x8x4x4x2, .f32⟩
  | 64 => ⟨S2x1024x8x32, .f32⟩
  | 65 => ⟨S2x8x32x1024, .f32⟩
  | 66 => ⟨S16x32x32x32, .f32⟩
  | 67 => ⟨S2x4096x8x1x4x2, .f32⟩
  | 68 => ⟨S2x4096x8x4x2, .f32⟩
  | 69 => ⟨S2x8x4096x4x2, .f32⟩
  | 70 => ⟨S16x4096x4x2, .f32⟩
  | 71 => ⟨S16x4096x4x1, .f32⟩
  | 72 => ⟨S16x4096x4, .f32⟩
  | 73 => ⟨S_, .f32⟩
  | 74 => ⟨S16x4096x4, .f32⟩
  | 75 => ⟨S16x4096x4, .f32⟩
  | 76 => ⟨S_, .f32⟩
  | 77 => ⟨S16x4096x4, .f32⟩
  | 78 => ⟨S16x4096x4, .f32⟩
  | 79 => ⟨S_, .f32⟩
  | 80 => ⟨S16x4096x4, .f32⟩
  | 81 => ⟨S16x4096x4, .f32⟩
  | 82 => ⟨S_, .f32⟩
  | 83 => ⟨S16x4096x4, .f32⟩
  | 84 => ⟨S16x4096x4, .f32⟩
  | 85 => ⟨S16x4096x4x1, .f32⟩
  | 86 => ⟨S16x4096x4, .f32⟩
  | 87 => ⟨S_, .f32⟩
  | 88 => ⟨S16x4096x4, .f32⟩
  | 89 => ⟨S16x4096x4, .f32⟩
  | 90 => ⟨S_, .f32⟩
  | 91 => ⟨S16x4096x4, .f32⟩
  | 92 => ⟨S16x4096x4, .f32⟩
  | 93 => ⟨S_, .f32⟩
  | 94 => ⟨S16x4096x4, .f32⟩
  | 95 => ⟨S16x4096x4, .f32⟩
  | 96 => ⟨S_, .f32⟩
  | 97 => ⟨S16x4096x4, .f32⟩
  | 98 => ⟨S16x4096x4, .f32⟩
  | 99 => ⟨S16x4096x4, .f32⟩
  | 100 => ⟨S16x4096x4, .f32⟩
  | 101 => ⟨S_, .f32⟩
  | 102 => ⟨S16x4096x4, .f32⟩
  | 103 => ⟨S16x4096x4, .f32⟩
  | 104 => ⟨S_, .f32⟩
  | 105 => ⟨S16x4096x4, .f32⟩
  | 106 => ⟨S16x4096x4, .f32⟩
  | 107 => ⟨S16x4096x4, .f32⟩
  | 108 => ⟨S16x4096x4, .f32⟩
  | 109 => ⟨S16x4096x4, .f32⟩
  | 110 => ⟨S16x4096x4, .f32⟩
  | 111 => ⟨S16x4096x4, .f32⟩
  | 112 => ⟨S16x4096x4, .f32⟩
  | 113 => ⟨S16x4096x4, .f32⟩
  | 114 => ⟨S16x4096x4, .f32⟩
  | 115 => ⟨S16x4096x4, .f32⟩
  | 116 => ⟨S16x4096x4, .f32⟩
  | 117 => ⟨S16x4096x4, .f32⟩
  | 118 => ⟨S16x4096x4, .f32⟩
  | 119 => ⟨S16x32x1024, .f32⟩
  | 120 => ⟨S_, .f32⟩
  | 121 => ⟨S16x4096x4, .f32⟩
  | 122 => ⟨S16x4096x4, .i1⟩
  | 123 => ⟨S_, .f32⟩
  | 124 => ⟨S16x4096x4, .f32⟩
  | 125 => ⟨S16x4096x4, .i1⟩
  | 126 => ⟨S16x4096x4, .i1⟩
  | 127 => ⟨S_, .f32⟩
  | _ => ⟨S4x2x256x32x32, .f32⟩

abbrev hbmTy0_51 (i : Nat) : BufTy := match i % 128 with
  | 0 => ⟨S16x4096x4, .f32⟩
  | 1 => ⟨S16x4096x4, .i1⟩
  | 2 => ⟨S16x4096x4, .i1⟩
  | 3 => ⟨S_, .f32⟩
  | 4 => ⟨S16x4096x4, .f32⟩
  | 5 => ⟨S16x4096x4, .i1⟩
  | 6 => ⟨S16x4096x4, .i1⟩
  | 7 => ⟨S_, .i32⟩
  | 8 => ⟨S_, .i32⟩
  | 9 => ⟨S_, .f32⟩
  | 10 => ⟨S16x4096x4, .f32⟩
  | 11 => ⟨S16x4096x4, .f32⟩
  | 12 => ⟨S_, .f32⟩
  | 13 => ⟨S16x4096x4, .f32⟩
  | 14 => ⟨S16x4096x4, .f32⟩
  | 15 => ⟨S16x4096x4, .i32⟩
  | 16 => ⟨S_, .i32⟩
  | 17 => ⟨S_, .i32⟩
  | 18 => ⟨S_, .f32⟩
  | 19 => ⟨S16x4096x4, .f32⟩
  | 20 => ⟨S16x4096x4, .f32⟩
  | 21 => ⟨S_, .f32⟩
  | 22 => ⟨S16x4096x4, .f32⟩
  | 23 => ⟨S16x4096x4, .f32⟩
  | 24 => ⟨S16x4096x4, .i32⟩
  | 25 => ⟨S_, .i32⟩
  | 26 => ⟨S16x4096x4, .i32⟩
  | 27 => ⟨S16x4096x4, .i32⟩
  | 28 => ⟨S16x4096x4, .i32⟩
  | 29 => ⟨S16x16384, .i32⟩
  | 30 => ⟨S16x1x16384, .i32⟩
  | 31 => ⟨S16x32x16384, .i32⟩
  | 32 => ⟨S_, .i32⟩
  | 33 => ⟨S16x32x16384, .i32⟩
  | 34 => ⟨S16x32x16384, .i1⟩
  | 35 => ⟨S_, .i32⟩
  | 36 => ⟨S16x32x16384, .i32⟩
  | 37 => ⟨S16x32x16384, .i32⟩
  | 38 => ⟨S16x32x16384, .i32⟩
  | 39 => ⟨S16x32x16384x1, .i32⟩
  | 40 => ⟨S1, .i32⟩
  | 41 => ⟨S_, .i32⟩
  | 42 => ⟨S16x32x16384x1, .i32⟩
  | 43 => ⟨S16x32x16384x1, .i1⟩
  | 44 => ⟨S1x1x1x1, .i32⟩
  | 45 => ⟨S16x32x16384x1, .i32⟩
  | 46 => ⟨S16x32x16384x1, .i1⟩
  | 47 => ⟨S16x32x16384x1, .i1⟩
  | 48 => ⟨S_, .i1⟩
  | 49 => ⟨S16x32x16384, .i1⟩
  | 50 => ⟨S16x32x16384, .f32⟩
  | 51 => ⟨S_, .f32⟩
  | 52 => ⟨S16x32x16384, .f32⟩
  | 53 => ⟨S16x32x16384, .f32⟩
  | 54 => ⟨S16x32x4096x4, .f32⟩
  | 55 => ⟨S16x1x4096x4, .i1⟩
  | 56 => ⟨S16x1x4096x4, .f32⟩
  | 57 => ⟨S16x32x4096x4, .f32⟩
  | 58 => ⟨S16x32x4096x4, .f32⟩
  | 59 => ⟨S16x1x4096x4, .f32⟩
  | 60 => ⟨S16x32x4096x4, .f32⟩
  | 61 => ⟨S16x32x4096x4, .f32⟩
  | 62 => ⟨S_, .f32⟩
  | 63 => ⟨S16x4096x4, .f32⟩
  | 64 => ⟨S16x4096x4, .i1⟩
  | 65 => ⟨S_, .f32⟩
  | 66 => ⟨S16x4096x4, .f32⟩
  | 67 => ⟨S16x4096x4, .i1⟩
  | 68 => ⟨S16x4096x4, .i1⟩
  | 69 => ⟨S_, .f32⟩
  | 70 => ⟨S16x4096x4, .f32⟩
  | 71 => ⟨S16x4096x4, .i1⟩
  | 72 => ⟨S16x4096x4, .i1⟩
  | 73 => ⟨S_, .f32⟩
  | 74 => ⟨S16x4096x4, .f32⟩
  | 75 => ⟨S16x4096x4, .i1⟩
  | 76 => ⟨S16x4096x4, .i1⟩
  | 77 => ⟨S_, .i32⟩
  | 78 => ⟨S_, .i32⟩
  | 79 => ⟨S_, .f32⟩
  | 80 => ⟨S16x4096x4, .f32⟩
  | 81 => ⟨S16x4096x4, .f32⟩
  | 82 => ⟨S_, .f32⟩
  | 83 => ⟨S16x4096x4, .f32⟩
  | 84 => ⟨S16x4096x4, .f32⟩
  | 85 => ⟨S16x4096x4, .i32⟩
  | 86 => ⟨S_, .i32⟩
  | 87 => ⟨S_, .i32⟩
  | 88 => ⟨S_, .f32⟩
  | 89 => ⟨S16x4096x4, .f32⟩
  | 90 => ⟨S16x4096x4, .f32⟩
  | 91 => ⟨S_, .f32⟩
  | 92 => ⟨S16x4096x4, .f32⟩
  | 93 => ⟨S16x4096x4, .f32⟩
  | 94 => ⟨S16x4096x4, .i32⟩
  | 95 => ⟨S_, .i32⟩
  | 96 => ⟨S16x4096x4, .i32⟩
  | 97 => ⟨S16x4096x4, .i32⟩
  | 98 => ⟨S16x4096x4, .i32⟩
  | 99 => ⟨S16x16384, .i32⟩
  | 100 => ⟨S16x1x16384, .i32⟩
  | 101 => ⟨S16x32x16384, .i32⟩
  | 102 => ⟨S_, .i32⟩
  | 103 => ⟨S16x32x16384, .i32⟩
  | 104 => ⟨S16x32x16384, .i1⟩
  | 105 => ⟨S_, .i32⟩
  | 106 => ⟨S16x32x16384, .i32⟩
  | 107 => ⟨S16x32x16384, .i32⟩
  | 108 => ⟨S16x32x16384, .i32⟩
  | 109 => ⟨S16x32x16384x1, .i32⟩
  | 110 => ⟨S1, .i32⟩
  | 111 => ⟨S_, .i32⟩
  | 112 => ⟨S16x32x16384x1, .i32⟩
  | 113 => ⟨S16x32x16384x1, .i1⟩
  | 114 => ⟨S1x1x1x1, .i32⟩
  | 115 => ⟨S16x32x16384x1, .i32⟩
  | 116 => ⟨S16x32x16384x1, .i1⟩
  | 117 => ⟨S16x32x16384x1, .i1⟩
  | 118 => ⟨S_, .i1⟩
  | 119 => ⟨S16x32x16384, .i1⟩
  | 120 => ⟨S16x32x16384, .f32⟩
  | 121 => ⟨S_, .f32⟩
  | 122 => ⟨S16x32x16384, .f32⟩
  | 123 => ⟨S16x32x16384, .f32⟩
  | 124 => ⟨S16x32x4096x4, .f32⟩
  | 125 => ⟨S16x1x4096x4, .i1⟩
  | 126 => ⟨S16x1x4096x4, .f32⟩
  | 127 => ⟨S16x32x4096x4, .f32⟩
  | _ => ⟨S4x2x256x32x32, .f32⟩

abbrev hbmTy0_52 (i : Nat) : BufTy := match i % 128 with
  | 0 => ⟨S16x32x4096x4, .f32⟩
  | 1 => ⟨S16x1x4096x4, .f32⟩
  | 2 => ⟨S16x32x4096x4, .f32⟩
  | 3 => ⟨S16x32x4096x4, .f32⟩
  | 4 => ⟨S16x32x4096x4, .f32⟩
  | 5 => ⟨S_, .f32⟩
  | 6 => ⟨S16x4096x4, .f32⟩
  | 7 => ⟨S16x4096x4, .i1⟩
  | 8 => ⟨S_, .f32⟩
  | 9 => ⟨S16x4096x4, .f32⟩
  | 10 => ⟨S16x4096x4, .i1⟩
  | 11 => ⟨S16x4096x4, .i1⟩
  | 12 => ⟨S_, .f32⟩
  | 13 => ⟨S16x4096x4, .f32⟩
  | 14 => ⟨S16x4096x4, .i1⟩
  | 15 => ⟨S16x4096x4, .i1⟩
  | 16 => ⟨S_, .f32⟩
  | 17 => ⟨S16x4096x4, .f32⟩
  | 18 => ⟨S16x4096x4, .i1⟩
  | 19 => ⟨S16x4096x4, .i1⟩
  | 20 => ⟨S_, .i32⟩
  | 21 => ⟨S_, .i32⟩
  | 22 => ⟨S_, .f32⟩
  | 23 => ⟨S16x4096x4, .f32⟩
  | 24 => ⟨S16x4096x4, .f32⟩
  | 25 => ⟨S_, .f32⟩
  | 26 => ⟨S16x4096x4, .f32⟩
  | 27 => ⟨S16x4096x4, .f32⟩
  | 28 => ⟨S16x4096x4, .i32⟩
  | 29 => ⟨S_, .i32⟩
  | 30 => ⟨S_, .i32⟩
  | 31 => ⟨S_, .f32⟩
  | 32 => ⟨S16x4096x4, .f32⟩
  | 33 => ⟨S16x4096x4, .f32⟩
  | 34 => ⟨S_, .f32⟩
  | 35 => ⟨S16x4096x4, .f32⟩
  | 36 => ⟨S16x4096x4, .f32⟩
  | 37 => ⟨S16x4096x4, .i32⟩
  | 38 => ⟨S_, .i32⟩
  | 39 => ⟨S16x4096x4, .i32⟩
  | 40 => ⟨S16x4096x4, .i32⟩
  | 41 => ⟨S16x4096x4, .i32⟩
  | 42 => ⟨S16x16384, .i32⟩
  | 43 => ⟨S16x1x16384, .i32⟩
  | 44 => ⟨S16x32x16384, .i32⟩
  | 45 => ⟨S_, .i32⟩
  | 46 => ⟨S16x32x16384, .i32⟩
  | 47 => ⟨S16x32x16384, .i1⟩
  | 48 => ⟨S_, .i32⟩
  | 49 => ⟨S16x32x16384, .i32⟩
  | 50 => ⟨S16x32x16384, .i32⟩
  | 51 => ⟨S16x32x16384, .i32⟩
  | 52 => ⟨S16x32x16384x1, .i32⟩
  | 53 => ⟨S1, .i32⟩
  | 54 => ⟨S_, .i32⟩
  | 55 => ⟨S16x32x16384x1, .i32⟩
  | 56 => ⟨S16x32x16384x1, .i1⟩
  | 57 => ⟨S1x1x1x1, .i32⟩
  | 58 => ⟨S16x32x16384x1, .i32⟩
  | 59 => ⟨S16x32x16384x1, .i1⟩
  | 60 => ⟨S16x32x16384x1, .i1⟩
  | 61 => ⟨S_, .i1⟩
  | 62 => ⟨S16x32x16384, .i1⟩
  | 63 => ⟨S16x32x16384, .f32⟩
  | 64 => ⟨S_, .f32⟩
  | 65 => ⟨S16x32x16384, .f32⟩
  | 66 => ⟨S16x32x16384, .f32⟩
  | 67 => ⟨S16x32x4096x4, .f32⟩
  | 68 => ⟨S16x1x4096x4, .i1⟩
  | 69 => ⟨S16x1x4096x4, .f32⟩
  | 70 => ⟨S16x32x4096x4, .f32⟩
  | 71 => ⟨S16x32x4096x4, .f32⟩
  | 72 => ⟨S16x1x4096x4, .f32⟩
  | 73 => ⟨S16x32x4096x4, .f32⟩
  | 74 => ⟨S16x32x4096x4, .f32⟩
  | 75 => ⟨S16x32x4096x4, .f32⟩
  | 76 => ⟨S_, .f32⟩
  | 77 => ⟨S16x4096x4, .f32⟩
  | 78 => ⟨S16x4096x4, .i1⟩
  | 79 => ⟨S_, .f32⟩
  | 80 => ⟨S16x4096x4, .f32⟩
  | 81 => ⟨S16x4096x4, .i1⟩
  | 82 => ⟨S16x4096x4, .i1⟩
  | 83 => ⟨S_, .f32⟩
  | 84 => ⟨S16x4096x4, .f32⟩
  | 85 => ⟨S16x4096x4, .i1⟩
  | 86 => ⟨S16x4096x4, .i1⟩
  | 87 => ⟨S_, .f32⟩
  | 88 => ⟨S16x4096x4, .f32⟩
  | 89 => ⟨S16x4096x4, .i1⟩
  | 90 => ⟨S16x4096x4, .i1⟩
  | 91 => ⟨S_, .i32⟩
  | 92 => ⟨S_, .i32⟩
  | 93 => ⟨S_, .f32⟩
  | 94 => ⟨S16x4096x4, .f32⟩
  | 95 => ⟨S16x4096x4, .f32⟩
  | 96 => ⟨S_, .f32⟩
  | 97 => ⟨S16x4096x4, .f32⟩
  | 98 => ⟨S16x4096x4, .f32⟩
  | 99 => ⟨S16x4096x4, .i32⟩
  | 100 => ⟨S_, .i32⟩
  | 101 => ⟨S_, .i32⟩
  | 102 => ⟨S_, .f32⟩
  | 103 => ⟨S16x4096x4, .f32⟩
  | 104 => ⟨S16x4096x4, .f32⟩
  | 105 => ⟨S_, .f32⟩
  | 106 => ⟨S16x4096x4, .f32⟩
  | 107 => ⟨S16x4096x4, .f32⟩
  | 108 => ⟨S16x4096x4, .i32⟩
  | 109 => ⟨S_, .i32⟩
  | 110 => ⟨S16x4096x4, .i32⟩
  | 111 => ⟨S16x4096x4, .i32⟩
  | 112 => ⟨S16x4096x4, .i32⟩
  | 113 => ⟨S16x16384, .i32⟩
  | 114 => ⟨S16x1x16384, .i32⟩
  | 115 => ⟨S16x32x16384, .i32⟩
  | 116 => ⟨S_, .i32⟩
  | 117 => ⟨S16x32x16384, .i32⟩
  | 118 => ⟨S16x32x16384, .i1⟩
  | 119 => ⟨S_, .i32⟩
  | 120 => ⟨S16x32x16384, .i32⟩
  | 121 => ⟨S16x32x16384, .i32⟩
  | 122 => ⟨S16x32x16384, .i32⟩
  | 123 => ⟨S16x32x16384x1, .i32⟩
  | 124 => ⟨S1, .i32⟩
  | 125 => ⟨S_, .i32⟩
  | 126 => ⟨S16x32x16384x1, .i32⟩
  | 127 => ⟨S16x32x16384x1, .i1⟩
  | _ => ⟨S4x2x256x32x32, .f32⟩

abbrev hbmTy0_53 (i : Nat) : BufTy := match i % 128 with
  | 0 => ⟨S1x1x1x1, .i32⟩
  | 1 => ⟨S16x32x16384x1, .i32⟩
  | 2 => ⟨S16x32x16384x1, .i1⟩
  | 3 => ⟨S16x32x16384x1, .i1⟩
  | 4 => ⟨S_, .i1⟩
  | 5 => ⟨S16x32x16384, .i1⟩
  | 6 => ⟨S16x32x16384, .f32⟩
  | 7 => ⟨S_, .f32⟩
  | 8 => ⟨S16x32x16384, .f32⟩
  | 9 => ⟨S16x32x16384, .f32⟩
  | 10 => ⟨S16x32x4096x4, .f32⟩
  | 11 => ⟨S16x1x4096x4, .i1⟩
  | 12 => ⟨S16x1x4096x4, .f32⟩
  | 13 => ⟨S16x32x4096x4, .f32⟩
  | 14 => ⟨S16x32x4096x4, .f32⟩
  | 15 => ⟨S16x1x4096x4, .f32⟩
  | 16 => ⟨S16x32x4096x4, .f32⟩
  | 17 => ⟨S16x32x4096x4, .f32⟩
  | 18 => ⟨S16x32x4096x4, .f32⟩
  | 19 => ⟨S2x1024x8x32, .f32⟩
  | 20 => ⟨S2x8x32x1024, .f32⟩
  | 21 => ⟨S16x32x32x32, .f32⟩
  | 22 => ⟨S2x4096x8x1x4x2, .f32⟩
  | 23 => ⟨S2x4096x8x4x2, .f32⟩
  | 24 => ⟨S2x8x4096x4x2, .f32⟩
  | 25 => ⟨S16x4096x4x2, .f32⟩
  | 26 => ⟨S16x4096x4x1, .f32⟩
  | 27 => ⟨S16x4096x4, .f32⟩
  | 28 => ⟨S_, .f32⟩
  | 29 => ⟨S16x4096x4, .f32⟩
  | 30 => ⟨S16x4096x4, .f32⟩
  | 31 => ⟨S_, .f32⟩
  | 32 => ⟨S16x4096x4, .f32⟩
  | 33 => ⟨S16x4096x4, .f32⟩
  | 34 => ⟨S_, .f32⟩
  | 35 => ⟨S16x4096x4, .f32⟩
  | 36 => ⟨S16x4096x4, .f32⟩
  | 37 => ⟨S_, .f32⟩
  | 38 => ⟨S16x4096x4, .f32⟩
  | 39 => ⟨S16x4096x4, .f32⟩
  | 40 => ⟨S16x4096x4x1, .f32⟩
  | 41 => ⟨S16x4096x4, .f32⟩
  | 42 => ⟨S_, .f32⟩
  | 43 => ⟨S16x4096x4, .f32⟩
  | 44 => ⟨S16x4096x4, .f32⟩
  | 45 => ⟨S_, .f32⟩
  | 46 => ⟨S16x4096x4, .f32⟩
  | 47 => ⟨S16x4096x4, .f32⟩
  | 48 => ⟨S_, .f32⟩
  | 49 => ⟨S16x4096x4, .f32⟩
  | 50 => ⟨S16x4096x4, .f32⟩
  | 51 => ⟨S_, .f32⟩
  | 52 => ⟨S16x4096x4, .f32⟩
  | 53 => ⟨S16x4096x4, .f32⟩
  | 54 => ⟨S16x4096x4, .f32⟩
  | 55 => ⟨S16x4096x4, .f32⟩
  | 56 => ⟨S_, .f32⟩
  | 57 => ⟨S16x4096x4, .f32⟩
  | 58 => ⟨S16x4096x4, .f32⟩
  | 59 => ⟨S_, .f32⟩
  | 60 => ⟨S16x4096x4, .f32⟩
  | 61 => ⟨S16x4096x4, .f32⟩
  | 62 => ⟨S16x4096x4, .f32⟩
  | 63 => ⟨S16x4096x4, .f32⟩
  | 64 => ⟨S16x4096x4, .f32⟩
  | 65 => ⟨S16x4096x4, .f32⟩
  | 66 => ⟨S16x4096x4, .f32⟩
  | 67 => ⟨S16x4096x4, .f32⟩
  | 68 => ⟨S16x4096x4, .f32⟩
  | 69 => ⟨S16x4096x4, .f32⟩
  | 70 => ⟨S16x4096x4, .f32⟩
  | 71 => ⟨S16x4096x4, .f32⟩
  | 72 => ⟨S16x4096x4, .f32⟩
  | 73 => ⟨S16x4096x4, .f32⟩
  | 74 => ⟨S16x32x1024, .f32⟩
  | 75 => ⟨S_, .f32⟩
  | 76 => ⟨S16x4096x4, .f32⟩
  | 77 => ⟨S16x4096x4, .i1⟩
  | 78 => ⟨S_, .f32⟩
  | 79 => ⟨S16x4096x4, .f32⟩
  | 80 => ⟨S16x4096x4, .i1⟩
  | 81 => ⟨S16x4096x4, .i1⟩
  | 82 => ⟨S_, .f32⟩
  | 83 => ⟨S16x4096x4, .f32⟩
  | 84 => ⟨S16x4096x4, .i1⟩
  | 85 => ⟨S16x4096x4, .i1⟩
  | 86 => ⟨S_, .f32⟩
  | 87 => ⟨S16x4096x4, .f32⟩
  | 88 => ⟨S16x4096x4, .i1⟩
  | 89 => ⟨S16x4096x4, .i1⟩
  | 90 => ⟨S_, .i32⟩
  | 91 => ⟨S_, .i32⟩
  | 92 => ⟨S_, .f32⟩
  | 93 => ⟨S16x4096x4, .f32⟩
  | 94 => ⟨S16x4096x4, .f32⟩
  | 95 => ⟨S_, .f32⟩
  | 96 => ⟨S16x4096x4, .f32⟩
  | 97 => ⟨S16x4096x4, .f32⟩
  | 98 => ⟨S16x4096x4, .i32⟩
  | 99 => ⟨S_, .i32⟩
  | 100 => ⟨S_, .i32⟩
  | 101 => ⟨S_, .f32⟩
  | 102 => ⟨S16x4096x4, .f32⟩
  | 103 => ⟨S16x4096x4, .f32⟩
  | 104 => ⟨S_, .f32⟩
  | 105 => ⟨S16x4096x4, .f32⟩
  | 106 => ⟨S16x4096x4, .f32⟩
  | 107 => ⟨S16x4096x4, .i32⟩
  | 108 => ⟨S_, .i32⟩
  | 109 => ⟨S16x4096x4, .i32⟩
  | 110 => ⟨S16x4096x4, .i32⟩
  | 111 => ⟨S16x4096x4, .i32⟩
  | 112 => ⟨S16x16384, .i32⟩
  | 113 => ⟨S16x1x16384, .i32⟩
  | 114 => ⟨S16x32x16384, .i32⟩
  | 115 => ⟨S_, .i32⟩
  | 116 => ⟨S16x32x16384, .i32⟩
  | 117 => ⟨S16x32x16384, .i1⟩
  | 118 => ⟨S_, .i32⟩
  | 119 => ⟨S16x32x16384, .i32⟩
  | 120 => ⟨S16x32x16384, .i32⟩
  | 121 => ⟨S16x32x16384, .i32⟩
  | 122 => ⟨S16x32x16384x1, .i32⟩
  | 123 => ⟨S1, .i32⟩
  | 124 => ⟨S_, .i32⟩
  | 125 => ⟨S16x32x16384x1, .i32⟩
  | 126 => ⟨S16x32x16384x1, .i1⟩
  | 127 => ⟨S1x1x1x1, .i32⟩
  | _ => ⟨S4x2x256x32x32, .f32⟩

abbrev hbmTy0_54 (i : Nat) : BufTy := match i % 128 with
  | 0 => ⟨S16x32x16384x1, .i32⟩
  | 1 => ⟨S16x32x16384x1, .i1⟩
  | 2 => ⟨S16x32x16384x1, .i1⟩
  | 3 => ⟨S_, .i1⟩
  | 4 => ⟨S16x32x16384, .i1⟩
  | 5 => ⟨S16x32x16384, .f32⟩
  | 6 => ⟨S_, .f32⟩
  | 7 => ⟨S16x32x16384, .f32⟩
  | 8 => ⟨S16x32x16384, .f32⟩
  | 9 => ⟨S16x32x4096x4, .f32⟩
  | 10 => ⟨S16x1x4096x4, .i1⟩
  | 11 => ⟨S16x1x4096x4, .f32⟩
  | 12 => ⟨S16x32x4096x4, .f32⟩
  | 13 => ⟨S16x32x4096x4, .f32⟩
  | 14 => ⟨S16x1x4096x4, .f32⟩
  | 15 => ⟨S16x32x4096x4, .f32⟩
  | 16 => ⟨S16x32x4096x4, .f32⟩
  | 17 => ⟨S_, .f32⟩
  | 18 => ⟨S16x4096x4, .f32⟩
  | 19 => ⟨S16x4096x4, .i1⟩
  | 20 => ⟨S_, .f32⟩
  | 21 => ⟨S16x4096x4, .f32⟩
  | 22 => ⟨S16x4096x4, .i1⟩
  | 23 => ⟨S16x4096x4, .i1⟩
  | 24 => ⟨S_, .f32⟩
  | 25 => ⟨S16x4096x4, .f32⟩
  | 26 => ⟨S16x4096x4, .i1⟩
  | 27 => ⟨S16x4096x4, .i1⟩
  | 28 => ⟨S_, .f32⟩
  | 29 => ⟨S16x4096x4, .f32⟩
  | 30 => ⟨S16x4096x4, .i1⟩
  | 31 => ⟨S16x4096x4, .i1⟩
  | 32 => ⟨S_, .i32⟩
  | 33 => ⟨S_, .i32⟩
  | 34 => ⟨S_, .f32⟩
  | 35 => ⟨S16x4096x4, .f32⟩
  | 36 => ⟨S16x4096x4, .f32⟩
  | 37 => ⟨S_, .f32⟩
  | 38 => ⟨S16x4096x4, .f32⟩
  | 39 => ⟨S16x4096x4, .f32⟩
  | 40 => ⟨S16x4096x4, .i32⟩
  | 41 => ⟨S_, .i32⟩
  | 42 => ⟨S_, .i32⟩
  | 43 => ⟨S_, .f32⟩
  | 44 => ⟨S16x4096x4, .f32⟩
  | 45 => ⟨S16x4096x4, .f32⟩
  | 46 => ⟨S_, .f32⟩
  | 47 => ⟨S16x4096x4, .f32⟩
  | 48 => ⟨S16x4096x4, .f32⟩
  | 49 => ⟨S16x4096x4, .i32⟩
  | 50 => ⟨S_, .i32⟩
  | 51 => ⟨S16x4096x4, .i32⟩
  | 52 => ⟨S16x4096x4, .i32⟩
  | 53 => ⟨S16x4096x4, .i32⟩
  | 54 => ⟨S16x16384, .i32⟩
  | 55 => ⟨S16x1x16384, .i32⟩
  | 56 => ⟨S16x32x16384, .i32⟩
  | 57 => ⟨S_, .i32⟩
  | 58 => ⟨S16x32x16384, .i32⟩
  | 59 => ⟨S16x32x16384, .i1⟩
  | 60 => ⟨S_, .i32⟩
  | 61 => ⟨S16x32x16384, .i32⟩
  | 62 => ⟨S16x32x16384, .i32⟩
  | 63 => ⟨S16x32x16384, .i32⟩
  | 64 => ⟨S16x32x16384x1, .i32⟩
  | 65 => ⟨S1, .i32⟩
  | 66 => ⟨S_, .i32⟩
  | 67 => ⟨S16x32x16384x1, .i32⟩
  | 68 => ⟨S16x32x16384x1, .i1⟩
  | 69 => ⟨S1x1x1x1, .i32⟩
  | 70 => ⟨S16x32x16384x1, .i32⟩
  | 71 => ⟨S16x32x16384x1, .i1⟩
  | 72 => ⟨S16x32x16384x1, .i1⟩
  | 73 => ⟨S_, .i1⟩
  | 74 => ⟨S16x32x16384, .i1⟩
  | 75 => ⟨S16x32x16384, .f32⟩
  | 76 => ⟨S_, .f32⟩
  | 77 => ⟨S16x32x16384, .f32⟩
  | 78 => ⟨S16x32x16384, .f32⟩
  | 79 => ⟨S16x32x4096x4, .f32⟩
  | 80 => ⟨S16x1x4096x4, .i1⟩
  | 81 => ⟨S16x1x4096x4, .f32⟩
  | 82 => ⟨S16x32x4096x4, .f32⟩
  | 83 => ⟨S16x32x4096x4, .f32⟩
  | 84 => ⟨S16x1x4096x4, .f32⟩
  | 85 => ⟨S16x32x4096x4, .f32⟩
  | 86 => ⟨S16x32x4096x4, .f32⟩
  | 87 => ⟨S16x32x4096x4, .f32⟩
  | 88 => ⟨S_, .f32⟩
  | 89 => ⟨S16x4096x4, .f32⟩
  | 90 => ⟨S16x4096x4, .i1⟩
  | 91 => ⟨S_, .f32⟩
  | 92 => ⟨S16x4096x4, .f32⟩
  | 93 => ⟨S16x4096x4, .i1⟩
  | 94 => ⟨S16x4096x4, .i1⟩
  | 95 => ⟨S_, .f32⟩
  | 96 => ⟨S16x4096x4, .f32⟩
  | 97 => ⟨S16x4096x4, .i1⟩
  | 98 => ⟨S16x4096x4, .i1⟩
  | 99 => ⟨S_, .f32⟩
  | 100 => ⟨S16x4096x4, .f32⟩
  | 101 => ⟨S16x4096x4, .i1⟩
  | 102 => ⟨S16x4096x4, .i1⟩
  | 103 => ⟨S_, .i32⟩
  | 104 => ⟨S_, .i32⟩
  | 105 => ⟨S_, .f32⟩
  | 106 => ⟨S16x4096x4, .f32⟩
  | 107 => ⟨S16x4096x4, .f32⟩
  | 108 => ⟨S_, .f32⟩
  | 109 => ⟨S16x4096x4, .f32⟩
  | 110 => ⟨S16x4096x4, .f32⟩
  | 111 => ⟨S16x4096x4, .i32⟩
  | 112 => ⟨S_, .i32⟩
  | 113 => ⟨S_, .i32⟩
  | 114 => ⟨S_, .f32⟩
  | 115 => ⟨S16x4096x4, .f32⟩
  | 116 => ⟨S16x4096x4, .f32⟩
  | 117 => ⟨S_, .f32⟩
  | 118 => ⟨S16x4096x4, .f32⟩
  | 119 => ⟨S16x4096x4, .f32⟩
  | 120 => ⟨S16x4096x4, .i32⟩
  | 121 => ⟨S_, .i32⟩
  | 122 => ⟨S16x4096x4, .i32⟩
  | 123 => ⟨S16x4096x4, .i32⟩
  | 124 => ⟨S16x4096x4, .i32⟩
  | 125 => ⟨S16x16384, .i32⟩
  | 126 => ⟨S16x1x16384, .i32⟩
  | 127 => ⟨S16x32x16384, .i32⟩
  | _ => ⟨S4x2x256x32x32, .f32⟩

abbrev hbmTy0_55 (i : Nat) : BufTy := match i % 128 with
  | 0 => ⟨S_, .i32⟩
  | 1 => ⟨S16x32x16384, .i32⟩
  | 2 => ⟨S16x32x16384, .i1⟩
  | 3 => ⟨S_, .i32⟩
  | 4 => ⟨S16x32x16384, .i32⟩
  | 5 => ⟨S16x32x16384, .i32⟩
  | 6 => ⟨S16x32x16384, .i32⟩
  | 7 => ⟨S16x32x16384x1, .i32⟩
  | 8 => ⟨S1, .i32⟩
  | 9 => ⟨S_, .i32⟩
  | 10 => ⟨S16x32x16384x1, .i32⟩
  | 11 => ⟨S16x32x16384x1, .i1⟩
  | 12 => ⟨S1x1x1x1, .i32⟩
  | 13 => ⟨S16x32x16384x1, .i32⟩
  | 14 => ⟨S16x32x16384x1, .i1⟩
  | 15 => ⟨S16x32x16384x1, .i1⟩
  | 16 => ⟨S_, .i1⟩
  | 17 => ⟨S16x32x16384, .i1⟩
  | 18 => ⟨S16x32x16384, .f32⟩
  | 19 => ⟨S_, .f32⟩
  | 20 => ⟨S16x32x16384, .f32⟩
  | 21 => ⟨S16x32x16384, .f32⟩
  | 22 => ⟨S16x32x4096x4, .f32⟩
  | 23 => ⟨S16x1x4096x4, .i1⟩
  | 24 => ⟨S16x1x4096x4, .f32⟩
  | 25 => ⟨S16x32x4096x4, .f32⟩
  | 26 => ⟨S16x32x4096x4, .f32⟩
  | 27 => ⟨S16x1x4096x4, .f32⟩
  | 28 => ⟨S16x32x4096x4, .f32⟩
  | 29 => ⟨S16x32x4096x4, .f32⟩
  | 30 => ⟨S16x32x4096x4, .f32⟩
  | 31 => ⟨S_, .f32⟩
  | 32 => ⟨S16x4096x4, .f32⟩
  | 33 => ⟨S16x4096x4, .i1⟩
  | 34 => ⟨S_, .f32⟩
  | 35 => ⟨S16x4096x4, .f32⟩
  | 36 => ⟨S16x4096x4, .i1⟩
  | 37 => ⟨S16x4096x4, .i1⟩
  | 38 => ⟨S_, .f32⟩
  | 39 => ⟨S16x4096x4, .f32⟩
  | 40 => ⟨S16x4096x4, .i1⟩
  | 41 => ⟨S16x4096x4, .i1⟩
  | 42 => ⟨S_, .f32⟩
  | 43 => ⟨S16x4096x4, .f32⟩
  | 44 => ⟨S16x4096x4, .i1⟩
  | 45 => ⟨S16x4096x4, .i1⟩
  | 46 => ⟨S_, .i32⟩
  | 47 => ⟨S_, .i32⟩
  | 48 => ⟨S_, .f32⟩
  | 49 => ⟨S16x4096x4, .f32⟩
  | 50 => ⟨S16x4096x4, .f32⟩
  | 51 => ⟨S_, .f32⟩
  | 52 => ⟨S16x4096x4, .f32⟩
  | 53 => ⟨S16x4096x4, .f32⟩
  | 54 => ⟨S16x4096x4, .i32⟩
  | 55 => ⟨S_, .i32⟩
  | 56 => ⟨S_, .i32⟩
  | 57 => ⟨S_, .f32⟩
  | 58 => ⟨S16x4096x4, .f32⟩
  | 59 => ⟨S16x4096x4, .f32⟩
  | 60 => ⟨S_, .f32⟩
  | 61 => ⟨S16x4096x4, .f32⟩
  | 62 => ⟨S16x4096x4, .f32⟩
  | 63 => ⟨S16x4096x4, .i32⟩
  | 64 => ⟨S_, .i32⟩
  | 65 => ⟨S16x4096x4, .i32⟩
  | 66 => ⟨S16x4096x4, .i32⟩
  | 67 => ⟨S16x4096x4, .i32⟩
  | 68 => ⟨S16x16384, .i32⟩
  | 69 => ⟨S16x1x16384, .i32⟩
  | 70 => ⟨S16x32x16384, .i32⟩
  | 71 => ⟨S_, .i32⟩
  | 72 => ⟨S16x32x16384, .i32⟩
  | 73 => ⟨S16x32x16384, .i1⟩
  | 74 => ⟨S_, .i32⟩
  | 75 => ⟨S16x32x16384, .i32⟩
  | 76 => ⟨S16x32x16384, .i32⟩
  | 77 => ⟨S16x32x16384, .i32⟩
  | 78 => ⟨S16x32x16384x1, .i32⟩
  | 79 => ⟨S1, .i32⟩
  | 80 => ⟨S_, .i32⟩
  | 81 => ⟨S16x32x16384x1, .i32⟩
  | 82 => ⟨S16x32x16384x1, .i1⟩
  | 83 => ⟨S1x1x1x1, .i32⟩
  | 84 => ⟨S16x32x16384x1, .i32⟩
  | 85 => ⟨S16x32x16384x1, .i1⟩
  | 86 => ⟨S16x32x16384x1, .i1⟩
  | 87 => ⟨S_, .i1⟩
  | 88 => ⟨S16x32x16384, .i1⟩
  | 89 => ⟨S16x32x16384, .f32⟩
  | 90 => ⟨S_, .f32⟩
  | 91 => ⟨S16x32x16384, .f32⟩
  | 92 => ⟨S16x32x16384, .f32⟩
  | 93 => ⟨S16x32x4096x4, .f32⟩
  | 94 => ⟨S16x1x4096x4, .i1⟩
  | 95 => ⟨S16x1x4096x4, .f32⟩
  | 96 => ⟨S16x32x4096x4, .f32⟩
  | 97 => ⟨S16x32x4096x4, .f32⟩
  | 98 => ⟨S16x1x4096x4, .f32⟩
  | 99 => ⟨S16x32x4096x4, .f32⟩
  | 100 => ⟨S16x32x4096x4, .f32⟩
  | 101 => ⟨S16x32x4096x4, .f32⟩
  | 102 => ⟨S2x1024x8x32, .f32⟩
  | 103 => ⟨S2x8x32x1024, .f32⟩
  | 104 => ⟨S16x32x32x32, .f32⟩
  | 105 => ⟨S2x4096x8x1x4x2, .f32⟩
  | 106 => ⟨S2x4096x8x4x2, .f32⟩
  | 107 => ⟨S2x8x4096x4x2, .f32⟩
  | 108 => ⟨S16x4096x4x2, .f32⟩
  | 109 => ⟨S16x4096x4x1, .f32⟩
  | 110 => ⟨S16x4096x4, .f32⟩
  | 111 => ⟨S_, .f32⟩
  | 112 => ⟨S16x4096x4, .f32⟩
  | 113 => ⟨S16x4096x4, .f32⟩
  | 114 => ⟨S_, .f32⟩
  | 115 => ⟨S16x4096x4, .f32⟩
  | 116 => ⟨S16x4096x4, .f32⟩
  | 117 => ⟨S_, .f32⟩
  | 118 => ⟨S16x4096x4, .f32⟩
  | 119 => ⟨S16x4096x4, .f32⟩
  | 120 => ⟨S_, .f32⟩
  | 121 => ⟨S16x4096x4, .f32⟩
  | 122 => ⟨S16x4096x4, .f32⟩
  | 123 => ⟨S16x4096x4x1, .f32⟩
  | 124 => ⟨S16x4096x4, .f32⟩
  | 125 => ⟨S_, .f32⟩
  | 126 => ⟨S16x4096x4, .f32⟩
  | 127 => ⟨S16x4096x4, .f32⟩
  | _ => ⟨S4x2x256x32x32, .f32⟩

abbrev hbmTy0_56 (i : Nat) : BufTy := match i % 128 with
  | 0 => ⟨S_, .f32⟩
  | 1 => ⟨S16x4096x4, .f32⟩
  | 2 => ⟨S16x4096x4, .f32⟩
  | 3 => ⟨S_, .f32⟩
  | 4 => ⟨S16x4096x4, .f32⟩
  | 5 => ⟨S16x4096x4, .f32⟩
  | 6 => ⟨S_, .f32⟩
  | 7 => ⟨S16x4096x4, .f32⟩
  | 8 => ⟨S16x4096x4, .f32⟩
  | 9 => ⟨S16x4096x4, .f32⟩
  | 10 => ⟨S16x4096x4, .f32⟩
  | 11 => ⟨S_, .f32⟩
  | 12 => ⟨S16x4096x4, .f32⟩
  | 13 => ⟨S16x4096x4, .f32⟩
  | 14 => ⟨S_, .f32⟩
  | 15 => ⟨S16x4096x4, .f32⟩
  | 16 => ⟨S16x4096x4, .f32⟩
  | 17 => ⟨S16x4096x4, .f32⟩
  | 18 => ⟨S16x4096x4, .f32⟩
  | 19 => ⟨S16x4096x4, .f32⟩
  | 20 => ⟨S16x4096x4, .f32⟩
  | 21 => ⟨S16x4096x4, .f32⟩
  | 22 => ⟨S16x4096x4, .f32⟩
  | 23 => ⟨S16x4096x4, .f32⟩
  | 24 => ⟨S16x4096x4, .f32⟩
  | 25 => ⟨S16x4096x4, .f32⟩
  | 26 => ⟨S16x4096x4, .f32⟩
  | 27 => ⟨S16x4096x4, .f32⟩
  | 28 => ⟨S16x4096x4, .f32⟩
  | 29 => ⟨S16x32x1024, .f32⟩
  | 30 => ⟨S_, .f32⟩
  | 31 => ⟨S16x4096x4, .f32⟩
  | 32 => ⟨S16x4096x4, .i1⟩
  | 33 => ⟨S_, .f32⟩
  | 34 => ⟨S16x4096x4, .f32⟩
  | 35 => ⟨S16x4096x4, .i1⟩
  | 36 => ⟨S16x4096x4, .i1⟩
  | 37 => ⟨S_, .f32⟩
  | 38 => ⟨S16x4096x4, .f32⟩
  | 39 => ⟨S16x4096x4, .i1⟩
  | 40 => ⟨S16x4096x4, .i1⟩
  | 41 => ⟨S_, .f32⟩
  | 42 => ⟨S16x4096x4, .f32⟩
  | 43 => ⟨S16x4096x4, .i1⟩
  | 44 => ⟨S16x4096x4, .i1⟩
  | 45 => ⟨S_, .i32⟩
  | 46 => ⟨S_, .i32⟩
  | 47 => ⟨S_, .f32⟩
  | 48 => ⟨S16x4096x4, .f32⟩
  | 49 => ⟨S16x4096x4, .f32⟩
  | 50 => ⟨S_, .f32⟩
  | 51 => ⟨S16x4096x4, .f32⟩
  | 52 => ⟨S16x4096x4, .f32⟩
  | 53 => ⟨S16x4096x4, .i32⟩
  | 54 => ⟨S_, .i32⟩
  | 55 => ⟨S_, .i32⟩
  | 56 => ⟨S_, .f32⟩
  | 57 => ⟨S16x4096x4, .f32⟩
  | 58 => ⟨S16x4096x4, .f32⟩
  | 59 => ⟨S_, .f32⟩
  | 60 => ⟨S16x4096x4, .f32⟩
  | 61 => ⟨S16x4096x4, .f32⟩
  | 62 => ⟨S16x4096x4, .i32⟩
  | 63 => ⟨S_, .i32⟩
  | 64 => ⟨S16x4096x4, .i32⟩
  | 65 => ⟨S16x4096x4, .i32⟩
  | 66 => ⟨S16x4096x4, .i32⟩
  | 67 => ⟨S16x16384, .i32⟩
  | 68 => ⟨S16x1x16384, .i32⟩
  | 69 => ⟨S16x32x16384, .i32⟩
  | 70 => ⟨S_, .i32⟩
  | 71 => ⟨S16x32x16384, .i32⟩
  | 72 => ⟨S16x32x16384, .i1⟩
  | 73 => ⟨S_, .i32⟩
  | 74 => ⟨S16x32x16384, .i32⟩
  | 75 => ⟨S16x32x16384, .i32⟩
  | 76 => ⟨S16x32x16384, .i32⟩
  | 77 => ⟨S16x32x16384x1, .i32⟩
  | 78 => ⟨S1, .i32⟩
  | 79 => ⟨S_, .i32⟩
  | 80 => ⟨S16x32x16384x1, .i32⟩
  | 81 => ⟨S16x32x16384x1, .i1⟩
  | 82 => ⟨S1x1x1x1, .i32⟩
  | 83 => ⟨S16x32x16384x1, .i32⟩
  | 84 => ⟨S16x32x16384x1, .i1⟩
  | 85 => ⟨S16x32x16384x1, .i1⟩
  | 86 => ⟨S_, .i1⟩
  | 87 => ⟨S16x32x16384, .i1⟩
  | 88 => ⟨S16x32x16384, .f32⟩
  | 89 => ⟨S_, .f32⟩
  | 90 => ⟨S16x32x16384, .f32⟩
  | 91 => ⟨S16x32x16384, .f32⟩
  | 92 => ⟨S16x32x4096x4, .f32⟩
  | 93 => ⟨S16x1x4096x4, .i1⟩
  | 94 => ⟨S16x1x4096x4, .f32⟩
  | 95 => ⟨S16x32x4096x4, .f32⟩
  | 96 => ⟨S16x32x4096x4, .f32⟩
  | 97 => ⟨S16x1x4096x4, .f32⟩
  | 98 => ⟨S16x32x4096x4, .f32⟩
  | 99 => ⟨S16x32x4096x4, .f32⟩
  | 100 => ⟨S_, .f32⟩
  | 101 => ⟨S16x4096x4, .f32⟩
  | 102 => ⟨S16x4096x4, .i1⟩
  | 103 => ⟨S_, .f32⟩
  | 104 => ⟨S16x4096x4, .f32⟩
  | 105 => ⟨S16x4096x4, .i1⟩
  | 106 => ⟨S16x4096x4, .i1⟩
  | 107 => ⟨S_, .f32⟩
  | 108 => ⟨S16x4096x4, .f32⟩
  | 109 => ⟨S16x4096x4, .i1⟩
  | 110 => ⟨S16x4096x4, .i1⟩
  | 111 => ⟨S_, .f32⟩
  | 112 => ⟨S16x4096x4, .f32⟩
  | 113 => ⟨S16x4096x4, .i1⟩
  | 114 => ⟨S16x4096x4, .i1⟩
  | 115 => ⟨S_, .i32⟩
  | 116 => ⟨S_, .i32⟩
  | 117 => ⟨S_, .f32⟩
  | 118 => ⟨S16x4096x4, .f32⟩
  | 119 => ⟨S16x4096x4, .f32⟩
  | 120 => ⟨S_, .f32⟩
  | 121 => ⟨S16x4096x4, .f32⟩
  | 122 => ⟨S16x4096x4, .f32⟩
  | 123 => ⟨S16x4096x4, .i32⟩
  | 124 => ⟨S_, .i32⟩
  | 125 => ⟨S_, .i32⟩
  | 126 => ⟨S_, .f32⟩
  | 127 => ⟨S16x4096x4, .f32⟩
  | _ => ⟨S4x2x256x32x32, .f32⟩

abbrev hbmTy0_57 (i : Nat) : BufTy := match i % 128 with
  | 0 => ⟨S16x4096x4, .f32⟩
  | 1 => ⟨S_, .f32⟩
  | 2 => ⟨S16x4096x4, .f32⟩
  | 3 => ⟨S16x4096x4, .f32⟩
  | 4 => ⟨S16x4096x4, .i32⟩
  | 5 => ⟨S_, .i32⟩
  | 6 => ⟨S16x4096x4, .i32⟩
  | 7 => ⟨S16x4096x4, .i32⟩
  | 8 => ⟨S16x4096x4, .i32⟩
  | 9 => ⟨S16x16384, .i32⟩
  | 10 => ⟨S16x1x16384, .i32⟩
  | 11 => ⟨S16x32x16384, .i32⟩
  | 12 => ⟨S_, .i32⟩
  | 13 => ⟨S16x32x16384, .i32⟩
  | 14 => ⟨S16x32x16384, .i1⟩
  | 15 => ⟨S_, .i32⟩
  | 16 => ⟨S16x32x16384, .i32⟩
  | 17 => ⟨S16x32x16384, .i32⟩
  | 18 => ⟨S16x32x16384, .i32⟩
  | 19 => ⟨S16x32x16384x1, .i32⟩
  | 20 => ⟨S1, .i32⟩
  | 21 => ⟨S_, .i32⟩
  | 22 => ⟨S16x32x16384x1, .i32⟩
  | 23 => ⟨S16x32x16384x1, .i1⟩
  | 24 => ⟨S1x1x1x1, .i32⟩
  | 25 => ⟨S16x32x16384x1, .i32⟩
  | 26 => ⟨S16x32x16384x1, .i1⟩
  | 27 => ⟨S16x32x16384x1, .i1⟩
  | 28 => ⟨S_, .i1⟩
  | 29 => ⟨S16x32x16384, .i1⟩
  | 30 => ⟨S16x32x16384, .f32⟩
  | 31 => ⟨S_, .f32⟩
  | 32 => ⟨S16x32x16384, .f32⟩
  | 33 => ⟨S16x32x16384, .f32⟩
  | 34 => ⟨S16x32x4096x4, .f32⟩
  | 35 => ⟨S16x1x4096x4, .i1⟩
  | 36 => ⟨S16x1x4096x4, .f32⟩
  | 37 => ⟨S16x32x4096x4, .f32⟩
  | 38 => ⟨S16x32x4096x4, .f32⟩
  | 39 => ⟨S16x1x4096x4, .f32⟩
  | 40 => ⟨S16x32x4096x4, .f32⟩
  | 41 => ⟨S16x32x4096x4, .f32⟩
  | 42 => ⟨S16x32x4096x4, .f32⟩
  | 43 => ⟨S_, .f32⟩
  | 44 => ⟨S16x4096x4, .f32⟩
  | 45 => ⟨S16x4096x4, .i1⟩
  | 46 => ⟨S_, .f32⟩
  | 47 => ⟨S16x4096x4, .f32⟩
  | 48 => ⟨S16x4096x4, .i1⟩
  | 49 => ⟨S16x4096x4, .i1⟩
  | 50 => ⟨S_, .f32⟩
  | 51 => ⟨S16x4096x4, .f32⟩
  | 52 => ⟨S16x4096x4, .i1⟩
  | 53 => ⟨S16x4096x4, .i1⟩
  | 54 => ⟨S_, .f32⟩
  | 55 => ⟨S16x4096x4, .f32⟩
  | 56 => ⟨S16x4096x4, .i1⟩
  | 57 => ⟨S16x4096x4, .i1⟩
  | 58 => ⟨S_, .i32⟩
  | 59 => ⟨S_, .i32⟩
  | 60 => ⟨S_, .f32⟩
  | 61 => ⟨S16x4096x4, .f32⟩
  | 62 => ⟨S16x4096x4, .f32⟩
  | 63 => ⟨S_, .f32⟩
  | 64 => ⟨S16x4096x4, .f32⟩
  | 65 => ⟨S16x4096x4, .f32⟩
  | 66 => ⟨S16x4096x4, .i32⟩
  | 67 => ⟨S_, .i32⟩
  | 68 => ⟨S_, .i32⟩
  | 69 => ⟨S_, .f32⟩
  | 70 => ⟨S16x4096x4, .f32⟩
  | 71 => ⟨S16x4096x4, .f32⟩
  | 72 => ⟨S_, .f32⟩
  | 73 => ⟨S16x4096x4, .f32⟩
  | 74 => ⟨S16x4096x4, .f32⟩
  | 75 => ⟨S16x4096x4, .i32⟩
  | 76 => ⟨S_, .i32⟩
  | 77 => ⟨S16x4096x4, .i32⟩
  | 78 => ⟨S16x4096x4, .i32⟩
  | 79 => ⟨S16x4096x4, .i32⟩
  | 80 => ⟨S16x16384, .i32⟩
  | 81 => ⟨S16x1x16384, .i32⟩
  | 82 => ⟨S16x32x16384, .i32⟩
  | 83 => ⟨S_, .i32⟩
  | 84 => ⟨S16x32x16384, .i32⟩
  | 85 => ⟨S16x32x16384, .i1⟩
  | 86 => ⟨S_, .i32⟩
  | 87 => ⟨S16x32x16384, .i32⟩
  | 88 => ⟨S16x32x16384, .i32⟩
  | 89 => ⟨S16x32x16384, .i32⟩
  | 90 => ⟨S16x32x16384x1, .i32⟩
  | 91 => ⟨S1, .i32⟩
  | 92 => ⟨S_, .i32⟩
  | 93 => ⟨S16x32x16384x1, .i32⟩
  | 94 => ⟨S16x32x16384x1, .i1⟩
  | 95 => ⟨S1x1x1x1, .i32⟩
  | 96 => ⟨S16x32x16384x1, .i32⟩
  | 97 => ⟨S16x32x16384x1, .i1⟩
  | 98 => ⟨S16x32x16384x1, .i1⟩
  | 99 => ⟨S_, .i1⟩
  | 100 => ⟨S16x32x16384, .i1⟩
  | 101 => ⟨S16x32x16384, .f32⟩
  | 102 => ⟨S_, .f32⟩
  | 103 => ⟨S16x32x16384, .f32⟩
  | 104 => ⟨S16x32x16384, .f32⟩
  | 105 => ⟨S16x32x4096x4, .f32⟩
  | 106 => ⟨S16x1x4096x4, .i1⟩
  | 107 => ⟨S16x1x4096x4, .f32⟩
  | 108 => ⟨S16x32x4096x4, .f32⟩
  | 109 => ⟨S16x32x4096x4, .f32⟩
  | 110 => ⟨S16x1x4096x4, .f32⟩
  | 111 => ⟨S16x32x4096x4, .f32⟩
  | 112 => ⟨S16x32x4096x4, .f32⟩
  | 113 => ⟨S16x32x4096x4, .f32⟩
  | 114 => ⟨S_, .f32⟩
  | 115 => ⟨S16x4096x4, .f32⟩
  | 116 => ⟨S16x4096x4, .i1⟩
  | 117 => ⟨S_, .f32⟩
  | 118 => ⟨S16x4096x4, .f32⟩
  | 119 => ⟨S16x4096x4, .i1⟩
  | 120 => ⟨S16x4096x4, .i1⟩
  | 121 => ⟨S_, .f32⟩
  | 122 => ⟨S16x4096x4, .f32⟩
  | 123 => ⟨S16x4096x4, .i1⟩
  | 124 => ⟨S16x4096x4, .i1⟩
  | 125 => ⟨S_, .f32⟩
  | 126 => ⟨S16x4096x4, .f32⟩
  | 127 => ⟨S16x4096x4, .i1⟩
  | _ => ⟨S4x2x256x32x32, .f32⟩

abbrev hbmTy0_58 (i : Nat) : BufTy := match i % 128 with
  | 0 => ⟨S16x4096x4, .i1⟩
  | 1 => ⟨S_, .i32⟩
  | 2 => ⟨S_, .i32⟩
  | 3 => ⟨S_, .f32⟩
  | 4 => ⟨S16x4096x4, .f32⟩
  | 5 => ⟨S16x4096x4, .f32⟩
  | 6 => ⟨S_, .f32⟩
  | 7 => ⟨S16x4096x4, .f32⟩
  | 8 => ⟨S16x4096x4, .f32⟩
  | 9 => ⟨S16x4096x4, .i32⟩
  | 10 => ⟨S_, .i32⟩
  | 11 => ⟨S_, .i32⟩
  | 12 => ⟨S_, .f32⟩
  | 13 => ⟨S16x4096x4, .f32⟩
  | 14 => ⟨S16x4096x4, .f32⟩
  | 15 => ⟨S_, .f32⟩
  | 16 => ⟨S16x4096x4, .f32⟩
  | 17 => ⟨S16x4096x4, .f32⟩
  | 18 => ⟨S16x4096x4, .i32⟩
  | 19 => ⟨S_, .i32⟩
  | 20 => ⟨S16x4096x4, .i32⟩
  | 21 => ⟨S16x4096x4, .i32⟩
  | 22 => ⟨S16x4096x4, .i32⟩
  | 23 => ⟨S16x16384, .i32⟩
  | 24 => ⟨S16x1x16384, .i32⟩
  | 25 => ⟨S16x32x16384, .i32⟩
  | 26 => ⟨S_, .i32⟩
  | 27 => ⟨S16x32x16384, .i32⟩
  | 28 => ⟨S16x32x16384, .i1⟩
  | 29 => ⟨S_, .i32⟩
  | 30 => ⟨S16x32x16384, .i32⟩
  | 31 => ⟨S16x32x16384, .i32⟩
  | 32 => ⟨S16x32x16384, .i32⟩
  | 33 => ⟨S16x32x16384x1, .i32⟩
  | 34 => ⟨S1, .i32⟩
  | 35 => ⟨S_, .i32⟩
  | 36 => ⟨S16x32x16384x1, .i32⟩
  | 37 => ⟨S16x32x16384x1, .i1⟩
  | 38 => ⟨S1x1x1x1, .i32⟩
  | 39 => ⟨S16x32x16384x1, .i32⟩
  | 40 => ⟨S16x32x16384x1, .i1⟩
  | 41 => ⟨S16x32x16384x1, .i1⟩
  | 42 => ⟨S_, .i1⟩
  | 43 => ⟨S16x32x16384, .i1⟩
  | 44 => ⟨S16x32x16384, .f32⟩
  | 45 => ⟨S_, .f32⟩
  | 46 => ⟨S16x32x16384, .f32⟩
  | 47 => ⟨S16x32x16384, .f32⟩
  | 48 => ⟨S16x32x4096x4, .f32⟩
  | 49 => ⟨S16x1x4096x4, .i1⟩
  | 50 => ⟨S16x1x4096x4, .f32⟩
  | 51 => ⟨S16x32x4096x4, .f32⟩
  | 52 => ⟨S16x32x4096x4, .f32⟩
  | 53 => ⟨S16x1x4096x4, .f32⟩
  | 54 => ⟨S16x32x4096x4, .f32⟩
  | 55 => ⟨S16x32x4096x4, .f32⟩
  | 56 => ⟨S16x32x4096x4, .f32⟩
  | 57 => ⟨S2x1024x8x32, .f32⟩
  | 58 => ⟨S2x8x32x1024, .f32⟩
  | 59 => ⟨S16x32x32x32, .f32⟩
  | 60 => ⟨S2x4096x8x1x4x2, .f32⟩
  | 61 => ⟨S2x4096x8x4x2, .f32⟩
  | 62 => ⟨S2x8x4096x4x2, .f32⟩
  | 63 => ⟨S16x4096x4x2, .f32⟩
  | 64 => ⟨S16x4096x4x1, .f32⟩
  | 65 => ⟨S16x4096x4, .f32⟩
  | 66 => ⟨S_, .f32⟩
  | 67 => ⟨S16x4096x4, .f32⟩
  | 68 => ⟨S16x4096x4, .f32⟩
  | 69 => ⟨S_, .f32⟩
  | 70 => ⟨S16x4096x4, .f32⟩
  | 71 => ⟨S16x4096x4, .f32⟩
  | 72 => ⟨S_, .f32⟩
  | 73 => ⟨S16x4096x4, .f32⟩
  | 74 => ⟨S16x4096x4, .f32⟩
  | 75 => ⟨S_, .f32⟩
  | 76 => ⟨S16x4096x4, .f32⟩
  | 77 => ⟨S16x4096x4, .f32⟩
  | 78 => ⟨S16x4096x4x1, .f32⟩
  | 79 => ⟨S16x4096x4, .f32⟩
  | 80 => ⟨S_, .f32⟩
  | 81 => ⟨S16x4096x4, .f32⟩
  | 82 => ⟨S16x4096x4, .f32⟩
  | 83 => ⟨S_, .f32⟩
  | 84 => ⟨S16x4096x4, .f32⟩
  | 85 => ⟨S16x4096x4, .f32⟩
  | 86 => ⟨S_, .f32⟩
  | 87 => ⟨S16x4096x4, .f32⟩
  | 88 => ⟨S16x4096x4, .f32⟩
  | 89 => ⟨S_, .f32⟩
  | 90 => ⟨S16x4096x4, .f32⟩
  | 91 => ⟨S16x4096x4, .f32⟩
  | 92 => ⟨S16x4096x4, .f32⟩
  | 93 => ⟨S16x4096x4, .f32⟩
  | 94 => ⟨S_, .f32⟩
  | 95 => ⟨S16x4096x4, .f32⟩
  | 96 => ⟨S16x4096x4, .f32⟩
  | 97 => ⟨S_, .f32⟩
  | 98 => ⟨S16x4096x4, .f32⟩
  | 99 => ⟨S16x4096x4, .f32⟩
  | 100 => ⟨S16x4096x4, .f32⟩
  | 101 => ⟨S16x4096x4, .f32⟩
  | 102 => ⟨S16x4096x4, .f32⟩
  | 103 => ⟨S16x4096x4, .f32⟩
  | 104 => ⟨S16x4096x4, .f32⟩
  | 105 => ⟨S16x4096x4, .f32⟩
  | 106 => ⟨S16x4096x4, .f32⟩
  | 107 => ⟨S16x4096x4, .f32⟩
  | 108 => ⟨S16x4096x4, .f32⟩
  | 109 => ⟨S16x4096x4, .f32⟩
  | 110 => ⟨S16x4096x4, .f32⟩
  | 111 => ⟨S16x4096x4, .f32⟩
  | 112 => ⟨S16x32x1024, .f32⟩
  | 113 => ⟨S_, .f32⟩
  | 114 => ⟨S16x4096x4, .f32⟩
  | 115 => ⟨S16x4096x4, .i1⟩
  | 116 => ⟨S_, .f32⟩
  | 117 => ⟨S16x4096x4, .f32⟩
  | 118 => ⟨S16x4096x4, .i1⟩
  | 119 => ⟨S16x4096x4, .i1⟩
  | 120 => ⟨S_, .f32⟩
  | 121 => ⟨S16x4096x4, .f32⟩
  | 122 => ⟨S16x4096x4, .i1⟩
  | 123 => ⟨S16x4096x4, .i1⟩
  | 124 => ⟨S_, .f32⟩
  | 125 => ⟨S16x4096x4, .f32⟩
  | 126 => ⟨S16x4096x4, .i1⟩
  | 127 => ⟨S16x4096x4, .i1⟩
  | _ => ⟨S4x2x256x32x32, .f32⟩

abbrev hbmTy0_59 (i : Nat) : BufTy := match i % 128 with
  | 0 => ⟨S_, .i32⟩
  | 1 => ⟨S_, .i32⟩
  | 2 => ⟨S_, .f32⟩
  | 3 => ⟨S16x4096x4, .f32⟩
  | 4 => ⟨S16x4096x4, .f32⟩
  | 5 => ⟨S_, .f32⟩
  | 6 => ⟨S16x4096x4, .f32⟩
  | 7 => ⟨S16x4096x4, .f32⟩
  | 8 => ⟨S16x4096x4, .i32⟩
  | 9 => ⟨S_, .i32⟩
  | 10 => ⟨S_, .i32⟩
  | 11 => ⟨S_, .f32⟩
  | 12 => ⟨S16x4096x4, .f32⟩
  | 13 => ⟨S16x4096x4, .f32⟩
  | 14 => ⟨S_, .f32⟩
  | 15 => ⟨S16x4096x4, .f32⟩
  | 16 => ⟨S16x4096x4, .f32⟩
  | 17 => ⟨S16x4096x4, .i32⟩
  | 18 => ⟨S_, .i32⟩
  | 19 => ⟨S16x4096x4, .i32⟩
  | 20 => ⟨S16x4096x4, .i32⟩
  | 21 => ⟨S16x4096x4, .i32⟩
  | 22 => ⟨S16x16384, .i32⟩
  | 23 => ⟨S16x1x16384, .i32⟩
  | 24 => ⟨S16x32x16384, .i32⟩
  | 25 => ⟨S_, .i32⟩
  | 26 => ⟨S16x32x16384, .i32⟩
  | 27 => ⟨S16x32x16384, .i1⟩
  | 28 => ⟨S_, .i32⟩
  | 29 => ⟨S16x32x16384, .i32⟩
  | 30 => ⟨S16x32x16384, .i32⟩
  | 31 => ⟨S16x32x16384, .i32⟩
  | 32 => ⟨S16x32x16384x1, .i32⟩
  | 33 => ⟨S1, .i32⟩
  | 34 => ⟨S_, .i32⟩
  | 35 => ⟨S16x32x16384x1, .i32⟩
  | 36 => ⟨S16x32x16384x1, .i1⟩
  | 37 => ⟨S1x1x1x1, .i32⟩
  | 38 => ⟨S16x32x16384x1, .i32⟩
  | 39 => ⟨S16x32x16384x1, .i1⟩
  | 40 => ⟨S16x32x16384x1, .i1⟩
  | 41 => ⟨S_, .i1⟩
  | 42 => ⟨S16x32x16384, .i1⟩
  | 43 => ⟨S16x32x16384, .f32⟩
  | 44 => ⟨S_, .f32⟩
  | 45 => ⟨S16x32x16384, .f32⟩
  | 46 => ⟨S16x32x16384, .f32⟩
  | 47 => ⟨S16x32x4096x4, .f32⟩
  | 48 => ⟨S16x1x4096x4, .i1⟩
  | 49 => ⟨S16x1x4096x4, .f32⟩
  | 50 => ⟨S16x32x4096x4, .f32⟩
  | 51 => ⟨S16x32x4096x4, .f32⟩
  | 52 => ⟨S16x1x4096x4, .f32⟩
  | 53 => ⟨S16x32x4096x4, .f32⟩
  | 54 => ⟨S16x32x4096x4, .f32⟩
  | 55 => ⟨S_, .f32⟩
  | 56 => ⟨S16x4096x4, .f32⟩
  | 57 => ⟨S16x4096x4, .i1⟩
  | 58 => ⟨S_, .f32⟩
  | 59 => ⟨S16x4096x4, .f32⟩
  | 60 => ⟨S16x4096x4, .i1⟩
  | 61 => ⟨S16x4096x4, .i1⟩
  | 62 => ⟨S_, .f32⟩
  | 63 => ⟨S16x4096x4, .f32⟩
  | 64 => ⟨S16x4096x4, .i1⟩
  | 65 => ⟨S16x4096x4, .i1⟩
  | 66 => ⟨S_, .f32⟩
  | 67 => ⟨S16x4096x4, .f32⟩
  | 68 => ⟨S16x4096x4, .i1⟩
  | 69 => ⟨S16x4096x4, .i1⟩
  | 70 => ⟨S_, .i32⟩
  | 71 => ⟨S_, .i32⟩
  | 72 => ⟨S_, .f32⟩
  | 73 => ⟨S16x4096x4, .f32⟩
  | 74 => ⟨S16x4096x4, .f32⟩
  | 75 => ⟨S_, .f32⟩
  | 76 => ⟨S16x4096x4, .f32⟩
  | 77 => ⟨S16x4096x4, .f32⟩
  | 78 => ⟨S16x4096x4, .i32⟩
  | 79 => ⟨S_, .i32⟩
  | 80 => ⟨S_, .i32⟩
  | 81 => ⟨S_, .f32⟩
  | 82 => ⟨S16x4096x4, .f32⟩
  | 83 => ⟨S16x4096x4, .f32⟩
  | 84 => ⟨S_, .f32⟩
  | 85 => ⟨S16x4096x4, .f32⟩
  | 86 => ⟨S16x4096x4, .f32⟩
  | 87 => ⟨S16x4096x4, .i32⟩
  | 88 => ⟨S_, .i32⟩
  | 89 => ⟨S16x4096x4, .i32⟩
  | 90 => ⟨S16x4096x4, .i32⟩
  | 91 => ⟨S16x4096x4, .i32⟩
  | 92 => ⟨S16x16384, .i32⟩
  | 93 => ⟨S16x1x16384, .i32⟩
  | 94 => ⟨S16x32x16384, .i32⟩
  | 95 => ⟨S_, .i32⟩
  | 96 => ⟨S16x32x16384, .i32⟩
  | 97 => ⟨S16x32x16384, .i1⟩
  | 98 => ⟨S_, .i32⟩
  | 99 => ⟨S16x32x16384, .i32⟩
  | 100 => ⟨S16x32x16384, .i32⟩
  | 101 => ⟨S16x32x16384, .i32⟩
  | 102 => ⟨S16x32x16384x1, .i32⟩
  | 103 => ⟨S1, .i32⟩
  | 104 => ⟨S_, .i32⟩
  | 105 => ⟨S16x32x16384x1, .i32⟩
  | 106 => ⟨S16x32x16384x1, .i1⟩
  | 107 => ⟨S1x1x1x1, .i32⟩
  | 108 => ⟨S16x32x16384x1, .i32⟩
  | 109 => ⟨S16x32x16384x1, .i1⟩
  | 110 => ⟨S16x32x16384x1, .i1⟩
  | 111 => ⟨S_, .i1⟩
  | 112 => ⟨S16x32x16384, .i1⟩
  | 113 => ⟨S16x32x16384, .f32⟩
  | 114 => ⟨S_, .f32⟩
  | 115 => ⟨S16x32x16384, .f32⟩
  | 116 => ⟨S16x32x16384, .f32⟩
  | 117 => ⟨S16x32x4096x4, .f32⟩
  | 118 => ⟨S16x1x4096x4, .i1⟩
  | 119 => ⟨S16x1x4096x4, .f32⟩
  | 120 => ⟨S16x32x4096x4, .f32⟩
  | 121 => ⟨S16x32x4096x4, .f32⟩
  | 122 => ⟨S16x1x4096x4, .f32⟩
  | 123 => ⟨S16x32x4096x4, .f32⟩
  | 124 => ⟨S16x32x4096x4, .f32⟩
  | 125 => ⟨S16x32x4096x4, .f32⟩
  | 126 => ⟨S_, .f32⟩
  | 127 => ⟨S16x4096x4, .f32⟩
  | _ => ⟨S4x2x256x32x32, .f32⟩

abbrev hbmTy0_60 (i : Nat) : BufTy := match i % 128 with
  | 0 => ⟨S16x4096x4, .i1⟩
  | 1 => ⟨S_, .f32⟩
  | 2 => ⟨S16x4096x4, .f32⟩
  | 3 => ⟨S16x4096x4, .i1⟩
  | 4 => ⟨S16x4096x4, .i1⟩
  | 5 => ⟨S_, .f32⟩
  | 6 => ⟨S16x4096x4, .f32⟩
  | 7 => ⟨S16x4096x4, .i1⟩
  | 8 => ⟨S16x4096x4, .i1⟩
  | 9 => ⟨S_, .f32⟩
  | 10 => ⟨S16x4096x4, .f32⟩
  | 11 => ⟨S16x4096x4, .i1⟩
  | 12 => ⟨S16x4096x4, .i1⟩
  | 13 => ⟨S_, .i32⟩
  | 14 => ⟨S_, .i32⟩
  | 15 => ⟨S_, .f32⟩
  | 16 => ⟨S16x4096x4, .f32⟩
  | 17 => ⟨S16x4096x4, .f32⟩
  | 18 => ⟨S_, .f32⟩
  | 19 => ⟨S16x4096x4, .f32⟩
  | 20 => ⟨S16x4096x4, .f32⟩
  | 21 => ⟨S16x4096x4, .i32⟩
  | 22 => ⟨S_, .i32⟩
  | 23 => ⟨S_, .i32⟩
  | 24 => ⟨S_, .f32⟩
  | 25 => ⟨S16x4096x4, .f32⟩
  | 26 => ⟨S16x4096x4, .f32⟩
  | 27 => ⟨S_, .f32⟩
  | 28 => ⟨S16x4096x4, .f32⟩
  | 29 => ⟨S16x4096x4, .f32⟩
  | 30 => ⟨S16x4096x4, .i32⟩
  | 31 => ⟨S_, .i32⟩
  | 32 => ⟨S16x4096x4, .i32⟩
  | 33 => ⟨S16x4096x4, .i32⟩
  | 34 => ⟨S16x4096x4, .i32⟩
  | 35 => ⟨S16x16384, .i32⟩
  | 36 => ⟨S16x1x16384, .i32⟩
  | 37 => ⟨S16x32x16384, .i32⟩
  | 38 => ⟨S_, .i32⟩
  | 39 => ⟨S16x32x16384, .i32⟩
  | 40 => ⟨S16x32x16384, .i1⟩
  | 41 => ⟨S_, .i32⟩
  | 42 => ⟨S16x32x16384, .i32⟩
  | 43 => ⟨S16x32x16384, .i32⟩
  | 44 => ⟨S16x32x16384, .i32⟩
  | 45 => ⟨S16x32x16384x1, .i32⟩
  | 46 => ⟨S1, .i32⟩
  | 47 => ⟨S_, .i32⟩
  | 48 => ⟨S16x32x16384x1, .i32⟩
  | 49 => ⟨S16x32x16384x1, .i1⟩
  | 50 => ⟨S1x1x1x1, .i32⟩
  | 51 => ⟨S16x32x16384x1, .i32⟩
  | 52 => ⟨S16x32x16384x1, .i1⟩
  | 53 => ⟨S16x32x16384x1, .i1⟩
  | 54 => ⟨S_, .i1⟩
  | 55 => ⟨S16x32x16384, .i1⟩
  | 56 => ⟨S16x32x16384, .f32⟩
  | 57 => ⟨S_, .f32⟩
  | 58 => ⟨S16x32x16384, .f32⟩
  | 59 => ⟨S16x32x16384, .f32⟩
  | 60 => ⟨S16x32x4096x4, .f32⟩
  | 61 => ⟨S16x1x4096x4, .i1⟩
  | 62 => ⟨S16x1x4096x4, .f32⟩
  | 63 => ⟨S16x32x4096x4, .f32⟩
  | 64 => ⟨S16x32x4096x4, .f32⟩
  | 65 => ⟨S16x1x4096x4, .f32⟩
  | 66 => ⟨S16x32x4096x4, .f32⟩
  | 67 => ⟨S16x32x4096x4, .f32⟩
  | 68 => ⟨S16x32x4096x4, .f32⟩
  | 69 => ⟨S_, .f32⟩
  | 70 => ⟨S16x4096x4, .f32⟩
  | 71 => ⟨S16x4096x4, .i1⟩
  | 72 => ⟨S_, .f32⟩
  | 73 => ⟨S16x4096x4, .f32⟩
  | 74 => ⟨S16x4096x4, .i1⟩
  | 75 => ⟨S16x4096x4, .i1⟩
  | 76 => ⟨S_, .f32⟩
  | 77 => ⟨S16x4096x4, .f32⟩
  | 78 => ⟨S16x4096x4, .i1⟩
  | 79 => ⟨S16x4096x4, .i1⟩
  | 80 => ⟨S_, .f32⟩
  | 81 => ⟨S16x4096x4, .f32⟩
  | 82 => ⟨S16x4096x4, .i1⟩
  | 83 => ⟨S16x4096x4, .i1⟩
  | 84 => ⟨S_, .i32⟩
  | 85 => ⟨S_, .i32⟩
  | 86 => ⟨S_, .f32⟩
  | 87 => ⟨S16x4096x4, .f32⟩
  | 88 => ⟨S16x4096x4, .f32⟩
  | 89 => ⟨S_, .f32⟩
  | 90 => ⟨S16x4096x4, .f32⟩
  | 91 => ⟨S16x4096x4, .f32⟩
  | 92 => ⟨S16x4096x4, .i32⟩
  | 93 => ⟨S_, .i32⟩
  | 94 => ⟨S_, .i32⟩
  | 95 => ⟨S_, .f32⟩
  | 96 => ⟨S16x4096x4, .f32⟩
  | 97 => ⟨S16x4096x4, .f32⟩
  | 98 => ⟨S_, .f32⟩
  | 99 => ⟨S16x4096x4, .f32⟩
  | 100 => ⟨S16x4096x4, .f32⟩
  | 101 => ⟨S16x4096x4, .i32⟩
  | 102 => ⟨S_, .i32⟩
  | 103 => ⟨S16x4096x4, .i32⟩
  | 104 => ⟨S16x4096x4, .i32⟩
  | 105 => ⟨S16x4096x4, .i32⟩
  | 106 => ⟨S16x16384, .i32⟩
  | 107 => ⟨S16x1x16384, .i32⟩
  | 108 => ⟨S16x32x16384, .i32⟩
  | 109 => ⟨S_, .i32⟩
  | 110 => ⟨S16x32x16384, .i32⟩
  | 111 => ⟨S16x32x16384, .i1⟩
  | 112 => ⟨S_, .i32⟩
  | 113 => ⟨S16x32x16384, .i32⟩
  | 114 => ⟨S16x32x16384, .i32⟩
  | 115 => ⟨S16x32x16384, .i32⟩
  | 116 => ⟨S16x32x16384x1, .i32⟩
  | 117 => ⟨S1, .i32⟩
  | 118 => ⟨S_, .i32⟩
  | 119 => ⟨S16x32x16384x1, .i32⟩
  | 120 => ⟨S16x32x16384x1, .i1⟩
  | 121 => ⟨S1x1x1x1, .i32⟩
  | 122 => ⟨S16x32x16384x1, .i32⟩
  | 123 => ⟨S16x32x16384x1, .i1⟩
  | 124 => ⟨S16x32x16384x1, .i1⟩
  | 125 => ⟨S_, .i1⟩
  | 126 => ⟨S16x32x16384, .i1⟩
  | 127 => ⟨S16x32x16384, .f32⟩
  | _ => ⟨S4x2x256x32x32, .f32⟩

abbrev hbmTy0_61 (i : Nat) : BufTy := match i % 128 with
  | 0 => ⟨S_, .f32⟩
  | 1 => ⟨S16x32x16384, .f32⟩
  | 2 => ⟨S16x32x16384, .f32⟩
  | 3 => ⟨S16x32x4096x4, .f32⟩
  | 4 => ⟨S16x1x4096x4, .i1⟩
  | 5 => ⟨S16x1x4096x4, .f32⟩
  | 6 => ⟨S16x32x4096x4, .f32⟩
  | 7 => ⟨S16x32x4096x4, .f32⟩
  | 8 => ⟨S16x1x4096x4, .f32⟩
  | 9 => ⟨S16x32x4096x4, .f32⟩
  | 10 => ⟨S16x32x4096x4, .f32⟩
  | 11 => ⟨S16x32x4096x4, .f32⟩
  | 12 => ⟨S16x32x4096x1x4, .f32⟩
  | 13 => ⟨S16x32x4096x1x4, .f32⟩
  | 14 => ⟨S16x32x4096x1x4, .f32⟩
  | 15 => ⟨S16x32x4096x1x4, .f32⟩
  | 16 => ⟨S16x32x4096x4x4, .f32⟩
  | 17 => ⟨S16x32x4096x16, .f32⟩
  | 18 => ⟨S2x8x4096x4x4, .f32⟩
  | 19 => ⟨S16x1x4096x16, .f32⟩
  | 20 => ⟨S16x32x4096x16, .f32⟩
  | 21 => ⟨S16x32x4096x16, .f32⟩
  | 22 => ⟨S_, .f32⟩
  | 23 => ⟨S16x32x4096, .f32⟩
  | 24 => ⟨S2x256x4096, .f32⟩
  | 25 => ⟨S2x4096x256, .f32⟩
  | 26 => ⟨S1x256x256, .f32⟩
  | 27 => ⟨S256x256, .f32⟩
  | 28 => ⟨S2x4096x256, .f32⟩
  | 29 => ⟨S1x256, .f32⟩
  | 30 => ⟨S256, .f32⟩
  | 31 => ⟨S1x1x256, .f32⟩
  | 32 => ⟨S2x4096x256, .f32⟩
  | 33 => ⟨S2x4096x256, .f32⟩
  | 34 => ⟨S2x4096x256, .f32⟩
  | 35 => ⟨S1x256, .f32⟩
  | 36 => ⟨S256, .f32⟩
  | 37 => ⟨S1x256, .f32⟩
  | 38 => ⟨S256, .f32⟩
  | 39 => ⟨S_, .f32⟩
  | 40 => ⟨S2x4096, .f32⟩
  | 41 => ⟨S2x4096x1, .f32⟩
  | 42 => ⟨S_, .f32⟩
  | 43 => ⟨S2x4096x1, .f32⟩
  | 44 => ⟨S2x4096x1, .f32⟩
  | 45 => ⟨S2x4096x256, .f32⟩
  | 46 => ⟨S2x4096x256, .f32⟩
  | 47 => ⟨S2x4096x256, .f32⟩
  | 48 => ⟨S_, .f32⟩
  | 49 => ⟨S2x4096, .f32⟩
  | 50 => ⟨S2x4096x1, .f32⟩
  | 51 => ⟨S_, .f32⟩
  | 52 => ⟨S2x4096x1, .f32⟩
  | 53 => ⟨S2x4096x1, .f32⟩
  | 54 => ⟨S2x4096x256, .f32⟩
  | 55 => ⟨S2x4096x256, .f32⟩
  | 56 => ⟨S_, .f32⟩
  | 57 => ⟨S2x4096x1, .f32⟩
  | 58 => ⟨S2x4096x1, .f32⟩
  | 59 => ⟨S2x4096x1, .f32⟩
  | 60 => ⟨S2x4096x256, .f32⟩
  | 61 => ⟨S2x4096x256, .f32⟩
  | 62 => ⟨S1x1x256, .f32⟩
  | 63 => ⟨S2x4096x256, .f32⟩
  | 64 => ⟨S2x4096x256, .f32⟩
  | 65 => ⟨S1x1x256, .f32⟩
  | 66 => ⟨S2x4096x256, .f32⟩
  | 67 => ⟨S2x4096x256, .f32⟩
  | 68 => ⟨S1x256x1024, .f32⟩
  | 69 => ⟨S256x1024, .f32⟩
  | 70 => ⟨S2x4096x1024, .f32⟩
  | 71 => ⟨S1x1024, .f32⟩
  | 72 => ⟨S1024, .f32⟩
  | 73 => ⟨S1x1x1024, .f32⟩
  | 74 => ⟨S2x4096x1024, .f32⟩
  | 75 => ⟨S2x4096x1024, .f32⟩
  | 76 => ⟨S_, .f32⟩
  | 77 => ⟨S2x4096x1024, .f32⟩
  | 78 => ⟨S2x4096x1024, .f32⟩
  | 79 => ⟨S1x1024x256, .f32⟩
  | 80 => ⟨S1024x256, .f32⟩
  | 81 => ⟨S2x4096x256, .f32⟩
  | 82 => ⟨S1x256, .f32⟩
  | 83 => ⟨S256, .f32⟩
  | 84 => ⟨S1x1x256, .f32⟩
  | 85 => ⟨S2x4096x256, .f32⟩
  | 86 => ⟨S2x4096x256, .f32⟩
  | 87 => ⟨S2x4096x256, .f32⟩
  | 88 => ⟨S1x256, .f32⟩
  | 89 => ⟨S256, .f32⟩
  | 90 => ⟨S1x256, .f32⟩
  | 91 => ⟨S256, .f32⟩
  | 92 => ⟨S_, .f32⟩
  | 93 => ⟨S2x4096, .f32⟩
  | 94 => ⟨S2x4096x1, .f32⟩
  | 95 => ⟨S_, .f32⟩
  | 96 => ⟨S2x4096x1, .f32⟩
  | 97 => ⟨S2x4096x1, .f32⟩
  | 98 => ⟨S2x4096x256, .f32⟩
  | 99 => ⟨S2x4096x256, .f32⟩
  | 100 => ⟨S2x4096x256, .f32⟩
  | 101 => ⟨S_, .f32⟩
  | 102 => ⟨S2x4096, .f32⟩
  | 103 => ⟨S2x4096x1, .f32⟩
  | 104 => ⟨S_, .f32⟩
  | 105 => ⟨S2x4096x1, .f32⟩
  | 106 => ⟨S2x4096x1, .f32⟩
  | 107 => ⟨S2x4096x256, .f32⟩
  | 108 => ⟨S2x4096x256, .f32⟩
  | 109 => ⟨S_, .f32⟩
  | 110 => ⟨S2x4096x1, .f32⟩
  | 111 => ⟨S2x4096x1, .f32⟩
  | 112 => ⟨S2x4096x1, .f32⟩
  | 113 => ⟨S2x4096x256, .f32⟩
  | 114 => ⟨S2x4096x256, .f32⟩
  | 115 => ⟨S1x1x256, .f32⟩
  | 116 => ⟨S2x4096x256, .f32⟩
  | 117 => ⟨S2x4096x256, .f32⟩
  | 118 => ⟨S1x1x256, .f32⟩
  | 119 => ⟨S2x4096x256, .f32⟩
  | 120 => ⟨S2x4096x256, .f32⟩
  | 121 => ⟨S2x4096x256, .f32⟩
  | 122 => ⟨S1x256x256, .f32⟩
  | 123 => ⟨S256x256, .f32⟩
  | 124 => ⟨S2x4096x256, .f32⟩
  | 125 => ⟨S1x256, .f32⟩
  | 126 => ⟨S256, .f32⟩
  | 127 => ⟨S1x1x256, .f32⟩
  | _ => ⟨S4x2x256x32x32, .f32⟩

abbrev hbmTy0_62 (i : Nat) : BufTy := match i % 128 with
  | 0 => ⟨S2x4096x256, .f32⟩
  | 1 => ⟨S2x4096x256, .f32⟩
  | 2 => ⟨S2x4096x8x32, .f32⟩
  | 3 => ⟨S1x256x256, .f32⟩
  | 4 => ⟨S256x256, .f32⟩
  | 5 => ⟨S2x4096x256, .f32⟩
  | 6 => ⟨S1x256, .f32⟩
  | 7 => ⟨S256, .f32⟩
  | 8 => ⟨S1x1x256, .f32⟩
  | 9 => ⟨S2x4096x256, .f32⟩
  | 10 => ⟨S2x4096x256, .f32⟩
  | 11 => ⟨S2x4096x8x4x4x2, .f32⟩
  | 12 => ⟨S1x256x128, .f32⟩
  | 13 => ⟨S256x128, .f32⟩
  | 14 => ⟨S2x4096x128, .f32⟩
  | 15 => ⟨S1x128, .f32⟩
  | 16 => ⟨S128, .f32⟩
  | 17 => ⟨S1x1x128, .f32⟩
  | 18 => ⟨S2x4096x128, .f32⟩
  | 19 => ⟨S2x4096x128, .f32⟩
  | 20 => ⟨S2x4096x8x16, .f32⟩
  | 21 => ⟨S_, .f32⟩
  | 22 => ⟨S2x4096x8, .f32⟩
  | 23 => ⟨S_, .f32⟩
  | 24 => ⟨S2x4096x8, .f32⟩
  | 25 => ⟨S2x4096x8, .f32⟩
  | 26 => ⟨S2x4096x8x1, .f32⟩
  | 27 => ⟨S2x4096x8x16, .f32⟩
  | 28 => ⟨S2x4096x8x16, .f32⟩
  | 29 => ⟨S2x4096x8x16, .f32⟩
  | 30 => ⟨S_, .f32⟩
  | 31 => ⟨S2x4096x8, .f32⟩
  | 32 => ⟨S2x4096x8x1, .f32⟩
  | 33 => ⟨S2x4096x8x16, .f32⟩
  | 34 => ⟨S2x4096x8x16, .f32⟩
  | 35 => ⟨S2x4096x8x4x4, .f32⟩
  | 36 => ⟨S2x4096x1x4x1x2, .f32⟩
  | 37 => ⟨S1x1x1x4x1x2, .f32⟩
  | 38 => ⟨S2x4096x8x4x4x2, .f32⟩
  | 39 => ⟨S2x4096x8x4x4x2, .f32⟩
  | 40 => ⟨S2x4096x8x4x4x2, .f32⟩
  | 41 => ⟨S2x4096x8x4x4x2, .f32⟩
  | 42 => ⟨S_, .f32⟩
  | 43 => ⟨S2x4096x8x4x4x2, .f32⟩
  | 44 => ⟨S2x4096x8x4x4x2, .f32⟩
  | 45 => ⟨S_, .f32⟩
  | 46 => ⟨S2x4096x8x4x4x2, .f32⟩
  | 47 => ⟨S2x4096x8x4x4x2, .f32⟩
  | 48 => ⟨S2x1024x8x32, .f32⟩
  | 49 => ⟨S2x8x32x1024, .f32⟩
  | 50 => ⟨S16x32x32x32, .f32⟩
  | 51 => ⟨S2x4096x8x1x4x2, .f32⟩
  | 52 => ⟨S2x4096x8x4x2, .f32⟩
  | 53 => ⟨S2x8x4096x4x2, .f32⟩
  | 54 => ⟨S16x4096x4x2, .f32⟩
  | 55 => ⟨S16x4096x4x1, .f32⟩
  | 56 => ⟨S16x4096x4, .f32⟩
  | 57 => ⟨S_, .f32⟩
  | 58 => ⟨S16x4096x4, .f32⟩
  | 59 => ⟨S16x4096x4, .f32⟩
  | 60 => ⟨S_, .f32⟩
  | 61 => ⟨S16x4096x4, .f32⟩
  | 62 => ⟨S16x4096x4, .f32⟩
  | 63 => ⟨S_, .f32⟩
  | 64 => ⟨S16x4096x4, .f32⟩
  | 65 => ⟨S16x4096x4, .f32⟩
  | 66 => ⟨S_, .f32⟩
  | 67 => ⟨S16x4096x4, .f32⟩
  | 68 => ⟨S16x4096x4, .f32⟩
  | 69 => ⟨S16x4096x4x1, .f32⟩
  | 70 => ⟨S16x4096x4, .f32⟩
  | 71 => ⟨S_, .f32⟩
  | 72 => ⟨S16x4096x4, .f32⟩
  | 73 => ⟨S16x4096x4, .f32⟩
  | 74 => ⟨S_, .f32⟩
  | 75 => ⟨S16x4096x4, .f32⟩
  | 76 => ⟨S16x4096x4, .f32⟩
  | 77 => ⟨S_, .f32⟩
  | 78 => ⟨S16x4096x4, .f32⟩
  | 79 => ⟨S16x4096x4, .f32⟩
  | 80 => ⟨S_, .f32⟩
  | 81 => ⟨S16x4096x4, .f32⟩
  | 82 => ⟨S16x4096x4, .f32⟩
  | 83 => ⟨S16x4096x4, .f32⟩
  | 84 => ⟨S16x4096x4, .f32⟩
  | 85 => ⟨S_, .f32⟩
  | 86 => ⟨S16x4096x4, .f32⟩
  | 87 => ⟨S16x4096x4, .f32⟩
  | 88 => ⟨S_, .f32⟩
  | 89 => ⟨S16x4096x4, .f32⟩
  | 90 => ⟨S16x4096x4, .f32⟩
  | 91 => ⟨S16x4096x4, .f32⟩
  | 92 => ⟨S16x4096x4, .f32⟩
  | 93 => ⟨S16x4096x4, .f32⟩
  | 94 => ⟨S16x4096x4, .f32⟩
  | 95 => ⟨S16x4096x4, .f32⟩
  | 96 => ⟨S16x4096x4, .f32⟩
  | 97 => ⟨S16x4096x4, .f32⟩
  | 98 => ⟨S16x4096x4, .f32⟩
  | 99 => ⟨S16x4096x4, .f32⟩
  | 100 => ⟨S16x4096x4, .f32⟩
  | 101 => ⟨S16x4096x4, .f32⟩
  | 102 => ⟨S16x4096x4, .f32⟩
  | 103 => ⟨S16x32x1024, .f32⟩
  | 104 => ⟨S_, .f32⟩
  | 105 => ⟨S16x4096x4, .f32⟩
  | 106 => ⟨S16x4096x4, .i1⟩
  | 107 => ⟨S_, .f32⟩
  | 108 => ⟨S16x4096x4, .f32⟩
  | 109 => ⟨S16x4096x4, .i1⟩
  | 110 => ⟨S16x4096x4, .i1⟩
  | 111 => ⟨S_, .f32⟩
  | 112 => ⟨S16x4096x4, .f32⟩
  | 113 => ⟨S16x4096x4, .i1⟩
  | 114 => ⟨S16x4096x4, .i1⟩
  | 115 => ⟨S_, .f32⟩
  | 116 => ⟨S16x4096x4, .f32⟩
  | 117 => ⟨S16x4096x4, .i1⟩
  | 118 => ⟨S16x4096x4, .i1⟩
  | 119 => ⟨S_, .i32⟩
  | 120 => ⟨S_, .i32⟩
  | 121 => ⟨S_, .f32⟩
  | 122 => ⟨S16x4096x4, .f32⟩
  | 123 => ⟨S16x4096x4, .f32⟩
  | 124 => ⟨S_, .f32⟩
  | 125 => ⟨S16x4096x4, .f32⟩
  | 126 => ⟨S16x4096x4, .f32⟩
  | 127 => ⟨S16x4096x4, .i32⟩
  | _ => ⟨S4x2x256x32x32, .f32⟩

abbrev hbmTy0_63 (i : Nat) : BufTy := match i % 128 with
  | 0 => ⟨S_, .i32⟩
  | 1 => ⟨S_, .i32⟩
  | 2 => ⟨S_, .f32⟩
  | 3 => ⟨S16x4096x4, .f32⟩
  | 4 => ⟨S16x4096x4, .f32⟩
  | 5 => ⟨S_, .f32⟩
  | 6 => ⟨S16x4096x4, .f32⟩
  | 7 => ⟨S16x4096x4, .f32⟩
  | 8 => ⟨S16x4096x4, .i32⟩
  | 9 => ⟨S_, .i32⟩
  | 10 => ⟨S16x4096x4, .i32⟩
  | 11 => ⟨S16x4096x4, .i32⟩
  | 12 => ⟨S16x4096x4, .i32⟩
  | 13 => ⟨S16x16384, .i32⟩
  | 14 => ⟨S16x1x16384, .i32⟩
  | 15 => ⟨S16x32x16384, .i32⟩
  | 16 => ⟨S_, .i32⟩
  | 17 => ⟨S16x32x16384, .i32⟩
  | 18 => ⟨S16x32x16384, .i1⟩
  | 19 => ⟨S_, .i32⟩
  | 20 => ⟨S16x32x16384, .i32⟩
  | 21 => ⟨S16x32x16384, .i32⟩
  | 22 => ⟨S16x32x16384, .i32⟩
  | 23 => ⟨S16x32x16384x1, .i32⟩
  | 24 => ⟨S1, .i32⟩
  | 25 => ⟨S_, .i32⟩
  | 26 => ⟨S16x32x16384x1, .i32⟩
  | 27 => ⟨S16x32x16384x1, .i1⟩
  | 28 => ⟨S1x1x1x1, .i32⟩
  | 29 => ⟨S16x32x16384x1, .i32⟩
  | 30 => ⟨S16x32x16384x1, .i1⟩
  | 31 => ⟨S16x32x16384x1, .i1⟩
  | 32 => ⟨S_, .i1⟩
  | 33 => ⟨S16x32x16384, .i1⟩
  | 34 => ⟨S16x32x16384, .f32⟩
  | 35 => ⟨S_, .f32⟩
  | 36 => ⟨S16x32x16384, .f32⟩
  | 37 => ⟨S16x32x16384, .f32⟩
  | 38 => ⟨S16x32x4096x4, .f32⟩
  | 39 => ⟨S16x1x4096x4, .i1⟩
  | 40 => ⟨S16x1x4096x4, .f32⟩
  | 41 => ⟨S16x32x4096x4, .f32⟩
  | 42 => ⟨S16x32x4096x4, .f32⟩
  | 43 => ⟨S16x1x4096x4, .f32⟩
  | 44 => ⟨S16x32x4096x4, .f32⟩
  | 45 => ⟨S16x32x4096x4, .f32⟩
  | 46 => ⟨S_, .f32⟩
  | 47 => ⟨S16x4096x4, .f32⟩
  | 48 => ⟨S16x4096x4, .i1⟩
  | 49 => ⟨S_, .f32⟩
  | 50 => ⟨S16x4096x4, .f32⟩
  | 51 => ⟨S16x4096x4, .i1⟩
  | 52 => ⟨S16x4096x4, .i1⟩
  | 53 => ⟨S_, .f32⟩
  | 54 => ⟨S16x4096x4, .f32⟩
  | 55 => ⟨S16x4096x4, .i1⟩
  | 56 => ⟨S16x4096x4, .i1⟩
  | 57 => ⟨S_, .f32⟩
  | 58 => ⟨S16x4096x4, .f32⟩
  | 59 => ⟨S16x4096x4, .i1⟩
  | 60 => ⟨S16x4096x4, .i1⟩
  | 61 => ⟨S_, .i32⟩
  | 62 => ⟨S_, .i32⟩
  | 63 => ⟨S_, .f32⟩
  | 64 => ⟨S16x4096x4, .f32⟩
  | 65 => ⟨S16x4096x4, .f32⟩
  | 66 => ⟨S_, .f32⟩
  | 67 => ⟨S16x4096x4, .f32⟩
  | 68 => ⟨S16x4096x4, .f32⟩
  | 69 => ⟨S16x4096x4, .i32⟩
  | 70 => ⟨S_, .i32⟩
  | 71 => ⟨S_, .i32⟩
  | 72 => ⟨S_, .f32⟩
  | 73 => ⟨S16x4096x4, .f32⟩
  | 74 => ⟨S16x4096x4, .f32⟩
  | 75 => ⟨S_, .f32⟩
  | 76 => ⟨S16x4096x4, .f32⟩
  | 77 => ⟨S16x4096x4, .f32⟩
  | 78 => ⟨S16x4096x4, .i32⟩
  | 79 => ⟨S_, .i32⟩
  | 80 => ⟨S16x4096x4, .i32⟩
  | 81 => ⟨S16x4096x4, .i32⟩
  | 82 => ⟨S16x4096x4, .i32⟩
  | 83 => ⟨S16x16384, .i32⟩
  | 84 => ⟨S16x1x16384, .i32⟩
  | 85 => ⟨S16x32x16384, .i32⟩
  | 86 => ⟨S_, .i32⟩
  | 87 => ⟨S16x32x16384, .i32⟩
  | 88 => ⟨S16x32x16384, .i1⟩
  | 89 => ⟨S_, .i32⟩
  | 90 => ⟨S16x32x16384, .i32⟩
  | 91 => ⟨S16x32x16384, .i32⟩
  | 92 => ⟨S16x32x16384, .i32⟩
  | 93 => ⟨S16x32x16384x1, .i32⟩
  | 94 => ⟨S1, .i32⟩
  | 95 => ⟨S_, .i32⟩
  | 96 => ⟨S16x32x16384x1, .i32⟩
  | 97 => ⟨S16x32x16384x1, .i1⟩
  | 98 => ⟨S1x1x1x1, .i32⟩
  | 99 => ⟨S16x32x16384x1, .i32⟩
  | 100 => ⟨S16x32x16384x1, .i1⟩
  | 101 => ⟨S16x32x16384x1, .i1⟩
  | 102 => ⟨S_, .i1⟩
  | 103 => ⟨S16x32x16384, .i1⟩
  | 104 => ⟨S16x32x16384, .f32⟩
  | 105 => ⟨S_, .f32⟩
  | 106 => ⟨S16x32x16384, .f32⟩
  | 107 => ⟨S16x32x16384, .f32⟩
  | 108 => ⟨S16x32x4096x4, .f32⟩
  | 109 => ⟨S16x1x4096x4, .i1⟩
  | 110 => ⟨S16x1x4096x4, .f32⟩
  | 111 => ⟨S16x32x4096x4, .f32⟩
  | 112 => ⟨S16x32x4096x4, .f32⟩
  | 113 => ⟨S16x1x4096x4, .f32⟩
  | 114 => ⟨S16x32x4096x4, .f32⟩
  | 115 => ⟨S16x32x4096x4, .f32⟩
  | 116 => ⟨S16x32x4096x4, .f32⟩
  | 117 => ⟨S_, .f32⟩
  | 118 => ⟨S16x4096x4, .f32⟩
  | 119 => ⟨S16x4096x4, .i1⟩
  | 120 => ⟨S_, .f32⟩
  | 121 => ⟨S16x4096x4, .f32⟩
  | 122 => ⟨S16x4096x4, .i1⟩
  | 123 => ⟨S16x4096x4, .i1⟩
  | 124 => ⟨S_, .f32⟩
  | 125 => ⟨S16x4096x4, .f32⟩
  | 126 => ⟨S16x4096x4, .i1⟩
  | 127 => ⟨S16x4096x4, .i1⟩
  | _ => ⟨S4x2x256x32x32, .f32⟩

abbrev hbmTy0_64 (i : Nat) : BufTy := match i % 128 with
  | 0 => ⟨S_, .f32⟩
  | 1 => ⟨S16x4096x4, .f32⟩
  | 2 => ⟨S16x4096x4, .i1⟩
  | 3 => ⟨S16x4096x4, .i1⟩
  | 4 => ⟨S_, .i32⟩
  | 5 => ⟨S_, .i32⟩
  | 6 => ⟨S_, .f32⟩
  | 7 => ⟨S16x4096x4, .f32⟩
  | 8 => ⟨S16x4096x4, .f32⟩
  | 9 => ⟨S_, .f32⟩
  | 10 => ⟨S16x4096x4, .f32⟩
  | 11 => ⟨S16x4096x4, .f32⟩
  | 12 => ⟨S16x4096x4, .i32⟩
  | 13 => ⟨S_, .i32⟩
  | 14 => ⟨S_, .i32⟩
  | 15 => ⟨S_, .f32⟩
  | 16 => ⟨S16x4096x4, .f32⟩
  | 17 => ⟨S16x4096x4, .f32⟩
  | 18 => ⟨S_, .f32⟩
  | 19 => ⟨S16x4096x4, .f32⟩
  | 20 => ⟨S16x4096x4, .f32⟩
  | 21 => ⟨S16x4096x4, .i32⟩
  | 22 => ⟨S_, .i32⟩
  | 23 => ⟨S16x4096x4, .i32⟩
  | 24 => ⟨S16x4096x4, .i32⟩
  | 25 => ⟨S16x4096x4, .i32⟩
  | 26 => ⟨S16x16384, .i32⟩
  | 27 => ⟨S16x1x16384, .i32⟩
  | 28 => ⟨S16x32x16384, .i32⟩
  | 29 => ⟨S_, .i32⟩
  | 30 => ⟨S16x32x16384, .i32⟩
  | 31 => ⟨S16x32x16384, .i1⟩
  | 32 => ⟨S_, .i32⟩
  | 33 => ⟨S16x32x16384, .i32⟩
  | 34 => ⟨S16x32x16384, .i32⟩
  | 35 => ⟨S16x32x16384, .i32⟩
  | 36 => ⟨S16x32x16384x1, .i32⟩
  | 37 => ⟨S1, .i32⟩
  | 38 => ⟨S_, .i32⟩
  | 39 => ⟨S16x32x16384x1, .i32⟩
  | 40 => ⟨S16x32x16384x1, .i1⟩
  | 41 => ⟨S1x1x1x1, .i32⟩
  | 42 => ⟨S16x32x16384x1, .i32⟩
  | 43 => ⟨S16x32x16384x1, .i1⟩
  | 44 => ⟨S16x32x16384x1, .i1⟩
  | 45 => ⟨S_, .i1⟩
  | 46 => ⟨S16x32x16384, .i1⟩
  | 47 => ⟨S16x32x16384, .f32⟩
  | 48 => ⟨S_, .f32⟩
  | 49 => ⟨S16x32x16384, .f32⟩
  | 50 => ⟨S16x32x16384, .f32⟩
  | 51 => ⟨S16x32x4096x4, .f32⟩
  | 52 => ⟨S16x1x4096x4, .i1⟩
  | 53 => ⟨S16x1x4096x4, .f32⟩
  | 54 => ⟨S16x32x4096x4, .f32⟩
  | 55 => ⟨S16x32x4096x4, .f32⟩
  | 56 => ⟨S16x1x4096x4, .f32⟩
  | 57 => ⟨S16x32x4096x4, .f32⟩
  | 58 => ⟨S16x32x4096x4, .f32⟩
  | 59 => ⟨S16x32x4096x4, .f32⟩
  | 60 => ⟨S_, .f32⟩
  | 61 => ⟨S16x4096x4, .f32⟩
  | 62 => ⟨S16x4096x4, .i1⟩
  | 63 => ⟨S_, .f32⟩
  | 64 => ⟨S16x4096x4, .f32⟩
  | 65 => ⟨S16x4096x4, .i1⟩
  | 66 => ⟨S16x4096x4, .i1⟩
  | 67 => ⟨S_, .f32⟩
  | 68 => ⟨S16x4096x4, .f32⟩
  | 69 => ⟨S16x4096x4, .i1⟩
  | 70 => ⟨S16x4096x4, .i1⟩
  | 71 => ⟨S_, .f32⟩
  | 72 => ⟨S16x4096x4, .f32⟩
  | 73 => ⟨S16x4096x4, .i1⟩
  | 74 => ⟨S16x4096x4, .i1⟩
  | 75 => ⟨S_, .i32⟩
  | 76 => ⟨S_, .i32⟩
  | 77 => ⟨S_, .f32⟩
  | 78 => ⟨S16x4096x4, .f32⟩
  | 79 => ⟨S16x4096x4, .f32⟩
  | 80 => ⟨S_, .f32⟩
  | 81 => ⟨S16x4096x4, .f32⟩
  | 82 => ⟨S16x4096x4, .f32⟩
  | 83 => ⟨S16x4096x4, .i32⟩
  | 84 => ⟨S_, .i32⟩
  | 85 => ⟨S_, .i32⟩
  | 86 => ⟨S_, .f32⟩
  | 87 => ⟨S16x4096x4, .f32⟩
  | 88 => ⟨S16x4096x4, .f32⟩
  | 89 => ⟨S_, .f32⟩
  | 90 => ⟨S16x4096x4, .f32⟩
  | 91 => ⟨S16x4096x4, .f32⟩
  | 92 => ⟨S16x4096x4, .i32⟩
  | 93 => ⟨S_, .i32⟩
  | 94 => ⟨S16x4096x4, .i32⟩
  | 95 => ⟨S16x4096x4, .i32⟩
  | 96 => ⟨S16x4096x4, .i32⟩
  | 97 => ⟨S16x16384, .i32⟩
  | 98 => ⟨S16x1x16384, .i32⟩
  | 99 => ⟨S16x32x16384, .i32⟩
  | 100 => ⟨S_, .i32⟩
  | 101 => ⟨S16x32x16384, .i32⟩
  | 102 => ⟨S16x32x16384, .i1⟩
  | 103 => ⟨S_, .i32⟩
  | 104 => ⟨S16x32x16384, .i32⟩
  | 105 => ⟨S16x32x16384, .i32⟩
  | 106 => ⟨S16x32x16384, .i32⟩
  | 107 => ⟨S16x32x16384x1, .i32⟩
  | 108 => ⟨S1, .i32⟩
  | 109 => ⟨S_, .i32⟩
  | 110 => ⟨S16x32x16384x1, .i32⟩
  | 111 => ⟨S16x32x16384x1, .i1⟩
  | 112 => ⟨S1x1x1x1, .i32⟩
  | 113 => ⟨S16x32x16384x1, .i32⟩
  | 114 => ⟨S16x32x16384x1, .i1⟩
  | 115 => ⟨S16x32x16384x1, .i1⟩
  | 116 => ⟨S_, .i1⟩
  | 117 => ⟨S16x32x16384, .i1⟩
  | 118 => ⟨S16x32x16384, .f32⟩
  | 119 => ⟨S_, .f32⟩
  | 120 => ⟨S16x32x16384, .f32⟩
  | 121 => ⟨S16x32x16384, .f32⟩
  | 122 => ⟨S16x32x4096x4, .f32⟩
  | 123 => ⟨S16x1x4096x4, .i1⟩
  | 124 => ⟨S16x1x4096x4, .f32⟩
  | 125 => ⟨S16x32x4096x4, .f32⟩
  | 126 => ⟨S16x32x4096x4, .f32⟩
  | 127 => ⟨S16x1x4096x4, .f32⟩
  | _ => ⟨S4x2x256x32x32, .f32⟩

abbrev hbmTy0_65 (i : Nat) : BufTy := match i % 128 with
  | 0 => ⟨S16x32x4096x4, .f32⟩
  | 1 => ⟨S16x32x4096x4, .f32⟩
  | 2 => ⟨S16x32x4096x4, .f32⟩
  | 3 => ⟨S2x1024x8x32, .f32⟩
  | 4 => ⟨S2x8x32x1024, .f32⟩
  | 5 => ⟨S16x32x32x32, .f32⟩
  | 6 => ⟨S2x4096x8x1x4x2, .f32⟩
  | 7 => ⟨S2x4096x8x4x2, .f32⟩
  | 8 => ⟨S2x8x4096x4x2, .f32⟩
  | 9 => ⟨S16x4096x4x2, .f32⟩
  | 10 => ⟨S16x4096x4x1, .f32⟩
  | 11 => ⟨S16x4096x4, .f32⟩
  | 12 => ⟨S_, .f32⟩
  | 13 => ⟨S16x4096x4, .f32⟩
  | 14 => ⟨S16x4096x4, .f32⟩
  | 15 => ⟨S_, .f32⟩
  | 16 => ⟨S16x4096x4, .f32⟩
  | 17 => ⟨S16x4096x4, .f32⟩
  | 18 => ⟨S_, .f32⟩
  | 19 => ⟨S16x4096x4, .f32⟩
  | 20 => ⟨S16x4096x4, .f32⟩
  | 21 => ⟨S_, .f32⟩
  | 22 => ⟨S16x4096x4, .f32⟩
  | 23 => ⟨S16x4096x4, .f32⟩
  | 24 => ⟨S16x4096x4x1, .f32⟩
  | 25 => ⟨S16x4096x4, .f32⟩
  | 26 => ⟨S_, .f32⟩
  | 27 => ⟨S16x4096x4, .f32⟩
  | 28 => ⟨S16x4096x4, .f32⟩
  | 29 => ⟨S_, .f32⟩
  | 30 => ⟨S16x4096x4, .f32⟩
  | 31 => ⟨S16x4096x4, .f32⟩
  | 32 => ⟨S_, .f32⟩
  | 33 => ⟨S16x4096x4, .f32⟩
  | 34 => ⟨S16x4096x4, .f32⟩
  | 35 => ⟨S_, .f32⟩
  | 36 => ⟨S16x4096x4, .f32⟩
  | 37 => ⟨S16x4096x4, .f32⟩
  | 38 => ⟨S16x4096x4, .f32⟩
  | 39 => ⟨S16x4096x4, .f32⟩
  | 40 => ⟨S_, .f32⟩
  | 41 => ⟨S16x4096x4, .f32⟩
  | 42 => ⟨S16x4096x4, .f32⟩
  | 43 => ⟨S_, .f32⟩
  | 44 => ⟨S16x4096x4, .f32⟩
  | 45 => ⟨S16x4096x4, .f32⟩
  | 46 => ⟨S16x4096x4, .f32⟩
  | 47 => ⟨S16x4096x4, .f32⟩
  | 48 => ⟨S16x4096x4, .f32⟩
  | 49 => ⟨S16x4096x4, .f32⟩
  | 50 => ⟨S16x4096x4, .f32⟩
  | 51 => ⟨S16x4096x4, .f32⟩
  | 52 => ⟨S16x4096x4, .f32⟩
  | 53 => ⟨S16x4096x4, .f32⟩
  | 54 => ⟨S16x4096x4, .f32⟩
  | 55 => ⟨S16x4096x4, .f32⟩
  | 56 => ⟨S16x4096x4, .f32⟩
  | 57 => ⟨S16x4096x4, .f32⟩
  | 58 => ⟨S16x32x1024, .f32⟩
  | 59 => ⟨S_, .f32⟩
  | 60 => ⟨S16x4096x4, .f32⟩
  | 61 => ⟨S16x4096x4, .i1⟩
  | 62 => ⟨S_, .f32⟩
  | 63 => ⟨S16x4096x4, .f32⟩
  | 64 => ⟨S16x4096x4, .i1⟩
  | 65 => ⟨S16x4096x4, .i1⟩
  | 66 => ⟨S_, .f32⟩
  | 67 => ⟨S16x4096x4, .f32⟩
  | 68 => ⟨S16x4096x4, .i1⟩
  | 69 => ⟨S16x4096x4, .i1⟩
  | 70 => ⟨S_, .f32⟩
  | 71 => ⟨S16x4096x4, .f32⟩
  | 72 => ⟨S16x4096x4, .i1⟩
  | 73 => ⟨S16x4096x4, .i1⟩
  | 74 => ⟨S_, .i32⟩
  | 75 => ⟨S_, .i32⟩
  | 76 => ⟨S_, .f32⟩
  | 77 => ⟨S16x4096x4, .f32⟩
  | 78 => ⟨S16x4096x4, .f32⟩
  | 79 => ⟨S_, .f32⟩
  | 80 => ⟨S16x4096x4, .f32⟩
  | 81 => ⟨S16x4096x4, .f32⟩
  | 82 => ⟨S16x4096x4, .i32⟩
  | 83 => ⟨S_, .i32⟩
  | 84 => ⟨S_, .i32⟩
  | 85 => ⟨S_, .f32⟩
  | 86 => ⟨S16x4096x4, .f32⟩
  | 87 => ⟨S16x4096x4, .f32⟩
  | 88 => ⟨S_, .f32⟩
  | 89 => ⟨S16x4096x4, .f32⟩
  | 90 => ⟨S16x4096x4, .f32⟩
  | 91 => ⟨S16x4096x4, .i32⟩
  | 92 => ⟨S_, .i32⟩
  | 93 => ⟨S16x4096x4, .i32⟩
  | 94 => ⟨S16x4096x4, .i32⟩
  | 95 => ⟨S16x4096x4, .i32⟩
  | 96 => ⟨S16x16384, .i32⟩
  | 97 => ⟨S16x1x16384, .i32⟩
  | 98 => ⟨S16x32x16384, .i32⟩
  | 99 => ⟨S_, .i32⟩
  | 100 => ⟨S16x32x16384, .i32⟩
  | 101 => ⟨S16x32x16384, .i1⟩
  | 102 => ⟨S_, .i32⟩
  | 103 => ⟨S16x32x16384, .i32⟩
  | 104 => ⟨S16x32x16384, .i32⟩
  | 105 => ⟨S16x32x16384, .i32⟩
  | 106 => ⟨S16x32x16384x1, .i32⟩
  | 107 => ⟨S1, .i32⟩
  | 108 => ⟨S_, .i32⟩
  | 109 => ⟨S16x32x16384x1, .i32⟩
  | 110 => ⟨S16x32x16384x1, .i1⟩
  | 111 => ⟨S1x1x1x1, .i32⟩
  | 112 => ⟨S16x32x16384x1, .i32⟩
  | 113 => ⟨S16x32x16384x1, .i1⟩
  | 114 => ⟨S16x32x16384x1, .i1⟩
  | 115 => ⟨S_, .i1⟩
  | 116 => ⟨S16x32x16384, .i1⟩
  | 117 => ⟨S16x32x16384, .f32⟩
  | 118 => ⟨S_, .f32⟩
  | 119 => ⟨S16x32x16384, .f32⟩
  | 120 => ⟨S16x32x16384, .f32⟩
  | 121 => ⟨S16x32x4096x4, .f32⟩
  | 122 => ⟨S16x1x4096x4, .i1⟩
  | 123 => ⟨S16x1x4096x4, .f32⟩
  | 124 => ⟨S16x32x4096x4, .f32⟩
  | 125 => ⟨S16x32x4096x4, .f32⟩
  | 126 => ⟨S16x1x4096x4, .f32⟩
  | 127 => ⟨S16x32x4096x4, .f32⟩
  | _ => ⟨S4x2x256x32x32, .f32⟩

abbrev hbmTy0_66 (i : Nat) : BufTy := match i % 128 with
  | 0 => ⟨S16x32x4096x4, .f32⟩
  | 1 => ⟨S_, .f32⟩
  | 2 => ⟨S16x4096x4, .f32⟩
  | 3 => ⟨S16x4096x4, .i1⟩
  | 4 => ⟨S_, .f32⟩
  | 5 => ⟨S16x4096x4, .f32⟩
  | 6 => ⟨S16x4096x4, .i1⟩
  | 7 => ⟨S16x4096x4, .i1⟩
  | 8 => ⟨S_, .f32⟩
  | 9 => ⟨S16x4096x4, .f32⟩
  | 10 => ⟨S16x4096x4, .i1⟩
  | 11 => ⟨S16x4096x4, .i1⟩
  | 12 => ⟨S_, .f32⟩
  | 13 => ⟨S16x4096x4, .f32⟩
  | 14 => ⟨S16x4096x4, .i1⟩
  | 15 => ⟨S16x4096x4, .i1⟩
  | 16 => ⟨S_, .i32⟩
  | 17 => ⟨S_, .i32⟩
  | 18 => ⟨S_, .f32⟩
  | 19 => ⟨S16x4096x4, .f32⟩
  | 20 => ⟨S16x4096x4, .f32⟩
  | 21 => ⟨S_, .f32⟩
  | 22 => ⟨S16x4096x4, .f32⟩
  | 23 => ⟨S16x4096x4, .f32⟩
  | 24 => ⟨S16x4096x4, .i32⟩
  | 25 => ⟨S_, .i32⟩
  | 26 => ⟨S_, .i32⟩
  | 27 => ⟨S_, .f32⟩
  | 28 => ⟨S16x4096x4, .f32⟩
  | 29 => ⟨S16x4096x4, .f32⟩
  | 30 => ⟨S_, .f32⟩
  | 31 => ⟨S16x4096x4, .f32⟩
  | 32 => ⟨S16x4096x4, .f32⟩
  | 33 => ⟨S16x4096x4, .i32⟩
  | 34 => ⟨S_, .i32⟩
  | 35 => ⟨S16x4096x4, .i32⟩
  | 36 => ⟨S16x4096x4, .i32⟩
  | 37 => ⟨S16x4096x4, .i32⟩
  | 38 => ⟨S16x16384, .i32⟩
  | 39 => ⟨S16x1x16384, .i32⟩
  | 40 => ⟨S16x32x16384, .i32⟩
  | 41 => ⟨S_, .i32⟩
  | 42 => ⟨S16x32x16384, .i32⟩
  | 43 => ⟨S16x32x16384, .i1⟩
  | 44 => ⟨S_, .i32⟩
  | 45 => ⟨S16x32x16384, .i32⟩
  | 46 => ⟨S16x32x16384, .i32⟩
  | 47 => ⟨S16x32x16384, .i32⟩
  | 48 => ⟨S16x32x16384x1, .i32⟩
  | 49 => ⟨S1, .i32⟩
  | 50 => ⟨S_, .i32⟩
  | 51 => ⟨S16x32x16384x1, .i32⟩
  | 52 => ⟨S16x32x16384x1, .i1⟩
  | 53 => ⟨S1x1x1x1, .i32⟩
  | 54 => ⟨S16x32x16384x1, .i32⟩
  | 55 => ⟨S16x32x16384x1, .i1⟩
  | 56 => ⟨S16x32x16384x1, .i1⟩
  | 57 => ⟨S_, .i1⟩
  | 58 => ⟨S16x32x16384, .i1⟩
  | 59 => ⟨S16x32x16384, .f32⟩
  | 60 => ⟨S_, .f32⟩
  | 61 => ⟨S16x32x16384, .f32⟩
  | 62 => ⟨S16x32x16384, .f32⟩
  | 63 => ⟨S16x32x4096x4, .f32⟩
  | 64 => ⟨S16x1x4096x4, .i1⟩
  | 65 => ⟨S16x1x4096x4, .f32⟩
  | 66 => ⟨S16x32x4096x4, .f32⟩
  | 67 => ⟨S16x32x4096x4, .f32⟩
  | 68 => ⟨S16x1x4096x4, .f32⟩
  | 69 => ⟨S16x32x4096x4, .f32⟩
  | 70 => ⟨S16x32x4096x4, .f32⟩
  | 71 => ⟨S16x32x4096x4, .f32⟩
  | 72 => ⟨S_, .f32⟩
  | 73 => ⟨S16x4096x4, .f32⟩
  | 74 => ⟨S16x4096x4, .i1⟩
  | 75 => ⟨S_, .f32⟩
  | 76 => ⟨S16x4096x4, .f32⟩
  | 77 => ⟨S16x4096x4, .i1⟩
  | 78 => ⟨S16x4096x4, .i1⟩
  | 79 => ⟨S_, .f32⟩
  | 80 => ⟨S16x4096x4, .f32⟩
  | 81 => ⟨S16x4096x4, .i1⟩
  | 82 => ⟨S16x4096x4, .i1⟩
  | 83 => ⟨S_, .f32⟩
  | 84 => ⟨S16x4096x4, .f32⟩
  | 85 => ⟨S16x4096x4, .i1⟩
  | 86 => ⟨S16x4096x4, .i1⟩
  | 87 => ⟨S_, .i32⟩
  | 88 => ⟨S_, .i32⟩
  | 89 => ⟨S_, .f32⟩
  | 90 => ⟨S16x4096x4, .f32⟩
  | 91 => ⟨S16x4096x4, .f32⟩
  | 92 => ⟨S_, .f32⟩
  | 93 => ⟨S16x4096x4, .f32⟩
  | 94 => ⟨S16x4096x4, .f32⟩
  | 95 => ⟨S16x4096x4, .i32⟩
  | 96 => ⟨S_, .i32⟩
  | 97 => ⟨S_, .i32⟩
  | 98 => ⟨S_, .f32⟩
  | 99 => ⟨S16x4096x4, .f32⟩
  | 100 => ⟨S16x4096x4, .f32⟩
  | 101 => ⟨S_, .f32⟩
  | 102 => ⟨S16x4096x4, .f32⟩
  | 103 => ⟨S16x4096x4, .f32⟩
  | 104 => ⟨S16x4096x4, .i32⟩
  | 105 => ⟨S_, .i32⟩
  | 106 => ⟨S16x4096x4, .i32⟩
  | 107 => ⟨S16x4096x4, .i32⟩
  | 108 => ⟨S16x4096x4, .i32⟩
  | 109 => ⟨S16x16384, .i32⟩
  | 110 => ⟨S16x1x16384, .i32⟩
  | 111 => ⟨S16x32x16384, .i32⟩
  | 112 => ⟨S_, .i32⟩
  | 113 => ⟨S16x32x16384, .i32⟩
  | 114 => ⟨S16x32x16384, .i1⟩
  | 115 => ⟨S_, .i32⟩
  | 116 => ⟨S16x32x16384, .i32⟩
  | 117 => ⟨S16x32x16384, .i32⟩
  | 118 => ⟨S16x32x16384, .i32⟩
  | 119 => ⟨S16x32x16384x1, .i32⟩
  | 120 => ⟨S1, .i32⟩
  | 121 => ⟨S_, .i32⟩
  | 122 => ⟨S16x32x16384x1, .i32⟩
  | 123 => ⟨S16x32x16384x1, .i1⟩
  | 124 => ⟨S1x1x1x1, .i32⟩
  | 125 => ⟨S16x32x16384x1, .i32⟩
  | 126 => ⟨S16x32x16384x1, .i1⟩
  | 127 => ⟨S16x32x16384x1, .i1⟩
  | _ => ⟨S4x2x256x32x32, .f32⟩

abbrev hbmTy0_67 (i : Nat) : BufTy := match i % 128 with
  | 0 => ⟨S_, .i1⟩
  | 1 => ⟨S16x32x16384, .i1⟩
  | 2 => ⟨S16x32x16384, .f32⟩
  | 3 => ⟨S_, .f32⟩
  | 4 => ⟨S16x32x16384, .f32⟩
  | 5 => ⟨S16x32x16384, .f32⟩
  | 6 => ⟨S16x32x4096x4, .f32⟩
  | 7 => ⟨S16x1x4096x4, .i1⟩
  | 8 => ⟨S16x1x4096x4, .f32⟩
  | 9 => ⟨S16x32x4096x4, .f32⟩
  | 10 => ⟨S16x32x4096x4, .f32⟩
  | 11 => ⟨S16x1x4096x4, .f32⟩
  | 12 => ⟨S16x32x4096x4, .f32⟩
  | 13 => ⟨S16x32x4096x4, .f32⟩
  | 14 => ⟨S16x32x4096x4, .f32⟩
  | 15 => ⟨S_, .f32⟩
  | 16 => ⟨S16x4096x4, .f32⟩
  | 17 => ⟨S16x4096x4, .i1⟩
  | 18 => ⟨S_, .f32⟩
  | 19 => ⟨S16x4096x4, .f32⟩
  | 20 => ⟨S16x4096x4, .i1⟩
  | 21 => ⟨S16x4096x4, .i1⟩
  | 22 => ⟨S_, .f32⟩
  | 23 => ⟨S16x4096x4, .f32⟩
  | 24 => ⟨S16x4096x4, .i1⟩
  | 25 => ⟨S16x4096x4, .i1⟩
  | 26 => ⟨S_, .f32⟩
  | 27 => ⟨S16x4096x4, .f32⟩
  | 28 => ⟨S16x4096x4, .i1⟩
  | 29 => ⟨S16x4096x4, .i1⟩
  | 30 => ⟨S_, .i32⟩
  | 31 => ⟨S_, .i32⟩
  | 32 => ⟨S_, .f32⟩
  | 33 => ⟨S16x4096x4, .f32⟩
  | 34 => ⟨S16x4096x4, .f32⟩
  | 35 => ⟨S_, .f32⟩
  | 36 => ⟨S16x4096x4, .f32⟩
  | 37 => ⟨S16x4096x4, .f32⟩
  | 38 => ⟨S16x4096x4, .i32⟩
  | 39 => ⟨S_, .i32⟩
  | 40 => ⟨S_, .i32⟩
  | 41 => ⟨S_, .f32⟩
  | 42 => ⟨S16x4096x4, .f32⟩
  | 43 => ⟨S16x4096x4, .f32⟩
  | 44 => ⟨S_, .f32⟩
  | 45 => ⟨S16x4096x4, .f32⟩
  | 46 => ⟨S16x4096x4, .f32⟩
  | 47 => ⟨S16x4096x4, .i32⟩
  | 48 => ⟨S_, .i32⟩
  | 49 => ⟨S16x4096x4, .i32⟩
  | 50 => ⟨S16x4096x4, .i32⟩
  | 51 => ⟨S16x4096x4, .i32⟩
  | 52 => ⟨S16x16384, .i32⟩
  | 53 => ⟨S16x1x16384, .i32⟩
  | 54 => ⟨S16x32x16384, .i32⟩
  | 55 => ⟨S_, .i32⟩
  | 56 => ⟨S16x32x16384, .i32⟩
  | 57 => ⟨S16x32x16384, .i1⟩
  | 58 => ⟨S_, .i32⟩
  | 59 => ⟨S16x32x16384, .i32⟩
  | 60 => ⟨S16x32x16384, .i32⟩
  | 61 => ⟨S16x32x16384, .i32⟩
  | 62 => ⟨S16x32x16384x1, .i32⟩
  | 63 => ⟨S1, .i32⟩
  | 64 => ⟨S_, .i32⟩
  | 65 => ⟨S16x32x16384x1, .i32⟩
  | 66 => ⟨S16x32x16384x1, .i1⟩
  | 67 => ⟨S1x1x1x1, .i32⟩
  | 68 => ⟨S16x32x16384x1, .i32⟩
  | 69 => ⟨S16x32x16384x1, .i1⟩
  | 70 => ⟨S16x32x16384x1, .i1⟩
  | 71 => ⟨S_, .i1⟩
  | 72 => ⟨S16x32x16384, .i1⟩
  | 73 => ⟨S16x32x16384, .f32⟩
  | 74 => ⟨S_, .f32⟩
  | 75 => ⟨S16x32x16384, .f32⟩
  | 76 => ⟨S16x32x16384, .f32⟩
  | 77 => ⟨S16x32x4096x4, .f32⟩
  | 78 => ⟨S16x1x4096x4, .i1⟩
  | 79 => ⟨S16x1x4096x4, .f32⟩
  | 80 => ⟨S16x32x4096x4, .f32⟩
  | 81 => ⟨S16x32x4096x4, .f32⟩
  | 82 => ⟨S16x1x4096x4, .f32⟩
  | 83 => ⟨S16x32x4096x4, .f32⟩
  | 84 => ⟨S16x32x4096x4, .f32⟩
  | 85 => ⟨S16x32x4096x4, .f32⟩
  | 86 => ⟨S2x1024x8x32, .f32⟩
  | 87 => ⟨S2x8x32x1024, .f32⟩
  | 88 => ⟨S16x32x32x32, .f32⟩
  | 89 => ⟨S2x4096x8x1x4x2, .f32⟩
  | 90 => ⟨S2x4096x8x4x2, .f32⟩
  | 91 => ⟨S2x8x4096x4x2, .f32⟩
  | 92 => ⟨S16x4096x4x2, .f32⟩
  | 93 => ⟨S16x4096x4x1, .f32⟩
  | 94 => ⟨S16x4096x4, .f32⟩
  | 95 => ⟨S_, .f32⟩
  | 96 => ⟨S16x4096x4, .f32⟩
  | 97 => ⟨S16x4096x4, .f32⟩
  | 98 => ⟨S_, .f32⟩
  | 99 => ⟨S16x4096x4, .f32⟩
  | 100 => ⟨S16x4096x4, .f32⟩
  | 101 => ⟨S_, .f32⟩
  | 102 => ⟨S16x4096x4, .f32⟩
  | 103 => ⟨S16x4096x4, .f32⟩
  | 104 => ⟨S_, .f32⟩
  | 105 => ⟨S16x4096x4, .f32⟩
  | 106 => ⟨S16x4096x4, .f32⟩
  | 107 => ⟨S16x4096x4x1, .f32⟩
  | 108 => ⟨S16x4096x4, .f32⟩
  | 109 => ⟨S_, .f32⟩
  | 110 => ⟨S16x4096x4, .f32⟩
  | 111 => ⟨S16x4096x4, .f32⟩
  | 112 => ⟨S_, .f32⟩
  | 113 => ⟨S16x4096x4, .f32⟩
  | 114 => ⟨S16x4096x4, .f32⟩
  | 115 => ⟨S_, .f32⟩
  | 116 => ⟨S16x4096x4, .f32⟩
  | 117 => ⟨S16x4096x4, .f32⟩
  | 118 => ⟨S_, .f32⟩
  | 119 => ⟨S16x4096x4, .f32⟩
  | 120 => ⟨S16x4096x4, .f32⟩
  | 121 => ⟨S16x4096x4, .f32⟩
  | 122 => ⟨S16x4096x4, .f32⟩
  | 123 => ⟨S_, .f32⟩
  | 124 => ⟨S16x4096x4, .f32⟩
  | 125 => ⟨S16x4096x4, .f32⟩
  | 126 => ⟨S_, .f32⟩
  | 127 => ⟨S16x4096x4, .f32⟩
  | _ => ⟨S4x2x256x32x32, .f32⟩

abbrev hbmTy0_68 (i : Nat) : BufTy := match i % 128 with
  | 0 => ⟨S16x4096x4, .f32⟩
  | 1 => ⟨S16x4096x4, .f32⟩
  | 2 => ⟨S16x4096x4, .f32⟩
  | 3 => ⟨S16x4096x4, .f32⟩
  | 4 => ⟨S16x4096x4, .f32⟩
  | 5 => ⟨S16x4096x4, .f32⟩
  | 6 => ⟨S16x4096x4, .f32⟩
  | 7 => ⟨S16x4096x4, .f32⟩
  | 8 => ⟨S16x4096x4, .f32⟩
  | 9 => ⟨S16x4096x4, .f32⟩
  | 10 => ⟨S16x4096x4, .f32⟩
  | 11 => ⟨S16x4096x4, .f32⟩
  | 12 => ⟨S16x4096x4, .f32⟩
  | 13 => ⟨S16x32x1024, .f32⟩
  | 14 => ⟨S_, .f32⟩
  | 15 => ⟨S16x4096x4, .f32⟩
  | 16 => ⟨S16x4096x4, .i1⟩
  | 17 => ⟨S_, .f32⟩
  | 18 => ⟨S16x4096x4, .f32⟩
  | 19 => ⟨S16x4096x4, .i1⟩
  | 20 => ⟨S16x4096x4, .i1⟩
  | 21 => ⟨S_, .f32⟩
  | 22 => ⟨S16x4096x4, .f32⟩
  | 23 => ⟨S16x4096x4, .i1⟩
  | 24 => ⟨S16x4096x4, .i1⟩
  | 25 => ⟨S_, .f32⟩
  | 26 => ⟨S16x4096x4, .f32⟩
  | 27 => ⟨S16x4096x4, .i1⟩
  | 28 => ⟨S16x4096x4, .i1⟩
  | 29 => ⟨S_, .i32⟩
  | 30 => ⟨S_, .i32⟩
  | 31 => ⟨S_, .f32⟩
  | 32 => ⟨S16x4096x4, .f32⟩
  | 33 => ⟨S16x4096x4, .f32⟩
  | 34 => ⟨S_, .f32⟩
  | 35 => ⟨S16x4096x4, .f32⟩
  | 36 => ⟨S16x4096x4, .f32⟩
  | 37 => ⟨S16x4096x4, .i32⟩
  | 38 => ⟨S_, .i32⟩
  | 39 => ⟨S_, .i32⟩
  | 40 => ⟨S_, .f32⟩
  | 41 => ⟨S16x4096x4, .f32⟩
  | 42 => ⟨S16x4096x4, .f32⟩
  | 43 => ⟨S_, .f32⟩
  | 44 => ⟨S16x4096x4, .f32⟩
  | 45 => ⟨S16x4096x4, .f32⟩
  | 46 => ⟨S16x4096x4, .i32⟩
  | 47 => ⟨S_, .i32⟩
  | 48 => ⟨S16x4096x4, .i32⟩
  | 49 => ⟨S16x4096x4, .i32⟩
  | 50 => ⟨S16x4096x4, .i32⟩
  | 51 => ⟨S16x16384, .i32⟩
  | 52 => ⟨S16x1x16384, .i32⟩
  | 53 => ⟨S16x32x16384, .i32⟩
  | 54 => ⟨S_, .i32⟩
  | 55 => ⟨S16x32x16384, .i32⟩
  | 56 => ⟨S16x32x16384, .i1⟩
  | 57 => ⟨S_, .i32⟩
  | 58 => ⟨S16x32x16384, .i32⟩
  | 59 => ⟨S16x32x16384, .i32⟩
  | 60 => ⟨S16x32x16384, .i32⟩
  | 61 => ⟨S16x32x16384x1, .i32⟩
  | 62 => ⟨S1, .i32⟩
  | 63 => ⟨S_, .i32⟩
  | 64 => ⟨S16x32x16384x1, .i32⟩
  | 65 => ⟨S16x32x16384x1, .i1⟩
  | 66 => ⟨S1x1x1x1, .i32⟩
  | 67 => ⟨S16x32x16384x1, .i32⟩
  | 68 => ⟨S16x32x16384x1, .i1⟩
  | 69 => ⟨S16x32x16384x1, .i1⟩
  | 70 => ⟨S_, .i1⟩
  | 71 => ⟨S16x32x16384, .i1⟩
  | 72 => ⟨S16x32x16384, .f32⟩
  | 73 => ⟨S_, .f32⟩
  | 74 => ⟨S16x32x16384, .f32⟩
  | 75 => ⟨S16x32x16384, .f32⟩
  | 76 => ⟨S16x32x4096x4, .f32⟩
  | 77 => ⟨S16x1x4096x4, .i1⟩
  | 78 => ⟨S16x1x4096x4, .f32⟩
  | 79 => ⟨S16x32x4096x4, .f32⟩
  | 80 => ⟨S16x32x4096x4, .f32⟩
  | 81 => ⟨S16x1x4096x4, .f32⟩
  | 82 => ⟨S16x32x4096x4, .f32⟩
  | 83 => ⟨S16x32x4096x4, .f32⟩
  | 84 => ⟨S_, .f32⟩
  | 85 => ⟨S16x4096x4, .f32⟩
  | 86 => ⟨S16x4096x4, .i1⟩
  | 87 => ⟨S_, .f32⟩
  | 88 => ⟨S16x4096x4, .f32⟩
  | 89 => ⟨S16x4096x4, .i1⟩
  | 90 => ⟨S16x4096x4, .i1⟩
  | 91 => ⟨S_, .f32⟩
  | 92 => ⟨S16x4096x4, .f32⟩
  | 93 => ⟨S16x4096x4, .i1⟩
  | 94 => ⟨S16x4096x4, .i1⟩
  | 95 => ⟨S_, .f32⟩
  | 96 => ⟨S16x4096x4, .f32⟩
  | 97 => ⟨S16x4096x4, .i1⟩
  | 98 => ⟨S16x4096x4, .i1⟩
  | 99 => ⟨S_, .i32⟩
  | 100 => ⟨S_, .i32⟩
  | 101 => ⟨S_, .f32⟩
  | 102 => ⟨S16x4096x4, .f32⟩
  | 103 => ⟨S16x4096x4, .f32⟩
  | 104 => ⟨S_, .f32⟩
  | 105 => ⟨S16x4096x4, .f32⟩
  | 106 => ⟨S16x4096x4, .f32⟩
  | 107 => ⟨S16x4096x4, .i32⟩
  | 108 => ⟨S_, .i32⟩
  | 109 => ⟨S_, .i32⟩
  | 110 => ⟨S_, .f32⟩
  | 111 => ⟨S16x4096x4, .f32⟩
  | 112 => ⟨S16x4096x4, .f32⟩
  | 113 => ⟨S_, .f32⟩
  | 114 => ⟨S16x4096x4, .f32⟩
  | 115 => ⟨S16x4096x4, .f32⟩
  | 116 => ⟨S16x4096x4, .i32⟩
  | 117 => ⟨S_, .i32⟩
  | 118 => ⟨S16x4096x4, .i32⟩
  | 119 => ⟨S16x4096x4, .i32⟩
  | 120 => ⟨S16x4096x4, .i32⟩
  | 121 => ⟨S16x16384, .i32⟩
  | 122 => ⟨S16x1x16384, .i32⟩
  | 123 => ⟨S16x32x16384, .i32⟩
  | 124 => ⟨S_, .i32⟩
  | 125 => ⟨S16x32x16384, .i32⟩
  | 126 => ⟨S16x32x16384, .i1⟩
  | 127 => ⟨S_, .i32⟩
  | _ => ⟨S4x2x256x32x32, .f32⟩

abbrev hbmTy0_69 (i : Nat) : BufTy := match i % 128 with
  | 0 => ⟨S16x32x16384, .i32⟩
  | 1 => ⟨S16x32x16384, .i32⟩
  | 2 => ⟨S16x32x16384, .i32⟩
  | 3 => ⟨S16x32x16384x1, .i32⟩
  | 4 => ⟨S1, .i32⟩
  | 5 => ⟨S_, .i32⟩
  | 6 => ⟨S16x32x16384x1, .i32⟩
  | 7 => ⟨S16x32x16384x1, .i1⟩
  | 8 => ⟨S1x1x1x1, .i32⟩
  | 9 => ⟨S16x32x16384x1, .i32⟩
  | 10 => ⟨S16x32x16384x1, .i1⟩
  | 11 => ⟨S16x32x16384x1, .i1⟩
  | 12 => ⟨S_, .i1⟩
  | 13 => ⟨S16x32x16384, .i1⟩
  | 14 => ⟨S16x32x16384, .f32⟩
  | 15 => ⟨S_, .f32⟩
  | 16 => ⟨S16x32x16384, .f32⟩
  | 17 => ⟨S16x32x16384, .f32⟩
  | 18 => ⟨S16x32x4096x4, .f32⟩
  | 19 => ⟨S16x1x4096x4, .i1⟩
  | 20 => ⟨S16x1x4096x4, .f32⟩
  | 21 => ⟨S16x32x4096x4, .f32⟩
  | 22 => ⟨S16x32x4096x4, .f32⟩
  | 23 => ⟨S16x1x4096x4, .f32⟩
  | 24 => ⟨S16x32x4096x4, .f32⟩
  | 25 => ⟨S16x32x4096x4, .f32⟩
  | 26 => ⟨S16x32x4096x4, .f32⟩
  | 27 => ⟨S_, .f32⟩
  | 28 => ⟨S16x4096x4, .f32⟩
  | 29 => ⟨S16x4096x4, .i1⟩
  | 30 => ⟨S_, .f32⟩
  | 31 => ⟨S16x4096x4, .f32⟩
  | 32 => ⟨S16x4096x4, .i1⟩
  | 33 => ⟨S16x4096x4, .i1⟩
  | 34 => ⟨S_, .f32⟩
  | 35 => ⟨S16x4096x4, .f32⟩
  | 36 => ⟨S16x4096x4, .i1⟩
  | 37 => ⟨S16x4096x4, .i1⟩
  | 38 => ⟨S_, .f32⟩
  | 39 => ⟨S16x4096x4, .f32⟩
  | 40 => ⟨S16x4096x4, .i1⟩
  | 41 => ⟨S16x4096x4, .i1⟩
  | 42 => ⟨S_, .i32⟩
  | 43 => ⟨S_, .i32⟩
  | 44 => ⟨S_, .f32⟩
  | 45 => ⟨S16x4096x4, .f32⟩
  | 46 => ⟨S16x4096x4, .f32⟩
  | 47 => ⟨S_, .f32⟩
  | 48 => ⟨S16x4096x4, .f32⟩
  | 49 => ⟨S16x4096x4, .f32⟩
  | 50 => ⟨S16x4096x4, .i32⟩
  | 51 => ⟨S_, .i32⟩
  | 52 => ⟨S_, .i32⟩
  | 53 => ⟨S_, .f32⟩
  | 54 => ⟨S16x4096x4, .f32⟩
  | 55 => ⟨S16x4096x4, .f32⟩
  | 56 => ⟨S_, .f32⟩
  | 57 => ⟨S16x4096x4, .f32⟩
  | 58 => ⟨S16x4096x4, .f32⟩
  | 59 => ⟨S16x4096x4, .i32⟩
  | 60 => ⟨S_, .i32⟩
  | 61 => ⟨S16x4096x4, .i32⟩
  | 62 => ⟨S16x4096x4, .i32⟩
  | 63 => ⟨S16x4096x4, .i32⟩
  | 64 => ⟨S16x16384, .i32⟩
  | 65 => ⟨S16x1x16384, .i32⟩
  | 66 => ⟨S16x32x16384, .i32⟩
  | 67 => ⟨S_, .i32⟩
  | 68 => ⟨S16x32x16384, .i32⟩
  | 69 => ⟨S16x32x16384, .i1⟩
  | 70 => ⟨S_, .i32⟩
  | 71 => ⟨S16x32x16384, .i32⟩
  | 72 => ⟨S16x32x16384, .i32⟩
  | 73 => ⟨S16x32x16384, .i32⟩
  | 74 => ⟨S16x32x16384x1, .i32⟩
  | 75 => ⟨S1, .i32⟩
  | 76 => ⟨S_, .i32⟩
  | 77 => ⟨S16x32x16384x1, .i32⟩
  | 78 => ⟨S16x32x16384x1, .i1⟩
  | 79 => ⟨S1x1x1x1, .i32⟩
  | 80 => ⟨S16x32x16384x1, .i32⟩
  | 81 => ⟨S16x32x16384x1, .i1⟩
  | 82 => ⟨S16x32x16384x1, .i1⟩
  | 83 => ⟨S_, .i1⟩
  | 84 => ⟨S16x32x16384, .i1⟩
  | 85 => ⟨S16x32x16384, .f32⟩
  | 86 => ⟨S_, .f32⟩
  | 87 => ⟨S16x32x16384, .f32⟩
  | 88 => ⟨S16x32x16384, .f32⟩
  | 89 => ⟨S16x32x4096x4, .f32⟩
  | 90 => ⟨S16x1x4096x4, .i1⟩
  | 91 => ⟨S16x1x4096x4, .f32⟩
  | 92 => ⟨S16x32x4096x4, .f32⟩
  | 93 => ⟨S16x32x4096x4, .f32⟩
  | 94 => ⟨S16x1x4096x4, .f32⟩
  | 95 => ⟨S16x32x4096x4, .f32⟩
  | 96 => ⟨S16x32x4096x4, .f32⟩
  | 97 => ⟨S16x32x4096x4, .f32⟩
  | 98 => ⟨S_, .f32⟩
  | 99 => ⟨S16x4096x4, .f32⟩
  | 100 => ⟨S16x4096x4, .i1⟩
  | 101 => ⟨S_, .f32⟩
  | 102 => ⟨S16x4096x4, .f32⟩
  | 103 => ⟨S16x4096x4, .i1⟩
  | 104 => ⟨S16x4096x4, .i1⟩
  | 105 => ⟨S_, .f32⟩
  | 106 => ⟨S16x4096x4, .f32⟩
  | 107 => ⟨S16x4096x4, .i1⟩
  | 108 => ⟨S16x4096x4, .i1⟩
  | 109 => ⟨S_, .f32⟩
  | 110 => ⟨S16x4096x4, .f32⟩
  | 111 => ⟨S16x4096x4, .i1⟩
  | 112 => ⟨S16x4096x4, .i1⟩
  | 113 => ⟨S_, .i32⟩
  | 114 => ⟨S_, .i32⟩
  | 115 => ⟨S_, .f32⟩
  | 116 => ⟨S16x4096x4, .f32⟩
  | 117 => ⟨S16x4096x4, .f32⟩
  | 118 => ⟨S_, .f32⟩
  | 119 => ⟨S16x4096x4, .f32⟩
  | 120 => ⟨S16x4096x4, .f32⟩
  | 121 => ⟨S16x4096x4, .i32⟩
  | 122 => ⟨S_, .i32⟩
  | 123 => ⟨S_, .i32⟩
  | 124 => ⟨S_, .f32⟩
  | 125 => ⟨S16x4096x4, .f32⟩
  | 126 => ⟨S16x4096x4, .f32⟩
  | 127 => ⟨S_, .f32⟩
  | _ => ⟨S4x2x256x32x32, .f32⟩

abbrev hbmTy0_70 (i : Nat) : BufTy := match i % 128 with
  | 0 => ⟨S16x4096x4, .f32⟩
  | 1 => ⟨S16x4096x4, .f32⟩
  | 2 => ⟨S16x4096x4, .i32⟩
  | 3 => ⟨S_, .i32⟩
  | 4 => ⟨S16x4096x4, .i32⟩
  | 5 => ⟨S16x4096x4, .i32⟩
  | 6 => ⟨S16x4096x4, .i32⟩
  | 7 => ⟨S16x16384, .i32⟩
  | 8 => ⟨S16x1x16384, .i32⟩
  | 9 => ⟨S16x32x16384, .i32⟩
  | 10 => ⟨S_, .i32⟩
  | 11 => ⟨S16x32x16384, .i32⟩
  | 12 => ⟨S16x32x16384, .i1⟩
  | 13 => ⟨S_, .i32⟩
  | 14 => ⟨S16x32x16384, .i32⟩
  | 15 => ⟨S16x32x16384, .i32⟩
  | 16 => ⟨S16x32x16384, .i32⟩
  | 17 => ⟨S16x32x16384x1, .i32⟩
  | 18 => ⟨S1, .i32⟩
  | 19 => ⟨S_, .i32⟩
  | 20 => ⟨S16x32x16384x1, .i32⟩
  | 21 => ⟨S16x32x16384x1, .i1⟩
  | 22 => ⟨S1x1x1x1, .i32⟩
  | 23 => ⟨S16x32x16384x1, .i32⟩
  | 24 => ⟨S16x32x16384x1, .i1⟩
  | 25 => ⟨S16x32x16384x1, .i1⟩
  | 26 => ⟨S_, .i1⟩
  | 27 => ⟨S16x32x16384, .i1⟩
  | 28 => ⟨S16x32x16384, .f32⟩
  | 29 => ⟨S_, .f32⟩
  | 30 => ⟨S16x32x16384, .f32⟩
  | 31 => ⟨S16x32x16384, .f32⟩
  | 32 => ⟨S16x32x4096x4, .f32⟩
  | 33 => ⟨S16x1x4096x4, .i1⟩
  | 34 => ⟨S16x1x4096x4, .f32⟩
  | 35 => ⟨S16x32x4096x4, .f32⟩
  | 36 => ⟨S16x32x4096x4, .f32⟩
  | 37 => ⟨S16x1x4096x4, .f32⟩
  | 38 => ⟨S16x32x4096x4, .f32⟩
  | 39 => ⟨S16x32x4096x4, .f32⟩
  | 40 => ⟨S16x32x4096x4, .f32⟩
  | 41 => ⟨S2x1024x8x32, .f32⟩
  | 42 => ⟨S2x8x32x1024, .f32⟩
  | 43 => ⟨S16x32x32x32, .f32⟩
  | 44 => ⟨S2x4096x8x1x4x2, .f32⟩
  | 45 => ⟨S2x4096x8x4x2, .f32⟩
  | 46 => ⟨S2x8x4096x4x2, .f32⟩
  | 47 => ⟨S16x4096x4x2, .f32⟩
  | 48 => ⟨S16x4096x4x1, .f32⟩
  | 49 => ⟨S16x4096x4, .f32⟩
  | 50 => ⟨S_, .f32⟩
  | 51 => ⟨S16x4096x4, .f32⟩
  | 52 => ⟨S16x4096x4, .f32⟩
  | 53 => ⟨S_, .f32⟩
  | 54 => ⟨S16x4096x4, .f32⟩
  | 55 => ⟨S16x4096x4, .f32⟩
  | 56 => ⟨S_, .f32⟩
  | 57 => ⟨S16x4096x4, .f32⟩
  | 58 => ⟨S16x4096x4, .f32⟩
  | 59 => ⟨S_, .f32⟩
  | 60 => ⟨S16x4096x4, .f32⟩
  | 61 => ⟨S16x4096x4, .f32⟩
  | 62 => ⟨S16x4096x4x1, .f32⟩
  | 63 => ⟨S16x4096x4, .f32⟩
  | 64 => ⟨S_, .f32⟩
  | 65 => ⟨S16x4096x4, .f32⟩
  | 66 => ⟨S16x4096x4, .f32⟩
  | 67 => ⟨S_, .f32⟩
  | 68 => ⟨S16x4096x4, .f32⟩
  | 69 => ⟨S16x4096x4, .f32⟩
  | 70 => ⟨S_, .f32⟩
  | 71 => ⟨S16x4096x4, .f32⟩
  | 72 => ⟨S16x4096x4, .f32⟩
  | 73 => ⟨S_, .f32⟩
  | 74 => ⟨S16x4096x4, .f32⟩
  | 75 => ⟨S16x4096x4, .f32⟩
  | 76 => ⟨S16x4096x4, .f32⟩
  | 77 => ⟨S16x4096x4, .f32⟩
  | 78 => ⟨S_, .f32⟩
  | 79 => ⟨S16x4096x4, .f32⟩
  | 80 => ⟨S16x4096x4, .f32⟩
  | 81 => ⟨S_, .f32⟩
  | 82 => ⟨S16x4096x4, .f32⟩
  | 83 => ⟨S16x4096x4, .f32⟩
  | 84 => ⟨S16x4096x4, .f32⟩
  | 85 => ⟨S16x4096x4, .f32⟩
  | 86 => ⟨S16x4096x4, .f32⟩
  | 87 => ⟨S16x4096x4, .f32⟩
  | 88 => ⟨S16x4096x4, .f32⟩
  | 89 => ⟨S16x4096x4, .f32⟩
  | 90 => ⟨S16x4096x4, .f32⟩
  | 91 => ⟨S16x4096x4, .f32⟩
  | 92 => ⟨S16x4096x4, .f32⟩
  | 93 => ⟨S16x4096x4, .f32⟩
  | 94 => ⟨S16x4096x4, .f32⟩
  | 95 => ⟨S16x4096x4, .f32⟩
  | 96 => ⟨S16x32x1024, .f32⟩
  | 97 => ⟨S_, .f32⟩
  | 98 => ⟨S16x4096x4, .f32⟩
  | 99 => ⟨S16x4096x4, .i1⟩
  | 100 => ⟨S_, .f32⟩
  | 101 => ⟨S16x4096x4, .f32⟩
  | 102 => ⟨S16x4096x4, .i1⟩
  | 103 => ⟨S16x4096x4, .i1⟩
  | 104 => ⟨S_, .f32⟩
  | 105 => ⟨S16x4096x4, .f32⟩
  | 106 => ⟨S16x4096x4, .i1⟩
  | 107 => ⟨S16x4096x4, .i1⟩
  | 108 => ⟨S_, .f32⟩
  | 109 => ⟨S16x4096x4, .f32⟩
  | 110 => ⟨S16x4096x4, .i1⟩
  | 111 => ⟨S16x4096x4, .i1⟩
  | 112 => ⟨S_, .i32⟩
  | 113 => ⟨S_, .i32⟩
  | 114 => ⟨S_, .f32⟩
  | 115 => ⟨S16x4096x4, .f32⟩
  | 116 => ⟨S16x4096x4, .f32⟩
  | 117 => ⟨S_, .f32⟩
  | 118 => ⟨S16x4096x4, .f32⟩
  | 119 => ⟨S16x4096x4, .f32⟩
  | 120 => ⟨S16x4096x4, .i32⟩
  | 121 => ⟨S_, .i32⟩
  | 122 => ⟨S_, .i32⟩
  | 123 => ⟨S_, .f32⟩
  | 124 => ⟨S16x4096x4, .f32⟩
  | 125 => ⟨S16x4096x4, .f32⟩
  | 126 => ⟨S_, .f32⟩
  | 127 => ⟨S16x4096x4, .f32⟩
  | _ => ⟨S4x2x256x32x32, .f32⟩

abbrev hbmTy0_71 (i : Nat) : BufTy := match i % 128 with
  | 0 => ⟨S16x4096x4, .f32⟩
  | 1 => ⟨S16x4096x4, .i32⟩
  | 2 => ⟨S_, .i32⟩
  | 3 => ⟨S16x4096x4, .i32⟩
  | 4 => ⟨S16x4096x4, .i32⟩
  | 5 => ⟨S16x4096x4, .i32⟩
  | 6 => ⟨S16x16384, .i32⟩
  | 7 => ⟨S16x1x16384, .i32⟩
  | 8 => ⟨S16x32x16384, .i32⟩
  | 9 => ⟨S_, .i32⟩
  | 10 => ⟨S16x32x16384, .i32⟩
  | 11 => ⟨S16x32x16384, .i1⟩
  | 12 => ⟨S_, .i32⟩
  | 13 => ⟨S16x32x16384, .i32⟩
  | 14 => ⟨S16x32x16384, .i32⟩
  | 15 => ⟨S16x32x16384, .i32⟩
  | 16 => ⟨S16x32x16384x1, .i32⟩
  | 17 => ⟨S1, .i32⟩
  | 18 => ⟨S_, .i32⟩
  | 19 => ⟨S16x32x16384x1, .i32⟩
  | 20 => ⟨S16x32x16384x1, .i1⟩
  | 21 => ⟨S1x1x1x1, .i32⟩
  | 22 => ⟨S16x32x16384x1, .i32⟩
  | 23 => ⟨S16x32x16384x1, .i1⟩
  | 24 => ⟨S16x32x16384x1, .i1⟩
  | 25 => ⟨S_, .i1⟩
  | 26 => ⟨S16x32x16384, .i1⟩
  | 27 => ⟨S16x32x16384, .f32⟩
  | 28 => ⟨S_, .f32⟩
  | 29 => ⟨S16x32x16384, .f32⟩
  | 30 => ⟨S16x32x16384, .f32⟩
  | 31 => ⟨S16x32x4096x4, .f32⟩
  | 32 => ⟨S16x1x4096x4, .i1⟩
  | 33 => ⟨S16x1x4096x4, .f32⟩
  | 34 => ⟨S16x32x4096x4, .f32⟩
  | 35 => ⟨S16x32x4096x4, .f32⟩
  | 36 => ⟨S16x1x4096x4, .f32⟩
  | 37 => ⟨S16x32x4096x4, .f32⟩
  | 38 => ⟨S16x32x4096x4, .f32⟩
  | 39 => ⟨S_, .f32⟩
  | 40 => ⟨S16x4096x4, .f32⟩
  | 41 => ⟨S16x4096x4, .i1⟩
  | 42 => ⟨S_, .f32⟩
  | 43 => ⟨S16x4096x4, .f32⟩
  | 44 => ⟨S16x4096x4, .i1⟩
  | 45 => ⟨S16x4096x4, .i1⟩
  | 46 => ⟨S_, .f32⟩
  | 47 => ⟨S16x4096x4, .f32⟩
  | 48 => ⟨S16x4096x4, .i1⟩
  | 49 => ⟨S16x4096x4, .i1⟩
  | 50 => ⟨S_, .f32⟩
  | 51 => ⟨S16x4096x4, .f32⟩
  | 52 => ⟨S16x4096x4, .i1⟩
  | 53 => ⟨S16x4096x4, .i1⟩
  | 54 => ⟨S_, .i32⟩
  | 55 => ⟨S_, .i32⟩
  | 56 => ⟨S_, .f32⟩
  | 57 => ⟨S16x4096x4, .f32⟩
  | 58 => ⟨S16x4096x4, .f32⟩
  | 59 => ⟨S_, .f32⟩
  | 60 => ⟨S16x4096x4, .f32⟩
  | 61 => ⟨S16x4096x4, .f32⟩
  | 62 => ⟨S16x4096x4, .i32⟩
  | 63 => ⟨S_, .i32⟩
  | 64 => ⟨S_, .i32⟩
  | 65 => ⟨S_, .f32⟩
  | 66 => ⟨S16x4096x4, .f32⟩
  | 67 => ⟨S16x4096x4, .f32⟩
  | 68 => ⟨S_, .f32⟩
  | 69 => ⟨S16x4096x4, .f32⟩
  | 70 => ⟨S16x4096x4, .f32⟩
  | 71 => ⟨S16x4096x4, .i32⟩
  | 72 => ⟨S_, .i32⟩
  | 73 => ⟨S16x4096x4, .i32⟩
  | 74 => ⟨S16x4096x4, .i32⟩
  | 75 => ⟨S16x4096x4, .i32⟩
  | 76 => ⟨S16x16384, .i32⟩
  | 77 => ⟨S16x1x16384, .i32⟩
  | 78 => ⟨S16x32x16384, .i32⟩
  | 79 => ⟨S_, .i32⟩
  | 80 => ⟨S16x32x16384, .i32⟩
  | 81 => ⟨S16x32x16384, .i1⟩
  | 82 => ⟨S_, .i32⟩
  | 83 => ⟨S16x32x16384, .i32⟩
  | 84 => ⟨S16x32x16384, .i32⟩
  | 85 => ⟨S16x32x16384, .i32⟩
  | 86 => ⟨S16x32x16384x1, .i32⟩
  | 87 => ⟨S1, .i32⟩
  | 88 => ⟨S_, .i32⟩
  | 89 => ⟨S16x32x16384x1, .i32⟩
  | 90 => ⟨S16x32x16384x1, .i1⟩
  | 91 => ⟨S1x1x1x1, .i32⟩
  | 92 => ⟨S16x32x16384x1, .i32⟩
  | 93 => ⟨S16x32x16384x1, .i1⟩
  | 94 => ⟨S16x32x16384x1, .i1⟩
  | 95 => ⟨S_, .i1⟩
  | 96 => ⟨S16x32x16384, .i1⟩
  | 97 => ⟨S16x32x16384, .f32⟩
  | 98 => ⟨S_, .f32⟩
  | 99 => ⟨S16x32x16384, .f32⟩
  | 100 => ⟨S16x32x16384, .f32⟩
  | 101 => ⟨S16x32x4096x4, .f32⟩
  | 102 => ⟨S16x1x4096x4, .i1⟩
  | 103 => ⟨S16x1x4096x4, .f32⟩
  | 104 => ⟨S16x32x4096x4, .f32⟩
  | 105 => ⟨S16x32x4096x4, .f32⟩
  | 106 => ⟨S16x1x4096x4, .f32⟩
  | 107 => ⟨S16x32x4096x4, .f32⟩
  | 108 => ⟨S16x32x4096x4, .f32⟩
  | 109 => ⟨S16x32x4096x4, .f32⟩
  | 110 => ⟨S_, .f32⟩
  | 111 => ⟨S16x4096x4, .f32⟩
  | 112 => ⟨S16x4096x4, .i1⟩
  | 113 => ⟨S_, .f32⟩
  | 114 => ⟨S16x4096x4, .f32⟩
  | 115 => ⟨S16x4096x4, .i1⟩
  | 116 => ⟨S16x4096x4, .i1⟩
  | 117 => ⟨S_, .f32⟩
  | 118 => ⟨S16x4096x4, .f32⟩
  | 119 => ⟨S16x4096x4, .i1⟩
  | 120 => ⟨S16x4096x4, .i1⟩
  | 121 => ⟨S_, .f32⟩
  | 122 => ⟨S16x4096x4, .f32⟩
  | 123 => ⟨S16x4096x4, .i1⟩
  | 124 => ⟨S16x4096x4, .i1⟩
  | 125 => ⟨S_, .i32⟩
  | 126 => ⟨S_, .i32⟩
  | 127 => ⟨S_, .f32⟩
  | _ => ⟨S4x2x256x32x32, .f32⟩

abbrev hbmTy0_72 (i : Nat) : BufTy := match i % 128 with
  | 0 => ⟨S16x4096x4, .f32⟩
  | 1 => ⟨S16x4096x4, .f32⟩
  | 2 => ⟨S_, .f32⟩
  | 3 => ⟨S16x4096x4, .f32⟩
  | 4 => ⟨S16x4096x4, .f32⟩
  | 5 => ⟨S16x4096x4, .i32⟩
  | 6 => ⟨S_, .i32⟩
  | 7 => ⟨S_, .i32⟩
  | 8 => ⟨S_, .f32⟩
  | 9 => ⟨S16x4096x4, .f32⟩
  | 10 => ⟨S16x4096x4, .f32⟩
  | 11 => ⟨S_, .f32⟩
  | 12 => ⟨S16x4096x4, .f32⟩
  | 13 => ⟨S16x4096x4, .f32⟩
  | 14 => ⟨S16x4096x4, .i32⟩
  | 15 => ⟨S_, .i32⟩
  | 16 => ⟨S16x4096x4, .i32⟩
  | 17 => ⟨S16x4096x4, .i32⟩
  | 18 => ⟨S16x4096x4, .i32⟩
  | 19 => ⟨S16x16384, .i32⟩
  | 20 => ⟨S16x1x16384, .i32⟩
  | 21 => ⟨S16x32x16384, .i32⟩
  | 22 => ⟨S_, .i32⟩
  | 23 => ⟨S16x32x16384, .i32⟩
  | 24 => ⟨S16x32x16384, .i1⟩
  | 25 => ⟨S_, .i32⟩
  | 26 => ⟨S16x32x16384, .i32⟩
  | 27 => ⟨S16x32x16384, .i32⟩
  | 28 => ⟨S16x32x16384, .i32⟩
  | 29 => ⟨S16x32x16384x1, .i32⟩
  | 30 => ⟨S1, .i32⟩
  | 31 => ⟨S_, .i32⟩
  | 32 => ⟨S16x32x16384x1, .i32⟩
  | 33 => ⟨S16x32x16384x1, .i1⟩
  | 34 => ⟨S1x1x1x1, .i32⟩
  | 35 => ⟨S16x32x16384x1, .i32⟩
  | 36 => ⟨S16x32x16384x1, .i1⟩
  | 37 => ⟨S16x32x16384x1, .i1⟩
  | 38 => ⟨S_, .i1⟩
  | 39 => ⟨S16x32x16384, .i1⟩
  | 40 => ⟨S16x32x16384, .f32⟩
  | 41 => ⟨S_, .f32⟩
  | 42 => ⟨S16x32x16384, .f32⟩
  | 43 => ⟨S16x32x16384, .f32⟩
  | 44 => ⟨S16x32x4096x4, .f32⟩
  | 45 => ⟨S16x1x4096x4, .i1⟩
  | 46 => ⟨S16x1x4096x4, .f32⟩
  | 47 => ⟨S16x32x4096x4, .f32⟩
  | 48 => ⟨S16x32x4096x4, .f32⟩
  | 49 => ⟨S16x1x4096x4, .f32⟩
  | 50 => ⟨S16x32x4096x4, .f32⟩
  | 51 => ⟨S16x32x4096x4, .f32⟩
  | 52 => ⟨S16x32x4096x4, .f32⟩
  | 53 => ⟨S_, .f32⟩
  | 54 => ⟨S16x4096x4, .f32⟩
  | 55 => ⟨S16x4096x4, .i1⟩
  | 56 => ⟨S_, .f32⟩
  | 57 => ⟨S16x4096x4, .f32⟩
  | 58 => ⟨S16x4096x4, .i1⟩
  | 59 => ⟨S16x4096x4, .i1⟩
  | 60 => ⟨S_, .f32⟩
  | 61 => ⟨S16x4096x4, .f32⟩
  | 62 => ⟨S16x4096x4, .i1⟩
  | 63 => ⟨S16x4096x4, .i1⟩
  | 64 => ⟨S_, .f32⟩
  | 65 => ⟨S16x4096x4, .f32⟩
  | 66 => ⟨S16x4096x4, .i1⟩
  | 67 => ⟨S16x4096x4, .i1⟩
  | 68 => ⟨S_, .i32⟩
  | 69 => ⟨S_, .i32⟩
  | 70 => ⟨S_, .f32⟩
  | 71 => ⟨S16x4096x4, .f32⟩
  | 72 => ⟨S16x4096x4, .f32⟩
  | 73 => ⟨S_, .f32⟩
  | 74 => ⟨S16x4096x4, .f32⟩
  | 75 => ⟨S16x4096x4, .f32⟩
  | 76 => ⟨S16x4096x4, .i32⟩
  | 77 => ⟨S_, .i32⟩
  | 78 => ⟨S_, .i32⟩
  | 79 => ⟨S_, .f32⟩
  | 80 => ⟨S16x4096x4, .f32⟩
  | 81 => ⟨S16x4096x4, .f32⟩
  | 82 => ⟨S_, .f32⟩
  | 83 => ⟨S16x4096x4, .f32⟩
  | 84 => ⟨S16x4096x4, .f32⟩
  | 85 => ⟨S16x4096x4, .i32⟩
  | 86 => ⟨S_, .i32⟩
  | 87 => ⟨S16x4096x4, .i32⟩
  | 88 => ⟨S16x4096x4, .i32⟩
  | 89 => ⟨S16x4096x4, .i32⟩
  | 90 => ⟨S16x16384, .i32⟩
  | 91 => ⟨S16x1x16384, .i32⟩
  | 92 => ⟨S16x32x16384, .i32⟩
  | 93 => ⟨S_, .i32⟩
  | 94 => ⟨S16x32x16384, .i32⟩
  | 95 => ⟨S16x32x16384, .i1⟩
  | 96 => ⟨S_, .i32⟩
  | 97 => ⟨S16x32x16384, .i32⟩
  | 98 => ⟨S16x32x16384, .i32⟩
  | 99 => ⟨S16x32x16384, .i32⟩
  | 100 => ⟨S16x32x16384x1, .i32⟩
  | 101 => ⟨S1, .i32⟩
  | 102 => ⟨S_, .i32⟩
  | 103 => ⟨S16x32x16384x1, .i32⟩
  | 104 => ⟨S16x32x16384x1, .i1⟩
  | 105 => ⟨S1x1x1x1, .i32⟩
  | 106 => ⟨S16x32x16384x1, .i32⟩
  | 107 => ⟨S16x32x16384x1, .i1⟩
  | 108 => ⟨S16x32x16384x1, .i1⟩
  | 109 => ⟨S_, .i1⟩
  | 110 => ⟨S16x32x16384, .i1⟩
  | 111 => ⟨S16x32x16384, .f32⟩
  | 112 => ⟨S_, .f32⟩
  | 113 => ⟨S16x32x16384, .f32⟩
  | 114 => ⟨S16x32x16384, .f32⟩
  | 115 => ⟨S16x32x4096x4, .f32⟩
  | 116 => ⟨S16x1x4096x4, .i1⟩
  | 117 => ⟨S16x1x4096x4, .f32⟩
  | 118 => ⟨S16x32x4096x4, .f32⟩
  | 119 => ⟨S16x32x4096x4, .f32⟩
  | 120 => ⟨S16x1x4096x4, .f32⟩
  | 121 => ⟨S16x32x4096x4, .f32⟩
  | 122 => ⟨S16x32x4096x4, .f32⟩
  | 123 => ⟨S16x32x4096x4, .f32⟩
  | 124 => ⟨S16x32x4096x1x4, .f32⟩
  | 125 => ⟨S16x32x4096x1x4, .f32⟩
  | 126 => ⟨S16x32x4096x1x4, .f32⟩
  | 127 => ⟨S16x32x4096x1x4, .f32⟩
  | _ => ⟨S4x2x256x32x32, .f32⟩

abbrev hbmTy0_73 (i : Nat) : BufTy := match i % 128 with
  | 0 => ⟨S16x32x4096x4x4, .f32⟩
  | 1 => ⟨S16x32x4096x16, .f32⟩
  | 2 => ⟨S2x8x4096x4x4, .f32⟩
  | 3 => ⟨S16x1x4096x16, .f32⟩
  | 4 => ⟨S16x32x4096x16, .f32⟩
  | 5 => ⟨S16x32x4096x16, .f32⟩
  | 6 => ⟨S_, .f32⟩
  | 7 => ⟨S16x32x4096, .f32⟩
  | 8 => ⟨S2x256x4096, .f32⟩
  | 9 => ⟨S2x4096x256, .f32⟩
  | 10 => ⟨S1x256x256, .f32⟩
  | 11 => ⟨S256x256, .f32⟩
  | 12 => ⟨S2x4096x256, .f32⟩
  | 13 => ⟨S1x256, .f32⟩
  | 14 => ⟨S256, .f32⟩
  | 15 => ⟨S1x1x256, .f32⟩
  | 16 => ⟨S2x4096x256, .f32⟩
  | 17 => ⟨S2x4096x256, .f32⟩
  | 18 => ⟨S2x4096x256, .f32⟩
  | 19 => ⟨S1x256, .f32⟩
  | 20 => ⟨S256, .f32⟩
  | 21 => ⟨S1x256, .f32⟩
  | 22 => ⟨S256, .f32⟩
  | 23 => ⟨S_, .f32⟩
  | 24 => ⟨S2x4096, .f32⟩
  | 25 => ⟨S2x4096x1, .f32⟩
  | 26 => ⟨S_, .f32⟩
  | 27 => ⟨S2x4096x1, .f32⟩
  | 28 => ⟨S2x4096x1, .f32⟩
  | 29 => ⟨S2x4096x256, .f32⟩
  | 30 => ⟨S2x4096x256, .f32⟩
  | 31 => ⟨S2x4096x256, .f32⟩
  | 32 => ⟨S_, .f32⟩
  | 33 => ⟨S2x4096, .f32⟩
  | 34 => ⟨S2x4096x1, .f32⟩
  | 35 => ⟨S_, .f32⟩
  | 36 => ⟨S2x4096x1, .f32⟩
  | 37 => ⟨S2x4096x1, .f32⟩
  | 38 => ⟨S2x4096x256, .f32⟩
  | 39 => ⟨S2x4096x256, .f32⟩
  | 40 => ⟨S_, .f32⟩
  | 41 => ⟨S2x4096x1, .f32⟩
  | 42 => ⟨S2x4096x1, .f32⟩
  | 43 => ⟨S2x4096x1, .f32⟩
  | 44 => ⟨S2x4096x256, .f32⟩
  | 45 => ⟨S2x4096x256, .f32⟩
  | 46 => ⟨S1x1x256, .f32⟩
  | 47 => ⟨S2x4096x256, .f32⟩
  | 48 => ⟨S2x4096x256, .f32⟩
  | 49 => ⟨S1x1x256, .f32⟩
  | 50 => ⟨S2x4096x256, .f32⟩
  | 51 => ⟨S2x4096x256, .f32⟩
  | 52 => ⟨S1x256x1024, .f32⟩
  | 53 => ⟨S256x1024, .f32⟩
  | 54 => ⟨S2x4096x1024, .f32⟩
  | 55 => ⟨S1x1024, .f32⟩
  | 56 => ⟨S1024, .f32⟩
  | 57 => ⟨S1x1x1024, .f32⟩
  | 58 => ⟨S2x4096x1024, .f32⟩
  | 59 => ⟨S2x4096x1024, .f32⟩
  | 60 => ⟨S_, .f32⟩
  | 61 => ⟨S2x4096x1024, .f32⟩
  | 62 => ⟨S2x4096x1024, .f32⟩
  | 63 => ⟨S1x1024x256, .f32⟩
  | 64 => ⟨S1024x256, .f32⟩
  | 65 => ⟨S2x4096x256, .f32⟩
  | 66 => ⟨S1x256, .f32⟩
  | 67 => ⟨S256, .f32⟩
  | 68 => ⟨S1x1x256, .f32⟩
  | 69 => ⟨S2x4096x256, .f32⟩
  | 70 => ⟨S2x4096x256, .f32⟩
  | 71 => ⟨S2x4096x256, .f32⟩
  | 72 => ⟨S1x256, .f32⟩
  | 73 => ⟨S256, .f32⟩
  | 74 => ⟨S1x256, .f32⟩
  | 75 => ⟨S256, .f32⟩
  | 76 => ⟨S_, .f32⟩
  | 77 => ⟨S2x4096, .f32⟩
  | 78 => ⟨S2x4096x1, .f32⟩
  | 79 => ⟨S_, .f32⟩
  | 80 => ⟨S2x4096x1, .f32⟩
  | 81 => ⟨S2x4096x1, .f32⟩
  | 82 => ⟨S2x4096x256, .f32⟩
  | 83 => ⟨S2x4096x256, .f32⟩
  | 84 => ⟨S2x4096x256, .f32⟩
  | 85 => ⟨S_, .f32⟩
  | 86 => ⟨S2x4096, .f32⟩
  | 87 => ⟨S2x4096x1, .f32⟩
  | 88 => ⟨S_, .f32⟩
  | 89 => ⟨S2x4096x1, .f32⟩
  | 90 => ⟨S2x4096x1, .f32⟩
  | 91 => ⟨S2x4096x256, .f32⟩
  | 92 => ⟨S2x4096x256, .f32⟩
  | 93 => ⟨S_, .f32⟩
  | 94 => ⟨S2x4096x1, .f32⟩
  | 95 => ⟨S2x4096x1, .f32⟩
  | 96 => ⟨S2x4096x1, .f32⟩
  | 97 => ⟨S2x4096x256, .f32⟩
  | 98 => ⟨S2x4096x256, .f32⟩
  | 99 => ⟨S1x1x256, .f32⟩
  | 100 => ⟨S2x4096x256, .f32⟩
  | 101 => ⟨S2x4096x256, .f32⟩
  | 102 => ⟨S1x1x256, .f32⟩
  | 103 => ⟨S2x4096x256, .f32⟩
  | 104 => ⟨S2x4096x256, .f32⟩
  | 105 => ⟨S2x4096x256, .f32⟩
  | _ => ⟨S4x2x256x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | 34 => hbmTy0_34 i
  | 35 => hbmTy0_35 i
  | 36 => hbmTy0_36 i
  | 37 => hbmTy0_37 i
  | 38 => hbmTy0_38 i
  | 39 => hbmTy0_39 i
  | 40 => hbmTy0_40 i
  | 41 => hbmTy0_41 i
  | 42 => hbmTy0_42 i
  | 43 => hbmTy0_43 i
  | 44 => hbmTy0_44 i
  | 45 => hbmTy0_45 i
  | 46 => hbmTy0_46 i
  | 47 => hbmTy0_47 i
  | 48 => hbmTy0_48 i
  | 49 => hbmTy0_49 i
  | 50 => hbmTy0_50 i
  | 51 => hbmTy0_51 i
  | 52 => hbmTy0_52 i
  | 53 => hbmTy0_53 i
  | 54 => hbmTy0_54 i
  | 55 => hbmTy0_55 i
  | 56 => hbmTy0_56 i
  | 57 => hbmTy0_57 i
  | 58 => hbmTy0_58 i
  | 59 => hbmTy0_59 i
  | 60 => hbmTy0_60 i
  | 61 => hbmTy0_61 i
  | 62 => hbmTy0_62 i
  | 63 => hbmTy0_63 i
  | 64 => hbmTy0_64 i
  | 65 => hbmTy0_65 i
  | 66 => hbmTy0_66 i
  | 67 => hbmTy0_67 i
  | 68 => hbmTy0_68 i
  | 69 => hbmTy0_69 i
  | 70 => hbmTy0_70 i
  | 71 => hbmTy0_71 i
  | 72 => hbmTy0_72 i
  | 73 => hbmTy0_73 i
  | _ => ⟨S4x2x256x32x32, .f32⟩

abbrev bufTy : (tb : Table) → Fin (tcTables nBuf tb) → BufTy
  | .hbm, ⟨i, _⟩ => hbmTy i
  | .local _ .vmem, ⟨0, _⟩ => ⟨S2x4096x256, .f32⟩
  | .local _ .vmem, ⟨1, _⟩ => ⟨S2x4096x256, .f32⟩
  | _, _ => ⟨S4x2x256x32x32, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_cst_1 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_cst : Ref sig .tc := ⟨.hbm, 36, rfl⟩
abbrev main_call0_v3 : Ref sig .tc := ⟨.hbm, 37, rfl⟩
abbrev main_call0_v4 : Ref sig .tc := ⟨.hbm, 38, rfl⟩
abbrev main_call0_cst_0 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_v15 : Ref sig .tc := ⟨.hbm, 51, rfl⟩
abbrev main_call0_v16 : Ref sig .tc := ⟨.hbm, 52, rfl⟩
abbrev main_v10 : Ref sig .tc := ⟨.hbm, 53, rfl⟩
abbrev main_cst_3 : Ref sig .tc := ⟨.hbm, 54, rfl⟩
abbrev main_cst_4 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_cst : Ref sig .tc := ⟨.hbm, 59, rfl⟩
abbrev main_call1_v3 : Ref sig .tc := ⟨.hbm, 60, rfl⟩
abbrev main_call1_v4 : Ref sig .tc := ⟨.hbm, 61, rfl⟩
abbrev main_call1_cst_0 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_cst_1 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_v15 : Ref sig .tc := ⟨.hbm, 74, rfl⟩
abbrev main_call1_v16 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_cst_5 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_cst_6 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_cst_7 : Ref sig .tc := ⟨.hbm, 104, rfl⟩
abbrev main_cst_8 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_call2_cst : Ref sig .tc := ⟨.hbm, 109, rfl⟩
abbrev main_call2_v3 : Ref sig .tc := ⟨.hbm, 110, rfl⟩
abbrev main_call2_v4 : Ref sig .tc := ⟨.hbm, 111, rfl⟩
abbrev main_call2_cst_0 : Ref sig .tc := ⟨.hbm, 112, rfl⟩
abbrev main_call2_v5 : Ref sig .tc := ⟨.hbm, 113, rfl⟩
abbrev main_call2_v6 : Ref sig .tc := ⟨.hbm, 114, rfl⟩
abbrev main_call2_v7 : Ref sig .tc := ⟨.hbm, 115, rfl⟩
abbrev main_call2_cst_1 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_v15 : Ref sig .tc := ⟨.hbm, 124, rfl⟩
abbrev main_call2_v16 : Ref sig .tc := ⟨.hbm, 125, rfl⟩
abbrev main_v37 : Ref sig .tc := ⟨.hbm, 126, rfl⟩
abbrev main_cst_9 : Ref sig .tc := ⟨.hbm, 127, rfl⟩
abbrev main_cst_10 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_cst : Ref sig .tc := ⟨.hbm, 132, rfl⟩
abbrev main_call3_v3 : Ref sig .tc := ⟨.hbm, 133, rfl⟩
abbrev main_call3_v4 : Ref sig .tc := ⟨.hbm, 134, rfl⟩
abbrev main_call3_cst_0 : Ref sig .tc := ⟨.hbm, 135, rfl⟩
abbrev main_call3_v5 : Ref sig .tc := ⟨.hbm, 136, rfl⟩
abbrev main_call3_v6 : Ref sig .tc := ⟨.hbm, 137, rfl⟩
abbrev main_call3_v7 : Ref sig .tc := ⟨.hbm, 138, rfl⟩
abbrev main_call3_cst_1 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_v12 : Ref sig .tc := ⟨.hbm, 144, rfl⟩
abbrev main_call3_v13 : Ref sig .tc := ⟨.hbm, 145, rfl⟩
abbrev main_call3_v14 : Ref sig .tc := ⟨.hbm, 146, rfl⟩
abbrev main_call3_v15 : Ref sig .tc := ⟨.hbm, 147, rfl⟩
abbrev main_call3_v16 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_cst_11 : Ref sig .tc := ⟨.hbm, 157, rfl⟩
abbrev main_v46 : Ref sig .tc := ⟨.hbm, 158, rfl⟩
abbrev main_v47 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_v51 : Ref sig .tc := ⟨.hbm, 163, rfl⟩
abbrev main_v52 : Ref sig .tc := ⟨.hbm, 164, rfl⟩
abbrev main_v53 : Ref sig .tc := ⟨.hbm, 165, rfl⟩
abbrev main_v54 : Ref sig .tc := ⟨.hbm, 166, rfl⟩
abbrev main_v55 : Ref sig .tc := ⟨.hbm, 167, rfl⟩
abbrev main_cst_12 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_cst_13 : Ref sig .tc := ⟨.hbm, 177, rfl⟩
abbrev main_cst_14 : Ref sig .tc := ⟨.hbm, 178, rfl⟩
abbrev main_call4_v0 : Ref sig .tc := ⟨.hbm, 179, rfl⟩
abbrev main_call4_v1 : Ref sig .tc := ⟨.hbm, 180, rfl⟩
abbrev main_call4_v2 : Ref sig .tc := ⟨.hbm, 181, rfl⟩
abbrev main_call4_cst : Ref sig .tc := ⟨.hbm, 182, rfl⟩
abbrev main_call4_v3 : Ref sig .tc := ⟨.hbm, 183, rfl⟩
abbrev main_call4_v4 : Ref sig .tc := ⟨.hbm, 184, rfl⟩
abbrev main_call4_cst_0 : Ref sig .tc := ⟨.hbm, 185, rfl⟩
abbrev main_call4_v5 : Ref sig .tc := ⟨.hbm, 186, rfl⟩
abbrev main_call4_v6 : Ref sig .tc := ⟨.hbm, 187, rfl⟩
abbrev main_call4_v7 : Ref sig .tc := ⟨.hbm, 188, rfl⟩
abbrev main_call4_cst_1 : Ref sig .tc := ⟨.hbm, 189, rfl⟩
abbrev main_call4_v8 : Ref sig .tc := ⟨.hbm, 190, rfl⟩
abbrev main_call4_v9 : Ref sig .tc := ⟨.hbm, 191, rfl⟩
abbrev main_call4_v10 : Ref sig .tc := ⟨.hbm, 192, rfl⟩
abbrev main_call4_v11 : Ref sig .tc := ⟨.hbm, 193, rfl⟩
abbrev main_call4_v12 : Ref sig .tc := ⟨.hbm, 194, rfl⟩
abbrev main_call4_v13 : Ref sig .tc := ⟨.hbm, 195, rfl⟩
abbrev main_call4_v14 : Ref sig .tc := ⟨.hbm, 196, rfl⟩
abbrev main_call4_v15 : Ref sig .tc := ⟨.hbm, 197, rfl⟩
abbrev main_call4_v16 : Ref sig .tc := ⟨.hbm, 198, rfl⟩
abbrev main_v64 : Ref sig .tc := ⟨.hbm, 199, rfl⟩
abbrev main_cst_15 : Ref sig .tc := ⟨.hbm, 200, rfl⟩
abbrev main_cst_16 : Ref sig .tc := ⟨.hbm, 201, rfl⟩
abbrev main_call5_v0 : Ref sig .tc := ⟨.hbm, 202, rfl⟩
abbrev main_call5_v1 : Ref sig .tc := ⟨.hbm, 203, rfl⟩
abbrev main_call5_v2 : Ref sig .tc := ⟨.hbm, 204, rfl⟩
abbrev main_call5_cst : Ref sig .tc := ⟨.hbm, 205, rfl⟩
abbrev main_call5_v3 : Ref sig .tc := ⟨.hbm, 206, rfl⟩
abbrev main_call5_v4 : Ref sig .tc := ⟨.hbm, 207, rfl⟩
abbrev main_call5_cst_0 : Ref sig .tc := ⟨.hbm, 208, rfl⟩
abbrev main_call5_v5 : Ref sig .tc := ⟨.hbm, 209, rfl⟩
abbrev main_call5_v6 : Ref sig .tc := ⟨.hbm, 210, rfl⟩
abbrev main_call5_v7 : Ref sig .tc := ⟨.hbm, 211, rfl⟩
abbrev main_call5_cst_1 : Ref sig .tc := ⟨.hbm, 212, rfl⟩
abbrev main_call5_v8 : Ref sig .tc := ⟨.hbm, 213, rfl⟩
abbrev main_call5_v9 : Ref sig .tc := ⟨.hbm, 214, rfl⟩
abbrev main_call5_v10 : Ref sig .tc := ⟨.hbm, 215, rfl⟩
abbrev main_call5_v11 : Ref sig .tc := ⟨.hbm, 216, rfl⟩
abbrev main_call5_v12 : Ref sig .tc := ⟨.hbm, 217, rfl⟩
abbrev main_call5_v13 : Ref sig .tc := ⟨.hbm, 218, rfl⟩
abbrev main_call5_v14 : Ref sig .tc := ⟨.hbm, 219, rfl⟩
abbrev main_call5_v15 : Ref sig .tc := ⟨.hbm, 220, rfl⟩
abbrev main_call5_v16 : Ref sig .tc := ⟨.hbm, 221, rfl⟩
abbrev main_v65 : Ref sig .tc := ⟨.hbm, 222, rfl⟩
abbrev main_v66 : Ref sig .tc := ⟨.hbm, 223, rfl⟩
abbrev main_v67 : Ref sig .tc := ⟨.hbm, 224, rfl⟩
abbrev main_v68 : Ref sig .tc := ⟨.hbm, 225, rfl⟩
abbrev main_v69 : Ref sig .tc := ⟨.hbm, 226, rfl⟩
abbrev main_v70 : Ref sig .tc := ⟨.hbm, 227, rfl⟩
abbrev main_v71 : Ref sig .tc := ⟨.hbm, 228, rfl⟩
abbrev main_v72 : Ref sig .tc := ⟨.hbm, 229, rfl⟩
abbrev main_cst_17 : Ref sig .tc := ⟨.hbm, 230, rfl⟩
abbrev main_v73 : Ref sig .tc := ⟨.hbm, 231, rfl⟩
abbrev main_v74 : Ref sig .tc := ⟨.hbm, 232, rfl⟩
abbrev main_v75 : Ref sig .tc := ⟨.hbm, 233, rfl⟩
abbrev main_v76 : Ref sig .tc := ⟨.hbm, 234, rfl⟩
abbrev main_v77 : Ref sig .tc := ⟨.hbm, 235, rfl⟩
abbrev main_v78 : Ref sig .tc := ⟨.hbm, 236, rfl⟩
abbrev main_v79 : Ref sig .tc := ⟨.hbm, 237, rfl⟩
abbrev main_v80 : Ref sig .tc := ⟨.hbm, 238, rfl⟩
abbrev main_v81 : Ref sig .tc := ⟨.hbm, 239, rfl⟩
abbrev main_v82 : Ref sig .tc := ⟨.hbm, 240, rfl⟩
abbrev main_cst_18 : Ref sig .tc := ⟨.hbm, 241, rfl⟩
abbrev main_v83 : Ref sig .tc := ⟨.hbm, 242, rfl⟩
abbrev main_v84 : Ref sig .tc := ⟨.hbm, 243, rfl⟩
abbrev main_v85 : Ref sig .tc := ⟨.hbm, 244, rfl⟩
abbrev main_v86 : Ref sig .tc := ⟨.hbm, 245, rfl⟩
abbrev main_v87 : Ref sig .tc := ⟨.hbm, 246, rfl⟩
abbrev main_v88 : Ref sig .tc := ⟨.hbm, 247, rfl⟩
abbrev main_v89 : Ref sig .tc := ⟨.hbm, 248, rfl⟩
abbrev main_v90 : Ref sig .tc := ⟨.hbm, 249, rfl⟩
abbrev main_cst_19 : Ref sig .tc := ⟨.hbm, 250, rfl⟩
abbrev main_cst_20 : Ref sig .tc := ⟨.hbm, 251, rfl⟩
abbrev main_call6_v0 : Ref sig .tc := ⟨.hbm, 252, rfl⟩
abbrev main_call6_v1 : Ref sig .tc := ⟨.hbm, 253, rfl⟩
abbrev main_call6_v2 : Ref sig .tc := ⟨.hbm, 254, rfl⟩
abbrev main_call6_cst : Ref sig .tc := ⟨.hbm, 255, rfl⟩
abbrev main_call6_v3 : Ref sig .tc := ⟨.hbm, 256, rfl⟩
abbrev main_call6_v4 : Ref sig .tc := ⟨.hbm, 257, rfl⟩
abbrev main_call6_cst_0 : Ref sig .tc := ⟨.hbm, 258, rfl⟩
abbrev main_call6_v5 : Ref sig .tc := ⟨.hbm, 259, rfl⟩
abbrev main_call6_v6 : Ref sig .tc := ⟨.hbm, 260, rfl⟩
abbrev main_call6_v7 : Ref sig .tc := ⟨.hbm, 261, rfl⟩
abbrev main_call6_cst_1 : Ref sig .tc := ⟨.hbm, 262, rfl⟩
abbrev main_call6_v8 : Ref sig .tc := ⟨.hbm, 263, rfl⟩
abbrev main_call6_v9 : Ref sig .tc := ⟨.hbm, 264, rfl⟩
abbrev main_call6_v10 : Ref sig .tc := ⟨.hbm, 265, rfl⟩
abbrev main_call6_v11 : Ref sig .tc := ⟨.hbm, 266, rfl⟩
abbrev main_call6_v12 : Ref sig .tc := ⟨.hbm, 267, rfl⟩
abbrev main_call6_v13 : Ref sig .tc := ⟨.hbm, 268, rfl⟩
abbrev main_call6_v14 : Ref sig .tc := ⟨.hbm, 269, rfl⟩
abbrev main_call6_v15 : Ref sig .tc := ⟨.hbm, 270, rfl⟩
abbrev main_call6_v16 : Ref sig .tc := ⟨.hbm, 271, rfl⟩
abbrev main_v91 : Ref sig .tc := ⟨.hbm, 272, rfl⟩
abbrev main_cst_21 : Ref sig .tc := ⟨.hbm, 273, rfl⟩
abbrev main_cst_22 : Ref sig .tc := ⟨.hbm, 274, rfl⟩
abbrev main_call7_v0 : Ref sig .tc := ⟨.hbm, 275, rfl⟩
abbrev main_call7_v1 : Ref sig .tc := ⟨.hbm, 276, rfl⟩
abbrev main_call7_v2 : Ref sig .tc := ⟨.hbm, 277, rfl⟩
abbrev main_call7_cst : Ref sig .tc := ⟨.hbm, 278, rfl⟩
abbrev main_call7_v3 : Ref sig .tc := ⟨.hbm, 279, rfl⟩
abbrev main_call7_v4 : Ref sig .tc := ⟨.hbm, 280, rfl⟩
abbrev main_call7_cst_0 : Ref sig .tc := ⟨.hbm, 281, rfl⟩
abbrev main_call7_v5 : Ref sig .tc := ⟨.hbm, 282, rfl⟩
abbrev main_call7_v6 : Ref sig .tc := ⟨.hbm, 283, rfl⟩
abbrev main_call7_v7 : Ref sig .tc := ⟨.hbm, 284, rfl⟩
abbrev main_call7_cst_1 : Ref sig .tc := ⟨.hbm, 285, rfl⟩
abbrev main_call7_v8 : Ref sig .tc := ⟨.hbm, 286, rfl⟩
abbrev main_call7_v9 : Ref sig .tc := ⟨.hbm, 287, rfl⟩
abbrev main_call7_v10 : Ref sig .tc := ⟨.hbm, 288, rfl⟩
abbrev main_call7_v11 : Ref sig .tc := ⟨.hbm, 289, rfl⟩
abbrev main_call7_v12 : Ref sig .tc := ⟨.hbm, 290, rfl⟩
abbrev main_call7_v13 : Ref sig .tc := ⟨.hbm, 291, rfl⟩
abbrev main_call7_v14 : Ref sig .tc := ⟨.hbm, 292, rfl⟩
abbrev main_call7_v15 : Ref sig .tc := ⟨.hbm, 293, rfl⟩
abbrev main_call7_v16 : Ref sig .tc := ⟨.hbm, 294, rfl⟩
abbrev main_v92 : Ref sig .tc := ⟨.hbm, 295, rfl⟩
abbrev main_v93 : Ref sig .tc := ⟨.hbm, 296, rfl⟩
abbrev main_v94 : Ref sig .tc := ⟨.hbm, 297, rfl⟩
abbrev main_v95 : Ref sig .tc := ⟨.hbm, 298, rfl⟩
abbrev main_v96 : Ref sig .tc := ⟨.hbm, 299, rfl⟩
abbrev main_v97 : Ref sig .tc := ⟨.hbm, 300, rfl⟩
abbrev main_v98 : Ref sig .tc := ⟨.hbm, 301, rfl⟩
abbrev main_v99 : Ref sig .tc := ⟨.hbm, 302, rfl⟩
abbrev main_cst_23 : Ref sig .tc := ⟨.hbm, 303, rfl⟩
abbrev main_v100 : Ref sig .tc := ⟨.hbm, 304, rfl⟩
abbrev main_v101 : Ref sig .tc := ⟨.hbm, 305, rfl⟩
abbrev main_v102 : Ref sig .tc := ⟨.hbm, 306, rfl⟩
abbrev main_v103 : Ref sig .tc := ⟨.hbm, 307, rfl⟩
abbrev main_v104 : Ref sig .tc := ⟨.hbm, 308, rfl⟩
abbrev main_v105 : Ref sig .tc := ⟨.hbm, 309, rfl⟩
abbrev main_v106 : Ref sig .tc := ⟨.hbm, 310, rfl⟩
abbrev main_v107 : Ref sig .tc := ⟨.hbm, 311, rfl⟩
abbrev main_v108 : Ref sig .tc := ⟨.hbm, 312, rfl⟩
abbrev main_v109 : Ref sig .tc := ⟨.hbm, 313, rfl⟩
abbrev main_cst_24 : Ref sig .tc := ⟨.hbm, 314, rfl⟩
abbrev main_v110 : Ref sig .tc := ⟨.hbm, 315, rfl⟩
abbrev main_v111 : Ref sig .tc := ⟨.hbm, 316, rfl⟩
abbrev main_v112 : Ref sig .tc := ⟨.hbm, 317, rfl⟩
abbrev main_v113 : Ref sig .tc := ⟨.hbm, 318, rfl⟩
abbrev main_v114 : Ref sig .tc := ⟨.hbm, 319, rfl⟩
abbrev main_v115 : Ref sig .tc := ⟨.hbm, 320, rfl⟩
abbrev main_v116 : Ref sig .tc := ⟨.hbm, 321, rfl⟩
abbrev main_v117 : Ref sig .tc := ⟨.hbm, 322, rfl⟩
abbrev main_v118 : Ref sig .tc := ⟨.hbm, 323, rfl⟩
abbrev main_v119 : Ref sig .tc := ⟨.hbm, 324, rfl⟩
abbrev main_v120 : Ref sig .tc := ⟨.hbm, 325, rfl⟩
abbrev main_v121 : Ref sig .tc := ⟨.hbm, 326, rfl⟩
abbrev main_v122 : Ref sig .tc := ⟨.hbm, 327, rfl⟩
abbrev main_v123 : Ref sig .tc := ⟨.hbm, 328, rfl⟩
abbrev main_v124 : Ref sig .tc := ⟨.hbm, 329, rfl⟩
abbrev main_v125 : Ref sig .tc := ⟨.hbm, 330, rfl⟩
abbrev main_v126 : Ref sig .tc := ⟨.hbm, 331, rfl⟩
abbrev main_v127 : Ref sig .tc := ⟨.hbm, 332, rfl⟩
abbrev main_v128 : Ref sig .tc := ⟨.hbm, 333, rfl⟩
abbrev main_v129 : Ref sig .tc := ⟨.hbm, 334, rfl⟩
abbrev main_v130 : Ref sig .tc := ⟨.hbm, 335, rfl⟩
abbrev main_v131 : Ref sig .tc := ⟨.hbm, 336, rfl⟩
abbrev main_v132 : Ref sig .tc := ⟨.hbm, 337, rfl⟩
abbrev main_v133 : Ref sig .tc := ⟨.hbm, 338, rfl⟩
abbrev main_v134 : Ref sig .tc := ⟨.hbm, 339, rfl⟩
abbrev main_v135 : Ref sig .tc := ⟨.hbm, 340, rfl⟩
abbrev main_v136 : Ref sig .tc := ⟨.hbm, 341, rfl⟩
abbrev main_v137 : Ref sig .tc := ⟨.hbm, 342, rfl⟩
abbrev main_v138 : Ref sig .tc := ⟨.hbm, 343, rfl⟩
abbrev main_v139 : Ref sig .tc := ⟨.hbm, 344, rfl⟩
abbrev main_v140 : Ref sig .tc := ⟨.hbm, 345, rfl⟩
abbrev main_v141 : Ref sig .tc := ⟨.hbm, 346, rfl⟩
abbrev main_v142 : Ref sig .tc := ⟨.hbm, 347, rfl⟩
abbrev main_v143 : Ref sig .tc := ⟨.hbm, 348, rfl⟩
abbrev main_v144 : Ref sig .tc := ⟨.hbm, 349, rfl⟩
abbrev main_v145 : Ref sig .tc := ⟨.hbm, 350, rfl⟩
abbrev main_v146 : Ref sig .tc := ⟨.hbm, 351, rfl⟩
abbrev main_v147 : Ref sig .tc := ⟨.hbm, 352, rfl⟩
abbrev main_v148 : Ref sig .tc := ⟨.hbm, 353, rfl⟩
abbrev main_v149 : Ref sig .tc := ⟨.hbm, 354, rfl⟩
abbrev main_v150 : Ref sig .tc := ⟨.hbm, 355, rfl⟩
abbrev main_v151 : Ref sig .tc := ⟨.hbm, 356, rfl⟩
abbrev main_cst_25 : Ref sig .tc := ⟨.hbm, 357, rfl⟩
abbrev main_v152 : Ref sig .tc := ⟨.hbm, 358, rfl⟩
abbrev main_cst_26 : Ref sig .tc := ⟨.hbm, 359, rfl⟩
abbrev main_v153 : Ref sig .tc := ⟨.hbm, 360, rfl⟩
abbrev main_v154 : Ref sig .tc := ⟨.hbm, 361, rfl⟩
abbrev main_v155 : Ref sig .tc := ⟨.hbm, 362, rfl⟩
abbrev main_v156 : Ref sig .tc := ⟨.hbm, 363, rfl⟩
abbrev main_v157 : Ref sig .tc := ⟨.hbm, 364, rfl⟩
abbrev main_v158 : Ref sig .tc := ⟨.hbm, 365, rfl⟩
abbrev main_cst_27 : Ref sig .tc := ⟨.hbm, 366, rfl⟩
abbrev main_v159 : Ref sig .tc := ⟨.hbm, 367, rfl⟩
abbrev main_v160 : Ref sig .tc := ⟨.hbm, 368, rfl⟩
abbrev main_v161 : Ref sig .tc := ⟨.hbm, 369, rfl⟩
abbrev main_v162 : Ref sig .tc := ⟨.hbm, 370, rfl⟩
abbrev main_v163 : Ref sig .tc := ⟨.hbm, 371, rfl⟩
abbrev main_v164 : Ref sig .tc := ⟨.hbm, 372, rfl⟩
abbrev main_v165 : Ref sig .tc := ⟨.hbm, 373, rfl⟩
abbrev main_v166 : Ref sig .tc := ⟨.hbm, 374, rfl⟩
abbrev main_v167 : Ref sig .tc := ⟨.hbm, 375, rfl⟩
abbrev main_v168 : Ref sig .tc := ⟨.hbm, 376, rfl⟩
abbrev main_v169 : Ref sig .tc := ⟨.hbm, 377, rfl⟩
abbrev main_cst_28 : Ref sig .tc := ⟨.hbm, 378, rfl⟩
abbrev main_v170 : Ref sig .tc := ⟨.hbm, 379, rfl⟩
abbrev main_v171 : Ref sig .tc := ⟨.hbm, 380, rfl⟩
abbrev main_cst_29 : Ref sig .tc := ⟨.hbm, 381, rfl⟩
abbrev main_v172 : Ref sig .tc := ⟨.hbm, 382, rfl⟩
abbrev main_v173 : Ref sig .tc := ⟨.hbm, 383, rfl⟩
abbrev main_v174 : Ref sig .tc := ⟨.hbm, 384, rfl⟩
abbrev main_v175 : Ref sig .tc := ⟨.hbm, 385, rfl⟩
abbrev main_v176 : Ref sig .tc := ⟨.hbm, 386, rfl⟩
abbrev main_v177 : Ref sig .tc := ⟨.hbm, 387, rfl⟩
abbrev main_v178 : Ref sig .tc := ⟨.hbm, 388, rfl⟩
abbrev main_v179 : Ref sig .tc := ⟨.hbm, 389, rfl⟩
abbrev main_v180 : Ref sig .tc := ⟨.hbm, 390, rfl⟩
abbrev main_v181 : Ref sig .tc := ⟨.hbm, 391, rfl⟩
abbrev main_v182 : Ref sig .tc := ⟨.hbm, 392, rfl⟩
abbrev main_cst_30 : Ref sig .tc := ⟨.hbm, 393, rfl⟩
abbrev main_v183 : Ref sig .tc := ⟨.hbm, 394, rfl⟩
abbrev main_v184 : Ref sig .tc := ⟨.hbm, 395, rfl⟩
abbrev main_cst_31 : Ref sig .tc := ⟨.hbm, 396, rfl⟩
abbrev main_v185 : Ref sig .tc := ⟨.hbm, 397, rfl⟩
abbrev main_v186 : Ref sig .tc := ⟨.hbm, 398, rfl⟩
abbrev main_cst_32 : Ref sig .tc := ⟨.hbm, 399, rfl⟩
abbrev main_v187 : Ref sig .tc := ⟨.hbm, 400, rfl⟩
abbrev main_v188 : Ref sig .tc := ⟨.hbm, 401, rfl⟩
abbrev main_cst_33 : Ref sig .tc := ⟨.hbm, 402, rfl⟩
abbrev main_v189 : Ref sig .tc := ⟨.hbm, 403, rfl⟩
abbrev main_v190 : Ref sig .tc := ⟨.hbm, 404, rfl⟩
abbrev main_v191 : Ref sig .tc := ⟨.hbm, 405, rfl⟩
abbrev main_v192 : Ref sig .tc := ⟨.hbm, 406, rfl⟩
abbrev main_cst_34 : Ref sig .tc := ⟨.hbm, 407, rfl⟩
abbrev main_v193 : Ref sig .tc := ⟨.hbm, 408, rfl⟩
abbrev main_v194 : Ref sig .tc := ⟨.hbm, 409, rfl⟩
abbrev main_cst_35 : Ref sig .tc := ⟨.hbm, 410, rfl⟩
abbrev main_v195 : Ref sig .tc := ⟨.hbm, 411, rfl⟩
abbrev main_v196 : Ref sig .tc := ⟨.hbm, 412, rfl⟩
abbrev main_cst_36 : Ref sig .tc := ⟨.hbm, 413, rfl⟩
abbrev main_v197 : Ref sig .tc := ⟨.hbm, 414, rfl⟩
abbrev main_v198 : Ref sig .tc := ⟨.hbm, 415, rfl⟩
abbrev main_cst_37 : Ref sig .tc := ⟨.hbm, 416, rfl⟩
abbrev main_v199 : Ref sig .tc := ⟨.hbm, 417, rfl⟩
abbrev main_v200 : Ref sig .tc := ⟨.hbm, 418, rfl⟩
abbrev main_v201 : Ref sig .tc := ⟨.hbm, 419, rfl⟩
abbrev main_v202 : Ref sig .tc := ⟨.hbm, 420, rfl⟩
abbrev main_cst_38 : Ref sig .tc := ⟨.hbm, 421, rfl⟩
abbrev main_v203 : Ref sig .tc := ⟨.hbm, 422, rfl⟩
abbrev main_v204 : Ref sig .tc := ⟨.hbm, 423, rfl⟩
abbrev main_cst_39 : Ref sig .tc := ⟨.hbm, 424, rfl⟩
abbrev main_v205 : Ref sig .tc := ⟨.hbm, 425, rfl⟩
abbrev main_v206 : Ref sig .tc := ⟨.hbm, 426, rfl⟩
abbrev main_v207 : Ref sig .tc := ⟨.hbm, 427, rfl⟩
abbrev main_v208 : Ref sig .tc := ⟨.hbm, 428, rfl⟩
abbrev main_v209 : Ref sig .tc := ⟨.hbm, 429, rfl⟩
abbrev main_v210 : Ref sig .tc := ⟨.hbm, 430, rfl⟩
abbrev main_v211 : Ref sig .tc := ⟨.hbm, 431, rfl⟩
abbrev main_v212 : Ref sig .tc := ⟨.hbm, 432, rfl⟩
abbrev main_v213 : Ref sig .tc := ⟨.hbm, 433, rfl⟩
abbrev main_v214 : Ref sig .tc := ⟨.hbm, 434, rfl⟩
abbrev main_v215 : Ref sig .tc := ⟨.hbm, 435, rfl⟩
abbrev main_v216 : Ref sig .tc := ⟨.hbm, 436, rfl⟩
abbrev main_v217 : Ref sig .tc := ⟨.hbm, 437, rfl⟩
abbrev main_v218 : Ref sig .tc := ⟨.hbm, 438, rfl⟩
abbrev main_v219 : Ref sig .tc := ⟨.hbm, 439, rfl⟩
abbrev main_cst_40 : Ref sig .tc := ⟨.hbm, 440, rfl⟩
abbrev main_v220 : Ref sig .tc := ⟨.hbm, 441, rfl⟩
abbrev main_v221 : Ref sig .tc := ⟨.hbm, 442, rfl⟩
abbrev main_cst_41 : Ref sig .tc := ⟨.hbm, 443, rfl⟩
abbrev main_v222 : Ref sig .tc := ⟨.hbm, 444, rfl⟩
abbrev main_v223 : Ref sig .tc := ⟨.hbm, 445, rfl⟩
abbrev main_v224 : Ref sig .tc := ⟨.hbm, 446, rfl⟩
abbrev main_cst_42 : Ref sig .tc := ⟨.hbm, 447, rfl⟩
abbrev main_v225 : Ref sig .tc := ⟨.hbm, 448, rfl⟩
abbrev main_v226 : Ref sig .tc := ⟨.hbm, 449, rfl⟩
abbrev main_v227 : Ref sig .tc := ⟨.hbm, 450, rfl⟩
abbrev main_cst_43 : Ref sig .tc := ⟨.hbm, 451, rfl⟩
abbrev main_v228 : Ref sig .tc := ⟨.hbm, 452, rfl⟩
abbrev main_v229 : Ref sig .tc := ⟨.hbm, 453, rfl⟩
abbrev main_v230 : Ref sig .tc := ⟨.hbm, 454, rfl⟩
abbrev main_c : Ref sig .tc := ⟨.hbm, 455, rfl⟩
abbrev main_c_44 : Ref sig .tc := ⟨.hbm, 456, rfl⟩
abbrev main_call8_v0 : Ref sig .tc := ⟨.hbm, 457, rfl⟩
abbrev main_call8_v1 : Ref sig .tc := ⟨.hbm, 458, rfl⟩
abbrev main_call8_v2 : Ref sig .tc := ⟨.hbm, 459, rfl⟩
abbrev main_call8_v3 : Ref sig .tc := ⟨.hbm, 460, rfl⟩
abbrev main_call8_v4 : Ref sig .tc := ⟨.hbm, 461, rfl⟩
abbrev main_v231 : Ref sig .tc := ⟨.hbm, 462, rfl⟩
abbrev main_v232 : Ref sig .tc := ⟨.hbm, 463, rfl⟩
abbrev main_c_45 : Ref sig .tc := ⟨.hbm, 464, rfl⟩
abbrev main_c_46 : Ref sig .tc := ⟨.hbm, 465, rfl⟩
abbrev main_call9_v0 : Ref sig .tc := ⟨.hbm, 466, rfl⟩
abbrev main_call9_v1 : Ref sig .tc := ⟨.hbm, 467, rfl⟩
abbrev main_call9_v2 : Ref sig .tc := ⟨.hbm, 468, rfl⟩
abbrev main_call9_v3 : Ref sig .tc := ⟨.hbm, 469, rfl⟩
abbrev main_call9_v4 : Ref sig .tc := ⟨.hbm, 470, rfl⟩
abbrev main_v233 : Ref sig .tc := ⟨.hbm, 471, rfl⟩
abbrev main_v234 : Ref sig .tc := ⟨.hbm, 472, rfl⟩
abbrev main_c_47 : Ref sig .tc := ⟨.hbm, 473, rfl⟩
abbrev main_v235 : Ref sig .tc := ⟨.hbm, 474, rfl⟩
abbrev main_v236 : Ref sig .tc := ⟨.hbm, 475, rfl⟩
abbrev main_v237 : Ref sig .tc := ⟨.hbm, 476, rfl⟩
abbrev main_v238 : Ref sig .tc := ⟨.hbm, 477, rfl⟩
abbrev main_v239 : Ref sig .tc := ⟨.hbm, 478, rfl⟩
abbrev main_v240 : Ref sig .tc := ⟨.hbm, 479, rfl⟩
abbrev main_call10_c : Ref sig .tc := ⟨.hbm, 480, rfl⟩
abbrev main_call10_v0 : Ref sig .tc := ⟨.hbm, 481, rfl⟩
abbrev main_call10_v1 : Ref sig .tc := ⟨.hbm, 482, rfl⟩
abbrev main_call10_c_0 : Ref sig .tc := ⟨.hbm, 483, rfl⟩
abbrev main_call10_v2 : Ref sig .tc := ⟨.hbm, 484, rfl⟩
abbrev main_call10_v3 : Ref sig .tc := ⟨.hbm, 485, rfl⟩
abbrev main_call10_v4 : Ref sig .tc := ⟨.hbm, 486, rfl⟩
abbrev main_call10_v5 : Ref sig .tc := ⟨.hbm, 487, rfl⟩
abbrev main_call10_c_1 : Ref sig .tc := ⟨.hbm, 488, rfl⟩
abbrev main_call10_c_2 : Ref sig .tc := ⟨.hbm, 489, rfl⟩
abbrev main_call10_v6 : Ref sig .tc := ⟨.hbm, 490, rfl⟩
abbrev main_call10_v7 : Ref sig .tc := ⟨.hbm, 491, rfl⟩
abbrev main_call10_v8 : Ref sig .tc := ⟨.hbm, 492, rfl⟩
abbrev main_call10_v9 : Ref sig .tc := ⟨.hbm, 493, rfl⟩
abbrev main_call10_v10 : Ref sig .tc := ⟨.hbm, 494, rfl⟩
abbrev main_call10_v11 : Ref sig .tc := ⟨.hbm, 495, rfl⟩
abbrev main_call10_c_3 : Ref sig .tc := ⟨.hbm, 496, rfl⟩
abbrev main_call10_v12 : Ref sig .tc := ⟨.hbm, 497, rfl⟩
abbrev main_call10_v13 : Ref sig .tc := ⟨.hbm, 498, rfl⟩
abbrev main_call10_cst : Ref sig .tc := ⟨.hbm, 499, rfl⟩
abbrev main_call10_v14 : Ref sig .tc := ⟨.hbm, 500, rfl⟩
abbrev main_v241 : Ref sig .tc := ⟨.hbm, 501, rfl⟩
abbrev main_v242 : Ref sig .tc := ⟨.hbm, 502, rfl⟩
abbrev main_v243 : Ref sig .tc := ⟨.hbm, 503, rfl⟩
abbrev main_v244 : Ref sig .tc := ⟨.hbm, 504, rfl⟩
abbrev main_v245 : Ref sig .tc := ⟨.hbm, 505, rfl⟩
abbrev main_v246 : Ref sig .tc := ⟨.hbm, 506, rfl⟩
abbrev main_v247 : Ref sig .tc := ⟨.hbm, 507, rfl⟩
abbrev main_v248 : Ref sig .tc := ⟨.hbm, 508, rfl⟩
abbrev main_v249 : Ref sig .tc := ⟨.hbm, 509, rfl⟩
abbrev main_cst_48 : Ref sig .tc := ⟨.hbm, 510, rfl⟩
abbrev main_v250 : Ref sig .tc := ⟨.hbm, 511, rfl⟩
abbrev main_v251 : Ref sig .tc := ⟨.hbm, 512, rfl⟩
abbrev main_cst_49 : Ref sig .tc := ⟨.hbm, 513, rfl⟩
abbrev main_v252 : Ref sig .tc := ⟨.hbm, 514, rfl⟩
abbrev main_v253 : Ref sig .tc := ⟨.hbm, 515, rfl⟩
abbrev main_v254 : Ref sig .tc := ⟨.hbm, 516, rfl⟩
abbrev main_cst_50 : Ref sig .tc := ⟨.hbm, 517, rfl⟩
abbrev main_v255 : Ref sig .tc := ⟨.hbm, 518, rfl⟩
abbrev main_v256 : Ref sig .tc := ⟨.hbm, 519, rfl⟩
abbrev main_v257 : Ref sig .tc := ⟨.hbm, 520, rfl⟩
abbrev main_cst_51 : Ref sig .tc := ⟨.hbm, 521, rfl⟩
abbrev main_v258 : Ref sig .tc := ⟨.hbm, 522, rfl⟩
abbrev main_v259 : Ref sig .tc := ⟨.hbm, 523, rfl⟩
abbrev main_v260 : Ref sig .tc := ⟨.hbm, 524, rfl⟩
abbrev main_c_52 : Ref sig .tc := ⟨.hbm, 525, rfl⟩
abbrev main_c_53 : Ref sig .tc := ⟨.hbm, 526, rfl⟩
abbrev main_call11_v0 : Ref sig .tc := ⟨.hbm, 527, rfl⟩
abbrev main_call11_v1 : Ref sig .tc := ⟨.hbm, 528, rfl⟩
abbrev main_call11_v2 : Ref sig .tc := ⟨.hbm, 529, rfl⟩
abbrev main_call11_v3 : Ref sig .tc := ⟨.hbm, 530, rfl⟩
abbrev main_call11_v4 : Ref sig .tc := ⟨.hbm, 531, rfl⟩
abbrev main_v261 : Ref sig .tc := ⟨.hbm, 532, rfl⟩
abbrev main_v262 : Ref sig .tc := ⟨.hbm, 533, rfl⟩
abbrev main_c_54 : Ref sig .tc := ⟨.hbm, 534, rfl⟩
abbrev main_c_55 : Ref sig .tc := ⟨.hbm, 535, rfl⟩
abbrev main_call12_v0 : Ref sig .tc := ⟨.hbm, 536, rfl⟩
abbrev main_call12_v1 : Ref sig .tc := ⟨.hbm, 537, rfl⟩
abbrev main_call12_v2 : Ref sig .tc := ⟨.hbm, 538, rfl⟩
abbrev main_call12_v3 : Ref sig .tc := ⟨.hbm, 539, rfl⟩
abbrev main_call12_v4 : Ref sig .tc := ⟨.hbm, 540, rfl⟩
abbrev main_v263 : Ref sig .tc := ⟨.hbm, 541, rfl⟩
abbrev main_v264 : Ref sig .tc := ⟨.hbm, 542, rfl⟩
abbrev main_c_56 : Ref sig .tc := ⟨.hbm, 543, rfl⟩
abbrev main_v265 : Ref sig .tc := ⟨.hbm, 544, rfl⟩
abbrev main_v266 : Ref sig .tc := ⟨.hbm, 545, rfl⟩
abbrev main_v267 : Ref sig .tc := ⟨.hbm, 546, rfl⟩
abbrev main_v268 : Ref sig .tc := ⟨.hbm, 547, rfl⟩
abbrev main_v269 : Ref sig .tc := ⟨.hbm, 548, rfl⟩
abbrev main_v270 : Ref sig .tc := ⟨.hbm, 549, rfl⟩
abbrev main_call13_c : Ref sig .tc := ⟨.hbm, 550, rfl⟩
abbrev main_call13_v0 : Ref sig .tc := ⟨.hbm, 551, rfl⟩
abbrev main_call13_v1 : Ref sig .tc := ⟨.hbm, 552, rfl⟩
abbrev main_call13_c_0 : Ref sig .tc := ⟨.hbm, 553, rfl⟩
abbrev main_call13_v2 : Ref sig .tc := ⟨.hbm, 554, rfl⟩
abbrev main_call13_v3 : Ref sig .tc := ⟨.hbm, 555, rfl⟩
abbrev main_call13_v4 : Ref sig .tc := ⟨.hbm, 556, rfl⟩
abbrev main_call13_v5 : Ref sig .tc := ⟨.hbm, 557, rfl⟩
abbrev main_call13_c_1 : Ref sig .tc := ⟨.hbm, 558, rfl⟩
abbrev main_call13_c_2 : Ref sig .tc := ⟨.hbm, 559, rfl⟩
abbrev main_call13_v6 : Ref sig .tc := ⟨.hbm, 560, rfl⟩
abbrev main_call13_v7 : Ref sig .tc := ⟨.hbm, 561, rfl⟩
abbrev main_call13_v8 : Ref sig .tc := ⟨.hbm, 562, rfl⟩
abbrev main_call13_v9 : Ref sig .tc := ⟨.hbm, 563, rfl⟩
abbrev main_call13_v10 : Ref sig .tc := ⟨.hbm, 564, rfl⟩
abbrev main_call13_v11 : Ref sig .tc := ⟨.hbm, 565, rfl⟩
abbrev main_call13_c_3 : Ref sig .tc := ⟨.hbm, 566, rfl⟩
abbrev main_call13_v12 : Ref sig .tc := ⟨.hbm, 567, rfl⟩
abbrev main_call13_v13 : Ref sig .tc := ⟨.hbm, 568, rfl⟩
abbrev main_call13_cst : Ref sig .tc := ⟨.hbm, 569, rfl⟩
abbrev main_call13_v14 : Ref sig .tc := ⟨.hbm, 570, rfl⟩
abbrev main_v271 : Ref sig .tc := ⟨.hbm, 571, rfl⟩
abbrev main_v272 : Ref sig .tc := ⟨.hbm, 572, rfl⟩
abbrev main_v273 : Ref sig .tc := ⟨.hbm, 573, rfl⟩
abbrev main_v274 : Ref sig .tc := ⟨.hbm, 574, rfl⟩
abbrev main_v275 : Ref sig .tc := ⟨.hbm, 575, rfl⟩
abbrev main_v276 : Ref sig .tc := ⟨.hbm, 576, rfl⟩
abbrev main_v277 : Ref sig .tc := ⟨.hbm, 577, rfl⟩
abbrev main_v278 : Ref sig .tc := ⟨.hbm, 578, rfl⟩
abbrev main_v279 : Ref sig .tc := ⟨.hbm, 579, rfl⟩
abbrev main_v280 : Ref sig .tc := ⟨.hbm, 580, rfl⟩
abbrev main_cst_57 : Ref sig .tc := ⟨.hbm, 581, rfl⟩
abbrev main_v281 : Ref sig .tc := ⟨.hbm, 582, rfl⟩
abbrev main_v282 : Ref sig .tc := ⟨.hbm, 583, rfl⟩
abbrev main_cst_58 : Ref sig .tc := ⟨.hbm, 584, rfl⟩
abbrev main_v283 : Ref sig .tc := ⟨.hbm, 585, rfl⟩
abbrev main_v284 : Ref sig .tc := ⟨.hbm, 586, rfl⟩
abbrev main_v285 : Ref sig .tc := ⟨.hbm, 587, rfl⟩
abbrev main_cst_59 : Ref sig .tc := ⟨.hbm, 588, rfl⟩
abbrev main_v286 : Ref sig .tc := ⟨.hbm, 589, rfl⟩
abbrev main_v287 : Ref sig .tc := ⟨.hbm, 590, rfl⟩
abbrev main_v288 : Ref sig .tc := ⟨.hbm, 591, rfl⟩
abbrev main_cst_60 : Ref sig .tc := ⟨.hbm, 592, rfl⟩
abbrev main_v289 : Ref sig .tc := ⟨.hbm, 593, rfl⟩
abbrev main_v290 : Ref sig .tc := ⟨.hbm, 594, rfl⟩
abbrev main_v291 : Ref sig .tc := ⟨.hbm, 595, rfl⟩
abbrev main_c_61 : Ref sig .tc := ⟨.hbm, 596, rfl⟩
abbrev main_c_62 : Ref sig .tc := ⟨.hbm, 597, rfl⟩
abbrev main_call14_v0 : Ref sig .tc := ⟨.hbm, 598, rfl⟩
abbrev main_call14_v1 : Ref sig .tc := ⟨.hbm, 599, rfl⟩
abbrev main_call14_v2 : Ref sig .tc := ⟨.hbm, 600, rfl⟩
abbrev main_call14_v3 : Ref sig .tc := ⟨.hbm, 601, rfl⟩
abbrev main_call14_v4 : Ref sig .tc := ⟨.hbm, 602, rfl⟩
abbrev main_v292 : Ref sig .tc := ⟨.hbm, 603, rfl⟩
abbrev main_v293 : Ref sig .tc := ⟨.hbm, 604, rfl⟩
abbrev main_c_63 : Ref sig .tc := ⟨.hbm, 605, rfl⟩
abbrev main_c_64 : Ref sig .tc := ⟨.hbm, 606, rfl⟩
abbrev main_call15_v0 : Ref sig .tc := ⟨.hbm, 607, rfl⟩
abbrev main_call15_v1 : Ref sig .tc := ⟨.hbm, 608, rfl⟩
abbrev main_call15_v2 : Ref sig .tc := ⟨.hbm, 609, rfl⟩
abbrev main_call15_v3 : Ref sig .tc := ⟨.hbm, 610, rfl⟩
abbrev main_call15_v4 : Ref sig .tc := ⟨.hbm, 611, rfl⟩
abbrev main_v294 : Ref sig .tc := ⟨.hbm, 612, rfl⟩
abbrev main_v295 : Ref sig .tc := ⟨.hbm, 613, rfl⟩
abbrev main_c_65 : Ref sig .tc := ⟨.hbm, 614, rfl⟩
abbrev main_v296 : Ref sig .tc := ⟨.hbm, 615, rfl⟩
abbrev main_v297 : Ref sig .tc := ⟨.hbm, 616, rfl⟩
abbrev main_v298 : Ref sig .tc := ⟨.hbm, 617, rfl⟩
abbrev main_v299 : Ref sig .tc := ⟨.hbm, 618, rfl⟩
abbrev main_v300 : Ref sig .tc := ⟨.hbm, 619, rfl⟩
abbrev main_v301 : Ref sig .tc := ⟨.hbm, 620, rfl⟩
abbrev main_call16_c : Ref sig .tc := ⟨.hbm, 621, rfl⟩
abbrev main_call16_v0 : Ref sig .tc := ⟨.hbm, 622, rfl⟩
abbrev main_call16_v1 : Ref sig .tc := ⟨.hbm, 623, rfl⟩
abbrev main_call16_c_0 : Ref sig .tc := ⟨.hbm, 624, rfl⟩
abbrev main_call16_v2 : Ref sig .tc := ⟨.hbm, 625, rfl⟩
abbrev main_call16_v3 : Ref sig .tc := ⟨.hbm, 626, rfl⟩
abbrev main_call16_v4 : Ref sig .tc := ⟨.hbm, 627, rfl⟩
abbrev main_call16_v5 : Ref sig .tc := ⟨.hbm, 628, rfl⟩
abbrev main_call16_c_1 : Ref sig .tc := ⟨.hbm, 629, rfl⟩
abbrev main_call16_c_2 : Ref sig .tc := ⟨.hbm, 630, rfl⟩
abbrev main_call16_v6 : Ref sig .tc := ⟨.hbm, 631, rfl⟩
abbrev main_call16_v7 : Ref sig .tc := ⟨.hbm, 632, rfl⟩
abbrev main_call16_v8 : Ref sig .tc := ⟨.hbm, 633, rfl⟩
abbrev main_call16_v9 : Ref sig .tc := ⟨.hbm, 634, rfl⟩
abbrev main_call16_v10 : Ref sig .tc := ⟨.hbm, 635, rfl⟩
abbrev main_call16_v11 : Ref sig .tc := ⟨.hbm, 636, rfl⟩
abbrev main_call16_c_3 : Ref sig .tc := ⟨.hbm, 637, rfl⟩
abbrev main_call16_v12 : Ref sig .tc := ⟨.hbm, 638, rfl⟩
abbrev main_call16_v13 : Ref sig .tc := ⟨.hbm, 639, rfl⟩
abbrev main_call16_cst : Ref sig .tc := ⟨.hbm, 640, rfl⟩
abbrev main_call16_v14 : Ref sig .tc := ⟨.hbm, 641, rfl⟩
abbrev main_v302 : Ref sig .tc := ⟨.hbm, 642, rfl⟩
abbrev main_v303 : Ref sig .tc := ⟨.hbm, 643, rfl⟩
abbrev main_v304 : Ref sig .tc := ⟨.hbm, 644, rfl⟩
abbrev main_v305 : Ref sig .tc := ⟨.hbm, 645, rfl⟩
abbrev main_v306 : Ref sig .tc := ⟨.hbm, 646, rfl⟩
abbrev main_v307 : Ref sig .tc := ⟨.hbm, 647, rfl⟩
abbrev main_v308 : Ref sig .tc := ⟨.hbm, 648, rfl⟩
abbrev main_v309 : Ref sig .tc := ⟨.hbm, 649, rfl⟩
abbrev main_v310 : Ref sig .tc := ⟨.hbm, 650, rfl⟩
abbrev main_v311 : Ref sig .tc := ⟨.hbm, 651, rfl⟩
abbrev main_cst_66 : Ref sig .tc := ⟨.hbm, 652, rfl⟩
abbrev main_v312 : Ref sig .tc := ⟨.hbm, 653, rfl⟩
abbrev main_v313 : Ref sig .tc := ⟨.hbm, 654, rfl⟩
abbrev main_cst_67 : Ref sig .tc := ⟨.hbm, 655, rfl⟩
abbrev main_v314 : Ref sig .tc := ⟨.hbm, 656, rfl⟩
abbrev main_v315 : Ref sig .tc := ⟨.hbm, 657, rfl⟩
abbrev main_v316 : Ref sig .tc := ⟨.hbm, 658, rfl⟩
abbrev main_cst_68 : Ref sig .tc := ⟨.hbm, 659, rfl⟩
abbrev main_v317 : Ref sig .tc := ⟨.hbm, 660, rfl⟩
abbrev main_v318 : Ref sig .tc := ⟨.hbm, 661, rfl⟩
abbrev main_v319 : Ref sig .tc := ⟨.hbm, 662, rfl⟩
abbrev main_cst_69 : Ref sig .tc := ⟨.hbm, 663, rfl⟩
abbrev main_v320 : Ref sig .tc := ⟨.hbm, 664, rfl⟩
abbrev main_v321 : Ref sig .tc := ⟨.hbm, 665, rfl⟩
abbrev main_v322 : Ref sig .tc := ⟨.hbm, 666, rfl⟩
abbrev main_c_70 : Ref sig .tc := ⟨.hbm, 667, rfl⟩
abbrev main_c_71 : Ref sig .tc := ⟨.hbm, 668, rfl⟩
abbrev main_call17_v0 : Ref sig .tc := ⟨.hbm, 669, rfl⟩
abbrev main_call17_v1 : Ref sig .tc := ⟨.hbm, 670, rfl⟩
abbrev main_call17_v2 : Ref sig .tc := ⟨.hbm, 671, rfl⟩
abbrev main_call17_v3 : Ref sig .tc := ⟨.hbm, 672, rfl⟩
abbrev main_call17_v4 : Ref sig .tc := ⟨.hbm, 673, rfl⟩
abbrev main_v323 : Ref sig .tc := ⟨.hbm, 674, rfl⟩
abbrev main_v324 : Ref sig .tc := ⟨.hbm, 675, rfl⟩
abbrev main_c_72 : Ref sig .tc := ⟨.hbm, 676, rfl⟩
abbrev main_c_73 : Ref sig .tc := ⟨.hbm, 677, rfl⟩
abbrev main_call18_v0 : Ref sig .tc := ⟨.hbm, 678, rfl⟩
abbrev main_call18_v1 : Ref sig .tc := ⟨.hbm, 679, rfl⟩
abbrev main_call18_v2 : Ref sig .tc := ⟨.hbm, 680, rfl⟩
abbrev main_call18_v3 : Ref sig .tc := ⟨.hbm, 681, rfl⟩
abbrev main_call18_v4 : Ref sig .tc := ⟨.hbm, 682, rfl⟩
abbrev main_v325 : Ref sig .tc := ⟨.hbm, 683, rfl⟩
abbrev main_v326 : Ref sig .tc := ⟨.hbm, 684, rfl⟩
abbrev main_c_74 : Ref sig .tc := ⟨.hbm, 685, rfl⟩
abbrev main_v327 : Ref sig .tc := ⟨.hbm, 686, rfl⟩
abbrev main_v328 : Ref sig .tc := ⟨.hbm, 687, rfl⟩
abbrev main_v329 : Ref sig .tc := ⟨.hbm, 688, rfl⟩
abbrev main_v330 : Ref sig .tc := ⟨.hbm, 689, rfl⟩
abbrev main_v331 : Ref sig .tc := ⟨.hbm, 690, rfl⟩
abbrev main_v332 : Ref sig .tc := ⟨.hbm, 691, rfl⟩
abbrev main_call19_c : Ref sig .tc := ⟨.hbm, 692, rfl⟩
abbrev main_call19_v0 : Ref sig .tc := ⟨.hbm, 693, rfl⟩
abbrev main_call19_v1 : Ref sig .tc := ⟨.hbm, 694, rfl⟩
abbrev main_call19_c_0 : Ref sig .tc := ⟨.hbm, 695, rfl⟩
abbrev main_call19_v2 : Ref sig .tc := ⟨.hbm, 696, rfl⟩
abbrev main_call19_v3 : Ref sig .tc := ⟨.hbm, 697, rfl⟩
abbrev main_call19_v4 : Ref sig .tc := ⟨.hbm, 698, rfl⟩
abbrev main_call19_v5 : Ref sig .tc := ⟨.hbm, 699, rfl⟩
abbrev main_call19_c_1 : Ref sig .tc := ⟨.hbm, 700, rfl⟩
abbrev main_call19_c_2 : Ref sig .tc := ⟨.hbm, 701, rfl⟩
abbrev main_call19_v6 : Ref sig .tc := ⟨.hbm, 702, rfl⟩
abbrev main_call19_v7 : Ref sig .tc := ⟨.hbm, 703, rfl⟩
abbrev main_call19_v8 : Ref sig .tc := ⟨.hbm, 704, rfl⟩
abbrev main_call19_v9 : Ref sig .tc := ⟨.hbm, 705, rfl⟩
abbrev main_call19_v10 : Ref sig .tc := ⟨.hbm, 706, rfl⟩
abbrev main_call19_v11 : Ref sig .tc := ⟨.hbm, 707, rfl⟩
abbrev main_call19_c_3 : Ref sig .tc := ⟨.hbm, 708, rfl⟩
abbrev main_call19_v12 : Ref sig .tc := ⟨.hbm, 709, rfl⟩
abbrev main_call19_v13 : Ref sig .tc := ⟨.hbm, 710, rfl⟩
abbrev main_call19_cst : Ref sig .tc := ⟨.hbm, 711, rfl⟩
abbrev main_call19_v14 : Ref sig .tc := ⟨.hbm, 712, rfl⟩
abbrev main_v333 : Ref sig .tc := ⟨.hbm, 713, rfl⟩
abbrev main_v334 : Ref sig .tc := ⟨.hbm, 714, rfl⟩
abbrev main_v335 : Ref sig .tc := ⟨.hbm, 715, rfl⟩
abbrev main_v336 : Ref sig .tc := ⟨.hbm, 716, rfl⟩
abbrev main_v337 : Ref sig .tc := ⟨.hbm, 717, rfl⟩
abbrev main_v338 : Ref sig .tc := ⟨.hbm, 718, rfl⟩
abbrev main_v339 : Ref sig .tc := ⟨.hbm, 719, rfl⟩
abbrev main_v340 : Ref sig .tc := ⟨.hbm, 720, rfl⟩
abbrev main_v341 : Ref sig .tc := ⟨.hbm, 721, rfl⟩
abbrev main_v342 : Ref sig .tc := ⟨.hbm, 722, rfl⟩
abbrev main_v343 : Ref sig .tc := ⟨.hbm, 723, rfl⟩
abbrev main_v344 : Ref sig .tc := ⟨.hbm, 724, rfl⟩
abbrev main_v345 : Ref sig .tc := ⟨.hbm, 725, rfl⟩
abbrev main_v346 : Ref sig .tc := ⟨.hbm, 726, rfl⟩
abbrev main_v347 : Ref sig .tc := ⟨.hbm, 727, rfl⟩
abbrev main_v348 : Ref sig .tc := ⟨.hbm, 728, rfl⟩
abbrev main_v349 : Ref sig .tc := ⟨.hbm, 729, rfl⟩
abbrev main_v350 : Ref sig .tc := ⟨.hbm, 730, rfl⟩
abbrev main_v351 : Ref sig .tc := ⟨.hbm, 731, rfl⟩
abbrev main_cst_75 : Ref sig .tc := ⟨.hbm, 732, rfl⟩
abbrev main_v352 : Ref sig .tc := ⟨.hbm, 733, rfl⟩
abbrev main_v353 : Ref sig .tc := ⟨.hbm, 734, rfl⟩
abbrev main_cst_76 : Ref sig .tc := ⟨.hbm, 735, rfl⟩
abbrev main_v354 : Ref sig .tc := ⟨.hbm, 736, rfl⟩
abbrev main_v355 : Ref sig .tc := ⟨.hbm, 737, rfl⟩
abbrev main_cst_77 : Ref sig .tc := ⟨.hbm, 738, rfl⟩
abbrev main_v356 : Ref sig .tc := ⟨.hbm, 739, rfl⟩
abbrev main_v357 : Ref sig .tc := ⟨.hbm, 740, rfl⟩
abbrev main_cst_78 : Ref sig .tc := ⟨.hbm, 741, rfl⟩
abbrev main_v358 : Ref sig .tc := ⟨.hbm, 742, rfl⟩
abbrev main_v359 : Ref sig .tc := ⟨.hbm, 743, rfl⟩
abbrev main_v360 : Ref sig .tc := ⟨.hbm, 744, rfl⟩
abbrev main_v361 : Ref sig .tc := ⟨.hbm, 745, rfl⟩
abbrev main_cst_79 : Ref sig .tc := ⟨.hbm, 746, rfl⟩
abbrev main_v362 : Ref sig .tc := ⟨.hbm, 747, rfl⟩
abbrev main_v363 : Ref sig .tc := ⟨.hbm, 748, rfl⟩
abbrev main_cst_80 : Ref sig .tc := ⟨.hbm, 749, rfl⟩
abbrev main_v364 : Ref sig .tc := ⟨.hbm, 750, rfl⟩
abbrev main_v365 : Ref sig .tc := ⟨.hbm, 751, rfl⟩
abbrev main_cst_81 : Ref sig .tc := ⟨.hbm, 752, rfl⟩
abbrev main_v366 : Ref sig .tc := ⟨.hbm, 753, rfl⟩
abbrev main_v367 : Ref sig .tc := ⟨.hbm, 754, rfl⟩
abbrev main_cst_82 : Ref sig .tc := ⟨.hbm, 755, rfl⟩
abbrev main_v368 : Ref sig .tc := ⟨.hbm, 756, rfl⟩
abbrev main_v369 : Ref sig .tc := ⟨.hbm, 757, rfl⟩
abbrev main_v370 : Ref sig .tc := ⟨.hbm, 758, rfl⟩
abbrev main_v371 : Ref sig .tc := ⟨.hbm, 759, rfl⟩
abbrev main_cst_83 : Ref sig .tc := ⟨.hbm, 760, rfl⟩
abbrev main_v372 : Ref sig .tc := ⟨.hbm, 761, rfl⟩
abbrev main_v373 : Ref sig .tc := ⟨.hbm, 762, rfl⟩
abbrev main_cst_84 : Ref sig .tc := ⟨.hbm, 763, rfl⟩
abbrev main_v374 : Ref sig .tc := ⟨.hbm, 764, rfl⟩
abbrev main_v375 : Ref sig .tc := ⟨.hbm, 765, rfl⟩
abbrev main_v376 : Ref sig .tc := ⟨.hbm, 766, rfl⟩
abbrev main_v377 : Ref sig .tc := ⟨.hbm, 767, rfl⟩
abbrev main_v378 : Ref sig .tc := ⟨.hbm, 768, rfl⟩
abbrev main_v379 : Ref sig .tc := ⟨.hbm, 769, rfl⟩
abbrev main_v380 : Ref sig .tc := ⟨.hbm, 770, rfl⟩
abbrev main_v381 : Ref sig .tc := ⟨.hbm, 771, rfl⟩
abbrev main_v382 : Ref sig .tc := ⟨.hbm, 772, rfl⟩
abbrev main_v383 : Ref sig .tc := ⟨.hbm, 773, rfl⟩
abbrev main_v384 : Ref sig .tc := ⟨.hbm, 774, rfl⟩
abbrev main_v385 : Ref sig .tc := ⟨.hbm, 775, rfl⟩
abbrev main_v386 : Ref sig .tc := ⟨.hbm, 776, rfl⟩
abbrev main_v387 : Ref sig .tc := ⟨.hbm, 777, rfl⟩
abbrev main_v388 : Ref sig .tc := ⟨.hbm, 778, rfl⟩
abbrev main_cst_85 : Ref sig .tc := ⟨.hbm, 779, rfl⟩
abbrev main_v389 : Ref sig .tc := ⟨.hbm, 780, rfl⟩
abbrev main_v390 : Ref sig .tc := ⟨.hbm, 781, rfl⟩
abbrev main_cst_86 : Ref sig .tc := ⟨.hbm, 782, rfl⟩
abbrev main_v391 : Ref sig .tc := ⟨.hbm, 783, rfl⟩
abbrev main_v392 : Ref sig .tc := ⟨.hbm, 784, rfl⟩
abbrev main_v393 : Ref sig .tc := ⟨.hbm, 785, rfl⟩
abbrev main_cst_87 : Ref sig .tc := ⟨.hbm, 786, rfl⟩
abbrev main_v394 : Ref sig .tc := ⟨.hbm, 787, rfl⟩
abbrev main_v395 : Ref sig .tc := ⟨.hbm, 788, rfl⟩
abbrev main_v396 : Ref sig .tc := ⟨.hbm, 789, rfl⟩
abbrev main_cst_88 : Ref sig .tc := ⟨.hbm, 790, rfl⟩
abbrev main_v397 : Ref sig .tc := ⟨.hbm, 791, rfl⟩
abbrev main_v398 : Ref sig .tc := ⟨.hbm, 792, rfl⟩
abbrev main_v399 : Ref sig .tc := ⟨.hbm, 793, rfl⟩
abbrev main_c_89 : Ref sig .tc := ⟨.hbm, 794, rfl⟩
abbrev main_c_90 : Ref sig .tc := ⟨.hbm, 795, rfl⟩
abbrev main_call20_v0 : Ref sig .tc := ⟨.hbm, 796, rfl⟩
abbrev main_call20_v1 : Ref sig .tc := ⟨.hbm, 797, rfl⟩
abbrev main_call20_v2 : Ref sig .tc := ⟨.hbm, 798, rfl⟩
abbrev main_call20_v3 : Ref sig .tc := ⟨.hbm, 799, rfl⟩
abbrev main_call20_v4 : Ref sig .tc := ⟨.hbm, 800, rfl⟩
abbrev main_v400 : Ref sig .tc := ⟨.hbm, 801, rfl⟩
abbrev main_v401 : Ref sig .tc := ⟨.hbm, 802, rfl⟩
abbrev main_c_91 : Ref sig .tc := ⟨.hbm, 803, rfl⟩
abbrev main_c_92 : Ref sig .tc := ⟨.hbm, 804, rfl⟩
abbrev main_call21_v0 : Ref sig .tc := ⟨.hbm, 805, rfl⟩
abbrev main_call21_v1 : Ref sig .tc := ⟨.hbm, 806, rfl⟩
abbrev main_call21_v2 : Ref sig .tc := ⟨.hbm, 807, rfl⟩
abbrev main_call21_v3 : Ref sig .tc := ⟨.hbm, 808, rfl⟩
abbrev main_call21_v4 : Ref sig .tc := ⟨.hbm, 809, rfl⟩
abbrev main_v402 : Ref sig .tc := ⟨.hbm, 810, rfl⟩
abbrev main_v403 : Ref sig .tc := ⟨.hbm, 811, rfl⟩
abbrev main_c_93 : Ref sig .tc := ⟨.hbm, 812, rfl⟩
abbrev main_v404 : Ref sig .tc := ⟨.hbm, 813, rfl⟩
abbrev main_v405 : Ref sig .tc := ⟨.hbm, 814, rfl⟩
abbrev main_v406 : Ref sig .tc := ⟨.hbm, 815, rfl⟩
abbrev main_v407 : Ref sig .tc := ⟨.hbm, 816, rfl⟩
abbrev main_v408 : Ref sig .tc := ⟨.hbm, 817, rfl⟩
abbrev main_v409 : Ref sig .tc := ⟨.hbm, 818, rfl⟩
abbrev main_call22_c : Ref sig .tc := ⟨.hbm, 819, rfl⟩
abbrev main_call22_v0 : Ref sig .tc := ⟨.hbm, 820, rfl⟩
abbrev main_call22_v1 : Ref sig .tc := ⟨.hbm, 821, rfl⟩
abbrev main_call22_c_0 : Ref sig .tc := ⟨.hbm, 822, rfl⟩
abbrev main_call22_v2 : Ref sig .tc := ⟨.hbm, 823, rfl⟩
abbrev main_call22_v3 : Ref sig .tc := ⟨.hbm, 824, rfl⟩
abbrev main_call22_v4 : Ref sig .tc := ⟨.hbm, 825, rfl⟩
abbrev main_call22_v5 : Ref sig .tc := ⟨.hbm, 826, rfl⟩
abbrev main_call22_c_1 : Ref sig .tc := ⟨.hbm, 827, rfl⟩
abbrev main_call22_c_2 : Ref sig .tc := ⟨.hbm, 828, rfl⟩
abbrev main_call22_v6 : Ref sig .tc := ⟨.hbm, 829, rfl⟩
abbrev main_call22_v7 : Ref sig .tc := ⟨.hbm, 830, rfl⟩
abbrev main_call22_v8 : Ref sig .tc := ⟨.hbm, 831, rfl⟩
abbrev main_call22_v9 : Ref sig .tc := ⟨.hbm, 832, rfl⟩
abbrev main_call22_v10 : Ref sig .tc := ⟨.hbm, 833, rfl⟩
abbrev main_call22_v11 : Ref sig .tc := ⟨.hbm, 834, rfl⟩
abbrev main_call22_c_3 : Ref sig .tc := ⟨.hbm, 835, rfl⟩
abbrev main_call22_v12 : Ref sig .tc := ⟨.hbm, 836, rfl⟩
abbrev main_call22_v13 : Ref sig .tc := ⟨.hbm, 837, rfl⟩
abbrev main_call22_cst : Ref sig .tc := ⟨.hbm, 838, rfl⟩
abbrev main_call22_v14 : Ref sig .tc := ⟨.hbm, 839, rfl⟩
abbrev main_v410 : Ref sig .tc := ⟨.hbm, 840, rfl⟩
abbrev main_v411 : Ref sig .tc := ⟨.hbm, 841, rfl⟩
abbrev main_v412 : Ref sig .tc := ⟨.hbm, 842, rfl⟩
abbrev main_v413 : Ref sig .tc := ⟨.hbm, 843, rfl⟩
abbrev main_v414 : Ref sig .tc := ⟨.hbm, 844, rfl⟩
abbrev main_v415 : Ref sig .tc := ⟨.hbm, 845, rfl⟩
abbrev main_v416 : Ref sig .tc := ⟨.hbm, 846, rfl⟩
abbrev main_v417 : Ref sig .tc := ⟨.hbm, 847, rfl⟩
abbrev main_v418 : Ref sig .tc := ⟨.hbm, 848, rfl⟩
abbrev main_cst_94 : Ref sig .tc := ⟨.hbm, 849, rfl⟩
abbrev main_v419 : Ref sig .tc := ⟨.hbm, 850, rfl⟩
abbrev main_v420 : Ref sig .tc := ⟨.hbm, 851, rfl⟩
abbrev main_cst_95 : Ref sig .tc := ⟨.hbm, 852, rfl⟩
abbrev main_v421 : Ref sig .tc := ⟨.hbm, 853, rfl⟩
abbrev main_v422 : Ref sig .tc := ⟨.hbm, 854, rfl⟩
abbrev main_v423 : Ref sig .tc := ⟨.hbm, 855, rfl⟩
abbrev main_cst_96 : Ref sig .tc := ⟨.hbm, 856, rfl⟩
abbrev main_v424 : Ref sig .tc := ⟨.hbm, 857, rfl⟩
abbrev main_v425 : Ref sig .tc := ⟨.hbm, 858, rfl⟩
abbrev main_v426 : Ref sig .tc := ⟨.hbm, 859, rfl⟩
abbrev main_cst_97 : Ref sig .tc := ⟨.hbm, 860, rfl⟩
abbrev main_v427 : Ref sig .tc := ⟨.hbm, 861, rfl⟩
abbrev main_v428 : Ref sig .tc := ⟨.hbm, 862, rfl⟩
abbrev main_v429 : Ref sig .tc := ⟨.hbm, 863, rfl⟩
abbrev main_c_98 : Ref sig .tc := ⟨.hbm, 864, rfl⟩
abbrev main_c_99 : Ref sig .tc := ⟨.hbm, 865, rfl⟩
abbrev main_call23_v0 : Ref sig .tc := ⟨.hbm, 866, rfl⟩
abbrev main_call23_v1 : Ref sig .tc := ⟨.hbm, 867, rfl⟩
abbrev main_call23_v2 : Ref sig .tc := ⟨.hbm, 868, rfl⟩
abbrev main_call23_v3 : Ref sig .tc := ⟨.hbm, 869, rfl⟩
abbrev main_call23_v4 : Ref sig .tc := ⟨.hbm, 870, rfl⟩
abbrev main_v430 : Ref sig .tc := ⟨.hbm, 871, rfl⟩
abbrev main_v431 : Ref sig .tc := ⟨.hbm, 872, rfl⟩
abbrev main_c_100 : Ref sig .tc := ⟨.hbm, 873, rfl⟩
abbrev main_c_101 : Ref sig .tc := ⟨.hbm, 874, rfl⟩
abbrev main_call24_v0 : Ref sig .tc := ⟨.hbm, 875, rfl⟩
abbrev main_call24_v1 : Ref sig .tc := ⟨.hbm, 876, rfl⟩
abbrev main_call24_v2 : Ref sig .tc := ⟨.hbm, 877, rfl⟩
abbrev main_call24_v3 : Ref sig .tc := ⟨.hbm, 878, rfl⟩
abbrev main_call24_v4 : Ref sig .tc := ⟨.hbm, 879, rfl⟩
abbrev main_v432 : Ref sig .tc := ⟨.hbm, 880, rfl⟩
abbrev main_v433 : Ref sig .tc := ⟨.hbm, 881, rfl⟩
abbrev main_c_102 : Ref sig .tc := ⟨.hbm, 882, rfl⟩
abbrev main_v434 : Ref sig .tc := ⟨.hbm, 883, rfl⟩
abbrev main_v435 : Ref sig .tc := ⟨.hbm, 884, rfl⟩
abbrev main_v436 : Ref sig .tc := ⟨.hbm, 885, rfl⟩
abbrev main_v437 : Ref sig .tc := ⟨.hbm, 886, rfl⟩
abbrev main_v438 : Ref sig .tc := ⟨.hbm, 887, rfl⟩
abbrev main_v439 : Ref sig .tc := ⟨.hbm, 888, rfl⟩
abbrev main_call25_c : Ref sig .tc := ⟨.hbm, 889, rfl⟩
abbrev main_call25_v0 : Ref sig .tc := ⟨.hbm, 890, rfl⟩
abbrev main_call25_v1 : Ref sig .tc := ⟨.hbm, 891, rfl⟩
abbrev main_call25_c_0 : Ref sig .tc := ⟨.hbm, 892, rfl⟩
abbrev main_call25_v2 : Ref sig .tc := ⟨.hbm, 893, rfl⟩
abbrev main_call25_v3 : Ref sig .tc := ⟨.hbm, 894, rfl⟩
abbrev main_call25_v4 : Ref sig .tc := ⟨.hbm, 895, rfl⟩
abbrev main_call25_v5 : Ref sig .tc := ⟨.hbm, 896, rfl⟩
abbrev main_call25_c_1 : Ref sig .tc := ⟨.hbm, 897, rfl⟩
abbrev main_call25_c_2 : Ref sig .tc := ⟨.hbm, 898, rfl⟩
abbrev main_call25_v6 : Ref sig .tc := ⟨.hbm, 899, rfl⟩
abbrev main_call25_v7 : Ref sig .tc := ⟨.hbm, 900, rfl⟩
abbrev main_call25_v8 : Ref sig .tc := ⟨.hbm, 901, rfl⟩
abbrev main_call25_v9 : Ref sig .tc := ⟨.hbm, 902, rfl⟩
abbrev main_call25_v10 : Ref sig .tc := ⟨.hbm, 903, rfl⟩
abbrev main_call25_v11 : Ref sig .tc := ⟨.hbm, 904, rfl⟩
abbrev main_call25_c_3 : Ref sig .tc := ⟨.hbm, 905, rfl⟩
abbrev main_call25_v12 : Ref sig .tc := ⟨.hbm, 906, rfl⟩
abbrev main_call25_v13 : Ref sig .tc := ⟨.hbm, 907, rfl⟩
abbrev main_call25_cst : Ref sig .tc := ⟨.hbm, 908, rfl⟩
abbrev main_call25_v14 : Ref sig .tc := ⟨.hbm, 909, rfl⟩
abbrev main_v440 : Ref sig .tc := ⟨.hbm, 910, rfl⟩
abbrev main_v441 : Ref sig .tc := ⟨.hbm, 911, rfl⟩
abbrev main_v442 : Ref sig .tc := ⟨.hbm, 912, rfl⟩
abbrev main_v443 : Ref sig .tc := ⟨.hbm, 913, rfl⟩
abbrev main_v444 : Ref sig .tc := ⟨.hbm, 914, rfl⟩
abbrev main_v445 : Ref sig .tc := ⟨.hbm, 915, rfl⟩
abbrev main_v446 : Ref sig .tc := ⟨.hbm, 916, rfl⟩
abbrev main_v447 : Ref sig .tc := ⟨.hbm, 917, rfl⟩
abbrev main_v448 : Ref sig .tc := ⟨.hbm, 918, rfl⟩
abbrev main_v449 : Ref sig .tc := ⟨.hbm, 919, rfl⟩
abbrev main_cst_103 : Ref sig .tc := ⟨.hbm, 920, rfl⟩
abbrev main_v450 : Ref sig .tc := ⟨.hbm, 921, rfl⟩
abbrev main_v451 : Ref sig .tc := ⟨.hbm, 922, rfl⟩
abbrev main_cst_104 : Ref sig .tc := ⟨.hbm, 923, rfl⟩
abbrev main_v452 : Ref sig .tc := ⟨.hbm, 924, rfl⟩
abbrev main_v453 : Ref sig .tc := ⟨.hbm, 925, rfl⟩
abbrev main_v454 : Ref sig .tc := ⟨.hbm, 926, rfl⟩
abbrev main_cst_105 : Ref sig .tc := ⟨.hbm, 927, rfl⟩
abbrev main_v455 : Ref sig .tc := ⟨.hbm, 928, rfl⟩
abbrev main_v456 : Ref sig .tc := ⟨.hbm, 929, rfl⟩
abbrev main_v457 : Ref sig .tc := ⟨.hbm, 930, rfl⟩
abbrev main_cst_106 : Ref sig .tc := ⟨.hbm, 931, rfl⟩
abbrev main_v458 : Ref sig .tc := ⟨.hbm, 932, rfl⟩
abbrev main_v459 : Ref sig .tc := ⟨.hbm, 933, rfl⟩
abbrev main_v460 : Ref sig .tc := ⟨.hbm, 934, rfl⟩
abbrev main_c_107 : Ref sig .tc := ⟨.hbm, 935, rfl⟩
abbrev main_c_108 : Ref sig .tc := ⟨.hbm, 936, rfl⟩
abbrev main_call26_v0 : Ref sig .tc := ⟨.hbm, 937, rfl⟩
abbrev main_call26_v1 : Ref sig .tc := ⟨.hbm, 938, rfl⟩
abbrev main_call26_v2 : Ref sig .tc := ⟨.hbm, 939, rfl⟩
abbrev main_call26_v3 : Ref sig .tc := ⟨.hbm, 940, rfl⟩
abbrev main_call26_v4 : Ref sig .tc := ⟨.hbm, 941, rfl⟩
abbrev main_v461 : Ref sig .tc := ⟨.hbm, 942, rfl⟩
abbrev main_v462 : Ref sig .tc := ⟨.hbm, 943, rfl⟩
abbrev main_c_109 : Ref sig .tc := ⟨.hbm, 944, rfl⟩
abbrev main_c_110 : Ref sig .tc := ⟨.hbm, 945, rfl⟩
abbrev main_call27_v0 : Ref sig .tc := ⟨.hbm, 946, rfl⟩
abbrev main_call27_v1 : Ref sig .tc := ⟨.hbm, 947, rfl⟩
abbrev main_call27_v2 : Ref sig .tc := ⟨.hbm, 948, rfl⟩
abbrev main_call27_v3 : Ref sig .tc := ⟨.hbm, 949, rfl⟩
abbrev main_call27_v4 : Ref sig .tc := ⟨.hbm, 950, rfl⟩
abbrev main_v463 : Ref sig .tc := ⟨.hbm, 951, rfl⟩
abbrev main_v464 : Ref sig .tc := ⟨.hbm, 952, rfl⟩
abbrev main_c_111 : Ref sig .tc := ⟨.hbm, 953, rfl⟩
abbrev main_v465 : Ref sig .tc := ⟨.hbm, 954, rfl⟩
abbrev main_v466 : Ref sig .tc := ⟨.hbm, 955, rfl⟩
abbrev main_v467 : Ref sig .tc := ⟨.hbm, 956, rfl⟩
abbrev main_v468 : Ref sig .tc := ⟨.hbm, 957, rfl⟩
abbrev main_v469 : Ref sig .tc := ⟨.hbm, 958, rfl⟩
abbrev main_v470 : Ref sig .tc := ⟨.hbm, 959, rfl⟩
abbrev main_call28_c : Ref sig .tc := ⟨.hbm, 960, rfl⟩
abbrev main_call28_v0 : Ref sig .tc := ⟨.hbm, 961, rfl⟩
abbrev main_call28_v1 : Ref sig .tc := ⟨.hbm, 962, rfl⟩
abbrev main_call28_c_0 : Ref sig .tc := ⟨.hbm, 963, rfl⟩
abbrev main_call28_v2 : Ref sig .tc := ⟨.hbm, 964, rfl⟩
abbrev main_call28_v3 : Ref sig .tc := ⟨.hbm, 965, rfl⟩
abbrev main_call28_v4 : Ref sig .tc := ⟨.hbm, 966, rfl⟩
abbrev main_call28_v5 : Ref sig .tc := ⟨.hbm, 967, rfl⟩
abbrev main_call28_c_1 : Ref sig .tc := ⟨.hbm, 968, rfl⟩
abbrev main_call28_c_2 : Ref sig .tc := ⟨.hbm, 969, rfl⟩
abbrev main_call28_v6 : Ref sig .tc := ⟨.hbm, 970, rfl⟩
abbrev main_call28_v7 : Ref sig .tc := ⟨.hbm, 971, rfl⟩
abbrev main_call28_v8 : Ref sig .tc := ⟨.hbm, 972, rfl⟩
abbrev main_call28_v9 : Ref sig .tc := ⟨.hbm, 973, rfl⟩
abbrev main_call28_v10 : Ref sig .tc := ⟨.hbm, 974, rfl⟩
abbrev main_call28_v11 : Ref sig .tc := ⟨.hbm, 975, rfl⟩
abbrev main_call28_c_3 : Ref sig .tc := ⟨.hbm, 976, rfl⟩
abbrev main_call28_v12 : Ref sig .tc := ⟨.hbm, 977, rfl⟩
abbrev main_call28_v13 : Ref sig .tc := ⟨.hbm, 978, rfl⟩
abbrev main_call28_cst : Ref sig .tc := ⟨.hbm, 979, rfl⟩
abbrev main_call28_v14 : Ref sig .tc := ⟨.hbm, 980, rfl⟩
abbrev main_v471 : Ref sig .tc := ⟨.hbm, 981, rfl⟩
abbrev main_v472 : Ref sig .tc := ⟨.hbm, 982, rfl⟩
abbrev main_v473 : Ref sig .tc := ⟨.hbm, 983, rfl⟩
abbrev main_v474 : Ref sig .tc := ⟨.hbm, 984, rfl⟩
abbrev main_v475 : Ref sig .tc := ⟨.hbm, 985, rfl⟩
abbrev main_v476 : Ref sig .tc := ⟨.hbm, 986, rfl⟩
abbrev main_v477 : Ref sig .tc := ⟨.hbm, 987, rfl⟩
abbrev main_v478 : Ref sig .tc := ⟨.hbm, 988, rfl⟩
abbrev main_v479 : Ref sig .tc := ⟨.hbm, 989, rfl⟩
abbrev main_v480 : Ref sig .tc := ⟨.hbm, 990, rfl⟩
abbrev main_cst_112 : Ref sig .tc := ⟨.hbm, 991, rfl⟩
abbrev main_v481 : Ref sig .tc := ⟨.hbm, 992, rfl⟩
abbrev main_v482 : Ref sig .tc := ⟨.hbm, 993, rfl⟩
abbrev main_cst_113 : Ref sig .tc := ⟨.hbm, 994, rfl⟩
abbrev main_v483 : Ref sig .tc := ⟨.hbm, 995, rfl⟩
abbrev main_v484 : Ref sig .tc := ⟨.hbm, 996, rfl⟩
abbrev main_v485 : Ref sig .tc := ⟨.hbm, 997, rfl⟩
abbrev main_cst_114 : Ref sig .tc := ⟨.hbm, 998, rfl⟩
abbrev main_v486 : Ref sig .tc := ⟨.hbm, 999, rfl⟩
abbrev main_v487 : Ref sig .tc := ⟨.hbm, 1000, rfl⟩
abbrev main_v488 : Ref sig .tc := ⟨.hbm, 1001, rfl⟩
abbrev main_cst_115 : Ref sig .tc := ⟨.hbm, 1002, rfl⟩
abbrev main_v489 : Ref sig .tc := ⟨.hbm, 1003, rfl⟩
abbrev main_v490 : Ref sig .tc := ⟨.hbm, 1004, rfl⟩
abbrev main_v491 : Ref sig .tc := ⟨.hbm, 1005, rfl⟩
abbrev main_c_116 : Ref sig .tc := ⟨.hbm, 1006, rfl⟩
abbrev main_c_117 : Ref sig .tc := ⟨.hbm, 1007, rfl⟩
abbrev main_call29_v0 : Ref sig .tc := ⟨.hbm, 1008, rfl⟩
abbrev main_call29_v1 : Ref sig .tc := ⟨.hbm, 1009, rfl⟩
abbrev main_call29_v2 : Ref sig .tc := ⟨.hbm, 1010, rfl⟩
abbrev main_call29_v3 : Ref sig .tc := ⟨.hbm, 1011, rfl⟩
abbrev main_call29_v4 : Ref sig .tc := ⟨.hbm, 1012, rfl⟩
abbrev main_v492 : Ref sig .tc := ⟨.hbm, 1013, rfl⟩
abbrev main_v493 : Ref sig .tc := ⟨.hbm, 1014, rfl⟩
abbrev main_c_118 : Ref sig .tc := ⟨.hbm, 1015, rfl⟩
abbrev main_c_119 : Ref sig .tc := ⟨.hbm, 1016, rfl⟩
abbrev main_call30_v0 : Ref sig .tc := ⟨.hbm, 1017, rfl⟩
abbrev main_call30_v1 : Ref sig .tc := ⟨.hbm, 1018, rfl⟩
abbrev main_call30_v2 : Ref sig .tc := ⟨.hbm, 1019, rfl⟩
abbrev main_call30_v3 : Ref sig .tc := ⟨.hbm, 1020, rfl⟩
abbrev main_call30_v4 : Ref sig .tc := ⟨.hbm, 1021, rfl⟩
abbrev main_v494 : Ref sig .tc := ⟨.hbm, 1022, rfl⟩
abbrev main_v495 : Ref sig .tc := ⟨.hbm, 1023, rfl⟩
abbrev main_c_120 : Ref sig .tc := ⟨.hbm, 1024, rfl⟩
abbrev main_v496 : Ref sig .tc := ⟨.hbm, 1025, rfl⟩
abbrev main_v497 : Ref sig .tc := ⟨.hbm, 1026, rfl⟩
abbrev main_v498 : Ref sig .tc := ⟨.hbm, 1027, rfl⟩
abbrev main_v499 : Ref sig .tc := ⟨.hbm, 1028, rfl⟩
abbrev main_v500 : Ref sig .tc := ⟨.hbm, 1029, rfl⟩
abbrev main_v501 : Ref sig .tc := ⟨.hbm, 1030, rfl⟩
abbrev main_call31_c : Ref sig .tc := ⟨.hbm, 1031, rfl⟩
abbrev main_call31_v0 : Ref sig .tc := ⟨.hbm, 1032, rfl⟩
abbrev main_call31_v1 : Ref sig .tc := ⟨.hbm, 1033, rfl⟩
abbrev main_call31_c_0 : Ref sig .tc := ⟨.hbm, 1034, rfl⟩
abbrev main_call31_v2 : Ref sig .tc := ⟨.hbm, 1035, rfl⟩
abbrev main_call31_v3 : Ref sig .tc := ⟨.hbm, 1036, rfl⟩
abbrev main_call31_v4 : Ref sig .tc := ⟨.hbm, 1037, rfl⟩
abbrev main_call31_v5 : Ref sig .tc := ⟨.hbm, 1038, rfl⟩
abbrev main_call31_c_1 : Ref sig .tc := ⟨.hbm, 1039, rfl⟩
abbrev main_call31_c_2 : Ref sig .tc := ⟨.hbm, 1040, rfl⟩
abbrev main_call31_v6 : Ref sig .tc := ⟨.hbm, 1041, rfl⟩
abbrev main_call31_v7 : Ref sig .tc := ⟨.hbm, 1042, rfl⟩
abbrev main_call31_v8 : Ref sig .tc := ⟨.hbm, 1043, rfl⟩
abbrev main_call31_v9 : Ref sig .tc := ⟨.hbm, 1044, rfl⟩
abbrev main_call31_v10 : Ref sig .tc := ⟨.hbm, 1045, rfl⟩
abbrev main_call31_v11 : Ref sig .tc := ⟨.hbm, 1046, rfl⟩
abbrev main_call31_c_3 : Ref sig .tc := ⟨.hbm, 1047, rfl⟩
abbrev main_call31_v12 : Ref sig .tc := ⟨.hbm, 1048, rfl⟩
abbrev main_call31_v13 : Ref sig .tc := ⟨.hbm, 1049, rfl⟩
abbrev main_call31_cst : Ref sig .tc := ⟨.hbm, 1050, rfl⟩
abbrev main_call31_v14 : Ref sig .tc := ⟨.hbm, 1051, rfl⟩
abbrev main_v502 : Ref sig .tc := ⟨.hbm, 1052, rfl⟩
abbrev main_v503 : Ref sig .tc := ⟨.hbm, 1053, rfl⟩
abbrev main_v504 : Ref sig .tc := ⟨.hbm, 1054, rfl⟩
abbrev main_v505 : Ref sig .tc := ⟨.hbm, 1055, rfl⟩
abbrev main_v506 : Ref sig .tc := ⟨.hbm, 1056, rfl⟩
abbrev main_v507 : Ref sig .tc := ⟨.hbm, 1057, rfl⟩
abbrev main_v508 : Ref sig .tc := ⟨.hbm, 1058, rfl⟩
abbrev main_v509 : Ref sig .tc := ⟨.hbm, 1059, rfl⟩
abbrev main_v510 : Ref sig .tc := ⟨.hbm, 1060, rfl⟩
abbrev main_v511 : Ref sig .tc := ⟨.hbm, 1061, rfl⟩
abbrev main_v512 : Ref sig .tc := ⟨.hbm, 1062, rfl⟩
abbrev main_v513 : Ref sig .tc := ⟨.hbm, 1063, rfl⟩
abbrev main_v514 : Ref sig .tc := ⟨.hbm, 1064, rfl⟩
abbrev main_v515 : Ref sig .tc := ⟨.hbm, 1065, rfl⟩
abbrev main_v516 : Ref sig .tc := ⟨.hbm, 1066, rfl⟩
abbrev main_v517 : Ref sig .tc := ⟨.hbm, 1067, rfl⟩
abbrev main_v518 : Ref sig .tc := ⟨.hbm, 1068, rfl⟩
abbrev main_v519 : Ref sig .tc := ⟨.hbm, 1069, rfl⟩
abbrev main_v520 : Ref sig .tc := ⟨.hbm, 1070, rfl⟩
abbrev main_cst_121 : Ref sig .tc := ⟨.hbm, 1071, rfl⟩
abbrev main_v521 : Ref sig .tc := ⟨.hbm, 1072, rfl⟩
abbrev main_v522 : Ref sig .tc := ⟨.hbm, 1073, rfl⟩
abbrev main_cst_122 : Ref sig .tc := ⟨.hbm, 1074, rfl⟩
abbrev main_v523 : Ref sig .tc := ⟨.hbm, 1075, rfl⟩
abbrev main_v524 : Ref sig .tc := ⟨.hbm, 1076, rfl⟩
abbrev main_cst_123 : Ref sig .tc := ⟨.hbm, 1077, rfl⟩
abbrev main_v525 : Ref sig .tc := ⟨.hbm, 1078, rfl⟩
abbrev main_v526 : Ref sig .tc := ⟨.hbm, 1079, rfl⟩
abbrev main_cst_124 : Ref sig .tc := ⟨.hbm, 1080, rfl⟩
abbrev main_v527 : Ref sig .tc := ⟨.hbm, 1081, rfl⟩
abbrev main_v528 : Ref sig .tc := ⟨.hbm, 1082, rfl⟩
abbrev main_v529 : Ref sig .tc := ⟨.hbm, 1083, rfl⟩
abbrev main_v530 : Ref sig .tc := ⟨.hbm, 1084, rfl⟩
abbrev main_cst_125 : Ref sig .tc := ⟨.hbm, 1085, rfl⟩
abbrev main_v531 : Ref sig .tc := ⟨.hbm, 1086, rfl⟩
abbrev main_v532 : Ref sig .tc := ⟨.hbm, 1087, rfl⟩
abbrev main_cst_126 : Ref sig .tc := ⟨.hbm, 1088, rfl⟩
abbrev main_v533 : Ref sig .tc := ⟨.hbm, 1089, rfl⟩
abbrev main_v534 : Ref sig .tc := ⟨.hbm, 1090, rfl⟩
abbrev main_cst_127 : Ref sig .tc := ⟨.hbm, 1091, rfl⟩
abbrev main_v535 : Ref sig .tc := ⟨.hbm, 1092, rfl⟩
abbrev main_v536 : Ref sig .tc := ⟨.hbm, 1093, rfl⟩
abbrev main_cst_128 : Ref sig .tc := ⟨.hbm, 1094, rfl⟩
abbrev main_v537 : Ref sig .tc := ⟨.hbm, 1095, rfl⟩
abbrev main_v538 : Ref sig .tc := ⟨.hbm, 1096, rfl⟩
abbrev main_v539 : Ref sig .tc := ⟨.hbm, 1097, rfl⟩
abbrev main_v540 : Ref sig .tc := ⟨.hbm, 1098, rfl⟩
abbrev main_cst_129 : Ref sig .tc := ⟨.hbm, 1099, rfl⟩
abbrev main_v541 : Ref sig .tc := ⟨.hbm, 1100, rfl⟩
abbrev main_v542 : Ref sig .tc := ⟨.hbm, 1101, rfl⟩
abbrev main_cst_130 : Ref sig .tc := ⟨.hbm, 1102, rfl⟩
abbrev main_v543 : Ref sig .tc := ⟨.hbm, 1103, rfl⟩
abbrev main_v544 : Ref sig .tc := ⟨.hbm, 1104, rfl⟩
abbrev main_v545 : Ref sig .tc := ⟨.hbm, 1105, rfl⟩
abbrev main_v546 : Ref sig .tc := ⟨.hbm, 1106, rfl⟩
abbrev main_v547 : Ref sig .tc := ⟨.hbm, 1107, rfl⟩
abbrev main_v548 : Ref sig .tc := ⟨.hbm, 1108, rfl⟩
abbrev main_v549 : Ref sig .tc := ⟨.hbm, 1109, rfl⟩
abbrev main_v550 : Ref sig .tc := ⟨.hbm, 1110, rfl⟩
abbrev main_v551 : Ref sig .tc := ⟨.hbm, 1111, rfl⟩
abbrev main_v552 : Ref sig .tc := ⟨.hbm, 1112, rfl⟩
abbrev main_v553 : Ref sig .tc := ⟨.hbm, 1113, rfl⟩
abbrev main_v554 : Ref sig .tc := ⟨.hbm, 1114, rfl⟩
abbrev main_v555 : Ref sig .tc := ⟨.hbm, 1115, rfl⟩
abbrev main_v556 : Ref sig .tc := ⟨.hbm, 1116, rfl⟩
abbrev main_v557 : Ref sig .tc := ⟨.hbm, 1117, rfl⟩
abbrev main_cst_131 : Ref sig .tc := ⟨.hbm, 1118, rfl⟩
abbrev main_v558 : Ref sig .tc := ⟨.hbm, 1119, rfl⟩
abbrev main_v559 : Ref sig .tc := ⟨.hbm, 1120, rfl⟩
abbrev main_cst_132 : Ref sig .tc := ⟨.hbm, 1121, rfl⟩
abbrev main_v560 : Ref sig .tc := ⟨.hbm, 1122, rfl⟩
abbrev main_v561 : Ref sig .tc := ⟨.hbm, 1123, rfl⟩
abbrev main_v562 : Ref sig .tc := ⟨.hbm, 1124, rfl⟩
abbrev main_cst_133 : Ref sig .tc := ⟨.hbm, 1125, rfl⟩
abbrev main_v563 : Ref sig .tc := ⟨.hbm, 1126, rfl⟩
abbrev main_v564 : Ref sig .tc := ⟨.hbm, 1127, rfl⟩
abbrev main_v565 : Ref sig .tc := ⟨.hbm, 1128, rfl⟩
abbrev main_cst_134 : Ref sig .tc := ⟨.hbm, 1129, rfl⟩
abbrev main_v566 : Ref sig .tc := ⟨.hbm, 1130, rfl⟩
abbrev main_v567 : Ref sig .tc := ⟨.hbm, 1131, rfl⟩
abbrev main_v568 : Ref sig .tc := ⟨.hbm, 1132, rfl⟩
abbrev main_c_135 : Ref sig .tc := ⟨.hbm, 1133, rfl⟩
abbrev main_c_136 : Ref sig .tc := ⟨.hbm, 1134, rfl⟩
abbrev main_call32_v0 : Ref sig .tc := ⟨.hbm, 1135, rfl⟩
abbrev main_call32_v1 : Ref sig .tc := ⟨.hbm, 1136, rfl⟩
abbrev main_call32_v2 : Ref sig .tc := ⟨.hbm, 1137, rfl⟩
abbrev main_call32_v3 : Ref sig .tc := ⟨.hbm, 1138, rfl⟩
abbrev main_call32_v4 : Ref sig .tc := ⟨.hbm, 1139, rfl⟩
abbrev main_v569 : Ref sig .tc := ⟨.hbm, 1140, rfl⟩
abbrev main_v570 : Ref sig .tc := ⟨.hbm, 1141, rfl⟩
abbrev main_c_137 : Ref sig .tc := ⟨.hbm, 1142, rfl⟩
abbrev main_c_138 : Ref sig .tc := ⟨.hbm, 1143, rfl⟩
abbrev main_call33_v0 : Ref sig .tc := ⟨.hbm, 1144, rfl⟩
abbrev main_call33_v1 : Ref sig .tc := ⟨.hbm, 1145, rfl⟩
abbrev main_call33_v2 : Ref sig .tc := ⟨.hbm, 1146, rfl⟩
abbrev main_call33_v3 : Ref sig .tc := ⟨.hbm, 1147, rfl⟩
abbrev main_call33_v4 : Ref sig .tc := ⟨.hbm, 1148, rfl⟩
abbrev main_v571 : Ref sig .tc := ⟨.hbm, 1149, rfl⟩
abbrev main_v572 : Ref sig .tc := ⟨.hbm, 1150, rfl⟩
abbrev main_c_139 : Ref sig .tc := ⟨.hbm, 1151, rfl⟩
abbrev main_v573 : Ref sig .tc := ⟨.hbm, 1152, rfl⟩
abbrev main_v574 : Ref sig .tc := ⟨.hbm, 1153, rfl⟩
abbrev main_v575 : Ref sig .tc := ⟨.hbm, 1154, rfl⟩
abbrev main_v576 : Ref sig .tc := ⟨.hbm, 1155, rfl⟩
abbrev main_v577 : Ref sig .tc := ⟨.hbm, 1156, rfl⟩
abbrev main_v578 : Ref sig .tc := ⟨.hbm, 1157, rfl⟩
abbrev main_call34_c : Ref sig .tc := ⟨.hbm, 1158, rfl⟩
abbrev main_call34_v0 : Ref sig .tc := ⟨.hbm, 1159, rfl⟩
abbrev main_call34_v1 : Ref sig .tc := ⟨.hbm, 1160, rfl⟩
abbrev main_call34_c_0 : Ref sig .tc := ⟨.hbm, 1161, rfl⟩
abbrev main_call34_v2 : Ref sig .tc := ⟨.hbm, 1162, rfl⟩
abbrev main_call34_v3 : Ref sig .tc := ⟨.hbm, 1163, rfl⟩
abbrev main_call34_v4 : Ref sig .tc := ⟨.hbm, 1164, rfl⟩
abbrev main_call34_v5 : Ref sig .tc := ⟨.hbm, 1165, rfl⟩
abbrev main_call34_c_1 : Ref sig .tc := ⟨.hbm, 1166, rfl⟩
abbrev main_call34_c_2 : Ref sig .tc := ⟨.hbm, 1167, rfl⟩
abbrev main_call34_v6 : Ref sig .tc := ⟨.hbm, 1168, rfl⟩
abbrev main_call34_v7 : Ref sig .tc := ⟨.hbm, 1169, rfl⟩
abbrev main_call34_v8 : Ref sig .tc := ⟨.hbm, 1170, rfl⟩
abbrev main_call34_v9 : Ref sig .tc := ⟨.hbm, 1171, rfl⟩
abbrev main_call34_v10 : Ref sig .tc := ⟨.hbm, 1172, rfl⟩
abbrev main_call34_v11 : Ref sig .tc := ⟨.hbm, 1173, rfl⟩
abbrev main_call34_c_3 : Ref sig .tc := ⟨.hbm, 1174, rfl⟩
abbrev main_call34_v12 : Ref sig .tc := ⟨.hbm, 1175, rfl⟩
abbrev main_call34_v13 : Ref sig .tc := ⟨.hbm, 1176, rfl⟩
abbrev main_call34_cst : Ref sig .tc := ⟨.hbm, 1177, rfl⟩
abbrev main_call34_v14 : Ref sig .tc := ⟨.hbm, 1178, rfl⟩
abbrev main_v579 : Ref sig .tc := ⟨.hbm, 1179, rfl⟩
abbrev main_v580 : Ref sig .tc := ⟨.hbm, 1180, rfl⟩
abbrev main_v581 : Ref sig .tc := ⟨.hbm, 1181, rfl⟩
abbrev main_v582 : Ref sig .tc := ⟨.hbm, 1182, rfl⟩
abbrev main_v583 : Ref sig .tc := ⟨.hbm, 1183, rfl⟩
abbrev main_v584 : Ref sig .tc := ⟨.hbm, 1184, rfl⟩
abbrev main_v585 : Ref sig .tc := ⟨.hbm, 1185, rfl⟩
abbrev main_v586 : Ref sig .tc := ⟨.hbm, 1186, rfl⟩
abbrev main_v587 : Ref sig .tc := ⟨.hbm, 1187, rfl⟩
abbrev main_cst_140 : Ref sig .tc := ⟨.hbm, 1188, rfl⟩
abbrev main_v588 : Ref sig .tc := ⟨.hbm, 1189, rfl⟩
abbrev main_v589 : Ref sig .tc := ⟨.hbm, 1190, rfl⟩
abbrev main_cst_141 : Ref sig .tc := ⟨.hbm, 1191, rfl⟩
abbrev main_v590 : Ref sig .tc := ⟨.hbm, 1192, rfl⟩
abbrev main_v591 : Ref sig .tc := ⟨.hbm, 1193, rfl⟩
abbrev main_v592 : Ref sig .tc := ⟨.hbm, 1194, rfl⟩
abbrev main_cst_142 : Ref sig .tc := ⟨.hbm, 1195, rfl⟩
abbrev main_v593 : Ref sig .tc := ⟨.hbm, 1196, rfl⟩
abbrev main_v594 : Ref sig .tc := ⟨.hbm, 1197, rfl⟩
abbrev main_v595 : Ref sig .tc := ⟨.hbm, 1198, rfl⟩
abbrev main_cst_143 : Ref sig .tc := ⟨.hbm, 1199, rfl⟩
abbrev main_v596 : Ref sig .tc := ⟨.hbm, 1200, rfl⟩
abbrev main_v597 : Ref sig .tc := ⟨.hbm, 1201, rfl⟩
abbrev main_v598 : Ref sig .tc := ⟨.hbm, 1202, rfl⟩
abbrev main_c_144 : Ref sig .tc := ⟨.hbm, 1203, rfl⟩
abbrev main_c_145 : Ref sig .tc := ⟨.hbm, 1204, rfl⟩
abbrev main_call35_v0 : Ref sig .tc := ⟨.hbm, 1205, rfl⟩
abbrev main_call35_v1 : Ref sig .tc := ⟨.hbm, 1206, rfl⟩
abbrev main_call35_v2 : Ref sig .tc := ⟨.hbm, 1207, rfl⟩
abbrev main_call35_v3 : Ref sig .tc := ⟨.hbm, 1208, rfl⟩
abbrev main_call35_v4 : Ref sig .tc := ⟨.hbm, 1209, rfl⟩
abbrev main_v599 : Ref sig .tc := ⟨.hbm, 1210, rfl⟩
abbrev main_v600 : Ref sig .tc := ⟨.hbm, 1211, rfl⟩
abbrev main_c_146 : Ref sig .tc := ⟨.hbm, 1212, rfl⟩
abbrev main_c_147 : Ref sig .tc := ⟨.hbm, 1213, rfl⟩
abbrev main_call36_v0 : Ref sig .tc := ⟨.hbm, 1214, rfl⟩
abbrev main_call36_v1 : Ref sig .tc := ⟨.hbm, 1215, rfl⟩
abbrev main_call36_v2 : Ref sig .tc := ⟨.hbm, 1216, rfl⟩
abbrev main_call36_v3 : Ref sig .tc := ⟨.hbm, 1217, rfl⟩
abbrev main_call36_v4 : Ref sig .tc := ⟨.hbm, 1218, rfl⟩
abbrev main_v601 : Ref sig .tc := ⟨.hbm, 1219, rfl⟩
abbrev main_v602 : Ref sig .tc := ⟨.hbm, 1220, rfl⟩
abbrev main_c_148 : Ref sig .tc := ⟨.hbm, 1221, rfl⟩
abbrev main_v603 : Ref sig .tc := ⟨.hbm, 1222, rfl⟩
abbrev main_v604 : Ref sig .tc := ⟨.hbm, 1223, rfl⟩
abbrev main_v605 : Ref sig .tc := ⟨.hbm, 1224, rfl⟩
abbrev main_v606 : Ref sig .tc := ⟨.hbm, 1225, rfl⟩
abbrev main_v607 : Ref sig .tc := ⟨.hbm, 1226, rfl⟩
abbrev main_v608 : Ref sig .tc := ⟨.hbm, 1227, rfl⟩
abbrev main_call37_c : Ref sig .tc := ⟨.hbm, 1228, rfl⟩
abbrev main_call37_v0 : Ref sig .tc := ⟨.hbm, 1229, rfl⟩
abbrev main_call37_v1 : Ref sig .tc := ⟨.hbm, 1230, rfl⟩
abbrev main_call37_c_0 : Ref sig .tc := ⟨.hbm, 1231, rfl⟩
abbrev main_call37_v2 : Ref sig .tc := ⟨.hbm, 1232, rfl⟩
abbrev main_call37_v3 : Ref sig .tc := ⟨.hbm, 1233, rfl⟩
abbrev main_call37_v4 : Ref sig .tc := ⟨.hbm, 1234, rfl⟩
abbrev main_call37_v5 : Ref sig .tc := ⟨.hbm, 1235, rfl⟩
abbrev main_call37_c_1 : Ref sig .tc := ⟨.hbm, 1236, rfl⟩
abbrev main_call37_c_2 : Ref sig .tc := ⟨.hbm, 1237, rfl⟩
abbrev main_call37_v6 : Ref sig .tc := ⟨.hbm, 1238, rfl⟩
abbrev main_call37_v7 : Ref sig .tc := ⟨.hbm, 1239, rfl⟩
abbrev main_call37_v8 : Ref sig .tc := ⟨.hbm, 1240, rfl⟩
abbrev main_call37_v9 : Ref sig .tc := ⟨.hbm, 1241, rfl⟩
abbrev main_call37_v10 : Ref sig .tc := ⟨.hbm, 1242, rfl⟩
abbrev main_call37_v11 : Ref sig .tc := ⟨.hbm, 1243, rfl⟩
abbrev main_call37_c_3 : Ref sig .tc := ⟨.hbm, 1244, rfl⟩
abbrev main_call37_v12 : Ref sig .tc := ⟨.hbm, 1245, rfl⟩
abbrev main_call37_v13 : Ref sig .tc := ⟨.hbm, 1246, rfl⟩
abbrev main_call37_cst : Ref sig .tc := ⟨.hbm, 1247, rfl⟩
abbrev main_call37_v14 : Ref sig .tc := ⟨.hbm, 1248, rfl⟩
abbrev main_v609 : Ref sig .tc := ⟨.hbm, 1249, rfl⟩
abbrev main_v610 : Ref sig .tc := ⟨.hbm, 1250, rfl⟩
abbrev main_v611 : Ref sig .tc := ⟨.hbm, 1251, rfl⟩
abbrev main_v612 : Ref sig .tc := ⟨.hbm, 1252, rfl⟩
abbrev main_v613 : Ref sig .tc := ⟨.hbm, 1253, rfl⟩
abbrev main_v614 : Ref sig .tc := ⟨.hbm, 1254, rfl⟩
abbrev main_v615 : Ref sig .tc := ⟨.hbm, 1255, rfl⟩
abbrev main_v616 : Ref sig .tc := ⟨.hbm, 1256, rfl⟩
abbrev main_v617 : Ref sig .tc := ⟨.hbm, 1257, rfl⟩
abbrev main_v618 : Ref sig .tc := ⟨.hbm, 1258, rfl⟩
abbrev main_cst_149 : Ref sig .tc := ⟨.hbm, 1259, rfl⟩
abbrev main_v619 : Ref sig .tc := ⟨.hbm, 1260, rfl⟩
abbrev main_v620 : Ref sig .tc := ⟨.hbm, 1261, rfl⟩
abbrev main_cst_150 : Ref sig .tc := ⟨.hbm, 1262, rfl⟩
abbrev main_v621 : Ref sig .tc := ⟨.hbm, 1263, rfl⟩
abbrev main_v622 : Ref sig .tc := ⟨.hbm, 1264, rfl⟩
abbrev main_v623 : Ref sig .tc := ⟨.hbm, 1265, rfl⟩
abbrev main_cst_151 : Ref sig .tc := ⟨.hbm, 1266, rfl⟩
abbrev main_v624 : Ref sig .tc := ⟨.hbm, 1267, rfl⟩
abbrev main_v625 : Ref sig .tc := ⟨.hbm, 1268, rfl⟩
abbrev main_v626 : Ref sig .tc := ⟨.hbm, 1269, rfl⟩
abbrev main_cst_152 : Ref sig .tc := ⟨.hbm, 1270, rfl⟩
abbrev main_v627 : Ref sig .tc := ⟨.hbm, 1271, rfl⟩
abbrev main_v628 : Ref sig .tc := ⟨.hbm, 1272, rfl⟩
abbrev main_v629 : Ref sig .tc := ⟨.hbm, 1273, rfl⟩
abbrev main_c_153 : Ref sig .tc := ⟨.hbm, 1274, rfl⟩
abbrev main_c_154 : Ref sig .tc := ⟨.hbm, 1275, rfl⟩
abbrev main_call38_v0 : Ref sig .tc := ⟨.hbm, 1276, rfl⟩
abbrev main_call38_v1 : Ref sig .tc := ⟨.hbm, 1277, rfl⟩
abbrev main_call38_v2 : Ref sig .tc := ⟨.hbm, 1278, rfl⟩
abbrev main_call38_v3 : Ref sig .tc := ⟨.hbm, 1279, rfl⟩
abbrev main_call38_v4 : Ref sig .tc := ⟨.hbm, 1280, rfl⟩
abbrev main_v630 : Ref sig .tc := ⟨.hbm, 1281, rfl⟩
abbrev main_v631 : Ref sig .tc := ⟨.hbm, 1282, rfl⟩
abbrev main_c_155 : Ref sig .tc := ⟨.hbm, 1283, rfl⟩
abbrev main_c_156 : Ref sig .tc := ⟨.hbm, 1284, rfl⟩
abbrev main_call39_v0 : Ref sig .tc := ⟨.hbm, 1285, rfl⟩
abbrev main_call39_v1 : Ref sig .tc := ⟨.hbm, 1286, rfl⟩
abbrev main_call39_v2 : Ref sig .tc := ⟨.hbm, 1287, rfl⟩
abbrev main_call39_v3 : Ref sig .tc := ⟨.hbm, 1288, rfl⟩
abbrev main_call39_v4 : Ref sig .tc := ⟨.hbm, 1289, rfl⟩
abbrev main_v632 : Ref sig .tc := ⟨.hbm, 1290, rfl⟩
abbrev main_v633 : Ref sig .tc := ⟨.hbm, 1291, rfl⟩
abbrev main_c_157 : Ref sig .tc := ⟨.hbm, 1292, rfl⟩
abbrev main_v634 : Ref sig .tc := ⟨.hbm, 1293, rfl⟩
abbrev main_v635 : Ref sig .tc := ⟨.hbm, 1294, rfl⟩
abbrev main_v636 : Ref sig .tc := ⟨.hbm, 1295, rfl⟩
abbrev main_v637 : Ref sig .tc := ⟨.hbm, 1296, rfl⟩
abbrev main_v638 : Ref sig .tc := ⟨.hbm, 1297, rfl⟩
abbrev main_v639 : Ref sig .tc := ⟨.hbm, 1298, rfl⟩
abbrev main_call40_c : Ref sig .tc := ⟨.hbm, 1299, rfl⟩
abbrev main_call40_v0 : Ref sig .tc := ⟨.hbm, 1300, rfl⟩
abbrev main_call40_v1 : Ref sig .tc := ⟨.hbm, 1301, rfl⟩
abbrev main_call40_c_0 : Ref sig .tc := ⟨.hbm, 1302, rfl⟩
abbrev main_call40_v2 : Ref sig .tc := ⟨.hbm, 1303, rfl⟩
abbrev main_call40_v3 : Ref sig .tc := ⟨.hbm, 1304, rfl⟩
abbrev main_call40_v4 : Ref sig .tc := ⟨.hbm, 1305, rfl⟩
abbrev main_call40_v5 : Ref sig .tc := ⟨.hbm, 1306, rfl⟩
abbrev main_call40_c_1 : Ref sig .tc := ⟨.hbm, 1307, rfl⟩
abbrev main_call40_c_2 : Ref sig .tc := ⟨.hbm, 1308, rfl⟩
abbrev main_call40_v6 : Ref sig .tc := ⟨.hbm, 1309, rfl⟩
abbrev main_call40_v7 : Ref sig .tc := ⟨.hbm, 1310, rfl⟩
abbrev main_call40_v8 : Ref sig .tc := ⟨.hbm, 1311, rfl⟩
abbrev main_call40_v9 : Ref sig .tc := ⟨.hbm, 1312, rfl⟩
abbrev main_call40_v10 : Ref sig .tc := ⟨.hbm, 1313, rfl⟩
abbrev main_call40_v11 : Ref sig .tc := ⟨.hbm, 1314, rfl⟩
abbrev main_call40_c_3 : Ref sig .tc := ⟨.hbm, 1315, rfl⟩
abbrev main_call40_v12 : Ref sig .tc := ⟨.hbm, 1316, rfl⟩
abbrev main_call40_v13 : Ref sig .tc := ⟨.hbm, 1317, rfl⟩
abbrev main_call40_cst : Ref sig .tc := ⟨.hbm, 1318, rfl⟩
abbrev main_call40_v14 : Ref sig .tc := ⟨.hbm, 1319, rfl⟩
abbrev main_v640 : Ref sig .tc := ⟨.hbm, 1320, rfl⟩
abbrev main_v641 : Ref sig .tc := ⟨.hbm, 1321, rfl⟩
abbrev main_v642 : Ref sig .tc := ⟨.hbm, 1322, rfl⟩
abbrev main_v643 : Ref sig .tc := ⟨.hbm, 1323, rfl⟩
abbrev main_v644 : Ref sig .tc := ⟨.hbm, 1324, rfl⟩
abbrev main_v645 : Ref sig .tc := ⟨.hbm, 1325, rfl⟩
abbrev main_v646 : Ref sig .tc := ⟨.hbm, 1326, rfl⟩
abbrev main_v647 : Ref sig .tc := ⟨.hbm, 1327, rfl⟩
abbrev main_v648 : Ref sig .tc := ⟨.hbm, 1328, rfl⟩
abbrev main_v649 : Ref sig .tc := ⟨.hbm, 1329, rfl⟩
abbrev main_cst_158 : Ref sig .tc := ⟨.hbm, 1330, rfl⟩
abbrev main_v650 : Ref sig .tc := ⟨.hbm, 1331, rfl⟩
abbrev main_v651 : Ref sig .tc := ⟨.hbm, 1332, rfl⟩
abbrev main_cst_159 : Ref sig .tc := ⟨.hbm, 1333, rfl⟩
abbrev main_v652 : Ref sig .tc := ⟨.hbm, 1334, rfl⟩
abbrev main_v653 : Ref sig .tc := ⟨.hbm, 1335, rfl⟩
abbrev main_v654 : Ref sig .tc := ⟨.hbm, 1336, rfl⟩
abbrev main_cst_160 : Ref sig .tc := ⟨.hbm, 1337, rfl⟩
abbrev main_v655 : Ref sig .tc := ⟨.hbm, 1338, rfl⟩
abbrev main_v656 : Ref sig .tc := ⟨.hbm, 1339, rfl⟩
abbrev main_v657 : Ref sig .tc := ⟨.hbm, 1340, rfl⟩
abbrev main_cst_161 : Ref sig .tc := ⟨.hbm, 1341, rfl⟩
abbrev main_v658 : Ref sig .tc := ⟨.hbm, 1342, rfl⟩
abbrev main_v659 : Ref sig .tc := ⟨.hbm, 1343, rfl⟩
abbrev main_v660 : Ref sig .tc := ⟨.hbm, 1344, rfl⟩
abbrev main_c_162 : Ref sig .tc := ⟨.hbm, 1345, rfl⟩
abbrev main_c_163 : Ref sig .tc := ⟨.hbm, 1346, rfl⟩
abbrev main_call41_v0 : Ref sig .tc := ⟨.hbm, 1347, rfl⟩
abbrev main_call41_v1 : Ref sig .tc := ⟨.hbm, 1348, rfl⟩
abbrev main_call41_v2 : Ref sig .tc := ⟨.hbm, 1349, rfl⟩
abbrev main_call41_v3 : Ref sig .tc := ⟨.hbm, 1350, rfl⟩
abbrev main_call41_v4 : Ref sig .tc := ⟨.hbm, 1351, rfl⟩
abbrev main_v661 : Ref sig .tc := ⟨.hbm, 1352, rfl⟩
abbrev main_v662 : Ref sig .tc := ⟨.hbm, 1353, rfl⟩
abbrev main_c_164 : Ref sig .tc := ⟨.hbm, 1354, rfl⟩
abbrev main_c_165 : Ref sig .tc := ⟨.hbm, 1355, rfl⟩
abbrev main_call42_v0 : Ref sig .tc := ⟨.hbm, 1356, rfl⟩
abbrev main_call42_v1 : Ref sig .tc := ⟨.hbm, 1357, rfl⟩
abbrev main_call42_v2 : Ref sig .tc := ⟨.hbm, 1358, rfl⟩
abbrev main_call42_v3 : Ref sig .tc := ⟨.hbm, 1359, rfl⟩
abbrev main_call42_v4 : Ref sig .tc := ⟨.hbm, 1360, rfl⟩
abbrev main_v663 : Ref sig .tc := ⟨.hbm, 1361, rfl⟩
abbrev main_v664 : Ref sig .tc := ⟨.hbm, 1362, rfl⟩
abbrev main_c_166 : Ref sig .tc := ⟨.hbm, 1363, rfl⟩
abbrev main_v665 : Ref sig .tc := ⟨.hbm, 1364, rfl⟩
abbrev main_v666 : Ref sig .tc := ⟨.hbm, 1365, rfl⟩
abbrev main_v667 : Ref sig .tc := ⟨.hbm, 1366, rfl⟩
abbrev main_v668 : Ref sig .tc := ⟨.hbm, 1367, rfl⟩
abbrev main_v669 : Ref sig .tc := ⟨.hbm, 1368, rfl⟩
abbrev main_v670 : Ref sig .tc := ⟨.hbm, 1369, rfl⟩
abbrev main_call43_c : Ref sig .tc := ⟨.hbm, 1370, rfl⟩
abbrev main_call43_v0 : Ref sig .tc := ⟨.hbm, 1371, rfl⟩
abbrev main_call43_v1 : Ref sig .tc := ⟨.hbm, 1372, rfl⟩
abbrev main_call43_c_0 : Ref sig .tc := ⟨.hbm, 1373, rfl⟩
abbrev main_call43_v2 : Ref sig .tc := ⟨.hbm, 1374, rfl⟩
abbrev main_call43_v3 : Ref sig .tc := ⟨.hbm, 1375, rfl⟩
abbrev main_call43_v4 : Ref sig .tc := ⟨.hbm, 1376, rfl⟩
abbrev main_call43_v5 : Ref sig .tc := ⟨.hbm, 1377, rfl⟩
abbrev main_call43_c_1 : Ref sig .tc := ⟨.hbm, 1378, rfl⟩
abbrev main_call43_c_2 : Ref sig .tc := ⟨.hbm, 1379, rfl⟩
abbrev main_call43_v6 : Ref sig .tc := ⟨.hbm, 1380, rfl⟩
abbrev main_call43_v7 : Ref sig .tc := ⟨.hbm, 1381, rfl⟩
abbrev main_call43_v8 : Ref sig .tc := ⟨.hbm, 1382, rfl⟩
abbrev main_call43_v9 : Ref sig .tc := ⟨.hbm, 1383, rfl⟩
abbrev main_call43_v10 : Ref sig .tc := ⟨.hbm, 1384, rfl⟩
abbrev main_call43_v11 : Ref sig .tc := ⟨.hbm, 1385, rfl⟩
abbrev main_call43_c_3 : Ref sig .tc := ⟨.hbm, 1386, rfl⟩
abbrev main_call43_v12 : Ref sig .tc := ⟨.hbm, 1387, rfl⟩
abbrev main_call43_v13 : Ref sig .tc := ⟨.hbm, 1388, rfl⟩
abbrev main_call43_cst : Ref sig .tc := ⟨.hbm, 1389, rfl⟩
abbrev main_call43_v14 : Ref sig .tc := ⟨.hbm, 1390, rfl⟩
abbrev main_v671 : Ref sig .tc := ⟨.hbm, 1391, rfl⟩
abbrev main_v672 : Ref sig .tc := ⟨.hbm, 1392, rfl⟩
abbrev main_v673 : Ref sig .tc := ⟨.hbm, 1393, rfl⟩
abbrev main_v674 : Ref sig .tc := ⟨.hbm, 1394, rfl⟩
abbrev main_v675 : Ref sig .tc := ⟨.hbm, 1395, rfl⟩
abbrev main_v676 : Ref sig .tc := ⟨.hbm, 1396, rfl⟩
abbrev main_v677 : Ref sig .tc := ⟨.hbm, 1397, rfl⟩
abbrev main_v678 : Ref sig .tc := ⟨.hbm, 1398, rfl⟩
abbrev main_v679 : Ref sig .tc := ⟨.hbm, 1399, rfl⟩
abbrev main_v680 : Ref sig .tc := ⟨.hbm, 1400, rfl⟩
abbrev main_v681 : Ref sig .tc := ⟨.hbm, 1401, rfl⟩
abbrev main_v682 : Ref sig .tc := ⟨.hbm, 1402, rfl⟩
abbrev main_v683 : Ref sig .tc := ⟨.hbm, 1403, rfl⟩
abbrev main_v684 : Ref sig .tc := ⟨.hbm, 1404, rfl⟩
abbrev main_v685 : Ref sig .tc := ⟨.hbm, 1405, rfl⟩
abbrev main_v686 : Ref sig .tc := ⟨.hbm, 1406, rfl⟩
abbrev main_v687 : Ref sig .tc := ⟨.hbm, 1407, rfl⟩
abbrev main_v688 : Ref sig .tc := ⟨.hbm, 1408, rfl⟩
abbrev main_v689 : Ref sig .tc := ⟨.hbm, 1409, rfl⟩
abbrev main_cst_167 : Ref sig .tc := ⟨.hbm, 1410, rfl⟩
abbrev main_v690 : Ref sig .tc := ⟨.hbm, 1411, rfl⟩
abbrev main_v691 : Ref sig .tc := ⟨.hbm, 1412, rfl⟩
abbrev main_cst_168 : Ref sig .tc := ⟨.hbm, 1413, rfl⟩
abbrev main_v692 : Ref sig .tc := ⟨.hbm, 1414, rfl⟩
abbrev main_v693 : Ref sig .tc := ⟨.hbm, 1415, rfl⟩
abbrev main_cst_169 : Ref sig .tc := ⟨.hbm, 1416, rfl⟩
abbrev main_v694 : Ref sig .tc := ⟨.hbm, 1417, rfl⟩
abbrev main_v695 : Ref sig .tc := ⟨.hbm, 1418, rfl⟩
abbrev main_cst_170 : Ref sig .tc := ⟨.hbm, 1419, rfl⟩
abbrev main_v696 : Ref sig .tc := ⟨.hbm, 1420, rfl⟩
abbrev main_v697 : Ref sig .tc := ⟨.hbm, 1421, rfl⟩
abbrev main_v698 : Ref sig .tc := ⟨.hbm, 1422, rfl⟩
abbrev main_v699 : Ref sig .tc := ⟨.hbm, 1423, rfl⟩
abbrev main_cst_171 : Ref sig .tc := ⟨.hbm, 1424, rfl⟩
abbrev main_v700 : Ref sig .tc := ⟨.hbm, 1425, rfl⟩
abbrev main_v701 : Ref sig .tc := ⟨.hbm, 1426, rfl⟩
abbrev main_cst_172 : Ref sig .tc := ⟨.hbm, 1427, rfl⟩
abbrev main_v702 : Ref sig .tc := ⟨.hbm, 1428, rfl⟩
abbrev main_v703 : Ref sig .tc := ⟨.hbm, 1429, rfl⟩
abbrev main_cst_173 : Ref sig .tc := ⟨.hbm, 1430, rfl⟩
abbrev main_v704 : Ref sig .tc := ⟨.hbm, 1431, rfl⟩
abbrev main_v705 : Ref sig .tc := ⟨.hbm, 1432, rfl⟩
abbrev main_cst_174 : Ref sig .tc := ⟨.hbm, 1433, rfl⟩
abbrev main_v706 : Ref sig .tc := ⟨.hbm, 1434, rfl⟩
abbrev main_v707 : Ref sig .tc := ⟨.hbm, 1435, rfl⟩
abbrev main_v708 : Ref sig .tc := ⟨.hbm, 1436, rfl⟩
abbrev main_v709 : Ref sig .tc := ⟨.hbm, 1437, rfl⟩
abbrev main_cst_175 : Ref sig .tc := ⟨.hbm, 1438, rfl⟩
abbrev main_v710 : Ref sig .tc := ⟨.hbm, 1439, rfl⟩
abbrev main_v711 : Ref sig .tc := ⟨.hbm, 1440, rfl⟩
abbrev main_cst_176 : Ref sig .tc := ⟨.hbm, 1441, rfl⟩
abbrev main_v712 : Ref sig .tc := ⟨.hbm, 1442, rfl⟩
abbrev main_v713 : Ref sig .tc := ⟨.hbm, 1443, rfl⟩
abbrev main_v714 : Ref sig .tc := ⟨.hbm, 1444, rfl⟩
abbrev main_v715 : Ref sig .tc := ⟨.hbm, 1445, rfl⟩
abbrev main_v716 : Ref sig .tc := ⟨.hbm, 1446, rfl⟩
abbrev main_v717 : Ref sig .tc := ⟨.hbm, 1447, rfl⟩
abbrev main_v718 : Ref sig .tc := ⟨.hbm, 1448, rfl⟩
abbrev main_v719 : Ref sig .tc := ⟨.hbm, 1449, rfl⟩
abbrev main_v720 : Ref sig .tc := ⟨.hbm, 1450, rfl⟩
abbrev main_v721 : Ref sig .tc := ⟨.hbm, 1451, rfl⟩
abbrev main_v722 : Ref sig .tc := ⟨.hbm, 1452, rfl⟩
abbrev main_v723 : Ref sig .tc := ⟨.hbm, 1453, rfl⟩
abbrev main_v724 : Ref sig .tc := ⟨.hbm, 1454, rfl⟩
abbrev main_v725 : Ref sig .tc := ⟨.hbm, 1455, rfl⟩
abbrev main_v726 : Ref sig .tc := ⟨.hbm, 1456, rfl⟩
abbrev main_cst_177 : Ref sig .tc := ⟨.hbm, 1457, rfl⟩
abbrev main_v727 : Ref sig .tc := ⟨.hbm, 1458, rfl⟩
abbrev main_v728 : Ref sig .tc := ⟨.hbm, 1459, rfl⟩
abbrev main_cst_178 : Ref sig .tc := ⟨.hbm, 1460, rfl⟩
abbrev main_v729 : Ref sig .tc := ⟨.hbm, 1461, rfl⟩
abbrev main_v730 : Ref sig .tc := ⟨.hbm, 1462, rfl⟩
abbrev main_v731 : Ref sig .tc := ⟨.hbm, 1463, rfl⟩
abbrev main_cst_179 : Ref sig .tc := ⟨.hbm, 1464, rfl⟩
abbrev main_v732 : Ref sig .tc := ⟨.hbm, 1465, rfl⟩
abbrev main_v733 : Ref sig .tc := ⟨.hbm, 1466, rfl⟩
abbrev main_v734 : Ref sig .tc := ⟨.hbm, 1467, rfl⟩
abbrev main_cst_180 : Ref sig .tc := ⟨.hbm, 1468, rfl⟩
abbrev main_v735 : Ref sig .tc := ⟨.hbm, 1469, rfl⟩
abbrev main_v736 : Ref sig .tc := ⟨.hbm, 1470, rfl⟩
abbrev main_v737 : Ref sig .tc := ⟨.hbm, 1471, rfl⟩
abbrev main_c_181 : Ref sig .tc := ⟨.hbm, 1472, rfl⟩
abbrev main_c_182 : Ref sig .tc := ⟨.hbm, 1473, rfl⟩
abbrev main_call44_v0 : Ref sig .tc := ⟨.hbm, 1474, rfl⟩
abbrev main_call44_v1 : Ref sig .tc := ⟨.hbm, 1475, rfl⟩
abbrev main_call44_v2 : Ref sig .tc := ⟨.hbm, 1476, rfl⟩
abbrev main_call44_v3 : Ref sig .tc := ⟨.hbm, 1477, rfl⟩
abbrev main_call44_v4 : Ref sig .tc := ⟨.hbm, 1478, rfl⟩
abbrev main_v738 : Ref sig .tc := ⟨.hbm, 1479, rfl⟩
abbrev main_v739 : Ref sig .tc := ⟨.hbm, 1480, rfl⟩
abbrev main_c_183 : Ref sig .tc := ⟨.hbm, 1481, rfl⟩
abbrev main_c_184 : Ref sig .tc := ⟨.hbm, 1482, rfl⟩
abbrev main_call45_v0 : Ref sig .tc := ⟨.hbm, 1483, rfl⟩
abbrev main_call45_v1 : Ref sig .tc := ⟨.hbm, 1484, rfl⟩
abbrev main_call45_v2 : Ref sig .tc := ⟨.hbm, 1485, rfl⟩
abbrev main_call45_v3 : Ref sig .tc := ⟨.hbm, 1486, rfl⟩
abbrev main_call45_v4 : Ref sig .tc := ⟨.hbm, 1487, rfl⟩
abbrev main_v740 : Ref sig .tc := ⟨.hbm, 1488, rfl⟩
abbrev main_v741 : Ref sig .tc := ⟨.hbm, 1489, rfl⟩
abbrev main_c_185 : Ref sig .tc := ⟨.hbm, 1490, rfl⟩
abbrev main_v742 : Ref sig .tc := ⟨.hbm, 1491, rfl⟩
abbrev main_v743 : Ref sig .tc := ⟨.hbm, 1492, rfl⟩
abbrev main_v744 : Ref sig .tc := ⟨.hbm, 1493, rfl⟩
abbrev main_v745 : Ref sig .tc := ⟨.hbm, 1494, rfl⟩
abbrev main_v746 : Ref sig .tc := ⟨.hbm, 1495, rfl⟩
abbrev main_v747 : Ref sig .tc := ⟨.hbm, 1496, rfl⟩
abbrev main_call46_c : Ref sig .tc := ⟨.hbm, 1497, rfl⟩
abbrev main_call46_v0 : Ref sig .tc := ⟨.hbm, 1498, rfl⟩
abbrev main_call46_v1 : Ref sig .tc := ⟨.hbm, 1499, rfl⟩
abbrev main_call46_c_0 : Ref sig .tc := ⟨.hbm, 1500, rfl⟩
abbrev main_call46_v2 : Ref sig .tc := ⟨.hbm, 1501, rfl⟩
abbrev main_call46_v3 : Ref sig .tc := ⟨.hbm, 1502, rfl⟩
abbrev main_call46_v4 : Ref sig .tc := ⟨.hbm, 1503, rfl⟩
abbrev main_call46_v5 : Ref sig .tc := ⟨.hbm, 1504, rfl⟩
abbrev main_call46_c_1 : Ref sig .tc := ⟨.hbm, 1505, rfl⟩
abbrev main_call46_c_2 : Ref sig .tc := ⟨.hbm, 1506, rfl⟩
abbrev main_call46_v6 : Ref sig .tc := ⟨.hbm, 1507, rfl⟩
abbrev main_call46_v7 : Ref sig .tc := ⟨.hbm, 1508, rfl⟩
abbrev main_call46_v8 : Ref sig .tc := ⟨.hbm, 1509, rfl⟩
abbrev main_call46_v9 : Ref sig .tc := ⟨.hbm, 1510, rfl⟩
abbrev main_call46_v10 : Ref sig .tc := ⟨.hbm, 1511, rfl⟩
abbrev main_call46_v11 : Ref sig .tc := ⟨.hbm, 1512, rfl⟩
abbrev main_call46_c_3 : Ref sig .tc := ⟨.hbm, 1513, rfl⟩
abbrev main_call46_v12 : Ref sig .tc := ⟨.hbm, 1514, rfl⟩
abbrev main_call46_v13 : Ref sig .tc := ⟨.hbm, 1515, rfl⟩
abbrev main_call46_cst : Ref sig .tc := ⟨.hbm, 1516, rfl⟩
abbrev main_call46_v14 : Ref sig .tc := ⟨.hbm, 1517, rfl⟩
abbrev main_v748 : Ref sig .tc := ⟨.hbm, 1518, rfl⟩
abbrev main_v749 : Ref sig .tc := ⟨.hbm, 1519, rfl⟩
abbrev main_v750 : Ref sig .tc := ⟨.hbm, 1520, rfl⟩
abbrev main_v751 : Ref sig .tc := ⟨.hbm, 1521, rfl⟩
abbrev main_v752 : Ref sig .tc := ⟨.hbm, 1522, rfl⟩
abbrev main_v753 : Ref sig .tc := ⟨.hbm, 1523, rfl⟩
abbrev main_v754 : Ref sig .tc := ⟨.hbm, 1524, rfl⟩
abbrev main_v755 : Ref sig .tc := ⟨.hbm, 1525, rfl⟩
abbrev main_v756 : Ref sig .tc := ⟨.hbm, 1526, rfl⟩
abbrev main_cst_186 : Ref sig .tc := ⟨.hbm, 1527, rfl⟩
abbrev main_v757 : Ref sig .tc := ⟨.hbm, 1528, rfl⟩
abbrev main_v758 : Ref sig .tc := ⟨.hbm, 1529, rfl⟩
abbrev main_cst_187 : Ref sig .tc := ⟨.hbm, 1530, rfl⟩
abbrev main_v759 : Ref sig .tc := ⟨.hbm, 1531, rfl⟩
abbrev main_v760 : Ref sig .tc := ⟨.hbm, 1532, rfl⟩
abbrev main_v761 : Ref sig .tc := ⟨.hbm, 1533, rfl⟩
abbrev main_cst_188 : Ref sig .tc := ⟨.hbm, 1534, rfl⟩
abbrev main_v762 : Ref sig .tc := ⟨.hbm, 1535, rfl⟩
abbrev main_v763 : Ref sig .tc := ⟨.hbm, 1536, rfl⟩
abbrev main_v764 : Ref sig .tc := ⟨.hbm, 1537, rfl⟩
abbrev main_cst_189 : Ref sig .tc := ⟨.hbm, 1538, rfl⟩
abbrev main_v765 : Ref sig .tc := ⟨.hbm, 1539, rfl⟩
abbrev main_v766 : Ref sig .tc := ⟨.hbm, 1540, rfl⟩
abbrev main_v767 : Ref sig .tc := ⟨.hbm, 1541, rfl⟩
abbrev main_c_190 : Ref sig .tc := ⟨.hbm, 1542, rfl⟩
abbrev main_c_191 : Ref sig .tc := ⟨.hbm, 1543, rfl⟩
abbrev main_call47_v0 : Ref sig .tc := ⟨.hbm, 1544, rfl⟩
abbrev main_call47_v1 : Ref sig .tc := ⟨.hbm, 1545, rfl⟩
abbrev main_call47_v2 : Ref sig .tc := ⟨.hbm, 1546, rfl⟩
abbrev main_call47_v3 : Ref sig .tc := ⟨.hbm, 1547, rfl⟩
abbrev main_call47_v4 : Ref sig .tc := ⟨.hbm, 1548, rfl⟩
abbrev main_v768 : Ref sig .tc := ⟨.hbm, 1549, rfl⟩
abbrev main_v769 : Ref sig .tc := ⟨.hbm, 1550, rfl⟩
abbrev main_c_192 : Ref sig .tc := ⟨.hbm, 1551, rfl⟩
abbrev main_c_193 : Ref sig .tc := ⟨.hbm, 1552, rfl⟩
abbrev main_call48_v0 : Ref sig .tc := ⟨.hbm, 1553, rfl⟩
abbrev main_call48_v1 : Ref sig .tc := ⟨.hbm, 1554, rfl⟩
abbrev main_call48_v2 : Ref sig .tc := ⟨.hbm, 1555, rfl⟩
abbrev main_call48_v3 : Ref sig .tc := ⟨.hbm, 1556, rfl⟩
abbrev main_call48_v4 : Ref sig .tc := ⟨.hbm, 1557, rfl⟩
abbrev main_v770 : Ref sig .tc := ⟨.hbm, 1558, rfl⟩
abbrev main_v771 : Ref sig .tc := ⟨.hbm, 1559, rfl⟩
abbrev main_c_194 : Ref sig .tc := ⟨.hbm, 1560, rfl⟩
abbrev main_v772 : Ref sig .tc := ⟨.hbm, 1561, rfl⟩
abbrev main_v773 : Ref sig .tc := ⟨.hbm, 1562, rfl⟩
abbrev main_v774 : Ref sig .tc := ⟨.hbm, 1563, rfl⟩
abbrev main_v775 : Ref sig .tc := ⟨.hbm, 1564, rfl⟩
abbrev main_v776 : Ref sig .tc := ⟨.hbm, 1565, rfl⟩
abbrev main_v777 : Ref sig .tc := ⟨.hbm, 1566, rfl⟩
abbrev main_call49_c : Ref sig .tc := ⟨.hbm, 1567, rfl⟩
abbrev main_call49_v0 : Ref sig .tc := ⟨.hbm, 1568, rfl⟩
abbrev main_call49_v1 : Ref sig .tc := ⟨.hbm, 1569, rfl⟩
abbrev main_call49_c_0 : Ref sig .tc := ⟨.hbm, 1570, rfl⟩
abbrev main_call49_v2 : Ref sig .tc := ⟨.hbm, 1571, rfl⟩
abbrev main_call49_v3 : Ref sig .tc := ⟨.hbm, 1572, rfl⟩
abbrev main_call49_v4 : Ref sig .tc := ⟨.hbm, 1573, rfl⟩
abbrev main_call49_v5 : Ref sig .tc := ⟨.hbm, 1574, rfl⟩
abbrev main_call49_c_1 : Ref sig .tc := ⟨.hbm, 1575, rfl⟩
abbrev main_call49_c_2 : Ref sig .tc := ⟨.hbm, 1576, rfl⟩
abbrev main_call49_v6 : Ref sig .tc := ⟨.hbm, 1577, rfl⟩
abbrev main_call49_v7 : Ref sig .tc := ⟨.hbm, 1578, rfl⟩
abbrev main_call49_v8 : Ref sig .tc := ⟨.hbm, 1579, rfl⟩
abbrev main_call49_v9 : Ref sig .tc := ⟨.hbm, 1580, rfl⟩
abbrev main_call49_v10 : Ref sig .tc := ⟨.hbm, 1581, rfl⟩
abbrev main_call49_v11 : Ref sig .tc := ⟨.hbm, 1582, rfl⟩
abbrev main_call49_c_3 : Ref sig .tc := ⟨.hbm, 1583, rfl⟩
abbrev main_call49_v12 : Ref sig .tc := ⟨.hbm, 1584, rfl⟩
abbrev main_call49_v13 : Ref sig .tc := ⟨.hbm, 1585, rfl⟩
abbrev main_call49_cst : Ref sig .tc := ⟨.hbm, 1586, rfl⟩
abbrev main_call49_v14 : Ref sig .tc := ⟨.hbm, 1587, rfl⟩
abbrev main_v778 : Ref sig .tc := ⟨.hbm, 1588, rfl⟩
abbrev main_v779 : Ref sig .tc := ⟨.hbm, 1589, rfl⟩
abbrev main_v780 : Ref sig .tc := ⟨.hbm, 1590, rfl⟩
abbrev main_v781 : Ref sig .tc := ⟨.hbm, 1591, rfl⟩
abbrev main_v782 : Ref sig .tc := ⟨.hbm, 1592, rfl⟩
abbrev main_v783 : Ref sig .tc := ⟨.hbm, 1593, rfl⟩
abbrev main_v784 : Ref sig .tc := ⟨.hbm, 1594, rfl⟩
abbrev main_v785 : Ref sig .tc := ⟨.hbm, 1595, rfl⟩
abbrev main_v786 : Ref sig .tc := ⟨.hbm, 1596, rfl⟩
abbrev main_v787 : Ref sig .tc := ⟨.hbm, 1597, rfl⟩
abbrev main_cst_195 : Ref sig .tc := ⟨.hbm, 1598, rfl⟩
abbrev main_v788 : Ref sig .tc := ⟨.hbm, 1599, rfl⟩
abbrev main_v789 : Ref sig .tc := ⟨.hbm, 1600, rfl⟩
abbrev main_cst_196 : Ref sig .tc := ⟨.hbm, 1601, rfl⟩
abbrev main_v790 : Ref sig .tc := ⟨.hbm, 1602, rfl⟩
abbrev main_v791 : Ref sig .tc := ⟨.hbm, 1603, rfl⟩
abbrev main_v792 : Ref sig .tc := ⟨.hbm, 1604, rfl⟩
abbrev main_cst_197 : Ref sig .tc := ⟨.hbm, 1605, rfl⟩
abbrev main_v793 : Ref sig .tc := ⟨.hbm, 1606, rfl⟩
abbrev main_v794 : Ref sig .tc := ⟨.hbm, 1607, rfl⟩
abbrev main_v795 : Ref sig .tc := ⟨.hbm, 1608, rfl⟩
abbrev main_cst_198 : Ref sig .tc := ⟨.hbm, 1609, rfl⟩
abbrev main_v796 : Ref sig .tc := ⟨.hbm, 1610, rfl⟩
abbrev main_v797 : Ref sig .tc := ⟨.hbm, 1611, rfl⟩
abbrev main_v798 : Ref sig .tc := ⟨.hbm, 1612, rfl⟩
abbrev main_c_199 : Ref sig .tc := ⟨.hbm, 1613, rfl⟩
abbrev main_c_200 : Ref sig .tc := ⟨.hbm, 1614, rfl⟩
abbrev main_call50_v0 : Ref sig .tc := ⟨.hbm, 1615, rfl⟩
abbrev main_call50_v1 : Ref sig .tc := ⟨.hbm, 1616, rfl⟩
abbrev main_call50_v2 : Ref sig .tc := ⟨.hbm, 1617, rfl⟩
abbrev main_call50_v3 : Ref sig .tc := ⟨.hbm, 1618, rfl⟩
abbrev main_call50_v4 : Ref sig .tc := ⟨.hbm, 1619, rfl⟩
abbrev main_v799 : Ref sig .tc := ⟨.hbm, 1620, rfl⟩
abbrev main_v800 : Ref sig .tc := ⟨.hbm, 1621, rfl⟩
abbrev main_c_201 : Ref sig .tc := ⟨.hbm, 1622, rfl⟩
abbrev main_c_202 : Ref sig .tc := ⟨.hbm, 1623, rfl⟩
abbrev main_call51_v0 : Ref sig .tc := ⟨.hbm, 1624, rfl⟩
abbrev main_call51_v1 : Ref sig .tc := ⟨.hbm, 1625, rfl⟩
abbrev main_call51_v2 : Ref sig .tc := ⟨.hbm, 1626, rfl⟩
abbrev main_call51_v3 : Ref sig .tc := ⟨.hbm, 1627, rfl⟩
abbrev main_call51_v4 : Ref sig .tc := ⟨.hbm, 1628, rfl⟩
abbrev main_v801 : Ref sig .tc := ⟨.hbm, 1629, rfl⟩
abbrev main_v802 : Ref sig .tc := ⟨.hbm, 1630, rfl⟩
abbrev main_c_203 : Ref sig .tc := ⟨.hbm, 1631, rfl⟩
abbrev main_v803 : Ref sig .tc := ⟨.hbm, 1632, rfl⟩
abbrev main_v804 : Ref sig .tc := ⟨.hbm, 1633, rfl⟩
abbrev main_v805 : Ref sig .tc := ⟨.hbm, 1634, rfl⟩
abbrev main_v806 : Ref sig .tc := ⟨.hbm, 1635, rfl⟩
abbrev main_v807 : Ref sig .tc := ⟨.hbm, 1636, rfl⟩
abbrev main_v808 : Ref sig .tc := ⟨.hbm, 1637, rfl⟩
abbrev main_call52_c : Ref sig .tc := ⟨.hbm, 1638, rfl⟩
abbrev main_call52_v0 : Ref sig .tc := ⟨.hbm, 1639, rfl⟩
abbrev main_call52_v1 : Ref sig .tc := ⟨.hbm, 1640, rfl⟩
abbrev main_call52_c_0 : Ref sig .tc := ⟨.hbm, 1641, rfl⟩
abbrev main_call52_v2 : Ref sig .tc := ⟨.hbm, 1642, rfl⟩
abbrev main_call52_v3 : Ref sig .tc := ⟨.hbm, 1643, rfl⟩
abbrev main_call52_v4 : Ref sig .tc := ⟨.hbm, 1644, rfl⟩
abbrev main_call52_v5 : Ref sig .tc := ⟨.hbm, 1645, rfl⟩
abbrev main_call52_c_1 : Ref sig .tc := ⟨.hbm, 1646, rfl⟩
abbrev main_call52_c_2 : Ref sig .tc := ⟨.hbm, 1647, rfl⟩
abbrev main_call52_v6 : Ref sig .tc := ⟨.hbm, 1648, rfl⟩
abbrev main_call52_v7 : Ref sig .tc := ⟨.hbm, 1649, rfl⟩
abbrev main_call52_v8 : Ref sig .tc := ⟨.hbm, 1650, rfl⟩
abbrev main_call52_v9 : Ref sig .tc := ⟨.hbm, 1651, rfl⟩
abbrev main_call52_v10 : Ref sig .tc := ⟨.hbm, 1652, rfl⟩
abbrev main_call52_v11 : Ref sig .tc := ⟨.hbm, 1653, rfl⟩
abbrev main_call52_c_3 : Ref sig .tc := ⟨.hbm, 1654, rfl⟩
abbrev main_call52_v12 : Ref sig .tc := ⟨.hbm, 1655, rfl⟩
abbrev main_call52_v13 : Ref sig .tc := ⟨.hbm, 1656, rfl⟩
abbrev main_call52_cst : Ref sig .tc := ⟨.hbm, 1657, rfl⟩
abbrev main_call52_v14 : Ref sig .tc := ⟨.hbm, 1658, rfl⟩
abbrev main_v809 : Ref sig .tc := ⟨.hbm, 1659, rfl⟩
abbrev main_v810 : Ref sig .tc := ⟨.hbm, 1660, rfl⟩
abbrev main_v811 : Ref sig .tc := ⟨.hbm, 1661, rfl⟩
abbrev main_v812 : Ref sig .tc := ⟨.hbm, 1662, rfl⟩
abbrev main_v813 : Ref sig .tc := ⟨.hbm, 1663, rfl⟩
abbrev main_v814 : Ref sig .tc := ⟨.hbm, 1664, rfl⟩
abbrev main_v815 : Ref sig .tc := ⟨.hbm, 1665, rfl⟩
abbrev main_v816 : Ref sig .tc := ⟨.hbm, 1666, rfl⟩
abbrev main_v817 : Ref sig .tc := ⟨.hbm, 1667, rfl⟩
abbrev main_v818 : Ref sig .tc := ⟨.hbm, 1668, rfl⟩
abbrev main_cst_204 : Ref sig .tc := ⟨.hbm, 1669, rfl⟩
abbrev main_v819 : Ref sig .tc := ⟨.hbm, 1670, rfl⟩
abbrev main_v820 : Ref sig .tc := ⟨.hbm, 1671, rfl⟩
abbrev main_cst_205 : Ref sig .tc := ⟨.hbm, 1672, rfl⟩
abbrev main_v821 : Ref sig .tc := ⟨.hbm, 1673, rfl⟩
abbrev main_v822 : Ref sig .tc := ⟨.hbm, 1674, rfl⟩
abbrev main_v823 : Ref sig .tc := ⟨.hbm, 1675, rfl⟩
abbrev main_cst_206 : Ref sig .tc := ⟨.hbm, 1676, rfl⟩
abbrev main_v824 : Ref sig .tc := ⟨.hbm, 1677, rfl⟩
abbrev main_v825 : Ref sig .tc := ⟨.hbm, 1678, rfl⟩
abbrev main_v826 : Ref sig .tc := ⟨.hbm, 1679, rfl⟩
abbrev main_cst_207 : Ref sig .tc := ⟨.hbm, 1680, rfl⟩
abbrev main_v827 : Ref sig .tc := ⟨.hbm, 1681, rfl⟩
abbrev main_v828 : Ref sig .tc := ⟨.hbm, 1682, rfl⟩
abbrev main_v829 : Ref sig .tc := ⟨.hbm, 1683, rfl⟩
abbrev main_c_208 : Ref sig .tc := ⟨.hbm, 1684, rfl⟩
abbrev main_c_209 : Ref sig .tc := ⟨.hbm, 1685, rfl⟩
abbrev main_call53_v0 : Ref sig .tc := ⟨.hbm, 1686, rfl⟩
abbrev main_call53_v1 : Ref sig .tc := ⟨.hbm, 1687, rfl⟩
abbrev main_call53_v2 : Ref sig .tc := ⟨.hbm, 1688, rfl⟩
abbrev main_call53_v3 : Ref sig .tc := ⟨.hbm, 1689, rfl⟩
abbrev main_call53_v4 : Ref sig .tc := ⟨.hbm, 1690, rfl⟩
abbrev main_v830 : Ref sig .tc := ⟨.hbm, 1691, rfl⟩
abbrev main_v831 : Ref sig .tc := ⟨.hbm, 1692, rfl⟩
abbrev main_c_210 : Ref sig .tc := ⟨.hbm, 1693, rfl⟩
abbrev main_c_211 : Ref sig .tc := ⟨.hbm, 1694, rfl⟩
abbrev main_call54_v0 : Ref sig .tc := ⟨.hbm, 1695, rfl⟩
abbrev main_call54_v1 : Ref sig .tc := ⟨.hbm, 1696, rfl⟩
abbrev main_call54_v2 : Ref sig .tc := ⟨.hbm, 1697, rfl⟩
abbrev main_call54_v3 : Ref sig .tc := ⟨.hbm, 1698, rfl⟩
abbrev main_call54_v4 : Ref sig .tc := ⟨.hbm, 1699, rfl⟩
abbrev main_v832 : Ref sig .tc := ⟨.hbm, 1700, rfl⟩
abbrev main_v833 : Ref sig .tc := ⟨.hbm, 1701, rfl⟩
abbrev main_c_212 : Ref sig .tc := ⟨.hbm, 1702, rfl⟩
abbrev main_v834 : Ref sig .tc := ⟨.hbm, 1703, rfl⟩
abbrev main_v835 : Ref sig .tc := ⟨.hbm, 1704, rfl⟩
abbrev main_v836 : Ref sig .tc := ⟨.hbm, 1705, rfl⟩
abbrev main_v837 : Ref sig .tc := ⟨.hbm, 1706, rfl⟩
abbrev main_v838 : Ref sig .tc := ⟨.hbm, 1707, rfl⟩
abbrev main_v839 : Ref sig .tc := ⟨.hbm, 1708, rfl⟩
abbrev main_call55_c : Ref sig .tc := ⟨.hbm, 1709, rfl⟩
abbrev main_call55_v0 : Ref sig .tc := ⟨.hbm, 1710, rfl⟩
abbrev main_call55_v1 : Ref sig .tc := ⟨.hbm, 1711, rfl⟩
abbrev main_call55_c_0 : Ref sig .tc := ⟨.hbm, 1712, rfl⟩
abbrev main_call55_v2 : Ref sig .tc := ⟨.hbm, 1713, rfl⟩
abbrev main_call55_v3 : Ref sig .tc := ⟨.hbm, 1714, rfl⟩
abbrev main_call55_v4 : Ref sig .tc := ⟨.hbm, 1715, rfl⟩
abbrev main_call55_v5 : Ref sig .tc := ⟨.hbm, 1716, rfl⟩
abbrev main_call55_c_1 : Ref sig .tc := ⟨.hbm, 1717, rfl⟩
abbrev main_call55_c_2 : Ref sig .tc := ⟨.hbm, 1718, rfl⟩
abbrev main_call55_v6 : Ref sig .tc := ⟨.hbm, 1719, rfl⟩
abbrev main_call55_v7 : Ref sig .tc := ⟨.hbm, 1720, rfl⟩
abbrev main_call55_v8 : Ref sig .tc := ⟨.hbm, 1721, rfl⟩
abbrev main_call55_v9 : Ref sig .tc := ⟨.hbm, 1722, rfl⟩
abbrev main_call55_v10 : Ref sig .tc := ⟨.hbm, 1723, rfl⟩
abbrev main_call55_v11 : Ref sig .tc := ⟨.hbm, 1724, rfl⟩
abbrev main_call55_c_3 : Ref sig .tc := ⟨.hbm, 1725, rfl⟩
abbrev main_call55_v12 : Ref sig .tc := ⟨.hbm, 1726, rfl⟩
abbrev main_call55_v13 : Ref sig .tc := ⟨.hbm, 1727, rfl⟩
abbrev main_call55_cst : Ref sig .tc := ⟨.hbm, 1728, rfl⟩
abbrev main_call55_v14 : Ref sig .tc := ⟨.hbm, 1729, rfl⟩
abbrev main_v840 : Ref sig .tc := ⟨.hbm, 1730, rfl⟩
abbrev main_v841 : Ref sig .tc := ⟨.hbm, 1731, rfl⟩
abbrev main_v842 : Ref sig .tc := ⟨.hbm, 1732, rfl⟩
abbrev main_v843 : Ref sig .tc := ⟨.hbm, 1733, rfl⟩
abbrev main_v844 : Ref sig .tc := ⟨.hbm, 1734, rfl⟩
abbrev main_v845 : Ref sig .tc := ⟨.hbm, 1735, rfl⟩
abbrev main_v846 : Ref sig .tc := ⟨.hbm, 1736, rfl⟩
abbrev main_v847 : Ref sig .tc := ⟨.hbm, 1737, rfl⟩
abbrev main_v848 : Ref sig .tc := ⟨.hbm, 1738, rfl⟩
abbrev main_v849 : Ref sig .tc := ⟨.hbm, 1739, rfl⟩
abbrev main_v850 : Ref sig .tc := ⟨.hbm, 1740, rfl⟩
abbrev main_v851 : Ref sig .tc := ⟨.hbm, 1741, rfl⟩
abbrev main_v852 : Ref sig .tc := ⟨.hbm, 1742, rfl⟩
abbrev main_v853 : Ref sig .tc := ⟨.hbm, 1743, rfl⟩
abbrev main_v854 : Ref sig .tc := ⟨.hbm, 1744, rfl⟩
abbrev main_v855 : Ref sig .tc := ⟨.hbm, 1745, rfl⟩
abbrev main_v856 : Ref sig .tc := ⟨.hbm, 1746, rfl⟩
abbrev main_v857 : Ref sig .tc := ⟨.hbm, 1747, rfl⟩
abbrev main_v858 : Ref sig .tc := ⟨.hbm, 1748, rfl⟩
abbrev main_v859 : Ref sig .tc := ⟨.hbm, 1749, rfl⟩
abbrev main_cst_213 : Ref sig .tc := ⟨.hbm, 1750, rfl⟩
abbrev main_v860 : Ref sig .tc := ⟨.hbm, 1751, rfl⟩
abbrev main_v861 : Ref sig .tc := ⟨.hbm, 1752, rfl⟩
abbrev main_v862 : Ref sig .tc := ⟨.hbm, 1753, rfl⟩
abbrev main_v863 : Ref sig .tc := ⟨.hbm, 1754, rfl⟩
abbrev main_v864 : Ref sig .tc := ⟨.hbm, 1755, rfl⟩
abbrev main_v865 : Ref sig .tc := ⟨.hbm, 1756, rfl⟩
abbrev main_v866 : Ref sig .tc := ⟨.hbm, 1757, rfl⟩
abbrev main_v867 : Ref sig .tc := ⟨.hbm, 1758, rfl⟩
abbrev main_v868 : Ref sig .tc := ⟨.hbm, 1759, rfl⟩
abbrev main_v869 : Ref sig .tc := ⟨.hbm, 1760, rfl⟩
abbrev main_v870 : Ref sig .tc := ⟨.hbm, 1761, rfl⟩
abbrev main_v871 : Ref sig .tc := ⟨.hbm, 1762, rfl⟩
abbrev main_v872 : Ref sig .tc := ⟨.hbm, 1763, rfl⟩
abbrev main_v873 : Ref sig .tc := ⟨.hbm, 1764, rfl⟩
abbrev main_v874 : Ref sig .tc := ⟨.hbm, 1765, rfl⟩
abbrev main_v875 : Ref sig .tc := ⟨.hbm, 1766, rfl⟩
abbrev main_cst_214 : Ref sig .tc := ⟨.hbm, 1767, rfl⟩
abbrev main_v876 : Ref sig .tc := ⟨.hbm, 1768, rfl⟩
abbrev main_v877 : Ref sig .tc := ⟨.hbm, 1769, rfl⟩
abbrev main_cst_215 : Ref sig .tc := ⟨.hbm, 1770, rfl⟩
abbrev main_v878 : Ref sig .tc := ⟨.hbm, 1771, rfl⟩
abbrev main_v879 : Ref sig .tc := ⟨.hbm, 1772, rfl⟩
abbrev main_v880 : Ref sig .tc := ⟨.hbm, 1773, rfl⟩
abbrev main_v881 : Ref sig .tc := ⟨.hbm, 1774, rfl⟩
abbrev main_v882 : Ref sig .tc := ⟨.hbm, 1775, rfl⟩
abbrev main_cst_216 : Ref sig .tc := ⟨.hbm, 1776, rfl⟩
abbrev main_v883 : Ref sig .tc := ⟨.hbm, 1777, rfl⟩
abbrev main_v884 : Ref sig .tc := ⟨.hbm, 1778, rfl⟩
abbrev main_cst_217 : Ref sig .tc := ⟨.hbm, 1779, rfl⟩
abbrev main_v885 : Ref sig .tc := ⟨.hbm, 1780, rfl⟩
abbrev main_v886 : Ref sig .tc := ⟨.hbm, 1781, rfl⟩
abbrev main_v887 : Ref sig .tc := ⟨.hbm, 1782, rfl⟩
abbrev main_v888 : Ref sig .tc := ⟨.hbm, 1783, rfl⟩
abbrev main_cst_218 : Ref sig .tc := ⟨.hbm, 1784, rfl⟩
abbrev main_v889 : Ref sig .tc := ⟨.hbm, 1785, rfl⟩
abbrev main_v890 : Ref sig .tc := ⟨.hbm, 1786, rfl⟩
abbrev main_v891 : Ref sig .tc := ⟨.hbm, 1787, rfl⟩
abbrev main_v892 : Ref sig .tc := ⟨.hbm, 1788, rfl⟩
abbrev main_v893 : Ref sig .tc := ⟨.hbm, 1789, rfl⟩
abbrev main_v894 : Ref sig .tc := ⟨.hbm, 1790, rfl⟩
abbrev main_v895 : Ref sig .tc := ⟨.hbm, 1791, rfl⟩
abbrev main_v896 : Ref sig .tc := ⟨.hbm, 1792, rfl⟩
abbrev main_v897 : Ref sig .tc := ⟨.hbm, 1793, rfl⟩
abbrev main_v898 : Ref sig .tc := ⟨.hbm, 1794, rfl⟩
abbrev main_v899 : Ref sig .tc := ⟨.hbm, 1795, rfl⟩
abbrev main_v900 : Ref sig .tc := ⟨.hbm, 1796, rfl⟩
abbrev main_v901 : Ref sig .tc := ⟨.hbm, 1797, rfl⟩
abbrev main_v902 : Ref sig .tc := ⟨.hbm, 1798, rfl⟩
abbrev main_v903 : Ref sig .tc := ⟨.hbm, 1799, rfl⟩
abbrev main_v904 : Ref sig .tc := ⟨.hbm, 1800, rfl⟩
abbrev main_v905 : Ref sig .tc := ⟨.hbm, 1801, rfl⟩
abbrev main_v906 : Ref sig .tc := ⟨.hbm, 1802, rfl⟩
abbrev main_v907 : Ref sig .tc := ⟨.hbm, 1803, rfl⟩
abbrev main_call56_cst : Ref sig .tc := ⟨.hbm, 1804, rfl⟩
abbrev main_call56_v0 : Ref sig .tc := ⟨.hbm, 1805, rfl⟩
abbrev main_v908 : Ref sig .tc := ⟨.hbm, 1806, rfl⟩
abbrev main_v909 : Ref sig .tc := ⟨.hbm, 1807, rfl⟩
abbrev main_v910 : Ref sig .tc := ⟨.hbm, 1808, rfl⟩
abbrev main_v911 : Ref sig .tc := ⟨.hbm, 1809, rfl⟩
abbrev main_v912 : Ref sig .tc := ⟨.hbm, 1810, rfl⟩
abbrev main_v913 : Ref sig .tc := ⟨.hbm, 1811, rfl⟩
abbrev main_v914 : Ref sig .tc := ⟨.hbm, 1812, rfl⟩
abbrev main_v915 : Ref sig .tc := ⟨.hbm, 1813, rfl⟩
abbrev main_v916 : Ref sig .tc := ⟨.hbm, 1814, rfl⟩
abbrev main_v917 : Ref sig .tc := ⟨.hbm, 1815, rfl⟩
abbrev main_v918 : Ref sig .tc := ⟨.hbm, 1816, rfl⟩
abbrev main_v919 : Ref sig .tc := ⟨.hbm, 1817, rfl⟩
abbrev main_v920 : Ref sig .tc := ⟨.hbm, 1818, rfl⟩
abbrev main_v921 : Ref sig .tc := ⟨.hbm, 1819, rfl⟩
abbrev main_cst_219 : Ref sig .tc := ⟨.hbm, 1820, rfl⟩
abbrev main_v922 : Ref sig .tc := ⟨.hbm, 1821, rfl⟩
abbrev main_v923 : Ref sig .tc := ⟨.hbm, 1822, rfl⟩
abbrev main_cst_220 : Ref sig .tc := ⟨.hbm, 1823, rfl⟩
abbrev main_v924 : Ref sig .tc := ⟨.hbm, 1824, rfl⟩
abbrev main_v925 : Ref sig .tc := ⟨.hbm, 1825, rfl⟩
abbrev main_v926 : Ref sig .tc := ⟨.hbm, 1826, rfl⟩
abbrev main_v927 : Ref sig .tc := ⟨.hbm, 1827, rfl⟩
abbrev main_v928 : Ref sig .tc := ⟨.hbm, 1828, rfl⟩
abbrev main_cst_221 : Ref sig .tc := ⟨.hbm, 1829, rfl⟩
abbrev main_v929 : Ref sig .tc := ⟨.hbm, 1830, rfl⟩
abbrev main_v930 : Ref sig .tc := ⟨.hbm, 1831, rfl⟩
abbrev main_cst_222 : Ref sig .tc := ⟨.hbm, 1832, rfl⟩
abbrev main_v931 : Ref sig .tc := ⟨.hbm, 1833, rfl⟩
abbrev main_v932 : Ref sig .tc := ⟨.hbm, 1834, rfl⟩
abbrev main_v933 : Ref sig .tc := ⟨.hbm, 1835, rfl⟩
abbrev main_v934 : Ref sig .tc := ⟨.hbm, 1836, rfl⟩
abbrev main_cst_223 : Ref sig .tc := ⟨.hbm, 1837, rfl⟩
abbrev main_v935 : Ref sig .tc := ⟨.hbm, 1838, rfl⟩
abbrev main_v936 : Ref sig .tc := ⟨.hbm, 1839, rfl⟩
abbrev main_v937 : Ref sig .tc := ⟨.hbm, 1840, rfl⟩
abbrev main_v938 : Ref sig .tc := ⟨.hbm, 1841, rfl⟩
abbrev main_v939 : Ref sig .tc := ⟨.hbm, 1842, rfl⟩
abbrev main_v940 : Ref sig .tc := ⟨.hbm, 1843, rfl⟩
abbrev main_v941 : Ref sig .tc := ⟨.hbm, 1844, rfl⟩
abbrev main_v942 : Ref sig .tc := ⟨.hbm, 1845, rfl⟩
abbrev main_v943 : Ref sig .tc := ⟨.hbm, 1846, rfl⟩
abbrev main_v944 : Ref sig .tc := ⟨.hbm, 1847, rfl⟩
abbrev main_v945 : Ref sig .tc := ⟨.hbm, 1848, rfl⟩
abbrev main_v946 : Ref sig .tc := ⟨.hbm, 1849, rfl⟩
abbrev main_v947 : Ref sig .tc := ⟨.hbm, 1850, rfl⟩
abbrev main_v948 : Ref sig .tc := ⟨.hbm, 1851, rfl⟩
abbrev main_v949 : Ref sig .tc := ⟨.hbm, 1852, rfl⟩
abbrev main_v950 : Ref sig .tc := ⟨.hbm, 1853, rfl⟩
abbrev main_v951 : Ref sig .tc := ⟨.hbm, 1854, rfl⟩
abbrev main_v952 : Ref sig .tc := ⟨.hbm, 1855, rfl⟩
abbrev main_v953 : Ref sig .tc := ⟨.hbm, 1856, rfl⟩
abbrev main_v954 : Ref sig .tc := ⟨.hbm, 1857, rfl⟩
abbrev main_v955 : Ref sig .tc := ⟨.hbm, 1858, rfl⟩
abbrev main_v956 : Ref sig .tc := ⟨.hbm, 1859, rfl⟩
abbrev main_v957 : Ref sig .tc := ⟨.hbm, 1860, rfl⟩
abbrev main_v958 : Ref sig .tc := ⟨.hbm, 1861, rfl⟩
abbrev main_v959 : Ref sig .tc := ⟨.hbm, 1862, rfl⟩
abbrev main_v960 : Ref sig .tc := ⟨.hbm, 1863, rfl⟩
abbrev main_v961 : Ref sig .tc := ⟨.hbm, 1864, rfl⟩
abbrev main_v962 : Ref sig .tc := ⟨.hbm, 1865, rfl⟩
abbrev main_v963 : Ref sig .tc := ⟨.hbm, 1866, rfl⟩
abbrev main_v964 : Ref sig .tc := ⟨.hbm, 1867, rfl⟩
abbrev main_v965 : Ref sig .tc := ⟨.hbm, 1868, rfl⟩
abbrev main_v966 : Ref sig .tc := ⟨.hbm, 1869, rfl⟩
abbrev main_v967 : Ref sig .tc := ⟨.hbm, 1870, rfl⟩
abbrev main_v968 : Ref sig .tc := ⟨.hbm, 1871, rfl⟩
abbrev main_v969 : Ref sig .tc := ⟨.hbm, 1872, rfl⟩
abbrev main_v970 : Ref sig .tc := ⟨.hbm, 1873, rfl⟩
abbrev main_v971 : Ref sig .tc := ⟨.hbm, 1874, rfl⟩
abbrev main_v972 : Ref sig .tc := ⟨.hbm, 1875, rfl⟩
abbrev main_v973 : Ref sig .tc := ⟨.hbm, 1876, rfl⟩
abbrev main_cst_224 : Ref sig .tc := ⟨.hbm, 1877, rfl⟩
abbrev main_v974 : Ref sig .tc := ⟨.hbm, 1878, rfl⟩
abbrev main_cst_225 : Ref sig .tc := ⟨.hbm, 1879, rfl⟩
abbrev main_v975 : Ref sig .tc := ⟨.hbm, 1880, rfl⟩
abbrev main_v976 : Ref sig .tc := ⟨.hbm, 1881, rfl⟩
abbrev main_v977 : Ref sig .tc := ⟨.hbm, 1882, rfl⟩
abbrev main_v978 : Ref sig .tc := ⟨.hbm, 1883, rfl⟩
abbrev main_v979 : Ref sig .tc := ⟨.hbm, 1884, rfl⟩
abbrev main_v980 : Ref sig .tc := ⟨.hbm, 1885, rfl⟩
abbrev main_cst_226 : Ref sig .tc := ⟨.hbm, 1886, rfl⟩
abbrev main_v981 : Ref sig .tc := ⟨.hbm, 1887, rfl⟩
abbrev main_v982 : Ref sig .tc := ⟨.hbm, 1888, rfl⟩
abbrev main_v983 : Ref sig .tc := ⟨.hbm, 1889, rfl⟩
abbrev main_v984 : Ref sig .tc := ⟨.hbm, 1890, rfl⟩
abbrev main_v985 : Ref sig .tc := ⟨.hbm, 1891, rfl⟩
abbrev main_v986 : Ref sig .tc := ⟨.hbm, 1892, rfl⟩
abbrev main_v987 : Ref sig .tc := ⟨.hbm, 1893, rfl⟩
abbrev main_v988 : Ref sig .tc := ⟨.hbm, 1894, rfl⟩
abbrev main_v989 : Ref sig .tc := ⟨.hbm, 1895, rfl⟩
abbrev main_v990 : Ref sig .tc := ⟨.hbm, 1896, rfl⟩
abbrev main_v991 : Ref sig .tc := ⟨.hbm, 1897, rfl⟩
abbrev main_cst_227 : Ref sig .tc := ⟨.hbm, 1898, rfl⟩
abbrev main_v992 : Ref sig .tc := ⟨.hbm, 1899, rfl⟩
abbrev main_v993 : Ref sig .tc := ⟨.hbm, 1900, rfl⟩
abbrev main_cst_228 : Ref sig .tc := ⟨.hbm, 1901, rfl⟩
abbrev main_v994 : Ref sig .tc := ⟨.hbm, 1902, rfl⟩
abbrev main_v995 : Ref sig .tc := ⟨.hbm, 1903, rfl⟩
abbrev main_v996 : Ref sig .tc := ⟨.hbm, 1904, rfl⟩
abbrev main_v997 : Ref sig .tc := ⟨.hbm, 1905, rfl⟩
abbrev main_v998 : Ref sig .tc := ⟨.hbm, 1906, rfl⟩
abbrev main_v999 : Ref sig .tc := ⟨.hbm, 1907, rfl⟩
abbrev main_v1000 : Ref sig .tc := ⟨.hbm, 1908, rfl⟩
abbrev main_v1001 : Ref sig .tc := ⟨.hbm, 1909, rfl⟩
abbrev main_v1002 : Ref sig .tc := ⟨.hbm, 1910, rfl⟩
abbrev main_v1003 : Ref sig .tc := ⟨.hbm, 1911, rfl⟩
abbrev main_v1004 : Ref sig .tc := ⟨.hbm, 1912, rfl⟩
abbrev main_cst_229 : Ref sig .tc := ⟨.hbm, 1913, rfl⟩
abbrev main_v1005 : Ref sig .tc := ⟨.hbm, 1914, rfl⟩
abbrev main_v1006 : Ref sig .tc := ⟨.hbm, 1915, rfl⟩
abbrev main_cst_230 : Ref sig .tc := ⟨.hbm, 1916, rfl⟩
abbrev main_v1007 : Ref sig .tc := ⟨.hbm, 1917, rfl⟩
abbrev main_v1008 : Ref sig .tc := ⟨.hbm, 1918, rfl⟩
abbrev main_cst_231 : Ref sig .tc := ⟨.hbm, 1919, rfl⟩
abbrev main_v1009 : Ref sig .tc := ⟨.hbm, 1920, rfl⟩
abbrev main_v1010 : Ref sig .tc := ⟨.hbm, 1921, rfl⟩
abbrev main_cst_232 : Ref sig .tc := ⟨.hbm, 1922, rfl⟩
abbrev main_v1011 : Ref sig .tc := ⟨.hbm, 1923, rfl⟩
abbrev main_v1012 : Ref sig .tc := ⟨.hbm, 1924, rfl⟩
abbrev main_v1013 : Ref sig .tc := ⟨.hbm, 1925, rfl⟩
abbrev main_v1014 : Ref sig .tc := ⟨.hbm, 1926, rfl⟩
abbrev main_cst_233 : Ref sig .tc := ⟨.hbm, 1927, rfl⟩
abbrev main_v1015 : Ref sig .tc := ⟨.hbm, 1928, rfl⟩
abbrev main_v1016 : Ref sig .tc := ⟨.hbm, 1929, rfl⟩
abbrev main_cst_234 : Ref sig .tc := ⟨.hbm, 1930, rfl⟩
abbrev main_v1017 : Ref sig .tc := ⟨.hbm, 1931, rfl⟩
abbrev main_v1018 : Ref sig .tc := ⟨.hbm, 1932, rfl⟩
abbrev main_cst_235 : Ref sig .tc := ⟨.hbm, 1933, rfl⟩
abbrev main_v1019 : Ref sig .tc := ⟨.hbm, 1934, rfl⟩
abbrev main_v1020 : Ref sig .tc := ⟨.hbm, 1935, rfl⟩
abbrev main_cst_236 : Ref sig .tc := ⟨.hbm, 1936, rfl⟩
abbrev main_v1021 : Ref sig .tc := ⟨.hbm, 1937, rfl⟩
abbrev main_v1022 : Ref sig .tc := ⟨.hbm, 1938, rfl⟩
abbrev main_v1023 : Ref sig .tc := ⟨.hbm, 1939, rfl⟩
abbrev main_v1024 : Ref sig .tc := ⟨.hbm, 1940, rfl⟩
abbrev main_cst_237 : Ref sig .tc := ⟨.hbm, 1941, rfl⟩
abbrev main_v1025 : Ref sig .tc := ⟨.hbm, 1942, rfl⟩
abbrev main_v1026 : Ref sig .tc := ⟨.hbm, 1943, rfl⟩
abbrev main_cst_238 : Ref sig .tc := ⟨.hbm, 1944, rfl⟩
abbrev main_v1027 : Ref sig .tc := ⟨.hbm, 1945, rfl⟩
abbrev main_v1028 : Ref sig .tc := ⟨.hbm, 1946, rfl⟩
abbrev main_v1029 : Ref sig .tc := ⟨.hbm, 1947, rfl⟩
abbrev main_v1030 : Ref sig .tc := ⟨.hbm, 1948, rfl⟩
abbrev main_v1031 : Ref sig .tc := ⟨.hbm, 1949, rfl⟩
abbrev main_v1032 : Ref sig .tc := ⟨.hbm, 1950, rfl⟩
abbrev main_v1033 : Ref sig .tc := ⟨.hbm, 1951, rfl⟩
abbrev main_v1034 : Ref sig .tc := ⟨.hbm, 1952, rfl⟩
abbrev main_v1035 : Ref sig .tc := ⟨.hbm, 1953, rfl⟩
abbrev main_v1036 : Ref sig .tc := ⟨.hbm, 1954, rfl⟩
abbrev main_v1037 : Ref sig .tc := ⟨.hbm, 1955, rfl⟩
abbrev main_v1038 : Ref sig .tc := ⟨.hbm, 1956, rfl⟩
abbrev main_v1039 : Ref sig .tc := ⟨.hbm, 1957, rfl⟩
abbrev main_v1040 : Ref sig .tc := ⟨.hbm, 1958, rfl⟩
abbrev main_v1041 : Ref sig .tc := ⟨.hbm, 1959, rfl⟩
abbrev main_cst_239 : Ref sig .tc := ⟨.hbm, 1960, rfl⟩
abbrev main_v1042 : Ref sig .tc := ⟨.hbm, 1961, rfl⟩
abbrev main_v1043 : Ref sig .tc := ⟨.hbm, 1962, rfl⟩
abbrev main_cst_240 : Ref sig .tc := ⟨.hbm, 1963, rfl⟩
abbrev main_v1044 : Ref sig .tc := ⟨.hbm, 1964, rfl⟩
abbrev main_v1045 : Ref sig .tc := ⟨.hbm, 1965, rfl⟩
abbrev main_v1046 : Ref sig .tc := ⟨.hbm, 1966, rfl⟩
abbrev main_cst_241 : Ref sig .tc := ⟨.hbm, 1967, rfl⟩
abbrev main_v1047 : Ref sig .tc := ⟨.hbm, 1968, rfl⟩
abbrev main_v1048 : Ref sig .tc := ⟨.hbm, 1969, rfl⟩
abbrev main_v1049 : Ref sig .tc := ⟨.hbm, 1970, rfl⟩
abbrev main_cst_242 : Ref sig .tc := ⟨.hbm, 1971, rfl⟩
abbrev main_v1050 : Ref sig .tc := ⟨.hbm, 1972, rfl⟩
abbrev main_v1051 : Ref sig .tc := ⟨.hbm, 1973, rfl⟩
abbrev main_v1052 : Ref sig .tc := ⟨.hbm, 1974, rfl⟩
abbrev main_c_243 : Ref sig .tc := ⟨.hbm, 1975, rfl⟩
abbrev main_c_244 : Ref sig .tc := ⟨.hbm, 1976, rfl⟩
abbrev main_call57_v0 : Ref sig .tc := ⟨.hbm, 1977, rfl⟩
abbrev main_call57_v1 : Ref sig .tc := ⟨.hbm, 1978, rfl⟩
abbrev main_call57_v2 : Ref sig .tc := ⟨.hbm, 1979, rfl⟩
abbrev main_call57_v3 : Ref sig .tc := ⟨.hbm, 1980, rfl⟩
abbrev main_call57_v4 : Ref sig .tc := ⟨.hbm, 1981, rfl⟩
abbrev main_v1053 : Ref sig .tc := ⟨.hbm, 1982, rfl⟩
abbrev main_v1054 : Ref sig .tc := ⟨.hbm, 1983, rfl⟩
abbrev main_c_245 : Ref sig .tc := ⟨.hbm, 1984, rfl⟩
abbrev main_c_246 : Ref sig .tc := ⟨.hbm, 1985, rfl⟩
abbrev main_call58_v0 : Ref sig .tc := ⟨.hbm, 1986, rfl⟩
abbrev main_call58_v1 : Ref sig .tc := ⟨.hbm, 1987, rfl⟩
abbrev main_call58_v2 : Ref sig .tc := ⟨.hbm, 1988, rfl⟩
abbrev main_call58_v3 : Ref sig .tc := ⟨.hbm, 1989, rfl⟩
abbrev main_call58_v4 : Ref sig .tc := ⟨.hbm, 1990, rfl⟩
abbrev main_v1055 : Ref sig .tc := ⟨.hbm, 1991, rfl⟩
abbrev main_v1056 : Ref sig .tc := ⟨.hbm, 1992, rfl⟩
abbrev main_c_247 : Ref sig .tc := ⟨.hbm, 1993, rfl⟩
abbrev main_v1057 : Ref sig .tc := ⟨.hbm, 1994, rfl⟩
abbrev main_v1058 : Ref sig .tc := ⟨.hbm, 1995, rfl⟩
abbrev main_v1059 : Ref sig .tc := ⟨.hbm, 1996, rfl⟩
abbrev main_v1060 : Ref sig .tc := ⟨.hbm, 1997, rfl⟩
abbrev main_v1061 : Ref sig .tc := ⟨.hbm, 1998, rfl⟩
abbrev main_v1062 : Ref sig .tc := ⟨.hbm, 1999, rfl⟩
abbrev main_call59_c : Ref sig .tc := ⟨.hbm, 2000, rfl⟩
abbrev main_call59_v0 : Ref sig .tc := ⟨.hbm, 2001, rfl⟩
abbrev main_call59_v1 : Ref sig .tc := ⟨.hbm, 2002, rfl⟩
abbrev main_call59_c_0 : Ref sig .tc := ⟨.hbm, 2003, rfl⟩
abbrev main_call59_v2 : Ref sig .tc := ⟨.hbm, 2004, rfl⟩
abbrev main_call59_v3 : Ref sig .tc := ⟨.hbm, 2005, rfl⟩
abbrev main_call59_v4 : Ref sig .tc := ⟨.hbm, 2006, rfl⟩
abbrev main_call59_v5 : Ref sig .tc := ⟨.hbm, 2007, rfl⟩
abbrev main_call59_c_1 : Ref sig .tc := ⟨.hbm, 2008, rfl⟩
abbrev main_call59_c_2 : Ref sig .tc := ⟨.hbm, 2009, rfl⟩
abbrev main_call59_v6 : Ref sig .tc := ⟨.hbm, 2010, rfl⟩
abbrev main_call59_v7 : Ref sig .tc := ⟨.hbm, 2011, rfl⟩
abbrev main_call59_v8 : Ref sig .tc := ⟨.hbm, 2012, rfl⟩
abbrev main_call59_v9 : Ref sig .tc := ⟨.hbm, 2013, rfl⟩
abbrev main_call59_v10 : Ref sig .tc := ⟨.hbm, 2014, rfl⟩
abbrev main_call59_v11 : Ref sig .tc := ⟨.hbm, 2015, rfl⟩
abbrev main_call59_c_3 : Ref sig .tc := ⟨.hbm, 2016, rfl⟩
abbrev main_call59_v12 : Ref sig .tc := ⟨.hbm, 2017, rfl⟩
abbrev main_call59_v13 : Ref sig .tc := ⟨.hbm, 2018, rfl⟩
abbrev main_call59_cst : Ref sig .tc := ⟨.hbm, 2019, rfl⟩
abbrev main_call59_v14 : Ref sig .tc := ⟨.hbm, 2020, rfl⟩
abbrev main_v1063 : Ref sig .tc := ⟨.hbm, 2021, rfl⟩
abbrev main_v1064 : Ref sig .tc := ⟨.hbm, 2022, rfl⟩
abbrev main_v1065 : Ref sig .tc := ⟨.hbm, 2023, rfl⟩
abbrev main_v1066 : Ref sig .tc := ⟨.hbm, 2024, rfl⟩
abbrev main_v1067 : Ref sig .tc := ⟨.hbm, 2025, rfl⟩
abbrev main_v1068 : Ref sig .tc := ⟨.hbm, 2026, rfl⟩
abbrev main_v1069 : Ref sig .tc := ⟨.hbm, 2027, rfl⟩
abbrev main_v1070 : Ref sig .tc := ⟨.hbm, 2028, rfl⟩
abbrev main_v1071 : Ref sig .tc := ⟨.hbm, 2029, rfl⟩
abbrev main_cst_248 : Ref sig .tc := ⟨.hbm, 2030, rfl⟩
abbrev main_v1072 : Ref sig .tc := ⟨.hbm, 2031, rfl⟩
abbrev main_v1073 : Ref sig .tc := ⟨.hbm, 2032, rfl⟩
abbrev main_cst_249 : Ref sig .tc := ⟨.hbm, 2033, rfl⟩
abbrev main_v1074 : Ref sig .tc := ⟨.hbm, 2034, rfl⟩
abbrev main_v1075 : Ref sig .tc := ⟨.hbm, 2035, rfl⟩
abbrev main_v1076 : Ref sig .tc := ⟨.hbm, 2036, rfl⟩
abbrev main_cst_250 : Ref sig .tc := ⟨.hbm, 2037, rfl⟩
abbrev main_v1077 : Ref sig .tc := ⟨.hbm, 2038, rfl⟩
abbrev main_v1078 : Ref sig .tc := ⟨.hbm, 2039, rfl⟩
abbrev main_v1079 : Ref sig .tc := ⟨.hbm, 2040, rfl⟩
abbrev main_cst_251 : Ref sig .tc := ⟨.hbm, 2041, rfl⟩
abbrev main_v1080 : Ref sig .tc := ⟨.hbm, 2042, rfl⟩
abbrev main_v1081 : Ref sig .tc := ⟨.hbm, 2043, rfl⟩
abbrev main_v1082 : Ref sig .tc := ⟨.hbm, 2044, rfl⟩
abbrev main_c_252 : Ref sig .tc := ⟨.hbm, 2045, rfl⟩
abbrev main_c_253 : Ref sig .tc := ⟨.hbm, 2046, rfl⟩
abbrev main_call60_v0 : Ref sig .tc := ⟨.hbm, 2047, rfl⟩
abbrev main_call60_v1 : Ref sig .tc := ⟨.hbm, 2048, rfl⟩
abbrev main_call60_v2 : Ref sig .tc := ⟨.hbm, 2049, rfl⟩
abbrev main_call60_v3 : Ref sig .tc := ⟨.hbm, 2050, rfl⟩
abbrev main_call60_v4 : Ref sig .tc := ⟨.hbm, 2051, rfl⟩
abbrev main_v1083 : Ref sig .tc := ⟨.hbm, 2052, rfl⟩
abbrev main_v1084 : Ref sig .tc := ⟨.hbm, 2053, rfl⟩
abbrev main_c_254 : Ref sig .tc := ⟨.hbm, 2054, rfl⟩
abbrev main_c_255 : Ref sig .tc := ⟨.hbm, 2055, rfl⟩
abbrev main_call61_v0 : Ref sig .tc := ⟨.hbm, 2056, rfl⟩
abbrev main_call61_v1 : Ref sig .tc := ⟨.hbm, 2057, rfl⟩
abbrev main_call61_v2 : Ref sig .tc := ⟨.hbm, 2058, rfl⟩
abbrev main_call61_v3 : Ref sig .tc := ⟨.hbm, 2059, rfl⟩
abbrev main_call61_v4 : Ref sig .tc := ⟨.hbm, 2060, rfl⟩
abbrev main_v1085 : Ref sig .tc := ⟨.hbm, 2061, rfl⟩
abbrev main_v1086 : Ref sig .tc := ⟨.hbm, 2062, rfl⟩
abbrev main_c_256 : Ref sig .tc := ⟨.hbm, 2063, rfl⟩
abbrev main_v1087 : Ref sig .tc := ⟨.hbm, 2064, rfl⟩
abbrev main_v1088 : Ref sig .tc := ⟨.hbm, 2065, rfl⟩
abbrev main_v1089 : Ref sig .tc := ⟨.hbm, 2066, rfl⟩
abbrev main_v1090 : Ref sig .tc := ⟨.hbm, 2067, rfl⟩
abbrev main_v1091 : Ref sig .tc := ⟨.hbm, 2068, rfl⟩
abbrev main_v1092 : Ref sig .tc := ⟨.hbm, 2069, rfl⟩
abbrev main_call62_c : Ref sig .tc := ⟨.hbm, 2070, rfl⟩
abbrev main_call62_v0 : Ref sig .tc := ⟨.hbm, 2071, rfl⟩
abbrev main_call62_v1 : Ref sig .tc := ⟨.hbm, 2072, rfl⟩
abbrev main_call62_c_0 : Ref sig .tc := ⟨.hbm, 2073, rfl⟩
abbrev main_call62_v2 : Ref sig .tc := ⟨.hbm, 2074, rfl⟩
abbrev main_call62_v3 : Ref sig .tc := ⟨.hbm, 2075, rfl⟩
abbrev main_call62_v4 : Ref sig .tc := ⟨.hbm, 2076, rfl⟩
abbrev main_call62_v5 : Ref sig .tc := ⟨.hbm, 2077, rfl⟩
abbrev main_call62_c_1 : Ref sig .tc := ⟨.hbm, 2078, rfl⟩
abbrev main_call62_c_2 : Ref sig .tc := ⟨.hbm, 2079, rfl⟩
abbrev main_call62_v6 : Ref sig .tc := ⟨.hbm, 2080, rfl⟩
abbrev main_call62_v7 : Ref sig .tc := ⟨.hbm, 2081, rfl⟩
abbrev main_call62_v8 : Ref sig .tc := ⟨.hbm, 2082, rfl⟩
abbrev main_call62_v9 : Ref sig .tc := ⟨.hbm, 2083, rfl⟩
abbrev main_call62_v10 : Ref sig .tc := ⟨.hbm, 2084, rfl⟩
abbrev main_call62_v11 : Ref sig .tc := ⟨.hbm, 2085, rfl⟩
abbrev main_call62_c_3 : Ref sig .tc := ⟨.hbm, 2086, rfl⟩
abbrev main_call62_v12 : Ref sig .tc := ⟨.hbm, 2087, rfl⟩
abbrev main_call62_v13 : Ref sig .tc := ⟨.hbm, 2088, rfl⟩
abbrev main_call62_cst : Ref sig .tc := ⟨.hbm, 2089, rfl⟩
abbrev main_call62_v14 : Ref sig .tc := ⟨.hbm, 2090, rfl⟩
abbrev main_v1093 : Ref sig .tc := ⟨.hbm, 2091, rfl⟩
abbrev main_v1094 : Ref sig .tc := ⟨.hbm, 2092, rfl⟩
abbrev main_v1095 : Ref sig .tc := ⟨.hbm, 2093, rfl⟩
abbrev main_v1096 : Ref sig .tc := ⟨.hbm, 2094, rfl⟩
abbrev main_v1097 : Ref sig .tc := ⟨.hbm, 2095, rfl⟩
abbrev main_v1098 : Ref sig .tc := ⟨.hbm, 2096, rfl⟩
abbrev main_v1099 : Ref sig .tc := ⟨.hbm, 2097, rfl⟩
abbrev main_v1100 : Ref sig .tc := ⟨.hbm, 2098, rfl⟩
abbrev main_v1101 : Ref sig .tc := ⟨.hbm, 2099, rfl⟩
abbrev main_v1102 : Ref sig .tc := ⟨.hbm, 2100, rfl⟩
abbrev main_cst_257 : Ref sig .tc := ⟨.hbm, 2101, rfl⟩
abbrev main_v1103 : Ref sig .tc := ⟨.hbm, 2102, rfl⟩
abbrev main_v1104 : Ref sig .tc := ⟨.hbm, 2103, rfl⟩
abbrev main_cst_258 : Ref sig .tc := ⟨.hbm, 2104, rfl⟩
abbrev main_v1105 : Ref sig .tc := ⟨.hbm, 2105, rfl⟩
abbrev main_v1106 : Ref sig .tc := ⟨.hbm, 2106, rfl⟩
abbrev main_v1107 : Ref sig .tc := ⟨.hbm, 2107, rfl⟩
abbrev main_cst_259 : Ref sig .tc := ⟨.hbm, 2108, rfl⟩
abbrev main_v1108 : Ref sig .tc := ⟨.hbm, 2109, rfl⟩
abbrev main_v1109 : Ref sig .tc := ⟨.hbm, 2110, rfl⟩
abbrev main_v1110 : Ref sig .tc := ⟨.hbm, 2111, rfl⟩
abbrev main_cst_260 : Ref sig .tc := ⟨.hbm, 2112, rfl⟩
abbrev main_v1111 : Ref sig .tc := ⟨.hbm, 2113, rfl⟩
abbrev main_v1112 : Ref sig .tc := ⟨.hbm, 2114, rfl⟩
abbrev main_v1113 : Ref sig .tc := ⟨.hbm, 2115, rfl⟩
abbrev main_c_261 : Ref sig .tc := ⟨.hbm, 2116, rfl⟩
abbrev main_c_262 : Ref sig .tc := ⟨.hbm, 2117, rfl⟩
abbrev main_call63_v0 : Ref sig .tc := ⟨.hbm, 2118, rfl⟩
abbrev main_call63_v1 : Ref sig .tc := ⟨.hbm, 2119, rfl⟩
abbrev main_call63_v2 : Ref sig .tc := ⟨.hbm, 2120, rfl⟩
abbrev main_call63_v3 : Ref sig .tc := ⟨.hbm, 2121, rfl⟩
abbrev main_call63_v4 : Ref sig .tc := ⟨.hbm, 2122, rfl⟩
abbrev main_v1114 : Ref sig .tc := ⟨.hbm, 2123, rfl⟩
abbrev main_v1115 : Ref sig .tc := ⟨.hbm, 2124, rfl⟩
abbrev main_c_263 : Ref sig .tc := ⟨.hbm, 2125, rfl⟩
abbrev main_c_264 : Ref sig .tc := ⟨.hbm, 2126, rfl⟩
abbrev main_call64_v0 : Ref sig .tc := ⟨.hbm, 2127, rfl⟩
abbrev main_call64_v1 : Ref sig .tc := ⟨.hbm, 2128, rfl⟩
abbrev main_call64_v2 : Ref sig .tc := ⟨.hbm, 2129, rfl⟩
abbrev main_call64_v3 : Ref sig .tc := ⟨.hbm, 2130, rfl⟩
abbrev main_call64_v4 : Ref sig .tc := ⟨.hbm, 2131, rfl⟩
abbrev main_v1116 : Ref sig .tc := ⟨.hbm, 2132, rfl⟩
abbrev main_v1117 : Ref sig .tc := ⟨.hbm, 2133, rfl⟩
abbrev main_c_265 : Ref sig .tc := ⟨.hbm, 2134, rfl⟩
abbrev main_v1118 : Ref sig .tc := ⟨.hbm, 2135, rfl⟩
abbrev main_v1119 : Ref sig .tc := ⟨.hbm, 2136, rfl⟩
abbrev main_v1120 : Ref sig .tc := ⟨.hbm, 2137, rfl⟩
abbrev main_v1121 : Ref sig .tc := ⟨.hbm, 2138, rfl⟩
abbrev main_v1122 : Ref sig .tc := ⟨.hbm, 2139, rfl⟩
abbrev main_v1123 : Ref sig .tc := ⟨.hbm, 2140, rfl⟩
abbrev main_call65_c : Ref sig .tc := ⟨.hbm, 2141, rfl⟩
abbrev main_call65_v0 : Ref sig .tc := ⟨.hbm, 2142, rfl⟩
abbrev main_call65_v1 : Ref sig .tc := ⟨.hbm, 2143, rfl⟩
abbrev main_call65_c_0 : Ref sig .tc := ⟨.hbm, 2144, rfl⟩
abbrev main_call65_v2 : Ref sig .tc := ⟨.hbm, 2145, rfl⟩
abbrev main_call65_v3 : Ref sig .tc := ⟨.hbm, 2146, rfl⟩
abbrev main_call65_v4 : Ref sig .tc := ⟨.hbm, 2147, rfl⟩
abbrev main_call65_v5 : Ref sig .tc := ⟨.hbm, 2148, rfl⟩
abbrev main_call65_c_1 : Ref sig .tc := ⟨.hbm, 2149, rfl⟩
abbrev main_call65_c_2 : Ref sig .tc := ⟨.hbm, 2150, rfl⟩
abbrev main_call65_v6 : Ref sig .tc := ⟨.hbm, 2151, rfl⟩
abbrev main_call65_v7 : Ref sig .tc := ⟨.hbm, 2152, rfl⟩
abbrev main_call65_v8 : Ref sig .tc := ⟨.hbm, 2153, rfl⟩
abbrev main_call65_v9 : Ref sig .tc := ⟨.hbm, 2154, rfl⟩
abbrev main_call65_v10 : Ref sig .tc := ⟨.hbm, 2155, rfl⟩
abbrev main_call65_v11 : Ref sig .tc := ⟨.hbm, 2156, rfl⟩
abbrev main_call65_c_3 : Ref sig .tc := ⟨.hbm, 2157, rfl⟩
abbrev main_call65_v12 : Ref sig .tc := ⟨.hbm, 2158, rfl⟩
abbrev main_call65_v13 : Ref sig .tc := ⟨.hbm, 2159, rfl⟩
abbrev main_call65_cst : Ref sig .tc := ⟨.hbm, 2160, rfl⟩
abbrev main_call65_v14 : Ref sig .tc := ⟨.hbm, 2161, rfl⟩
abbrev main_v1124 : Ref sig .tc := ⟨.hbm, 2162, rfl⟩
abbrev main_v1125 : Ref sig .tc := ⟨.hbm, 2163, rfl⟩
abbrev main_v1126 : Ref sig .tc := ⟨.hbm, 2164, rfl⟩
abbrev main_v1127 : Ref sig .tc := ⟨.hbm, 2165, rfl⟩
abbrev main_v1128 : Ref sig .tc := ⟨.hbm, 2166, rfl⟩
abbrev main_v1129 : Ref sig .tc := ⟨.hbm, 2167, rfl⟩
abbrev main_v1130 : Ref sig .tc := ⟨.hbm, 2168, rfl⟩
abbrev main_v1131 : Ref sig .tc := ⟨.hbm, 2169, rfl⟩
abbrev main_v1132 : Ref sig .tc := ⟨.hbm, 2170, rfl⟩
abbrev main_v1133 : Ref sig .tc := ⟨.hbm, 2171, rfl⟩
abbrev main_cst_266 : Ref sig .tc := ⟨.hbm, 2172, rfl⟩
abbrev main_v1134 : Ref sig .tc := ⟨.hbm, 2173, rfl⟩
abbrev main_v1135 : Ref sig .tc := ⟨.hbm, 2174, rfl⟩
abbrev main_cst_267 : Ref sig .tc := ⟨.hbm, 2175, rfl⟩
abbrev main_v1136 : Ref sig .tc := ⟨.hbm, 2176, rfl⟩
abbrev main_v1137 : Ref sig .tc := ⟨.hbm, 2177, rfl⟩
abbrev main_v1138 : Ref sig .tc := ⟨.hbm, 2178, rfl⟩
abbrev main_cst_268 : Ref sig .tc := ⟨.hbm, 2179, rfl⟩
abbrev main_v1139 : Ref sig .tc := ⟨.hbm, 2180, rfl⟩
abbrev main_v1140 : Ref sig .tc := ⟨.hbm, 2181, rfl⟩
abbrev main_v1141 : Ref sig .tc := ⟨.hbm, 2182, rfl⟩
abbrev main_cst_269 : Ref sig .tc := ⟨.hbm, 2183, rfl⟩
abbrev main_v1142 : Ref sig .tc := ⟨.hbm, 2184, rfl⟩
abbrev main_v1143 : Ref sig .tc := ⟨.hbm, 2185, rfl⟩
abbrev main_v1144 : Ref sig .tc := ⟨.hbm, 2186, rfl⟩
abbrev main_c_270 : Ref sig .tc := ⟨.hbm, 2187, rfl⟩
abbrev main_c_271 : Ref sig .tc := ⟨.hbm, 2188, rfl⟩
abbrev main_call66_v0 : Ref sig .tc := ⟨.hbm, 2189, rfl⟩
abbrev main_call66_v1 : Ref sig .tc := ⟨.hbm, 2190, rfl⟩
abbrev main_call66_v2 : Ref sig .tc := ⟨.hbm, 2191, rfl⟩
abbrev main_call66_v3 : Ref sig .tc := ⟨.hbm, 2192, rfl⟩
abbrev main_call66_v4 : Ref sig .tc := ⟨.hbm, 2193, rfl⟩
abbrev main_v1145 : Ref sig .tc := ⟨.hbm, 2194, rfl⟩
abbrev main_v1146 : Ref sig .tc := ⟨.hbm, 2195, rfl⟩
abbrev main_c_272 : Ref sig .tc := ⟨.hbm, 2196, rfl⟩
abbrev main_c_273 : Ref sig .tc := ⟨.hbm, 2197, rfl⟩
abbrev main_call67_v0 : Ref sig .tc := ⟨.hbm, 2198, rfl⟩
abbrev main_call67_v1 : Ref sig .tc := ⟨.hbm, 2199, rfl⟩
abbrev main_call67_v2 : Ref sig .tc := ⟨.hbm, 2200, rfl⟩
abbrev main_call67_v3 : Ref sig .tc := ⟨.hbm, 2201, rfl⟩
abbrev main_call67_v4 : Ref sig .tc := ⟨.hbm, 2202, rfl⟩
abbrev main_v1147 : Ref sig .tc := ⟨.hbm, 2203, rfl⟩
abbrev main_v1148 : Ref sig .tc := ⟨.hbm, 2204, rfl⟩
abbrev main_c_274 : Ref sig .tc := ⟨.hbm, 2205, rfl⟩
abbrev main_v1149 : Ref sig .tc := ⟨.hbm, 2206, rfl⟩
abbrev main_v1150 : Ref sig .tc := ⟨.hbm, 2207, rfl⟩
abbrev main_v1151 : Ref sig .tc := ⟨.hbm, 2208, rfl⟩
abbrev main_v1152 : Ref sig .tc := ⟨.hbm, 2209, rfl⟩
abbrev main_v1153 : Ref sig .tc := ⟨.hbm, 2210, rfl⟩
abbrev main_v1154 : Ref sig .tc := ⟨.hbm, 2211, rfl⟩
abbrev main_call68_c : Ref sig .tc := ⟨.hbm, 2212, rfl⟩
abbrev main_call68_v0 : Ref sig .tc := ⟨.hbm, 2213, rfl⟩
abbrev main_call68_v1 : Ref sig .tc := ⟨.hbm, 2214, rfl⟩
abbrev main_call68_c_0 : Ref sig .tc := ⟨.hbm, 2215, rfl⟩
abbrev main_call68_v2 : Ref sig .tc := ⟨.hbm, 2216, rfl⟩
abbrev main_call68_v3 : Ref sig .tc := ⟨.hbm, 2217, rfl⟩
abbrev main_call68_v4 : Ref sig .tc := ⟨.hbm, 2218, rfl⟩
abbrev main_call68_v5 : Ref sig .tc := ⟨.hbm, 2219, rfl⟩
abbrev main_call68_c_1 : Ref sig .tc := ⟨.hbm, 2220, rfl⟩
abbrev main_call68_c_2 : Ref sig .tc := ⟨.hbm, 2221, rfl⟩
abbrev main_call68_v6 : Ref sig .tc := ⟨.hbm, 2222, rfl⟩
abbrev main_call68_v7 : Ref sig .tc := ⟨.hbm, 2223, rfl⟩
abbrev main_call68_v8 : Ref sig .tc := ⟨.hbm, 2224, rfl⟩
abbrev main_call68_v9 : Ref sig .tc := ⟨.hbm, 2225, rfl⟩
abbrev main_call68_v10 : Ref sig .tc := ⟨.hbm, 2226, rfl⟩
abbrev main_call68_v11 : Ref sig .tc := ⟨.hbm, 2227, rfl⟩
abbrev main_call68_c_3 : Ref sig .tc := ⟨.hbm, 2228, rfl⟩
abbrev main_call68_v12 : Ref sig .tc := ⟨.hbm, 2229, rfl⟩
abbrev main_call68_v13 : Ref sig .tc := ⟨.hbm, 2230, rfl⟩
abbrev main_call68_cst : Ref sig .tc := ⟨.hbm, 2231, rfl⟩
abbrev main_call68_v14 : Ref sig .tc := ⟨.hbm, 2232, rfl⟩
abbrev main_v1155 : Ref sig .tc := ⟨.hbm, 2233, rfl⟩
abbrev main_v1156 : Ref sig .tc := ⟨.hbm, 2234, rfl⟩
abbrev main_v1157 : Ref sig .tc := ⟨.hbm, 2235, rfl⟩
abbrev main_v1158 : Ref sig .tc := ⟨.hbm, 2236, rfl⟩
abbrev main_v1159 : Ref sig .tc := ⟨.hbm, 2237, rfl⟩
abbrev main_v1160 : Ref sig .tc := ⟨.hbm, 2238, rfl⟩
abbrev main_v1161 : Ref sig .tc := ⟨.hbm, 2239, rfl⟩
abbrev main_v1162 : Ref sig .tc := ⟨.hbm, 2240, rfl⟩
abbrev main_v1163 : Ref sig .tc := ⟨.hbm, 2241, rfl⟩
abbrev main_v1164 : Ref sig .tc := ⟨.hbm, 2242, rfl⟩
abbrev main_v1165 : Ref sig .tc := ⟨.hbm, 2243, rfl⟩
abbrev main_v1166 : Ref sig .tc := ⟨.hbm, 2244, rfl⟩
abbrev main_v1167 : Ref sig .tc := ⟨.hbm, 2245, rfl⟩
abbrev main_v1168 : Ref sig .tc := ⟨.hbm, 2246, rfl⟩
abbrev main_v1169 : Ref sig .tc := ⟨.hbm, 2247, rfl⟩
abbrev main_v1170 : Ref sig .tc := ⟨.hbm, 2248, rfl⟩
abbrev main_v1171 : Ref sig .tc := ⟨.hbm, 2249, rfl⟩
abbrev main_v1172 : Ref sig .tc := ⟨.hbm, 2250, rfl⟩
abbrev main_v1173 : Ref sig .tc := ⟨.hbm, 2251, rfl⟩
abbrev main_cst_275 : Ref sig .tc := ⟨.hbm, 2252, rfl⟩
abbrev main_v1174 : Ref sig .tc := ⟨.hbm, 2253, rfl⟩
abbrev main_v1175 : Ref sig .tc := ⟨.hbm, 2254, rfl⟩
abbrev main_cst_276 : Ref sig .tc := ⟨.hbm, 2255, rfl⟩
abbrev main_v1176 : Ref sig .tc := ⟨.hbm, 2256, rfl⟩
abbrev main_v1177 : Ref sig .tc := ⟨.hbm, 2257, rfl⟩
abbrev main_cst_277 : Ref sig .tc := ⟨.hbm, 2258, rfl⟩
abbrev main_v1178 : Ref sig .tc := ⟨.hbm, 2259, rfl⟩
abbrev main_v1179 : Ref sig .tc := ⟨.hbm, 2260, rfl⟩
abbrev main_cst_278 : Ref sig .tc := ⟨.hbm, 2261, rfl⟩
abbrev main_v1180 : Ref sig .tc := ⟨.hbm, 2262, rfl⟩
abbrev main_v1181 : Ref sig .tc := ⟨.hbm, 2263, rfl⟩
abbrev main_v1182 : Ref sig .tc := ⟨.hbm, 2264, rfl⟩
abbrev main_v1183 : Ref sig .tc := ⟨.hbm, 2265, rfl⟩
abbrev main_cst_279 : Ref sig .tc := ⟨.hbm, 2266, rfl⟩
abbrev main_v1184 : Ref sig .tc := ⟨.hbm, 2267, rfl⟩
abbrev main_v1185 : Ref sig .tc := ⟨.hbm, 2268, rfl⟩
abbrev main_cst_280 : Ref sig .tc := ⟨.hbm, 2269, rfl⟩
abbrev main_v1186 : Ref sig .tc := ⟨.hbm, 2270, rfl⟩
abbrev main_v1187 : Ref sig .tc := ⟨.hbm, 2271, rfl⟩
abbrev main_cst_281 : Ref sig .tc := ⟨.hbm, 2272, rfl⟩
abbrev main_v1188 : Ref sig .tc := ⟨.hbm, 2273, rfl⟩
abbrev main_v1189 : Ref sig .tc := ⟨.hbm, 2274, rfl⟩
abbrev main_cst_282 : Ref sig .tc := ⟨.hbm, 2275, rfl⟩
abbrev main_v1190 : Ref sig .tc := ⟨.hbm, 2276, rfl⟩
abbrev main_v1191 : Ref sig .tc := ⟨.hbm, 2277, rfl⟩
abbrev main_v1192 : Ref sig .tc := ⟨.hbm, 2278, rfl⟩
abbrev main_v1193 : Ref sig .tc := ⟨.hbm, 2279, rfl⟩
abbrev main_cst_283 : Ref sig .tc := ⟨.hbm, 2280, rfl⟩
abbrev main_v1194 : Ref sig .tc := ⟨.hbm, 2281, rfl⟩
abbrev main_v1195 : Ref sig .tc := ⟨.hbm, 2282, rfl⟩
abbrev main_cst_284 : Ref sig .tc := ⟨.hbm, 2283, rfl⟩
abbrev main_v1196 : Ref sig .tc := ⟨.hbm, 2284, rfl⟩
abbrev main_v1197 : Ref sig .tc := ⟨.hbm, 2285, rfl⟩
abbrev main_v1198 : Ref sig .tc := ⟨.hbm, 2286, rfl⟩
abbrev main_v1199 : Ref sig .tc := ⟨.hbm, 2287, rfl⟩
abbrev main_v1200 : Ref sig .tc := ⟨.hbm, 2288, rfl⟩
abbrev main_v1201 : Ref sig .tc := ⟨.hbm, 2289, rfl⟩
abbrev main_v1202 : Ref sig .tc := ⟨.hbm, 2290, rfl⟩
abbrev main_v1203 : Ref sig .tc := ⟨.hbm, 2291, rfl⟩
abbrev main_v1204 : Ref sig .tc := ⟨.hbm, 2292, rfl⟩
abbrev main_v1205 : Ref sig .tc := ⟨.hbm, 2293, rfl⟩
abbrev main_v1206 : Ref sig .tc := ⟨.hbm, 2294, rfl⟩
abbrev main_v1207 : Ref sig .tc := ⟨.hbm, 2295, rfl⟩
abbrev main_v1208 : Ref sig .tc := ⟨.hbm, 2296, rfl⟩
abbrev main_v1209 : Ref sig .tc := ⟨.hbm, 2297, rfl⟩
abbrev main_v1210 : Ref sig .tc := ⟨.hbm, 2298, rfl⟩
abbrev main_cst_285 : Ref sig .tc := ⟨.hbm, 2299, rfl⟩
abbrev main_v1211 : Ref sig .tc := ⟨.hbm, 2300, rfl⟩
abbrev main_v1212 : Ref sig .tc := ⟨.hbm, 2301, rfl⟩
abbrev main_cst_286 : Ref sig .tc := ⟨.hbm, 2302, rfl⟩
abbrev main_v1213 : Ref sig .tc := ⟨.hbm, 2303, rfl⟩
abbrev main_v1214 : Ref sig .tc := ⟨.hbm, 2304, rfl⟩
abbrev main_v1215 : Ref sig .tc := ⟨.hbm, 2305, rfl⟩
abbrev main_cst_287 : Ref sig .tc := ⟨.hbm, 2306, rfl⟩
abbrev main_v1216 : Ref sig .tc := ⟨.hbm, 2307, rfl⟩
abbrev main_v1217 : Ref sig .tc := ⟨.hbm, 2308, rfl⟩
abbrev main_v1218 : Ref sig .tc := ⟨.hbm, 2309, rfl⟩
abbrev main_cst_288 : Ref sig .tc := ⟨.hbm, 2310, rfl⟩
abbrev main_v1219 : Ref sig .tc := ⟨.hbm, 2311, rfl⟩
abbrev main_v1220 : Ref sig .tc := ⟨.hbm, 2312, rfl⟩
abbrev main_v1221 : Ref sig .tc := ⟨.hbm, 2313, rfl⟩
abbrev main_c_289 : Ref sig .tc := ⟨.hbm, 2314, rfl⟩
abbrev main_c_290 : Ref sig .tc := ⟨.hbm, 2315, rfl⟩
abbrev main_call69_v0 : Ref sig .tc := ⟨.hbm, 2316, rfl⟩
abbrev main_call69_v1 : Ref sig .tc := ⟨.hbm, 2317, rfl⟩
abbrev main_call69_v2 : Ref sig .tc := ⟨.hbm, 2318, rfl⟩
abbrev main_call69_v3 : Ref sig .tc := ⟨.hbm, 2319, rfl⟩
abbrev main_call69_v4 : Ref sig .tc := ⟨.hbm, 2320, rfl⟩
abbrev main_v1222 : Ref sig .tc := ⟨.hbm, 2321, rfl⟩
abbrev main_v1223 : Ref sig .tc := ⟨.hbm, 2322, rfl⟩
abbrev main_c_291 : Ref sig .tc := ⟨.hbm, 2323, rfl⟩
abbrev main_c_292 : Ref sig .tc := ⟨.hbm, 2324, rfl⟩
abbrev main_call70_v0 : Ref sig .tc := ⟨.hbm, 2325, rfl⟩
abbrev main_call70_v1 : Ref sig .tc := ⟨.hbm, 2326, rfl⟩
abbrev main_call70_v2 : Ref sig .tc := ⟨.hbm, 2327, rfl⟩
abbrev main_call70_v3 : Ref sig .tc := ⟨.hbm, 2328, rfl⟩
abbrev main_call70_v4 : Ref sig .tc := ⟨.hbm, 2329, rfl⟩
abbrev main_v1224 : Ref sig .tc := ⟨.hbm, 2330, rfl⟩
abbrev main_v1225 : Ref sig .tc := ⟨.hbm, 2331, rfl⟩
abbrev main_c_293 : Ref sig .tc := ⟨.hbm, 2332, rfl⟩
abbrev main_v1226 : Ref sig .tc := ⟨.hbm, 2333, rfl⟩
abbrev main_v1227 : Ref sig .tc := ⟨.hbm, 2334, rfl⟩
abbrev main_v1228 : Ref sig .tc := ⟨.hbm, 2335, rfl⟩
abbrev main_v1229 : Ref sig .tc := ⟨.hbm, 2336, rfl⟩
abbrev main_v1230 : Ref sig .tc := ⟨.hbm, 2337, rfl⟩
abbrev main_v1231 : Ref sig .tc := ⟨.hbm, 2338, rfl⟩
abbrev main_call71_c : Ref sig .tc := ⟨.hbm, 2339, rfl⟩
abbrev main_call71_v0 : Ref sig .tc := ⟨.hbm, 2340, rfl⟩
abbrev main_call71_v1 : Ref sig .tc := ⟨.hbm, 2341, rfl⟩
abbrev main_call71_c_0 : Ref sig .tc := ⟨.hbm, 2342, rfl⟩
abbrev main_call71_v2 : Ref sig .tc := ⟨.hbm, 2343, rfl⟩
abbrev main_call71_v3 : Ref sig .tc := ⟨.hbm, 2344, rfl⟩
abbrev main_call71_v4 : Ref sig .tc := ⟨.hbm, 2345, rfl⟩
abbrev main_call71_v5 : Ref sig .tc := ⟨.hbm, 2346, rfl⟩
abbrev main_call71_c_1 : Ref sig .tc := ⟨.hbm, 2347, rfl⟩
abbrev main_call71_c_2 : Ref sig .tc := ⟨.hbm, 2348, rfl⟩
abbrev main_call71_v6 : Ref sig .tc := ⟨.hbm, 2349, rfl⟩
abbrev main_call71_v7 : Ref sig .tc := ⟨.hbm, 2350, rfl⟩
abbrev main_call71_v8 : Ref sig .tc := ⟨.hbm, 2351, rfl⟩
abbrev main_call71_v9 : Ref sig .tc := ⟨.hbm, 2352, rfl⟩
abbrev main_call71_v10 : Ref sig .tc := ⟨.hbm, 2353, rfl⟩
abbrev main_call71_v11 : Ref sig .tc := ⟨.hbm, 2354, rfl⟩
abbrev main_call71_c_3 : Ref sig .tc := ⟨.hbm, 2355, rfl⟩
abbrev main_call71_v12 : Ref sig .tc := ⟨.hbm, 2356, rfl⟩
abbrev main_call71_v13 : Ref sig .tc := ⟨.hbm, 2357, rfl⟩
abbrev main_call71_cst : Ref sig .tc := ⟨.hbm, 2358, rfl⟩
abbrev main_call71_v14 : Ref sig .tc := ⟨.hbm, 2359, rfl⟩
abbrev main_v1232 : Ref sig .tc := ⟨.hbm, 2360, rfl⟩
abbrev main_v1233 : Ref sig .tc := ⟨.hbm, 2361, rfl⟩
abbrev main_v1234 : Ref sig .tc := ⟨.hbm, 2362, rfl⟩
abbrev main_v1235 : Ref sig .tc := ⟨.hbm, 2363, rfl⟩
abbrev main_v1236 : Ref sig .tc := ⟨.hbm, 2364, rfl⟩
abbrev main_v1237 : Ref sig .tc := ⟨.hbm, 2365, rfl⟩
abbrev main_v1238 : Ref sig .tc := ⟨.hbm, 2366, rfl⟩
abbrev main_v1239 : Ref sig .tc := ⟨.hbm, 2367, rfl⟩
abbrev main_v1240 : Ref sig .tc := ⟨.hbm, 2368, rfl⟩
abbrev main_cst_294 : Ref sig .tc := ⟨.hbm, 2369, rfl⟩
abbrev main_v1241 : Ref sig .tc := ⟨.hbm, 2370, rfl⟩
abbrev main_v1242 : Ref sig .tc := ⟨.hbm, 2371, rfl⟩
abbrev main_cst_295 : Ref sig .tc := ⟨.hbm, 2372, rfl⟩
abbrev main_v1243 : Ref sig .tc := ⟨.hbm, 2373, rfl⟩
abbrev main_v1244 : Ref sig .tc := ⟨.hbm, 2374, rfl⟩
abbrev main_v1245 : Ref sig .tc := ⟨.hbm, 2375, rfl⟩
abbrev main_cst_296 : Ref sig .tc := ⟨.hbm, 2376, rfl⟩
abbrev main_v1246 : Ref sig .tc := ⟨.hbm, 2377, rfl⟩
abbrev main_v1247 : Ref sig .tc := ⟨.hbm, 2378, rfl⟩
abbrev main_v1248 : Ref sig .tc := ⟨.hbm, 2379, rfl⟩
abbrev main_cst_297 : Ref sig .tc := ⟨.hbm, 2380, rfl⟩
abbrev main_v1249 : Ref sig .tc := ⟨.hbm, 2381, rfl⟩
abbrev main_v1250 : Ref sig .tc := ⟨.hbm, 2382, rfl⟩
abbrev main_v1251 : Ref sig .tc := ⟨.hbm, 2383, rfl⟩
abbrev main_c_298 : Ref sig .tc := ⟨.hbm, 2384, rfl⟩
abbrev main_c_299 : Ref sig .tc := ⟨.hbm, 2385, rfl⟩
abbrev main_call72_v0 : Ref sig .tc := ⟨.hbm, 2386, rfl⟩
abbrev main_call72_v1 : Ref sig .tc := ⟨.hbm, 2387, rfl⟩
abbrev main_call72_v2 : Ref sig .tc := ⟨.hbm, 2388, rfl⟩
abbrev main_call72_v3 : Ref sig .tc := ⟨.hbm, 2389, rfl⟩
abbrev main_call72_v4 : Ref sig .tc := ⟨.hbm, 2390, rfl⟩
abbrev main_v1252 : Ref sig .tc := ⟨.hbm, 2391, rfl⟩
abbrev main_v1253 : Ref sig .tc := ⟨.hbm, 2392, rfl⟩
abbrev main_c_300 : Ref sig .tc := ⟨.hbm, 2393, rfl⟩
abbrev main_c_301 : Ref sig .tc := ⟨.hbm, 2394, rfl⟩
abbrev main_call73_v0 : Ref sig .tc := ⟨.hbm, 2395, rfl⟩
abbrev main_call73_v1 : Ref sig .tc := ⟨.hbm, 2396, rfl⟩
abbrev main_call73_v2 : Ref sig .tc := ⟨.hbm, 2397, rfl⟩
abbrev main_call73_v3 : Ref sig .tc := ⟨.hbm, 2398, rfl⟩
abbrev main_call73_v4 : Ref sig .tc := ⟨.hbm, 2399, rfl⟩
abbrev main_v1254 : Ref sig .tc := ⟨.hbm, 2400, rfl⟩
abbrev main_v1255 : Ref sig .tc := ⟨.hbm, 2401, rfl⟩
abbrev main_c_302 : Ref sig .tc := ⟨.hbm, 2402, rfl⟩
abbrev main_v1256 : Ref sig .tc := ⟨.hbm, 2403, rfl⟩
abbrev main_v1257 : Ref sig .tc := ⟨.hbm, 2404, rfl⟩
abbrev main_v1258 : Ref sig .tc := ⟨.hbm, 2405, rfl⟩
abbrev main_v1259 : Ref sig .tc := ⟨.hbm, 2406, rfl⟩
abbrev main_v1260 : Ref sig .tc := ⟨.hbm, 2407, rfl⟩
abbrev main_v1261 : Ref sig .tc := ⟨.hbm, 2408, rfl⟩
abbrev main_call74_c : Ref sig .tc := ⟨.hbm, 2409, rfl⟩
abbrev main_call74_v0 : Ref sig .tc := ⟨.hbm, 2410, rfl⟩
abbrev main_call74_v1 : Ref sig .tc := ⟨.hbm, 2411, rfl⟩
abbrev main_call74_c_0 : Ref sig .tc := ⟨.hbm, 2412, rfl⟩
abbrev main_call74_v2 : Ref sig .tc := ⟨.hbm, 2413, rfl⟩
abbrev main_call74_v3 : Ref sig .tc := ⟨.hbm, 2414, rfl⟩
abbrev main_call74_v4 : Ref sig .tc := ⟨.hbm, 2415, rfl⟩
abbrev main_call74_v5 : Ref sig .tc := ⟨.hbm, 2416, rfl⟩
abbrev main_call74_c_1 : Ref sig .tc := ⟨.hbm, 2417, rfl⟩
abbrev main_call74_c_2 : Ref sig .tc := ⟨.hbm, 2418, rfl⟩
abbrev main_call74_v6 : Ref sig .tc := ⟨.hbm, 2419, rfl⟩
abbrev main_call74_v7 : Ref sig .tc := ⟨.hbm, 2420, rfl⟩
abbrev main_call74_v8 : Ref sig .tc := ⟨.hbm, 2421, rfl⟩
abbrev main_call74_v9 : Ref sig .tc := ⟨.hbm, 2422, rfl⟩
abbrev main_call74_v10 : Ref sig .tc := ⟨.hbm, 2423, rfl⟩
abbrev main_call74_v11 : Ref sig .tc := ⟨.hbm, 2424, rfl⟩
abbrev main_call74_c_3 : Ref sig .tc := ⟨.hbm, 2425, rfl⟩
abbrev main_call74_v12 : Ref sig .tc := ⟨.hbm, 2426, rfl⟩
abbrev main_call74_v13 : Ref sig .tc := ⟨.hbm, 2427, rfl⟩
abbrev main_call74_cst : Ref sig .tc := ⟨.hbm, 2428, rfl⟩
abbrev main_call74_v14 : Ref sig .tc := ⟨.hbm, 2429, rfl⟩
abbrev main_v1262 : Ref sig .tc := ⟨.hbm, 2430, rfl⟩
abbrev main_v1263 : Ref sig .tc := ⟨.hbm, 2431, rfl⟩
abbrev main_v1264 : Ref sig .tc := ⟨.hbm, 2432, rfl⟩
abbrev main_v1265 : Ref sig .tc := ⟨.hbm, 2433, rfl⟩
abbrev main_v1266 : Ref sig .tc := ⟨.hbm, 2434, rfl⟩
abbrev main_v1267 : Ref sig .tc := ⟨.hbm, 2435, rfl⟩
abbrev main_v1268 : Ref sig .tc := ⟨.hbm, 2436, rfl⟩
abbrev main_v1269 : Ref sig .tc := ⟨.hbm, 2437, rfl⟩
abbrev main_v1270 : Ref sig .tc := ⟨.hbm, 2438, rfl⟩
abbrev main_v1271 : Ref sig .tc := ⟨.hbm, 2439, rfl⟩
abbrev main_cst_303 : Ref sig .tc := ⟨.hbm, 2440, rfl⟩
abbrev main_v1272 : Ref sig .tc := ⟨.hbm, 2441, rfl⟩
abbrev main_v1273 : Ref sig .tc := ⟨.hbm, 2442, rfl⟩
abbrev main_cst_304 : Ref sig .tc := ⟨.hbm, 2443, rfl⟩
abbrev main_v1274 : Ref sig .tc := ⟨.hbm, 2444, rfl⟩
abbrev main_v1275 : Ref sig .tc := ⟨.hbm, 2445, rfl⟩
abbrev main_v1276 : Ref sig .tc := ⟨.hbm, 2446, rfl⟩
abbrev main_cst_305 : Ref sig .tc := ⟨.hbm, 2447, rfl⟩
abbrev main_v1277 : Ref sig .tc := ⟨.hbm, 2448, rfl⟩
abbrev main_v1278 : Ref sig .tc := ⟨.hbm, 2449, rfl⟩
abbrev main_v1279 : Ref sig .tc := ⟨.hbm, 2450, rfl⟩
abbrev main_cst_306 : Ref sig .tc := ⟨.hbm, 2451, rfl⟩
abbrev main_v1280 : Ref sig .tc := ⟨.hbm, 2452, rfl⟩
abbrev main_v1281 : Ref sig .tc := ⟨.hbm, 2453, rfl⟩
abbrev main_v1282 : Ref sig .tc := ⟨.hbm, 2454, rfl⟩
abbrev main_c_307 : Ref sig .tc := ⟨.hbm, 2455, rfl⟩
abbrev main_c_308 : Ref sig .tc := ⟨.hbm, 2456, rfl⟩
abbrev main_call75_v0 : Ref sig .tc := ⟨.hbm, 2457, rfl⟩
abbrev main_call75_v1 : Ref sig .tc := ⟨.hbm, 2458, rfl⟩
abbrev main_call75_v2 : Ref sig .tc := ⟨.hbm, 2459, rfl⟩
abbrev main_call75_v3 : Ref sig .tc := ⟨.hbm, 2460, rfl⟩
abbrev main_call75_v4 : Ref sig .tc := ⟨.hbm, 2461, rfl⟩
abbrev main_v1283 : Ref sig .tc := ⟨.hbm, 2462, rfl⟩
abbrev main_v1284 : Ref sig .tc := ⟨.hbm, 2463, rfl⟩
abbrev main_c_309 : Ref sig .tc := ⟨.hbm, 2464, rfl⟩
abbrev main_c_310 : Ref sig .tc := ⟨.hbm, 2465, rfl⟩
abbrev main_call76_v0 : Ref sig .tc := ⟨.hbm, 2466, rfl⟩
abbrev main_call76_v1 : Ref sig .tc := ⟨.hbm, 2467, rfl⟩
abbrev main_call76_v2 : Ref sig .tc := ⟨.hbm, 2468, rfl⟩
abbrev main_call76_v3 : Ref sig .tc := ⟨.hbm, 2469, rfl⟩
abbrev main_call76_v4 : Ref sig .tc := ⟨.hbm, 2470, rfl⟩
abbrev main_v1285 : Ref sig .tc := ⟨.hbm, 2471, rfl⟩
abbrev main_v1286 : Ref sig .tc := ⟨.hbm, 2472, rfl⟩
abbrev main_c_311 : Ref sig .tc := ⟨.hbm, 2473, rfl⟩
abbrev main_v1287 : Ref sig .tc := ⟨.hbm, 2474, rfl⟩
abbrev main_v1288 : Ref sig .tc := ⟨.hbm, 2475, rfl⟩
abbrev main_v1289 : Ref sig .tc := ⟨.hbm, 2476, rfl⟩
abbrev main_v1290 : Ref sig .tc := ⟨.hbm, 2477, rfl⟩
abbrev main_v1291 : Ref sig .tc := ⟨.hbm, 2478, rfl⟩
abbrev main_v1292 : Ref sig .tc := ⟨.hbm, 2479, rfl⟩
abbrev main_call77_c : Ref sig .tc := ⟨.hbm, 2480, rfl⟩
abbrev main_call77_v0 : Ref sig .tc := ⟨.hbm, 2481, rfl⟩
abbrev main_call77_v1 : Ref sig .tc := ⟨.hbm, 2482, rfl⟩
abbrev main_call77_c_0 : Ref sig .tc := ⟨.hbm, 2483, rfl⟩
abbrev main_call77_v2 : Ref sig .tc := ⟨.hbm, 2484, rfl⟩
abbrev main_call77_v3 : Ref sig .tc := ⟨.hbm, 2485, rfl⟩
abbrev main_call77_v4 : Ref sig .tc := ⟨.hbm, 2486, rfl⟩
abbrev main_call77_v5 : Ref sig .tc := ⟨.hbm, 2487, rfl⟩
abbrev main_call77_c_1 : Ref sig .tc := ⟨.hbm, 2488, rfl⟩
abbrev main_call77_c_2 : Ref sig .tc := ⟨.hbm, 2489, rfl⟩
abbrev main_call77_v6 : Ref sig .tc := ⟨.hbm, 2490, rfl⟩
abbrev main_call77_v7 : Ref sig .tc := ⟨.hbm, 2491, rfl⟩
abbrev main_call77_v8 : Ref sig .tc := ⟨.hbm, 2492, rfl⟩
abbrev main_call77_v9 : Ref sig .tc := ⟨.hbm, 2493, rfl⟩
abbrev main_call77_v10 : Ref sig .tc := ⟨.hbm, 2494, rfl⟩
abbrev main_call77_v11 : Ref sig .tc := ⟨.hbm, 2495, rfl⟩
abbrev main_call77_c_3 : Ref sig .tc := ⟨.hbm, 2496, rfl⟩
abbrev main_call77_v12 : Ref sig .tc := ⟨.hbm, 2497, rfl⟩
abbrev main_call77_v13 : Ref sig .tc := ⟨.hbm, 2498, rfl⟩
abbrev main_call77_cst : Ref sig .tc := ⟨.hbm, 2499, rfl⟩
abbrev main_call77_v14 : Ref sig .tc := ⟨.hbm, 2500, rfl⟩
abbrev main_v1293 : Ref sig .tc := ⟨.hbm, 2501, rfl⟩
abbrev main_v1294 : Ref sig .tc := ⟨.hbm, 2502, rfl⟩
abbrev main_v1295 : Ref sig .tc := ⟨.hbm, 2503, rfl⟩
abbrev main_v1296 : Ref sig .tc := ⟨.hbm, 2504, rfl⟩
abbrev main_v1297 : Ref sig .tc := ⟨.hbm, 2505, rfl⟩
abbrev main_v1298 : Ref sig .tc := ⟨.hbm, 2506, rfl⟩
abbrev main_v1299 : Ref sig .tc := ⟨.hbm, 2507, rfl⟩
abbrev main_v1300 : Ref sig .tc := ⟨.hbm, 2508, rfl⟩
abbrev main_v1301 : Ref sig .tc := ⟨.hbm, 2509, rfl⟩
abbrev main_v1302 : Ref sig .tc := ⟨.hbm, 2510, rfl⟩
abbrev main_cst_312 : Ref sig .tc := ⟨.hbm, 2511, rfl⟩
abbrev main_v1303 : Ref sig .tc := ⟨.hbm, 2512, rfl⟩
abbrev main_v1304 : Ref sig .tc := ⟨.hbm, 2513, rfl⟩
abbrev main_cst_313 : Ref sig .tc := ⟨.hbm, 2514, rfl⟩
abbrev main_v1305 : Ref sig .tc := ⟨.hbm, 2515, rfl⟩
abbrev main_v1306 : Ref sig .tc := ⟨.hbm, 2516, rfl⟩
abbrev main_v1307 : Ref sig .tc := ⟨.hbm, 2517, rfl⟩
abbrev main_cst_314 : Ref sig .tc := ⟨.hbm, 2518, rfl⟩
abbrev main_v1308 : Ref sig .tc := ⟨.hbm, 2519, rfl⟩
abbrev main_v1309 : Ref sig .tc := ⟨.hbm, 2520, rfl⟩
abbrev main_v1310 : Ref sig .tc := ⟨.hbm, 2521, rfl⟩
abbrev main_cst_315 : Ref sig .tc := ⟨.hbm, 2522, rfl⟩
abbrev main_v1311 : Ref sig .tc := ⟨.hbm, 2523, rfl⟩
abbrev main_v1312 : Ref sig .tc := ⟨.hbm, 2524, rfl⟩
abbrev main_v1313 : Ref sig .tc := ⟨.hbm, 2525, rfl⟩
abbrev main_c_316 : Ref sig .tc := ⟨.hbm, 2526, rfl⟩
abbrev main_c_317 : Ref sig .tc := ⟨.hbm, 2527, rfl⟩
abbrev main_call78_v0 : Ref sig .tc := ⟨.hbm, 2528, rfl⟩
abbrev main_call78_v1 : Ref sig .tc := ⟨.hbm, 2529, rfl⟩
abbrev main_call78_v2 : Ref sig .tc := ⟨.hbm, 2530, rfl⟩
abbrev main_call78_v3 : Ref sig .tc := ⟨.hbm, 2531, rfl⟩
abbrev main_call78_v4 : Ref sig .tc := ⟨.hbm, 2532, rfl⟩
abbrev main_v1314 : Ref sig .tc := ⟨.hbm, 2533, rfl⟩
abbrev main_v1315 : Ref sig .tc := ⟨.hbm, 2534, rfl⟩
abbrev main_c_318 : Ref sig .tc := ⟨.hbm, 2535, rfl⟩
abbrev main_c_319 : Ref sig .tc := ⟨.hbm, 2536, rfl⟩
abbrev main_call79_v0 : Ref sig .tc := ⟨.hbm, 2537, rfl⟩
abbrev main_call79_v1 : Ref sig .tc := ⟨.hbm, 2538, rfl⟩
abbrev main_call79_v2 : Ref sig .tc := ⟨.hbm, 2539, rfl⟩
abbrev main_call79_v3 : Ref sig .tc := ⟨.hbm, 2540, rfl⟩
abbrev main_call79_v4 : Ref sig .tc := ⟨.hbm, 2541, rfl⟩
abbrev main_v1316 : Ref sig .tc := ⟨.hbm, 2542, rfl⟩
abbrev main_v1317 : Ref sig .tc := ⟨.hbm, 2543, rfl⟩
abbrev main_c_320 : Ref sig .tc := ⟨.hbm, 2544, rfl⟩
abbrev main_v1318 : Ref sig .tc := ⟨.hbm, 2545, rfl⟩
abbrev main_v1319 : Ref sig .tc := ⟨.hbm, 2546, rfl⟩
abbrev main_v1320 : Ref sig .tc := ⟨.hbm, 2547, rfl⟩
abbrev main_v1321 : Ref sig .tc := ⟨.hbm, 2548, rfl⟩
abbrev main_v1322 : Ref sig .tc := ⟨.hbm, 2549, rfl⟩
abbrev main_v1323 : Ref sig .tc := ⟨.hbm, 2550, rfl⟩
abbrev main_call80_c : Ref sig .tc := ⟨.hbm, 2551, rfl⟩
abbrev main_call80_v0 : Ref sig .tc := ⟨.hbm, 2552, rfl⟩
abbrev main_call80_v1 : Ref sig .tc := ⟨.hbm, 2553, rfl⟩
abbrev main_call80_c_0 : Ref sig .tc := ⟨.hbm, 2554, rfl⟩
abbrev main_call80_v2 : Ref sig .tc := ⟨.hbm, 2555, rfl⟩
abbrev main_call80_v3 : Ref sig .tc := ⟨.hbm, 2556, rfl⟩
abbrev main_call80_v4 : Ref sig .tc := ⟨.hbm, 2557, rfl⟩
abbrev main_call80_v5 : Ref sig .tc := ⟨.hbm, 2558, rfl⟩
abbrev main_call80_c_1 : Ref sig .tc := ⟨.hbm, 2559, rfl⟩
abbrev main_call80_c_2 : Ref sig .tc := ⟨.hbm, 2560, rfl⟩
abbrev main_call80_v6 : Ref sig .tc := ⟨.hbm, 2561, rfl⟩
abbrev main_call80_v7 : Ref sig .tc := ⟨.hbm, 2562, rfl⟩
abbrev main_call80_v8 : Ref sig .tc := ⟨.hbm, 2563, rfl⟩
abbrev main_call80_v9 : Ref sig .tc := ⟨.hbm, 2564, rfl⟩
abbrev main_call80_v10 : Ref sig .tc := ⟨.hbm, 2565, rfl⟩
abbrev main_call80_v11 : Ref sig .tc := ⟨.hbm, 2566, rfl⟩
abbrev main_call80_c_3 : Ref sig .tc := ⟨.hbm, 2567, rfl⟩
abbrev main_call80_v12 : Ref sig .tc := ⟨.hbm, 2568, rfl⟩
abbrev main_call80_v13 : Ref sig .tc := ⟨.hbm, 2569, rfl⟩
abbrev main_call80_cst : Ref sig .tc := ⟨.hbm, 2570, rfl⟩
abbrev main_call80_v14 : Ref sig .tc := ⟨.hbm, 2571, rfl⟩
abbrev main_v1324 : Ref sig .tc := ⟨.hbm, 2572, rfl⟩
abbrev main_v1325 : Ref sig .tc := ⟨.hbm, 2573, rfl⟩
abbrev main_v1326 : Ref sig .tc := ⟨.hbm, 2574, rfl⟩
abbrev main_v1327 : Ref sig .tc := ⟨.hbm, 2575, rfl⟩
abbrev main_v1328 : Ref sig .tc := ⟨.hbm, 2576, rfl⟩
abbrev main_v1329 : Ref sig .tc := ⟨.hbm, 2577, rfl⟩
abbrev main_v1330 : Ref sig .tc := ⟨.hbm, 2578, rfl⟩
abbrev main_v1331 : Ref sig .tc := ⟨.hbm, 2579, rfl⟩
abbrev main_v1332 : Ref sig .tc := ⟨.hbm, 2580, rfl⟩
abbrev main_v1333 : Ref sig .tc := ⟨.hbm, 2581, rfl⟩
abbrev main_v1334 : Ref sig .tc := ⟨.hbm, 2582, rfl⟩
abbrev main_v1335 : Ref sig .tc := ⟨.hbm, 2583, rfl⟩
abbrev main_v1336 : Ref sig .tc := ⟨.hbm, 2584, rfl⟩
abbrev main_v1337 : Ref sig .tc := ⟨.hbm, 2585, rfl⟩
abbrev main_v1338 : Ref sig .tc := ⟨.hbm, 2586, rfl⟩
abbrev main_v1339 : Ref sig .tc := ⟨.hbm, 2587, rfl⟩
abbrev main_v1340 : Ref sig .tc := ⟨.hbm, 2588, rfl⟩
abbrev main_v1341 : Ref sig .tc := ⟨.hbm, 2589, rfl⟩
abbrev main_v1342 : Ref sig .tc := ⟨.hbm, 2590, rfl⟩
abbrev main_cst_321 : Ref sig .tc := ⟨.hbm, 2591, rfl⟩
abbrev main_v1343 : Ref sig .tc := ⟨.hbm, 2592, rfl⟩
abbrev main_v1344 : Ref sig .tc := ⟨.hbm, 2593, rfl⟩
abbrev main_cst_322 : Ref sig .tc := ⟨.hbm, 2594, rfl⟩
abbrev main_v1345 : Ref sig .tc := ⟨.hbm, 2595, rfl⟩
abbrev main_v1346 : Ref sig .tc := ⟨.hbm, 2596, rfl⟩
abbrev main_cst_323 : Ref sig .tc := ⟨.hbm, 2597, rfl⟩
abbrev main_v1347 : Ref sig .tc := ⟨.hbm, 2598, rfl⟩
abbrev main_v1348 : Ref sig .tc := ⟨.hbm, 2599, rfl⟩
abbrev main_cst_324 : Ref sig .tc := ⟨.hbm, 2600, rfl⟩
abbrev main_v1349 : Ref sig .tc := ⟨.hbm, 2601, rfl⟩
abbrev main_v1350 : Ref sig .tc := ⟨.hbm, 2602, rfl⟩
abbrev main_v1351 : Ref sig .tc := ⟨.hbm, 2603, rfl⟩
abbrev main_v1352 : Ref sig .tc := ⟨.hbm, 2604, rfl⟩
abbrev main_cst_325 : Ref sig .tc := ⟨.hbm, 2605, rfl⟩
abbrev main_v1353 : Ref sig .tc := ⟨.hbm, 2606, rfl⟩
abbrev main_v1354 : Ref sig .tc := ⟨.hbm, 2607, rfl⟩
abbrev main_cst_326 : Ref sig .tc := ⟨.hbm, 2608, rfl⟩
abbrev main_v1355 : Ref sig .tc := ⟨.hbm, 2609, rfl⟩
abbrev main_v1356 : Ref sig .tc := ⟨.hbm, 2610, rfl⟩
abbrev main_cst_327 : Ref sig .tc := ⟨.hbm, 2611, rfl⟩
abbrev main_v1357 : Ref sig .tc := ⟨.hbm, 2612, rfl⟩
abbrev main_v1358 : Ref sig .tc := ⟨.hbm, 2613, rfl⟩
abbrev main_cst_328 : Ref sig .tc := ⟨.hbm, 2614, rfl⟩
abbrev main_v1359 : Ref sig .tc := ⟨.hbm, 2615, rfl⟩
abbrev main_v1360 : Ref sig .tc := ⟨.hbm, 2616, rfl⟩
abbrev main_v1361 : Ref sig .tc := ⟨.hbm, 2617, rfl⟩
abbrev main_v1362 : Ref sig .tc := ⟨.hbm, 2618, rfl⟩
abbrev main_cst_329 : Ref sig .tc := ⟨.hbm, 2619, rfl⟩
abbrev main_v1363 : Ref sig .tc := ⟨.hbm, 2620, rfl⟩
abbrev main_v1364 : Ref sig .tc := ⟨.hbm, 2621, rfl⟩
abbrev main_cst_330 : Ref sig .tc := ⟨.hbm, 2622, rfl⟩
abbrev main_v1365 : Ref sig .tc := ⟨.hbm, 2623, rfl⟩
abbrev main_v1366 : Ref sig .tc := ⟨.hbm, 2624, rfl⟩
abbrev main_v1367 : Ref sig .tc := ⟨.hbm, 2625, rfl⟩
abbrev main_v1368 : Ref sig .tc := ⟨.hbm, 2626, rfl⟩
abbrev main_v1369 : Ref sig .tc := ⟨.hbm, 2627, rfl⟩
abbrev main_v1370 : Ref sig .tc := ⟨.hbm, 2628, rfl⟩
abbrev main_v1371 : Ref sig .tc := ⟨.hbm, 2629, rfl⟩
abbrev main_v1372 : Ref sig .tc := ⟨.hbm, 2630, rfl⟩
abbrev main_v1373 : Ref sig .tc := ⟨.hbm, 2631, rfl⟩
abbrev main_v1374 : Ref sig .tc := ⟨.hbm, 2632, rfl⟩
abbrev main_v1375 : Ref sig .tc := ⟨.hbm, 2633, rfl⟩
abbrev main_v1376 : Ref sig .tc := ⟨.hbm, 2634, rfl⟩
abbrev main_v1377 : Ref sig .tc := ⟨.hbm, 2635, rfl⟩
abbrev main_v1378 : Ref sig .tc := ⟨.hbm, 2636, rfl⟩
abbrev main_v1379 : Ref sig .tc := ⟨.hbm, 2637, rfl⟩
abbrev main_cst_331 : Ref sig .tc := ⟨.hbm, 2638, rfl⟩
abbrev main_v1380 : Ref sig .tc := ⟨.hbm, 2639, rfl⟩
abbrev main_v1381 : Ref sig .tc := ⟨.hbm, 2640, rfl⟩
abbrev main_cst_332 : Ref sig .tc := ⟨.hbm, 2641, rfl⟩
abbrev main_v1382 : Ref sig .tc := ⟨.hbm, 2642, rfl⟩
abbrev main_v1383 : Ref sig .tc := ⟨.hbm, 2643, rfl⟩
abbrev main_v1384 : Ref sig .tc := ⟨.hbm, 2644, rfl⟩
abbrev main_cst_333 : Ref sig .tc := ⟨.hbm, 2645, rfl⟩
abbrev main_v1385 : Ref sig .tc := ⟨.hbm, 2646, rfl⟩
abbrev main_v1386 : Ref sig .tc := ⟨.hbm, 2647, rfl⟩
abbrev main_v1387 : Ref sig .tc := ⟨.hbm, 2648, rfl⟩
abbrev main_cst_334 : Ref sig .tc := ⟨.hbm, 2649, rfl⟩
abbrev main_v1388 : Ref sig .tc := ⟨.hbm, 2650, rfl⟩
abbrev main_v1389 : Ref sig .tc := ⟨.hbm, 2651, rfl⟩
abbrev main_v1390 : Ref sig .tc := ⟨.hbm, 2652, rfl⟩
abbrev main_c_335 : Ref sig .tc := ⟨.hbm, 2653, rfl⟩
abbrev main_c_336 : Ref sig .tc := ⟨.hbm, 2654, rfl⟩
abbrev main_call81_v0 : Ref sig .tc := ⟨.hbm, 2655, rfl⟩
abbrev main_call81_v1 : Ref sig .tc := ⟨.hbm, 2656, rfl⟩
abbrev main_call81_v2 : Ref sig .tc := ⟨.hbm, 2657, rfl⟩
abbrev main_call81_v3 : Ref sig .tc := ⟨.hbm, 2658, rfl⟩
abbrev main_call81_v4 : Ref sig .tc := ⟨.hbm, 2659, rfl⟩
abbrev main_v1391 : Ref sig .tc := ⟨.hbm, 2660, rfl⟩
abbrev main_v1392 : Ref sig .tc := ⟨.hbm, 2661, rfl⟩
abbrev main_c_337 : Ref sig .tc := ⟨.hbm, 2662, rfl⟩
abbrev main_c_338 : Ref sig .tc := ⟨.hbm, 2663, rfl⟩
abbrev main_call82_v0 : Ref sig .tc := ⟨.hbm, 2664, rfl⟩
abbrev main_call82_v1 : Ref sig .tc := ⟨.hbm, 2665, rfl⟩
abbrev main_call82_v2 : Ref sig .tc := ⟨.hbm, 2666, rfl⟩
abbrev main_call82_v3 : Ref sig .tc := ⟨.hbm, 2667, rfl⟩
abbrev main_call82_v4 : Ref sig .tc := ⟨.hbm, 2668, rfl⟩
abbrev main_v1393 : Ref sig .tc := ⟨.hbm, 2669, rfl⟩
abbrev main_v1394 : Ref sig .tc := ⟨.hbm, 2670, rfl⟩
abbrev main_c_339 : Ref sig .tc := ⟨.hbm, 2671, rfl⟩
abbrev main_v1395 : Ref sig .tc := ⟨.hbm, 2672, rfl⟩
abbrev main_v1396 : Ref sig .tc := ⟨.hbm, 2673, rfl⟩
abbrev main_v1397 : Ref sig .tc := ⟨.hbm, 2674, rfl⟩
abbrev main_v1398 : Ref sig .tc := ⟨.hbm, 2675, rfl⟩
abbrev main_v1399 : Ref sig .tc := ⟨.hbm, 2676, rfl⟩
abbrev main_v1400 : Ref sig .tc := ⟨.hbm, 2677, rfl⟩
abbrev main_call83_c : Ref sig .tc := ⟨.hbm, 2678, rfl⟩
abbrev main_call83_v0 : Ref sig .tc := ⟨.hbm, 2679, rfl⟩
abbrev main_call83_v1 : Ref sig .tc := ⟨.hbm, 2680, rfl⟩
abbrev main_call83_c_0 : Ref sig .tc := ⟨.hbm, 2681, rfl⟩
abbrev main_call83_v2 : Ref sig .tc := ⟨.hbm, 2682, rfl⟩
abbrev main_call83_v3 : Ref sig .tc := ⟨.hbm, 2683, rfl⟩
abbrev main_call83_v4 : Ref sig .tc := ⟨.hbm, 2684, rfl⟩
abbrev main_call83_v5 : Ref sig .tc := ⟨.hbm, 2685, rfl⟩
abbrev main_call83_c_1 : Ref sig .tc := ⟨.hbm, 2686, rfl⟩
abbrev main_call83_c_2 : Ref sig .tc := ⟨.hbm, 2687, rfl⟩
abbrev main_call83_v6 : Ref sig .tc := ⟨.hbm, 2688, rfl⟩
abbrev main_call83_v7 : Ref sig .tc := ⟨.hbm, 2689, rfl⟩
abbrev main_call83_v8 : Ref sig .tc := ⟨.hbm, 2690, rfl⟩
abbrev main_call83_v9 : Ref sig .tc := ⟨.hbm, 2691, rfl⟩
abbrev main_call83_v10 : Ref sig .tc := ⟨.hbm, 2692, rfl⟩
abbrev main_call83_v11 : Ref sig .tc := ⟨.hbm, 2693, rfl⟩
abbrev main_call83_c_3 : Ref sig .tc := ⟨.hbm, 2694, rfl⟩
abbrev main_call83_v12 : Ref sig .tc := ⟨.hbm, 2695, rfl⟩
abbrev main_call83_v13 : Ref sig .tc := ⟨.hbm, 2696, rfl⟩
abbrev main_call83_cst : Ref sig .tc := ⟨.hbm, 2697, rfl⟩
abbrev main_call83_v14 : Ref sig .tc := ⟨.hbm, 2698, rfl⟩
abbrev main_v1401 : Ref sig .tc := ⟨.hbm, 2699, rfl⟩
abbrev main_v1402 : Ref sig .tc := ⟨.hbm, 2700, rfl⟩
abbrev main_v1403 : Ref sig .tc := ⟨.hbm, 2701, rfl⟩
abbrev main_v1404 : Ref sig .tc := ⟨.hbm, 2702, rfl⟩
abbrev main_v1405 : Ref sig .tc := ⟨.hbm, 2703, rfl⟩
abbrev main_v1406 : Ref sig .tc := ⟨.hbm, 2704, rfl⟩
abbrev main_v1407 : Ref sig .tc := ⟨.hbm, 2705, rfl⟩
abbrev main_v1408 : Ref sig .tc := ⟨.hbm, 2706, rfl⟩
abbrev main_v1409 : Ref sig .tc := ⟨.hbm, 2707, rfl⟩
abbrev main_cst_340 : Ref sig .tc := ⟨.hbm, 2708, rfl⟩
abbrev main_v1410 : Ref sig .tc := ⟨.hbm, 2709, rfl⟩
abbrev main_v1411 : Ref sig .tc := ⟨.hbm, 2710, rfl⟩
abbrev main_cst_341 : Ref sig .tc := ⟨.hbm, 2711, rfl⟩
abbrev main_v1412 : Ref sig .tc := ⟨.hbm, 2712, rfl⟩
abbrev main_v1413 : Ref sig .tc := ⟨.hbm, 2713, rfl⟩
abbrev main_v1414 : Ref sig .tc := ⟨.hbm, 2714, rfl⟩
abbrev main_cst_342 : Ref sig .tc := ⟨.hbm, 2715, rfl⟩
abbrev main_v1415 : Ref sig .tc := ⟨.hbm, 2716, rfl⟩
abbrev main_v1416 : Ref sig .tc := ⟨.hbm, 2717, rfl⟩
abbrev main_v1417 : Ref sig .tc := ⟨.hbm, 2718, rfl⟩
abbrev main_cst_343 : Ref sig .tc := ⟨.hbm, 2719, rfl⟩
abbrev main_v1418 : Ref sig .tc := ⟨.hbm, 2720, rfl⟩
abbrev main_v1419 : Ref sig .tc := ⟨.hbm, 2721, rfl⟩
abbrev main_v1420 : Ref sig .tc := ⟨.hbm, 2722, rfl⟩
abbrev main_c_344 : Ref sig .tc := ⟨.hbm, 2723, rfl⟩
abbrev main_c_345 : Ref sig .tc := ⟨.hbm, 2724, rfl⟩
abbrev main_call84_v0 : Ref sig .tc := ⟨.hbm, 2725, rfl⟩
abbrev main_call84_v1 : Ref sig .tc := ⟨.hbm, 2726, rfl⟩
abbrev main_call84_v2 : Ref sig .tc := ⟨.hbm, 2727, rfl⟩
abbrev main_call84_v3 : Ref sig .tc := ⟨.hbm, 2728, rfl⟩
abbrev main_call84_v4 : Ref sig .tc := ⟨.hbm, 2729, rfl⟩
abbrev main_v1421 : Ref sig .tc := ⟨.hbm, 2730, rfl⟩
abbrev main_v1422 : Ref sig .tc := ⟨.hbm, 2731, rfl⟩
abbrev main_c_346 : Ref sig .tc := ⟨.hbm, 2732, rfl⟩
abbrev main_c_347 : Ref sig .tc := ⟨.hbm, 2733, rfl⟩
abbrev main_call85_v0 : Ref sig .tc := ⟨.hbm, 2734, rfl⟩
abbrev main_call85_v1 : Ref sig .tc := ⟨.hbm, 2735, rfl⟩
abbrev main_call85_v2 : Ref sig .tc := ⟨.hbm, 2736, rfl⟩
abbrev main_call85_v3 : Ref sig .tc := ⟨.hbm, 2737, rfl⟩
abbrev main_call85_v4 : Ref sig .tc := ⟨.hbm, 2738, rfl⟩
abbrev main_v1423 : Ref sig .tc := ⟨.hbm, 2739, rfl⟩
abbrev main_v1424 : Ref sig .tc := ⟨.hbm, 2740, rfl⟩
abbrev main_c_348 : Ref sig .tc := ⟨.hbm, 2741, rfl⟩
abbrev main_v1425 : Ref sig .tc := ⟨.hbm, 2742, rfl⟩
abbrev main_v1426 : Ref sig .tc := ⟨.hbm, 2743, rfl⟩
abbrev main_v1427 : Ref sig .tc := ⟨.hbm, 2744, rfl⟩
abbrev main_v1428 : Ref sig .tc := ⟨.hbm, 2745, rfl⟩
abbrev main_v1429 : Ref sig .tc := ⟨.hbm, 2746, rfl⟩
abbrev main_v1430 : Ref sig .tc := ⟨.hbm, 2747, rfl⟩
abbrev main_call86_c : Ref sig .tc := ⟨.hbm, 2748, rfl⟩
abbrev main_call86_v0 : Ref sig .tc := ⟨.hbm, 2749, rfl⟩
abbrev main_call86_v1 : Ref sig .tc := ⟨.hbm, 2750, rfl⟩
abbrev main_call86_c_0 : Ref sig .tc := ⟨.hbm, 2751, rfl⟩
abbrev main_call86_v2 : Ref sig .tc := ⟨.hbm, 2752, rfl⟩
abbrev main_call86_v3 : Ref sig .tc := ⟨.hbm, 2753, rfl⟩
abbrev main_call86_v4 : Ref sig .tc := ⟨.hbm, 2754, rfl⟩
abbrev main_call86_v5 : Ref sig .tc := ⟨.hbm, 2755, rfl⟩
abbrev main_call86_c_1 : Ref sig .tc := ⟨.hbm, 2756, rfl⟩
abbrev main_call86_c_2 : Ref sig .tc := ⟨.hbm, 2757, rfl⟩
abbrev main_call86_v6 : Ref sig .tc := ⟨.hbm, 2758, rfl⟩
abbrev main_call86_v7 : Ref sig .tc := ⟨.hbm, 2759, rfl⟩
abbrev main_call86_v8 : Ref sig .tc := ⟨.hbm, 2760, rfl⟩
abbrev main_call86_v9 : Ref sig .tc := ⟨.hbm, 2761, rfl⟩
abbrev main_call86_v10 : Ref sig .tc := ⟨.hbm, 2762, rfl⟩
abbrev main_call86_v11 : Ref sig .tc := ⟨.hbm, 2763, rfl⟩
abbrev main_call86_c_3 : Ref sig .tc := ⟨.hbm, 2764, rfl⟩
abbrev main_call86_v12 : Ref sig .tc := ⟨.hbm, 2765, rfl⟩
abbrev main_call86_v13 : Ref sig .tc := ⟨.hbm, 2766, rfl⟩
abbrev main_call86_cst : Ref sig .tc := ⟨.hbm, 2767, rfl⟩
abbrev main_call86_v14 : Ref sig .tc := ⟨.hbm, 2768, rfl⟩
abbrev main_v1431 : Ref sig .tc := ⟨.hbm, 2769, rfl⟩
abbrev main_v1432 : Ref sig .tc := ⟨.hbm, 2770, rfl⟩
abbrev main_v1433 : Ref sig .tc := ⟨.hbm, 2771, rfl⟩
abbrev main_v1434 : Ref sig .tc := ⟨.hbm, 2772, rfl⟩
abbrev main_v1435 : Ref sig .tc := ⟨.hbm, 2773, rfl⟩
abbrev main_v1436 : Ref sig .tc := ⟨.hbm, 2774, rfl⟩
abbrev main_v1437 : Ref sig .tc := ⟨.hbm, 2775, rfl⟩
abbrev main_v1438 : Ref sig .tc := ⟨.hbm, 2776, rfl⟩
abbrev main_v1439 : Ref sig .tc := ⟨.hbm, 2777, rfl⟩
abbrev main_v1440 : Ref sig .tc := ⟨.hbm, 2778, rfl⟩
abbrev main_cst_349 : Ref sig .tc := ⟨.hbm, 2779, rfl⟩
abbrev main_v1441 : Ref sig .tc := ⟨.hbm, 2780, rfl⟩
abbrev main_v1442 : Ref sig .tc := ⟨.hbm, 2781, rfl⟩
abbrev main_cst_350 : Ref sig .tc := ⟨.hbm, 2782, rfl⟩
abbrev main_v1443 : Ref sig .tc := ⟨.hbm, 2783, rfl⟩
abbrev main_v1444 : Ref sig .tc := ⟨.hbm, 2784, rfl⟩
abbrev main_v1445 : Ref sig .tc := ⟨.hbm, 2785, rfl⟩
abbrev main_cst_351 : Ref sig .tc := ⟨.hbm, 2786, rfl⟩
abbrev main_v1446 : Ref sig .tc := ⟨.hbm, 2787, rfl⟩
abbrev main_v1447 : Ref sig .tc := ⟨.hbm, 2788, rfl⟩
abbrev main_v1448 : Ref sig .tc := ⟨.hbm, 2789, rfl⟩
abbrev main_cst_352 : Ref sig .tc := ⟨.hbm, 2790, rfl⟩
abbrev main_v1449 : Ref sig .tc := ⟨.hbm, 2791, rfl⟩
abbrev main_v1450 : Ref sig .tc := ⟨.hbm, 2792, rfl⟩
abbrev main_v1451 : Ref sig .tc := ⟨.hbm, 2793, rfl⟩
abbrev main_c_353 : Ref sig .tc := ⟨.hbm, 2794, rfl⟩
abbrev main_c_354 : Ref sig .tc := ⟨.hbm, 2795, rfl⟩
abbrev main_call87_v0 : Ref sig .tc := ⟨.hbm, 2796, rfl⟩
abbrev main_call87_v1 : Ref sig .tc := ⟨.hbm, 2797, rfl⟩
abbrev main_call87_v2 : Ref sig .tc := ⟨.hbm, 2798, rfl⟩
abbrev main_call87_v3 : Ref sig .tc := ⟨.hbm, 2799, rfl⟩
abbrev main_call87_v4 : Ref sig .tc := ⟨.hbm, 2800, rfl⟩
abbrev main_v1452 : Ref sig .tc := ⟨.hbm, 2801, rfl⟩
abbrev main_v1453 : Ref sig .tc := ⟨.hbm, 2802, rfl⟩
abbrev main_c_355 : Ref sig .tc := ⟨.hbm, 2803, rfl⟩
abbrev main_c_356 : Ref sig .tc := ⟨.hbm, 2804, rfl⟩
abbrev main_call88_v0 : Ref sig .tc := ⟨.hbm, 2805, rfl⟩
abbrev main_call88_v1 : Ref sig .tc := ⟨.hbm, 2806, rfl⟩
abbrev main_call88_v2 : Ref sig .tc := ⟨.hbm, 2807, rfl⟩
abbrev main_call88_v3 : Ref sig .tc := ⟨.hbm, 2808, rfl⟩
abbrev main_call88_v4 : Ref sig .tc := ⟨.hbm, 2809, rfl⟩
abbrev main_v1454 : Ref sig .tc := ⟨.hbm, 2810, rfl⟩
abbrev main_v1455 : Ref sig .tc := ⟨.hbm, 2811, rfl⟩
abbrev main_c_357 : Ref sig .tc := ⟨.hbm, 2812, rfl⟩
abbrev main_v1456 : Ref sig .tc := ⟨.hbm, 2813, rfl⟩
abbrev main_v1457 : Ref sig .tc := ⟨.hbm, 2814, rfl⟩
abbrev main_v1458 : Ref sig .tc := ⟨.hbm, 2815, rfl⟩
abbrev main_v1459 : Ref sig .tc := ⟨.hbm, 2816, rfl⟩
abbrev main_v1460 : Ref sig .tc := ⟨.hbm, 2817, rfl⟩
abbrev main_v1461 : Ref sig .tc := ⟨.hbm, 2818, rfl⟩
abbrev main_call89_c : Ref sig .tc := ⟨.hbm, 2819, rfl⟩
abbrev main_call89_v0 : Ref sig .tc := ⟨.hbm, 2820, rfl⟩
abbrev main_call89_v1 : Ref sig .tc := ⟨.hbm, 2821, rfl⟩
abbrev main_call89_c_0 : Ref sig .tc := ⟨.hbm, 2822, rfl⟩
abbrev main_call89_v2 : Ref sig .tc := ⟨.hbm, 2823, rfl⟩
abbrev main_call89_v3 : Ref sig .tc := ⟨.hbm, 2824, rfl⟩
abbrev main_call89_v4 : Ref sig .tc := ⟨.hbm, 2825, rfl⟩
abbrev main_call89_v5 : Ref sig .tc := ⟨.hbm, 2826, rfl⟩
abbrev main_call89_c_1 : Ref sig .tc := ⟨.hbm, 2827, rfl⟩
abbrev main_call89_c_2 : Ref sig .tc := ⟨.hbm, 2828, rfl⟩
abbrev main_call89_v6 : Ref sig .tc := ⟨.hbm, 2829, rfl⟩
abbrev main_call89_v7 : Ref sig .tc := ⟨.hbm, 2830, rfl⟩
abbrev main_call89_v8 : Ref sig .tc := ⟨.hbm, 2831, rfl⟩
abbrev main_call89_v9 : Ref sig .tc := ⟨.hbm, 2832, rfl⟩
abbrev main_call89_v10 : Ref sig .tc := ⟨.hbm, 2833, rfl⟩
abbrev main_call89_v11 : Ref sig .tc := ⟨.hbm, 2834, rfl⟩
abbrev main_call89_c_3 : Ref sig .tc := ⟨.hbm, 2835, rfl⟩
abbrev main_call89_v12 : Ref sig .tc := ⟨.hbm, 2836, rfl⟩
abbrev main_call89_v13 : Ref sig .tc := ⟨.hbm, 2837, rfl⟩
abbrev main_call89_cst : Ref sig .tc := ⟨.hbm, 2838, rfl⟩
abbrev main_call89_v14 : Ref sig .tc := ⟨.hbm, 2839, rfl⟩
abbrev main_v1462 : Ref sig .tc := ⟨.hbm, 2840, rfl⟩
abbrev main_v1463 : Ref sig .tc := ⟨.hbm, 2841, rfl⟩
abbrev main_v1464 : Ref sig .tc := ⟨.hbm, 2842, rfl⟩
abbrev main_v1465 : Ref sig .tc := ⟨.hbm, 2843, rfl⟩
abbrev main_v1466 : Ref sig .tc := ⟨.hbm, 2844, rfl⟩
abbrev main_v1467 : Ref sig .tc := ⟨.hbm, 2845, rfl⟩
abbrev main_v1468 : Ref sig .tc := ⟨.hbm, 2846, rfl⟩
abbrev main_v1469 : Ref sig .tc := ⟨.hbm, 2847, rfl⟩
abbrev main_v1470 : Ref sig .tc := ⟨.hbm, 2848, rfl⟩
abbrev main_v1471 : Ref sig .tc := ⟨.hbm, 2849, rfl⟩
abbrev main_cst_358 : Ref sig .tc := ⟨.hbm, 2850, rfl⟩
abbrev main_v1472 : Ref sig .tc := ⟨.hbm, 2851, rfl⟩
abbrev main_v1473 : Ref sig .tc := ⟨.hbm, 2852, rfl⟩
abbrev main_cst_359 : Ref sig .tc := ⟨.hbm, 2853, rfl⟩
abbrev main_v1474 : Ref sig .tc := ⟨.hbm, 2854, rfl⟩
abbrev main_v1475 : Ref sig .tc := ⟨.hbm, 2855, rfl⟩
abbrev main_v1476 : Ref sig .tc := ⟨.hbm, 2856, rfl⟩
abbrev main_cst_360 : Ref sig .tc := ⟨.hbm, 2857, rfl⟩
abbrev main_v1477 : Ref sig .tc := ⟨.hbm, 2858, rfl⟩
abbrev main_v1478 : Ref sig .tc := ⟨.hbm, 2859, rfl⟩
abbrev main_v1479 : Ref sig .tc := ⟨.hbm, 2860, rfl⟩
abbrev main_cst_361 : Ref sig .tc := ⟨.hbm, 2861, rfl⟩
abbrev main_v1480 : Ref sig .tc := ⟨.hbm, 2862, rfl⟩
abbrev main_v1481 : Ref sig .tc := ⟨.hbm, 2863, rfl⟩
abbrev main_v1482 : Ref sig .tc := ⟨.hbm, 2864, rfl⟩
abbrev main_c_362 : Ref sig .tc := ⟨.hbm, 2865, rfl⟩
abbrev main_c_363 : Ref sig .tc := ⟨.hbm, 2866, rfl⟩
abbrev main_call90_v0 : Ref sig .tc := ⟨.hbm, 2867, rfl⟩
abbrev main_call90_v1 : Ref sig .tc := ⟨.hbm, 2868, rfl⟩
abbrev main_call90_v2 : Ref sig .tc := ⟨.hbm, 2869, rfl⟩
abbrev main_call90_v3 : Ref sig .tc := ⟨.hbm, 2870, rfl⟩
abbrev main_call90_v4 : Ref sig .tc := ⟨.hbm, 2871, rfl⟩
abbrev main_v1483 : Ref sig .tc := ⟨.hbm, 2872, rfl⟩
abbrev main_v1484 : Ref sig .tc := ⟨.hbm, 2873, rfl⟩
abbrev main_c_364 : Ref sig .tc := ⟨.hbm, 2874, rfl⟩
abbrev main_c_365 : Ref sig .tc := ⟨.hbm, 2875, rfl⟩
abbrev main_call91_v0 : Ref sig .tc := ⟨.hbm, 2876, rfl⟩
abbrev main_call91_v1 : Ref sig .tc := ⟨.hbm, 2877, rfl⟩
abbrev main_call91_v2 : Ref sig .tc := ⟨.hbm, 2878, rfl⟩
abbrev main_call91_v3 : Ref sig .tc := ⟨.hbm, 2879, rfl⟩
abbrev main_call91_v4 : Ref sig .tc := ⟨.hbm, 2880, rfl⟩
abbrev main_v1485 : Ref sig .tc := ⟨.hbm, 2881, rfl⟩
abbrev main_v1486 : Ref sig .tc := ⟨.hbm, 2882, rfl⟩
abbrev main_c_366 : Ref sig .tc := ⟨.hbm, 2883, rfl⟩
abbrev main_v1487 : Ref sig .tc := ⟨.hbm, 2884, rfl⟩
abbrev main_v1488 : Ref sig .tc := ⟨.hbm, 2885, rfl⟩
abbrev main_v1489 : Ref sig .tc := ⟨.hbm, 2886, rfl⟩
abbrev main_v1490 : Ref sig .tc := ⟨.hbm, 2887, rfl⟩
abbrev main_v1491 : Ref sig .tc := ⟨.hbm, 2888, rfl⟩
abbrev main_v1492 : Ref sig .tc := ⟨.hbm, 2889, rfl⟩
abbrev main_call92_c : Ref sig .tc := ⟨.hbm, 2890, rfl⟩
abbrev main_call92_v0 : Ref sig .tc := ⟨.hbm, 2891, rfl⟩
abbrev main_call92_v1 : Ref sig .tc := ⟨.hbm, 2892, rfl⟩
abbrev main_call92_c_0 : Ref sig .tc := ⟨.hbm, 2893, rfl⟩
abbrev main_call92_v2 : Ref sig .tc := ⟨.hbm, 2894, rfl⟩
abbrev main_call92_v3 : Ref sig .tc := ⟨.hbm, 2895, rfl⟩
abbrev main_call92_v4 : Ref sig .tc := ⟨.hbm, 2896, rfl⟩
abbrev main_call92_v5 : Ref sig .tc := ⟨.hbm, 2897, rfl⟩
abbrev main_call92_c_1 : Ref sig .tc := ⟨.hbm, 2898, rfl⟩
abbrev main_call92_c_2 : Ref sig .tc := ⟨.hbm, 2899, rfl⟩
abbrev main_call92_v6 : Ref sig .tc := ⟨.hbm, 2900, rfl⟩
abbrev main_call92_v7 : Ref sig .tc := ⟨.hbm, 2901, rfl⟩
abbrev main_call92_v8 : Ref sig .tc := ⟨.hbm, 2902, rfl⟩
abbrev main_call92_v9 : Ref sig .tc := ⟨.hbm, 2903, rfl⟩
abbrev main_call92_v10 : Ref sig .tc := ⟨.hbm, 2904, rfl⟩
abbrev main_call92_v11 : Ref sig .tc := ⟨.hbm, 2905, rfl⟩
abbrev main_call92_c_3 : Ref sig .tc := ⟨.hbm, 2906, rfl⟩
abbrev main_call92_v12 : Ref sig .tc := ⟨.hbm, 2907, rfl⟩
abbrev main_call92_v13 : Ref sig .tc := ⟨.hbm, 2908, rfl⟩
abbrev main_call92_cst : Ref sig .tc := ⟨.hbm, 2909, rfl⟩
abbrev main_call92_v14 : Ref sig .tc := ⟨.hbm, 2910, rfl⟩
abbrev main_v1493 : Ref sig .tc := ⟨.hbm, 2911, rfl⟩
abbrev main_v1494 : Ref sig .tc := ⟨.hbm, 2912, rfl⟩
abbrev main_v1495 : Ref sig .tc := ⟨.hbm, 2913, rfl⟩
abbrev main_v1496 : Ref sig .tc := ⟨.hbm, 2914, rfl⟩
abbrev main_v1497 : Ref sig .tc := ⟨.hbm, 2915, rfl⟩
abbrev main_v1498 : Ref sig .tc := ⟨.hbm, 2916, rfl⟩
abbrev main_v1499 : Ref sig .tc := ⟨.hbm, 2917, rfl⟩
abbrev main_v1500 : Ref sig .tc := ⟨.hbm, 2918, rfl⟩
abbrev main_v1501 : Ref sig .tc := ⟨.hbm, 2919, rfl⟩
abbrev main_v1502 : Ref sig .tc := ⟨.hbm, 2920, rfl⟩
abbrev main_v1503 : Ref sig .tc := ⟨.hbm, 2921, rfl⟩
abbrev main_v1504 : Ref sig .tc := ⟨.hbm, 2922, rfl⟩
abbrev main_v1505 : Ref sig .tc := ⟨.hbm, 2923, rfl⟩
abbrev main_v1506 : Ref sig .tc := ⟨.hbm, 2924, rfl⟩
abbrev main_v1507 : Ref sig .tc := ⟨.hbm, 2925, rfl⟩
abbrev main_v1508 : Ref sig .tc := ⟨.hbm, 2926, rfl⟩
abbrev main_v1509 : Ref sig .tc := ⟨.hbm, 2927, rfl⟩
abbrev main_v1510 : Ref sig .tc := ⟨.hbm, 2928, rfl⟩
abbrev main_v1511 : Ref sig .tc := ⟨.hbm, 2929, rfl⟩
abbrev main_cst_367 : Ref sig .tc := ⟨.hbm, 2930, rfl⟩
abbrev main_v1512 : Ref sig .tc := ⟨.hbm, 2931, rfl⟩
abbrev main_v1513 : Ref sig .tc := ⟨.hbm, 2932, rfl⟩
abbrev main_cst_368 : Ref sig .tc := ⟨.hbm, 2933, rfl⟩
abbrev main_v1514 : Ref sig .tc := ⟨.hbm, 2934, rfl⟩
abbrev main_v1515 : Ref sig .tc := ⟨.hbm, 2935, rfl⟩
abbrev main_cst_369 : Ref sig .tc := ⟨.hbm, 2936, rfl⟩
abbrev main_v1516 : Ref sig .tc := ⟨.hbm, 2937, rfl⟩
abbrev main_v1517 : Ref sig .tc := ⟨.hbm, 2938, rfl⟩
abbrev main_cst_370 : Ref sig .tc := ⟨.hbm, 2939, rfl⟩
abbrev main_v1518 : Ref sig .tc := ⟨.hbm, 2940, rfl⟩
abbrev main_v1519 : Ref sig .tc := ⟨.hbm, 2941, rfl⟩
abbrev main_v1520 : Ref sig .tc := ⟨.hbm, 2942, rfl⟩
abbrev main_v1521 : Ref sig .tc := ⟨.hbm, 2943, rfl⟩
abbrev main_cst_371 : Ref sig .tc := ⟨.hbm, 2944, rfl⟩
abbrev main_v1522 : Ref sig .tc := ⟨.hbm, 2945, rfl⟩
abbrev main_v1523 : Ref sig .tc := ⟨.hbm, 2946, rfl⟩
abbrev main_cst_372 : Ref sig .tc := ⟨.hbm, 2947, rfl⟩
abbrev main_v1524 : Ref sig .tc := ⟨.hbm, 2948, rfl⟩
abbrev main_v1525 : Ref sig .tc := ⟨.hbm, 2949, rfl⟩
abbrev main_cst_373 : Ref sig .tc := ⟨.hbm, 2950, rfl⟩
abbrev main_v1526 : Ref sig .tc := ⟨.hbm, 2951, rfl⟩
abbrev main_v1527 : Ref sig .tc := ⟨.hbm, 2952, rfl⟩
abbrev main_cst_374 : Ref sig .tc := ⟨.hbm, 2953, rfl⟩
abbrev main_v1528 : Ref sig .tc := ⟨.hbm, 2954, rfl⟩
abbrev main_v1529 : Ref sig .tc := ⟨.hbm, 2955, rfl⟩
abbrev main_v1530 : Ref sig .tc := ⟨.hbm, 2956, rfl⟩
abbrev main_v1531 : Ref sig .tc := ⟨.hbm, 2957, rfl⟩
abbrev main_cst_375 : Ref sig .tc := ⟨.hbm, 2958, rfl⟩
abbrev main_v1532 : Ref sig .tc := ⟨.hbm, 2959, rfl⟩
abbrev main_v1533 : Ref sig .tc := ⟨.hbm, 2960, rfl⟩
abbrev main_cst_376 : Ref sig .tc := ⟨.hbm, 2961, rfl⟩
abbrev main_v1534 : Ref sig .tc := ⟨.hbm, 2962, rfl⟩
abbrev main_v1535 : Ref sig .tc := ⟨.hbm, 2963, rfl⟩
abbrev main_v1536 : Ref sig .tc := ⟨.hbm, 2964, rfl⟩
abbrev main_v1537 : Ref sig .tc := ⟨.hbm, 2965, rfl⟩
abbrev main_v1538 : Ref sig .tc := ⟨.hbm, 2966, rfl⟩
abbrev main_v1539 : Ref sig .tc := ⟨.hbm, 2967, rfl⟩
abbrev main_v1540 : Ref sig .tc := ⟨.hbm, 2968, rfl⟩
abbrev main_v1541 : Ref sig .tc := ⟨.hbm, 2969, rfl⟩
abbrev main_v1542 : Ref sig .tc := ⟨.hbm, 2970, rfl⟩
abbrev main_v1543 : Ref sig .tc := ⟨.hbm, 2971, rfl⟩
abbrev main_v1544 : Ref sig .tc := ⟨.hbm, 2972, rfl⟩
abbrev main_v1545 : Ref sig .tc := ⟨.hbm, 2973, rfl⟩
abbrev main_v1546 : Ref sig .tc := ⟨.hbm, 2974, rfl⟩
abbrev main_v1547 : Ref sig .tc := ⟨.hbm, 2975, rfl⟩
abbrev main_v1548 : Ref sig .tc := ⟨.hbm, 2976, rfl⟩
abbrev main_cst_377 : Ref sig .tc := ⟨.hbm, 2977, rfl⟩
abbrev main_v1549 : Ref sig .tc := ⟨.hbm, 2978, rfl⟩
abbrev main_v1550 : Ref sig .tc := ⟨.hbm, 2979, rfl⟩
abbrev main_cst_378 : Ref sig .tc := ⟨.hbm, 2980, rfl⟩
abbrev main_v1551 : Ref sig .tc := ⟨.hbm, 2981, rfl⟩
abbrev main_v1552 : Ref sig .tc := ⟨.hbm, 2982, rfl⟩
abbrev main_v1553 : Ref sig .tc := ⟨.hbm, 2983, rfl⟩
abbrev main_cst_379 : Ref sig .tc := ⟨.hbm, 2984, rfl⟩
abbrev main_v1554 : Ref sig .tc := ⟨.hbm, 2985, rfl⟩
abbrev main_v1555 : Ref sig .tc := ⟨.hbm, 2986, rfl⟩
abbrev main_v1556 : Ref sig .tc := ⟨.hbm, 2987, rfl⟩
abbrev main_cst_380 : Ref sig .tc := ⟨.hbm, 2988, rfl⟩
abbrev main_v1557 : Ref sig .tc := ⟨.hbm, 2989, rfl⟩
abbrev main_v1558 : Ref sig .tc := ⟨.hbm, 2990, rfl⟩
abbrev main_v1559 : Ref sig .tc := ⟨.hbm, 2991, rfl⟩
abbrev main_c_381 : Ref sig .tc := ⟨.hbm, 2992, rfl⟩
abbrev main_c_382 : Ref sig .tc := ⟨.hbm, 2993, rfl⟩
abbrev main_call93_v0 : Ref sig .tc := ⟨.hbm, 2994, rfl⟩
abbrev main_call93_v1 : Ref sig .tc := ⟨.hbm, 2995, rfl⟩
abbrev main_call93_v2 : Ref sig .tc := ⟨.hbm, 2996, rfl⟩
abbrev main_call93_v3 : Ref sig .tc := ⟨.hbm, 2997, rfl⟩
abbrev main_call93_v4 : Ref sig .tc := ⟨.hbm, 2998, rfl⟩
abbrev main_v1560 : Ref sig .tc := ⟨.hbm, 2999, rfl⟩
abbrev main_v1561 : Ref sig .tc := ⟨.hbm, 3000, rfl⟩
abbrev main_c_383 : Ref sig .tc := ⟨.hbm, 3001, rfl⟩
abbrev main_c_384 : Ref sig .tc := ⟨.hbm, 3002, rfl⟩
abbrev main_call94_v0 : Ref sig .tc := ⟨.hbm, 3003, rfl⟩
abbrev main_call94_v1 : Ref sig .tc := ⟨.hbm, 3004, rfl⟩
abbrev main_call94_v2 : Ref sig .tc := ⟨.hbm, 3005, rfl⟩
abbrev main_call94_v3 : Ref sig .tc := ⟨.hbm, 3006, rfl⟩
abbrev main_call94_v4 : Ref sig .tc := ⟨.hbm, 3007, rfl⟩
abbrev main_v1562 : Ref sig .tc := ⟨.hbm, 3008, rfl⟩
abbrev main_v1563 : Ref sig .tc := ⟨.hbm, 3009, rfl⟩
abbrev main_c_385 : Ref sig .tc := ⟨.hbm, 3010, rfl⟩
abbrev main_v1564 : Ref sig .tc := ⟨.hbm, 3011, rfl⟩
abbrev main_v1565 : Ref sig .tc := ⟨.hbm, 3012, rfl⟩
abbrev main_v1566 : Ref sig .tc := ⟨.hbm, 3013, rfl⟩
abbrev main_v1567 : Ref sig .tc := ⟨.hbm, 3014, rfl⟩
abbrev main_v1568 : Ref sig .tc := ⟨.hbm, 3015, rfl⟩
abbrev main_v1569 : Ref sig .tc := ⟨.hbm, 3016, rfl⟩
abbrev main_call95_c : Ref sig .tc := ⟨.hbm, 3017, rfl⟩
abbrev main_call95_v0 : Ref sig .tc := ⟨.hbm, 3018, rfl⟩
abbrev main_call95_v1 : Ref sig .tc := ⟨.hbm, 3019, rfl⟩
abbrev main_call95_c_0 : Ref sig .tc := ⟨.hbm, 3020, rfl⟩
abbrev main_call95_v2 : Ref sig .tc := ⟨.hbm, 3021, rfl⟩
abbrev main_call95_v3 : Ref sig .tc := ⟨.hbm, 3022, rfl⟩
abbrev main_call95_v4 : Ref sig .tc := ⟨.hbm, 3023, rfl⟩
abbrev main_call95_v5 : Ref sig .tc := ⟨.hbm, 3024, rfl⟩
abbrev main_call95_c_1 : Ref sig .tc := ⟨.hbm, 3025, rfl⟩
abbrev main_call95_c_2 : Ref sig .tc := ⟨.hbm, 3026, rfl⟩
abbrev main_call95_v6 : Ref sig .tc := ⟨.hbm, 3027, rfl⟩
abbrev main_call95_v7 : Ref sig .tc := ⟨.hbm, 3028, rfl⟩
abbrev main_call95_v8 : Ref sig .tc := ⟨.hbm, 3029, rfl⟩
abbrev main_call95_v9 : Ref sig .tc := ⟨.hbm, 3030, rfl⟩
abbrev main_call95_v10 : Ref sig .tc := ⟨.hbm, 3031, rfl⟩
abbrev main_call95_v11 : Ref sig .tc := ⟨.hbm, 3032, rfl⟩
abbrev main_call95_c_3 : Ref sig .tc := ⟨.hbm, 3033, rfl⟩
abbrev main_call95_v12 : Ref sig .tc := ⟨.hbm, 3034, rfl⟩
abbrev main_call95_v13 : Ref sig .tc := ⟨.hbm, 3035, rfl⟩
abbrev main_call95_cst : Ref sig .tc := ⟨.hbm, 3036, rfl⟩
abbrev main_call95_v14 : Ref sig .tc := ⟨.hbm, 3037, rfl⟩
abbrev main_v1570 : Ref sig .tc := ⟨.hbm, 3038, rfl⟩
abbrev main_v1571 : Ref sig .tc := ⟨.hbm, 3039, rfl⟩
abbrev main_v1572 : Ref sig .tc := ⟨.hbm, 3040, rfl⟩
abbrev main_v1573 : Ref sig .tc := ⟨.hbm, 3041, rfl⟩
abbrev main_v1574 : Ref sig .tc := ⟨.hbm, 3042, rfl⟩
abbrev main_v1575 : Ref sig .tc := ⟨.hbm, 3043, rfl⟩
abbrev main_v1576 : Ref sig .tc := ⟨.hbm, 3044, rfl⟩
abbrev main_v1577 : Ref sig .tc := ⟨.hbm, 3045, rfl⟩
abbrev main_v1578 : Ref sig .tc := ⟨.hbm, 3046, rfl⟩
abbrev main_cst_386 : Ref sig .tc := ⟨.hbm, 3047, rfl⟩
abbrev main_v1579 : Ref sig .tc := ⟨.hbm, 3048, rfl⟩
abbrev main_v1580 : Ref sig .tc := ⟨.hbm, 3049, rfl⟩
abbrev main_cst_387 : Ref sig .tc := ⟨.hbm, 3050, rfl⟩
abbrev main_v1581 : Ref sig .tc := ⟨.hbm, 3051, rfl⟩
abbrev main_v1582 : Ref sig .tc := ⟨.hbm, 3052, rfl⟩
abbrev main_v1583 : Ref sig .tc := ⟨.hbm, 3053, rfl⟩
abbrev main_cst_388 : Ref sig .tc := ⟨.hbm, 3054, rfl⟩
abbrev main_v1584 : Ref sig .tc := ⟨.hbm, 3055, rfl⟩
abbrev main_v1585 : Ref sig .tc := ⟨.hbm, 3056, rfl⟩
abbrev main_v1586 : Ref sig .tc := ⟨.hbm, 3057, rfl⟩
abbrev main_cst_389 : Ref sig .tc := ⟨.hbm, 3058, rfl⟩
abbrev main_v1587 : Ref sig .tc := ⟨.hbm, 3059, rfl⟩
abbrev main_v1588 : Ref sig .tc := ⟨.hbm, 3060, rfl⟩
abbrev main_v1589 : Ref sig .tc := ⟨.hbm, 3061, rfl⟩
abbrev main_c_390 : Ref sig .tc := ⟨.hbm, 3062, rfl⟩
abbrev main_c_391 : Ref sig .tc := ⟨.hbm, 3063, rfl⟩
abbrev main_call96_v0 : Ref sig .tc := ⟨.hbm, 3064, rfl⟩
abbrev main_call96_v1 : Ref sig .tc := ⟨.hbm, 3065, rfl⟩
abbrev main_call96_v2 : Ref sig .tc := ⟨.hbm, 3066, rfl⟩
abbrev main_call96_v3 : Ref sig .tc := ⟨.hbm, 3067, rfl⟩
abbrev main_call96_v4 : Ref sig .tc := ⟨.hbm, 3068, rfl⟩
abbrev main_v1590 : Ref sig .tc := ⟨.hbm, 3069, rfl⟩
abbrev main_v1591 : Ref sig .tc := ⟨.hbm, 3070, rfl⟩
abbrev main_c_392 : Ref sig .tc := ⟨.hbm, 3071, rfl⟩
abbrev main_c_393 : Ref sig .tc := ⟨.hbm, 3072, rfl⟩
abbrev main_call97_v0 : Ref sig .tc := ⟨.hbm, 3073, rfl⟩
abbrev main_call97_v1 : Ref sig .tc := ⟨.hbm, 3074, rfl⟩
abbrev main_call97_v2 : Ref sig .tc := ⟨.hbm, 3075, rfl⟩
abbrev main_call97_v3 : Ref sig .tc := ⟨.hbm, 3076, rfl⟩
abbrev main_call97_v4 : Ref sig .tc := ⟨.hbm, 3077, rfl⟩
abbrev main_v1592 : Ref sig .tc := ⟨.hbm, 3078, rfl⟩
abbrev main_v1593 : Ref sig .tc := ⟨.hbm, 3079, rfl⟩
abbrev main_c_394 : Ref sig .tc := ⟨.hbm, 3080, rfl⟩
abbrev main_v1594 : Ref sig .tc := ⟨.hbm, 3081, rfl⟩
abbrev main_v1595 : Ref sig .tc := ⟨.hbm, 3082, rfl⟩
abbrev main_v1596 : Ref sig .tc := ⟨.hbm, 3083, rfl⟩
abbrev main_v1597 : Ref sig .tc := ⟨.hbm, 3084, rfl⟩
abbrev main_v1598 : Ref sig .tc := ⟨.hbm, 3085, rfl⟩
abbrev main_v1599 : Ref sig .tc := ⟨.hbm, 3086, rfl⟩
abbrev main_call98_c : Ref sig .tc := ⟨.hbm, 3087, rfl⟩
abbrev main_call98_v0 : Ref sig .tc := ⟨.hbm, 3088, rfl⟩
abbrev main_call98_v1 : Ref sig .tc := ⟨.hbm, 3089, rfl⟩
abbrev main_call98_c_0 : Ref sig .tc := ⟨.hbm, 3090, rfl⟩
abbrev main_call98_v2 : Ref sig .tc := ⟨.hbm, 3091, rfl⟩
abbrev main_call98_v3 : Ref sig .tc := ⟨.hbm, 3092, rfl⟩
abbrev main_call98_v4 : Ref sig .tc := ⟨.hbm, 3093, rfl⟩
abbrev main_call98_v5 : Ref sig .tc := ⟨.hbm, 3094, rfl⟩
abbrev main_call98_c_1 : Ref sig .tc := ⟨.hbm, 3095, rfl⟩
abbrev main_call98_c_2 : Ref sig .tc := ⟨.hbm, 3096, rfl⟩
abbrev main_call98_v6 : Ref sig .tc := ⟨.hbm, 3097, rfl⟩
abbrev main_call98_v7 : Ref sig .tc := ⟨.hbm, 3098, rfl⟩
abbrev main_call98_v8 : Ref sig .tc := ⟨.hbm, 3099, rfl⟩
abbrev main_call98_v9 : Ref sig .tc := ⟨.hbm, 3100, rfl⟩
abbrev main_call98_v10 : Ref sig .tc := ⟨.hbm, 3101, rfl⟩
abbrev main_call98_v11 : Ref sig .tc := ⟨.hbm, 3102, rfl⟩
abbrev main_call98_c_3 : Ref sig .tc := ⟨.hbm, 3103, rfl⟩
abbrev main_call98_v12 : Ref sig .tc := ⟨.hbm, 3104, rfl⟩
abbrev main_call98_v13 : Ref sig .tc := ⟨.hbm, 3105, rfl⟩
abbrev main_call98_cst : Ref sig .tc := ⟨.hbm, 3106, rfl⟩
abbrev main_call98_v14 : Ref sig .tc := ⟨.hbm, 3107, rfl⟩
abbrev main_v1600 : Ref sig .tc := ⟨.hbm, 3108, rfl⟩
abbrev main_v1601 : Ref sig .tc := ⟨.hbm, 3109, rfl⟩
abbrev main_v1602 : Ref sig .tc := ⟨.hbm, 3110, rfl⟩
abbrev main_v1603 : Ref sig .tc := ⟨.hbm, 3111, rfl⟩
abbrev main_v1604 : Ref sig .tc := ⟨.hbm, 3112, rfl⟩
abbrev main_v1605 : Ref sig .tc := ⟨.hbm, 3113, rfl⟩
abbrev main_v1606 : Ref sig .tc := ⟨.hbm, 3114, rfl⟩
abbrev main_v1607 : Ref sig .tc := ⟨.hbm, 3115, rfl⟩
abbrev main_v1608 : Ref sig .tc := ⟨.hbm, 3116, rfl⟩
abbrev main_v1609 : Ref sig .tc := ⟨.hbm, 3117, rfl⟩
abbrev main_cst_395 : Ref sig .tc := ⟨.hbm, 3118, rfl⟩
abbrev main_v1610 : Ref sig .tc := ⟨.hbm, 3119, rfl⟩
abbrev main_v1611 : Ref sig .tc := ⟨.hbm, 3120, rfl⟩
abbrev main_cst_396 : Ref sig .tc := ⟨.hbm, 3121, rfl⟩
abbrev main_v1612 : Ref sig .tc := ⟨.hbm, 3122, rfl⟩
abbrev main_v1613 : Ref sig .tc := ⟨.hbm, 3123, rfl⟩
abbrev main_v1614 : Ref sig .tc := ⟨.hbm, 3124, rfl⟩
abbrev main_cst_397 : Ref sig .tc := ⟨.hbm, 3125, rfl⟩
abbrev main_v1615 : Ref sig .tc := ⟨.hbm, 3126, rfl⟩
abbrev main_v1616 : Ref sig .tc := ⟨.hbm, 3127, rfl⟩
abbrev main_v1617 : Ref sig .tc := ⟨.hbm, 3128, rfl⟩
abbrev main_cst_398 : Ref sig .tc := ⟨.hbm, 3129, rfl⟩
abbrev main_v1618 : Ref sig .tc := ⟨.hbm, 3130, rfl⟩
abbrev main_v1619 : Ref sig .tc := ⟨.hbm, 3131, rfl⟩
abbrev main_v1620 : Ref sig .tc := ⟨.hbm, 3132, rfl⟩
abbrev main_c_399 : Ref sig .tc := ⟨.hbm, 3133, rfl⟩
abbrev main_c_400 : Ref sig .tc := ⟨.hbm, 3134, rfl⟩
abbrev main_call99_v0 : Ref sig .tc := ⟨.hbm, 3135, rfl⟩
abbrev main_call99_v1 : Ref sig .tc := ⟨.hbm, 3136, rfl⟩
abbrev main_call99_v2 : Ref sig .tc := ⟨.hbm, 3137, rfl⟩
abbrev main_call99_v3 : Ref sig .tc := ⟨.hbm, 3138, rfl⟩
abbrev main_call99_v4 : Ref sig .tc := ⟨.hbm, 3139, rfl⟩
abbrev main_v1621 : Ref sig .tc := ⟨.hbm, 3140, rfl⟩
abbrev main_v1622 : Ref sig .tc := ⟨.hbm, 3141, rfl⟩
abbrev main_c_401 : Ref sig .tc := ⟨.hbm, 3142, rfl⟩
abbrev main_c_402 : Ref sig .tc := ⟨.hbm, 3143, rfl⟩
abbrev main_call100_v0 : Ref sig .tc := ⟨.hbm, 3144, rfl⟩
abbrev main_call100_v1 : Ref sig .tc := ⟨.hbm, 3145, rfl⟩
abbrev main_call100_v2 : Ref sig .tc := ⟨.hbm, 3146, rfl⟩
abbrev main_call100_v3 : Ref sig .tc := ⟨.hbm, 3147, rfl⟩
abbrev main_call100_v4 : Ref sig .tc := ⟨.hbm, 3148, rfl⟩
abbrev main_v1623 : Ref sig .tc := ⟨.hbm, 3149, rfl⟩
abbrev main_v1624 : Ref sig .tc := ⟨.hbm, 3150, rfl⟩
abbrev main_c_403 : Ref sig .tc := ⟨.hbm, 3151, rfl⟩
abbrev main_v1625 : Ref sig .tc := ⟨.hbm, 3152, rfl⟩
abbrev main_v1626 : Ref sig .tc := ⟨.hbm, 3153, rfl⟩
abbrev main_v1627 : Ref sig .tc := ⟨.hbm, 3154, rfl⟩
abbrev main_v1628 : Ref sig .tc := ⟨.hbm, 3155, rfl⟩
abbrev main_v1629 : Ref sig .tc := ⟨.hbm, 3156, rfl⟩
abbrev main_v1630 : Ref sig .tc := ⟨.hbm, 3157, rfl⟩
abbrev main_call101_c : Ref sig .tc := ⟨.hbm, 3158, rfl⟩
abbrev main_call101_v0 : Ref sig .tc := ⟨.hbm, 3159, rfl⟩
abbrev main_call101_v1 : Ref sig .tc := ⟨.hbm, 3160, rfl⟩
abbrev main_call101_c_0 : Ref sig .tc := ⟨.hbm, 3161, rfl⟩
abbrev main_call101_v2 : Ref sig .tc := ⟨.hbm, 3162, rfl⟩
abbrev main_call101_v3 : Ref sig .tc := ⟨.hbm, 3163, rfl⟩
abbrev main_call101_v4 : Ref sig .tc := ⟨.hbm, 3164, rfl⟩
abbrev main_call101_v5 : Ref sig .tc := ⟨.hbm, 3165, rfl⟩
abbrev main_call101_c_1 : Ref sig .tc := ⟨.hbm, 3166, rfl⟩
abbrev main_call101_c_2 : Ref sig .tc := ⟨.hbm, 3167, rfl⟩
abbrev main_call101_v6 : Ref sig .tc := ⟨.hbm, 3168, rfl⟩
abbrev main_call101_v7 : Ref sig .tc := ⟨.hbm, 3169, rfl⟩
abbrev main_call101_v8 : Ref sig .tc := ⟨.hbm, 3170, rfl⟩
abbrev main_call101_v9 : Ref sig .tc := ⟨.hbm, 3171, rfl⟩
abbrev main_call101_v10 : Ref sig .tc := ⟨.hbm, 3172, rfl⟩
abbrev main_call101_v11 : Ref sig .tc := ⟨.hbm, 3173, rfl⟩
abbrev main_call101_c_3 : Ref sig .tc := ⟨.hbm, 3174, rfl⟩
abbrev main_call101_v12 : Ref sig .tc := ⟨.hbm, 3175, rfl⟩
abbrev main_call101_v13 : Ref sig .tc := ⟨.hbm, 3176, rfl⟩
abbrev main_call101_cst : Ref sig .tc := ⟨.hbm, 3177, rfl⟩
abbrev main_call101_v14 : Ref sig .tc := ⟨.hbm, 3178, rfl⟩
abbrev main_v1631 : Ref sig .tc := ⟨.hbm, 3179, rfl⟩
abbrev main_v1632 : Ref sig .tc := ⟨.hbm, 3180, rfl⟩
abbrev main_v1633 : Ref sig .tc := ⟨.hbm, 3181, rfl⟩
abbrev main_v1634 : Ref sig .tc := ⟨.hbm, 3182, rfl⟩
abbrev main_v1635 : Ref sig .tc := ⟨.hbm, 3183, rfl⟩
abbrev main_v1636 : Ref sig .tc := ⟨.hbm, 3184, rfl⟩
abbrev main_v1637 : Ref sig .tc := ⟨.hbm, 3185, rfl⟩
abbrev main_v1638 : Ref sig .tc := ⟨.hbm, 3186, rfl⟩
abbrev main_v1639 : Ref sig .tc := ⟨.hbm, 3187, rfl⟩
abbrev main_v1640 : Ref sig .tc := ⟨.hbm, 3188, rfl⟩
abbrev main_cst_404 : Ref sig .tc := ⟨.hbm, 3189, rfl⟩
abbrev main_v1641 : Ref sig .tc := ⟨.hbm, 3190, rfl⟩
abbrev main_v1642 : Ref sig .tc := ⟨.hbm, 3191, rfl⟩
abbrev main_cst_405 : Ref sig .tc := ⟨.hbm, 3192, rfl⟩
abbrev main_v1643 : Ref sig .tc := ⟨.hbm, 3193, rfl⟩
abbrev main_v1644 : Ref sig .tc := ⟨.hbm, 3194, rfl⟩
abbrev main_v1645 : Ref sig .tc := ⟨.hbm, 3195, rfl⟩
abbrev main_cst_406 : Ref sig .tc := ⟨.hbm, 3196, rfl⟩
abbrev main_v1646 : Ref sig .tc := ⟨.hbm, 3197, rfl⟩
abbrev main_v1647 : Ref sig .tc := ⟨.hbm, 3198, rfl⟩
abbrev main_v1648 : Ref sig .tc := ⟨.hbm, 3199, rfl⟩
abbrev main_cst_407 : Ref sig .tc := ⟨.hbm, 3200, rfl⟩
abbrev main_v1649 : Ref sig .tc := ⟨.hbm, 3201, rfl⟩
abbrev main_v1650 : Ref sig .tc := ⟨.hbm, 3202, rfl⟩
abbrev main_v1651 : Ref sig .tc := ⟨.hbm, 3203, rfl⟩
abbrev main_c_408 : Ref sig .tc := ⟨.hbm, 3204, rfl⟩
abbrev main_c_409 : Ref sig .tc := ⟨.hbm, 3205, rfl⟩
abbrev main_call102_v0 : Ref sig .tc := ⟨.hbm, 3206, rfl⟩
abbrev main_call102_v1 : Ref sig .tc := ⟨.hbm, 3207, rfl⟩
abbrev main_call102_v2 : Ref sig .tc := ⟨.hbm, 3208, rfl⟩
abbrev main_call102_v3 : Ref sig .tc := ⟨.hbm, 3209, rfl⟩
abbrev main_call102_v4 : Ref sig .tc := ⟨.hbm, 3210, rfl⟩
abbrev main_v1652 : Ref sig .tc := ⟨.hbm, 3211, rfl⟩
abbrev main_v1653 : Ref sig .tc := ⟨.hbm, 3212, rfl⟩
abbrev main_c_410 : Ref sig .tc := ⟨.hbm, 3213, rfl⟩
abbrev main_c_411 : Ref sig .tc := ⟨.hbm, 3214, rfl⟩
abbrev main_call103_v0 : Ref sig .tc := ⟨.hbm, 3215, rfl⟩
abbrev main_call103_v1 : Ref sig .tc := ⟨.hbm, 3216, rfl⟩
abbrev main_call103_v2 : Ref sig .tc := ⟨.hbm, 3217, rfl⟩
abbrev main_call103_v3 : Ref sig .tc := ⟨.hbm, 3218, rfl⟩
abbrev main_call103_v4 : Ref sig .tc := ⟨.hbm, 3219, rfl⟩
abbrev main_v1654 : Ref sig .tc := ⟨.hbm, 3220, rfl⟩
abbrev main_v1655 : Ref sig .tc := ⟨.hbm, 3221, rfl⟩
abbrev main_c_412 : Ref sig .tc := ⟨.hbm, 3222, rfl⟩
abbrev main_v1656 : Ref sig .tc := ⟨.hbm, 3223, rfl⟩
abbrev main_v1657 : Ref sig .tc := ⟨.hbm, 3224, rfl⟩
abbrev main_v1658 : Ref sig .tc := ⟨.hbm, 3225, rfl⟩
abbrev main_v1659 : Ref sig .tc := ⟨.hbm, 3226, rfl⟩
abbrev main_v1660 : Ref sig .tc := ⟨.hbm, 3227, rfl⟩
abbrev main_v1661 : Ref sig .tc := ⟨.hbm, 3228, rfl⟩
abbrev main_call104_c : Ref sig .tc := ⟨.hbm, 3229, rfl⟩
abbrev main_call104_v0 : Ref sig .tc := ⟨.hbm, 3230, rfl⟩
abbrev main_call104_v1 : Ref sig .tc := ⟨.hbm, 3231, rfl⟩
abbrev main_call104_c_0 : Ref sig .tc := ⟨.hbm, 3232, rfl⟩
abbrev main_call104_v2 : Ref sig .tc := ⟨.hbm, 3233, rfl⟩
abbrev main_call104_v3 : Ref sig .tc := ⟨.hbm, 3234, rfl⟩
abbrev main_call104_v4 : Ref sig .tc := ⟨.hbm, 3235, rfl⟩
abbrev main_call104_v5 : Ref sig .tc := ⟨.hbm, 3236, rfl⟩
abbrev main_call104_c_1 : Ref sig .tc := ⟨.hbm, 3237, rfl⟩
abbrev main_call104_c_2 : Ref sig .tc := ⟨.hbm, 3238, rfl⟩
abbrev main_call104_v6 : Ref sig .tc := ⟨.hbm, 3239, rfl⟩
abbrev main_call104_v7 : Ref sig .tc := ⟨.hbm, 3240, rfl⟩
abbrev main_call104_v8 : Ref sig .tc := ⟨.hbm, 3241, rfl⟩
abbrev main_call104_v9 : Ref sig .tc := ⟨.hbm, 3242, rfl⟩
abbrev main_call104_v10 : Ref sig .tc := ⟨.hbm, 3243, rfl⟩
abbrev main_call104_v11 : Ref sig .tc := ⟨.hbm, 3244, rfl⟩
abbrev main_call104_c_3 : Ref sig .tc := ⟨.hbm, 3245, rfl⟩
abbrev main_call104_v12 : Ref sig .tc := ⟨.hbm, 3246, rfl⟩
abbrev main_call104_v13 : Ref sig .tc := ⟨.hbm, 3247, rfl⟩
abbrev main_call104_cst : Ref sig .tc := ⟨.hbm, 3248, rfl⟩
abbrev main_call104_v14 : Ref sig .tc := ⟨.hbm, 3249, rfl⟩
abbrev main_v1662 : Ref sig .tc := ⟨.hbm, 3250, rfl⟩
abbrev main_v1663 : Ref sig .tc := ⟨.hbm, 3251, rfl⟩
abbrev main_v1664 : Ref sig .tc := ⟨.hbm, 3252, rfl⟩
abbrev main_v1665 : Ref sig .tc := ⟨.hbm, 3253, rfl⟩
abbrev main_v1666 : Ref sig .tc := ⟨.hbm, 3254, rfl⟩
abbrev main_v1667 : Ref sig .tc := ⟨.hbm, 3255, rfl⟩
abbrev main_v1668 : Ref sig .tc := ⟨.hbm, 3256, rfl⟩
abbrev main_v1669 : Ref sig .tc := ⟨.hbm, 3257, rfl⟩
abbrev main_v1670 : Ref sig .tc := ⟨.hbm, 3258, rfl⟩
abbrev main_v1671 : Ref sig .tc := ⟨.hbm, 3259, rfl⟩
abbrev main_v1672 : Ref sig .tc := ⟨.hbm, 3260, rfl⟩
abbrev main_v1673 : Ref sig .tc := ⟨.hbm, 3261, rfl⟩
abbrev main_v1674 : Ref sig .tc := ⟨.hbm, 3262, rfl⟩
abbrev main_v1675 : Ref sig .tc := ⟨.hbm, 3263, rfl⟩
abbrev main_v1676 : Ref sig .tc := ⟨.hbm, 3264, rfl⟩
abbrev main_v1677 : Ref sig .tc := ⟨.hbm, 3265, rfl⟩
abbrev main_v1678 : Ref sig .tc := ⟨.hbm, 3266, rfl⟩
abbrev main_v1679 : Ref sig .tc := ⟨.hbm, 3267, rfl⟩
abbrev main_v1680 : Ref sig .tc := ⟨.hbm, 3268, rfl⟩
abbrev main_v1681 : Ref sig .tc := ⟨.hbm, 3269, rfl⟩
abbrev main_cst_413 : Ref sig .tc := ⟨.hbm, 3270, rfl⟩
abbrev main_v1682 : Ref sig .tc := ⟨.hbm, 3271, rfl⟩
abbrev main_v1683 : Ref sig .tc := ⟨.hbm, 3272, rfl⟩
abbrev main_v1684 : Ref sig .tc := ⟨.hbm, 3273, rfl⟩
abbrev main_v1685 : Ref sig .tc := ⟨.hbm, 3274, rfl⟩
abbrev main_v1686 : Ref sig .tc := ⟨.hbm, 3275, rfl⟩
abbrev main_v1687 : Ref sig .tc := ⟨.hbm, 3276, rfl⟩
abbrev main_v1688 : Ref sig .tc := ⟨.hbm, 3277, rfl⟩
abbrev main_v1689 : Ref sig .tc := ⟨.hbm, 3278, rfl⟩
abbrev main_v1690 : Ref sig .tc := ⟨.hbm, 3279, rfl⟩
abbrev main_v1691 : Ref sig .tc := ⟨.hbm, 3280, rfl⟩
abbrev main_v1692 : Ref sig .tc := ⟨.hbm, 3281, rfl⟩
abbrev main_v1693 : Ref sig .tc := ⟨.hbm, 3282, rfl⟩
abbrev main_v1694 : Ref sig .tc := ⟨.hbm, 3283, rfl⟩
abbrev main_v1695 : Ref sig .tc := ⟨.hbm, 3284, rfl⟩
abbrev main_v1696 : Ref sig .tc := ⟨.hbm, 3285, rfl⟩
abbrev main_v1697 : Ref sig .tc := ⟨.hbm, 3286, rfl⟩
abbrev main_cst_414 : Ref sig .tc := ⟨.hbm, 3287, rfl⟩
abbrev main_v1698 : Ref sig .tc := ⟨.hbm, 3288, rfl⟩
abbrev main_v1699 : Ref sig .tc := ⟨.hbm, 3289, rfl⟩
abbrev main_cst_415 : Ref sig .tc := ⟨.hbm, 3290, rfl⟩
abbrev main_v1700 : Ref sig .tc := ⟨.hbm, 3291, rfl⟩
abbrev main_v1701 : Ref sig .tc := ⟨.hbm, 3292, rfl⟩
abbrev main_v1702 : Ref sig .tc := ⟨.hbm, 3293, rfl⟩
abbrev main_v1703 : Ref sig .tc := ⟨.hbm, 3294, rfl⟩
abbrev main_v1704 : Ref sig .tc := ⟨.hbm, 3295, rfl⟩
abbrev main_cst_416 : Ref sig .tc := ⟨.hbm, 3296, rfl⟩
abbrev main_v1705 : Ref sig .tc := ⟨.hbm, 3297, rfl⟩
abbrev main_v1706 : Ref sig .tc := ⟨.hbm, 3298, rfl⟩
abbrev main_cst_417 : Ref sig .tc := ⟨.hbm, 3299, rfl⟩
abbrev main_v1707 : Ref sig .tc := ⟨.hbm, 3300, rfl⟩
abbrev main_v1708 : Ref sig .tc := ⟨.hbm, 3301, rfl⟩
abbrev main_v1709 : Ref sig .tc := ⟨.hbm, 3302, rfl⟩
abbrev main_v1710 : Ref sig .tc := ⟨.hbm, 3303, rfl⟩
abbrev main_cst_418 : Ref sig .tc := ⟨.hbm, 3304, rfl⟩
abbrev main_v1711 : Ref sig .tc := ⟨.hbm, 3305, rfl⟩
abbrev main_v1712 : Ref sig .tc := ⟨.hbm, 3306, rfl⟩
abbrev main_v1713 : Ref sig .tc := ⟨.hbm, 3307, rfl⟩
abbrev main_v1714 : Ref sig .tc := ⟨.hbm, 3308, rfl⟩
abbrev main_v1715 : Ref sig .tc := ⟨.hbm, 3309, rfl⟩
abbrev main_v1716 : Ref sig .tc := ⟨.hbm, 3310, rfl⟩
abbrev main_v1717 : Ref sig .tc := ⟨.hbm, 3311, rfl⟩
abbrev main_v1718 : Ref sig .tc := ⟨.hbm, 3312, rfl⟩
abbrev main_v1719 : Ref sig .tc := ⟨.hbm, 3313, rfl⟩
abbrev main_v1720 : Ref sig .tc := ⟨.hbm, 3314, rfl⟩
abbrev main_v1721 : Ref sig .tc := ⟨.hbm, 3315, rfl⟩
abbrev main_v1722 : Ref sig .tc := ⟨.hbm, 3316, rfl⟩
abbrev main_v1723 : Ref sig .tc := ⟨.hbm, 3317, rfl⟩
abbrev main_v1724 : Ref sig .tc := ⟨.hbm, 3318, rfl⟩
abbrev main_v1725 : Ref sig .tc := ⟨.hbm, 3319, rfl⟩
abbrev main_v1726 : Ref sig .tc := ⟨.hbm, 3320, rfl⟩
abbrev main_v1727 : Ref sig .tc := ⟨.hbm, 3321, rfl⟩
abbrev main_v1728 : Ref sig .tc := ⟨.hbm, 3322, rfl⟩
abbrev main_v1729 : Ref sig .tc := ⟨.hbm, 3323, rfl⟩
abbrev main_call105_cst : Ref sig .tc := ⟨.hbm, 3324, rfl⟩
abbrev main_call105_v0 : Ref sig .tc := ⟨.hbm, 3325, rfl⟩
abbrev main_v1730 : Ref sig .tc := ⟨.hbm, 3326, rfl⟩
abbrev main_v1731 : Ref sig .tc := ⟨.hbm, 3327, rfl⟩
abbrev main_v1732 : Ref sig .tc := ⟨.hbm, 3328, rfl⟩
abbrev main_v1733 : Ref sig .tc := ⟨.hbm, 3329, rfl⟩
abbrev main_v1734 : Ref sig .tc := ⟨.hbm, 3330, rfl⟩
abbrev main_v1735 : Ref sig .tc := ⟨.hbm, 3331, rfl⟩
abbrev main_v1736 : Ref sig .tc := ⟨.hbm, 3332, rfl⟩
abbrev main_v1737 : Ref sig .tc := ⟨.hbm, 3333, rfl⟩
abbrev main_v1738 : Ref sig .tc := ⟨.hbm, 3334, rfl⟩
abbrev main_v1739 : Ref sig .tc := ⟨.hbm, 3335, rfl⟩
abbrev main_v1740 : Ref sig .tc := ⟨.hbm, 3336, rfl⟩
abbrev main_v1741 : Ref sig .tc := ⟨.hbm, 3337, rfl⟩
abbrev main_v1742 : Ref sig .tc := ⟨.hbm, 3338, rfl⟩
abbrev main_v1743 : Ref sig .tc := ⟨.hbm, 3339, rfl⟩
abbrev main_cst_419 : Ref sig .tc := ⟨.hbm, 3340, rfl⟩
abbrev main_v1744 : Ref sig .tc := ⟨.hbm, 3341, rfl⟩
abbrev main_v1745 : Ref sig .tc := ⟨.hbm, 3342, rfl⟩
abbrev main_cst_420 : Ref sig .tc := ⟨.hbm, 3343, rfl⟩
abbrev main_v1746 : Ref sig .tc := ⟨.hbm, 3344, rfl⟩
abbrev main_v1747 : Ref sig .tc := ⟨.hbm, 3345, rfl⟩
abbrev main_v1748 : Ref sig .tc := ⟨.hbm, 3346, rfl⟩
abbrev main_v1749 : Ref sig .tc := ⟨.hbm, 3347, rfl⟩
abbrev main_v1750 : Ref sig .tc := ⟨.hbm, 3348, rfl⟩
abbrev main_cst_421 : Ref sig .tc := ⟨.hbm, 3349, rfl⟩
abbrev main_v1751 : Ref sig .tc := ⟨.hbm, 3350, rfl⟩
abbrev main_v1752 : Ref sig .tc := ⟨.hbm, 3351, rfl⟩
abbrev main_cst_422 : Ref sig .tc := ⟨.hbm, 3352, rfl⟩
abbrev main_v1753 : Ref sig .tc := ⟨.hbm, 3353, rfl⟩
abbrev main_v1754 : Ref sig .tc := ⟨.hbm, 3354, rfl⟩
abbrev main_v1755 : Ref sig .tc := ⟨.hbm, 3355, rfl⟩
abbrev main_v1756 : Ref sig .tc := ⟨.hbm, 3356, rfl⟩
abbrev main_cst_423 : Ref sig .tc := ⟨.hbm, 3357, rfl⟩
abbrev main_v1757 : Ref sig .tc := ⟨.hbm, 3358, rfl⟩
abbrev main_v1758 : Ref sig .tc := ⟨.hbm, 3359, rfl⟩
abbrev main_v1759 : Ref sig .tc := ⟨.hbm, 3360, rfl⟩
abbrev main_v1760 : Ref sig .tc := ⟨.hbm, 3361, rfl⟩
abbrev main_v1761 : Ref sig .tc := ⟨.hbm, 3362, rfl⟩
abbrev main_v1762 : Ref sig .tc := ⟨.hbm, 3363, rfl⟩
abbrev main_v1763 : Ref sig .tc := ⟨.hbm, 3364, rfl⟩
abbrev main_v1764 : Ref sig .tc := ⟨.hbm, 3365, rfl⟩
abbrev main_v1765 : Ref sig .tc := ⟨.hbm, 3366, rfl⟩
abbrev main_v1766 : Ref sig .tc := ⟨.hbm, 3367, rfl⟩
abbrev main_v1767 : Ref sig .tc := ⟨.hbm, 3368, rfl⟩
abbrev main_v1768 : Ref sig .tc := ⟨.hbm, 3369, rfl⟩
abbrev main_v1769 : Ref sig .tc := ⟨.hbm, 3370, rfl⟩
abbrev main_v1770 : Ref sig .tc := ⟨.hbm, 3371, rfl⟩
abbrev main_v1771 : Ref sig .tc := ⟨.hbm, 3372, rfl⟩
abbrev main_v1772 : Ref sig .tc := ⟨.hbm, 3373, rfl⟩
abbrev main_v1773 : Ref sig .tc := ⟨.hbm, 3374, rfl⟩
abbrev main_v1774 : Ref sig .tc := ⟨.hbm, 3375, rfl⟩
abbrev main_v1775 : Ref sig .tc := ⟨.hbm, 3376, rfl⟩
abbrev main_v1776 : Ref sig .tc := ⟨.hbm, 3377, rfl⟩
abbrev main_v1777 : Ref sig .tc := ⟨.hbm, 3378, rfl⟩
abbrev main_v1778 : Ref sig .tc := ⟨.hbm, 3379, rfl⟩
abbrev main_v1779 : Ref sig .tc := ⟨.hbm, 3380, rfl⟩
abbrev main_v1780 : Ref sig .tc := ⟨.hbm, 3381, rfl⟩
abbrev main_v1781 : Ref sig .tc := ⟨.hbm, 3382, rfl⟩
abbrev main_v1782 : Ref sig .tc := ⟨.hbm, 3383, rfl⟩
abbrev main_v1783 : Ref sig .tc := ⟨.hbm, 3384, rfl⟩
abbrev main_v1784 : Ref sig .tc := ⟨.hbm, 3385, rfl⟩
abbrev main_v1785 : Ref sig .tc := ⟨.hbm, 3386, rfl⟩
abbrev main_v1786 : Ref sig .tc := ⟨.hbm, 3387, rfl⟩
abbrev main_v1787 : Ref sig .tc := ⟨.hbm, 3388, rfl⟩
abbrev main_v1788 : Ref sig .tc := ⟨.hbm, 3389, rfl⟩
abbrev main_v1789 : Ref sig .tc := ⟨.hbm, 3390, rfl⟩
abbrev main_v1790 : Ref sig .tc := ⟨.hbm, 3391, rfl⟩
abbrev main_v1791 : Ref sig .tc := ⟨.hbm, 3392, rfl⟩
abbrev main_v1792 : Ref sig .tc := ⟨.hbm, 3393, rfl⟩
abbrev main_v1793 : Ref sig .tc := ⟨.hbm, 3394, rfl⟩
abbrev main_v1794 : Ref sig .tc := ⟨.hbm, 3395, rfl⟩
abbrev main_v1795 : Ref sig .tc := ⟨.hbm, 3396, rfl⟩
abbrev main_cst_424 : Ref sig .tc := ⟨.hbm, 3397, rfl⟩
abbrev main_v1796 : Ref sig .tc := ⟨.hbm, 3398, rfl⟩
abbrev main_cst_425 : Ref sig .tc := ⟨.hbm, 3399, rfl⟩
abbrev main_v1797 : Ref sig .tc := ⟨.hbm, 3400, rfl⟩
abbrev main_v1798 : Ref sig .tc := ⟨.hbm, 3401, rfl⟩
abbrev main_v1799 : Ref sig .tc := ⟨.hbm, 3402, rfl⟩
abbrev main_v1800 : Ref sig .tc := ⟨.hbm, 3403, rfl⟩
abbrev main_v1801 : Ref sig .tc := ⟨.hbm, 3404, rfl⟩
abbrev main_v1802 : Ref sig .tc := ⟨.hbm, 3405, rfl⟩
abbrev main_cst_426 : Ref sig .tc := ⟨.hbm, 3406, rfl⟩
abbrev main_v1803 : Ref sig .tc := ⟨.hbm, 3407, rfl⟩
abbrev main_v1804 : Ref sig .tc := ⟨.hbm, 3408, rfl⟩
abbrev main_v1805 : Ref sig .tc := ⟨.hbm, 3409, rfl⟩
abbrev main_v1806 : Ref sig .tc := ⟨.hbm, 3410, rfl⟩
abbrev main_v1807 : Ref sig .tc := ⟨.hbm, 3411, rfl⟩
abbrev main_v1808 : Ref sig .tc := ⟨.hbm, 3412, rfl⟩
abbrev main_v1809 : Ref sig .tc := ⟨.hbm, 3413, rfl⟩
abbrev main_v1810 : Ref sig .tc := ⟨.hbm, 3414, rfl⟩
abbrev main_v1811 : Ref sig .tc := ⟨.hbm, 3415, rfl⟩
abbrev main_v1812 : Ref sig .tc := ⟨.hbm, 3416, rfl⟩
abbrev main_v1813 : Ref sig .tc := ⟨.hbm, 3417, rfl⟩
abbrev main_cst_427 : Ref sig .tc := ⟨.hbm, 3418, rfl⟩
abbrev main_v1814 : Ref sig .tc := ⟨.hbm, 3419, rfl⟩
abbrev main_v1815 : Ref sig .tc := ⟨.hbm, 3420, rfl⟩
abbrev main_cst_428 : Ref sig .tc := ⟨.hbm, 3421, rfl⟩
abbrev main_v1816 : Ref sig .tc := ⟨.hbm, 3422, rfl⟩
abbrev main_v1817 : Ref sig .tc := ⟨.hbm, 3423, rfl⟩
abbrev main_v1818 : Ref sig .tc := ⟨.hbm, 3424, rfl⟩
abbrev main_v1819 : Ref sig .tc := ⟨.hbm, 3425, rfl⟩
abbrev main_v1820 : Ref sig .tc := ⟨.hbm, 3426, rfl⟩
abbrev main_v1821 : Ref sig .tc := ⟨.hbm, 3427, rfl⟩
abbrev main_v1822 : Ref sig .tc := ⟨.hbm, 3428, rfl⟩
abbrev main_v1823 : Ref sig .tc := ⟨.hbm, 3429, rfl⟩
abbrev main_v1824 : Ref sig .tc := ⟨.hbm, 3430, rfl⟩
abbrev main_v1825 : Ref sig .tc := ⟨.hbm, 3431, rfl⟩
abbrev main_v1826 : Ref sig .tc := ⟨.hbm, 3432, rfl⟩
abbrev main_cst_429 : Ref sig .tc := ⟨.hbm, 3433, rfl⟩
abbrev main_v1827 : Ref sig .tc := ⟨.hbm, 3434, rfl⟩
abbrev main_v1828 : Ref sig .tc := ⟨.hbm, 3435, rfl⟩
abbrev main_cst_430 : Ref sig .tc := ⟨.hbm, 3436, rfl⟩
abbrev main_v1829 : Ref sig .tc := ⟨.hbm, 3437, rfl⟩
abbrev main_v1830 : Ref sig .tc := ⟨.hbm, 3438, rfl⟩
abbrev main_cst_431 : Ref sig .tc := ⟨.hbm, 3439, rfl⟩
abbrev main_v1831 : Ref sig .tc := ⟨.hbm, 3440, rfl⟩
abbrev main_v1832 : Ref sig .tc := ⟨.hbm, 3441, rfl⟩
abbrev main_cst_432 : Ref sig .tc := ⟨.hbm, 3442, rfl⟩
abbrev main_v1833 : Ref sig .tc := ⟨.hbm, 3443, rfl⟩
abbrev main_v1834 : Ref sig .tc := ⟨.hbm, 3444, rfl⟩
abbrev main_v1835 : Ref sig .tc := ⟨.hbm, 3445, rfl⟩
abbrev main_v1836 : Ref sig .tc := ⟨.hbm, 3446, rfl⟩
abbrev main_cst_433 : Ref sig .tc := ⟨.hbm, 3447, rfl⟩
abbrev main_v1837 : Ref sig .tc := ⟨.hbm, 3448, rfl⟩
abbrev main_v1838 : Ref sig .tc := ⟨.hbm, 3449, rfl⟩
abbrev main_cst_434 : Ref sig .tc := ⟨.hbm, 3450, rfl⟩
abbrev main_v1839 : Ref sig .tc := ⟨.hbm, 3451, rfl⟩
abbrev main_v1840 : Ref sig .tc := ⟨.hbm, 3452, rfl⟩
abbrev main_cst_435 : Ref sig .tc := ⟨.hbm, 3453, rfl⟩
abbrev main_v1841 : Ref sig .tc := ⟨.hbm, 3454, rfl⟩
abbrev main_v1842 : Ref sig .tc := ⟨.hbm, 3455, rfl⟩
abbrev main_cst_436 : Ref sig .tc := ⟨.hbm, 3456, rfl⟩
abbrev main_v1843 : Ref sig .tc := ⟨.hbm, 3457, rfl⟩
abbrev main_v1844 : Ref sig .tc := ⟨.hbm, 3458, rfl⟩
abbrev main_v1845 : Ref sig .tc := ⟨.hbm, 3459, rfl⟩
abbrev main_v1846 : Ref sig .tc := ⟨.hbm, 3460, rfl⟩
abbrev main_cst_437 : Ref sig .tc := ⟨.hbm, 3461, rfl⟩
abbrev main_v1847 : Ref sig .tc := ⟨.hbm, 3462, rfl⟩
abbrev main_v1848 : Ref sig .tc := ⟨.hbm, 3463, rfl⟩
abbrev main_cst_438 : Ref sig .tc := ⟨.hbm, 3464, rfl⟩
abbrev main_v1849 : Ref sig .tc := ⟨.hbm, 3465, rfl⟩
abbrev main_v1850 : Ref sig .tc := ⟨.hbm, 3466, rfl⟩
abbrev main_v1851 : Ref sig .tc := ⟨.hbm, 3467, rfl⟩
abbrev main_v1852 : Ref sig .tc := ⟨.hbm, 3468, rfl⟩
abbrev main_v1853 : Ref sig .tc := ⟨.hbm, 3469, rfl⟩
abbrev main_v1854 : Ref sig .tc := ⟨.hbm, 3470, rfl⟩
abbrev main_v1855 : Ref sig .tc := ⟨.hbm, 3471, rfl⟩
abbrev main_v1856 : Ref sig .tc := ⟨.hbm, 3472, rfl⟩
abbrev main_v1857 : Ref sig .tc := ⟨.hbm, 3473, rfl⟩
abbrev main_v1858 : Ref sig .tc := ⟨.hbm, 3474, rfl⟩
abbrev main_v1859 : Ref sig .tc := ⟨.hbm, 3475, rfl⟩
abbrev main_v1860 : Ref sig .tc := ⟨.hbm, 3476, rfl⟩
abbrev main_v1861 : Ref sig .tc := ⟨.hbm, 3477, rfl⟩
abbrev main_v1862 : Ref sig .tc := ⟨.hbm, 3478, rfl⟩
abbrev main_v1863 : Ref sig .tc := ⟨.hbm, 3479, rfl⟩
abbrev main_cst_439 : Ref sig .tc := ⟨.hbm, 3480, rfl⟩
abbrev main_v1864 : Ref sig .tc := ⟨.hbm, 3481, rfl⟩
abbrev main_v1865 : Ref sig .tc := ⟨.hbm, 3482, rfl⟩
abbrev main_cst_440 : Ref sig .tc := ⟨.hbm, 3483, rfl⟩
abbrev main_v1866 : Ref sig .tc := ⟨.hbm, 3484, rfl⟩
abbrev main_v1867 : Ref sig .tc := ⟨.hbm, 3485, rfl⟩
abbrev main_v1868 : Ref sig .tc := ⟨.hbm, 3486, rfl⟩
abbrev main_cst_441 : Ref sig .tc := ⟨.hbm, 3487, rfl⟩
abbrev main_v1869 : Ref sig .tc := ⟨.hbm, 3488, rfl⟩
abbrev main_v1870 : Ref sig .tc := ⟨.hbm, 3489, rfl⟩
abbrev main_v1871 : Ref sig .tc := ⟨.hbm, 3490, rfl⟩
abbrev main_cst_442 : Ref sig .tc := ⟨.hbm, 3491, rfl⟩
abbrev main_v1872 : Ref sig .tc := ⟨.hbm, 3492, rfl⟩
abbrev main_v1873 : Ref sig .tc := ⟨.hbm, 3493, rfl⟩
abbrev main_v1874 : Ref sig .tc := ⟨.hbm, 3494, rfl⟩
abbrev main_c_443 : Ref sig .tc := ⟨.hbm, 3495, rfl⟩
abbrev main_c_444 : Ref sig .tc := ⟨.hbm, 3496, rfl⟩
abbrev main_call106_v0 : Ref sig .tc := ⟨.hbm, 3497, rfl⟩
abbrev main_call106_v1 : Ref sig .tc := ⟨.hbm, 3498, rfl⟩
abbrev main_call106_v2 : Ref sig .tc := ⟨.hbm, 3499, rfl⟩
abbrev main_call106_v3 : Ref sig .tc := ⟨.hbm, 3500, rfl⟩
abbrev main_call106_v4 : Ref sig .tc := ⟨.hbm, 3501, rfl⟩
abbrev main_v1875 : Ref sig .tc := ⟨.hbm, 3502, rfl⟩
abbrev main_v1876 : Ref sig .tc := ⟨.hbm, 3503, rfl⟩
abbrev main_c_445 : Ref sig .tc := ⟨.hbm, 3504, rfl⟩
abbrev main_c_446 : Ref sig .tc := ⟨.hbm, 3505, rfl⟩
abbrev main_call107_v0 : Ref sig .tc := ⟨.hbm, 3506, rfl⟩
abbrev main_call107_v1 : Ref sig .tc := ⟨.hbm, 3507, rfl⟩
abbrev main_call107_v2 : Ref sig .tc := ⟨.hbm, 3508, rfl⟩
abbrev main_call107_v3 : Ref sig .tc := ⟨.hbm, 3509, rfl⟩
abbrev main_call107_v4 : Ref sig .tc := ⟨.hbm, 3510, rfl⟩
abbrev main_v1877 : Ref sig .tc := ⟨.hbm, 3511, rfl⟩
abbrev main_v1878 : Ref sig .tc := ⟨.hbm, 3512, rfl⟩
abbrev main_c_447 : Ref sig .tc := ⟨.hbm, 3513, rfl⟩
abbrev main_v1879 : Ref sig .tc := ⟨.hbm, 3514, rfl⟩
abbrev main_v1880 : Ref sig .tc := ⟨.hbm, 3515, rfl⟩
abbrev main_v1881 : Ref sig .tc := ⟨.hbm, 3516, rfl⟩
abbrev main_v1882 : Ref sig .tc := ⟨.hbm, 3517, rfl⟩
abbrev main_v1883 : Ref sig .tc := ⟨.hbm, 3518, rfl⟩
abbrev main_v1884 : Ref sig .tc := ⟨.hbm, 3519, rfl⟩
abbrev main_call108_c : Ref sig .tc := ⟨.hbm, 3520, rfl⟩
abbrev main_call108_v0 : Ref sig .tc := ⟨.hbm, 3521, rfl⟩
abbrev main_call108_v1 : Ref sig .tc := ⟨.hbm, 3522, rfl⟩
abbrev main_call108_c_0 : Ref sig .tc := ⟨.hbm, 3523, rfl⟩
abbrev main_call108_v2 : Ref sig .tc := ⟨.hbm, 3524, rfl⟩
abbrev main_call108_v3 : Ref sig .tc := ⟨.hbm, 3525, rfl⟩
abbrev main_call108_v4 : Ref sig .tc := ⟨.hbm, 3526, rfl⟩
abbrev main_call108_v5 : Ref sig .tc := ⟨.hbm, 3527, rfl⟩
abbrev main_call108_c_1 : Ref sig .tc := ⟨.hbm, 3528, rfl⟩
abbrev main_call108_c_2 : Ref sig .tc := ⟨.hbm, 3529, rfl⟩
abbrev main_call108_v6 : Ref sig .tc := ⟨.hbm, 3530, rfl⟩
abbrev main_call108_v7 : Ref sig .tc := ⟨.hbm, 3531, rfl⟩
abbrev main_call108_v8 : Ref sig .tc := ⟨.hbm, 3532, rfl⟩
abbrev main_call108_v9 : Ref sig .tc := ⟨.hbm, 3533, rfl⟩
abbrev main_call108_v10 : Ref sig .tc := ⟨.hbm, 3534, rfl⟩
abbrev main_call108_v11 : Ref sig .tc := ⟨.hbm, 3535, rfl⟩
abbrev main_call108_c_3 : Ref sig .tc := ⟨.hbm, 3536, rfl⟩
abbrev main_call108_v12 : Ref sig .tc := ⟨.hbm, 3537, rfl⟩
abbrev main_call108_v13 : Ref sig .tc := ⟨.hbm, 3538, rfl⟩
abbrev main_call108_cst : Ref sig .tc := ⟨.hbm, 3539, rfl⟩
abbrev main_call108_v14 : Ref sig .tc := ⟨.hbm, 3540, rfl⟩
abbrev main_v1885 : Ref sig .tc := ⟨.hbm, 3541, rfl⟩
abbrev main_v1886 : Ref sig .tc := ⟨.hbm, 3542, rfl⟩
abbrev main_v1887 : Ref sig .tc := ⟨.hbm, 3543, rfl⟩
abbrev main_v1888 : Ref sig .tc := ⟨.hbm, 3544, rfl⟩
abbrev main_v1889 : Ref sig .tc := ⟨.hbm, 3545, rfl⟩
abbrev main_v1890 : Ref sig .tc := ⟨.hbm, 3546, rfl⟩
abbrev main_v1891 : Ref sig .tc := ⟨.hbm, 3547, rfl⟩
abbrev main_v1892 : Ref sig .tc := ⟨.hbm, 3548, rfl⟩
abbrev main_v1893 : Ref sig .tc := ⟨.hbm, 3549, rfl⟩
abbrev main_cst_448 : Ref sig .tc := ⟨.hbm, 3550, rfl⟩
abbrev main_v1894 : Ref sig .tc := ⟨.hbm, 3551, rfl⟩
abbrev main_v1895 : Ref sig .tc := ⟨.hbm, 3552, rfl⟩
abbrev main_cst_449 : Ref sig .tc := ⟨.hbm, 3553, rfl⟩
abbrev main_v1896 : Ref sig .tc := ⟨.hbm, 3554, rfl⟩
abbrev main_v1897 : Ref sig .tc := ⟨.hbm, 3555, rfl⟩
abbrev main_v1898 : Ref sig .tc := ⟨.hbm, 3556, rfl⟩
abbrev main_cst_450 : Ref sig .tc := ⟨.hbm, 3557, rfl⟩
abbrev main_v1899 : Ref sig .tc := ⟨.hbm, 3558, rfl⟩
abbrev main_v1900 : Ref sig .tc := ⟨.hbm, 3559, rfl⟩
abbrev main_v1901 : Ref sig .tc := ⟨.hbm, 3560, rfl⟩
abbrev main_cst_451 : Ref sig .tc := ⟨.hbm, 3561, rfl⟩
abbrev main_v1902 : Ref sig .tc := ⟨.hbm, 3562, rfl⟩
abbrev main_v1903 : Ref sig .tc := ⟨.hbm, 3563, rfl⟩
abbrev main_v1904 : Ref sig .tc := ⟨.hbm, 3564, rfl⟩
abbrev main_c_452 : Ref sig .tc := ⟨.hbm, 3565, rfl⟩
abbrev main_c_453 : Ref sig .tc := ⟨.hbm, 3566, rfl⟩
abbrev main_call109_v0 : Ref sig .tc := ⟨.hbm, 3567, rfl⟩
abbrev main_call109_v1 : Ref sig .tc := ⟨.hbm, 3568, rfl⟩
abbrev main_call109_v2 : Ref sig .tc := ⟨.hbm, 3569, rfl⟩
abbrev main_call109_v3 : Ref sig .tc := ⟨.hbm, 3570, rfl⟩
abbrev main_call109_v4 : Ref sig .tc := ⟨.hbm, 3571, rfl⟩
abbrev main_v1905 : Ref sig .tc := ⟨.hbm, 3572, rfl⟩
abbrev main_v1906 : Ref sig .tc := ⟨.hbm, 3573, rfl⟩
abbrev main_c_454 : Ref sig .tc := ⟨.hbm, 3574, rfl⟩
abbrev main_c_455 : Ref sig .tc := ⟨.hbm, 3575, rfl⟩
abbrev main_call110_v0 : Ref sig .tc := ⟨.hbm, 3576, rfl⟩
abbrev main_call110_v1 : Ref sig .tc := ⟨.hbm, 3577, rfl⟩
abbrev main_call110_v2 : Ref sig .tc := ⟨.hbm, 3578, rfl⟩
abbrev main_call110_v3 : Ref sig .tc := ⟨.hbm, 3579, rfl⟩
abbrev main_call110_v4 : Ref sig .tc := ⟨.hbm, 3580, rfl⟩
abbrev main_v1907 : Ref sig .tc := ⟨.hbm, 3581, rfl⟩
abbrev main_v1908 : Ref sig .tc := ⟨.hbm, 3582, rfl⟩
abbrev main_c_456 : Ref sig .tc := ⟨.hbm, 3583, rfl⟩
abbrev main_v1909 : Ref sig .tc := ⟨.hbm, 3584, rfl⟩
abbrev main_v1910 : Ref sig .tc := ⟨.hbm, 3585, rfl⟩
abbrev main_v1911 : Ref sig .tc := ⟨.hbm, 3586, rfl⟩
abbrev main_v1912 : Ref sig .tc := ⟨.hbm, 3587, rfl⟩
abbrev main_v1913 : Ref sig .tc := ⟨.hbm, 3588, rfl⟩
abbrev main_v1914 : Ref sig .tc := ⟨.hbm, 3589, rfl⟩
abbrev main_call111_c : Ref sig .tc := ⟨.hbm, 3590, rfl⟩
abbrev main_call111_v0 : Ref sig .tc := ⟨.hbm, 3591, rfl⟩
abbrev main_call111_v1 : Ref sig .tc := ⟨.hbm, 3592, rfl⟩
abbrev main_call111_c_0 : Ref sig .tc := ⟨.hbm, 3593, rfl⟩
abbrev main_call111_v2 : Ref sig .tc := ⟨.hbm, 3594, rfl⟩
abbrev main_call111_v3 : Ref sig .tc := ⟨.hbm, 3595, rfl⟩
abbrev main_call111_v4 : Ref sig .tc := ⟨.hbm, 3596, rfl⟩
abbrev main_call111_v5 : Ref sig .tc := ⟨.hbm, 3597, rfl⟩
abbrev main_call111_c_1 : Ref sig .tc := ⟨.hbm, 3598, rfl⟩
abbrev main_call111_c_2 : Ref sig .tc := ⟨.hbm, 3599, rfl⟩
abbrev main_call111_v6 : Ref sig .tc := ⟨.hbm, 3600, rfl⟩
abbrev main_call111_v7 : Ref sig .tc := ⟨.hbm, 3601, rfl⟩
abbrev main_call111_v8 : Ref sig .tc := ⟨.hbm, 3602, rfl⟩
abbrev main_call111_v9 : Ref sig .tc := ⟨.hbm, 3603, rfl⟩
abbrev main_call111_v10 : Ref sig .tc := ⟨.hbm, 3604, rfl⟩
abbrev main_call111_v11 : Ref sig .tc := ⟨.hbm, 3605, rfl⟩
abbrev main_call111_c_3 : Ref sig .tc := ⟨.hbm, 3606, rfl⟩
abbrev main_call111_v12 : Ref sig .tc := ⟨.hbm, 3607, rfl⟩
abbrev main_call111_v13 : Ref sig .tc := ⟨.hbm, 3608, rfl⟩
abbrev main_call111_cst : Ref sig .tc := ⟨.hbm, 3609, rfl⟩
abbrev main_call111_v14 : Ref sig .tc := ⟨.hbm, 3610, rfl⟩
abbrev main_v1915 : Ref sig .tc := ⟨.hbm, 3611, rfl⟩
abbrev main_v1916 : Ref sig .tc := ⟨.hbm, 3612, rfl⟩
abbrev main_v1917 : Ref sig .tc := ⟨.hbm, 3613, rfl⟩
abbrev main_v1918 : Ref sig .tc := ⟨.hbm, 3614, rfl⟩
abbrev main_v1919 : Ref sig .tc := ⟨.hbm, 3615, rfl⟩
abbrev main_v1920 : Ref sig .tc := ⟨.hbm, 3616, rfl⟩
abbrev main_v1921 : Ref sig .tc := ⟨.hbm, 3617, rfl⟩
abbrev main_v1922 : Ref sig .tc := ⟨.hbm, 3618, rfl⟩
abbrev main_v1923 : Ref sig .tc := ⟨.hbm, 3619, rfl⟩
abbrev main_v1924 : Ref sig .tc := ⟨.hbm, 3620, rfl⟩
abbrev main_cst_457 : Ref sig .tc := ⟨.hbm, 3621, rfl⟩
abbrev main_v1925 : Ref sig .tc := ⟨.hbm, 3622, rfl⟩
abbrev main_v1926 : Ref sig .tc := ⟨.hbm, 3623, rfl⟩
abbrev main_cst_458 : Ref sig .tc := ⟨.hbm, 3624, rfl⟩
abbrev main_v1927 : Ref sig .tc := ⟨.hbm, 3625, rfl⟩
abbrev main_v1928 : Ref sig .tc := ⟨.hbm, 3626, rfl⟩
abbrev main_v1929 : Ref sig .tc := ⟨.hbm, 3627, rfl⟩
abbrev main_cst_459 : Ref sig .tc := ⟨.hbm, 3628, rfl⟩
abbrev main_v1930 : Ref sig .tc := ⟨.hbm, 3629, rfl⟩
abbrev main_v1931 : Ref sig .tc := ⟨.hbm, 3630, rfl⟩
abbrev main_v1932 : Ref sig .tc := ⟨.hbm, 3631, rfl⟩
abbrev main_cst_460 : Ref sig .tc := ⟨.hbm, 3632, rfl⟩
abbrev main_v1933 : Ref sig .tc := ⟨.hbm, 3633, rfl⟩
abbrev main_v1934 : Ref sig .tc := ⟨.hbm, 3634, rfl⟩
abbrev main_v1935 : Ref sig .tc := ⟨.hbm, 3635, rfl⟩
abbrev main_c_461 : Ref sig .tc := ⟨.hbm, 3636, rfl⟩
abbrev main_c_462 : Ref sig .tc := ⟨.hbm, 3637, rfl⟩
abbrev main_call112_v0 : Ref sig .tc := ⟨.hbm, 3638, rfl⟩
abbrev main_call112_v1 : Ref sig .tc := ⟨.hbm, 3639, rfl⟩
abbrev main_call112_v2 : Ref sig .tc := ⟨.hbm, 3640, rfl⟩
abbrev main_call112_v3 : Ref sig .tc := ⟨.hbm, 3641, rfl⟩
abbrev main_call112_v4 : Ref sig .tc := ⟨.hbm, 3642, rfl⟩
abbrev main_v1936 : Ref sig .tc := ⟨.hbm, 3643, rfl⟩
abbrev main_v1937 : Ref sig .tc := ⟨.hbm, 3644, rfl⟩
abbrev main_c_463 : Ref sig .tc := ⟨.hbm, 3645, rfl⟩
abbrev main_c_464 : Ref sig .tc := ⟨.hbm, 3646, rfl⟩
abbrev main_call113_v0 : Ref sig .tc := ⟨.hbm, 3647, rfl⟩
abbrev main_call113_v1 : Ref sig .tc := ⟨.hbm, 3648, rfl⟩
abbrev main_call113_v2 : Ref sig .tc := ⟨.hbm, 3649, rfl⟩
abbrev main_call113_v3 : Ref sig .tc := ⟨.hbm, 3650, rfl⟩
abbrev main_call113_v4 : Ref sig .tc := ⟨.hbm, 3651, rfl⟩
abbrev main_v1938 : Ref sig .tc := ⟨.hbm, 3652, rfl⟩
abbrev main_v1939 : Ref sig .tc := ⟨.hbm, 3653, rfl⟩
abbrev main_c_465 : Ref sig .tc := ⟨.hbm, 3654, rfl⟩
abbrev main_v1940 : Ref sig .tc := ⟨.hbm, 3655, rfl⟩
abbrev main_v1941 : Ref sig .tc := ⟨.hbm, 3656, rfl⟩
abbrev main_v1942 : Ref sig .tc := ⟨.hbm, 3657, rfl⟩
abbrev main_v1943 : Ref sig .tc := ⟨.hbm, 3658, rfl⟩
abbrev main_v1944 : Ref sig .tc := ⟨.hbm, 3659, rfl⟩
abbrev main_v1945 : Ref sig .tc := ⟨.hbm, 3660, rfl⟩
abbrev main_call114_c : Ref sig .tc := ⟨.hbm, 3661, rfl⟩
abbrev main_call114_v0 : Ref sig .tc := ⟨.hbm, 3662, rfl⟩
abbrev main_call114_v1 : Ref sig .tc := ⟨.hbm, 3663, rfl⟩
abbrev main_call114_c_0 : Ref sig .tc := ⟨.hbm, 3664, rfl⟩
abbrev main_call114_v2 : Ref sig .tc := ⟨.hbm, 3665, rfl⟩
abbrev main_call114_v3 : Ref sig .tc := ⟨.hbm, 3666, rfl⟩
abbrev main_call114_v4 : Ref sig .tc := ⟨.hbm, 3667, rfl⟩
abbrev main_call114_v5 : Ref sig .tc := ⟨.hbm, 3668, rfl⟩
abbrev main_call114_c_1 : Ref sig .tc := ⟨.hbm, 3669, rfl⟩
abbrev main_call114_c_2 : Ref sig .tc := ⟨.hbm, 3670, rfl⟩
abbrev main_call114_v6 : Ref sig .tc := ⟨.hbm, 3671, rfl⟩
abbrev main_call114_v7 : Ref sig .tc := ⟨.hbm, 3672, rfl⟩
abbrev main_call114_v8 : Ref sig .tc := ⟨.hbm, 3673, rfl⟩
abbrev main_call114_v9 : Ref sig .tc := ⟨.hbm, 3674, rfl⟩
abbrev main_call114_v10 : Ref sig .tc := ⟨.hbm, 3675, rfl⟩
abbrev main_call114_v11 : Ref sig .tc := ⟨.hbm, 3676, rfl⟩
abbrev main_call114_c_3 : Ref sig .tc := ⟨.hbm, 3677, rfl⟩
abbrev main_call114_v12 : Ref sig .tc := ⟨.hbm, 3678, rfl⟩
abbrev main_call114_v13 : Ref sig .tc := ⟨.hbm, 3679, rfl⟩
abbrev main_call114_cst : Ref sig .tc := ⟨.hbm, 3680, rfl⟩
abbrev main_call114_v14 : Ref sig .tc := ⟨.hbm, 3681, rfl⟩
abbrev main_v1946 : Ref sig .tc := ⟨.hbm, 3682, rfl⟩
abbrev main_v1947 : Ref sig .tc := ⟨.hbm, 3683, rfl⟩
abbrev main_v1948 : Ref sig .tc := ⟨.hbm, 3684, rfl⟩
abbrev main_v1949 : Ref sig .tc := ⟨.hbm, 3685, rfl⟩
abbrev main_v1950 : Ref sig .tc := ⟨.hbm, 3686, rfl⟩
abbrev main_v1951 : Ref sig .tc := ⟨.hbm, 3687, rfl⟩
abbrev main_v1952 : Ref sig .tc := ⟨.hbm, 3688, rfl⟩
abbrev main_v1953 : Ref sig .tc := ⟨.hbm, 3689, rfl⟩
abbrev main_v1954 : Ref sig .tc := ⟨.hbm, 3690, rfl⟩
abbrev main_v1955 : Ref sig .tc := ⟨.hbm, 3691, rfl⟩
abbrev main_cst_466 : Ref sig .tc := ⟨.hbm, 3692, rfl⟩
abbrev main_v1956 : Ref sig .tc := ⟨.hbm, 3693, rfl⟩
abbrev main_v1957 : Ref sig .tc := ⟨.hbm, 3694, rfl⟩
abbrev main_cst_467 : Ref sig .tc := ⟨.hbm, 3695, rfl⟩
abbrev main_v1958 : Ref sig .tc := ⟨.hbm, 3696, rfl⟩
abbrev main_v1959 : Ref sig .tc := ⟨.hbm, 3697, rfl⟩
abbrev main_v1960 : Ref sig .tc := ⟨.hbm, 3698, rfl⟩
abbrev main_cst_468 : Ref sig .tc := ⟨.hbm, 3699, rfl⟩
abbrev main_v1961 : Ref sig .tc := ⟨.hbm, 3700, rfl⟩
abbrev main_v1962 : Ref sig .tc := ⟨.hbm, 3701, rfl⟩
abbrev main_v1963 : Ref sig .tc := ⟨.hbm, 3702, rfl⟩
abbrev main_cst_469 : Ref sig .tc := ⟨.hbm, 3703, rfl⟩
abbrev main_v1964 : Ref sig .tc := ⟨.hbm, 3704, rfl⟩
abbrev main_v1965 : Ref sig .tc := ⟨.hbm, 3705, rfl⟩
abbrev main_v1966 : Ref sig .tc := ⟨.hbm, 3706, rfl⟩
abbrev main_c_470 : Ref sig .tc := ⟨.hbm, 3707, rfl⟩
abbrev main_c_471 : Ref sig .tc := ⟨.hbm, 3708, rfl⟩
abbrev main_call115_v0 : Ref sig .tc := ⟨.hbm, 3709, rfl⟩
abbrev main_call115_v1 : Ref sig .tc := ⟨.hbm, 3710, rfl⟩
abbrev main_call115_v2 : Ref sig .tc := ⟨.hbm, 3711, rfl⟩
abbrev main_call115_v3 : Ref sig .tc := ⟨.hbm, 3712, rfl⟩
abbrev main_call115_v4 : Ref sig .tc := ⟨.hbm, 3713, rfl⟩
abbrev main_v1967 : Ref sig .tc := ⟨.hbm, 3714, rfl⟩
abbrev main_v1968 : Ref sig .tc := ⟨.hbm, 3715, rfl⟩
abbrev main_c_472 : Ref sig .tc := ⟨.hbm, 3716, rfl⟩
abbrev main_c_473 : Ref sig .tc := ⟨.hbm, 3717, rfl⟩
abbrev main_call116_v0 : Ref sig .tc := ⟨.hbm, 3718, rfl⟩
abbrev main_call116_v1 : Ref sig .tc := ⟨.hbm, 3719, rfl⟩
abbrev main_call116_v2 : Ref sig .tc := ⟨.hbm, 3720, rfl⟩
abbrev main_call116_v3 : Ref sig .tc := ⟨.hbm, 3721, rfl⟩
abbrev main_call116_v4 : Ref sig .tc := ⟨.hbm, 3722, rfl⟩
abbrev main_v1969 : Ref sig .tc := ⟨.hbm, 3723, rfl⟩
abbrev main_v1970 : Ref sig .tc := ⟨.hbm, 3724, rfl⟩
abbrev main_c_474 : Ref sig .tc := ⟨.hbm, 3725, rfl⟩
abbrev main_v1971 : Ref sig .tc := ⟨.hbm, 3726, rfl⟩
abbrev main_v1972 : Ref sig .tc := ⟨.hbm, 3727, rfl⟩
abbrev main_v1973 : Ref sig .tc := ⟨.hbm, 3728, rfl⟩
abbrev main_v1974 : Ref sig .tc := ⟨.hbm, 3729, rfl⟩
abbrev main_v1975 : Ref sig .tc := ⟨.hbm, 3730, rfl⟩
abbrev main_v1976 : Ref sig .tc := ⟨.hbm, 3731, rfl⟩
abbrev main_call117_c : Ref sig .tc := ⟨.hbm, 3732, rfl⟩
abbrev main_call117_v0 : Ref sig .tc := ⟨.hbm, 3733, rfl⟩
abbrev main_call117_v1 : Ref sig .tc := ⟨.hbm, 3734, rfl⟩
abbrev main_call117_c_0 : Ref sig .tc := ⟨.hbm, 3735, rfl⟩
abbrev main_call117_v2 : Ref sig .tc := ⟨.hbm, 3736, rfl⟩
abbrev main_call117_v3 : Ref sig .tc := ⟨.hbm, 3737, rfl⟩
abbrev main_call117_v4 : Ref sig .tc := ⟨.hbm, 3738, rfl⟩
abbrev main_call117_v5 : Ref sig .tc := ⟨.hbm, 3739, rfl⟩
abbrev main_call117_c_1 : Ref sig .tc := ⟨.hbm, 3740, rfl⟩
abbrev main_call117_c_2 : Ref sig .tc := ⟨.hbm, 3741, rfl⟩
abbrev main_call117_v6 : Ref sig .tc := ⟨.hbm, 3742, rfl⟩
abbrev main_call117_v7 : Ref sig .tc := ⟨.hbm, 3743, rfl⟩
abbrev main_call117_v8 : Ref sig .tc := ⟨.hbm, 3744, rfl⟩
abbrev main_call117_v9 : Ref sig .tc := ⟨.hbm, 3745, rfl⟩
abbrev main_call117_v10 : Ref sig .tc := ⟨.hbm, 3746, rfl⟩
abbrev main_call117_v11 : Ref sig .tc := ⟨.hbm, 3747, rfl⟩
abbrev main_call117_c_3 : Ref sig .tc := ⟨.hbm, 3748, rfl⟩
abbrev main_call117_v12 : Ref sig .tc := ⟨.hbm, 3749, rfl⟩
abbrev main_call117_v13 : Ref sig .tc := ⟨.hbm, 3750, rfl⟩
abbrev main_call117_cst : Ref sig .tc := ⟨.hbm, 3751, rfl⟩
abbrev main_call117_v14 : Ref sig .tc := ⟨.hbm, 3752, rfl⟩
abbrev main_v1977 : Ref sig .tc := ⟨.hbm, 3753, rfl⟩
abbrev main_v1978 : Ref sig .tc := ⟨.hbm, 3754, rfl⟩
abbrev main_v1979 : Ref sig .tc := ⟨.hbm, 3755, rfl⟩
abbrev main_v1980 : Ref sig .tc := ⟨.hbm, 3756, rfl⟩
abbrev main_v1981 : Ref sig .tc := ⟨.hbm, 3757, rfl⟩
abbrev main_v1982 : Ref sig .tc := ⟨.hbm, 3758, rfl⟩
abbrev main_v1983 : Ref sig .tc := ⟨.hbm, 3759, rfl⟩
abbrev main_v1984 : Ref sig .tc := ⟨.hbm, 3760, rfl⟩
abbrev main_v1985 : Ref sig .tc := ⟨.hbm, 3761, rfl⟩
abbrev main_v1986 : Ref sig .tc := ⟨.hbm, 3762, rfl⟩
abbrev main_v1987 : Ref sig .tc := ⟨.hbm, 3763, rfl⟩
abbrev main_v1988 : Ref sig .tc := ⟨.hbm, 3764, rfl⟩
abbrev main_v1989 : Ref sig .tc := ⟨.hbm, 3765, rfl⟩
abbrev main_v1990 : Ref sig .tc := ⟨.hbm, 3766, rfl⟩
abbrev main_v1991 : Ref sig .tc := ⟨.hbm, 3767, rfl⟩
abbrev main_v1992 : Ref sig .tc := ⟨.hbm, 3768, rfl⟩
abbrev main_v1993 : Ref sig .tc := ⟨.hbm, 3769, rfl⟩
abbrev main_v1994 : Ref sig .tc := ⟨.hbm, 3770, rfl⟩
abbrev main_v1995 : Ref sig .tc := ⟨.hbm, 3771, rfl⟩
abbrev main_cst_475 : Ref sig .tc := ⟨.hbm, 3772, rfl⟩
abbrev main_v1996 : Ref sig .tc := ⟨.hbm, 3773, rfl⟩
abbrev main_v1997 : Ref sig .tc := ⟨.hbm, 3774, rfl⟩
abbrev main_cst_476 : Ref sig .tc := ⟨.hbm, 3775, rfl⟩
abbrev main_v1998 : Ref sig .tc := ⟨.hbm, 3776, rfl⟩
abbrev main_v1999 : Ref sig .tc := ⟨.hbm, 3777, rfl⟩
abbrev main_cst_477 : Ref sig .tc := ⟨.hbm, 3778, rfl⟩
abbrev main_v2000 : Ref sig .tc := ⟨.hbm, 3779, rfl⟩
abbrev main_v2001 : Ref sig .tc := ⟨.hbm, 3780, rfl⟩
abbrev main_cst_478 : Ref sig .tc := ⟨.hbm, 3781, rfl⟩
abbrev main_v2002 : Ref sig .tc := ⟨.hbm, 3782, rfl⟩
abbrev main_v2003 : Ref sig .tc := ⟨.hbm, 3783, rfl⟩
abbrev main_v2004 : Ref sig .tc := ⟨.hbm, 3784, rfl⟩
abbrev main_v2005 : Ref sig .tc := ⟨.hbm, 3785, rfl⟩
abbrev main_cst_479 : Ref sig .tc := ⟨.hbm, 3786, rfl⟩
abbrev main_v2006 : Ref sig .tc := ⟨.hbm, 3787, rfl⟩
abbrev main_v2007 : Ref sig .tc := ⟨.hbm, 3788, rfl⟩
abbrev main_cst_480 : Ref sig .tc := ⟨.hbm, 3789, rfl⟩
abbrev main_v2008 : Ref sig .tc := ⟨.hbm, 3790, rfl⟩
abbrev main_v2009 : Ref sig .tc := ⟨.hbm, 3791, rfl⟩
abbrev main_cst_481 : Ref sig .tc := ⟨.hbm, 3792, rfl⟩
abbrev main_v2010 : Ref sig .tc := ⟨.hbm, 3793, rfl⟩
abbrev main_v2011 : Ref sig .tc := ⟨.hbm, 3794, rfl⟩
abbrev main_cst_482 : Ref sig .tc := ⟨.hbm, 3795, rfl⟩
abbrev main_v2012 : Ref sig .tc := ⟨.hbm, 3796, rfl⟩
abbrev main_v2013 : Ref sig .tc := ⟨.hbm, 3797, rfl⟩
abbrev main_v2014 : Ref sig .tc := ⟨.hbm, 3798, rfl⟩
abbrev main_v2015 : Ref sig .tc := ⟨.hbm, 3799, rfl⟩
abbrev main_cst_483 : Ref sig .tc := ⟨.hbm, 3800, rfl⟩
abbrev main_v2016 : Ref sig .tc := ⟨.hbm, 3801, rfl⟩
abbrev main_v2017 : Ref sig .tc := ⟨.hbm, 3802, rfl⟩
abbrev main_cst_484 : Ref sig .tc := ⟨.hbm, 3803, rfl⟩
abbrev main_v2018 : Ref sig .tc := ⟨.hbm, 3804, rfl⟩
abbrev main_v2019 : Ref sig .tc := ⟨.hbm, 3805, rfl⟩
abbrev main_v2020 : Ref sig .tc := ⟨.hbm, 3806, rfl⟩
abbrev main_v2021 : Ref sig .tc := ⟨.hbm, 3807, rfl⟩
abbrev main_v2022 : Ref sig .tc := ⟨.hbm, 3808, rfl⟩
abbrev main_v2023 : Ref sig .tc := ⟨.hbm, 3809, rfl⟩
abbrev main_v2024 : Ref sig .tc := ⟨.hbm, 3810, rfl⟩
abbrev main_v2025 : Ref sig .tc := ⟨.hbm, 3811, rfl⟩
abbrev main_v2026 : Ref sig .tc := ⟨.hbm, 3812, rfl⟩
abbrev main_v2027 : Ref sig .tc := ⟨.hbm, 3813, rfl⟩
abbrev main_v2028 : Ref sig .tc := ⟨.hbm, 3814, rfl⟩
abbrev main_v2029 : Ref sig .tc := ⟨.hbm, 3815, rfl⟩
abbrev main_v2030 : Ref sig .tc := ⟨.hbm, 3816, rfl⟩
abbrev main_v2031 : Ref sig .tc := ⟨.hbm, 3817, rfl⟩
abbrev main_v2032 : Ref sig .tc := ⟨.hbm, 3818, rfl⟩
abbrev main_cst_485 : Ref sig .tc := ⟨.hbm, 3819, rfl⟩
abbrev main_v2033 : Ref sig .tc := ⟨.hbm, 3820, rfl⟩
abbrev main_v2034 : Ref sig .tc := ⟨.hbm, 3821, rfl⟩
abbrev main_cst_486 : Ref sig .tc := ⟨.hbm, 3822, rfl⟩
abbrev main_v2035 : Ref sig .tc := ⟨.hbm, 3823, rfl⟩
abbrev main_v2036 : Ref sig .tc := ⟨.hbm, 3824, rfl⟩
abbrev main_v2037 : Ref sig .tc := ⟨.hbm, 3825, rfl⟩
abbrev main_cst_487 : Ref sig .tc := ⟨.hbm, 3826, rfl⟩
abbrev main_v2038 : Ref sig .tc := ⟨.hbm, 3827, rfl⟩
abbrev main_v2039 : Ref sig .tc := ⟨.hbm, 3828, rfl⟩
abbrev main_v2040 : Ref sig .tc := ⟨.hbm, 3829, rfl⟩
abbrev main_cst_488 : Ref sig .tc := ⟨.hbm, 3830, rfl⟩
abbrev main_v2041 : Ref sig .tc := ⟨.hbm, 3831, rfl⟩
abbrev main_v2042 : Ref sig .tc := ⟨.hbm, 3832, rfl⟩
abbrev main_v2043 : Ref sig .tc := ⟨.hbm, 3833, rfl⟩
abbrev main_c_489 : Ref sig .tc := ⟨.hbm, 3834, rfl⟩
abbrev main_c_490 : Ref sig .tc := ⟨.hbm, 3835, rfl⟩
abbrev main_call118_v0 : Ref sig .tc := ⟨.hbm, 3836, rfl⟩
abbrev main_call118_v1 : Ref sig .tc := ⟨.hbm, 3837, rfl⟩
abbrev main_call118_v2 : Ref sig .tc := ⟨.hbm, 3838, rfl⟩
abbrev main_call118_v3 : Ref sig .tc := ⟨.hbm, 3839, rfl⟩
abbrev main_call118_v4 : Ref sig .tc := ⟨.hbm, 3840, rfl⟩
abbrev main_v2044 : Ref sig .tc := ⟨.hbm, 3841, rfl⟩
abbrev main_v2045 : Ref sig .tc := ⟨.hbm, 3842, rfl⟩
abbrev main_c_491 : Ref sig .tc := ⟨.hbm, 3843, rfl⟩
abbrev main_c_492 : Ref sig .tc := ⟨.hbm, 3844, rfl⟩
abbrev main_call119_v0 : Ref sig .tc := ⟨.hbm, 3845, rfl⟩
abbrev main_call119_v1 : Ref sig .tc := ⟨.hbm, 3846, rfl⟩
abbrev main_call119_v2 : Ref sig .tc := ⟨.hbm, 3847, rfl⟩
abbrev main_call119_v3 : Ref sig .tc := ⟨.hbm, 3848, rfl⟩
abbrev main_call119_v4 : Ref sig .tc := ⟨.hbm, 3849, rfl⟩
abbrev main_v2046 : Ref sig .tc := ⟨.hbm, 3850, rfl⟩
abbrev main_v2047 : Ref sig .tc := ⟨.hbm, 3851, rfl⟩
abbrev main_c_493 : Ref sig .tc := ⟨.hbm, 3852, rfl⟩
abbrev main_v2048 : Ref sig .tc := ⟨.hbm, 3853, rfl⟩
abbrev main_v2049 : Ref sig .tc := ⟨.hbm, 3854, rfl⟩
abbrev main_v2050 : Ref sig .tc := ⟨.hbm, 3855, rfl⟩
abbrev main_v2051 : Ref sig .tc := ⟨.hbm, 3856, rfl⟩
abbrev main_v2052 : Ref sig .tc := ⟨.hbm, 3857, rfl⟩
abbrev main_v2053 : Ref sig .tc := ⟨.hbm, 3858, rfl⟩
abbrev main_call120_c : Ref sig .tc := ⟨.hbm, 3859, rfl⟩
abbrev main_call120_v0 : Ref sig .tc := ⟨.hbm, 3860, rfl⟩
abbrev main_call120_v1 : Ref sig .tc := ⟨.hbm, 3861, rfl⟩
abbrev main_call120_c_0 : Ref sig .tc := ⟨.hbm, 3862, rfl⟩
abbrev main_call120_v2 : Ref sig .tc := ⟨.hbm, 3863, rfl⟩
abbrev main_call120_v3 : Ref sig .tc := ⟨.hbm, 3864, rfl⟩
abbrev main_call120_v4 : Ref sig .tc := ⟨.hbm, 3865, rfl⟩
abbrev main_call120_v5 : Ref sig .tc := ⟨.hbm, 3866, rfl⟩
abbrev main_call120_c_1 : Ref sig .tc := ⟨.hbm, 3867, rfl⟩
abbrev main_call120_c_2 : Ref sig .tc := ⟨.hbm, 3868, rfl⟩
abbrev main_call120_v6 : Ref sig .tc := ⟨.hbm, 3869, rfl⟩
abbrev main_call120_v7 : Ref sig .tc := ⟨.hbm, 3870, rfl⟩
abbrev main_call120_v8 : Ref sig .tc := ⟨.hbm, 3871, rfl⟩
abbrev main_call120_v9 : Ref sig .tc := ⟨.hbm, 3872, rfl⟩
abbrev main_call120_v10 : Ref sig .tc := ⟨.hbm, 3873, rfl⟩
abbrev main_call120_v11 : Ref sig .tc := ⟨.hbm, 3874, rfl⟩
abbrev main_call120_c_3 : Ref sig .tc := ⟨.hbm, 3875, rfl⟩
abbrev main_call120_v12 : Ref sig .tc := ⟨.hbm, 3876, rfl⟩
abbrev main_call120_v13 : Ref sig .tc := ⟨.hbm, 3877, rfl⟩
abbrev main_call120_cst : Ref sig .tc := ⟨.hbm, 3878, rfl⟩
abbrev main_call120_v14 : Ref sig .tc := ⟨.hbm, 3879, rfl⟩
abbrev main_v2054 : Ref sig .tc := ⟨.hbm, 3880, rfl⟩
abbrev main_v2055 : Ref sig .tc := ⟨.hbm, 3881, rfl⟩
abbrev main_v2056 : Ref sig .tc := ⟨.hbm, 3882, rfl⟩
abbrev main_v2057 : Ref sig .tc := ⟨.hbm, 3883, rfl⟩
abbrev main_v2058 : Ref sig .tc := ⟨.hbm, 3884, rfl⟩
abbrev main_v2059 : Ref sig .tc := ⟨.hbm, 3885, rfl⟩
abbrev main_v2060 : Ref sig .tc := ⟨.hbm, 3886, rfl⟩
abbrev main_v2061 : Ref sig .tc := ⟨.hbm, 3887, rfl⟩
abbrev main_v2062 : Ref sig .tc := ⟨.hbm, 3888, rfl⟩
abbrev main_cst_494 : Ref sig .tc := ⟨.hbm, 3889, rfl⟩
abbrev main_v2063 : Ref sig .tc := ⟨.hbm, 3890, rfl⟩
abbrev main_v2064 : Ref sig .tc := ⟨.hbm, 3891, rfl⟩
abbrev main_cst_495 : Ref sig .tc := ⟨.hbm, 3892, rfl⟩
abbrev main_v2065 : Ref sig .tc := ⟨.hbm, 3893, rfl⟩
abbrev main_v2066 : Ref sig .tc := ⟨.hbm, 3894, rfl⟩
abbrev main_v2067 : Ref sig .tc := ⟨.hbm, 3895, rfl⟩
abbrev main_cst_496 : Ref sig .tc := ⟨.hbm, 3896, rfl⟩
abbrev main_v2068 : Ref sig .tc := ⟨.hbm, 3897, rfl⟩
abbrev main_v2069 : Ref sig .tc := ⟨.hbm, 3898, rfl⟩
abbrev main_v2070 : Ref sig .tc := ⟨.hbm, 3899, rfl⟩
abbrev main_cst_497 : Ref sig .tc := ⟨.hbm, 3900, rfl⟩
abbrev main_v2071 : Ref sig .tc := ⟨.hbm, 3901, rfl⟩
abbrev main_v2072 : Ref sig .tc := ⟨.hbm, 3902, rfl⟩
abbrev main_v2073 : Ref sig .tc := ⟨.hbm, 3903, rfl⟩
abbrev main_c_498 : Ref sig .tc := ⟨.hbm, 3904, rfl⟩
abbrev main_c_499 : Ref sig .tc := ⟨.hbm, 3905, rfl⟩
abbrev main_call121_v0 : Ref sig .tc := ⟨.hbm, 3906, rfl⟩
abbrev main_call121_v1 : Ref sig .tc := ⟨.hbm, 3907, rfl⟩
abbrev main_call121_v2 : Ref sig .tc := ⟨.hbm, 3908, rfl⟩
abbrev main_call121_v3 : Ref sig .tc := ⟨.hbm, 3909, rfl⟩
abbrev main_call121_v4 : Ref sig .tc := ⟨.hbm, 3910, rfl⟩
abbrev main_v2074 : Ref sig .tc := ⟨.hbm, 3911, rfl⟩
abbrev main_v2075 : Ref sig .tc := ⟨.hbm, 3912, rfl⟩
abbrev main_c_500 : Ref sig .tc := ⟨.hbm, 3913, rfl⟩
abbrev main_c_501 : Ref sig .tc := ⟨.hbm, 3914, rfl⟩
abbrev main_call122_v0 : Ref sig .tc := ⟨.hbm, 3915, rfl⟩
abbrev main_call122_v1 : Ref sig .tc := ⟨.hbm, 3916, rfl⟩
abbrev main_call122_v2 : Ref sig .tc := ⟨.hbm, 3917, rfl⟩
abbrev main_call122_v3 : Ref sig .tc := ⟨.hbm, 3918, rfl⟩
abbrev main_call122_v4 : Ref sig .tc := ⟨.hbm, 3919, rfl⟩
abbrev main_v2076 : Ref sig .tc := ⟨.hbm, 3920, rfl⟩
abbrev main_v2077 : Ref sig .tc := ⟨.hbm, 3921, rfl⟩
abbrev main_c_502 : Ref sig .tc := ⟨.hbm, 3922, rfl⟩
abbrev main_v2078 : Ref sig .tc := ⟨.hbm, 3923, rfl⟩
abbrev main_v2079 : Ref sig .tc := ⟨.hbm, 3924, rfl⟩
abbrev main_v2080 : Ref sig .tc := ⟨.hbm, 3925, rfl⟩
abbrev main_v2081 : Ref sig .tc := ⟨.hbm, 3926, rfl⟩
abbrev main_v2082 : Ref sig .tc := ⟨.hbm, 3927, rfl⟩
abbrev main_v2083 : Ref sig .tc := ⟨.hbm, 3928, rfl⟩
abbrev main_call123_c : Ref sig .tc := ⟨.hbm, 3929, rfl⟩
abbrev main_call123_v0 : Ref sig .tc := ⟨.hbm, 3930, rfl⟩
abbrev main_call123_v1 : Ref sig .tc := ⟨.hbm, 3931, rfl⟩
abbrev main_call123_c_0 : Ref sig .tc := ⟨.hbm, 3932, rfl⟩
abbrev main_call123_v2 : Ref sig .tc := ⟨.hbm, 3933, rfl⟩
abbrev main_call123_v3 : Ref sig .tc := ⟨.hbm, 3934, rfl⟩
abbrev main_call123_v4 : Ref sig .tc := ⟨.hbm, 3935, rfl⟩
abbrev main_call123_v5 : Ref sig .tc := ⟨.hbm, 3936, rfl⟩
abbrev main_call123_c_1 : Ref sig .tc := ⟨.hbm, 3937, rfl⟩
abbrev main_call123_c_2 : Ref sig .tc := ⟨.hbm, 3938, rfl⟩
abbrev main_call123_v6 : Ref sig .tc := ⟨.hbm, 3939, rfl⟩
abbrev main_call123_v7 : Ref sig .tc := ⟨.hbm, 3940, rfl⟩
abbrev main_call123_v8 : Ref sig .tc := ⟨.hbm, 3941, rfl⟩
abbrev main_call123_v9 : Ref sig .tc := ⟨.hbm, 3942, rfl⟩
abbrev main_call123_v10 : Ref sig .tc := ⟨.hbm, 3943, rfl⟩
abbrev main_call123_v11 : Ref sig .tc := ⟨.hbm, 3944, rfl⟩
abbrev main_call123_c_3 : Ref sig .tc := ⟨.hbm, 3945, rfl⟩
abbrev main_call123_v12 : Ref sig .tc := ⟨.hbm, 3946, rfl⟩
abbrev main_call123_v13 : Ref sig .tc := ⟨.hbm, 3947, rfl⟩
abbrev main_call123_cst : Ref sig .tc := ⟨.hbm, 3948, rfl⟩
abbrev main_call123_v14 : Ref sig .tc := ⟨.hbm, 3949, rfl⟩
abbrev main_v2084 : Ref sig .tc := ⟨.hbm, 3950, rfl⟩
abbrev main_v2085 : Ref sig .tc := ⟨.hbm, 3951, rfl⟩
abbrev main_v2086 : Ref sig .tc := ⟨.hbm, 3952, rfl⟩
abbrev main_v2087 : Ref sig .tc := ⟨.hbm, 3953, rfl⟩
abbrev main_v2088 : Ref sig .tc := ⟨.hbm, 3954, rfl⟩
abbrev main_v2089 : Ref sig .tc := ⟨.hbm, 3955, rfl⟩
abbrev main_v2090 : Ref sig .tc := ⟨.hbm, 3956, rfl⟩
abbrev main_v2091 : Ref sig .tc := ⟨.hbm, 3957, rfl⟩
abbrev main_v2092 : Ref sig .tc := ⟨.hbm, 3958, rfl⟩
abbrev main_v2093 : Ref sig .tc := ⟨.hbm, 3959, rfl⟩
abbrev main_cst_503 : Ref sig .tc := ⟨.hbm, 3960, rfl⟩
abbrev main_v2094 : Ref sig .tc := ⟨.hbm, 3961, rfl⟩
abbrev main_v2095 : Ref sig .tc := ⟨.hbm, 3962, rfl⟩
abbrev main_cst_504 : Ref sig .tc := ⟨.hbm, 3963, rfl⟩
abbrev main_v2096 : Ref sig .tc := ⟨.hbm, 3964, rfl⟩
abbrev main_v2097 : Ref sig .tc := ⟨.hbm, 3965, rfl⟩
abbrev main_v2098 : Ref sig .tc := ⟨.hbm, 3966, rfl⟩
abbrev main_cst_505 : Ref sig .tc := ⟨.hbm, 3967, rfl⟩
abbrev main_v2099 : Ref sig .tc := ⟨.hbm, 3968, rfl⟩
abbrev main_v2100 : Ref sig .tc := ⟨.hbm, 3969, rfl⟩
abbrev main_v2101 : Ref sig .tc := ⟨.hbm, 3970, rfl⟩
abbrev main_cst_506 : Ref sig .tc := ⟨.hbm, 3971, rfl⟩
abbrev main_v2102 : Ref sig .tc := ⟨.hbm, 3972, rfl⟩
abbrev main_v2103 : Ref sig .tc := ⟨.hbm, 3973, rfl⟩
abbrev main_v2104 : Ref sig .tc := ⟨.hbm, 3974, rfl⟩
abbrev main_c_507 : Ref sig .tc := ⟨.hbm, 3975, rfl⟩
abbrev main_c_508 : Ref sig .tc := ⟨.hbm, 3976, rfl⟩
abbrev main_call124_v0 : Ref sig .tc := ⟨.hbm, 3977, rfl⟩
abbrev main_call124_v1 : Ref sig .tc := ⟨.hbm, 3978, rfl⟩
abbrev main_call124_v2 : Ref sig .tc := ⟨.hbm, 3979, rfl⟩
abbrev main_call124_v3 : Ref sig .tc := ⟨.hbm, 3980, rfl⟩
abbrev main_call124_v4 : Ref sig .tc := ⟨.hbm, 3981, rfl⟩
abbrev main_v2105 : Ref sig .tc := ⟨.hbm, 3982, rfl⟩
abbrev main_v2106 : Ref sig .tc := ⟨.hbm, 3983, rfl⟩
abbrev main_c_509 : Ref sig .tc := ⟨.hbm, 3984, rfl⟩
abbrev main_c_510 : Ref sig .tc := ⟨.hbm, 3985, rfl⟩
abbrev main_call125_v0 : Ref sig .tc := ⟨.hbm, 3986, rfl⟩
abbrev main_call125_v1 : Ref sig .tc := ⟨.hbm, 3987, rfl⟩
abbrev main_call125_v2 : Ref sig .tc := ⟨.hbm, 3988, rfl⟩
abbrev main_call125_v3 : Ref sig .tc := ⟨.hbm, 3989, rfl⟩
abbrev main_call125_v4 : Ref sig .tc := ⟨.hbm, 3990, rfl⟩
abbrev main_v2107 : Ref sig .tc := ⟨.hbm, 3991, rfl⟩
abbrev main_v2108 : Ref sig .tc := ⟨.hbm, 3992, rfl⟩
abbrev main_c_511 : Ref sig .tc := ⟨.hbm, 3993, rfl⟩
abbrev main_v2109 : Ref sig .tc := ⟨.hbm, 3994, rfl⟩
abbrev main_v2110 : Ref sig .tc := ⟨.hbm, 3995, rfl⟩
abbrev main_v2111 : Ref sig .tc := ⟨.hbm, 3996, rfl⟩
abbrev main_v2112 : Ref sig .tc := ⟨.hbm, 3997, rfl⟩
abbrev main_v2113 : Ref sig .tc := ⟨.hbm, 3998, rfl⟩
abbrev main_v2114 : Ref sig .tc := ⟨.hbm, 3999, rfl⟩
abbrev main_call126_c : Ref sig .tc := ⟨.hbm, 4000, rfl⟩
abbrev main_call126_v0 : Ref sig .tc := ⟨.hbm, 4001, rfl⟩
abbrev main_call126_v1 : Ref sig .tc := ⟨.hbm, 4002, rfl⟩
abbrev main_call126_c_0 : Ref sig .tc := ⟨.hbm, 4003, rfl⟩
abbrev main_call126_v2 : Ref sig .tc := ⟨.hbm, 4004, rfl⟩
abbrev main_call126_v3 : Ref sig .tc := ⟨.hbm, 4005, rfl⟩
abbrev main_call126_v4 : Ref sig .tc := ⟨.hbm, 4006, rfl⟩
abbrev main_call126_v5 : Ref sig .tc := ⟨.hbm, 4007, rfl⟩
abbrev main_call126_c_1 : Ref sig .tc := ⟨.hbm, 4008, rfl⟩
abbrev main_call126_c_2 : Ref sig .tc := ⟨.hbm, 4009, rfl⟩
abbrev main_call126_v6 : Ref sig .tc := ⟨.hbm, 4010, rfl⟩
abbrev main_call126_v7 : Ref sig .tc := ⟨.hbm, 4011, rfl⟩
abbrev main_call126_v8 : Ref sig .tc := ⟨.hbm, 4012, rfl⟩
abbrev main_call126_v9 : Ref sig .tc := ⟨.hbm, 4013, rfl⟩
abbrev main_call126_v10 : Ref sig .tc := ⟨.hbm, 4014, rfl⟩
abbrev main_call126_v11 : Ref sig .tc := ⟨.hbm, 4015, rfl⟩
abbrev main_call126_c_3 : Ref sig .tc := ⟨.hbm, 4016, rfl⟩
abbrev main_call126_v12 : Ref sig .tc := ⟨.hbm, 4017, rfl⟩
abbrev main_call126_v13 : Ref sig .tc := ⟨.hbm, 4018, rfl⟩
abbrev main_call126_cst : Ref sig .tc := ⟨.hbm, 4019, rfl⟩
abbrev main_call126_v14 : Ref sig .tc := ⟨.hbm, 4020, rfl⟩
abbrev main_v2115 : Ref sig .tc := ⟨.hbm, 4021, rfl⟩
abbrev main_v2116 : Ref sig .tc := ⟨.hbm, 4022, rfl⟩
abbrev main_v2117 : Ref sig .tc := ⟨.hbm, 4023, rfl⟩
abbrev main_v2118 : Ref sig .tc := ⟨.hbm, 4024, rfl⟩
abbrev main_v2119 : Ref sig .tc := ⟨.hbm, 4025, rfl⟩
abbrev main_v2120 : Ref sig .tc := ⟨.hbm, 4026, rfl⟩
abbrev main_v2121 : Ref sig .tc := ⟨.hbm, 4027, rfl⟩
abbrev main_v2122 : Ref sig .tc := ⟨.hbm, 4028, rfl⟩
abbrev main_v2123 : Ref sig .tc := ⟨.hbm, 4029, rfl⟩
abbrev main_v2124 : Ref sig .tc := ⟨.hbm, 4030, rfl⟩
abbrev main_cst_512 : Ref sig .tc := ⟨.hbm, 4031, rfl⟩
abbrev main_v2125 : Ref sig .tc := ⟨.hbm, 4032, rfl⟩
abbrev main_v2126 : Ref sig .tc := ⟨.hbm, 4033, rfl⟩
abbrev main_cst_513 : Ref sig .tc := ⟨.hbm, 4034, rfl⟩
abbrev main_v2127 : Ref sig .tc := ⟨.hbm, 4035, rfl⟩
abbrev main_v2128 : Ref sig .tc := ⟨.hbm, 4036, rfl⟩
abbrev main_v2129 : Ref sig .tc := ⟨.hbm, 4037, rfl⟩
abbrev main_cst_514 : Ref sig .tc := ⟨.hbm, 4038, rfl⟩
abbrev main_v2130 : Ref sig .tc := ⟨.hbm, 4039, rfl⟩
abbrev main_v2131 : Ref sig .tc := ⟨.hbm, 4040, rfl⟩
abbrev main_v2132 : Ref sig .tc := ⟨.hbm, 4041, rfl⟩
abbrev main_cst_515 : Ref sig .tc := ⟨.hbm, 4042, rfl⟩
abbrev main_v2133 : Ref sig .tc := ⟨.hbm, 4043, rfl⟩
abbrev main_v2134 : Ref sig .tc := ⟨.hbm, 4044, rfl⟩
abbrev main_v2135 : Ref sig .tc := ⟨.hbm, 4045, rfl⟩
abbrev main_c_516 : Ref sig .tc := ⟨.hbm, 4046, rfl⟩
abbrev main_c_517 : Ref sig .tc := ⟨.hbm, 4047, rfl⟩
abbrev main_call127_v0 : Ref sig .tc := ⟨.hbm, 4048, rfl⟩
abbrev main_call127_v1 : Ref sig .tc := ⟨.hbm, 4049, rfl⟩
abbrev main_call127_v2 : Ref sig .tc := ⟨.hbm, 4050, rfl⟩
abbrev main_call127_v3 : Ref sig .tc := ⟨.hbm, 4051, rfl⟩
abbrev main_call127_v4 : Ref sig .tc := ⟨.hbm, 4052, rfl⟩
abbrev main_v2136 : Ref sig .tc := ⟨.hbm, 4053, rfl⟩
abbrev main_v2137 : Ref sig .tc := ⟨.hbm, 4054, rfl⟩
abbrev main_c_518 : Ref sig .tc := ⟨.hbm, 4055, rfl⟩
abbrev main_c_519 : Ref sig .tc := ⟨.hbm, 4056, rfl⟩
abbrev main_call128_v0 : Ref sig .tc := ⟨.hbm, 4057, rfl⟩
abbrev main_call128_v1 : Ref sig .tc := ⟨.hbm, 4058, rfl⟩
abbrev main_call128_v2 : Ref sig .tc := ⟨.hbm, 4059, rfl⟩
abbrev main_call128_v3 : Ref sig .tc := ⟨.hbm, 4060, rfl⟩
abbrev main_call128_v4 : Ref sig .tc := ⟨.hbm, 4061, rfl⟩
abbrev main_v2138 : Ref sig .tc := ⟨.hbm, 4062, rfl⟩
abbrev main_v2139 : Ref sig .tc := ⟨.hbm, 4063, rfl⟩
abbrev main_c_520 : Ref sig .tc := ⟨.hbm, 4064, rfl⟩
abbrev main_v2140 : Ref sig .tc := ⟨.hbm, 4065, rfl⟩
abbrev main_v2141 : Ref sig .tc := ⟨.hbm, 4066, rfl⟩
abbrev main_v2142 : Ref sig .tc := ⟨.hbm, 4067, rfl⟩
abbrev main_v2143 : Ref sig .tc := ⟨.hbm, 4068, rfl⟩
abbrev main_v2144 : Ref sig .tc := ⟨.hbm, 4069, rfl⟩
abbrev main_v2145 : Ref sig .tc := ⟨.hbm, 4070, rfl⟩
abbrev main_call129_c : Ref sig .tc := ⟨.hbm, 4071, rfl⟩
abbrev main_call129_v0 : Ref sig .tc := ⟨.hbm, 4072, rfl⟩
abbrev main_call129_v1 : Ref sig .tc := ⟨.hbm, 4073, rfl⟩
abbrev main_call129_c_0 : Ref sig .tc := ⟨.hbm, 4074, rfl⟩
abbrev main_call129_v2 : Ref sig .tc := ⟨.hbm, 4075, rfl⟩
abbrev main_call129_v3 : Ref sig .tc := ⟨.hbm, 4076, rfl⟩
abbrev main_call129_v4 : Ref sig .tc := ⟨.hbm, 4077, rfl⟩
abbrev main_call129_v5 : Ref sig .tc := ⟨.hbm, 4078, rfl⟩
abbrev main_call129_c_1 : Ref sig .tc := ⟨.hbm, 4079, rfl⟩
abbrev main_call129_c_2 : Ref sig .tc := ⟨.hbm, 4080, rfl⟩
abbrev main_call129_v6 : Ref sig .tc := ⟨.hbm, 4081, rfl⟩
abbrev main_call129_v7 : Ref sig .tc := ⟨.hbm, 4082, rfl⟩
abbrev main_call129_v8 : Ref sig .tc := ⟨.hbm, 4083, rfl⟩
abbrev main_call129_v9 : Ref sig .tc := ⟨.hbm, 4084, rfl⟩
abbrev main_call129_v10 : Ref sig .tc := ⟨.hbm, 4085, rfl⟩
abbrev main_call129_v11 : Ref sig .tc := ⟨.hbm, 4086, rfl⟩
abbrev main_call129_c_3 : Ref sig .tc := ⟨.hbm, 4087, rfl⟩
abbrev main_call129_v12 : Ref sig .tc := ⟨.hbm, 4088, rfl⟩
abbrev main_call129_v13 : Ref sig .tc := ⟨.hbm, 4089, rfl⟩
abbrev main_call129_cst : Ref sig .tc := ⟨.hbm, 4090, rfl⟩
abbrev main_call129_v14 : Ref sig .tc := ⟨.hbm, 4091, rfl⟩
abbrev main_v2146 : Ref sig .tc := ⟨.hbm, 4092, rfl⟩
abbrev main_v2147 : Ref sig .tc := ⟨.hbm, 4093, rfl⟩
abbrev main_v2148 : Ref sig .tc := ⟨.hbm, 4094, rfl⟩
abbrev main_v2149 : Ref sig .tc := ⟨.hbm, 4095, rfl⟩

abbrev main_v2150 : Ref sig .tc := ⟨.hbm, 4096, rfl⟩
abbrev main_v2151 : Ref sig .tc := ⟨.hbm, 4097, rfl⟩
abbrev main_v2152 : Ref sig .tc := ⟨.hbm, 4098, rfl⟩
abbrev main_v2153 : Ref sig .tc := ⟨.hbm, 4099, rfl⟩
abbrev main_v2154 : Ref sig .tc := ⟨.hbm, 4100, rfl⟩
abbrev main_v2155 : Ref sig .tc := ⟨.hbm, 4101, rfl⟩
abbrev main_v2156 : Ref sig .tc := ⟨.hbm, 4102, rfl⟩
abbrev main_v2157 : Ref sig .tc := ⟨.hbm, 4103, rfl⟩
abbrev main_v2158 : Ref sig .tc := ⟨.hbm, 4104, rfl⟩
abbrev main_v2159 : Ref sig .tc := ⟨.hbm, 4105, rfl⟩
abbrev main_v2160 : Ref sig .tc := ⟨.hbm, 4106, rfl⟩
abbrev main_v2161 : Ref sig .tc := ⟨.hbm, 4107, rfl⟩
abbrev main_v2162 : Ref sig .tc := ⟨.hbm, 4108, rfl⟩
abbrev main_v2163 : Ref sig .tc := ⟨.hbm, 4109, rfl⟩
abbrev main_v2164 : Ref sig .tc := ⟨.hbm, 4110, rfl⟩
abbrev main_cst_521 : Ref sig .tc := ⟨.hbm, 4111, rfl⟩
abbrev main_v2165 : Ref sig .tc := ⟨.hbm, 4112, rfl⟩
abbrev main_v2166 : Ref sig .tc := ⟨.hbm, 4113, rfl⟩
abbrev main_cst_522 : Ref sig .tc := ⟨.hbm, 4114, rfl⟩
abbrev main_v2167 : Ref sig .tc := ⟨.hbm, 4115, rfl⟩
abbrev main_v2168 : Ref sig .tc := ⟨.hbm, 4116, rfl⟩
abbrev main_cst_523 : Ref sig .tc := ⟨.hbm, 4117, rfl⟩
abbrev main_v2169 : Ref sig .tc := ⟨.hbm, 4118, rfl⟩
abbrev main_v2170 : Ref sig .tc := ⟨.hbm, 4119, rfl⟩
abbrev main_cst_524 : Ref sig .tc := ⟨.hbm, 4120, rfl⟩
abbrev main_v2171 : Ref sig .tc := ⟨.hbm, 4121, rfl⟩
abbrev main_v2172 : Ref sig .tc := ⟨.hbm, 4122, rfl⟩
abbrev main_v2173 : Ref sig .tc := ⟨.hbm, 4123, rfl⟩
abbrev main_v2174 : Ref sig .tc := ⟨.hbm, 4124, rfl⟩
abbrev main_cst_525 : Ref sig .tc := ⟨.hbm, 4125, rfl⟩
abbrev main_v2175 : Ref sig .tc := ⟨.hbm, 4126, rfl⟩
abbrev main_v2176 : Ref sig .tc := ⟨.hbm, 4127, rfl⟩
abbrev main_cst_526 : Ref sig .tc := ⟨.hbm, 4128, rfl⟩
abbrev main_v2177 : Ref sig .tc := ⟨.hbm, 4129, rfl⟩
abbrev main_v2178 : Ref sig .tc := ⟨.hbm, 4130, rfl⟩
abbrev main_cst_527 : Ref sig .tc := ⟨.hbm, 4131, rfl⟩
abbrev main_v2179 : Ref sig .tc := ⟨.hbm, 4132, rfl⟩
abbrev main_v2180 : Ref sig .tc := ⟨.hbm, 4133, rfl⟩
abbrev main_cst_528 : Ref sig .tc := ⟨.hbm, 4134, rfl⟩
abbrev main_v2181 : Ref sig .tc := ⟨.hbm, 4135, rfl⟩
abbrev main_v2182 : Ref sig .tc := ⟨.hbm, 4136, rfl⟩
abbrev main_v2183 : Ref sig .tc := ⟨.hbm, 4137, rfl⟩
abbrev main_v2184 : Ref sig .tc := ⟨.hbm, 4138, rfl⟩
abbrev main_cst_529 : Ref sig .tc := ⟨.hbm, 4139, rfl⟩
abbrev main_v2185 : Ref sig .tc := ⟨.hbm, 4140, rfl⟩
abbrev main_v2186 : Ref sig .tc := ⟨.hbm, 4141, rfl⟩
abbrev main_cst_530 : Ref sig .tc := ⟨.hbm, 4142, rfl⟩
abbrev main_v2187 : Ref sig .tc := ⟨.hbm, 4143, rfl⟩
abbrev main_v2188 : Ref sig .tc := ⟨.hbm, 4144, rfl⟩
abbrev main_v2189 : Ref sig .tc := ⟨.hbm, 4145, rfl⟩
abbrev main_v2190 : Ref sig .tc := ⟨.hbm, 4146, rfl⟩
abbrev main_v2191 : Ref sig .tc := ⟨.hbm, 4147, rfl⟩
abbrev main_v2192 : Ref sig .tc := ⟨.hbm, 4148, rfl⟩
abbrev main_v2193 : Ref sig .tc := ⟨.hbm, 4149, rfl⟩
abbrev main_v2194 : Ref sig .tc := ⟨.hbm, 4150, rfl⟩
abbrev main_v2195 : Ref sig .tc := ⟨.hbm, 4151, rfl⟩
abbrev main_v2196 : Ref sig .tc := ⟨.hbm, 4152, rfl⟩
abbrev main_v2197 : Ref sig .tc := ⟨.hbm, 4153, rfl⟩
abbrev main_v2198 : Ref sig .tc := ⟨.hbm, 4154, rfl⟩
abbrev main_v2199 : Ref sig .tc := ⟨.hbm, 4155, rfl⟩
abbrev main_v2200 : Ref sig .tc := ⟨.hbm, 4156, rfl⟩
abbrev main_v2201 : Ref sig .tc := ⟨.hbm, 4157, rfl⟩
abbrev main_cst_531 : Ref sig .tc := ⟨.hbm, 4158, rfl⟩
abbrev main_v2202 : Ref sig .tc := ⟨.hbm, 4159, rfl⟩
abbrev main_v2203 : Ref sig .tc := ⟨.hbm, 4160, rfl⟩
abbrev main_cst_532 : Ref sig .tc := ⟨.hbm, 4161, rfl⟩
abbrev main_v2204 : Ref sig .tc := ⟨.hbm, 4162, rfl⟩
abbrev main_v2205 : Ref sig .tc := ⟨.hbm, 4163, rfl⟩
abbrev main_v2206 : Ref sig .tc := ⟨.hbm, 4164, rfl⟩
abbrev main_cst_533 : Ref sig .tc := ⟨.hbm, 4165, rfl⟩
abbrev main_v2207 : Ref sig .tc := ⟨.hbm, 4166, rfl⟩
abbrev main_v2208 : Ref sig .tc := ⟨.hbm, 4167, rfl⟩
abbrev main_v2209 : Ref sig .tc := ⟨.hbm, 4168, rfl⟩
abbrev main_cst_534 : Ref sig .tc := ⟨.hbm, 4169, rfl⟩
abbrev main_v2210 : Ref sig .tc := ⟨.hbm, 4170, rfl⟩
abbrev main_v2211 : Ref sig .tc := ⟨.hbm, 4171, rfl⟩
abbrev main_v2212 : Ref sig .tc := ⟨.hbm, 4172, rfl⟩
abbrev main_c_535 : Ref sig .tc := ⟨.hbm, 4173, rfl⟩
abbrev main_c_536 : Ref sig .tc := ⟨.hbm, 4174, rfl⟩
abbrev main_call130_v0 : Ref sig .tc := ⟨.hbm, 4175, rfl⟩
abbrev main_call130_v1 : Ref sig .tc := ⟨.hbm, 4176, rfl⟩
abbrev main_call130_v2 : Ref sig .tc := ⟨.hbm, 4177, rfl⟩
abbrev main_call130_v3 : Ref sig .tc := ⟨.hbm, 4178, rfl⟩
abbrev main_call130_v4 : Ref sig .tc := ⟨.hbm, 4179, rfl⟩
abbrev main_v2213 : Ref sig .tc := ⟨.hbm, 4180, rfl⟩
abbrev main_v2214 : Ref sig .tc := ⟨.hbm, 4181, rfl⟩
abbrev main_c_537 : Ref sig .tc := ⟨.hbm, 4182, rfl⟩
abbrev main_c_538 : Ref sig .tc := ⟨.hbm, 4183, rfl⟩
abbrev main_call131_v0 : Ref sig .tc := ⟨.hbm, 4184, rfl⟩
abbrev main_call131_v1 : Ref sig .tc := ⟨.hbm, 4185, rfl⟩
abbrev main_call131_v2 : Ref sig .tc := ⟨.hbm, 4186, rfl⟩
abbrev main_call131_v3 : Ref sig .tc := ⟨.hbm, 4187, rfl⟩
abbrev main_call131_v4 : Ref sig .tc := ⟨.hbm, 4188, rfl⟩
abbrev main_v2215 : Ref sig .tc := ⟨.hbm, 4189, rfl⟩
abbrev main_v2216 : Ref sig .tc := ⟨.hbm, 4190, rfl⟩
abbrev main_c_539 : Ref sig .tc := ⟨.hbm, 4191, rfl⟩
abbrev main_v2217 : Ref sig .tc := ⟨.hbm, 4192, rfl⟩
abbrev main_v2218 : Ref sig .tc := ⟨.hbm, 4193, rfl⟩
abbrev main_v2219 : Ref sig .tc := ⟨.hbm, 4194, rfl⟩
abbrev main_v2220 : Ref sig .tc := ⟨.hbm, 4195, rfl⟩
abbrev main_v2221 : Ref sig .tc := ⟨.hbm, 4196, rfl⟩
abbrev main_v2222 : Ref sig .tc := ⟨.hbm, 4197, rfl⟩
abbrev main_call132_c : Ref sig .tc := ⟨.hbm, 4198, rfl⟩
abbrev main_call132_v0 : Ref sig .tc := ⟨.hbm, 4199, rfl⟩
abbrev main_call132_v1 : Ref sig .tc := ⟨.hbm, 4200, rfl⟩
abbrev main_call132_c_0 : Ref sig .tc := ⟨.hbm, 4201, rfl⟩
abbrev main_call132_v2 : Ref sig .tc := ⟨.hbm, 4202, rfl⟩
abbrev main_call132_v3 : Ref sig .tc := ⟨.hbm, 4203, rfl⟩
abbrev main_call132_v4 : Ref sig .tc := ⟨.hbm, 4204, rfl⟩
abbrev main_call132_v5 : Ref sig .tc := ⟨.hbm, 4205, rfl⟩
abbrev main_call132_c_1 : Ref sig .tc := ⟨.hbm, 4206, rfl⟩
abbrev main_call132_c_2 : Ref sig .tc := ⟨.hbm, 4207, rfl⟩
abbrev main_call132_v6 : Ref sig .tc := ⟨.hbm, 4208, rfl⟩
abbrev main_call132_v7 : Ref sig .tc := ⟨.hbm, 4209, rfl⟩
abbrev main_call132_v8 : Ref sig .tc := ⟨.hbm, 4210, rfl⟩
abbrev main_call132_v9 : Ref sig .tc := ⟨.hbm, 4211, rfl⟩
abbrev main_call132_v10 : Ref sig .tc := ⟨.hbm, 4212, rfl⟩
abbrev main_call132_v11 : Ref sig .tc := ⟨.hbm, 4213, rfl⟩
abbrev main_call132_c_3 : Ref sig .tc := ⟨.hbm, 4214, rfl⟩
abbrev main_call132_v12 : Ref sig .tc := ⟨.hbm, 4215, rfl⟩
abbrev main_call132_v13 : Ref sig .tc := ⟨.hbm, 4216, rfl⟩
abbrev main_call132_cst : Ref sig .tc := ⟨.hbm, 4217, rfl⟩
abbrev main_call132_v14 : Ref sig .tc := ⟨.hbm, 4218, rfl⟩
abbrev main_v2223 : Ref sig .tc := ⟨.hbm, 4219, rfl⟩
abbrev main_v2224 : Ref sig .tc := ⟨.hbm, 4220, rfl⟩
abbrev main_v2225 : Ref sig .tc := ⟨.hbm, 4221, rfl⟩
abbrev main_v2226 : Ref sig .tc := ⟨.hbm, 4222, rfl⟩
abbrev main_v2227 : Ref sig .tc := ⟨.hbm, 4223, rfl⟩
abbrev main_v2228 : Ref sig .tc := ⟨.hbm, 4224, rfl⟩
abbrev main_v2229 : Ref sig .tc := ⟨.hbm, 4225, rfl⟩
abbrev main_v2230 : Ref sig .tc := ⟨.hbm, 4226, rfl⟩
abbrev main_v2231 : Ref sig .tc := ⟨.hbm, 4227, rfl⟩
abbrev main_cst_540 : Ref sig .tc := ⟨.hbm, 4228, rfl⟩
abbrev main_v2232 : Ref sig .tc := ⟨.hbm, 4229, rfl⟩
abbrev main_v2233 : Ref sig .tc := ⟨.hbm, 4230, rfl⟩
abbrev main_cst_541 : Ref sig .tc := ⟨.hbm, 4231, rfl⟩
abbrev main_v2234 : Ref sig .tc := ⟨.hbm, 4232, rfl⟩
abbrev main_v2235 : Ref sig .tc := ⟨.hbm, 4233, rfl⟩
abbrev main_v2236 : Ref sig .tc := ⟨.hbm, 4234, rfl⟩
abbrev main_cst_542 : Ref sig .tc := ⟨.hbm, 4235, rfl⟩
abbrev main_v2237 : Ref sig .tc := ⟨.hbm, 4236, rfl⟩
abbrev main_v2238 : Ref sig .tc := ⟨.hbm, 4237, rfl⟩
abbrev main_v2239 : Ref sig .tc := ⟨.hbm, 4238, rfl⟩
abbrev main_cst_543 : Ref sig .tc := ⟨.hbm, 4239, rfl⟩
abbrev main_v2240 : Ref sig .tc := ⟨.hbm, 4240, rfl⟩
abbrev main_v2241 : Ref sig .tc := ⟨.hbm, 4241, rfl⟩
abbrev main_v2242 : Ref sig .tc := ⟨.hbm, 4242, rfl⟩
abbrev main_c_544 : Ref sig .tc := ⟨.hbm, 4243, rfl⟩
abbrev main_c_545 : Ref sig .tc := ⟨.hbm, 4244, rfl⟩
abbrev main_call133_v0 : Ref sig .tc := ⟨.hbm, 4245, rfl⟩
abbrev main_call133_v1 : Ref sig .tc := ⟨.hbm, 4246, rfl⟩
abbrev main_call133_v2 : Ref sig .tc := ⟨.hbm, 4247, rfl⟩
abbrev main_call133_v3 : Ref sig .tc := ⟨.hbm, 4248, rfl⟩
abbrev main_call133_v4 : Ref sig .tc := ⟨.hbm, 4249, rfl⟩
abbrev main_v2243 : Ref sig .tc := ⟨.hbm, 4250, rfl⟩
abbrev main_v2244 : Ref sig .tc := ⟨.hbm, 4251, rfl⟩
abbrev main_c_546 : Ref sig .tc := ⟨.hbm, 4252, rfl⟩
abbrev main_c_547 : Ref sig .tc := ⟨.hbm, 4253, rfl⟩
abbrev main_call134_v0 : Ref sig .tc := ⟨.hbm, 4254, rfl⟩
abbrev main_call134_v1 : Ref sig .tc := ⟨.hbm, 4255, rfl⟩
abbrev main_call134_v2 : Ref sig .tc := ⟨.hbm, 4256, rfl⟩
abbrev main_call134_v3 : Ref sig .tc := ⟨.hbm, 4257, rfl⟩
abbrev main_call134_v4 : Ref sig .tc := ⟨.hbm, 4258, rfl⟩
abbrev main_v2245 : Ref sig .tc := ⟨.hbm, 4259, rfl⟩
abbrev main_v2246 : Ref sig .tc := ⟨.hbm, 4260, rfl⟩
abbrev main_c_548 : Ref sig .tc := ⟨.hbm, 4261, rfl⟩
abbrev main_v2247 : Ref sig .tc := ⟨.hbm, 4262, rfl⟩
abbrev main_v2248 : Ref sig .tc := ⟨.hbm, 4263, rfl⟩
abbrev main_v2249 : Ref sig .tc := ⟨.hbm, 4264, rfl⟩
abbrev main_v2250 : Ref sig .tc := ⟨.hbm, 4265, rfl⟩
abbrev main_v2251 : Ref sig .tc := ⟨.hbm, 4266, rfl⟩
abbrev main_v2252 : Ref sig .tc := ⟨.hbm, 4267, rfl⟩
abbrev main_call135_c : Ref sig .tc := ⟨.hbm, 4268, rfl⟩
abbrev main_call135_v0 : Ref sig .tc := ⟨.hbm, 4269, rfl⟩
abbrev main_call135_v1 : Ref sig .tc := ⟨.hbm, 4270, rfl⟩
abbrev main_call135_c_0 : Ref sig .tc := ⟨.hbm, 4271, rfl⟩
abbrev main_call135_v2 : Ref sig .tc := ⟨.hbm, 4272, rfl⟩
abbrev main_call135_v3 : Ref sig .tc := ⟨.hbm, 4273, rfl⟩
abbrev main_call135_v4 : Ref sig .tc := ⟨.hbm, 4274, rfl⟩
abbrev main_call135_v5 : Ref sig .tc := ⟨.hbm, 4275, rfl⟩
abbrev main_call135_c_1 : Ref sig .tc := ⟨.hbm, 4276, rfl⟩
abbrev main_call135_c_2 : Ref sig .tc := ⟨.hbm, 4277, rfl⟩
abbrev main_call135_v6 : Ref sig .tc := ⟨.hbm, 4278, rfl⟩
abbrev main_call135_v7 : Ref sig .tc := ⟨.hbm, 4279, rfl⟩
abbrev main_call135_v8 : Ref sig .tc := ⟨.hbm, 4280, rfl⟩
abbrev main_call135_v9 : Ref sig .tc := ⟨.hbm, 4281, rfl⟩
abbrev main_call135_v10 : Ref sig .tc := ⟨.hbm, 4282, rfl⟩
abbrev main_call135_v11 : Ref sig .tc := ⟨.hbm, 4283, rfl⟩
abbrev main_call135_c_3 : Ref sig .tc := ⟨.hbm, 4284, rfl⟩
abbrev main_call135_v12 : Ref sig .tc := ⟨.hbm, 4285, rfl⟩
abbrev main_call135_v13 : Ref sig .tc := ⟨.hbm, 4286, rfl⟩
abbrev main_call135_cst : Ref sig .tc := ⟨.hbm, 4287, rfl⟩
abbrev main_call135_v14 : Ref sig .tc := ⟨.hbm, 4288, rfl⟩
abbrev main_v2253 : Ref sig .tc := ⟨.hbm, 4289, rfl⟩
abbrev main_v2254 : Ref sig .tc := ⟨.hbm, 4290, rfl⟩
abbrev main_v2255 : Ref sig .tc := ⟨.hbm, 4291, rfl⟩
abbrev main_v2256 : Ref sig .tc := ⟨.hbm, 4292, rfl⟩
abbrev main_v2257 : Ref sig .tc := ⟨.hbm, 4293, rfl⟩
abbrev main_v2258 : Ref sig .tc := ⟨.hbm, 4294, rfl⟩
abbrev main_v2259 : Ref sig .tc := ⟨.hbm, 4295, rfl⟩
abbrev main_v2260 : Ref sig .tc := ⟨.hbm, 4296, rfl⟩
abbrev main_v2261 : Ref sig .tc := ⟨.hbm, 4297, rfl⟩
abbrev main_v2262 : Ref sig .tc := ⟨.hbm, 4298, rfl⟩
abbrev main_cst_549 : Ref sig .tc := ⟨.hbm, 4299, rfl⟩
abbrev main_v2263 : Ref sig .tc := ⟨.hbm, 4300, rfl⟩
abbrev main_v2264 : Ref sig .tc := ⟨.hbm, 4301, rfl⟩
abbrev main_cst_550 : Ref sig .tc := ⟨.hbm, 4302, rfl⟩
abbrev main_v2265 : Ref sig .tc := ⟨.hbm, 4303, rfl⟩
abbrev main_v2266 : Ref sig .tc := ⟨.hbm, 4304, rfl⟩
abbrev main_v2267 : Ref sig .tc := ⟨.hbm, 4305, rfl⟩
abbrev main_cst_551 : Ref sig .tc := ⟨.hbm, 4306, rfl⟩
abbrev main_v2268 : Ref sig .tc := ⟨.hbm, 4307, rfl⟩
abbrev main_v2269 : Ref sig .tc := ⟨.hbm, 4308, rfl⟩
abbrev main_v2270 : Ref sig .tc := ⟨.hbm, 4309, rfl⟩
abbrev main_cst_552 : Ref sig .tc := ⟨.hbm, 4310, rfl⟩
abbrev main_v2271 : Ref sig .tc := ⟨.hbm, 4311, rfl⟩
abbrev main_v2272 : Ref sig .tc := ⟨.hbm, 4312, rfl⟩
abbrev main_v2273 : Ref sig .tc := ⟨.hbm, 4313, rfl⟩
abbrev main_c_553 : Ref sig .tc := ⟨.hbm, 4314, rfl⟩
abbrev main_c_554 : Ref sig .tc := ⟨.hbm, 4315, rfl⟩
abbrev main_call136_v0 : Ref sig .tc := ⟨.hbm, 4316, rfl⟩
abbrev main_call136_v1 : Ref sig .tc := ⟨.hbm, 4317, rfl⟩
abbrev main_call136_v2 : Ref sig .tc := ⟨.hbm, 4318, rfl⟩
abbrev main_call136_v3 : Ref sig .tc := ⟨.hbm, 4319, rfl⟩
abbrev main_call136_v4 : Ref sig .tc := ⟨.hbm, 4320, rfl⟩
abbrev main_v2274 : Ref sig .tc := ⟨.hbm, 4321, rfl⟩
abbrev main_v2275 : Ref sig .tc := ⟨.hbm, 4322, rfl⟩
abbrev main_c_555 : Ref sig .tc := ⟨.hbm, 4323, rfl⟩
abbrev main_c_556 : Ref sig .tc := ⟨.hbm, 4324, rfl⟩
abbrev main_call137_v0 : Ref sig .tc := ⟨.hbm, 4325, rfl⟩
abbrev main_call137_v1 : Ref sig .tc := ⟨.hbm, 4326, rfl⟩
abbrev main_call137_v2 : Ref sig .tc := ⟨.hbm, 4327, rfl⟩
abbrev main_call137_v3 : Ref sig .tc := ⟨.hbm, 4328, rfl⟩
abbrev main_call137_v4 : Ref sig .tc := ⟨.hbm, 4329, rfl⟩
abbrev main_v2276 : Ref sig .tc := ⟨.hbm, 4330, rfl⟩
abbrev main_v2277 : Ref sig .tc := ⟨.hbm, 4331, rfl⟩
abbrev main_c_557 : Ref sig .tc := ⟨.hbm, 4332, rfl⟩
abbrev main_v2278 : Ref sig .tc := ⟨.hbm, 4333, rfl⟩
abbrev main_v2279 : Ref sig .tc := ⟨.hbm, 4334, rfl⟩
abbrev main_v2280 : Ref sig .tc := ⟨.hbm, 4335, rfl⟩
abbrev main_v2281 : Ref sig .tc := ⟨.hbm, 4336, rfl⟩
abbrev main_v2282 : Ref sig .tc := ⟨.hbm, 4337, rfl⟩
abbrev main_v2283 : Ref sig .tc := ⟨.hbm, 4338, rfl⟩
abbrev main_call138_c : Ref sig .tc := ⟨.hbm, 4339, rfl⟩
abbrev main_call138_v0 : Ref sig .tc := ⟨.hbm, 4340, rfl⟩
abbrev main_call138_v1 : Ref sig .tc := ⟨.hbm, 4341, rfl⟩
abbrev main_call138_c_0 : Ref sig .tc := ⟨.hbm, 4342, rfl⟩
abbrev main_call138_v2 : Ref sig .tc := ⟨.hbm, 4343, rfl⟩
abbrev main_call138_v3 : Ref sig .tc := ⟨.hbm, 4344, rfl⟩
abbrev main_call138_v4 : Ref sig .tc := ⟨.hbm, 4345, rfl⟩
abbrev main_call138_v5 : Ref sig .tc := ⟨.hbm, 4346, rfl⟩
abbrev main_call138_c_1 : Ref sig .tc := ⟨.hbm, 4347, rfl⟩
abbrev main_call138_c_2 : Ref sig .tc := ⟨.hbm, 4348, rfl⟩
abbrev main_call138_v6 : Ref sig .tc := ⟨.hbm, 4349, rfl⟩
abbrev main_call138_v7 : Ref sig .tc := ⟨.hbm, 4350, rfl⟩
abbrev main_call138_v8 : Ref sig .tc := ⟨.hbm, 4351, rfl⟩
abbrev main_call138_v9 : Ref sig .tc := ⟨.hbm, 4352, rfl⟩
abbrev main_call138_v10 : Ref sig .tc := ⟨.hbm, 4353, rfl⟩
abbrev main_call138_v11 : Ref sig .tc := ⟨.hbm, 4354, rfl⟩
abbrev main_call138_c_3 : Ref sig .tc := ⟨.hbm, 4355, rfl⟩
abbrev main_call138_v12 : Ref sig .tc := ⟨.hbm, 4356, rfl⟩
abbrev main_call138_v13 : Ref sig .tc := ⟨.hbm, 4357, rfl⟩
abbrev main_call138_cst : Ref sig .tc := ⟨.hbm, 4358, rfl⟩
abbrev main_call138_v14 : Ref sig .tc := ⟨.hbm, 4359, rfl⟩
abbrev main_v2284 : Ref sig .tc := ⟨.hbm, 4360, rfl⟩
abbrev main_v2285 : Ref sig .tc := ⟨.hbm, 4361, rfl⟩
abbrev main_v2286 : Ref sig .tc := ⟨.hbm, 4362, rfl⟩
abbrev main_v2287 : Ref sig .tc := ⟨.hbm, 4363, rfl⟩
abbrev main_v2288 : Ref sig .tc := ⟨.hbm, 4364, rfl⟩
abbrev main_v2289 : Ref sig .tc := ⟨.hbm, 4365, rfl⟩
abbrev main_v2290 : Ref sig .tc := ⟨.hbm, 4366, rfl⟩
abbrev main_v2291 : Ref sig .tc := ⟨.hbm, 4367, rfl⟩
abbrev main_v2292 : Ref sig .tc := ⟨.hbm, 4368, rfl⟩
abbrev main_v2293 : Ref sig .tc := ⟨.hbm, 4369, rfl⟩
abbrev main_cst_558 : Ref sig .tc := ⟨.hbm, 4370, rfl⟩
abbrev main_v2294 : Ref sig .tc := ⟨.hbm, 4371, rfl⟩
abbrev main_v2295 : Ref sig .tc := ⟨.hbm, 4372, rfl⟩
abbrev main_cst_559 : Ref sig .tc := ⟨.hbm, 4373, rfl⟩
abbrev main_v2296 : Ref sig .tc := ⟨.hbm, 4374, rfl⟩
abbrev main_v2297 : Ref sig .tc := ⟨.hbm, 4375, rfl⟩
abbrev main_v2298 : Ref sig .tc := ⟨.hbm, 4376, rfl⟩
abbrev main_cst_560 : Ref sig .tc := ⟨.hbm, 4377, rfl⟩
abbrev main_v2299 : Ref sig .tc := ⟨.hbm, 4378, rfl⟩
abbrev main_v2300 : Ref sig .tc := ⟨.hbm, 4379, rfl⟩
abbrev main_v2301 : Ref sig .tc := ⟨.hbm, 4380, rfl⟩
abbrev main_cst_561 : Ref sig .tc := ⟨.hbm, 4381, rfl⟩
abbrev main_v2302 : Ref sig .tc := ⟨.hbm, 4382, rfl⟩
abbrev main_v2303 : Ref sig .tc := ⟨.hbm, 4383, rfl⟩
abbrev main_v2304 : Ref sig .tc := ⟨.hbm, 4384, rfl⟩
abbrev main_c_562 : Ref sig .tc := ⟨.hbm, 4385, rfl⟩
abbrev main_c_563 : Ref sig .tc := ⟨.hbm, 4386, rfl⟩
abbrev main_call139_v0 : Ref sig .tc := ⟨.hbm, 4387, rfl⟩
abbrev main_call139_v1 : Ref sig .tc := ⟨.hbm, 4388, rfl⟩
abbrev main_call139_v2 : Ref sig .tc := ⟨.hbm, 4389, rfl⟩
abbrev main_call139_v3 : Ref sig .tc := ⟨.hbm, 4390, rfl⟩
abbrev main_call139_v4 : Ref sig .tc := ⟨.hbm, 4391, rfl⟩
abbrev main_v2305 : Ref sig .tc := ⟨.hbm, 4392, rfl⟩
abbrev main_v2306 : Ref sig .tc := ⟨.hbm, 4393, rfl⟩
abbrev main_c_564 : Ref sig .tc := ⟨.hbm, 4394, rfl⟩
abbrev main_c_565 : Ref sig .tc := ⟨.hbm, 4395, rfl⟩
abbrev main_call140_v0 : Ref sig .tc := ⟨.hbm, 4396, rfl⟩
abbrev main_call140_v1 : Ref sig .tc := ⟨.hbm, 4397, rfl⟩
abbrev main_call140_v2 : Ref sig .tc := ⟨.hbm, 4398, rfl⟩
abbrev main_call140_v3 : Ref sig .tc := ⟨.hbm, 4399, rfl⟩
abbrev main_call140_v4 : Ref sig .tc := ⟨.hbm, 4400, rfl⟩
abbrev main_v2307 : Ref sig .tc := ⟨.hbm, 4401, rfl⟩
abbrev main_v2308 : Ref sig .tc := ⟨.hbm, 4402, rfl⟩
abbrev main_c_566 : Ref sig .tc := ⟨.hbm, 4403, rfl⟩
abbrev main_v2309 : Ref sig .tc := ⟨.hbm, 4404, rfl⟩
abbrev main_v2310 : Ref sig .tc := ⟨.hbm, 4405, rfl⟩
abbrev main_v2311 : Ref sig .tc := ⟨.hbm, 4406, rfl⟩
abbrev main_v2312 : Ref sig .tc := ⟨.hbm, 4407, rfl⟩
abbrev main_v2313 : Ref sig .tc := ⟨.hbm, 4408, rfl⟩
abbrev main_v2314 : Ref sig .tc := ⟨.hbm, 4409, rfl⟩
abbrev main_call141_c : Ref sig .tc := ⟨.hbm, 4410, rfl⟩
abbrev main_call141_v0 : Ref sig .tc := ⟨.hbm, 4411, rfl⟩
abbrev main_call141_v1 : Ref sig .tc := ⟨.hbm, 4412, rfl⟩
abbrev main_call141_c_0 : Ref sig .tc := ⟨.hbm, 4413, rfl⟩
abbrev main_call141_v2 : Ref sig .tc := ⟨.hbm, 4414, rfl⟩
abbrev main_call141_v3 : Ref sig .tc := ⟨.hbm, 4415, rfl⟩
abbrev main_call141_v4 : Ref sig .tc := ⟨.hbm, 4416, rfl⟩
abbrev main_call141_v5 : Ref sig .tc := ⟨.hbm, 4417, rfl⟩
abbrev main_call141_c_1 : Ref sig .tc := ⟨.hbm, 4418, rfl⟩
abbrev main_call141_c_2 : Ref sig .tc := ⟨.hbm, 4419, rfl⟩
abbrev main_call141_v6 : Ref sig .tc := ⟨.hbm, 4420, rfl⟩
abbrev main_call141_v7 : Ref sig .tc := ⟨.hbm, 4421, rfl⟩
abbrev main_call141_v8 : Ref sig .tc := ⟨.hbm, 4422, rfl⟩
abbrev main_call141_v9 : Ref sig .tc := ⟨.hbm, 4423, rfl⟩
abbrev main_call141_v10 : Ref sig .tc := ⟨.hbm, 4424, rfl⟩
abbrev main_call141_v11 : Ref sig .tc := ⟨.hbm, 4425, rfl⟩
abbrev main_call141_c_3 : Ref sig .tc := ⟨.hbm, 4426, rfl⟩
abbrev main_call141_v12 : Ref sig .tc := ⟨.hbm, 4427, rfl⟩
abbrev main_call141_v13 : Ref sig .tc := ⟨.hbm, 4428, rfl⟩
abbrev main_call141_cst : Ref sig .tc := ⟨.hbm, 4429, rfl⟩
abbrev main_call141_v14 : Ref sig .tc := ⟨.hbm, 4430, rfl⟩
abbrev main_v2315 : Ref sig .tc := ⟨.hbm, 4431, rfl⟩
abbrev main_v2316 : Ref sig .tc := ⟨.hbm, 4432, rfl⟩
abbrev main_v2317 : Ref sig .tc := ⟨.hbm, 4433, rfl⟩
abbrev main_v2318 : Ref sig .tc := ⟨.hbm, 4434, rfl⟩
abbrev main_v2319 : Ref sig .tc := ⟨.hbm, 4435, rfl⟩
abbrev main_v2320 : Ref sig .tc := ⟨.hbm, 4436, rfl⟩
abbrev main_v2321 : Ref sig .tc := ⟨.hbm, 4437, rfl⟩
abbrev main_v2322 : Ref sig .tc := ⟨.hbm, 4438, rfl⟩
abbrev main_v2323 : Ref sig .tc := ⟨.hbm, 4439, rfl⟩
abbrev main_v2324 : Ref sig .tc := ⟨.hbm, 4440, rfl⟩
abbrev main_v2325 : Ref sig .tc := ⟨.hbm, 4441, rfl⟩
abbrev main_v2326 : Ref sig .tc := ⟨.hbm, 4442, rfl⟩
abbrev main_v2327 : Ref sig .tc := ⟨.hbm, 4443, rfl⟩
abbrev main_v2328 : Ref sig .tc := ⟨.hbm, 4444, rfl⟩
abbrev main_v2329 : Ref sig .tc := ⟨.hbm, 4445, rfl⟩
abbrev main_v2330 : Ref sig .tc := ⟨.hbm, 4446, rfl⟩
abbrev main_v2331 : Ref sig .tc := ⟨.hbm, 4447, rfl⟩
abbrev main_v2332 : Ref sig .tc := ⟨.hbm, 4448, rfl⟩
abbrev main_v2333 : Ref sig .tc := ⟨.hbm, 4449, rfl⟩
abbrev main_cst_567 : Ref sig .tc := ⟨.hbm, 4450, rfl⟩
abbrev main_v2334 : Ref sig .tc := ⟨.hbm, 4451, rfl⟩
abbrev main_v2335 : Ref sig .tc := ⟨.hbm, 4452, rfl⟩
abbrev main_cst_568 : Ref sig .tc := ⟨.hbm, 4453, rfl⟩
abbrev main_v2336 : Ref sig .tc := ⟨.hbm, 4454, rfl⟩
abbrev main_v2337 : Ref sig .tc := ⟨.hbm, 4455, rfl⟩
abbrev main_cst_569 : Ref sig .tc := ⟨.hbm, 4456, rfl⟩
abbrev main_v2338 : Ref sig .tc := ⟨.hbm, 4457, rfl⟩
abbrev main_v2339 : Ref sig .tc := ⟨.hbm, 4458, rfl⟩
abbrev main_cst_570 : Ref sig .tc := ⟨.hbm, 4459, rfl⟩
abbrev main_v2340 : Ref sig .tc := ⟨.hbm, 4460, rfl⟩
abbrev main_v2341 : Ref sig .tc := ⟨.hbm, 4461, rfl⟩
abbrev main_v2342 : Ref sig .tc := ⟨.hbm, 4462, rfl⟩
abbrev main_v2343 : Ref sig .tc := ⟨.hbm, 4463, rfl⟩
abbrev main_cst_571 : Ref sig .tc := ⟨.hbm, 4464, rfl⟩
abbrev main_v2344 : Ref sig .tc := ⟨.hbm, 4465, rfl⟩
abbrev main_v2345 : Ref sig .tc := ⟨.hbm, 4466, rfl⟩
abbrev main_cst_572 : Ref sig .tc := ⟨.hbm, 4467, rfl⟩
abbrev main_v2346 : Ref sig .tc := ⟨.hbm, 4468, rfl⟩
abbrev main_v2347 : Ref sig .tc := ⟨.hbm, 4469, rfl⟩
abbrev main_cst_573 : Ref sig .tc := ⟨.hbm, 4470, rfl⟩
abbrev main_v2348 : Ref sig .tc := ⟨.hbm, 4471, rfl⟩
abbrev main_v2349 : Ref sig .tc := ⟨.hbm, 4472, rfl⟩
abbrev main_cst_574 : Ref sig .tc := ⟨.hbm, 4473, rfl⟩
abbrev main_v2350 : Ref sig .tc := ⟨.hbm, 4474, rfl⟩
abbrev main_v2351 : Ref sig .tc := ⟨.hbm, 4475, rfl⟩
abbrev main_v2352 : Ref sig .tc := ⟨.hbm, 4476, rfl⟩
abbrev main_v2353 : Ref sig .tc := ⟨.hbm, 4477, rfl⟩
abbrev main_cst_575 : Ref sig .tc := ⟨.hbm, 4478, rfl⟩
abbrev main_v2354 : Ref sig .tc := ⟨.hbm, 4479, rfl⟩
abbrev main_v2355 : Ref sig .tc := ⟨.hbm, 4480, rfl⟩
abbrev main_cst_576 : Ref sig .tc := ⟨.hbm, 4481, rfl⟩
abbrev main_v2356 : Ref sig .tc := ⟨.hbm, 4482, rfl⟩
abbrev main_v2357 : Ref sig .tc := ⟨.hbm, 4483, rfl⟩
abbrev main_v2358 : Ref sig .tc := ⟨.hbm, 4484, rfl⟩
abbrev main_v2359 : Ref sig .tc := ⟨.hbm, 4485, rfl⟩
abbrev main_v2360 : Ref sig .tc := ⟨.hbm, 4486, rfl⟩
abbrev main_v2361 : Ref sig .tc := ⟨.hbm, 4487, rfl⟩
abbrev main_v2362 : Ref sig .tc := ⟨.hbm, 4488, rfl⟩
abbrev main_v2363 : Ref sig .tc := ⟨.hbm, 4489, rfl⟩
abbrev main_v2364 : Ref sig .tc := ⟨.hbm, 4490, rfl⟩
abbrev main_v2365 : Ref sig .tc := ⟨.hbm, 4491, rfl⟩
abbrev main_v2366 : Ref sig .tc := ⟨.hbm, 4492, rfl⟩
abbrev main_v2367 : Ref sig .tc := ⟨.hbm, 4493, rfl⟩
abbrev main_v2368 : Ref sig .tc := ⟨.hbm, 4494, rfl⟩
abbrev main_v2369 : Ref sig .tc := ⟨.hbm, 4495, rfl⟩
abbrev main_v2370 : Ref sig .tc := ⟨.hbm, 4496, rfl⟩
abbrev main_cst_577 : Ref sig .tc := ⟨.hbm, 4497, rfl⟩
abbrev main_v2371 : Ref sig .tc := ⟨.hbm, 4498, rfl⟩
abbrev main_v2372 : Ref sig .tc := ⟨.hbm, 4499, rfl⟩
abbrev main_cst_578 : Ref sig .tc := ⟨.hbm, 4500, rfl⟩
abbrev main_v2373 : Ref sig .tc := ⟨.hbm, 4501, rfl⟩
abbrev main_v2374 : Ref sig .tc := ⟨.hbm, 4502, rfl⟩
abbrev main_v2375 : Ref sig .tc := ⟨.hbm, 4503, rfl⟩
abbrev main_cst_579 : Ref sig .tc := ⟨.hbm, 4504, rfl⟩
abbrev main_v2376 : Ref sig .tc := ⟨.hbm, 4505, rfl⟩
abbrev main_v2377 : Ref sig .tc := ⟨.hbm, 4506, rfl⟩
abbrev main_v2378 : Ref sig .tc := ⟨.hbm, 4507, rfl⟩
abbrev main_cst_580 : Ref sig .tc := ⟨.hbm, 4508, rfl⟩
abbrev main_v2379 : Ref sig .tc := ⟨.hbm, 4509, rfl⟩
abbrev main_v2380 : Ref sig .tc := ⟨.hbm, 4510, rfl⟩
abbrev main_v2381 : Ref sig .tc := ⟨.hbm, 4511, rfl⟩
abbrev main_c_581 : Ref sig .tc := ⟨.hbm, 4512, rfl⟩
abbrev main_c_582 : Ref sig .tc := ⟨.hbm, 4513, rfl⟩
abbrev main_call142_v0 : Ref sig .tc := ⟨.hbm, 4514, rfl⟩
abbrev main_call142_v1 : Ref sig .tc := ⟨.hbm, 4515, rfl⟩
abbrev main_call142_v2 : Ref sig .tc := ⟨.hbm, 4516, rfl⟩
abbrev main_call142_v3 : Ref sig .tc := ⟨.hbm, 4517, rfl⟩
abbrev main_call142_v4 : Ref sig .tc := ⟨.hbm, 4518, rfl⟩
abbrev main_v2382 : Ref sig .tc := ⟨.hbm, 4519, rfl⟩
abbrev main_v2383 : Ref sig .tc := ⟨.hbm, 4520, rfl⟩
abbrev main_c_583 : Ref sig .tc := ⟨.hbm, 4521, rfl⟩
abbrev main_c_584 : Ref sig .tc := ⟨.hbm, 4522, rfl⟩
abbrev main_call143_v0 : Ref sig .tc := ⟨.hbm, 4523, rfl⟩
abbrev main_call143_v1 : Ref sig .tc := ⟨.hbm, 4524, rfl⟩
abbrev main_call143_v2 : Ref sig .tc := ⟨.hbm, 4525, rfl⟩
abbrev main_call143_v3 : Ref sig .tc := ⟨.hbm, 4526, rfl⟩
abbrev main_call143_v4 : Ref sig .tc := ⟨.hbm, 4527, rfl⟩
abbrev main_v2384 : Ref sig .tc := ⟨.hbm, 4528, rfl⟩
abbrev main_v2385 : Ref sig .tc := ⟨.hbm, 4529, rfl⟩
abbrev main_c_585 : Ref sig .tc := ⟨.hbm, 4530, rfl⟩
abbrev main_v2386 : Ref sig .tc := ⟨.hbm, 4531, rfl⟩
abbrev main_v2387 : Ref sig .tc := ⟨.hbm, 4532, rfl⟩
abbrev main_v2388 : Ref sig .tc := ⟨.hbm, 4533, rfl⟩
abbrev main_v2389 : Ref sig .tc := ⟨.hbm, 4534, rfl⟩
abbrev main_v2390 : Ref sig .tc := ⟨.hbm, 4535, rfl⟩
abbrev main_v2391 : Ref sig .tc := ⟨.hbm, 4536, rfl⟩
abbrev main_call144_c : Ref sig .tc := ⟨.hbm, 4537, rfl⟩
abbrev main_call144_v0 : Ref sig .tc := ⟨.hbm, 4538, rfl⟩
abbrev main_call144_v1 : Ref sig .tc := ⟨.hbm, 4539, rfl⟩
abbrev main_call144_c_0 : Ref sig .tc := ⟨.hbm, 4540, rfl⟩
abbrev main_call144_v2 : Ref sig .tc := ⟨.hbm, 4541, rfl⟩
abbrev main_call144_v3 : Ref sig .tc := ⟨.hbm, 4542, rfl⟩
abbrev main_call144_v4 : Ref sig .tc := ⟨.hbm, 4543, rfl⟩
abbrev main_call144_v5 : Ref sig .tc := ⟨.hbm, 4544, rfl⟩
abbrev main_call144_c_1 : Ref sig .tc := ⟨.hbm, 4545, rfl⟩
abbrev main_call144_c_2 : Ref sig .tc := ⟨.hbm, 4546, rfl⟩
abbrev main_call144_v6 : Ref sig .tc := ⟨.hbm, 4547, rfl⟩
abbrev main_call144_v7 : Ref sig .tc := ⟨.hbm, 4548, rfl⟩
abbrev main_call144_v8 : Ref sig .tc := ⟨.hbm, 4549, rfl⟩
abbrev main_call144_v9 : Ref sig .tc := ⟨.hbm, 4550, rfl⟩
abbrev main_call144_v10 : Ref sig .tc := ⟨.hbm, 4551, rfl⟩
abbrev main_call144_v11 : Ref sig .tc := ⟨.hbm, 4552, rfl⟩
abbrev main_call144_c_3 : Ref sig .tc := ⟨.hbm, 4553, rfl⟩
abbrev main_call144_v12 : Ref sig .tc := ⟨.hbm, 4554, rfl⟩
abbrev main_call144_v13 : Ref sig .tc := ⟨.hbm, 4555, rfl⟩
abbrev main_call144_cst : Ref sig .tc := ⟨.hbm, 4556, rfl⟩
abbrev main_call144_v14 : Ref sig .tc := ⟨.hbm, 4557, rfl⟩
abbrev main_v2392 : Ref sig .tc := ⟨.hbm, 4558, rfl⟩
abbrev main_v2393 : Ref sig .tc := ⟨.hbm, 4559, rfl⟩
abbrev main_v2394 : Ref sig .tc := ⟨.hbm, 4560, rfl⟩
abbrev main_v2395 : Ref sig .tc := ⟨.hbm, 4561, rfl⟩
abbrev main_v2396 : Ref sig .tc := ⟨.hbm, 4562, rfl⟩
abbrev main_v2397 : Ref sig .tc := ⟨.hbm, 4563, rfl⟩
abbrev main_v2398 : Ref sig .tc := ⟨.hbm, 4564, rfl⟩
abbrev main_v2399 : Ref sig .tc := ⟨.hbm, 4565, rfl⟩
abbrev main_v2400 : Ref sig .tc := ⟨.hbm, 4566, rfl⟩
abbrev main_cst_586 : Ref sig .tc := ⟨.hbm, 4567, rfl⟩
abbrev main_v2401 : Ref sig .tc := ⟨.hbm, 4568, rfl⟩
abbrev main_v2402 : Ref sig .tc := ⟨.hbm, 4569, rfl⟩
abbrev main_cst_587 : Ref sig .tc := ⟨.hbm, 4570, rfl⟩
abbrev main_v2403 : Ref sig .tc := ⟨.hbm, 4571, rfl⟩
abbrev main_v2404 : Ref sig .tc := ⟨.hbm, 4572, rfl⟩
abbrev main_v2405 : Ref sig .tc := ⟨.hbm, 4573, rfl⟩
abbrev main_cst_588 : Ref sig .tc := ⟨.hbm, 4574, rfl⟩
abbrev main_v2406 : Ref sig .tc := ⟨.hbm, 4575, rfl⟩
abbrev main_v2407 : Ref sig .tc := ⟨.hbm, 4576, rfl⟩
abbrev main_v2408 : Ref sig .tc := ⟨.hbm, 4577, rfl⟩
abbrev main_cst_589 : Ref sig .tc := ⟨.hbm, 4578, rfl⟩
abbrev main_v2409 : Ref sig .tc := ⟨.hbm, 4579, rfl⟩
abbrev main_v2410 : Ref sig .tc := ⟨.hbm, 4580, rfl⟩
abbrev main_v2411 : Ref sig .tc := ⟨.hbm, 4581, rfl⟩
abbrev main_c_590 : Ref sig .tc := ⟨.hbm, 4582, rfl⟩
abbrev main_c_591 : Ref sig .tc := ⟨.hbm, 4583, rfl⟩
abbrev main_call145_v0 : Ref sig .tc := ⟨.hbm, 4584, rfl⟩
abbrev main_call145_v1 : Ref sig .tc := ⟨.hbm, 4585, rfl⟩
abbrev main_call145_v2 : Ref sig .tc := ⟨.hbm, 4586, rfl⟩
abbrev main_call145_v3 : Ref sig .tc := ⟨.hbm, 4587, rfl⟩
abbrev main_call145_v4 : Ref sig .tc := ⟨.hbm, 4588, rfl⟩
abbrev main_v2412 : Ref sig .tc := ⟨.hbm, 4589, rfl⟩
abbrev main_v2413 : Ref sig .tc := ⟨.hbm, 4590, rfl⟩
abbrev main_c_592 : Ref sig .tc := ⟨.hbm, 4591, rfl⟩
abbrev main_c_593 : Ref sig .tc := ⟨.hbm, 4592, rfl⟩
abbrev main_call146_v0 : Ref sig .tc := ⟨.hbm, 4593, rfl⟩
abbrev main_call146_v1 : Ref sig .tc := ⟨.hbm, 4594, rfl⟩
abbrev main_call146_v2 : Ref sig .tc := ⟨.hbm, 4595, rfl⟩
abbrev main_call146_v3 : Ref sig .tc := ⟨.hbm, 4596, rfl⟩
abbrev main_call146_v4 : Ref sig .tc := ⟨.hbm, 4597, rfl⟩
abbrev main_v2414 : Ref sig .tc := ⟨.hbm, 4598, rfl⟩
abbrev main_v2415 : Ref sig .tc := ⟨.hbm, 4599, rfl⟩
abbrev main_c_594 : Ref sig .tc := ⟨.hbm, 4600, rfl⟩
abbrev main_v2416 : Ref sig .tc := ⟨.hbm, 4601, rfl⟩
abbrev main_v2417 : Ref sig .tc := ⟨.hbm, 4602, rfl⟩
abbrev main_v2418 : Ref sig .tc := ⟨.hbm, 4603, rfl⟩
abbrev main_v2419 : Ref sig .tc := ⟨.hbm, 4604, rfl⟩
abbrev main_v2420 : Ref sig .tc := ⟨.hbm, 4605, rfl⟩
abbrev main_v2421 : Ref sig .tc := ⟨.hbm, 4606, rfl⟩
abbrev main_call147_c : Ref sig .tc := ⟨.hbm, 4607, rfl⟩
abbrev main_call147_v0 : Ref sig .tc := ⟨.hbm, 4608, rfl⟩
abbrev main_call147_v1 : Ref sig .tc := ⟨.hbm, 4609, rfl⟩
abbrev main_call147_c_0 : Ref sig .tc := ⟨.hbm, 4610, rfl⟩
abbrev main_call147_v2 : Ref sig .tc := ⟨.hbm, 4611, rfl⟩
abbrev main_call147_v3 : Ref sig .tc := ⟨.hbm, 4612, rfl⟩
abbrev main_call147_v4 : Ref sig .tc := ⟨.hbm, 4613, rfl⟩
abbrev main_call147_v5 : Ref sig .tc := ⟨.hbm, 4614, rfl⟩
abbrev main_call147_c_1 : Ref sig .tc := ⟨.hbm, 4615, rfl⟩
abbrev main_call147_c_2 : Ref sig .tc := ⟨.hbm, 4616, rfl⟩
abbrev main_call147_v6 : Ref sig .tc := ⟨.hbm, 4617, rfl⟩
abbrev main_call147_v7 : Ref sig .tc := ⟨.hbm, 4618, rfl⟩
abbrev main_call147_v8 : Ref sig .tc := ⟨.hbm, 4619, rfl⟩
abbrev main_call147_v9 : Ref sig .tc := ⟨.hbm, 4620, rfl⟩
abbrev main_call147_v10 : Ref sig .tc := ⟨.hbm, 4621, rfl⟩
abbrev main_call147_v11 : Ref sig .tc := ⟨.hbm, 4622, rfl⟩
abbrev main_call147_c_3 : Ref sig .tc := ⟨.hbm, 4623, rfl⟩
abbrev main_call147_v12 : Ref sig .tc := ⟨.hbm, 4624, rfl⟩
abbrev main_call147_v13 : Ref sig .tc := ⟨.hbm, 4625, rfl⟩
abbrev main_call147_cst : Ref sig .tc := ⟨.hbm, 4626, rfl⟩
abbrev main_call147_v14 : Ref sig .tc := ⟨.hbm, 4627, rfl⟩
abbrev main_v2422 : Ref sig .tc := ⟨.hbm, 4628, rfl⟩
abbrev main_v2423 : Ref sig .tc := ⟨.hbm, 4629, rfl⟩
abbrev main_v2424 : Ref sig .tc := ⟨.hbm, 4630, rfl⟩
abbrev main_v2425 : Ref sig .tc := ⟨.hbm, 4631, rfl⟩
abbrev main_v2426 : Ref sig .tc := ⟨.hbm, 4632, rfl⟩
abbrev main_v2427 : Ref sig .tc := ⟨.hbm, 4633, rfl⟩
abbrev main_v2428 : Ref sig .tc := ⟨.hbm, 4634, rfl⟩
abbrev main_v2429 : Ref sig .tc := ⟨.hbm, 4635, rfl⟩
abbrev main_v2430 : Ref sig .tc := ⟨.hbm, 4636, rfl⟩
abbrev main_v2431 : Ref sig .tc := ⟨.hbm, 4637, rfl⟩
abbrev main_cst_595 : Ref sig .tc := ⟨.hbm, 4638, rfl⟩
abbrev main_v2432 : Ref sig .tc := ⟨.hbm, 4639, rfl⟩
abbrev main_v2433 : Ref sig .tc := ⟨.hbm, 4640, rfl⟩
abbrev main_cst_596 : Ref sig .tc := ⟨.hbm, 4641, rfl⟩
abbrev main_v2434 : Ref sig .tc := ⟨.hbm, 4642, rfl⟩
abbrev main_v2435 : Ref sig .tc := ⟨.hbm, 4643, rfl⟩
abbrev main_v2436 : Ref sig .tc := ⟨.hbm, 4644, rfl⟩
abbrev main_cst_597 : Ref sig .tc := ⟨.hbm, 4645, rfl⟩
abbrev main_v2437 : Ref sig .tc := ⟨.hbm, 4646, rfl⟩
abbrev main_v2438 : Ref sig .tc := ⟨.hbm, 4647, rfl⟩
abbrev main_v2439 : Ref sig .tc := ⟨.hbm, 4648, rfl⟩
abbrev main_cst_598 : Ref sig .tc := ⟨.hbm, 4649, rfl⟩
abbrev main_v2440 : Ref sig .tc := ⟨.hbm, 4650, rfl⟩
abbrev main_v2441 : Ref sig .tc := ⟨.hbm, 4651, rfl⟩
abbrev main_v2442 : Ref sig .tc := ⟨.hbm, 4652, rfl⟩
abbrev main_c_599 : Ref sig .tc := ⟨.hbm, 4653, rfl⟩
abbrev main_c_600 : Ref sig .tc := ⟨.hbm, 4654, rfl⟩
abbrev main_call148_v0 : Ref sig .tc := ⟨.hbm, 4655, rfl⟩
abbrev main_call148_v1 : Ref sig .tc := ⟨.hbm, 4656, rfl⟩
abbrev main_call148_v2 : Ref sig .tc := ⟨.hbm, 4657, rfl⟩
abbrev main_call148_v3 : Ref sig .tc := ⟨.hbm, 4658, rfl⟩
abbrev main_call148_v4 : Ref sig .tc := ⟨.hbm, 4659, rfl⟩
abbrev main_v2443 : Ref sig .tc := ⟨.hbm, 4660, rfl⟩
abbrev main_v2444 : Ref sig .tc := ⟨.hbm, 4661, rfl⟩
abbrev main_c_601 : Ref sig .tc := ⟨.hbm, 4662, rfl⟩
abbrev main_c_602 : Ref sig .tc := ⟨.hbm, 4663, rfl⟩
abbrev main_call149_v0 : Ref sig .tc := ⟨.hbm, 4664, rfl⟩
abbrev main_call149_v1 : Ref sig .tc := ⟨.hbm, 4665, rfl⟩
abbrev main_call149_v2 : Ref sig .tc := ⟨.hbm, 4666, rfl⟩
abbrev main_call149_v3 : Ref sig .tc := ⟨.hbm, 4667, rfl⟩
abbrev main_call149_v4 : Ref sig .tc := ⟨.hbm, 4668, rfl⟩
abbrev main_v2445 : Ref sig .tc := ⟨.hbm, 4669, rfl⟩
abbrev main_v2446 : Ref sig .tc := ⟨.hbm, 4670, rfl⟩
abbrev main_c_603 : Ref sig .tc := ⟨.hbm, 4671, rfl⟩
abbrev main_v2447 : Ref sig .tc := ⟨.hbm, 4672, rfl⟩
abbrev main_v2448 : Ref sig .tc := ⟨.hbm, 4673, rfl⟩
abbrev main_v2449 : Ref sig .tc := ⟨.hbm, 4674, rfl⟩
abbrev main_v2450 : Ref sig .tc := ⟨.hbm, 4675, rfl⟩
abbrev main_v2451 : Ref sig .tc := ⟨.hbm, 4676, rfl⟩
abbrev main_v2452 : Ref sig .tc := ⟨.hbm, 4677, rfl⟩
abbrev main_call150_c : Ref sig .tc := ⟨.hbm, 4678, rfl⟩
abbrev main_call150_v0 : Ref sig .tc := ⟨.hbm, 4679, rfl⟩
abbrev main_call150_v1 : Ref sig .tc := ⟨.hbm, 4680, rfl⟩
abbrev main_call150_c_0 : Ref sig .tc := ⟨.hbm, 4681, rfl⟩
abbrev main_call150_v2 : Ref sig .tc := ⟨.hbm, 4682, rfl⟩
abbrev main_call150_v3 : Ref sig .tc := ⟨.hbm, 4683, rfl⟩
abbrev main_call150_v4 : Ref sig .tc := ⟨.hbm, 4684, rfl⟩
abbrev main_call150_v5 : Ref sig .tc := ⟨.hbm, 4685, rfl⟩
abbrev main_call150_c_1 : Ref sig .tc := ⟨.hbm, 4686, rfl⟩
abbrev main_call150_c_2 : Ref sig .tc := ⟨.hbm, 4687, rfl⟩
abbrev main_call150_v6 : Ref sig .tc := ⟨.hbm, 4688, rfl⟩
abbrev main_call150_v7 : Ref sig .tc := ⟨.hbm, 4689, rfl⟩
abbrev main_call150_v8 : Ref sig .tc := ⟨.hbm, 4690, rfl⟩
abbrev main_call150_v9 : Ref sig .tc := ⟨.hbm, 4691, rfl⟩
abbrev main_call150_v10 : Ref sig .tc := ⟨.hbm, 4692, rfl⟩
abbrev main_call150_v11 : Ref sig .tc := ⟨.hbm, 4693, rfl⟩
abbrev main_call150_c_3 : Ref sig .tc := ⟨.hbm, 4694, rfl⟩
abbrev main_call150_v12 : Ref sig .tc := ⟨.hbm, 4695, rfl⟩
abbrev main_call150_v13 : Ref sig .tc := ⟨.hbm, 4696, rfl⟩
abbrev main_call150_cst : Ref sig .tc := ⟨.hbm, 4697, rfl⟩
abbrev main_call150_v14 : Ref sig .tc := ⟨.hbm, 4698, rfl⟩
abbrev main_v2453 : Ref sig .tc := ⟨.hbm, 4699, rfl⟩
abbrev main_v2454 : Ref sig .tc := ⟨.hbm, 4700, rfl⟩
abbrev main_v2455 : Ref sig .tc := ⟨.hbm, 4701, rfl⟩
abbrev main_v2456 : Ref sig .tc := ⟨.hbm, 4702, rfl⟩
abbrev main_v2457 : Ref sig .tc := ⟨.hbm, 4703, rfl⟩
abbrev main_v2458 : Ref sig .tc := ⟨.hbm, 4704, rfl⟩
abbrev main_v2459 : Ref sig .tc := ⟨.hbm, 4705, rfl⟩
abbrev main_v2460 : Ref sig .tc := ⟨.hbm, 4706, rfl⟩
abbrev main_v2461 : Ref sig .tc := ⟨.hbm, 4707, rfl⟩
abbrev main_v2462 : Ref sig .tc := ⟨.hbm, 4708, rfl⟩
abbrev main_cst_604 : Ref sig .tc := ⟨.hbm, 4709, rfl⟩
abbrev main_v2463 : Ref sig .tc := ⟨.hbm, 4710, rfl⟩
abbrev main_v2464 : Ref sig .tc := ⟨.hbm, 4711, rfl⟩
abbrev main_cst_605 : Ref sig .tc := ⟨.hbm, 4712, rfl⟩
abbrev main_v2465 : Ref sig .tc := ⟨.hbm, 4713, rfl⟩
abbrev main_v2466 : Ref sig .tc := ⟨.hbm, 4714, rfl⟩
abbrev main_v2467 : Ref sig .tc := ⟨.hbm, 4715, rfl⟩
abbrev main_cst_606 : Ref sig .tc := ⟨.hbm, 4716, rfl⟩
abbrev main_v2468 : Ref sig .tc := ⟨.hbm, 4717, rfl⟩
abbrev main_v2469 : Ref sig .tc := ⟨.hbm, 4718, rfl⟩
abbrev main_v2470 : Ref sig .tc := ⟨.hbm, 4719, rfl⟩
abbrev main_cst_607 : Ref sig .tc := ⟨.hbm, 4720, rfl⟩
abbrev main_v2471 : Ref sig .tc := ⟨.hbm, 4721, rfl⟩
abbrev main_v2472 : Ref sig .tc := ⟨.hbm, 4722, rfl⟩
abbrev main_v2473 : Ref sig .tc := ⟨.hbm, 4723, rfl⟩
abbrev main_c_608 : Ref sig .tc := ⟨.hbm, 4724, rfl⟩
abbrev main_c_609 : Ref sig .tc := ⟨.hbm, 4725, rfl⟩
abbrev main_call151_v0 : Ref sig .tc := ⟨.hbm, 4726, rfl⟩
abbrev main_call151_v1 : Ref sig .tc := ⟨.hbm, 4727, rfl⟩
abbrev main_call151_v2 : Ref sig .tc := ⟨.hbm, 4728, rfl⟩
abbrev main_call151_v3 : Ref sig .tc := ⟨.hbm, 4729, rfl⟩
abbrev main_call151_v4 : Ref sig .tc := ⟨.hbm, 4730, rfl⟩
abbrev main_v2474 : Ref sig .tc := ⟨.hbm, 4731, rfl⟩
abbrev main_v2475 : Ref sig .tc := ⟨.hbm, 4732, rfl⟩
abbrev main_c_610 : Ref sig .tc := ⟨.hbm, 4733, rfl⟩
abbrev main_c_611 : Ref sig .tc := ⟨.hbm, 4734, rfl⟩
abbrev main_call152_v0 : Ref sig .tc := ⟨.hbm, 4735, rfl⟩
abbrev main_call152_v1 : Ref sig .tc := ⟨.hbm, 4736, rfl⟩
abbrev main_call152_v2 : Ref sig .tc := ⟨.hbm, 4737, rfl⟩
abbrev main_call152_v3 : Ref sig .tc := ⟨.hbm, 4738, rfl⟩
abbrev main_call152_v4 : Ref sig .tc := ⟨.hbm, 4739, rfl⟩
abbrev main_v2476 : Ref sig .tc := ⟨.hbm, 4740, rfl⟩
abbrev main_v2477 : Ref sig .tc := ⟨.hbm, 4741, rfl⟩
abbrev main_c_612 : Ref sig .tc := ⟨.hbm, 4742, rfl⟩
abbrev main_v2478 : Ref sig .tc := ⟨.hbm, 4743, rfl⟩
abbrev main_v2479 : Ref sig .tc := ⟨.hbm, 4744, rfl⟩
abbrev main_v2480 : Ref sig .tc := ⟨.hbm, 4745, rfl⟩
abbrev main_v2481 : Ref sig .tc := ⟨.hbm, 4746, rfl⟩
abbrev main_v2482 : Ref sig .tc := ⟨.hbm, 4747, rfl⟩
abbrev main_v2483 : Ref sig .tc := ⟨.hbm, 4748, rfl⟩
abbrev main_call153_c : Ref sig .tc := ⟨.hbm, 4749, rfl⟩
abbrev main_call153_v0 : Ref sig .tc := ⟨.hbm, 4750, rfl⟩
abbrev main_call153_v1 : Ref sig .tc := ⟨.hbm, 4751, rfl⟩
abbrev main_call153_c_0 : Ref sig .tc := ⟨.hbm, 4752, rfl⟩
abbrev main_call153_v2 : Ref sig .tc := ⟨.hbm, 4753, rfl⟩
abbrev main_call153_v3 : Ref sig .tc := ⟨.hbm, 4754, rfl⟩
abbrev main_call153_v4 : Ref sig .tc := ⟨.hbm, 4755, rfl⟩
abbrev main_call153_v5 : Ref sig .tc := ⟨.hbm, 4756, rfl⟩
abbrev main_call153_c_1 : Ref sig .tc := ⟨.hbm, 4757, rfl⟩
abbrev main_call153_c_2 : Ref sig .tc := ⟨.hbm, 4758, rfl⟩
abbrev main_call153_v6 : Ref sig .tc := ⟨.hbm, 4759, rfl⟩
abbrev main_call153_v7 : Ref sig .tc := ⟨.hbm, 4760, rfl⟩
abbrev main_call153_v8 : Ref sig .tc := ⟨.hbm, 4761, rfl⟩
abbrev main_call153_v9 : Ref sig .tc := ⟨.hbm, 4762, rfl⟩
abbrev main_call153_v10 : Ref sig .tc := ⟨.hbm, 4763, rfl⟩
abbrev main_call153_v11 : Ref sig .tc := ⟨.hbm, 4764, rfl⟩
abbrev main_call153_c_3 : Ref sig .tc := ⟨.hbm, 4765, rfl⟩
abbrev main_call153_v12 : Ref sig .tc := ⟨.hbm, 4766, rfl⟩
abbrev main_call153_v13 : Ref sig .tc := ⟨.hbm, 4767, rfl⟩
abbrev main_call153_cst : Ref sig .tc := ⟨.hbm, 4768, rfl⟩
abbrev main_call153_v14 : Ref sig .tc := ⟨.hbm, 4769, rfl⟩
abbrev main_v2484 : Ref sig .tc := ⟨.hbm, 4770, rfl⟩
abbrev main_v2485 : Ref sig .tc := ⟨.hbm, 4771, rfl⟩
abbrev main_v2486 : Ref sig .tc := ⟨.hbm, 4772, rfl⟩
abbrev main_v2487 : Ref sig .tc := ⟨.hbm, 4773, rfl⟩
abbrev main_v2488 : Ref sig .tc := ⟨.hbm, 4774, rfl⟩
abbrev main_v2489 : Ref sig .tc := ⟨.hbm, 4775, rfl⟩
abbrev main_v2490 : Ref sig .tc := ⟨.hbm, 4776, rfl⟩
abbrev main_v2491 : Ref sig .tc := ⟨.hbm, 4777, rfl⟩
abbrev main_v2492 : Ref sig .tc := ⟨.hbm, 4778, rfl⟩
abbrev main_v2493 : Ref sig .tc := ⟨.hbm, 4779, rfl⟩
abbrev main_v2494 : Ref sig .tc := ⟨.hbm, 4780, rfl⟩
abbrev main_v2495 : Ref sig .tc := ⟨.hbm, 4781, rfl⟩
abbrev main_v2496 : Ref sig .tc := ⟨.hbm, 4782, rfl⟩
abbrev main_v2497 : Ref sig .tc := ⟨.hbm, 4783, rfl⟩
abbrev main_v2498 : Ref sig .tc := ⟨.hbm, 4784, rfl⟩
abbrev main_v2499 : Ref sig .tc := ⟨.hbm, 4785, rfl⟩
abbrev main_v2500 : Ref sig .tc := ⟨.hbm, 4786, rfl⟩
abbrev main_v2501 : Ref sig .tc := ⟨.hbm, 4787, rfl⟩
abbrev main_v2502 : Ref sig .tc := ⟨.hbm, 4788, rfl⟩
abbrev main_v2503 : Ref sig .tc := ⟨.hbm, 4789, rfl⟩
abbrev main_cst_613 : Ref sig .tc := ⟨.hbm, 4790, rfl⟩
abbrev main_v2504 : Ref sig .tc := ⟨.hbm, 4791, rfl⟩
abbrev main_v2505 : Ref sig .tc := ⟨.hbm, 4792, rfl⟩
abbrev main_v2506 : Ref sig .tc := ⟨.hbm, 4793, rfl⟩
abbrev main_v2507 : Ref sig .tc := ⟨.hbm, 4794, rfl⟩
abbrev main_v2508 : Ref sig .tc := ⟨.hbm, 4795, rfl⟩
abbrev main_v2509 : Ref sig .tc := ⟨.hbm, 4796, rfl⟩
abbrev main_v2510 : Ref sig .tc := ⟨.hbm, 4797, rfl⟩
abbrev main_v2511 : Ref sig .tc := ⟨.hbm, 4798, rfl⟩
abbrev main_v2512 : Ref sig .tc := ⟨.hbm, 4799, rfl⟩
abbrev main_v2513 : Ref sig .tc := ⟨.hbm, 4800, rfl⟩
abbrev main_v2514 : Ref sig .tc := ⟨.hbm, 4801, rfl⟩
abbrev main_v2515 : Ref sig .tc := ⟨.hbm, 4802, rfl⟩
abbrev main_v2516 : Ref sig .tc := ⟨.hbm, 4803, rfl⟩
abbrev main_v2517 : Ref sig .tc := ⟨.hbm, 4804, rfl⟩
abbrev main_v2518 : Ref sig .tc := ⟨.hbm, 4805, rfl⟩
abbrev main_v2519 : Ref sig .tc := ⟨.hbm, 4806, rfl⟩
abbrev main_cst_614 : Ref sig .tc := ⟨.hbm, 4807, rfl⟩
abbrev main_v2520 : Ref sig .tc := ⟨.hbm, 4808, rfl⟩
abbrev main_v2521 : Ref sig .tc := ⟨.hbm, 4809, rfl⟩
abbrev main_cst_615 : Ref sig .tc := ⟨.hbm, 4810, rfl⟩
abbrev main_v2522 : Ref sig .tc := ⟨.hbm, 4811, rfl⟩
abbrev main_v2523 : Ref sig .tc := ⟨.hbm, 4812, rfl⟩
abbrev main_v2524 : Ref sig .tc := ⟨.hbm, 4813, rfl⟩
abbrev main_v2525 : Ref sig .tc := ⟨.hbm, 4814, rfl⟩
abbrev main_v2526 : Ref sig .tc := ⟨.hbm, 4815, rfl⟩
abbrev main_cst_616 : Ref sig .tc := ⟨.hbm, 4816, rfl⟩
abbrev main_v2527 : Ref sig .tc := ⟨.hbm, 4817, rfl⟩
abbrev main_v2528 : Ref sig .tc := ⟨.hbm, 4818, rfl⟩
abbrev main_cst_617 : Ref sig .tc := ⟨.hbm, 4819, rfl⟩
abbrev main_v2529 : Ref sig .tc := ⟨.hbm, 4820, rfl⟩
abbrev main_v2530 : Ref sig .tc := ⟨.hbm, 4821, rfl⟩
abbrev main_v2531 : Ref sig .tc := ⟨.hbm, 4822, rfl⟩
abbrev main_v2532 : Ref sig .tc := ⟨.hbm, 4823, rfl⟩
abbrev main_cst_618 : Ref sig .tc := ⟨.hbm, 4824, rfl⟩
abbrev main_v2533 : Ref sig .tc := ⟨.hbm, 4825, rfl⟩
abbrev main_v2534 : Ref sig .tc := ⟨.hbm, 4826, rfl⟩
abbrev main_v2535 : Ref sig .tc := ⟨.hbm, 4827, rfl⟩
abbrev main_v2536 : Ref sig .tc := ⟨.hbm, 4828, rfl⟩
abbrev main_v2537 : Ref sig .tc := ⟨.hbm, 4829, rfl⟩
abbrev main_v2538 : Ref sig .tc := ⟨.hbm, 4830, rfl⟩
abbrev main_v2539 : Ref sig .tc := ⟨.hbm, 4831, rfl⟩
abbrev main_v2540 : Ref sig .tc := ⟨.hbm, 4832, rfl⟩
abbrev main_v2541 : Ref sig .tc := ⟨.hbm, 4833, rfl⟩
abbrev main_v2542 : Ref sig .tc := ⟨.hbm, 4834, rfl⟩
abbrev main_v2543 : Ref sig .tc := ⟨.hbm, 4835, rfl⟩
abbrev main_v2544 : Ref sig .tc := ⟨.hbm, 4836, rfl⟩
abbrev main_v2545 : Ref sig .tc := ⟨.hbm, 4837, rfl⟩
abbrev main_v2546 : Ref sig .tc := ⟨.hbm, 4838, rfl⟩
abbrev main_v2547 : Ref sig .tc := ⟨.hbm, 4839, rfl⟩
abbrev main_v2548 : Ref sig .tc := ⟨.hbm, 4840, rfl⟩
abbrev main_v2549 : Ref sig .tc := ⟨.hbm, 4841, rfl⟩
abbrev main_v2550 : Ref sig .tc := ⟨.hbm, 4842, rfl⟩
abbrev main_v2551 : Ref sig .tc := ⟨.hbm, 4843, rfl⟩
abbrev main_call154_cst : Ref sig .tc := ⟨.hbm, 4844, rfl⟩
abbrev main_call154_v0 : Ref sig .tc := ⟨.hbm, 4845, rfl⟩
abbrev main_v2552 : Ref sig .tc := ⟨.hbm, 4846, rfl⟩
abbrev main_v2553 : Ref sig .tc := ⟨.hbm, 4847, rfl⟩
abbrev main_v2554 : Ref sig .tc := ⟨.hbm, 4848, rfl⟩
abbrev main_v2555 : Ref sig .tc := ⟨.hbm, 4849, rfl⟩
abbrev main_v2556 : Ref sig .tc := ⟨.hbm, 4850, rfl⟩
abbrev main_v2557 : Ref sig .tc := ⟨.hbm, 4851, rfl⟩
abbrev main_v2558 : Ref sig .tc := ⟨.hbm, 4852, rfl⟩
abbrev main_v2559 : Ref sig .tc := ⟨.hbm, 4853, rfl⟩
abbrev main_v2560 : Ref sig .tc := ⟨.hbm, 4854, rfl⟩
abbrev main_v2561 : Ref sig .tc := ⟨.hbm, 4855, rfl⟩
abbrev main_v2562 : Ref sig .tc := ⟨.hbm, 4856, rfl⟩
abbrev main_v2563 : Ref sig .tc := ⟨.hbm, 4857, rfl⟩
abbrev main_v2564 : Ref sig .tc := ⟨.hbm, 4858, rfl⟩
abbrev main_v2565 : Ref sig .tc := ⟨.hbm, 4859, rfl⟩
abbrev main_cst_619 : Ref sig .tc := ⟨.hbm, 4860, rfl⟩
abbrev main_v2566 : Ref sig .tc := ⟨.hbm, 4861, rfl⟩
abbrev main_v2567 : Ref sig .tc := ⟨.hbm, 4862, rfl⟩
abbrev main_cst_620 : Ref sig .tc := ⟨.hbm, 4863, rfl⟩
abbrev main_v2568 : Ref sig .tc := ⟨.hbm, 4864, rfl⟩
abbrev main_v2569 : Ref sig .tc := ⟨.hbm, 4865, rfl⟩
abbrev main_v2570 : Ref sig .tc := ⟨.hbm, 4866, rfl⟩
abbrev main_v2571 : Ref sig .tc := ⟨.hbm, 4867, rfl⟩
abbrev main_v2572 : Ref sig .tc := ⟨.hbm, 4868, rfl⟩
abbrev main_cst_621 : Ref sig .tc := ⟨.hbm, 4869, rfl⟩
abbrev main_v2573 : Ref sig .tc := ⟨.hbm, 4870, rfl⟩
abbrev main_v2574 : Ref sig .tc := ⟨.hbm, 4871, rfl⟩
abbrev main_cst_622 : Ref sig .tc := ⟨.hbm, 4872, rfl⟩
abbrev main_v2575 : Ref sig .tc := ⟨.hbm, 4873, rfl⟩
abbrev main_v2576 : Ref sig .tc := ⟨.hbm, 4874, rfl⟩
abbrev main_v2577 : Ref sig .tc := ⟨.hbm, 4875, rfl⟩
abbrev main_v2578 : Ref sig .tc := ⟨.hbm, 4876, rfl⟩
abbrev main_cst_623 : Ref sig .tc := ⟨.hbm, 4877, rfl⟩
abbrev main_v2579 : Ref sig .tc := ⟨.hbm, 4878, rfl⟩
abbrev main_v2580 : Ref sig .tc := ⟨.hbm, 4879, rfl⟩
abbrev main_v2581 : Ref sig .tc := ⟨.hbm, 4880, rfl⟩
abbrev main_v2582 : Ref sig .tc := ⟨.hbm, 4881, rfl⟩
abbrev main_v2583 : Ref sig .tc := ⟨.hbm, 4882, rfl⟩
abbrev main_v2584 : Ref sig .tc := ⟨.hbm, 4883, rfl⟩
abbrev main_v2585 : Ref sig .tc := ⟨.hbm, 4884, rfl⟩
abbrev main_v2586 : Ref sig .tc := ⟨.hbm, 4885, rfl⟩
abbrev main_v2587 : Ref sig .tc := ⟨.hbm, 4886, rfl⟩
abbrev main_v2588 : Ref sig .tc := ⟨.hbm, 4887, rfl⟩
abbrev main_v2589 : Ref sig .tc := ⟨.hbm, 4888, rfl⟩
abbrev main_v2590 : Ref sig .tc := ⟨.hbm, 4889, rfl⟩
abbrev main_v2591 : Ref sig .tc := ⟨.hbm, 4890, rfl⟩
abbrev main_v2592 : Ref sig .tc := ⟨.hbm, 4891, rfl⟩
abbrev main_v2593 : Ref sig .tc := ⟨.hbm, 4892, rfl⟩
abbrev main_v2594 : Ref sig .tc := ⟨.hbm, 4893, rfl⟩
abbrev main_v2595 : Ref sig .tc := ⟨.hbm, 4894, rfl⟩
abbrev main_v2596 : Ref sig .tc := ⟨.hbm, 4895, rfl⟩
abbrev main_v2597 : Ref sig .tc := ⟨.hbm, 4896, rfl⟩
abbrev main_v2598 : Ref sig .tc := ⟨.hbm, 4897, rfl⟩
abbrev main_v2599 : Ref sig .tc := ⟨.hbm, 4898, rfl⟩
abbrev main_v2600 : Ref sig .tc := ⟨.hbm, 4899, rfl⟩
abbrev main_v2601 : Ref sig .tc := ⟨.hbm, 4900, rfl⟩
abbrev main_v2602 : Ref sig .tc := ⟨.hbm, 4901, rfl⟩
abbrev main_v2603 : Ref sig .tc := ⟨.hbm, 4902, rfl⟩
abbrev main_v2604 : Ref sig .tc := ⟨.hbm, 4903, rfl⟩
abbrev main_v2605 : Ref sig .tc := ⟨.hbm, 4904, rfl⟩
abbrev main_v2606 : Ref sig .tc := ⟨.hbm, 4905, rfl⟩
abbrev main_v2607 : Ref sig .tc := ⟨.hbm, 4906, rfl⟩
abbrev main_v2608 : Ref sig .tc := ⟨.hbm, 4907, rfl⟩
abbrev main_v2609 : Ref sig .tc := ⟨.hbm, 4908, rfl⟩
abbrev main_v2610 : Ref sig .tc := ⟨.hbm, 4909, rfl⟩
abbrev main_v2611 : Ref sig .tc := ⟨.hbm, 4910, rfl⟩
abbrev main_v2612 : Ref sig .tc := ⟨.hbm, 4911, rfl⟩
abbrev main_v2613 : Ref sig .tc := ⟨.hbm, 4912, rfl⟩
abbrev main_v2614 : Ref sig .tc := ⟨.hbm, 4913, rfl⟩
abbrev main_v2615 : Ref sig .tc := ⟨.hbm, 4914, rfl⟩
abbrev main_v2616 : Ref sig .tc := ⟨.hbm, 4915, rfl⟩
abbrev main_v2617 : Ref sig .tc := ⟨.hbm, 4916, rfl⟩
abbrev main_cst_624 : Ref sig .tc := ⟨.hbm, 4917, rfl⟩
abbrev main_v2618 : Ref sig .tc := ⟨.hbm, 4918, rfl⟩
abbrev main_cst_625 : Ref sig .tc := ⟨.hbm, 4919, rfl⟩
abbrev main_v2619 : Ref sig .tc := ⟨.hbm, 4920, rfl⟩
abbrev main_v2620 : Ref sig .tc := ⟨.hbm, 4921, rfl⟩
abbrev main_v2621 : Ref sig .tc := ⟨.hbm, 4922, rfl⟩
abbrev main_v2622 : Ref sig .tc := ⟨.hbm, 4923, rfl⟩
abbrev main_v2623 : Ref sig .tc := ⟨.hbm, 4924, rfl⟩
abbrev main_v2624 : Ref sig .tc := ⟨.hbm, 4925, rfl⟩
abbrev main_cst_626 : Ref sig .tc := ⟨.hbm, 4926, rfl⟩
abbrev main_v2625 : Ref sig .tc := ⟨.hbm, 4927, rfl⟩
abbrev main_v2626 : Ref sig .tc := ⟨.hbm, 4928, rfl⟩
abbrev main_v2627 : Ref sig .tc := ⟨.hbm, 4929, rfl⟩
abbrev main_v2628 : Ref sig .tc := ⟨.hbm, 4930, rfl⟩
abbrev main_v2629 : Ref sig .tc := ⟨.hbm, 4931, rfl⟩
abbrev main_v2630 : Ref sig .tc := ⟨.hbm, 4932, rfl⟩
abbrev main_v2631 : Ref sig .tc := ⟨.hbm, 4933, rfl⟩
abbrev main_v2632 : Ref sig .tc := ⟨.hbm, 4934, rfl⟩
abbrev main_v2633 : Ref sig .tc := ⟨.hbm, 4935, rfl⟩
abbrev main_v2634 : Ref sig .tc := ⟨.hbm, 4936, rfl⟩
abbrev main_v2635 : Ref sig .tc := ⟨.hbm, 4937, rfl⟩
abbrev main_cst_627 : Ref sig .tc := ⟨.hbm, 4938, rfl⟩
abbrev main_v2636 : Ref sig .tc := ⟨.hbm, 4939, rfl⟩
abbrev main_v2637 : Ref sig .tc := ⟨.hbm, 4940, rfl⟩
abbrev main_cst_628 : Ref sig .tc := ⟨.hbm, 4941, rfl⟩
abbrev main_v2638 : Ref sig .tc := ⟨.hbm, 4942, rfl⟩
abbrev main_v2639 : Ref sig .tc := ⟨.hbm, 4943, rfl⟩
abbrev main_v2640 : Ref sig .tc := ⟨.hbm, 4944, rfl⟩
abbrev main_v2641 : Ref sig .tc := ⟨.hbm, 4945, rfl⟩
abbrev main_v2642 : Ref sig .tc := ⟨.hbm, 4946, rfl⟩
abbrev main_v2643 : Ref sig .tc := ⟨.hbm, 4947, rfl⟩
abbrev main_v2644 : Ref sig .tc := ⟨.hbm, 4948, rfl⟩
abbrev main_v2645 : Ref sig .tc := ⟨.hbm, 4949, rfl⟩
abbrev main_v2646 : Ref sig .tc := ⟨.hbm, 4950, rfl⟩
abbrev main_v2647 : Ref sig .tc := ⟨.hbm, 4951, rfl⟩
abbrev main_v2648 : Ref sig .tc := ⟨.hbm, 4952, rfl⟩
abbrev main_cst_629 : Ref sig .tc := ⟨.hbm, 4953, rfl⟩
abbrev main_v2649 : Ref sig .tc := ⟨.hbm, 4954, rfl⟩
abbrev main_v2650 : Ref sig .tc := ⟨.hbm, 4955, rfl⟩
abbrev main_cst_630 : Ref sig .tc := ⟨.hbm, 4956, rfl⟩
abbrev main_v2651 : Ref sig .tc := ⟨.hbm, 4957, rfl⟩
abbrev main_v2652 : Ref sig .tc := ⟨.hbm, 4958, rfl⟩
abbrev main_cst_631 : Ref sig .tc := ⟨.hbm, 4959, rfl⟩
abbrev main_v2653 : Ref sig .tc := ⟨.hbm, 4960, rfl⟩
abbrev main_v2654 : Ref sig .tc := ⟨.hbm, 4961, rfl⟩
abbrev main_cst_632 : Ref sig .tc := ⟨.hbm, 4962, rfl⟩
abbrev main_v2655 : Ref sig .tc := ⟨.hbm, 4963, rfl⟩
abbrev main_v2656 : Ref sig .tc := ⟨.hbm, 4964, rfl⟩
abbrev main_v2657 : Ref sig .tc := ⟨.hbm, 4965, rfl⟩
abbrev main_v2658 : Ref sig .tc := ⟨.hbm, 4966, rfl⟩
abbrev main_cst_633 : Ref sig .tc := ⟨.hbm, 4967, rfl⟩
abbrev main_v2659 : Ref sig .tc := ⟨.hbm, 4968, rfl⟩
abbrev main_v2660 : Ref sig .tc := ⟨.hbm, 4969, rfl⟩
abbrev main_cst_634 : Ref sig .tc := ⟨.hbm, 4970, rfl⟩
abbrev main_v2661 : Ref sig .tc := ⟨.hbm, 4971, rfl⟩
abbrev main_v2662 : Ref sig .tc := ⟨.hbm, 4972, rfl⟩
abbrev main_cst_635 : Ref sig .tc := ⟨.hbm, 4973, rfl⟩
abbrev main_v2663 : Ref sig .tc := ⟨.hbm, 4974, rfl⟩
abbrev main_v2664 : Ref sig .tc := ⟨.hbm, 4975, rfl⟩
abbrev main_cst_636 : Ref sig .tc := ⟨.hbm, 4976, rfl⟩
abbrev main_v2665 : Ref sig .tc := ⟨.hbm, 4977, rfl⟩
abbrev main_v2666 : Ref sig .tc := ⟨.hbm, 4978, rfl⟩
abbrev main_v2667 : Ref sig .tc := ⟨.hbm, 4979, rfl⟩
abbrev main_v2668 : Ref sig .tc := ⟨.hbm, 4980, rfl⟩
abbrev main_cst_637 : Ref sig .tc := ⟨.hbm, 4981, rfl⟩
abbrev main_v2669 : Ref sig .tc := ⟨.hbm, 4982, rfl⟩
abbrev main_v2670 : Ref sig .tc := ⟨.hbm, 4983, rfl⟩
abbrev main_cst_638 : Ref sig .tc := ⟨.hbm, 4984, rfl⟩
abbrev main_v2671 : Ref sig .tc := ⟨.hbm, 4985, rfl⟩
abbrev main_v2672 : Ref sig .tc := ⟨.hbm, 4986, rfl⟩
abbrev main_v2673 : Ref sig .tc := ⟨.hbm, 4987, rfl⟩
abbrev main_v2674 : Ref sig .tc := ⟨.hbm, 4988, rfl⟩
abbrev main_v2675 : Ref sig .tc := ⟨.hbm, 4989, rfl⟩
abbrev main_v2676 : Ref sig .tc := ⟨.hbm, 4990, rfl⟩
abbrev main_v2677 : Ref sig .tc := ⟨.hbm, 4991, rfl⟩
abbrev main_v2678 : Ref sig .tc := ⟨.hbm, 4992, rfl⟩
abbrev main_v2679 : Ref sig .tc := ⟨.hbm, 4993, rfl⟩
abbrev main_v2680 : Ref sig .tc := ⟨.hbm, 4994, rfl⟩
abbrev main_v2681 : Ref sig .tc := ⟨.hbm, 4995, rfl⟩
abbrev main_v2682 : Ref sig .tc := ⟨.hbm, 4996, rfl⟩
abbrev main_v2683 : Ref sig .tc := ⟨.hbm, 4997, rfl⟩
abbrev main_v2684 : Ref sig .tc := ⟨.hbm, 4998, rfl⟩
abbrev main_v2685 : Ref sig .tc := ⟨.hbm, 4999, rfl⟩
abbrev main_cst_639 : Ref sig .tc := ⟨.hbm, 5000, rfl⟩
abbrev main_v2686 : Ref sig .tc := ⟨.hbm, 5001, rfl⟩
abbrev main_v2687 : Ref sig .tc := ⟨.hbm, 5002, rfl⟩
abbrev main_cst_640 : Ref sig .tc := ⟨.hbm, 5003, rfl⟩
abbrev main_v2688 : Ref sig .tc := ⟨.hbm, 5004, rfl⟩
abbrev main_v2689 : Ref sig .tc := ⟨.hbm, 5005, rfl⟩
abbrev main_v2690 : Ref sig .tc := ⟨.hbm, 5006, rfl⟩
abbrev main_cst_641 : Ref sig .tc := ⟨.hbm, 5007, rfl⟩
abbrev main_v2691 : Ref sig .tc := ⟨.hbm, 5008, rfl⟩
abbrev main_v2692 : Ref sig .tc := ⟨.hbm, 5009, rfl⟩
abbrev main_v2693 : Ref sig .tc := ⟨.hbm, 5010, rfl⟩
abbrev main_cst_642 : Ref sig .tc := ⟨.hbm, 5011, rfl⟩
abbrev main_v2694 : Ref sig .tc := ⟨.hbm, 5012, rfl⟩
abbrev main_v2695 : Ref sig .tc := ⟨.hbm, 5013, rfl⟩
abbrev main_v2696 : Ref sig .tc := ⟨.hbm, 5014, rfl⟩
abbrev main_c_643 : Ref sig .tc := ⟨.hbm, 5015, rfl⟩
abbrev main_c_644 : Ref sig .tc := ⟨.hbm, 5016, rfl⟩
abbrev main_call155_v0 : Ref sig .tc := ⟨.hbm, 5017, rfl⟩
abbrev main_call155_v1 : Ref sig .tc := ⟨.hbm, 5018, rfl⟩
abbrev main_call155_v2 : Ref sig .tc := ⟨.hbm, 5019, rfl⟩
abbrev main_call155_v3 : Ref sig .tc := ⟨.hbm, 5020, rfl⟩
abbrev main_call155_v4 : Ref sig .tc := ⟨.hbm, 5021, rfl⟩
abbrev main_v2697 : Ref sig .tc := ⟨.hbm, 5022, rfl⟩
abbrev main_v2698 : Ref sig .tc := ⟨.hbm, 5023, rfl⟩
abbrev main_c_645 : Ref sig .tc := ⟨.hbm, 5024, rfl⟩
abbrev main_c_646 : Ref sig .tc := ⟨.hbm, 5025, rfl⟩
abbrev main_call156_v0 : Ref sig .tc := ⟨.hbm, 5026, rfl⟩
abbrev main_call156_v1 : Ref sig .tc := ⟨.hbm, 5027, rfl⟩
abbrev main_call156_v2 : Ref sig .tc := ⟨.hbm, 5028, rfl⟩
abbrev main_call156_v3 : Ref sig .tc := ⟨.hbm, 5029, rfl⟩
abbrev main_call156_v4 : Ref sig .tc := ⟨.hbm, 5030, rfl⟩
abbrev main_v2699 : Ref sig .tc := ⟨.hbm, 5031, rfl⟩
abbrev main_v2700 : Ref sig .tc := ⟨.hbm, 5032, rfl⟩
abbrev main_c_647 : Ref sig .tc := ⟨.hbm, 5033, rfl⟩
abbrev main_v2701 : Ref sig .tc := ⟨.hbm, 5034, rfl⟩
abbrev main_v2702 : Ref sig .tc := ⟨.hbm, 5035, rfl⟩
abbrev main_v2703 : Ref sig .tc := ⟨.hbm, 5036, rfl⟩
abbrev main_v2704 : Ref sig .tc := ⟨.hbm, 5037, rfl⟩
abbrev main_v2705 : Ref sig .tc := ⟨.hbm, 5038, rfl⟩
abbrev main_v2706 : Ref sig .tc := ⟨.hbm, 5039, rfl⟩
abbrev main_call157_c : Ref sig .tc := ⟨.hbm, 5040, rfl⟩
abbrev main_call157_v0 : Ref sig .tc := ⟨.hbm, 5041, rfl⟩
abbrev main_call157_v1 : Ref sig .tc := ⟨.hbm, 5042, rfl⟩
abbrev main_call157_c_0 : Ref sig .tc := ⟨.hbm, 5043, rfl⟩
abbrev main_call157_v2 : Ref sig .tc := ⟨.hbm, 5044, rfl⟩
abbrev main_call157_v3 : Ref sig .tc := ⟨.hbm, 5045, rfl⟩
abbrev main_call157_v4 : Ref sig .tc := ⟨.hbm, 5046, rfl⟩
abbrev main_call157_v5 : Ref sig .tc := ⟨.hbm, 5047, rfl⟩
abbrev main_call157_c_1 : Ref sig .tc := ⟨.hbm, 5048, rfl⟩
abbrev main_call157_c_2 : Ref sig .tc := ⟨.hbm, 5049, rfl⟩
abbrev main_call157_v6 : Ref sig .tc := ⟨.hbm, 5050, rfl⟩
abbrev main_call157_v7 : Ref sig .tc := ⟨.hbm, 5051, rfl⟩
abbrev main_call157_v8 : Ref sig .tc := ⟨.hbm, 5052, rfl⟩
abbrev main_call157_v9 : Ref sig .tc := ⟨.hbm, 5053, rfl⟩
abbrev main_call157_v10 : Ref sig .tc := ⟨.hbm, 5054, rfl⟩
abbrev main_call157_v11 : Ref sig .tc := ⟨.hbm, 5055, rfl⟩
abbrev main_call157_c_3 : Ref sig .tc := ⟨.hbm, 5056, rfl⟩
abbrev main_call157_v12 : Ref sig .tc := ⟨.hbm, 5057, rfl⟩
abbrev main_call157_v13 : Ref sig .tc := ⟨.hbm, 5058, rfl⟩
abbrev main_call157_cst : Ref sig .tc := ⟨.hbm, 5059, rfl⟩
abbrev main_call157_v14 : Ref sig .tc := ⟨.hbm, 5060, rfl⟩
abbrev main_v2707 : Ref sig .tc := ⟨.hbm, 5061, rfl⟩
abbrev main_v2708 : Ref sig .tc := ⟨.hbm, 5062, rfl⟩
abbrev main_v2709 : Ref sig .tc := ⟨.hbm, 5063, rfl⟩
abbrev main_v2710 : Ref sig .tc := ⟨.hbm, 5064, rfl⟩
abbrev main_v2711 : Ref sig .tc := ⟨.hbm, 5065, rfl⟩
abbrev main_v2712 : Ref sig .tc := ⟨.hbm, 5066, rfl⟩
abbrev main_v2713 : Ref sig .tc := ⟨.hbm, 5067, rfl⟩
abbrev main_v2714 : Ref sig .tc := ⟨.hbm, 5068, rfl⟩
abbrev main_v2715 : Ref sig .tc := ⟨.hbm, 5069, rfl⟩
abbrev main_cst_648 : Ref sig .tc := ⟨.hbm, 5070, rfl⟩
abbrev main_v2716 : Ref sig .tc := ⟨.hbm, 5071, rfl⟩
abbrev main_v2717 : Ref sig .tc := ⟨.hbm, 5072, rfl⟩
abbrev main_cst_649 : Ref sig .tc := ⟨.hbm, 5073, rfl⟩
abbrev main_v2718 : Ref sig .tc := ⟨.hbm, 5074, rfl⟩
abbrev main_v2719 : Ref sig .tc := ⟨.hbm, 5075, rfl⟩
abbrev main_v2720 : Ref sig .tc := ⟨.hbm, 5076, rfl⟩
abbrev main_cst_650 : Ref sig .tc := ⟨.hbm, 5077, rfl⟩
abbrev main_v2721 : Ref sig .tc := ⟨.hbm, 5078, rfl⟩
abbrev main_v2722 : Ref sig .tc := ⟨.hbm, 5079, rfl⟩
abbrev main_v2723 : Ref sig .tc := ⟨.hbm, 5080, rfl⟩
abbrev main_cst_651 : Ref sig .tc := ⟨.hbm, 5081, rfl⟩
abbrev main_v2724 : Ref sig .tc := ⟨.hbm, 5082, rfl⟩
abbrev main_v2725 : Ref sig .tc := ⟨.hbm, 5083, rfl⟩
abbrev main_v2726 : Ref sig .tc := ⟨.hbm, 5084, rfl⟩
abbrev main_c_652 : Ref sig .tc := ⟨.hbm, 5085, rfl⟩
abbrev main_c_653 : Ref sig .tc := ⟨.hbm, 5086, rfl⟩
abbrev main_call158_v0 : Ref sig .tc := ⟨.hbm, 5087, rfl⟩
abbrev main_call158_v1 : Ref sig .tc := ⟨.hbm, 5088, rfl⟩
abbrev main_call158_v2 : Ref sig .tc := ⟨.hbm, 5089, rfl⟩
abbrev main_call158_v3 : Ref sig .tc := ⟨.hbm, 5090, rfl⟩
abbrev main_call158_v4 : Ref sig .tc := ⟨.hbm, 5091, rfl⟩
abbrev main_v2727 : Ref sig .tc := ⟨.hbm, 5092, rfl⟩
abbrev main_v2728 : Ref sig .tc := ⟨.hbm, 5093, rfl⟩
abbrev main_c_654 : Ref sig .tc := ⟨.hbm, 5094, rfl⟩
abbrev main_c_655 : Ref sig .tc := ⟨.hbm, 5095, rfl⟩
abbrev main_call159_v0 : Ref sig .tc := ⟨.hbm, 5096, rfl⟩
abbrev main_call159_v1 : Ref sig .tc := ⟨.hbm, 5097, rfl⟩
abbrev main_call159_v2 : Ref sig .tc := ⟨.hbm, 5098, rfl⟩
abbrev main_call159_v3 : Ref sig .tc := ⟨.hbm, 5099, rfl⟩
abbrev main_call159_v4 : Ref sig .tc := ⟨.hbm, 5100, rfl⟩
abbrev main_v2729 : Ref sig .tc := ⟨.hbm, 5101, rfl⟩
abbrev main_v2730 : Ref sig .tc := ⟨.hbm, 5102, rfl⟩
abbrev main_c_656 : Ref sig .tc := ⟨.hbm, 5103, rfl⟩
abbrev main_v2731 : Ref sig .tc := ⟨.hbm, 5104, rfl⟩
abbrev main_v2732 : Ref sig .tc := ⟨.hbm, 5105, rfl⟩
abbrev main_v2733 : Ref sig .tc := ⟨.hbm, 5106, rfl⟩
abbrev main_v2734 : Ref sig .tc := ⟨.hbm, 5107, rfl⟩
abbrev main_v2735 : Ref sig .tc := ⟨.hbm, 5108, rfl⟩
abbrev main_v2736 : Ref sig .tc := ⟨.hbm, 5109, rfl⟩
abbrev main_call160_c : Ref sig .tc := ⟨.hbm, 5110, rfl⟩
abbrev main_call160_v0 : Ref sig .tc := ⟨.hbm, 5111, rfl⟩
abbrev main_call160_v1 : Ref sig .tc := ⟨.hbm, 5112, rfl⟩
abbrev main_call160_c_0 : Ref sig .tc := ⟨.hbm, 5113, rfl⟩
abbrev main_call160_v2 : Ref sig .tc := ⟨.hbm, 5114, rfl⟩
abbrev main_call160_v3 : Ref sig .tc := ⟨.hbm, 5115, rfl⟩
abbrev main_call160_v4 : Ref sig .tc := ⟨.hbm, 5116, rfl⟩
abbrev main_call160_v5 : Ref sig .tc := ⟨.hbm, 5117, rfl⟩
abbrev main_call160_c_1 : Ref sig .tc := ⟨.hbm, 5118, rfl⟩
abbrev main_call160_c_2 : Ref sig .tc := ⟨.hbm, 5119, rfl⟩
abbrev main_call160_v6 : Ref sig .tc := ⟨.hbm, 5120, rfl⟩
abbrev main_call160_v7 : Ref sig .tc := ⟨.hbm, 5121, rfl⟩
abbrev main_call160_v8 : Ref sig .tc := ⟨.hbm, 5122, rfl⟩
abbrev main_call160_v9 : Ref sig .tc := ⟨.hbm, 5123, rfl⟩
abbrev main_call160_v10 : Ref sig .tc := ⟨.hbm, 5124, rfl⟩
abbrev main_call160_v11 : Ref sig .tc := ⟨.hbm, 5125, rfl⟩
abbrev main_call160_c_3 : Ref sig .tc := ⟨.hbm, 5126, rfl⟩
abbrev main_call160_v12 : Ref sig .tc := ⟨.hbm, 5127, rfl⟩
abbrev main_call160_v13 : Ref sig .tc := ⟨.hbm, 5128, rfl⟩
abbrev main_call160_cst : Ref sig .tc := ⟨.hbm, 5129, rfl⟩
abbrev main_call160_v14 : Ref sig .tc := ⟨.hbm, 5130, rfl⟩
abbrev main_v2737 : Ref sig .tc := ⟨.hbm, 5131, rfl⟩
abbrev main_v2738 : Ref sig .tc := ⟨.hbm, 5132, rfl⟩
abbrev main_v2739 : Ref sig .tc := ⟨.hbm, 5133, rfl⟩
abbrev main_v2740 : Ref sig .tc := ⟨.hbm, 5134, rfl⟩
abbrev main_v2741 : Ref sig .tc := ⟨.hbm, 5135, rfl⟩
abbrev main_v2742 : Ref sig .tc := ⟨.hbm, 5136, rfl⟩
abbrev main_v2743 : Ref sig .tc := ⟨.hbm, 5137, rfl⟩
abbrev main_v2744 : Ref sig .tc := ⟨.hbm, 5138, rfl⟩
abbrev main_v2745 : Ref sig .tc := ⟨.hbm, 5139, rfl⟩
abbrev main_v2746 : Ref sig .tc := ⟨.hbm, 5140, rfl⟩
abbrev main_cst_657 : Ref sig .tc := ⟨.hbm, 5141, rfl⟩
abbrev main_v2747 : Ref sig .tc := ⟨.hbm, 5142, rfl⟩
abbrev main_v2748 : Ref sig .tc := ⟨.hbm, 5143, rfl⟩
abbrev main_cst_658 : Ref sig .tc := ⟨.hbm, 5144, rfl⟩
abbrev main_v2749 : Ref sig .tc := ⟨.hbm, 5145, rfl⟩
abbrev main_v2750 : Ref sig .tc := ⟨.hbm, 5146, rfl⟩
abbrev main_v2751 : Ref sig .tc := ⟨.hbm, 5147, rfl⟩
abbrev main_cst_659 : Ref sig .tc := ⟨.hbm, 5148, rfl⟩
abbrev main_v2752 : Ref sig .tc := ⟨.hbm, 5149, rfl⟩
abbrev main_v2753 : Ref sig .tc := ⟨.hbm, 5150, rfl⟩
abbrev main_v2754 : Ref sig .tc := ⟨.hbm, 5151, rfl⟩
abbrev main_cst_660 : Ref sig .tc := ⟨.hbm, 5152, rfl⟩
abbrev main_v2755 : Ref sig .tc := ⟨.hbm, 5153, rfl⟩
abbrev main_v2756 : Ref sig .tc := ⟨.hbm, 5154, rfl⟩
abbrev main_v2757 : Ref sig .tc := ⟨.hbm, 5155, rfl⟩
abbrev main_c_661 : Ref sig .tc := ⟨.hbm, 5156, rfl⟩
abbrev main_c_662 : Ref sig .tc := ⟨.hbm, 5157, rfl⟩
abbrev main_call161_v0 : Ref sig .tc := ⟨.hbm, 5158, rfl⟩
abbrev main_call161_v1 : Ref sig .tc := ⟨.hbm, 5159, rfl⟩
abbrev main_call161_v2 : Ref sig .tc := ⟨.hbm, 5160, rfl⟩
abbrev main_call161_v3 : Ref sig .tc := ⟨.hbm, 5161, rfl⟩
abbrev main_call161_v4 : Ref sig .tc := ⟨.hbm, 5162, rfl⟩
abbrev main_v2758 : Ref sig .tc := ⟨.hbm, 5163, rfl⟩
abbrev main_v2759 : Ref sig .tc := ⟨.hbm, 5164, rfl⟩
abbrev main_c_663 : Ref sig .tc := ⟨.hbm, 5165, rfl⟩
abbrev main_c_664 : Ref sig .tc := ⟨.hbm, 5166, rfl⟩
abbrev main_call162_v0 : Ref sig .tc := ⟨.hbm, 5167, rfl⟩
abbrev main_call162_v1 : Ref sig .tc := ⟨.hbm, 5168, rfl⟩
abbrev main_call162_v2 : Ref sig .tc := ⟨.hbm, 5169, rfl⟩
abbrev main_call162_v3 : Ref sig .tc := ⟨.hbm, 5170, rfl⟩
abbrev main_call162_v4 : Ref sig .tc := ⟨.hbm, 5171, rfl⟩
abbrev main_v2760 : Ref sig .tc := ⟨.hbm, 5172, rfl⟩
abbrev main_v2761 : Ref sig .tc := ⟨.hbm, 5173, rfl⟩
abbrev main_c_665 : Ref sig .tc := ⟨.hbm, 5174, rfl⟩
abbrev main_v2762 : Ref sig .tc := ⟨.hbm, 5175, rfl⟩
abbrev main_v2763 : Ref sig .tc := ⟨.hbm, 5176, rfl⟩
abbrev main_v2764 : Ref sig .tc := ⟨.hbm, 5177, rfl⟩
abbrev main_v2765 : Ref sig .tc := ⟨.hbm, 5178, rfl⟩
abbrev main_v2766 : Ref sig .tc := ⟨.hbm, 5179, rfl⟩
abbrev main_v2767 : Ref sig .tc := ⟨.hbm, 5180, rfl⟩
abbrev main_call163_c : Ref sig .tc := ⟨.hbm, 5181, rfl⟩
abbrev main_call163_v0 : Ref sig .tc := ⟨.hbm, 5182, rfl⟩
abbrev main_call163_v1 : Ref sig .tc := ⟨.hbm, 5183, rfl⟩
abbrev main_call163_c_0 : Ref sig .tc := ⟨.hbm, 5184, rfl⟩
abbrev main_call163_v2 : Ref sig .tc := ⟨.hbm, 5185, rfl⟩
abbrev main_call163_v3 : Ref sig .tc := ⟨.hbm, 5186, rfl⟩
abbrev main_call163_v4 : Ref sig .tc := ⟨.hbm, 5187, rfl⟩
abbrev main_call163_v5 : Ref sig .tc := ⟨.hbm, 5188, rfl⟩
abbrev main_call163_c_1 : Ref sig .tc := ⟨.hbm, 5189, rfl⟩
abbrev main_call163_c_2 : Ref sig .tc := ⟨.hbm, 5190, rfl⟩
abbrev main_call163_v6 : Ref sig .tc := ⟨.hbm, 5191, rfl⟩
abbrev main_call163_v7 : Ref sig .tc := ⟨.hbm, 5192, rfl⟩
abbrev main_call163_v8 : Ref sig .tc := ⟨.hbm, 5193, rfl⟩
abbrev main_call163_v9 : Ref sig .tc := ⟨.hbm, 5194, rfl⟩
abbrev main_call163_v10 : Ref sig .tc := ⟨.hbm, 5195, rfl⟩
abbrev main_call163_v11 : Ref sig .tc := ⟨.hbm, 5196, rfl⟩
abbrev main_call163_c_3 : Ref sig .tc := ⟨.hbm, 5197, rfl⟩
abbrev main_call163_v12 : Ref sig .tc := ⟨.hbm, 5198, rfl⟩
abbrev main_call163_v13 : Ref sig .tc := ⟨.hbm, 5199, rfl⟩
abbrev main_call163_cst : Ref sig .tc := ⟨.hbm, 5200, rfl⟩
abbrev main_call163_v14 : Ref sig .tc := ⟨.hbm, 5201, rfl⟩
abbrev main_v2768 : Ref sig .tc := ⟨.hbm, 5202, rfl⟩
abbrev main_v2769 : Ref sig .tc := ⟨.hbm, 5203, rfl⟩
abbrev main_v2770 : Ref sig .tc := ⟨.hbm, 5204, rfl⟩
abbrev main_v2771 : Ref sig .tc := ⟨.hbm, 5205, rfl⟩
abbrev main_v2772 : Ref sig .tc := ⟨.hbm, 5206, rfl⟩
abbrev main_v2773 : Ref sig .tc := ⟨.hbm, 5207, rfl⟩
abbrev main_v2774 : Ref sig .tc := ⟨.hbm, 5208, rfl⟩
abbrev main_v2775 : Ref sig .tc := ⟨.hbm, 5209, rfl⟩
abbrev main_v2776 : Ref sig .tc := ⟨.hbm, 5210, rfl⟩
abbrev main_v2777 : Ref sig .tc := ⟨.hbm, 5211, rfl⟩
abbrev main_cst_666 : Ref sig .tc := ⟨.hbm, 5212, rfl⟩
abbrev main_v2778 : Ref sig .tc := ⟨.hbm, 5213, rfl⟩
abbrev main_v2779 : Ref sig .tc := ⟨.hbm, 5214, rfl⟩
abbrev main_cst_667 : Ref sig .tc := ⟨.hbm, 5215, rfl⟩
abbrev main_v2780 : Ref sig .tc := ⟨.hbm, 5216, rfl⟩
abbrev main_v2781 : Ref sig .tc := ⟨.hbm, 5217, rfl⟩
abbrev main_v2782 : Ref sig .tc := ⟨.hbm, 5218, rfl⟩
abbrev main_cst_668 : Ref sig .tc := ⟨.hbm, 5219, rfl⟩
abbrev main_v2783 : Ref sig .tc := ⟨.hbm, 5220, rfl⟩
abbrev main_v2784 : Ref sig .tc := ⟨.hbm, 5221, rfl⟩
abbrev main_v2785 : Ref sig .tc := ⟨.hbm, 5222, rfl⟩
abbrev main_cst_669 : Ref sig .tc := ⟨.hbm, 5223, rfl⟩
abbrev main_v2786 : Ref sig .tc := ⟨.hbm, 5224, rfl⟩
abbrev main_v2787 : Ref sig .tc := ⟨.hbm, 5225, rfl⟩
abbrev main_v2788 : Ref sig .tc := ⟨.hbm, 5226, rfl⟩
abbrev main_c_670 : Ref sig .tc := ⟨.hbm, 5227, rfl⟩
abbrev main_c_671 : Ref sig .tc := ⟨.hbm, 5228, rfl⟩
abbrev main_call164_v0 : Ref sig .tc := ⟨.hbm, 5229, rfl⟩
abbrev main_call164_v1 : Ref sig .tc := ⟨.hbm, 5230, rfl⟩
abbrev main_call164_v2 : Ref sig .tc := ⟨.hbm, 5231, rfl⟩
abbrev main_call164_v3 : Ref sig .tc := ⟨.hbm, 5232, rfl⟩
abbrev main_call164_v4 : Ref sig .tc := ⟨.hbm, 5233, rfl⟩
abbrev main_v2789 : Ref sig .tc := ⟨.hbm, 5234, rfl⟩
abbrev main_v2790 : Ref sig .tc := ⟨.hbm, 5235, rfl⟩
abbrev main_c_672 : Ref sig .tc := ⟨.hbm, 5236, rfl⟩
abbrev main_c_673 : Ref sig .tc := ⟨.hbm, 5237, rfl⟩
abbrev main_call165_v0 : Ref sig .tc := ⟨.hbm, 5238, rfl⟩
abbrev main_call165_v1 : Ref sig .tc := ⟨.hbm, 5239, rfl⟩
abbrev main_call165_v2 : Ref sig .tc := ⟨.hbm, 5240, rfl⟩
abbrev main_call165_v3 : Ref sig .tc := ⟨.hbm, 5241, rfl⟩
abbrev main_call165_v4 : Ref sig .tc := ⟨.hbm, 5242, rfl⟩
abbrev main_v2791 : Ref sig .tc := ⟨.hbm, 5243, rfl⟩
abbrev main_v2792 : Ref sig .tc := ⟨.hbm, 5244, rfl⟩
abbrev main_c_674 : Ref sig .tc := ⟨.hbm, 5245, rfl⟩
abbrev main_v2793 : Ref sig .tc := ⟨.hbm, 5246, rfl⟩
abbrev main_v2794 : Ref sig .tc := ⟨.hbm, 5247, rfl⟩
abbrev main_v2795 : Ref sig .tc := ⟨.hbm, 5248, rfl⟩
abbrev main_v2796 : Ref sig .tc := ⟨.hbm, 5249, rfl⟩
abbrev main_v2797 : Ref sig .tc := ⟨.hbm, 5250, rfl⟩
abbrev main_v2798 : Ref sig .tc := ⟨.hbm, 5251, rfl⟩
abbrev main_call166_c : Ref sig .tc := ⟨.hbm, 5252, rfl⟩
abbrev main_call166_v0 : Ref sig .tc := ⟨.hbm, 5253, rfl⟩
abbrev main_call166_v1 : Ref sig .tc := ⟨.hbm, 5254, rfl⟩
abbrev main_call166_c_0 : Ref sig .tc := ⟨.hbm, 5255, rfl⟩
abbrev main_call166_v2 : Ref sig .tc := ⟨.hbm, 5256, rfl⟩
abbrev main_call166_v3 : Ref sig .tc := ⟨.hbm, 5257, rfl⟩
abbrev main_call166_v4 : Ref sig .tc := ⟨.hbm, 5258, rfl⟩
abbrev main_call166_v5 : Ref sig .tc := ⟨.hbm, 5259, rfl⟩
abbrev main_call166_c_1 : Ref sig .tc := ⟨.hbm, 5260, rfl⟩
abbrev main_call166_c_2 : Ref sig .tc := ⟨.hbm, 5261, rfl⟩
abbrev main_call166_v6 : Ref sig .tc := ⟨.hbm, 5262, rfl⟩
abbrev main_call166_v7 : Ref sig .tc := ⟨.hbm, 5263, rfl⟩
abbrev main_call166_v8 : Ref sig .tc := ⟨.hbm, 5264, rfl⟩
abbrev main_call166_v9 : Ref sig .tc := ⟨.hbm, 5265, rfl⟩
abbrev main_call166_v10 : Ref sig .tc := ⟨.hbm, 5266, rfl⟩
abbrev main_call166_v11 : Ref sig .tc := ⟨.hbm, 5267, rfl⟩
abbrev main_call166_c_3 : Ref sig .tc := ⟨.hbm, 5268, rfl⟩
abbrev main_call166_v12 : Ref sig .tc := ⟨.hbm, 5269, rfl⟩
abbrev main_call166_v13 : Ref sig .tc := ⟨.hbm, 5270, rfl⟩
abbrev main_call166_cst : Ref sig .tc := ⟨.hbm, 5271, rfl⟩
abbrev main_call166_v14 : Ref sig .tc := ⟨.hbm, 5272, rfl⟩
abbrev main_v2799 : Ref sig .tc := ⟨.hbm, 5273, rfl⟩
abbrev main_v2800 : Ref sig .tc := ⟨.hbm, 5274, rfl⟩
abbrev main_v2801 : Ref sig .tc := ⟨.hbm, 5275, rfl⟩
abbrev main_v2802 : Ref sig .tc := ⟨.hbm, 5276, rfl⟩
abbrev main_v2803 : Ref sig .tc := ⟨.hbm, 5277, rfl⟩
abbrev main_v2804 : Ref sig .tc := ⟨.hbm, 5278, rfl⟩
abbrev main_v2805 : Ref sig .tc := ⟨.hbm, 5279, rfl⟩
abbrev main_v2806 : Ref sig .tc := ⟨.hbm, 5280, rfl⟩
abbrev main_v2807 : Ref sig .tc := ⟨.hbm, 5281, rfl⟩
abbrev main_v2808 : Ref sig .tc := ⟨.hbm, 5282, rfl⟩
abbrev main_v2809 : Ref sig .tc := ⟨.hbm, 5283, rfl⟩
abbrev main_v2810 : Ref sig .tc := ⟨.hbm, 5284, rfl⟩
abbrev main_v2811 : Ref sig .tc := ⟨.hbm, 5285, rfl⟩
abbrev main_v2812 : Ref sig .tc := ⟨.hbm, 5286, rfl⟩
abbrev main_v2813 : Ref sig .tc := ⟨.hbm, 5287, rfl⟩
abbrev main_v2814 : Ref sig .tc := ⟨.hbm, 5288, rfl⟩
abbrev main_v2815 : Ref sig .tc := ⟨.hbm, 5289, rfl⟩
abbrev main_v2816 : Ref sig .tc := ⟨.hbm, 5290, rfl⟩
abbrev main_v2817 : Ref sig .tc := ⟨.hbm, 5291, rfl⟩
abbrev main_cst_675 : Ref sig .tc := ⟨.hbm, 5292, rfl⟩
abbrev main_v2818 : Ref sig .tc := ⟨.hbm, 5293, rfl⟩
abbrev main_v2819 : Ref sig .tc := ⟨.hbm, 5294, rfl⟩
abbrev main_cst_676 : Ref sig .tc := ⟨.hbm, 5295, rfl⟩
abbrev main_v2820 : Ref sig .tc := ⟨.hbm, 5296, rfl⟩
abbrev main_v2821 : Ref sig .tc := ⟨.hbm, 5297, rfl⟩
abbrev main_cst_677 : Ref sig .tc := ⟨.hbm, 5298, rfl⟩
abbrev main_v2822 : Ref sig .tc := ⟨.hbm, 5299, rfl⟩
abbrev main_v2823 : Ref sig .tc := ⟨.hbm, 5300, rfl⟩
abbrev main_cst_678 : Ref sig .tc := ⟨.hbm, 5301, rfl⟩
abbrev main_v2824 : Ref sig .tc := ⟨.hbm, 5302, rfl⟩
abbrev main_v2825 : Ref sig .tc := ⟨.hbm, 5303, rfl⟩
abbrev main_v2826 : Ref sig .tc := ⟨.hbm, 5304, rfl⟩
abbrev main_v2827 : Ref sig .tc := ⟨.hbm, 5305, rfl⟩
abbrev main_cst_679 : Ref sig .tc := ⟨.hbm, 5306, rfl⟩
abbrev main_v2828 : Ref sig .tc := ⟨.hbm, 5307, rfl⟩
abbrev main_v2829 : Ref sig .tc := ⟨.hbm, 5308, rfl⟩
abbrev main_cst_680 : Ref sig .tc := ⟨.hbm, 5309, rfl⟩
abbrev main_v2830 : Ref sig .tc := ⟨.hbm, 5310, rfl⟩
abbrev main_v2831 : Ref sig .tc := ⟨.hbm, 5311, rfl⟩
abbrev main_cst_681 : Ref sig .tc := ⟨.hbm, 5312, rfl⟩
abbrev main_v2832 : Ref sig .tc := ⟨.hbm, 5313, rfl⟩
abbrev main_v2833 : Ref sig .tc := ⟨.hbm, 5314, rfl⟩
abbrev main_cst_682 : Ref sig .tc := ⟨.hbm, 5315, rfl⟩
abbrev main_v2834 : Ref sig .tc := ⟨.hbm, 5316, rfl⟩
abbrev main_v2835 : Ref sig .tc := ⟨.hbm, 5317, rfl⟩
abbrev main_v2836 : Ref sig .tc := ⟨.hbm, 5318, rfl⟩
abbrev main_v2837 : Ref sig .tc := ⟨.hbm, 5319, rfl⟩
abbrev main_cst_683 : Ref sig .tc := ⟨.hbm, 5320, rfl⟩
abbrev main_v2838 : Ref sig .tc := ⟨.hbm, 5321, rfl⟩
abbrev main_v2839 : Ref sig .tc := ⟨.hbm, 5322, rfl⟩
abbrev main_cst_684 : Ref sig .tc := ⟨.hbm, 5323, rfl⟩
abbrev main_v2840 : Ref sig .tc := ⟨.hbm, 5324, rfl⟩
abbrev main_v2841 : Ref sig .tc := ⟨.hbm, 5325, rfl⟩
abbrev main_v2842 : Ref sig .tc := ⟨.hbm, 5326, rfl⟩
abbrev main_v2843 : Ref sig .tc := ⟨.hbm, 5327, rfl⟩
abbrev main_v2844 : Ref sig .tc := ⟨.hbm, 5328, rfl⟩
abbrev main_v2845 : Ref sig .tc := ⟨.hbm, 5329, rfl⟩
abbrev main_v2846 : Ref sig .tc := ⟨.hbm, 5330, rfl⟩
abbrev main_v2847 : Ref sig .tc := ⟨.hbm, 5331, rfl⟩
abbrev main_v2848 : Ref sig .tc := ⟨.hbm, 5332, rfl⟩
abbrev main_v2849 : Ref sig .tc := ⟨.hbm, 5333, rfl⟩
abbrev main_v2850 : Ref sig .tc := ⟨.hbm, 5334, rfl⟩
abbrev main_v2851 : Ref sig .tc := ⟨.hbm, 5335, rfl⟩
abbrev main_v2852 : Ref sig .tc := ⟨.hbm, 5336, rfl⟩
abbrev main_v2853 : Ref sig .tc := ⟨.hbm, 5337, rfl⟩
abbrev main_v2854 : Ref sig .tc := ⟨.hbm, 5338, rfl⟩
abbrev main_cst_685 : Ref sig .tc := ⟨.hbm, 5339, rfl⟩
abbrev main_v2855 : Ref sig .tc := ⟨.hbm, 5340, rfl⟩
abbrev main_v2856 : Ref sig .tc := ⟨.hbm, 5341, rfl⟩
abbrev main_cst_686 : Ref sig .tc := ⟨.hbm, 5342, rfl⟩
abbrev main_v2857 : Ref sig .tc := ⟨.hbm, 5343, rfl⟩
abbrev main_v2858 : Ref sig .tc := ⟨.hbm, 5344, rfl⟩
abbrev main_v2859 : Ref sig .tc := ⟨.hbm, 5345, rfl⟩
abbrev main_cst_687 : Ref sig .tc := ⟨.hbm, 5346, rfl⟩
abbrev main_v2860 : Ref sig .tc := ⟨.hbm, 5347, rfl⟩
abbrev main_v2861 : Ref sig .tc := ⟨.hbm, 5348, rfl⟩
abbrev main_v2862 : Ref sig .tc := ⟨.hbm, 5349, rfl⟩
abbrev main_cst_688 : Ref sig .tc := ⟨.hbm, 5350, rfl⟩
abbrev main_v2863 : Ref sig .tc := ⟨.hbm, 5351, rfl⟩
abbrev main_v2864 : Ref sig .tc := ⟨.hbm, 5352, rfl⟩
abbrev main_v2865 : Ref sig .tc := ⟨.hbm, 5353, rfl⟩
abbrev main_c_689 : Ref sig .tc := ⟨.hbm, 5354, rfl⟩
abbrev main_c_690 : Ref sig .tc := ⟨.hbm, 5355, rfl⟩
abbrev main_call167_v0 : Ref sig .tc := ⟨.hbm, 5356, rfl⟩
abbrev main_call167_v1 : Ref sig .tc := ⟨.hbm, 5357, rfl⟩
abbrev main_call167_v2 : Ref sig .tc := ⟨.hbm, 5358, rfl⟩
abbrev main_call167_v3 : Ref sig .tc := ⟨.hbm, 5359, rfl⟩
abbrev main_call167_v4 : Ref sig .tc := ⟨.hbm, 5360, rfl⟩
abbrev main_v2866 : Ref sig .tc := ⟨.hbm, 5361, rfl⟩
abbrev main_v2867 : Ref sig .tc := ⟨.hbm, 5362, rfl⟩
abbrev main_c_691 : Ref sig .tc := ⟨.hbm, 5363, rfl⟩
abbrev main_c_692 : Ref sig .tc := ⟨.hbm, 5364, rfl⟩
abbrev main_call168_v0 : Ref sig .tc := ⟨.hbm, 5365, rfl⟩
abbrev main_call168_v1 : Ref sig .tc := ⟨.hbm, 5366, rfl⟩
abbrev main_call168_v2 : Ref sig .tc := ⟨.hbm, 5367, rfl⟩
abbrev main_call168_v3 : Ref sig .tc := ⟨.hbm, 5368, rfl⟩
abbrev main_call168_v4 : Ref sig .tc := ⟨.hbm, 5369, rfl⟩
abbrev main_v2868 : Ref sig .tc := ⟨.hbm, 5370, rfl⟩
abbrev main_v2869 : Ref sig .tc := ⟨.hbm, 5371, rfl⟩
abbrev main_c_693 : Ref sig .tc := ⟨.hbm, 5372, rfl⟩
abbrev main_v2870 : Ref sig .tc := ⟨.hbm, 5373, rfl⟩
abbrev main_v2871 : Ref sig .tc := ⟨.hbm, 5374, rfl⟩
abbrev main_v2872 : Ref sig .tc := ⟨.hbm, 5375, rfl⟩
abbrev main_v2873 : Ref sig .tc := ⟨.hbm, 5376, rfl⟩
abbrev main_v2874 : Ref sig .tc := ⟨.hbm, 5377, rfl⟩
abbrev main_v2875 : Ref sig .tc := ⟨.hbm, 5378, rfl⟩
abbrev main_call169_c : Ref sig .tc := ⟨.hbm, 5379, rfl⟩
abbrev main_call169_v0 : Ref sig .tc := ⟨.hbm, 5380, rfl⟩
abbrev main_call169_v1 : Ref sig .tc := ⟨.hbm, 5381, rfl⟩
abbrev main_call169_c_0 : Ref sig .tc := ⟨.hbm, 5382, rfl⟩
abbrev main_call169_v2 : Ref sig .tc := ⟨.hbm, 5383, rfl⟩
abbrev main_call169_v3 : Ref sig .tc := ⟨.hbm, 5384, rfl⟩
abbrev main_call169_v4 : Ref sig .tc := ⟨.hbm, 5385, rfl⟩
abbrev main_call169_v5 : Ref sig .tc := ⟨.hbm, 5386, rfl⟩
abbrev main_call169_c_1 : Ref sig .tc := ⟨.hbm, 5387, rfl⟩
abbrev main_call169_c_2 : Ref sig .tc := ⟨.hbm, 5388, rfl⟩
abbrev main_call169_v6 : Ref sig .tc := ⟨.hbm, 5389, rfl⟩
abbrev main_call169_v7 : Ref sig .tc := ⟨.hbm, 5390, rfl⟩
abbrev main_call169_v8 : Ref sig .tc := ⟨.hbm, 5391, rfl⟩
abbrev main_call169_v9 : Ref sig .tc := ⟨.hbm, 5392, rfl⟩
abbrev main_call169_v10 : Ref sig .tc := ⟨.hbm, 5393, rfl⟩
abbrev main_call169_v11 : Ref sig .tc := ⟨.hbm, 5394, rfl⟩
abbrev main_call169_c_3 : Ref sig .tc := ⟨.hbm, 5395, rfl⟩
abbrev main_call169_v12 : Ref sig .tc := ⟨.hbm, 5396, rfl⟩
abbrev main_call169_v13 : Ref sig .tc := ⟨.hbm, 5397, rfl⟩
abbrev main_call169_cst : Ref sig .tc := ⟨.hbm, 5398, rfl⟩
abbrev main_call169_v14 : Ref sig .tc := ⟨.hbm, 5399, rfl⟩
abbrev main_v2876 : Ref sig .tc := ⟨.hbm, 5400, rfl⟩
abbrev main_v2877 : Ref sig .tc := ⟨.hbm, 5401, rfl⟩
abbrev main_v2878 : Ref sig .tc := ⟨.hbm, 5402, rfl⟩
abbrev main_v2879 : Ref sig .tc := ⟨.hbm, 5403, rfl⟩
abbrev main_v2880 : Ref sig .tc := ⟨.hbm, 5404, rfl⟩
abbrev main_v2881 : Ref sig .tc := ⟨.hbm, 5405, rfl⟩
abbrev main_v2882 : Ref sig .tc := ⟨.hbm, 5406, rfl⟩
abbrev main_v2883 : Ref sig .tc := ⟨.hbm, 5407, rfl⟩
abbrev main_v2884 : Ref sig .tc := ⟨.hbm, 5408, rfl⟩
abbrev main_cst_694 : Ref sig .tc := ⟨.hbm, 5409, rfl⟩
abbrev main_v2885 : Ref sig .tc := ⟨.hbm, 5410, rfl⟩
abbrev main_v2886 : Ref sig .tc := ⟨.hbm, 5411, rfl⟩
abbrev main_cst_695 : Ref sig .tc := ⟨.hbm, 5412, rfl⟩
abbrev main_v2887 : Ref sig .tc := ⟨.hbm, 5413, rfl⟩
abbrev main_v2888 : Ref sig .tc := ⟨.hbm, 5414, rfl⟩
abbrev main_v2889 : Ref sig .tc := ⟨.hbm, 5415, rfl⟩
abbrev main_cst_696 : Ref sig .tc := ⟨.hbm, 5416, rfl⟩
abbrev main_v2890 : Ref sig .tc := ⟨.hbm, 5417, rfl⟩
abbrev main_v2891 : Ref sig .tc := ⟨.hbm, 5418, rfl⟩
abbrev main_v2892 : Ref sig .tc := ⟨.hbm, 5419, rfl⟩
abbrev main_cst_697 : Ref sig .tc := ⟨.hbm, 5420, rfl⟩
abbrev main_v2893 : Ref sig .tc := ⟨.hbm, 5421, rfl⟩
abbrev main_v2894 : Ref sig .tc := ⟨.hbm, 5422, rfl⟩
abbrev main_v2895 : Ref sig .tc := ⟨.hbm, 5423, rfl⟩
abbrev main_c_698 : Ref sig .tc := ⟨.hbm, 5424, rfl⟩
abbrev main_c_699 : Ref sig .tc := ⟨.hbm, 5425, rfl⟩
abbrev main_call170_v0 : Ref sig .tc := ⟨.hbm, 5426, rfl⟩
abbrev main_call170_v1 : Ref sig .tc := ⟨.hbm, 5427, rfl⟩
abbrev main_call170_v2 : Ref sig .tc := ⟨.hbm, 5428, rfl⟩
abbrev main_call170_v3 : Ref sig .tc := ⟨.hbm, 5429, rfl⟩
abbrev main_call170_v4 : Ref sig .tc := ⟨.hbm, 5430, rfl⟩
abbrev main_v2896 : Ref sig .tc := ⟨.hbm, 5431, rfl⟩
abbrev main_v2897 : Ref sig .tc := ⟨.hbm, 5432, rfl⟩
abbrev main_c_700 : Ref sig .tc := ⟨.hbm, 5433, rfl⟩
abbrev main_c_701 : Ref sig .tc := ⟨.hbm, 5434, rfl⟩
abbrev main_call171_v0 : Ref sig .tc := ⟨.hbm, 5435, rfl⟩
abbrev main_call171_v1 : Ref sig .tc := ⟨.hbm, 5436, rfl⟩
abbrev main_call171_v2 : Ref sig .tc := ⟨.hbm, 5437, rfl⟩
abbrev main_call171_v3 : Ref sig .tc := ⟨.hbm, 5438, rfl⟩
abbrev main_call171_v4 : Ref sig .tc := ⟨.hbm, 5439, rfl⟩
abbrev main_v2898 : Ref sig .tc := ⟨.hbm, 5440, rfl⟩
abbrev main_v2899 : Ref sig .tc := ⟨.hbm, 5441, rfl⟩
abbrev main_c_702 : Ref sig .tc := ⟨.hbm, 5442, rfl⟩
abbrev main_v2900 : Ref sig .tc := ⟨.hbm, 5443, rfl⟩
abbrev main_v2901 : Ref sig .tc := ⟨.hbm, 5444, rfl⟩
abbrev main_v2902 : Ref sig .tc := ⟨.hbm, 5445, rfl⟩
abbrev main_v2903 : Ref sig .tc := ⟨.hbm, 5446, rfl⟩
abbrev main_v2904 : Ref sig .tc := ⟨.hbm, 5447, rfl⟩
abbrev main_v2905 : Ref sig .tc := ⟨.hbm, 5448, rfl⟩
abbrev main_call172_c : Ref sig .tc := ⟨.hbm, 5449, rfl⟩
abbrev main_call172_v0 : Ref sig .tc := ⟨.hbm, 5450, rfl⟩
abbrev main_call172_v1 : Ref sig .tc := ⟨.hbm, 5451, rfl⟩
abbrev main_call172_c_0 : Ref sig .tc := ⟨.hbm, 5452, rfl⟩
abbrev main_call172_v2 : Ref sig .tc := ⟨.hbm, 5453, rfl⟩
abbrev main_call172_v3 : Ref sig .tc := ⟨.hbm, 5454, rfl⟩
abbrev main_call172_v4 : Ref sig .tc := ⟨.hbm, 5455, rfl⟩
abbrev main_call172_v5 : Ref sig .tc := ⟨.hbm, 5456, rfl⟩
abbrev main_call172_c_1 : Ref sig .tc := ⟨.hbm, 5457, rfl⟩
abbrev main_call172_c_2 : Ref sig .tc := ⟨.hbm, 5458, rfl⟩
abbrev main_call172_v6 : Ref sig .tc := ⟨.hbm, 5459, rfl⟩
abbrev main_call172_v7 : Ref sig .tc := ⟨.hbm, 5460, rfl⟩
abbrev main_call172_v8 : Ref sig .tc := ⟨.hbm, 5461, rfl⟩
abbrev main_call172_v9 : Ref sig .tc := ⟨.hbm, 5462, rfl⟩
abbrev main_call172_v10 : Ref sig .tc := ⟨.hbm, 5463, rfl⟩
abbrev main_call172_v11 : Ref sig .tc := ⟨.hbm, 5464, rfl⟩
abbrev main_call172_c_3 : Ref sig .tc := ⟨.hbm, 5465, rfl⟩
abbrev main_call172_v12 : Ref sig .tc := ⟨.hbm, 5466, rfl⟩
abbrev main_call172_v13 : Ref sig .tc := ⟨.hbm, 5467, rfl⟩
abbrev main_call172_cst : Ref sig .tc := ⟨.hbm, 5468, rfl⟩
abbrev main_call172_v14 : Ref sig .tc := ⟨.hbm, 5469, rfl⟩
abbrev main_v2906 : Ref sig .tc := ⟨.hbm, 5470, rfl⟩
abbrev main_v2907 : Ref sig .tc := ⟨.hbm, 5471, rfl⟩
abbrev main_v2908 : Ref sig .tc := ⟨.hbm, 5472, rfl⟩
abbrev main_v2909 : Ref sig .tc := ⟨.hbm, 5473, rfl⟩
abbrev main_v2910 : Ref sig .tc := ⟨.hbm, 5474, rfl⟩
abbrev main_v2911 : Ref sig .tc := ⟨.hbm, 5475, rfl⟩
abbrev main_v2912 : Ref sig .tc := ⟨.hbm, 5476, rfl⟩
abbrev main_v2913 : Ref sig .tc := ⟨.hbm, 5477, rfl⟩
abbrev main_v2914 : Ref sig .tc := ⟨.hbm, 5478, rfl⟩
abbrev main_v2915 : Ref sig .tc := ⟨.hbm, 5479, rfl⟩
abbrev main_cst_703 : Ref sig .tc := ⟨.hbm, 5480, rfl⟩
abbrev main_v2916 : Ref sig .tc := ⟨.hbm, 5481, rfl⟩
abbrev main_v2917 : Ref sig .tc := ⟨.hbm, 5482, rfl⟩
abbrev main_cst_704 : Ref sig .tc := ⟨.hbm, 5483, rfl⟩
abbrev main_v2918 : Ref sig .tc := ⟨.hbm, 5484, rfl⟩
abbrev main_v2919 : Ref sig .tc := ⟨.hbm, 5485, rfl⟩
abbrev main_v2920 : Ref sig .tc := ⟨.hbm, 5486, rfl⟩
abbrev main_cst_705 : Ref sig .tc := ⟨.hbm, 5487, rfl⟩
abbrev main_v2921 : Ref sig .tc := ⟨.hbm, 5488, rfl⟩
abbrev main_v2922 : Ref sig .tc := ⟨.hbm, 5489, rfl⟩
abbrev main_v2923 : Ref sig .tc := ⟨.hbm, 5490, rfl⟩
abbrev main_cst_706 : Ref sig .tc := ⟨.hbm, 5491, rfl⟩
abbrev main_v2924 : Ref sig .tc := ⟨.hbm, 5492, rfl⟩
abbrev main_v2925 : Ref sig .tc := ⟨.hbm, 5493, rfl⟩
abbrev main_v2926 : Ref sig .tc := ⟨.hbm, 5494, rfl⟩
abbrev main_c_707 : Ref sig .tc := ⟨.hbm, 5495, rfl⟩
abbrev main_c_708 : Ref sig .tc := ⟨.hbm, 5496, rfl⟩
abbrev main_call173_v0 : Ref sig .tc := ⟨.hbm, 5497, rfl⟩
abbrev main_call173_v1 : Ref sig .tc := ⟨.hbm, 5498, rfl⟩
abbrev main_call173_v2 : Ref sig .tc := ⟨.hbm, 5499, rfl⟩
abbrev main_call173_v3 : Ref sig .tc := ⟨.hbm, 5500, rfl⟩
abbrev main_call173_v4 : Ref sig .tc := ⟨.hbm, 5501, rfl⟩
abbrev main_v2927 : Ref sig .tc := ⟨.hbm, 5502, rfl⟩
abbrev main_v2928 : Ref sig .tc := ⟨.hbm, 5503, rfl⟩
abbrev main_c_709 : Ref sig .tc := ⟨.hbm, 5504, rfl⟩
abbrev main_c_710 : Ref sig .tc := ⟨.hbm, 5505, rfl⟩
abbrev main_call174_v0 : Ref sig .tc := ⟨.hbm, 5506, rfl⟩
abbrev main_call174_v1 : Ref sig .tc := ⟨.hbm, 5507, rfl⟩
abbrev main_call174_v2 : Ref sig .tc := ⟨.hbm, 5508, rfl⟩
abbrev main_call174_v3 : Ref sig .tc := ⟨.hbm, 5509, rfl⟩
abbrev main_call174_v4 : Ref sig .tc := ⟨.hbm, 5510, rfl⟩
abbrev main_v2929 : Ref sig .tc := ⟨.hbm, 5511, rfl⟩
abbrev main_v2930 : Ref sig .tc := ⟨.hbm, 5512, rfl⟩
abbrev main_c_711 : Ref sig .tc := ⟨.hbm, 5513, rfl⟩
abbrev main_v2931 : Ref sig .tc := ⟨.hbm, 5514, rfl⟩
abbrev main_v2932 : Ref sig .tc := ⟨.hbm, 5515, rfl⟩
abbrev main_v2933 : Ref sig .tc := ⟨.hbm, 5516, rfl⟩
abbrev main_v2934 : Ref sig .tc := ⟨.hbm, 5517, rfl⟩
abbrev main_v2935 : Ref sig .tc := ⟨.hbm, 5518, rfl⟩
abbrev main_v2936 : Ref sig .tc := ⟨.hbm, 5519, rfl⟩
abbrev main_call175_c : Ref sig .tc := ⟨.hbm, 5520, rfl⟩
abbrev main_call175_v0 : Ref sig .tc := ⟨.hbm, 5521, rfl⟩
abbrev main_call175_v1 : Ref sig .tc := ⟨.hbm, 5522, rfl⟩
abbrev main_call175_c_0 : Ref sig .tc := ⟨.hbm, 5523, rfl⟩
abbrev main_call175_v2 : Ref sig .tc := ⟨.hbm, 5524, rfl⟩
abbrev main_call175_v3 : Ref sig .tc := ⟨.hbm, 5525, rfl⟩
abbrev main_call175_v4 : Ref sig .tc := ⟨.hbm, 5526, rfl⟩
abbrev main_call175_v5 : Ref sig .tc := ⟨.hbm, 5527, rfl⟩
abbrev main_call175_c_1 : Ref sig .tc := ⟨.hbm, 5528, rfl⟩
abbrev main_call175_c_2 : Ref sig .tc := ⟨.hbm, 5529, rfl⟩
abbrev main_call175_v6 : Ref sig .tc := ⟨.hbm, 5530, rfl⟩
abbrev main_call175_v7 : Ref sig .tc := ⟨.hbm, 5531, rfl⟩
abbrev main_call175_v8 : Ref sig .tc := ⟨.hbm, 5532, rfl⟩
abbrev main_call175_v9 : Ref sig .tc := ⟨.hbm, 5533, rfl⟩
abbrev main_call175_v10 : Ref sig .tc := ⟨.hbm, 5534, rfl⟩
abbrev main_call175_v11 : Ref sig .tc := ⟨.hbm, 5535, rfl⟩
abbrev main_call175_c_3 : Ref sig .tc := ⟨.hbm, 5536, rfl⟩
abbrev main_call175_v12 : Ref sig .tc := ⟨.hbm, 5537, rfl⟩
abbrev main_call175_v13 : Ref sig .tc := ⟨.hbm, 5538, rfl⟩
abbrev main_call175_cst : Ref sig .tc := ⟨.hbm, 5539, rfl⟩
abbrev main_call175_v14 : Ref sig .tc := ⟨.hbm, 5540, rfl⟩
abbrev main_v2937 : Ref sig .tc := ⟨.hbm, 5541, rfl⟩
abbrev main_v2938 : Ref sig .tc := ⟨.hbm, 5542, rfl⟩
abbrev main_v2939 : Ref sig .tc := ⟨.hbm, 5543, rfl⟩
abbrev main_v2940 : Ref sig .tc := ⟨.hbm, 5544, rfl⟩
abbrev main_v2941 : Ref sig .tc := ⟨.hbm, 5545, rfl⟩
abbrev main_v2942 : Ref sig .tc := ⟨.hbm, 5546, rfl⟩
abbrev main_v2943 : Ref sig .tc := ⟨.hbm, 5547, rfl⟩
abbrev main_v2944 : Ref sig .tc := ⟨.hbm, 5548, rfl⟩
abbrev main_v2945 : Ref sig .tc := ⟨.hbm, 5549, rfl⟩
abbrev main_v2946 : Ref sig .tc := ⟨.hbm, 5550, rfl⟩
abbrev main_cst_712 : Ref sig .tc := ⟨.hbm, 5551, rfl⟩
abbrev main_v2947 : Ref sig .tc := ⟨.hbm, 5552, rfl⟩
abbrev main_v2948 : Ref sig .tc := ⟨.hbm, 5553, rfl⟩
abbrev main_cst_713 : Ref sig .tc := ⟨.hbm, 5554, rfl⟩
abbrev main_v2949 : Ref sig .tc := ⟨.hbm, 5555, rfl⟩
abbrev main_v2950 : Ref sig .tc := ⟨.hbm, 5556, rfl⟩
abbrev main_v2951 : Ref sig .tc := ⟨.hbm, 5557, rfl⟩
abbrev main_cst_714 : Ref sig .tc := ⟨.hbm, 5558, rfl⟩
abbrev main_v2952 : Ref sig .tc := ⟨.hbm, 5559, rfl⟩
abbrev main_v2953 : Ref sig .tc := ⟨.hbm, 5560, rfl⟩
abbrev main_v2954 : Ref sig .tc := ⟨.hbm, 5561, rfl⟩
abbrev main_cst_715 : Ref sig .tc := ⟨.hbm, 5562, rfl⟩
abbrev main_v2955 : Ref sig .tc := ⟨.hbm, 5563, rfl⟩
abbrev main_v2956 : Ref sig .tc := ⟨.hbm, 5564, rfl⟩
abbrev main_v2957 : Ref sig .tc := ⟨.hbm, 5565, rfl⟩
abbrev main_c_716 : Ref sig .tc := ⟨.hbm, 5566, rfl⟩
abbrev main_c_717 : Ref sig .tc := ⟨.hbm, 5567, rfl⟩
abbrev main_call176_v0 : Ref sig .tc := ⟨.hbm, 5568, rfl⟩
abbrev main_call176_v1 : Ref sig .tc := ⟨.hbm, 5569, rfl⟩
abbrev main_call176_v2 : Ref sig .tc := ⟨.hbm, 5570, rfl⟩
abbrev main_call176_v3 : Ref sig .tc := ⟨.hbm, 5571, rfl⟩
abbrev main_call176_v4 : Ref sig .tc := ⟨.hbm, 5572, rfl⟩
abbrev main_v2958 : Ref sig .tc := ⟨.hbm, 5573, rfl⟩
abbrev main_v2959 : Ref sig .tc := ⟨.hbm, 5574, rfl⟩
abbrev main_c_718 : Ref sig .tc := ⟨.hbm, 5575, rfl⟩
abbrev main_c_719 : Ref sig .tc := ⟨.hbm, 5576, rfl⟩
abbrev main_call177_v0 : Ref sig .tc := ⟨.hbm, 5577, rfl⟩
abbrev main_call177_v1 : Ref sig .tc := ⟨.hbm, 5578, rfl⟩
abbrev main_call177_v2 : Ref sig .tc := ⟨.hbm, 5579, rfl⟩
abbrev main_call177_v3 : Ref sig .tc := ⟨.hbm, 5580, rfl⟩
abbrev main_call177_v4 : Ref sig .tc := ⟨.hbm, 5581, rfl⟩
abbrev main_v2960 : Ref sig .tc := ⟨.hbm, 5582, rfl⟩
abbrev main_v2961 : Ref sig .tc := ⟨.hbm, 5583, rfl⟩
abbrev main_c_720 : Ref sig .tc := ⟨.hbm, 5584, rfl⟩
abbrev main_v2962 : Ref sig .tc := ⟨.hbm, 5585, rfl⟩
abbrev main_v2963 : Ref sig .tc := ⟨.hbm, 5586, rfl⟩
abbrev main_v2964 : Ref sig .tc := ⟨.hbm, 5587, rfl⟩
abbrev main_v2965 : Ref sig .tc := ⟨.hbm, 5588, rfl⟩
abbrev main_v2966 : Ref sig .tc := ⟨.hbm, 5589, rfl⟩
abbrev main_v2967 : Ref sig .tc := ⟨.hbm, 5590, rfl⟩
abbrev main_call178_c : Ref sig .tc := ⟨.hbm, 5591, rfl⟩
abbrev main_call178_v0 : Ref sig .tc := ⟨.hbm, 5592, rfl⟩
abbrev main_call178_v1 : Ref sig .tc := ⟨.hbm, 5593, rfl⟩
abbrev main_call178_c_0 : Ref sig .tc := ⟨.hbm, 5594, rfl⟩
abbrev main_call178_v2 : Ref sig .tc := ⟨.hbm, 5595, rfl⟩
abbrev main_call178_v3 : Ref sig .tc := ⟨.hbm, 5596, rfl⟩
abbrev main_call178_v4 : Ref sig .tc := ⟨.hbm, 5597, rfl⟩
abbrev main_call178_v5 : Ref sig .tc := ⟨.hbm, 5598, rfl⟩
abbrev main_call178_c_1 : Ref sig .tc := ⟨.hbm, 5599, rfl⟩
abbrev main_call178_c_2 : Ref sig .tc := ⟨.hbm, 5600, rfl⟩
abbrev main_call178_v6 : Ref sig .tc := ⟨.hbm, 5601, rfl⟩
abbrev main_call178_v7 : Ref sig .tc := ⟨.hbm, 5602, rfl⟩
abbrev main_call178_v8 : Ref sig .tc := ⟨.hbm, 5603, rfl⟩
abbrev main_call178_v9 : Ref sig .tc := ⟨.hbm, 5604, rfl⟩
abbrev main_call178_v10 : Ref sig .tc := ⟨.hbm, 5605, rfl⟩
abbrev main_call178_v11 : Ref sig .tc := ⟨.hbm, 5606, rfl⟩
abbrev main_call178_c_3 : Ref sig .tc := ⟨.hbm, 5607, rfl⟩
abbrev main_call178_v12 : Ref sig .tc := ⟨.hbm, 5608, rfl⟩
abbrev main_call178_v13 : Ref sig .tc := ⟨.hbm, 5609, rfl⟩
abbrev main_call178_cst : Ref sig .tc := ⟨.hbm, 5610, rfl⟩
abbrev main_call178_v14 : Ref sig .tc := ⟨.hbm, 5611, rfl⟩
abbrev main_v2968 : Ref sig .tc := ⟨.hbm, 5612, rfl⟩
abbrev main_v2969 : Ref sig .tc := ⟨.hbm, 5613, rfl⟩
abbrev main_v2970 : Ref sig .tc := ⟨.hbm, 5614, rfl⟩
abbrev main_v2971 : Ref sig .tc := ⟨.hbm, 5615, rfl⟩
abbrev main_v2972 : Ref sig .tc := ⟨.hbm, 5616, rfl⟩
abbrev main_v2973 : Ref sig .tc := ⟨.hbm, 5617, rfl⟩
abbrev main_v2974 : Ref sig .tc := ⟨.hbm, 5618, rfl⟩
abbrev main_v2975 : Ref sig .tc := ⟨.hbm, 5619, rfl⟩
abbrev main_v2976 : Ref sig .tc := ⟨.hbm, 5620, rfl⟩
abbrev main_v2977 : Ref sig .tc := ⟨.hbm, 5621, rfl⟩
abbrev main_v2978 : Ref sig .tc := ⟨.hbm, 5622, rfl⟩
abbrev main_v2979 : Ref sig .tc := ⟨.hbm, 5623, rfl⟩
abbrev main_v2980 : Ref sig .tc := ⟨.hbm, 5624, rfl⟩
abbrev main_v2981 : Ref sig .tc := ⟨.hbm, 5625, rfl⟩
abbrev main_v2982 : Ref sig .tc := ⟨.hbm, 5626, rfl⟩
abbrev main_v2983 : Ref sig .tc := ⟨.hbm, 5627, rfl⟩
abbrev main_v2984 : Ref sig .tc := ⟨.hbm, 5628, rfl⟩
abbrev main_v2985 : Ref sig .tc := ⟨.hbm, 5629, rfl⟩
abbrev main_v2986 : Ref sig .tc := ⟨.hbm, 5630, rfl⟩
abbrev main_cst_721 : Ref sig .tc := ⟨.hbm, 5631, rfl⟩
abbrev main_v2987 : Ref sig .tc := ⟨.hbm, 5632, rfl⟩
abbrev main_v2988 : Ref sig .tc := ⟨.hbm, 5633, rfl⟩
abbrev main_cst_722 : Ref sig .tc := ⟨.hbm, 5634, rfl⟩
abbrev main_v2989 : Ref sig .tc := ⟨.hbm, 5635, rfl⟩
abbrev main_v2990 : Ref sig .tc := ⟨.hbm, 5636, rfl⟩
abbrev main_cst_723 : Ref sig .tc := ⟨.hbm, 5637, rfl⟩
abbrev main_v2991 : Ref sig .tc := ⟨.hbm, 5638, rfl⟩
abbrev main_v2992 : Ref sig .tc := ⟨.hbm, 5639, rfl⟩
abbrev main_cst_724 : Ref sig .tc := ⟨.hbm, 5640, rfl⟩
abbrev main_v2993 : Ref sig .tc := ⟨.hbm, 5641, rfl⟩
abbrev main_v2994 : Ref sig .tc := ⟨.hbm, 5642, rfl⟩
abbrev main_v2995 : Ref sig .tc := ⟨.hbm, 5643, rfl⟩
abbrev main_v2996 : Ref sig .tc := ⟨.hbm, 5644, rfl⟩
abbrev main_cst_725 : Ref sig .tc := ⟨.hbm, 5645, rfl⟩
abbrev main_v2997 : Ref sig .tc := ⟨.hbm, 5646, rfl⟩
abbrev main_v2998 : Ref sig .tc := ⟨.hbm, 5647, rfl⟩
abbrev main_cst_726 : Ref sig .tc := ⟨.hbm, 5648, rfl⟩
abbrev main_v2999 : Ref sig .tc := ⟨.hbm, 5649, rfl⟩
abbrev main_v3000 : Ref sig .tc := ⟨.hbm, 5650, rfl⟩
abbrev main_cst_727 : Ref sig .tc := ⟨.hbm, 5651, rfl⟩
abbrev main_v3001 : Ref sig .tc := ⟨.hbm, 5652, rfl⟩
abbrev main_v3002 : Ref sig .tc := ⟨.hbm, 5653, rfl⟩
abbrev main_cst_728 : Ref sig .tc := ⟨.hbm, 5654, rfl⟩
abbrev main_v3003 : Ref sig .tc := ⟨.hbm, 5655, rfl⟩
abbrev main_v3004 : Ref sig .tc := ⟨.hbm, 5656, rfl⟩
abbrev main_v3005 : Ref sig .tc := ⟨.hbm, 5657, rfl⟩
abbrev main_v3006 : Ref sig .tc := ⟨.hbm, 5658, rfl⟩
abbrev main_cst_729 : Ref sig .tc := ⟨.hbm, 5659, rfl⟩
abbrev main_v3007 : Ref sig .tc := ⟨.hbm, 5660, rfl⟩
abbrev main_v3008 : Ref sig .tc := ⟨.hbm, 5661, rfl⟩
abbrev main_cst_730 : Ref sig .tc := ⟨.hbm, 5662, rfl⟩
abbrev main_v3009 : Ref sig .tc := ⟨.hbm, 5663, rfl⟩
abbrev main_v3010 : Ref sig .tc := ⟨.hbm, 5664, rfl⟩
abbrev main_v3011 : Ref sig .tc := ⟨.hbm, 5665, rfl⟩
abbrev main_v3012 : Ref sig .tc := ⟨.hbm, 5666, rfl⟩
abbrev main_v3013 : Ref sig .tc := ⟨.hbm, 5667, rfl⟩
abbrev main_v3014 : Ref sig .tc := ⟨.hbm, 5668, rfl⟩
abbrev main_v3015 : Ref sig .tc := ⟨.hbm, 5669, rfl⟩
abbrev main_v3016 : Ref sig .tc := ⟨.hbm, 5670, rfl⟩
abbrev main_v3017 : Ref sig .tc := ⟨.hbm, 5671, rfl⟩
abbrev main_v3018 : Ref sig .tc := ⟨.hbm, 5672, rfl⟩
abbrev main_v3019 : Ref sig .tc := ⟨.hbm, 5673, rfl⟩
abbrev main_v3020 : Ref sig .tc := ⟨.hbm, 5674, rfl⟩
abbrev main_v3021 : Ref sig .tc := ⟨.hbm, 5675, rfl⟩
abbrev main_v3022 : Ref sig .tc := ⟨.hbm, 5676, rfl⟩
abbrev main_v3023 : Ref sig .tc := ⟨.hbm, 5677, rfl⟩
abbrev main_cst_731 : Ref sig .tc := ⟨.hbm, 5678, rfl⟩
abbrev main_v3024 : Ref sig .tc := ⟨.hbm, 5679, rfl⟩
abbrev main_v3025 : Ref sig .tc := ⟨.hbm, 5680, rfl⟩
abbrev main_cst_732 : Ref sig .tc := ⟨.hbm, 5681, rfl⟩
abbrev main_v3026 : Ref sig .tc := ⟨.hbm, 5682, rfl⟩
abbrev main_v3027 : Ref sig .tc := ⟨.hbm, 5683, rfl⟩
abbrev main_v3028 : Ref sig .tc := ⟨.hbm, 5684, rfl⟩
abbrev main_cst_733 : Ref sig .tc := ⟨.hbm, 5685, rfl⟩
abbrev main_v3029 : Ref sig .tc := ⟨.hbm, 5686, rfl⟩
abbrev main_v3030 : Ref sig .tc := ⟨.hbm, 5687, rfl⟩
abbrev main_v3031 : Ref sig .tc := ⟨.hbm, 5688, rfl⟩
abbrev main_cst_734 : Ref sig .tc := ⟨.hbm, 5689, rfl⟩
abbrev main_v3032 : Ref sig .tc := ⟨.hbm, 5690, rfl⟩
abbrev main_v3033 : Ref sig .tc := ⟨.hbm, 5691, rfl⟩
abbrev main_v3034 : Ref sig .tc := ⟨.hbm, 5692, rfl⟩
abbrev main_c_735 : Ref sig .tc := ⟨.hbm, 5693, rfl⟩
abbrev main_c_736 : Ref sig .tc := ⟨.hbm, 5694, rfl⟩
abbrev main_call179_v0 : Ref sig .tc := ⟨.hbm, 5695, rfl⟩
abbrev main_call179_v1 : Ref sig .tc := ⟨.hbm, 5696, rfl⟩
abbrev main_call179_v2 : Ref sig .tc := ⟨.hbm, 5697, rfl⟩
abbrev main_call179_v3 : Ref sig .tc := ⟨.hbm, 5698, rfl⟩
abbrev main_call179_v4 : Ref sig .tc := ⟨.hbm, 5699, rfl⟩
abbrev main_v3035 : Ref sig .tc := ⟨.hbm, 5700, rfl⟩
abbrev main_v3036 : Ref sig .tc := ⟨.hbm, 5701, rfl⟩
abbrev main_c_737 : Ref sig .tc := ⟨.hbm, 5702, rfl⟩
abbrev main_c_738 : Ref sig .tc := ⟨.hbm, 5703, rfl⟩
abbrev main_call180_v0 : Ref sig .tc := ⟨.hbm, 5704, rfl⟩
abbrev main_call180_v1 : Ref sig .tc := ⟨.hbm, 5705, rfl⟩
abbrev main_call180_v2 : Ref sig .tc := ⟨.hbm, 5706, rfl⟩
abbrev main_call180_v3 : Ref sig .tc := ⟨.hbm, 5707, rfl⟩
abbrev main_call180_v4 : Ref sig .tc := ⟨.hbm, 5708, rfl⟩
abbrev main_v3037 : Ref sig .tc := ⟨.hbm, 5709, rfl⟩
abbrev main_v3038 : Ref sig .tc := ⟨.hbm, 5710, rfl⟩
abbrev main_c_739 : Ref sig .tc := ⟨.hbm, 5711, rfl⟩
abbrev main_v3039 : Ref sig .tc := ⟨.hbm, 5712, rfl⟩
abbrev main_v3040 : Ref sig .tc := ⟨.hbm, 5713, rfl⟩
abbrev main_v3041 : Ref sig .tc := ⟨.hbm, 5714, rfl⟩
abbrev main_v3042 : Ref sig .tc := ⟨.hbm, 5715, rfl⟩
abbrev main_v3043 : Ref sig .tc := ⟨.hbm, 5716, rfl⟩
abbrev main_v3044 : Ref sig .tc := ⟨.hbm, 5717, rfl⟩
abbrev main_call181_c : Ref sig .tc := ⟨.hbm, 5718, rfl⟩
abbrev main_call181_v0 : Ref sig .tc := ⟨.hbm, 5719, rfl⟩
abbrev main_call181_v1 : Ref sig .tc := ⟨.hbm, 5720, rfl⟩
abbrev main_call181_c_0 : Ref sig .tc := ⟨.hbm, 5721, rfl⟩
abbrev main_call181_v2 : Ref sig .tc := ⟨.hbm, 5722, rfl⟩
abbrev main_call181_v3 : Ref sig .tc := ⟨.hbm, 5723, rfl⟩
abbrev main_call181_v4 : Ref sig .tc := ⟨.hbm, 5724, rfl⟩
abbrev main_call181_v5 : Ref sig .tc := ⟨.hbm, 5725, rfl⟩
abbrev main_call181_c_1 : Ref sig .tc := ⟨.hbm, 5726, rfl⟩
abbrev main_call181_c_2 : Ref sig .tc := ⟨.hbm, 5727, rfl⟩
abbrev main_call181_v6 : Ref sig .tc := ⟨.hbm, 5728, rfl⟩
abbrev main_call181_v7 : Ref sig .tc := ⟨.hbm, 5729, rfl⟩
abbrev main_call181_v8 : Ref sig .tc := ⟨.hbm, 5730, rfl⟩
abbrev main_call181_v9 : Ref sig .tc := ⟨.hbm, 5731, rfl⟩
abbrev main_call181_v10 : Ref sig .tc := ⟨.hbm, 5732, rfl⟩
abbrev main_call181_v11 : Ref sig .tc := ⟨.hbm, 5733, rfl⟩
abbrev main_call181_c_3 : Ref sig .tc := ⟨.hbm, 5734, rfl⟩
abbrev main_call181_v12 : Ref sig .tc := ⟨.hbm, 5735, rfl⟩
abbrev main_call181_v13 : Ref sig .tc := ⟨.hbm, 5736, rfl⟩
abbrev main_call181_cst : Ref sig .tc := ⟨.hbm, 5737, rfl⟩
abbrev main_call181_v14 : Ref sig .tc := ⟨.hbm, 5738, rfl⟩
abbrev main_v3045 : Ref sig .tc := ⟨.hbm, 5739, rfl⟩
abbrev main_v3046 : Ref sig .tc := ⟨.hbm, 5740, rfl⟩
abbrev main_v3047 : Ref sig .tc := ⟨.hbm, 5741, rfl⟩
abbrev main_v3048 : Ref sig .tc := ⟨.hbm, 5742, rfl⟩
abbrev main_v3049 : Ref sig .tc := ⟨.hbm, 5743, rfl⟩
abbrev main_v3050 : Ref sig .tc := ⟨.hbm, 5744, rfl⟩
abbrev main_v3051 : Ref sig .tc := ⟨.hbm, 5745, rfl⟩
abbrev main_v3052 : Ref sig .tc := ⟨.hbm, 5746, rfl⟩
abbrev main_v3053 : Ref sig .tc := ⟨.hbm, 5747, rfl⟩
abbrev main_cst_740 : Ref sig .tc := ⟨.hbm, 5748, rfl⟩
abbrev main_v3054 : Ref sig .tc := ⟨.hbm, 5749, rfl⟩
abbrev main_v3055 : Ref sig .tc := ⟨.hbm, 5750, rfl⟩
abbrev main_cst_741 : Ref sig .tc := ⟨.hbm, 5751, rfl⟩
abbrev main_v3056 : Ref sig .tc := ⟨.hbm, 5752, rfl⟩
abbrev main_v3057 : Ref sig .tc := ⟨.hbm, 5753, rfl⟩
abbrev main_v3058 : Ref sig .tc := ⟨.hbm, 5754, rfl⟩
abbrev main_cst_742 : Ref sig .tc := ⟨.hbm, 5755, rfl⟩
abbrev main_v3059 : Ref sig .tc := ⟨.hbm, 5756, rfl⟩
abbrev main_v3060 : Ref sig .tc := ⟨.hbm, 5757, rfl⟩
abbrev main_v3061 : Ref sig .tc := ⟨.hbm, 5758, rfl⟩
abbrev main_cst_743 : Ref sig .tc := ⟨.hbm, 5759, rfl⟩
abbrev main_v3062 : Ref sig .tc := ⟨.hbm, 5760, rfl⟩
abbrev main_v3063 : Ref sig .tc := ⟨.hbm, 5761, rfl⟩
abbrev main_v3064 : Ref sig .tc := ⟨.hbm, 5762, rfl⟩
abbrev main_c_744 : Ref sig .tc := ⟨.hbm, 5763, rfl⟩
abbrev main_c_745 : Ref sig .tc := ⟨.hbm, 5764, rfl⟩
abbrev main_call182_v0 : Ref sig .tc := ⟨.hbm, 5765, rfl⟩
abbrev main_call182_v1 : Ref sig .tc := ⟨.hbm, 5766, rfl⟩
abbrev main_call182_v2 : Ref sig .tc := ⟨.hbm, 5767, rfl⟩
abbrev main_call182_v3 : Ref sig .tc := ⟨.hbm, 5768, rfl⟩
abbrev main_call182_v4 : Ref sig .tc := ⟨.hbm, 5769, rfl⟩
abbrev main_v3065 : Ref sig .tc := ⟨.hbm, 5770, rfl⟩
abbrev main_v3066 : Ref sig .tc := ⟨.hbm, 5771, rfl⟩
abbrev main_c_746 : Ref sig .tc := ⟨.hbm, 5772, rfl⟩
abbrev main_c_747 : Ref sig .tc := ⟨.hbm, 5773, rfl⟩
abbrev main_call183_v0 : Ref sig .tc := ⟨.hbm, 5774, rfl⟩
abbrev main_call183_v1 : Ref sig .tc := ⟨.hbm, 5775, rfl⟩
abbrev main_call183_v2 : Ref sig .tc := ⟨.hbm, 5776, rfl⟩
abbrev main_call183_v3 : Ref sig .tc := ⟨.hbm, 5777, rfl⟩
abbrev main_call183_v4 : Ref sig .tc := ⟨.hbm, 5778, rfl⟩
abbrev main_v3067 : Ref sig .tc := ⟨.hbm, 5779, rfl⟩
abbrev main_v3068 : Ref sig .tc := ⟨.hbm, 5780, rfl⟩
abbrev main_c_748 : Ref sig .tc := ⟨.hbm, 5781, rfl⟩
abbrev main_v3069 : Ref sig .tc := ⟨.hbm, 5782, rfl⟩
abbrev main_v3070 : Ref sig .tc := ⟨.hbm, 5783, rfl⟩
abbrev main_v3071 : Ref sig .tc := ⟨.hbm, 5784, rfl⟩
abbrev main_v3072 : Ref sig .tc := ⟨.hbm, 5785, rfl⟩
abbrev main_v3073 : Ref sig .tc := ⟨.hbm, 5786, rfl⟩
abbrev main_v3074 : Ref sig .tc := ⟨.hbm, 5787, rfl⟩
abbrev main_call184_c : Ref sig .tc := ⟨.hbm, 5788, rfl⟩
abbrev main_call184_v0 : Ref sig .tc := ⟨.hbm, 5789, rfl⟩
abbrev main_call184_v1 : Ref sig .tc := ⟨.hbm, 5790, rfl⟩
abbrev main_call184_c_0 : Ref sig .tc := ⟨.hbm, 5791, rfl⟩
abbrev main_call184_v2 : Ref sig .tc := ⟨.hbm, 5792, rfl⟩
abbrev main_call184_v3 : Ref sig .tc := ⟨.hbm, 5793, rfl⟩
abbrev main_call184_v4 : Ref sig .tc := ⟨.hbm, 5794, rfl⟩
abbrev main_call184_v5 : Ref sig .tc := ⟨.hbm, 5795, rfl⟩
abbrev main_call184_c_1 : Ref sig .tc := ⟨.hbm, 5796, rfl⟩
abbrev main_call184_c_2 : Ref sig .tc := ⟨.hbm, 5797, rfl⟩
abbrev main_call184_v6 : Ref sig .tc := ⟨.hbm, 5798, rfl⟩
abbrev main_call184_v7 : Ref sig .tc := ⟨.hbm, 5799, rfl⟩
abbrev main_call184_v8 : Ref sig .tc := ⟨.hbm, 5800, rfl⟩
abbrev main_call184_v9 : Ref sig .tc := ⟨.hbm, 5801, rfl⟩
abbrev main_call184_v10 : Ref sig .tc := ⟨.hbm, 5802, rfl⟩
abbrev main_call184_v11 : Ref sig .tc := ⟨.hbm, 5803, rfl⟩
abbrev main_call184_c_3 : Ref sig .tc := ⟨.hbm, 5804, rfl⟩
abbrev main_call184_v12 : Ref sig .tc := ⟨.hbm, 5805, rfl⟩
abbrev main_call184_v13 : Ref sig .tc := ⟨.hbm, 5806, rfl⟩
abbrev main_call184_cst : Ref sig .tc := ⟨.hbm, 5807, rfl⟩
abbrev main_call184_v14 : Ref sig .tc := ⟨.hbm, 5808, rfl⟩
abbrev main_v3075 : Ref sig .tc := ⟨.hbm, 5809, rfl⟩
abbrev main_v3076 : Ref sig .tc := ⟨.hbm, 5810, rfl⟩
abbrev main_v3077 : Ref sig .tc := ⟨.hbm, 5811, rfl⟩
abbrev main_v3078 : Ref sig .tc := ⟨.hbm, 5812, rfl⟩
abbrev main_v3079 : Ref sig .tc := ⟨.hbm, 5813, rfl⟩
abbrev main_v3080 : Ref sig .tc := ⟨.hbm, 5814, rfl⟩
abbrev main_v3081 : Ref sig .tc := ⟨.hbm, 5815, rfl⟩
abbrev main_v3082 : Ref sig .tc := ⟨.hbm, 5816, rfl⟩
abbrev main_v3083 : Ref sig .tc := ⟨.hbm, 5817, rfl⟩
abbrev main_v3084 : Ref sig .tc := ⟨.hbm, 5818, rfl⟩
abbrev main_cst_749 : Ref sig .tc := ⟨.hbm, 5819, rfl⟩
abbrev main_v3085 : Ref sig .tc := ⟨.hbm, 5820, rfl⟩
abbrev main_v3086 : Ref sig .tc := ⟨.hbm, 5821, rfl⟩
abbrev main_cst_750 : Ref sig .tc := ⟨.hbm, 5822, rfl⟩
abbrev main_v3087 : Ref sig .tc := ⟨.hbm, 5823, rfl⟩
abbrev main_v3088 : Ref sig .tc := ⟨.hbm, 5824, rfl⟩
abbrev main_v3089 : Ref sig .tc := ⟨.hbm, 5825, rfl⟩
abbrev main_cst_751 : Ref sig .tc := ⟨.hbm, 5826, rfl⟩
abbrev main_v3090 : Ref sig .tc := ⟨.hbm, 5827, rfl⟩
abbrev main_v3091 : Ref sig .tc := ⟨.hbm, 5828, rfl⟩
abbrev main_v3092 : Ref sig .tc := ⟨.hbm, 5829, rfl⟩
abbrev main_cst_752 : Ref sig .tc := ⟨.hbm, 5830, rfl⟩
abbrev main_v3093 : Ref sig .tc := ⟨.hbm, 5831, rfl⟩
abbrev main_v3094 : Ref sig .tc := ⟨.hbm, 5832, rfl⟩
abbrev main_v3095 : Ref sig .tc := ⟨.hbm, 5833, rfl⟩
abbrev main_c_753 : Ref sig .tc := ⟨.hbm, 5834, rfl⟩
abbrev main_c_754 : Ref sig .tc := ⟨.hbm, 5835, rfl⟩
abbrev main_call185_v0 : Ref sig .tc := ⟨.hbm, 5836, rfl⟩
abbrev main_call185_v1 : Ref sig .tc := ⟨.hbm, 5837, rfl⟩
abbrev main_call185_v2 : Ref sig .tc := ⟨.hbm, 5838, rfl⟩
abbrev main_call185_v3 : Ref sig .tc := ⟨.hbm, 5839, rfl⟩
abbrev main_call185_v4 : Ref sig .tc := ⟨.hbm, 5840, rfl⟩
abbrev main_v3096 : Ref sig .tc := ⟨.hbm, 5841, rfl⟩
abbrev main_v3097 : Ref sig .tc := ⟨.hbm, 5842, rfl⟩
abbrev main_c_755 : Ref sig .tc := ⟨.hbm, 5843, rfl⟩
abbrev main_c_756 : Ref sig .tc := ⟨.hbm, 5844, rfl⟩
abbrev main_call186_v0 : Ref sig .tc := ⟨.hbm, 5845, rfl⟩
abbrev main_call186_v1 : Ref sig .tc := ⟨.hbm, 5846, rfl⟩
abbrev main_call186_v2 : Ref sig .tc := ⟨.hbm, 5847, rfl⟩
abbrev main_call186_v3 : Ref sig .tc := ⟨.hbm, 5848, rfl⟩
abbrev main_call186_v4 : Ref sig .tc := ⟨.hbm, 5849, rfl⟩
abbrev main_v3098 : Ref sig .tc := ⟨.hbm, 5850, rfl⟩
abbrev main_v3099 : Ref sig .tc := ⟨.hbm, 5851, rfl⟩
abbrev main_c_757 : Ref sig .tc := ⟨.hbm, 5852, rfl⟩
abbrev main_v3100 : Ref sig .tc := ⟨.hbm, 5853, rfl⟩
abbrev main_v3101 : Ref sig .tc := ⟨.hbm, 5854, rfl⟩
abbrev main_v3102 : Ref sig .tc := ⟨.hbm, 5855, rfl⟩
abbrev main_v3103 : Ref sig .tc := ⟨.hbm, 5856, rfl⟩
abbrev main_v3104 : Ref sig .tc := ⟨.hbm, 5857, rfl⟩
abbrev main_v3105 : Ref sig .tc := ⟨.hbm, 5858, rfl⟩
abbrev main_call187_c : Ref sig .tc := ⟨.hbm, 5859, rfl⟩
abbrev main_call187_v0 : Ref sig .tc := ⟨.hbm, 5860, rfl⟩
abbrev main_call187_v1 : Ref sig .tc := ⟨.hbm, 5861, rfl⟩
abbrev main_call187_c_0 : Ref sig .tc := ⟨.hbm, 5862, rfl⟩
abbrev main_call187_v2 : Ref sig .tc := ⟨.hbm, 5863, rfl⟩
abbrev main_call187_v3 : Ref sig .tc := ⟨.hbm, 5864, rfl⟩
abbrev main_call187_v4 : Ref sig .tc := ⟨.hbm, 5865, rfl⟩
abbrev main_call187_v5 : Ref sig .tc := ⟨.hbm, 5866, rfl⟩
abbrev main_call187_c_1 : Ref sig .tc := ⟨.hbm, 5867, rfl⟩
abbrev main_call187_c_2 : Ref sig .tc := ⟨.hbm, 5868, rfl⟩
abbrev main_call187_v6 : Ref sig .tc := ⟨.hbm, 5869, rfl⟩
abbrev main_call187_v7 : Ref sig .tc := ⟨.hbm, 5870, rfl⟩
abbrev main_call187_v8 : Ref sig .tc := ⟨.hbm, 5871, rfl⟩
abbrev main_call187_v9 : Ref sig .tc := ⟨.hbm, 5872, rfl⟩
abbrev main_call187_v10 : Ref sig .tc := ⟨.hbm, 5873, rfl⟩
abbrev main_call187_v11 : Ref sig .tc := ⟨.hbm, 5874, rfl⟩
abbrev main_call187_c_3 : Ref sig .tc := ⟨.hbm, 5875, rfl⟩
abbrev main_call187_v12 : Ref sig .tc := ⟨.hbm, 5876, rfl⟩
abbrev main_call187_v13 : Ref sig .tc := ⟨.hbm, 5877, rfl⟩
abbrev main_call187_cst : Ref sig .tc := ⟨.hbm, 5878, rfl⟩
abbrev main_call187_v14 : Ref sig .tc := ⟨.hbm, 5879, rfl⟩
abbrev main_v3106 : Ref sig .tc := ⟨.hbm, 5880, rfl⟩
abbrev main_v3107 : Ref sig .tc := ⟨.hbm, 5881, rfl⟩
abbrev main_v3108 : Ref sig .tc := ⟨.hbm, 5882, rfl⟩
abbrev main_v3109 : Ref sig .tc := ⟨.hbm, 5883, rfl⟩
abbrev main_v3110 : Ref sig .tc := ⟨.hbm, 5884, rfl⟩
abbrev main_v3111 : Ref sig .tc := ⟨.hbm, 5885, rfl⟩
abbrev main_v3112 : Ref sig .tc := ⟨.hbm, 5886, rfl⟩
abbrev main_v3113 : Ref sig .tc := ⟨.hbm, 5887, rfl⟩
abbrev main_v3114 : Ref sig .tc := ⟨.hbm, 5888, rfl⟩
abbrev main_v3115 : Ref sig .tc := ⟨.hbm, 5889, rfl⟩
abbrev main_cst_758 : Ref sig .tc := ⟨.hbm, 5890, rfl⟩
abbrev main_v3116 : Ref sig .tc := ⟨.hbm, 5891, rfl⟩
abbrev main_v3117 : Ref sig .tc := ⟨.hbm, 5892, rfl⟩
abbrev main_cst_759 : Ref sig .tc := ⟨.hbm, 5893, rfl⟩
abbrev main_v3118 : Ref sig .tc := ⟨.hbm, 5894, rfl⟩
abbrev main_v3119 : Ref sig .tc := ⟨.hbm, 5895, rfl⟩
abbrev main_v3120 : Ref sig .tc := ⟨.hbm, 5896, rfl⟩
abbrev main_cst_760 : Ref sig .tc := ⟨.hbm, 5897, rfl⟩
abbrev main_v3121 : Ref sig .tc := ⟨.hbm, 5898, rfl⟩
abbrev main_v3122 : Ref sig .tc := ⟨.hbm, 5899, rfl⟩
abbrev main_v3123 : Ref sig .tc := ⟨.hbm, 5900, rfl⟩
abbrev main_cst_761 : Ref sig .tc := ⟨.hbm, 5901, rfl⟩
abbrev main_v3124 : Ref sig .tc := ⟨.hbm, 5902, rfl⟩
abbrev main_v3125 : Ref sig .tc := ⟨.hbm, 5903, rfl⟩
abbrev main_v3126 : Ref sig .tc := ⟨.hbm, 5904, rfl⟩
abbrev main_c_762 : Ref sig .tc := ⟨.hbm, 5905, rfl⟩
abbrev main_c_763 : Ref sig .tc := ⟨.hbm, 5906, rfl⟩
abbrev main_call188_v0 : Ref sig .tc := ⟨.hbm, 5907, rfl⟩
abbrev main_call188_v1 : Ref sig .tc := ⟨.hbm, 5908, rfl⟩
abbrev main_call188_v2 : Ref sig .tc := ⟨.hbm, 5909, rfl⟩
abbrev main_call188_v3 : Ref sig .tc := ⟨.hbm, 5910, rfl⟩
abbrev main_call188_v4 : Ref sig .tc := ⟨.hbm, 5911, rfl⟩
abbrev main_v3127 : Ref sig .tc := ⟨.hbm, 5912, rfl⟩
abbrev main_v3128 : Ref sig .tc := ⟨.hbm, 5913, rfl⟩
abbrev main_c_764 : Ref sig .tc := ⟨.hbm, 5914, rfl⟩
abbrev main_c_765 : Ref sig .tc := ⟨.hbm, 5915, rfl⟩
abbrev main_call189_v0 : Ref sig .tc := ⟨.hbm, 5916, rfl⟩
abbrev main_call189_v1 : Ref sig .tc := ⟨.hbm, 5917, rfl⟩
abbrev main_call189_v2 : Ref sig .tc := ⟨.hbm, 5918, rfl⟩
abbrev main_call189_v3 : Ref sig .tc := ⟨.hbm, 5919, rfl⟩
abbrev main_call189_v4 : Ref sig .tc := ⟨.hbm, 5920, rfl⟩
abbrev main_v3129 : Ref sig .tc := ⟨.hbm, 5921, rfl⟩
abbrev main_v3130 : Ref sig .tc := ⟨.hbm, 5922, rfl⟩
abbrev main_c_766 : Ref sig .tc := ⟨.hbm, 5923, rfl⟩
abbrev main_v3131 : Ref sig .tc := ⟨.hbm, 5924, rfl⟩
abbrev main_v3132 : Ref sig .tc := ⟨.hbm, 5925, rfl⟩
abbrev main_v3133 : Ref sig .tc := ⟨.hbm, 5926, rfl⟩
abbrev main_v3134 : Ref sig .tc := ⟨.hbm, 5927, rfl⟩
abbrev main_v3135 : Ref sig .tc := ⟨.hbm, 5928, rfl⟩
abbrev main_v3136 : Ref sig .tc := ⟨.hbm, 5929, rfl⟩
abbrev main_call190_c : Ref sig .tc := ⟨.hbm, 5930, rfl⟩
abbrev main_call190_v0 : Ref sig .tc := ⟨.hbm, 5931, rfl⟩
abbrev main_call190_v1 : Ref sig .tc := ⟨.hbm, 5932, rfl⟩
abbrev main_call190_c_0 : Ref sig .tc := ⟨.hbm, 5933, rfl⟩
abbrev main_call190_v2 : Ref sig .tc := ⟨.hbm, 5934, rfl⟩
abbrev main_call190_v3 : Ref sig .tc := ⟨.hbm, 5935, rfl⟩
abbrev main_call190_v4 : Ref sig .tc := ⟨.hbm, 5936, rfl⟩
abbrev main_call190_v5 : Ref sig .tc := ⟨.hbm, 5937, rfl⟩
abbrev main_call190_c_1 : Ref sig .tc := ⟨.hbm, 5938, rfl⟩
abbrev main_call190_c_2 : Ref sig .tc := ⟨.hbm, 5939, rfl⟩
abbrev main_call190_v6 : Ref sig .tc := ⟨.hbm, 5940, rfl⟩
abbrev main_call190_v7 : Ref sig .tc := ⟨.hbm, 5941, rfl⟩
abbrev main_call190_v8 : Ref sig .tc := ⟨.hbm, 5942, rfl⟩
abbrev main_call190_v9 : Ref sig .tc := ⟨.hbm, 5943, rfl⟩
abbrev main_call190_v10 : Ref sig .tc := ⟨.hbm, 5944, rfl⟩
abbrev main_call190_v11 : Ref sig .tc := ⟨.hbm, 5945, rfl⟩
abbrev main_call190_c_3 : Ref sig .tc := ⟨.hbm, 5946, rfl⟩
abbrev main_call190_v12 : Ref sig .tc := ⟨.hbm, 5947, rfl⟩
abbrev main_call190_v13 : Ref sig .tc := ⟨.hbm, 5948, rfl⟩
abbrev main_call190_cst : Ref sig .tc := ⟨.hbm, 5949, rfl⟩
abbrev main_call190_v14 : Ref sig .tc := ⟨.hbm, 5950, rfl⟩
abbrev main_v3137 : Ref sig .tc := ⟨.hbm, 5951, rfl⟩
abbrev main_v3138 : Ref sig .tc := ⟨.hbm, 5952, rfl⟩
abbrev main_v3139 : Ref sig .tc := ⟨.hbm, 5953, rfl⟩
abbrev main_v3140 : Ref sig .tc := ⟨.hbm, 5954, rfl⟩
abbrev main_v3141 : Ref sig .tc := ⟨.hbm, 5955, rfl⟩
abbrev main_v3142 : Ref sig .tc := ⟨.hbm, 5956, rfl⟩
abbrev main_v3143 : Ref sig .tc := ⟨.hbm, 5957, rfl⟩
abbrev main_v3144 : Ref sig .tc := ⟨.hbm, 5958, rfl⟩
abbrev main_v3145 : Ref sig .tc := ⟨.hbm, 5959, rfl⟩
abbrev main_v3146 : Ref sig .tc := ⟨.hbm, 5960, rfl⟩
abbrev main_v3147 : Ref sig .tc := ⟨.hbm, 5961, rfl⟩
abbrev main_v3148 : Ref sig .tc := ⟨.hbm, 5962, rfl⟩
abbrev main_v3149 : Ref sig .tc := ⟨.hbm, 5963, rfl⟩
abbrev main_v3150 : Ref sig .tc := ⟨.hbm, 5964, rfl⟩
abbrev main_v3151 : Ref sig .tc := ⟨.hbm, 5965, rfl⟩
abbrev main_v3152 : Ref sig .tc := ⟨.hbm, 5966, rfl⟩
abbrev main_v3153 : Ref sig .tc := ⟨.hbm, 5967, rfl⟩
abbrev main_v3154 : Ref sig .tc := ⟨.hbm, 5968, rfl⟩
abbrev main_v3155 : Ref sig .tc := ⟨.hbm, 5969, rfl⟩
abbrev main_cst_767 : Ref sig .tc := ⟨.hbm, 5970, rfl⟩
abbrev main_v3156 : Ref sig .tc := ⟨.hbm, 5971, rfl⟩
abbrev main_v3157 : Ref sig .tc := ⟨.hbm, 5972, rfl⟩
abbrev main_cst_768 : Ref sig .tc := ⟨.hbm, 5973, rfl⟩
abbrev main_v3158 : Ref sig .tc := ⟨.hbm, 5974, rfl⟩
abbrev main_v3159 : Ref sig .tc := ⟨.hbm, 5975, rfl⟩
abbrev main_cst_769 : Ref sig .tc := ⟨.hbm, 5976, rfl⟩
abbrev main_v3160 : Ref sig .tc := ⟨.hbm, 5977, rfl⟩
abbrev main_v3161 : Ref sig .tc := ⟨.hbm, 5978, rfl⟩
abbrev main_cst_770 : Ref sig .tc := ⟨.hbm, 5979, rfl⟩
abbrev main_v3162 : Ref sig .tc := ⟨.hbm, 5980, rfl⟩
abbrev main_v3163 : Ref sig .tc := ⟨.hbm, 5981, rfl⟩
abbrev main_v3164 : Ref sig .tc := ⟨.hbm, 5982, rfl⟩
abbrev main_v3165 : Ref sig .tc := ⟨.hbm, 5983, rfl⟩
abbrev main_cst_771 : Ref sig .tc := ⟨.hbm, 5984, rfl⟩
abbrev main_v3166 : Ref sig .tc := ⟨.hbm, 5985, rfl⟩
abbrev main_v3167 : Ref sig .tc := ⟨.hbm, 5986, rfl⟩
abbrev main_cst_772 : Ref sig .tc := ⟨.hbm, 5987, rfl⟩
abbrev main_v3168 : Ref sig .tc := ⟨.hbm, 5988, rfl⟩
abbrev main_v3169 : Ref sig .tc := ⟨.hbm, 5989, rfl⟩
abbrev main_cst_773 : Ref sig .tc := ⟨.hbm, 5990, rfl⟩
abbrev main_v3170 : Ref sig .tc := ⟨.hbm, 5991, rfl⟩
abbrev main_v3171 : Ref sig .tc := ⟨.hbm, 5992, rfl⟩
abbrev main_cst_774 : Ref sig .tc := ⟨.hbm, 5993, rfl⟩
abbrev main_v3172 : Ref sig .tc := ⟨.hbm, 5994, rfl⟩
abbrev main_v3173 : Ref sig .tc := ⟨.hbm, 5995, rfl⟩
abbrev main_v3174 : Ref sig .tc := ⟨.hbm, 5996, rfl⟩
abbrev main_v3175 : Ref sig .tc := ⟨.hbm, 5997, rfl⟩
abbrev main_cst_775 : Ref sig .tc := ⟨.hbm, 5998, rfl⟩
abbrev main_v3176 : Ref sig .tc := ⟨.hbm, 5999, rfl⟩
abbrev main_v3177 : Ref sig .tc := ⟨.hbm, 6000, rfl⟩
abbrev main_cst_776 : Ref sig .tc := ⟨.hbm, 6001, rfl⟩
abbrev main_v3178 : Ref sig .tc := ⟨.hbm, 6002, rfl⟩
abbrev main_v3179 : Ref sig .tc := ⟨.hbm, 6003, rfl⟩
abbrev main_v3180 : Ref sig .tc := ⟨.hbm, 6004, rfl⟩
abbrev main_v3181 : Ref sig .tc := ⟨.hbm, 6005, rfl⟩
abbrev main_v3182 : Ref sig .tc := ⟨.hbm, 6006, rfl⟩
abbrev main_v3183 : Ref sig .tc := ⟨.hbm, 6007, rfl⟩
abbrev main_v3184 : Ref sig .tc := ⟨.hbm, 6008, rfl⟩
abbrev main_v3185 : Ref sig .tc := ⟨.hbm, 6009, rfl⟩
abbrev main_v3186 : Ref sig .tc := ⟨.hbm, 6010, rfl⟩
abbrev main_v3187 : Ref sig .tc := ⟨.hbm, 6011, rfl⟩
abbrev main_v3188 : Ref sig .tc := ⟨.hbm, 6012, rfl⟩
abbrev main_v3189 : Ref sig .tc := ⟨.hbm, 6013, rfl⟩
abbrev main_v3190 : Ref sig .tc := ⟨.hbm, 6014, rfl⟩
abbrev main_v3191 : Ref sig .tc := ⟨.hbm, 6015, rfl⟩
abbrev main_v3192 : Ref sig .tc := ⟨.hbm, 6016, rfl⟩
abbrev main_cst_777 : Ref sig .tc := ⟨.hbm, 6017, rfl⟩
abbrev main_v3193 : Ref sig .tc := ⟨.hbm, 6018, rfl⟩
abbrev main_v3194 : Ref sig .tc := ⟨.hbm, 6019, rfl⟩
abbrev main_cst_778 : Ref sig .tc := ⟨.hbm, 6020, rfl⟩
abbrev main_v3195 : Ref sig .tc := ⟨.hbm, 6021, rfl⟩
abbrev main_v3196 : Ref sig .tc := ⟨.hbm, 6022, rfl⟩
abbrev main_v3197 : Ref sig .tc := ⟨.hbm, 6023, rfl⟩
abbrev main_cst_779 : Ref sig .tc := ⟨.hbm, 6024, rfl⟩
abbrev main_v3198 : Ref sig .tc := ⟨.hbm, 6025, rfl⟩
abbrev main_v3199 : Ref sig .tc := ⟨.hbm, 6026, rfl⟩
abbrev main_v3200 : Ref sig .tc := ⟨.hbm, 6027, rfl⟩
abbrev main_cst_780 : Ref sig .tc := ⟨.hbm, 6028, rfl⟩
abbrev main_v3201 : Ref sig .tc := ⟨.hbm, 6029, rfl⟩
abbrev main_v3202 : Ref sig .tc := ⟨.hbm, 6030, rfl⟩
abbrev main_v3203 : Ref sig .tc := ⟨.hbm, 6031, rfl⟩
abbrev main_c_781 : Ref sig .tc := ⟨.hbm, 6032, rfl⟩
abbrev main_c_782 : Ref sig .tc := ⟨.hbm, 6033, rfl⟩
abbrev main_call191_v0 : Ref sig .tc := ⟨.hbm, 6034, rfl⟩
abbrev main_call191_v1 : Ref sig .tc := ⟨.hbm, 6035, rfl⟩
abbrev main_call191_v2 : Ref sig .tc := ⟨.hbm, 6036, rfl⟩
abbrev main_call191_v3 : Ref sig .tc := ⟨.hbm, 6037, rfl⟩
abbrev main_call191_v4 : Ref sig .tc := ⟨.hbm, 6038, rfl⟩
abbrev main_v3204 : Ref sig .tc := ⟨.hbm, 6039, rfl⟩
abbrev main_v3205 : Ref sig .tc := ⟨.hbm, 6040, rfl⟩
abbrev main_c_783 : Ref sig .tc := ⟨.hbm, 6041, rfl⟩
abbrev main_c_784 : Ref sig .tc := ⟨.hbm, 6042, rfl⟩
abbrev main_call192_v0 : Ref sig .tc := ⟨.hbm, 6043, rfl⟩
abbrev main_call192_v1 : Ref sig .tc := ⟨.hbm, 6044, rfl⟩
abbrev main_call192_v2 : Ref sig .tc := ⟨.hbm, 6045, rfl⟩
abbrev main_call192_v3 : Ref sig .tc := ⟨.hbm, 6046, rfl⟩
abbrev main_call192_v4 : Ref sig .tc := ⟨.hbm, 6047, rfl⟩
abbrev main_v3206 : Ref sig .tc := ⟨.hbm, 6048, rfl⟩
abbrev main_v3207 : Ref sig .tc := ⟨.hbm, 6049, rfl⟩
abbrev main_c_785 : Ref sig .tc := ⟨.hbm, 6050, rfl⟩
abbrev main_v3208 : Ref sig .tc := ⟨.hbm, 6051, rfl⟩
abbrev main_v3209 : Ref sig .tc := ⟨.hbm, 6052, rfl⟩
abbrev main_v3210 : Ref sig .tc := ⟨.hbm, 6053, rfl⟩
abbrev main_v3211 : Ref sig .tc := ⟨.hbm, 6054, rfl⟩
abbrev main_v3212 : Ref sig .tc := ⟨.hbm, 6055, rfl⟩
abbrev main_v3213 : Ref sig .tc := ⟨.hbm, 6056, rfl⟩
abbrev main_call193_c : Ref sig .tc := ⟨.hbm, 6057, rfl⟩
abbrev main_call193_v0 : Ref sig .tc := ⟨.hbm, 6058, rfl⟩
abbrev main_call193_v1 : Ref sig .tc := ⟨.hbm, 6059, rfl⟩
abbrev main_call193_c_0 : Ref sig .tc := ⟨.hbm, 6060, rfl⟩
abbrev main_call193_v2 : Ref sig .tc := ⟨.hbm, 6061, rfl⟩
abbrev main_call193_v3 : Ref sig .tc := ⟨.hbm, 6062, rfl⟩
abbrev main_call193_v4 : Ref sig .tc := ⟨.hbm, 6063, rfl⟩
abbrev main_call193_v5 : Ref sig .tc := ⟨.hbm, 6064, rfl⟩
abbrev main_call193_c_1 : Ref sig .tc := ⟨.hbm, 6065, rfl⟩
abbrev main_call193_c_2 : Ref sig .tc := ⟨.hbm, 6066, rfl⟩
abbrev main_call193_v6 : Ref sig .tc := ⟨.hbm, 6067, rfl⟩
abbrev main_call193_v7 : Ref sig .tc := ⟨.hbm, 6068, rfl⟩
abbrev main_call193_v8 : Ref sig .tc := ⟨.hbm, 6069, rfl⟩
abbrev main_call193_v9 : Ref sig .tc := ⟨.hbm, 6070, rfl⟩
abbrev main_call193_v10 : Ref sig .tc := ⟨.hbm, 6071, rfl⟩
abbrev main_call193_v11 : Ref sig .tc := ⟨.hbm, 6072, rfl⟩
abbrev main_call193_c_3 : Ref sig .tc := ⟨.hbm, 6073, rfl⟩
abbrev main_call193_v12 : Ref sig .tc := ⟨.hbm, 6074, rfl⟩
abbrev main_call193_v13 : Ref sig .tc := ⟨.hbm, 6075, rfl⟩
abbrev main_call193_cst : Ref sig .tc := ⟨.hbm, 6076, rfl⟩
abbrev main_call193_v14 : Ref sig .tc := ⟨.hbm, 6077, rfl⟩
abbrev main_v3214 : Ref sig .tc := ⟨.hbm, 6078, rfl⟩
abbrev main_v3215 : Ref sig .tc := ⟨.hbm, 6079, rfl⟩
abbrev main_v3216 : Ref sig .tc := ⟨.hbm, 6080, rfl⟩
abbrev main_v3217 : Ref sig .tc := ⟨.hbm, 6081, rfl⟩
abbrev main_v3218 : Ref sig .tc := ⟨.hbm, 6082, rfl⟩
abbrev main_v3219 : Ref sig .tc := ⟨.hbm, 6083, rfl⟩
abbrev main_v3220 : Ref sig .tc := ⟨.hbm, 6084, rfl⟩
abbrev main_v3221 : Ref sig .tc := ⟨.hbm, 6085, rfl⟩
abbrev main_v3222 : Ref sig .tc := ⟨.hbm, 6086, rfl⟩
abbrev main_cst_786 : Ref sig .tc := ⟨.hbm, 6087, rfl⟩
abbrev main_v3223 : Ref sig .tc := ⟨.hbm, 6088, rfl⟩
abbrev main_v3224 : Ref sig .tc := ⟨.hbm, 6089, rfl⟩
abbrev main_cst_787 : Ref sig .tc := ⟨.hbm, 6090, rfl⟩
abbrev main_v3225 : Ref sig .tc := ⟨.hbm, 6091, rfl⟩
abbrev main_v3226 : Ref sig .tc := ⟨.hbm, 6092, rfl⟩
abbrev main_v3227 : Ref sig .tc := ⟨.hbm, 6093, rfl⟩
abbrev main_cst_788 : Ref sig .tc := ⟨.hbm, 6094, rfl⟩
abbrev main_v3228 : Ref sig .tc := ⟨.hbm, 6095, rfl⟩
abbrev main_v3229 : Ref sig .tc := ⟨.hbm, 6096, rfl⟩
abbrev main_v3230 : Ref sig .tc := ⟨.hbm, 6097, rfl⟩
abbrev main_cst_789 : Ref sig .tc := ⟨.hbm, 6098, rfl⟩
abbrev main_v3231 : Ref sig .tc := ⟨.hbm, 6099, rfl⟩
abbrev main_v3232 : Ref sig .tc := ⟨.hbm, 6100, rfl⟩
abbrev main_v3233 : Ref sig .tc := ⟨.hbm, 6101, rfl⟩
abbrev main_c_790 : Ref sig .tc := ⟨.hbm, 6102, rfl⟩
abbrev main_c_791 : Ref sig .tc := ⟨.hbm, 6103, rfl⟩
abbrev main_call194_v0 : Ref sig .tc := ⟨.hbm, 6104, rfl⟩
abbrev main_call194_v1 : Ref sig .tc := ⟨.hbm, 6105, rfl⟩
abbrev main_call194_v2 : Ref sig .tc := ⟨.hbm, 6106, rfl⟩
abbrev main_call194_v3 : Ref sig .tc := ⟨.hbm, 6107, rfl⟩
abbrev main_call194_v4 : Ref sig .tc := ⟨.hbm, 6108, rfl⟩
abbrev main_v3234 : Ref sig .tc := ⟨.hbm, 6109, rfl⟩
abbrev main_v3235 : Ref sig .tc := ⟨.hbm, 6110, rfl⟩
abbrev main_c_792 : Ref sig .tc := ⟨.hbm, 6111, rfl⟩
abbrev main_c_793 : Ref sig .tc := ⟨.hbm, 6112, rfl⟩
abbrev main_call195_v0 : Ref sig .tc := ⟨.hbm, 6113, rfl⟩
abbrev main_call195_v1 : Ref sig .tc := ⟨.hbm, 6114, rfl⟩
abbrev main_call195_v2 : Ref sig .tc := ⟨.hbm, 6115, rfl⟩
abbrev main_call195_v3 : Ref sig .tc := ⟨.hbm, 6116, rfl⟩
abbrev main_call195_v4 : Ref sig .tc := ⟨.hbm, 6117, rfl⟩
abbrev main_v3236 : Ref sig .tc := ⟨.hbm, 6118, rfl⟩
abbrev main_v3237 : Ref sig .tc := ⟨.hbm, 6119, rfl⟩
abbrev main_c_794 : Ref sig .tc := ⟨.hbm, 6120, rfl⟩
abbrev main_v3238 : Ref sig .tc := ⟨.hbm, 6121, rfl⟩
abbrev main_v3239 : Ref sig .tc := ⟨.hbm, 6122, rfl⟩
abbrev main_v3240 : Ref sig .tc := ⟨.hbm, 6123, rfl⟩
abbrev main_v3241 : Ref sig .tc := ⟨.hbm, 6124, rfl⟩
abbrev main_v3242 : Ref sig .tc := ⟨.hbm, 6125, rfl⟩
abbrev main_v3243 : Ref sig .tc := ⟨.hbm, 6126, rfl⟩
abbrev main_call196_c : Ref sig .tc := ⟨.hbm, 6127, rfl⟩
abbrev main_call196_v0 : Ref sig .tc := ⟨.hbm, 6128, rfl⟩
abbrev main_call196_v1 : Ref sig .tc := ⟨.hbm, 6129, rfl⟩
abbrev main_call196_c_0 : Ref sig .tc := ⟨.hbm, 6130, rfl⟩
abbrev main_call196_v2 : Ref sig .tc := ⟨.hbm, 6131, rfl⟩
abbrev main_call196_v3 : Ref sig .tc := ⟨.hbm, 6132, rfl⟩
abbrev main_call196_v4 : Ref sig .tc := ⟨.hbm, 6133, rfl⟩
abbrev main_call196_v5 : Ref sig .tc := ⟨.hbm, 6134, rfl⟩
abbrev main_call196_c_1 : Ref sig .tc := ⟨.hbm, 6135, rfl⟩
abbrev main_call196_c_2 : Ref sig .tc := ⟨.hbm, 6136, rfl⟩
abbrev main_call196_v6 : Ref sig .tc := ⟨.hbm, 6137, rfl⟩
abbrev main_call196_v7 : Ref sig .tc := ⟨.hbm, 6138, rfl⟩
abbrev main_call196_v8 : Ref sig .tc := ⟨.hbm, 6139, rfl⟩
abbrev main_call196_v9 : Ref sig .tc := ⟨.hbm, 6140, rfl⟩
abbrev main_call196_v10 : Ref sig .tc := ⟨.hbm, 6141, rfl⟩
abbrev main_call196_v11 : Ref sig .tc := ⟨.hbm, 6142, rfl⟩
abbrev main_call196_c_3 : Ref sig .tc := ⟨.hbm, 6143, rfl⟩
abbrev main_call196_v12 : Ref sig .tc := ⟨.hbm, 6144, rfl⟩
abbrev main_call196_v13 : Ref sig .tc := ⟨.hbm, 6145, rfl⟩
abbrev main_call196_cst : Ref sig .tc := ⟨.hbm, 6146, rfl⟩
abbrev main_call196_v14 : Ref sig .tc := ⟨.hbm, 6147, rfl⟩
abbrev main_v3244 : Ref sig .tc := ⟨.hbm, 6148, rfl⟩
abbrev main_v3245 : Ref sig .tc := ⟨.hbm, 6149, rfl⟩
abbrev main_v3246 : Ref sig .tc := ⟨.hbm, 6150, rfl⟩
abbrev main_v3247 : Ref sig .tc := ⟨.hbm, 6151, rfl⟩
abbrev main_v3248 : Ref sig .tc := ⟨.hbm, 6152, rfl⟩
abbrev main_v3249 : Ref sig .tc := ⟨.hbm, 6153, rfl⟩
abbrev main_v3250 : Ref sig .tc := ⟨.hbm, 6154, rfl⟩
abbrev main_v3251 : Ref sig .tc := ⟨.hbm, 6155, rfl⟩
abbrev main_v3252 : Ref sig .tc := ⟨.hbm, 6156, rfl⟩
abbrev main_v3253 : Ref sig .tc := ⟨.hbm, 6157, rfl⟩
abbrev main_cst_795 : Ref sig .tc := ⟨.hbm, 6158, rfl⟩
abbrev main_v3254 : Ref sig .tc := ⟨.hbm, 6159, rfl⟩
abbrev main_v3255 : Ref sig .tc := ⟨.hbm, 6160, rfl⟩
abbrev main_cst_796 : Ref sig .tc := ⟨.hbm, 6161, rfl⟩
abbrev main_v3256 : Ref sig .tc := ⟨.hbm, 6162, rfl⟩
abbrev main_v3257 : Ref sig .tc := ⟨.hbm, 6163, rfl⟩
abbrev main_v3258 : Ref sig .tc := ⟨.hbm, 6164, rfl⟩
abbrev main_cst_797 : Ref sig .tc := ⟨.hbm, 6165, rfl⟩
abbrev main_v3259 : Ref sig .tc := ⟨.hbm, 6166, rfl⟩
abbrev main_v3260 : Ref sig .tc := ⟨.hbm, 6167, rfl⟩
abbrev main_v3261 : Ref sig .tc := ⟨.hbm, 6168, rfl⟩
abbrev main_cst_798 : Ref sig .tc := ⟨.hbm, 6169, rfl⟩
abbrev main_v3262 : Ref sig .tc := ⟨.hbm, 6170, rfl⟩
abbrev main_v3263 : Ref sig .tc := ⟨.hbm, 6171, rfl⟩
abbrev main_v3264 : Ref sig .tc := ⟨.hbm, 6172, rfl⟩
abbrev main_c_799 : Ref sig .tc := ⟨.hbm, 6173, rfl⟩
abbrev main_c_800 : Ref sig .tc := ⟨.hbm, 6174, rfl⟩
abbrev main_call197_v0 : Ref sig .tc := ⟨.hbm, 6175, rfl⟩
abbrev main_call197_v1 : Ref sig .tc := ⟨.hbm, 6176, rfl⟩
abbrev main_call197_v2 : Ref sig .tc := ⟨.hbm, 6177, rfl⟩
abbrev main_call197_v3 : Ref sig .tc := ⟨.hbm, 6178, rfl⟩
abbrev main_call197_v4 : Ref sig .tc := ⟨.hbm, 6179, rfl⟩
abbrev main_v3265 : Ref sig .tc := ⟨.hbm, 6180, rfl⟩
abbrev main_v3266 : Ref sig .tc := ⟨.hbm, 6181, rfl⟩
abbrev main_c_801 : Ref sig .tc := ⟨.hbm, 6182, rfl⟩
abbrev main_c_802 : Ref sig .tc := ⟨.hbm, 6183, rfl⟩
abbrev main_call198_v0 : Ref sig .tc := ⟨.hbm, 6184, rfl⟩
abbrev main_call198_v1 : Ref sig .tc := ⟨.hbm, 6185, rfl⟩
abbrev main_call198_v2 : Ref sig .tc := ⟨.hbm, 6186, rfl⟩
abbrev main_call198_v3 : Ref sig .tc := ⟨.hbm, 6187, rfl⟩
abbrev main_call198_v4 : Ref sig .tc := ⟨.hbm, 6188, rfl⟩
abbrev main_v3267 : Ref sig .tc := ⟨.hbm, 6189, rfl⟩
abbrev main_v3268 : Ref sig .tc := ⟨.hbm, 6190, rfl⟩
abbrev main_c_803 : Ref sig .tc := ⟨.hbm, 6191, rfl⟩
abbrev main_v3269 : Ref sig .tc := ⟨.hbm, 6192, rfl⟩
abbrev main_v3270 : Ref sig .tc := ⟨.hbm, 6193, rfl⟩
abbrev main_v3271 : Ref sig .tc := ⟨.hbm, 6194, rfl⟩
abbrev main_v3272 : Ref sig .tc := ⟨.hbm, 6195, rfl⟩
abbrev main_v3273 : Ref sig .tc := ⟨.hbm, 6196, rfl⟩
abbrev main_v3274 : Ref sig .tc := ⟨.hbm, 6197, rfl⟩
abbrev main_call199_c : Ref sig .tc := ⟨.hbm, 6198, rfl⟩
abbrev main_call199_v0 : Ref sig .tc := ⟨.hbm, 6199, rfl⟩
abbrev main_call199_v1 : Ref sig .tc := ⟨.hbm, 6200, rfl⟩
abbrev main_call199_c_0 : Ref sig .tc := ⟨.hbm, 6201, rfl⟩
abbrev main_call199_v2 : Ref sig .tc := ⟨.hbm, 6202, rfl⟩
abbrev main_call199_v3 : Ref sig .tc := ⟨.hbm, 6203, rfl⟩
abbrev main_call199_v4 : Ref sig .tc := ⟨.hbm, 6204, rfl⟩
abbrev main_call199_v5 : Ref sig .tc := ⟨.hbm, 6205, rfl⟩
abbrev main_call199_c_1 : Ref sig .tc := ⟨.hbm, 6206, rfl⟩
abbrev main_call199_c_2 : Ref sig .tc := ⟨.hbm, 6207, rfl⟩
abbrev main_call199_v6 : Ref sig .tc := ⟨.hbm, 6208, rfl⟩
abbrev main_call199_v7 : Ref sig .tc := ⟨.hbm, 6209, rfl⟩
abbrev main_call199_v8 : Ref sig .tc := ⟨.hbm, 6210, rfl⟩
abbrev main_call199_v9 : Ref sig .tc := ⟨.hbm, 6211, rfl⟩
abbrev main_call199_v10 : Ref sig .tc := ⟨.hbm, 6212, rfl⟩
abbrev main_call199_v11 : Ref sig .tc := ⟨.hbm, 6213, rfl⟩
abbrev main_call199_c_3 : Ref sig .tc := ⟨.hbm, 6214, rfl⟩
abbrev main_call199_v12 : Ref sig .tc := ⟨.hbm, 6215, rfl⟩
abbrev main_call199_v13 : Ref sig .tc := ⟨.hbm, 6216, rfl⟩
abbrev main_call199_cst : Ref sig .tc := ⟨.hbm, 6217, rfl⟩
abbrev main_call199_v14 : Ref sig .tc := ⟨.hbm, 6218, rfl⟩
abbrev main_v3275 : Ref sig .tc := ⟨.hbm, 6219, rfl⟩
abbrev main_v3276 : Ref sig .tc := ⟨.hbm, 6220, rfl⟩
abbrev main_v3277 : Ref sig .tc := ⟨.hbm, 6221, rfl⟩
abbrev main_v3278 : Ref sig .tc := ⟨.hbm, 6222, rfl⟩
abbrev main_v3279 : Ref sig .tc := ⟨.hbm, 6223, rfl⟩
abbrev main_v3280 : Ref sig .tc := ⟨.hbm, 6224, rfl⟩
abbrev main_v3281 : Ref sig .tc := ⟨.hbm, 6225, rfl⟩
abbrev main_v3282 : Ref sig .tc := ⟨.hbm, 6226, rfl⟩
abbrev main_v3283 : Ref sig .tc := ⟨.hbm, 6227, rfl⟩
abbrev main_v3284 : Ref sig .tc := ⟨.hbm, 6228, rfl⟩
abbrev main_cst_804 : Ref sig .tc := ⟨.hbm, 6229, rfl⟩
abbrev main_v3285 : Ref sig .tc := ⟨.hbm, 6230, rfl⟩
abbrev main_v3286 : Ref sig .tc := ⟨.hbm, 6231, rfl⟩
abbrev main_cst_805 : Ref sig .tc := ⟨.hbm, 6232, rfl⟩
abbrev main_v3287 : Ref sig .tc := ⟨.hbm, 6233, rfl⟩
abbrev main_v3288 : Ref sig .tc := ⟨.hbm, 6234, rfl⟩
abbrev main_v3289 : Ref sig .tc := ⟨.hbm, 6235, rfl⟩
abbrev main_cst_806 : Ref sig .tc := ⟨.hbm, 6236, rfl⟩
abbrev main_v3290 : Ref sig .tc := ⟨.hbm, 6237, rfl⟩
abbrev main_v3291 : Ref sig .tc := ⟨.hbm, 6238, rfl⟩
abbrev main_v3292 : Ref sig .tc := ⟨.hbm, 6239, rfl⟩
abbrev main_cst_807 : Ref sig .tc := ⟨.hbm, 6240, rfl⟩
abbrev main_v3293 : Ref sig .tc := ⟨.hbm, 6241, rfl⟩
abbrev main_v3294 : Ref sig .tc := ⟨.hbm, 6242, rfl⟩
abbrev main_v3295 : Ref sig .tc := ⟨.hbm, 6243, rfl⟩
abbrev main_c_808 : Ref sig .tc := ⟨.hbm, 6244, rfl⟩
abbrev main_c_809 : Ref sig .tc := ⟨.hbm, 6245, rfl⟩
abbrev main_call200_v0 : Ref sig .tc := ⟨.hbm, 6246, rfl⟩
abbrev main_call200_v1 : Ref sig .tc := ⟨.hbm, 6247, rfl⟩
abbrev main_call200_v2 : Ref sig .tc := ⟨.hbm, 6248, rfl⟩
abbrev main_call200_v3 : Ref sig .tc := ⟨.hbm, 6249, rfl⟩
abbrev main_call200_v4 : Ref sig .tc := ⟨.hbm, 6250, rfl⟩
abbrev main_v3296 : Ref sig .tc := ⟨.hbm, 6251, rfl⟩
abbrev main_v3297 : Ref sig .tc := ⟨.hbm, 6252, rfl⟩
abbrev main_c_810 : Ref sig .tc := ⟨.hbm, 6253, rfl⟩
abbrev main_c_811 : Ref sig .tc := ⟨.hbm, 6254, rfl⟩
abbrev main_call201_v0 : Ref sig .tc := ⟨.hbm, 6255, rfl⟩
abbrev main_call201_v1 : Ref sig .tc := ⟨.hbm, 6256, rfl⟩
abbrev main_call201_v2 : Ref sig .tc := ⟨.hbm, 6257, rfl⟩
abbrev main_call201_v3 : Ref sig .tc := ⟨.hbm, 6258, rfl⟩
abbrev main_call201_v4 : Ref sig .tc := ⟨.hbm, 6259, rfl⟩
abbrev main_v3298 : Ref sig .tc := ⟨.hbm, 6260, rfl⟩
abbrev main_v3299 : Ref sig .tc := ⟨.hbm, 6261, rfl⟩
abbrev main_c_812 : Ref sig .tc := ⟨.hbm, 6262, rfl⟩
abbrev main_v3300 : Ref sig .tc := ⟨.hbm, 6263, rfl⟩
abbrev main_v3301 : Ref sig .tc := ⟨.hbm, 6264, rfl⟩
abbrev main_v3302 : Ref sig .tc := ⟨.hbm, 6265, rfl⟩
abbrev main_v3303 : Ref sig .tc := ⟨.hbm, 6266, rfl⟩
abbrev main_v3304 : Ref sig .tc := ⟨.hbm, 6267, rfl⟩
abbrev main_v3305 : Ref sig .tc := ⟨.hbm, 6268, rfl⟩
abbrev main_call202_c : Ref sig .tc := ⟨.hbm, 6269, rfl⟩
abbrev main_call202_v0 : Ref sig .tc := ⟨.hbm, 6270, rfl⟩
abbrev main_call202_v1 : Ref sig .tc := ⟨.hbm, 6271, rfl⟩
abbrev main_call202_c_0 : Ref sig .tc := ⟨.hbm, 6272, rfl⟩
abbrev main_call202_v2 : Ref sig .tc := ⟨.hbm, 6273, rfl⟩
abbrev main_call202_v3 : Ref sig .tc := ⟨.hbm, 6274, rfl⟩
abbrev main_call202_v4 : Ref sig .tc := ⟨.hbm, 6275, rfl⟩
abbrev main_call202_v5 : Ref sig .tc := ⟨.hbm, 6276, rfl⟩
abbrev main_call202_c_1 : Ref sig .tc := ⟨.hbm, 6277, rfl⟩
abbrev main_call202_c_2 : Ref sig .tc := ⟨.hbm, 6278, rfl⟩
abbrev main_call202_v6 : Ref sig .tc := ⟨.hbm, 6279, rfl⟩
abbrev main_call202_v7 : Ref sig .tc := ⟨.hbm, 6280, rfl⟩
abbrev main_call202_v8 : Ref sig .tc := ⟨.hbm, 6281, rfl⟩
abbrev main_call202_v9 : Ref sig .tc := ⟨.hbm, 6282, rfl⟩
abbrev main_call202_v10 : Ref sig .tc := ⟨.hbm, 6283, rfl⟩
abbrev main_call202_v11 : Ref sig .tc := ⟨.hbm, 6284, rfl⟩
abbrev main_call202_c_3 : Ref sig .tc := ⟨.hbm, 6285, rfl⟩
abbrev main_call202_v12 : Ref sig .tc := ⟨.hbm, 6286, rfl⟩
abbrev main_call202_v13 : Ref sig .tc := ⟨.hbm, 6287, rfl⟩
abbrev main_call202_cst : Ref sig .tc := ⟨.hbm, 6288, rfl⟩
abbrev main_call202_v14 : Ref sig .tc := ⟨.hbm, 6289, rfl⟩
abbrev main_v3306 : Ref sig .tc := ⟨.hbm, 6290, rfl⟩
abbrev main_v3307 : Ref sig .tc := ⟨.hbm, 6291, rfl⟩
abbrev main_v3308 : Ref sig .tc := ⟨.hbm, 6292, rfl⟩
abbrev main_v3309 : Ref sig .tc := ⟨.hbm, 6293, rfl⟩
abbrev main_v3310 : Ref sig .tc := ⟨.hbm, 6294, rfl⟩
abbrev main_v3311 : Ref sig .tc := ⟨.hbm, 6295, rfl⟩
abbrev main_v3312 : Ref sig .tc := ⟨.hbm, 6296, rfl⟩
abbrev main_v3313 : Ref sig .tc := ⟨.hbm, 6297, rfl⟩
abbrev main_v3314 : Ref sig .tc := ⟨.hbm, 6298, rfl⟩
abbrev main_v3315 : Ref sig .tc := ⟨.hbm, 6299, rfl⟩
abbrev main_v3316 : Ref sig .tc := ⟨.hbm, 6300, rfl⟩
abbrev main_v3317 : Ref sig .tc := ⟨.hbm, 6301, rfl⟩
abbrev main_v3318 : Ref sig .tc := ⟨.hbm, 6302, rfl⟩
abbrev main_v3319 : Ref sig .tc := ⟨.hbm, 6303, rfl⟩
abbrev main_v3320 : Ref sig .tc := ⟨.hbm, 6304, rfl⟩
abbrev main_v3321 : Ref sig .tc := ⟨.hbm, 6305, rfl⟩
abbrev main_v3322 : Ref sig .tc := ⟨.hbm, 6306, rfl⟩
abbrev main_v3323 : Ref sig .tc := ⟨.hbm, 6307, rfl⟩
abbrev main_v3324 : Ref sig .tc := ⟨.hbm, 6308, rfl⟩
abbrev main_v3325 : Ref sig .tc := ⟨.hbm, 6309, rfl⟩
abbrev main_cst_813 : Ref sig .tc := ⟨.hbm, 6310, rfl⟩
abbrev main_v3326 : Ref sig .tc := ⟨.hbm, 6311, rfl⟩
abbrev main_v3327 : Ref sig .tc := ⟨.hbm, 6312, rfl⟩
abbrev main_v3328 : Ref sig .tc := ⟨.hbm, 6313, rfl⟩
abbrev main_v3329 : Ref sig .tc := ⟨.hbm, 6314, rfl⟩
abbrev main_v3330 : Ref sig .tc := ⟨.hbm, 6315, rfl⟩
abbrev main_v3331 : Ref sig .tc := ⟨.hbm, 6316, rfl⟩
abbrev main_v3332 : Ref sig .tc := ⟨.hbm, 6317, rfl⟩
abbrev main_v3333 : Ref sig .tc := ⟨.hbm, 6318, rfl⟩
abbrev main_v3334 : Ref sig .tc := ⟨.hbm, 6319, rfl⟩
abbrev main_v3335 : Ref sig .tc := ⟨.hbm, 6320, rfl⟩
abbrev main_v3336 : Ref sig .tc := ⟨.hbm, 6321, rfl⟩
abbrev main_v3337 : Ref sig .tc := ⟨.hbm, 6322, rfl⟩
abbrev main_v3338 : Ref sig .tc := ⟨.hbm, 6323, rfl⟩
abbrev main_v3339 : Ref sig .tc := ⟨.hbm, 6324, rfl⟩
abbrev main_v3340 : Ref sig .tc := ⟨.hbm, 6325, rfl⟩
abbrev main_v3341 : Ref sig .tc := ⟨.hbm, 6326, rfl⟩
abbrev main_cst_814 : Ref sig .tc := ⟨.hbm, 6327, rfl⟩
abbrev main_v3342 : Ref sig .tc := ⟨.hbm, 6328, rfl⟩
abbrev main_v3343 : Ref sig .tc := ⟨.hbm, 6329, rfl⟩
abbrev main_cst_815 : Ref sig .tc := ⟨.hbm, 6330, rfl⟩
abbrev main_v3344 : Ref sig .tc := ⟨.hbm, 6331, rfl⟩
abbrev main_v3345 : Ref sig .tc := ⟨.hbm, 6332, rfl⟩
abbrev main_v3346 : Ref sig .tc := ⟨.hbm, 6333, rfl⟩
abbrev main_v3347 : Ref sig .tc := ⟨.hbm, 6334, rfl⟩
abbrev main_v3348 : Ref sig .tc := ⟨.hbm, 6335, rfl⟩
abbrev main_cst_816 : Ref sig .tc := ⟨.hbm, 6336, rfl⟩
abbrev main_v3349 : Ref sig .tc := ⟨.hbm, 6337, rfl⟩
abbrev main_v3350 : Ref sig .tc := ⟨.hbm, 6338, rfl⟩
abbrev main_cst_817 : Ref sig .tc := ⟨.hbm, 6339, rfl⟩
abbrev main_v3351 : Ref sig .tc := ⟨.hbm, 6340, rfl⟩
abbrev main_v3352 : Ref sig .tc := ⟨.hbm, 6341, rfl⟩
abbrev main_v3353 : Ref sig .tc := ⟨.hbm, 6342, rfl⟩
abbrev main_v3354 : Ref sig .tc := ⟨.hbm, 6343, rfl⟩
abbrev main_cst_818 : Ref sig .tc := ⟨.hbm, 6344, rfl⟩
abbrev main_v3355 : Ref sig .tc := ⟨.hbm, 6345, rfl⟩
abbrev main_v3356 : Ref sig .tc := ⟨.hbm, 6346, rfl⟩
abbrev main_v3357 : Ref sig .tc := ⟨.hbm, 6347, rfl⟩
abbrev main_v3358 : Ref sig .tc := ⟨.hbm, 6348, rfl⟩
abbrev main_v3359 : Ref sig .tc := ⟨.hbm, 6349, rfl⟩
abbrev main_v3360 : Ref sig .tc := ⟨.hbm, 6350, rfl⟩
abbrev main_v3361 : Ref sig .tc := ⟨.hbm, 6351, rfl⟩
abbrev main_v3362 : Ref sig .tc := ⟨.hbm, 6352, rfl⟩
abbrev main_v3363 : Ref sig .tc := ⟨.hbm, 6353, rfl⟩
abbrev main_v3364 : Ref sig .tc := ⟨.hbm, 6354, rfl⟩
abbrev main_v3365 : Ref sig .tc := ⟨.hbm, 6355, rfl⟩
abbrev main_v3366 : Ref sig .tc := ⟨.hbm, 6356, rfl⟩
abbrev main_v3367 : Ref sig .tc := ⟨.hbm, 6357, rfl⟩
abbrev main_v3368 : Ref sig .tc := ⟨.hbm, 6358, rfl⟩
abbrev main_v3369 : Ref sig .tc := ⟨.hbm, 6359, rfl⟩
abbrev main_v3370 : Ref sig .tc := ⟨.hbm, 6360, rfl⟩
abbrev main_v3371 : Ref sig .tc := ⟨.hbm, 6361, rfl⟩
abbrev main_v3372 : Ref sig .tc := ⟨.hbm, 6362, rfl⟩
abbrev main_v3373 : Ref sig .tc := ⟨.hbm, 6363, rfl⟩
abbrev main_call203_cst : Ref sig .tc := ⟨.hbm, 6364, rfl⟩
abbrev main_call203_v0 : Ref sig .tc := ⟨.hbm, 6365, rfl⟩
abbrev main_v3374 : Ref sig .tc := ⟨.hbm, 6366, rfl⟩
abbrev main_v3375 : Ref sig .tc := ⟨.hbm, 6367, rfl⟩
abbrev main_v3376 : Ref sig .tc := ⟨.hbm, 6368, rfl⟩
abbrev main_v3377 : Ref sig .tc := ⟨.hbm, 6369, rfl⟩
abbrev main_v3378 : Ref sig .tc := ⟨.hbm, 6370, rfl⟩
abbrev main_v3379 : Ref sig .tc := ⟨.hbm, 6371, rfl⟩
abbrev main_v3380 : Ref sig .tc := ⟨.hbm, 6372, rfl⟩
abbrev main_v3381 : Ref sig .tc := ⟨.hbm, 6373, rfl⟩
abbrev main_v3382 : Ref sig .tc := ⟨.hbm, 6374, rfl⟩
abbrev main_v3383 : Ref sig .tc := ⟨.hbm, 6375, rfl⟩
abbrev main_v3384 : Ref sig .tc := ⟨.hbm, 6376, rfl⟩
abbrev main_v3385 : Ref sig .tc := ⟨.hbm, 6377, rfl⟩
abbrev main_v3386 : Ref sig .tc := ⟨.hbm, 6378, rfl⟩
abbrev main_v3387 : Ref sig .tc := ⟨.hbm, 6379, rfl⟩
abbrev main_cst_819 : Ref sig .tc := ⟨.hbm, 6380, rfl⟩
abbrev main_v3388 : Ref sig .tc := ⟨.hbm, 6381, rfl⟩
abbrev main_v3389 : Ref sig .tc := ⟨.hbm, 6382, rfl⟩
abbrev main_cst_820 : Ref sig .tc := ⟨.hbm, 6383, rfl⟩
abbrev main_v3390 : Ref sig .tc := ⟨.hbm, 6384, rfl⟩
abbrev main_v3391 : Ref sig .tc := ⟨.hbm, 6385, rfl⟩
abbrev main_v3392 : Ref sig .tc := ⟨.hbm, 6386, rfl⟩
abbrev main_v3393 : Ref sig .tc := ⟨.hbm, 6387, rfl⟩
abbrev main_v3394 : Ref sig .tc := ⟨.hbm, 6388, rfl⟩
abbrev main_cst_821 : Ref sig .tc := ⟨.hbm, 6389, rfl⟩
abbrev main_v3395 : Ref sig .tc := ⟨.hbm, 6390, rfl⟩
abbrev main_v3396 : Ref sig .tc := ⟨.hbm, 6391, rfl⟩
abbrev main_cst_822 : Ref sig .tc := ⟨.hbm, 6392, rfl⟩
abbrev main_v3397 : Ref sig .tc := ⟨.hbm, 6393, rfl⟩
abbrev main_v3398 : Ref sig .tc := ⟨.hbm, 6394, rfl⟩
abbrev main_v3399 : Ref sig .tc := ⟨.hbm, 6395, rfl⟩
abbrev main_v3400 : Ref sig .tc := ⟨.hbm, 6396, rfl⟩
abbrev main_cst_823 : Ref sig .tc := ⟨.hbm, 6397, rfl⟩
abbrev main_v3401 : Ref sig .tc := ⟨.hbm, 6398, rfl⟩
abbrev main_v3402 : Ref sig .tc := ⟨.hbm, 6399, rfl⟩
abbrev main_v3403 : Ref sig .tc := ⟨.hbm, 6400, rfl⟩
abbrev main_v3404 : Ref sig .tc := ⟨.hbm, 6401, rfl⟩
abbrev main_v3405 : Ref sig .tc := ⟨.hbm, 6402, rfl⟩
abbrev main_v3406 : Ref sig .tc := ⟨.hbm, 6403, rfl⟩
abbrev main_v3407 : Ref sig .tc := ⟨.hbm, 6404, rfl⟩
abbrev main_v3408 : Ref sig .tc := ⟨.hbm, 6405, rfl⟩
abbrev main_v3409 : Ref sig .tc := ⟨.hbm, 6406, rfl⟩
abbrev main_v3410 : Ref sig .tc := ⟨.hbm, 6407, rfl⟩
abbrev main_v3411 : Ref sig .tc := ⟨.hbm, 6408, rfl⟩
abbrev main_v3412 : Ref sig .tc := ⟨.hbm, 6409, rfl⟩
abbrev main_v3413 : Ref sig .tc := ⟨.hbm, 6410, rfl⟩
abbrev main_v3414 : Ref sig .tc := ⟨.hbm, 6411, rfl⟩
abbrev main_v3415 : Ref sig .tc := ⟨.hbm, 6412, rfl⟩
abbrev main_v3416 : Ref sig .tc := ⟨.hbm, 6413, rfl⟩
abbrev main_v3417 : Ref sig .tc := ⟨.hbm, 6414, rfl⟩
abbrev main_v3418 : Ref sig .tc := ⟨.hbm, 6415, rfl⟩
abbrev main_v3419 : Ref sig .tc := ⟨.hbm, 6416, rfl⟩
abbrev main_v3420 : Ref sig .tc := ⟨.hbm, 6417, rfl⟩
abbrev main_v3421 : Ref sig .tc := ⟨.hbm, 6418, rfl⟩
abbrev main_v3422 : Ref sig .tc := ⟨.hbm, 6419, rfl⟩
abbrev main_v3423 : Ref sig .tc := ⟨.hbm, 6420, rfl⟩
abbrev main_v3424 : Ref sig .tc := ⟨.hbm, 6421, rfl⟩
abbrev main_v3425 : Ref sig .tc := ⟨.hbm, 6422, rfl⟩
abbrev main_v3426 : Ref sig .tc := ⟨.hbm, 6423, rfl⟩
abbrev main_v3427 : Ref sig .tc := ⟨.hbm, 6424, rfl⟩
abbrev main_v3428 : Ref sig .tc := ⟨.hbm, 6425, rfl⟩
abbrev main_v3429 : Ref sig .tc := ⟨.hbm, 6426, rfl⟩
abbrev main_v3430 : Ref sig .tc := ⟨.hbm, 6427, rfl⟩
abbrev main_v3431 : Ref sig .tc := ⟨.hbm, 6428, rfl⟩
abbrev main_v3432 : Ref sig .tc := ⟨.hbm, 6429, rfl⟩
abbrev main_v3433 : Ref sig .tc := ⟨.hbm, 6430, rfl⟩
abbrev main_v3434 : Ref sig .tc := ⟨.hbm, 6431, rfl⟩
abbrev main_v3435 : Ref sig .tc := ⟨.hbm, 6432, rfl⟩
abbrev main_v3436 : Ref sig .tc := ⟨.hbm, 6433, rfl⟩
abbrev main_v3437 : Ref sig .tc := ⟨.hbm, 6434, rfl⟩
abbrev main_v3438 : Ref sig .tc := ⟨.hbm, 6435, rfl⟩
abbrev main_v3439 : Ref sig .tc := ⟨.hbm, 6436, rfl⟩
abbrev main_cst_824 : Ref sig .tc := ⟨.hbm, 6437, rfl⟩
abbrev main_v3440 : Ref sig .tc := ⟨.hbm, 6438, rfl⟩
abbrev main_cst_825 : Ref sig .tc := ⟨.hbm, 6439, rfl⟩
abbrev main_v3441 : Ref sig .tc := ⟨.hbm, 6440, rfl⟩
abbrev main_v3442 : Ref sig .tc := ⟨.hbm, 6441, rfl⟩
abbrev main_v3443 : Ref sig .tc := ⟨.hbm, 6442, rfl⟩
abbrev main_v3444 : Ref sig .tc := ⟨.hbm, 6443, rfl⟩
abbrev main_v3445 : Ref sig .tc := ⟨.hbm, 6444, rfl⟩
abbrev main_v3446 : Ref sig .tc := ⟨.hbm, 6445, rfl⟩
abbrev main_cst_826 : Ref sig .tc := ⟨.hbm, 6446, rfl⟩
abbrev main_v3447 : Ref sig .tc := ⟨.hbm, 6447, rfl⟩
abbrev main_v3448 : Ref sig .tc := ⟨.hbm, 6448, rfl⟩
abbrev main_v3449 : Ref sig .tc := ⟨.hbm, 6449, rfl⟩
abbrev main_v3450 : Ref sig .tc := ⟨.hbm, 6450, rfl⟩
abbrev main_v3451 : Ref sig .tc := ⟨.hbm, 6451, rfl⟩
abbrev main_v3452 : Ref sig .tc := ⟨.hbm, 6452, rfl⟩
abbrev main_v3453 : Ref sig .tc := ⟨.hbm, 6453, rfl⟩
abbrev main_v3454 : Ref sig .tc := ⟨.hbm, 6454, rfl⟩
abbrev main_v3455 : Ref sig .tc := ⟨.hbm, 6455, rfl⟩
abbrev main_v3456 : Ref sig .tc := ⟨.hbm, 6456, rfl⟩
abbrev main_v3457 : Ref sig .tc := ⟨.hbm, 6457, rfl⟩
abbrev main_cst_827 : Ref sig .tc := ⟨.hbm, 6458, rfl⟩
abbrev main_v3458 : Ref sig .tc := ⟨.hbm, 6459, rfl⟩
abbrev main_v3459 : Ref sig .tc := ⟨.hbm, 6460, rfl⟩
abbrev main_cst_828 : Ref sig .tc := ⟨.hbm, 6461, rfl⟩
abbrev main_v3460 : Ref sig .tc := ⟨.hbm, 6462, rfl⟩
abbrev main_v3461 : Ref sig .tc := ⟨.hbm, 6463, rfl⟩
abbrev main_v3462 : Ref sig .tc := ⟨.hbm, 6464, rfl⟩
abbrev main_v3463 : Ref sig .tc := ⟨.hbm, 6465, rfl⟩
abbrev main_v3464 : Ref sig .tc := ⟨.hbm, 6466, rfl⟩
abbrev main_v3465 : Ref sig .tc := ⟨.hbm, 6467, rfl⟩
abbrev main_v3466 : Ref sig .tc := ⟨.hbm, 6468, rfl⟩
abbrev main_v3467 : Ref sig .tc := ⟨.hbm, 6469, rfl⟩
abbrev main_v3468 : Ref sig .tc := ⟨.hbm, 6470, rfl⟩
abbrev main_v3469 : Ref sig .tc := ⟨.hbm, 6471, rfl⟩
abbrev main_v3470 : Ref sig .tc := ⟨.hbm, 6472, rfl⟩
abbrev main_cst_829 : Ref sig .tc := ⟨.hbm, 6473, rfl⟩
abbrev main_v3471 : Ref sig .tc := ⟨.hbm, 6474, rfl⟩
abbrev main_v3472 : Ref sig .tc := ⟨.hbm, 6475, rfl⟩
abbrev main_cst_830 : Ref sig .tc := ⟨.hbm, 6476, rfl⟩
abbrev main_v3473 : Ref sig .tc := ⟨.hbm, 6477, rfl⟩
abbrev main_v3474 : Ref sig .tc := ⟨.hbm, 6478, rfl⟩
abbrev main_cst_831 : Ref sig .tc := ⟨.hbm, 6479, rfl⟩
abbrev main_v3475 : Ref sig .tc := ⟨.hbm, 6480, rfl⟩
abbrev main_v3476 : Ref sig .tc := ⟨.hbm, 6481, rfl⟩
abbrev main_cst_832 : Ref sig .tc := ⟨.hbm, 6482, rfl⟩
abbrev main_v3477 : Ref sig .tc := ⟨.hbm, 6483, rfl⟩
abbrev main_v3478 : Ref sig .tc := ⟨.hbm, 6484, rfl⟩
abbrev main_v3479 : Ref sig .tc := ⟨.hbm, 6485, rfl⟩
abbrev main_v3480 : Ref sig .tc := ⟨.hbm, 6486, rfl⟩
abbrev main_cst_833 : Ref sig .tc := ⟨.hbm, 6487, rfl⟩
abbrev main_v3481 : Ref sig .tc := ⟨.hbm, 6488, rfl⟩
abbrev main_v3482 : Ref sig .tc := ⟨.hbm, 6489, rfl⟩
abbrev main_cst_834 : Ref sig .tc := ⟨.hbm, 6490, rfl⟩
abbrev main_v3483 : Ref sig .tc := ⟨.hbm, 6491, rfl⟩
abbrev main_v3484 : Ref sig .tc := ⟨.hbm, 6492, rfl⟩
abbrev main_cst_835 : Ref sig .tc := ⟨.hbm, 6493, rfl⟩
abbrev main_v3485 : Ref sig .tc := ⟨.hbm, 6494, rfl⟩
abbrev main_v3486 : Ref sig .tc := ⟨.hbm, 6495, rfl⟩
abbrev main_cst_836 : Ref sig .tc := ⟨.hbm, 6496, rfl⟩
abbrev main_v3487 : Ref sig .tc := ⟨.hbm, 6497, rfl⟩
abbrev main_v3488 : Ref sig .tc := ⟨.hbm, 6498, rfl⟩
abbrev main_v3489 : Ref sig .tc := ⟨.hbm, 6499, rfl⟩
abbrev main_v3490 : Ref sig .tc := ⟨.hbm, 6500, rfl⟩
abbrev main_cst_837 : Ref sig .tc := ⟨.hbm, 6501, rfl⟩
abbrev main_v3491 : Ref sig .tc := ⟨.hbm, 6502, rfl⟩
abbrev main_v3492 : Ref sig .tc := ⟨.hbm, 6503, rfl⟩
abbrev main_cst_838 : Ref sig .tc := ⟨.hbm, 6504, rfl⟩
abbrev main_v3493 : Ref sig .tc := ⟨.hbm, 6505, rfl⟩
abbrev main_v3494 : Ref sig .tc := ⟨.hbm, 6506, rfl⟩
abbrev main_v3495 : Ref sig .tc := ⟨.hbm, 6507, rfl⟩
abbrev main_v3496 : Ref sig .tc := ⟨.hbm, 6508, rfl⟩
abbrev main_v3497 : Ref sig .tc := ⟨.hbm, 6509, rfl⟩
abbrev main_v3498 : Ref sig .tc := ⟨.hbm, 6510, rfl⟩
abbrev main_v3499 : Ref sig .tc := ⟨.hbm, 6511, rfl⟩
abbrev main_v3500 : Ref sig .tc := ⟨.hbm, 6512, rfl⟩
abbrev main_v3501 : Ref sig .tc := ⟨.hbm, 6513, rfl⟩
abbrev main_v3502 : Ref sig .tc := ⟨.hbm, 6514, rfl⟩
abbrev main_v3503 : Ref sig .tc := ⟨.hbm, 6515, rfl⟩
abbrev main_v3504 : Ref sig .tc := ⟨.hbm, 6516, rfl⟩
abbrev main_v3505 : Ref sig .tc := ⟨.hbm, 6517, rfl⟩
abbrev main_v3506 : Ref sig .tc := ⟨.hbm, 6518, rfl⟩
abbrev main_v3507 : Ref sig .tc := ⟨.hbm, 6519, rfl⟩
abbrev main_cst_839 : Ref sig .tc := ⟨.hbm, 6520, rfl⟩
abbrev main_v3508 : Ref sig .tc := ⟨.hbm, 6521, rfl⟩
abbrev main_v3509 : Ref sig .tc := ⟨.hbm, 6522, rfl⟩
abbrev main_cst_840 : Ref sig .tc := ⟨.hbm, 6523, rfl⟩
abbrev main_v3510 : Ref sig .tc := ⟨.hbm, 6524, rfl⟩
abbrev main_v3511 : Ref sig .tc := ⟨.hbm, 6525, rfl⟩
abbrev main_v3512 : Ref sig .tc := ⟨.hbm, 6526, rfl⟩
abbrev main_cst_841 : Ref sig .tc := ⟨.hbm, 6527, rfl⟩
abbrev main_v3513 : Ref sig .tc := ⟨.hbm, 6528, rfl⟩
abbrev main_v3514 : Ref sig .tc := ⟨.hbm, 6529, rfl⟩
abbrev main_v3515 : Ref sig .tc := ⟨.hbm, 6530, rfl⟩
abbrev main_cst_842 : Ref sig .tc := ⟨.hbm, 6531, rfl⟩
abbrev main_v3516 : Ref sig .tc := ⟨.hbm, 6532, rfl⟩
abbrev main_v3517 : Ref sig .tc := ⟨.hbm, 6533, rfl⟩
abbrev main_v3518 : Ref sig .tc := ⟨.hbm, 6534, rfl⟩
abbrev main_c_843 : Ref sig .tc := ⟨.hbm, 6535, rfl⟩
abbrev main_c_844 : Ref sig .tc := ⟨.hbm, 6536, rfl⟩
abbrev main_call204_v0 : Ref sig .tc := ⟨.hbm, 6537, rfl⟩
abbrev main_call204_v1 : Ref sig .tc := ⟨.hbm, 6538, rfl⟩
abbrev main_call204_v2 : Ref sig .tc := ⟨.hbm, 6539, rfl⟩
abbrev main_call204_v3 : Ref sig .tc := ⟨.hbm, 6540, rfl⟩
abbrev main_call204_v4 : Ref sig .tc := ⟨.hbm, 6541, rfl⟩
abbrev main_v3519 : Ref sig .tc := ⟨.hbm, 6542, rfl⟩
abbrev main_v3520 : Ref sig .tc := ⟨.hbm, 6543, rfl⟩
abbrev main_c_845 : Ref sig .tc := ⟨.hbm, 6544, rfl⟩
abbrev main_c_846 : Ref sig .tc := ⟨.hbm, 6545, rfl⟩
abbrev main_call205_v0 : Ref sig .tc := ⟨.hbm, 6546, rfl⟩
abbrev main_call205_v1 : Ref sig .tc := ⟨.hbm, 6547, rfl⟩
abbrev main_call205_v2 : Ref sig .tc := ⟨.hbm, 6548, rfl⟩
abbrev main_call205_v3 : Ref sig .tc := ⟨.hbm, 6549, rfl⟩
abbrev main_call205_v4 : Ref sig .tc := ⟨.hbm, 6550, rfl⟩
abbrev main_v3521 : Ref sig .tc := ⟨.hbm, 6551, rfl⟩
abbrev main_v3522 : Ref sig .tc := ⟨.hbm, 6552, rfl⟩
abbrev main_c_847 : Ref sig .tc := ⟨.hbm, 6553, rfl⟩
abbrev main_v3523 : Ref sig .tc := ⟨.hbm, 6554, rfl⟩
abbrev main_v3524 : Ref sig .tc := ⟨.hbm, 6555, rfl⟩
abbrev main_v3525 : Ref sig .tc := ⟨.hbm, 6556, rfl⟩
abbrev main_v3526 : Ref sig .tc := ⟨.hbm, 6557, rfl⟩
abbrev main_v3527 : Ref sig .tc := ⟨.hbm, 6558, rfl⟩
abbrev main_v3528 : Ref sig .tc := ⟨.hbm, 6559, rfl⟩
abbrev main_call206_c : Ref sig .tc := ⟨.hbm, 6560, rfl⟩
abbrev main_call206_v0 : Ref sig .tc := ⟨.hbm, 6561, rfl⟩
abbrev main_call206_v1 : Ref sig .tc := ⟨.hbm, 6562, rfl⟩
abbrev main_call206_c_0 : Ref sig .tc := ⟨.hbm, 6563, rfl⟩
abbrev main_call206_v2 : Ref sig .tc := ⟨.hbm, 6564, rfl⟩
abbrev main_call206_v3 : Ref sig .tc := ⟨.hbm, 6565, rfl⟩
abbrev main_call206_v4 : Ref sig .tc := ⟨.hbm, 6566, rfl⟩
abbrev main_call206_v5 : Ref sig .tc := ⟨.hbm, 6567, rfl⟩
abbrev main_call206_c_1 : Ref sig .tc := ⟨.hbm, 6568, rfl⟩
abbrev main_call206_c_2 : Ref sig .tc := ⟨.hbm, 6569, rfl⟩
abbrev main_call206_v6 : Ref sig .tc := ⟨.hbm, 6570, rfl⟩
abbrev main_call206_v7 : Ref sig .tc := ⟨.hbm, 6571, rfl⟩
abbrev main_call206_v8 : Ref sig .tc := ⟨.hbm, 6572, rfl⟩
abbrev main_call206_v9 : Ref sig .tc := ⟨.hbm, 6573, rfl⟩
abbrev main_call206_v10 : Ref sig .tc := ⟨.hbm, 6574, rfl⟩
abbrev main_call206_v11 : Ref sig .tc := ⟨.hbm, 6575, rfl⟩
abbrev main_call206_c_3 : Ref sig .tc := ⟨.hbm, 6576, rfl⟩
abbrev main_call206_v12 : Ref sig .tc := ⟨.hbm, 6577, rfl⟩
abbrev main_call206_v13 : Ref sig .tc := ⟨.hbm, 6578, rfl⟩
abbrev main_call206_cst : Ref sig .tc := ⟨.hbm, 6579, rfl⟩
abbrev main_call206_v14 : Ref sig .tc := ⟨.hbm, 6580, rfl⟩
abbrev main_v3529 : Ref sig .tc := ⟨.hbm, 6581, rfl⟩
abbrev main_v3530 : Ref sig .tc := ⟨.hbm, 6582, rfl⟩
abbrev main_v3531 : Ref sig .tc := ⟨.hbm, 6583, rfl⟩
abbrev main_v3532 : Ref sig .tc := ⟨.hbm, 6584, rfl⟩
abbrev main_v3533 : Ref sig .tc := ⟨.hbm, 6585, rfl⟩
abbrev main_v3534 : Ref sig .tc := ⟨.hbm, 6586, rfl⟩
abbrev main_v3535 : Ref sig .tc := ⟨.hbm, 6587, rfl⟩
abbrev main_v3536 : Ref sig .tc := ⟨.hbm, 6588, rfl⟩
abbrev main_v3537 : Ref sig .tc := ⟨.hbm, 6589, rfl⟩
abbrev main_cst_848 : Ref sig .tc := ⟨.hbm, 6590, rfl⟩
abbrev main_v3538 : Ref sig .tc := ⟨.hbm, 6591, rfl⟩
abbrev main_v3539 : Ref sig .tc := ⟨.hbm, 6592, rfl⟩
abbrev main_cst_849 : Ref sig .tc := ⟨.hbm, 6593, rfl⟩
abbrev main_v3540 : Ref sig .tc := ⟨.hbm, 6594, rfl⟩
abbrev main_v3541 : Ref sig .tc := ⟨.hbm, 6595, rfl⟩
abbrev main_v3542 : Ref sig .tc := ⟨.hbm, 6596, rfl⟩
abbrev main_cst_850 : Ref sig .tc := ⟨.hbm, 6597, rfl⟩
abbrev main_v3543 : Ref sig .tc := ⟨.hbm, 6598, rfl⟩
abbrev main_v3544 : Ref sig .tc := ⟨.hbm, 6599, rfl⟩
abbrev main_v3545 : Ref sig .tc := ⟨.hbm, 6600, rfl⟩
abbrev main_cst_851 : Ref sig .tc := ⟨.hbm, 6601, rfl⟩
abbrev main_v3546 : Ref sig .tc := ⟨.hbm, 6602, rfl⟩
abbrev main_v3547 : Ref sig .tc := ⟨.hbm, 6603, rfl⟩
abbrev main_v3548 : Ref sig .tc := ⟨.hbm, 6604, rfl⟩
abbrev main_c_852 : Ref sig .tc := ⟨.hbm, 6605, rfl⟩
abbrev main_c_853 : Ref sig .tc := ⟨.hbm, 6606, rfl⟩
abbrev main_call207_v0 : Ref sig .tc := ⟨.hbm, 6607, rfl⟩
abbrev main_call207_v1 : Ref sig .tc := ⟨.hbm, 6608, rfl⟩
abbrev main_call207_v2 : Ref sig .tc := ⟨.hbm, 6609, rfl⟩
abbrev main_call207_v3 : Ref sig .tc := ⟨.hbm, 6610, rfl⟩
abbrev main_call207_v4 : Ref sig .tc := ⟨.hbm, 6611, rfl⟩
abbrev main_v3549 : Ref sig .tc := ⟨.hbm, 6612, rfl⟩
abbrev main_v3550 : Ref sig .tc := ⟨.hbm, 6613, rfl⟩
abbrev main_c_854 : Ref sig .tc := ⟨.hbm, 6614, rfl⟩
abbrev main_c_855 : Ref sig .tc := ⟨.hbm, 6615, rfl⟩
abbrev main_call208_v0 : Ref sig .tc := ⟨.hbm, 6616, rfl⟩
abbrev main_call208_v1 : Ref sig .tc := ⟨.hbm, 6617, rfl⟩
abbrev main_call208_v2 : Ref sig .tc := ⟨.hbm, 6618, rfl⟩
abbrev main_call208_v3 : Ref sig .tc := ⟨.hbm, 6619, rfl⟩
abbrev main_call208_v4 : Ref sig .tc := ⟨.hbm, 6620, rfl⟩
abbrev main_v3551 : Ref sig .tc := ⟨.hbm, 6621, rfl⟩
abbrev main_v3552 : Ref sig .tc := ⟨.hbm, 6622, rfl⟩
abbrev main_c_856 : Ref sig .tc := ⟨.hbm, 6623, rfl⟩
abbrev main_v3553 : Ref sig .tc := ⟨.hbm, 6624, rfl⟩
abbrev main_v3554 : Ref sig .tc := ⟨.hbm, 6625, rfl⟩
abbrev main_v3555 : Ref sig .tc := ⟨.hbm, 6626, rfl⟩
abbrev main_v3556 : Ref sig .tc := ⟨.hbm, 6627, rfl⟩
abbrev main_v3557 : Ref sig .tc := ⟨.hbm, 6628, rfl⟩
abbrev main_v3558 : Ref sig .tc := ⟨.hbm, 6629, rfl⟩
abbrev main_call209_c : Ref sig .tc := ⟨.hbm, 6630, rfl⟩
abbrev main_call209_v0 : Ref sig .tc := ⟨.hbm, 6631, rfl⟩
abbrev main_call209_v1 : Ref sig .tc := ⟨.hbm, 6632, rfl⟩
abbrev main_call209_c_0 : Ref sig .tc := ⟨.hbm, 6633, rfl⟩
abbrev main_call209_v2 : Ref sig .tc := ⟨.hbm, 6634, rfl⟩
abbrev main_call209_v3 : Ref sig .tc := ⟨.hbm, 6635, rfl⟩
abbrev main_call209_v4 : Ref sig .tc := ⟨.hbm, 6636, rfl⟩
abbrev main_call209_v5 : Ref sig .tc := ⟨.hbm, 6637, rfl⟩
abbrev main_call209_c_1 : Ref sig .tc := ⟨.hbm, 6638, rfl⟩
abbrev main_call209_c_2 : Ref sig .tc := ⟨.hbm, 6639, rfl⟩
abbrev main_call209_v6 : Ref sig .tc := ⟨.hbm, 6640, rfl⟩
abbrev main_call209_v7 : Ref sig .tc := ⟨.hbm, 6641, rfl⟩
abbrev main_call209_v8 : Ref sig .tc := ⟨.hbm, 6642, rfl⟩
abbrev main_call209_v9 : Ref sig .tc := ⟨.hbm, 6643, rfl⟩
abbrev main_call209_v10 : Ref sig .tc := ⟨.hbm, 6644, rfl⟩
abbrev main_call209_v11 : Ref sig .tc := ⟨.hbm, 6645, rfl⟩
abbrev main_call209_c_3 : Ref sig .tc := ⟨.hbm, 6646, rfl⟩
abbrev main_call209_v12 : Ref sig .tc := ⟨.hbm, 6647, rfl⟩
abbrev main_call209_v13 : Ref sig .tc := ⟨.hbm, 6648, rfl⟩
abbrev main_call209_cst : Ref sig .tc := ⟨.hbm, 6649, rfl⟩
abbrev main_call209_v14 : Ref sig .tc := ⟨.hbm, 6650, rfl⟩
abbrev main_v3559 : Ref sig .tc := ⟨.hbm, 6651, rfl⟩
abbrev main_v3560 : Ref sig .tc := ⟨.hbm, 6652, rfl⟩
abbrev main_v3561 : Ref sig .tc := ⟨.hbm, 6653, rfl⟩
abbrev main_v3562 : Ref sig .tc := ⟨.hbm, 6654, rfl⟩
abbrev main_v3563 : Ref sig .tc := ⟨.hbm, 6655, rfl⟩
abbrev main_v3564 : Ref sig .tc := ⟨.hbm, 6656, rfl⟩
abbrev main_v3565 : Ref sig .tc := ⟨.hbm, 6657, rfl⟩
abbrev main_v3566 : Ref sig .tc := ⟨.hbm, 6658, rfl⟩
abbrev main_v3567 : Ref sig .tc := ⟨.hbm, 6659, rfl⟩
abbrev main_v3568 : Ref sig .tc := ⟨.hbm, 6660, rfl⟩
abbrev main_cst_857 : Ref sig .tc := ⟨.hbm, 6661, rfl⟩
abbrev main_v3569 : Ref sig .tc := ⟨.hbm, 6662, rfl⟩
abbrev main_v3570 : Ref sig .tc := ⟨.hbm, 6663, rfl⟩
abbrev main_cst_858 : Ref sig .tc := ⟨.hbm, 6664, rfl⟩
abbrev main_v3571 : Ref sig .tc := ⟨.hbm, 6665, rfl⟩
abbrev main_v3572 : Ref sig .tc := ⟨.hbm, 6666, rfl⟩
abbrev main_v3573 : Ref sig .tc := ⟨.hbm, 6667, rfl⟩
abbrev main_cst_859 : Ref sig .tc := ⟨.hbm, 6668, rfl⟩
abbrev main_v3574 : Ref sig .tc := ⟨.hbm, 6669, rfl⟩
abbrev main_v3575 : Ref sig .tc := ⟨.hbm, 6670, rfl⟩
abbrev main_v3576 : Ref sig .tc := ⟨.hbm, 6671, rfl⟩
abbrev main_cst_860 : Ref sig .tc := ⟨.hbm, 6672, rfl⟩
abbrev main_v3577 : Ref sig .tc := ⟨.hbm, 6673, rfl⟩
abbrev main_v3578 : Ref sig .tc := ⟨.hbm, 6674, rfl⟩
abbrev main_v3579 : Ref sig .tc := ⟨.hbm, 6675, rfl⟩
abbrev main_c_861 : Ref sig .tc := ⟨.hbm, 6676, rfl⟩
abbrev main_c_862 : Ref sig .tc := ⟨.hbm, 6677, rfl⟩
abbrev main_call210_v0 : Ref sig .tc := ⟨.hbm, 6678, rfl⟩
abbrev main_call210_v1 : Ref sig .tc := ⟨.hbm, 6679, rfl⟩
abbrev main_call210_v2 : Ref sig .tc := ⟨.hbm, 6680, rfl⟩
abbrev main_call210_v3 : Ref sig .tc := ⟨.hbm, 6681, rfl⟩
abbrev main_call210_v4 : Ref sig .tc := ⟨.hbm, 6682, rfl⟩
abbrev main_v3580 : Ref sig .tc := ⟨.hbm, 6683, rfl⟩
abbrev main_v3581 : Ref sig .tc := ⟨.hbm, 6684, rfl⟩
abbrev main_c_863 : Ref sig .tc := ⟨.hbm, 6685, rfl⟩
abbrev main_c_864 : Ref sig .tc := ⟨.hbm, 6686, rfl⟩
abbrev main_call211_v0 : Ref sig .tc := ⟨.hbm, 6687, rfl⟩
abbrev main_call211_v1 : Ref sig .tc := ⟨.hbm, 6688, rfl⟩
abbrev main_call211_v2 : Ref sig .tc := ⟨.hbm, 6689, rfl⟩
abbrev main_call211_v3 : Ref sig .tc := ⟨.hbm, 6690, rfl⟩
abbrev main_call211_v4 : Ref sig .tc := ⟨.hbm, 6691, rfl⟩
abbrev main_v3582 : Ref sig .tc := ⟨.hbm, 6692, rfl⟩
abbrev main_v3583 : Ref sig .tc := ⟨.hbm, 6693, rfl⟩
abbrev main_c_865 : Ref sig .tc := ⟨.hbm, 6694, rfl⟩
abbrev main_v3584 : Ref sig .tc := ⟨.hbm, 6695, rfl⟩
abbrev main_v3585 : Ref sig .tc := ⟨.hbm, 6696, rfl⟩
abbrev main_v3586 : Ref sig .tc := ⟨.hbm, 6697, rfl⟩
abbrev main_v3587 : Ref sig .tc := ⟨.hbm, 6698, rfl⟩
abbrev main_v3588 : Ref sig .tc := ⟨.hbm, 6699, rfl⟩
abbrev main_v3589 : Ref sig .tc := ⟨.hbm, 6700, rfl⟩
abbrev main_call212_c : Ref sig .tc := ⟨.hbm, 6701, rfl⟩
abbrev main_call212_v0 : Ref sig .tc := ⟨.hbm, 6702, rfl⟩
abbrev main_call212_v1 : Ref sig .tc := ⟨.hbm, 6703, rfl⟩
abbrev main_call212_c_0 : Ref sig .tc := ⟨.hbm, 6704, rfl⟩
abbrev main_call212_v2 : Ref sig .tc := ⟨.hbm, 6705, rfl⟩
abbrev main_call212_v3 : Ref sig .tc := ⟨.hbm, 6706, rfl⟩
abbrev main_call212_v4 : Ref sig .tc := ⟨.hbm, 6707, rfl⟩
abbrev main_call212_v5 : Ref sig .tc := ⟨.hbm, 6708, rfl⟩
abbrev main_call212_c_1 : Ref sig .tc := ⟨.hbm, 6709, rfl⟩
abbrev main_call212_c_2 : Ref sig .tc := ⟨.hbm, 6710, rfl⟩
abbrev main_call212_v6 : Ref sig .tc := ⟨.hbm, 6711, rfl⟩
abbrev main_call212_v7 : Ref sig .tc := ⟨.hbm, 6712, rfl⟩
abbrev main_call212_v8 : Ref sig .tc := ⟨.hbm, 6713, rfl⟩
abbrev main_call212_v9 : Ref sig .tc := ⟨.hbm, 6714, rfl⟩
abbrev main_call212_v10 : Ref sig .tc := ⟨.hbm, 6715, rfl⟩
abbrev main_call212_v11 : Ref sig .tc := ⟨.hbm, 6716, rfl⟩
abbrev main_call212_c_3 : Ref sig .tc := ⟨.hbm, 6717, rfl⟩
abbrev main_call212_v12 : Ref sig .tc := ⟨.hbm, 6718, rfl⟩
abbrev main_call212_v13 : Ref sig .tc := ⟨.hbm, 6719, rfl⟩
abbrev main_call212_cst : Ref sig .tc := ⟨.hbm, 6720, rfl⟩
abbrev main_call212_v14 : Ref sig .tc := ⟨.hbm, 6721, rfl⟩
abbrev main_v3590 : Ref sig .tc := ⟨.hbm, 6722, rfl⟩
abbrev main_v3591 : Ref sig .tc := ⟨.hbm, 6723, rfl⟩
abbrev main_v3592 : Ref sig .tc := ⟨.hbm, 6724, rfl⟩
abbrev main_v3593 : Ref sig .tc := ⟨.hbm, 6725, rfl⟩
abbrev main_v3594 : Ref sig .tc := ⟨.hbm, 6726, rfl⟩
abbrev main_v3595 : Ref sig .tc := ⟨.hbm, 6727, rfl⟩
abbrev main_v3596 : Ref sig .tc := ⟨.hbm, 6728, rfl⟩
abbrev main_v3597 : Ref sig .tc := ⟨.hbm, 6729, rfl⟩
abbrev main_v3598 : Ref sig .tc := ⟨.hbm, 6730, rfl⟩
abbrev main_v3599 : Ref sig .tc := ⟨.hbm, 6731, rfl⟩
abbrev main_cst_866 : Ref sig .tc := ⟨.hbm, 6732, rfl⟩
abbrev main_v3600 : Ref sig .tc := ⟨.hbm, 6733, rfl⟩
abbrev main_v3601 : Ref sig .tc := ⟨.hbm, 6734, rfl⟩
abbrev main_cst_867 : Ref sig .tc := ⟨.hbm, 6735, rfl⟩
abbrev main_v3602 : Ref sig .tc := ⟨.hbm, 6736, rfl⟩
abbrev main_v3603 : Ref sig .tc := ⟨.hbm, 6737, rfl⟩
abbrev main_v3604 : Ref sig .tc := ⟨.hbm, 6738, rfl⟩
abbrev main_cst_868 : Ref sig .tc := ⟨.hbm, 6739, rfl⟩
abbrev main_v3605 : Ref sig .tc := ⟨.hbm, 6740, rfl⟩
abbrev main_v3606 : Ref sig .tc := ⟨.hbm, 6741, rfl⟩
abbrev main_v3607 : Ref sig .tc := ⟨.hbm, 6742, rfl⟩
abbrev main_cst_869 : Ref sig .tc := ⟨.hbm, 6743, rfl⟩
abbrev main_v3608 : Ref sig .tc := ⟨.hbm, 6744, rfl⟩
abbrev main_v3609 : Ref sig .tc := ⟨.hbm, 6745, rfl⟩
abbrev main_v3610 : Ref sig .tc := ⟨.hbm, 6746, rfl⟩
abbrev main_c_870 : Ref sig .tc := ⟨.hbm, 6747, rfl⟩
abbrev main_c_871 : Ref sig .tc := ⟨.hbm, 6748, rfl⟩
abbrev main_call213_v0 : Ref sig .tc := ⟨.hbm, 6749, rfl⟩
abbrev main_call213_v1 : Ref sig .tc := ⟨.hbm, 6750, rfl⟩
abbrev main_call213_v2 : Ref sig .tc := ⟨.hbm, 6751, rfl⟩
abbrev main_call213_v3 : Ref sig .tc := ⟨.hbm, 6752, rfl⟩
abbrev main_call213_v4 : Ref sig .tc := ⟨.hbm, 6753, rfl⟩
abbrev main_v3611 : Ref sig .tc := ⟨.hbm, 6754, rfl⟩
abbrev main_v3612 : Ref sig .tc := ⟨.hbm, 6755, rfl⟩
abbrev main_c_872 : Ref sig .tc := ⟨.hbm, 6756, rfl⟩
abbrev main_c_873 : Ref sig .tc := ⟨.hbm, 6757, rfl⟩
abbrev main_call214_v0 : Ref sig .tc := ⟨.hbm, 6758, rfl⟩
abbrev main_call214_v1 : Ref sig .tc := ⟨.hbm, 6759, rfl⟩
abbrev main_call214_v2 : Ref sig .tc := ⟨.hbm, 6760, rfl⟩
abbrev main_call214_v3 : Ref sig .tc := ⟨.hbm, 6761, rfl⟩
abbrev main_call214_v4 : Ref sig .tc := ⟨.hbm, 6762, rfl⟩
abbrev main_v3613 : Ref sig .tc := ⟨.hbm, 6763, rfl⟩
abbrev main_v3614 : Ref sig .tc := ⟨.hbm, 6764, rfl⟩
abbrev main_c_874 : Ref sig .tc := ⟨.hbm, 6765, rfl⟩
abbrev main_v3615 : Ref sig .tc := ⟨.hbm, 6766, rfl⟩
abbrev main_v3616 : Ref sig .tc := ⟨.hbm, 6767, rfl⟩
abbrev main_v3617 : Ref sig .tc := ⟨.hbm, 6768, rfl⟩
abbrev main_v3618 : Ref sig .tc := ⟨.hbm, 6769, rfl⟩
abbrev main_v3619 : Ref sig .tc := ⟨.hbm, 6770, rfl⟩
abbrev main_v3620 : Ref sig .tc := ⟨.hbm, 6771, rfl⟩
abbrev main_call215_c : Ref sig .tc := ⟨.hbm, 6772, rfl⟩
abbrev main_call215_v0 : Ref sig .tc := ⟨.hbm, 6773, rfl⟩
abbrev main_call215_v1 : Ref sig .tc := ⟨.hbm, 6774, rfl⟩
abbrev main_call215_c_0 : Ref sig .tc := ⟨.hbm, 6775, rfl⟩
abbrev main_call215_v2 : Ref sig .tc := ⟨.hbm, 6776, rfl⟩
abbrev main_call215_v3 : Ref sig .tc := ⟨.hbm, 6777, rfl⟩
abbrev main_call215_v4 : Ref sig .tc := ⟨.hbm, 6778, rfl⟩
abbrev main_call215_v5 : Ref sig .tc := ⟨.hbm, 6779, rfl⟩
abbrev main_call215_c_1 : Ref sig .tc := ⟨.hbm, 6780, rfl⟩
abbrev main_call215_c_2 : Ref sig .tc := ⟨.hbm, 6781, rfl⟩
abbrev main_call215_v6 : Ref sig .tc := ⟨.hbm, 6782, rfl⟩
abbrev main_call215_v7 : Ref sig .tc := ⟨.hbm, 6783, rfl⟩
abbrev main_call215_v8 : Ref sig .tc := ⟨.hbm, 6784, rfl⟩
abbrev main_call215_v9 : Ref sig .tc := ⟨.hbm, 6785, rfl⟩
abbrev main_call215_v10 : Ref sig .tc := ⟨.hbm, 6786, rfl⟩
abbrev main_call215_v11 : Ref sig .tc := ⟨.hbm, 6787, rfl⟩
abbrev main_call215_c_3 : Ref sig .tc := ⟨.hbm, 6788, rfl⟩
abbrev main_call215_v12 : Ref sig .tc := ⟨.hbm, 6789, rfl⟩
abbrev main_call215_v13 : Ref sig .tc := ⟨.hbm, 6790, rfl⟩
abbrev main_call215_cst : Ref sig .tc := ⟨.hbm, 6791, rfl⟩
abbrev main_call215_v14 : Ref sig .tc := ⟨.hbm, 6792, rfl⟩
abbrev main_v3621 : Ref sig .tc := ⟨.hbm, 6793, rfl⟩
abbrev main_v3622 : Ref sig .tc := ⟨.hbm, 6794, rfl⟩
abbrev main_v3623 : Ref sig .tc := ⟨.hbm, 6795, rfl⟩
abbrev main_v3624 : Ref sig .tc := ⟨.hbm, 6796, rfl⟩
abbrev main_v3625 : Ref sig .tc := ⟨.hbm, 6797, rfl⟩
abbrev main_v3626 : Ref sig .tc := ⟨.hbm, 6798, rfl⟩
abbrev main_v3627 : Ref sig .tc := ⟨.hbm, 6799, rfl⟩
abbrev main_v3628 : Ref sig .tc := ⟨.hbm, 6800, rfl⟩
abbrev main_v3629 : Ref sig .tc := ⟨.hbm, 6801, rfl⟩
abbrev main_v3630 : Ref sig .tc := ⟨.hbm, 6802, rfl⟩
abbrev main_v3631 : Ref sig .tc := ⟨.hbm, 6803, rfl⟩
abbrev main_v3632 : Ref sig .tc := ⟨.hbm, 6804, rfl⟩
abbrev main_v3633 : Ref sig .tc := ⟨.hbm, 6805, rfl⟩
abbrev main_v3634 : Ref sig .tc := ⟨.hbm, 6806, rfl⟩
abbrev main_v3635 : Ref sig .tc := ⟨.hbm, 6807, rfl⟩
abbrev main_v3636 : Ref sig .tc := ⟨.hbm, 6808, rfl⟩
abbrev main_v3637 : Ref sig .tc := ⟨.hbm, 6809, rfl⟩
abbrev main_v3638 : Ref sig .tc := ⟨.hbm, 6810, rfl⟩
abbrev main_v3639 : Ref sig .tc := ⟨.hbm, 6811, rfl⟩
abbrev main_cst_875 : Ref sig .tc := ⟨.hbm, 6812, rfl⟩
abbrev main_v3640 : Ref sig .tc := ⟨.hbm, 6813, rfl⟩
abbrev main_v3641 : Ref sig .tc := ⟨.hbm, 6814, rfl⟩
abbrev main_cst_876 : Ref sig .tc := ⟨.hbm, 6815, rfl⟩
abbrev main_v3642 : Ref sig .tc := ⟨.hbm, 6816, rfl⟩
abbrev main_v3643 : Ref sig .tc := ⟨.hbm, 6817, rfl⟩
abbrev main_cst_877 : Ref sig .tc := ⟨.hbm, 6818, rfl⟩
abbrev main_v3644 : Ref sig .tc := ⟨.hbm, 6819, rfl⟩
abbrev main_v3645 : Ref sig .tc := ⟨.hbm, 6820, rfl⟩
abbrev main_cst_878 : Ref sig .tc := ⟨.hbm, 6821, rfl⟩
abbrev main_v3646 : Ref sig .tc := ⟨.hbm, 6822, rfl⟩
abbrev main_v3647 : Ref sig .tc := ⟨.hbm, 6823, rfl⟩
abbrev main_v3648 : Ref sig .tc := ⟨.hbm, 6824, rfl⟩
abbrev main_v3649 : Ref sig .tc := ⟨.hbm, 6825, rfl⟩
abbrev main_cst_879 : Ref sig .tc := ⟨.hbm, 6826, rfl⟩
abbrev main_v3650 : Ref sig .tc := ⟨.hbm, 6827, rfl⟩
abbrev main_v3651 : Ref sig .tc := ⟨.hbm, 6828, rfl⟩
abbrev main_cst_880 : Ref sig .tc := ⟨.hbm, 6829, rfl⟩
abbrev main_v3652 : Ref sig .tc := ⟨.hbm, 6830, rfl⟩
abbrev main_v3653 : Ref sig .tc := ⟨.hbm, 6831, rfl⟩
abbrev main_cst_881 : Ref sig .tc := ⟨.hbm, 6832, rfl⟩
abbrev main_v3654 : Ref sig .tc := ⟨.hbm, 6833, rfl⟩
abbrev main_v3655 : Ref sig .tc := ⟨.hbm, 6834, rfl⟩
abbrev main_cst_882 : Ref sig .tc := ⟨.hbm, 6835, rfl⟩
abbrev main_v3656 : Ref sig .tc := ⟨.hbm, 6836, rfl⟩
abbrev main_v3657 : Ref sig .tc := ⟨.hbm, 6837, rfl⟩
abbrev main_v3658 : Ref sig .tc := ⟨.hbm, 6838, rfl⟩
abbrev main_v3659 : Ref sig .tc := ⟨.hbm, 6839, rfl⟩
abbrev main_cst_883 : Ref sig .tc := ⟨.hbm, 6840, rfl⟩
abbrev main_v3660 : Ref sig .tc := ⟨.hbm, 6841, rfl⟩
abbrev main_v3661 : Ref sig .tc := ⟨.hbm, 6842, rfl⟩
abbrev main_cst_884 : Ref sig .tc := ⟨.hbm, 6843, rfl⟩
abbrev main_v3662 : Ref sig .tc := ⟨.hbm, 6844, rfl⟩
abbrev main_v3663 : Ref sig .tc := ⟨.hbm, 6845, rfl⟩
abbrev main_v3664 : Ref sig .tc := ⟨.hbm, 6846, rfl⟩
abbrev main_v3665 : Ref sig .tc := ⟨.hbm, 6847, rfl⟩
abbrev main_v3666 : Ref sig .tc := ⟨.hbm, 6848, rfl⟩
abbrev main_v3667 : Ref sig .tc := ⟨.hbm, 6849, rfl⟩
abbrev main_v3668 : Ref sig .tc := ⟨.hbm, 6850, rfl⟩
abbrev main_v3669 : Ref sig .tc := ⟨.hbm, 6851, rfl⟩
abbrev main_v3670 : Ref sig .tc := ⟨.hbm, 6852, rfl⟩
abbrev main_v3671 : Ref sig .tc := ⟨.hbm, 6853, rfl⟩
abbrev main_v3672 : Ref sig .tc := ⟨.hbm, 6854, rfl⟩
abbrev main_v3673 : Ref sig .tc := ⟨.hbm, 6855, rfl⟩
abbrev main_v3674 : Ref sig .tc := ⟨.hbm, 6856, rfl⟩
abbrev main_v3675 : Ref sig .tc := ⟨.hbm, 6857, rfl⟩
abbrev main_v3676 : Ref sig .tc := ⟨.hbm, 6858, rfl⟩
abbrev main_cst_885 : Ref sig .tc := ⟨.hbm, 6859, rfl⟩
abbrev main_v3677 : Ref sig .tc := ⟨.hbm, 6860, rfl⟩
abbrev main_v3678 : Ref sig .tc := ⟨.hbm, 6861, rfl⟩
abbrev main_cst_886 : Ref sig .tc := ⟨.hbm, 6862, rfl⟩
abbrev main_v3679 : Ref sig .tc := ⟨.hbm, 6863, rfl⟩
abbrev main_v3680 : Ref sig .tc := ⟨.hbm, 6864, rfl⟩
abbrev main_v3681 : Ref sig .tc := ⟨.hbm, 6865, rfl⟩
abbrev main_cst_887 : Ref sig .tc := ⟨.hbm, 6866, rfl⟩
abbrev main_v3682 : Ref sig .tc := ⟨.hbm, 6867, rfl⟩
abbrev main_v3683 : Ref sig .tc := ⟨.hbm, 6868, rfl⟩
abbrev main_v3684 : Ref sig .tc := ⟨.hbm, 6869, rfl⟩
abbrev main_cst_888 : Ref sig .tc := ⟨.hbm, 6870, rfl⟩
abbrev main_v3685 : Ref sig .tc := ⟨.hbm, 6871, rfl⟩
abbrev main_v3686 : Ref sig .tc := ⟨.hbm, 6872, rfl⟩
abbrev main_v3687 : Ref sig .tc := ⟨.hbm, 6873, rfl⟩
abbrev main_c_889 : Ref sig .tc := ⟨.hbm, 6874, rfl⟩
abbrev main_c_890 : Ref sig .tc := ⟨.hbm, 6875, rfl⟩
abbrev main_call216_v0 : Ref sig .tc := ⟨.hbm, 6876, rfl⟩
abbrev main_call216_v1 : Ref sig .tc := ⟨.hbm, 6877, rfl⟩
abbrev main_call216_v2 : Ref sig .tc := ⟨.hbm, 6878, rfl⟩
abbrev main_call216_v3 : Ref sig .tc := ⟨.hbm, 6879, rfl⟩
abbrev main_call216_v4 : Ref sig .tc := ⟨.hbm, 6880, rfl⟩
abbrev main_v3688 : Ref sig .tc := ⟨.hbm, 6881, rfl⟩
abbrev main_v3689 : Ref sig .tc := ⟨.hbm, 6882, rfl⟩
abbrev main_c_891 : Ref sig .tc := ⟨.hbm, 6883, rfl⟩
abbrev main_c_892 : Ref sig .tc := ⟨.hbm, 6884, rfl⟩
abbrev main_call217_v0 : Ref sig .tc := ⟨.hbm, 6885, rfl⟩
abbrev main_call217_v1 : Ref sig .tc := ⟨.hbm, 6886, rfl⟩
abbrev main_call217_v2 : Ref sig .tc := ⟨.hbm, 6887, rfl⟩
abbrev main_call217_v3 : Ref sig .tc := ⟨.hbm, 6888, rfl⟩
abbrev main_call217_v4 : Ref sig .tc := ⟨.hbm, 6889, rfl⟩
abbrev main_v3690 : Ref sig .tc := ⟨.hbm, 6890, rfl⟩
abbrev main_v3691 : Ref sig .tc := ⟨.hbm, 6891, rfl⟩
abbrev main_c_893 : Ref sig .tc := ⟨.hbm, 6892, rfl⟩
abbrev main_v3692 : Ref sig .tc := ⟨.hbm, 6893, rfl⟩
abbrev main_v3693 : Ref sig .tc := ⟨.hbm, 6894, rfl⟩
abbrev main_v3694 : Ref sig .tc := ⟨.hbm, 6895, rfl⟩
abbrev main_v3695 : Ref sig .tc := ⟨.hbm, 6896, rfl⟩
abbrev main_v3696 : Ref sig .tc := ⟨.hbm, 6897, rfl⟩
abbrev main_v3697 : Ref sig .tc := ⟨.hbm, 6898, rfl⟩
abbrev main_call218_c : Ref sig .tc := ⟨.hbm, 6899, rfl⟩
abbrev main_call218_v0 : Ref sig .tc := ⟨.hbm, 6900, rfl⟩
abbrev main_call218_v1 : Ref sig .tc := ⟨.hbm, 6901, rfl⟩
abbrev main_call218_c_0 : Ref sig .tc := ⟨.hbm, 6902, rfl⟩
abbrev main_call218_v2 : Ref sig .tc := ⟨.hbm, 6903, rfl⟩
abbrev main_call218_v3 : Ref sig .tc := ⟨.hbm, 6904, rfl⟩
abbrev main_call218_v4 : Ref sig .tc := ⟨.hbm, 6905, rfl⟩
abbrev main_call218_v5 : Ref sig .tc := ⟨.hbm, 6906, rfl⟩
abbrev main_call218_c_1 : Ref sig .tc := ⟨.hbm, 6907, rfl⟩
abbrev main_call218_c_2 : Ref sig .tc := ⟨.hbm, 6908, rfl⟩
abbrev main_call218_v6 : Ref sig .tc := ⟨.hbm, 6909, rfl⟩
abbrev main_call218_v7 : Ref sig .tc := ⟨.hbm, 6910, rfl⟩
abbrev main_call218_v8 : Ref sig .tc := ⟨.hbm, 6911, rfl⟩
abbrev main_call218_v9 : Ref sig .tc := ⟨.hbm, 6912, rfl⟩
abbrev main_call218_v10 : Ref sig .tc := ⟨.hbm, 6913, rfl⟩
abbrev main_call218_v11 : Ref sig .tc := ⟨.hbm, 6914, rfl⟩
abbrev main_call218_c_3 : Ref sig .tc := ⟨.hbm, 6915, rfl⟩
abbrev main_call218_v12 : Ref sig .tc := ⟨.hbm, 6916, rfl⟩
abbrev main_call218_v13 : Ref sig .tc := ⟨.hbm, 6917, rfl⟩
abbrev main_call218_cst : Ref sig .tc := ⟨.hbm, 6918, rfl⟩
abbrev main_call218_v14 : Ref sig .tc := ⟨.hbm, 6919, rfl⟩
abbrev main_v3698 : Ref sig .tc := ⟨.hbm, 6920, rfl⟩
abbrev main_v3699 : Ref sig .tc := ⟨.hbm, 6921, rfl⟩
abbrev main_v3700 : Ref sig .tc := ⟨.hbm, 6922, rfl⟩
abbrev main_v3701 : Ref sig .tc := ⟨.hbm, 6923, rfl⟩
abbrev main_v3702 : Ref sig .tc := ⟨.hbm, 6924, rfl⟩
abbrev main_v3703 : Ref sig .tc := ⟨.hbm, 6925, rfl⟩
abbrev main_v3704 : Ref sig .tc := ⟨.hbm, 6926, rfl⟩
abbrev main_v3705 : Ref sig .tc := ⟨.hbm, 6927, rfl⟩
abbrev main_v3706 : Ref sig .tc := ⟨.hbm, 6928, rfl⟩
abbrev main_cst_894 : Ref sig .tc := ⟨.hbm, 6929, rfl⟩
abbrev main_v3707 : Ref sig .tc := ⟨.hbm, 6930, rfl⟩
abbrev main_v3708 : Ref sig .tc := ⟨.hbm, 6931, rfl⟩
abbrev main_cst_895 : Ref sig .tc := ⟨.hbm, 6932, rfl⟩
abbrev main_v3709 : Ref sig .tc := ⟨.hbm, 6933, rfl⟩
abbrev main_v3710 : Ref sig .tc := ⟨.hbm, 6934, rfl⟩
abbrev main_v3711 : Ref sig .tc := ⟨.hbm, 6935, rfl⟩
abbrev main_cst_896 : Ref sig .tc := ⟨.hbm, 6936, rfl⟩
abbrev main_v3712 : Ref sig .tc := ⟨.hbm, 6937, rfl⟩
abbrev main_v3713 : Ref sig .tc := ⟨.hbm, 6938, rfl⟩
abbrev main_v3714 : Ref sig .tc := ⟨.hbm, 6939, rfl⟩
abbrev main_cst_897 : Ref sig .tc := ⟨.hbm, 6940, rfl⟩
abbrev main_v3715 : Ref sig .tc := ⟨.hbm, 6941, rfl⟩
abbrev main_v3716 : Ref sig .tc := ⟨.hbm, 6942, rfl⟩
abbrev main_v3717 : Ref sig .tc := ⟨.hbm, 6943, rfl⟩
abbrev main_c_898 : Ref sig .tc := ⟨.hbm, 6944, rfl⟩
abbrev main_c_899 : Ref sig .tc := ⟨.hbm, 6945, rfl⟩
abbrev main_call219_v0 : Ref sig .tc := ⟨.hbm, 6946, rfl⟩
abbrev main_call219_v1 : Ref sig .tc := ⟨.hbm, 6947, rfl⟩
abbrev main_call219_v2 : Ref sig .tc := ⟨.hbm, 6948, rfl⟩
abbrev main_call219_v3 : Ref sig .tc := ⟨.hbm, 6949, rfl⟩
abbrev main_call219_v4 : Ref sig .tc := ⟨.hbm, 6950, rfl⟩
abbrev main_v3718 : Ref sig .tc := ⟨.hbm, 6951, rfl⟩
abbrev main_v3719 : Ref sig .tc := ⟨.hbm, 6952, rfl⟩
abbrev main_c_900 : Ref sig .tc := ⟨.hbm, 6953, rfl⟩
abbrev main_c_901 : Ref sig .tc := ⟨.hbm, 6954, rfl⟩
abbrev main_call220_v0 : Ref sig .tc := ⟨.hbm, 6955, rfl⟩
abbrev main_call220_v1 : Ref sig .tc := ⟨.hbm, 6956, rfl⟩
abbrev main_call220_v2 : Ref sig .tc := ⟨.hbm, 6957, rfl⟩
abbrev main_call220_v3 : Ref sig .tc := ⟨.hbm, 6958, rfl⟩
abbrev main_call220_v4 : Ref sig .tc := ⟨.hbm, 6959, rfl⟩
abbrev main_v3720 : Ref sig .tc := ⟨.hbm, 6960, rfl⟩
abbrev main_v3721 : Ref sig .tc := ⟨.hbm, 6961, rfl⟩
abbrev main_c_902 : Ref sig .tc := ⟨.hbm, 6962, rfl⟩
abbrev main_v3722 : Ref sig .tc := ⟨.hbm, 6963, rfl⟩
abbrev main_v3723 : Ref sig .tc := ⟨.hbm, 6964, rfl⟩
abbrev main_v3724 : Ref sig .tc := ⟨.hbm, 6965, rfl⟩
abbrev main_v3725 : Ref sig .tc := ⟨.hbm, 6966, rfl⟩
abbrev main_v3726 : Ref sig .tc := ⟨.hbm, 6967, rfl⟩
abbrev main_v3727 : Ref sig .tc := ⟨.hbm, 6968, rfl⟩
abbrev main_call221_c : Ref sig .tc := ⟨.hbm, 6969, rfl⟩
abbrev main_call221_v0 : Ref sig .tc := ⟨.hbm, 6970, rfl⟩
abbrev main_call221_v1 : Ref sig .tc := ⟨.hbm, 6971, rfl⟩
abbrev main_call221_c_0 : Ref sig .tc := ⟨.hbm, 6972, rfl⟩
abbrev main_call221_v2 : Ref sig .tc := ⟨.hbm, 6973, rfl⟩
abbrev main_call221_v3 : Ref sig .tc := ⟨.hbm, 6974, rfl⟩
abbrev main_call221_v4 : Ref sig .tc := ⟨.hbm, 6975, rfl⟩
abbrev main_call221_v5 : Ref sig .tc := ⟨.hbm, 6976, rfl⟩
abbrev main_call221_c_1 : Ref sig .tc := ⟨.hbm, 6977, rfl⟩
abbrev main_call221_c_2 : Ref sig .tc := ⟨.hbm, 6978, rfl⟩
abbrev main_call221_v6 : Ref sig .tc := ⟨.hbm, 6979, rfl⟩
abbrev main_call221_v7 : Ref sig .tc := ⟨.hbm, 6980, rfl⟩
abbrev main_call221_v8 : Ref sig .tc := ⟨.hbm, 6981, rfl⟩
abbrev main_call221_v9 : Ref sig .tc := ⟨.hbm, 6982, rfl⟩
abbrev main_call221_v10 : Ref sig .tc := ⟨.hbm, 6983, rfl⟩
abbrev main_call221_v11 : Ref sig .tc := ⟨.hbm, 6984, rfl⟩
abbrev main_call221_c_3 : Ref sig .tc := ⟨.hbm, 6985, rfl⟩
abbrev main_call221_v12 : Ref sig .tc := ⟨.hbm, 6986, rfl⟩
abbrev main_call221_v13 : Ref sig .tc := ⟨.hbm, 6987, rfl⟩
abbrev main_call221_cst : Ref sig .tc := ⟨.hbm, 6988, rfl⟩
abbrev main_call221_v14 : Ref sig .tc := ⟨.hbm, 6989, rfl⟩
abbrev main_v3728 : Ref sig .tc := ⟨.hbm, 6990, rfl⟩
abbrev main_v3729 : Ref sig .tc := ⟨.hbm, 6991, rfl⟩
abbrev main_v3730 : Ref sig .tc := ⟨.hbm, 6992, rfl⟩
abbrev main_v3731 : Ref sig .tc := ⟨.hbm, 6993, rfl⟩
abbrev main_v3732 : Ref sig .tc := ⟨.hbm, 6994, rfl⟩
abbrev main_v3733 : Ref sig .tc := ⟨.hbm, 6995, rfl⟩
abbrev main_v3734 : Ref sig .tc := ⟨.hbm, 6996, rfl⟩
abbrev main_v3735 : Ref sig .tc := ⟨.hbm, 6997, rfl⟩
abbrev main_v3736 : Ref sig .tc := ⟨.hbm, 6998, rfl⟩
abbrev main_v3737 : Ref sig .tc := ⟨.hbm, 6999, rfl⟩
abbrev main_cst_903 : Ref sig .tc := ⟨.hbm, 7000, rfl⟩
abbrev main_v3738 : Ref sig .tc := ⟨.hbm, 7001, rfl⟩
abbrev main_v3739 : Ref sig .tc := ⟨.hbm, 7002, rfl⟩
abbrev main_cst_904 : Ref sig .tc := ⟨.hbm, 7003, rfl⟩
abbrev main_v3740 : Ref sig .tc := ⟨.hbm, 7004, rfl⟩
abbrev main_v3741 : Ref sig .tc := ⟨.hbm, 7005, rfl⟩
abbrev main_v3742 : Ref sig .tc := ⟨.hbm, 7006, rfl⟩
abbrev main_cst_905 : Ref sig .tc := ⟨.hbm, 7007, rfl⟩
abbrev main_v3743 : Ref sig .tc := ⟨.hbm, 7008, rfl⟩
abbrev main_v3744 : Ref sig .tc := ⟨.hbm, 7009, rfl⟩
abbrev main_v3745 : Ref sig .tc := ⟨.hbm, 7010, rfl⟩
abbrev main_cst_906 : Ref sig .tc := ⟨.hbm, 7011, rfl⟩
abbrev main_v3746 : Ref sig .tc := ⟨.hbm, 7012, rfl⟩
abbrev main_v3747 : Ref sig .tc := ⟨.hbm, 7013, rfl⟩
abbrev main_v3748 : Ref sig .tc := ⟨.hbm, 7014, rfl⟩
abbrev main_c_907 : Ref sig .tc := ⟨.hbm, 7015, rfl⟩
abbrev main_c_908 : Ref sig .tc := ⟨.hbm, 7016, rfl⟩
abbrev main_call222_v0 : Ref sig .tc := ⟨.hbm, 7017, rfl⟩
abbrev main_call222_v1 : Ref sig .tc := ⟨.hbm, 7018, rfl⟩
abbrev main_call222_v2 : Ref sig .tc := ⟨.hbm, 7019, rfl⟩
abbrev main_call222_v3 : Ref sig .tc := ⟨.hbm, 7020, rfl⟩
abbrev main_call222_v4 : Ref sig .tc := ⟨.hbm, 7021, rfl⟩
abbrev main_v3749 : Ref sig .tc := ⟨.hbm, 7022, rfl⟩
abbrev main_v3750 : Ref sig .tc := ⟨.hbm, 7023, rfl⟩
abbrev main_c_909 : Ref sig .tc := ⟨.hbm, 7024, rfl⟩
abbrev main_c_910 : Ref sig .tc := ⟨.hbm, 7025, rfl⟩
abbrev main_call223_v0 : Ref sig .tc := ⟨.hbm, 7026, rfl⟩
abbrev main_call223_v1 : Ref sig .tc := ⟨.hbm, 7027, rfl⟩
abbrev main_call223_v2 : Ref sig .tc := ⟨.hbm, 7028, rfl⟩
abbrev main_call223_v3 : Ref sig .tc := ⟨.hbm, 7029, rfl⟩
abbrev main_call223_v4 : Ref sig .tc := ⟨.hbm, 7030, rfl⟩
abbrev main_v3751 : Ref sig .tc := ⟨.hbm, 7031, rfl⟩
abbrev main_v3752 : Ref sig .tc := ⟨.hbm, 7032, rfl⟩
abbrev main_c_911 : Ref sig .tc := ⟨.hbm, 7033, rfl⟩
abbrev main_v3753 : Ref sig .tc := ⟨.hbm, 7034, rfl⟩
abbrev main_v3754 : Ref sig .tc := ⟨.hbm, 7035, rfl⟩
abbrev main_v3755 : Ref sig .tc := ⟨.hbm, 7036, rfl⟩
abbrev main_v3756 : Ref sig .tc := ⟨.hbm, 7037, rfl⟩
abbrev main_v3757 : Ref sig .tc := ⟨.hbm, 7038, rfl⟩
abbrev main_v3758 : Ref sig .tc := ⟨.hbm, 7039, rfl⟩
abbrev main_call224_c : Ref sig .tc := ⟨.hbm, 7040, rfl⟩
abbrev main_call224_v0 : Ref sig .tc := ⟨.hbm, 7041, rfl⟩
abbrev main_call224_v1 : Ref sig .tc := ⟨.hbm, 7042, rfl⟩
abbrev main_call224_c_0 : Ref sig .tc := ⟨.hbm, 7043, rfl⟩
abbrev main_call224_v2 : Ref sig .tc := ⟨.hbm, 7044, rfl⟩
abbrev main_call224_v3 : Ref sig .tc := ⟨.hbm, 7045, rfl⟩
abbrev main_call224_v4 : Ref sig .tc := ⟨.hbm, 7046, rfl⟩
abbrev main_call224_v5 : Ref sig .tc := ⟨.hbm, 7047, rfl⟩
abbrev main_call224_c_1 : Ref sig .tc := ⟨.hbm, 7048, rfl⟩
abbrev main_call224_c_2 : Ref sig .tc := ⟨.hbm, 7049, rfl⟩
abbrev main_call224_v6 : Ref sig .tc := ⟨.hbm, 7050, rfl⟩
abbrev main_call224_v7 : Ref sig .tc := ⟨.hbm, 7051, rfl⟩
abbrev main_call224_v8 : Ref sig .tc := ⟨.hbm, 7052, rfl⟩
abbrev main_call224_v9 : Ref sig .tc := ⟨.hbm, 7053, rfl⟩
abbrev main_call224_v10 : Ref sig .tc := ⟨.hbm, 7054, rfl⟩
abbrev main_call224_v11 : Ref sig .tc := ⟨.hbm, 7055, rfl⟩
abbrev main_call224_c_3 : Ref sig .tc := ⟨.hbm, 7056, rfl⟩
abbrev main_call224_v12 : Ref sig .tc := ⟨.hbm, 7057, rfl⟩
abbrev main_call224_v13 : Ref sig .tc := ⟨.hbm, 7058, rfl⟩
abbrev main_call224_cst : Ref sig .tc := ⟨.hbm, 7059, rfl⟩
abbrev main_call224_v14 : Ref sig .tc := ⟨.hbm, 7060, rfl⟩
abbrev main_v3759 : Ref sig .tc := ⟨.hbm, 7061, rfl⟩
abbrev main_v3760 : Ref sig .tc := ⟨.hbm, 7062, rfl⟩
abbrev main_v3761 : Ref sig .tc := ⟨.hbm, 7063, rfl⟩
abbrev main_v3762 : Ref sig .tc := ⟨.hbm, 7064, rfl⟩
abbrev main_v3763 : Ref sig .tc := ⟨.hbm, 7065, rfl⟩
abbrev main_v3764 : Ref sig .tc := ⟨.hbm, 7066, rfl⟩
abbrev main_v3765 : Ref sig .tc := ⟨.hbm, 7067, rfl⟩
abbrev main_v3766 : Ref sig .tc := ⟨.hbm, 7068, rfl⟩
abbrev main_v3767 : Ref sig .tc := ⟨.hbm, 7069, rfl⟩
abbrev main_v3768 : Ref sig .tc := ⟨.hbm, 7070, rfl⟩
abbrev main_cst_912 : Ref sig .tc := ⟨.hbm, 7071, rfl⟩
abbrev main_v3769 : Ref sig .tc := ⟨.hbm, 7072, rfl⟩
abbrev main_v3770 : Ref sig .tc := ⟨.hbm, 7073, rfl⟩
abbrev main_cst_913 : Ref sig .tc := ⟨.hbm, 7074, rfl⟩
abbrev main_v3771 : Ref sig .tc := ⟨.hbm, 7075, rfl⟩
abbrev main_v3772 : Ref sig .tc := ⟨.hbm, 7076, rfl⟩
abbrev main_v3773 : Ref sig .tc := ⟨.hbm, 7077, rfl⟩
abbrev main_cst_914 : Ref sig .tc := ⟨.hbm, 7078, rfl⟩
abbrev main_v3774 : Ref sig .tc := ⟨.hbm, 7079, rfl⟩
abbrev main_v3775 : Ref sig .tc := ⟨.hbm, 7080, rfl⟩
abbrev main_v3776 : Ref sig .tc := ⟨.hbm, 7081, rfl⟩
abbrev main_cst_915 : Ref sig .tc := ⟨.hbm, 7082, rfl⟩
abbrev main_v3777 : Ref sig .tc := ⟨.hbm, 7083, rfl⟩
abbrev main_v3778 : Ref sig .tc := ⟨.hbm, 7084, rfl⟩
abbrev main_v3779 : Ref sig .tc := ⟨.hbm, 7085, rfl⟩
abbrev main_c_916 : Ref sig .tc := ⟨.hbm, 7086, rfl⟩
abbrev main_c_917 : Ref sig .tc := ⟨.hbm, 7087, rfl⟩
abbrev main_call225_v0 : Ref sig .tc := ⟨.hbm, 7088, rfl⟩
abbrev main_call225_v1 : Ref sig .tc := ⟨.hbm, 7089, rfl⟩
abbrev main_call225_v2 : Ref sig .tc := ⟨.hbm, 7090, rfl⟩
abbrev main_call225_v3 : Ref sig .tc := ⟨.hbm, 7091, rfl⟩
abbrev main_call225_v4 : Ref sig .tc := ⟨.hbm, 7092, rfl⟩
abbrev main_v3780 : Ref sig .tc := ⟨.hbm, 7093, rfl⟩
abbrev main_v3781 : Ref sig .tc := ⟨.hbm, 7094, rfl⟩
abbrev main_c_918 : Ref sig .tc := ⟨.hbm, 7095, rfl⟩
abbrev main_c_919 : Ref sig .tc := ⟨.hbm, 7096, rfl⟩
abbrev main_call226_v0 : Ref sig .tc := ⟨.hbm, 7097, rfl⟩
abbrev main_call226_v1 : Ref sig .tc := ⟨.hbm, 7098, rfl⟩
abbrev main_call226_v2 : Ref sig .tc := ⟨.hbm, 7099, rfl⟩
abbrev main_call226_v3 : Ref sig .tc := ⟨.hbm, 7100, rfl⟩
abbrev main_call226_v4 : Ref sig .tc := ⟨.hbm, 7101, rfl⟩
abbrev main_v3782 : Ref sig .tc := ⟨.hbm, 7102, rfl⟩
abbrev main_v3783 : Ref sig .tc := ⟨.hbm, 7103, rfl⟩
abbrev main_c_920 : Ref sig .tc := ⟨.hbm, 7104, rfl⟩
abbrev main_v3784 : Ref sig .tc := ⟨.hbm, 7105, rfl⟩
abbrev main_v3785 : Ref sig .tc := ⟨.hbm, 7106, rfl⟩
abbrev main_v3786 : Ref sig .tc := ⟨.hbm, 7107, rfl⟩
abbrev main_v3787 : Ref sig .tc := ⟨.hbm, 7108, rfl⟩
abbrev main_v3788 : Ref sig .tc := ⟨.hbm, 7109, rfl⟩
abbrev main_v3789 : Ref sig .tc := ⟨.hbm, 7110, rfl⟩
abbrev main_call227_c : Ref sig .tc := ⟨.hbm, 7111, rfl⟩
abbrev main_call227_v0 : Ref sig .tc := ⟨.hbm, 7112, rfl⟩
abbrev main_call227_v1 : Ref sig .tc := ⟨.hbm, 7113, rfl⟩
abbrev main_call227_c_0 : Ref sig .tc := ⟨.hbm, 7114, rfl⟩
abbrev main_call227_v2 : Ref sig .tc := ⟨.hbm, 7115, rfl⟩
abbrev main_call227_v3 : Ref sig .tc := ⟨.hbm, 7116, rfl⟩
abbrev main_call227_v4 : Ref sig .tc := ⟨.hbm, 7117, rfl⟩
abbrev main_call227_v5 : Ref sig .tc := ⟨.hbm, 7118, rfl⟩
abbrev main_call227_c_1 : Ref sig .tc := ⟨.hbm, 7119, rfl⟩
abbrev main_call227_c_2 : Ref sig .tc := ⟨.hbm, 7120, rfl⟩
abbrev main_call227_v6 : Ref sig .tc := ⟨.hbm, 7121, rfl⟩
abbrev main_call227_v7 : Ref sig .tc := ⟨.hbm, 7122, rfl⟩
abbrev main_call227_v8 : Ref sig .tc := ⟨.hbm, 7123, rfl⟩
abbrev main_call227_v9 : Ref sig .tc := ⟨.hbm, 7124, rfl⟩
abbrev main_call227_v10 : Ref sig .tc := ⟨.hbm, 7125, rfl⟩
abbrev main_call227_v11 : Ref sig .tc := ⟨.hbm, 7126, rfl⟩
abbrev main_call227_c_3 : Ref sig .tc := ⟨.hbm, 7127, rfl⟩
abbrev main_call227_v12 : Ref sig .tc := ⟨.hbm, 7128, rfl⟩
abbrev main_call227_v13 : Ref sig .tc := ⟨.hbm, 7129, rfl⟩
abbrev main_call227_cst : Ref sig .tc := ⟨.hbm, 7130, rfl⟩
abbrev main_call227_v14 : Ref sig .tc := ⟨.hbm, 7131, rfl⟩
abbrev main_v3790 : Ref sig .tc := ⟨.hbm, 7132, rfl⟩
abbrev main_v3791 : Ref sig .tc := ⟨.hbm, 7133, rfl⟩
abbrev main_v3792 : Ref sig .tc := ⟨.hbm, 7134, rfl⟩
abbrev main_v3793 : Ref sig .tc := ⟨.hbm, 7135, rfl⟩
abbrev main_v3794 : Ref sig .tc := ⟨.hbm, 7136, rfl⟩
abbrev main_v3795 : Ref sig .tc := ⟨.hbm, 7137, rfl⟩
abbrev main_v3796 : Ref sig .tc := ⟨.hbm, 7138, rfl⟩
abbrev main_v3797 : Ref sig .tc := ⟨.hbm, 7139, rfl⟩
abbrev main_v3798 : Ref sig .tc := ⟨.hbm, 7140, rfl⟩
abbrev main_v3799 : Ref sig .tc := ⟨.hbm, 7141, rfl⟩
abbrev main_v3800 : Ref sig .tc := ⟨.hbm, 7142, rfl⟩
abbrev main_v3801 : Ref sig .tc := ⟨.hbm, 7143, rfl⟩
abbrev main_v3802 : Ref sig .tc := ⟨.hbm, 7144, rfl⟩
abbrev main_v3803 : Ref sig .tc := ⟨.hbm, 7145, rfl⟩
abbrev main_v3804 : Ref sig .tc := ⟨.hbm, 7146, rfl⟩
abbrev main_v3805 : Ref sig .tc := ⟨.hbm, 7147, rfl⟩
abbrev main_v3806 : Ref sig .tc := ⟨.hbm, 7148, rfl⟩
abbrev main_v3807 : Ref sig .tc := ⟨.hbm, 7149, rfl⟩
abbrev main_v3808 : Ref sig .tc := ⟨.hbm, 7150, rfl⟩
abbrev main_cst_921 : Ref sig .tc := ⟨.hbm, 7151, rfl⟩
abbrev main_v3809 : Ref sig .tc := ⟨.hbm, 7152, rfl⟩
abbrev main_v3810 : Ref sig .tc := ⟨.hbm, 7153, rfl⟩
abbrev main_cst_922 : Ref sig .tc := ⟨.hbm, 7154, rfl⟩
abbrev main_v3811 : Ref sig .tc := ⟨.hbm, 7155, rfl⟩
abbrev main_v3812 : Ref sig .tc := ⟨.hbm, 7156, rfl⟩
abbrev main_cst_923 : Ref sig .tc := ⟨.hbm, 7157, rfl⟩
abbrev main_v3813 : Ref sig .tc := ⟨.hbm, 7158, rfl⟩
abbrev main_v3814 : Ref sig .tc := ⟨.hbm, 7159, rfl⟩
abbrev main_cst_924 : Ref sig .tc := ⟨.hbm, 7160, rfl⟩
abbrev main_v3815 : Ref sig .tc := ⟨.hbm, 7161, rfl⟩
abbrev main_v3816 : Ref sig .tc := ⟨.hbm, 7162, rfl⟩
abbrev main_v3817 : Ref sig .tc := ⟨.hbm, 7163, rfl⟩
abbrev main_v3818 : Ref sig .tc := ⟨.hbm, 7164, rfl⟩
abbrev main_cst_925 : Ref sig .tc := ⟨.hbm, 7165, rfl⟩
abbrev main_v3819 : Ref sig .tc := ⟨.hbm, 7166, rfl⟩
abbrev main_v3820 : Ref sig .tc := ⟨.hbm, 7167, rfl⟩
abbrev main_cst_926 : Ref sig .tc := ⟨.hbm, 7168, rfl⟩
abbrev main_v3821 : Ref sig .tc := ⟨.hbm, 7169, rfl⟩
abbrev main_v3822 : Ref sig .tc := ⟨.hbm, 7170, rfl⟩
abbrev main_cst_927 : Ref sig .tc := ⟨.hbm, 7171, rfl⟩
abbrev main_v3823 : Ref sig .tc := ⟨.hbm, 7172, rfl⟩
abbrev main_v3824 : Ref sig .tc := ⟨.hbm, 7173, rfl⟩
abbrev main_cst_928 : Ref sig .tc := ⟨.hbm, 7174, rfl⟩
abbrev main_v3825 : Ref sig .tc := ⟨.hbm, 7175, rfl⟩
abbrev main_v3826 : Ref sig .tc := ⟨.hbm, 7176, rfl⟩
abbrev main_v3827 : Ref sig .tc := ⟨.hbm, 7177, rfl⟩
abbrev main_v3828 : Ref sig .tc := ⟨.hbm, 7178, rfl⟩
abbrev main_cst_929 : Ref sig .tc := ⟨.hbm, 7179, rfl⟩
abbrev main_v3829 : Ref sig .tc := ⟨.hbm, 7180, rfl⟩
abbrev main_v3830 : Ref sig .tc := ⟨.hbm, 7181, rfl⟩
abbrev main_cst_930 : Ref sig .tc := ⟨.hbm, 7182, rfl⟩
abbrev main_v3831 : Ref sig .tc := ⟨.hbm, 7183, rfl⟩
abbrev main_v3832 : Ref sig .tc := ⟨.hbm, 7184, rfl⟩
abbrev main_v3833 : Ref sig .tc := ⟨.hbm, 7185, rfl⟩
abbrev main_v3834 : Ref sig .tc := ⟨.hbm, 7186, rfl⟩
abbrev main_v3835 : Ref sig .tc := ⟨.hbm, 7187, rfl⟩
abbrev main_v3836 : Ref sig .tc := ⟨.hbm, 7188, rfl⟩
abbrev main_v3837 : Ref sig .tc := ⟨.hbm, 7189, rfl⟩
abbrev main_v3838 : Ref sig .tc := ⟨.hbm, 7190, rfl⟩
abbrev main_v3839 : Ref sig .tc := ⟨.hbm, 7191, rfl⟩
abbrev main_v3840 : Ref sig .tc := ⟨.hbm, 7192, rfl⟩
abbrev main_v3841 : Ref sig .tc := ⟨.hbm, 7193, rfl⟩
abbrev main_v3842 : Ref sig .tc := ⟨.hbm, 7194, rfl⟩
abbrev main_v3843 : Ref sig .tc := ⟨.hbm, 7195, rfl⟩
abbrev main_v3844 : Ref sig .tc := ⟨.hbm, 7196, rfl⟩
abbrev main_v3845 : Ref sig .tc := ⟨.hbm, 7197, rfl⟩
abbrev main_cst_931 : Ref sig .tc := ⟨.hbm, 7198, rfl⟩
abbrev main_v3846 : Ref sig .tc := ⟨.hbm, 7199, rfl⟩
abbrev main_v3847 : Ref sig .tc := ⟨.hbm, 7200, rfl⟩
abbrev main_cst_932 : Ref sig .tc := ⟨.hbm, 7201, rfl⟩
abbrev main_v3848 : Ref sig .tc := ⟨.hbm, 7202, rfl⟩
abbrev main_v3849 : Ref sig .tc := ⟨.hbm, 7203, rfl⟩
abbrev main_v3850 : Ref sig .tc := ⟨.hbm, 7204, rfl⟩
abbrev main_cst_933 : Ref sig .tc := ⟨.hbm, 7205, rfl⟩
abbrev main_v3851 : Ref sig .tc := ⟨.hbm, 7206, rfl⟩
abbrev main_v3852 : Ref sig .tc := ⟨.hbm, 7207, rfl⟩
abbrev main_v3853 : Ref sig .tc := ⟨.hbm, 7208, rfl⟩
abbrev main_cst_934 : Ref sig .tc := ⟨.hbm, 7209, rfl⟩
abbrev main_v3854 : Ref sig .tc := ⟨.hbm, 7210, rfl⟩
abbrev main_v3855 : Ref sig .tc := ⟨.hbm, 7211, rfl⟩
abbrev main_v3856 : Ref sig .tc := ⟨.hbm, 7212, rfl⟩
abbrev main_c_935 : Ref sig .tc := ⟨.hbm, 7213, rfl⟩
abbrev main_c_936 : Ref sig .tc := ⟨.hbm, 7214, rfl⟩
abbrev main_call228_v0 : Ref sig .tc := ⟨.hbm, 7215, rfl⟩
abbrev main_call228_v1 : Ref sig .tc := ⟨.hbm, 7216, rfl⟩
abbrev main_call228_v2 : Ref sig .tc := ⟨.hbm, 7217, rfl⟩
abbrev main_call228_v3 : Ref sig .tc := ⟨.hbm, 7218, rfl⟩
abbrev main_call228_v4 : Ref sig .tc := ⟨.hbm, 7219, rfl⟩
abbrev main_v3857 : Ref sig .tc := ⟨.hbm, 7220, rfl⟩
abbrev main_v3858 : Ref sig .tc := ⟨.hbm, 7221, rfl⟩
abbrev main_c_937 : Ref sig .tc := ⟨.hbm, 7222, rfl⟩
abbrev main_c_938 : Ref sig .tc := ⟨.hbm, 7223, rfl⟩
abbrev main_call229_v0 : Ref sig .tc := ⟨.hbm, 7224, rfl⟩
abbrev main_call229_v1 : Ref sig .tc := ⟨.hbm, 7225, rfl⟩
abbrev main_call229_v2 : Ref sig .tc := ⟨.hbm, 7226, rfl⟩
abbrev main_call229_v3 : Ref sig .tc := ⟨.hbm, 7227, rfl⟩
abbrev main_call229_v4 : Ref sig .tc := ⟨.hbm, 7228, rfl⟩
abbrev main_v3859 : Ref sig .tc := ⟨.hbm, 7229, rfl⟩
abbrev main_v3860 : Ref sig .tc := ⟨.hbm, 7230, rfl⟩
abbrev main_c_939 : Ref sig .tc := ⟨.hbm, 7231, rfl⟩
abbrev main_v3861 : Ref sig .tc := ⟨.hbm, 7232, rfl⟩
abbrev main_v3862 : Ref sig .tc := ⟨.hbm, 7233, rfl⟩
abbrev main_v3863 : Ref sig .tc := ⟨.hbm, 7234, rfl⟩
abbrev main_v3864 : Ref sig .tc := ⟨.hbm, 7235, rfl⟩
abbrev main_v3865 : Ref sig .tc := ⟨.hbm, 7236, rfl⟩
abbrev main_v3866 : Ref sig .tc := ⟨.hbm, 7237, rfl⟩
abbrev main_call230_c : Ref sig .tc := ⟨.hbm, 7238, rfl⟩
abbrev main_call230_v0 : Ref sig .tc := ⟨.hbm, 7239, rfl⟩
abbrev main_call230_v1 : Ref sig .tc := ⟨.hbm, 7240, rfl⟩
abbrev main_call230_c_0 : Ref sig .tc := ⟨.hbm, 7241, rfl⟩
abbrev main_call230_v2 : Ref sig .tc := ⟨.hbm, 7242, rfl⟩
abbrev main_call230_v3 : Ref sig .tc := ⟨.hbm, 7243, rfl⟩
abbrev main_call230_v4 : Ref sig .tc := ⟨.hbm, 7244, rfl⟩
abbrev main_call230_v5 : Ref sig .tc := ⟨.hbm, 7245, rfl⟩
abbrev main_call230_c_1 : Ref sig .tc := ⟨.hbm, 7246, rfl⟩
abbrev main_call230_c_2 : Ref sig .tc := ⟨.hbm, 7247, rfl⟩
abbrev main_call230_v6 : Ref sig .tc := ⟨.hbm, 7248, rfl⟩
abbrev main_call230_v7 : Ref sig .tc := ⟨.hbm, 7249, rfl⟩
abbrev main_call230_v8 : Ref sig .tc := ⟨.hbm, 7250, rfl⟩
abbrev main_call230_v9 : Ref sig .tc := ⟨.hbm, 7251, rfl⟩
abbrev main_call230_v10 : Ref sig .tc := ⟨.hbm, 7252, rfl⟩
abbrev main_call230_v11 : Ref sig .tc := ⟨.hbm, 7253, rfl⟩
abbrev main_call230_c_3 : Ref sig .tc := ⟨.hbm, 7254, rfl⟩
abbrev main_call230_v12 : Ref sig .tc := ⟨.hbm, 7255, rfl⟩
abbrev main_call230_v13 : Ref sig .tc := ⟨.hbm, 7256, rfl⟩
abbrev main_call230_cst : Ref sig .tc := ⟨.hbm, 7257, rfl⟩
abbrev main_call230_v14 : Ref sig .tc := ⟨.hbm, 7258, rfl⟩
abbrev main_v3867 : Ref sig .tc := ⟨.hbm, 7259, rfl⟩
abbrev main_v3868 : Ref sig .tc := ⟨.hbm, 7260, rfl⟩
abbrev main_v3869 : Ref sig .tc := ⟨.hbm, 7261, rfl⟩
abbrev main_v3870 : Ref sig .tc := ⟨.hbm, 7262, rfl⟩
abbrev main_v3871 : Ref sig .tc := ⟨.hbm, 7263, rfl⟩
abbrev main_v3872 : Ref sig .tc := ⟨.hbm, 7264, rfl⟩
abbrev main_v3873 : Ref sig .tc := ⟨.hbm, 7265, rfl⟩
abbrev main_v3874 : Ref sig .tc := ⟨.hbm, 7266, rfl⟩
abbrev main_v3875 : Ref sig .tc := ⟨.hbm, 7267, rfl⟩
abbrev main_cst_940 : Ref sig .tc := ⟨.hbm, 7268, rfl⟩
abbrev main_v3876 : Ref sig .tc := ⟨.hbm, 7269, rfl⟩
abbrev main_v3877 : Ref sig .tc := ⟨.hbm, 7270, rfl⟩
abbrev main_cst_941 : Ref sig .tc := ⟨.hbm, 7271, rfl⟩
abbrev main_v3878 : Ref sig .tc := ⟨.hbm, 7272, rfl⟩
abbrev main_v3879 : Ref sig .tc := ⟨.hbm, 7273, rfl⟩
abbrev main_v3880 : Ref sig .tc := ⟨.hbm, 7274, rfl⟩
abbrev main_cst_942 : Ref sig .tc := ⟨.hbm, 7275, rfl⟩
abbrev main_v3881 : Ref sig .tc := ⟨.hbm, 7276, rfl⟩
abbrev main_v3882 : Ref sig .tc := ⟨.hbm, 7277, rfl⟩
abbrev main_v3883 : Ref sig .tc := ⟨.hbm, 7278, rfl⟩
abbrev main_cst_943 : Ref sig .tc := ⟨.hbm, 7279, rfl⟩
abbrev main_v3884 : Ref sig .tc := ⟨.hbm, 7280, rfl⟩
abbrev main_v3885 : Ref sig .tc := ⟨.hbm, 7281, rfl⟩
abbrev main_v3886 : Ref sig .tc := ⟨.hbm, 7282, rfl⟩
abbrev main_c_944 : Ref sig .tc := ⟨.hbm, 7283, rfl⟩
abbrev main_c_945 : Ref sig .tc := ⟨.hbm, 7284, rfl⟩
abbrev main_call231_v0 : Ref sig .tc := ⟨.hbm, 7285, rfl⟩
abbrev main_call231_v1 : Ref sig .tc := ⟨.hbm, 7286, rfl⟩
abbrev main_call231_v2 : Ref sig .tc := ⟨.hbm, 7287, rfl⟩
abbrev main_call231_v3 : Ref sig .tc := ⟨.hbm, 7288, rfl⟩
abbrev main_call231_v4 : Ref sig .tc := ⟨.hbm, 7289, rfl⟩
abbrev main_v3887 : Ref sig .tc := ⟨.hbm, 7290, rfl⟩
abbrev main_v3888 : Ref sig .tc := ⟨.hbm, 7291, rfl⟩
abbrev main_c_946 : Ref sig .tc := ⟨.hbm, 7292, rfl⟩
abbrev main_c_947 : Ref sig .tc := ⟨.hbm, 7293, rfl⟩
abbrev main_call232_v0 : Ref sig .tc := ⟨.hbm, 7294, rfl⟩
abbrev main_call232_v1 : Ref sig .tc := ⟨.hbm, 7295, rfl⟩
abbrev main_call232_v2 : Ref sig .tc := ⟨.hbm, 7296, rfl⟩
abbrev main_call232_v3 : Ref sig .tc := ⟨.hbm, 7297, rfl⟩
abbrev main_call232_v4 : Ref sig .tc := ⟨.hbm, 7298, rfl⟩
abbrev main_v3889 : Ref sig .tc := ⟨.hbm, 7299, rfl⟩
abbrev main_v3890 : Ref sig .tc := ⟨.hbm, 7300, rfl⟩
abbrev main_c_948 : Ref sig .tc := ⟨.hbm, 7301, rfl⟩
abbrev main_v3891 : Ref sig .tc := ⟨.hbm, 7302, rfl⟩
abbrev main_v3892 : Ref sig .tc := ⟨.hbm, 7303, rfl⟩
abbrev main_v3893 : Ref sig .tc := ⟨.hbm, 7304, rfl⟩
abbrev main_v3894 : Ref sig .tc := ⟨.hbm, 7305, rfl⟩
abbrev main_v3895 : Ref sig .tc := ⟨.hbm, 7306, rfl⟩
abbrev main_v3896 : Ref sig .tc := ⟨.hbm, 7307, rfl⟩
abbrev main_call233_c : Ref sig .tc := ⟨.hbm, 7308, rfl⟩
abbrev main_call233_v0 : Ref sig .tc := ⟨.hbm, 7309, rfl⟩
abbrev main_call233_v1 : Ref sig .tc := ⟨.hbm, 7310, rfl⟩
abbrev main_call233_c_0 : Ref sig .tc := ⟨.hbm, 7311, rfl⟩
abbrev main_call233_v2 : Ref sig .tc := ⟨.hbm, 7312, rfl⟩
abbrev main_call233_v3 : Ref sig .tc := ⟨.hbm, 7313, rfl⟩
abbrev main_call233_v4 : Ref sig .tc := ⟨.hbm, 7314, rfl⟩
abbrev main_call233_v5 : Ref sig .tc := ⟨.hbm, 7315, rfl⟩
abbrev main_call233_c_1 : Ref sig .tc := ⟨.hbm, 7316, rfl⟩
abbrev main_call233_c_2 : Ref sig .tc := ⟨.hbm, 7317, rfl⟩
abbrev main_call233_v6 : Ref sig .tc := ⟨.hbm, 7318, rfl⟩
abbrev main_call233_v7 : Ref sig .tc := ⟨.hbm, 7319, rfl⟩
abbrev main_call233_v8 : Ref sig .tc := ⟨.hbm, 7320, rfl⟩
abbrev main_call233_v9 : Ref sig .tc := ⟨.hbm, 7321, rfl⟩
abbrev main_call233_v10 : Ref sig .tc := ⟨.hbm, 7322, rfl⟩
abbrev main_call233_v11 : Ref sig .tc := ⟨.hbm, 7323, rfl⟩
abbrev main_call233_c_3 : Ref sig .tc := ⟨.hbm, 7324, rfl⟩
abbrev main_call233_v12 : Ref sig .tc := ⟨.hbm, 7325, rfl⟩
abbrev main_call233_v13 : Ref sig .tc := ⟨.hbm, 7326, rfl⟩
abbrev main_call233_cst : Ref sig .tc := ⟨.hbm, 7327, rfl⟩
abbrev main_call233_v14 : Ref sig .tc := ⟨.hbm, 7328, rfl⟩
abbrev main_v3897 : Ref sig .tc := ⟨.hbm, 7329, rfl⟩
abbrev main_v3898 : Ref sig .tc := ⟨.hbm, 7330, rfl⟩
abbrev main_v3899 : Ref sig .tc := ⟨.hbm, 7331, rfl⟩
abbrev main_v3900 : Ref sig .tc := ⟨.hbm, 7332, rfl⟩
abbrev main_v3901 : Ref sig .tc := ⟨.hbm, 7333, rfl⟩
abbrev main_v3902 : Ref sig .tc := ⟨.hbm, 7334, rfl⟩
abbrev main_v3903 : Ref sig .tc := ⟨.hbm, 7335, rfl⟩
abbrev main_v3904 : Ref sig .tc := ⟨.hbm, 7336, rfl⟩
abbrev main_v3905 : Ref sig .tc := ⟨.hbm, 7337, rfl⟩
abbrev main_v3906 : Ref sig .tc := ⟨.hbm, 7338, rfl⟩
abbrev main_cst_949 : Ref sig .tc := ⟨.hbm, 7339, rfl⟩
abbrev main_v3907 : Ref sig .tc := ⟨.hbm, 7340, rfl⟩
abbrev main_v3908 : Ref sig .tc := ⟨.hbm, 7341, rfl⟩
abbrev main_cst_950 : Ref sig .tc := ⟨.hbm, 7342, rfl⟩
abbrev main_v3909 : Ref sig .tc := ⟨.hbm, 7343, rfl⟩
abbrev main_v3910 : Ref sig .tc := ⟨.hbm, 7344, rfl⟩
abbrev main_v3911 : Ref sig .tc := ⟨.hbm, 7345, rfl⟩
abbrev main_cst_951 : Ref sig .tc := ⟨.hbm, 7346, rfl⟩
abbrev main_v3912 : Ref sig .tc := ⟨.hbm, 7347, rfl⟩
abbrev main_v3913 : Ref sig .tc := ⟨.hbm, 7348, rfl⟩
abbrev main_v3914 : Ref sig .tc := ⟨.hbm, 7349, rfl⟩
abbrev main_cst_952 : Ref sig .tc := ⟨.hbm, 7350, rfl⟩
abbrev main_v3915 : Ref sig .tc := ⟨.hbm, 7351, rfl⟩
abbrev main_v3916 : Ref sig .tc := ⟨.hbm, 7352, rfl⟩
abbrev main_v3917 : Ref sig .tc := ⟨.hbm, 7353, rfl⟩
abbrev main_c_953 : Ref sig .tc := ⟨.hbm, 7354, rfl⟩
abbrev main_c_954 : Ref sig .tc := ⟨.hbm, 7355, rfl⟩
abbrev main_call234_v0 : Ref sig .tc := ⟨.hbm, 7356, rfl⟩
abbrev main_call234_v1 : Ref sig .tc := ⟨.hbm, 7357, rfl⟩
abbrev main_call234_v2 : Ref sig .tc := ⟨.hbm, 7358, rfl⟩
abbrev main_call234_v3 : Ref sig .tc := ⟨.hbm, 7359, rfl⟩
abbrev main_call234_v4 : Ref sig .tc := ⟨.hbm, 7360, rfl⟩
abbrev main_v3918 : Ref sig .tc := ⟨.hbm, 7361, rfl⟩
abbrev main_v3919 : Ref sig .tc := ⟨.hbm, 7362, rfl⟩
abbrev main_c_955 : Ref sig .tc := ⟨.hbm, 7363, rfl⟩
abbrev main_c_956 : Ref sig .tc := ⟨.hbm, 7364, rfl⟩
abbrev main_call235_v0 : Ref sig .tc := ⟨.hbm, 7365, rfl⟩
abbrev main_call235_v1 : Ref sig .tc := ⟨.hbm, 7366, rfl⟩
abbrev main_call235_v2 : Ref sig .tc := ⟨.hbm, 7367, rfl⟩
abbrev main_call235_v3 : Ref sig .tc := ⟨.hbm, 7368, rfl⟩
abbrev main_call235_v4 : Ref sig .tc := ⟨.hbm, 7369, rfl⟩
abbrev main_v3920 : Ref sig .tc := ⟨.hbm, 7370, rfl⟩
abbrev main_v3921 : Ref sig .tc := ⟨.hbm, 7371, rfl⟩
abbrev main_c_957 : Ref sig .tc := ⟨.hbm, 7372, rfl⟩
abbrev main_v3922 : Ref sig .tc := ⟨.hbm, 7373, rfl⟩
abbrev main_v3923 : Ref sig .tc := ⟨.hbm, 7374, rfl⟩
abbrev main_v3924 : Ref sig .tc := ⟨.hbm, 7375, rfl⟩
abbrev main_v3925 : Ref sig .tc := ⟨.hbm, 7376, rfl⟩
abbrev main_v3926 : Ref sig .tc := ⟨.hbm, 7377, rfl⟩
abbrev main_v3927 : Ref sig .tc := ⟨.hbm, 7378, rfl⟩
abbrev main_call236_c : Ref sig .tc := ⟨.hbm, 7379, rfl⟩
abbrev main_call236_v0 : Ref sig .tc := ⟨.hbm, 7380, rfl⟩
abbrev main_call236_v1 : Ref sig .tc := ⟨.hbm, 7381, rfl⟩
abbrev main_call236_c_0 : Ref sig .tc := ⟨.hbm, 7382, rfl⟩
abbrev main_call236_v2 : Ref sig .tc := ⟨.hbm, 7383, rfl⟩
abbrev main_call236_v3 : Ref sig .tc := ⟨.hbm, 7384, rfl⟩
abbrev main_call236_v4 : Ref sig .tc := ⟨.hbm, 7385, rfl⟩
abbrev main_call236_v5 : Ref sig .tc := ⟨.hbm, 7386, rfl⟩
abbrev main_call236_c_1 : Ref sig .tc := ⟨.hbm, 7387, rfl⟩
abbrev main_call236_c_2 : Ref sig .tc := ⟨.hbm, 7388, rfl⟩
abbrev main_call236_v6 : Ref sig .tc := ⟨.hbm, 7389, rfl⟩
abbrev main_call236_v7 : Ref sig .tc := ⟨.hbm, 7390, rfl⟩
abbrev main_call236_v8 : Ref sig .tc := ⟨.hbm, 7391, rfl⟩
abbrev main_call236_v9 : Ref sig .tc := ⟨.hbm, 7392, rfl⟩
abbrev main_call236_v10 : Ref sig .tc := ⟨.hbm, 7393, rfl⟩
abbrev main_call236_v11 : Ref sig .tc := ⟨.hbm, 7394, rfl⟩
abbrev main_call236_c_3 : Ref sig .tc := ⟨.hbm, 7395, rfl⟩
abbrev main_call236_v12 : Ref sig .tc := ⟨.hbm, 7396, rfl⟩
abbrev main_call236_v13 : Ref sig .tc := ⟨.hbm, 7397, rfl⟩
abbrev main_call236_cst : Ref sig .tc := ⟨.hbm, 7398, rfl⟩
abbrev main_call236_v14 : Ref sig .tc := ⟨.hbm, 7399, rfl⟩
abbrev main_v3928 : Ref sig .tc := ⟨.hbm, 7400, rfl⟩
abbrev main_v3929 : Ref sig .tc := ⟨.hbm, 7401, rfl⟩
abbrev main_v3930 : Ref sig .tc := ⟨.hbm, 7402, rfl⟩
abbrev main_v3931 : Ref sig .tc := ⟨.hbm, 7403, rfl⟩
abbrev main_v3932 : Ref sig .tc := ⟨.hbm, 7404, rfl⟩
abbrev main_v3933 : Ref sig .tc := ⟨.hbm, 7405, rfl⟩
abbrev main_v3934 : Ref sig .tc := ⟨.hbm, 7406, rfl⟩
abbrev main_v3935 : Ref sig .tc := ⟨.hbm, 7407, rfl⟩
abbrev main_v3936 : Ref sig .tc := ⟨.hbm, 7408, rfl⟩
abbrev main_v3937 : Ref sig .tc := ⟨.hbm, 7409, rfl⟩
abbrev main_cst_958 : Ref sig .tc := ⟨.hbm, 7410, rfl⟩
abbrev main_v3938 : Ref sig .tc := ⟨.hbm, 7411, rfl⟩
abbrev main_v3939 : Ref sig .tc := ⟨.hbm, 7412, rfl⟩
abbrev main_cst_959 : Ref sig .tc := ⟨.hbm, 7413, rfl⟩
abbrev main_v3940 : Ref sig .tc := ⟨.hbm, 7414, rfl⟩
abbrev main_v3941 : Ref sig .tc := ⟨.hbm, 7415, rfl⟩
abbrev main_v3942 : Ref sig .tc := ⟨.hbm, 7416, rfl⟩
abbrev main_cst_960 : Ref sig .tc := ⟨.hbm, 7417, rfl⟩
abbrev main_v3943 : Ref sig .tc := ⟨.hbm, 7418, rfl⟩
abbrev main_v3944 : Ref sig .tc := ⟨.hbm, 7419, rfl⟩
abbrev main_v3945 : Ref sig .tc := ⟨.hbm, 7420, rfl⟩
abbrev main_cst_961 : Ref sig .tc := ⟨.hbm, 7421, rfl⟩
abbrev main_v3946 : Ref sig .tc := ⟨.hbm, 7422, rfl⟩
abbrev main_v3947 : Ref sig .tc := ⟨.hbm, 7423, rfl⟩
abbrev main_v3948 : Ref sig .tc := ⟨.hbm, 7424, rfl⟩
abbrev main_c_962 : Ref sig .tc := ⟨.hbm, 7425, rfl⟩
abbrev main_c_963 : Ref sig .tc := ⟨.hbm, 7426, rfl⟩
abbrev main_call237_v0 : Ref sig .tc := ⟨.hbm, 7427, rfl⟩
abbrev main_call237_v1 : Ref sig .tc := ⟨.hbm, 7428, rfl⟩
abbrev main_call237_v2 : Ref sig .tc := ⟨.hbm, 7429, rfl⟩
abbrev main_call237_v3 : Ref sig .tc := ⟨.hbm, 7430, rfl⟩
abbrev main_call237_v4 : Ref sig .tc := ⟨.hbm, 7431, rfl⟩
abbrev main_v3949 : Ref sig .tc := ⟨.hbm, 7432, rfl⟩
abbrev main_v3950 : Ref sig .tc := ⟨.hbm, 7433, rfl⟩
abbrev main_c_964 : Ref sig .tc := ⟨.hbm, 7434, rfl⟩
abbrev main_c_965 : Ref sig .tc := ⟨.hbm, 7435, rfl⟩
abbrev main_call238_v0 : Ref sig .tc := ⟨.hbm, 7436, rfl⟩
abbrev main_call238_v1 : Ref sig .tc := ⟨.hbm, 7437, rfl⟩
abbrev main_call238_v2 : Ref sig .tc := ⟨.hbm, 7438, rfl⟩
abbrev main_call238_v3 : Ref sig .tc := ⟨.hbm, 7439, rfl⟩
abbrev main_call238_v4 : Ref sig .tc := ⟨.hbm, 7440, rfl⟩
abbrev main_v3951 : Ref sig .tc := ⟨.hbm, 7441, rfl⟩
abbrev main_v3952 : Ref sig .tc := ⟨.hbm, 7442, rfl⟩
abbrev main_c_966 : Ref sig .tc := ⟨.hbm, 7443, rfl⟩
abbrev main_v3953 : Ref sig .tc := ⟨.hbm, 7444, rfl⟩
abbrev main_v3954 : Ref sig .tc := ⟨.hbm, 7445, rfl⟩
abbrev main_v3955 : Ref sig .tc := ⟨.hbm, 7446, rfl⟩
abbrev main_v3956 : Ref sig .tc := ⟨.hbm, 7447, rfl⟩
abbrev main_v3957 : Ref sig .tc := ⟨.hbm, 7448, rfl⟩
abbrev main_v3958 : Ref sig .tc := ⟨.hbm, 7449, rfl⟩
abbrev main_call239_c : Ref sig .tc := ⟨.hbm, 7450, rfl⟩
abbrev main_call239_v0 : Ref sig .tc := ⟨.hbm, 7451, rfl⟩
abbrev main_call239_v1 : Ref sig .tc := ⟨.hbm, 7452, rfl⟩
abbrev main_call239_c_0 : Ref sig .tc := ⟨.hbm, 7453, rfl⟩
abbrev main_call239_v2 : Ref sig .tc := ⟨.hbm, 7454, rfl⟩
abbrev main_call239_v3 : Ref sig .tc := ⟨.hbm, 7455, rfl⟩
abbrev main_call239_v4 : Ref sig .tc := ⟨.hbm, 7456, rfl⟩
abbrev main_call239_v5 : Ref sig .tc := ⟨.hbm, 7457, rfl⟩
abbrev main_call239_c_1 : Ref sig .tc := ⟨.hbm, 7458, rfl⟩
abbrev main_call239_c_2 : Ref sig .tc := ⟨.hbm, 7459, rfl⟩
abbrev main_call239_v6 : Ref sig .tc := ⟨.hbm, 7460, rfl⟩
abbrev main_call239_v7 : Ref sig .tc := ⟨.hbm, 7461, rfl⟩
abbrev main_call239_v8 : Ref sig .tc := ⟨.hbm, 7462, rfl⟩
abbrev main_call239_v9 : Ref sig .tc := ⟨.hbm, 7463, rfl⟩
abbrev main_call239_v10 : Ref sig .tc := ⟨.hbm, 7464, rfl⟩
abbrev main_call239_v11 : Ref sig .tc := ⟨.hbm, 7465, rfl⟩
abbrev main_call239_c_3 : Ref sig .tc := ⟨.hbm, 7466, rfl⟩
abbrev main_call239_v12 : Ref sig .tc := ⟨.hbm, 7467, rfl⟩
abbrev main_call239_v13 : Ref sig .tc := ⟨.hbm, 7468, rfl⟩
abbrev main_call239_cst : Ref sig .tc := ⟨.hbm, 7469, rfl⟩
abbrev main_call239_v14 : Ref sig .tc := ⟨.hbm, 7470, rfl⟩
abbrev main_v3959 : Ref sig .tc := ⟨.hbm, 7471, rfl⟩
abbrev main_v3960 : Ref sig .tc := ⟨.hbm, 7472, rfl⟩
abbrev main_v3961 : Ref sig .tc := ⟨.hbm, 7473, rfl⟩
abbrev main_v3962 : Ref sig .tc := ⟨.hbm, 7474, rfl⟩
abbrev main_v3963 : Ref sig .tc := ⟨.hbm, 7475, rfl⟩
abbrev main_v3964 : Ref sig .tc := ⟨.hbm, 7476, rfl⟩
abbrev main_v3965 : Ref sig .tc := ⟨.hbm, 7477, rfl⟩
abbrev main_v3966 : Ref sig .tc := ⟨.hbm, 7478, rfl⟩
abbrev main_v3967 : Ref sig .tc := ⟨.hbm, 7479, rfl⟩
abbrev main_v3968 : Ref sig .tc := ⟨.hbm, 7480, rfl⟩
abbrev main_v3969 : Ref sig .tc := ⟨.hbm, 7481, rfl⟩
abbrev main_v3970 : Ref sig .tc := ⟨.hbm, 7482, rfl⟩
abbrev main_v3971 : Ref sig .tc := ⟨.hbm, 7483, rfl⟩
abbrev main_v3972 : Ref sig .tc := ⟨.hbm, 7484, rfl⟩
abbrev main_v3973 : Ref sig .tc := ⟨.hbm, 7485, rfl⟩
abbrev main_v3974 : Ref sig .tc := ⟨.hbm, 7486, rfl⟩
abbrev main_v3975 : Ref sig .tc := ⟨.hbm, 7487, rfl⟩
abbrev main_v3976 : Ref sig .tc := ⟨.hbm, 7488, rfl⟩
abbrev main_v3977 : Ref sig .tc := ⟨.hbm, 7489, rfl⟩
abbrev main_cst_967 : Ref sig .tc := ⟨.hbm, 7490, rfl⟩
abbrev main_v3978 : Ref sig .tc := ⟨.hbm, 7491, rfl⟩
abbrev main_v3979 : Ref sig .tc := ⟨.hbm, 7492, rfl⟩
abbrev main_cst_968 : Ref sig .tc := ⟨.hbm, 7493, rfl⟩
abbrev main_v3980 : Ref sig .tc := ⟨.hbm, 7494, rfl⟩
abbrev main_v3981 : Ref sig .tc := ⟨.hbm, 7495, rfl⟩
abbrev main_cst_969 : Ref sig .tc := ⟨.hbm, 7496, rfl⟩
abbrev main_v3982 : Ref sig .tc := ⟨.hbm, 7497, rfl⟩
abbrev main_v3983 : Ref sig .tc := ⟨.hbm, 7498, rfl⟩
abbrev main_cst_970 : Ref sig .tc := ⟨.hbm, 7499, rfl⟩
abbrev main_v3984 : Ref sig .tc := ⟨.hbm, 7500, rfl⟩
abbrev main_v3985 : Ref sig .tc := ⟨.hbm, 7501, rfl⟩
abbrev main_v3986 : Ref sig .tc := ⟨.hbm, 7502, rfl⟩
abbrev main_v3987 : Ref sig .tc := ⟨.hbm, 7503, rfl⟩
abbrev main_cst_971 : Ref sig .tc := ⟨.hbm, 7504, rfl⟩
abbrev main_v3988 : Ref sig .tc := ⟨.hbm, 7505, rfl⟩
abbrev main_v3989 : Ref sig .tc := ⟨.hbm, 7506, rfl⟩
abbrev main_cst_972 : Ref sig .tc := ⟨.hbm, 7507, rfl⟩
abbrev main_v3990 : Ref sig .tc := ⟨.hbm, 7508, rfl⟩
abbrev main_v3991 : Ref sig .tc := ⟨.hbm, 7509, rfl⟩
abbrev main_cst_973 : Ref sig .tc := ⟨.hbm, 7510, rfl⟩
abbrev main_v3992 : Ref sig .tc := ⟨.hbm, 7511, rfl⟩
abbrev main_v3993 : Ref sig .tc := ⟨.hbm, 7512, rfl⟩
abbrev main_cst_974 : Ref sig .tc := ⟨.hbm, 7513, rfl⟩
abbrev main_v3994 : Ref sig .tc := ⟨.hbm, 7514, rfl⟩
abbrev main_v3995 : Ref sig .tc := ⟨.hbm, 7515, rfl⟩
abbrev main_v3996 : Ref sig .tc := ⟨.hbm, 7516, rfl⟩
abbrev main_v3997 : Ref sig .tc := ⟨.hbm, 7517, rfl⟩
abbrev main_cst_975 : Ref sig .tc := ⟨.hbm, 7518, rfl⟩
abbrev main_v3998 : Ref sig .tc := ⟨.hbm, 7519, rfl⟩
abbrev main_v3999 : Ref sig .tc := ⟨.hbm, 7520, rfl⟩
abbrev main_cst_976 : Ref sig .tc := ⟨.hbm, 7521, rfl⟩
abbrev main_v4000 : Ref sig .tc := ⟨.hbm, 7522, rfl⟩
abbrev main_v4001 : Ref sig .tc := ⟨.hbm, 7523, rfl⟩
abbrev main_v4002 : Ref sig .tc := ⟨.hbm, 7524, rfl⟩
abbrev main_v4003 : Ref sig .tc := ⟨.hbm, 7525, rfl⟩
abbrev main_v4004 : Ref sig .tc := ⟨.hbm, 7526, rfl⟩
abbrev main_v4005 : Ref sig .tc := ⟨.hbm, 7527, rfl⟩
abbrev main_v4006 : Ref sig .tc := ⟨.hbm, 7528, rfl⟩
abbrev main_v4007 : Ref sig .tc := ⟨.hbm, 7529, rfl⟩
abbrev main_v4008 : Ref sig .tc := ⟨.hbm, 7530, rfl⟩
abbrev main_v4009 : Ref sig .tc := ⟨.hbm, 7531, rfl⟩
abbrev main_v4010 : Ref sig .tc := ⟨.hbm, 7532, rfl⟩
abbrev main_v4011 : Ref sig .tc := ⟨.hbm, 7533, rfl⟩
abbrev main_v4012 : Ref sig .tc := ⟨.hbm, 7534, rfl⟩
abbrev main_v4013 : Ref sig .tc := ⟨.hbm, 7535, rfl⟩
abbrev main_v4014 : Ref sig .tc := ⟨.hbm, 7536, rfl⟩
abbrev main_cst_977 : Ref sig .tc := ⟨.hbm, 7537, rfl⟩
abbrev main_v4015 : Ref sig .tc := ⟨.hbm, 7538, rfl⟩
abbrev main_v4016 : Ref sig .tc := ⟨.hbm, 7539, rfl⟩
abbrev main_cst_978 : Ref sig .tc := ⟨.hbm, 7540, rfl⟩
abbrev main_v4017 : Ref sig .tc := ⟨.hbm, 7541, rfl⟩
abbrev main_v4018 : Ref sig .tc := ⟨.hbm, 7542, rfl⟩
abbrev main_v4019 : Ref sig .tc := ⟨.hbm, 7543, rfl⟩
abbrev main_cst_979 : Ref sig .tc := ⟨.hbm, 7544, rfl⟩
abbrev main_v4020 : Ref sig .tc := ⟨.hbm, 7545, rfl⟩
abbrev main_v4021 : Ref sig .tc := ⟨.hbm, 7546, rfl⟩
abbrev main_v4022 : Ref sig .tc := ⟨.hbm, 7547, rfl⟩
abbrev main_cst_980 : Ref sig .tc := ⟨.hbm, 7548, rfl⟩
abbrev main_v4023 : Ref sig .tc := ⟨.hbm, 7549, rfl⟩
abbrev main_v4024 : Ref sig .tc := ⟨.hbm, 7550, rfl⟩
abbrev main_v4025 : Ref sig .tc := ⟨.hbm, 7551, rfl⟩
abbrev main_c_981 : Ref sig .tc := ⟨.hbm, 7552, rfl⟩
abbrev main_c_982 : Ref sig .tc := ⟨.hbm, 7553, rfl⟩
abbrev main_call240_v0 : Ref sig .tc := ⟨.hbm, 7554, rfl⟩
abbrev main_call240_v1 : Ref sig .tc := ⟨.hbm, 7555, rfl⟩
abbrev main_call240_v2 : Ref sig .tc := ⟨.hbm, 7556, rfl⟩
abbrev main_call240_v3 : Ref sig .tc := ⟨.hbm, 7557, rfl⟩
abbrev main_call240_v4 : Ref sig .tc := ⟨.hbm, 7558, rfl⟩
abbrev main_v4026 : Ref sig .tc := ⟨.hbm, 7559, rfl⟩
abbrev main_v4027 : Ref sig .tc := ⟨.hbm, 7560, rfl⟩
abbrev main_c_983 : Ref sig .tc := ⟨.hbm, 7561, rfl⟩
abbrev main_c_984 : Ref sig .tc := ⟨.hbm, 7562, rfl⟩
abbrev main_call241_v0 : Ref sig .tc := ⟨.hbm, 7563, rfl⟩
abbrev main_call241_v1 : Ref sig .tc := ⟨.hbm, 7564, rfl⟩
abbrev main_call241_v2 : Ref sig .tc := ⟨.hbm, 7565, rfl⟩
abbrev main_call241_v3 : Ref sig .tc := ⟨.hbm, 7566, rfl⟩
abbrev main_call241_v4 : Ref sig .tc := ⟨.hbm, 7567, rfl⟩
abbrev main_v4028 : Ref sig .tc := ⟨.hbm, 7568, rfl⟩
abbrev main_v4029 : Ref sig .tc := ⟨.hbm, 7569, rfl⟩
abbrev main_c_985 : Ref sig .tc := ⟨.hbm, 7570, rfl⟩
abbrev main_v4030 : Ref sig .tc := ⟨.hbm, 7571, rfl⟩
abbrev main_v4031 : Ref sig .tc := ⟨.hbm, 7572, rfl⟩
abbrev main_v4032 : Ref sig .tc := ⟨.hbm, 7573, rfl⟩
abbrev main_v4033 : Ref sig .tc := ⟨.hbm, 7574, rfl⟩
abbrev main_v4034 : Ref sig .tc := ⟨.hbm, 7575, rfl⟩
abbrev main_v4035 : Ref sig .tc := ⟨.hbm, 7576, rfl⟩
abbrev main_call242_c : Ref sig .tc := ⟨.hbm, 7577, rfl⟩
abbrev main_call242_v0 : Ref sig .tc := ⟨.hbm, 7578, rfl⟩
abbrev main_call242_v1 : Ref sig .tc := ⟨.hbm, 7579, rfl⟩
abbrev main_call242_c_0 : Ref sig .tc := ⟨.hbm, 7580, rfl⟩
abbrev main_call242_v2 : Ref sig .tc := ⟨.hbm, 7581, rfl⟩
abbrev main_call242_v3 : Ref sig .tc := ⟨.hbm, 7582, rfl⟩
abbrev main_call242_v4 : Ref sig .tc := ⟨.hbm, 7583, rfl⟩
abbrev main_call242_v5 : Ref sig .tc := ⟨.hbm, 7584, rfl⟩
abbrev main_call242_c_1 : Ref sig .tc := ⟨.hbm, 7585, rfl⟩
abbrev main_call242_c_2 : Ref sig .tc := ⟨.hbm, 7586, rfl⟩
abbrev main_call242_v6 : Ref sig .tc := ⟨.hbm, 7587, rfl⟩
abbrev main_call242_v7 : Ref sig .tc := ⟨.hbm, 7588, rfl⟩
abbrev main_call242_v8 : Ref sig .tc := ⟨.hbm, 7589, rfl⟩
abbrev main_call242_v9 : Ref sig .tc := ⟨.hbm, 7590, rfl⟩
abbrev main_call242_v10 : Ref sig .tc := ⟨.hbm, 7591, rfl⟩
abbrev main_call242_v11 : Ref sig .tc := ⟨.hbm, 7592, rfl⟩
abbrev main_call242_c_3 : Ref sig .tc := ⟨.hbm, 7593, rfl⟩
abbrev main_call242_v12 : Ref sig .tc := ⟨.hbm, 7594, rfl⟩
abbrev main_call242_v13 : Ref sig .tc := ⟨.hbm, 7595, rfl⟩
abbrev main_call242_cst : Ref sig .tc := ⟨.hbm, 7596, rfl⟩
abbrev main_call242_v14 : Ref sig .tc := ⟨.hbm, 7597, rfl⟩
abbrev main_v4036 : Ref sig .tc := ⟨.hbm, 7598, rfl⟩
abbrev main_v4037 : Ref sig .tc := ⟨.hbm, 7599, rfl⟩
abbrev main_v4038 : Ref sig .tc := ⟨.hbm, 7600, rfl⟩
abbrev main_v4039 : Ref sig .tc := ⟨.hbm, 7601, rfl⟩
abbrev main_v4040 : Ref sig .tc := ⟨.hbm, 7602, rfl⟩
abbrev main_v4041 : Ref sig .tc := ⟨.hbm, 7603, rfl⟩
abbrev main_v4042 : Ref sig .tc := ⟨.hbm, 7604, rfl⟩
abbrev main_v4043 : Ref sig .tc := ⟨.hbm, 7605, rfl⟩
abbrev main_v4044 : Ref sig .tc := ⟨.hbm, 7606, rfl⟩
abbrev main_cst_986 : Ref sig .tc := ⟨.hbm, 7607, rfl⟩
abbrev main_v4045 : Ref sig .tc := ⟨.hbm, 7608, rfl⟩
abbrev main_v4046 : Ref sig .tc := ⟨.hbm, 7609, rfl⟩
abbrev main_cst_987 : Ref sig .tc := ⟨.hbm, 7610, rfl⟩
abbrev main_v4047 : Ref sig .tc := ⟨.hbm, 7611, rfl⟩
abbrev main_v4048 : Ref sig .tc := ⟨.hbm, 7612, rfl⟩
abbrev main_v4049 : Ref sig .tc := ⟨.hbm, 7613, rfl⟩
abbrev main_cst_988 : Ref sig .tc := ⟨.hbm, 7614, rfl⟩
abbrev main_v4050 : Ref sig .tc := ⟨.hbm, 7615, rfl⟩
abbrev main_v4051 : Ref sig .tc := ⟨.hbm, 7616, rfl⟩
abbrev main_v4052 : Ref sig .tc := ⟨.hbm, 7617, rfl⟩
abbrev main_cst_989 : Ref sig .tc := ⟨.hbm, 7618, rfl⟩
abbrev main_v4053 : Ref sig .tc := ⟨.hbm, 7619, rfl⟩
abbrev main_v4054 : Ref sig .tc := ⟨.hbm, 7620, rfl⟩
abbrev main_v4055 : Ref sig .tc := ⟨.hbm, 7621, rfl⟩
abbrev main_c_990 : Ref sig .tc := ⟨.hbm, 7622, rfl⟩
abbrev main_c_991 : Ref sig .tc := ⟨.hbm, 7623, rfl⟩
abbrev main_call243_v0 : Ref sig .tc := ⟨.hbm, 7624, rfl⟩
abbrev main_call243_v1 : Ref sig .tc := ⟨.hbm, 7625, rfl⟩
abbrev main_call243_v2 : Ref sig .tc := ⟨.hbm, 7626, rfl⟩
abbrev main_call243_v3 : Ref sig .tc := ⟨.hbm, 7627, rfl⟩
abbrev main_call243_v4 : Ref sig .tc := ⟨.hbm, 7628, rfl⟩
abbrev main_v4056 : Ref sig .tc := ⟨.hbm, 7629, rfl⟩
abbrev main_v4057 : Ref sig .tc := ⟨.hbm, 7630, rfl⟩
abbrev main_c_992 : Ref sig .tc := ⟨.hbm, 7631, rfl⟩
abbrev main_c_993 : Ref sig .tc := ⟨.hbm, 7632, rfl⟩
abbrev main_call244_v0 : Ref sig .tc := ⟨.hbm, 7633, rfl⟩
abbrev main_call244_v1 : Ref sig .tc := ⟨.hbm, 7634, rfl⟩
abbrev main_call244_v2 : Ref sig .tc := ⟨.hbm, 7635, rfl⟩
abbrev main_call244_v3 : Ref sig .tc := ⟨.hbm, 7636, rfl⟩
abbrev main_call244_v4 : Ref sig .tc := ⟨.hbm, 7637, rfl⟩
abbrev main_v4058 : Ref sig .tc := ⟨.hbm, 7638, rfl⟩
abbrev main_v4059 : Ref sig .tc := ⟨.hbm, 7639, rfl⟩
abbrev main_c_994 : Ref sig .tc := ⟨.hbm, 7640, rfl⟩
abbrev main_v4060 : Ref sig .tc := ⟨.hbm, 7641, rfl⟩
abbrev main_v4061 : Ref sig .tc := ⟨.hbm, 7642, rfl⟩
abbrev main_v4062 : Ref sig .tc := ⟨.hbm, 7643, rfl⟩
abbrev main_v4063 : Ref sig .tc := ⟨.hbm, 7644, rfl⟩
abbrev main_v4064 : Ref sig .tc := ⟨.hbm, 7645, rfl⟩
abbrev main_v4065 : Ref sig .tc := ⟨.hbm, 7646, rfl⟩
abbrev main_call245_c : Ref sig .tc := ⟨.hbm, 7647, rfl⟩
abbrev main_call245_v0 : Ref sig .tc := ⟨.hbm, 7648, rfl⟩
abbrev main_call245_v1 : Ref sig .tc := ⟨.hbm, 7649, rfl⟩
abbrev main_call245_c_0 : Ref sig .tc := ⟨.hbm, 7650, rfl⟩
abbrev main_call245_v2 : Ref sig .tc := ⟨.hbm, 7651, rfl⟩
abbrev main_call245_v3 : Ref sig .tc := ⟨.hbm, 7652, rfl⟩
abbrev main_call245_v4 : Ref sig .tc := ⟨.hbm, 7653, rfl⟩
abbrev main_call245_v5 : Ref sig .tc := ⟨.hbm, 7654, rfl⟩
abbrev main_call245_c_1 : Ref sig .tc := ⟨.hbm, 7655, rfl⟩
abbrev main_call245_c_2 : Ref sig .tc := ⟨.hbm, 7656, rfl⟩
abbrev main_call245_v6 : Ref sig .tc := ⟨.hbm, 7657, rfl⟩
abbrev main_call245_v7 : Ref sig .tc := ⟨.hbm, 7658, rfl⟩
abbrev main_call245_v8 : Ref sig .tc := ⟨.hbm, 7659, rfl⟩
abbrev main_call245_v9 : Ref sig .tc := ⟨.hbm, 7660, rfl⟩
abbrev main_call245_v10 : Ref sig .tc := ⟨.hbm, 7661, rfl⟩
abbrev main_call245_v11 : Ref sig .tc := ⟨.hbm, 7662, rfl⟩
abbrev main_call245_c_3 : Ref sig .tc := ⟨.hbm, 7663, rfl⟩
abbrev main_call245_v12 : Ref sig .tc := ⟨.hbm, 7664, rfl⟩
abbrev main_call245_v13 : Ref sig .tc := ⟨.hbm, 7665, rfl⟩
abbrev main_call245_cst : Ref sig .tc := ⟨.hbm, 7666, rfl⟩
abbrev main_call245_v14 : Ref sig .tc := ⟨.hbm, 7667, rfl⟩
abbrev main_v4066 : Ref sig .tc := ⟨.hbm, 7668, rfl⟩
abbrev main_v4067 : Ref sig .tc := ⟨.hbm, 7669, rfl⟩
abbrev main_v4068 : Ref sig .tc := ⟨.hbm, 7670, rfl⟩
abbrev main_v4069 : Ref sig .tc := ⟨.hbm, 7671, rfl⟩
abbrev main_v4070 : Ref sig .tc := ⟨.hbm, 7672, rfl⟩
abbrev main_v4071 : Ref sig .tc := ⟨.hbm, 7673, rfl⟩
abbrev main_v4072 : Ref sig .tc := ⟨.hbm, 7674, rfl⟩
abbrev main_v4073 : Ref sig .tc := ⟨.hbm, 7675, rfl⟩
abbrev main_v4074 : Ref sig .tc := ⟨.hbm, 7676, rfl⟩
abbrev main_v4075 : Ref sig .tc := ⟨.hbm, 7677, rfl⟩
abbrev main_cst_995 : Ref sig .tc := ⟨.hbm, 7678, rfl⟩
abbrev main_v4076 : Ref sig .tc := ⟨.hbm, 7679, rfl⟩
abbrev main_v4077 : Ref sig .tc := ⟨.hbm, 7680, rfl⟩
abbrev main_cst_996 : Ref sig .tc := ⟨.hbm, 7681, rfl⟩
abbrev main_v4078 : Ref sig .tc := ⟨.hbm, 7682, rfl⟩
abbrev main_v4079 : Ref sig .tc := ⟨.hbm, 7683, rfl⟩
abbrev main_v4080 : Ref sig .tc := ⟨.hbm, 7684, rfl⟩
abbrev main_cst_997 : Ref sig .tc := ⟨.hbm, 7685, rfl⟩
abbrev main_v4081 : Ref sig .tc := ⟨.hbm, 7686, rfl⟩
abbrev main_v4082 : Ref sig .tc := ⟨.hbm, 7687, rfl⟩
abbrev main_v4083 : Ref sig .tc := ⟨.hbm, 7688, rfl⟩
abbrev main_cst_998 : Ref sig .tc := ⟨.hbm, 7689, rfl⟩
abbrev main_v4084 : Ref sig .tc := ⟨.hbm, 7690, rfl⟩
abbrev main_v4085 : Ref sig .tc := ⟨.hbm, 7691, rfl⟩
abbrev main_v4086 : Ref sig .tc := ⟨.hbm, 7692, rfl⟩
abbrev main_c_999 : Ref sig .tc := ⟨.hbm, 7693, rfl⟩
abbrev main_c_1000 : Ref sig .tc := ⟨.hbm, 7694, rfl⟩
abbrev main_call246_v0 : Ref sig .tc := ⟨.hbm, 7695, rfl⟩
abbrev main_call246_v1 : Ref sig .tc := ⟨.hbm, 7696, rfl⟩
abbrev main_call246_v2 : Ref sig .tc := ⟨.hbm, 7697, rfl⟩
abbrev main_call246_v3 : Ref sig .tc := ⟨.hbm, 7698, rfl⟩
abbrev main_call246_v4 : Ref sig .tc := ⟨.hbm, 7699, rfl⟩
abbrev main_v4087 : Ref sig .tc := ⟨.hbm, 7700, rfl⟩
abbrev main_v4088 : Ref sig .tc := ⟨.hbm, 7701, rfl⟩
abbrev main_c_1001 : Ref sig .tc := ⟨.hbm, 7702, rfl⟩
abbrev main_c_1002 : Ref sig .tc := ⟨.hbm, 7703, rfl⟩
abbrev main_call247_v0 : Ref sig .tc := ⟨.hbm, 7704, rfl⟩
abbrev main_call247_v1 : Ref sig .tc := ⟨.hbm, 7705, rfl⟩
abbrev main_call247_v2 : Ref sig .tc := ⟨.hbm, 7706, rfl⟩
abbrev main_call247_v3 : Ref sig .tc := ⟨.hbm, 7707, rfl⟩
abbrev main_call247_v4 : Ref sig .tc := ⟨.hbm, 7708, rfl⟩
abbrev main_v4089 : Ref sig .tc := ⟨.hbm, 7709, rfl⟩
abbrev main_v4090 : Ref sig .tc := ⟨.hbm, 7710, rfl⟩
abbrev main_c_1003 : Ref sig .tc := ⟨.hbm, 7711, rfl⟩
abbrev main_v4091 : Ref sig .tc := ⟨.hbm, 7712, rfl⟩
abbrev main_v4092 : Ref sig .tc := ⟨.hbm, 7713, rfl⟩
abbrev main_v4093 : Ref sig .tc := ⟨.hbm, 7714, rfl⟩
abbrev main_v4094 : Ref sig .tc := ⟨.hbm, 7715, rfl⟩
abbrev main_v4095 : Ref sig .tc := ⟨.hbm, 7716, rfl⟩
abbrev main_v4096 : Ref sig .tc := ⟨.hbm, 7717, rfl⟩
abbrev main_call248_c : Ref sig .tc := ⟨.hbm, 7718, rfl⟩
abbrev main_call248_v0 : Ref sig .tc := ⟨.hbm, 7719, rfl⟩
abbrev main_call248_v1 : Ref sig .tc := ⟨.hbm, 7720, rfl⟩
abbrev main_call248_c_0 : Ref sig .tc := ⟨.hbm, 7721, rfl⟩
abbrev main_call248_v2 : Ref sig .tc := ⟨.hbm, 7722, rfl⟩
abbrev main_call248_v3 : Ref sig .tc := ⟨.hbm, 7723, rfl⟩
abbrev main_call248_v4 : Ref sig .tc := ⟨.hbm, 7724, rfl⟩
abbrev main_call248_v5 : Ref sig .tc := ⟨.hbm, 7725, rfl⟩
abbrev main_call248_c_1 : Ref sig .tc := ⟨.hbm, 7726, rfl⟩
abbrev main_call248_c_2 : Ref sig .tc := ⟨.hbm, 7727, rfl⟩
abbrev main_call248_v6 : Ref sig .tc := ⟨.hbm, 7728, rfl⟩
abbrev main_call248_v7 : Ref sig .tc := ⟨.hbm, 7729, rfl⟩
abbrev main_call248_v8 : Ref sig .tc := ⟨.hbm, 7730, rfl⟩
abbrev main_call248_v9 : Ref sig .tc := ⟨.hbm, 7731, rfl⟩
abbrev main_call248_v10 : Ref sig .tc := ⟨.hbm, 7732, rfl⟩
abbrev main_call248_v11 : Ref sig .tc := ⟨.hbm, 7733, rfl⟩
abbrev main_call248_c_3 : Ref sig .tc := ⟨.hbm, 7734, rfl⟩
abbrev main_call248_v12 : Ref sig .tc := ⟨.hbm, 7735, rfl⟩
abbrev main_call248_v13 : Ref sig .tc := ⟨.hbm, 7736, rfl⟩
abbrev main_call248_cst : Ref sig .tc := ⟨.hbm, 7737, rfl⟩
abbrev main_call248_v14 : Ref sig .tc := ⟨.hbm, 7738, rfl⟩
abbrev main_v4097 : Ref sig .tc := ⟨.hbm, 7739, rfl⟩
abbrev main_v4098 : Ref sig .tc := ⟨.hbm, 7740, rfl⟩
abbrev main_v4099 : Ref sig .tc := ⟨.hbm, 7741, rfl⟩
abbrev main_v4100 : Ref sig .tc := ⟨.hbm, 7742, rfl⟩
abbrev main_v4101 : Ref sig .tc := ⟨.hbm, 7743, rfl⟩
abbrev main_v4102 : Ref sig .tc := ⟨.hbm, 7744, rfl⟩
abbrev main_v4103 : Ref sig .tc := ⟨.hbm, 7745, rfl⟩
abbrev main_v4104 : Ref sig .tc := ⟨.hbm, 7746, rfl⟩
abbrev main_v4105 : Ref sig .tc := ⟨.hbm, 7747, rfl⟩
abbrev main_v4106 : Ref sig .tc := ⟨.hbm, 7748, rfl⟩
abbrev main_cst_1004 : Ref sig .tc := ⟨.hbm, 7749, rfl⟩
abbrev main_v4107 : Ref sig .tc := ⟨.hbm, 7750, rfl⟩
abbrev main_v4108 : Ref sig .tc := ⟨.hbm, 7751, rfl⟩
abbrev main_cst_1005 : Ref sig .tc := ⟨.hbm, 7752, rfl⟩
abbrev main_v4109 : Ref sig .tc := ⟨.hbm, 7753, rfl⟩
abbrev main_v4110 : Ref sig .tc := ⟨.hbm, 7754, rfl⟩
abbrev main_v4111 : Ref sig .tc := ⟨.hbm, 7755, rfl⟩
abbrev main_cst_1006 : Ref sig .tc := ⟨.hbm, 7756, rfl⟩
abbrev main_v4112 : Ref sig .tc := ⟨.hbm, 7757, rfl⟩
abbrev main_v4113 : Ref sig .tc := ⟨.hbm, 7758, rfl⟩
abbrev main_v4114 : Ref sig .tc := ⟨.hbm, 7759, rfl⟩
abbrev main_cst_1007 : Ref sig .tc := ⟨.hbm, 7760, rfl⟩
abbrev main_v4115 : Ref sig .tc := ⟨.hbm, 7761, rfl⟩
abbrev main_v4116 : Ref sig .tc := ⟨.hbm, 7762, rfl⟩
abbrev main_v4117 : Ref sig .tc := ⟨.hbm, 7763, rfl⟩
abbrev main_c_1008 : Ref sig .tc := ⟨.hbm, 7764, rfl⟩
abbrev main_c_1009 : Ref sig .tc := ⟨.hbm, 7765, rfl⟩
abbrev main_call249_v0 : Ref sig .tc := ⟨.hbm, 7766, rfl⟩
abbrev main_call249_v1 : Ref sig .tc := ⟨.hbm, 7767, rfl⟩
abbrev main_call249_v2 : Ref sig .tc := ⟨.hbm, 7768, rfl⟩
abbrev main_call249_v3 : Ref sig .tc := ⟨.hbm, 7769, rfl⟩
abbrev main_call249_v4 : Ref sig .tc := ⟨.hbm, 7770, rfl⟩
abbrev main_v4118 : Ref sig .tc := ⟨.hbm, 7771, rfl⟩
abbrev main_v4119 : Ref sig .tc := ⟨.hbm, 7772, rfl⟩
abbrev main_c_1010 : Ref sig .tc := ⟨.hbm, 7773, rfl⟩
abbrev main_c_1011 : Ref sig .tc := ⟨.hbm, 7774, rfl⟩
abbrev main_call250_v0 : Ref sig .tc := ⟨.hbm, 7775, rfl⟩
abbrev main_call250_v1 : Ref sig .tc := ⟨.hbm, 7776, rfl⟩
abbrev main_call250_v2 : Ref sig .tc := ⟨.hbm, 7777, rfl⟩
abbrev main_call250_v3 : Ref sig .tc := ⟨.hbm, 7778, rfl⟩
abbrev main_call250_v4 : Ref sig .tc := ⟨.hbm, 7779, rfl⟩
abbrev main_v4120 : Ref sig .tc := ⟨.hbm, 7780, rfl⟩
abbrev main_v4121 : Ref sig .tc := ⟨.hbm, 7781, rfl⟩
abbrev main_c_1012 : Ref sig .tc := ⟨.hbm, 7782, rfl⟩
abbrev main_v4122 : Ref sig .tc := ⟨.hbm, 7783, rfl⟩
abbrev main_v4123 : Ref sig .tc := ⟨.hbm, 7784, rfl⟩
abbrev main_v4124 : Ref sig .tc := ⟨.hbm, 7785, rfl⟩
abbrev main_v4125 : Ref sig .tc := ⟨.hbm, 7786, rfl⟩
abbrev main_v4126 : Ref sig .tc := ⟨.hbm, 7787, rfl⟩
abbrev main_v4127 : Ref sig .tc := ⟨.hbm, 7788, rfl⟩
abbrev main_call251_c : Ref sig .tc := ⟨.hbm, 7789, rfl⟩
abbrev main_call251_v0 : Ref sig .tc := ⟨.hbm, 7790, rfl⟩
abbrev main_call251_v1 : Ref sig .tc := ⟨.hbm, 7791, rfl⟩
abbrev main_call251_c_0 : Ref sig .tc := ⟨.hbm, 7792, rfl⟩
abbrev main_call251_v2 : Ref sig .tc := ⟨.hbm, 7793, rfl⟩
abbrev main_call251_v3 : Ref sig .tc := ⟨.hbm, 7794, rfl⟩
abbrev main_call251_v4 : Ref sig .tc := ⟨.hbm, 7795, rfl⟩
abbrev main_call251_v5 : Ref sig .tc := ⟨.hbm, 7796, rfl⟩
abbrev main_call251_c_1 : Ref sig .tc := ⟨.hbm, 7797, rfl⟩
abbrev main_call251_c_2 : Ref sig .tc := ⟨.hbm, 7798, rfl⟩
abbrev main_call251_v6 : Ref sig .tc := ⟨.hbm, 7799, rfl⟩
abbrev main_call251_v7 : Ref sig .tc := ⟨.hbm, 7800, rfl⟩
abbrev main_call251_v8 : Ref sig .tc := ⟨.hbm, 7801, rfl⟩
abbrev main_call251_v9 : Ref sig .tc := ⟨.hbm, 7802, rfl⟩
abbrev main_call251_v10 : Ref sig .tc := ⟨.hbm, 7803, rfl⟩
abbrev main_call251_v11 : Ref sig .tc := ⟨.hbm, 7804, rfl⟩
abbrev main_call251_c_3 : Ref sig .tc := ⟨.hbm, 7805, rfl⟩
abbrev main_call251_v12 : Ref sig .tc := ⟨.hbm, 7806, rfl⟩
abbrev main_call251_v13 : Ref sig .tc := ⟨.hbm, 7807, rfl⟩
abbrev main_call251_cst : Ref sig .tc := ⟨.hbm, 7808, rfl⟩
abbrev main_call251_v14 : Ref sig .tc := ⟨.hbm, 7809, rfl⟩
abbrev main_v4128 : Ref sig .tc := ⟨.hbm, 7810, rfl⟩
abbrev main_v4129 : Ref sig .tc := ⟨.hbm, 7811, rfl⟩
abbrev main_v4130 : Ref sig .tc := ⟨.hbm, 7812, rfl⟩
abbrev main_v4131 : Ref sig .tc := ⟨.hbm, 7813, rfl⟩
abbrev main_v4132 : Ref sig .tc := ⟨.hbm, 7814, rfl⟩
abbrev main_v4133 : Ref sig .tc := ⟨.hbm, 7815, rfl⟩
abbrev main_v4134 : Ref sig .tc := ⟨.hbm, 7816, rfl⟩
abbrev main_v4135 : Ref sig .tc := ⟨.hbm, 7817, rfl⟩
abbrev main_v4136 : Ref sig .tc := ⟨.hbm, 7818, rfl⟩
abbrev main_v4137 : Ref sig .tc := ⟨.hbm, 7819, rfl⟩
abbrev main_v4138 : Ref sig .tc := ⟨.hbm, 7820, rfl⟩
abbrev main_v4139 : Ref sig .tc := ⟨.hbm, 7821, rfl⟩
abbrev main_v4140 : Ref sig .tc := ⟨.hbm, 7822, rfl⟩
abbrev main_v4141 : Ref sig .tc := ⟨.hbm, 7823, rfl⟩
abbrev main_v4142 : Ref sig .tc := ⟨.hbm, 7824, rfl⟩
abbrev main_v4143 : Ref sig .tc := ⟨.hbm, 7825, rfl⟩
abbrev main_v4144 : Ref sig .tc := ⟨.hbm, 7826, rfl⟩
abbrev main_v4145 : Ref sig .tc := ⟨.hbm, 7827, rfl⟩
abbrev main_v4146 : Ref sig .tc := ⟨.hbm, 7828, rfl⟩
abbrev main_v4147 : Ref sig .tc := ⟨.hbm, 7829, rfl⟩
abbrev main_cst_1013 : Ref sig .tc := ⟨.hbm, 7830, rfl⟩
abbrev main_v4148 : Ref sig .tc := ⟨.hbm, 7831, rfl⟩
abbrev main_v4149 : Ref sig .tc := ⟨.hbm, 7832, rfl⟩
abbrev main_v4150 : Ref sig .tc := ⟨.hbm, 7833, rfl⟩
abbrev main_v4151 : Ref sig .tc := ⟨.hbm, 7834, rfl⟩
abbrev main_v4152 : Ref sig .tc := ⟨.hbm, 7835, rfl⟩
abbrev main_v4153 : Ref sig .tc := ⟨.hbm, 7836, rfl⟩
abbrev main_v4154 : Ref sig .tc := ⟨.hbm, 7837, rfl⟩
abbrev main_v4155 : Ref sig .tc := ⟨.hbm, 7838, rfl⟩
abbrev main_v4156 : Ref sig .tc := ⟨.hbm, 7839, rfl⟩
abbrev main_v4157 : Ref sig .tc := ⟨.hbm, 7840, rfl⟩
abbrev main_v4158 : Ref sig .tc := ⟨.hbm, 7841, rfl⟩
abbrev main_v4159 : Ref sig .tc := ⟨.hbm, 7842, rfl⟩
abbrev main_v4160 : Ref sig .tc := ⟨.hbm, 7843, rfl⟩
abbrev main_v4161 : Ref sig .tc := ⟨.hbm, 7844, rfl⟩
abbrev main_v4162 : Ref sig .tc := ⟨.hbm, 7845, rfl⟩
abbrev main_v4163 : Ref sig .tc := ⟨.hbm, 7846, rfl⟩
abbrev main_cst_1014 : Ref sig .tc := ⟨.hbm, 7847, rfl⟩
abbrev main_v4164 : Ref sig .tc := ⟨.hbm, 7848, rfl⟩
abbrev main_v4165 : Ref sig .tc := ⟨.hbm, 7849, rfl⟩
abbrev main_cst_1015 : Ref sig .tc := ⟨.hbm, 7850, rfl⟩
abbrev main_v4166 : Ref sig .tc := ⟨.hbm, 7851, rfl⟩
abbrev main_v4167 : Ref sig .tc := ⟨.hbm, 7852, rfl⟩
abbrev main_v4168 : Ref sig .tc := ⟨.hbm, 7853, rfl⟩
abbrev main_v4169 : Ref sig .tc := ⟨.hbm, 7854, rfl⟩
abbrev main_v4170 : Ref sig .tc := ⟨.hbm, 7855, rfl⟩
abbrev main_cst_1016 : Ref sig .tc := ⟨.hbm, 7856, rfl⟩
abbrev main_v4171 : Ref sig .tc := ⟨.hbm, 7857, rfl⟩
abbrev main_v4172 : Ref sig .tc := ⟨.hbm, 7858, rfl⟩
abbrev main_cst_1017 : Ref sig .tc := ⟨.hbm, 7859, rfl⟩
abbrev main_v4173 : Ref sig .tc := ⟨.hbm, 7860, rfl⟩
abbrev main_v4174 : Ref sig .tc := ⟨.hbm, 7861, rfl⟩
abbrev main_v4175 : Ref sig .tc := ⟨.hbm, 7862, rfl⟩
abbrev main_v4176 : Ref sig .tc := ⟨.hbm, 7863, rfl⟩
abbrev main_cst_1018 : Ref sig .tc := ⟨.hbm, 7864, rfl⟩
abbrev main_v4177 : Ref sig .tc := ⟨.hbm, 7865, rfl⟩
abbrev main_v4178 : Ref sig .tc := ⟨.hbm, 7866, rfl⟩
abbrev main_v4179 : Ref sig .tc := ⟨.hbm, 7867, rfl⟩
abbrev main_v4180 : Ref sig .tc := ⟨.hbm, 7868, rfl⟩
abbrev main_v4181 : Ref sig .tc := ⟨.hbm, 7869, rfl⟩
abbrev main_v4182 : Ref sig .tc := ⟨.hbm, 7870, rfl⟩
abbrev main_v4183 : Ref sig .tc := ⟨.hbm, 7871, rfl⟩
abbrev main_v4184 : Ref sig .tc := ⟨.hbm, 7872, rfl⟩
abbrev main_v4185 : Ref sig .tc := ⟨.hbm, 7873, rfl⟩
abbrev main_v4186 : Ref sig .tc := ⟨.hbm, 7874, rfl⟩
abbrev main_v4187 : Ref sig .tc := ⟨.hbm, 7875, rfl⟩
abbrev main_v4188 : Ref sig .tc := ⟨.hbm, 7876, rfl⟩
abbrev main_v4189 : Ref sig .tc := ⟨.hbm, 7877, rfl⟩
abbrev main_v4190 : Ref sig .tc := ⟨.hbm, 7878, rfl⟩
abbrev main_v4191 : Ref sig .tc := ⟨.hbm, 7879, rfl⟩
abbrev main_v4192 : Ref sig .tc := ⟨.hbm, 7880, rfl⟩
abbrev main_v4193 : Ref sig .tc := ⟨.hbm, 7881, rfl⟩
abbrev main_v4194 : Ref sig .tc := ⟨.hbm, 7882, rfl⟩
abbrev main_v4195 : Ref sig .tc := ⟨.hbm, 7883, rfl⟩
abbrev main_call252_cst : Ref sig .tc := ⟨.hbm, 7884, rfl⟩
abbrev main_call252_v0 : Ref sig .tc := ⟨.hbm, 7885, rfl⟩
abbrev main_v4196 : Ref sig .tc := ⟨.hbm, 7886, rfl⟩
abbrev main_v4197 : Ref sig .tc := ⟨.hbm, 7887, rfl⟩
abbrev main_v4198 : Ref sig .tc := ⟨.hbm, 7888, rfl⟩
abbrev main_v4199 : Ref sig .tc := ⟨.hbm, 7889, rfl⟩
abbrev main_v4200 : Ref sig .tc := ⟨.hbm, 7890, rfl⟩
abbrev main_v4201 : Ref sig .tc := ⟨.hbm, 7891, rfl⟩
abbrev main_v4202 : Ref sig .tc := ⟨.hbm, 7892, rfl⟩
abbrev main_v4203 : Ref sig .tc := ⟨.hbm, 7893, rfl⟩
abbrev main_v4204 : Ref sig .tc := ⟨.hbm, 7894, rfl⟩
abbrev main_v4205 : Ref sig .tc := ⟨.hbm, 7895, rfl⟩
abbrev main_v4206 : Ref sig .tc := ⟨.hbm, 7896, rfl⟩
abbrev main_v4207 : Ref sig .tc := ⟨.hbm, 7897, rfl⟩
abbrev main_v4208 : Ref sig .tc := ⟨.hbm, 7898, rfl⟩
abbrev main_v4209 : Ref sig .tc := ⟨.hbm, 7899, rfl⟩
abbrev main_cst_1019 : Ref sig .tc := ⟨.hbm, 7900, rfl⟩
abbrev main_v4210 : Ref sig .tc := ⟨.hbm, 7901, rfl⟩
abbrev main_v4211 : Ref sig .tc := ⟨.hbm, 7902, rfl⟩
abbrev main_cst_1020 : Ref sig .tc := ⟨.hbm, 7903, rfl⟩
abbrev main_v4212 : Ref sig .tc := ⟨.hbm, 7904, rfl⟩
abbrev main_v4213 : Ref sig .tc := ⟨.hbm, 7905, rfl⟩
abbrev main_v4214 : Ref sig .tc := ⟨.hbm, 7906, rfl⟩
abbrev main_v4215 : Ref sig .tc := ⟨.hbm, 7907, rfl⟩
abbrev main_v4216 : Ref sig .tc := ⟨.hbm, 7908, rfl⟩
abbrev main_cst_1021 : Ref sig .tc := ⟨.hbm, 7909, rfl⟩
abbrev main_v4217 : Ref sig .tc := ⟨.hbm, 7910, rfl⟩
abbrev main_v4218 : Ref sig .tc := ⟨.hbm, 7911, rfl⟩
abbrev main_cst_1022 : Ref sig .tc := ⟨.hbm, 7912, rfl⟩
abbrev main_v4219 : Ref sig .tc := ⟨.hbm, 7913, rfl⟩
abbrev main_v4220 : Ref sig .tc := ⟨.hbm, 7914, rfl⟩
abbrev main_v4221 : Ref sig .tc := ⟨.hbm, 7915, rfl⟩
abbrev main_v4222 : Ref sig .tc := ⟨.hbm, 7916, rfl⟩
abbrev main_cst_1023 : Ref sig .tc := ⟨.hbm, 7917, rfl⟩
abbrev main_v4223 : Ref sig .tc := ⟨.hbm, 7918, rfl⟩
abbrev main_v4224 : Ref sig .tc := ⟨.hbm, 7919, rfl⟩
abbrev main_v4225 : Ref sig .tc := ⟨.hbm, 7920, rfl⟩
abbrev main_v4226 : Ref sig .tc := ⟨.hbm, 7921, rfl⟩
abbrev main_v4227 : Ref sig .tc := ⟨.hbm, 7922, rfl⟩
abbrev main_v4228 : Ref sig .tc := ⟨.hbm, 7923, rfl⟩
abbrev main_v4229 : Ref sig .tc := ⟨.hbm, 7924, rfl⟩
abbrev main_v4230 : Ref sig .tc := ⟨.hbm, 7925, rfl⟩
abbrev main_v4231 : Ref sig .tc := ⟨.hbm, 7926, rfl⟩
abbrev main_v4232 : Ref sig .tc := ⟨.hbm, 7927, rfl⟩
abbrev main_v4233 : Ref sig .tc := ⟨.hbm, 7928, rfl⟩
abbrev main_v4234 : Ref sig .tc := ⟨.hbm, 7929, rfl⟩
abbrev main_v4235 : Ref sig .tc := ⟨.hbm, 7930, rfl⟩
abbrev main_v4236 : Ref sig .tc := ⟨.hbm, 7931, rfl⟩
abbrev main_v4237 : Ref sig .tc := ⟨.hbm, 7932, rfl⟩
abbrev main_v4238 : Ref sig .tc := ⟨.hbm, 7933, rfl⟩
abbrev main_v4239 : Ref sig .tc := ⟨.hbm, 7934, rfl⟩
abbrev main_v4240 : Ref sig .tc := ⟨.hbm, 7935, rfl⟩
abbrev main_v4241 : Ref sig .tc := ⟨.hbm, 7936, rfl⟩
abbrev main_v4242 : Ref sig .tc := ⟨.hbm, 7937, rfl⟩
abbrev main_v4243 : Ref sig .tc := ⟨.hbm, 7938, rfl⟩
abbrev main_v4244 : Ref sig .tc := ⟨.hbm, 7939, rfl⟩
abbrev main_v4245 : Ref sig .tc := ⟨.hbm, 7940, rfl⟩
abbrev main_v4246 : Ref sig .tc := ⟨.hbm, 7941, rfl⟩
abbrev main_v4247 : Ref sig .tc := ⟨.hbm, 7942, rfl⟩
abbrev main_v4248 : Ref sig .tc := ⟨.hbm, 7943, rfl⟩
abbrev main_v4249 : Ref sig .tc := ⟨.hbm, 7944, rfl⟩
abbrev main_v4250 : Ref sig .tc := ⟨.hbm, 7945, rfl⟩
abbrev main_v4251 : Ref sig .tc := ⟨.hbm, 7946, rfl⟩
abbrev main_v4252 : Ref sig .tc := ⟨.hbm, 7947, rfl⟩
abbrev main_v4253 : Ref sig .tc := ⟨.hbm, 7948, rfl⟩
abbrev main_v4254 : Ref sig .tc := ⟨.hbm, 7949, rfl⟩
abbrev main_v4255 : Ref sig .tc := ⟨.hbm, 7950, rfl⟩
abbrev main_v4256 : Ref sig .tc := ⟨.hbm, 7951, rfl⟩
abbrev main_v4257 : Ref sig .tc := ⟨.hbm, 7952, rfl⟩
abbrev main_v4258 : Ref sig .tc := ⟨.hbm, 7953, rfl⟩
abbrev main_v4259 : Ref sig .tc := ⟨.hbm, 7954, rfl⟩
abbrev main_v4260 : Ref sig .tc := ⟨.hbm, 7955, rfl⟩
abbrev main_v4261 : Ref sig .tc := ⟨.hbm, 7956, rfl⟩
abbrev main_cst_1024 : Ref sig .tc := ⟨.hbm, 7957, rfl⟩
abbrev main_v4262 : Ref sig .tc := ⟨.hbm, 7958, rfl⟩
abbrev main_cst_1025 : Ref sig .tc := ⟨.hbm, 7959, rfl⟩
abbrev main_v4263 : Ref sig .tc := ⟨.hbm, 7960, rfl⟩
abbrev main_v4264 : Ref sig .tc := ⟨.hbm, 7961, rfl⟩
abbrev main_v4265 : Ref sig .tc := ⟨.hbm, 7962, rfl⟩
abbrev main_v4266 : Ref sig .tc := ⟨.hbm, 7963, rfl⟩
abbrev main_v4267 : Ref sig .tc := ⟨.hbm, 7964, rfl⟩
abbrev main_v4268 : Ref sig .tc := ⟨.hbm, 7965, rfl⟩
abbrev main_cst_1026 : Ref sig .tc := ⟨.hbm, 7966, rfl⟩
abbrev main_v4269 : Ref sig .tc := ⟨.hbm, 7967, rfl⟩
abbrev main_v4270 : Ref sig .tc := ⟨.hbm, 7968, rfl⟩
abbrev main_v4271 : Ref sig .tc := ⟨.hbm, 7969, rfl⟩
abbrev main_v4272 : Ref sig .tc := ⟨.hbm, 7970, rfl⟩
abbrev main_v4273 : Ref sig .tc := ⟨.hbm, 7971, rfl⟩
abbrev main_v4274 : Ref sig .tc := ⟨.hbm, 7972, rfl⟩
abbrev main_v4275 : Ref sig .tc := ⟨.hbm, 7973, rfl⟩
abbrev main_v4276 : Ref sig .tc := ⟨.hbm, 7974, rfl⟩
abbrev main_v4277 : Ref sig .tc := ⟨.hbm, 7975, rfl⟩
abbrev main_v4278 : Ref sig .tc := ⟨.hbm, 7976, rfl⟩
abbrev main_v4279 : Ref sig .tc := ⟨.hbm, 7977, rfl⟩
abbrev main_cst_1027 : Ref sig .tc := ⟨.hbm, 7978, rfl⟩
abbrev main_v4280 : Ref sig .tc := ⟨.hbm, 7979, rfl⟩
abbrev main_v4281 : Ref sig .tc := ⟨.hbm, 7980, rfl⟩
abbrev main_cst_1028 : Ref sig .tc := ⟨.hbm, 7981, rfl⟩
abbrev main_v4282 : Ref sig .tc := ⟨.hbm, 7982, rfl⟩
abbrev main_v4283 : Ref sig .tc := ⟨.hbm, 7983, rfl⟩
abbrev main_v4284 : Ref sig .tc := ⟨.hbm, 7984, rfl⟩
abbrev main_v4285 : Ref sig .tc := ⟨.hbm, 7985, rfl⟩
abbrev main_v4286 : Ref sig .tc := ⟨.hbm, 7986, rfl⟩
abbrev main_v4287 : Ref sig .tc := ⟨.hbm, 7987, rfl⟩
abbrev main_v4288 : Ref sig .tc := ⟨.hbm, 7988, rfl⟩
abbrev main_v4289 : Ref sig .tc := ⟨.hbm, 7989, rfl⟩
abbrev main_v4290 : Ref sig .tc := ⟨.hbm, 7990, rfl⟩
abbrev main_v4291 : Ref sig .tc := ⟨.hbm, 7991, rfl⟩
abbrev main_v4292 : Ref sig .tc := ⟨.hbm, 7992, rfl⟩
abbrev main_cst_1029 : Ref sig .tc := ⟨.hbm, 7993, rfl⟩
abbrev main_v4293 : Ref sig .tc := ⟨.hbm, 7994, rfl⟩
abbrev main_v4294 : Ref sig .tc := ⟨.hbm, 7995, rfl⟩
abbrev main_cst_1030 : Ref sig .tc := ⟨.hbm, 7996, rfl⟩
abbrev main_v4295 : Ref sig .tc := ⟨.hbm, 7997, rfl⟩
abbrev main_v4296 : Ref sig .tc := ⟨.hbm, 7998, rfl⟩
abbrev main_cst_1031 : Ref sig .tc := ⟨.hbm, 7999, rfl⟩
abbrev main_v4297 : Ref sig .tc := ⟨.hbm, 8000, rfl⟩
abbrev main_v4298 : Ref sig .tc := ⟨.hbm, 8001, rfl⟩
abbrev main_cst_1032 : Ref sig .tc := ⟨.hbm, 8002, rfl⟩
abbrev main_v4299 : Ref sig .tc := ⟨.hbm, 8003, rfl⟩
abbrev main_v4300 : Ref sig .tc := ⟨.hbm, 8004, rfl⟩
abbrev main_v4301 : Ref sig .tc := ⟨.hbm, 8005, rfl⟩
abbrev main_v4302 : Ref sig .tc := ⟨.hbm, 8006, rfl⟩
abbrev main_cst_1033 : Ref sig .tc := ⟨.hbm, 8007, rfl⟩
abbrev main_v4303 : Ref sig .tc := ⟨.hbm, 8008, rfl⟩
abbrev main_v4304 : Ref sig .tc := ⟨.hbm, 8009, rfl⟩
abbrev main_cst_1034 : Ref sig .tc := ⟨.hbm, 8010, rfl⟩
abbrev main_v4305 : Ref sig .tc := ⟨.hbm, 8011, rfl⟩
abbrev main_v4306 : Ref sig .tc := ⟨.hbm, 8012, rfl⟩
abbrev main_cst_1035 : Ref sig .tc := ⟨.hbm, 8013, rfl⟩
abbrev main_v4307 : Ref sig .tc := ⟨.hbm, 8014, rfl⟩
abbrev main_v4308 : Ref sig .tc := ⟨.hbm, 8015, rfl⟩
abbrev main_cst_1036 : Ref sig .tc := ⟨.hbm, 8016, rfl⟩
abbrev main_v4309 : Ref sig .tc := ⟨.hbm, 8017, rfl⟩
abbrev main_v4310 : Ref sig .tc := ⟨.hbm, 8018, rfl⟩
abbrev main_v4311 : Ref sig .tc := ⟨.hbm, 8019, rfl⟩
abbrev main_v4312 : Ref sig .tc := ⟨.hbm, 8020, rfl⟩
abbrev main_cst_1037 : Ref sig .tc := ⟨.hbm, 8021, rfl⟩
abbrev main_v4313 : Ref sig .tc := ⟨.hbm, 8022, rfl⟩
abbrev main_v4314 : Ref sig .tc := ⟨.hbm, 8023, rfl⟩
abbrev main_cst_1038 : Ref sig .tc := ⟨.hbm, 8024, rfl⟩
abbrev main_v4315 : Ref sig .tc := ⟨.hbm, 8025, rfl⟩
abbrev main_v4316 : Ref sig .tc := ⟨.hbm, 8026, rfl⟩
abbrev main_v4317 : Ref sig .tc := ⟨.hbm, 8027, rfl⟩
abbrev main_v4318 : Ref sig .tc := ⟨.hbm, 8028, rfl⟩
abbrev main_v4319 : Ref sig .tc := ⟨.hbm, 8029, rfl⟩
abbrev main_v4320 : Ref sig .tc := ⟨.hbm, 8030, rfl⟩
abbrev main_v4321 : Ref sig .tc := ⟨.hbm, 8031, rfl⟩
abbrev main_v4322 : Ref sig .tc := ⟨.hbm, 8032, rfl⟩
abbrev main_v4323 : Ref sig .tc := ⟨.hbm, 8033, rfl⟩
abbrev main_v4324 : Ref sig .tc := ⟨.hbm, 8034, rfl⟩
abbrev main_v4325 : Ref sig .tc := ⟨.hbm, 8035, rfl⟩
abbrev main_v4326 : Ref sig .tc := ⟨.hbm, 8036, rfl⟩
abbrev main_v4327 : Ref sig .tc := ⟨.hbm, 8037, rfl⟩
abbrev main_v4328 : Ref sig .tc := ⟨.hbm, 8038, rfl⟩
abbrev main_v4329 : Ref sig .tc := ⟨.hbm, 8039, rfl⟩
abbrev main_cst_1039 : Ref sig .tc := ⟨.hbm, 8040, rfl⟩
abbrev main_v4330 : Ref sig .tc := ⟨.hbm, 8041, rfl⟩
abbrev main_v4331 : Ref sig .tc := ⟨.hbm, 8042, rfl⟩
abbrev main_cst_1040 : Ref sig .tc := ⟨.hbm, 8043, rfl⟩
abbrev main_v4332 : Ref sig .tc := ⟨.hbm, 8044, rfl⟩
abbrev main_v4333 : Ref sig .tc := ⟨.hbm, 8045, rfl⟩
abbrev main_v4334 : Ref sig .tc := ⟨.hbm, 8046, rfl⟩
abbrev main_cst_1041 : Ref sig .tc := ⟨.hbm, 8047, rfl⟩
abbrev main_v4335 : Ref sig .tc := ⟨.hbm, 8048, rfl⟩
abbrev main_v4336 : Ref sig .tc := ⟨.hbm, 8049, rfl⟩
abbrev main_v4337 : Ref sig .tc := ⟨.hbm, 8050, rfl⟩
abbrev main_cst_1042 : Ref sig .tc := ⟨.hbm, 8051, rfl⟩
abbrev main_v4338 : Ref sig .tc := ⟨.hbm, 8052, rfl⟩
abbrev main_v4339 : Ref sig .tc := ⟨.hbm, 8053, rfl⟩
abbrev main_v4340 : Ref sig .tc := ⟨.hbm, 8054, rfl⟩
abbrev main_c_1043 : Ref sig .tc := ⟨.hbm, 8055, rfl⟩
abbrev main_c_1044 : Ref sig .tc := ⟨.hbm, 8056, rfl⟩
abbrev main_call253_v0 : Ref sig .tc := ⟨.hbm, 8057, rfl⟩
abbrev main_call253_v1 : Ref sig .tc := ⟨.hbm, 8058, rfl⟩
abbrev main_call253_v2 : Ref sig .tc := ⟨.hbm, 8059, rfl⟩
abbrev main_call253_v3 : Ref sig .tc := ⟨.hbm, 8060, rfl⟩
abbrev main_call253_v4 : Ref sig .tc := ⟨.hbm, 8061, rfl⟩
abbrev main_v4341 : Ref sig .tc := ⟨.hbm, 8062, rfl⟩
abbrev main_v4342 : Ref sig .tc := ⟨.hbm, 8063, rfl⟩
abbrev main_c_1045 : Ref sig .tc := ⟨.hbm, 8064, rfl⟩
abbrev main_c_1046 : Ref sig .tc := ⟨.hbm, 8065, rfl⟩
abbrev main_call254_v0 : Ref sig .tc := ⟨.hbm, 8066, rfl⟩
abbrev main_call254_v1 : Ref sig .tc := ⟨.hbm, 8067, rfl⟩
abbrev main_call254_v2 : Ref sig .tc := ⟨.hbm, 8068, rfl⟩
abbrev main_call254_v3 : Ref sig .tc := ⟨.hbm, 8069, rfl⟩
abbrev main_call254_v4 : Ref sig .tc := ⟨.hbm, 8070, rfl⟩
abbrev main_v4343 : Ref sig .tc := ⟨.hbm, 8071, rfl⟩
abbrev main_v4344 : Ref sig .tc := ⟨.hbm, 8072, rfl⟩
abbrev main_c_1047 : Ref sig .tc := ⟨.hbm, 8073, rfl⟩
abbrev main_v4345 : Ref sig .tc := ⟨.hbm, 8074, rfl⟩
abbrev main_v4346 : Ref sig .tc := ⟨.hbm, 8075, rfl⟩
abbrev main_v4347 : Ref sig .tc := ⟨.hbm, 8076, rfl⟩
abbrev main_v4348 : Ref sig .tc := ⟨.hbm, 8077, rfl⟩
abbrev main_v4349 : Ref sig .tc := ⟨.hbm, 8078, rfl⟩
abbrev main_v4350 : Ref sig .tc := ⟨.hbm, 8079, rfl⟩
abbrev main_call255_c : Ref sig .tc := ⟨.hbm, 8080, rfl⟩
abbrev main_call255_v0 : Ref sig .tc := ⟨.hbm, 8081, rfl⟩
abbrev main_call255_v1 : Ref sig .tc := ⟨.hbm, 8082, rfl⟩
abbrev main_call255_c_0 : Ref sig .tc := ⟨.hbm, 8083, rfl⟩
abbrev main_call255_v2 : Ref sig .tc := ⟨.hbm, 8084, rfl⟩
abbrev main_call255_v3 : Ref sig .tc := ⟨.hbm, 8085, rfl⟩
abbrev main_call255_v4 : Ref sig .tc := ⟨.hbm, 8086, rfl⟩
abbrev main_call255_v5 : Ref sig .tc := ⟨.hbm, 8087, rfl⟩
abbrev main_call255_c_1 : Ref sig .tc := ⟨.hbm, 8088, rfl⟩
abbrev main_call255_c_2 : Ref sig .tc := ⟨.hbm, 8089, rfl⟩
abbrev main_call255_v6 : Ref sig .tc := ⟨.hbm, 8090, rfl⟩
abbrev main_call255_v7 : Ref sig .tc := ⟨.hbm, 8091, rfl⟩
abbrev main_call255_v8 : Ref sig .tc := ⟨.hbm, 8092, rfl⟩
abbrev main_call255_v9 : Ref sig .tc := ⟨.hbm, 8093, rfl⟩
abbrev main_call255_v10 : Ref sig .tc := ⟨.hbm, 8094, rfl⟩
abbrev main_call255_v11 : Ref sig .tc := ⟨.hbm, 8095, rfl⟩
abbrev main_call255_c_3 : Ref sig .tc := ⟨.hbm, 8096, rfl⟩
abbrev main_call255_v12 : Ref sig .tc := ⟨.hbm, 8097, rfl⟩
abbrev main_call255_v13 : Ref sig .tc := ⟨.hbm, 8098, rfl⟩
abbrev main_call255_cst : Ref sig .tc := ⟨.hbm, 8099, rfl⟩
abbrev main_call255_v14 : Ref sig .tc := ⟨.hbm, 8100, rfl⟩
abbrev main_v4351 : Ref sig .tc := ⟨.hbm, 8101, rfl⟩
abbrev main_v4352 : Ref sig .tc := ⟨.hbm, 8102, rfl⟩
abbrev main_v4353 : Ref sig .tc := ⟨.hbm, 8103, rfl⟩
abbrev main_v4354 : Ref sig .tc := ⟨.hbm, 8104, rfl⟩
abbrev main_v4355 : Ref sig .tc := ⟨.hbm, 8105, rfl⟩
abbrev main_v4356 : Ref sig .tc := ⟨.hbm, 8106, rfl⟩
abbrev main_v4357 : Ref sig .tc := ⟨.hbm, 8107, rfl⟩
abbrev main_v4358 : Ref sig .tc := ⟨.hbm, 8108, rfl⟩
abbrev main_v4359 : Ref sig .tc := ⟨.hbm, 8109, rfl⟩
abbrev main_cst_1048 : Ref sig .tc := ⟨.hbm, 8110, rfl⟩
abbrev main_v4360 : Ref sig .tc := ⟨.hbm, 8111, rfl⟩
abbrev main_v4361 : Ref sig .tc := ⟨.hbm, 8112, rfl⟩
abbrev main_cst_1049 : Ref sig .tc := ⟨.hbm, 8113, rfl⟩
abbrev main_v4362 : Ref sig .tc := ⟨.hbm, 8114, rfl⟩
abbrev main_v4363 : Ref sig .tc := ⟨.hbm, 8115, rfl⟩
abbrev main_v4364 : Ref sig .tc := ⟨.hbm, 8116, rfl⟩
abbrev main_cst_1050 : Ref sig .tc := ⟨.hbm, 8117, rfl⟩
abbrev main_v4365 : Ref sig .tc := ⟨.hbm, 8118, rfl⟩
abbrev main_v4366 : Ref sig .tc := ⟨.hbm, 8119, rfl⟩
abbrev main_v4367 : Ref sig .tc := ⟨.hbm, 8120, rfl⟩
abbrev main_cst_1051 : Ref sig .tc := ⟨.hbm, 8121, rfl⟩
abbrev main_v4368 : Ref sig .tc := ⟨.hbm, 8122, rfl⟩
abbrev main_v4369 : Ref sig .tc := ⟨.hbm, 8123, rfl⟩
abbrev main_v4370 : Ref sig .tc := ⟨.hbm, 8124, rfl⟩
abbrev main_c_1052 : Ref sig .tc := ⟨.hbm, 8125, rfl⟩
abbrev main_c_1053 : Ref sig .tc := ⟨.hbm, 8126, rfl⟩
abbrev main_call256_v0 : Ref sig .tc := ⟨.hbm, 8127, rfl⟩
abbrev main_call256_v1 : Ref sig .tc := ⟨.hbm, 8128, rfl⟩
abbrev main_call256_v2 : Ref sig .tc := ⟨.hbm, 8129, rfl⟩
abbrev main_call256_v3 : Ref sig .tc := ⟨.hbm, 8130, rfl⟩
abbrev main_call256_v4 : Ref sig .tc := ⟨.hbm, 8131, rfl⟩
abbrev main_v4371 : Ref sig .tc := ⟨.hbm, 8132, rfl⟩
abbrev main_v4372 : Ref sig .tc := ⟨.hbm, 8133, rfl⟩
abbrev main_c_1054 : Ref sig .tc := ⟨.hbm, 8134, rfl⟩
abbrev main_c_1055 : Ref sig .tc := ⟨.hbm, 8135, rfl⟩
abbrev main_call257_v0 : Ref sig .tc := ⟨.hbm, 8136, rfl⟩
abbrev main_call257_v1 : Ref sig .tc := ⟨.hbm, 8137, rfl⟩
abbrev main_call257_v2 : Ref sig .tc := ⟨.hbm, 8138, rfl⟩
abbrev main_call257_v3 : Ref sig .tc := ⟨.hbm, 8139, rfl⟩
abbrev main_call257_v4 : Ref sig .tc := ⟨.hbm, 8140, rfl⟩
abbrev main_v4373 : Ref sig .tc := ⟨.hbm, 8141, rfl⟩
abbrev main_v4374 : Ref sig .tc := ⟨.hbm, 8142, rfl⟩
abbrev main_c_1056 : Ref sig .tc := ⟨.hbm, 8143, rfl⟩
abbrev main_v4375 : Ref sig .tc := ⟨.hbm, 8144, rfl⟩
abbrev main_v4376 : Ref sig .tc := ⟨.hbm, 8145, rfl⟩
abbrev main_v4377 : Ref sig .tc := ⟨.hbm, 8146, rfl⟩
abbrev main_v4378 : Ref sig .tc := ⟨.hbm, 8147, rfl⟩
abbrev main_v4379 : Ref sig .tc := ⟨.hbm, 8148, rfl⟩
abbrev main_v4380 : Ref sig .tc := ⟨.hbm, 8149, rfl⟩
abbrev main_call258_c : Ref sig .tc := ⟨.hbm, 8150, rfl⟩
abbrev main_call258_v0 : Ref sig .tc := ⟨.hbm, 8151, rfl⟩
abbrev main_call258_v1 : Ref sig .tc := ⟨.hbm, 8152, rfl⟩
abbrev main_call258_c_0 : Ref sig .tc := ⟨.hbm, 8153, rfl⟩
abbrev main_call258_v2 : Ref sig .tc := ⟨.hbm, 8154, rfl⟩
abbrev main_call258_v3 : Ref sig .tc := ⟨.hbm, 8155, rfl⟩
abbrev main_call258_v4 : Ref sig .tc := ⟨.hbm, 8156, rfl⟩
abbrev main_call258_v5 : Ref sig .tc := ⟨.hbm, 8157, rfl⟩
abbrev main_call258_c_1 : Ref sig .tc := ⟨.hbm, 8158, rfl⟩
abbrev main_call258_c_2 : Ref sig .tc := ⟨.hbm, 8159, rfl⟩
abbrev main_call258_v6 : Ref sig .tc := ⟨.hbm, 8160, rfl⟩
abbrev main_call258_v7 : Ref sig .tc := ⟨.hbm, 8161, rfl⟩
abbrev main_call258_v8 : Ref sig .tc := ⟨.hbm, 8162, rfl⟩
abbrev main_call258_v9 : Ref sig .tc := ⟨.hbm, 8163, rfl⟩
abbrev main_call258_v10 : Ref sig .tc := ⟨.hbm, 8164, rfl⟩
abbrev main_call258_v11 : Ref sig .tc := ⟨.hbm, 8165, rfl⟩
abbrev main_call258_c_3 : Ref sig .tc := ⟨.hbm, 8166, rfl⟩
abbrev main_call258_v12 : Ref sig .tc := ⟨.hbm, 8167, rfl⟩
abbrev main_call258_v13 : Ref sig .tc := ⟨.hbm, 8168, rfl⟩
abbrev main_call258_cst : Ref sig .tc := ⟨.hbm, 8169, rfl⟩
abbrev main_call258_v14 : Ref sig .tc := ⟨.hbm, 8170, rfl⟩
abbrev main_v4381 : Ref sig .tc := ⟨.hbm, 8171, rfl⟩
abbrev main_v4382 : Ref sig .tc := ⟨.hbm, 8172, rfl⟩
abbrev main_v4383 : Ref sig .tc := ⟨.hbm, 8173, rfl⟩
abbrev main_v4384 : Ref sig .tc := ⟨.hbm, 8174, rfl⟩
abbrev main_v4385 : Ref sig .tc := ⟨.hbm, 8175, rfl⟩
abbrev main_v4386 : Ref sig .tc := ⟨.hbm, 8176, rfl⟩
abbrev main_v4387 : Ref sig .tc := ⟨.hbm, 8177, rfl⟩
abbrev main_v4388 : Ref sig .tc := ⟨.hbm, 8178, rfl⟩
abbrev main_v4389 : Ref sig .tc := ⟨.hbm, 8179, rfl⟩
abbrev main_v4390 : Ref sig .tc := ⟨.hbm, 8180, rfl⟩
abbrev main_cst_1057 : Ref sig .tc := ⟨.hbm, 8181, rfl⟩
abbrev main_v4391 : Ref sig .tc := ⟨.hbm, 8182, rfl⟩
abbrev main_v4392 : Ref sig .tc := ⟨.hbm, 8183, rfl⟩
abbrev main_cst_1058 : Ref sig .tc := ⟨.hbm, 8184, rfl⟩
abbrev main_v4393 : Ref sig .tc := ⟨.hbm, 8185, rfl⟩
abbrev main_v4394 : Ref sig .tc := ⟨.hbm, 8186, rfl⟩
abbrev main_v4395 : Ref sig .tc := ⟨.hbm, 8187, rfl⟩
abbrev main_cst_1059 : Ref sig .tc := ⟨.hbm, 8188, rfl⟩
abbrev main_v4396 : Ref sig .tc := ⟨.hbm, 8189, rfl⟩
abbrev main_v4397 : Ref sig .tc := ⟨.hbm, 8190, rfl⟩
abbrev main_v4398 : Ref sig .tc := ⟨.hbm, 8191, rfl⟩
abbrev main_cst_1060 : Ref sig .tc := ⟨.hbm, 8192, rfl⟩
abbrev main_v4399 : Ref sig .tc := ⟨.hbm, 8193, rfl⟩
abbrev main_v4400 : Ref sig .tc := ⟨.hbm, 8194, rfl⟩
abbrev main_v4401 : Ref sig .tc := ⟨.hbm, 8195, rfl⟩
abbrev main_c_1061 : Ref sig .tc := ⟨.hbm, 8196, rfl⟩
abbrev main_c_1062 : Ref sig .tc := ⟨.hbm, 8197, rfl⟩
abbrev main_call259_v0 : Ref sig .tc := ⟨.hbm, 8198, rfl⟩
abbrev main_call259_v1 : Ref sig .tc := ⟨.hbm, 8199, rfl⟩
abbrev main_call259_v2 : Ref sig .tc := ⟨.hbm, 8200, rfl⟩
abbrev main_call259_v3 : Ref sig .tc := ⟨.hbm, 8201, rfl⟩
abbrev main_call259_v4 : Ref sig .tc := ⟨.hbm, 8202, rfl⟩
abbrev main_v4402 : Ref sig .tc := ⟨.hbm, 8203, rfl⟩
abbrev main_v4403 : Ref sig .tc := ⟨.hbm, 8204, rfl⟩
abbrev main_c_1063 : Ref sig .tc := ⟨.hbm, 8205, rfl⟩
abbrev main_c_1064 : Ref sig .tc := ⟨.hbm, 8206, rfl⟩
abbrev main_call260_v0 : Ref sig .tc := ⟨.hbm, 8207, rfl⟩
abbrev main_call260_v1 : Ref sig .tc := ⟨.hbm, 8208, rfl⟩
abbrev main_call260_v2 : Ref sig .tc := ⟨.hbm, 8209, rfl⟩
abbrev main_call260_v3 : Ref sig .tc := ⟨.hbm, 8210, rfl⟩
abbrev main_call260_v4 : Ref sig .tc := ⟨.hbm, 8211, rfl⟩
abbrev main_v4404 : Ref sig .tc := ⟨.hbm, 8212, rfl⟩
abbrev main_v4405 : Ref sig .tc := ⟨.hbm, 8213, rfl⟩
abbrev main_c_1065 : Ref sig .tc := ⟨.hbm, 8214, rfl⟩
abbrev main_v4406 : Ref sig .tc := ⟨.hbm, 8215, rfl⟩
abbrev main_v4407 : Ref sig .tc := ⟨.hbm, 8216, rfl⟩
abbrev main_v4408 : Ref sig .tc := ⟨.hbm, 8217, rfl⟩
abbrev main_v4409 : Ref sig .tc := ⟨.hbm, 8218, rfl⟩
abbrev main_v4410 : Ref sig .tc := ⟨.hbm, 8219, rfl⟩
abbrev main_v4411 : Ref sig .tc := ⟨.hbm, 8220, rfl⟩
abbrev main_call261_c : Ref sig .tc := ⟨.hbm, 8221, rfl⟩
abbrev main_call261_v0 : Ref sig .tc := ⟨.hbm, 8222, rfl⟩
abbrev main_call261_v1 : Ref sig .tc := ⟨.hbm, 8223, rfl⟩
abbrev main_call261_c_0 : Ref sig .tc := ⟨.hbm, 8224, rfl⟩
abbrev main_call261_v2 : Ref sig .tc := ⟨.hbm, 8225, rfl⟩
abbrev main_call261_v3 : Ref sig .tc := ⟨.hbm, 8226, rfl⟩
abbrev main_call261_v4 : Ref sig .tc := ⟨.hbm, 8227, rfl⟩
abbrev main_call261_v5 : Ref sig .tc := ⟨.hbm, 8228, rfl⟩
abbrev main_call261_c_1 : Ref sig .tc := ⟨.hbm, 8229, rfl⟩
abbrev main_call261_c_2 : Ref sig .tc := ⟨.hbm, 8230, rfl⟩
abbrev main_call261_v6 : Ref sig .tc := ⟨.hbm, 8231, rfl⟩
abbrev main_call261_v7 : Ref sig .tc := ⟨.hbm, 8232, rfl⟩
abbrev main_call261_v8 : Ref sig .tc := ⟨.hbm, 8233, rfl⟩
abbrev main_call261_v9 : Ref sig .tc := ⟨.hbm, 8234, rfl⟩
abbrev main_call261_v10 : Ref sig .tc := ⟨.hbm, 8235, rfl⟩
abbrev main_call261_v11 : Ref sig .tc := ⟨.hbm, 8236, rfl⟩
abbrev main_call261_c_3 : Ref sig .tc := ⟨.hbm, 8237, rfl⟩
abbrev main_call261_v12 : Ref sig .tc := ⟨.hbm, 8238, rfl⟩
abbrev main_call261_v13 : Ref sig .tc := ⟨.hbm, 8239, rfl⟩
abbrev main_call261_cst : Ref sig .tc := ⟨.hbm, 8240, rfl⟩
abbrev main_call261_v14 : Ref sig .tc := ⟨.hbm, 8241, rfl⟩
abbrev main_v4412 : Ref sig .tc := ⟨.hbm, 8242, rfl⟩
abbrev main_v4413 : Ref sig .tc := ⟨.hbm, 8243, rfl⟩
abbrev main_v4414 : Ref sig .tc := ⟨.hbm, 8244, rfl⟩
abbrev main_v4415 : Ref sig .tc := ⟨.hbm, 8245, rfl⟩
abbrev main_v4416 : Ref sig .tc := ⟨.hbm, 8246, rfl⟩
abbrev main_v4417 : Ref sig .tc := ⟨.hbm, 8247, rfl⟩
abbrev main_v4418 : Ref sig .tc := ⟨.hbm, 8248, rfl⟩
abbrev main_v4419 : Ref sig .tc := ⟨.hbm, 8249, rfl⟩
abbrev main_v4420 : Ref sig .tc := ⟨.hbm, 8250, rfl⟩
abbrev main_v4421 : Ref sig .tc := ⟨.hbm, 8251, rfl⟩
abbrev main_cst_1066 : Ref sig .tc := ⟨.hbm, 8252, rfl⟩
abbrev main_v4422 : Ref sig .tc := ⟨.hbm, 8253, rfl⟩
abbrev main_v4423 : Ref sig .tc := ⟨.hbm, 8254, rfl⟩
abbrev main_cst_1067 : Ref sig .tc := ⟨.hbm, 8255, rfl⟩
abbrev main_v4424 : Ref sig .tc := ⟨.hbm, 8256, rfl⟩
abbrev main_v4425 : Ref sig .tc := ⟨.hbm, 8257, rfl⟩
abbrev main_v4426 : Ref sig .tc := ⟨.hbm, 8258, rfl⟩
abbrev main_cst_1068 : Ref sig .tc := ⟨.hbm, 8259, rfl⟩
abbrev main_v4427 : Ref sig .tc := ⟨.hbm, 8260, rfl⟩
abbrev main_v4428 : Ref sig .tc := ⟨.hbm, 8261, rfl⟩
abbrev main_v4429 : Ref sig .tc := ⟨.hbm, 8262, rfl⟩
abbrev main_cst_1069 : Ref sig .tc := ⟨.hbm, 8263, rfl⟩
abbrev main_v4430 : Ref sig .tc := ⟨.hbm, 8264, rfl⟩
abbrev main_v4431 : Ref sig .tc := ⟨.hbm, 8265, rfl⟩
abbrev main_v4432 : Ref sig .tc := ⟨.hbm, 8266, rfl⟩
abbrev main_c_1070 : Ref sig .tc := ⟨.hbm, 8267, rfl⟩
abbrev main_c_1071 : Ref sig .tc := ⟨.hbm, 8268, rfl⟩
abbrev main_call262_v0 : Ref sig .tc := ⟨.hbm, 8269, rfl⟩
abbrev main_call262_v1 : Ref sig .tc := ⟨.hbm, 8270, rfl⟩
abbrev main_call262_v2 : Ref sig .tc := ⟨.hbm, 8271, rfl⟩
abbrev main_call262_v3 : Ref sig .tc := ⟨.hbm, 8272, rfl⟩
abbrev main_call262_v4 : Ref sig .tc := ⟨.hbm, 8273, rfl⟩
abbrev main_v4433 : Ref sig .tc := ⟨.hbm, 8274, rfl⟩
abbrev main_v4434 : Ref sig .tc := ⟨.hbm, 8275, rfl⟩
abbrev main_c_1072 : Ref sig .tc := ⟨.hbm, 8276, rfl⟩
abbrev main_c_1073 : Ref sig .tc := ⟨.hbm, 8277, rfl⟩
abbrev main_call263_v0 : Ref sig .tc := ⟨.hbm, 8278, rfl⟩
abbrev main_call263_v1 : Ref sig .tc := ⟨.hbm, 8279, rfl⟩
abbrev main_call263_v2 : Ref sig .tc := ⟨.hbm, 8280, rfl⟩
abbrev main_call263_v3 : Ref sig .tc := ⟨.hbm, 8281, rfl⟩
abbrev main_call263_v4 : Ref sig .tc := ⟨.hbm, 8282, rfl⟩
abbrev main_v4435 : Ref sig .tc := ⟨.hbm, 8283, rfl⟩
abbrev main_v4436 : Ref sig .tc := ⟨.hbm, 8284, rfl⟩
abbrev main_c_1074 : Ref sig .tc := ⟨.hbm, 8285, rfl⟩
abbrev main_v4437 : Ref sig .tc := ⟨.hbm, 8286, rfl⟩
abbrev main_v4438 : Ref sig .tc := ⟨.hbm, 8287, rfl⟩
abbrev main_v4439 : Ref sig .tc := ⟨.hbm, 8288, rfl⟩
abbrev main_v4440 : Ref sig .tc := ⟨.hbm, 8289, rfl⟩
abbrev main_v4441 : Ref sig .tc := ⟨.hbm, 8290, rfl⟩
abbrev main_v4442 : Ref sig .tc := ⟨.hbm, 8291, rfl⟩
abbrev main_call264_c : Ref sig .tc := ⟨.hbm, 8292, rfl⟩
abbrev main_call264_v0 : Ref sig .tc := ⟨.hbm, 8293, rfl⟩
abbrev main_call264_v1 : Ref sig .tc := ⟨.hbm, 8294, rfl⟩
abbrev main_call264_c_0 : Ref sig .tc := ⟨.hbm, 8295, rfl⟩
abbrev main_call264_v2 : Ref sig .tc := ⟨.hbm, 8296, rfl⟩
abbrev main_call264_v3 : Ref sig .tc := ⟨.hbm, 8297, rfl⟩
abbrev main_call264_v4 : Ref sig .tc := ⟨.hbm, 8298, rfl⟩
abbrev main_call264_v5 : Ref sig .tc := ⟨.hbm, 8299, rfl⟩
abbrev main_call264_c_1 : Ref sig .tc := ⟨.hbm, 8300, rfl⟩
abbrev main_call264_c_2 : Ref sig .tc := ⟨.hbm, 8301, rfl⟩
abbrev main_call264_v6 : Ref sig .tc := ⟨.hbm, 8302, rfl⟩
abbrev main_call264_v7 : Ref sig .tc := ⟨.hbm, 8303, rfl⟩
abbrev main_call264_v8 : Ref sig .tc := ⟨.hbm, 8304, rfl⟩
abbrev main_call264_v9 : Ref sig .tc := ⟨.hbm, 8305, rfl⟩
abbrev main_call264_v10 : Ref sig .tc := ⟨.hbm, 8306, rfl⟩
abbrev main_call264_v11 : Ref sig .tc := ⟨.hbm, 8307, rfl⟩
abbrev main_call264_c_3 : Ref sig .tc := ⟨.hbm, 8308, rfl⟩
abbrev main_call264_v12 : Ref sig .tc := ⟨.hbm, 8309, rfl⟩
abbrev main_call264_v13 : Ref sig .tc := ⟨.hbm, 8310, rfl⟩
abbrev main_call264_cst : Ref sig .tc := ⟨.hbm, 8311, rfl⟩
abbrev main_call264_v14 : Ref sig .tc := ⟨.hbm, 8312, rfl⟩
abbrev main_v4443 : Ref sig .tc := ⟨.hbm, 8313, rfl⟩
abbrev main_v4444 : Ref sig .tc := ⟨.hbm, 8314, rfl⟩
abbrev main_v4445 : Ref sig .tc := ⟨.hbm, 8315, rfl⟩
abbrev main_v4446 : Ref sig .tc := ⟨.hbm, 8316, rfl⟩
abbrev main_v4447 : Ref sig .tc := ⟨.hbm, 8317, rfl⟩
abbrev main_v4448 : Ref sig .tc := ⟨.hbm, 8318, rfl⟩
abbrev main_v4449 : Ref sig .tc := ⟨.hbm, 8319, rfl⟩
abbrev main_v4450 : Ref sig .tc := ⟨.hbm, 8320, rfl⟩
abbrev main_v4451 : Ref sig .tc := ⟨.hbm, 8321, rfl⟩
abbrev main_v4452 : Ref sig .tc := ⟨.hbm, 8322, rfl⟩
abbrev main_v4453 : Ref sig .tc := ⟨.hbm, 8323, rfl⟩
abbrev main_v4454 : Ref sig .tc := ⟨.hbm, 8324, rfl⟩
abbrev main_v4455 : Ref sig .tc := ⟨.hbm, 8325, rfl⟩
abbrev main_v4456 : Ref sig .tc := ⟨.hbm, 8326, rfl⟩
abbrev main_v4457 : Ref sig .tc := ⟨.hbm, 8327, rfl⟩
abbrev main_v4458 : Ref sig .tc := ⟨.hbm, 8328, rfl⟩
abbrev main_v4459 : Ref sig .tc := ⟨.hbm, 8329, rfl⟩
abbrev main_v4460 : Ref sig .tc := ⟨.hbm, 8330, rfl⟩
abbrev main_v4461 : Ref sig .tc := ⟨.hbm, 8331, rfl⟩
abbrev main_cst_1075 : Ref sig .tc := ⟨.hbm, 8332, rfl⟩
abbrev main_v4462 : Ref sig .tc := ⟨.hbm, 8333, rfl⟩
abbrev main_v4463 : Ref sig .tc := ⟨.hbm, 8334, rfl⟩
abbrev main_cst_1076 : Ref sig .tc := ⟨.hbm, 8335, rfl⟩
abbrev main_v4464 : Ref sig .tc := ⟨.hbm, 8336, rfl⟩
abbrev main_v4465 : Ref sig .tc := ⟨.hbm, 8337, rfl⟩
abbrev main_cst_1077 : Ref sig .tc := ⟨.hbm, 8338, rfl⟩
abbrev main_v4466 : Ref sig .tc := ⟨.hbm, 8339, rfl⟩
abbrev main_v4467 : Ref sig .tc := ⟨.hbm, 8340, rfl⟩
abbrev main_cst_1078 : Ref sig .tc := ⟨.hbm, 8341, rfl⟩
abbrev main_v4468 : Ref sig .tc := ⟨.hbm, 8342, rfl⟩
abbrev main_v4469 : Ref sig .tc := ⟨.hbm, 8343, rfl⟩
abbrev main_v4470 : Ref sig .tc := ⟨.hbm, 8344, rfl⟩
abbrev main_v4471 : Ref sig .tc := ⟨.hbm, 8345, rfl⟩
abbrev main_cst_1079 : Ref sig .tc := ⟨.hbm, 8346, rfl⟩
abbrev main_v4472 : Ref sig .tc := ⟨.hbm, 8347, rfl⟩
abbrev main_v4473 : Ref sig .tc := ⟨.hbm, 8348, rfl⟩
abbrev main_cst_1080 : Ref sig .tc := ⟨.hbm, 8349, rfl⟩
abbrev main_v4474 : Ref sig .tc := ⟨.hbm, 8350, rfl⟩
abbrev main_v4475 : Ref sig .tc := ⟨.hbm, 8351, rfl⟩
abbrev main_cst_1081 : Ref sig .tc := ⟨.hbm, 8352, rfl⟩
abbrev main_v4476 : Ref sig .tc := ⟨.hbm, 8353, rfl⟩
abbrev main_v4477 : Ref sig .tc := ⟨.hbm, 8354, rfl⟩
abbrev main_cst_1082 : Ref sig .tc := ⟨.hbm, 8355, rfl⟩
abbrev main_v4478 : Ref sig .tc := ⟨.hbm, 8356, rfl⟩
abbrev main_v4479 : Ref sig .tc := ⟨.hbm, 8357, rfl⟩
abbrev main_v4480 : Ref sig .tc := ⟨.hbm, 8358, rfl⟩
abbrev main_v4481 : Ref sig .tc := ⟨.hbm, 8359, rfl⟩
abbrev main_cst_1083 : Ref sig .tc := ⟨.hbm, 8360, rfl⟩
abbrev main_v4482 : Ref sig .tc := ⟨.hbm, 8361, rfl⟩
abbrev main_v4483 : Ref sig .tc := ⟨.hbm, 8362, rfl⟩
abbrev main_cst_1084 : Ref sig .tc := ⟨.hbm, 8363, rfl⟩
abbrev main_v4484 : Ref sig .tc := ⟨.hbm, 8364, rfl⟩
abbrev main_v4485 : Ref sig .tc := ⟨.hbm, 8365, rfl⟩
abbrev main_v4486 : Ref sig .tc := ⟨.hbm, 8366, rfl⟩
abbrev main_v4487 : Ref sig .tc := ⟨.hbm, 8367, rfl⟩
abbrev main_v4488 : Ref sig .tc := ⟨.hbm, 8368, rfl⟩
abbrev main_v4489 : Ref sig .tc := ⟨.hbm, 8369, rfl⟩
abbrev main_v4490 : Ref sig .tc := ⟨.hbm, 8370, rfl⟩
abbrev main_v4491 : Ref sig .tc := ⟨.hbm, 8371, rfl⟩
abbrev main_v4492 : Ref sig .tc := ⟨.hbm, 8372, rfl⟩
abbrev main_v4493 : Ref sig .tc := ⟨.hbm, 8373, rfl⟩
abbrev main_v4494 : Ref sig .tc := ⟨.hbm, 8374, rfl⟩
abbrev main_v4495 : Ref sig .tc := ⟨.hbm, 8375, rfl⟩
abbrev main_v4496 : Ref sig .tc := ⟨.hbm, 8376, rfl⟩
abbrev main_v4497 : Ref sig .tc := ⟨.hbm, 8377, rfl⟩
abbrev main_v4498 : Ref sig .tc := ⟨.hbm, 8378, rfl⟩
abbrev main_cst_1085 : Ref sig .tc := ⟨.hbm, 8379, rfl⟩
abbrev main_v4499 : Ref sig .tc := ⟨.hbm, 8380, rfl⟩
abbrev main_v4500 : Ref sig .tc := ⟨.hbm, 8381, rfl⟩
abbrev main_cst_1086 : Ref sig .tc := ⟨.hbm, 8382, rfl⟩
abbrev main_v4501 : Ref sig .tc := ⟨.hbm, 8383, rfl⟩
abbrev main_v4502 : Ref sig .tc := ⟨.hbm, 8384, rfl⟩
abbrev main_v4503 : Ref sig .tc := ⟨.hbm, 8385, rfl⟩
abbrev main_cst_1087 : Ref sig .tc := ⟨.hbm, 8386, rfl⟩
abbrev main_v4504 : Ref sig .tc := ⟨.hbm, 8387, rfl⟩
abbrev main_v4505 : Ref sig .tc := ⟨.hbm, 8388, rfl⟩
abbrev main_v4506 : Ref sig .tc := ⟨.hbm, 8389, rfl⟩
abbrev main_cst_1088 : Ref sig .tc := ⟨.hbm, 8390, rfl⟩
abbrev main_v4507 : Ref sig .tc := ⟨.hbm, 8391, rfl⟩
abbrev main_v4508 : Ref sig .tc := ⟨.hbm, 8392, rfl⟩
abbrev main_v4509 : Ref sig .tc := ⟨.hbm, 8393, rfl⟩
abbrev main_c_1089 : Ref sig .tc := ⟨.hbm, 8394, rfl⟩
abbrev main_c_1090 : Ref sig .tc := ⟨.hbm, 8395, rfl⟩
abbrev main_call265_v0 : Ref sig .tc := ⟨.hbm, 8396, rfl⟩
abbrev main_call265_v1 : Ref sig .tc := ⟨.hbm, 8397, rfl⟩
abbrev main_call265_v2 : Ref sig .tc := ⟨.hbm, 8398, rfl⟩
abbrev main_call265_v3 : Ref sig .tc := ⟨.hbm, 8399, rfl⟩
abbrev main_call265_v4 : Ref sig .tc := ⟨.hbm, 8400, rfl⟩
abbrev main_v4510 : Ref sig .tc := ⟨.hbm, 8401, rfl⟩
abbrev main_v4511 : Ref sig .tc := ⟨.hbm, 8402, rfl⟩
abbrev main_c_1091 : Ref sig .tc := ⟨.hbm, 8403, rfl⟩
abbrev main_c_1092 : Ref sig .tc := ⟨.hbm, 8404, rfl⟩
abbrev main_call266_v0 : Ref sig .tc := ⟨.hbm, 8405, rfl⟩
abbrev main_call266_v1 : Ref sig .tc := ⟨.hbm, 8406, rfl⟩
abbrev main_call266_v2 : Ref sig .tc := ⟨.hbm, 8407, rfl⟩
abbrev main_call266_v3 : Ref sig .tc := ⟨.hbm, 8408, rfl⟩
abbrev main_call266_v4 : Ref sig .tc := ⟨.hbm, 8409, rfl⟩
abbrev main_v4512 : Ref sig .tc := ⟨.hbm, 8410, rfl⟩
abbrev main_v4513 : Ref sig .tc := ⟨.hbm, 8411, rfl⟩
abbrev main_c_1093 : Ref sig .tc := ⟨.hbm, 8412, rfl⟩
abbrev main_v4514 : Ref sig .tc := ⟨.hbm, 8413, rfl⟩
abbrev main_v4515 : Ref sig .tc := ⟨.hbm, 8414, rfl⟩
abbrev main_v4516 : Ref sig .tc := ⟨.hbm, 8415, rfl⟩
abbrev main_v4517 : Ref sig .tc := ⟨.hbm, 8416, rfl⟩
abbrev main_v4518 : Ref sig .tc := ⟨.hbm, 8417, rfl⟩
abbrev main_v4519 : Ref sig .tc := ⟨.hbm, 8418, rfl⟩
abbrev main_call267_c : Ref sig .tc := ⟨.hbm, 8419, rfl⟩
abbrev main_call267_v0 : Ref sig .tc := ⟨.hbm, 8420, rfl⟩
abbrev main_call267_v1 : Ref sig .tc := ⟨.hbm, 8421, rfl⟩
abbrev main_call267_c_0 : Ref sig .tc := ⟨.hbm, 8422, rfl⟩
abbrev main_call267_v2 : Ref sig .tc := ⟨.hbm, 8423, rfl⟩
abbrev main_call267_v3 : Ref sig .tc := ⟨.hbm, 8424, rfl⟩
abbrev main_call267_v4 : Ref sig .tc := ⟨.hbm, 8425, rfl⟩
abbrev main_call267_v5 : Ref sig .tc := ⟨.hbm, 8426, rfl⟩
abbrev main_call267_c_1 : Ref sig .tc := ⟨.hbm, 8427, rfl⟩
abbrev main_call267_c_2 : Ref sig .tc := ⟨.hbm, 8428, rfl⟩
abbrev main_call267_v6 : Ref sig .tc := ⟨.hbm, 8429, rfl⟩
abbrev main_call267_v7 : Ref sig .tc := ⟨.hbm, 8430, rfl⟩
abbrev main_call267_v8 : Ref sig .tc := ⟨.hbm, 8431, rfl⟩
abbrev main_call267_v9 : Ref sig .tc := ⟨.hbm, 8432, rfl⟩
abbrev main_call267_v10 : Ref sig .tc := ⟨.hbm, 8433, rfl⟩
abbrev main_call267_v11 : Ref sig .tc := ⟨.hbm, 8434, rfl⟩
abbrev main_call267_c_3 : Ref sig .tc := ⟨.hbm, 8435, rfl⟩
abbrev main_call267_v12 : Ref sig .tc := ⟨.hbm, 8436, rfl⟩
abbrev main_call267_v13 : Ref sig .tc := ⟨.hbm, 8437, rfl⟩
abbrev main_call267_cst : Ref sig .tc := ⟨.hbm, 8438, rfl⟩
abbrev main_call267_v14 : Ref sig .tc := ⟨.hbm, 8439, rfl⟩
abbrev main_v4520 : Ref sig .tc := ⟨.hbm, 8440, rfl⟩
abbrev main_v4521 : Ref sig .tc := ⟨.hbm, 8441, rfl⟩
abbrev main_v4522 : Ref sig .tc := ⟨.hbm, 8442, rfl⟩
abbrev main_v4523 : Ref sig .tc := ⟨.hbm, 8443, rfl⟩
abbrev main_v4524 : Ref sig .tc := ⟨.hbm, 8444, rfl⟩
abbrev main_v4525 : Ref sig .tc := ⟨.hbm, 8445, rfl⟩
abbrev main_v4526 : Ref sig .tc := ⟨.hbm, 8446, rfl⟩
abbrev main_v4527 : Ref sig .tc := ⟨.hbm, 8447, rfl⟩
abbrev main_v4528 : Ref sig .tc := ⟨.hbm, 8448, rfl⟩
abbrev main_cst_1094 : Ref sig .tc := ⟨.hbm, 8449, rfl⟩
abbrev main_v4529 : Ref sig .tc := ⟨.hbm, 8450, rfl⟩
abbrev main_v4530 : Ref sig .tc := ⟨.hbm, 8451, rfl⟩
abbrev main_cst_1095 : Ref sig .tc := ⟨.hbm, 8452, rfl⟩
abbrev main_v4531 : Ref sig .tc := ⟨.hbm, 8453, rfl⟩
abbrev main_v4532 : Ref sig .tc := ⟨.hbm, 8454, rfl⟩
abbrev main_v4533 : Ref sig .tc := ⟨.hbm, 8455, rfl⟩
abbrev main_cst_1096 : Ref sig .tc := ⟨.hbm, 8456, rfl⟩
abbrev main_v4534 : Ref sig .tc := ⟨.hbm, 8457, rfl⟩
abbrev main_v4535 : Ref sig .tc := ⟨.hbm, 8458, rfl⟩
abbrev main_v4536 : Ref sig .tc := ⟨.hbm, 8459, rfl⟩
abbrev main_cst_1097 : Ref sig .tc := ⟨.hbm, 8460, rfl⟩
abbrev main_v4537 : Ref sig .tc := ⟨.hbm, 8461, rfl⟩
abbrev main_v4538 : Ref sig .tc := ⟨.hbm, 8462, rfl⟩
abbrev main_v4539 : Ref sig .tc := ⟨.hbm, 8463, rfl⟩
abbrev main_c_1098 : Ref sig .tc := ⟨.hbm, 8464, rfl⟩
abbrev main_c_1099 : Ref sig .tc := ⟨.hbm, 8465, rfl⟩
abbrev main_call268_v0 : Ref sig .tc := ⟨.hbm, 8466, rfl⟩
abbrev main_call268_v1 : Ref sig .tc := ⟨.hbm, 8467, rfl⟩
abbrev main_call268_v2 : Ref sig .tc := ⟨.hbm, 8468, rfl⟩
abbrev main_call268_v3 : Ref sig .tc := ⟨.hbm, 8469, rfl⟩
abbrev main_call268_v4 : Ref sig .tc := ⟨.hbm, 8470, rfl⟩
abbrev main_v4540 : Ref sig .tc := ⟨.hbm, 8471, rfl⟩
abbrev main_v4541 : Ref sig .tc := ⟨.hbm, 8472, rfl⟩
abbrev main_c_1100 : Ref sig .tc := ⟨.hbm, 8473, rfl⟩
abbrev main_c_1101 : Ref sig .tc := ⟨.hbm, 8474, rfl⟩
abbrev main_call269_v0 : Ref sig .tc := ⟨.hbm, 8475, rfl⟩
abbrev main_call269_v1 : Ref sig .tc := ⟨.hbm, 8476, rfl⟩
abbrev main_call269_v2 : Ref sig .tc := ⟨.hbm, 8477, rfl⟩
abbrev main_call269_v3 : Ref sig .tc := ⟨.hbm, 8478, rfl⟩
abbrev main_call269_v4 : Ref sig .tc := ⟨.hbm, 8479, rfl⟩
abbrev main_v4542 : Ref sig .tc := ⟨.hbm, 8480, rfl⟩
abbrev main_v4543 : Ref sig .tc := ⟨.hbm, 8481, rfl⟩
abbrev main_c_1102 : Ref sig .tc := ⟨.hbm, 8482, rfl⟩
abbrev main_v4544 : Ref sig .tc := ⟨.hbm, 8483, rfl⟩
abbrev main_v4545 : Ref sig .tc := ⟨.hbm, 8484, rfl⟩
abbrev main_v4546 : Ref sig .tc := ⟨.hbm, 8485, rfl⟩
abbrev main_v4547 : Ref sig .tc := ⟨.hbm, 8486, rfl⟩
abbrev main_v4548 : Ref sig .tc := ⟨.hbm, 8487, rfl⟩
abbrev main_v4549 : Ref sig .tc := ⟨.hbm, 8488, rfl⟩
abbrev main_call270_c : Ref sig .tc := ⟨.hbm, 8489, rfl⟩
abbrev main_call270_v0 : Ref sig .tc := ⟨.hbm, 8490, rfl⟩
abbrev main_call270_v1 : Ref sig .tc := ⟨.hbm, 8491, rfl⟩
abbrev main_call270_c_0 : Ref sig .tc := ⟨.hbm, 8492, rfl⟩
abbrev main_call270_v2 : Ref sig .tc := ⟨.hbm, 8493, rfl⟩
abbrev main_call270_v3 : Ref sig .tc := ⟨.hbm, 8494, rfl⟩
abbrev main_call270_v4 : Ref sig .tc := ⟨.hbm, 8495, rfl⟩
abbrev main_call270_v5 : Ref sig .tc := ⟨.hbm, 8496, rfl⟩
abbrev main_call270_c_1 : Ref sig .tc := ⟨.hbm, 8497, rfl⟩
abbrev main_call270_c_2 : Ref sig .tc := ⟨.hbm, 8498, rfl⟩
abbrev main_call270_v6 : Ref sig .tc := ⟨.hbm, 8499, rfl⟩
abbrev main_call270_v7 : Ref sig .tc := ⟨.hbm, 8500, rfl⟩
abbrev main_call270_v8 : Ref sig .tc := ⟨.hbm, 8501, rfl⟩
abbrev main_call270_v9 : Ref sig .tc := ⟨.hbm, 8502, rfl⟩
abbrev main_call270_v10 : Ref sig .tc := ⟨.hbm, 8503, rfl⟩
abbrev main_call270_v11 : Ref sig .tc := ⟨.hbm, 8504, rfl⟩
abbrev main_call270_c_3 : Ref sig .tc := ⟨.hbm, 8505, rfl⟩
abbrev main_call270_v12 : Ref sig .tc := ⟨.hbm, 8506, rfl⟩
abbrev main_call270_v13 : Ref sig .tc := ⟨.hbm, 8507, rfl⟩
abbrev main_call270_cst : Ref sig .tc := ⟨.hbm, 8508, rfl⟩
abbrev main_call270_v14 : Ref sig .tc := ⟨.hbm, 8509, rfl⟩
abbrev main_v4550 : Ref sig .tc := ⟨.hbm, 8510, rfl⟩
abbrev main_v4551 : Ref sig .tc := ⟨.hbm, 8511, rfl⟩
abbrev main_v4552 : Ref sig .tc := ⟨.hbm, 8512, rfl⟩
abbrev main_v4553 : Ref sig .tc := ⟨.hbm, 8513, rfl⟩
abbrev main_v4554 : Ref sig .tc := ⟨.hbm, 8514, rfl⟩
abbrev main_v4555 : Ref sig .tc := ⟨.hbm, 8515, rfl⟩
abbrev main_v4556 : Ref sig .tc := ⟨.hbm, 8516, rfl⟩
abbrev main_v4557 : Ref sig .tc := ⟨.hbm, 8517, rfl⟩
abbrev main_v4558 : Ref sig .tc := ⟨.hbm, 8518, rfl⟩
abbrev main_v4559 : Ref sig .tc := ⟨.hbm, 8519, rfl⟩
abbrev main_cst_1103 : Ref sig .tc := ⟨.hbm, 8520, rfl⟩
abbrev main_v4560 : Ref sig .tc := ⟨.hbm, 8521, rfl⟩
abbrev main_v4561 : Ref sig .tc := ⟨.hbm, 8522, rfl⟩
abbrev main_cst_1104 : Ref sig .tc := ⟨.hbm, 8523, rfl⟩
abbrev main_v4562 : Ref sig .tc := ⟨.hbm, 8524, rfl⟩
abbrev main_v4563 : Ref sig .tc := ⟨.hbm, 8525, rfl⟩
abbrev main_v4564 : Ref sig .tc := ⟨.hbm, 8526, rfl⟩
abbrev main_cst_1105 : Ref sig .tc := ⟨.hbm, 8527, rfl⟩
abbrev main_v4565 : Ref sig .tc := ⟨.hbm, 8528, rfl⟩
abbrev main_v4566 : Ref sig .tc := ⟨.hbm, 8529, rfl⟩
abbrev main_v4567 : Ref sig .tc := ⟨.hbm, 8530, rfl⟩
abbrev main_cst_1106 : Ref sig .tc := ⟨.hbm, 8531, rfl⟩
abbrev main_v4568 : Ref sig .tc := ⟨.hbm, 8532, rfl⟩
abbrev main_v4569 : Ref sig .tc := ⟨.hbm, 8533, rfl⟩
abbrev main_v4570 : Ref sig .tc := ⟨.hbm, 8534, rfl⟩
abbrev main_c_1107 : Ref sig .tc := ⟨.hbm, 8535, rfl⟩
abbrev main_c_1108 : Ref sig .tc := ⟨.hbm, 8536, rfl⟩
abbrev main_call271_v0 : Ref sig .tc := ⟨.hbm, 8537, rfl⟩
abbrev main_call271_v1 : Ref sig .tc := ⟨.hbm, 8538, rfl⟩
abbrev main_call271_v2 : Ref sig .tc := ⟨.hbm, 8539, rfl⟩
abbrev main_call271_v3 : Ref sig .tc := ⟨.hbm, 8540, rfl⟩
abbrev main_call271_v4 : Ref sig .tc := ⟨.hbm, 8541, rfl⟩
abbrev main_v4571 : Ref sig .tc := ⟨.hbm, 8542, rfl⟩
abbrev main_v4572 : Ref sig .tc := ⟨.hbm, 8543, rfl⟩
abbrev main_c_1109 : Ref sig .tc := ⟨.hbm, 8544, rfl⟩
abbrev main_c_1110 : Ref sig .tc := ⟨.hbm, 8545, rfl⟩
abbrev main_call272_v0 : Ref sig .tc := ⟨.hbm, 8546, rfl⟩
abbrev main_call272_v1 : Ref sig .tc := ⟨.hbm, 8547, rfl⟩
abbrev main_call272_v2 : Ref sig .tc := ⟨.hbm, 8548, rfl⟩
abbrev main_call272_v3 : Ref sig .tc := ⟨.hbm, 8549, rfl⟩
abbrev main_call272_v4 : Ref sig .tc := ⟨.hbm, 8550, rfl⟩
abbrev main_v4573 : Ref sig .tc := ⟨.hbm, 8551, rfl⟩
abbrev main_v4574 : Ref sig .tc := ⟨.hbm, 8552, rfl⟩
abbrev main_c_1111 : Ref sig .tc := ⟨.hbm, 8553, rfl⟩
abbrev main_v4575 : Ref sig .tc := ⟨.hbm, 8554, rfl⟩
abbrev main_v4576 : Ref sig .tc := ⟨.hbm, 8555, rfl⟩
abbrev main_v4577 : Ref sig .tc := ⟨.hbm, 8556, rfl⟩
abbrev main_v4578 : Ref sig .tc := ⟨.hbm, 8557, rfl⟩
abbrev main_v4579 : Ref sig .tc := ⟨.hbm, 8558, rfl⟩
abbrev main_v4580 : Ref sig .tc := ⟨.hbm, 8559, rfl⟩
abbrev main_call273_c : Ref sig .tc := ⟨.hbm, 8560, rfl⟩
abbrev main_call273_v0 : Ref sig .tc := ⟨.hbm, 8561, rfl⟩
abbrev main_call273_v1 : Ref sig .tc := ⟨.hbm, 8562, rfl⟩
abbrev main_call273_c_0 : Ref sig .tc := ⟨.hbm, 8563, rfl⟩
abbrev main_call273_v2 : Ref sig .tc := ⟨.hbm, 8564, rfl⟩
abbrev main_call273_v3 : Ref sig .tc := ⟨.hbm, 8565, rfl⟩
abbrev main_call273_v4 : Ref sig .tc := ⟨.hbm, 8566, rfl⟩
abbrev main_call273_v5 : Ref sig .tc := ⟨.hbm, 8567, rfl⟩
abbrev main_call273_c_1 : Ref sig .tc := ⟨.hbm, 8568, rfl⟩
abbrev main_call273_c_2 : Ref sig .tc := ⟨.hbm, 8569, rfl⟩
abbrev main_call273_v6 : Ref sig .tc := ⟨.hbm, 8570, rfl⟩
abbrev main_call273_v7 : Ref sig .tc := ⟨.hbm, 8571, rfl⟩
abbrev main_call273_v8 : Ref sig .tc := ⟨.hbm, 8572, rfl⟩
abbrev main_call273_v9 : Ref sig .tc := ⟨.hbm, 8573, rfl⟩
abbrev main_call273_v10 : Ref sig .tc := ⟨.hbm, 8574, rfl⟩
abbrev main_call273_v11 : Ref sig .tc := ⟨.hbm, 8575, rfl⟩
abbrev main_call273_c_3 : Ref sig .tc := ⟨.hbm, 8576, rfl⟩
abbrev main_call273_v12 : Ref sig .tc := ⟨.hbm, 8577, rfl⟩
abbrev main_call273_v13 : Ref sig .tc := ⟨.hbm, 8578, rfl⟩
abbrev main_call273_cst : Ref sig .tc := ⟨.hbm, 8579, rfl⟩
abbrev main_call273_v14 : Ref sig .tc := ⟨.hbm, 8580, rfl⟩
abbrev main_v4581 : Ref sig .tc := ⟨.hbm, 8581, rfl⟩
abbrev main_v4582 : Ref sig .tc := ⟨.hbm, 8582, rfl⟩
abbrev main_v4583 : Ref sig .tc := ⟨.hbm, 8583, rfl⟩
abbrev main_v4584 : Ref sig .tc := ⟨.hbm, 8584, rfl⟩
abbrev main_v4585 : Ref sig .tc := ⟨.hbm, 8585, rfl⟩
abbrev main_v4586 : Ref sig .tc := ⟨.hbm, 8586, rfl⟩
abbrev main_v4587 : Ref sig .tc := ⟨.hbm, 8587, rfl⟩
abbrev main_v4588 : Ref sig .tc := ⟨.hbm, 8588, rfl⟩
abbrev main_v4589 : Ref sig .tc := ⟨.hbm, 8589, rfl⟩
abbrev main_v4590 : Ref sig .tc := ⟨.hbm, 8590, rfl⟩
abbrev main_cst_1112 : Ref sig .tc := ⟨.hbm, 8591, rfl⟩
abbrev main_v4591 : Ref sig .tc := ⟨.hbm, 8592, rfl⟩
abbrev main_v4592 : Ref sig .tc := ⟨.hbm, 8593, rfl⟩
abbrev main_cst_1113 : Ref sig .tc := ⟨.hbm, 8594, rfl⟩
abbrev main_v4593 : Ref sig .tc := ⟨.hbm, 8595, rfl⟩
abbrev main_v4594 : Ref sig .tc := ⟨.hbm, 8596, rfl⟩
abbrev main_v4595 : Ref sig .tc := ⟨.hbm, 8597, rfl⟩
abbrev main_cst_1114 : Ref sig .tc := ⟨.hbm, 8598, rfl⟩
abbrev main_v4596 : Ref sig .tc := ⟨.hbm, 8599, rfl⟩
abbrev main_v4597 : Ref sig .tc := ⟨.hbm, 8600, rfl⟩
abbrev main_v4598 : Ref sig .tc := ⟨.hbm, 8601, rfl⟩
abbrev main_cst_1115 : Ref sig .tc := ⟨.hbm, 8602, rfl⟩
abbrev main_v4599 : Ref sig .tc := ⟨.hbm, 8603, rfl⟩
abbrev main_v4600 : Ref sig .tc := ⟨.hbm, 8604, rfl⟩
abbrev main_v4601 : Ref sig .tc := ⟨.hbm, 8605, rfl⟩
abbrev main_c_1116 : Ref sig .tc := ⟨.hbm, 8606, rfl⟩
abbrev main_c_1117 : Ref sig .tc := ⟨.hbm, 8607, rfl⟩
abbrev main_call274_v0 : Ref sig .tc := ⟨.hbm, 8608, rfl⟩
abbrev main_call274_v1 : Ref sig .tc := ⟨.hbm, 8609, rfl⟩
abbrev main_call274_v2 : Ref sig .tc := ⟨.hbm, 8610, rfl⟩
abbrev main_call274_v3 : Ref sig .tc := ⟨.hbm, 8611, rfl⟩
abbrev main_call274_v4 : Ref sig .tc := ⟨.hbm, 8612, rfl⟩
abbrev main_v4602 : Ref sig .tc := ⟨.hbm, 8613, rfl⟩
abbrev main_v4603 : Ref sig .tc := ⟨.hbm, 8614, rfl⟩
abbrev main_c_1118 : Ref sig .tc := ⟨.hbm, 8615, rfl⟩
abbrev main_c_1119 : Ref sig .tc := ⟨.hbm, 8616, rfl⟩
abbrev main_call275_v0 : Ref sig .tc := ⟨.hbm, 8617, rfl⟩
abbrev main_call275_v1 : Ref sig .tc := ⟨.hbm, 8618, rfl⟩
abbrev main_call275_v2 : Ref sig .tc := ⟨.hbm, 8619, rfl⟩
abbrev main_call275_v3 : Ref sig .tc := ⟨.hbm, 8620, rfl⟩
abbrev main_call275_v4 : Ref sig .tc := ⟨.hbm, 8621, rfl⟩
abbrev main_v4604 : Ref sig .tc := ⟨.hbm, 8622, rfl⟩
abbrev main_v4605 : Ref sig .tc := ⟨.hbm, 8623, rfl⟩
abbrev main_c_1120 : Ref sig .tc := ⟨.hbm, 8624, rfl⟩
abbrev main_v4606 : Ref sig .tc := ⟨.hbm, 8625, rfl⟩
abbrev main_v4607 : Ref sig .tc := ⟨.hbm, 8626, rfl⟩
abbrev main_v4608 : Ref sig .tc := ⟨.hbm, 8627, rfl⟩
abbrev main_v4609 : Ref sig .tc := ⟨.hbm, 8628, rfl⟩
abbrev main_v4610 : Ref sig .tc := ⟨.hbm, 8629, rfl⟩
abbrev main_v4611 : Ref sig .tc := ⟨.hbm, 8630, rfl⟩
abbrev main_call276_c : Ref sig .tc := ⟨.hbm, 8631, rfl⟩
abbrev main_call276_v0 : Ref sig .tc := ⟨.hbm, 8632, rfl⟩
abbrev main_call276_v1 : Ref sig .tc := ⟨.hbm, 8633, rfl⟩
abbrev main_call276_c_0 : Ref sig .tc := ⟨.hbm, 8634, rfl⟩
abbrev main_call276_v2 : Ref sig .tc := ⟨.hbm, 8635, rfl⟩
abbrev main_call276_v3 : Ref sig .tc := ⟨.hbm, 8636, rfl⟩
abbrev main_call276_v4 : Ref sig .tc := ⟨.hbm, 8637, rfl⟩
abbrev main_call276_v5 : Ref sig .tc := ⟨.hbm, 8638, rfl⟩
abbrev main_call276_c_1 : Ref sig .tc := ⟨.hbm, 8639, rfl⟩
abbrev main_call276_c_2 : Ref sig .tc := ⟨.hbm, 8640, rfl⟩
abbrev main_call276_v6 : Ref sig .tc := ⟨.hbm, 8641, rfl⟩
abbrev main_call276_v7 : Ref sig .tc := ⟨.hbm, 8642, rfl⟩
abbrev main_call276_v8 : Ref sig .tc := ⟨.hbm, 8643, rfl⟩
abbrev main_call276_v9 : Ref sig .tc := ⟨.hbm, 8644, rfl⟩
abbrev main_call276_v10 : Ref sig .tc := ⟨.hbm, 8645, rfl⟩
abbrev main_call276_v11 : Ref sig .tc := ⟨.hbm, 8646, rfl⟩
abbrev main_call276_c_3 : Ref sig .tc := ⟨.hbm, 8647, rfl⟩
abbrev main_call276_v12 : Ref sig .tc := ⟨.hbm, 8648, rfl⟩
abbrev main_call276_v13 : Ref sig .tc := ⟨.hbm, 8649, rfl⟩
abbrev main_call276_cst : Ref sig .tc := ⟨.hbm, 8650, rfl⟩
abbrev main_call276_v14 : Ref sig .tc := ⟨.hbm, 8651, rfl⟩
abbrev main_v4612 : Ref sig .tc := ⟨.hbm, 8652, rfl⟩
abbrev main_v4613 : Ref sig .tc := ⟨.hbm, 8653, rfl⟩
abbrev main_v4614 : Ref sig .tc := ⟨.hbm, 8654, rfl⟩
abbrev main_v4615 : Ref sig .tc := ⟨.hbm, 8655, rfl⟩
abbrev main_v4616 : Ref sig .tc := ⟨.hbm, 8656, rfl⟩
abbrev main_v4617 : Ref sig .tc := ⟨.hbm, 8657, rfl⟩
abbrev main_v4618 : Ref sig .tc := ⟨.hbm, 8658, rfl⟩
abbrev main_v4619 : Ref sig .tc := ⟨.hbm, 8659, rfl⟩
abbrev main_v4620 : Ref sig .tc := ⟨.hbm, 8660, rfl⟩
abbrev main_v4621 : Ref sig .tc := ⟨.hbm, 8661, rfl⟩
abbrev main_v4622 : Ref sig .tc := ⟨.hbm, 8662, rfl⟩
abbrev main_v4623 : Ref sig .tc := ⟨.hbm, 8663, rfl⟩
abbrev main_v4624 : Ref sig .tc := ⟨.hbm, 8664, rfl⟩
abbrev main_v4625 : Ref sig .tc := ⟨.hbm, 8665, rfl⟩
abbrev main_v4626 : Ref sig .tc := ⟨.hbm, 8666, rfl⟩
abbrev main_v4627 : Ref sig .tc := ⟨.hbm, 8667, rfl⟩
abbrev main_v4628 : Ref sig .tc := ⟨.hbm, 8668, rfl⟩
abbrev main_v4629 : Ref sig .tc := ⟨.hbm, 8669, rfl⟩
abbrev main_v4630 : Ref sig .tc := ⟨.hbm, 8670, rfl⟩
abbrev main_cst_1121 : Ref sig .tc := ⟨.hbm, 8671, rfl⟩
abbrev main_v4631 : Ref sig .tc := ⟨.hbm, 8672, rfl⟩
abbrev main_v4632 : Ref sig .tc := ⟨.hbm, 8673, rfl⟩
abbrev main_cst_1122 : Ref sig .tc := ⟨.hbm, 8674, rfl⟩
abbrev main_v4633 : Ref sig .tc := ⟨.hbm, 8675, rfl⟩
abbrev main_v4634 : Ref sig .tc := ⟨.hbm, 8676, rfl⟩
abbrev main_cst_1123 : Ref sig .tc := ⟨.hbm, 8677, rfl⟩
abbrev main_v4635 : Ref sig .tc := ⟨.hbm, 8678, rfl⟩
abbrev main_v4636 : Ref sig .tc := ⟨.hbm, 8679, rfl⟩
abbrev main_cst_1124 : Ref sig .tc := ⟨.hbm, 8680, rfl⟩
abbrev main_v4637 : Ref sig .tc := ⟨.hbm, 8681, rfl⟩
abbrev main_v4638 : Ref sig .tc := ⟨.hbm, 8682, rfl⟩
abbrev main_v4639 : Ref sig .tc := ⟨.hbm, 8683, rfl⟩
abbrev main_v4640 : Ref sig .tc := ⟨.hbm, 8684, rfl⟩
abbrev main_cst_1125 : Ref sig .tc := ⟨.hbm, 8685, rfl⟩
abbrev main_v4641 : Ref sig .tc := ⟨.hbm, 8686, rfl⟩
abbrev main_v4642 : Ref sig .tc := ⟨.hbm, 8687, rfl⟩
abbrev main_cst_1126 : Ref sig .tc := ⟨.hbm, 8688, rfl⟩
abbrev main_v4643 : Ref sig .tc := ⟨.hbm, 8689, rfl⟩
abbrev main_v4644 : Ref sig .tc := ⟨.hbm, 8690, rfl⟩
abbrev main_cst_1127 : Ref sig .tc := ⟨.hbm, 8691, rfl⟩
abbrev main_v4645 : Ref sig .tc := ⟨.hbm, 8692, rfl⟩
abbrev main_v4646 : Ref sig .tc := ⟨.hbm, 8693, rfl⟩
abbrev main_cst_1128 : Ref sig .tc := ⟨.hbm, 8694, rfl⟩
abbrev main_v4647 : Ref sig .tc := ⟨.hbm, 8695, rfl⟩
abbrev main_v4648 : Ref sig .tc := ⟨.hbm, 8696, rfl⟩
abbrev main_v4649 : Ref sig .tc := ⟨.hbm, 8697, rfl⟩
abbrev main_v4650 : Ref sig .tc := ⟨.hbm, 8698, rfl⟩
abbrev main_cst_1129 : Ref sig .tc := ⟨.hbm, 8699, rfl⟩
abbrev main_v4651 : Ref sig .tc := ⟨.hbm, 8700, rfl⟩
abbrev main_v4652 : Ref sig .tc := ⟨.hbm, 8701, rfl⟩
abbrev main_cst_1130 : Ref sig .tc := ⟨.hbm, 8702, rfl⟩
abbrev main_v4653 : Ref sig .tc := ⟨.hbm, 8703, rfl⟩
abbrev main_v4654 : Ref sig .tc := ⟨.hbm, 8704, rfl⟩
abbrev main_v4655 : Ref sig .tc := ⟨.hbm, 8705, rfl⟩
abbrev main_v4656 : Ref sig .tc := ⟨.hbm, 8706, rfl⟩
abbrev main_v4657 : Ref sig .tc := ⟨.hbm, 8707, rfl⟩
abbrev main_v4658 : Ref sig .tc := ⟨.hbm, 8708, rfl⟩
abbrev main_v4659 : Ref sig .tc := ⟨.hbm, 8709, rfl⟩
abbrev main_v4660 : Ref sig .tc := ⟨.hbm, 8710, rfl⟩
abbrev main_v4661 : Ref sig .tc := ⟨.hbm, 8711, rfl⟩
abbrev main_v4662 : Ref sig .tc := ⟨.hbm, 8712, rfl⟩
abbrev main_v4663 : Ref sig .tc := ⟨.hbm, 8713, rfl⟩
abbrev main_v4664 : Ref sig .tc := ⟨.hbm, 8714, rfl⟩
abbrev main_v4665 : Ref sig .tc := ⟨.hbm, 8715, rfl⟩
abbrev main_v4666 : Ref sig .tc := ⟨.hbm, 8716, rfl⟩
abbrev main_v4667 : Ref sig .tc := ⟨.hbm, 8717, rfl⟩
abbrev main_cst_1131 : Ref sig .tc := ⟨.hbm, 8718, rfl⟩
abbrev main_v4668 : Ref sig .tc := ⟨.hbm, 8719, rfl⟩
abbrev main_v4669 : Ref sig .tc := ⟨.hbm, 8720, rfl⟩
abbrev main_cst_1132 : Ref sig .tc := ⟨.hbm, 8721, rfl⟩
abbrev main_v4670 : Ref sig .tc := ⟨.hbm, 8722, rfl⟩
abbrev main_v4671 : Ref sig .tc := ⟨.hbm, 8723, rfl⟩
abbrev main_v4672 : Ref sig .tc := ⟨.hbm, 8724, rfl⟩
abbrev main_cst_1133 : Ref sig .tc := ⟨.hbm, 8725, rfl⟩
abbrev main_v4673 : Ref sig .tc := ⟨.hbm, 8726, rfl⟩
abbrev main_v4674 : Ref sig .tc := ⟨.hbm, 8727, rfl⟩
abbrev main_v4675 : Ref sig .tc := ⟨.hbm, 8728, rfl⟩
abbrev main_cst_1134 : Ref sig .tc := ⟨.hbm, 8729, rfl⟩
abbrev main_v4676 : Ref sig .tc := ⟨.hbm, 8730, rfl⟩
abbrev main_v4677 : Ref sig .tc := ⟨.hbm, 8731, rfl⟩
abbrev main_v4678 : Ref sig .tc := ⟨.hbm, 8732, rfl⟩
abbrev main_c_1135 : Ref sig .tc := ⟨.hbm, 8733, rfl⟩
abbrev main_c_1136 : Ref sig .tc := ⟨.hbm, 8734, rfl⟩
abbrev main_call277_v0 : Ref sig .tc := ⟨.hbm, 8735, rfl⟩
abbrev main_call277_v1 : Ref sig .tc := ⟨.hbm, 8736, rfl⟩
abbrev main_call277_v2 : Ref sig .tc := ⟨.hbm, 8737, rfl⟩
abbrev main_call277_v3 : Ref sig .tc := ⟨.hbm, 8738, rfl⟩
abbrev main_call277_v4 : Ref sig .tc := ⟨.hbm, 8739, rfl⟩
abbrev main_v4679 : Ref sig .tc := ⟨.hbm, 8740, rfl⟩
abbrev main_v4680 : Ref sig .tc := ⟨.hbm, 8741, rfl⟩
abbrev main_c_1137 : Ref sig .tc := ⟨.hbm, 8742, rfl⟩
abbrev main_c_1138 : Ref sig .tc := ⟨.hbm, 8743, rfl⟩
abbrev main_call278_v0 : Ref sig .tc := ⟨.hbm, 8744, rfl⟩
abbrev main_call278_v1 : Ref sig .tc := ⟨.hbm, 8745, rfl⟩
abbrev main_call278_v2 : Ref sig .tc := ⟨.hbm, 8746, rfl⟩
abbrev main_call278_v3 : Ref sig .tc := ⟨.hbm, 8747, rfl⟩
abbrev main_call278_v4 : Ref sig .tc := ⟨.hbm, 8748, rfl⟩
abbrev main_v4681 : Ref sig .tc := ⟨.hbm, 8749, rfl⟩
abbrev main_v4682 : Ref sig .tc := ⟨.hbm, 8750, rfl⟩
abbrev main_c_1139 : Ref sig .tc := ⟨.hbm, 8751, rfl⟩
abbrev main_v4683 : Ref sig .tc := ⟨.hbm, 8752, rfl⟩
abbrev main_v4684 : Ref sig .tc := ⟨.hbm, 8753, rfl⟩
abbrev main_v4685 : Ref sig .tc := ⟨.hbm, 8754, rfl⟩
abbrev main_v4686 : Ref sig .tc := ⟨.hbm, 8755, rfl⟩
abbrev main_v4687 : Ref sig .tc := ⟨.hbm, 8756, rfl⟩
abbrev main_v4688 : Ref sig .tc := ⟨.hbm, 8757, rfl⟩
abbrev main_call279_c : Ref sig .tc := ⟨.hbm, 8758, rfl⟩
abbrev main_call279_v0 : Ref sig .tc := ⟨.hbm, 8759, rfl⟩
abbrev main_call279_v1 : Ref sig .tc := ⟨.hbm, 8760, rfl⟩
abbrev main_call279_c_0 : Ref sig .tc := ⟨.hbm, 8761, rfl⟩
abbrev main_call279_v2 : Ref sig .tc := ⟨.hbm, 8762, rfl⟩
abbrev main_call279_v3 : Ref sig .tc := ⟨.hbm, 8763, rfl⟩
abbrev main_call279_v4 : Ref sig .tc := ⟨.hbm, 8764, rfl⟩
abbrev main_call279_v5 : Ref sig .tc := ⟨.hbm, 8765, rfl⟩
abbrev main_call279_c_1 : Ref sig .tc := ⟨.hbm, 8766, rfl⟩
abbrev main_call279_c_2 : Ref sig .tc := ⟨.hbm, 8767, rfl⟩
abbrev main_call279_v6 : Ref sig .tc := ⟨.hbm, 8768, rfl⟩
abbrev main_call279_v7 : Ref sig .tc := ⟨.hbm, 8769, rfl⟩
abbrev main_call279_v8 : Ref sig .tc := ⟨.hbm, 8770, rfl⟩
abbrev main_call279_v9 : Ref sig .tc := ⟨.hbm, 8771, rfl⟩
abbrev main_call279_v10 : Ref sig .tc := ⟨.hbm, 8772, rfl⟩
abbrev main_call279_v11 : Ref sig .tc := ⟨.hbm, 8773, rfl⟩
abbrev main_call279_c_3 : Ref sig .tc := ⟨.hbm, 8774, rfl⟩
abbrev main_call279_v12 : Ref sig .tc := ⟨.hbm, 8775, rfl⟩
abbrev main_call279_v13 : Ref sig .tc := ⟨.hbm, 8776, rfl⟩
abbrev main_call279_cst : Ref sig .tc := ⟨.hbm, 8777, rfl⟩
abbrev main_call279_v14 : Ref sig .tc := ⟨.hbm, 8778, rfl⟩
abbrev main_v4689 : Ref sig .tc := ⟨.hbm, 8779, rfl⟩
abbrev main_v4690 : Ref sig .tc := ⟨.hbm, 8780, rfl⟩
abbrev main_v4691 : Ref sig .tc := ⟨.hbm, 8781, rfl⟩
abbrev main_v4692 : Ref sig .tc := ⟨.hbm, 8782, rfl⟩
abbrev main_v4693 : Ref sig .tc := ⟨.hbm, 8783, rfl⟩
abbrev main_v4694 : Ref sig .tc := ⟨.hbm, 8784, rfl⟩
abbrev main_v4695 : Ref sig .tc := ⟨.hbm, 8785, rfl⟩
abbrev main_v4696 : Ref sig .tc := ⟨.hbm, 8786, rfl⟩
abbrev main_v4697 : Ref sig .tc := ⟨.hbm, 8787, rfl⟩
abbrev main_cst_1140 : Ref sig .tc := ⟨.hbm, 8788, rfl⟩
abbrev main_v4698 : Ref sig .tc := ⟨.hbm, 8789, rfl⟩
abbrev main_v4699 : Ref sig .tc := ⟨.hbm, 8790, rfl⟩
abbrev main_cst_1141 : Ref sig .tc := ⟨.hbm, 8791, rfl⟩
abbrev main_v4700 : Ref sig .tc := ⟨.hbm, 8792, rfl⟩
abbrev main_v4701 : Ref sig .tc := ⟨.hbm, 8793, rfl⟩
abbrev main_v4702 : Ref sig .tc := ⟨.hbm, 8794, rfl⟩
abbrev main_cst_1142 : Ref sig .tc := ⟨.hbm, 8795, rfl⟩
abbrev main_v4703 : Ref sig .tc := ⟨.hbm, 8796, rfl⟩
abbrev main_v4704 : Ref sig .tc := ⟨.hbm, 8797, rfl⟩
abbrev main_v4705 : Ref sig .tc := ⟨.hbm, 8798, rfl⟩
abbrev main_cst_1143 : Ref sig .tc := ⟨.hbm, 8799, rfl⟩
abbrev main_v4706 : Ref sig .tc := ⟨.hbm, 8800, rfl⟩
abbrev main_v4707 : Ref sig .tc := ⟨.hbm, 8801, rfl⟩
abbrev main_v4708 : Ref sig .tc := ⟨.hbm, 8802, rfl⟩
abbrev main_c_1144 : Ref sig .tc := ⟨.hbm, 8803, rfl⟩
abbrev main_c_1145 : Ref sig .tc := ⟨.hbm, 8804, rfl⟩
abbrev main_call280_v0 : Ref sig .tc := ⟨.hbm, 8805, rfl⟩
abbrev main_call280_v1 : Ref sig .tc := ⟨.hbm, 8806, rfl⟩
abbrev main_call280_v2 : Ref sig .tc := ⟨.hbm, 8807, rfl⟩
abbrev main_call280_v3 : Ref sig .tc := ⟨.hbm, 8808, rfl⟩
abbrev main_call280_v4 : Ref sig .tc := ⟨.hbm, 8809, rfl⟩
abbrev main_v4709 : Ref sig .tc := ⟨.hbm, 8810, rfl⟩
abbrev main_v4710 : Ref sig .tc := ⟨.hbm, 8811, rfl⟩
abbrev main_c_1146 : Ref sig .tc := ⟨.hbm, 8812, rfl⟩
abbrev main_c_1147 : Ref sig .tc := ⟨.hbm, 8813, rfl⟩
abbrev main_call281_v0 : Ref sig .tc := ⟨.hbm, 8814, rfl⟩
abbrev main_call281_v1 : Ref sig .tc := ⟨.hbm, 8815, rfl⟩
abbrev main_call281_v2 : Ref sig .tc := ⟨.hbm, 8816, rfl⟩
abbrev main_call281_v3 : Ref sig .tc := ⟨.hbm, 8817, rfl⟩
abbrev main_call281_v4 : Ref sig .tc := ⟨.hbm, 8818, rfl⟩
abbrev main_v4711 : Ref sig .tc := ⟨.hbm, 8819, rfl⟩
abbrev main_v4712 : Ref sig .tc := ⟨.hbm, 8820, rfl⟩
abbrev main_c_1148 : Ref sig .tc := ⟨.hbm, 8821, rfl⟩
abbrev main_v4713 : Ref sig .tc := ⟨.hbm, 8822, rfl⟩
abbrev main_v4714 : Ref sig .tc := ⟨.hbm, 8823, rfl⟩
abbrev main_v4715 : Ref sig .tc := ⟨.hbm, 8824, rfl⟩
abbrev main_v4716 : Ref sig .tc := ⟨.hbm, 8825, rfl⟩
abbrev main_v4717 : Ref sig .tc := ⟨.hbm, 8826, rfl⟩
abbrev main_v4718 : Ref sig .tc := ⟨.hbm, 8827, rfl⟩
abbrev main_call282_c : Ref sig .tc := ⟨.hbm, 8828, rfl⟩
abbrev main_call282_v0 : Ref sig .tc := ⟨.hbm, 8829, rfl⟩
abbrev main_call282_v1 : Ref sig .tc := ⟨.hbm, 8830, rfl⟩
abbrev main_call282_c_0 : Ref sig .tc := ⟨.hbm, 8831, rfl⟩
abbrev main_call282_v2 : Ref sig .tc := ⟨.hbm, 8832, rfl⟩
abbrev main_call282_v3 : Ref sig .tc := ⟨.hbm, 8833, rfl⟩
abbrev main_call282_v4 : Ref sig .tc := ⟨.hbm, 8834, rfl⟩
abbrev main_call282_v5 : Ref sig .tc := ⟨.hbm, 8835, rfl⟩
abbrev main_call282_c_1 : Ref sig .tc := ⟨.hbm, 8836, rfl⟩
abbrev main_call282_c_2 : Ref sig .tc := ⟨.hbm, 8837, rfl⟩
abbrev main_call282_v6 : Ref sig .tc := ⟨.hbm, 8838, rfl⟩
abbrev main_call282_v7 : Ref sig .tc := ⟨.hbm, 8839, rfl⟩
abbrev main_call282_v8 : Ref sig .tc := ⟨.hbm, 8840, rfl⟩
abbrev main_call282_v9 : Ref sig .tc := ⟨.hbm, 8841, rfl⟩
abbrev main_call282_v10 : Ref sig .tc := ⟨.hbm, 8842, rfl⟩
abbrev main_call282_v11 : Ref sig .tc := ⟨.hbm, 8843, rfl⟩
abbrev main_call282_c_3 : Ref sig .tc := ⟨.hbm, 8844, rfl⟩
abbrev main_call282_v12 : Ref sig .tc := ⟨.hbm, 8845, rfl⟩
abbrev main_call282_v13 : Ref sig .tc := ⟨.hbm, 8846, rfl⟩
abbrev main_call282_cst : Ref sig .tc := ⟨.hbm, 8847, rfl⟩
abbrev main_call282_v14 : Ref sig .tc := ⟨.hbm, 8848, rfl⟩
abbrev main_v4719 : Ref sig .tc := ⟨.hbm, 8849, rfl⟩
abbrev main_v4720 : Ref sig .tc := ⟨.hbm, 8850, rfl⟩
abbrev main_v4721 : Ref sig .tc := ⟨.hbm, 8851, rfl⟩
abbrev main_v4722 : Ref sig .tc := ⟨.hbm, 8852, rfl⟩
abbrev main_v4723 : Ref sig .tc := ⟨.hbm, 8853, rfl⟩
abbrev main_v4724 : Ref sig .tc := ⟨.hbm, 8854, rfl⟩
abbrev main_v4725 : Ref sig .tc := ⟨.hbm, 8855, rfl⟩
abbrev main_v4726 : Ref sig .tc := ⟨.hbm, 8856, rfl⟩
abbrev main_v4727 : Ref sig .tc := ⟨.hbm, 8857, rfl⟩
abbrev main_v4728 : Ref sig .tc := ⟨.hbm, 8858, rfl⟩
abbrev main_cst_1149 : Ref sig .tc := ⟨.hbm, 8859, rfl⟩
abbrev main_v4729 : Ref sig .tc := ⟨.hbm, 8860, rfl⟩
abbrev main_v4730 : Ref sig .tc := ⟨.hbm, 8861, rfl⟩
abbrev main_cst_1150 : Ref sig .tc := ⟨.hbm, 8862, rfl⟩
abbrev main_v4731 : Ref sig .tc := ⟨.hbm, 8863, rfl⟩
abbrev main_v4732 : Ref sig .tc := ⟨.hbm, 8864, rfl⟩
abbrev main_v4733 : Ref sig .tc := ⟨.hbm, 8865, rfl⟩
abbrev main_cst_1151 : Ref sig .tc := ⟨.hbm, 8866, rfl⟩
abbrev main_v4734 : Ref sig .tc := ⟨.hbm, 8867, rfl⟩
abbrev main_v4735 : Ref sig .tc := ⟨.hbm, 8868, rfl⟩
abbrev main_v4736 : Ref sig .tc := ⟨.hbm, 8869, rfl⟩
abbrev main_cst_1152 : Ref sig .tc := ⟨.hbm, 8870, rfl⟩
abbrev main_v4737 : Ref sig .tc := ⟨.hbm, 8871, rfl⟩
abbrev main_v4738 : Ref sig .tc := ⟨.hbm, 8872, rfl⟩
abbrev main_v4739 : Ref sig .tc := ⟨.hbm, 8873, rfl⟩
abbrev main_c_1153 : Ref sig .tc := ⟨.hbm, 8874, rfl⟩
abbrev main_c_1154 : Ref sig .tc := ⟨.hbm, 8875, rfl⟩
abbrev main_call283_v0 : Ref sig .tc := ⟨.hbm, 8876, rfl⟩
abbrev main_call283_v1 : Ref sig .tc := ⟨.hbm, 8877, rfl⟩
abbrev main_call283_v2 : Ref sig .tc := ⟨.hbm, 8878, rfl⟩
abbrev main_call283_v3 : Ref sig .tc := ⟨.hbm, 8879, rfl⟩
abbrev main_call283_v4 : Ref sig .tc := ⟨.hbm, 8880, rfl⟩
abbrev main_v4740 : Ref sig .tc := ⟨.hbm, 8881, rfl⟩
abbrev main_v4741 : Ref sig .tc := ⟨.hbm, 8882, rfl⟩
abbrev main_c_1155 : Ref sig .tc := ⟨.hbm, 8883, rfl⟩
abbrev main_c_1156 : Ref sig .tc := ⟨.hbm, 8884, rfl⟩
abbrev main_call284_v0 : Ref sig .tc := ⟨.hbm, 8885, rfl⟩
abbrev main_call284_v1 : Ref sig .tc := ⟨.hbm, 8886, rfl⟩
abbrev main_call284_v2 : Ref sig .tc := ⟨.hbm, 8887, rfl⟩
abbrev main_call284_v3 : Ref sig .tc := ⟨.hbm, 8888, rfl⟩
abbrev main_call284_v4 : Ref sig .tc := ⟨.hbm, 8889, rfl⟩
abbrev main_v4742 : Ref sig .tc := ⟨.hbm, 8890, rfl⟩
abbrev main_v4743 : Ref sig .tc := ⟨.hbm, 8891, rfl⟩
abbrev main_c_1157 : Ref sig .tc := ⟨.hbm, 8892, rfl⟩
abbrev main_v4744 : Ref sig .tc := ⟨.hbm, 8893, rfl⟩
abbrev main_v4745 : Ref sig .tc := ⟨.hbm, 8894, rfl⟩
abbrev main_v4746 : Ref sig .tc := ⟨.hbm, 8895, rfl⟩
abbrev main_v4747 : Ref sig .tc := ⟨.hbm, 8896, rfl⟩
abbrev main_v4748 : Ref sig .tc := ⟨.hbm, 8897, rfl⟩
abbrev main_v4749 : Ref sig .tc := ⟨.hbm, 8898, rfl⟩
abbrev main_call285_c : Ref sig .tc := ⟨.hbm, 8899, rfl⟩
abbrev main_call285_v0 : Ref sig .tc := ⟨.hbm, 8900, rfl⟩
abbrev main_call285_v1 : Ref sig .tc := ⟨.hbm, 8901, rfl⟩
abbrev main_call285_c_0 : Ref sig .tc := ⟨.hbm, 8902, rfl⟩
abbrev main_call285_v2 : Ref sig .tc := ⟨.hbm, 8903, rfl⟩
abbrev main_call285_v3 : Ref sig .tc := ⟨.hbm, 8904, rfl⟩
abbrev main_call285_v4 : Ref sig .tc := ⟨.hbm, 8905, rfl⟩
abbrev main_call285_v5 : Ref sig .tc := ⟨.hbm, 8906, rfl⟩
abbrev main_call285_c_1 : Ref sig .tc := ⟨.hbm, 8907, rfl⟩
abbrev main_call285_c_2 : Ref sig .tc := ⟨.hbm, 8908, rfl⟩
abbrev main_call285_v6 : Ref sig .tc := ⟨.hbm, 8909, rfl⟩
abbrev main_call285_v7 : Ref sig .tc := ⟨.hbm, 8910, rfl⟩
abbrev main_call285_v8 : Ref sig .tc := ⟨.hbm, 8911, rfl⟩
abbrev main_call285_v9 : Ref sig .tc := ⟨.hbm, 8912, rfl⟩
abbrev main_call285_v10 : Ref sig .tc := ⟨.hbm, 8913, rfl⟩
abbrev main_call285_v11 : Ref sig .tc := ⟨.hbm, 8914, rfl⟩
abbrev main_call285_c_3 : Ref sig .tc := ⟨.hbm, 8915, rfl⟩
abbrev main_call285_v12 : Ref sig .tc := ⟨.hbm, 8916, rfl⟩
abbrev main_call285_v13 : Ref sig .tc := ⟨.hbm, 8917, rfl⟩
abbrev main_call285_cst : Ref sig .tc := ⟨.hbm, 8918, rfl⟩
abbrev main_call285_v14 : Ref sig .tc := ⟨.hbm, 8919, rfl⟩
abbrev main_v4750 : Ref sig .tc := ⟨.hbm, 8920, rfl⟩
abbrev main_v4751 : Ref sig .tc := ⟨.hbm, 8921, rfl⟩
abbrev main_v4752 : Ref sig .tc := ⟨.hbm, 8922, rfl⟩
abbrev main_v4753 : Ref sig .tc := ⟨.hbm, 8923, rfl⟩
abbrev main_v4754 : Ref sig .tc := ⟨.hbm, 8924, rfl⟩
abbrev main_v4755 : Ref sig .tc := ⟨.hbm, 8925, rfl⟩
abbrev main_v4756 : Ref sig .tc := ⟨.hbm, 8926, rfl⟩
abbrev main_v4757 : Ref sig .tc := ⟨.hbm, 8927, rfl⟩
abbrev main_v4758 : Ref sig .tc := ⟨.hbm, 8928, rfl⟩
abbrev main_v4759 : Ref sig .tc := ⟨.hbm, 8929, rfl⟩
abbrev main_cst_1158 : Ref sig .tc := ⟨.hbm, 8930, rfl⟩
abbrev main_v4760 : Ref sig .tc := ⟨.hbm, 8931, rfl⟩
abbrev main_v4761 : Ref sig .tc := ⟨.hbm, 8932, rfl⟩
abbrev main_cst_1159 : Ref sig .tc := ⟨.hbm, 8933, rfl⟩
abbrev main_v4762 : Ref sig .tc := ⟨.hbm, 8934, rfl⟩
abbrev main_v4763 : Ref sig .tc := ⟨.hbm, 8935, rfl⟩
abbrev main_v4764 : Ref sig .tc := ⟨.hbm, 8936, rfl⟩
abbrev main_cst_1160 : Ref sig .tc := ⟨.hbm, 8937, rfl⟩
abbrev main_v4765 : Ref sig .tc := ⟨.hbm, 8938, rfl⟩
abbrev main_v4766 : Ref sig .tc := ⟨.hbm, 8939, rfl⟩
abbrev main_v4767 : Ref sig .tc := ⟨.hbm, 8940, rfl⟩
abbrev main_cst_1161 : Ref sig .tc := ⟨.hbm, 8941, rfl⟩
abbrev main_v4768 : Ref sig .tc := ⟨.hbm, 8942, rfl⟩
abbrev main_v4769 : Ref sig .tc := ⟨.hbm, 8943, rfl⟩
abbrev main_v4770 : Ref sig .tc := ⟨.hbm, 8944, rfl⟩
abbrev main_c_1162 : Ref sig .tc := ⟨.hbm, 8945, rfl⟩
abbrev main_c_1163 : Ref sig .tc := ⟨.hbm, 8946, rfl⟩
abbrev main_call286_v0 : Ref sig .tc := ⟨.hbm, 8947, rfl⟩
abbrev main_call286_v1 : Ref sig .tc := ⟨.hbm, 8948, rfl⟩
abbrev main_call286_v2 : Ref sig .tc := ⟨.hbm, 8949, rfl⟩
abbrev main_call286_v3 : Ref sig .tc := ⟨.hbm, 8950, rfl⟩
abbrev main_call286_v4 : Ref sig .tc := ⟨.hbm, 8951, rfl⟩
abbrev main_v4771 : Ref sig .tc := ⟨.hbm, 8952, rfl⟩
abbrev main_v4772 : Ref sig .tc := ⟨.hbm, 8953, rfl⟩
abbrev main_c_1164 : Ref sig .tc := ⟨.hbm, 8954, rfl⟩
abbrev main_c_1165 : Ref sig .tc := ⟨.hbm, 8955, rfl⟩
abbrev main_call287_v0 : Ref sig .tc := ⟨.hbm, 8956, rfl⟩
abbrev main_call287_v1 : Ref sig .tc := ⟨.hbm, 8957, rfl⟩
abbrev main_call287_v2 : Ref sig .tc := ⟨.hbm, 8958, rfl⟩
abbrev main_call287_v3 : Ref sig .tc := ⟨.hbm, 8959, rfl⟩
abbrev main_call287_v4 : Ref sig .tc := ⟨.hbm, 8960, rfl⟩
abbrev main_v4773 : Ref sig .tc := ⟨.hbm, 8961, rfl⟩
abbrev main_v4774 : Ref sig .tc := ⟨.hbm, 8962, rfl⟩
abbrev main_c_1166 : Ref sig .tc := ⟨.hbm, 8963, rfl⟩
abbrev main_v4775 : Ref sig .tc := ⟨.hbm, 8964, rfl⟩
abbrev main_v4776 : Ref sig .tc := ⟨.hbm, 8965, rfl⟩
abbrev main_v4777 : Ref sig .tc := ⟨.hbm, 8966, rfl⟩
abbrev main_v4778 : Ref sig .tc := ⟨.hbm, 8967, rfl⟩
abbrev main_v4779 : Ref sig .tc := ⟨.hbm, 8968, rfl⟩
abbrev main_v4780 : Ref sig .tc := ⟨.hbm, 8969, rfl⟩
abbrev main_call288_c : Ref sig .tc := ⟨.hbm, 8970, rfl⟩
abbrev main_call288_v0 : Ref sig .tc := ⟨.hbm, 8971, rfl⟩
abbrev main_call288_v1 : Ref sig .tc := ⟨.hbm, 8972, rfl⟩
abbrev main_call288_c_0 : Ref sig .tc := ⟨.hbm, 8973, rfl⟩
abbrev main_call288_v2 : Ref sig .tc := ⟨.hbm, 8974, rfl⟩
abbrev main_call288_v3 : Ref sig .tc := ⟨.hbm, 8975, rfl⟩
abbrev main_call288_v4 : Ref sig .tc := ⟨.hbm, 8976, rfl⟩
abbrev main_call288_v5 : Ref sig .tc := ⟨.hbm, 8977, rfl⟩
abbrev main_call288_c_1 : Ref sig .tc := ⟨.hbm, 8978, rfl⟩
abbrev main_call288_c_2 : Ref sig .tc := ⟨.hbm, 8979, rfl⟩
abbrev main_call288_v6 : Ref sig .tc := ⟨.hbm, 8980, rfl⟩
abbrev main_call288_v7 : Ref sig .tc := ⟨.hbm, 8981, rfl⟩
abbrev main_call288_v8 : Ref sig .tc := ⟨.hbm, 8982, rfl⟩
abbrev main_call288_v9 : Ref sig .tc := ⟨.hbm, 8983, rfl⟩
abbrev main_call288_v10 : Ref sig .tc := ⟨.hbm, 8984, rfl⟩
abbrev main_call288_v11 : Ref sig .tc := ⟨.hbm, 8985, rfl⟩
abbrev main_call288_c_3 : Ref sig .tc := ⟨.hbm, 8986, rfl⟩
abbrev main_call288_v12 : Ref sig .tc := ⟨.hbm, 8987, rfl⟩
abbrev main_call288_v13 : Ref sig .tc := ⟨.hbm, 8988, rfl⟩
abbrev main_call288_cst : Ref sig .tc := ⟨.hbm, 8989, rfl⟩
abbrev main_call288_v14 : Ref sig .tc := ⟨.hbm, 8990, rfl⟩
abbrev main_v4781 : Ref sig .tc := ⟨.hbm, 8991, rfl⟩
abbrev main_v4782 : Ref sig .tc := ⟨.hbm, 8992, rfl⟩
abbrev main_v4783 : Ref sig .tc := ⟨.hbm, 8993, rfl⟩
abbrev main_v4784 : Ref sig .tc := ⟨.hbm, 8994, rfl⟩
abbrev main_v4785 : Ref sig .tc := ⟨.hbm, 8995, rfl⟩
abbrev main_v4786 : Ref sig .tc := ⟨.hbm, 8996, rfl⟩
abbrev main_v4787 : Ref sig .tc := ⟨.hbm, 8997, rfl⟩
abbrev main_v4788 : Ref sig .tc := ⟨.hbm, 8998, rfl⟩
abbrev main_v4789 : Ref sig .tc := ⟨.hbm, 8999, rfl⟩
abbrev main_v4790 : Ref sig .tc := ⟨.hbm, 9000, rfl⟩
abbrev main_v4791 : Ref sig .tc := ⟨.hbm, 9001, rfl⟩
abbrev main_v4792 : Ref sig .tc := ⟨.hbm, 9002, rfl⟩
abbrev main_v4793 : Ref sig .tc := ⟨.hbm, 9003, rfl⟩
abbrev main_v4794 : Ref sig .tc := ⟨.hbm, 9004, rfl⟩
abbrev main_v4795 : Ref sig .tc := ⟨.hbm, 9005, rfl⟩
abbrev main_v4796 : Ref sig .tc := ⟨.hbm, 9006, rfl⟩
abbrev main_v4797 : Ref sig .tc := ⟨.hbm, 9007, rfl⟩
abbrev main_v4798 : Ref sig .tc := ⟨.hbm, 9008, rfl⟩
abbrev main_v4799 : Ref sig .tc := ⟨.hbm, 9009, rfl⟩
abbrev main_cst_1167 : Ref sig .tc := ⟨.hbm, 9010, rfl⟩
abbrev main_v4800 : Ref sig .tc := ⟨.hbm, 9011, rfl⟩
abbrev main_v4801 : Ref sig .tc := ⟨.hbm, 9012, rfl⟩
abbrev main_cst_1168 : Ref sig .tc := ⟨.hbm, 9013, rfl⟩
abbrev main_v4802 : Ref sig .tc := ⟨.hbm, 9014, rfl⟩
abbrev main_v4803 : Ref sig .tc := ⟨.hbm, 9015, rfl⟩
abbrev main_cst_1169 : Ref sig .tc := ⟨.hbm, 9016, rfl⟩
abbrev main_v4804 : Ref sig .tc := ⟨.hbm, 9017, rfl⟩
abbrev main_v4805 : Ref sig .tc := ⟨.hbm, 9018, rfl⟩
abbrev main_cst_1170 : Ref sig .tc := ⟨.hbm, 9019, rfl⟩
abbrev main_v4806 : Ref sig .tc := ⟨.hbm, 9020, rfl⟩
abbrev main_v4807 : Ref sig .tc := ⟨.hbm, 9021, rfl⟩
abbrev main_v4808 : Ref sig .tc := ⟨.hbm, 9022, rfl⟩
abbrev main_v4809 : Ref sig .tc := ⟨.hbm, 9023, rfl⟩
abbrev main_cst_1171 : Ref sig .tc := ⟨.hbm, 9024, rfl⟩
abbrev main_v4810 : Ref sig .tc := ⟨.hbm, 9025, rfl⟩
abbrev main_v4811 : Ref sig .tc := ⟨.hbm, 9026, rfl⟩
abbrev main_cst_1172 : Ref sig .tc := ⟨.hbm, 9027, rfl⟩
abbrev main_v4812 : Ref sig .tc := ⟨.hbm, 9028, rfl⟩
abbrev main_v4813 : Ref sig .tc := ⟨.hbm, 9029, rfl⟩
abbrev main_cst_1173 : Ref sig .tc := ⟨.hbm, 9030, rfl⟩
abbrev main_v4814 : Ref sig .tc := ⟨.hbm, 9031, rfl⟩
abbrev main_v4815 : Ref sig .tc := ⟨.hbm, 9032, rfl⟩
abbrev main_cst_1174 : Ref sig .tc := ⟨.hbm, 9033, rfl⟩
abbrev main_v4816 : Ref sig .tc := ⟨.hbm, 9034, rfl⟩
abbrev main_v4817 : Ref sig .tc := ⟨.hbm, 9035, rfl⟩
abbrev main_v4818 : Ref sig .tc := ⟨.hbm, 9036, rfl⟩
abbrev main_v4819 : Ref sig .tc := ⟨.hbm, 9037, rfl⟩
abbrev main_cst_1175 : Ref sig .tc := ⟨.hbm, 9038, rfl⟩
abbrev main_v4820 : Ref sig .tc := ⟨.hbm, 9039, rfl⟩
abbrev main_v4821 : Ref sig .tc := ⟨.hbm, 9040, rfl⟩
abbrev main_cst_1176 : Ref sig .tc := ⟨.hbm, 9041, rfl⟩
abbrev main_v4822 : Ref sig .tc := ⟨.hbm, 9042, rfl⟩
abbrev main_v4823 : Ref sig .tc := ⟨.hbm, 9043, rfl⟩
abbrev main_v4824 : Ref sig .tc := ⟨.hbm, 9044, rfl⟩
abbrev main_v4825 : Ref sig .tc := ⟨.hbm, 9045, rfl⟩
abbrev main_v4826 : Ref sig .tc := ⟨.hbm, 9046, rfl⟩
abbrev main_v4827 : Ref sig .tc := ⟨.hbm, 9047, rfl⟩
abbrev main_v4828 : Ref sig .tc := ⟨.hbm, 9048, rfl⟩
abbrev main_v4829 : Ref sig .tc := ⟨.hbm, 9049, rfl⟩
abbrev main_v4830 : Ref sig .tc := ⟨.hbm, 9050, rfl⟩
abbrev main_v4831 : Ref sig .tc := ⟨.hbm, 9051, rfl⟩
abbrev main_v4832 : Ref sig .tc := ⟨.hbm, 9052, rfl⟩
abbrev main_v4833 : Ref sig .tc := ⟨.hbm, 9053, rfl⟩
abbrev main_v4834 : Ref sig .tc := ⟨.hbm, 9054, rfl⟩
abbrev main_v4835 : Ref sig .tc := ⟨.hbm, 9055, rfl⟩
abbrev main_v4836 : Ref sig .tc := ⟨.hbm, 9056, rfl⟩
abbrev main_cst_1177 : Ref sig .tc := ⟨.hbm, 9057, rfl⟩
abbrev main_v4837 : Ref sig .tc := ⟨.hbm, 9058, rfl⟩
abbrev main_v4838 : Ref sig .tc := ⟨.hbm, 9059, rfl⟩
abbrev main_cst_1178 : Ref sig .tc := ⟨.hbm, 9060, rfl⟩
abbrev main_v4839 : Ref sig .tc := ⟨.hbm, 9061, rfl⟩
abbrev main_v4840 : Ref sig .tc := ⟨.hbm, 9062, rfl⟩
abbrev main_v4841 : Ref sig .tc := ⟨.hbm, 9063, rfl⟩
abbrev main_cst_1179 : Ref sig .tc := ⟨.hbm, 9064, rfl⟩
abbrev main_v4842 : Ref sig .tc := ⟨.hbm, 9065, rfl⟩
abbrev main_v4843 : Ref sig .tc := ⟨.hbm, 9066, rfl⟩
abbrev main_v4844 : Ref sig .tc := ⟨.hbm, 9067, rfl⟩
abbrev main_cst_1180 : Ref sig .tc := ⟨.hbm, 9068, rfl⟩
abbrev main_v4845 : Ref sig .tc := ⟨.hbm, 9069, rfl⟩
abbrev main_v4846 : Ref sig .tc := ⟨.hbm, 9070, rfl⟩
abbrev main_v4847 : Ref sig .tc := ⟨.hbm, 9071, rfl⟩
abbrev main_c_1181 : Ref sig .tc := ⟨.hbm, 9072, rfl⟩
abbrev main_c_1182 : Ref sig .tc := ⟨.hbm, 9073, rfl⟩
abbrev main_call289_v0 : Ref sig .tc := ⟨.hbm, 9074, rfl⟩
abbrev main_call289_v1 : Ref sig .tc := ⟨.hbm, 9075, rfl⟩
abbrev main_call289_v2 : Ref sig .tc := ⟨.hbm, 9076, rfl⟩
abbrev main_call289_v3 : Ref sig .tc := ⟨.hbm, 9077, rfl⟩
abbrev main_call289_v4 : Ref sig .tc := ⟨.hbm, 9078, rfl⟩
abbrev main_v4848 : Ref sig .tc := ⟨.hbm, 9079, rfl⟩
abbrev main_v4849 : Ref sig .tc := ⟨.hbm, 9080, rfl⟩
abbrev main_c_1183 : Ref sig .tc := ⟨.hbm, 9081, rfl⟩
abbrev main_c_1184 : Ref sig .tc := ⟨.hbm, 9082, rfl⟩
abbrev main_call290_v0 : Ref sig .tc := ⟨.hbm, 9083, rfl⟩
abbrev main_call290_v1 : Ref sig .tc := ⟨.hbm, 9084, rfl⟩
abbrev main_call290_v2 : Ref sig .tc := ⟨.hbm, 9085, rfl⟩
abbrev main_call290_v3 : Ref sig .tc := ⟨.hbm, 9086, rfl⟩
abbrev main_call290_v4 : Ref sig .tc := ⟨.hbm, 9087, rfl⟩
abbrev main_v4850 : Ref sig .tc := ⟨.hbm, 9088, rfl⟩
abbrev main_v4851 : Ref sig .tc := ⟨.hbm, 9089, rfl⟩
abbrev main_c_1185 : Ref sig .tc := ⟨.hbm, 9090, rfl⟩
abbrev main_v4852 : Ref sig .tc := ⟨.hbm, 9091, rfl⟩
abbrev main_v4853 : Ref sig .tc := ⟨.hbm, 9092, rfl⟩
abbrev main_v4854 : Ref sig .tc := ⟨.hbm, 9093, rfl⟩
abbrev main_v4855 : Ref sig .tc := ⟨.hbm, 9094, rfl⟩
abbrev main_v4856 : Ref sig .tc := ⟨.hbm, 9095, rfl⟩
abbrev main_v4857 : Ref sig .tc := ⟨.hbm, 9096, rfl⟩
abbrev main_call291_c : Ref sig .tc := ⟨.hbm, 9097, rfl⟩
abbrev main_call291_v0 : Ref sig .tc := ⟨.hbm, 9098, rfl⟩
abbrev main_call291_v1 : Ref sig .tc := ⟨.hbm, 9099, rfl⟩
abbrev main_call291_c_0 : Ref sig .tc := ⟨.hbm, 9100, rfl⟩
abbrev main_call291_v2 : Ref sig .tc := ⟨.hbm, 9101, rfl⟩
abbrev main_call291_v3 : Ref sig .tc := ⟨.hbm, 9102, rfl⟩
abbrev main_call291_v4 : Ref sig .tc := ⟨.hbm, 9103, rfl⟩
abbrev main_call291_v5 : Ref sig .tc := ⟨.hbm, 9104, rfl⟩
abbrev main_call291_c_1 : Ref sig .tc := ⟨.hbm, 9105, rfl⟩
abbrev main_call291_c_2 : Ref sig .tc := ⟨.hbm, 9106, rfl⟩
abbrev main_call291_v6 : Ref sig .tc := ⟨.hbm, 9107, rfl⟩
abbrev main_call291_v7 : Ref sig .tc := ⟨.hbm, 9108, rfl⟩
abbrev main_call291_v8 : Ref sig .tc := ⟨.hbm, 9109, rfl⟩
abbrev main_call291_v9 : Ref sig .tc := ⟨.hbm, 9110, rfl⟩
abbrev main_call291_v10 : Ref sig .tc := ⟨.hbm, 9111, rfl⟩
abbrev main_call291_v11 : Ref sig .tc := ⟨.hbm, 9112, rfl⟩
abbrev main_call291_c_3 : Ref sig .tc := ⟨.hbm, 9113, rfl⟩
abbrev main_call291_v12 : Ref sig .tc := ⟨.hbm, 9114, rfl⟩
abbrev main_call291_v13 : Ref sig .tc := ⟨.hbm, 9115, rfl⟩
abbrev main_call291_cst : Ref sig .tc := ⟨.hbm, 9116, rfl⟩
abbrev main_call291_v14 : Ref sig .tc := ⟨.hbm, 9117, rfl⟩
abbrev main_v4858 : Ref sig .tc := ⟨.hbm, 9118, rfl⟩
abbrev main_v4859 : Ref sig .tc := ⟨.hbm, 9119, rfl⟩
abbrev main_v4860 : Ref sig .tc := ⟨.hbm, 9120, rfl⟩
abbrev main_v4861 : Ref sig .tc := ⟨.hbm, 9121, rfl⟩
abbrev main_v4862 : Ref sig .tc := ⟨.hbm, 9122, rfl⟩
abbrev main_v4863 : Ref sig .tc := ⟨.hbm, 9123, rfl⟩
abbrev main_v4864 : Ref sig .tc := ⟨.hbm, 9124, rfl⟩
abbrev main_v4865 : Ref sig .tc := ⟨.hbm, 9125, rfl⟩
abbrev main_v4866 : Ref sig .tc := ⟨.hbm, 9126, rfl⟩
abbrev main_cst_1186 : Ref sig .tc := ⟨.hbm, 9127, rfl⟩
abbrev main_v4867 : Ref sig .tc := ⟨.hbm, 9128, rfl⟩
abbrev main_v4868 : Ref sig .tc := ⟨.hbm, 9129, rfl⟩
abbrev main_cst_1187 : Ref sig .tc := ⟨.hbm, 9130, rfl⟩
abbrev main_v4869 : Ref sig .tc := ⟨.hbm, 9131, rfl⟩
abbrev main_v4870 : Ref sig .tc := ⟨.hbm, 9132, rfl⟩
abbrev main_v4871 : Ref sig .tc := ⟨.hbm, 9133, rfl⟩
abbrev main_cst_1188 : Ref sig .tc := ⟨.hbm, 9134, rfl⟩
abbrev main_v4872 : Ref sig .tc := ⟨.hbm, 9135, rfl⟩
abbrev main_v4873 : Ref sig .tc := ⟨.hbm, 9136, rfl⟩
abbrev main_v4874 : Ref sig .tc := ⟨.hbm, 9137, rfl⟩
abbrev main_cst_1189 : Ref sig .tc := ⟨.hbm, 9138, rfl⟩
abbrev main_v4875 : Ref sig .tc := ⟨.hbm, 9139, rfl⟩
abbrev main_v4876 : Ref sig .tc := ⟨.hbm, 9140, rfl⟩
abbrev main_v4877 : Ref sig .tc := ⟨.hbm, 9141, rfl⟩
abbrev main_c_1190 : Ref sig .tc := ⟨.hbm, 9142, rfl⟩
abbrev main_c_1191 : Ref sig .tc := ⟨.hbm, 9143, rfl⟩
abbrev main_call292_v0 : Ref sig .tc := ⟨.hbm, 9144, rfl⟩
abbrev main_call292_v1 : Ref sig .tc := ⟨.hbm, 9145, rfl⟩
abbrev main_call292_v2 : Ref sig .tc := ⟨.hbm, 9146, rfl⟩
abbrev main_call292_v3 : Ref sig .tc := ⟨.hbm, 9147, rfl⟩
abbrev main_call292_v4 : Ref sig .tc := ⟨.hbm, 9148, rfl⟩
abbrev main_v4878 : Ref sig .tc := ⟨.hbm, 9149, rfl⟩
abbrev main_v4879 : Ref sig .tc := ⟨.hbm, 9150, rfl⟩
abbrev main_c_1192 : Ref sig .tc := ⟨.hbm, 9151, rfl⟩
abbrev main_c_1193 : Ref sig .tc := ⟨.hbm, 9152, rfl⟩
abbrev main_call293_v0 : Ref sig .tc := ⟨.hbm, 9153, rfl⟩
abbrev main_call293_v1 : Ref sig .tc := ⟨.hbm, 9154, rfl⟩
abbrev main_call293_v2 : Ref sig .tc := ⟨.hbm, 9155, rfl⟩
abbrev main_call293_v3 : Ref sig .tc := ⟨.hbm, 9156, rfl⟩
abbrev main_call293_v4 : Ref sig .tc := ⟨.hbm, 9157, rfl⟩
abbrev main_v4880 : Ref sig .tc := ⟨.hbm, 9158, rfl⟩
abbrev main_v4881 : Ref sig .tc := ⟨.hbm, 9159, rfl⟩
abbrev main_c_1194 : Ref sig .tc := ⟨.hbm, 9160, rfl⟩
abbrev main_v4882 : Ref sig .tc := ⟨.hbm, 9161, rfl⟩
abbrev main_v4883 : Ref sig .tc := ⟨.hbm, 9162, rfl⟩
abbrev main_v4884 : Ref sig .tc := ⟨.hbm, 9163, rfl⟩
abbrev main_v4885 : Ref sig .tc := ⟨.hbm, 9164, rfl⟩
abbrev main_v4886 : Ref sig .tc := ⟨.hbm, 9165, rfl⟩
abbrev main_v4887 : Ref sig .tc := ⟨.hbm, 9166, rfl⟩
abbrev main_call294_c : Ref sig .tc := ⟨.hbm, 9167, rfl⟩
abbrev main_call294_v0 : Ref sig .tc := ⟨.hbm, 9168, rfl⟩
abbrev main_call294_v1 : Ref sig .tc := ⟨.hbm, 9169, rfl⟩
abbrev main_call294_c_0 : Ref sig .tc := ⟨.hbm, 9170, rfl⟩
abbrev main_call294_v2 : Ref sig .tc := ⟨.hbm, 9171, rfl⟩
abbrev main_call294_v3 : Ref sig .tc := ⟨.hbm, 9172, rfl⟩
abbrev main_call294_v4 : Ref sig .tc := ⟨.hbm, 9173, rfl⟩
abbrev main_call294_v5 : Ref sig .tc := ⟨.hbm, 9174, rfl⟩
abbrev main_call294_c_1 : Ref sig .tc := ⟨.hbm, 9175, rfl⟩
abbrev main_call294_c_2 : Ref sig .tc := ⟨.hbm, 9176, rfl⟩
abbrev main_call294_v6 : Ref sig .tc := ⟨.hbm, 9177, rfl⟩
abbrev main_call294_v7 : Ref sig .tc := ⟨.hbm, 9178, rfl⟩
abbrev main_call294_v8 : Ref sig .tc := ⟨.hbm, 9179, rfl⟩
abbrev main_call294_v9 : Ref sig .tc := ⟨.hbm, 9180, rfl⟩
abbrev main_call294_v10 : Ref sig .tc := ⟨.hbm, 9181, rfl⟩
abbrev main_call294_v11 : Ref sig .tc := ⟨.hbm, 9182, rfl⟩
abbrev main_call294_c_3 : Ref sig .tc := ⟨.hbm, 9183, rfl⟩
abbrev main_call294_v12 : Ref sig .tc := ⟨.hbm, 9184, rfl⟩
abbrev main_call294_v13 : Ref sig .tc := ⟨.hbm, 9185, rfl⟩
abbrev main_call294_cst : Ref sig .tc := ⟨.hbm, 9186, rfl⟩
abbrev main_call294_v14 : Ref sig .tc := ⟨.hbm, 9187, rfl⟩
abbrev main_v4888 : Ref sig .tc := ⟨.hbm, 9188, rfl⟩
abbrev main_v4889 : Ref sig .tc := ⟨.hbm, 9189, rfl⟩
abbrev main_v4890 : Ref sig .tc := ⟨.hbm, 9190, rfl⟩
abbrev main_v4891 : Ref sig .tc := ⟨.hbm, 9191, rfl⟩
abbrev main_v4892 : Ref sig .tc := ⟨.hbm, 9192, rfl⟩
abbrev main_v4893 : Ref sig .tc := ⟨.hbm, 9193, rfl⟩
abbrev main_v4894 : Ref sig .tc := ⟨.hbm, 9194, rfl⟩
abbrev main_v4895 : Ref sig .tc := ⟨.hbm, 9195, rfl⟩
abbrev main_v4896 : Ref sig .tc := ⟨.hbm, 9196, rfl⟩
abbrev main_v4897 : Ref sig .tc := ⟨.hbm, 9197, rfl⟩
abbrev main_cst_1195 : Ref sig .tc := ⟨.hbm, 9198, rfl⟩
abbrev main_v4898 : Ref sig .tc := ⟨.hbm, 9199, rfl⟩
abbrev main_v4899 : Ref sig .tc := ⟨.hbm, 9200, rfl⟩
abbrev main_cst_1196 : Ref sig .tc := ⟨.hbm, 9201, rfl⟩
abbrev main_v4900 : Ref sig .tc := ⟨.hbm, 9202, rfl⟩
abbrev main_v4901 : Ref sig .tc := ⟨.hbm, 9203, rfl⟩
abbrev main_v4902 : Ref sig .tc := ⟨.hbm, 9204, rfl⟩
abbrev main_cst_1197 : Ref sig .tc := ⟨.hbm, 9205, rfl⟩
abbrev main_v4903 : Ref sig .tc := ⟨.hbm, 9206, rfl⟩
abbrev main_v4904 : Ref sig .tc := ⟨.hbm, 9207, rfl⟩
abbrev main_v4905 : Ref sig .tc := ⟨.hbm, 9208, rfl⟩
abbrev main_cst_1198 : Ref sig .tc := ⟨.hbm, 9209, rfl⟩
abbrev main_v4906 : Ref sig .tc := ⟨.hbm, 9210, rfl⟩
abbrev main_v4907 : Ref sig .tc := ⟨.hbm, 9211, rfl⟩
abbrev main_v4908 : Ref sig .tc := ⟨.hbm, 9212, rfl⟩
abbrev main_c_1199 : Ref sig .tc := ⟨.hbm, 9213, rfl⟩
abbrev main_c_1200 : Ref sig .tc := ⟨.hbm, 9214, rfl⟩
abbrev main_call295_v0 : Ref sig .tc := ⟨.hbm, 9215, rfl⟩
abbrev main_call295_v1 : Ref sig .tc := ⟨.hbm, 9216, rfl⟩
abbrev main_call295_v2 : Ref sig .tc := ⟨.hbm, 9217, rfl⟩
abbrev main_call295_v3 : Ref sig .tc := ⟨.hbm, 9218, rfl⟩
abbrev main_call295_v4 : Ref sig .tc := ⟨.hbm, 9219, rfl⟩
abbrev main_v4909 : Ref sig .tc := ⟨.hbm, 9220, rfl⟩
abbrev main_v4910 : Ref sig .tc := ⟨.hbm, 9221, rfl⟩
abbrev main_c_1201 : Ref sig .tc := ⟨.hbm, 9222, rfl⟩
abbrev main_c_1202 : Ref sig .tc := ⟨.hbm, 9223, rfl⟩
abbrev main_call296_v0 : Ref sig .tc := ⟨.hbm, 9224, rfl⟩
abbrev main_call296_v1 : Ref sig .tc := ⟨.hbm, 9225, rfl⟩
abbrev main_call296_v2 : Ref sig .tc := ⟨.hbm, 9226, rfl⟩
abbrev main_call296_v3 : Ref sig .tc := ⟨.hbm, 9227, rfl⟩
abbrev main_call296_v4 : Ref sig .tc := ⟨.hbm, 9228, rfl⟩
abbrev main_v4911 : Ref sig .tc := ⟨.hbm, 9229, rfl⟩
abbrev main_v4912 : Ref sig .tc := ⟨.hbm, 9230, rfl⟩
abbrev main_c_1203 : Ref sig .tc := ⟨.hbm, 9231, rfl⟩
abbrev main_v4913 : Ref sig .tc := ⟨.hbm, 9232, rfl⟩
abbrev main_v4914 : Ref sig .tc := ⟨.hbm, 9233, rfl⟩
abbrev main_v4915 : Ref sig .tc := ⟨.hbm, 9234, rfl⟩
abbrev main_v4916 : Ref sig .tc := ⟨.hbm, 9235, rfl⟩
abbrev main_v4917 : Ref sig .tc := ⟨.hbm, 9236, rfl⟩
abbrev main_v4918 : Ref sig .tc := ⟨.hbm, 9237, rfl⟩
abbrev main_call297_c : Ref sig .tc := ⟨.hbm, 9238, rfl⟩
abbrev main_call297_v0 : Ref sig .tc := ⟨.hbm, 9239, rfl⟩
abbrev main_call297_v1 : Ref sig .tc := ⟨.hbm, 9240, rfl⟩
abbrev main_call297_c_0 : Ref sig .tc := ⟨.hbm, 9241, rfl⟩
abbrev main_call297_v2 : Ref sig .tc := ⟨.hbm, 9242, rfl⟩
abbrev main_call297_v3 : Ref sig .tc := ⟨.hbm, 9243, rfl⟩
abbrev main_call297_v4 : Ref sig .tc := ⟨.hbm, 9244, rfl⟩
abbrev main_call297_v5 : Ref sig .tc := ⟨.hbm, 9245, rfl⟩
abbrev main_call297_c_1 : Ref sig .tc := ⟨.hbm, 9246, rfl⟩
abbrev main_call297_c_2 : Ref sig .tc := ⟨.hbm, 9247, rfl⟩
abbrev main_call297_v6 : Ref sig .tc := ⟨.hbm, 9248, rfl⟩
abbrev main_call297_v7 : Ref sig .tc := ⟨.hbm, 9249, rfl⟩
abbrev main_call297_v8 : Ref sig .tc := ⟨.hbm, 9250, rfl⟩
abbrev main_call297_v9 : Ref sig .tc := ⟨.hbm, 9251, rfl⟩
abbrev main_call297_v10 : Ref sig .tc := ⟨.hbm, 9252, rfl⟩
abbrev main_call297_v11 : Ref sig .tc := ⟨.hbm, 9253, rfl⟩
abbrev main_call297_c_3 : Ref sig .tc := ⟨.hbm, 9254, rfl⟩
abbrev main_call297_v12 : Ref sig .tc := ⟨.hbm, 9255, rfl⟩
abbrev main_call297_v13 : Ref sig .tc := ⟨.hbm, 9256, rfl⟩
abbrev main_call297_cst : Ref sig .tc := ⟨.hbm, 9257, rfl⟩
abbrev main_call297_v14 : Ref sig .tc := ⟨.hbm, 9258, rfl⟩
abbrev main_v4919 : Ref sig .tc := ⟨.hbm, 9259, rfl⟩
abbrev main_v4920 : Ref sig .tc := ⟨.hbm, 9260, rfl⟩
abbrev main_v4921 : Ref sig .tc := ⟨.hbm, 9261, rfl⟩
abbrev main_v4922 : Ref sig .tc := ⟨.hbm, 9262, rfl⟩
abbrev main_v4923 : Ref sig .tc := ⟨.hbm, 9263, rfl⟩
abbrev main_v4924 : Ref sig .tc := ⟨.hbm, 9264, rfl⟩
abbrev main_v4925 : Ref sig .tc := ⟨.hbm, 9265, rfl⟩
abbrev main_v4926 : Ref sig .tc := ⟨.hbm, 9266, rfl⟩
abbrev main_v4927 : Ref sig .tc := ⟨.hbm, 9267, rfl⟩
abbrev main_v4928 : Ref sig .tc := ⟨.hbm, 9268, rfl⟩
abbrev main_cst_1204 : Ref sig .tc := ⟨.hbm, 9269, rfl⟩
abbrev main_v4929 : Ref sig .tc := ⟨.hbm, 9270, rfl⟩
abbrev main_v4930 : Ref sig .tc := ⟨.hbm, 9271, rfl⟩
abbrev main_cst_1205 : Ref sig .tc := ⟨.hbm, 9272, rfl⟩
abbrev main_v4931 : Ref sig .tc := ⟨.hbm, 9273, rfl⟩
abbrev main_v4932 : Ref sig .tc := ⟨.hbm, 9274, rfl⟩
abbrev main_v4933 : Ref sig .tc := ⟨.hbm, 9275, rfl⟩
abbrev main_cst_1206 : Ref sig .tc := ⟨.hbm, 9276, rfl⟩
abbrev main_v4934 : Ref sig .tc := ⟨.hbm, 9277, rfl⟩
abbrev main_v4935 : Ref sig .tc := ⟨.hbm, 9278, rfl⟩
abbrev main_v4936 : Ref sig .tc := ⟨.hbm, 9279, rfl⟩
abbrev main_cst_1207 : Ref sig .tc := ⟨.hbm, 9280, rfl⟩
abbrev main_v4937 : Ref sig .tc := ⟨.hbm, 9281, rfl⟩
abbrev main_v4938 : Ref sig .tc := ⟨.hbm, 9282, rfl⟩
abbrev main_v4939 : Ref sig .tc := ⟨.hbm, 9283, rfl⟩
abbrev main_c_1208 : Ref sig .tc := ⟨.hbm, 9284, rfl⟩
abbrev main_c_1209 : Ref sig .tc := ⟨.hbm, 9285, rfl⟩
abbrev main_call298_v0 : Ref sig .tc := ⟨.hbm, 9286, rfl⟩
abbrev main_call298_v1 : Ref sig .tc := ⟨.hbm, 9287, rfl⟩
abbrev main_call298_v2 : Ref sig .tc := ⟨.hbm, 9288, rfl⟩
abbrev main_call298_v3 : Ref sig .tc := ⟨.hbm, 9289, rfl⟩
abbrev main_call298_v4 : Ref sig .tc := ⟨.hbm, 9290, rfl⟩
abbrev main_v4940 : Ref sig .tc := ⟨.hbm, 9291, rfl⟩
abbrev main_v4941 : Ref sig .tc := ⟨.hbm, 9292, rfl⟩
abbrev main_c_1210 : Ref sig .tc := ⟨.hbm, 9293, rfl⟩
abbrev main_c_1211 : Ref sig .tc := ⟨.hbm, 9294, rfl⟩
abbrev main_call299_v0 : Ref sig .tc := ⟨.hbm, 9295, rfl⟩
abbrev main_call299_v1 : Ref sig .tc := ⟨.hbm, 9296, rfl⟩
abbrev main_call299_v2 : Ref sig .tc := ⟨.hbm, 9297, rfl⟩
abbrev main_call299_v3 : Ref sig .tc := ⟨.hbm, 9298, rfl⟩
abbrev main_call299_v4 : Ref sig .tc := ⟨.hbm, 9299, rfl⟩
abbrev main_v4942 : Ref sig .tc := ⟨.hbm, 9300, rfl⟩
abbrev main_v4943 : Ref sig .tc := ⟨.hbm, 9301, rfl⟩
abbrev main_c_1212 : Ref sig .tc := ⟨.hbm, 9302, rfl⟩
abbrev main_v4944 : Ref sig .tc := ⟨.hbm, 9303, rfl⟩
abbrev main_v4945 : Ref sig .tc := ⟨.hbm, 9304, rfl⟩
abbrev main_v4946 : Ref sig .tc := ⟨.hbm, 9305, rfl⟩
abbrev main_v4947 : Ref sig .tc := ⟨.hbm, 9306, rfl⟩
abbrev main_v4948 : Ref sig .tc := ⟨.hbm, 9307, rfl⟩
abbrev main_v4949 : Ref sig .tc := ⟨.hbm, 9308, rfl⟩
abbrev main_call300_c : Ref sig .tc := ⟨.hbm, 9309, rfl⟩
abbrev main_call300_v0 : Ref sig .tc := ⟨.hbm, 9310, rfl⟩
abbrev main_call300_v1 : Ref sig .tc := ⟨.hbm, 9311, rfl⟩
abbrev main_call300_c_0 : Ref sig .tc := ⟨.hbm, 9312, rfl⟩
abbrev main_call300_v2 : Ref sig .tc := ⟨.hbm, 9313, rfl⟩
abbrev main_call300_v3 : Ref sig .tc := ⟨.hbm, 9314, rfl⟩
abbrev main_call300_v4 : Ref sig .tc := ⟨.hbm, 9315, rfl⟩
abbrev main_call300_v5 : Ref sig .tc := ⟨.hbm, 9316, rfl⟩
abbrev main_call300_c_1 : Ref sig .tc := ⟨.hbm, 9317, rfl⟩
abbrev main_call300_c_2 : Ref sig .tc := ⟨.hbm, 9318, rfl⟩
abbrev main_call300_v6 : Ref sig .tc := ⟨.hbm, 9319, rfl⟩
abbrev main_call300_v7 : Ref sig .tc := ⟨.hbm, 9320, rfl⟩
abbrev main_call300_v8 : Ref sig .tc := ⟨.hbm, 9321, rfl⟩
abbrev main_call300_v9 : Ref sig .tc := ⟨.hbm, 9322, rfl⟩
abbrev main_call300_v10 : Ref sig .tc := ⟨.hbm, 9323, rfl⟩
abbrev main_call300_v11 : Ref sig .tc := ⟨.hbm, 9324, rfl⟩
abbrev main_call300_c_3 : Ref sig .tc := ⟨.hbm, 9325, rfl⟩
abbrev main_call300_v12 : Ref sig .tc := ⟨.hbm, 9326, rfl⟩
abbrev main_call300_v13 : Ref sig .tc := ⟨.hbm, 9327, rfl⟩
abbrev main_call300_cst : Ref sig .tc := ⟨.hbm, 9328, rfl⟩
abbrev main_call300_v14 : Ref sig .tc := ⟨.hbm, 9329, rfl⟩
abbrev main_v4950 : Ref sig .tc := ⟨.hbm, 9330, rfl⟩
abbrev main_v4951 : Ref sig .tc := ⟨.hbm, 9331, rfl⟩
abbrev main_v4952 : Ref sig .tc := ⟨.hbm, 9332, rfl⟩
abbrev main_v4953 : Ref sig .tc := ⟨.hbm, 9333, rfl⟩
abbrev main_v4954 : Ref sig .tc := ⟨.hbm, 9334, rfl⟩
abbrev main_v4955 : Ref sig .tc := ⟨.hbm, 9335, rfl⟩
abbrev main_v4956 : Ref sig .tc := ⟨.hbm, 9336, rfl⟩
abbrev main_v4957 : Ref sig .tc := ⟨.hbm, 9337, rfl⟩
abbrev main_v4958 : Ref sig .tc := ⟨.hbm, 9338, rfl⟩
abbrev main_v4959 : Ref sig .tc := ⟨.hbm, 9339, rfl⟩
abbrev main_v4960 : Ref sig .tc := ⟨.hbm, 9340, rfl⟩
abbrev main_v4961 : Ref sig .tc := ⟨.hbm, 9341, rfl⟩
abbrev main_v4962 : Ref sig .tc := ⟨.hbm, 9342, rfl⟩
abbrev main_v4963 : Ref sig .tc := ⟨.hbm, 9343, rfl⟩
abbrev main_v4964 : Ref sig .tc := ⟨.hbm, 9344, rfl⟩
abbrev main_v4965 : Ref sig .tc := ⟨.hbm, 9345, rfl⟩
abbrev main_v4966 : Ref sig .tc := ⟨.hbm, 9346, rfl⟩
abbrev main_v4967 : Ref sig .tc := ⟨.hbm, 9347, rfl⟩
abbrev main_v4968 : Ref sig .tc := ⟨.hbm, 9348, rfl⟩
abbrev main_v4969 : Ref sig .tc := ⟨.hbm, 9349, rfl⟩
abbrev main_cst_1213 : Ref sig .tc := ⟨.hbm, 9350, rfl⟩
abbrev main_v4970 : Ref sig .tc := ⟨.hbm, 9351, rfl⟩
abbrev main_v4971 : Ref sig .tc := ⟨.hbm, 9352, rfl⟩
abbrev main_v4972 : Ref sig .tc := ⟨.hbm, 9353, rfl⟩
abbrev main_v4973 : Ref sig .tc := ⟨.hbm, 9354, rfl⟩
abbrev main_v4974 : Ref sig .tc := ⟨.hbm, 9355, rfl⟩
abbrev main_v4975 : Ref sig .tc := ⟨.hbm, 9356, rfl⟩
abbrev main_v4976 : Ref sig .tc := ⟨.hbm, 9357, rfl⟩
abbrev main_v4977 : Ref sig .tc := ⟨.hbm, 9358, rfl⟩
abbrev main_v4978 : Ref sig .tc := ⟨.hbm, 9359, rfl⟩
abbrev main_v4979 : Ref sig .tc := ⟨.hbm, 9360, rfl⟩
abbrev main_v4980 : Ref sig .tc := ⟨.hbm, 9361, rfl⟩
abbrev main_v4981 : Ref sig .tc := ⟨.hbm, 9362, rfl⟩
abbrev main_v4982 : Ref sig .tc := ⟨.hbm, 9363, rfl⟩
abbrev main_v4983 : Ref sig .tc := ⟨.hbm, 9364, rfl⟩
abbrev main_v4984 : Ref sig .tc := ⟨.hbm, 9365, rfl⟩
abbrev main_v4985 : Ref sig .tc := ⟨.hbm, 9366, rfl⟩
abbrev main_cst_1214 : Ref sig .tc := ⟨.hbm, 9367, rfl⟩
abbrev main_v4986 : Ref sig .tc := ⟨.hbm, 9368, rfl⟩
abbrev main_v4987 : Ref sig .tc := ⟨.hbm, 9369, rfl⟩
abbrev main_cst_1215 : Ref sig .tc := ⟨.hbm, 9370, rfl⟩
abbrev main_v4988 : Ref sig .tc := ⟨.hbm, 9371, rfl⟩
abbrev main_v4989 : Ref sig .tc := ⟨.hbm, 9372, rfl⟩
abbrev main_v4990 : Ref sig .tc := ⟨.hbm, 9373, rfl⟩
abbrev main_v4991 : Ref sig .tc := ⟨.hbm, 9374, rfl⟩
abbrev main_v4992 : Ref sig .tc := ⟨.hbm, 9375, rfl⟩
abbrev main_cst_1216 : Ref sig .tc := ⟨.hbm, 9376, rfl⟩
abbrev main_v4993 : Ref sig .tc := ⟨.hbm, 9377, rfl⟩
abbrev main_v4994 : Ref sig .tc := ⟨.hbm, 9378, rfl⟩
abbrev main_cst_1217 : Ref sig .tc := ⟨.hbm, 9379, rfl⟩
abbrev main_v4995 : Ref sig .tc := ⟨.hbm, 9380, rfl⟩
abbrev main_v4996 : Ref sig .tc := ⟨.hbm, 9381, rfl⟩
abbrev main_v4997 : Ref sig .tc := ⟨.hbm, 9382, rfl⟩
abbrev main_v4998 : Ref sig .tc := ⟨.hbm, 9383, rfl⟩
abbrev main_cst_1218 : Ref sig .tc := ⟨.hbm, 9384, rfl⟩
abbrev main_v4999 : Ref sig .tc := ⟨.hbm, 9385, rfl⟩
abbrev main_v5000 : Ref sig .tc := ⟨.hbm, 9386, rfl⟩
abbrev main_v5001 : Ref sig .tc := ⟨.hbm, 9387, rfl⟩
abbrev main_v5002 : Ref sig .tc := ⟨.hbm, 9388, rfl⟩
abbrev main_v5003 : Ref sig .tc := ⟨.hbm, 9389, rfl⟩
abbrev main_v5004 : Ref sig .tc := ⟨.hbm, 9390, rfl⟩
abbrev main_v5005 : Ref sig .tc := ⟨.hbm, 9391, rfl⟩
abbrev main_v5006 : Ref sig .tc := ⟨.hbm, 9392, rfl⟩
abbrev main_v5007 : Ref sig .tc := ⟨.hbm, 9393, rfl⟩
abbrev main_v5008 : Ref sig .tc := ⟨.hbm, 9394, rfl⟩
abbrev main_v5009 : Ref sig .tc := ⟨.hbm, 9395, rfl⟩
abbrev main_v5010 : Ref sig .tc := ⟨.hbm, 9396, rfl⟩
abbrev main_v5011 : Ref sig .tc := ⟨.hbm, 9397, rfl⟩
abbrev main_v5012 : Ref sig .tc := ⟨.hbm, 9398, rfl⟩
abbrev main_v5013 : Ref sig .tc := ⟨.hbm, 9399, rfl⟩
abbrev main_v5014 : Ref sig .tc := ⟨.hbm, 9400, rfl⟩
abbrev main_v5015 : Ref sig .tc := ⟨.hbm, 9401, rfl⟩
abbrev main_v5016 : Ref sig .tc := ⟨.hbm, 9402, rfl⟩
abbrev main_v5017 : Ref sig .tc := ⟨.hbm, 9403, rfl⟩
abbrev main_call301_cst : Ref sig .tc := ⟨.hbm, 9404, rfl⟩
abbrev main_call301_v0 : Ref sig .tc := ⟨.hbm, 9405, rfl⟩
abbrev main_v5018 : Ref sig .tc := ⟨.hbm, 9406, rfl⟩
abbrev main_v5019 : Ref sig .tc := ⟨.hbm, 9407, rfl⟩
abbrev main_v5020 : Ref sig .tc := ⟨.hbm, 9408, rfl⟩
abbrev main_v5021 : Ref sig .tc := ⟨.hbm, 9409, rfl⟩
abbrev main_v5022 : Ref sig .tc := ⟨.hbm, 9410, rfl⟩
abbrev main_v5023 : Ref sig .tc := ⟨.hbm, 9411, rfl⟩
abbrev main_v5024 : Ref sig .tc := ⟨.hbm, 9412, rfl⟩
abbrev main_v5025 : Ref sig .tc := ⟨.hbm, 9413, rfl⟩
abbrev main_v5026 : Ref sig .tc := ⟨.hbm, 9414, rfl⟩
abbrev main_v5027 : Ref sig .tc := ⟨.hbm, 9415, rfl⟩
abbrev main_v5028 : Ref sig .tc := ⟨.hbm, 9416, rfl⟩
abbrev main_v5029 : Ref sig .tc := ⟨.hbm, 9417, rfl⟩
abbrev main_v5030 : Ref sig .tc := ⟨.hbm, 9418, rfl⟩
abbrev main_v5031 : Ref sig .tc := ⟨.hbm, 9419, rfl⟩
abbrev main_cst_1219 : Ref sig .tc := ⟨.hbm, 9420, rfl⟩
abbrev main_v5032 : Ref sig .tc := ⟨.hbm, 9421, rfl⟩
abbrev main_v5033 : Ref sig .tc := ⟨.hbm, 9422, rfl⟩
abbrev main_cst_1220 : Ref sig .tc := ⟨.hbm, 9423, rfl⟩
abbrev main_v5034 : Ref sig .tc := ⟨.hbm, 9424, rfl⟩
abbrev main_v5035 : Ref sig .tc := ⟨.hbm, 9425, rfl⟩
abbrev main_v5036 : Ref sig .tc := ⟨.hbm, 9426, rfl⟩
abbrev main_v5037 : Ref sig .tc := ⟨.hbm, 9427, rfl⟩
abbrev main_v5038 : Ref sig .tc := ⟨.hbm, 9428, rfl⟩
abbrev main_cst_1221 : Ref sig .tc := ⟨.hbm, 9429, rfl⟩
abbrev main_v5039 : Ref sig .tc := ⟨.hbm, 9430, rfl⟩
abbrev main_v5040 : Ref sig .tc := ⟨.hbm, 9431, rfl⟩
abbrev main_cst_1222 : Ref sig .tc := ⟨.hbm, 9432, rfl⟩
abbrev main_v5041 : Ref sig .tc := ⟨.hbm, 9433, rfl⟩
abbrev main_v5042 : Ref sig .tc := ⟨.hbm, 9434, rfl⟩
abbrev main_v5043 : Ref sig .tc := ⟨.hbm, 9435, rfl⟩
abbrev main_v5044 : Ref sig .tc := ⟨.hbm, 9436, rfl⟩
abbrev main_cst_1223 : Ref sig .tc := ⟨.hbm, 9437, rfl⟩
abbrev main_v5045 : Ref sig .tc := ⟨.hbm, 9438, rfl⟩
abbrev main_v5046 : Ref sig .tc := ⟨.hbm, 9439, rfl⟩
abbrev main_v5047 : Ref sig .tc := ⟨.hbm, 9440, rfl⟩
abbrev main_v5048 : Ref sig .tc := ⟨.hbm, 9441, rfl⟩
abbrev main_v5049 : Ref sig .tc := ⟨.hbm, 9442, rfl⟩
abbrev main_v5050 : Ref sig .tc := ⟨.hbm, 9443, rfl⟩
abbrev main_v5051 : Ref sig .tc := ⟨.hbm, 9444, rfl⟩
abbrev main_v5052 : Ref sig .tc := ⟨.hbm, 9445, rfl⟩
abbrev main_v5053 : Ref sig .tc := ⟨.hbm, 9446, rfl⟩
abbrev main_v5054 : Ref sig .tc := ⟨.hbm, 9447, rfl⟩
abbrev main_v5055 : Ref sig .tc := ⟨.hbm, 9448, rfl⟩
abbrev main_v5056 : Ref sig .tc := ⟨.hbm, 9449, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x2x256x32x32 : Shape := ⟨5, ![4, 2, 256, 32, 32]⟩
abbrev S4x256 : Shape := ⟨2, ![4, 256]⟩
abbrev S6x256x256 : Shape := ⟨3, ![6, 256, 256]⟩
abbrev S6x256 : Shape := ⟨2, ![6, 256]⟩
abbrev S6x256x128 : Shape := ⟨3, ![6, 256, 128]⟩
abbrev S6x128 : Shape := ⟨2, ![6, 128]⟩
abbrev S6x256x1024 : Shape := ⟨3, ![6, 256, 1024]⟩
abbrev S6x1024 : Shape := ⟨2, ![6, 1024]⟩
abbrev S6x1024x256 : Shape := ⟨3, ![6, 1024, 256]⟩
abbrev S4x2 : Shape := ⟨2, ![4, 2]⟩
abbrev S4x2x256x1024 : Shape := ⟨4, ![4, 2, 256, 1024]⟩
abbrev S2x4x1024x256 : Shape := ⟨4, ![2, 4, 1024, 256]⟩
abbrev S2x4096x256 : Shape := ⟨3, ![2, 4096, 256]⟩
abbrev S1x4x1x256 : Shape := ⟨4, ![1, 4, 1, 256]⟩
abbrev S_ : Shape := ⟨0, ![]⟩
abbrev S2x4x2 : Shape := ⟨3, ![2, 4, 2]⟩
abbrev S31 : Shape := ⟨1, ![31]⟩
abbrev S1 : Shape := ⟨1, ![1]⟩
abbrev S32 : Shape := ⟨1, ![32]⟩
abbrev S32x32 : Shape := ⟨2, ![32, 32]⟩
abbrev S1024 : Shape := ⟨1, ![1024]⟩
abbrev S1x1024 : Shape := ⟨2, ![1, 1024]⟩
abbrev S2x1x1 : Shape := ⟨3, ![2, 1, 1]⟩
abbrev S2 : Shape := ⟨1, ![2]⟩
abbrev S2x1 : Shape := ⟨2, ![2, 1]⟩
abbrev S2x1024 : Shape := ⟨2, ![2, 1024]⟩
abbrev S2x1024x1 : Shape := ⟨3, ![2, 1024, 1]⟩
abbrev S2x1024x2 : Shape := ⟨3, ![2, 1024, 2]⟩
abbrev S2x4096x2 : Shape := ⟨3, ![2, 4096, 2]⟩
abbrev S2x4096x1x2 : Shape := ⟨4, ![2, 4096, 1, 2]⟩
abbrev S2x1x4x2 : Shape := ⟨4, ![2, 1, 4, 2]⟩
abbrev S2x4096x4x2 : Shape := ⟨4, ![2, 4096, 4, 2]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x1x256 : Shape := ⟨3, ![1, 1, 256]⟩
abbrev S2x4096x8x32 : Shape := ⟨4, ![2, 4096, 8, 32]⟩
abbrev S2x4096x8x4x4x2 : Shape := ⟨6, ![2, 4096, 8, 4, 4, 2]⟩
abbrev S1x256x128 : Shape := ⟨3, ![1, 256, 128]⟩
abbrev S256x128 : Shape := ⟨2, ![256, 128]⟩
abbrev S2x4096x128 : Shape := ⟨3, ![2, 4096, 128]⟩
abbrev S1x128 : Shape := ⟨2, ![1, 128]⟩
abbrev S128 : Shape := ⟨1, ![128]⟩
abbrev S1x1x128 : Shape := ⟨3, ![1, 1, 128]⟩
abbrev S2x4096x8x16 : Shape := ⟨4, ![2, 4096, 8, 16]⟩
abbrev S2x4096x8 : Shape := ⟨3, ![2, 4096, 8]⟩
abbrev S2x4096x8x1 : Shape := ⟨4, ![2, 4096, 8, 1]⟩
abbrev S2x4096x8x4x4 : Shape := ⟨5, ![2, 4096, 8, 4, 4]⟩
abbrev S2x4096x1x4x1x2 : Shape := ⟨6, ![2, 4096, 1, 4, 1, 2]⟩
abbrev S1x1x1x4x1x2 : Shape := ⟨6, ![1, 1, 1, 4, 1, 2]⟩
abbrev S2x1024x8x32 : Shape := ⟨4, ![2, 1024, 8, 32]⟩
abbrev S2x8x32x1024 : Shape := ⟨4, ![2, 8, 32, 1024]⟩
abbrev S16x32x32x32 : Shape := ⟨4, ![16, 32, 32, 32]⟩
abbrev S2x4096x8x1x4x2 : Shape := ⟨6, ![2, 4096, 8, 1, 4, 2]⟩
abbrev S2x4096x8x4x2 : Shape := ⟨5, ![2, 4096, 8, 4, 2]⟩
abbrev S2x8x4096x4x2 : Shape := ⟨5, ![2, 8, 4096, 4, 2]⟩
abbrev S16x4096x4x2 : Shape := ⟨4, ![16, 4096, 4, 2]⟩
abbrev S16x4096x4x1 : Shape := ⟨4, ![16, 4096, 4, 1]⟩
abbrev S16x4096x4 : Shape := ⟨3, ![16, 4096, 4]⟩
abbrev S16x32x1024 : Shape := ⟨3, ![16, 32, 1024]⟩
abbrev S16x16384 : Shape := ⟨2, ![16, 16384]⟩
abbrev S16x1x16384 : Shape := ⟨3, ![16, 1, 16384]⟩
abbrev S16x32x16384 : Shape := ⟨3, ![16, 32, 16384]⟩
abbrev S16x32x16384x1 : Shape := ⟨4, ![16, 32, 16384, 1]⟩
abbrev S1x1x1x1 : Shape := ⟨4, ![1, 1, 1, 1]⟩
abbrev S16x32x4096x4 : Shape := ⟨4, ![16, 32, 4096, 4]⟩
abbrev S16x1x4096x4 : Shape := ⟨4, ![16, 1, 4096, 4]⟩
abbrev S16x32x4096x1x4 : Shape := ⟨5, ![16, 32, 4096, 1, 4]⟩
abbrev S16x32x4096x4x4 : Shape := ⟨5, ![16, 32, 4096, 4, 4]⟩
abbrev S16x32x4096x16 : Shape := ⟨4, ![16, 32, 4096, 16]⟩
abbrev S2x8x4096x4x4 : Shape := ⟨5, ![2, 8, 4096, 4, 4]⟩
abbrev S16x1x4096x16 : Shape := ⟨4, ![16, 1, 4096, 16]⟩
abbrev S16x32x4096 : Shape := ⟨3, ![16, 32, 4096]⟩
abbrev S2x256x4096 : Shape := ⟨3, ![2, 256, 4096]⟩
abbrev S2x4096 : Shape := ⟨2, ![2, 4096]⟩
abbrev S2x4096x1 : Shape := ⟨3, ![2, 4096, 1]⟩
abbrev S1x256x1024 : Shape := ⟨3, ![1, 256, 1024]⟩
abbrev S256x1024 : Shape := ⟨2, ![256, 1024]⟩
abbrev S2x4096x1024 : Shape := ⟨3, ![2, 4096, 1024]⟩
abbrev S1x1x1024 : Shape := ⟨3, ![1, 1, 1024]⟩
abbrev S1x1024x256 : Shape := ⟨3, ![1, 1024, 256]⟩
abbrev S1024x256 : Shape := ⟨2, ![1024, 256]⟩

abbrev nBuf : Space → Nat
  | .hbm => 9449
  | .vmem => 0
  | .smem => 0
  | _ => 0

abbrev hbmTy0_0 (i : Nat) : BufTy := match i % 128 with
  | 0 => ⟨S4x2x256x32x32, .f32⟩
  | 1 => ⟨S4x2x256x32x32, .f32⟩
  | 2 => ⟨S4x256, .f32⟩
  | 3 => ⟨S6x256x256, .f32⟩
  | 4 => ⟨S6x256, .f32⟩
  | 5 => ⟨S6x256x256, .f32⟩
  | 6 => ⟨S6x256, .f32⟩
  | 7 => ⟨S6x256x128, .f32⟩
  | 8 => ⟨S6x128, .f32⟩
  | 9 => ⟨S6x256x256, .f32⟩
  | 10 => ⟨S6x256, .f32⟩
  | 11 => ⟨S6x256, .f32⟩
  | 12 => ⟨S6x256, .f32⟩
  | 13 => ⟨S6x256x1024, .f32⟩
  | 14 => ⟨S6x1024, .f32⟩
  | 15 => ⟨S6x1024x256, .f32⟩
  | 16 => ⟨S6x256, .f32⟩
  | 17 => ⟨S6x256, .f32⟩
  | 18 => ⟨S6x256, .f32⟩
  | 19 => ⟨S4x2, .f32⟩
  | 20 => ⟨S4x2x256x1024, .f32⟩
  | 21 => ⟨S2x4x1024x256, .f32⟩
  | 22 => ⟨S2x4096x256, .f32⟩
  | 23 => ⟨S4x2x256x1024, .f32⟩
  | 24 => ⟨S2x4x1024x256, .f32⟩
  | 25 => ⟨S1x4x1x256, .f32⟩
  | 26 => ⟨S2x4x1024x256, .f32⟩
  | 27 => ⟨S2x4x1024x256, .f32⟩
  | 28 => ⟨S2x4096x256, .f32⟩
  | 29 => ⟨S_, .f32⟩
  | 30 => ⟨S2x4x2, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S31, .f32⟩
  | 39 => ⟨S_, .f32⟩
  | 40 => ⟨S31, .f32⟩
  | 41 => ⟨S31, .f32⟩
  | 42 => ⟨S1, .f32⟩
  | 43 => ⟨S_, .f32⟩
  | 44 => ⟨S31, .f32⟩
  | 45 => ⟨S31, .f32⟩
  | 46 => ⟨S31, .f32⟩
  | 47 => ⟨S31, .f32⟩
  | 48 => ⟨S1, .f32⟩
  | 49 => ⟨S31, .f32⟩
  | 50 => ⟨S31, .f32⟩
  | 51 => ⟨S31, .f32⟩
  | 52 => ⟨S1, .f32⟩
  | 53 => ⟨S32, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S31, .f32⟩
  | 62 => ⟨S_, .f32⟩
  | 63 => ⟨S31, .f32⟩
  | 64 => ⟨S31, .f32⟩
  | 65 => ⟨S1, .f32⟩
  | 66 => ⟨S_, .f32⟩
  | 67 => ⟨S31, .f32⟩
  | 68 => ⟨S31, .f32⟩
  | 69 => ⟨S31, .f32⟩
  | 70 => ⟨S31, .f32⟩
  | 71 => ⟨S1, .f32⟩
  | 72 => ⟨S31, .f32⟩
  | 73 => ⟨S31, .f32⟩
  | 74 => ⟨S31, .f32⟩
  | 75 => ⟨S1, .f32⟩
  | 76 => ⟨S32, .f32⟩
  | 77 => ⟨S32x32, .f32⟩
  | 78 => ⟨S32x32, .f32⟩
  | 79 => ⟨S1024, .f32⟩
  | 80 => ⟨S1x1024, .f32⟩
  | 81 => ⟨S2x1x1, .f32⟩
  | 82 => ⟨S2, .f32⟩
  | 83 => ⟨S2x1, .f32⟩
  | 84 => ⟨S_, .f32⟩
  | 85 => ⟨S2x1, .f32⟩
  | 86 => ⟨S2x1, .f32⟩
  | 87 => ⟨S2x1024, .f32⟩
  | 88 => ⟨S2x1024, .f32⟩
  | 89 => ⟨S2x1024, .f32⟩
  | 90 => ⟨S1024, .f32⟩
  | 91 => ⟨S1x1024, .f32⟩
  | 92 => ⟨S2x1x1, .f32⟩
  | 93 => ⟨S2, .f32⟩
  | 94 => ⟨S2x1, .f32⟩
  | 95 => ⟨S_, .f32⟩
  | 96 => ⟨S2x1, .f32⟩
  | 97 => ⟨S2x1, .f32⟩
  | 98 => ⟨S2x1024, .f32⟩
  | 99 => ⟨S2x1024, .f32⟩
  | 100 => ⟨S2x1024, .f32⟩
  | 101 => ⟨S2x1024x1, .f32⟩
  | 102 => ⟨S2x1024x1, .f32⟩
  | 103 => ⟨S2x1024x2, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S31, .f32⟩
  | 112 => ⟨S_, .f32⟩
  | 113 => ⟨S31, .f32⟩
  | 114 => ⟨S31, .f32⟩
  | 115 => ⟨S1, .f32⟩
  | 116 => ⟨S_, .f32⟩
  | 117 => ⟨S31, .f32⟩
  | 118 => ⟨S31, .f32⟩
  | 119 => ⟨S31, .f32⟩
  | 120 => ⟨S31, .f32⟩
  | 121 => ⟨S1, .f32⟩
  | 122 => ⟨S31, .f32⟩
  | 123 => ⟨S31, .f32⟩
  | 124 => ⟨S31, .f32⟩
  | 125 => ⟨S1, .f32⟩
  | 126 => ⟨S32, .f32⟩
  | 127 => ⟨S_, .f32⟩
  | _ => ⟨S4x2x256x32x32, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S31, .f32⟩
  | 7 => ⟨S_, .f32⟩
  | 8 => ⟨S31, .f32⟩
  | 9 => ⟨S31, .f32⟩
  | 10 => ⟨S1, .f32⟩
  | 11 => ⟨S_, .f32⟩
  | 12 => ⟨S31, .f32⟩
  | 13 => ⟨S31, .f32⟩
  | 14 => ⟨S31, .f32⟩
  | 15 => ⟨S31, .f32⟩
  | 16 => ⟨S1, .f32⟩
  | 17 => ⟨S31, .f32⟩
  | 18 => ⟨S31, .f32⟩
  | 19 => ⟨S31, .f32⟩
  | 20 => ⟨S1, .f32⟩
  | 21 => ⟨S32, .f32⟩
  | 22 => ⟨S32x32, .f32⟩
  | 23 => ⟨S32x32, .f32⟩
  | 24 => ⟨S1024, .f32⟩
  | 25 => ⟨S1x1024, .f32⟩
  | 26 => ⟨S2x1x1, .f32⟩
  | 27 => ⟨S2, .f32⟩
  | 28 => ⟨S2x1, .f32⟩
  | 29 => ⟨S_, .f32⟩
  | 30 => ⟨S2x1, .f32⟩
  | 31 => ⟨S2x1, .f32⟩
  | 32 => ⟨S2x1024, .f32⟩
  | 33 => ⟨S2x1024, .f32⟩
  | 34 => ⟨S2x1024, .f32⟩
  | 35 => ⟨S1024, .f32⟩
  | 36 => ⟨S1x1024, .f32⟩
  | 37 => ⟨S2x1x1, .f32⟩
  | 38 => ⟨S2, .f32⟩
  | 39 => ⟨S2x1, .f32⟩
  | 40 => ⟨S_, .f32⟩
  | 41 => ⟨S2x1, .f32⟩
  | 42 => ⟨S2x1, .f32⟩
  | 43 => ⟨S2x1024, .f32⟩
  | 44 => ⟨S2x1024, .f32⟩
  | 45 => ⟨S2x1024, .f32⟩
  | 46 => ⟨S2x1024x1, .f32⟩
  | 47 => ⟨S2x1024x1, .f32⟩
  | 48 => ⟨S2x1024x2, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S31, .f32⟩
  | 57 => ⟨S_, .f32⟩
  | 58 => ⟨S31, .f32⟩
  | 59 => ⟨S31, .f32⟩
  | 60 => ⟨S1, .f32⟩
  | 61 => ⟨S_, .f32⟩
  | 62 => ⟨S31, .f32⟩
  | 63 => ⟨S31, .f32⟩
  | 64 => ⟨S31, .f32⟩
  | 65 => ⟨S31, .f32⟩
  | 66 => ⟨S1, .f32⟩
  | 67 => ⟨S31, .f32⟩
  | 68 => ⟨S31, .f32⟩
  | 69 => ⟨S31, .f32⟩
  | 70 => ⟨S1, .f32⟩
  | 71 => ⟨S32, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S31, .f32⟩
  | 80 => ⟨S_, .f32⟩
  | 81 => ⟨S31, .f32⟩
  | 82 => ⟨S31, .f32⟩
  | 83 => ⟨S1, .f32⟩
  | 84 => ⟨S_, .f32⟩
  | 85 => ⟨S31, .f32⟩
  | 86 => ⟨S31, .f32⟩
  | 87 => ⟨S31, .f32⟩
  | 88 => ⟨S31, .f32⟩
  | 89 => ⟨S1, .f32⟩
  | 90 => ⟨S31, .f32⟩
  | 91 => ⟨S31, .f32⟩
  | 92 => ⟨S31, .f32⟩
  | 93 => ⟨S1, .f32⟩
  | 94 => ⟨S32, .f32⟩
  | 95 => ⟨S32x32, .f32⟩
  | 96 => ⟨S32x32, .f32⟩
  | 97 => ⟨S1024, .f32⟩
  | 98 => ⟨S1x1024, .f32⟩
  | 99 => ⟨S2x1x1, .f32⟩
  | 100 => ⟨S2, .f32⟩
  | 101 => ⟨S2x1, .f32⟩
  | 102 => ⟨S_, .f32⟩
  | 103 => ⟨S2x1, .f32⟩
  | 104 => ⟨S2x1, .f32⟩
  | 105 => ⟨S2x1024, .f32⟩
  | 106 => ⟨S2x1024, .f32⟩
  | 107 => ⟨S2x1024, .f32⟩
  | 108 => ⟨S1024, .f32⟩
  | 109 => ⟨S1x1024, .f32⟩
  | 110 => ⟨S2x1x1, .f32⟩
  | 111 => ⟨S2, .f32⟩
  | 112 => ⟨S2x1, .f32⟩
  | 113 => ⟨S_, .f32⟩
  | 114 => ⟨S2x1, .f32⟩
  | 115 => ⟨S2x1, .f32⟩
  | 116 => ⟨S2x1024, .f32⟩
  | 117 => ⟨S2x1024, .f32⟩
  | 118 => ⟨S2x1024, .f32⟩
  | 119 => ⟨S2x1024x1, .f32⟩
  | 120 => ⟨S2x1024x1, .f32⟩
  | 121 => ⟨S2x1024x2, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4x2x256x32x32, .f32⟩

abbrev hbmTy0_2 (i : Nat) : BufTy := match i % 128 with
  | 0 => ⟨S_, .f32⟩
  | 1 => ⟨S31, .f32⟩
  | 2 => ⟨S_, .f32⟩
  | 3 => ⟨S31, .f32⟩
  | 4 => ⟨S31, .f32⟩
  | 5 => ⟨S1, .f32⟩
  | 6 => ⟨S_, .f32⟩
  | 7 => ⟨S31, .f32⟩
  | 8 => ⟨S31, .f32⟩
  | 9 => ⟨S31, .f32⟩
  | 10 => ⟨S31, .f32⟩
  | 11 => ⟨S1, .f32⟩
  | 12 => ⟨S31, .f32⟩
  | 13 => ⟨S31, .f32⟩
  | 14 => ⟨S31, .f32⟩
  | 15 => ⟨S1, .f32⟩
  | 16 => ⟨S32, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S31, .f32⟩
  | 25 => ⟨S_, .f32⟩
  | 26 => ⟨S31, .f32⟩
  | 27 => ⟨S31, .f32⟩
  | 28 => ⟨S1, .f32⟩
  | 29 => ⟨S_, .f32⟩
  | 30 => ⟨S31, .f32⟩
  | 31 => ⟨S31, .f32⟩
  | 32 => ⟨S31, .f32⟩
  | 33 => ⟨S31, .f32⟩
  | 34 => ⟨S1, .f32⟩
  | 35 => ⟨S31, .f32⟩
  | 36 => ⟨S31, .f32⟩
  | 37 => ⟨S31, .f32⟩
  | 38 => ⟨S1, .f32⟩
  | 39 => ⟨S32, .f32⟩
  | 40 => ⟨S32x32, .f32⟩
  | 41 => ⟨S32x32, .f32⟩
  | 42 => ⟨S1024, .f32⟩
  | 43 => ⟨S1x1024, .f32⟩
  | 44 => ⟨S2x1x1, .f32⟩
  | 45 => ⟨S2, .f32⟩
  | 46 => ⟨S2x1, .f32⟩
  | 47 => ⟨S_, .f32⟩
  | 48 => ⟨S2x1, .f32⟩
  | 49 => ⟨S2x1, .f32⟩
  | 50 => ⟨S2x1024, .f32⟩
  | 51 => ⟨S2x1024, .f32⟩
  | 52 => ⟨S2x1024, .f32⟩
  | 53 => ⟨S1024, .f32⟩
  | 54 => ⟨S1x1024, .f32⟩
  | 55 => ⟨S2x1x1, .f32⟩
  | 56 => ⟨S2, .f32⟩
  | 57 => ⟨S2x1, .f32⟩
  | 58 => ⟨S_, .f32⟩
  | 59 => ⟨S2x1, .f32⟩
  | 60 => ⟨S2x1, .f32⟩
  | 61 => ⟨S2x1024, .f32⟩
  | 62 => ⟨S2x1024, .f32⟩
  | 63 => ⟨S2x1024, .f32⟩
  | 64 => ⟨S2x1024x1, .f32⟩
  | 65 => ⟨S2x1024x1, .f32⟩
  | 66 => ⟨S2x1024x2, .f32⟩
  | 67 => ⟨S2x4096x2, .f32⟩
  | 68 => ⟨S2x4096x1x2, .f32⟩
  | 69 => ⟨S2x1x4x2, .f32⟩
  | 70 => ⟨S2x4096x4x2, .f32⟩
  | 71 => ⟨S2x4096x4x2, .f32⟩
  | 72 => ⟨S2x4096x4x2, .f32⟩
  | 73 => ⟨S2x4096x256, .f32⟩
  | 74 => ⟨S1x256x256, .f32⟩
  | 75 => ⟨S256x256, .f32⟩
  | 76 => ⟨S2x4096x256, .f32⟩
  | 77 => ⟨S1x256, .f32⟩
  | 78 => ⟨S256, .f32⟩
  | 79 => ⟨S1x1x256, .f32⟩
  | 80 => ⟨S2x4096x256, .f32⟩
  | 81 => ⟨S2x4096x256, .f32⟩
  | 82 => ⟨S2x4096x8x32, .f32⟩
  | 83 => ⟨S1x256x256, .f32⟩
  | 84 => ⟨S256x256, .f32⟩
  | 85 => ⟨S2x4096x256, .f32⟩
  | 86 => ⟨S1x256, .f32⟩
  | 87 => ⟨S256, .f32⟩
  | 88 => ⟨S1x1x256, .f32⟩
  | 89 => ⟨S2x4096x256, .f32⟩
  | 90 => ⟨S2x4096x256, .f32⟩
  | 91 => ⟨S2x4096x8x4x4x2, .f32⟩
  | 92 => ⟨S1x256x128, .f32⟩
  | 93 => ⟨S256x128, .f32⟩
  | 94 => ⟨S2x4096x128, .f32⟩
  | 95 => ⟨S1x128, .f32⟩
  | 96 => ⟨S128, .f32⟩
  | 97 => ⟨S1x1x128, .f32⟩
  | 98 => ⟨S2x4096x128, .f32⟩
  | 99 => ⟨S2x4096x128, .f32⟩
  | 100 => ⟨S2x4096x8x16, .f32⟩
  | 101 => ⟨S_, .f32⟩
  | 102 => ⟨S2x4096x8, .f32⟩
  | 103 => ⟨S_, .f32⟩
  | 104 => ⟨S2x4096x8, .f32⟩
  | 105 => ⟨S2x4096x8, .f32⟩
  | 106 => ⟨S2x4096x8x1, .f32⟩
  | 107 => ⟨S2x4096x8x16, .f32⟩
  | 108 => ⟨S2x4096x8x16, .f32⟩
  | 109 => ⟨S2x4096x8x16, .f32⟩
  | 110 => ⟨S_, .f32⟩
  | 111 => ⟨S2x4096x8, .f32⟩
  | 112 => ⟨S2x4096x8x1, .f32⟩
  | 113 => ⟨S2x4096x8x16, .f32⟩
  | 114 => ⟨S2x4096x8x16, .f32⟩
  | 115 => ⟨S2x4096x8x4x4, .f32⟩
  | 116 => ⟨S2x4096x1x4x1x2, .f32⟩
  | 117 => ⟨S1x1x1x4x1x2, .f32⟩
  | 118 => ⟨S2x4096x8x4x4x2, .f32⟩
  | 119 => ⟨S2x4096x8x4x4x2, .f32⟩
  | 120 => ⟨S2x4096x8x4x4x2, .f32⟩
  | 121 => ⟨S2x4096x8x4x4x2, .f32⟩
  | 122 => ⟨S_, .f32⟩
  | 123 => ⟨S2x4096x8x4x4x2, .f32⟩
  | 124 => ⟨S2x4096x8x4x4x2, .f32⟩
  | 125 => ⟨S_, .f32⟩
  | 126 => ⟨S2x4096x8x4x4x2, .f32⟩
  | 127 => ⟨S2x4096x8x4x4x2, .f32⟩
  | _ => ⟨S4x2x256x32x32, .f32⟩

abbrev hbmTy0_3 (i : Nat) : BufTy := match i % 128 with
  | 0 => ⟨S2x1024x8x32, .f32⟩
  | 1 => ⟨S2x8x32x1024, .f32⟩
  | 2 => ⟨S16x32x32x32, .f32⟩
  | 3 => ⟨S2x4096x8x1x4x2, .f32⟩
  | 4 => ⟨S2x4096x8x4x2, .f32⟩
  | 5 => ⟨S2x8x4096x4x2, .f32⟩
  | 6 => ⟨S16x4096x4x2, .f32⟩
  | 7 => ⟨S16x4096x4x1, .f32⟩
  | 8 => ⟨S16x4096x4, .f32⟩
  | 9 => ⟨S_, .f32⟩
  | 10 => ⟨S16x4096x4, .f32⟩
  | 11 => ⟨S16x4096x4, .f32⟩
  | 12 => ⟨S_, .f32⟩
  | 13 => ⟨S16x4096x4, .f32⟩
  | 14 => ⟨S16x4096x4, .f32⟩
  | 15 => ⟨S_, .f32⟩
  | 16 => ⟨S16x4096x4, .f32⟩
  | 17 => ⟨S16x4096x4, .f32⟩
  | 18 => ⟨S_, .f32⟩
  | 19 => ⟨S16x4096x4, .f32⟩
  | 20 => ⟨S16x4096x4, .f32⟩
  | 21 => ⟨S16x4096x4x1, .f32⟩
  | 22 => ⟨S16x4096x4, .f32⟩
  | 23 => ⟨S_, .f32⟩
  | 24 => ⟨S16x4096x4, .f32⟩
  | 25 => ⟨S16x4096x4, .f32⟩
  | 26 => ⟨S_, .f32⟩
  | 27 => ⟨S16x4096x4, .f32⟩
  | 28 => ⟨S16x4096x4, .f32⟩
  | 29 => ⟨S_, .f32⟩
  | 30 => ⟨S16x4096x4, .f32⟩
  | 31 => ⟨S16x4096x4, .f32⟩
  | 32 => ⟨S_, .f32⟩
  | 33 => ⟨S16x4096x4, .f32⟩
  | 34 => ⟨S16x4096x4, .f32⟩
  | 35 => ⟨S16x4096x4, .f32⟩
  | 36 => ⟨S16x4096x4, .f32⟩
  | 37 => ⟨S_, .f32⟩
  | 38 => ⟨S16x4096x4, .f32⟩
  | 39 => ⟨S16x4096x4, .f32⟩
  | 40 => ⟨S_, .f32⟩
  | 41 => ⟨S16x4096x4, .f32⟩
  | 42 => ⟨S16x4096x4, .f32⟩
  | 43 => ⟨S16x4096x4, .f32⟩
  | 44 => ⟨S16x4096x4, .f32⟩
  | 45 => ⟨S16x4096x4, .f32⟩
  | 46 => ⟨S16x4096x4, .f32⟩
  | 47 => ⟨S16x4096x4, .f32⟩
  | 48 => ⟨S16x4096x4, .f32⟩
  | 49 => ⟨S16x4096x4, .f32⟩
  | 50 => ⟨S16x4096x4, .f32⟩
  | 51 => ⟨S16x4096x4, .f32⟩
  | 52 => ⟨S16x4096x4, .f32⟩
  | 53 => ⟨S16x4096x4, .f32⟩
  | 54 => ⟨S16x4096x4, .f32⟩
  | 55 => ⟨S16x32x1024, .f32⟩
  | 56 => ⟨S_, .f32⟩
  | 57 => ⟨S16x4096x4, .f32⟩
  | 58 => ⟨S16x4096x4, .i1⟩
  | 59 => ⟨S_, .f32⟩
  | 60 => ⟨S16x4096x4, .f32⟩
  | 61 => ⟨S16x4096x4, .i1⟩
  | 62 => ⟨S16x4096x4, .i1⟩
  | 63 => ⟨S_, .f32⟩
  | 64 => ⟨S16x4096x4, .f32⟩
  | 65 => ⟨S16x4096x4, .i1⟩
  | 66 => ⟨S16x4096x4, .i1⟩
  | 67 => ⟨S_, .f32⟩
  | 68 => ⟨S16x4096x4, .f32⟩
  | 69 => ⟨S16x4096x4, .i1⟩
  | 70 => ⟨S16x4096x4, .i1⟩
  | 71 => ⟨S_, .i32⟩
  | 72 => ⟨S_, .i32⟩
  | 73 => ⟨S_, .f32⟩
  | 74 => ⟨S16x4096x4, .f32⟩
  | 75 => ⟨S16x4096x4, .f32⟩
  | 76 => ⟨S_, .f32⟩
  | 77 => ⟨S16x4096x4, .f32⟩
  | 78 => ⟨S16x4096x4, .f32⟩
  | 79 => ⟨S16x4096x4, .i32⟩
  | 80 => ⟨S_, .i32⟩
  | 81 => ⟨S_, .i32⟩
  | 82 => ⟨S_, .f32⟩
  | 83 => ⟨S16x4096x4, .f32⟩
  | 84 => ⟨S16x4096x4, .f32⟩
  | 85 => ⟨S_, .f32⟩
  | 86 => ⟨S16x4096x4, .f32⟩
  | 87 => ⟨S16x4096x4, .f32⟩
  | 88 => ⟨S16x4096x4, .i32⟩
  | 89 => ⟨S_, .i32⟩
  | 90 => ⟨S16x4096x4, .i32⟩
  | 91 => ⟨S16x4096x4, .i32⟩
  | 92 => ⟨S16x4096x4, .i32⟩
  | 93 => ⟨S16x16384, .i32⟩
  | 94 => ⟨S16x1x16384, .i32⟩
  | 95 => ⟨S16x32x16384, .i32⟩
  | 96 => ⟨S_, .i32⟩
  | 97 => ⟨S16x32x16384, .i32⟩
  | 98 => ⟨S16x32x16384, .i1⟩
  | 99 => ⟨S_, .i32⟩
  | 100 => ⟨S16x32x16384, .i32⟩
  | 101 => ⟨S16x32x16384, .i32⟩
  | 102 => ⟨S16x32x16384, .i32⟩
  | 103 => ⟨S16x32x16384x1, .i32⟩
  | 104 => ⟨S1, .i32⟩
  | 105 => ⟨S_, .i32⟩
  | 106 => ⟨S16x32x16384x1, .i32⟩
  | 107 => ⟨S16x32x16384x1, .i1⟩
  | 108 => ⟨S1x1x1x1, .i32⟩
  | 109 => ⟨S16x32x16384x1, .i32⟩
  | 110 => ⟨S16x32x16384x1, .i1⟩
  | 111 => ⟨S16x32x16384x1, .i1⟩
  | 112 => ⟨S_, .i1⟩
  | 113 => ⟨S16x32x16384, .i1⟩
  | 114 => ⟨S16x32x16384, .f32⟩
  | 115 => ⟨S_, .f32⟩
  | 116 => ⟨S16x32x16384, .f32⟩
  | 117 => ⟨S16x32x16384, .f32⟩
  | 118 => ⟨S16x32x4096x4, .f32⟩
  | 119 => ⟨S16x1x4096x4, .i1⟩
  | 120 => ⟨S16x1x4096x4, .f32⟩
  | 121 => ⟨S16x32x4096x4, .f32⟩
  | 122 => ⟨S16x32x4096x4, .f32⟩
  | 123 => ⟨S16x1x4096x4, .f32⟩
  | 124 => ⟨S16x32x4096x4, .f32⟩
  | 125 => ⟨S16x32x4096x4, .f32⟩
  | 126 => ⟨S_, .f32⟩
  | 127 => ⟨S16x4096x4, .f32⟩
  | _ => ⟨S4x2x256x32x32, .f32⟩

abbrev hbmTy0_4 (i : Nat) : BufTy := match i % 128 with
  | 0 => ⟨S16x4096x4, .i1⟩
  | 1 => ⟨S_, .f32⟩
  | 2 => ⟨S16x4096x4, .f32⟩
  | 3 => ⟨S16x4096x4, .i1⟩
  | 4 => ⟨S16x4096x4, .i1⟩
  | 5 => ⟨S_, .f32⟩
  | 6 => ⟨S16x4096x4, .f32⟩
  | 7 => ⟨S16x4096x4, .i1⟩
  | 8 => ⟨S16x4096x4, .i1⟩
  | 9 => ⟨S_, .f32⟩
  | 10 => ⟨S16x4096x4, .f32⟩
  | 11 => ⟨S16x4096x4, .i1⟩
  | 12 => ⟨S16x4096x4, .i1⟩
  | 13 => ⟨S_, .i32⟩
  | 14 => ⟨S_, .i32⟩
  | 15 => ⟨S_, .f32⟩
  | 16 => ⟨S16x4096x4, .f32⟩
  | 17 => ⟨S16x4096x4, .f32⟩
  | 18 => ⟨S_, .f32⟩
  | 19 => ⟨S16x4096x4, .f32⟩
  | 20 => ⟨S16x4096x4, .f32⟩
  | 21 => ⟨S16x4096x4, .i32⟩
  | 22 => ⟨S_, .i32⟩
  | 23 => ⟨S_, .i32⟩
  | 24 => ⟨S_, .f32⟩
  | 25 => ⟨S16x4096x4, .f32⟩
  | 26 => ⟨S16x4096x4, .f32⟩
  | 27 => ⟨S_, .f32⟩
  | 28 => ⟨S16x4096x4, .f32⟩
  | 29 => ⟨S16x4096x4, .f32⟩
  | 30 => ⟨S16x4096x4, .i32⟩
  | 31 => ⟨S_, .i32⟩
  | 32 => ⟨S16x4096x4, .i32⟩
  | 33 => ⟨S16x4096x4, .i32⟩
  | 34 => ⟨S16x4096x4, .i32⟩
  | 35 => ⟨S16x16384, .i32⟩
  | 36 => ⟨S16x1x16384, .i32⟩
  | 37 => ⟨S16x32x16384, .i32⟩
  | 38 => ⟨S_, .i32⟩
  | 39 => ⟨S16x32x16384, .i32⟩
  | 40 => ⟨S16x32x16384, .i1⟩
  | 41 => ⟨S_, .i32⟩
  | 42 => ⟨S16x32x16384, .i32⟩
  | 43 => ⟨S16x32x16384, .i32⟩
  | 44 => ⟨S16x32x16384, .i32⟩
  | 45 => ⟨S16x32x16384x1, .i32⟩
  | 46 => ⟨S1, .i32⟩
  | 47 => ⟨S_, .i32⟩
  | 48 => ⟨S16x32x16384x1, .i32⟩
  | 49 => ⟨S16x32x16384x1, .i1⟩
  | 50 => ⟨S1x1x1x1, .i32⟩
  | 51 => ⟨S16x32x16384x1, .i32⟩
  | 52 => ⟨S16x32x16384x1, .i1⟩
  | 53 => ⟨S16x32x16384x1, .i1⟩
  | 54 => ⟨S_, .i1⟩
  | 55 => ⟨S16x32x16384, .i1⟩
  | 56 => ⟨S16x32x16384, .f32⟩
  | 57 => ⟨S_, .f32⟩
  | 58 => ⟨S16x32x16384, .f32⟩
  | 59 => ⟨S16x32x16384, .f32⟩
  | 60 => ⟨S16x32x4096x4, .f32⟩
  | 61 => ⟨S16x1x4096x4, .i1⟩
  | 62 => ⟨S16x1x4096x4, .f32⟩
  | 63 => ⟨S16x32x4096x4, .f32⟩
  | 64 => ⟨S16x32x4096x4, .f32⟩
  | 65 => ⟨S16x1x4096x4, .f32⟩
  | 66 => ⟨S16x32x4096x4, .f32⟩
  | 67 => ⟨S16x32x4096x4, .f32⟩
  | 68 => ⟨S16x32x4096x4, .f32⟩
  | 69 => ⟨S_, .f32⟩
  | 70 => ⟨S16x4096x4, .f32⟩
  | 71 => ⟨S16x4096x4, .i1⟩
  | 72 => ⟨S_, .f32⟩
  | 73 => ⟨S16x4096x4, .f32⟩
  | 74 => ⟨S16x4096x4, .i1⟩
  | 75 => ⟨S16x4096x4, .i1⟩
  | 76 => ⟨S_, .f32⟩
  | 77 => ⟨S16x4096x4, .f32⟩
  | 78 => ⟨S16x4096x4, .i1⟩
  | 79 => ⟨S16x4096x4, .i1⟩
  | 80 => ⟨S_, .f32⟩
  | 81 => ⟨S16x4096x4, .f32⟩
  | 82 => ⟨S16x4096x4, .i1⟩
  | 83 => ⟨S16x4096x4, .i1⟩
  | 84 => ⟨S_, .i32⟩
  | 85 => ⟨S_, .i32⟩
  | 86 => ⟨S_, .f32⟩
  | 87 => ⟨S16x4096x4, .f32⟩
  | 88 => ⟨S16x4096x4, .f32⟩
  | 89 => ⟨S_, .f32⟩
  | 90 => ⟨S16x4096x4, .f32⟩
  | 91 => ⟨S16x4096x4, .f32⟩
  | 92 => ⟨S16x4096x4, .i32⟩
  | 93 => ⟨S_, .i32⟩
  | 94 => ⟨S_, .i32⟩
  | 95 => ⟨S_, .f32⟩
  | 96 => ⟨S16x4096x4, .f32⟩
  | 97 => ⟨S16x4096x4, .f32⟩
  | 98 => ⟨S_, .f32⟩
  | 99 => ⟨S16x4096x4, .f32⟩
  | 100 => ⟨S16x4096x4, .f32⟩
  | 101 => ⟨S16x4096x4, .i32⟩
  | 102 => ⟨S_, .i32⟩
  | 103 => ⟨S16x4096x4, .i32⟩
  | 104 => ⟨S16x4096x4, .i32⟩
  | 105 => ⟨S16x4096x4, .i32⟩
  | 106 => ⟨S16x16384, .i32⟩
  | 107 => ⟨S16x1x16384, .i32⟩
  | 108 => ⟨S16x32x16384, .i32⟩
  | 109 => ⟨S_, .i32⟩
  | 110 => ⟨S16x32x16384, .i32⟩
  | 111 => ⟨S16x32x16384, .i1⟩
  | 112 => ⟨S_, .i32⟩
  | 113 => ⟨S16x32x16384, .i32⟩
  | 114 => ⟨S16x32x16384, .i32⟩
  | 115 => ⟨S16x32x16384, .i32⟩
  | 116 => ⟨S16x32x16384x1, .i32⟩
  | 117 => ⟨S1, .i32⟩
  | 118 => ⟨S_, .i32⟩
  | 119 => ⟨S16x32x16384x1, .i32⟩
  | 120 => ⟨S16x32x16384x1, .i1⟩
  | 121 => ⟨S1x1x1x1, .i32⟩
  | 122 => ⟨S16x32x16384x1, .i32⟩
  | 123 => ⟨S16x32x16384x1, .i1⟩
  | 124 => ⟨S16x32x16384x1, .i1⟩
  | 125 => ⟨S_, .i1⟩
  | 126 => ⟨S16x32x16384, .i1⟩
  | 127 => ⟨S16x32x16384, .f32⟩
  | _ => ⟨S4x2x256x32x32, .f32⟩

abbrev hbmTy0_5 (i : Nat) : BufTy := match i % 128 with
  | 0 => ⟨S_, .f32⟩
  | 1 => ⟨S16x32x16384, .f32⟩
  | 2 => ⟨S16x32x16384, .f32⟩
  | 3 => ⟨S16x32x4096x4, .f32⟩
  | 4 => ⟨S16x1x4096x4, .i1⟩
  | 5 => ⟨S16x1x4096x4, .f32⟩
  | 6 => ⟨S16x32x4096x4, .f32⟩
  | 7 => ⟨S16x32x4096x4, .f32⟩
  | 8 => ⟨S16x1x4096x4, .f32⟩
  | 9 => ⟨S16x32x4096x4, .f32⟩
  | 10 => ⟨S16x32x4096x4, .f32⟩
  | 11 => ⟨S16x32x4096x4, .f32⟩
  | 12 => ⟨S_, .f32⟩
  | 13 => ⟨S16x4096x4, .f32⟩
  | 14 => ⟨S16x4096x4, .i1⟩
  | 15 => ⟨S_, .f32⟩
  | 16 => ⟨S16x4096x4, .f32⟩
  | 17 => ⟨S16x4096x4, .i1⟩
  | 18 => ⟨S16x4096x4, .i1⟩
  | 19 => ⟨S_, .f32⟩
  | 20 => ⟨S16x4096x4, .f32⟩
  | 21 => ⟨S16x4096x4, .i1⟩
  | 22 => ⟨S16x4096x4, .i1⟩
  | 23 => ⟨S_, .f32⟩
  | 24 => ⟨S16x4096x4, .f32⟩
  | 25 => ⟨S16x4096x4, .i1⟩
  | 26 => ⟨S16x4096x4, .i1⟩
  | 27 => ⟨S_, .i32⟩
  | 28 => ⟨S_, .i32⟩
  | 29 => ⟨S_, .f32⟩
  | 30 => ⟨S16x4096x4, .f32⟩
  | 31 => ⟨S16x4096x4, .f32⟩
  | 32 => ⟨S_, .f32⟩
  | 33 => ⟨S16x4096x4, .f32⟩
  | 34 => ⟨S16x4096x4, .f32⟩
  | 35 => ⟨S16x4096x4, .i32⟩
  | 36 => ⟨S_, .i32⟩
  | 37 => ⟨S_, .i32⟩
  | 38 => ⟨S_, .f32⟩
  | 39 => ⟨S16x4096x4, .f32⟩
  | 40 => ⟨S16x4096x4, .f32⟩
  | 41 => ⟨S_, .f32⟩
  | 42 => ⟨S16x4096x4, .f32⟩
  | 43 => ⟨S16x4096x4, .f32⟩
  | 44 => ⟨S16x4096x4, .i32⟩
  | 45 => ⟨S_, .i32⟩
  | 46 => ⟨S16x4096x4, .i32⟩
  | 47 => ⟨S16x4096x4, .i32⟩
  | 48 => ⟨S16x4096x4, .i32⟩
  | 49 => ⟨S16x16384, .i32⟩
  | 50 => ⟨S16x1x16384, .i32⟩
  | 51 => ⟨S16x32x16384, .i32⟩
  | 52 => ⟨S_, .i32⟩
  | 53 => ⟨S16x32x16384, .i32⟩
  | 54 => ⟨S16x32x16384, .i1⟩
  | 55 => ⟨S_, .i32⟩
  | 56 => ⟨S16x32x16384, .i32⟩
  | 57 => ⟨S16x32x16384, .i32⟩
  | 58 => ⟨S16x32x16384, .i32⟩
  | 59 => ⟨S16x32x16384x1, .i32⟩
  | 60 => ⟨S1, .i32⟩
  | 61 => ⟨S_, .i32⟩
  | 62 => ⟨S16x32x16384x1, .i32⟩
  | 63 => ⟨S16x32x16384x1, .i1⟩
  | 64 => ⟨S1x1x1x1, .i32⟩
  | 65 => ⟨S16x32x16384x1, .i32⟩
  | 66 => ⟨S16x32x16384x1, .i1⟩
  | 67 => ⟨S16x32x16384x1, .i1⟩
  | 68 => ⟨S_, .i1⟩
  | 69 => ⟨S16x32x16384, .i1⟩
  | 70 => ⟨S16x32x16384, .f32⟩
  | 71 => ⟨S_, .f32⟩
  | 72 => ⟨S16x32x16384, .f32⟩
  | 73 => ⟨S16x32x16384, .f32⟩
  | 74 => ⟨S16x32x4096x4, .f32⟩
  | 75 => ⟨S16x1x4096x4, .i1⟩
  | 76 => ⟨S16x1x4096x4, .f32⟩
  | 77 => ⟨S16x32x4096x4, .f32⟩
  | 78 => ⟨S16x32x4096x4, .f32⟩
  | 79 => ⟨S16x1x4096x4, .f32⟩
  | 80 => ⟨S16x32x4096x4, .f32⟩
  | 81 => ⟨S16x32x4096x4, .f32⟩
  | 82 => ⟨S16x32x4096x4, .f32⟩
  | 83 => ⟨S2x1024x8x32, .f32⟩
  | 84 => ⟨S2x8x32x1024, .f32⟩
  | 85 => ⟨S16x32x32x32, .f32⟩
  | 86 => ⟨S2x4096x8x1x4x2, .f32⟩
  | 87 => ⟨S2x4096x8x4x2, .f32⟩
  | 88 => ⟨S2x8x4096x4x2, .f32⟩
  | 89 => ⟨S16x4096x4x2, .f32⟩
  | 90 => ⟨S16x4096x4x1, .f32⟩
  | 91 => ⟨S16x4096x4, .f32⟩
  | 92 => ⟨S_, .f32⟩
  | 93 => ⟨S16x4096x4, .f32⟩
  | 94 => ⟨S16x4096x4, .f32⟩
  | 95 => ⟨S_, .f32⟩
  | 96 => ⟨S16x4096x4, .f32⟩
  | 97 => ⟨S16x4096x4, .f32⟩
  | 98 => ⟨S_, .f32⟩
  | 99 => ⟨S16x4096x4, .f32⟩
  | 100 => ⟨S16x4096x4, .f32⟩
  | 101 => ⟨S_, .f32⟩
  | 102 => ⟨S16x4096x4, .f32⟩
  | 103 => ⟨S16x4096x4, .f32⟩
  | 104 => ⟨S16x4096x4x1, .f32⟩
  | 105 => ⟨S16x4096x4, .f32⟩
  | 106 => ⟨S_, .f32⟩
  | 107 => ⟨S16x4096x4, .f32⟩
  | 108 => ⟨S16x4096x4, .f32⟩
  | 109 => ⟨S_, .f32⟩
  | 110 => ⟨S16x4096x4, .f32⟩
  | 111 => ⟨S16x4096x4, .f32⟩
  | 112 => ⟨S_, .f32⟩
  | 113 => ⟨S16x4096x4, .f32⟩
  | 114 => ⟨S16x4096x4, .f32⟩
  | 115 => ⟨S_, .f32⟩
  | 116 => ⟨S16x4096x4, .f32⟩
  | 117 => ⟨S16x4096x4, .f32⟩
  | 118 => ⟨S16x4096x4, .f32⟩
  | 119 => ⟨S16x4096x4, .f32⟩
  | 120 => ⟨S_, .f32⟩
  | 121 => ⟨S16x4096x4, .f32⟩
  | 122 => ⟨S16x4096x4, .f32⟩
  | 123 => ⟨S_, .f32⟩
  | 124 => ⟨S16x4096x4, .f32⟩
  | 125 => ⟨S16x4096x4, .f32⟩
  | 126 => ⟨S16x4096x4, .f32⟩
  | 127 => ⟨S16x4096x4, .f32⟩
  | _ => ⟨S4x2x256x32x32, .f32⟩

abbrev hbmTy0_6 (i : Nat) : BufTy := match i % 128 with
  | 0 => ⟨S16x4096x4, .f32⟩
  | 1 => ⟨S16x4096x4, .f32⟩
  | 2 => ⟨S16x4096x4, .f32⟩
  | 3 => ⟨S16x4096x4, .f32⟩
  | 4 => ⟨S16x4096x4, .f32⟩
  | 5 => ⟨S16x4096x4, .f32⟩
  | 6 => ⟨S16x4096x4, .f32⟩
  | 7 => ⟨S16x4096x4, .f32⟩
  | 8 => ⟨S16x4096x4, .f32⟩
  | 9 => ⟨S16x4096x4, .f32⟩
  | 10 => ⟨S16x32x1024, .f32⟩
  | 11 => ⟨S_, .f32⟩
  | 12 => ⟨S16x4096x4, .f32⟩
  | 13 => ⟨S16x4096x4, .i1⟩
  | 14 => ⟨S_, .f32⟩
  | 15 => ⟨S16x4096x4, .f32⟩
  | 16 => ⟨S16x4096x4, .i1⟩
  | 17 => ⟨S16x4096x4, .i1⟩
  | 18 => ⟨S_, .f32⟩
  | 19 => ⟨S16x4096x4, .f32⟩
  | 20 => ⟨S16x4096x4, .i1⟩
  | 21 => ⟨S16x4096x4, .i1⟩
  | 22 => ⟨S_, .f32⟩
  | 23 => ⟨S16x4096x4, .f32⟩
  | 24 => ⟨S16x4096x4, .i1⟩
  | 25 => ⟨S16x4096x4, .i1⟩
  | 26 => ⟨S_, .i32⟩
  | 27 => ⟨S_, .i32⟩
  | 28 => ⟨S_, .f32⟩
  | 29 => ⟨S16x4096x4, .f32⟩
  | 30 => ⟨S16x4096x4, .f32⟩
  | 31 => ⟨S_, .f32⟩
  | 32 => ⟨S16x4096x4, .f32⟩
  | 33 => ⟨S16x4096x4, .f32⟩
  | 34 => ⟨S16x4096x4, .i32⟩
  | 35 => ⟨S_, .i32⟩
  | 36 => ⟨S_, .i32⟩
  | 37 => ⟨S_, .f32⟩
  | 38 => ⟨S16x4096x4, .f32⟩
  | 39 => ⟨S16x4096x4, .f32⟩
  | 40 => ⟨S_, .f32⟩
  | 41 => ⟨S16x4096x4, .f32⟩
  | 42 => ⟨S16x4096x4, .f32⟩
  | 43 => ⟨S16x4096x4, .i32⟩
  | 44 => ⟨S_, .i32⟩
  | 45 => ⟨S16x4096x4, .i32⟩
  | 46 => ⟨S16x4096x4, .i32⟩
  | 47 => ⟨S16x4096x4, .i32⟩
  | 48 => ⟨S16x16384, .i32⟩
  | 49 => ⟨S16x1x16384, .i32⟩
  | 50 => ⟨S16x32x16384, .i32⟩
  | 51 => ⟨S_, .i32⟩
  | 52 => ⟨S16x32x16384, .i32⟩
  | 53 => ⟨S16x32x16384, .i1⟩
  | 54 => ⟨S_, .i32⟩
  | 55 => ⟨S16x32x16384, .i32⟩
  | 56 => ⟨S16x32x16384, .i32⟩
  | 57 => ⟨S16x32x16384, .i32⟩
  | 58 => ⟨S16x32x16384x1, .i32⟩
  | 59 => ⟨S1, .i32⟩
  | 60 => ⟨S_, .i32⟩
  | 61 => ⟨S16x32x16384x1, .i32⟩
  | 62 => ⟨S16x32x16384x1, .i1⟩
  | 63 => ⟨S1x1x1x1, .i32⟩
  | 64 => ⟨S16x32x16384x1, .i32⟩
  | 65 => ⟨S16x32x16384x1, .i1⟩
  | 66 => ⟨S16x32x16384x1, .i1⟩
  | 67 => ⟨S_, .i1⟩
  | 68 => ⟨S16x32x16384, .i1⟩
  | 69 => ⟨S16x32x16384, .f32⟩
  | 70 => ⟨S_, .f32⟩
  | 71 => ⟨S16x32x16384, .f32⟩
  | 72 => ⟨S16x32x16384, .f32⟩
  | 73 => ⟨S16x32x4096x4, .f32⟩
  | 74 => ⟨S16x1x4096x4, .i1⟩
  | 75 => ⟨S16x1x4096x4, .f32⟩
  | 76 => ⟨S16x32x4096x4, .f32⟩
  | 77 => ⟨S16x32x4096x4, .f32⟩
  | 78 => ⟨S16x1x4096x4, .f32⟩
  | 79 => ⟨S16x32x4096x4, .f32⟩
  | 80 => ⟨S16x32x4096x4, .f32⟩
  | 81 => ⟨S_, .f32⟩
  | 82 => ⟨S16x4096x4, .f32⟩
  | 83 => ⟨S16x4096x4, .i1⟩
  | 84 => ⟨S_, .f32⟩
  | 85 => ⟨S16x4096x4, .f32⟩
  | 86 => ⟨S16x4096x4, .i1⟩
  | 87 => ⟨S16x4096x4, .i1⟩
  | 88 => ⟨S_, .f32⟩
  | 89 => ⟨S16x4096x4, .f32⟩
  | 90 => ⟨S16x4096x4, .i1⟩
  | 91 => ⟨S16x4096x4, .i1⟩
  | 92 => ⟨S_, .f32⟩
  | 93 => ⟨S16x4096x4, .f32⟩
  | 94 => ⟨S16x4096x4, .i1⟩
  | 95 => ⟨S16x4096x4, .i1⟩
  | 96 => ⟨S_, .i32⟩
  | 97 => ⟨S_, .i32⟩
  | 98 => ⟨S_, .f32⟩
  | 99 => ⟨S16x4096x4, .f32⟩
  | 100 => ⟨S16x4096x4, .f32⟩
  | 101 => ⟨S_, .f32⟩
  | 102 => ⟨S16x4096x4, .f32⟩
  | 103 => ⟨S16x4096x4, .f32⟩
  | 104 => ⟨S16x4096x4, .i32⟩
  | 105 => ⟨S_, .i32⟩
  | 106 => ⟨S_, .i32⟩
  | 107 => ⟨S_, .f32⟩
  | 108 => ⟨S16x4096x4, .f32⟩
  | 109 => ⟨S16x4096x4, .f32⟩
  | 110 => ⟨S_, .f32⟩
  | 111 => ⟨S16x4096x4, .f32⟩
  | 112 => ⟨S16x4096x4, .f32⟩
  | 113 => ⟨S16x4096x4, .i32⟩
  | 114 => ⟨S_, .i32⟩
  | 115 => ⟨S16x4096x4, .i32⟩
  | 116 => ⟨S16x4096x4, .i32⟩
  | 117 => ⟨S16x4096x4, .i32⟩
  | 118 => ⟨S16x16384, .i32⟩
  | 119 => ⟨S16x1x16384, .i32⟩
  | 120 => ⟨S16x32x16384, .i32⟩
  | 121 => ⟨S_, .i32⟩
  | 122 => ⟨S16x32x16384, .i32⟩
  | 123 => ⟨S16x32x16384, .i1⟩
  | 124 => ⟨S_, .i32⟩
  | 125 => ⟨S16x32x16384, .i32⟩
  | 126 => ⟨S16x32x16384, .i32⟩
  | 127 => ⟨S16x32x16384, .i32⟩
  | _ => ⟨S4x2x256x32x32, .f32⟩

abbrev hbmTy0_7 (i : Nat) : BufTy := match i % 128 with
  | 0 => ⟨S16x32x16384x1, .i32⟩
  | 1 => ⟨S1, .i32⟩
  | 2 => ⟨S_, .i32⟩
  | 3 => ⟨S16x32x16384x1, .i32⟩
  | 4 => ⟨S16x32x16384x1, .i1⟩
  | 5 => ⟨S1x1x1x1, .i32⟩
  | 6 => ⟨S16x32x16384x1, .i32⟩
  | 7 => ⟨S16x32x16384x1, .i1⟩
  | 8 => ⟨S16x32x16384x1, .i1⟩
  | 9 => ⟨S_, .i1⟩
  | 10 => ⟨S16x32x16384, .i1⟩
  | 11 => ⟨S16x32x16384, .f32⟩
  | 12 => ⟨S_, .f32⟩
  | 13 => ⟨S16x32x16384, .f32⟩
  | 14 => ⟨S16x32x16384, .f32⟩
  | 15 => ⟨S16x32x4096x4, .f32⟩
  | 16 => ⟨S16x1x4096x4, .i1⟩
  | 17 => ⟨S16x1x4096x4, .f32⟩
  | 18 => ⟨S16x32x4096x4, .f32⟩
  | 19 => ⟨S16x32x4096x4, .f32⟩
  | 20 => ⟨S16x1x4096x4, .f32⟩
  | 21 => ⟨S16x32x4096x4, .f32⟩
  | 22 => ⟨S16x32x4096x4, .f32⟩
  | 23 => ⟨S16x32x4096x4, .f32⟩
  | 24 => ⟨S_, .f32⟩
  | 25 => ⟨S16x4096x4, .f32⟩
  | 26 => ⟨S16x4096x4, .i1⟩
  | 27 => ⟨S_, .f32⟩
  | 28 => ⟨S16x4096x4, .f32⟩
  | 29 => ⟨S16x4096x4, .i1⟩
  | 30 => ⟨S16x4096x4, .i1⟩
  | 31 => ⟨S_, .f32⟩
  | 32 => ⟨S16x4096x4, .f32⟩
  | 33 => ⟨S16x4096x4, .i1⟩
  | 34 => ⟨S16x4096x4, .i1⟩
  | 35 => ⟨S_, .f32⟩
  | 36 => ⟨S16x4096x4, .f32⟩
  | 37 => ⟨S16x4096x4, .i1⟩
  | 38 => ⟨S16x4096x4, .i1⟩
  | 39 => ⟨S_, .i32⟩
  | 40 => ⟨S_, .i32⟩
  | 41 => ⟨S_, .f32⟩
  | 42 => ⟨S16x4096x4, .f32⟩
  | 43 => ⟨S16x4096x4, .f32⟩
  | 44 => ⟨S_, .f32⟩
  | 45 => ⟨S16x4096x4, .f32⟩
  | 46 => ⟨S16x4096x4, .f32⟩
  | 47 => ⟨S16x4096x4, .i32⟩
  | 48 => ⟨S_, .i32⟩
  | 49 => ⟨S_, .i32⟩
  | 50 => ⟨S_, .f32⟩
  | 51 => ⟨S16x4096x4, .f32⟩
  | 52 => ⟨S16x4096x4, .f32⟩
  | 53 => ⟨S_, .f32⟩
  | 54 => ⟨S16x4096x4, .f32⟩
  | 55 => ⟨S16x4096x4, .f32⟩
  | 56 => ⟨S16x4096x4, .i32⟩
  | 57 => ⟨S_, .i32⟩
  | 58 => ⟨S16x4096x4, .i32⟩
  | 59 => ⟨S16x4096x4, .i32⟩
  | 60 => ⟨S16x4096x4, .i32⟩
  | 61 => ⟨S16x16384, .i32⟩
  | 62 => ⟨S16x1x16384, .i32⟩
  | 63 => ⟨S16x32x16384, .i32⟩
  | 64 => ⟨S_, .i32⟩
  | 65 => ⟨S16x32x16384, .i32⟩
  | 66 => ⟨S16x32x16384, .i1⟩
  | 67 => ⟨S_, .i32⟩
  | 68 => ⟨S16x32x16384, .i32⟩
  | 69 => ⟨S16x32x16384, .i32⟩
  | 70 => ⟨S16x32x16384, .i32⟩
  | 71 => ⟨S16x32x16384x1, .i32⟩
  | 72 => ⟨S1, .i32⟩
  | 73 => ⟨S_, .i32⟩
  | 74 => ⟨S16x32x16384x1, .i32⟩
  | 75 => ⟨S16x32x16384x1, .i1⟩
  | 76 => ⟨S1x1x1x1, .i32⟩
  | 77 => ⟨S16x32x16384x1, .i32⟩
  | 78 => ⟨S16x32x16384x1, .i1⟩
  | 79 => ⟨S16x32x16384x1, .i1⟩
  | 80 => ⟨S_, .i1⟩
  | 81 => ⟨S16x32x16384, .i1⟩
  | 82 => ⟨S16x32x16384, .f32⟩
  | 83 => ⟨S_, .f32⟩
  | 84 => ⟨S16x32x16384, .f32⟩
  | 85 => ⟨S16x32x16384, .f32⟩
  | 86 => ⟨S16x32x4096x4, .f32⟩
  | 87 => ⟨S16x1x4096x4, .i1⟩
  | 88 => ⟨S16x1x4096x4, .f32⟩
  | 89 => ⟨S16x32x4096x4, .f32⟩
  | 90 => ⟨S16x32x4096x4, .f32⟩
  | 91 => ⟨S16x1x4096x4, .f32⟩
  | 92 => ⟨S16x32x4096x4, .f32⟩
  | 93 => ⟨S16x32x4096x4, .f32⟩
  | 94 => ⟨S16x32x4096x4, .f32⟩
  | 95 => ⟨S_, .f32⟩
  | 96 => ⟨S16x4096x4, .f32⟩
  | 97 => ⟨S16x4096x4, .i1⟩
  | 98 => ⟨S_, .f32⟩
  | 99 => ⟨S16x4096x4, .f32⟩
  | 100 => ⟨S16x4096x4, .i1⟩
  | 101 => ⟨S16x4096x4, .i1⟩
  | 102 => ⟨S_, .f32⟩
  | 103 => ⟨S16x4096x4, .f32⟩
  | 104 => ⟨S16x4096x4, .i1⟩
  | 105 => ⟨S16x4096x4, .i1⟩
  | 106 => ⟨S_, .f32⟩
  | 107 => ⟨S16x4096x4, .f32⟩
  | 108 => ⟨S16x4096x4, .i1⟩
  | 109 => ⟨S16x4096x4, .i1⟩
  | 110 => ⟨S_, .i32⟩
  | 111 => ⟨S_, .i32⟩
  | 112 => ⟨S_, .f32⟩
  | 113 => ⟨S16x4096x4, .f32⟩
  | 114 => ⟨S16x4096x4, .f32⟩
  | 115 => ⟨S_, .f32⟩
  | 116 => ⟨S16x4096x4, .f32⟩
  | 117 => ⟨S16x4096x4, .f32⟩
  | 118 => ⟨S16x4096x4, .i32⟩
  | 119 => ⟨S_, .i32⟩
  | 120 => ⟨S_, .i32⟩
  | 121 => ⟨S_, .f32⟩
  | 122 => ⟨S16x4096x4, .f32⟩
  | 123 => ⟨S16x4096x4, .f32⟩
  | 124 => ⟨S_, .f32⟩
  | 125 => ⟨S16x4096x4, .f32⟩
  | 126 => ⟨S16x4096x4, .f32⟩
  | 127 => ⟨S16x4096x4, .i32⟩
  | _ => ⟨S4x2x256x32x32, .f32⟩

abbrev hbmTy0_8 (i : Nat) : BufTy := match i % 128 with
  | 0 => ⟨S_, .i32⟩
  | 1 => ⟨S16x4096x4, .i32⟩
  | 2 => ⟨S16x4096x4, .i32⟩
  | 3 => ⟨S16x4096x4, .i32⟩
  | 4 => ⟨S16x16384, .i32⟩
  | 5 => ⟨S16x1x16384, .i32⟩
  | 6 => ⟨S16x32x16384, .i32⟩
  | 7 => ⟨S_, .i32⟩
  | 8 => ⟨S16x32x16384, .i32⟩
  | 9 => ⟨S16x32x16384, .i1⟩
  | 10 => ⟨S_, .i32⟩
  | 11 => ⟨S16x32x16384, .i32⟩
  | 12 => ⟨S16x32x16384, .i32⟩
  | 13 => ⟨S16x32x16384, .i32⟩
  | 14 => ⟨S16x32x16384x1, .i32⟩
  | 15 => ⟨S1, .i32⟩
  | 16 => ⟨S_, .i32⟩
  | 17 => ⟨S16x32x16384x1, .i32⟩
  | 18 => ⟨S16x32x16384x1, .i1⟩
  | 19 => ⟨S1x1x1x1, .i32⟩
  | 20 => ⟨S16x32x16384x1, .i32⟩
  | 21 => ⟨S16x32x16384x1, .i1⟩
  | 22 => ⟨S16x32x16384x1, .i1⟩
  | 23 => ⟨S_, .i1⟩
  | 24 => ⟨S16x32x16384, .i1⟩
  | 25 => ⟨S16x32x16384, .f32⟩
  | 26 => ⟨S_, .f32⟩
  | 27 => ⟨S16x32x16384, .f32⟩
  | 28 => ⟨S16x32x16384, .f32⟩
  | 29 => ⟨S16x32x4096x4, .f32⟩
  | 30 => ⟨S16x1x4096x4, .i1⟩
  | 31 => ⟨S16x1x4096x4, .f32⟩
  | 32 => ⟨S16x32x4096x4, .f32⟩
  | 33 => ⟨S16x32x4096x4, .f32⟩
  | 34 => ⟨S16x1x4096x4, .f32⟩
  | 35 => ⟨S16x32x4096x4, .f32⟩
  | 36 => ⟨S16x32x4096x4, .f32⟩
  | 37 => ⟨S16x32x4096x4, .f32⟩
  | 38 => ⟨S2x1024x8x32, .f32⟩
  | 39 => ⟨S2x8x32x1024, .f32⟩
  | 40 => ⟨S16x32x32x32, .f32⟩
  | 41 => ⟨S2x4096x8x1x4x2, .f32⟩
  | 42 => ⟨S2x4096x8x4x2, .f32⟩
  | 43 => ⟨S2x8x4096x4x2, .f32⟩
  | 44 => ⟨S16x4096x4x2, .f32⟩
  | 45 => ⟨S16x4096x4x1, .f32⟩
  | 46 => ⟨S16x4096x4, .f32⟩
  | 47 => ⟨S_, .f32⟩
  | 48 => ⟨S16x4096x4, .f32⟩
  | 49 => ⟨S16x4096x4, .f32⟩
  | 50 => ⟨S_, .f32⟩
  | 51 => ⟨S16x4096x4, .f32⟩
  | 52 => ⟨S16x4096x4, .f32⟩
  | 53 => ⟨S_, .f32⟩
  | 54 => ⟨S16x4096x4, .f32⟩
  | 55 => ⟨S16x4096x4, .f32⟩
  | 56 => ⟨S_, .f32⟩
  | 57 => ⟨S16x4096x4, .f32⟩
  | 58 => ⟨S16x4096x4, .f32⟩
  | 59 => ⟨S16x4096x4x1, .f32⟩
  | 60 => ⟨S16x4096x4, .f32⟩
  | 61 => ⟨S_, .f32⟩
  | 62 => ⟨S16x4096x4, .f32⟩
  | 63 => ⟨S16x4096x4, .f32⟩
  | 64 => ⟨S_, .f32⟩
  | 65 => ⟨S16x4096x4, .f32⟩
  | 66 => ⟨S16x4096x4, .f32⟩
  | 67 => ⟨S_, .f32⟩
  | 68 => ⟨S16x4096x4, .f32⟩
  | 69 => ⟨S16x4096x4, .f32⟩
  | 70 => ⟨S_, .f32⟩
  | 71 => ⟨S16x4096x4, .f32⟩
  | 72 => ⟨S16x4096x4, .f32⟩
  | 73 => ⟨S16x4096x4, .f32⟩
  | 74 => ⟨S16x4096x4, .f32⟩
  | 75 => ⟨S_, .f32⟩
  | 76 => ⟨S16x4096x4, .f32⟩
  | 77 => ⟨S16x4096x4, .f32⟩
  | 78 => ⟨S_, .f32⟩
  | 79 => ⟨S16x4096x4, .f32⟩
  | 80 => ⟨S16x4096x4, .f32⟩
  | 81 => ⟨S16x4096x4, .f32⟩
  | 82 => ⟨S16x4096x4, .f32⟩
  | 83 => ⟨S16x4096x4, .f32⟩
  | 84 => ⟨S16x4096x4, .f32⟩
  | 85 => ⟨S16x4096x4, .f32⟩
  | 86 => ⟨S16x4096x4, .f32⟩
  | 87 => ⟨S16x4096x4, .f32⟩
  | 88 => ⟨S16x4096x4, .f32⟩
  | 89 => ⟨S16x4096x4, .f32⟩
  | 90 => ⟨S16x4096x4, .f32⟩
  | 91 => ⟨S16x4096x4, .f32⟩
  | 92 => ⟨S16x4096x4, .f32⟩
  | 93 => ⟨S16x32x1024, .f32⟩
  | 94 => ⟨S_, .f32⟩
  | 95 => ⟨S16x4096x4, .f32⟩
  | 96 => ⟨S16x4096x4, .i1⟩
  | 97 => ⟨S_, .f32⟩
  | 98 => ⟨S16x4096x4, .f32⟩
  | 99 => ⟨S16x4096x4, .i1⟩
  | 100 => ⟨S16x4096x4, .i1⟩
  | 101 => ⟨S_, .f32⟩
  | 102 => ⟨S16x4096x4, .f32⟩
  | 103 => ⟨S16x4096x4, .i1⟩
  | 104 => ⟨S16x4096x4, .i1⟩
  | 105 => ⟨S_, .f32⟩
  | 106 => ⟨S16x4096x4, .f32⟩
  | 107 => ⟨S16x4096x4, .i1⟩
  | 108 => ⟨S16x4096x4, .i1⟩
  | 109 => ⟨S_, .i32⟩
  | 110 => ⟨S_, .i32⟩
  | 111 => ⟨S_, .f32⟩
  | 112 => ⟨S16x4096x4, .f32⟩
  | 113 => ⟨S16x4096x4, .f32⟩
  | 114 => ⟨S_, .f32⟩
  | 115 => ⟨S16x4096x4, .f32⟩
  | 116 => ⟨S16x4096x4, .f32⟩
  | 117 => ⟨S16x4096x4, .i32⟩
  | 118 => ⟨S_, .i32⟩
  | 119 => ⟨S_, .i32⟩
  | 120 => ⟨S_, .f32⟩
  | 121 => ⟨S16x4096x4, .f32⟩
  | 122 => ⟨S16x4096x4, .f32⟩
  | 123 => ⟨S_, .f32⟩
  | 124 => ⟨S16x4096x4, .f32⟩
  | 125 => ⟨S16x4096x4, .f32⟩
  | 126 => ⟨S16x4096x4, .i32⟩
  | 127 => ⟨S_, .i32⟩
  | _ => ⟨S4x2x256x32x32, .f32⟩

abbrev hbmTy0_9 (i : Nat) : BufTy := match i % 128 with
  | 0 => ⟨S16x4096x4, .i32⟩
  | 1 => ⟨S16x4096x4, .i32⟩
  | 2 => ⟨S16x4096x4, .i32⟩
  | 3 => ⟨S16x16384, .i32⟩
  | 4 => ⟨S16x1x16384, .i32⟩
  | 5 => ⟨S16x32x16384, .i32⟩
  | 6 => ⟨S_, .i32⟩
  | 7 => ⟨S16x32x16384, .i32⟩
  | 8 => ⟨S16x32x16384, .i1⟩
  | 9 => ⟨S_, .i32⟩
  | 10 => ⟨S16x32x16384, .i32⟩
  | 11 => ⟨S16x32x16384, .i32⟩
  | 12 => ⟨S16x32x16384, .i32⟩
  | 13 => ⟨S16x32x16384x1, .i32⟩
  | 14 => ⟨S1, .i32⟩
  | 15 => ⟨S_, .i32⟩
  | 16 => ⟨S16x32x16384x1, .i32⟩
  | 17 => ⟨S16x32x16384x1, .i1⟩
  | 18 => ⟨S1x1x1x1, .i32⟩
  | 19 => ⟨S16x32x16384x1, .i32⟩
  | 20 => ⟨S16x32x16384x1, .i1⟩
  | 21 => ⟨S16x32x16384x1, .i1⟩
  | 22 => ⟨S_, .i1⟩
  | 23 => ⟨S16x32x16384, .i1⟩
  | 24 => ⟨S16x32x16384, .f32⟩
  | 25 => ⟨S_, .f32⟩
  | 26 => ⟨S16x32x16384, .f32⟩
  | 27 => ⟨S16x32x16384, .f32⟩
  | 28 => ⟨S16x32x4096x4, .f32⟩
  | 29 => ⟨S16x1x4096x4, .i1⟩
  | 30 => ⟨S16x1x4096x4, .f32⟩
  | 31 => ⟨S16x32x4096x4, .f32⟩
  | 32 => ⟨S16x32x4096x4, .f32⟩
  | 33 => ⟨S16x1x4096x4, .f32⟩
  | 34 => ⟨S16x32x4096x4, .f32⟩
  | 35 => ⟨S16x32x4096x4, .f32⟩
  | 36 => ⟨S_, .f32⟩
  | 37 => ⟨S16x4096x4, .f32⟩
  | 38 => ⟨S16x4096x4, .i1⟩
  | 39 => ⟨S_, .f32⟩
  | 40 => ⟨S16x4096x4, .f32⟩
  | 41 => ⟨S16x4096x4, .i1⟩
  | 42 => ⟨S16x4096x4, .i1⟩
  | 43 => ⟨S_, .f32⟩
  | 44 => ⟨S16x4096x4, .f32⟩
  | 45 => ⟨S16x4096x4, .i1⟩
  | 46 => ⟨S16x4096x4, .i1⟩
  | 47 => ⟨S_, .f32⟩
  | 48 => ⟨S16x4096x4, .f32⟩
  | 49 => ⟨S16x4096x4, .i1⟩
  | 50 => ⟨S16x4096x4, .i1⟩
  | 51 => ⟨S_, .i32⟩
  | 52 => ⟨S_, .i32⟩
  | 53 => ⟨S_, .f32⟩
  | 54 => ⟨S16x4096x4, .f32⟩
  | 55 => ⟨S16x4096x4, .f32⟩
  | 56 => ⟨S_, .f32⟩
  | 57 => ⟨S16x4096x4, .f32⟩
  | 58 => ⟨S16x4096x4, .f32⟩
  | 59 => ⟨S16x4096x4, .i32⟩
  | 60 => ⟨S_, .i32⟩
  | 61 => ⟨S_, .i32⟩
  | 62 => ⟨S_, .f32⟩
  | 63 => ⟨S16x4096x4, .f32⟩
  | 64 => ⟨S16x4096x4, .f32⟩
  | 65 => ⟨S_, .f32⟩
  | 66 => ⟨S16x4096x4, .f32⟩
  | 67 => ⟨S16x4096x4, .f32⟩
  | 68 => ⟨S16x4096x4, .i32⟩
  | 69 => ⟨S_, .i32⟩
  | 70 => ⟨S16x4096x4, .i32⟩
  | 71 => ⟨S16x4096x4, .i32⟩
  | 72 => ⟨S16x4096x4, .i32⟩
  | 73 => ⟨S16x16384, .i32⟩
  | 74 => ⟨S16x1x16384, .i32⟩
  | 75 => ⟨S16x32x16384, .i32⟩
  | 76 => ⟨S_, .i32⟩
  | 77 => ⟨S16x32x16384, .i32⟩
  | 78 => ⟨S16x32x16384, .i1⟩
  | 79 => ⟨S_, .i32⟩
  | 80 => ⟨S16x32x16384, .i32⟩
  | 81 => ⟨S16x32x16384, .i32⟩
  | 82 => ⟨S16x32x16384, .i32⟩
  | 83 => ⟨S16x32x16384x1, .i32⟩
  | 84 => ⟨S1, .i32⟩
  | 85 => ⟨S_, .i32⟩
  | 86 => ⟨S16x32x16384x1, .i32⟩
  | 87 => ⟨S16x32x16384x1, .i1⟩
  | 88 => ⟨S1x1x1x1, .i32⟩
  | 89 => ⟨S16x32x16384x1, .i32⟩
  | 90 => ⟨S16x32x16384x1, .i1⟩
  | 91 => ⟨S16x32x16384x1, .i1⟩
  | 92 => ⟨S_, .i1⟩
  | 93 => ⟨S16x32x16384, .i1⟩
  | 94 => ⟨S16x32x16384, .f32⟩
  | 95 => ⟨S_, .f32⟩
  | 96 => ⟨S16x32x16384, .f32⟩
  | 97 => ⟨S16x32x16384, .f32⟩
  | 98 => ⟨S16x32x4096x4, .f32⟩
  | 99 => ⟨S16x1x4096x4, .i1⟩
  | 100 => ⟨S16x1x4096x4, .f32⟩
  | 101 => ⟨S16x32x4096x4, .f32⟩
  | 102 => ⟨S16x32x4096x4, .f32⟩
  | 103 => ⟨S16x1x4096x4, .f32⟩
  | 104 => ⟨S16x32x4096x4, .f32⟩
  | 105 => ⟨S16x32x4096x4, .f32⟩
  | 106 => ⟨S16x32x4096x4, .f32⟩
  | 107 => ⟨S_, .f32⟩
  | 108 => ⟨S16x4096x4, .f32⟩
  | 109 => ⟨S16x4096x4, .i1⟩
  | 110 => ⟨S_, .f32⟩
  | 111 => ⟨S16x4096x4, .f32⟩
  | 112 => ⟨S16x4096x4, .i1⟩
  | 113 => ⟨S16x4096x4, .i1⟩
  | 114 => ⟨S_, .f32⟩
  | 115 => ⟨S16x4096x4, .f32⟩
  | 116 => ⟨S16x4096x4, .i1⟩
  | 117 => ⟨S16x4096x4, .i1⟩
  | 118 => ⟨S_, .f32⟩
  | 119 => ⟨S16x4096x4, .f32⟩
  | 120 => ⟨S16x4096x4, .i1⟩
  | 121 => ⟨S16x4096x4, .i1⟩
  | 122 => ⟨S_, .i32⟩
  | 123 => ⟨S_, .i32⟩
  | 124 => ⟨S_, .f32⟩
  | 125 => ⟨S16x4096x4, .f32⟩
  | 126 => ⟨S16x4096x4, .f32⟩
  | 127 => ⟨S_, .f32⟩
  | _ => ⟨S4x2x256x32x32, .f32⟩

abbrev hbmTy0_10 (i : Nat) : BufTy := match i % 128 with
  | 0 => ⟨S16x4096x4, .f32⟩
  | 1 => ⟨S16x4096x4, .f32⟩
  | 2 => ⟨S16x4096x4, .i32⟩
  | 3 => ⟨S_, .i32⟩
  | 4 => ⟨S_, .i32⟩
  | 5 => ⟨S_, .f32⟩
  | 6 => ⟨S16x4096x4, .f32⟩
  | 7 => ⟨S16x4096x4, .f32⟩
  | 8 => ⟨S_, .f32⟩
  | 9 => ⟨S16x4096x4, .f32⟩
  | 10 => ⟨S16x4096x4, .f32⟩
  | 11 => ⟨S16x4096x4, .i32⟩
  | 12 => ⟨S_, .i32⟩
  | 13 => ⟨S16x4096x4, .i32⟩
  | 14 => ⟨S16x4096x4, .i32⟩
  | 15 => ⟨S16x4096x4, .i32⟩
  | 16 => ⟨S16x16384, .i32⟩
  | 17 => ⟨S16x1x16384, .i32⟩
  | 18 => ⟨S16x32x16384, .i32⟩
  | 19 => ⟨S_, .i32⟩
  | 20 => ⟨S16x32x16384, .i32⟩
  | 21 => ⟨S16x32x16384, .i1⟩
  | 22 => ⟨S_, .i32⟩
  | 23 => ⟨S16x32x16384, .i32⟩
  | 24 => ⟨S16x32x16384, .i32⟩
  | 25 => ⟨S16x32x16384, .i32⟩
  | 26 => ⟨S16x32x16384x1, .i32⟩
  | 27 => ⟨S1, .i32⟩
  | 28 => ⟨S_, .i32⟩
  | 29 => ⟨S16x32x16384x1, .i32⟩
  | 30 => ⟨S16x32x16384x1, .i1⟩
  | 31 => ⟨S1x1x1x1, .i32⟩
  | 32 => ⟨S16x32x16384x1, .i32⟩
  | 33 => ⟨S16x32x16384x1, .i1⟩
  | 34 => ⟨S16x32x16384x1, .i1⟩
  | 35 => ⟨S_, .i1⟩
  | 36 => ⟨S16x32x16384, .i1⟩
  | 37 => ⟨S16x32x16384, .f32⟩
  | 38 => ⟨S_, .f32⟩
  | 39 => ⟨S16x32x16384, .f32⟩
  | 40 => ⟨S16x32x16384, .f32⟩
  | 41 => ⟨S16x32x4096x4, .f32⟩
  | 42 => ⟨S16x1x4096x4, .i1⟩
  | 43 => ⟨S16x1x4096x4, .f32⟩
  | 44 => ⟨S16x32x4096x4, .f32⟩
  | 45 => ⟨S16x32x4096x4, .f32⟩
  | 46 => ⟨S16x1x4096x4, .f32⟩
  | 47 => ⟨S16x32x4096x4, .f32⟩
  | 48 => ⟨S16x32x4096x4, .f32⟩
  | 49 => ⟨S16x32x4096x4, .f32⟩
  | 50 => ⟨S_, .f32⟩
  | 51 => ⟨S16x4096x4, .f32⟩
  | 52 => ⟨S16x4096x4, .i1⟩
  | 53 => ⟨S_, .f32⟩
  | 54 => ⟨S16x4096x4, .f32⟩
  | 55 => ⟨S16x4096x4, .i1⟩
  | 56 => ⟨S16x4096x4, .i1⟩
  | 57 => ⟨S_, .f32⟩
  | 58 => ⟨S16x4096x4, .f32⟩
  | 59 => ⟨S16x4096x4, .i1⟩
  | 60 => ⟨S16x4096x4, .i1⟩
  | 61 => ⟨S_, .f32⟩
  | 62 => ⟨S16x4096x4, .f32⟩
  | 63 => ⟨S16x4096x4, .i1⟩
  | 64 => ⟨S16x4096x4, .i1⟩
  | 65 => ⟨S_, .i32⟩
  | 66 => ⟨S_, .i32⟩
  | 67 => ⟨S_, .f32⟩
  | 68 => ⟨S16x4096x4, .f32⟩
  | 69 => ⟨S16x4096x4, .f32⟩
  | 70 => ⟨S_, .f32⟩
  | 71 => ⟨S16x4096x4, .f32⟩
  | 72 => ⟨S16x4096x4, .f32⟩
  | 73 => ⟨S16x4096x4, .i32⟩
  | 74 => ⟨S_, .i32⟩
  | 75 => ⟨S_, .i32⟩
  | 76 => ⟨S_, .f32⟩
  | 77 => ⟨S16x4096x4, .f32⟩
  | 78 => ⟨S16x4096x4, .f32⟩
  | 79 => ⟨S_, .f32⟩
  | 80 => ⟨S16x4096x4, .f32⟩
  | 81 => ⟨S16x4096x4, .f32⟩
  | 82 => ⟨S16x4096x4, .i32⟩
  | 83 => ⟨S_, .i32⟩
  | 84 => ⟨S16x4096x4, .i32⟩
  | 85 => ⟨S16x4096x4, .i32⟩
  | 86 => ⟨S16x4096x4, .i32⟩
  | 87 => ⟨S16x16384, .i32⟩
  | 88 => ⟨S16x1x16384, .i32⟩
  | 89 => ⟨S16x32x16384, .i32⟩
  | 90 => ⟨S_, .i32⟩
  | 91 => ⟨S16x32x16384, .i32⟩
  | 92 => ⟨S16x32x16384, .i1⟩
  | 93 => ⟨S_, .i32⟩
  | 94 => ⟨S16x32x16384, .i32⟩
  | 95 => ⟨S16x32x16384, .i32⟩
  | 96 => ⟨S16x32x16384, .i32⟩
  | 97 => ⟨S16x32x16384x1, .i32⟩
  | 98 => ⟨S1, .i32⟩
  | 99 => ⟨S_, .i32⟩
  | 100 => ⟨S16x32x16384x1, .i32⟩
  | 101 => ⟨S16x32x16384x1, .i1⟩
  | 102 => ⟨S1x1x1x1, .i32⟩
  | 103 => ⟨S16x32x16384x1, .i32⟩
  | 104 => ⟨S16x32x16384x1, .i1⟩
  | 105 => ⟨S16x32x16384x1, .i1⟩
  | 106 => ⟨S_, .i1⟩
  | 107 => ⟨S16x32x16384, .i1⟩
  | 108 => ⟨S16x32x16384, .f32⟩
  | 109 => ⟨S_, .f32⟩
  | 110 => ⟨S16x32x16384, .f32⟩
  | 111 => ⟨S16x32x16384, .f32⟩
  | 112 => ⟨S16x32x4096x4, .f32⟩
  | 113 => ⟨S16x1x4096x4, .i1⟩
  | 114 => ⟨S16x1x4096x4, .f32⟩
  | 115 => ⟨S16x32x4096x4, .f32⟩
  | 116 => ⟨S16x32x4096x4, .f32⟩
  | 117 => ⟨S16x1x4096x4, .f32⟩
  | 118 => ⟨S16x32x4096x4, .f32⟩
  | 119 => ⟨S16x32x4096x4, .f32⟩
  | 120 => ⟨S16x32x4096x4, .f32⟩
  | 121 => ⟨S2x1024x8x32, .f32⟩
  | 122 => ⟨S2x8x32x1024, .f32⟩
  | 123 => ⟨S16x32x32x32, .f32⟩
  | 124 => ⟨S2x4096x8x1x4x2, .f32⟩
  | 125 => ⟨S2x4096x8x4x2, .f32⟩
  | 126 => ⟨S2x8x4096x4x2, .f32⟩
  | 127 => ⟨S16x4096x4x2, .f32⟩
  | _ => ⟨S4x2x256x32x32, .f32⟩

abbrev hbmTy0_11 (i : Nat) : BufTy := match i % 128 with
  | 0 => ⟨S16x4096x4x1, .f32⟩
  | 1 => ⟨S16x4096x4, .f32⟩
  | 2 => ⟨S_, .f32⟩
  | 3 => ⟨S16x4096x4, .f32⟩
  | 4 => ⟨S16x4096x4, .f32⟩
  | 5 => ⟨S_, .f32⟩
  | 6 => ⟨S16x4096x4, .f32⟩
  | 7 => ⟨S16x4096x4, .f32⟩
  | 8 => ⟨S_, .f32⟩
  | 9 => ⟨S16x4096x4, .f32⟩
  | 10 => ⟨S16x4096x4, .f32⟩
  | 11 => ⟨S_, .f32⟩
  | 12 => ⟨S16x4096x4, .f32⟩
  | 13 => ⟨S16x4096x4, .f32⟩
  | 14 => ⟨S16x4096x4x1, .f32⟩
  | 15 => ⟨S16x4096x4, .f32⟩
  | 16 => ⟨S_, .f32⟩
  | 17 => ⟨S16x4096x4, .f32⟩
  | 18 => ⟨S16x4096x4, .f32⟩
  | 19 => ⟨S_, .f32⟩
  | 20 => ⟨S16x4096x4, .f32⟩
  | 21 => ⟨S16x4096x4, .f32⟩
  | 22 => ⟨S_, .f32⟩
  | 23 => ⟨S16x4096x4, .f32⟩
  | 24 => ⟨S16x4096x4, .f32⟩
  | 25 => ⟨S_, .f32⟩
  | 26 => ⟨S16x4096x4, .f32⟩
  | 27 => ⟨S16x4096x4, .f32⟩
  | 28 => ⟨S16x4096x4, .f32⟩
  | 29 => ⟨S16x4096x4, .f32⟩
  | 30 => ⟨S_, .f32⟩
  | 31 => ⟨S16x4096x4, .f32⟩
  | 32 => ⟨S16x4096x4, .f32⟩
  | 33 => ⟨S_, .f32⟩
  | 34 => ⟨S16x4096x4, .f32⟩
  | 35 => ⟨S16x4096x4, .f32⟩
  | 36 => ⟨S16x4096x4, .f32⟩
  | 37 => ⟨S16x4096x4, .f32⟩
  | 38 => ⟨S16x4096x4, .f32⟩
  | 39 => ⟨S16x4096x4, .f32⟩
  | 40 => ⟨S16x4096x4, .f32⟩
  | 41 => ⟨S16x4096x4, .f32⟩
  | 42 => ⟨S16x4096x4, .f32⟩
  | 43 => ⟨S16x4096x4, .f32⟩
  | 44 => ⟨S16x4096x4, .f32⟩
  | 45 => ⟨S16x4096x4, .f32⟩
  | 46 => ⟨S16x4096x4, .f32⟩
  | 47 => ⟨S16x4096x4, .f32⟩
  | 48 => ⟨S16x32x1024, .f32⟩
  | 49 => ⟨S_, .f32⟩
  | 50 => ⟨S16x4096x4, .f32⟩
  | 51 => ⟨S16x4096x4, .i1⟩
  | 52 => ⟨S_, .f32⟩
  | 53 => ⟨S16x4096x4, .f32⟩
  | 54 => ⟨S16x4096x4, .i1⟩
  | 55 => ⟨S16x4096x4, .i1⟩
  | 56 => ⟨S_, .f32⟩
  | 57 => ⟨S16x4096x4, .f32⟩
  | 58 => ⟨S16x4096x4, .i1⟩
  | 59 => ⟨S16x4096x4, .i1⟩
  | 60 => ⟨S_, .f32⟩
  | 61 => ⟨S16x4096x4, .f32⟩
  | 62 => ⟨S16x4096x4, .i1⟩
  | 63 => ⟨S16x4096x4, .i1⟩
  | 64 => ⟨S_, .i32⟩
  | 65 => ⟨S_, .i32⟩
  | 66 => ⟨S_, .f32⟩
  | 67 => ⟨S16x4096x4, .f32⟩
  | 68 => ⟨S16x4096x4, .f32⟩
  | 69 => ⟨S_, .f32⟩
  | 70 => ⟨S16x4096x4, .f32⟩
  | 71 => ⟨S16x4096x4, .f32⟩
  | 72 => ⟨S16x4096x4, .i32⟩
  | 73 => ⟨S_, .i32⟩
  | 74 => ⟨S_, .i32⟩
  | 75 => ⟨S_, .f32⟩
  | 76 => ⟨S16x4096x4, .f32⟩
  | 77 => ⟨S16x4096x4, .f32⟩
  | 78 => ⟨S_, .f32⟩
  | 79 => ⟨S16x4096x4, .f32⟩
  | 80 => ⟨S16x4096x4, .f32⟩
  | 81 => ⟨S16x4096x4, .i32⟩
  | 82 => ⟨S_, .i32⟩
  | 83 => ⟨S16x4096x4, .i32⟩
  | 84 => ⟨S16x4096x4, .i32⟩
  | 85 => ⟨S16x4096x4, .i32⟩
  | 86 => ⟨S16x16384, .i32⟩
  | 87 => ⟨S16x1x16384, .i32⟩
  | 88 => ⟨S16x32x16384, .i32⟩
  | 89 => ⟨S_, .i32⟩
  | 90 => ⟨S16x32x16384, .i32⟩
  | 91 => ⟨S16x32x16384, .i1⟩
  | 92 => ⟨S_, .i32⟩
  | 93 => ⟨S16x32x16384, .i32⟩
  | 94 => ⟨S16x32x16384, .i32⟩
  | 95 => ⟨S16x32x16384, .i32⟩
  | 96 => ⟨S16x32x16384x1, .i32⟩
  | 97 => ⟨S1, .i32⟩
  | 98 => ⟨S_, .i32⟩
  | 99 => ⟨S16x32x16384x1, .i32⟩
  | 100 => ⟨S16x32x16384x1, .i1⟩
  | 101 => ⟨S1x1x1x1, .i32⟩
  | 102 => ⟨S16x32x16384x1, .i32⟩
  | 103 => ⟨S16x32x16384x1, .i1⟩
  | 104 => ⟨S16x32x16384x1, .i1⟩
  | 105 => ⟨S_, .i1⟩
  | 106 => ⟨S16x32x16384, .i1⟩
  | 107 => ⟨S16x32x16384, .f32⟩
  | 108 => ⟨S_, .f32⟩
  | 109 => ⟨S16x32x16384, .f32⟩
  | 110 => ⟨S16x32x16384, .f32⟩
  | 111 => ⟨S16x32x4096x4, .f32⟩
  | 112 => ⟨S16x1x4096x4, .i1⟩
  | 113 => ⟨S16x1x4096x4, .f32⟩
  | 114 => ⟨S16x32x4096x4, .f32⟩
  | 115 => ⟨S16x32x4096x4, .f32⟩
  | 116 => ⟨S16x1x4096x4, .f32⟩
  | 117 => ⟨S16x32x4096x4, .f32⟩
  | 118 => ⟨S16x32x4096x4, .f32⟩
  | 119 => ⟨S_, .f32⟩
  | 120 => ⟨S16x4096x4, .f32⟩
  | 121 => ⟨S16x4096x4, .i1⟩
  | 122 => ⟨S_, .f32⟩
  | 123 => ⟨S16x4096x4, .f32⟩
  | 124 => ⟨S16x4096x4, .i1⟩
  | 125 => ⟨S16x4096x4, .i1⟩
  | 126 => ⟨S_, .f32⟩
  | 127 => ⟨S16x4096x4, .f32⟩
  | _ => ⟨S4x2x256x32x32, .f32⟩

abbrev hbmTy0_12 (i : Nat) : BufTy := match i % 128 with
  | 0 => ⟨S16x4096x4, .i1⟩
  | 1 => ⟨S16x4096x4, .i1⟩
  | 2 => ⟨S_, .f32⟩
  | 3 => ⟨S16x4096x4, .f32⟩
  | 4 => ⟨S16x4096x4, .i1⟩
  | 5 => ⟨S16x4096x4, .i1⟩
  | 6 => ⟨S_, .i32⟩
  | 7 => ⟨S_, .i32⟩
  | 8 => ⟨S_, .f32⟩
  | 9 => ⟨S16x4096x4, .f32⟩
  | 10 => ⟨S16x4096x4, .f32⟩
  | 11 => ⟨S_, .f32⟩
  | 12 => ⟨S16x4096x4, .f32⟩
  | 13 => ⟨S16x4096x4, .f32⟩
  | 14 => ⟨S16x4096x4, .i32⟩
  | 15 => ⟨S_, .i32⟩
  | 16 => ⟨S_, .i32⟩
  | 17 => ⟨S_, .f32⟩
  | 18 => ⟨S16x4096x4, .f32⟩
  | 19 => ⟨S16x4096x4, .f32⟩
  | 20 => ⟨S_, .f32⟩
  | 21 => ⟨S16x4096x4, .f32⟩
  | 22 => ⟨S16x4096x4, .f32⟩
  | 23 => ⟨S16x4096x4, .i32⟩
  | 24 => ⟨S_, .i32⟩
  | 25 => ⟨S16x4096x4, .i32⟩
  | 26 => ⟨S16x4096x4, .i32⟩
  | 27 => ⟨S16x4096x4, .i32⟩
  | 28 => ⟨S16x16384, .i32⟩
  | 29 => ⟨S16x1x16384, .i32⟩
  | 30 => ⟨S16x32x16384, .i32⟩
  | 31 => ⟨S_, .i32⟩
  | 32 => ⟨S16x32x16384, .i32⟩
  | 33 => ⟨S16x32x16384, .i1⟩
  | 34 => ⟨S_, .i32⟩
  | 35 => ⟨S16x32x16384, .i32⟩
  | 36 => ⟨S16x32x16384, .i32⟩
  | 37 => ⟨S16x32x16384, .i32⟩
  | 38 => ⟨S16x32x16384x1, .i32⟩
  | 39 => ⟨S1, .i32⟩
  | 40 => ⟨S_, .i32⟩
  | 41 => ⟨S16x32x16384x1, .i32⟩
  | 42 => ⟨S16x32x16384x1, .i1⟩
  | 43 => ⟨S1x1x1x1, .i32⟩
  | 44 => ⟨S16x32x16384x1, .i32⟩
  | 45 => ⟨S16x32x16384x1, .i1⟩
  | 46 => ⟨S16x32x16384x1, .i1⟩
  | 47 => ⟨S_, .i1⟩
  | 48 => ⟨S16x32x16384, .i1⟩
  | 49 => ⟨S16x32x16384, .f32⟩
  | 50 => ⟨S_, .f32⟩
  | 51 => ⟨S16x32x16384, .f32⟩
  | 52 => ⟨S16x32x16384, .f32⟩
  | 53 => ⟨S16x32x4096x4, .f32⟩
  | 54 => ⟨S16x1x4096x4, .i1⟩
  | 55 => ⟨S16x1x4096x4, .f32⟩
  | 56 => ⟨S16x32x4096x4, .f32⟩
  | 57 => ⟨S16x32x4096x4, .f32⟩
  | 58 => ⟨S16x1x4096x4, .f32⟩
  | 59 => ⟨S16x32x4096x4, .f32⟩
  | 60 => ⟨S16x32x4096x4, .f32⟩
  | 61 => ⟨S16x32x4096x4, .f32⟩
  | 62 => ⟨S_, .f32⟩
  | 63 => ⟨S16x4096x4, .f32⟩
  | 64 => ⟨S16x4096x4, .i1⟩
  | 65 => ⟨S_, .f32⟩
  | 66 => ⟨S16x4096x4, .f32⟩
  | 67 => ⟨S16x4096x4, .i1⟩
  | 68 => ⟨S16x4096x4, .i1⟩
  | 69 => ⟨S_, .f32⟩
  | 70 => ⟨S16x4096x4, .f32⟩
  | 71 => ⟨S16x4096x4, .i1⟩
  | 72 => ⟨S16x4096x4, .i1⟩
  | 73 => ⟨S_, .f32⟩
  | 74 => ⟨S16x4096x4, .f32⟩
  | 75 => ⟨S16x4096x4, .i1⟩
  | 76 => ⟨S16x4096x4, .i1⟩
  | 77 => ⟨S_, .i32⟩
  | 78 => ⟨S_, .i32⟩
  | 79 => ⟨S_, .f32⟩
  | 80 => ⟨S16x4096x4, .f32⟩
  | 81 => ⟨S16x4096x4, .f32⟩
  | 82 => ⟨S_, .f32⟩
  | 83 => ⟨S16x4096x4, .f32⟩
  | 84 => ⟨S16x4096x4, .f32⟩
  | 85 => ⟨S16x4096x4, .i32⟩
  | 86 => ⟨S_, .i32⟩
  | 87 => ⟨S_, .i32⟩
  | 88 => ⟨S_, .f32⟩
  | 89 => ⟨S16x4096x4, .f32⟩
  | 90 => ⟨S16x4096x4, .f32⟩
  | 91 => ⟨S_, .f32⟩
  | 92 => ⟨S16x4096x4, .f32⟩
  | 93 => ⟨S16x4096x4, .f32⟩
  | 94 => ⟨S16x4096x4, .i32⟩
  | 95 => ⟨S_, .i32⟩
  | 96 => ⟨S16x4096x4, .i32⟩
  | 97 => ⟨S16x4096x4, .i32⟩
  | 98 => ⟨S16x4096x4, .i32⟩
  | 99 => ⟨S16x16384, .i32⟩
  | 100 => ⟨S16x1x16384, .i32⟩
  | 101 => ⟨S16x32x16384, .i32⟩
  | 102 => ⟨S_, .i32⟩
  | 103 => ⟨S16x32x16384, .i32⟩
  | 104 => ⟨S16x32x16384, .i1⟩
  | 105 => ⟨S_, .i32⟩
  | 106 => ⟨S16x32x16384, .i32⟩
  | 107 => ⟨S16x32x16384, .i32⟩
  | 108 => ⟨S16x32x16384, .i32⟩
  | 109 => ⟨S16x32x16384x1, .i32⟩
  | 110 => ⟨S1, .i32⟩
  | 111 => ⟨S_, .i32⟩
  | 112 => ⟨S16x32x16384x1, .i32⟩
  | 113 => ⟨S16x32x16384x1, .i1⟩
  | 114 => ⟨S1x1x1x1, .i32⟩
  | 115 => ⟨S16x32x16384x1, .i32⟩
  | 116 => ⟨S16x32x16384x1, .i1⟩
  | 117 => ⟨S16x32x16384x1, .i1⟩
  | 118 => ⟨S_, .i1⟩
  | 119 => ⟨S16x32x16384, .i1⟩
  | 120 => ⟨S16x32x16384, .f32⟩
  | 121 => ⟨S_, .f32⟩
  | 122 => ⟨S16x32x16384, .f32⟩
  | 123 => ⟨S16x32x16384, .f32⟩
  | 124 => ⟨S16x32x4096x4, .f32⟩
  | 125 => ⟨S16x1x4096x4, .i1⟩
  | 126 => ⟨S16x1x4096x4, .f32⟩
  | 127 => ⟨S16x32x4096x4, .f32⟩
  | _ => ⟨S4x2x256x32x32, .f32⟩

abbrev hbmTy0_13 (i : Nat) : BufTy := match i % 128 with
  | 0 => ⟨S16x32x4096x4, .f32⟩
  | 1 => ⟨S16x1x4096x4, .f32⟩
  | 2 => ⟨S16x32x4096x4, .f32⟩
  | 3 => ⟨S16x32x4096x4, .f32⟩
  | 4 => ⟨S16x32x4096x4, .f32⟩
  | 5 => ⟨S_, .f32⟩
  | 6 => ⟨S16x4096x4, .f32⟩
  | 7 => ⟨S16x4096x4, .i1⟩
  | 8 => ⟨S_, .f32⟩
  | 9 => ⟨S16x4096x4, .f32⟩
  | 10 => ⟨S16x4096x4, .i1⟩
  | 11 => ⟨S16x4096x4, .i1⟩
  | 12 => ⟨S_, .f32⟩
  | 13 => ⟨S16x4096x4, .f32⟩
  | 14 => ⟨S16x4096x4, .i1⟩
  | 15 => ⟨S16x4096x4, .i1⟩
  | 16 => ⟨S_, .f32⟩
  | 17 => ⟨S16x4096x4, .f32⟩
  | 18 => ⟨S16x4096x4, .i1⟩
  | 19 => ⟨S16x4096x4, .i1⟩
  | 20 => ⟨S_, .i32⟩
  | 21 => ⟨S_, .i32⟩
  | 22 => ⟨S_, .f32⟩
  | 23 => ⟨S16x4096x4, .f32⟩
  | 24 => ⟨S16x4096x4, .f32⟩
  | 25 => ⟨S_, .f32⟩
  | 26 => ⟨S16x4096x4, .f32⟩
  | 27 => ⟨S16x4096x4, .f32⟩
  | 28 => ⟨S16x4096x4, .i32⟩
  | 29 => ⟨S_, .i32⟩
  | 30 => ⟨S_, .i32⟩
  | 31 => ⟨S_, .f32⟩
  | 32 => ⟨S16x4096x4, .f32⟩
  | 33 => ⟨S16x4096x4, .f32⟩
  | 34 => ⟨S_, .f32⟩
  | 35 => ⟨S16x4096x4, .f32⟩
  | 36 => ⟨S16x4096x4, .f32⟩
  | 37 => ⟨S16x4096x4, .i32⟩
  | 38 => ⟨S_, .i32⟩
  | 39 => ⟨S16x4096x4, .i32⟩
  | 40 => ⟨S16x4096x4, .i32⟩
  | 41 => ⟨S16x4096x4, .i32⟩
  | 42 => ⟨S16x16384, .i32⟩
  | 43 => ⟨S16x1x16384, .i32⟩
  | 44 => ⟨S16x32x16384, .i32⟩
  | 45 => ⟨S_, .i32⟩
  | 46 => ⟨S16x32x16384, .i32⟩
  | 47 => ⟨S16x32x16384, .i1⟩
  | 48 => ⟨S_, .i32⟩
  | 49 => ⟨S16x32x16384, .i32⟩
  | 50 => ⟨S16x32x16384, .i32⟩
  | 51 => ⟨S16x32x16384, .i32⟩
  | 52 => ⟨S16x32x16384x1, .i32⟩
  | 53 => ⟨S1, .i32⟩
  | 54 => ⟨S_, .i32⟩
  | 55 => ⟨S16x32x16384x1, .i32⟩
  | 56 => ⟨S16x32x16384x1, .i1⟩
  | 57 => ⟨S1x1x1x1, .i32⟩
  | 58 => ⟨S16x32x16384x1, .i32⟩
  | 59 => ⟨S16x32x16384x1, .i1⟩
  | 60 => ⟨S16x32x16384x1, .i1⟩
  | 61 => ⟨S_, .i1⟩
  | 62 => ⟨S16x32x16384, .i1⟩
  | 63 => ⟨S16x32x16384, .f32⟩
  | 64 => ⟨S_, .f32⟩
  | 65 => ⟨S16x32x16384, .f32⟩
  | 66 => ⟨S16x32x16384, .f32⟩
  | 67 => ⟨S16x32x4096x4, .f32⟩
  | 68 => ⟨S16x1x4096x4, .i1⟩
  | 69 => ⟨S16x1x4096x4, .f32⟩
  | 70 => ⟨S16x32x4096x4, .f32⟩
  | 71 => ⟨S16x32x4096x4, .f32⟩
  | 72 => ⟨S16x1x4096x4, .f32⟩
  | 73 => ⟨S16x32x4096x4, .f32⟩
  | 74 => ⟨S16x32x4096x4, .f32⟩
  | 75 => ⟨S16x32x4096x4, .f32⟩
  | 76 => ⟨S16x32x4096x1x4, .f32⟩
  | 77 => ⟨S16x32x4096x1x4, .f32⟩
  | 78 => ⟨S16x32x4096x1x4, .f32⟩
  | 79 => ⟨S16x32x4096x1x4, .f32⟩
  | 80 => ⟨S16x32x4096x4x4, .f32⟩
  | 81 => ⟨S16x32x4096x16, .f32⟩
  | 82 => ⟨S2x8x4096x4x4, .f32⟩
  | 83 => ⟨S16x1x4096x16, .f32⟩
  | 84 => ⟨S16x32x4096x16, .f32⟩
  | 85 => ⟨S16x32x4096x16, .f32⟩
  | 86 => ⟨S_, .f32⟩
  | 87 => ⟨S16x32x4096, .f32⟩
  | 88 => ⟨S2x256x4096, .f32⟩
  | 89 => ⟨S2x4096x256, .f32⟩
  | 90 => ⟨S1x256x256, .f32⟩
  | 91 => ⟨S256x256, .f32⟩
  | 92 => ⟨S2x4096x256, .f32⟩
  | 93 => ⟨S1x256, .f32⟩
  | 94 => ⟨S256, .f32⟩
  | 95 => ⟨S1x1x256, .f32⟩
  | 96 => ⟨S2x4096x256, .f32⟩
  | 97 => ⟨S2x4096x256, .f32⟩
  | 98 => ⟨S2x4096x256, .f32⟩
  | 99 => ⟨S1x256, .f32⟩
  | 100 => ⟨S256, .f32⟩
  | 101 => ⟨S1x256, .f32⟩
  | 102 => ⟨S256, .f32⟩
  | 103 => ⟨S_, .f32⟩
  | 104 => ⟨S2x4096, .f32⟩
  | 105 => ⟨S2x4096x1, .f32⟩
  | 106 => ⟨S_, .f32⟩
  | 107 => ⟨S2x4096x1, .f32⟩
  | 108 => ⟨S2x4096x1, .f32⟩
  | 109 => ⟨S2x4096x256, .f32⟩
  | 110 => ⟨S2x4096x256, .f32⟩
  | 111 => ⟨S2x4096x256, .f32⟩
  | 112 => ⟨S_, .f32⟩
  | 113 => ⟨S2x4096, .f32⟩
  | 114 => ⟨S2x4096x1, .f32⟩
  | 115 => ⟨S_, .f32⟩
  | 116 => ⟨S2x4096x1, .f32⟩
  | 117 => ⟨S2x4096x1, .f32⟩
  | 118 => ⟨S2x4096x256, .f32⟩
  | 119 => ⟨S2x4096x256, .f32⟩
  | 120 => ⟨S_, .f32⟩
  | 121 => ⟨S2x4096x1, .f32⟩
  | 122 => ⟨S2x4096x1, .f32⟩
  | 123 => ⟨S2x4096x1, .f32⟩
  | 124 => ⟨S2x4096x256, .f32⟩
  | 125 => ⟨S2x4096x256, .f32⟩
  | 126 => ⟨S1x1x256, .f32⟩
  | 127 => ⟨S2x4096x256, .f32⟩
  | _ => ⟨S4x2x256x32x32, .f32⟩

abbrev hbmTy0_14 (i : Nat) : BufTy := match i % 128 with
  | 0 => ⟨S2x4096x256, .f32⟩
  | 1 => ⟨S1x1x256, .f32⟩
  | 2 => ⟨S2x4096x256, .f32⟩
  | 3 => ⟨S2x4096x256, .f32⟩
  | 4 => ⟨S1x256x1024, .f32⟩
  | 5 => ⟨S256x1024, .f32⟩
  | 6 => ⟨S2x4096x1024, .f32⟩
  | 7 => ⟨S1x1024, .f32⟩
  | 8 => ⟨S1024, .f32⟩
  | 9 => ⟨S1x1x1024, .f32⟩
  | 10 => ⟨S2x4096x1024, .f32⟩
  | 11 => ⟨S2x4096x1024, .f32⟩
  | 12 => ⟨S_, .f32⟩
  | 13 => ⟨S2x4096x1024, .f32⟩
  | 14 => ⟨S2x4096x1024, .f32⟩
  | 15 => ⟨S1x1024x256, .f32⟩
  | 16 => ⟨S1024x256, .f32⟩
  | 17 => ⟨S2x4096x256, .f32⟩
  | 18 => ⟨S1x256, .f32⟩
  | 19 => ⟨S256, .f32⟩
  | 20 => ⟨S1x1x256, .f32⟩
  | 21 => ⟨S2x4096x256, .f32⟩
  | 22 => ⟨S2x4096x256, .f32⟩
  | 23 => ⟨S2x4096x256, .f32⟩
  | 24 => ⟨S1x256, .f32⟩
  | 25 => ⟨S256, .f32⟩
  | 26 => ⟨S1x256, .f32⟩
  | 27 => ⟨S256, .f32⟩
  | 28 => ⟨S_, .f32⟩
  | 29 => ⟨S2x4096, .f32⟩
  | 30 => ⟨S2x4096x1, .f32⟩
  | 31 => ⟨S_, .f32⟩
  | 32 => ⟨S2x4096x1, .f32⟩
  | 33 => ⟨S2x4096x1, .f32⟩
  | 34 => ⟨S2x4096x256, .f32⟩
  | 35 => ⟨S2x4096x256, .f32⟩
  | 36 => ⟨S2x4096x256, .f32⟩
  | 37 => ⟨S_, .f32⟩
  | 38 => ⟨S2x4096, .f32⟩
  | 39 => ⟨S2x4096x1, .f32⟩
  | 40 => ⟨S_, .f32⟩
  | 41 => ⟨S2x4096x1, .f32⟩
  | 42 => ⟨S2x4096x1, .f32⟩
  | 43 => ⟨S2x4096x256, .f32⟩
  | 44 => ⟨S2x4096x256, .f32⟩
  | 45 => ⟨S_, .f32⟩
  | 46 => ⟨S2x4096x1, .f32⟩
  | 47 => ⟨S2x4096x1, .f32⟩
  | 48 => ⟨S2x4096x1, .f32⟩
  | 49 => ⟨S2x4096x256, .f32⟩
  | 50 => ⟨S2x4096x256, .f32⟩
  | 51 => ⟨S1x1x256, .f32⟩
  | 52 => ⟨S2x4096x256, .f32⟩
  | 53 => ⟨S2x4096x256, .f32⟩
  | 54 => ⟨S1x1x256, .f32⟩
  | 55 => ⟨S2x4096x256, .f32⟩
  | 56 => ⟨S2x4096x256, .f32⟩
  | 57 => ⟨S2x4096x256, .f32⟩
  | 58 => ⟨S1x256x256, .f32⟩
  | 59 => ⟨S256x256, .f32⟩
  | 60 => ⟨S2x4096x256, .f32⟩
  | 61 => ⟨S1x256, .f32⟩
  | 62 => ⟨S256, .f32⟩
  | 63 => ⟨S1x1x256, .f32⟩
  | 64 => ⟨S2x4096x256, .f32⟩
  | 65 => ⟨S2x4096x256, .f32⟩
  | 66 => ⟨S2x4096x8x32, .f32⟩
  | 67 => ⟨S1x256x256, .f32⟩
  | 68 => ⟨S256x256, .f32⟩
  | 69 => ⟨S2x4096x256, .f32⟩
  | 70 => ⟨S1x256, .f32⟩
  | 71 => ⟨S256, .f32⟩
  | 72 => ⟨S1x1x256, .f32⟩
  | 73 => ⟨S2x4096x256, .f32⟩
  | 74 => ⟨S2x4096x256, .f32⟩
  | 75 => ⟨S2x4096x8x4x4x2, .f32⟩
  | 76 => ⟨S1x256x128, .f32⟩
  | 77 => ⟨S256x128, .f32⟩
  | 78 => ⟨S2x4096x128, .f32⟩
  | 79 => ⟨S1x128, .f32⟩
  | 80 => ⟨S128, .f32⟩
  | 81 => ⟨S1x1x128, .f32⟩
  | 82 => ⟨S2x4096x128, .f32⟩
  | 83 => ⟨S2x4096x128, .f32⟩
  | 84 => ⟨S2x4096x8x16, .f32⟩
  | 85 => ⟨S_, .f32⟩
  | 86 => ⟨S2x4096x8, .f32⟩
  | 87 => ⟨S_, .f32⟩
  | 88 => ⟨S2x4096x8, .f32⟩
  | 89 => ⟨S2x4096x8, .f32⟩
  | 90 => ⟨S2x4096x8x1, .f32⟩
  | 91 => ⟨S2x4096x8x16, .f32⟩
  | 92 => ⟨S2x4096x8x16, .f32⟩
  | 93 => ⟨S2x4096x8x16, .f32⟩
  | 94 => ⟨S_, .f32⟩
  | 95 => ⟨S2x4096x8, .f32⟩
  | 96 => ⟨S2x4096x8x1, .f32⟩
  | 97 => ⟨S2x4096x8x16, .f32⟩
  | 98 => ⟨S2x4096x8x16, .f32⟩
  | 99 => ⟨S2x4096x8x4x4, .f32⟩
  | 100 => ⟨S2x4096x1x4x1x2, .f32⟩
  | 101 => ⟨S1x1x1x4x1x2, .f32⟩
  | 102 => ⟨S2x4096x8x4x4x2, .f32⟩
  | 103 => ⟨S2x4096x8x4x4x2, .f32⟩
  | 104 => ⟨S2x4096x8x4x4x2, .f32⟩
  | 105 => ⟨S2x4096x8x4x4x2, .f32⟩
  | 106 => ⟨S_, .f32⟩
  | 107 => ⟨S2x4096x8x4x4x2, .f32⟩
  | 108 => ⟨S2x4096x8x4x4x2, .f32⟩
  | 109 => ⟨S_, .f32⟩
  | 110 => ⟨S2x4096x8x4x4x2, .f32⟩
  | 111 => ⟨S2x4096x8x4x4x2, .f32⟩
  | 112 => ⟨S2x1024x8x32, .f32⟩
  | 113 => ⟨S2x8x32x1024, .f32⟩
  | 114 => ⟨S16x32x32x32, .f32⟩
  | 115 => ⟨S2x4096x8x1x4x2, .f32⟩
  | 116 => ⟨S2x4096x8x4x2, .f32⟩
  | 117 => ⟨S2x8x4096x4x2, .f32⟩
  | 118 => ⟨S16x4096x4x2, .f32⟩
  | 119 => ⟨S16x4096x4x1, .f32⟩
  | 120 => ⟨S16x4096x4, .f32⟩
  | 121 => ⟨S_, .f32⟩
  | 122 => ⟨S16x4096x4, .f32⟩
  | 123 => ⟨S16x4096x4, .f32⟩
  | 124 => ⟨S_, .f32⟩
  | 125 => ⟨S16x4096x4, .f32⟩
  | 126 => ⟨S16x4096x4, .f32⟩
  | 127 => ⟨S_, .f32⟩
  | _ => ⟨S4x2x256x32x32, .f32⟩

abbrev hbmTy0_15 (i : Nat) : BufTy := match i % 128 with
  | 0 => ⟨S16x4096x4, .f32⟩
  | 1 => ⟨S16x4096x4, .f32⟩
  | 2 => ⟨S_, .f32⟩
  | 3 => ⟨S16x4096x4, .f32⟩
  | 4 => ⟨S16x4096x4, .f32⟩
  | 5 => ⟨S16x4096x4x1, .f32⟩
  | 6 => ⟨S16x4096x4, .f32⟩
  | 7 => ⟨S_, .f32⟩
  | 8 => ⟨S16x4096x4, .f32⟩
  | 9 => ⟨S16x4096x4, .f32⟩
  | 10 => ⟨S_, .f32⟩
  | 11 => ⟨S16x4096x4, .f32⟩
  | 12 => ⟨S16x4096x4, .f32⟩
  | 13 => ⟨S_, .f32⟩
  | 14 => ⟨S16x4096x4, .f32⟩
  | 15 => ⟨S16x4096x4, .f32⟩
  | 16 => ⟨S_, .f32⟩
  | 17 => ⟨S16x4096x4, .f32⟩
  | 18 => ⟨S16x4096x4, .f32⟩
  | 19 => ⟨S16x4096x4, .f32⟩
  | 20 => ⟨S16x4096x4, .f32⟩
  | 21 => ⟨S_, .f32⟩
  | 22 => ⟨S16x4096x4, .f32⟩
  | 23 => ⟨S16x4096x4, .f32⟩
  | 24 => ⟨S_, .f32⟩
  | 25 => ⟨S16x4096x4, .f32⟩
  | 26 => ⟨S16x4096x4, .f32⟩
  | 27 => ⟨S16x4096x4, .f32⟩
  | 28 => ⟨S16x4096x4, .f32⟩
  | 29 => ⟨S16x4096x4, .f32⟩
  | 30 => ⟨S16x4096x4, .f32⟩
  | 31 => ⟨S16x4096x4, .f32⟩
  | 32 => ⟨S16x4096x4, .f32⟩
  | 33 => ⟨S16x4096x4, .f32⟩
  | 34 => ⟨S16x4096x4, .f32⟩
  | 35 => ⟨S16x4096x4, .f32⟩
  | 36 => ⟨S16x4096x4, .f32⟩
  | 37 => ⟨S16x4096x4, .f32⟩
  | 38 => ⟨S16x4096x4, .f32⟩
  | 39 => ⟨S16x32x1024, .f32⟩
  | 40 => ⟨S_, .f32⟩
  | 41 => ⟨S16x4096x4, .f32⟩
  | 42 => ⟨S16x4096x4, .i1⟩
  | 43 => ⟨S_, .f32⟩
  | 44 => ⟨S16x4096x4, .f32⟩
  | 45 => ⟨S16x4096x4, .i1⟩
  | 46 => ⟨S16x4096x4, .i1⟩
  | 47 => ⟨S_, .f32⟩
  | 48 => ⟨S16x4096x4, .f32⟩
  | 49 => ⟨S16x4096x4, .i1⟩
  | 50 => ⟨S16x4096x4, .i1⟩
  | 51 => ⟨S_, .f32⟩
  | 52 => ⟨S16x4096x4, .f32⟩
  | 53 => ⟨S16x4096x4, .i1⟩
  | 54 => ⟨S16x4096x4, .i1⟩
  | 55 => ⟨S_, .i32⟩
  | 56 => ⟨S_, .i32⟩
  | 57 => ⟨S_, .f32⟩
  | 58 => ⟨S16x4096x4, .f32⟩
  | 59 => ⟨S16x4096x4, .f32⟩
  | 60 => ⟨S_, .f32⟩
  | 61 => ⟨S16x4096x4, .f32⟩
  | 62 => ⟨S16x4096x4, .f32⟩
  | 63 => ⟨S16x4096x4, .i32⟩
  | 64 => ⟨S_, .i32⟩
  | 65 => ⟨S_, .i32⟩
  | 66 => ⟨S_, .f32⟩
  | 67 => ⟨S16x4096x4, .f32⟩
  | 68 => ⟨S16x4096x4, .f32⟩
  | 69 => ⟨S_, .f32⟩
  | 70 => ⟨S16x4096x4, .f32⟩
  | 71 => ⟨S16x4096x4, .f32⟩
  | 72 => ⟨S16x4096x4, .i32⟩
  | 73 => ⟨S_, .i32⟩
  | 74 => ⟨S16x4096x4, .i32⟩
  | 75 => ⟨S16x4096x4, .i32⟩
  | 76 => ⟨S16x4096x4, .i32⟩
  | 77 => ⟨S16x16384, .i32⟩
  | 78 => ⟨S16x1x16384, .i32⟩
  | 79 => ⟨S16x32x16384, .i32⟩
  | 80 => ⟨S_, .i32⟩
  | 81 => ⟨S16x32x16384, .i32⟩
  | 82 => ⟨S16x32x16384, .i1⟩
  | 83 => ⟨S_, .i32⟩
  | 84 => ⟨S16x32x16384, .i32⟩
  | 85 => ⟨S16x32x16384, .i32⟩
  | 86 => ⟨S16x32x16384, .i32⟩
  | 87 => ⟨S16x32x16384x1, .i32⟩
  | 88 => ⟨S1, .i32⟩
  | 89 => ⟨S_, .i32⟩
  | 90 => ⟨S16x32x16384x1, .i32⟩
  | 91 => ⟨S16x32x16384x1, .i1⟩
  | 92 => ⟨S1x1x1x1, .i32⟩
  | 93 => ⟨S16x32x16384x1, .i32⟩
  | 94 => ⟨S16x32x16384x1, .i1⟩
  | 95 => ⟨S16x32x16384x1, .i1⟩
  | 96 => ⟨S_, .i1⟩
  | 97 => ⟨S16x32x16384, .i1⟩
  | 98 => ⟨S16x32x16384, .f32⟩
  | 99 => ⟨S_, .f32⟩
  | 100 => ⟨S16x32x16384, .f32⟩
  | 101 => ⟨S16x32x16384, .f32⟩
  | 102 => ⟨S16x32x4096x4, .f32⟩
  | 103 => ⟨S16x1x4096x4, .i1⟩
  | 104 => ⟨S16x1x4096x4, .f32⟩
  | 105 => ⟨S16x32x4096x4, .f32⟩
  | 106 => ⟨S16x32x4096x4, .f32⟩
  | 107 => ⟨S16x1x4096x4, .f32⟩
  | 108 => ⟨S16x32x4096x4, .f32⟩
  | 109 => ⟨S16x32x4096x4, .f32⟩
  | 110 => ⟨S_, .f32⟩
  | 111 => ⟨S16x4096x4, .f32⟩
  | 112 => ⟨S16x4096x4, .i1⟩
  | 113 => ⟨S_, .f32⟩
  | 114 => ⟨S16x4096x4, .f32⟩
  | 115 => ⟨S16x4096x4, .i1⟩
  | 116 => ⟨S16x4096x4, .i1⟩
  | 117 => ⟨S_, .f32⟩
  | 118 => ⟨S16x4096x4, .f32⟩
  | 119 => ⟨S16x4096x4, .i1⟩
  | 120 => ⟨S16x4096x4, .i1⟩
  | 121 => ⟨S_, .f32⟩
  | 122 => ⟨S16x4096x4, .f32⟩
  | 123 => ⟨S16x4096x4, .i1⟩
  | 124 => ⟨S16x4096x4, .i1⟩
  | 125 => ⟨S_, .i32⟩
  | 126 => ⟨S_, .i32⟩
  | 127 => ⟨S_, .f32⟩
  | _ => ⟨S4x2x256x32x32, .f32⟩

abbrev hbmTy0_16 (i : Nat) : BufTy := match i % 128 with
  | 0 => ⟨S16x4096x4, .f32⟩
  | 1 => ⟨S16x4096x4, .f32⟩
  | 2 => ⟨S_, .f32⟩
  | 3 => ⟨S16x4096x4, .f32⟩
  | 4 => ⟨S16x4096x4, .f32⟩
  | 5 => ⟨S16x4096x4, .i32⟩
  | 6 => ⟨S_, .i32⟩
  | 7 => ⟨S_, .i32⟩
  | 8 => ⟨S_, .f32⟩
  | 9 => ⟨S16x4096x4, .f32⟩
  | 10 => ⟨S16x4096x4, .f32⟩
  | 11 => ⟨S_, .f32⟩
  | 12 => ⟨S16x4096x4, .f32⟩
  | 13 => ⟨S16x4096x4, .f32⟩
  | 14 => ⟨S16x4096x4, .i32⟩
  | 15 => ⟨S_, .i32⟩
  | 16 => ⟨S16x4096x4, .i32⟩
  | 17 => ⟨S16x4096x4, .i32⟩
  | 18 => ⟨S16x4096x4, .i32⟩
  | 19 => ⟨S16x16384, .i32⟩
  | 20 => ⟨S16x1x16384, .i32⟩
  | 21 => ⟨S16x32x16384, .i32⟩
  | 22 => ⟨S_, .i32⟩
  | 23 => ⟨S16x32x16384, .i32⟩
  | 24 => ⟨S16x32x16384, .i1⟩
  | 25 => ⟨S_, .i32⟩
  | 26 => ⟨S16x32x16384, .i32⟩
  | 27 => ⟨S16x32x16384, .i32⟩
  | 28 => ⟨S16x32x16384, .i32⟩
  | 29 => ⟨S16x32x16384x1, .i32⟩
  | 30 => ⟨S1, .i32⟩
  | 31 => ⟨S_, .i32⟩
  | 32 => ⟨S16x32x16384x1, .i32⟩
  | 33 => ⟨S16x32x16384x1, .i1⟩
  | 34 => ⟨S1x1x1x1, .i32⟩
  | 35 => ⟨S16x32x16384x1, .i32⟩
  | 36 => ⟨S16x32x16384x1, .i1⟩
  | 37 => ⟨S16x32x16384x1, .i1⟩
  | 38 => ⟨S_, .i1⟩
  | 39 => ⟨S16x32x16384, .i1⟩
  | 40 => ⟨S16x32x16384, .f32⟩
  | 41 => ⟨S_, .f32⟩
  | 42 => ⟨S16x32x16384, .f32⟩
  | 43 => ⟨S16x32x16384, .f32⟩
  | 44 => ⟨S16x32x4096x4, .f32⟩
  | 45 => ⟨S16x1x4096x4, .i1⟩
  | 46 => ⟨S16x1x4096x4, .f32⟩
  | 47 => ⟨S16x32x4096x4, .f32⟩
  | 48 => ⟨S16x32x4096x4, .f32⟩
  | 49 => ⟨S16x1x4096x4, .f32⟩
  | 50 => ⟨S16x32x4096x4, .f32⟩
  | 51 => ⟨S16x32x4096x4, .f32⟩
  | 52 => ⟨S16x32x4096x4, .f32⟩
  | 53 => ⟨S_, .f32⟩
  | 54 => ⟨S16x4096x4, .f32⟩
  | 55 => ⟨S16x4096x4, .i1⟩
  | 56 => ⟨S_, .f32⟩
  | 57 => ⟨S16x4096x4, .f32⟩
  | 58 => ⟨S16x4096x4, .i1⟩
  | 59 => ⟨S16x4096x4, .i1⟩
  | 60 => ⟨S_, .f32⟩
  | 61 => ⟨S16x4096x4, .f32⟩
  | 62 => ⟨S16x4096x4, .i1⟩
  | 63 => ⟨S16x4096x4, .i1⟩
  | 64 => ⟨S_, .f32⟩
  | 65 => ⟨S16x4096x4, .f32⟩
  | 66 => ⟨S16x4096x4, .i1⟩
  | 67 => ⟨S16x4096x4, .i1⟩
  | 68 => ⟨S_, .i32⟩
  | 69 => ⟨S_, .i32⟩
  | 70 => ⟨S_, .f32⟩
  | 71 => ⟨S16x4096x4, .f32⟩
  | 72 => ⟨S16x4096x4, .f32⟩
  | 73 => ⟨S_, .f32⟩
  | 74 => ⟨S16x4096x4, .f32⟩
  | 75 => ⟨S16x4096x4, .f32⟩
  | 76 => ⟨S16x4096x4, .i32⟩
  | 77 => ⟨S_, .i32⟩
  | 78 => ⟨S_, .i32⟩
  | 79 => ⟨S_, .f32⟩
  | 80 => ⟨S16x4096x4, .f32⟩
  | 81 => ⟨S16x4096x4, .f32⟩
  | 82 => ⟨S_, .f32⟩
  | 83 => ⟨S16x4096x4, .f32⟩
  | 84 => ⟨S16x4096x4, .f32⟩
  | 85 => ⟨S16x4096x4, .i32⟩
  | 86 => ⟨S_, .i32⟩
  | 87 => ⟨S16x4096x4, .i32⟩
  | 88 => ⟨S16x4096x4, .i32⟩
  | 89 => ⟨S16x4096x4, .i32⟩
  | 90 => ⟨S16x16384, .i32⟩
  | 91 => ⟨S16x1x16384, .i32⟩
  | 92 => ⟨S16x32x16384, .i32⟩
  | 93 => ⟨S_, .i32⟩
  | 94 => ⟨S16x32x16384, .i32⟩
  | 95 => ⟨S16x32x16384, .i1⟩
  | 96 => ⟨S_, .i32⟩
  | 97 => ⟨S16x32x16384, .i32⟩
  | 98 => ⟨S16x32x16384, .i32⟩
  | 99 => ⟨S16x32x16384, .i32⟩
  | 100 => ⟨S16x32x16384x1, .i32⟩
  | 101 => ⟨S1, .i32⟩
  | 102 => ⟨S_, .i32⟩
  | 103 => ⟨S16x32x16384x1, .i32⟩
  | 104 => ⟨S16x32x16384x1, .i1⟩
  | 105 => ⟨S1x1x1x1, .i32⟩
  | 106 => ⟨S16x32x16384x1, .i32⟩
  | 107 => ⟨S16x32x16384x1, .i1⟩
  | 108 => ⟨S16x32x16384x1, .i1⟩
  | 109 => ⟨S_, .i1⟩
  | 110 => ⟨S16x32x16384, .i1⟩
  | 111 => ⟨S16x32x16384, .f32⟩
  | 112 => ⟨S_, .f32⟩
  | 113 => ⟨S16x32x16384, .f32⟩
  | 114 => ⟨S16x32x16384, .f32⟩
  | 115 => ⟨S16x32x4096x4, .f32⟩
  | 116 => ⟨S16x1x4096x4, .i1⟩
  | 117 => ⟨S16x1x4096x4, .f32⟩
  | 118 => ⟨S16x32x4096x4, .f32⟩
  | 119 => ⟨S16x32x4096x4, .f32⟩
  | 120 => ⟨S16x1x4096x4, .f32⟩
  | 121 => ⟨S16x32x4096x4, .f32⟩
  | 122 => ⟨S16x32x4096x4, .f32⟩
  | 123 => ⟨S16x32x4096x4, .f32⟩
  | 124 => ⟨S_, .f32⟩
  | 125 => ⟨S16x4096x4, .f32⟩
  | 126 => ⟨S16x4096x4, .i1⟩
  | 127 => ⟨S_, .f32⟩
  | _ => ⟨S4x2x256x32x32, .f32⟩

abbrev hbmTy0_17 (i : Nat) : BufTy := match i % 128 with
  | 0 => ⟨S16x4096x4, .f32⟩
  | 1 => ⟨S16x4096x4, .i1⟩
  | 2 => ⟨S16x4096x4, .i1⟩
  | 3 => ⟨S_, .f32⟩
  | 4 => ⟨S16x4096x4, .f32⟩
  | 5 => ⟨S16x4096x4, .i1⟩
  | 6 => ⟨S16x4096x4, .i1⟩
  | 7 => ⟨S_, .f32⟩
  | 8 => ⟨S16x4096x4, .f32⟩
  | 9 => ⟨S16x4096x4, .i1⟩
  | 10 => ⟨S16x4096x4, .i1⟩
  | 11 => ⟨S_, .i32⟩
  | 12 => ⟨S_, .i32⟩
  | 13 => ⟨S_, .f32⟩
  | 14 => ⟨S16x4096x4, .f32⟩
  | 15 => ⟨S16x4096x4, .f32⟩
  | 16 => ⟨S_, .f32⟩
  | 17 => ⟨S16x4096x4, .f32⟩
  | 18 => ⟨S16x4096x4, .f32⟩
  | 19 => ⟨S16x4096x4, .i32⟩
  | 20 => ⟨S_, .i32⟩
  | 21 => ⟨S_, .i32⟩
  | 22 => ⟨S_, .f32⟩
  | 23 => ⟨S16x4096x4, .f32⟩
  | 24 => ⟨S16x4096x4, .f32⟩
  | 25 => ⟨S_, .f32⟩
  | 26 => ⟨S16x4096x4, .f32⟩
  | 27 => ⟨S16x4096x4, .f32⟩
  | 28 => ⟨S16x4096x4, .i32⟩
  | 29 => ⟨S_, .i32⟩
  | 30 => ⟨S16x4096x4, .i32⟩
  | 31 => ⟨S16x4096x4, .i32⟩
  | 32 => ⟨S16x4096x4, .i32⟩
  | 33 => ⟨S16x16384, .i32⟩
  | 34 => ⟨S16x1x16384, .i32⟩
  | 35 => ⟨S16x32x16384, .i32⟩
  | 36 => ⟨S_, .i32⟩
  | 37 => ⟨S16x32x16384, .i32⟩
  | 38 => ⟨S16x32x16384, .i1⟩
  | 39 => ⟨S_, .i32⟩
  | 40 => ⟨S16x32x16384, .i32⟩
  | 41 => ⟨S16x32x16384, .i32⟩
  | 42 => ⟨S16x32x16384, .i32⟩
  | 43 => ⟨S16x32x16384x1, .i32⟩
  | 44 => ⟨S1, .i32⟩
  | 45 => ⟨S_, .i32⟩
  | 46 => ⟨S16x32x16384x1, .i32⟩
  | 47 => ⟨S16x32x16384x1, .i1⟩
  | 48 => ⟨S1x1x1x1, .i32⟩
  | 49 => ⟨S16x32x16384x1, .i32⟩
  | 50 => ⟨S16x32x16384x1, .i1⟩
  | 51 => ⟨S16x32x16384x1, .i1⟩
  | 52 => ⟨S_, .i1⟩
  | 53 => ⟨S16x32x16384, .i1⟩
  | 54 => ⟨S16x32x16384, .f32⟩
  | 55 => ⟨S_, .f32⟩
  | 56 => ⟨S16x32x16384, .f32⟩
  | 57 => ⟨S16x32x16384, .f32⟩
  | 58 => ⟨S16x32x4096x4, .f32⟩
  | 59 => ⟨S16x1x4096x4, .i1⟩
  | 60 => ⟨S16x1x4096x4, .f32⟩
  | 61 => ⟨S16x32x4096x4, .f32⟩
  | 62 => ⟨S16x32x4096x4, .f32⟩
  | 63 => ⟨S16x1x4096x4, .f32⟩
  | 64 => ⟨S16x32x4096x4, .f32⟩
  | 65 => ⟨S16x32x4096x4, .f32⟩
  | 66 => ⟨S16x32x4096x4, .f32⟩
  | 67 => ⟨S2x1024x8x32, .f32⟩
  | 68 => ⟨S2x8x32x1024, .f32⟩
  | 69 => ⟨S16x32x32x32, .f32⟩
  | 70 => ⟨S2x4096x8x1x4x2, .f32⟩
  | 71 => ⟨S2x4096x8x4x2, .f32⟩
  | 72 => ⟨S2x8x4096x4x2, .f32⟩
  | 73 => ⟨S16x4096x4x2, .f32⟩
  | 74 => ⟨S16x4096x4x1, .f32⟩
  | 75 => ⟨S16x4096x4, .f32⟩
  | 76 => ⟨S_, .f32⟩
  | 77 => ⟨S16x4096x4, .f32⟩
  | 78 => ⟨S16x4096x4, .f32⟩
  | 79 => ⟨S_, .f32⟩
  | 80 => ⟨S16x4096x4, .f32⟩
  | 81 => ⟨S16x4096x4, .f32⟩
  | 82 => ⟨S_, .f32⟩
  | 83 => ⟨S16x4096x4, .f32⟩
  | 84 => ⟨S16x4096x4, .f32⟩
  | 85 => ⟨S_, .f32⟩
  | 86 => ⟨S16x4096x4, .f32⟩
  | 87 => ⟨S16x4096x4, .f32⟩
  | 88 => ⟨S16x4096x4x1, .f32⟩
  | 89 => ⟨S16x4096x4, .f32⟩
  | 90 => ⟨S_, .f32⟩
  | 91 => ⟨S16x4096x4, .f32⟩
  | 92 => ⟨S16x4096x4, .f32⟩
  | 93 => ⟨S_, .f32⟩
  | 94 => ⟨S16x4096x4, .f32⟩
  | 95 => ⟨S16x4096x4, .f32⟩
  | 96 => ⟨S_, .f32⟩
  | 97 => ⟨S16x4096x4, .f32⟩
  | 98 => ⟨S16x4096x4, .f32⟩
  | 99 => ⟨S_, .f32⟩
  | 100 => ⟨S16x4096x4, .f32⟩
  | 101 => ⟨S16x4096x4, .f32⟩
  | 102 => ⟨S16x4096x4, .f32⟩
  | 103 => ⟨S16x4096x4, .f32⟩
  | 104 => ⟨S_, .f32⟩
  | 105 => ⟨S16x4096x4, .f32⟩
  | 106 => ⟨S16x4096x4, .f32⟩
  | 107 => ⟨S_, .f32⟩
  | 108 => ⟨S16x4096x4, .f32⟩
  | 109 => ⟨S16x4096x4, .f32⟩
  | 110 => ⟨S16x4096x4, .f32⟩
  | 111 => ⟨S16x4096x4, .f32⟩
  | 112 => ⟨S16x4096x4, .f32⟩
  | 113 => ⟨S16x4096x4, .f32⟩
  | 114 => ⟨S16x4096x4, .f32⟩
  | 115 => ⟨S16x4096x4, .f32⟩
  | 116 => ⟨S16x4096x4, .f32⟩
  | 117 => ⟨S16x4096x4, .f32⟩
  | 118 => ⟨S16x4096x4, .f32⟩
  | 119 => ⟨S16x4096x4, .f32⟩
  | 120 => ⟨S16x4096x4, .f32⟩
  | 121 => ⟨S16x4096x4, .f32⟩
  | 122 => ⟨S16x32x1024, .f32⟩
  | 123 => ⟨S_, .f32⟩
  | 124 => ⟨S16x4096x4, .f32⟩
  | 125 => ⟨S16x4096x4, .i1⟩
  | 126 => ⟨S_, .f32⟩
  | 127 => ⟨S16x4096x4, .f32⟩
  | _ => ⟨S4x2x256x32x32, .f32⟩

abbrev hbmTy0_18 (i : Nat) : BufTy := match i % 128 with
  | 0 => ⟨S16x4096x4, .i1⟩
  | 1 => ⟨S16x4096x4, .i1⟩
  | 2 => ⟨S_, .f32⟩
  | 3 => ⟨S16x4096x4, .f32⟩
  | 4 => ⟨S16x4096x4, .i1⟩
  | 5 => ⟨S16x4096x4, .i1⟩
  | 6 => ⟨S_, .f32⟩
  | 7 => ⟨S16x4096x4, .f32⟩
  | 8 => ⟨S16x4096x4, .i1⟩
  | 9 => ⟨S16x4096x4, .i1⟩
  | 10 => ⟨S_, .i32⟩
  | 11 => ⟨S_, .i32⟩
  | 12 => ⟨S_, .f32⟩
  | 13 => ⟨S16x4096x4, .f32⟩
  | 14 => ⟨S16x4096x4, .f32⟩
  | 15 => ⟨S_, .f32⟩
  | 16 => ⟨S16x4096x4, .f32⟩
  | 17 => ⟨S16x4096x4, .f32⟩
  | 18 => ⟨S16x4096x4, .i32⟩
  | 19 => ⟨S_, .i32⟩
  | 20 => ⟨S_, .i32⟩
  | 21 => ⟨S_, .f32⟩
  | 22 => ⟨S16x4096x4, .f32⟩
  | 23 => ⟨S16x4096x4, .f32⟩
  | 24 => ⟨S_, .f32⟩
  | 25 => ⟨S16x4096x4, .f32⟩
  | 26 => ⟨S16x4096x4, .f32⟩
  | 27 => ⟨S16x4096x4, .i32⟩
  | 28 => ⟨S_, .i32⟩
  | 29 => ⟨S16x4096x4, .i32⟩
  | 30 => ⟨S16x4096x4, .i32⟩
  | 31 => ⟨S16x4096x4, .i32⟩
  | 32 => ⟨S16x16384, .i32⟩
  | 33 => ⟨S16x1x16384, .i32⟩
  | 34 => ⟨S16x32x16384, .i32⟩
  | 35 => ⟨S_, .i32⟩
  | 36 => ⟨S16x32x16384, .i32⟩
  | 37 => ⟨S16x32x16384, .i1⟩
  | 38 => ⟨S_, .i32⟩
  | 39 => ⟨S16x32x16384, .i32⟩
  | 40 => ⟨S16x32x16384, .i32⟩
  | 41 => ⟨S16x32x16384, .i32⟩
  | 42 => ⟨S16x32x16384x1, .i32⟩
  | 43 => ⟨S1, .i32⟩
  | 44 => ⟨S_, .i32⟩
  | 45 => ⟨S16x32x16384x1, .i32⟩
  | 46 => ⟨S16x32x16384x1, .i1⟩
  | 47 => ⟨S1x1x1x1, .i32⟩
  | 48 => ⟨S16x32x16384x1, .i32⟩
  | 49 => ⟨S16x32x16384x1, .i1⟩
  | 50 => ⟨S16x32x16384x1, .i1⟩
  | 51 => ⟨S_, .i1⟩
  | 52 => ⟨S16x32x16384, .i1⟩
  | 53 => ⟨S16x32x16384, .f32⟩
  | 54 => ⟨S_, .f32⟩
  | 55 => ⟨S16x32x16384, .f32⟩
  | 56 => ⟨S16x32x16384, .f32⟩
  | 57 => ⟨S16x32x4096x4, .f32⟩
  | 58 => ⟨S16x1x4096x4, .i1⟩
  | 59 => ⟨S16x1x4096x4, .f32⟩
  | 60 => ⟨S16x32x4096x4, .f32⟩
  | 61 => ⟨S16x32x4096x4, .f32⟩
  | 62 => ⟨S16x1x4096x4, .f32⟩
  | 63 => ⟨S16x32x4096x4, .f32⟩
  | 64 => ⟨S16x32x4096x4, .f32⟩
  | 65 => ⟨S_, .f32⟩
  | 66 => ⟨S16x4096x4, .f32⟩
  | 67 => ⟨S16x4096x4, .i1⟩
  | 68 => ⟨S_, .f32⟩
  | 69 => ⟨S16x4096x4, .f32⟩
  | 70 => ⟨S16x4096x4, .i1⟩
  | 71 => ⟨S16x4096x4, .i1⟩
  | 72 => ⟨S_, .f32⟩
  | 73 => ⟨S16x4096x4, .f32⟩
  | 74 => ⟨S16x4096x4, .i1⟩
  | 75 => ⟨S16x4096x4, .i1⟩
  | 76 => ⟨S_, .f32⟩
  | 77 => ⟨S16x4096x4, .f32⟩
  | 78 => ⟨S16x4096x4, .i1⟩
  | 79 => ⟨S16x4096x4, .i1⟩
  | 80 => ⟨S_, .i32⟩
  | 81 => ⟨S_, .i32⟩
  | 82 => ⟨S_, .f32⟩
  | 83 => ⟨S16x4096x4, .f32⟩
  | 84 => ⟨S16x4096x4, .f32⟩
  | 85 => ⟨S_, .f32⟩
  | 86 => ⟨S16x4096x4, .f32⟩
  | 87 => ⟨S16x4096x4, .f32⟩
  | 88 => ⟨S16x4096x4, .i32⟩
  | 89 => ⟨S_, .i32⟩
  | 90 => ⟨S_, .i32⟩
  | 91 => ⟨S_, .f32⟩
  | 92 => ⟨S16x4096x4, .f32⟩
  | 93 => ⟨S16x4096x4, .f32⟩
  | 94 => ⟨S_, .f32⟩
  | 95 => ⟨S16x4096x4, .f32⟩
  | 96 => ⟨S16x4096x4, .f32⟩
  | 97 => ⟨S16x4096x4, .i32⟩
  | 98 => ⟨S_, .i32⟩
  | 99 => ⟨S16x4096x4, .i32⟩
  | 100 => ⟨S16x4096x4, .i32⟩
  | 101 => ⟨S16x4096x4, .i32⟩
  | 102 => ⟨S16x16384, .i32⟩
  | 103 => ⟨S16x1x16384, .i32⟩
  | 104 => ⟨S16x32x16384, .i32⟩
  | 105 => ⟨S_, .i32⟩
  | 106 => ⟨S16x32x16384, .i32⟩
  | 107 => ⟨S16x32x16384, .i1⟩
  | 108 => ⟨S_, .i32⟩
  | 109 => ⟨S16x32x16384, .i32⟩
  | 110 => ⟨S16x32x16384, .i32⟩
  | 111 => ⟨S16x32x16384, .i32⟩
  | 112 => ⟨S16x32x16384x1, .i32⟩
  | 113 => ⟨S1, .i32⟩
  | 114 => ⟨S_, .i32⟩
  | 115 => ⟨S16x32x16384x1, .i32⟩
  | 116 => ⟨S16x32x16384x1, .i1⟩
  | 117 => ⟨S1x1x1x1, .i32⟩
  | 118 => ⟨S16x32x16384x1, .i32⟩
  | 119 => ⟨S16x32x16384x1, .i1⟩
  | 120 => ⟨S16x32x16384x1, .i1⟩
  | 121 => ⟨S_, .i1⟩
  | 122 => ⟨S16x32x16384, .i1⟩
  | 123 => ⟨S16x32x16384, .f32⟩
  | 124 => ⟨S_, .f32⟩
  | 125 => ⟨S16x32x16384, .f32⟩
  | 126 => ⟨S16x32x16384, .f32⟩
  | 127 => ⟨S16x32x4096x4, .f32⟩
  | _ => ⟨S4x2x256x32x32, .f32⟩

abbrev hbmTy0_19 (i : Nat) : BufTy := match i % 128 with
  | 0 => ⟨S16x1x4096x4, .i1⟩
  | 1 => ⟨S16x1x4096x4, .f32⟩
  | 2 => ⟨S16x32x4096x4, .f32⟩
  | 3 => ⟨S16x32x4096x4, .f32⟩
  | 4 => ⟨S16x1x4096x4, .f32⟩
  | 5 => ⟨S16x32x4096x4, .f32⟩
  | 6 => ⟨S16x32x4096x4, .f32⟩
  | 7 => ⟨S16x32x4096x4, .f32⟩
  | 8 => ⟨S_, .f32⟩
  | 9 => ⟨S16x4096x4, .f32⟩
  | 10 => ⟨S16x4096x4, .i1⟩
  | 11 => ⟨S_, .f32⟩
  | 12 => ⟨S16x4096x4, .f32⟩
  | 13 => ⟨S16x4096x4, .i1⟩
  | 14 => ⟨S16x4096x4, .i1⟩
  | 15 => ⟨S_, .f32⟩
  | 16 => ⟨S16x4096x4, .f32⟩
  | 17 => ⟨S16x4096x4, .i1⟩
  | 18 => ⟨S16x4096x4, .i1⟩
  | 19 => ⟨S_, .f32⟩
  | 20 => ⟨S16x4096x4, .f32⟩
  | 21 => ⟨S16x4096x4, .i1⟩
  | 22 => ⟨S16x4096x4, .i1⟩
  | 23 => ⟨S_, .i32⟩
  | 24 => ⟨S_, .i32⟩
  | 25 => ⟨S_, .f32⟩
  | 26 => ⟨S16x4096x4, .f32⟩
  | 27 => ⟨S16x4096x4, .f32⟩
  | 28 => ⟨S_, .f32⟩
  | 29 => ⟨S16x4096x4, .f32⟩
  | 30 => ⟨S16x4096x4, .f32⟩
  | 31 => ⟨S16x4096x4, .i32⟩
  | 32 => ⟨S_, .i32⟩
  | 33 => ⟨S_, .i32⟩
  | 34 => ⟨S_, .f32⟩
  | 35 => ⟨S16x4096x4, .f32⟩
  | 36 => ⟨S16x4096x4, .f32⟩
  | 37 => ⟨S_, .f32⟩
  | 38 => ⟨S16x4096x4, .f32⟩
  | 39 => ⟨S16x4096x4, .f32⟩
  | 40 => ⟨S16x4096x4, .i32⟩
  | 41 => ⟨S_, .i32⟩
  | 42 => ⟨S16x4096x4, .i32⟩
  | 43 => ⟨S16x4096x4, .i32⟩
  | 44 => ⟨S16x4096x4, .i32⟩
  | 45 => ⟨S16x16384, .i32⟩
  | 46 => ⟨S16x1x16384, .i32⟩
  | 47 => ⟨S16x32x16384, .i32⟩
  | 48 => ⟨S_, .i32⟩
  | 49 => ⟨S16x32x16384, .i32⟩
  | 50 => ⟨S16x32x16384, .i1⟩
  | 51 => ⟨S_, .i32⟩
  | 52 => ⟨S16x32x16384, .i32⟩
  | 53 => ⟨S16x32x16384, .i32⟩
  | 54 => ⟨S16x32x16384, .i32⟩
  | 55 => ⟨S16x32x16384x1, .i32⟩
  | 56 => ⟨S1, .i32⟩
  | 57 => ⟨S_, .i32⟩
  | 58 => ⟨S16x32x16384x1, .i32⟩
  | 59 => ⟨S16x32x16384x1, .i1⟩
  | 60 => ⟨S1x1x1x1, .i32⟩
  | 61 => ⟨S16x32x16384x1, .i32⟩
  | 62 => ⟨S16x32x16384x1, .i1⟩
  | 63 => ⟨S16x32x16384x1, .i1⟩
  | 64 => ⟨S_, .i1⟩
  | 65 => ⟨S16x32x16384, .i1⟩
  | 66 => ⟨S16x32x16384, .f32⟩
  | 67 => ⟨S_, .f32⟩
  | 68 => ⟨S16x32x16384, .f32⟩
  | 69 => ⟨S16x32x16384, .f32⟩
  | 70 => ⟨S16x32x4096x4, .f32⟩
  | 71 => ⟨S16x1x4096x4, .i1⟩
  | 72 => ⟨S16x1x4096x4, .f32⟩
  | 73 => ⟨S16x32x4096x4, .f32⟩
  | 74 => ⟨S16x32x4096x4, .f32⟩
  | 75 => ⟨S16x1x4096x4, .f32⟩
  | 76 => ⟨S16x32x4096x4, .f32⟩
  | 77 => ⟨S16x32x4096x4, .f32⟩
  | 78 => ⟨S16x32x4096x4, .f32⟩
  | 79 => ⟨S_, .f32⟩
  | 80 => ⟨S16x4096x4, .f32⟩
  | 81 => ⟨S16x4096x4, .i1⟩
  | 82 => ⟨S_, .f32⟩
  | 83 => ⟨S16x4096x4, .f32⟩
  | 84 => ⟨S16x4096x4, .i1⟩
  | 85 => ⟨S16x4096x4, .i1⟩
  | 86 => ⟨S_, .f32⟩
  | 87 => ⟨S16x4096x4, .f32⟩
  | 88 => ⟨S16x4096x4, .i1⟩
  | 89 => ⟨S16x4096x4, .i1⟩
  | 90 => ⟨S_, .f32⟩
  | 91 => ⟨S16x4096x4, .f32⟩
  | 92 => ⟨S16x4096x4, .i1⟩
  | 93 => ⟨S16x4096x4, .i1⟩
  | 94 => ⟨S_, .i32⟩
  | 95 => ⟨S_, .i32⟩
  | 96 => ⟨S_, .f32⟩
  | 97 => ⟨S16x4096x4, .f32⟩
  | 98 => ⟨S16x4096x4, .f32⟩
  | 99 => ⟨S_, .f32⟩
  | 100 => ⟨S16x4096x4, .f32⟩
  | 101 => ⟨S16x4096x4, .f32⟩
  | 102 => ⟨S16x4096x4, .i32⟩
  | 103 => ⟨S_, .i32⟩
  | 104 => ⟨S_, .i32⟩
  | 105 => ⟨S_, .f32⟩
  | 106 => ⟨S16x4096x4, .f32⟩
  | 107 => ⟨S16x4096x4, .f32⟩
  | 108 => ⟨S_, .f32⟩
  | 109 => ⟨S16x4096x4, .f32⟩
  | 110 => ⟨S16x4096x4, .f32⟩
  | 111 => ⟨S16x4096x4, .i32⟩
  | 112 => ⟨S_, .i32⟩
  | 113 => ⟨S16x4096x4, .i32⟩
  | 114 => ⟨S16x4096x4, .i32⟩
  | 115 => ⟨S16x4096x4, .i32⟩
  | 116 => ⟨S16x16384, .i32⟩
  | 117 => ⟨S16x1x16384, .i32⟩
  | 118 => ⟨S16x32x16384, .i32⟩
  | 119 => ⟨S_, .i32⟩
  | 120 => ⟨S16x32x16384, .i32⟩
  | 121 => ⟨S16x32x16384, .i1⟩
  | 122 => ⟨S_, .i32⟩
  | 123 => ⟨S16x32x16384, .i32⟩
  | 124 => ⟨S16x32x16384, .i32⟩
  | 125 => ⟨S16x32x16384, .i32⟩
  | 126 => ⟨S16x32x16384x1, .i32⟩
  | 127 => ⟨S1, .i32⟩
  | _ => ⟨S4x2x256x32x32, .f32⟩

abbrev hbmTy0_20 (i : Nat) : BufTy := match i % 128 with
  | 0 => ⟨S_, .i32⟩
  | 1 => ⟨S16x32x16384x1, .i32⟩
  | 2 => ⟨S16x32x16384x1, .i1⟩
  | 3 => ⟨S1x1x1x1, .i32⟩
  | 4 => ⟨S16x32x16384x1, .i32⟩
  | 5 => ⟨S16x32x16384x1, .i1⟩
  | 6 => ⟨S16x32x16384x1, .i1⟩
  | 7 => ⟨S_, .i1⟩
  | 8 => ⟨S16x32x16384, .i1⟩
  | 9 => ⟨S16x32x16384, .f32⟩
  | 10 => ⟨S_, .f32⟩
  | 11 => ⟨S16x32x16384, .f32⟩
  | 12 => ⟨S16x32x16384, .f32⟩
  | 13 => ⟨S16x32x4096x4, .f32⟩
  | 14 => ⟨S16x1x4096x4, .i1⟩
  | 15 => ⟨S16x1x4096x4, .f32⟩
  | 16 => ⟨S16x32x4096x4, .f32⟩
  | 17 => ⟨S16x32x4096x4, .f32⟩
  | 18 => ⟨S16x1x4096x4, .f32⟩
  | 19 => ⟨S16x32x4096x4, .f32⟩
  | 20 => ⟨S16x32x4096x4, .f32⟩
  | 21 => ⟨S16x32x4096x4, .f32⟩
  | 22 => ⟨S2x1024x8x32, .f32⟩
  | 23 => ⟨S2x8x32x1024, .f32⟩
  | 24 => ⟨S16x32x32x32, .f32⟩
  | 25 => ⟨S2x4096x8x1x4x2, .f32⟩
  | 26 => ⟨S2x4096x8x4x2, .f32⟩
  | 27 => ⟨S2x8x4096x4x2, .f32⟩
  | 28 => ⟨S16x4096x4x2, .f32⟩
  | 29 => ⟨S16x4096x4x1, .f32⟩
  | 30 => ⟨S16x4096x4, .f32⟩
  | 31 => ⟨S_, .f32⟩
  | 32 => ⟨S16x4096x4, .f32⟩
  | 33 => ⟨S16x4096x4, .f32⟩
  | 34 => ⟨S_, .f32⟩
  | 35 => ⟨S16x4096x4, .f32⟩
  | 36 => ⟨S16x4096x4, .f32⟩
  | 37 => ⟨S_, .f32⟩
  | 38 => ⟨S16x4096x4, .f32⟩
  | 39 => ⟨S16x4096x4, .f32⟩
  | 40 => ⟨S_, .f32⟩
  | 41 => ⟨S16x4096x4, .f32⟩
  | 42 => ⟨S16x4096x4, .f32⟩
  | 43 => ⟨S16x4096x4x1, .f32⟩
  | 44 => ⟨S16x4096x4, .f32⟩
  | 45 => ⟨S_, .f32⟩
  | 46 => ⟨S16x4096x4, .f32⟩
  | 47 => ⟨S16x4096x4, .f32⟩
  | 48 => ⟨S_, .f32⟩
  | 49 => ⟨S16x4096x4, .f32⟩
  | 50 => ⟨S16x4096x4, .f32⟩
  | 51 => ⟨S_, .f32⟩
  | 52 => ⟨S16x4096x4, .f32⟩
  | 53 => ⟨S16x4096x4, .f32⟩
  | 54 => ⟨S_, .f32⟩
  | 55 => ⟨S16x4096x4, .f32⟩
  | 56 => ⟨S16x4096x4, .f32⟩
  | 57 => ⟨S16x4096x4, .f32⟩
  | 58 => ⟨S16x4096x4, .f32⟩
  | 59 => ⟨S_, .f32⟩
  | 60 => ⟨S16x4096x4, .f32⟩
  | 61 => ⟨S16x4096x4, .f32⟩
  | 62 => ⟨S_, .f32⟩
  | 63 => ⟨S16x4096x4, .f32⟩
  | 64 => ⟨S16x4096x4, .f32⟩
  | 65 => ⟨S16x4096x4, .f32⟩
  | 66 => ⟨S16x4096x4, .f32⟩
  | 67 => ⟨S16x4096x4, .f32⟩
  | 68 => ⟨S16x4096x4, .f32⟩
  | 69 => ⟨S16x4096x4, .f32⟩
  | 70 => ⟨S16x4096x4, .f32⟩
  | 71 => ⟨S16x4096x4, .f32⟩
  | 72 => ⟨S16x4096x4, .f32⟩
  | 73 => ⟨S16x4096x4, .f32⟩
  | 74 => ⟨S16x4096x4, .f32⟩
  | 75 => ⟨S16x4096x4, .f32⟩
  | 76 => ⟨S16x4096x4, .f32⟩
  | 77 => ⟨S16x32x1024, .f32⟩
  | 78 => ⟨S_, .f32⟩
  | 79 => ⟨S16x4096x4, .f32⟩
  | 80 => ⟨S16x4096x4, .i1⟩
  | 81 => ⟨S_, .f32⟩
  | 82 => ⟨S16x4096x4, .f32⟩
  | 83 => ⟨S16x4096x4, .i1⟩
  | 84 => ⟨S16x4096x4, .i1⟩
  | 85 => ⟨S_, .f32⟩
  | 86 => ⟨S16x4096x4, .f32⟩
  | 87 => ⟨S16x4096x4, .i1⟩
  | 88 => ⟨S16x4096x4, .i1⟩
  | 89 => ⟨S_, .f32⟩
  | 90 => ⟨S16x4096x4, .f32⟩
  | 91 => ⟨S16x4096x4, .i1⟩
  | 92 => ⟨S16x4096x4, .i1⟩
  | 93 => ⟨S_, .i32⟩
  | 94 => ⟨S_, .i32⟩
  | 95 => ⟨S_, .f32⟩
  | 96 => ⟨S16x4096x4, .f32⟩
  | 97 => ⟨S16x4096x4, .f32⟩
  | 98 => ⟨S_, .f32⟩
  | 99 => ⟨S16x4096x4, .f32⟩
  | 100 => ⟨S16x4096x4, .f32⟩
  | 101 => ⟨S16x4096x4, .i32⟩
  | 102 => ⟨S_, .i32⟩
  | 103 => ⟨S_, .i32⟩
  | 104 => ⟨S_, .f32⟩
  | 105 => ⟨S16x4096x4, .f32⟩
  | 106 => ⟨S16x4096x4, .f32⟩
  | 107 => ⟨S_, .f32⟩
  | 108 => ⟨S16x4096x4, .f32⟩
  | 109 => ⟨S16x4096x4, .f32⟩
  | 110 => ⟨S16x4096x4, .i32⟩
  | 111 => ⟨S_, .i32⟩
  | 112 => ⟨S16x4096x4, .i32⟩
  | 113 => ⟨S16x4096x4, .i32⟩
  | 114 => ⟨S16x4096x4, .i32⟩
  | 115 => ⟨S16x16384, .i32⟩
  | 116 => ⟨S16x1x16384, .i32⟩
  | 117 => ⟨S16x32x16384, .i32⟩
  | 118 => ⟨S_, .i32⟩
  | 119 => ⟨S16x32x16384, .i32⟩
  | 120 => ⟨S16x32x16384, .i1⟩
  | 121 => ⟨S_, .i32⟩
  | 122 => ⟨S16x32x16384, .i32⟩
  | 123 => ⟨S16x32x16384, .i32⟩
  | 124 => ⟨S16x32x16384, .i32⟩
  | 125 => ⟨S16x32x16384x1, .i32⟩
  | 126 => ⟨S1, .i32⟩
  | 127 => ⟨S_, .i32⟩
  | _ => ⟨S4x2x256x32x32, .f32⟩

abbrev hbmTy0_21 (i : Nat) : BufTy := match i % 128 with
  | 0 => ⟨S16x32x16384x1, .i32⟩
  | 1 => ⟨S16x32x16384x1, .i1⟩
  | 2 => ⟨S1x1x1x1, .i32⟩
  | 3 => ⟨S16x32x16384x1, .i32⟩
  | 4 => ⟨S16x32x16384x1, .i1⟩
  | 5 => ⟨S16x32x16384x1, .i1⟩
  | 6 => ⟨S_, .i1⟩
  | 7 => ⟨S16x32x16384, .i1⟩
  | 8 => ⟨S16x32x16384, .f32⟩
  | 9 => ⟨S_, .f32⟩
  | 10 => ⟨S16x32x16384, .f32⟩
  | 11 => ⟨S16x32x16384, .f32⟩
  | 12 => ⟨S16x32x4096x4, .f32⟩
  | 13 => ⟨S16x1x4096x4, .i1⟩
  | 14 => ⟨S16x1x4096x4, .f32⟩
  | 15 => ⟨S16x32x4096x4, .f32⟩
  | 16 => ⟨S16x32x4096x4, .f32⟩
  | 17 => ⟨S16x1x4096x4, .f32⟩
  | 18 => ⟨S16x32x4096x4, .f32⟩
  | 19 => ⟨S16x32x4096x4, .f32⟩
  | 20 => ⟨S_, .f32⟩
  | 21 => ⟨S16x4096x4, .f32⟩
  | 22 => ⟨S16x4096x4, .i1⟩
  | 23 => ⟨S_, .f32⟩
  | 24 => ⟨S16x4096x4, .f32⟩
  | 25 => ⟨S16x4096x4, .i1⟩
  | 26 => ⟨S16x4096x4, .i1⟩
  | 27 => ⟨S_, .f32⟩
  | 28 => ⟨S16x4096x4, .f32⟩
  | 29 => ⟨S16x4096x4, .i1⟩
  | 30 => ⟨S16x4096x4, .i1⟩
  | 31 => ⟨S_, .f32⟩
  | 32 => ⟨S16x4096x4, .f32⟩
  | 33 => ⟨S16x4096x4, .i1⟩
  | 34 => ⟨S16x4096x4, .i1⟩
  | 35 => ⟨S_, .i32⟩
  | 36 => ⟨S_, .i32⟩
  | 37 => ⟨S_, .f32⟩
  | 38 => ⟨S16x4096x4, .f32⟩
  | 39 => ⟨S16x4096x4, .f32⟩
  | 40 => ⟨S_, .f32⟩
  | 41 => ⟨S16x4096x4, .f32⟩
  | 42 => ⟨S16x4096x4, .f32⟩
  | 43 => ⟨S16x4096x4, .i32⟩
  | 44 => ⟨S_, .i32⟩
  | 45 => ⟨S_, .i32⟩
  | 46 => ⟨S_, .f32⟩
  | 47 => ⟨S16x4096x4, .f32⟩
  | 48 => ⟨S16x4096x4, .f32⟩
  | 49 => ⟨S_, .f32⟩
  | 50 => ⟨S16x4096x4, .f32⟩
  | 51 => ⟨S16x4096x4, .f32⟩
  | 52 => ⟨S16x4096x4, .i32⟩
  | 53 => ⟨S_, .i32⟩
  | 54 => ⟨S16x4096x4, .i32⟩
  | 55 => ⟨S16x4096x4, .i32⟩
  | 56 => ⟨S16x4096x4, .i32⟩
  | 57 => ⟨S16x16384, .i32⟩
  | 58 => ⟨S16x1x16384, .i32⟩
  | 59 => ⟨S16x32x16384, .i32⟩
  | 60 => ⟨S_, .i32⟩
  | 61 => ⟨S16x32x16384, .i32⟩
  | 62 => ⟨S16x32x16384, .i1⟩
  | 63 => ⟨S_, .i32⟩
  | 64 => ⟨S16x32x16384, .i32⟩
  | 65 => ⟨S16x32x16384, .i32⟩
  | 66 => ⟨S16x32x16384, .i32⟩
  | 67 => ⟨S16x32x16384x1, .i32⟩
  | 68 => ⟨S1, .i32⟩
  | 69 => ⟨S_, .i32⟩
  | 70 => ⟨S16x32x16384x1, .i32⟩
  | 71 => ⟨S16x32x16384x1, .i1⟩
  | 72 => ⟨S1x1x1x1, .i32⟩
  | 73 => ⟨S16x32x16384x1, .i32⟩
  | 74 => ⟨S16x32x16384x1, .i1⟩
  | 75 => ⟨S16x32x16384x1, .i1⟩
  | 76 => ⟨S_, .i1⟩
  | 77 => ⟨S16x32x16384, .i1⟩
  | 78 => ⟨S16x32x16384, .f32⟩
  | 79 => ⟨S_, .f32⟩
  | 80 => ⟨S16x32x16384, .f32⟩
  | 81 => ⟨S16x32x16384, .f32⟩
  | 82 => ⟨S16x32x4096x4, .f32⟩
  | 83 => ⟨S16x1x4096x4, .i1⟩
  | 84 => ⟨S16x1x4096x4, .f32⟩
  | 85 => ⟨S16x32x4096x4, .f32⟩
  | 86 => ⟨S16x32x4096x4, .f32⟩
  | 87 => ⟨S16x1x4096x4, .f32⟩
  | 88 => ⟨S16x32x4096x4, .f32⟩
  | 89 => ⟨S16x32x4096x4, .f32⟩
  | 90 => ⟨S16x32x4096x4, .f32⟩
  | 91 => ⟨S_, .f32⟩
  | 92 => ⟨S16x4096x4, .f32⟩
  | 93 => ⟨S16x4096x4, .i1⟩
  | 94 => ⟨S_, .f32⟩
  | 95 => ⟨S16x4096x4, .f32⟩
  | 96 => ⟨S16x4096x4, .i1⟩
  | 97 => ⟨S16x4096x4, .i1⟩
  | 98 => ⟨S_, .f32⟩
  | 99 => ⟨S16x4096x4, .f32⟩
  | 100 => ⟨S16x4096x4, .i1⟩
  | 101 => ⟨S16x4096x4, .i1⟩
  | 102 => ⟨S_, .f32⟩
  | 103 => ⟨S16x4096x4, .f32⟩
  | 104 => ⟨S16x4096x4, .i1⟩
  | 105 => ⟨S16x4096x4, .i1⟩
  | 106 => ⟨S_, .i32⟩
  | 107 => ⟨S_, .i32⟩
  | 108 => ⟨S_, .f32⟩
  | 109 => ⟨S16x4096x4, .f32⟩
  | 110 => ⟨S16x4096x4, .f32⟩
  | 111 => ⟨S_, .f32⟩
  | 112 => ⟨S16x4096x4, .f32⟩
  | 113 => ⟨S16x4096x4, .f32⟩
  | 114 => ⟨S16x4096x4, .i32⟩
  | 115 => ⟨S_, .i32⟩
  | 116 => ⟨S_, .i32⟩
  | 117 => ⟨S_, .f32⟩
  | 118 => ⟨S16x4096x4, .f32⟩
  | 119 => ⟨S16x4096x4, .f32⟩
  | 120 => ⟨S_, .f32⟩
  | 121 => ⟨S16x4096x4, .f32⟩
  | 122 => ⟨S16x4096x4, .f32⟩
  | 123 => ⟨S16x4096x4, .i32⟩
  | 124 => ⟨S_, .i32⟩
  | 125 => ⟨S16x4096x4, .i32⟩
  | 126 => ⟨S16x4096x4, .i32⟩
  | 127 => ⟨S16x4096x4, .i32⟩
  | _ => ⟨S4x2x256x32x32, .f32⟩

abbrev hbmTy0_22 (i : Nat) : BufTy := match i % 128 with
  | 0 => ⟨S16x16384, .i32⟩
  | 1 => ⟨S16x1x16384, .i32⟩
  | 2 => ⟨S16x32x16384, .i32⟩
  | 3 => ⟨S_, .i32⟩
  | 4 => ⟨S16x32x16384, .i32⟩
  | 5 => ⟨S16x32x16384, .i1⟩
  | 6 => ⟨S_, .i32⟩
  | 7 => ⟨S16x32x16384, .i32⟩
  | 8 => ⟨S16x32x16384, .i32⟩
  | 9 => ⟨S16x32x16384, .i32⟩
  | 10 => ⟨S16x32x16384x1, .i32⟩
  | 11 => ⟨S1, .i32⟩
  | 12 => ⟨S_, .i32⟩
  | 13 => ⟨S16x32x16384x1, .i32⟩
  | 14 => ⟨S16x32x16384x1, .i1⟩
  | 15 => ⟨S1x1x1x1, .i32⟩
  | 16 => ⟨S16x32x16384x1, .i32⟩
  | 17 => ⟨S16x32x16384x1, .i1⟩
  | 18 => ⟨S16x32x16384x1, .i1⟩
  | 19 => ⟨S_, .i1⟩
  | 20 => ⟨S16x32x16384, .i1⟩
  | 21 => ⟨S16x32x16384, .f32⟩
  | 22 => ⟨S_, .f32⟩
  | 23 => ⟨S16x32x16384, .f32⟩
  | 24 => ⟨S16x32x16384, .f32⟩
  | 25 => ⟨S16x32x4096x4, .f32⟩
  | 26 => ⟨S16x1x4096x4, .i1⟩
  | 27 => ⟨S16x1x4096x4, .f32⟩
  | 28 => ⟨S16x32x4096x4, .f32⟩
  | 29 => ⟨S16x32x4096x4, .f32⟩
  | 30 => ⟨S16x1x4096x4, .f32⟩
  | 31 => ⟨S16x32x4096x4, .f32⟩
  | 32 => ⟨S16x32x4096x4, .f32⟩
  | 33 => ⟨S16x32x4096x4, .f32⟩
  | 34 => ⟨S_, .f32⟩
  | 35 => ⟨S16x4096x4, .f32⟩
  | 36 => ⟨S16x4096x4, .i1⟩
  | 37 => ⟨S_, .f32⟩
  | 38 => ⟨S16x4096x4, .f32⟩
  | 39 => ⟨S16x4096x4, .i1⟩
  | 40 => ⟨S16x4096x4, .i1⟩
  | 41 => ⟨S_, .f32⟩
  | 42 => ⟨S16x4096x4, .f32⟩
  | 43 => ⟨S16x4096x4, .i1⟩
  | 44 => ⟨S16x4096x4, .i1⟩
  | 45 => ⟨S_, .f32⟩
  | 46 => ⟨S16x4096x4, .f32⟩
  | 47 => ⟨S16x4096x4, .i1⟩
  | 48 => ⟨S16x4096x4, .i1⟩
  | 49 => ⟨S_, .i32⟩
  | 50 => ⟨S_, .i32⟩
  | 51 => ⟨S_, .f32⟩
  | 52 => ⟨S16x4096x4, .f32⟩
  | 53 => ⟨S16x4096x4, .f32⟩
  | 54 => ⟨S_, .f32⟩
  | 55 => ⟨S16x4096x4, .f32⟩
  | 56 => ⟨S16x4096x4, .f32⟩
  | 57 => ⟨S16x4096x4, .i32⟩
  | 58 => ⟨S_, .i32⟩
  | 59 => ⟨S_, .i32⟩
  | 60 => ⟨S_, .f32⟩
  | 61 => ⟨S16x4096x4, .f32⟩
  | 62 => ⟨S16x4096x4, .f32⟩
  | 63 => ⟨S_, .f32⟩
  | 64 => ⟨S16x4096x4, .f32⟩
  | 65 => ⟨S16x4096x4, .f32⟩
  | 66 => ⟨S16x4096x4, .i32⟩
  | 67 => ⟨S_, .i32⟩
  | 68 => ⟨S16x4096x4, .i32⟩
  | 69 => ⟨S16x4096x4, .i32⟩
  | 70 => ⟨S16x4096x4, .i32⟩
  | 71 => ⟨S16x16384, .i32⟩
  | 72 => ⟨S16x1x16384, .i32⟩
  | 73 => ⟨S16x32x16384, .i32⟩
  | 74 => ⟨S_, .i32⟩
  | 75 => ⟨S16x32x16384, .i32⟩
  | 76 => ⟨S16x32x16384, .i1⟩
  | 77 => ⟨S_, .i32⟩
  | 78 => ⟨S16x32x16384, .i32⟩
  | 79 => ⟨S16x32x16384, .i32⟩
  | 80 => ⟨S16x32x16384, .i32⟩
  | 81 => ⟨S16x32x16384x1, .i32⟩
  | 82 => ⟨S1, .i32⟩
  | 83 => ⟨S_, .i32⟩
  | 84 => ⟨S16x32x16384x1, .i32⟩
  | 85 => ⟨S16x32x16384x1, .i1⟩
  | 86 => ⟨S1x1x1x1, .i32⟩
  | 87 => ⟨S16x32x16384x1, .i32⟩
  | 88 => ⟨S16x32x16384x1, .i1⟩
  | 89 => ⟨S16x32x16384x1, .i1⟩
  | 90 => ⟨S_, .i1⟩
  | 91 => ⟨S16x32x16384, .i1⟩
  | 92 => ⟨S16x32x16384, .f32⟩
  | 93 => ⟨S_, .f32⟩
  | 94 => ⟨S16x32x16384, .f32⟩
  | 95 => ⟨S16x32x16384, .f32⟩
  | 96 => ⟨S16x32x4096x4, .f32⟩
  | 97 => ⟨S16x1x4096x4, .i1⟩
  | 98 => ⟨S16x1x4096x4, .f32⟩
  | 99 => ⟨S16x32x4096x4, .f32⟩
  | 100 => ⟨S16x32x4096x4, .f32⟩
  | 101 => ⟨S16x1x4096x4, .f32⟩
  | 102 => ⟨S16x32x4096x4, .f32⟩
  | 103 => ⟨S16x32x4096x4, .f32⟩
  | 104 => ⟨S16x32x4096x4, .f32⟩
  | 105 => ⟨S2x1024x8x32, .f32⟩
  | 106 => ⟨S2x8x32x1024, .f32⟩
  | 107 => ⟨S16x32x32x32, .f32⟩
  | 108 => ⟨S2x4096x8x1x4x2, .f32⟩
  | 109 => ⟨S2x4096x8x4x2, .f32⟩
  | 110 => ⟨S2x8x4096x4x2, .f32⟩
  | 111 => ⟨S16x4096x4x2, .f32⟩
  | 112 => ⟨S16x4096x4x1, .f32⟩
  | 113 => ⟨S16x4096x4, .f32⟩
  | 114 => ⟨S_, .f32⟩
  | 115 => ⟨S16x4096x4, .f32⟩
  | 116 => ⟨S16x4096x4, .f32⟩
  | 117 => ⟨S_, .f32⟩
  | 118 => ⟨S16x4096x4, .f32⟩
  | 119 => ⟨S16x4096x4, .f32⟩
  | 120 => ⟨S_, .f32⟩
  | 121 => ⟨S16x4096x4, .f32⟩
  | 122 => ⟨S16x4096x4, .f32⟩
  | 123 => ⟨S_, .f32⟩
  | 124 => ⟨S16x4096x4, .f32⟩
  | 125 => ⟨S16x4096x4, .f32⟩
  | 126 => ⟨S16x4096x4x1, .f32⟩
  | 127 => ⟨S16x4096x4, .f32⟩
  | _ => ⟨S4x2x256x32x32, .f32⟩

abbrev hbmTy0_23 (i : Nat) : BufTy := match i % 128 with
  | 0 => ⟨S_, .f32⟩
  | 1 => ⟨S16x4096x4, .f32⟩
  | 2 => ⟨S16x4096x4, .f32⟩
  | 3 => ⟨S_, .f32⟩
  | 4 => ⟨S16x4096x4, .f32⟩
  | 5 => ⟨S16x4096x4, .f32⟩
  | 6 => ⟨S_, .f32⟩
  | 7 => ⟨S16x4096x4, .f32⟩
  | 8 => ⟨S16x4096x4, .f32⟩
  | 9 => ⟨S_, .f32⟩
  | 10 => ⟨S16x4096x4, .f32⟩
  | 11 => ⟨S16x4096x4, .f32⟩
  | 12 => ⟨S16x4096x4, .f32⟩
  | 13 => ⟨S16x4096x4, .f32⟩
  | 14 => ⟨S_, .f32⟩
  | 15 => ⟨S16x4096x4, .f32⟩
  | 16 => ⟨S16x4096x4, .f32⟩
  | 17 => ⟨S_, .f32⟩
  | 18 => ⟨S16x4096x4, .f32⟩
  | 19 => ⟨S16x4096x4, .f32⟩
  | 20 => ⟨S16x4096x4, .f32⟩
  | 21 => ⟨S16x4096x4, .f32⟩
  | 22 => ⟨S16x4096x4, .f32⟩
  | 23 => ⟨S16x4096x4, .f32⟩
  | 24 => ⟨S16x4096x4, .f32⟩
  | 25 => ⟨S16x4096x4, .f32⟩
  | 26 => ⟨S16x4096x4, .f32⟩
  | 27 => ⟨S16x4096x4, .f32⟩
  | 28 => ⟨S16x4096x4, .f32⟩
  | 29 => ⟨S16x4096x4, .f32⟩
  | 30 => ⟨S16x4096x4, .f32⟩
  | 31 => ⟨S16x4096x4, .f32⟩
  | 32 => ⟨S16x32x1024, .f32⟩
  | 33 => ⟨S_, .f32⟩
  | 34 => ⟨S16x4096x4, .f32⟩
  | 35 => ⟨S16x4096x4, .i1⟩
  | 36 => ⟨S_, .f32⟩
  | 37 => ⟨S16x4096x4, .f32⟩
  | 38 => ⟨S16x4096x4, .i1⟩
  | 39 => ⟨S16x4096x4, .i1⟩
  | 40 => ⟨S_, .f32⟩
  | 41 => ⟨S16x4096x4, .f32⟩
  | 42 => ⟨S16x4096x4, .i1⟩
  | 43 => ⟨S16x4096x4, .i1⟩
  | 44 => ⟨S_, .f32⟩
  | 45 => ⟨S16x4096x4, .f32⟩
  | 46 => ⟨S16x4096x4, .i1⟩
  | 47 => ⟨S16x4096x4, .i1⟩
  | 48 => ⟨S_, .i32⟩
  | 49 => ⟨S_, .i32⟩
  | 50 => ⟨S_, .f32⟩
  | 51 => ⟨S16x4096x4, .f32⟩
  | 52 => ⟨S16x4096x4, .f32⟩
  | 53 => ⟨S_, .f32⟩
  | 54 => ⟨S16x4096x4, .f32⟩
  | 55 => ⟨S16x4096x4, .f32⟩
  | 56 => ⟨S16x4096x4, .i32⟩
  | 57 => ⟨S_, .i32⟩
  | 58 => ⟨S_, .i32⟩
  | 59 => ⟨S_, .f32⟩
  | 60 => ⟨S16x4096x4, .f32⟩
  | 61 => ⟨S16x4096x4, .f32⟩
  | 62 => ⟨S_, .f32⟩
  | 63 => ⟨S16x4096x4, .f32⟩
  | 64 => ⟨S16x4096x4, .f32⟩
  | 65 => ⟨S16x4096x4, .i32⟩
  | 66 => ⟨S_, .i32⟩
  | 67 => ⟨S16x4096x4, .i32⟩
  | 68 => ⟨S16x4096x4, .i32⟩
  | 69 => ⟨S16x4096x4, .i32⟩
  | 70 => ⟨S16x16384, .i32⟩
  | 71 => ⟨S16x1x16384, .i32⟩
  | 72 => ⟨S16x32x16384, .i32⟩
  | 73 => ⟨S_, .i32⟩
  | 74 => ⟨S16x32x16384, .i32⟩
  | 75 => ⟨S16x32x16384, .i1⟩
  | 76 => ⟨S_, .i32⟩
  | 77 => ⟨S16x32x16384, .i32⟩
  | 78 => ⟨S16x32x16384, .i32⟩
  | 79 => ⟨S16x32x16384, .i32⟩
  | 80 => ⟨S16x32x16384x1, .i32⟩
  | 81 => ⟨S1, .i32⟩
  | 82 => ⟨S_, .i32⟩
  | 83 => ⟨S16x32x16384x1, .i32⟩
  | 84 => ⟨S16x32x16384x1, .i1⟩
  | 85 => ⟨S1x1x1x1, .i32⟩
  | 86 => ⟨S16x32x16384x1, .i32⟩
  | 87 => ⟨S16x32x16384x1, .i1⟩
  | 88 => ⟨S16x32x16384x1, .i1⟩
  | 89 => ⟨S_, .i1⟩
  | 90 => ⟨S16x32x16384, .i1⟩
  | 91 => ⟨S16x32x16384, .f32⟩
  | 92 => ⟨S_, .f32⟩
  | 93 => ⟨S16x32x16384, .f32⟩
  | 94 => ⟨S16x32x16384, .f32⟩
  | 95 => ⟨S16x32x4096x4, .f32⟩
  | 96 => ⟨S16x1x4096x4, .i1⟩
  | 97 => ⟨S16x1x4096x4, .f32⟩
  | 98 => ⟨S16x32x4096x4, .f32⟩
  | 99 => ⟨S16x32x4096x4, .f32⟩
  | 100 => ⟨S16x1x4096x4, .f32⟩
  | 101 => ⟨S16x32x4096x4, .f32⟩
  | 102 => ⟨S16x32x4096x4, .f32⟩
  | 103 => ⟨S_, .f32⟩
  | 104 => ⟨S16x4096x4, .f32⟩
  | 105 => ⟨S16x4096x4, .i1⟩
  | 106 => ⟨S_, .f32⟩
  | 107 => ⟨S16x4096x4, .f32⟩
  | 108 => ⟨S16x4096x4, .i1⟩
  | 109 => ⟨S16x4096x4, .i1⟩
  | 110 => ⟨S_, .f32⟩
  | 111 => ⟨S16x4096x4, .f32⟩
  | 112 => ⟨S16x4096x4, .i1⟩
  | 113 => ⟨S16x4096x4, .i1⟩
  | 114 => ⟨S_, .f32⟩
  | 115 => ⟨S16x4096x4, .f32⟩
  | 116 => ⟨S16x4096x4, .i1⟩
  | 117 => ⟨S16x4096x4, .i1⟩
  | 118 => ⟨S_, .i32⟩
  | 119 => ⟨S_, .i32⟩
  | 120 => ⟨S_, .f32⟩
  | 121 => ⟨S16x4096x4, .f32⟩
  | 122 => ⟨S16x4096x4, .f32⟩
  | 123 => ⟨S_, .f32⟩
  | 124 => ⟨S16x4096x4, .f32⟩
  | 125 => ⟨S16x4096x4, .f32⟩
  | 126 => ⟨S16x4096x4, .i32⟩
  | 127 => ⟨S_, .i32⟩
  | _ => ⟨S4x2x256x32x32, .f32⟩

abbrev hbmTy0_24 (i : Nat) : BufTy := match i % 128 with
  | 0 => ⟨S_, .i32⟩
  | 1 => ⟨S_, .f32⟩
  | 2 => ⟨S16x4096x4, .f32⟩
  | 3 => ⟨S16x4096x4, .f32⟩
  | 4 => ⟨S_, .f32⟩
  | 5 => ⟨S16x4096x4, .f32⟩
  | 6 => ⟨S16x4096x4, .f32⟩
  | 7 => ⟨S16x4096x4, .i32⟩
  | 8 => ⟨S_, .i32⟩
  | 9 => ⟨S16x4096x4, .i32⟩
  | 10 => ⟨S16x4096x4, .i32⟩
  | 11 => ⟨S16x4096x4, .i32⟩
  | 12 => ⟨S16x16384, .i32⟩
  | 13 => ⟨S16x1x16384, .i32⟩
  | 14 => ⟨S16x32x16384, .i32⟩
  | 15 => ⟨S_, .i32⟩
  | 16 => ⟨S16x32x16384, .i32⟩
  | 17 => ⟨S16x32x16384, .i1⟩
  | 18 => ⟨S_, .i32⟩
  | 19 => ⟨S16x32x16384, .i32⟩
  | 20 => ⟨S16x32x16384, .i32⟩
  | 21 => ⟨S16x32x16384, .i32⟩
  | 22 => ⟨S16x32x16384x1, .i32⟩
  | 23 => ⟨S1, .i32⟩
  | 24 => ⟨S_, .i32⟩
  | 25 => ⟨S16x32x16384x1, .i32⟩
  | 26 => ⟨S16x32x16384x1, .i1⟩
  | 27 => ⟨S1x1x1x1, .i32⟩
  | 28 => ⟨S16x32x16384x1, .i32⟩
  | 29 => ⟨S16x32x16384x1, .i1⟩
  | 30 => ⟨S16x32x16384x1, .i1⟩
  | 31 => ⟨S_, .i1⟩
  | 32 => ⟨S16x32x16384, .i1⟩
  | 33 => ⟨S16x32x16384, .f32⟩
  | 34 => ⟨S_, .f32⟩
  | 35 => ⟨S16x32x16384, .f32⟩
  | 36 => ⟨S16x32x16384, .f32⟩
  | 37 => ⟨S16x32x4096x4, .f32⟩
  | 38 => ⟨S16x1x4096x4, .i1⟩
  | 39 => ⟨S16x1x4096x4, .f32⟩
  | 40 => ⟨S16x32x4096x4, .f32⟩
  | 41 => ⟨S16x32x4096x4, .f32⟩
  | 42 => ⟨S16x1x4096x4, .f32⟩
  | 43 => ⟨S16x32x4096x4, .f32⟩
  | 44 => ⟨S16x32x4096x4, .f32⟩
  | 45 => ⟨S16x32x4096x4, .f32⟩
  | 46 => ⟨S_, .f32⟩
  | 47 => ⟨S16x4096x4, .f32⟩
  | 48 => ⟨S16x4096x4, .i1⟩
  | 49 => ⟨S_, .f32⟩
  | 50 => ⟨S16x4096x4, .f32⟩
  | 51 => ⟨S16x4096x4, .i1⟩
  | 52 => ⟨S16x4096x4, .i1⟩
  | 53 => ⟨S_, .f32⟩
  | 54 => ⟨S16x4096x4, .f32⟩
  | 55 => ⟨S16x4096x4, .i1⟩
  | 56 => ⟨S16x4096x4, .i1⟩
  | 57 => ⟨S_, .f32⟩
  | 58 => ⟨S16x4096x4, .f32⟩
  | 59 => ⟨S16x4096x4, .i1⟩
  | 60 => ⟨S16x4096x4, .i1⟩
  | 61 => ⟨S_, .i32⟩
  | 62 => ⟨S_, .i32⟩
  | 63 => ⟨S_, .f32⟩
  | 64 => ⟨S16x4096x4, .f32⟩
  | 65 => ⟨S16x4096x4, .f32⟩
  | 66 => ⟨S_, .f32⟩
  | 67 => ⟨S16x4096x4, .f32⟩
  | 68 => ⟨S16x4096x4, .f32⟩
  | 69 => ⟨S16x4096x4, .i32⟩
  | 70 => ⟨S_, .i32⟩
  | 71 => ⟨S_, .i32⟩
  | 72 => ⟨S_, .f32⟩
  | 73 => ⟨S16x4096x4, .f32⟩
  | 74 => ⟨S16x4096x4, .f32⟩
  | 75 => ⟨S_, .f32⟩
  | 76 => ⟨S16x4096x4, .f32⟩
  | 77 => ⟨S16x4096x4, .f32⟩
  | 78 => ⟨S16x4096x4, .i32⟩
  | 79 => ⟨S_, .i32⟩
  | 80 => ⟨S16x4096x4, .i32⟩
  | 81 => ⟨S16x4096x4, .i32⟩
  | 82 => ⟨S16x4096x4, .i32⟩
  | 83 => ⟨S16x16384, .i32⟩
  | 84 => ⟨S16x1x16384, .i32⟩
  | 85 => ⟨S16x32x16384, .i32⟩
  | 86 => ⟨S_, .i32⟩
  | 87 => ⟨S16x32x16384, .i32⟩
  | 88 => ⟨S16x32x16384, .i1⟩
  | 89 => ⟨S_, .i32⟩
  | 90 => ⟨S16x32x16384, .i32⟩
  | 91 => ⟨S16x32x16384, .i32⟩
  | 92 => ⟨S16x32x16384, .i32⟩
  | 93 => ⟨S16x32x16384x1, .i32⟩
  | 94 => ⟨S1, .i32⟩
  | 95 => ⟨S_, .i32⟩
  | 96 => ⟨S16x32x16384x1, .i32⟩
  | 97 => ⟨S16x32x16384x1, .i1⟩
  | 98 => ⟨S1x1x1x1, .i32⟩
  | 99 => ⟨S16x32x16384x1, .i32⟩
  | 100 => ⟨S16x32x16384x1, .i1⟩
  | 101 => ⟨S16x32x16384x1, .i1⟩
  | 102 => ⟨S_, .i1⟩
  | 103 => ⟨S16x32x16384, .i1⟩
  | 104 => ⟨S16x32x16384, .f32⟩
  | 105 => ⟨S_, .f32⟩
  | 106 => ⟨S16x32x16384, .f32⟩
  | 107 => ⟨S16x32x16384, .f32⟩
  | 108 => ⟨S16x32x4096x4, .f32⟩
  | 109 => ⟨S16x1x4096x4, .i1⟩
  | 110 => ⟨S16x1x4096x4, .f32⟩
  | 111 => ⟨S16x32x4096x4, .f32⟩
  | 112 => ⟨S16x32x4096x4, .f32⟩
  | 113 => ⟨S16x1x4096x4, .f32⟩
  | 114 => ⟨S16x32x4096x4, .f32⟩
  | 115 => ⟨S16x32x4096x4, .f32⟩
  | 116 => ⟨S16x32x4096x4, .f32⟩
  | 117 => ⟨S_, .f32⟩
  | 118 => ⟨S16x4096x4, .f32⟩
  | 119 => ⟨S16x4096x4, .i1⟩
  | 120 => ⟨S_, .f32⟩
  | 121 => ⟨S16x4096x4, .f32⟩
  | 122 => ⟨S16x4096x4, .i1⟩
  | 123 => ⟨S16x4096x4, .i1⟩
  | 124 => ⟨S_, .f32⟩
  | 125 => ⟨S16x4096x4, .f32⟩
  | 126 => ⟨S16x4096x4, .i1⟩
  | 127 => ⟨S16x4096x4, .i1⟩
  | _ => ⟨S4x2x256x32x32, .f32⟩

abbrev hbmTy0_25 (i : Nat) : BufTy := match i % 128 with
  | 0 => ⟨S_, .f32⟩
  | 1 => ⟨S16x4096x4, .f32⟩
  | 2 => ⟨S16x4096x4, .i1⟩
  | 3 => ⟨S16x4096x4, .i1⟩
  | 4 => ⟨S_, .i32⟩
  | 5 => ⟨S_, .i32⟩
  | 6 => ⟨S_, .f32⟩
  | 7 => ⟨S16x4096x4, .f32⟩
  | 8 => ⟨S16x4096x4, .f32⟩
  | 9 => ⟨S_, .f32⟩
  | 10 => ⟨S16x4096x4, .f32⟩
  | 11 => ⟨S16x4096x4, .f32⟩
  | 12 => ⟨S16x4096x4, .i32⟩
  | 13 => ⟨S_, .i32⟩
  | 14 => ⟨S_, .i32⟩
  | 15 => ⟨S_, .f32⟩
  | 16 => ⟨S16x4096x4, .f32⟩
  | 17 => ⟨S16x4096x4, .f32⟩
  | 18 => ⟨S_, .f32⟩
  | 19 => ⟨S16x4096x4, .f32⟩
  | 20 => ⟨S16x4096x4, .f32⟩
  | 21 => ⟨S16x4096x4, .i32⟩
  | 22 => ⟨S_, .i32⟩
  | 23 => ⟨S16x4096x4, .i32⟩
  | 24 => ⟨S16x4096x4, .i32⟩
  | 25 => ⟨S16x4096x4, .i32⟩
  | 26 => ⟨S16x16384, .i32⟩
  | 27 => ⟨S16x1x16384, .i32⟩
  | 28 => ⟨S16x32x16384, .i32⟩
  | 29 => ⟨S_, .i32⟩
  | 30 => ⟨S16x32x16384, .i32⟩
  | 31 => ⟨S16x32x16384, .i1⟩
  | 32 => ⟨S_, .i32⟩
  | 33 => ⟨S16x32x16384, .i32⟩
  | 34 => ⟨S16x32x16384, .i32⟩
  | 35 => ⟨S16x32x16384, .i32⟩
  | 36 => ⟨S16x32x16384x1, .i32⟩
  | 37 => ⟨S1, .i32⟩
  | 38 => ⟨S_, .i32⟩
  | 39 => ⟨S16x32x16384x1, .i32⟩
  | 40 => ⟨S16x32x16384x1, .i1⟩
  | 41 => ⟨S1x1x1x1, .i32⟩
  | 42 => ⟨S16x32x16384x1, .i32⟩
  | 43 => ⟨S16x32x16384x1, .i1⟩
  | 44 => ⟨S16x32x16384x1, .i1⟩
  | 45 => ⟨S_, .i1⟩
  | 46 => ⟨S16x32x16384, .i1⟩
  | 47 => ⟨S16x32x16384, .f32⟩
  | 48 => ⟨S_, .f32⟩
  | 49 => ⟨S16x32x16384, .f32⟩
  | 50 => ⟨S16x32x16384, .f32⟩
  | 51 => ⟨S16x32x4096x4, .f32⟩
  | 52 => ⟨S16x1x4096x4, .i1⟩
  | 53 => ⟨S16x1x4096x4, .f32⟩
  | 54 => ⟨S16x32x4096x4, .f32⟩
  | 55 => ⟨S16x32x4096x4, .f32⟩
  | 56 => ⟨S16x1x4096x4, .f32⟩
  | 57 => ⟨S16x32x4096x4, .f32⟩
  | 58 => ⟨S16x32x4096x4, .f32⟩
  | 59 => ⟨S16x32x4096x4, .f32⟩
  | 60 => ⟨S16x32x4096x1x4, .f32⟩
  | 61 => ⟨S16x32x4096x1x4, .f32⟩
  | 62 => ⟨S16x32x4096x1x4, .f32⟩
  | 63 => ⟨S16x32x4096x1x4, .f32⟩
  | 64 => ⟨S16x32x4096x4x4, .f32⟩
  | 65 => ⟨S16x32x4096x16, .f32⟩
  | 66 => ⟨S2x8x4096x4x4, .f32⟩
  | 67 => ⟨S16x1x4096x16, .f32⟩
  | 68 => ⟨S16x32x4096x16, .f32⟩
  | 69 => ⟨S16x32x4096x16, .f32⟩
  | 70 => ⟨S_, .f32⟩
  | 71 => ⟨S16x32x4096, .f32⟩
  | 72 => ⟨S2x256x4096, .f32⟩
  | 73 => ⟨S2x4096x256, .f32⟩
  | 74 => ⟨S1x256x256, .f32⟩
  | 75 => ⟨S256x256, .f32⟩
  | 76 => ⟨S2x4096x256, .f32⟩
  | 77 => ⟨S1x256, .f32⟩
  | 78 => ⟨S256, .f32⟩
  | 79 => ⟨S1x1x256, .f32⟩
  | 80 => ⟨S2x4096x256, .f32⟩
  | 81 => ⟨S2x4096x256, .f32⟩
  | 82 => ⟨S2x4096x256, .f32⟩
  | 83 => ⟨S1x256, .f32⟩
  | 84 => ⟨S256, .f32⟩
  | 85 => ⟨S1x256, .f32⟩
  | 86 => ⟨S256, .f32⟩
  | 87 => ⟨S_, .f32⟩
  | 88 => ⟨S2x4096, .f32⟩
  | 89 => ⟨S2x4096x1, .f32⟩
  | 90 => ⟨S_, .f32⟩
  | 91 => ⟨S2x4096x1, .f32⟩
  | 92 => ⟨S2x4096x1, .f32⟩
  | 93 => ⟨S2x4096x256, .f32⟩
  | 94 => ⟨S2x4096x256, .f32⟩
  | 95 => ⟨S2x4096x256, .f32⟩
  | 96 => ⟨S_, .f32⟩
  | 97 => ⟨S2x4096, .f32⟩
  | 98 => ⟨S2x4096x1, .f32⟩
  | 99 => ⟨S_, .f32⟩
  | 100 => ⟨S2x4096x1, .f32⟩
  | 101 => ⟨S2x4096x1, .f32⟩
  | 102 => ⟨S2x4096x256, .f32⟩
  | 103 => ⟨S2x4096x256, .f32⟩
  | 104 => ⟨S_, .f32⟩
  | 105 => ⟨S2x4096x1, .f32⟩
  | 106 => ⟨S2x4096x1, .f32⟩
  | 107 => ⟨S2x4096x1, .f32⟩
  | 108 => ⟨S2x4096x256, .f32⟩
  | 109 => ⟨S2x4096x256, .f32⟩
  | 110 => ⟨S1x1x256, .f32⟩
  | 111 => ⟨S2x4096x256, .f32⟩
  | 112 => ⟨S2x4096x256, .f32⟩
  | 113 => ⟨S1x1x256, .f32⟩
  | 114 => ⟨S2x4096x256, .f32⟩
  | 115 => ⟨S2x4096x256, .f32⟩
  | 116 => ⟨S1x256x1024, .f32⟩
  | 117 => ⟨S256x1024, .f32⟩
  | 118 => ⟨S2x4096x1024, .f32⟩
  | 119 => ⟨S1x1024, .f32⟩
  | 120 => ⟨S1024, .f32⟩
  | 121 => ⟨S1x1x1024, .f32⟩
  | 122 => ⟨S2x4096x1024, .f32⟩
  | 123 => ⟨S2x4096x1024, .f32⟩
  | 124 => ⟨S_, .f32⟩
  | 125 => ⟨S2x4096x1024, .f32⟩
  | 126 => ⟨S2x4096x1024, .f32⟩
  | 127 => ⟨S1x1024x256, .f32⟩
  | _ => ⟨S4x2x256x32x32, .f32⟩

abbrev hbmTy0_26 (i : Nat) : BufTy := match i % 128 with
  | 0 => ⟨S1024x256, .f32⟩
  | 1 => ⟨S2x4096x256, .f32⟩
  | 2 => ⟨S1x256, .f32⟩
  | 3 => ⟨S256, .f32⟩
  | 4 => ⟨S1x1x256, .f32⟩
  | 5 => ⟨S2x4096x256, .f32⟩
  | 6 => ⟨S2x4096x256, .f32⟩
  | 7 => ⟨S2x4096x256, .f32⟩
  | 8 => ⟨S1x256, .f32⟩
  | 9 => ⟨S256, .f32⟩
  | 10 => ⟨S1x256, .f32⟩
  | 11 => ⟨S256, .f32⟩
  | 12 => ⟨S_, .f32⟩
  | 13 => ⟨S2x4096, .f32⟩
  | 14 => ⟨S2x4096x1, .f32⟩
  | 15 => ⟨S_, .f32⟩
  | 16 => ⟨S2x4096x1, .f32⟩
  | 17 => ⟨S2x4096x1, .f32⟩
  | 18 => ⟨S2x4096x256, .f32⟩
  | 19 => ⟨S2x4096x256, .f32⟩
  | 20 => ⟨S2x4096x256, .f32⟩
  | 21 => ⟨S_, .f32⟩
  | 22 => ⟨S2x4096, .f32⟩
  | 23 => ⟨S2x4096x1, .f32⟩
  | 24 => ⟨S_, .f32⟩
  | 25 => ⟨S2x4096x1, .f32⟩
  | 26 => ⟨S2x4096x1, .f32⟩
  | 27 => ⟨S2x4096x256, .f32⟩
  | 28 => ⟨S2x4096x256, .f32⟩
  | 29 => ⟨S_, .f32⟩
  | 30 => ⟨S2x4096x1, .f32⟩
  | 31 => ⟨S2x4096x1, .f32⟩
  | 32 => ⟨S2x4096x1, .f32⟩
  | 33 => ⟨S2x4096x256, .f32⟩
  | 34 => ⟨S2x4096x256, .f32⟩
  | 35 => ⟨S1x1x256, .f32⟩
  | 36 => ⟨S2x4096x256, .f32⟩
  | 37 => ⟨S2x4096x256, .f32⟩
  | 38 => ⟨S1x1x256, .f32⟩
  | 39 => ⟨S2x4096x256, .f32⟩
  | 40 => ⟨S2x4096x256, .f32⟩
  | 41 => ⟨S2x4096x256, .f32⟩
  | 42 => ⟨S1x256x256, .f32⟩
  | 43 => ⟨S256x256, .f32⟩
  | 44 => ⟨S2x4096x256, .f32⟩
  | 45 => ⟨S1x256, .f32⟩
  | 46 => ⟨S256, .f32⟩
  | 47 => ⟨S1x1x256, .f32⟩
  | 48 => ⟨S2x4096x256, .f32⟩
  | 49 => ⟨S2x4096x256, .f32⟩
  | 50 => ⟨S2x4096x8x32, .f32⟩
  | 51 => ⟨S1x256x256, .f32⟩
  | 52 => ⟨S256x256, .f32⟩
  | 53 => ⟨S2x4096x256, .f32⟩
  | 54 => ⟨S1x256, .f32⟩
  | 55 => ⟨S256, .f32⟩
  | 56 => ⟨S1x1x256, .f32⟩
  | 57 => ⟨S2x4096x256, .f32⟩
  | 58 => ⟨S2x4096x256, .f32⟩
  | 59 => ⟨S2x4096x8x4x4x2, .f32⟩
  | 60 => ⟨S1x256x128, .f32⟩
  | 61 => ⟨S256x128, .f32⟩
  | 62 => ⟨S2x4096x128, .f32⟩
  | 63 => ⟨S1x128, .f32⟩
  | 64 => ⟨S128, .f32⟩
  | 65 => ⟨S1x1x128, .f32⟩
  | 66 => ⟨S2x4096x128, .f32⟩
  | 67 => ⟨S2x4096x128, .f32⟩
  | 68 => ⟨S2x4096x8x16, .f32⟩
  | 69 => ⟨S_, .f32⟩
  | 70 => ⟨S2x4096x8, .f32⟩
  | 71 => ⟨S_, .f32⟩
  | 72 => ⟨S2x4096x8, .f32⟩
  | 73 => ⟨S2x4096x8, .f32⟩
  | 74 => ⟨S2x4096x8x1, .f32⟩
  | 75 => ⟨S2x4096x8x16, .f32⟩
  | 76 => ⟨S2x4096x8x16, .f32⟩
  | 77 => ⟨S2x4096x8x16, .f32⟩
  | 78 => ⟨S_, .f32⟩
  | 79 => ⟨S2x4096x8, .f32⟩
  | 80 => ⟨S2x4096x8x1, .f32⟩
  | 81 => ⟨S2x4096x8x16, .f32⟩
  | 82 => ⟨S2x4096x8x16, .f32⟩
  | 83 => ⟨S2x4096x8x4x4, .f32⟩
  | 84 => ⟨S2x4096x1x4x1x2, .f32⟩
  | 85 => ⟨S1x1x1x4x1x2, .f32⟩
  | 86 => ⟨S2x4096x8x4x4x2, .f32⟩
  | 87 => ⟨S2x4096x8x4x4x2, .f32⟩
  | 88 => ⟨S2x4096x8x4x4x2, .f32⟩
  | 89 => ⟨S2x4096x8x4x4x2, .f32⟩
  | 90 => ⟨S_, .f32⟩
  | 91 => ⟨S2x4096x8x4x4x2, .f32⟩
  | 92 => ⟨S2x4096x8x4x4x2, .f32⟩
  | 93 => ⟨S_, .f32⟩
  | 94 => ⟨S2x4096x8x4x4x2, .f32⟩
  | 95 => ⟨S2x4096x8x4x4x2, .f32⟩
  | 96 => ⟨S2x1024x8x32, .f32⟩
  | 97 => ⟨S2x8x32x1024, .f32⟩
  | 98 => ⟨S16x32x32x32, .f32⟩
  | 99 => ⟨S2x4096x8x1x4x2, .f32⟩
  | 100 => ⟨S2x4096x8x4x2, .f32⟩
  | 101 => ⟨S2x8x4096x4x2, .f32⟩
  | 102 => ⟨S16x4096x4x2, .f32⟩
  | 103 => ⟨S16x4096x4x1, .f32⟩
  | 104 => ⟨S16x4096x4, .f32⟩
  | 105 => ⟨S_, .f32⟩
  | 106 => ⟨S16x4096x4, .f32⟩
  | 107 => ⟨S16x4096x4, .f32⟩
  | 108 => ⟨S_, .f32⟩
  | 109 => ⟨S16x4096x4, .f32⟩
  | 110 => ⟨S16x4096x4, .f32⟩
  | 111 => ⟨S_, .f32⟩
  | 112 => ⟨S16x4096x4, .f32⟩
  | 113 => ⟨S16x4096x4, .f32⟩
  | 114 => ⟨S_, .f32⟩
  | 115 => ⟨S16x4096x4, .f32⟩
  | 116 => ⟨S16x4096x4, .f32⟩
  | 117 => ⟨S16x4096x4x1, .f32⟩
  | 118 => ⟨S16x4096x4, .f32⟩
  | 119 => ⟨S_, .f32⟩
  | 120 => ⟨S16x4096x4, .f32⟩
  | 121 => ⟨S16x4096x4, .f32⟩
  | 122 => ⟨S_, .f32⟩
  | 123 => ⟨S16x4096x4, .f32⟩
  | 124 => ⟨S16x4096x4, .f32⟩
  | 125 => ⟨S_, .f32⟩
  | 126 => ⟨S16x4096x4, .f32⟩
  | 127 => ⟨S16x4096x4, .f32⟩
  | _ => ⟨S4x2x256x32x32, .f32⟩

abbrev hbmTy0_27 (i : Nat) : BufTy := match i % 128 with
  | 0 => ⟨S_, .f32⟩
  | 1 => ⟨S16x4096x4, .f32⟩
  | 2 => ⟨S16x4096x4, .f32⟩
  | 3 => ⟨S16x4096x4, .f32⟩
  | 4 => ⟨S16x4096x4, .f32⟩
  | 5 => ⟨S_, .f32⟩
  | 6 => ⟨S16x4096x4, .f32⟩
  | 7 => ⟨S16x4096x4, .f32⟩
  | 8 => ⟨S_, .f32⟩
  | 9 => ⟨S16x4096x4, .f32⟩
  | 10 => ⟨S16x4096x4, .f32⟩
  | 11 => ⟨S16x4096x4, .f32⟩
  | 12 => ⟨S16x4096x4, .f32⟩
  | 13 => ⟨S16x4096x4, .f32⟩
  | 14 => ⟨S16x4096x4, .f32⟩
  | 15 => ⟨S16x4096x4, .f32⟩
  | 16 => ⟨S16x4096x4, .f32⟩
  | 17 => ⟨S16x4096x4, .f32⟩
  | 18 => ⟨S16x4096x4, .f32⟩
  | 19 => ⟨S16x4096x4, .f32⟩
  | 20 => ⟨S16x4096x4, .f32⟩
  | 21 => ⟨S16x4096x4, .f32⟩
  | 22 => ⟨S16x4096x4, .f32⟩
  | 23 => ⟨S16x32x1024, .f32⟩
  | 24 => ⟨S_, .f32⟩
  | 25 => ⟨S16x4096x4, .f32⟩
  | 26 => ⟨S16x4096x4, .i1⟩
  | 27 => ⟨S_, .f32⟩
  | 28 => ⟨S16x4096x4, .f32⟩
  | 29 => ⟨S16x4096x4, .i1⟩
  | 30 => ⟨S16x4096x4, .i1⟩
  | 31 => ⟨S_, .f32⟩
  | 32 => ⟨S16x4096x4, .f32⟩
  | 33 => ⟨S16x4096x4, .i1⟩
  | 34 => ⟨S16x4096x4, .i1⟩
  | 35 => ⟨S_, .f32⟩
  | 36 => ⟨S16x4096x4, .f32⟩
  | 37 => ⟨S16x4096x4, .i1⟩
  | 38 => ⟨S16x4096x4, .i1⟩
  | 39 => ⟨S_, .i32⟩
  | 40 => ⟨S_, .i32⟩
  | 41 => ⟨S_, .f32⟩
  | 42 => ⟨S16x4096x4, .f32⟩
  | 43 => ⟨S16x4096x4, .f32⟩
  | 44 => ⟨S_, .f32⟩
  | 45 => ⟨S16x4096x4, .f32⟩
  | 46 => ⟨S16x4096x4, .f32⟩
  | 47 => ⟨S16x4096x4, .i32⟩
  | 48 => ⟨S_, .i32⟩
  | 49 => ⟨S_, .i32⟩
  | 50 => ⟨S_, .f32⟩
  | 51 => ⟨S16x4096x4, .f32⟩
  | 52 => ⟨S16x4096x4, .f32⟩
  | 53 => ⟨S_, .f32⟩
  | 54 => ⟨S16x4096x4, .f32⟩
  | 55 => ⟨S16x4096x4, .f32⟩
  | 56 => ⟨S16x4096x4, .i32⟩
  | 57 => ⟨S_, .i32⟩
  | 58 => ⟨S16x4096x4, .i32⟩
  | 59 => ⟨S16x4096x4, .i32⟩
  | 60 => ⟨S16x4096x4, .i32⟩
  | 61 => ⟨S16x16384, .i32⟩
  | 62 => ⟨S16x1x16384, .i32⟩
  | 63 => ⟨S16x32x16384, .i32⟩
  | 64 => ⟨S_, .i32⟩
  | 65 => ⟨S16x32x16384, .i32⟩
  | 66 => ⟨S16x32x16384, .i1⟩
  | 67 => ⟨S_, .i32⟩
  | 68 => ⟨S16x32x16384, .i32⟩
  | 69 => ⟨S16x32x16384, .i32⟩
  | 70 => ⟨S16x32x16384, .i32⟩
  | 71 => ⟨S16x32x16384x1, .i32⟩
  | 72 => ⟨S1, .i32⟩
  | 73 => ⟨S_, .i32⟩
  | 74 => ⟨S16x32x16384x1, .i32⟩
  | 75 => ⟨S16x32x16384x1, .i1⟩
  | 76 => ⟨S1x1x1x1, .i32⟩
  | 77 => ⟨S16x32x16384x1, .i32⟩
  | 78 => ⟨S16x32x16384x1, .i1⟩
  | 79 => ⟨S16x32x16384x1, .i1⟩
  | 80 => ⟨S_, .i1⟩
  | 81 => ⟨S16x32x16384, .i1⟩
  | 82 => ⟨S16x32x16384, .f32⟩
  | 83 => ⟨S_, .f32⟩
  | 84 => ⟨S16x32x16384, .f32⟩
  | 85 => ⟨S16x32x16384, .f32⟩
  | 86 => ⟨S16x32x4096x4, .f32⟩
  | 87 => ⟨S16x1x4096x4, .i1⟩
  | 88 => ⟨S16x1x4096x4, .f32⟩
  | 89 => ⟨S16x32x4096x4, .f32⟩
  | 90 => ⟨S16x32x4096x4, .f32⟩
  | 91 => ⟨S16x1x4096x4, .f32⟩
  | 92 => ⟨S16x32x4096x4, .f32⟩
  | 93 => ⟨S16x32x4096x4, .f32⟩
  | 94 => ⟨S_, .f32⟩
  | 95 => ⟨S16x4096x4, .f32⟩
  | 96 => ⟨S16x4096x4, .i1⟩
  | 97 => ⟨S_, .f32⟩
  | 98 => ⟨S16x4096x4, .f32⟩
  | 99 => ⟨S16x4096x4, .i1⟩
  | 100 => ⟨S16x4096x4, .i1⟩
  | 101 => ⟨S_, .f32⟩
  | 102 => ⟨S16x4096x4, .f32⟩
  | 103 => ⟨S16x4096x4, .i1⟩
  | 104 => ⟨S16x4096x4, .i1⟩
  | 105 => ⟨S_, .f32⟩
  | 106 => ⟨S16x4096x4, .f32⟩
  | 107 => ⟨S16x4096x4, .i1⟩
  | 108 => ⟨S16x4096x4, .i1⟩
  | 109 => ⟨S_, .i32⟩
  | 110 => ⟨S_, .i32⟩
  | 111 => ⟨S_, .f32⟩
  | 112 => ⟨S16x4096x4, .f32⟩
  | 113 => ⟨S16x4096x4, .f32⟩
  | 114 => ⟨S_, .f32⟩
  | 115 => ⟨S16x4096x4, .f32⟩
  | 116 => ⟨S16x4096x4, .f32⟩
  | 117 => ⟨S16x4096x4, .i32⟩
  | 118 => ⟨S_, .i32⟩
  | 119 => ⟨S_, .i32⟩
  | 120 => ⟨S_, .f32⟩
  | 121 => ⟨S16x4096x4, .f32⟩
  | 122 => ⟨S16x4096x4, .f32⟩
  | 123 => ⟨S_, .f32⟩
  | 124 => ⟨S16x4096x4, .f32⟩
  | 125 => ⟨S16x4096x4, .f32⟩
  | 126 => ⟨S16x4096x4, .i32⟩
  | 127 => ⟨S_, .i32⟩
  | _ => ⟨S4x2x256x32x32, .f32⟩

abbrev hbmTy0_28 (i : Nat) : BufTy := match i % 128 with
  | 0 => ⟨S16x4096x4, .i32⟩
  | 1 => ⟨S16x4096x4, .i32⟩
  | 2 => ⟨S16x4096x4, .i32⟩
  | 3 => ⟨S16x16384, .i32⟩
  | 4 => ⟨S16x1x16384, .i32⟩
  | 5 => ⟨S16x32x16384, .i32⟩
  | 6 => ⟨S_, .i32⟩
  | 7 => ⟨S16x32x16384, .i32⟩
  | 8 => ⟨S16x32x16384, .i1⟩
  | 9 => ⟨S_, .i32⟩
  | 10 => ⟨S16x32x16384, .i32⟩
  | 11 => ⟨S16x32x16384, .i32⟩
  | 12 => ⟨S16x32x16384, .i32⟩
  | 13 => ⟨S16x32x16384x1, .i32⟩
  | 14 => ⟨S1, .i32⟩
  | 15 => ⟨S_, .i32⟩
  | 16 => ⟨S16x32x16384x1, .i32⟩
  | 17 => ⟨S16x32x16384x1, .i1⟩
  | 18 => ⟨S1x1x1x1, .i32⟩
  | 19 => ⟨S16x32x16384x1, .i32⟩
  | 20 => ⟨S16x32x16384x1, .i1⟩
  | 21 => ⟨S16x32x16384x1, .i1⟩
  | 22 => ⟨S_, .i1⟩
  | 23 => ⟨S16x32x16384, .i1⟩
  | 24 => ⟨S16x32x16384, .f32⟩
  | 25 => ⟨S_, .f32⟩
  | 26 => ⟨S16x32x16384, .f32⟩
  | 27 => ⟨S16x32x16384, .f32⟩
  | 28 => ⟨S16x32x4096x4, .f32⟩
  | 29 => ⟨S16x1x4096x4, .i1⟩
  | 30 => ⟨S16x1x4096x4, .f32⟩
  | 31 => ⟨S16x32x4096x4, .f32⟩
  | 32 => ⟨S16x32x4096x4, .f32⟩
  | 33 => ⟨S16x1x4096x4, .f32⟩
  | 34 => ⟨S16x32x4096x4, .f32⟩
  | 35 => ⟨S16x32x4096x4, .f32⟩
  | 36 => ⟨S16x32x4096x4, .f32⟩
  | 37 => ⟨S_, .f32⟩
  | 38 => ⟨S16x4096x4, .f32⟩
  | 39 => ⟨S16x4096x4, .i1⟩
  | 40 => ⟨S_, .f32⟩
  | 41 => ⟨S16x4096x4, .f32⟩
  | 42 => ⟨S16x4096x4, .i1⟩
  | 43 => ⟨S16x4096x4, .i1⟩
  | 44 => ⟨S_, .f32⟩
  | 45 => ⟨S16x4096x4, .f32⟩
  | 46 => ⟨S16x4096x4, .i1⟩
  | 47 => ⟨S16x4096x4, .i1⟩
  | 48 => ⟨S_, .f32⟩
  | 49 => ⟨S16x4096x4, .f32⟩
  | 50 => ⟨S16x4096x4, .i1⟩
  | 51 => ⟨S16x4096x4, .i1⟩
  | 52 => ⟨S_, .i32⟩
  | 53 => ⟨S_, .i32⟩
  | 54 => ⟨S_, .f32⟩
  | 55 => ⟨S16x4096x4, .f32⟩
  | 56 => ⟨S16x4096x4, .f32⟩
  | 57 => ⟨S_, .f32⟩
  | 58 => ⟨S16x4096x4, .f32⟩
  | 59 => ⟨S16x4096x4, .f32⟩
  | 60 => ⟨S16x4096x4, .i32⟩
  | 61 => ⟨S_, .i32⟩
  | 62 => ⟨S_, .i32⟩
  | 63 => ⟨S_, .f32⟩
  | 64 => ⟨S16x4096x4, .f32⟩
  | 65 => ⟨S16x4096x4, .f32⟩
  | 66 => ⟨S_, .f32⟩
  | 67 => ⟨S16x4096x4, .f32⟩
  | 68 => ⟨S16x4096x4, .f32⟩
  | 69 => ⟨S16x4096x4, .i32⟩
  | 70 => ⟨S_, .i32⟩
  | 71 => ⟨S16x4096x4, .i32⟩
  | 72 => ⟨S16x4096x4, .i32⟩
  | 73 => ⟨S16x4096x4, .i32⟩
  | 74 => ⟨S16x16384, .i32⟩
  | 75 => ⟨S16x1x16384, .i32⟩
  | 76 => ⟨S16x32x16384, .i32⟩
  | 77 => ⟨S_, .i32⟩
  | 78 => ⟨S16x32x16384, .i32⟩
  | 79 => ⟨S16x32x16384, .i1⟩
  | 80 => ⟨S_, .i32⟩
  | 81 => ⟨S16x32x16384, .i32⟩
  | 82 => ⟨S16x32x16384, .i32⟩
  | 83 => ⟨S16x32x16384, .i32⟩
  | 84 => ⟨S16x32x16384x1, .i32⟩
  | 85 => ⟨S1, .i32⟩
  | 86 => ⟨S_, .i32⟩
  | 87 => ⟨S16x32x16384x1, .i32⟩
  | 88 => ⟨S16x32x16384x1, .i1⟩
  | 89 => ⟨S1x1x1x1, .i32⟩
  | 90 => ⟨S16x32x16384x1, .i32⟩
  | 91 => ⟨S16x32x16384x1, .i1⟩
  | 92 => ⟨S16x32x16384x1, .i1⟩
  | 93 => ⟨S_, .i1⟩
  | 94 => ⟨S16x32x16384, .i1⟩
  | 95 => ⟨S16x32x16384, .f32⟩
  | 96 => ⟨S_, .f32⟩
  | 97 => ⟨S16x32x16384, .f32⟩
  | 98 => ⟨S16x32x16384, .f32⟩
  | 99 => ⟨S16x32x4096x4, .f32⟩
  | 100 => ⟨S16x1x4096x4, .i1⟩
  | 101 => ⟨S16x1x4096x4, .f32⟩
  | 102 => ⟨S16x32x4096x4, .f32⟩
  | 103 => ⟨S16x32x4096x4, .f32⟩
  | 104 => ⟨S16x1x4096x4, .f32⟩
  | 105 => ⟨S16x32x4096x4, .f32⟩
  | 106 => ⟨S16x32x4096x4, .f32⟩
  | 107 => ⟨S16x32x4096x4, .f32⟩
  | 108 => ⟨S_, .f32⟩
  | 109 => ⟨S16x4096x4, .f32⟩
  | 110 => ⟨S16x4096x4, .i1⟩
  | 111 => ⟨S_, .f32⟩
  | 112 => ⟨S16x4096x4, .f32⟩
  | 113 => ⟨S16x4096x4, .i1⟩
  | 114 => ⟨S16x4096x4, .i1⟩
  | 115 => ⟨S_, .f32⟩
  | 116 => ⟨S16x4096x4, .f32⟩
  | 117 => ⟨S16x4096x4, .i1⟩
  | 118 => ⟨S16x4096x4, .i1⟩
  | 119 => ⟨S_, .f32⟩
  | 120 => ⟨S16x4096x4, .f32⟩
  | 121 => ⟨S16x4096x4, .i1⟩
  | 122 => ⟨S16x4096x4, .i1⟩
  | 123 => ⟨S_, .i32⟩
  | 124 => ⟨S_, .i32⟩
  | 125 => ⟨S_, .f32⟩
  | 126 => ⟨S16x4096x4, .f32⟩
  | 127 => ⟨S16x4096x4, .f32⟩
  | _ => ⟨S4x2x256x32x32, .f32⟩

abbrev hbmTy0_29 (i : Nat) : BufTy := match i % 128 with
  | 0 => ⟨S_, .f32⟩
  | 1 => ⟨S16x4096x4, .f32⟩
  | 2 => ⟨S16x4096x4, .f32⟩
  | 3 => ⟨S16x4096x4, .i32⟩
  | 4 => ⟨S_, .i32⟩
  | 5 => ⟨S_, .i32⟩
  | 6 => ⟨S_, .f32⟩
  | 7 => ⟨S16x4096x4, .f32⟩
  | 8 => ⟨S16x4096x4, .f32⟩
  | 9 => ⟨S_, .f32⟩
  | 10 => ⟨S16x4096x4, .f32⟩
  | 11 => ⟨S16x4096x4, .f32⟩
  | 12 => ⟨S16x4096x4, .i32⟩
  | 13 => ⟨S_, .i32⟩
  | 14 => ⟨S16x4096x4, .i32⟩
  | 15 => ⟨S16x4096x4, .i32⟩
  | 16 => ⟨S16x4096x4, .i32⟩
  | 17 => ⟨S16x16384, .i32⟩
  | 18 => ⟨S16x1x16384, .i32⟩
  | 19 => ⟨S16x32x16384, .i32⟩
  | 20 => ⟨S_, .i32⟩
  | 21 => ⟨S16x32x16384, .i32⟩
  | 22 => ⟨S16x32x16384, .i1⟩
  | 23 => ⟨S_, .i32⟩
  | 24 => ⟨S16x32x16384, .i32⟩
  | 25 => ⟨S16x32x16384, .i32⟩
  | 26 => ⟨S16x32x16384, .i32⟩
  | 27 => ⟨S16x32x16384x1, .i32⟩
  | 28 => ⟨S1, .i32⟩
  | 29 => ⟨S_, .i32⟩
  | 30 => ⟨S16x32x16384x1, .i32⟩
  | 31 => ⟨S16x32x16384x1, .i1⟩
  | 32 => ⟨S1x1x1x1, .i32⟩
  | 33 => ⟨S16x32x16384x1, .i32⟩
  | 34 => ⟨S16x32x16384x1, .i1⟩
  | 35 => ⟨S16x32x16384x1, .i1⟩
  | 36 => ⟨S_, .i1⟩
  | 37 => ⟨S16x32x16384, .i1⟩
  | 38 => ⟨S16x32x16384, .f32⟩
  | 39 => ⟨S_, .f32⟩
  | 40 => ⟨S16x32x16384, .f32⟩
  | 41 => ⟨S16x32x16384, .f32⟩
  | 42 => ⟨S16x32x4096x4, .f32⟩
  | 43 => ⟨S16x1x4096x4, .i1⟩
  | 44 => ⟨S16x1x4096x4, .f32⟩
  | 45 => ⟨S16x32x4096x4, .f32⟩
  | 46 => ⟨S16x32x4096x4, .f32⟩
  | 47 => ⟨S16x1x4096x4, .f32⟩
  | 48 => ⟨S16x32x4096x4, .f32⟩
  | 49 => ⟨S16x32x4096x4, .f32⟩
  | 50 => ⟨S16x32x4096x4, .f32⟩
  | 51 => ⟨S2x1024x8x32, .f32⟩
  | 52 => ⟨S2x8x32x1024, .f32⟩
  | 53 => ⟨S16x32x32x32, .f32⟩
  | 54 => ⟨S2x4096x8x1x4x2, .f32⟩
  | 55 => ⟨S2x4096x8x4x2, .f32⟩
  | 56 => ⟨S2x8x4096x4x2, .f32⟩
  | 57 => ⟨S16x4096x4x2, .f32⟩
  | 58 => ⟨S16x4096x4x1, .f32⟩
  | 59 => ⟨S16x4096x4, .f32⟩
  | 60 => ⟨S_, .f32⟩
  | 61 => ⟨S16x4096x4, .f32⟩
  | 62 => ⟨S16x4096x4, .f32⟩
  | 63 => ⟨S_, .f32⟩
  | 64 => ⟨S16x4096x4, .f32⟩
  | 65 => ⟨S16x4096x4, .f32⟩
  | 66 => ⟨S_, .f32⟩
  | 67 => ⟨S16x4096x4, .f32⟩
  | 68 => ⟨S16x4096x4, .f32⟩
  | 69 => ⟨S_, .f32⟩
  | 70 => ⟨S16x4096x4, .f32⟩
  | 71 => ⟨S16x4096x4, .f32⟩
  | 72 => ⟨S16x4096x4x1, .f32⟩
  | 73 => ⟨S16x4096x4, .f32⟩
  | 74 => ⟨S_, .f32⟩
  | 75 => ⟨S16x4096x4, .f32⟩
  | 76 => ⟨S16x4096x4, .f32⟩
  | 77 => ⟨S_, .f32⟩
  | 78 => ⟨S16x4096x4, .f32⟩
  | 79 => ⟨S16x4096x4, .f32⟩
  | 80 => ⟨S_, .f32⟩
  | 81 => ⟨S16x4096x4, .f32⟩
  | 82 => ⟨S16x4096x4, .f32⟩
  | 83 => ⟨S_, .f32⟩
  | 84 => ⟨S16x4096x4, .f32⟩
  | 85 => ⟨S16x4096x4, .f32⟩
  | 86 => ⟨S16x4096x4, .f32⟩
  | 87 => ⟨S16x4096x4, .f32⟩
  | 88 => ⟨S_, .f32⟩
  | 89 => ⟨S16x4096x4, .f32⟩
  | 90 => ⟨S16x4096x4, .f32⟩
  | 91 => ⟨S_, .f32⟩
  | 92 => ⟨S16x4096x4, .f32⟩
  | 93 => ⟨S16x4096x4, .f32⟩
  | 94 => ⟨S16x4096x4, .f32⟩
  | 95 => ⟨S16x4096x4, .f32⟩
  | 96 => ⟨S16x4096x4, .f32⟩
  | 97 => ⟨S16x4096x4, .f32⟩
  | 98 => ⟨S16x4096x4, .f32⟩
  | 99 => ⟨S16x4096x4, .f32⟩
  | 100 => ⟨S16x4096x4, .f32⟩
  | 101 => ⟨S16x4096x4, .f32⟩
  | 102 => ⟨S16x4096x4, .f32⟩
  | 103 => ⟨S16x4096x4, .f32⟩
  | 104 => ⟨S16x4096x4, .f32⟩
  | 105 => ⟨S16x4096x4, .f32⟩
  | 106 => ⟨S16x32x1024, .f32⟩
  | 107 => ⟨S_, .f32⟩
  | 108 => ⟨S16x4096x4, .f32⟩
  | 109 => ⟨S16x4096x4, .i1⟩
  | 110 => ⟨S_, .f32⟩
  | 111 => ⟨S16x4096x4, .f32⟩
  | 112 => ⟨S16x4096x4, .i1⟩
  | 113 => ⟨S16x4096x4, .i1⟩
  | 114 => ⟨S_, .f32⟩
  | 115 => ⟨S16x4096x4, .f32⟩
  | 116 => ⟨S16x4096x4, .i1⟩
  | 117 => ⟨S16x4096x4, .i1⟩
  | 118 => ⟨S_, .f32⟩
  | 119 => ⟨S16x4096x4, .f32⟩
  | 120 => ⟨S16x4096x4, .i1⟩
  | 121 => ⟨S16x4096x4, .i1⟩
  | 122 => ⟨S_, .i32⟩
  | 123 => ⟨S_, .i32⟩
  | 124 => ⟨S_, .f32⟩
  | 125 => ⟨S16x4096x4, .f32⟩
  | 126 => ⟨S16x4096x4, .f32⟩
  | 127 => ⟨S_, .f32⟩
  | _ => ⟨S4x2x256x32x32, .f32⟩

abbrev hbmTy0_30 (i : Nat) : BufTy := match i % 128 with
  | 0 => ⟨S16x4096x4, .f32⟩
  | 1 => ⟨S16x4096x4, .f32⟩
  | 2 => ⟨S16x4096x4, .i32⟩
  | 3 => ⟨S_, .i32⟩
  | 4 => ⟨S_, .i32⟩
  | 5 => ⟨S_, .f32⟩
  | 6 => ⟨S16x4096x4, .f32⟩
  | 7 => ⟨S16x4096x4, .f32⟩
  | 8 => ⟨S_, .f32⟩
  | 9 => ⟨S16x4096x4, .f32⟩
  | 10 => ⟨S16x4096x4, .f32⟩
  | 11 => ⟨S16x4096x4, .i32⟩
  | 12 => ⟨S_, .i32⟩
  | 13 => ⟨S16x4096x4, .i32⟩
  | 14 => ⟨S16x4096x4, .i32⟩
  | 15 => ⟨S16x4096x4, .i32⟩
  | 16 => ⟨S16x16384, .i32⟩
  | 17 => ⟨S16x1x16384, .i32⟩
  | 18 => ⟨S16x32x16384, .i32⟩
  | 19 => ⟨S_, .i32⟩
  | 20 => ⟨S16x32x16384, .i32⟩
  | 21 => ⟨S16x32x16384, .i1⟩
  | 22 => ⟨S_, .i32⟩
  | 23 => ⟨S16x32x16384, .i32⟩
  | 24 => ⟨S16x32x16384, .i32⟩
  | 25 => ⟨S16x32x16384, .i32⟩
  | 26 => ⟨S16x32x16384x1, .i32⟩
  | 27 => ⟨S1, .i32⟩
  | 28 => ⟨S_, .i32⟩
  | 29 => ⟨S16x32x16384x1, .i32⟩
  | 30 => ⟨S16x32x16384x1, .i1⟩
  | 31 => ⟨S1x1x1x1, .i32⟩
  | 32 => ⟨S16x32x16384x1, .i32⟩
  | 33 => ⟨S16x32x16384x1, .i1⟩
  | 34 => ⟨S16x32x16384x1, .i1⟩
  | 35 => ⟨S_, .i1⟩
  | 36 => ⟨S16x32x16384, .i1⟩
  | 37 => ⟨S16x32x16384, .f32⟩
  | 38 => ⟨S_, .f32⟩
  | 39 => ⟨S16x32x16384, .f32⟩
  | 40 => ⟨S16x32x16384, .f32⟩
  | 41 => ⟨S16x32x4096x4, .f32⟩
  | 42 => ⟨S16x1x4096x4, .i1⟩
  | 43 => ⟨S16x1x4096x4, .f32⟩
  | 44 => ⟨S16x32x4096x4, .f32⟩
  | 45 => ⟨S16x32x4096x4, .f32⟩
  | 46 => ⟨S16x1x4096x4, .f32⟩
  | 47 => ⟨S16x32x4096x4, .f32⟩
  | 48 => ⟨S16x32x4096x4, .f32⟩
  | 49 => ⟨S_, .f32⟩
  | 50 => ⟨S16x4096x4, .f32⟩
  | 51 => ⟨S16x4096x4, .i1⟩
  | 52 => ⟨S_, .f32⟩
  | 53 => ⟨S16x4096x4, .f32⟩
  | 54 => ⟨S16x4096x4, .i1⟩
  | 55 => ⟨S16x4096x4, .i1⟩
  | 56 => ⟨S_, .f32⟩
  | 57 => ⟨S16x4096x4, .f32⟩
  | 58 => ⟨S16x4096x4, .i1⟩
  | 59 => ⟨S16x4096x4, .i1⟩
  | 60 => ⟨S_, .f32⟩
  | 61 => ⟨S16x4096x4, .f32⟩
  | 62 => ⟨S16x4096x4, .i1⟩
  | 63 => ⟨S16x4096x4, .i1⟩
  | 64 => ⟨S_, .i32⟩
  | 65 => ⟨S_, .i32⟩
  | 66 => ⟨S_, .f32⟩
  | 67 => ⟨S16x4096x4, .f32⟩
  | 68 => ⟨S16x4096x4, .f32⟩
  | 69 => ⟨S_, .f32⟩
  | 70 => ⟨S16x4096x4, .f32⟩
  | 71 => ⟨S16x4096x4, .f32⟩
  | 72 => ⟨S16x4096x4, .i32⟩
  | 73 => ⟨S_, .i32⟩
  | 74 => ⟨S_, .i32⟩
  | 75 => ⟨S_, .f32⟩
  | 76 => ⟨S16x4096x4, .f32⟩
  | 77 => ⟨S16x4096x4, .f32⟩
  | 78 => ⟨S_, .f32⟩
  | 79 => ⟨S16x4096x4, .f32⟩
  | 80 => ⟨S16x4096x4, .f32⟩
  | 81 => ⟨S16x4096x4, .i32⟩
  | 82 => ⟨S_, .i32⟩
  | 83 => ⟨S16x4096x4, .i32⟩
  | 84 => ⟨S16x4096x4, .i32⟩
  | 85 => ⟨S16x4096x4, .i32⟩
  | 86 => ⟨S16x16384, .i32⟩
  | 87 => ⟨S16x1x16384, .i32⟩
  | 88 => ⟨S16x32x16384, .i32⟩
  | 89 => ⟨S_, .i32⟩
  | 90 => ⟨S16x32x16384, .i32⟩
  | 91 => ⟨S16x32x16384, .i1⟩
  | 92 => ⟨S_, .i32⟩
  | 93 => ⟨S16x32x16384, .i32⟩
  | 94 => ⟨S16x32x16384, .i32⟩
  | 95 => ⟨S16x32x16384, .i32⟩
  | 96 => ⟨S16x32x16384x1, .i32⟩
  | 97 => ⟨S1, .i32⟩
  | 98 => ⟨S_, .i32⟩
  | 99 => ⟨S16x32x16384x1, .i32⟩
  | 100 => ⟨S16x32x16384x1, .i1⟩
  | 101 => ⟨S1x1x1x1, .i32⟩
  | 102 => ⟨S16x32x16384x1, .i32⟩
  | 103 => ⟨S16x32x16384x1, .i1⟩
  | 104 => ⟨S16x32x16384x1, .i1⟩
  | 105 => ⟨S_, .i1⟩
  | 106 => ⟨S16x32x16384, .i1⟩
  | 107 => ⟨S16x32x16384, .f32⟩
  | 108 => ⟨S_, .f32⟩
  | 109 => ⟨S16x32x16384, .f32⟩
  | 110 => ⟨S16x32x16384, .f32⟩
  | 111 => ⟨S16x32x4096x4, .f32⟩
  | 112 => ⟨S16x1x4096x4, .i1⟩
  | 113 => ⟨S16x1x4096x4, .f32⟩
  | 114 => ⟨S16x32x4096x4, .f32⟩
  | 115 => ⟨S16x32x4096x4, .f32⟩
  | 116 => ⟨S16x1x4096x4, .f32⟩
  | 117 => ⟨S16x32x4096x4, .f32⟩
  | 118 => ⟨S16x32x4096x4, .f32⟩
  | 119 => ⟨S16x32x4096x4, .f32⟩
  | 120 => ⟨S_, .f32⟩
  | 121 => ⟨S16x4096x4, .f32⟩
  | 122 => ⟨S16x4096x4, .i1⟩
  | 123 => ⟨S_, .f32⟩
  | 124 => ⟨S16x4096x4, .f32⟩
  | 125 => ⟨S16x4096x4, .i1⟩
  | 126 => ⟨S16x4096x4, .i1⟩
  | 127 => ⟨S_, .f32⟩
  | _ => ⟨S4x2x256x32x32, .f32⟩

abbrev hbmTy0_31 (i : Nat) : BufTy := match i % 128 with
  | 0 => ⟨S16x4096x4, .f32⟩
  | 1 => ⟨S16x4096x4, .i1⟩
  | 2 => ⟨S16x4096x4, .i1⟩
  | 3 => ⟨S_, .f32⟩
  | 4 => ⟨S16x4096x4, .f32⟩
  | 5 => ⟨S16x4096x4, .i1⟩
  | 6 => ⟨S16x4096x4, .i1⟩
  | 7 => ⟨S_, .i32⟩
  | 8 => ⟨S_, .i32⟩
  | 9 => ⟨S_, .f32⟩
  | 10 => ⟨S16x4096x4, .f32⟩
  | 11 => ⟨S16x4096x4, .f32⟩
  | 12 => ⟨S_, .f32⟩
  | 13 => ⟨S16x4096x4, .f32⟩
  | 14 => ⟨S16x4096x4, .f32⟩
  | 15 => ⟨S16x4096x4, .i32⟩
  | 16 => ⟨S_, .i32⟩
  | 17 => ⟨S_, .i32⟩
  | 18 => ⟨S_, .f32⟩
  | 19 => ⟨S16x4096x4, .f32⟩
  | 20 => ⟨S16x4096x4, .f32⟩
  | 21 => ⟨S_, .f32⟩
  | 22 => ⟨S16x4096x4, .f32⟩
  | 23 => ⟨S16x4096x4, .f32⟩
  | 24 => ⟨S16x4096x4, .i32⟩
  | 25 => ⟨S_, .i32⟩
  | 26 => ⟨S16x4096x4, .i32⟩
  | 27 => ⟨S16x4096x4, .i32⟩
  | 28 => ⟨S16x4096x4, .i32⟩
  | 29 => ⟨S16x16384, .i32⟩
  | 30 => ⟨S16x1x16384, .i32⟩
  | 31 => ⟨S16x32x16384, .i32⟩
  | 32 => ⟨S_, .i32⟩
  | 33 => ⟨S16x32x16384, .i32⟩
  | 34 => ⟨S16x32x16384, .i1⟩
  | 35 => ⟨S_, .i32⟩
  | 36 => ⟨S16x32x16384, .i32⟩
  | 37 => ⟨S16x32x16384, .i32⟩
  | 38 => ⟨S16x32x16384, .i32⟩
  | 39 => ⟨S16x32x16384x1, .i32⟩
  | 40 => ⟨S1, .i32⟩
  | 41 => ⟨S_, .i32⟩
  | 42 => ⟨S16x32x16384x1, .i32⟩
  | 43 => ⟨S16x32x16384x1, .i1⟩
  | 44 => ⟨S1x1x1x1, .i32⟩
  | 45 => ⟨S16x32x16384x1, .i32⟩
  | 46 => ⟨S16x32x16384x1, .i1⟩
  | 47 => ⟨S16x32x16384x1, .i1⟩
  | 48 => ⟨S_, .i1⟩
  | 49 => ⟨S16x32x16384, .i1⟩
  | 50 => ⟨S16x32x16384, .f32⟩
  | 51 => ⟨S_, .f32⟩
  | 52 => ⟨S16x32x16384, .f32⟩
  | 53 => ⟨S16x32x16384, .f32⟩
  | 54 => ⟨S16x32x4096x4, .f32⟩
  | 55 => ⟨S16x1x4096x4, .i1⟩
  | 56 => ⟨S16x1x4096x4, .f32⟩
  | 57 => ⟨S16x32x4096x4, .f32⟩
  | 58 => ⟨S16x32x4096x4, .f32⟩
  | 59 => ⟨S16x1x4096x4, .f32⟩
  | 60 => ⟨S16x32x4096x4, .f32⟩
  | 61 => ⟨S16x32x4096x4, .f32⟩
  | 62 => ⟨S16x32x4096x4, .f32⟩
  | 63 => ⟨S_, .f32⟩
  | 64 => ⟨S16x4096x4, .f32⟩
  | 65 => ⟨S16x4096x4, .i1⟩
  | 66 => ⟨S_, .f32⟩
  | 67 => ⟨S16x4096x4, .f32⟩
  | 68 => ⟨S16x4096x4, .i1⟩
  | 69 => ⟨S16x4096x4, .i1⟩
  | 70 => ⟨S_, .f32⟩
  | 71 => ⟨S16x4096x4, .f32⟩
  | 72 => ⟨S16x4096x4, .i1⟩
  | 73 => ⟨S16x4096x4, .i1⟩
  | 74 => ⟨S_, .f32⟩
  | 75 => ⟨S16x4096x4, .f32⟩
  | 76 => ⟨S16x4096x4, .i1⟩
  | 77 => ⟨S16x4096x4, .i1⟩
  | 78 => ⟨S_, .i32⟩
  | 79 => ⟨S_, .i32⟩
  | 80 => ⟨S_, .f32⟩
  | 81 => ⟨S16x4096x4, .f32⟩
  | 82 => ⟨S16x4096x4, .f32⟩
  | 83 => ⟨S_, .f32⟩
  | 84 => ⟨S16x4096x4, .f32⟩
  | 85 => ⟨S16x4096x4, .f32⟩
  | 86 => ⟨S16x4096x4, .i32⟩
  | 87 => ⟨S_, .i32⟩
  | 88 => ⟨S_, .i32⟩
  | 89 => ⟨S_, .f32⟩
  | 90 => ⟨S16x4096x4, .f32⟩
  | 91 => ⟨S16x4096x4, .f32⟩
  | 92 => ⟨S_, .f32⟩
  | 93 => ⟨S16x4096x4, .f32⟩
  | 94 => ⟨S16x4096x4, .f32⟩
  | 95 => ⟨S16x4096x4, .i32⟩
  | 96 => ⟨S_, .i32⟩
  | 97 => ⟨S16x4096x4, .i32⟩
  | 98 => ⟨S16x4096x4, .i32⟩
  | 99 => ⟨S16x4096x4, .i32⟩
  | 100 => ⟨S16x16384, .i32⟩
  | 101 => ⟨S16x1x16384, .i32⟩
  | 102 => ⟨S16x32x16384, .i32⟩
  | 103 => ⟨S_, .i32⟩
  | 104 => ⟨S16x32x16384, .i32⟩
  | 105 => ⟨S16x32x16384, .i1⟩
  | 106 => ⟨S_, .i32⟩
  | 107 => ⟨S16x32x16384, .i32⟩
  | 108 => ⟨S16x32x16384, .i32⟩
  | 109 => ⟨S16x32x16384, .i32⟩
  | 110 => ⟨S16x32x16384x1, .i32⟩
  | 111 => ⟨S1, .i32⟩
  | 112 => ⟨S_, .i32⟩
  | 113 => ⟨S16x32x16384x1, .i32⟩
  | 114 => ⟨S16x32x16384x1, .i1⟩
  | 115 => ⟨S1x1x1x1, .i32⟩
  | 116 => ⟨S16x32x16384x1, .i32⟩
  | 117 => ⟨S16x32x16384x1, .i1⟩
  | 118 => ⟨S16x32x16384x1, .i1⟩
  | 119 => ⟨S_, .i1⟩
  | 120 => ⟨S16x32x16384, .i1⟩
  | 121 => ⟨S16x32x16384, .f32⟩
  | 122 => ⟨S_, .f32⟩
  | 123 => ⟨S16x32x16384, .f32⟩
  | 124 => ⟨S16x32x16384, .f32⟩
  | 125 => ⟨S16x32x4096x4, .f32⟩
  | 126 => ⟨S16x1x4096x4, .i1⟩
  | 127 => ⟨S16x1x4096x4, .f32⟩
  | _ => ⟨S4x2x256x32x32, .f32⟩

abbrev hbmTy0_32 (i : Nat) : BufTy := match i % 128 with
  | 0 => ⟨S16x32x4096x4, .f32⟩
  | 1 => ⟨S16x32x4096x4, .f32⟩
  | 2 => ⟨S16x1x4096x4, .f32⟩
  | 3 => ⟨S16x32x4096x4, .f32⟩
  | 4 => ⟨S16x32x4096x4, .f32⟩
  | 5 => ⟨S16x32x4096x4, .f32⟩
  | 6 => ⟨S2x1024x8x32, .f32⟩
  | 7 => ⟨S2x8x32x1024, .f32⟩
  | 8 => ⟨S16x32x32x32, .f32⟩
  | 9 => ⟨S2x4096x8x1x4x2, .f32⟩
  | 10 => ⟨S2x4096x8x4x2, .f32⟩
  | 11 => ⟨S2x8x4096x4x2, .f32⟩
  | 12 => ⟨S16x4096x4x2, .f32⟩
  | 13 => ⟨S16x4096x4x1, .f32⟩
  | 14 => ⟨S16x4096x4, .f32⟩
  | 15 => ⟨S_, .f32⟩
  | 16 => ⟨S16x4096x4, .f32⟩
  | 17 => ⟨S16x4096x4, .f32⟩
  | 18 => ⟨S_, .f32⟩
  | 19 => ⟨S16x4096x4, .f32⟩
  | 20 => ⟨S16x4096x4, .f32⟩
  | 21 => ⟨S_, .f32⟩
  | 22 => ⟨S16x4096x4, .f32⟩
  | 23 => ⟨S16x4096x4, .f32⟩
  | 24 => ⟨S_, .f32⟩
  | 25 => ⟨S16x4096x4, .f32⟩
  | 26 => ⟨S16x4096x4, .f32⟩
  | 27 => ⟨S16x4096x4x1, .f32⟩
  | 28 => ⟨S16x4096x4, .f32⟩
  | 29 => ⟨S_, .f32⟩
  | 30 => ⟨S16x4096x4, .f32⟩
  | 31 => ⟨S16x4096x4, .f32⟩
  | 32 => ⟨S_, .f32⟩
  | 33 => ⟨S16x4096x4, .f32⟩
  | 34 => ⟨S16x4096x4, .f32⟩
  | 35 => ⟨S_, .f32⟩
  | 36 => ⟨S16x4096x4, .f32⟩
  | 37 => ⟨S16x4096x4, .f32⟩
  | 38 => ⟨S_, .f32⟩
  | 39 => ⟨S16x4096x4, .f32⟩
  | 40 => ⟨S16x4096x4, .f32⟩
  | 41 => ⟨S16x4096x4, .f32⟩
  | 42 => ⟨S16x4096x4, .f32⟩
  | 43 => ⟨S_, .f32⟩
  | 44 => ⟨S16x4096x4, .f32⟩
  | 45 => ⟨S16x4096x4, .f32⟩
  | 46 => ⟨S_, .f32⟩
  | 47 => ⟨S16x4096x4, .f32⟩
  | 48 => ⟨S16x4096x4, .f32⟩
  | 49 => ⟨S16x4096x4, .f32⟩
  | 50 => ⟨S16x4096x4, .f32⟩
  | 51 => ⟨S16x4096x4, .f32⟩
  | 52 => ⟨S16x4096x4, .f32⟩
  | 53 => ⟨S16x4096x4, .f32⟩
  | 54 => ⟨S16x4096x4, .f32⟩
  | 55 => ⟨S16x4096x4, .f32⟩
  | 56 => ⟨S16x4096x4, .f32⟩
  | 57 => ⟨S16x4096x4, .f32⟩
  | 58 => ⟨S16x4096x4, .f32⟩
  | 59 => ⟨S16x4096x4, .f32⟩
  | 60 => ⟨S16x4096x4, .f32⟩
  | 61 => ⟨S16x32x1024, .f32⟩
  | 62 => ⟨S_, .f32⟩
  | 63 => ⟨S16x4096x4, .f32⟩
  | 64 => ⟨S16x4096x4, .i1⟩
  | 65 => ⟨S_, .f32⟩
  | 66 => ⟨S16x4096x4, .f32⟩
  | 67 => ⟨S16x4096x4, .i1⟩
  | 68 => ⟨S16x4096x4, .i1⟩
  | 69 => ⟨S_, .f32⟩
  | 70 => ⟨S16x4096x4, .f32⟩
  | 71 => ⟨S16x4096x4, .i1⟩
  | 72 => ⟨S16x4096x4, .i1⟩
  | 73 => ⟨S_, .f32⟩
  | 74 => ⟨S16x4096x4, .f32⟩
  | 75 => ⟨S16x4096x4, .i1⟩
  | 76 => ⟨S16x4096x4, .i1⟩
  | 77 => ⟨S_, .i32⟩
  | 78 => ⟨S_, .i32⟩
  | 79 => ⟨S_, .f32⟩
  | 80 => ⟨S16x4096x4, .f32⟩
  | 81 => ⟨S16x4096x4, .f32⟩
  | 82 => ⟨S_, .f32⟩
  | 83 => ⟨S16x4096x4, .f32⟩
  | 84 => ⟨S16x4096x4, .f32⟩
  | 85 => ⟨S16x4096x4, .i32⟩
  | 86 => ⟨S_, .i32⟩
  | 87 => ⟨S_, .i32⟩
  | 88 => ⟨S_, .f32⟩
  | 89 => ⟨S16x4096x4, .f32⟩
  | 90 => ⟨S16x4096x4, .f32⟩
  | 91 => ⟨S_, .f32⟩
  | 92 => ⟨S16x4096x4, .f32⟩
  | 93 => ⟨S16x4096x4, .f32⟩
  | 94 => ⟨S16x4096x4, .i32⟩
  | 95 => ⟨S_, .i32⟩
  | 96 => ⟨S16x4096x4, .i32⟩
  | 97 => ⟨S16x4096x4, .i32⟩
  | 98 => ⟨S16x4096x4, .i32⟩
  | 99 => ⟨S16x16384, .i32⟩
  | 100 => ⟨S16x1x16384, .i32⟩
  | 101 => ⟨S16x32x16384, .i32⟩
  | 102 => ⟨S_, .i32⟩
  | 103 => ⟨S16x32x16384, .i32⟩
  | 104 => ⟨S16x32x16384, .i1⟩
  | 105 => ⟨S_, .i32⟩
  | 106 => ⟨S16x32x16384, .i32⟩
  | 107 => ⟨S16x32x16384, .i32⟩
  | 108 => ⟨S16x32x16384, .i32⟩
  | 109 => ⟨S16x32x16384x1, .i32⟩
  | 110 => ⟨S1, .i32⟩
  | 111 => ⟨S_, .i32⟩
  | 112 => ⟨S16x32x16384x1, .i32⟩
  | 113 => ⟨S16x32x16384x1, .i1⟩
  | 114 => ⟨S1x1x1x1, .i32⟩
  | 115 => ⟨S16x32x16384x1, .i32⟩
  | 116 => ⟨S16x32x16384x1, .i1⟩
  | 117 => ⟨S16x32x16384x1, .i1⟩
  | 118 => ⟨S_, .i1⟩
  | 119 => ⟨S16x32x16384, .i1⟩
  | 120 => ⟨S16x32x16384, .f32⟩
  | 121 => ⟨S_, .f32⟩
  | 122 => ⟨S16x32x16384, .f32⟩
  | 123 => ⟨S16x32x16384, .f32⟩
  | 124 => ⟨S16x32x4096x4, .f32⟩
  | 125 => ⟨S16x1x4096x4, .i1⟩
  | 126 => ⟨S16x1x4096x4, .f32⟩
  | 127 => ⟨S16x32x4096x4, .f32⟩
  | _ => ⟨S4x2x256x32x32, .f32⟩

abbrev hbmTy0_33 (i : Nat) : BufTy := match i % 128 with
  | 0 => ⟨S16x32x4096x4, .f32⟩
  | 1 => ⟨S16x1x4096x4, .f32⟩
  | 2 => ⟨S16x32x4096x4, .f32⟩
  | 3 => ⟨S16x32x4096x4, .f32⟩
  | 4 => ⟨S_, .f32⟩
  | 5 => ⟨S16x4096x4, .f32⟩
  | 6 => ⟨S16x4096x4, .i1⟩
  | 7 => ⟨S_, .f32⟩
  | 8 => ⟨S16x4096x4, .f32⟩
  | 9 => ⟨S16x4096x4, .i1⟩
  | 10 => ⟨S16x4096x4, .i1⟩
  | 11 => ⟨S_, .f32⟩
  | 12 => ⟨S16x4096x4, .f32⟩
  | 13 => ⟨S16x4096x4, .i1⟩
  | 14 => ⟨S16x4096x4, .i1⟩
  | 15 => ⟨S_, .f32⟩
  | 16 => ⟨S16x4096x4, .f32⟩
  | 17 => ⟨S16x4096x4, .i1⟩
  | 18 => ⟨S16x4096x4, .i1⟩
  | 19 => ⟨S_, .i32⟩
  | 20 => ⟨S_, .i32⟩
  | 21 => ⟨S_, .f32⟩
  | 22 => ⟨S16x4096x4, .f32⟩
  | 23 => ⟨S16x4096x4, .f32⟩
  | 24 => ⟨S_, .f32⟩
  | 25 => ⟨S16x4096x4, .f32⟩
  | 26 => ⟨S16x4096x4, .f32⟩
  | 27 => ⟨S16x4096x4, .i32⟩
  | 28 => ⟨S_, .i32⟩
  | 29 => ⟨S_, .i32⟩
  | 30 => ⟨S_, .f32⟩
  | 31 => ⟨S16x4096x4, .f32⟩
  | 32 => ⟨S16x4096x4, .f32⟩
  | 33 => ⟨S_, .f32⟩
  | 34 => ⟨S16x4096x4, .f32⟩
  | 35 => ⟨S16x4096x4, .f32⟩
  | 36 => ⟨S16x4096x4, .i32⟩
  | 37 => ⟨S_, .i32⟩
  | 38 => ⟨S16x4096x4, .i32⟩
  | 39 => ⟨S16x4096x4, .i32⟩
  | 40 => ⟨S16x4096x4, .i32⟩
  | 41 => ⟨S16x16384, .i32⟩
  | 42 => ⟨S16x1x16384, .i32⟩
  | 43 => ⟨S16x32x16384, .i32⟩
  | 44 => ⟨S_, .i32⟩
  | 45 => ⟨S16x32x16384, .i32⟩
  | 46 => ⟨S16x32x16384, .i1⟩
  | 47 => ⟨S_, .i32⟩
  | 48 => ⟨S16x32x16384, .i32⟩
  | 49 => ⟨S16x32x16384, .i32⟩
  | 50 => ⟨S16x32x16384, .i32⟩
  | 51 => ⟨S16x32x16384x1, .i32⟩
  | 52 => ⟨S1, .i32⟩
  | 53 => ⟨S_, .i32⟩
  | 54 => ⟨S16x32x16384x1, .i32⟩
  | 55 => ⟨S16x32x16384x1, .i1⟩
  | 56 => ⟨S1x1x1x1, .i32⟩
  | 57 => ⟨S16x32x16384x1, .i32⟩
  | 58 => ⟨S16x32x16384x1, .i1⟩
  | 59 => ⟨S16x32x16384x1, .i1⟩
  | 60 => ⟨S_, .i1⟩
  | 61 => ⟨S16x32x16384, .i1⟩
  | 62 => ⟨S16x32x16384, .f32⟩
  | 63 => ⟨S_, .f32⟩
  | 64 => ⟨S16x32x16384, .f32⟩
  | 65 => ⟨S16x32x16384, .f32⟩
  | 66 => ⟨S16x32x4096x4, .f32⟩
  | 67 => ⟨S16x1x4096x4, .i1⟩
  | 68 => ⟨S16x1x4096x4, .f32⟩
  | 69 => ⟨S16x32x4096x4, .f32⟩
  | 70 => ⟨S16x32x4096x4, .f32⟩
  | 71 => ⟨S16x1x4096x4, .f32⟩
  | 72 => ⟨S16x32x4096x4, .f32⟩
  | 73 => ⟨S16x32x4096x4, .f32⟩
  | 74 => ⟨S16x32x4096x4, .f32⟩
  | 75 => ⟨S_, .f32⟩
  | 76 => ⟨S16x4096x4, .f32⟩
  | 77 => ⟨S16x4096x4, .i1⟩
  | 78 => ⟨S_, .f32⟩
  | 79 => ⟨S16x4096x4, .f32⟩
  | 80 => ⟨S16x4096x4, .i1⟩
  | 81 => ⟨S16x4096x4, .i1⟩
  | 82 => ⟨S_, .f32⟩
  | 83 => ⟨S16x4096x4, .f32⟩
  | 84 => ⟨S16x4096x4, .i1⟩
  | 85 => ⟨S16x4096x4, .i1⟩
  | 86 => ⟨S_, .f32⟩
  | 87 => ⟨S16x4096x4, .f32⟩
  | 88 => ⟨S16x4096x4, .i1⟩
  | 89 => ⟨S16x4096x4, .i1⟩
  | 90 => ⟨S_, .i32⟩
  | 91 => ⟨S_, .i32⟩
  | 92 => ⟨S_, .f32⟩
  | 93 => ⟨S16x4096x4, .f32⟩
  | 94 => ⟨S16x4096x4, .f32⟩
  | 95 => ⟨S_, .f32⟩
  | 96 => ⟨S16x4096x4, .f32⟩
  | 97 => ⟨S16x4096x4, .f32⟩
  | 98 => ⟨S16x4096x4, .i32⟩
  | 99 => ⟨S_, .i32⟩
  | 100 => ⟨S_, .i32⟩
  | 101 => ⟨S_, .f32⟩
  | 102 => ⟨S16x4096x4, .f32⟩
  | 103 => ⟨S16x4096x4, .f32⟩
  | 104 => ⟨S_, .f32⟩
  | 105 => ⟨S16x4096x4, .f32⟩
  | 106 => ⟨S16x4096x4, .f32⟩
  | 107 => ⟨S16x4096x4, .i32⟩
  | 108 => ⟨S_, .i32⟩
  | 109 => ⟨S16x4096x4, .i32⟩
  | 110 => ⟨S16x4096x4, .i32⟩
  | 111 => ⟨S16x4096x4, .i32⟩
  | 112 => ⟨S16x16384, .i32⟩
  | 113 => ⟨S16x1x16384, .i32⟩
  | 114 => ⟨S16x32x16384, .i32⟩
  | 115 => ⟨S_, .i32⟩
  | 116 => ⟨S16x32x16384, .i32⟩
  | 117 => ⟨S16x32x16384, .i1⟩
  | 118 => ⟨S_, .i32⟩
  | 119 => ⟨S16x32x16384, .i32⟩
  | 120 => ⟨S16x32x16384, .i32⟩
  | 121 => ⟨S16x32x16384, .i32⟩
  | 122 => ⟨S16x32x16384x1, .i32⟩
  | 123 => ⟨S1, .i32⟩
  | 124 => ⟨S_, .i32⟩
  | 125 => ⟨S16x32x16384x1, .i32⟩
  | 126 => ⟨S16x32x16384x1, .i1⟩
  | 127 => ⟨S1x1x1x1, .i32⟩
  | _ => ⟨S4x2x256x32x32, .f32⟩

abbrev hbmTy0_34 (i : Nat) : BufTy := match i % 128 with
  | 0 => ⟨S16x32x16384x1, .i32⟩
  | 1 => ⟨S16x32x16384x1, .i1⟩
  | 2 => ⟨S16x32x16384x1, .i1⟩
  | 3 => ⟨S_, .i1⟩
  | 4 => ⟨S16x32x16384, .i1⟩
  | 5 => ⟨S16x32x16384, .f32⟩
  | 6 => ⟨S_, .f32⟩
  | 7 => ⟨S16x32x16384, .f32⟩
  | 8 => ⟨S16x32x16384, .f32⟩
  | 9 => ⟨S16x32x4096x4, .f32⟩
  | 10 => ⟨S16x1x4096x4, .i1⟩
  | 11 => ⟨S16x1x4096x4, .f32⟩
  | 12 => ⟨S16x32x4096x4, .f32⟩
  | 13 => ⟨S16x32x4096x4, .f32⟩
  | 14 => ⟨S16x1x4096x4, .f32⟩
  | 15 => ⟨S16x32x4096x4, .f32⟩
  | 16 => ⟨S16x32x4096x4, .f32⟩
  | 17 => ⟨S16x32x4096x4, .f32⟩
  | 18 => ⟨S_, .f32⟩
  | 19 => ⟨S16x4096x4, .f32⟩
  | 20 => ⟨S16x4096x4, .i1⟩
  | 21 => ⟨S_, .f32⟩
  | 22 => ⟨S16x4096x4, .f32⟩
  | 23 => ⟨S16x4096x4, .i1⟩
  | 24 => ⟨S16x4096x4, .i1⟩
  | 25 => ⟨S_, .f32⟩
  | 26 => ⟨S16x4096x4, .f32⟩
  | 27 => ⟨S16x4096x4, .i1⟩
  | 28 => ⟨S16x4096x4, .i1⟩
  | 29 => ⟨S_, .f32⟩
  | 30 => ⟨S16x4096x4, .f32⟩
  | 31 => ⟨S16x4096x4, .i1⟩
  | 32 => ⟨S16x4096x4, .i1⟩
  | 33 => ⟨S_, .i32⟩
  | 34 => ⟨S_, .i32⟩
  | 35 => ⟨S_, .f32⟩
  | 36 => ⟨S16x4096x4, .f32⟩
  | 37 => ⟨S16x4096x4, .f32⟩
  | 38 => ⟨S_, .f32⟩
  | 39 => ⟨S16x4096x4, .f32⟩
  | 40 => ⟨S16x4096x4, .f32⟩
  | 41 => ⟨S16x4096x4, .i32⟩
  | 42 => ⟨S_, .i32⟩
  | 43 => ⟨S_, .i32⟩
  | 44 => ⟨S_, .f32⟩
  | 45 => ⟨S16x4096x4, .f32⟩
  | 46 => ⟨S16x4096x4, .f32⟩
  | 47 => ⟨S_, .f32⟩
  | 48 => ⟨S16x4096x4, .f32⟩
  | 49 => ⟨S16x4096x4, .f32⟩
  | 50 => ⟨S16x4096x4, .i32⟩
  | 51 => ⟨S_, .i32⟩
  | 52 => ⟨S16x4096x4, .i32⟩
  | 53 => ⟨S16x4096x4, .i32⟩
  | 54 => ⟨S16x4096x4, .i32⟩
  | 55 => ⟨S16x16384, .i32⟩
  | 56 => ⟨S16x1x16384, .i32⟩
  | 57 => ⟨S16x32x16384, .i32⟩
  | 58 => ⟨S_, .i32⟩
  | 59 => ⟨S16x32x16384, .i32⟩
  | 60 => ⟨S16x32x16384, .i1⟩
  | 61 => ⟨S_, .i32⟩
  | 62 => ⟨S16x32x16384, .i32⟩
  | 63 => ⟨S16x32x16384, .i32⟩
  | 64 => ⟨S16x32x16384, .i32⟩
  | 65 => ⟨S16x32x16384x1, .i32⟩
  | 66 => ⟨S1, .i32⟩
  | 67 => ⟨S_, .i32⟩
  | 68 => ⟨S16x32x16384x1, .i32⟩
  | 69 => ⟨S16x32x16384x1, .i1⟩
  | 70 => ⟨S1x1x1x1, .i32⟩
  | 71 => ⟨S16x32x16384x1, .i32⟩
  | 72 => ⟨S16x32x16384x1, .i1⟩
  | 73 => ⟨S16x32x16384x1, .i1⟩
  | 74 => ⟨S_, .i1⟩
  | 75 => ⟨S16x32x16384, .i1⟩
  | 76 => ⟨S16x32x16384, .f32⟩
  | 77 => ⟨S_, .f32⟩
  | 78 => ⟨S16x32x16384, .f32⟩
  | 79 => ⟨S16x32x16384, .f32⟩
  | 80 => ⟨S16x32x4096x4, .f32⟩
  | 81 => ⟨S16x1x4096x4, .i1⟩
  | 82 => ⟨S16x1x4096x4, .f32⟩
  | 83 => ⟨S16x32x4096x4, .f32⟩
  | 84 => ⟨S16x32x4096x4, .f32⟩
  | 85 => ⟨S16x1x4096x4, .f32⟩
  | 86 => ⟨S16x32x4096x4, .f32⟩
  | 87 => ⟨S16x32x4096x4, .f32⟩
  | 88 => ⟨S16x32x4096x4, .f32⟩
  | 89 => ⟨S2x1024x8x32, .f32⟩
  | 90 => ⟨S2x8x32x1024, .f32⟩
  | 91 => ⟨S16x32x32x32, .f32⟩
  | 92 => ⟨S2x4096x8x1x4x2, .f32⟩
  | 93 => ⟨S2x4096x8x4x2, .f32⟩
  | 94 => ⟨S2x8x4096x4x2, .f32⟩
  | 95 => ⟨S16x4096x4x2, .f32⟩
  | 96 => ⟨S16x4096x4x1, .f32⟩
  | 97 => ⟨S16x4096x4, .f32⟩
  | 98 => ⟨S_, .f32⟩
  | 99 => ⟨S16x4096x4, .f32⟩
  | 100 => ⟨S16x4096x4, .f32⟩
  | 101 => ⟨S_, .f32⟩
  | 102 => ⟨S16x4096x4, .f32⟩
  | 103 => ⟨S16x4096x4, .f32⟩
  | 104 => ⟨S_, .f32⟩
  | 105 => ⟨S16x4096x4, .f32⟩
  | 106 => ⟨S16x4096x4, .f32⟩
  | 107 => ⟨S_, .f32⟩
  | 108 => ⟨S16x4096x4, .f32⟩
  | 109 => ⟨S16x4096x4, .f32⟩
  | 110 => ⟨S16x4096x4x1, .f32⟩
  | 111 => ⟨S16x4096x4, .f32⟩
  | 112 => ⟨S_, .f32⟩
  | 113 => ⟨S16x4096x4, .f32⟩
  | 114 => ⟨S16x4096x4, .f32⟩
  | 115 => ⟨S_, .f32⟩
  | 116 => ⟨S16x4096x4, .f32⟩
  | 117 => ⟨S16x4096x4, .f32⟩
  | 118 => ⟨S_, .f32⟩
  | 119 => ⟨S16x4096x4, .f32⟩
  | 120 => ⟨S16x4096x4, .f32⟩
  | 121 => ⟨S_, .f32⟩
  | 122 => ⟨S16x4096x4, .f32⟩
  | 123 => ⟨S16x4096x4, .f32⟩
  | 124 => ⟨S16x4096x4, .f32⟩
  | 125 => ⟨S16x4096x4, .f32⟩
  | 126 => ⟨S_, .f32⟩
  | 127 => ⟨S16x4096x4, .f32⟩
  | _ => ⟨S4x2x256x32x32, .f32⟩

abbrev hbmTy0_35 (i : Nat) : BufTy := match i % 128 with
  | 0 => ⟨S16x4096x4, .f32⟩
  | 1 => ⟨S_, .f32⟩
  | 2 => ⟨S16x4096x4, .f32⟩
  | 3 => ⟨S16x4096x4, .f32⟩
  | 4 => ⟨S16x4096x4, .f32⟩
  | 5 => ⟨S16x4096x4, .f32⟩
  | 6 => ⟨S16x4096x4, .f32⟩
  | 7 => ⟨S16x4096x4, .f32⟩
  | 8 => ⟨S16x4096x4, .f32⟩
  | 9 => ⟨S16x4096x4, .f32⟩
  | 10 => ⟨S16x4096x4, .f32⟩
  | 11 => ⟨S16x4096x4, .f32⟩
  | 12 => ⟨S16x4096x4, .f32⟩
  | 13 => ⟨S16x4096x4, .f32⟩
  | 14 => ⟨S16x4096x4, .f32⟩
  | 15 => ⟨S16x4096x4, .f32⟩
  | 16 => ⟨S16x32x1024, .f32⟩
  | 17 => ⟨S_, .f32⟩
  | 18 => ⟨S16x4096x4, .f32⟩
  | 19 => ⟨S16x4096x4, .i1⟩
  | 20 => ⟨S_, .f32⟩
  | 21 => ⟨S16x4096x4, .f32⟩
  | 22 => ⟨S16x4096x4, .i1⟩
  | 23 => ⟨S16x4096x4, .i1⟩
  | 24 => ⟨S_, .f32⟩
  | 25 => ⟨S16x4096x4, .f32⟩
  | 26 => ⟨S16x4096x4, .i1⟩
  | 27 => ⟨S16x4096x4, .i1⟩
  | 28 => ⟨S_, .f32⟩
  | 29 => ⟨S16x4096x4, .f32⟩
  | 30 => ⟨S16x4096x4, .i1⟩
  | 31 => ⟨S16x4096x4, .i1⟩
  | 32 => ⟨S_, .i32⟩
  | 33 => ⟨S_, .i32⟩
  | 34 => ⟨S_, .f32⟩
  | 35 => ⟨S16x4096x4, .f32⟩
  | 36 => ⟨S16x4096x4, .f32⟩
  | 37 => ⟨S_, .f32⟩
  | 38 => ⟨S16x4096x4, .f32⟩
  | 39 => ⟨S16x4096x4, .f32⟩
  | 40 => ⟨S16x4096x4, .i32⟩
  | 41 => ⟨S_, .i32⟩
  | 42 => ⟨S_, .i32⟩
  | 43 => ⟨S_, .f32⟩
  | 44 => ⟨S16x4096x4, .f32⟩
  | 45 => ⟨S16x4096x4, .f32⟩
  | 46 => ⟨S_, .f32⟩
  | 47 => ⟨S16x4096x4, .f32⟩
  | 48 => ⟨S16x4096x4, .f32⟩
  | 49 => ⟨S16x4096x4, .i32⟩
  | 50 => ⟨S_, .i32⟩
  | 51 => ⟨S16x4096x4, .i32⟩
  | 52 => ⟨S16x4096x4, .i32⟩
  | 53 => ⟨S16x4096x4, .i32⟩
  | 54 => ⟨S16x16384, .i32⟩
  | 55 => ⟨S16x1x16384, .i32⟩
  | 56 => ⟨S16x32x16384, .i32⟩
  | 57 => ⟨S_, .i32⟩
  | 58 => ⟨S16x32x16384, .i32⟩
  | 59 => ⟨S16x32x16384, .i1⟩
  | 60 => ⟨S_, .i32⟩
  | 61 => ⟨S16x32x16384, .i32⟩
  | 62 => ⟨S16x32x16384, .i32⟩
  | 63 => ⟨S16x32x16384, .i32⟩
  | 64 => ⟨S16x32x16384x1, .i32⟩
  | 65 => ⟨S1, .i32⟩
  | 66 => ⟨S_, .i32⟩
  | 67 => ⟨S16x32x16384x1, .i32⟩
  | 68 => ⟨S16x32x16384x1, .i1⟩
  | 69 => ⟨S1x1x1x1, .i32⟩
  | 70 => ⟨S16x32x16384x1, .i32⟩
  | 71 => ⟨S16x32x16384x1, .i1⟩
  | 72 => ⟨S16x32x16384x1, .i1⟩
  | 73 => ⟨S_, .i1⟩
  | 74 => ⟨S16x32x16384, .i1⟩
  | 75 => ⟨S16x32x16384, .f32⟩
  | 76 => ⟨S_, .f32⟩
  | 77 => ⟨S16x32x16384, .f32⟩
  | 78 => ⟨S16x32x16384, .f32⟩
  | 79 => ⟨S16x32x4096x4, .f32⟩
  | 80 => ⟨S16x1x4096x4, .i1⟩
  | 81 => ⟨S16x1x4096x4, .f32⟩
  | 82 => ⟨S16x32x4096x4, .f32⟩
  | 83 => ⟨S16x32x4096x4, .f32⟩
  | 84 => ⟨S16x1x4096x4, .f32⟩
  | 85 => ⟨S16x32x4096x4, .f32⟩
  | 86 => ⟨S16x32x4096x4, .f32⟩
  | 87 => ⟨S_, .f32⟩
  | 88 => ⟨S16x4096x4, .f32⟩
  | 89 => ⟨S16x4096x4, .i1⟩
  | 90 => ⟨S_, .f32⟩
  | 91 => ⟨S16x4096x4, .f32⟩
  | 92 => ⟨S16x4096x4, .i1⟩
  | 93 => ⟨S16x4096x4, .i1⟩
  | 94 => ⟨S_, .f32⟩
  | 95 => ⟨S16x4096x4, .f32⟩
  | 96 => ⟨S16x4096x4, .i1⟩
  | 97 => ⟨S16x4096x4, .i1⟩
  | 98 => ⟨S_, .f32⟩
  | 99 => ⟨S16x4096x4, .f32⟩
  | 100 => ⟨S16x4096x4, .i1⟩
  | 101 => ⟨S16x4096x4, .i1⟩
  | 102 => ⟨S_, .i32⟩
  | 103 => ⟨S_, .i32⟩
  | 104 => ⟨S_, .f32⟩
  | 105 => ⟨S16x4096x4, .f32⟩
  | 106 => ⟨S16x4096x4, .f32⟩
  | 107 => ⟨S_, .f32⟩
  | 108 => ⟨S16x4096x4, .f32⟩
  | 109 => ⟨S16x4096x4, .f32⟩
  | 110 => ⟨S16x4096x4, .i32⟩
  | 111 => ⟨S_, .i32⟩
  | 112 => ⟨S_, .i32⟩
  | 113 => ⟨S_, .f32⟩
  | 114 => ⟨S16x4096x4, .f32⟩
  | 115 => ⟨S16x4096x4, .f32⟩
  | 116 => ⟨S_, .f32⟩
  | 117 => ⟨S16x4096x4, .f32⟩
  | 118 => ⟨S16x4096x4, .f32⟩
  | 119 => ⟨S16x4096x4, .i32⟩
  | 120 => ⟨S_, .i32⟩
  | 121 => ⟨S16x4096x4, .i32⟩
  | 122 => ⟨S16x4096x4, .i32⟩
  | 123 => ⟨S16x4096x4, .i32⟩
  | 124 => ⟨S16x16384, .i32⟩
  | 125 => ⟨S16x1x16384, .i32⟩
  | 126 => ⟨S16x32x16384, .i32⟩
  | 127 => ⟨S_, .i32⟩
  | _ => ⟨S4x2x256x32x32, .f32⟩

abbrev hbmTy0_36 (i : Nat) : BufTy := match i % 128 with
  | 0 => ⟨S16x32x16384, .i32⟩
  | 1 => ⟨S16x32x16384, .i1⟩
  | 2 => ⟨S_, .i32⟩
  | 3 => ⟨S16x32x16384, .i32⟩
  | 4 => ⟨S16x32x16384, .i32⟩
  | 5 => ⟨S16x32x16384, .i32⟩
  | 6 => ⟨S16x32x16384x1, .i32⟩
  | 7 => ⟨S1, .i32⟩
  | 8 => ⟨S_, .i32⟩
  | 9 => ⟨S16x32x16384x1, .i32⟩
  | 10 => ⟨S16x32x16384x1, .i1⟩
  | 11 => ⟨S1x1x1x1, .i32⟩
  | 12 => ⟨S16x32x16384x1, .i32⟩
  | 13 => ⟨S16x32x16384x1, .i1⟩
  | 14 => ⟨S16x32x16384x1, .i1⟩
  | 15 => ⟨S_, .i1⟩
  | 16 => ⟨S16x32x16384, .i1⟩
  | 17 => ⟨S16x32x16384, .f32⟩
  | 18 => ⟨S_, .f32⟩
  | 19 => ⟨S16x32x16384, .f32⟩
  | 20 => ⟨S16x32x16384, .f32⟩
  | 21 => ⟨S16x32x4096x4, .f32⟩
  | 22 => ⟨S16x1x4096x4, .i1⟩
  | 23 => ⟨S16x1x4096x4, .f32⟩
  | 24 => ⟨S16x32x4096x4, .f32⟩
  | 25 => ⟨S16x32x4096x4, .f32⟩
  | 26 => ⟨S16x1x4096x4, .f32⟩
  | 27 => ⟨S16x32x4096x4, .f32⟩
  | 28 => ⟨S16x32x4096x4, .f32⟩
  | 29 => ⟨S16x32x4096x4, .f32⟩
  | 30 => ⟨S_, .f32⟩
  | 31 => ⟨S16x4096x4, .f32⟩
  | 32 => ⟨S16x4096x4, .i1⟩
  | 33 => ⟨S_, .f32⟩
  | 34 => ⟨S16x4096x4, .f32⟩
  | 35 => ⟨S16x4096x4, .i1⟩
  | 36 => ⟨S16x4096x4, .i1⟩
  | 37 => ⟨S_, .f32⟩
  | 38 => ⟨S16x4096x4, .f32⟩
  | 39 => ⟨S16x4096x4, .i1⟩
  | 40 => ⟨S16x4096x4, .i1⟩
  | 41 => ⟨S_, .f32⟩
  | 42 => ⟨S16x4096x4, .f32⟩
  | 43 => ⟨S16x4096x4, .i1⟩
  | 44 => ⟨S16x4096x4, .i1⟩
  | 45 => ⟨S_, .i32⟩
  | 46 => ⟨S_, .i32⟩
  | 47 => ⟨S_, .f32⟩
  | 48 => ⟨S16x4096x4, .f32⟩
  | 49 => ⟨S16x4096x4, .f32⟩
  | 50 => ⟨S_, .f32⟩
  | 51 => ⟨S16x4096x4, .f32⟩
  | 52 => ⟨S16x4096x4, .f32⟩
  | 53 => ⟨S16x4096x4, .i32⟩
  | 54 => ⟨S_, .i32⟩
  | 55 => ⟨S_, .i32⟩
  | 56 => ⟨S_, .f32⟩
  | 57 => ⟨S16x4096x4, .f32⟩
  | 58 => ⟨S16x4096x4, .f32⟩
  | 59 => ⟨S_, .f32⟩
  | 60 => ⟨S16x4096x4, .f32⟩
  | 61 => ⟨S16x4096x4, .f32⟩
  | 62 => ⟨S16x4096x4, .i32⟩
  | 63 => ⟨S_, .i32⟩
  | 64 => ⟨S16x4096x4, .i32⟩
  | 65 => ⟨S16x4096x4, .i32⟩
  | 66 => ⟨S16x4096x4, .i32⟩
  | 67 => ⟨S16x16384, .i32⟩
  | 68 => ⟨S16x1x16384, .i32⟩
  | 69 => ⟨S16x32x16384, .i32⟩
  | 70 => ⟨S_, .i32⟩
  | 71 => ⟨S16x32x16384, .i32⟩
  | 72 => ⟨S16x32x16384, .i1⟩
  | 73 => ⟨S_, .i32⟩
  | 74 => ⟨S16x32x16384, .i32⟩
  | 75 => ⟨S16x32x16384, .i32⟩
  | 76 => ⟨S16x32x16384, .i32⟩
  | 77 => ⟨S16x32x16384x1, .i32⟩
  | 78 => ⟨S1, .i32⟩
  | 79 => ⟨S_, .i32⟩
  | 80 => ⟨S16x32x16384x1, .i32⟩
  | 81 => ⟨S16x32x16384x1, .i1⟩
  | 82 => ⟨S1x1x1x1, .i32⟩
  | 83 => ⟨S16x32x16384x1, .i32⟩
  | 84 => ⟨S16x32x16384x1, .i1⟩
  | 85 => ⟨S16x32x16384x1, .i1⟩
  | 86 => ⟨S_, .i1⟩
  | 87 => ⟨S16x32x16384, .i1⟩
  | 88 => ⟨S16x32x16384, .f32⟩
  | 89 => ⟨S_, .f32⟩
  | 90 => ⟨S16x32x16384, .f32⟩
  | 91 => ⟨S16x32x16384, .f32⟩
  | 92 => ⟨S16x32x4096x4, .f32⟩
  | 93 => ⟨S16x1x4096x4, .i1⟩
  | 94 => ⟨S16x1x4096x4, .f32⟩
  | 95 => ⟨S16x32x4096x4, .f32⟩
  | 96 => ⟨S16x32x4096x4, .f32⟩
  | 97 => ⟨S16x1x4096x4, .f32⟩
  | 98 => ⟨S16x32x4096x4, .f32⟩
  | 99 => ⟨S16x32x4096x4, .f32⟩
  | 100 => ⟨S16x32x4096x4, .f32⟩
  | 101 => ⟨S_, .f32⟩
  | 102 => ⟨S16x4096x4, .f32⟩
  | 103 => ⟨S16x4096x4, .i1⟩
  | 104 => ⟨S_, .f32⟩
  | 105 => ⟨S16x4096x4, .f32⟩
  | 106 => ⟨S16x4096x4, .i1⟩
  | 107 => ⟨S16x4096x4, .i1⟩
  | 108 => ⟨S_, .f32⟩
  | 109 => ⟨S16x4096x4, .f32⟩
  | 110 => ⟨S16x4096x4, .i1⟩
  | 111 => ⟨S16x4096x4, .i1⟩
  | 112 => ⟨S_, .f32⟩
  | 113 => ⟨S16x4096x4, .f32⟩
  | 114 => ⟨S16x4096x4, .i1⟩
  | 115 => ⟨S16x4096x4, .i1⟩
  | 116 => ⟨S_, .i32⟩
  | 117 => ⟨S_, .i32⟩
  | 118 => ⟨S_, .f32⟩
  | 119 => ⟨S16x4096x4, .f32⟩
  | 120 => ⟨S16x4096x4, .f32⟩
  | 121 => ⟨S_, .f32⟩
  | 122 => ⟨S16x4096x4, .f32⟩
  | 123 => ⟨S16x4096x4, .f32⟩
  | 124 => ⟨S16x4096x4, .i32⟩
  | 125 => ⟨S_, .i32⟩
  | 126 => ⟨S_, .i32⟩
  | 127 => ⟨S_, .f32⟩
  | _ => ⟨S4x2x256x32x32, .f32⟩

abbrev hbmTy0_37 (i : Nat) : BufTy := match i % 128 with
  | 0 => ⟨S16x4096x4, .f32⟩
  | 1 => ⟨S16x4096x4, .f32⟩
  | 2 => ⟨S_, .f32⟩
  | 3 => ⟨S16x4096x4, .f32⟩
  | 4 => ⟨S16x4096x4, .f32⟩
  | 5 => ⟨S16x4096x4, .i32⟩
  | 6 => ⟨S_, .i32⟩
  | 7 => ⟨S16x4096x4, .i32⟩
  | 8 => ⟨S16x4096x4, .i32⟩
  | 9 => ⟨S16x4096x4, .i32⟩
  | 10 => ⟨S16x16384, .i32⟩
  | 11 => ⟨S16x1x16384, .i32⟩
  | 12 => ⟨S16x32x16384, .i32⟩
  | 13 => ⟨S_, .i32⟩
  | 14 => ⟨S16x32x16384, .i32⟩
  | 15 => ⟨S16x32x16384, .i1⟩
  | 16 => ⟨S_, .i32⟩
  | 17 => ⟨S16x32x16384, .i32⟩
  | 18 => ⟨S16x32x16384, .i32⟩
  | 19 => ⟨S16x32x16384, .i32⟩
  | 20 => ⟨S16x32x16384x1, .i32⟩
  | 21 => ⟨S1, .i32⟩
  | 22 => ⟨S_, .i32⟩
  | 23 => ⟨S16x32x16384x1, .i32⟩
  | 24 => ⟨S16x32x16384x1, .i1⟩
  | 25 => ⟨S1x1x1x1, .i32⟩
  | 26 => ⟨S16x32x16384x1, .i32⟩
  | 27 => ⟨S16x32x16384x1, .i1⟩
  | 28 => ⟨S16x32x16384x1, .i1⟩
  | 29 => ⟨S_, .i1⟩
  | 30 => ⟨S16x32x16384, .i1⟩
  | 31 => ⟨S16x32x16384, .f32⟩
  | 32 => ⟨S_, .f32⟩
  | 33 => ⟨S16x32x16384, .f32⟩
  | 34 => ⟨S16x32x16384, .f32⟩
  | 35 => ⟨S16x32x4096x4, .f32⟩
  | 36 => ⟨S16x1x4096x4, .i1⟩
  | 37 => ⟨S16x1x4096x4, .f32⟩
  | 38 => ⟨S16x32x4096x4, .f32⟩
  | 39 => ⟨S16x32x4096x4, .f32⟩
  | 40 => ⟨S16x1x4096x4, .f32⟩
  | 41 => ⟨S16x32x4096x4, .f32⟩
  | 42 => ⟨S16x32x4096x4, .f32⟩
  | 43 => ⟨S16x32x4096x4, .f32⟩
  | 44 => ⟨S16x32x4096x1x4, .f32⟩
  | 45 => ⟨S16x32x4096x1x4, .f32⟩
  | 46 => ⟨S16x32x4096x1x4, .f32⟩
  | 47 => ⟨S16x32x4096x1x4, .f32⟩
  | 48 => ⟨S16x32x4096x4x4, .f32⟩
  | 49 => ⟨S16x32x4096x16, .f32⟩
  | 50 => ⟨S2x8x4096x4x4, .f32⟩
  | 51 => ⟨S16x1x4096x16, .f32⟩
  | 52 => ⟨S16x32x4096x16, .f32⟩
  | 53 => ⟨S16x32x4096x16, .f32⟩
  | 54 => ⟨S_, .f32⟩
  | 55 => ⟨S16x32x4096, .f32⟩
  | 56 => ⟨S2x256x4096, .f32⟩
  | 57 => ⟨S2x4096x256, .f32⟩
  | 58 => ⟨S1x256x256, .f32⟩
  | 59 => ⟨S256x256, .f32⟩
  | 60 => ⟨S2x4096x256, .f32⟩
  | 61 => ⟨S1x256, .f32⟩
  | 62 => ⟨S256, .f32⟩
  | 63 => ⟨S1x1x256, .f32⟩
  | 64 => ⟨S2x4096x256, .f32⟩
  | 65 => ⟨S2x4096x256, .f32⟩
  | 66 => ⟨S2x4096x256, .f32⟩
  | 67 => ⟨S1x256, .f32⟩
  | 68 => ⟨S256, .f32⟩
  | 69 => ⟨S1x256, .f32⟩
  | 70 => ⟨S256, .f32⟩
  | 71 => ⟨S_, .f32⟩
  | 72 => ⟨S2x4096, .f32⟩
  | 73 => ⟨S2x4096x1, .f32⟩
  | 74 => ⟨S_, .f32⟩
  | 75 => ⟨S2x4096x1, .f32⟩
  | 76 => ⟨S2x4096x1, .f32⟩
  | 77 => ⟨S2x4096x256, .f32⟩
  | 78 => ⟨S2x4096x256, .f32⟩
  | 79 => ⟨S2x4096x256, .f32⟩
  | 80 => ⟨S_, .f32⟩
  | 81 => ⟨S2x4096, .f32⟩
  | 82 => ⟨S2x4096x1, .f32⟩
  | 83 => ⟨S_, .f32⟩
  | 84 => ⟨S2x4096x1, .f32⟩
  | 85 => ⟨S2x4096x1, .f32⟩
  | 86 => ⟨S2x4096x256, .f32⟩
  | 87 => ⟨S2x4096x256, .f32⟩
  | 88 => ⟨S_, .f32⟩
  | 89 => ⟨S2x4096x1, .f32⟩
  | 90 => ⟨S2x4096x1, .f32⟩
  | 91 => ⟨S2x4096x1, .f32⟩
  | 92 => ⟨S2x4096x256, .f32⟩
  | 93 => ⟨S2x4096x256, .f32⟩
  | 94 => ⟨S1x1x256, .f32⟩
  | 95 => ⟨S2x4096x256, .f32⟩
  | 96 => ⟨S2x4096x256, .f32⟩
  | 97 => ⟨S1x1x256, .f32⟩
  | 98 => ⟨S2x4096x256, .f32⟩
  | 99 => ⟨S2x4096x256, .f32⟩
  | 100 => ⟨S1x256x1024, .f32⟩
  | 101 => ⟨S256x1024, .f32⟩
  | 102 => ⟨S2x4096x1024, .f32⟩
  | 103 => ⟨S1x1024, .f32⟩
  | 104 => ⟨S1024, .f32⟩
  | 105 => ⟨S1x1x1024, .f32⟩
  | 106 => ⟨S2x4096x1024, .f32⟩
  | 107 => ⟨S2x4096x1024, .f32⟩
  | 108 => ⟨S_, .f32⟩
  | 109 => ⟨S2x4096x1024, .f32⟩
  | 110 => ⟨S2x4096x1024, .f32⟩
  | 111 => ⟨S1x1024x256, .f32⟩
  | 112 => ⟨S1024x256, .f32⟩
  | 113 => ⟨S2x4096x256, .f32⟩
  | 114 => ⟨S1x256, .f32⟩
  | 115 => ⟨S256, .f32⟩
  | 116 => ⟨S1x1x256, .f32⟩
  | 117 => ⟨S2x4096x256, .f32⟩
  | 118 => ⟨S2x4096x256, .f32⟩
  | 119 => ⟨S2x4096x256, .f32⟩
  | 120 => ⟨S1x256, .f32⟩
  | 121 => ⟨S256, .f32⟩
  | 122 => ⟨S1x256, .f32⟩
  | 123 => ⟨S256, .f32⟩
  | 124 => ⟨S_, .f32⟩
  | 125 => ⟨S2x4096, .f32⟩
  | 126 => ⟨S2x4096x1, .f32⟩
  | 127 => ⟨S_, .f32⟩
  | _ => ⟨S4x2x256x32x32, .f32⟩

abbrev hbmTy0_38 (i : Nat) : BufTy := match i % 128 with
  | 0 => ⟨S2x4096x1, .f32⟩
  | 1 => ⟨S2x4096x1, .f32⟩
  | 2 => ⟨S2x4096x256, .f32⟩
  | 3 => ⟨S2x4096x256, .f32⟩
  | 4 => ⟨S2x4096x256, .f32⟩
  | 5 => ⟨S_, .f32⟩
  | 6 => ⟨S2x4096, .f32⟩
  | 7 => ⟨S2x4096x1, .f32⟩
  | 8 => ⟨S_, .f32⟩
  | 9 => ⟨S2x4096x1, .f32⟩
  | 10 => ⟨S2x4096x1, .f32⟩
  | 11 => ⟨S2x4096x256, .f32⟩
  | 12 => ⟨S2x4096x256, .f32⟩
  | 13 => ⟨S_, .f32⟩
  | 14 => ⟨S2x4096x1, .f32⟩
  | 15 => ⟨S2x4096x1, .f32⟩
  | 16 => ⟨S2x4096x1, .f32⟩
  | 17 => ⟨S2x4096x256, .f32⟩
  | 18 => ⟨S2x4096x256, .f32⟩
  | 19 => ⟨S1x1x256, .f32⟩
  | 20 => ⟨S2x4096x256, .f32⟩
  | 21 => ⟨S2x4096x256, .f32⟩
  | 22 => ⟨S1x1x256, .f32⟩
  | 23 => ⟨S2x4096x256, .f32⟩
  | 24 => ⟨S2x4096x256, .f32⟩
  | 25 => ⟨S2x4096x256, .f32⟩
  | 26 => ⟨S1x256x256, .f32⟩
  | 27 => ⟨S256x256, .f32⟩
  | 28 => ⟨S2x4096x256, .f32⟩
  | 29 => ⟨S1x256, .f32⟩
  | 30 => ⟨S256, .f32⟩
  | 31 => ⟨S1x1x256, .f32⟩
  | 32 => ⟨S2x4096x256, .f32⟩
  | 33 => ⟨S2x4096x256, .f32⟩
  | 34 => ⟨S2x4096x8x32, .f32⟩
  | 35 => ⟨S1x256x256, .f32⟩
  | 36 => ⟨S256x256, .f32⟩
  | 37 => ⟨S2x4096x256, .f32⟩
  | 38 => ⟨S1x256, .f32⟩
  | 39 => ⟨S256, .f32⟩
  | 40 => ⟨S1x1x256, .f32⟩
  | 41 => ⟨S2x4096x256, .f32⟩
  | 42 => ⟨S2x4096x256, .f32⟩
  | 43 => ⟨S2x4096x8x4x4x2, .f32⟩
  | 44 => ⟨S1x256x128, .f32⟩
  | 45 => ⟨S256x128, .f32⟩
  | 46 => ⟨S2x4096x128, .f32⟩
  | 47 => ⟨S1x128, .f32⟩
  | 48 => ⟨S128, .f32⟩
  | 49 => ⟨S1x1x128, .f32⟩
  | 50 => ⟨S2x4096x128, .f32⟩
  | 51 => ⟨S2x4096x128, .f32⟩
  | 52 => ⟨S2x4096x8x16, .f32⟩
  | 53 => ⟨S_, .f32⟩
  | 54 => ⟨S2x4096x8, .f32⟩
  | 55 => ⟨S_, .f32⟩
  | 56 => ⟨S2x4096x8, .f32⟩
  | 57 => ⟨S2x4096x8, .f32⟩
  | 58 => ⟨S2x4096x8x1, .f32⟩
  | 59 => ⟨S2x4096x8x16, .f32⟩
  | 60 => ⟨S2x4096x8x16, .f32⟩
  | 61 => ⟨S2x4096x8x16, .f32⟩
  | 62 => ⟨S_, .f32⟩
  | 63 => ⟨S2x4096x8, .f32⟩
  | 64 => ⟨S2x4096x8x1, .f32⟩
  | 65 => ⟨S2x4096x8x16, .f32⟩
  | 66 => ⟨S2x4096x8x16, .f32⟩
  | 67 => ⟨S2x4096x8x4x4, .f32⟩
  | 68 => ⟨S2x4096x1x4x1x2, .f32⟩
  | 69 => ⟨S1x1x1x4x1x2, .f32⟩
  | 70 => ⟨S2x4096x8x4x4x2, .f32⟩
  | 71 => ⟨S2x4096x8x4x4x2, .f32⟩
  | 72 => ⟨S2x4096x8x4x4x2, .f32⟩
  | 73 => ⟨S2x4096x8x4x4x2, .f32⟩
  | 74 => ⟨S_, .f32⟩
  | 75 => ⟨S2x4096x8x4x4x2, .f32⟩
  | 76 => ⟨S2x4096x8x4x4x2, .f32⟩
  | 77 => ⟨S_, .f32⟩
  | 78 => ⟨S2x4096x8x4x4x2, .f32⟩
  | 79 => ⟨S2x4096x8x4x4x2, .f32⟩
  | 80 => ⟨S2x1024x8x32, .f32⟩
  | 81 => ⟨S2x8x32x1024, .f32⟩
  | 82 => ⟨S16x32x32x32, .f32⟩
  | 83 => ⟨S2x4096x8x1x4x2, .f32⟩
  | 84 => ⟨S2x4096x8x4x2, .f32⟩
  | 85 => ⟨S2x8x4096x4x2, .f32⟩
  | 86 => ⟨S16x4096x4x2, .f32⟩
  | 87 => ⟨S16x4096x4x1, .f32⟩
  | 88 => ⟨S16x4096x4, .f32⟩
  | 89 => ⟨S_, .f32⟩
  | 90 => ⟨S16x4096x4, .f32⟩
  | 91 => ⟨S16x4096x4, .f32⟩
  | 92 => ⟨S_, .f32⟩
  | 93 => ⟨S16x4096x4, .f32⟩
  | 94 => ⟨S16x4096x4, .f32⟩
  | 95 => ⟨S_, .f32⟩
  | 96 => ⟨S16x4096x4, .f32⟩
  | 97 => ⟨S16x4096x4, .f32⟩
  | 98 => ⟨S_, .f32⟩
  | 99 => ⟨S16x4096x4, .f32⟩
  | 100 => ⟨S16x4096x4, .f32⟩
  | 101 => ⟨S16x4096x4x1, .f32⟩
  | 102 => ⟨S16x4096x4, .f32⟩
  | 103 => ⟨S_, .f32⟩
  | 104 => ⟨S16x4096x4, .f32⟩
  | 105 => ⟨S16x4096x4, .f32⟩
  | 106 => ⟨S_, .f32⟩
  | 107 => ⟨S16x4096x4, .f32⟩
  | 108 => ⟨S16x4096x4, .f32⟩
  | 109 => ⟨S_, .f32⟩
  | 110 => ⟨S16x4096x4, .f32⟩
  | 111 => ⟨S16x4096x4, .f32⟩
  | 112 => ⟨S_, .f32⟩
  | 113 => ⟨S16x4096x4, .f32⟩
  | 114 => ⟨S16x4096x4, .f32⟩
  | 115 => ⟨S16x4096x4, .f32⟩
  | 116 => ⟨S16x4096x4, .f32⟩
  | 117 => ⟨S_, .f32⟩
  | 118 => ⟨S16x4096x4, .f32⟩
  | 119 => ⟨S16x4096x4, .f32⟩
  | 120 => ⟨S_, .f32⟩
  | 121 => ⟨S16x4096x4, .f32⟩
  | 122 => ⟨S16x4096x4, .f32⟩
  | 123 => ⟨S16x4096x4, .f32⟩
  | 124 => ⟨S16x4096x4, .f32⟩
  | 125 => ⟨S16x4096x4, .f32⟩
  | 126 => ⟨S16x4096x4, .f32⟩
  | 127 => ⟨S16x4096x4, .f32⟩
  | _ => ⟨S4x2x256x32x32, .f32⟩

abbrev hbmTy0_39 (i : Nat) : BufTy := match i % 128 with
  | 0 => ⟨S16x4096x4, .f32⟩
  | 1 => ⟨S16x4096x4, .f32⟩
  | 2 => ⟨S16x4096x4, .f32⟩
  | 3 => ⟨S16x4096x4, .f32⟩
  | 4 => ⟨S16x4096x4, .f32⟩
  | 5 => ⟨S16x4096x4, .f32⟩
  | 6 => ⟨S16x4096x4, .f32⟩
  | 7 => ⟨S16x32x1024, .f32⟩
  | 8 => ⟨S_, .f32⟩
  | 9 => ⟨S16x4096x4, .f32⟩
  | 10 => ⟨S16x4096x4, .i1⟩
  | 11 => ⟨S_, .f32⟩
  | 12 => ⟨S16x4096x4, .f32⟩
  | 13 => ⟨S16x4096x4, .i1⟩
  | 14 => ⟨S16x4096x4, .i1⟩
  | 15 => ⟨S_, .f32⟩
  | 16 => ⟨S16x4096x4, .f32⟩
  | 17 => ⟨S16x4096x4, .i1⟩
  | 18 => ⟨S16x4096x4, .i1⟩
  | 19 => ⟨S_, .f32⟩
  | 20 => ⟨S16x4096x4, .f32⟩
  | 21 => ⟨S16x4096x4, .i1⟩
  | 22 => ⟨S16x4096x4, .i1⟩
  | 23 => ⟨S_, .i32⟩
  | 24 => ⟨S_, .i32⟩
  | 25 => ⟨S_, .f32⟩
  | 26 => ⟨S16x4096x4, .f32⟩
  | 27 => ⟨S16x4096x4, .f32⟩
  | 28 => ⟨S_, .f32⟩
  | 29 => ⟨S16x4096x4, .f32⟩
  | 30 => ⟨S16x4096x4, .f32⟩
  | 31 => ⟨S16x4096x4, .i32⟩
  | 32 => ⟨S_, .i32⟩
  | 33 => ⟨S_, .i32⟩
  | 34 => ⟨S_, .f32⟩
  | 35 => ⟨S16x4096x4, .f32⟩
  | 36 => ⟨S16x4096x4, .f32⟩
  | 37 => ⟨S_, .f32⟩
  | 38 => ⟨S16x4096x4, .f32⟩
  | 39 => ⟨S16x4096x4, .f32⟩
  | 40 => ⟨S16x4096x4, .i32⟩
  | 41 => ⟨S_, .i32⟩
  | 42 => ⟨S16x4096x4, .i32⟩
  | 43 => ⟨S16x4096x4, .i32⟩
  | 44 => ⟨S16x4096x4, .i32⟩
  | 45 => ⟨S16x16384, .i32⟩
  | 46 => ⟨S16x1x16384, .i32⟩
  | 47 => ⟨S16x32x16384, .i32⟩
  | 48 => ⟨S_, .i32⟩
  | 49 => ⟨S16x32x16384, .i32⟩
  | 50 => ⟨S16x32x16384, .i1⟩
  | 51 => ⟨S_, .i32⟩
  | 52 => ⟨S16x32x16384, .i32⟩
  | 53 => ⟨S16x32x16384, .i32⟩
  | 54 => ⟨S16x32x16384, .i32⟩
  | 55 => ⟨S16x32x16384x1, .i32⟩
  | 56 => ⟨S1, .i32⟩
  | 57 => ⟨S_, .i32⟩
  | 58 => ⟨S16x32x16384x1, .i32⟩
  | 59 => ⟨S16x32x16384x1, .i1⟩
  | 60 => ⟨S1x1x1x1, .i32⟩
  | 61 => ⟨S16x32x16384x1, .i32⟩
  | 62 => ⟨S16x32x16384x1, .i1⟩
  | 63 => ⟨S16x32x16384x1, .i1⟩
  | 64 => ⟨S_, .i1⟩
  | 65 => ⟨S16x32x16384, .i1⟩
  | 66 => ⟨S16x32x16384, .f32⟩
  | 67 => ⟨S_, .f32⟩
  | 68 => ⟨S16x32x16384, .f32⟩
  | 69 => ⟨S16x32x16384, .f32⟩
  | 70 => ⟨S16x32x4096x4, .f32⟩
  | 71 => ⟨S16x1x4096x4, .i1⟩
  | 72 => ⟨S16x1x4096x4, .f32⟩
  | 73 => ⟨S16x32x4096x4, .f32⟩
  | 74 => ⟨S16x32x4096x4, .f32⟩
  | 75 => ⟨S16x1x4096x4, .f32⟩
  | 76 => ⟨S16x32x4096x4, .f32⟩
  | 77 => ⟨S16x32x4096x4, .f32⟩
  | 78 => ⟨S_, .f32⟩
  | 79 => ⟨S16x4096x4, .f32⟩
  | 80 => ⟨S16x4096x4, .i1⟩
  | 81 => ⟨S_, .f32⟩
  | 82 => ⟨S16x4096x4, .f32⟩
  | 83 => ⟨S16x4096x4, .i1⟩
  | 84 => ⟨S16x4096x4, .i1⟩
  | 85 => ⟨S_, .f32⟩
  | 86 => ⟨S16x4096x4, .f32⟩
  | 87 => ⟨S16x4096x4, .i1⟩
  | 88 => ⟨S16x4096x4, .i1⟩
  | 89 => ⟨S_, .f32⟩
  | 90 => ⟨S16x4096x4, .f32⟩
  | 91 => ⟨S16x4096x4, .i1⟩
  | 92 => ⟨S16x4096x4, .i1⟩
  | 93 => ⟨S_, .i32⟩
  | 94 => ⟨S_, .i32⟩
  | 95 => ⟨S_, .f32⟩
  | 96 => ⟨S16x4096x4, .f32⟩
  | 97 => ⟨S16x4096x4, .f32⟩
  | 98 => ⟨S_, .f32⟩
  | 99 => ⟨S16x4096x4, .f32⟩
  | 100 => ⟨S16x4096x4, .f32⟩
  | 101 => ⟨S16x4096x4, .i32⟩
  | 102 => ⟨S_, .i32⟩
  | 103 => ⟨S_, .i32⟩
  | 104 => ⟨S_, .f32⟩
  | 105 => ⟨S16x4096x4, .f32⟩
  | 106 => ⟨S16x4096x4, .f32⟩
  | 107 => ⟨S_, .f32⟩
  | 108 => ⟨S16x4096x4, .f32⟩
  | 109 => ⟨S16x4096x4, .f32⟩
  | 110 => ⟨S16x4096x4, .i32⟩
  | 111 => ⟨S_, .i32⟩
  | 112 => ⟨S16x4096x4, .i32⟩
  | 113 => ⟨S16x4096x4, .i32⟩
  | 114 => ⟨S16x4096x4, .i32⟩
  | 115 => ⟨S16x16384, .i32⟩
  | 116 => ⟨S16x1x16384, .i32⟩
  | 117 => ⟨S16x32x16384, .i32⟩
  | 118 => ⟨S_, .i32⟩
  | 119 => ⟨S16x32x16384, .i32⟩
  | 120 => ⟨S16x32x16384, .i1⟩
  | 121 => ⟨S_, .i32⟩
  | 122 => ⟨S16x32x16384, .i32⟩
  | 123 => ⟨S16x32x16384, .i32⟩
  | 124 => ⟨S16x32x16384, .i32⟩
  | 125 => ⟨S16x32x16384x1, .i32⟩
  | 126 => ⟨S1, .i32⟩
  | 127 => ⟨S_, .i32⟩
  | _ => ⟨S4x2x256x32x32, .f32⟩

abbrev hbmTy0_40 (i : Nat) : BufTy := match i % 128 with
  | 0 => ⟨S16x32x16384x1, .i32⟩
  | 1 => ⟨S16x32x16384x1, .i1⟩
  | 2 => ⟨S1x1x1x1, .i32⟩
  | 3 => ⟨S16x32x16384x1, .i32⟩
  | 4 => ⟨S16x32x16384x1, .i1⟩
  | 5 => ⟨S16x32x16384x1, .i1⟩
  | 6 => ⟨S_, .i1⟩
  | 7 => ⟨S16x32x16384, .i1⟩
  | 8 => ⟨S16x32x16384, .f32⟩
  | 9 => ⟨S_, .f32⟩
  | 10 => ⟨S16x32x16384, .f32⟩
  | 11 => ⟨S16x32x16384, .f32⟩
  | 12 => ⟨S16x32x4096x4, .f32⟩
  | 13 => ⟨S16x1x4096x4, .i1⟩
  | 14 => ⟨S16x1x4096x4, .f32⟩
  | 15 => ⟨S16x32x4096x4, .f32⟩
  | 16 => ⟨S16x32x4096x4, .f32⟩
  | 17 => ⟨S16x1x4096x4, .f32⟩
  | 18 => ⟨S16x32x4096x4, .f32⟩
  | 19 => ⟨S16x32x4096x4, .f32⟩
  | 20 => ⟨S16x32x4096x4, .f32⟩
  | 21 => ⟨S_, .f32⟩
  | 22 => ⟨S16x4096x4, .f32⟩
  | 23 => ⟨S16x4096x4, .i1⟩
  | 24 => ⟨S_, .f32⟩
  | 25 => ⟨S16x4096x4, .f32⟩
  | 26 => ⟨S16x4096x4, .i1⟩
  | 27 => ⟨S16x4096x4, .i1⟩
  | 28 => ⟨S_, .f32⟩
  | 29 => ⟨S16x4096x4, .f32⟩
  | 30 => ⟨S16x4096x4, .i1⟩
  | 31 => ⟨S16x4096x4, .i1⟩
  | 32 => ⟨S_, .f32⟩
  | 33 => ⟨S16x4096x4, .f32⟩
  | 34 => ⟨S16x4096x4, .i1⟩
  | 35 => ⟨S16x4096x4, .i1⟩
  | 36 => ⟨S_, .i32⟩
  | 37 => ⟨S_, .i32⟩
  | 38 => ⟨S_, .f32⟩
  | 39 => ⟨S16x4096x4, .f32⟩
  | 40 => ⟨S16x4096x4, .f32⟩
  | 41 => ⟨S_, .f32⟩
  | 42 => ⟨S16x4096x4, .f32⟩
  | 43 => ⟨S16x4096x4, .f32⟩
  | 44 => ⟨S16x4096x4, .i32⟩
  | 45 => ⟨S_, .i32⟩
  | 46 => ⟨S_, .i32⟩
  | 47 => ⟨S_, .f32⟩
  | 48 => ⟨S16x4096x4, .f32⟩
  | 49 => ⟨S16x4096x4, .f32⟩
  | 50 => ⟨S_, .f32⟩
  | 51 => ⟨S16x4096x4, .f32⟩
  | 52 => ⟨S16x4096x4, .f32⟩
  | 53 => ⟨S16x4096x4, .i32⟩
  | 54 => ⟨S_, .i32⟩
  | 55 => ⟨S16x4096x4, .i32⟩
  | 56 => ⟨S16x4096x4, .i32⟩
  | 57 => ⟨S16x4096x4, .i32⟩
  | 58 => ⟨S16x16384, .i32⟩
  | 59 => ⟨S16x1x16384, .i32⟩
  | 60 => ⟨S16x32x16384, .i32⟩
  | 61 => ⟨S_, .i32⟩
  | 62 => ⟨S16x32x16384, .i32⟩
  | 63 => ⟨S16x32x16384, .i1⟩
  | 64 => ⟨S_, .i32⟩
  | 65 => ⟨S16x32x16384, .i32⟩
  | 66 => ⟨S16x32x16384, .i32⟩
  | 67 => ⟨S16x32x16384, .i32⟩
  | 68 => ⟨S16x32x16384x1, .i32⟩
  | 69 => ⟨S1, .i32⟩
  | 70 => ⟨S_, .i32⟩
  | 71 => ⟨S16x32x16384x1, .i32⟩
  | 72 => ⟨S16x32x16384x1, .i1⟩
  | 73 => ⟨S1x1x1x1, .i32⟩
  | 74 => ⟨S16x32x16384x1, .i32⟩
  | 75 => ⟨S16x32x16384x1, .i1⟩
  | 76 => ⟨S16x32x16384x1, .i1⟩
  | 77 => ⟨S_, .i1⟩
  | 78 => ⟨S16x32x16384, .i1⟩
  | 79 => ⟨S16x32x16384, .f32⟩
  | 80 => ⟨S_, .f32⟩
  | 81 => ⟨S16x32x16384, .f32⟩
  | 82 => ⟨S16x32x16384, .f32⟩
  | 83 => ⟨S16x32x4096x4, .f32⟩
  | 84 => ⟨S16x1x4096x4, .i1⟩
  | 85 => ⟨S16x1x4096x4, .f32⟩
  | 86 => ⟨S16x32x4096x4, .f32⟩
  | 87 => ⟨S16x32x4096x4, .f32⟩
  | 88 => ⟨S16x1x4096x4, .f32⟩
  | 89 => ⟨S16x32x4096x4, .f32⟩
  | 90 => ⟨S16x32x4096x4, .f32⟩
  | 91 => ⟨S16x32x4096x4, .f32⟩
  | 92 => ⟨S_, .f32⟩
  | 93 => ⟨S16x4096x4, .f32⟩
  | 94 => ⟨S16x4096x4, .i1⟩
  | 95 => ⟨S_, .f32⟩
  | 96 => ⟨S16x4096x4, .f32⟩
  | 97 => ⟨S16x4096x4, .i1⟩
  | 98 => ⟨S16x4096x4, .i1⟩
  | 99 => ⟨S_, .f32⟩
  | 100 => ⟨S16x4096x4, .f32⟩
  | 101 => ⟨S16x4096x4, .i1⟩
  | 102 => ⟨S16x4096x4, .i1⟩
  | 103 => ⟨S_, .f32⟩
  | 104 => ⟨S16x4096x4, .f32⟩
  | 105 => ⟨S16x4096x4, .i1⟩
  | 106 => ⟨S16x4096x4, .i1⟩
  | 107 => ⟨S_, .i32⟩
  | 108 => ⟨S_, .i32⟩
  | 109 => ⟨S_, .f32⟩
  | 110 => ⟨S16x4096x4, .f32⟩
  | 111 => ⟨S16x4096x4, .f32⟩
  | 112 => ⟨S_, .f32⟩
  | 113 => ⟨S16x4096x4, .f32⟩
  | 114 => ⟨S16x4096x4, .f32⟩
  | 115 => ⟨S16x4096x4, .i32⟩
  | 116 => ⟨S_, .i32⟩
  | 117 => ⟨S_, .i32⟩
  | 118 => ⟨S_, .f32⟩
  | 119 => ⟨S16x4096x4, .f32⟩
  | 120 => ⟨S16x4096x4, .f32⟩
  | 121 => ⟨S_, .f32⟩
  | 122 => ⟨S16x4096x4, .f32⟩
  | 123 => ⟨S16x4096x4, .f32⟩
  | 124 => ⟨S16x4096x4, .i32⟩
  | 125 => ⟨S_, .i32⟩
  | 126 => ⟨S16x4096x4, .i32⟩
  | 127 => ⟨S16x4096x4, .i32⟩
  | _ => ⟨S4x2x256x32x32, .f32⟩

abbrev hbmTy0_41 (i : Nat) : BufTy := match i % 128 with
  | 0 => ⟨S16x4096x4, .i32⟩
  | 1 => ⟨S16x16384, .i32⟩
  | 2 => ⟨S16x1x16384, .i32⟩
  | 3 => ⟨S16x32x16384, .i32⟩
  | 4 => ⟨S_, .i32⟩
  | 5 => ⟨S16x32x16384, .i32⟩
  | 6 => ⟨S16x32x16384, .i1⟩
  | 7 => ⟨S_, .i32⟩
  | 8 => ⟨S16x32x16384, .i32⟩
  | 9 => ⟨S16x32x16384, .i32⟩
  | 10 => ⟨S16x32x16384, .i32⟩
  | 11 => ⟨S16x32x16384x1, .i32⟩
  | 12 => ⟨S1, .i32⟩
  | 13 => ⟨S_, .i32⟩
  | 14 => ⟨S16x32x16384x1, .i32⟩
  | 15 => ⟨S16x32x16384x1, .i1⟩
  | 16 => ⟨S1x1x1x1, .i32⟩
  | 17 => ⟨S16x32x16384x1, .i32⟩
  | 18 => ⟨S16x32x16384x1, .i1⟩
  | 19 => ⟨S16x32x16384x1, .i1⟩
  | 20 => ⟨S_, .i1⟩
  | 21 => ⟨S16x32x16384, .i1⟩
  | 22 => ⟨S16x32x16384, .f32⟩
  | 23 => ⟨S_, .f32⟩
  | 24 => ⟨S16x32x16384, .f32⟩
  | 25 => ⟨S16x32x16384, .f32⟩
  | 26 => ⟨S16x32x4096x4, .f32⟩
  | 27 => ⟨S16x1x4096x4, .i1⟩
  | 28 => ⟨S16x1x4096x4, .f32⟩
  | 29 => ⟨S16x32x4096x4, .f32⟩
  | 30 => ⟨S16x32x4096x4, .f32⟩
  | 31 => ⟨S16x1x4096x4, .f32⟩
  | 32 => ⟨S16x32x4096x4, .f32⟩
  | 33 => ⟨S16x32x4096x4, .f32⟩
  | 34 => ⟨S16x32x4096x4, .f32⟩
  | 35 => ⟨S2x1024x8x32, .f32⟩
  | 36 => ⟨S2x8x32x1024, .f32⟩
  | 37 => ⟨S16x32x32x32, .f32⟩
  | 38 => ⟨S2x4096x8x1x4x2, .f32⟩
  | 39 => ⟨S2x4096x8x4x2, .f32⟩
  | 40 => ⟨S2x8x4096x4x2, .f32⟩
  | 41 => ⟨S16x4096x4x2, .f32⟩
  | 42 => ⟨S16x4096x4x1, .f32⟩
  | 43 => ⟨S16x4096x4, .f32⟩
  | 44 => ⟨S_, .f32⟩
  | 45 => ⟨S16x4096x4, .f32⟩
  | 46 => ⟨S16x4096x4, .f32⟩
  | 47 => ⟨S_, .f32⟩
  | 48 => ⟨S16x4096x4, .f32⟩
  | 49 => ⟨S16x4096x4, .f32⟩
  | 50 => ⟨S_, .f32⟩
  | 51 => ⟨S16x4096x4, .f32⟩
  | 52 => ⟨S16x4096x4, .f32⟩
  | 53 => ⟨S_, .f32⟩
  | 54 => ⟨S16x4096x4, .f32⟩
  | 55 => ⟨S16x4096x4, .f32⟩
  | 56 => ⟨S16x4096x4x1, .f32⟩
  | 57 => ⟨S16x4096x4, .f32⟩
  | 58 => ⟨S_, .f32⟩
  | 59 => ⟨S16x4096x4, .f32⟩
  | 60 => ⟨S16x4096x4, .f32⟩
  | 61 => ⟨S_, .f32⟩
  | 62 => ⟨S16x4096x4, .f32⟩
  | 63 => ⟨S16x4096x4, .f32⟩
  | 64 => ⟨S_, .f32⟩
  | 65 => ⟨S16x4096x4, .f32⟩
  | 66 => ⟨S16x4096x4, .f32⟩
  | 67 => ⟨S_, .f32⟩
  | 68 => ⟨S16x4096x4, .f32⟩
  | 69 => ⟨S16x4096x4, .f32⟩
  | 70 => ⟨S16x4096x4, .f32⟩
  | 71 => ⟨S16x4096x4, .f32⟩
  | 72 => ⟨S_, .f32⟩
  | 73 => ⟨S16x4096x4, .f32⟩
  | 74 => ⟨S16x4096x4, .f32⟩
  | 75 => ⟨S_, .f32⟩
  | 76 => ⟨S16x4096x4, .f32⟩
  | 77 => ⟨S16x4096x4, .f32⟩
  | 78 => ⟨S16x4096x4, .f32⟩
  | 79 => ⟨S16x4096x4, .f32⟩
  | 80 => ⟨S16x4096x4, .f32⟩
  | 81 => ⟨S16x4096x4, .f32⟩
  | 82 => ⟨S16x4096x4, .f32⟩
  | 83 => ⟨S16x4096x4, .f32⟩
  | 84 => ⟨S16x4096x4, .f32⟩
  | 85 => ⟨S16x4096x4, .f32⟩
  | 86 => ⟨S16x4096x4, .f32⟩
  | 87 => ⟨S16x4096x4, .f32⟩
  | 88 => ⟨S16x4096x4, .f32⟩
  | 89 => ⟨S16x4096x4, .f32⟩
  | 90 => ⟨S16x32x1024, .f32⟩
  | 91 => ⟨S_, .f32⟩
  | 92 => ⟨S16x4096x4, .f32⟩
  | 93 => ⟨S16x4096x4, .i1⟩
  | 94 => ⟨S_, .f32⟩
  | 95 => ⟨S16x4096x4, .f32⟩
  | 96 => ⟨S16x4096x4, .i1⟩
  | 97 => ⟨S16x4096x4, .i1⟩
  | 98 => ⟨S_, .f32⟩
  | 99 => ⟨S16x4096x4, .f32⟩
  | 100 => ⟨S16x4096x4, .i1⟩
  | 101 => ⟨S16x4096x4, .i1⟩
  | 102 => ⟨S_, .f32⟩
  | 103 => ⟨S16x4096x4, .f32⟩
  | 104 => ⟨S16x4096x4, .i1⟩
  | 105 => ⟨S16x4096x4, .i1⟩
  | 106 => ⟨S_, .i32⟩
  | 107 => ⟨S_, .i32⟩
  | 108 => ⟨S_, .f32⟩
  | 109 => ⟨S16x4096x4, .f32⟩
  | 110 => ⟨S16x4096x4, .f32⟩
  | 111 => ⟨S_, .f32⟩
  | 112 => ⟨S16x4096x4, .f32⟩
  | 113 => ⟨S16x4096x4, .f32⟩
  | 114 => ⟨S16x4096x4, .i32⟩
  | 115 => ⟨S_, .i32⟩
  | 116 => ⟨S_, .i32⟩
  | 117 => ⟨S_, .f32⟩
  | 118 => ⟨S16x4096x4, .f32⟩
  | 119 => ⟨S16x4096x4, .f32⟩
  | 120 => ⟨S_, .f32⟩
  | 121 => ⟨S16x4096x4, .f32⟩
  | 122 => ⟨S16x4096x4, .f32⟩
  | 123 => ⟨S16x4096x4, .i32⟩
  | 124 => ⟨S_, .i32⟩
  | 125 => ⟨S16x4096x4, .i32⟩
  | 126 => ⟨S16x4096x4, .i32⟩
  | 127 => ⟨S16x4096x4, .i32⟩
  | _ => ⟨S4x2x256x32x32, .f32⟩

abbrev hbmTy0_42 (i : Nat) : BufTy := match i % 128 with
  | 0 => ⟨S16x16384, .i32⟩
  | 1 => ⟨S16x1x16384, .i32⟩
  | 2 => ⟨S16x32x16384, .i32⟩
  | 3 => ⟨S_, .i32⟩
  | 4 => ⟨S16x32x16384, .i32⟩
  | 5 => ⟨S16x32x16384, .i1⟩
  | 6 => ⟨S_, .i32⟩
  | 7 => ⟨S16x32x16384, .i32⟩
  | 8 => ⟨S16x32x16384, .i32⟩
  | 9 => ⟨S16x32x16384, .i32⟩
  | 10 => ⟨S16x32x16384x1, .i32⟩
  | 11 => ⟨S1, .i32⟩
  | 12 => ⟨S_, .i32⟩
  | 13 => ⟨S16x32x16384x1, .i32⟩
  | 14 => ⟨S16x32x16384x1, .i1⟩
  | 15 => ⟨S1x1x1x1, .i32⟩
  | 16 => ⟨S16x32x16384x1, .i32⟩
  | 17 => ⟨S16x32x16384x1, .i1⟩
  | 18 => ⟨S16x32x16384x1, .i1⟩
  | 19 => ⟨S_, .i1⟩
  | 20 => ⟨S16x32x16384, .i1⟩
  | 21 => ⟨S16x32x16384, .f32⟩
  | 22 => ⟨S_, .f32⟩
  | 23 => ⟨S16x32x16384, .f32⟩
  | 24 => ⟨S16x32x16384, .f32⟩
  | 25 => ⟨S16x32x4096x4, .f32⟩
  | 26 => ⟨S16x1x4096x4, .i1⟩
  | 27 => ⟨S16x1x4096x4, .f32⟩
  | 28 => ⟨S16x32x4096x4, .f32⟩
  | 29 => ⟨S16x32x4096x4, .f32⟩
  | 30 => ⟨S16x1x4096x4, .f32⟩
  | 31 => ⟨S16x32x4096x4, .f32⟩
  | 32 => ⟨S16x32x4096x4, .f32⟩
  | 33 => ⟨S_, .f32⟩
  | 34 => ⟨S16x4096x4, .f32⟩
  | 35 => ⟨S16x4096x4, .i1⟩
  | 36 => ⟨S_, .f32⟩
  | 37 => ⟨S16x4096x4, .f32⟩
  | 38 => ⟨S16x4096x4, .i1⟩
  | 39 => ⟨S16x4096x4, .i1⟩
  | 40 => ⟨S_, .f32⟩
  | 41 => ⟨S16x4096x4, .f32⟩
  | 42 => ⟨S16x4096x4, .i1⟩
  | 43 => ⟨S16x4096x4, .i1⟩
  | 44 => ⟨S_, .f32⟩
  | 45 => ⟨S16x4096x4, .f32⟩
  | 46 => ⟨S16x4096x4, .i1⟩
  | 47 => ⟨S16x4096x4, .i1⟩
  | 48 => ⟨S_, .i32⟩
  | 49 => ⟨S_, .i32⟩
  | 50 => ⟨S_, .f32⟩
  | 51 => ⟨S16x4096x4, .f32⟩
  | 52 => ⟨S16x4096x4, .f32⟩
  | 53 => ⟨S_, .f32⟩
  | 54 => ⟨S16x4096x4, .f32⟩
  | 55 => ⟨S16x4096x4, .f32⟩
  | 56 => ⟨S16x4096x4, .i32⟩
  | 57 => ⟨S_, .i32⟩
  | 58 => ⟨S_, .i32⟩
  | 59 => ⟨S_, .f32⟩
  | 60 => ⟨S16x4096x4, .f32⟩
  | 61 => ⟨S16x4096x4, .f32⟩
  | 62 => ⟨S_, .f32⟩
  | 63 => ⟨S16x4096x4, .f32⟩
  | 64 => ⟨S16x4096x4, .f32⟩
  | 65 => ⟨S16x4096x4, .i32⟩
  | 66 => ⟨S_, .i32⟩
  | 67 => ⟨S16x4096x4, .i32⟩
  | 68 => ⟨S16x4096x4, .i32⟩
  | 69 => ⟨S16x4096x4, .i32⟩
  | 70 => ⟨S16x16384, .i32⟩
  | 71 => ⟨S16x1x16384, .i32⟩
  | 72 => ⟨S16x32x16384, .i32⟩
  | 73 => ⟨S_, .i32⟩
  | 74 => ⟨S16x32x16384, .i32⟩
  | 75 => ⟨S16x32x16384, .i1⟩
  | 76 => ⟨S_, .i32⟩
  | 77 => ⟨S16x32x16384, .i32⟩
  | 78 => ⟨S16x32x16384, .i32⟩
  | 79 => ⟨S16x32x16384, .i32⟩
  | 80 => ⟨S16x32x16384x1, .i32⟩
  | 81 => ⟨S1, .i32⟩
  | 82 => ⟨S_, .i32⟩
  | 83 => ⟨S16x32x16384x1, .i32⟩
  | 84 => ⟨S16x32x16384x1, .i1⟩
  | 85 => ⟨S1x1x1x1, .i32⟩
  | 86 => ⟨S16x32x16384x1, .i32⟩
  | 87 => ⟨S16x32x16384x1, .i1⟩
  | 88 => ⟨S16x32x16384x1, .i1⟩
  | 89 => ⟨S_, .i1⟩
  | 90 => ⟨S16x32x16384, .i1⟩
  | 91 => ⟨S16x32x16384, .f32⟩
  | 92 => ⟨S_, .f32⟩
  | 93 => ⟨S16x32x16384, .f32⟩
  | 94 => ⟨S16x32x16384, .f32⟩
  | 95 => ⟨S16x32x4096x4, .f32⟩
  | 96 => ⟨S16x1x4096x4, .i1⟩
  | 97 => ⟨S16x1x4096x4, .f32⟩
  | 98 => ⟨S16x32x4096x4, .f32⟩
  | 99 => ⟨S16x32x4096x4, .f32⟩
  | 100 => ⟨S16x1x4096x4, .f32⟩
  | 101 => ⟨S16x32x4096x4, .f32⟩
  | 102 => ⟨S16x32x4096x4, .f32⟩
  | 103 => ⟨S16x32x4096x4, .f32⟩
  | 104 => ⟨S_, .f32⟩
  | 105 => ⟨S16x4096x4, .f32⟩
  | 106 => ⟨S16x4096x4, .i1⟩
  | 107 => ⟨S_, .f32⟩
  | 108 => ⟨S16x4096x4, .f32⟩
  | 109 => ⟨S16x4096x4, .i1⟩
  | 110 => ⟨S16x4096x4, .i1⟩
  | 111 => ⟨S_, .f32⟩
  | 112 => ⟨S16x4096x4, .f32⟩
  | 113 => ⟨S16x4096x4, .i1⟩
  | 114 => ⟨S16x4096x4, .i1⟩
  | 115 => ⟨S_, .f32⟩
  | 116 => ⟨S16x4096x4, .f32⟩
  | 117 => ⟨S16x4096x4, .i1⟩
  | 118 => ⟨S16x4096x4, .i1⟩
  | 119 => ⟨S_, .i32⟩
  | 120 => ⟨S_, .i32⟩
  | 121 => ⟨S_, .f32⟩
  | 122 => ⟨S16x4096x4, .f32⟩
  | 123 => ⟨S16x4096x4, .f32⟩
  | 124 => ⟨S_, .f32⟩
  | 125 => ⟨S16x4096x4, .f32⟩
  | 126 => ⟨S16x4096x4, .f32⟩
  | 127 => ⟨S16x4096x4, .i32⟩
  | _ => ⟨S4x2x256x32x32, .f32⟩

abbrev hbmTy0_43 (i : Nat) : BufTy := match i % 128 with
  | 0 => ⟨S_, .i32⟩
  | 1 => ⟨S_, .i32⟩
  | 2 => ⟨S_, .f32⟩
  | 3 => ⟨S16x4096x4, .f32⟩
  | 4 => ⟨S16x4096x4, .f32⟩
  | 5 => ⟨S_, .f32⟩
  | 6 => ⟨S16x4096x4, .f32⟩
  | 7 => ⟨S16x4096x4, .f32⟩
  | 8 => ⟨S16x4096x4, .i32⟩
  | 9 => ⟨S_, .i32⟩
  | 10 => ⟨S16x4096x4, .i32⟩
  | 11 => ⟨S16x4096x4, .i32⟩
  | 12 => ⟨S16x4096x4, .i32⟩
  | 13 => ⟨S16x16384, .i32⟩
  | 14 => ⟨S16x1x16384, .i32⟩
  | 15 => ⟨S16x32x16384, .i32⟩
  | 16 => ⟨S_, .i32⟩
  | 17 => ⟨S16x32x16384, .i32⟩
  | 18 => ⟨S16x32x16384, .i1⟩
  | 19 => ⟨S_, .i32⟩
  | 20 => ⟨S16x32x16384, .i32⟩
  | 21 => ⟨S16x32x16384, .i32⟩
  | 22 => ⟨S16x32x16384, .i32⟩
  | 23 => ⟨S16x32x16384x1, .i32⟩
  | 24 => ⟨S1, .i32⟩
  | 25 => ⟨S_, .i32⟩
  | 26 => ⟨S16x32x16384x1, .i32⟩
  | 27 => ⟨S16x32x16384x1, .i1⟩
  | 28 => ⟨S1x1x1x1, .i32⟩
  | 29 => ⟨S16x32x16384x1, .i32⟩
  | 30 => ⟨S16x32x16384x1, .i1⟩
  | 31 => ⟨S16x32x16384x1, .i1⟩
  | 32 => ⟨S_, .i1⟩
  | 33 => ⟨S16x32x16384, .i1⟩
  | 34 => ⟨S16x32x16384, .f32⟩
  | 35 => ⟨S_, .f32⟩
  | 36 => ⟨S16x32x16384, .f32⟩
  | 37 => ⟨S16x32x16384, .f32⟩
  | 38 => ⟨S16x32x4096x4, .f32⟩
  | 39 => ⟨S16x1x4096x4, .i1⟩
  | 40 => ⟨S16x1x4096x4, .f32⟩
  | 41 => ⟨S16x32x4096x4, .f32⟩
  | 42 => ⟨S16x32x4096x4, .f32⟩
  | 43 => ⟨S16x1x4096x4, .f32⟩
  | 44 => ⟨S16x32x4096x4, .f32⟩
  | 45 => ⟨S16x32x4096x4, .f32⟩
  | 46 => ⟨S16x32x4096x4, .f32⟩
  | 47 => ⟨S_, .f32⟩
  | 48 => ⟨S16x4096x4, .f32⟩
  | 49 => ⟨S16x4096x4, .i1⟩
  | 50 => ⟨S_, .f32⟩
  | 51 => ⟨S16x4096x4, .f32⟩
  | 52 => ⟨S16x4096x4, .i1⟩
  | 53 => ⟨S16x4096x4, .i1⟩
  | 54 => ⟨S_, .f32⟩
  | 55 => ⟨S16x4096x4, .f32⟩
  | 56 => ⟨S16x4096x4, .i1⟩
  | 57 => ⟨S16x4096x4, .i1⟩
  | 58 => ⟨S_, .f32⟩
  | 59 => ⟨S16x4096x4, .f32⟩
  | 60 => ⟨S16x4096x4, .i1⟩
  | 61 => ⟨S16x4096x4, .i1⟩
  | 62 => ⟨S_, .i32⟩
  | 63 => ⟨S_, .i32⟩
  | 64 => ⟨S_, .f32⟩
  | 65 => ⟨S16x4096x4, .f32⟩
  | 66 => ⟨S16x4096x4, .f32⟩
  | 67 => ⟨S_, .f32⟩
  | 68 => ⟨S16x4096x4, .f32⟩
  | 69 => ⟨S16x4096x4, .f32⟩
  | 70 => ⟨S16x4096x4, .i32⟩
  | 71 => ⟨S_, .i32⟩
  | 72 => ⟨S_, .i32⟩
  | 73 => ⟨S_, .f32⟩
  | 74 => ⟨S16x4096x4, .f32⟩
  | 75 => ⟨S16x4096x4, .f32⟩
  | 76 => ⟨S_, .f32⟩
  | 77 => ⟨S16x4096x4, .f32⟩
  | 78 => ⟨S16x4096x4, .f32⟩
  | 79 => ⟨S16x4096x4, .i32⟩
  | 80 => ⟨S_, .i32⟩
  | 81 => ⟨S16x4096x4, .i32⟩
  | 82 => ⟨S16x4096x4, .i32⟩
  | 83 => ⟨S16x4096x4, .i32⟩
  | 84 => ⟨S16x16384, .i32⟩
  | 85 => ⟨S16x1x16384, .i32⟩
  | 86 => ⟨S16x32x16384, .i32⟩
  | 87 => ⟨S_, .i32⟩
  | 88 => ⟨S16x32x16384, .i32⟩
  | 89 => ⟨S16x32x16384, .i1⟩
  | 90 => ⟨S_, .i32⟩
  | 91 => ⟨S16x32x16384, .i32⟩
  | 92 => ⟨S16x32x16384, .i32⟩
  | 93 => ⟨S16x32x16384, .i32⟩
  | 94 => ⟨S16x32x16384x1, .i32⟩
  | 95 => ⟨S1, .i32⟩
  | 96 => ⟨S_, .i32⟩
  | 97 => ⟨S16x32x16384x1, .i32⟩
  | 98 => ⟨S16x32x16384x1, .i1⟩
  | 99 => ⟨S1x1x1x1, .i32⟩
  | 100 => ⟨S16x32x16384x1, .i32⟩
  | 101 => ⟨S16x32x16384x1, .i1⟩
  | 102 => ⟨S16x32x16384x1, .i1⟩
  | 103 => ⟨S_, .i1⟩
  | 104 => ⟨S16x32x16384, .i1⟩
  | 105 => ⟨S16x32x16384, .f32⟩
  | 106 => ⟨S_, .f32⟩
  | 107 => ⟨S16x32x16384, .f32⟩
  | 108 => ⟨S16x32x16384, .f32⟩
  | 109 => ⟨S16x32x4096x4, .f32⟩
  | 110 => ⟨S16x1x4096x4, .i1⟩
  | 111 => ⟨S16x1x4096x4, .f32⟩
  | 112 => ⟨S16x32x4096x4, .f32⟩
  | 113 => ⟨S16x32x4096x4, .f32⟩
  | 114 => ⟨S16x1x4096x4, .f32⟩
  | 115 => ⟨S16x32x4096x4, .f32⟩
  | 116 => ⟨S16x32x4096x4, .f32⟩
  | 117 => ⟨S16x32x4096x4, .f32⟩
  | 118 => ⟨S2x1024x8x32, .f32⟩
  | 119 => ⟨S2x8x32x1024, .f32⟩
  | 120 => ⟨S16x32x32x32, .f32⟩
  | 121 => ⟨S2x4096x8x1x4x2, .f32⟩
  | 122 => ⟨S2x4096x8x4x2, .f32⟩
  | 123 => ⟨S2x8x4096x4x2, .f32⟩
  | 124 => ⟨S16x4096x4x2, .f32⟩
  | 125 => ⟨S16x4096x4x1, .f32⟩
  | 126 => ⟨S16x4096x4, .f32⟩
  | 127 => ⟨S_, .f32⟩
  | _ => ⟨S4x2x256x32x32, .f32⟩

abbrev hbmTy0_44 (i : Nat) : BufTy := match i % 128 with
  | 0 => ⟨S16x4096x4, .f32⟩
  | 1 => ⟨S16x4096x4, .f32⟩
  | 2 => ⟨S_, .f32⟩
  | 3 => ⟨S16x4096x4, .f32⟩
  | 4 => ⟨S16x4096x4, .f32⟩
  | 5 => ⟨S_, .f32⟩
  | 6 => ⟨S16x4096x4, .f32⟩
  | 7 => ⟨S16x4096x4, .f32⟩
  | 8 => ⟨S_, .f32⟩
  | 9 => ⟨S16x4096x4, .f32⟩
  | 10 => ⟨S16x4096x4, .f32⟩
  | 11 => ⟨S16x4096x4x1, .f32⟩
  | 12 => ⟨S16x4096x4, .f32⟩
  | 13 => ⟨S_, .f32⟩
  | 14 => ⟨S16x4096x4, .f32⟩
  | 15 => ⟨S16x4096x4, .f32⟩
  | 16 => ⟨S_, .f32⟩
  | 17 => ⟨S16x4096x4, .f32⟩
  | 18 => ⟨S16x4096x4, .f32⟩
  | 19 => ⟨S_, .f32⟩
  | 20 => ⟨S16x4096x4, .f32⟩
  | 21 => ⟨S16x4096x4, .f32⟩
  | 22 => ⟨S_, .f32⟩
  | 23 => ⟨S16x4096x4, .f32⟩
  | 24 => ⟨S16x4096x4, .f32⟩
  | 25 => ⟨S16x4096x4, .f32⟩
  | 26 => ⟨S16x4096x4, .f32⟩
  | 27 => ⟨S_, .f32⟩
  | 28 => ⟨S16x4096x4, .f32⟩
  | 29 => ⟨S16x4096x4, .f32⟩
  | 30 => ⟨S_, .f32⟩
  | 31 => ⟨S16x4096x4, .f32⟩
  | 32 => ⟨S16x4096x4, .f32⟩
  | 33 => ⟨S16x4096x4, .f32⟩
  | 34 => ⟨S16x4096x4, .f32⟩
  | 35 => ⟨S16x4096x4, .f32⟩
  | 36 => ⟨S16x4096x4, .f32⟩
  | 37 => ⟨S16x4096x4, .f32⟩
  | 38 => ⟨S16x4096x4, .f32⟩
  | 39 => ⟨S16x4096x4, .f32⟩
  | 40 => ⟨S16x4096x4, .f32⟩
  | 41 => ⟨S16x4096x4, .f32⟩
  | 42 => ⟨S16x4096x4, .f32⟩
  | 43 => ⟨S16x4096x4, .f32⟩
  | 44 => ⟨S16x4096x4, .f32⟩
  | 45 => ⟨S16x32x1024, .f32⟩
  | 46 => ⟨S_, .f32⟩
  | 47 => ⟨S16x4096x4, .f32⟩
  | 48 => ⟨S16x4096x4, .i1⟩
  | 49 => ⟨S_, .f32⟩
  | 50 => ⟨S16x4096x4, .f32⟩
  | 51 => ⟨S16x4096x4, .i1⟩
  | 52 => ⟨S16x4096x4, .i1⟩
  | 53 => ⟨S_, .f32⟩
  | 54 => ⟨S16x4096x4, .f32⟩
  | 55 => ⟨S16x4096x4, .i1⟩
  | 56 => ⟨S16x4096x4, .i1⟩
  | 57 => ⟨S_, .f32⟩
  | 58 => ⟨S16x4096x4, .f32⟩
  | 59 => ⟨S16x4096x4, .i1⟩
  | 60 => ⟨S16x4096x4, .i1⟩
  | 61 => ⟨S_, .i32⟩
  | 62 => ⟨S_, .i32⟩
  | 63 => ⟨S_, .f32⟩
  | 64 => ⟨S16x4096x4, .f32⟩
  | 65 => ⟨S16x4096x4, .f32⟩
  | 66 => ⟨S_, .f32⟩
  | 67 => ⟨S16x4096x4, .f32⟩
  | 68 => ⟨S16x4096x4, .f32⟩
  | 69 => ⟨S16x4096x4, .i32⟩
  | 70 => ⟨S_, .i32⟩
  | 71 => ⟨S_, .i32⟩
  | 72 => ⟨S_, .f32⟩
  | 73 => ⟨S16x4096x4, .f32⟩
  | 74 => ⟨S16x4096x4, .f32⟩
  | 75 => ⟨S_, .f32⟩
  | 76 => ⟨S16x4096x4, .f32⟩
  | 77 => ⟨S16x4096x4, .f32⟩
  | 78 => ⟨S16x4096x4, .i32⟩
  | 79 => ⟨S_, .i32⟩
  | 80 => ⟨S16x4096x4, .i32⟩
  | 81 => ⟨S16x4096x4, .i32⟩
  | 82 => ⟨S16x4096x4, .i32⟩
  | 83 => ⟨S16x16384, .i32⟩
  | 84 => ⟨S16x1x16384, .i32⟩
  | 85 => ⟨S16x32x16384, .i32⟩
  | 86 => ⟨S_, .i32⟩
  | 87 => ⟨S16x32x16384, .i32⟩
  | 88 => ⟨S16x32x16384, .i1⟩
  | 89 => ⟨S_, .i32⟩
  | 90 => ⟨S16x32x16384, .i32⟩
  | 91 => ⟨S16x32x16384, .i32⟩
  | 92 => ⟨S16x32x16384, .i32⟩
  | 93 => ⟨S16x32x16384x1, .i32⟩
  | 94 => ⟨S1, .i32⟩
  | 95 => ⟨S_, .i32⟩
  | 96 => ⟨S16x32x16384x1, .i32⟩
  | 97 => ⟨S16x32x16384x1, .i1⟩
  | 98 => ⟨S1x1x1x1, .i32⟩
  | 99 => ⟨S16x32x16384x1, .i32⟩
  | 100 => ⟨S16x32x16384x1, .i1⟩
  | 101 => ⟨S16x32x16384x1, .i1⟩
  | 102 => ⟨S_, .i1⟩
  | 103 => ⟨S16x32x16384, .i1⟩
  | 104 => ⟨S16x32x16384, .f32⟩
  | 105 => ⟨S_, .f32⟩
  | 106 => ⟨S16x32x16384, .f32⟩
  | 107 => ⟨S16x32x16384, .f32⟩
  | 108 => ⟨S16x32x4096x4, .f32⟩
  | 109 => ⟨S16x1x4096x4, .i1⟩
  | 110 => ⟨S16x1x4096x4, .f32⟩
  | 111 => ⟨S16x32x4096x4, .f32⟩
  | 112 => ⟨S16x32x4096x4, .f32⟩
  | 113 => ⟨S16x1x4096x4, .f32⟩
  | 114 => ⟨S16x32x4096x4, .f32⟩
  | 115 => ⟨S16x32x4096x4, .f32⟩
  | 116 => ⟨S_, .f32⟩
  | 117 => ⟨S16x4096x4, .f32⟩
  | 118 => ⟨S16x4096x4, .i1⟩
  | 119 => ⟨S_, .f32⟩
  | 120 => ⟨S16x4096x4, .f32⟩
  | 121 => ⟨S16x4096x4, .i1⟩
  | 122 => ⟨S16x4096x4, .i1⟩
  | 123 => ⟨S_, .f32⟩
  | 124 => ⟨S16x4096x4, .f32⟩
  | 125 => ⟨S16x4096x4, .i1⟩
  | 126 => ⟨S16x4096x4, .i1⟩
  | 127 => ⟨S_, .f32⟩
  | _ => ⟨S4x2x256x32x32, .f32⟩

abbrev hbmTy0_45 (i : Nat) : BufTy := match i % 128 with
  | 0 => ⟨S16x4096x4, .f32⟩
  | 1 => ⟨S16x4096x4, .i1⟩
  | 2 => ⟨S16x4096x4, .i1⟩
  | 3 => ⟨S_, .i32⟩
  | 4 => ⟨S_, .i32⟩
  | 5 => ⟨S_, .f32⟩
  | 6 => ⟨S16x4096x4, .f32⟩
  | 7 => ⟨S16x4096x4, .f32⟩
  | 8 => ⟨S_, .f32⟩
  | 9 => ⟨S16x4096x4, .f32⟩
  | 10 => ⟨S16x4096x4, .f32⟩
  | 11 => ⟨S16x4096x4, .i32⟩
  | 12 => ⟨S_, .i32⟩
  | 13 => ⟨S_, .i32⟩
  | 14 => ⟨S_, .f32⟩
  | 15 => ⟨S16x4096x4, .f32⟩
  | 16 => ⟨S16x4096x4, .f32⟩
  | 17 => ⟨S_, .f32⟩
  | 18 => ⟨S16x4096x4, .f32⟩
  | 19 => ⟨S16x4096x4, .f32⟩
  | 20 => ⟨S16x4096x4, .i32⟩
  | 21 => ⟨S_, .i32⟩
  | 22 => ⟨S16x4096x4, .i32⟩
  | 23 => ⟨S16x4096x4, .i32⟩
  | 24 => ⟨S16x4096x4, .i32⟩
  | 25 => ⟨S16x16384, .i32⟩
  | 26 => ⟨S16x1x16384, .i32⟩
  | 27 => ⟨S16x32x16384, .i32⟩
  | 28 => ⟨S_, .i32⟩
  | 29 => ⟨S16x32x16384, .i32⟩
  | 30 => ⟨S16x32x16384, .i1⟩
  | 31 => ⟨S_, .i32⟩
  | 32 => ⟨S16x32x16384, .i32⟩
  | 33 => ⟨S16x32x16384, .i32⟩
  | 34 => ⟨S16x32x16384, .i32⟩
  | 35 => ⟨S16x32x16384x1, .i32⟩
  | 36 => ⟨S1, .i32⟩
  | 37 => ⟨S_, .i32⟩
  | 38 => ⟨S16x32x16384x1, .i32⟩
  | 39 => ⟨S16x32x16384x1, .i1⟩
  | 40 => ⟨S1x1x1x1, .i32⟩
  | 41 => ⟨S16x32x16384x1, .i32⟩
  | 42 => ⟨S16x32x16384x1, .i1⟩
  | 43 => ⟨S16x32x16384x1, .i1⟩
  | 44 => ⟨S_, .i1⟩
  | 45 => ⟨S16x32x16384, .i1⟩
  | 46 => ⟨S16x32x16384, .f32⟩
  | 47 => ⟨S_, .f32⟩
  | 48 => ⟨S16x32x16384, .f32⟩
  | 49 => ⟨S16x32x16384, .f32⟩
  | 50 => ⟨S16x32x4096x4, .f32⟩
  | 51 => ⟨S16x1x4096x4, .i1⟩
  | 52 => ⟨S16x1x4096x4, .f32⟩
  | 53 => ⟨S16x32x4096x4, .f32⟩
  | 54 => ⟨S16x32x4096x4, .f32⟩
  | 55 => ⟨S16x1x4096x4, .f32⟩
  | 56 => ⟨S16x32x4096x4, .f32⟩
  | 57 => ⟨S16x32x4096x4, .f32⟩
  | 58 => ⟨S16x32x4096x4, .f32⟩
  | 59 => ⟨S_, .f32⟩
  | 60 => ⟨S16x4096x4, .f32⟩
  | 61 => ⟨S16x4096x4, .i1⟩
  | 62 => ⟨S_, .f32⟩
  | 63 => ⟨S16x4096x4, .f32⟩
  | 64 => ⟨S16x4096x4, .i1⟩
  | 65 => ⟨S16x4096x4, .i1⟩
  | 66 => ⟨S_, .f32⟩
  | 67 => ⟨S16x4096x4, .f32⟩
  | 68 => ⟨S16x4096x4, .i1⟩
  | 69 => ⟨S16x4096x4, .i1⟩
  | 70 => ⟨S_, .f32⟩
  | 71 => ⟨S16x4096x4, .f32⟩
  | 72 => ⟨S16x4096x4, .i1⟩
  | 73 => ⟨S16x4096x4, .i1⟩
  | 74 => ⟨S_, .i32⟩
  | 75 => ⟨S_, .i32⟩
  | 76 => ⟨S_, .f32⟩
  | 77 => ⟨S16x4096x4, .f32⟩
  | 78 => ⟨S16x4096x4, .f32⟩
  | 79 => ⟨S_, .f32⟩
  | 80 => ⟨S16x4096x4, .f32⟩
  | 81 => ⟨S16x4096x4, .f32⟩
  | 82 => ⟨S16x4096x4, .i32⟩
  | 83 => ⟨S_, .i32⟩
  | 84 => ⟨S_, .i32⟩
  | 85 => ⟨S_, .f32⟩
  | 86 => ⟨S16x4096x4, .f32⟩
  | 87 => ⟨S16x4096x4, .f32⟩
  | 88 => ⟨S_, .f32⟩
  | 89 => ⟨S16x4096x4, .f32⟩
  | 90 => ⟨S16x4096x4, .f32⟩
  | 91 => ⟨S16x4096x4, .i32⟩
  | 92 => ⟨S_, .i32⟩
  | 93 => ⟨S16x4096x4, .i32⟩
  | 94 => ⟨S16x4096x4, .i32⟩
  | 95 => ⟨S16x4096x4, .i32⟩
  | 96 => ⟨S16x16384, .i32⟩
  | 97 => ⟨S16x1x16384, .i32⟩
  | 98 => ⟨S16x32x16384, .i32⟩
  | 99 => ⟨S_, .i32⟩
  | 100 => ⟨S16x32x16384, .i32⟩
  | 101 => ⟨S16x32x16384, .i1⟩
  | 102 => ⟨S_, .i32⟩
  | 103 => ⟨S16x32x16384, .i32⟩
  | 104 => ⟨S16x32x16384, .i32⟩
  | 105 => ⟨S16x32x16384, .i32⟩
  | 106 => ⟨S16x32x16384x1, .i32⟩
  | 107 => ⟨S1, .i32⟩
  | 108 => ⟨S_, .i32⟩
  | 109 => ⟨S16x32x16384x1, .i32⟩
  | 110 => ⟨S16x32x16384x1, .i1⟩
  | 111 => ⟨S1x1x1x1, .i32⟩
  | 112 => ⟨S16x32x16384x1, .i32⟩
  | 113 => ⟨S16x32x16384x1, .i1⟩
  | 114 => ⟨S16x32x16384x1, .i1⟩
  | 115 => ⟨S_, .i1⟩
  | 116 => ⟨S16x32x16384, .i1⟩
  | 117 => ⟨S16x32x16384, .f32⟩
  | 118 => ⟨S_, .f32⟩
  | 119 => ⟨S16x32x16384, .f32⟩
  | 120 => ⟨S16x32x16384, .f32⟩
  | 121 => ⟨S16x32x4096x4, .f32⟩
  | 122 => ⟨S16x1x4096x4, .i1⟩
  | 123 => ⟨S16x1x4096x4, .f32⟩
  | 124 => ⟨S16x32x4096x4, .f32⟩
  | 125 => ⟨S16x32x4096x4, .f32⟩
  | 126 => ⟨S16x1x4096x4, .f32⟩
  | 127 => ⟨S16x32x4096x4, .f32⟩
  | _ => ⟨S4x2x256x32x32, .f32⟩

abbrev hbmTy0_46 (i : Nat) : BufTy := match i % 128 with
  | 0 => ⟨S16x32x4096x4, .f32⟩
  | 1 => ⟨S16x32x4096x4, .f32⟩
  | 2 => ⟨S_, .f32⟩
  | 3 => ⟨S16x4096x4, .f32⟩
  | 4 => ⟨S16x4096x4, .i1⟩
  | 5 => ⟨S_, .f32⟩
  | 6 => ⟨S16x4096x4, .f32⟩
  | 7 => ⟨S16x4096x4, .i1⟩
  | 8 => ⟨S16x4096x4, .i1⟩
  | 9 => ⟨S_, .f32⟩
  | 10 => ⟨S16x4096x4, .f32⟩
  | 11 => ⟨S16x4096x4, .i1⟩
  | 12 => ⟨S16x4096x4, .i1⟩
  | 13 => ⟨S_, .f32⟩
  | 14 => ⟨S16x4096x4, .f32⟩
  | 15 => ⟨S16x4096x4, .i1⟩
  | 16 => ⟨S16x4096x4, .i1⟩
  | 17 => ⟨S_, .i32⟩
  | 18 => ⟨S_, .i32⟩
  | 19 => ⟨S_, .f32⟩
  | 20 => ⟨S16x4096x4, .f32⟩
  | 21 => ⟨S16x4096x4, .f32⟩
  | 22 => ⟨S_, .f32⟩
  | 23 => ⟨S16x4096x4, .f32⟩
  | 24 => ⟨S16x4096x4, .f32⟩
  | 25 => ⟨S16x4096x4, .i32⟩
  | 26 => ⟨S_, .i32⟩
  | 27 => ⟨S_, .i32⟩
  | 28 => ⟨S_, .f32⟩
  | 29 => ⟨S16x4096x4, .f32⟩
  | 30 => ⟨S16x4096x4, .f32⟩
  | 31 => ⟨S_, .f32⟩
  | 32 => ⟨S16x4096x4, .f32⟩
  | 33 => ⟨S16x4096x4, .f32⟩
  | 34 => ⟨S16x4096x4, .i32⟩
  | 35 => ⟨S_, .i32⟩
  | 36 => ⟨S16x4096x4, .i32⟩
  | 37 => ⟨S16x4096x4, .i32⟩
  | 38 => ⟨S16x4096x4, .i32⟩
  | 39 => ⟨S16x16384, .i32⟩
  | 40 => ⟨S16x1x16384, .i32⟩
  | 41 => ⟨S16x32x16384, .i32⟩
  | 42 => ⟨S_, .i32⟩
  | 43 => ⟨S16x32x16384, .i32⟩
  | 44 => ⟨S16x32x16384, .i1⟩
  | 45 => ⟨S_, .i32⟩
  | 46 => ⟨S16x32x16384, .i32⟩
  | 47 => ⟨S16x32x16384, .i32⟩
  | 48 => ⟨S16x32x16384, .i32⟩
  | 49 => ⟨S16x32x16384x1, .i32⟩
  | 50 => ⟨S1, .i32⟩
  | 51 => ⟨S_, .i32⟩
  | 52 => ⟨S16x32x16384x1, .i32⟩
  | 53 => ⟨S16x32x16384x1, .i1⟩
  | 54 => ⟨S1x1x1x1, .i32⟩
  | 55 => ⟨S16x32x16384x1, .i32⟩
  | 56 => ⟨S16x32x16384x1, .i1⟩
  | 57 => ⟨S16x32x16384x1, .i1⟩
  | 58 => ⟨S_, .i1⟩
  | 59 => ⟨S16x32x16384, .i1⟩
  | 60 => ⟨S16x32x16384, .f32⟩
  | 61 => ⟨S_, .f32⟩
  | 62 => ⟨S16x32x16384, .f32⟩
  | 63 => ⟨S16x32x16384, .f32⟩
  | 64 => ⟨S16x32x4096x4, .f32⟩
  | 65 => ⟨S16x1x4096x4, .i1⟩
  | 66 => ⟨S16x1x4096x4, .f32⟩
  | 67 => ⟨S16x32x4096x4, .f32⟩
  | 68 => ⟨S16x32x4096x4, .f32⟩
  | 69 => ⟨S16x1x4096x4, .f32⟩
  | 70 => ⟨S16x32x4096x4, .f32⟩
  | 71 => ⟨S16x32x4096x4, .f32⟩
  | 72 => ⟨S16x32x4096x4, .f32⟩
  | 73 => ⟨S2x1024x8x32, .f32⟩
  | 74 => ⟨S2x8x32x1024, .f32⟩
  | 75 => ⟨S16x32x32x32, .f32⟩
  | 76 => ⟨S2x4096x8x1x4x2, .f32⟩
  | 77 => ⟨S2x4096x8x4x2, .f32⟩
  | 78 => ⟨S2x8x4096x4x2, .f32⟩
  | 79 => ⟨S16x4096x4x2, .f32⟩
  | 80 => ⟨S16x4096x4x1, .f32⟩
  | 81 => ⟨S16x4096x4, .f32⟩
  | 82 => ⟨S_, .f32⟩
  | 83 => ⟨S16x4096x4, .f32⟩
  | 84 => ⟨S16x4096x4, .f32⟩
  | 85 => ⟨S_, .f32⟩
  | 86 => ⟨S16x4096x4, .f32⟩
  | 87 => ⟨S16x4096x4, .f32⟩
  | 88 => ⟨S_, .f32⟩
  | 89 => ⟨S16x4096x4, .f32⟩
  | 90 => ⟨S16x4096x4, .f32⟩
  | 91 => ⟨S_, .f32⟩
  | 92 => ⟨S16x4096x4, .f32⟩
  | 93 => ⟨S16x4096x4, .f32⟩
  | 94 => ⟨S16x4096x4x1, .f32⟩
  | 95 => ⟨S16x4096x4, .f32⟩
  | 96 => ⟨S_, .f32⟩
  | 97 => ⟨S16x4096x4, .f32⟩
  | 98 => ⟨S16x4096x4, .f32⟩
  | 99 => ⟨S_, .f32⟩
  | 100 => ⟨S16x4096x4, .f32⟩
  | 101 => ⟨S16x4096x4, .f32⟩
  | 102 => ⟨S_, .f32⟩
  | 103 => ⟨S16x4096x4, .f32⟩
  | 104 => ⟨S16x4096x4, .f32⟩
  | 105 => ⟨S_, .f32⟩
  | 106 => ⟨S16x4096x4, .f32⟩
  | 107 => ⟨S16x4096x4, .f32⟩
  | 108 => ⟨S16x4096x4, .f32⟩
  | 109 => ⟨S16x4096x4, .f32⟩
  | 110 => ⟨S_, .f32⟩
  | 111 => ⟨S16x4096x4, .f32⟩
  | 112 => ⟨S16x4096x4, .f32⟩
  | 113 => ⟨S_, .f32⟩
  | 114 => ⟨S16x4096x4, .f32⟩
  | 115 => ⟨S16x4096x4, .f32⟩
  | 116 => ⟨S16x4096x4, .f32⟩
  | 117 => ⟨S16x4096x4, .f32⟩
  | 118 => ⟨S16x4096x4, .f32⟩
  | 119 => ⟨S16x4096x4, .f32⟩
  | 120 => ⟨S16x4096x4, .f32⟩
  | 121 => ⟨S16x4096x4, .f32⟩
  | 122 => ⟨S16x4096x4, .f32⟩
  | 123 => ⟨S16x4096x4, .f32⟩
  | 124 => ⟨S16x4096x4, .f32⟩
  | 125 => ⟨S16x4096x4, .f32⟩
  | 126 => ⟨S16x4096x4, .f32⟩
  | 127 => ⟨S16x4096x4, .f32⟩
  | _ => ⟨S4x2x256x32x32, .f32⟩

abbrev hbmTy0_47 (i : Nat) : BufTy := match i % 128 with
  | 0 => ⟨S16x32x1024, .f32⟩
  | 1 => ⟨S_, .f32⟩
  | 2 => ⟨S16x4096x4, .f32⟩
  | 3 => ⟨S16x4096x4, .i1⟩
  | 4 => ⟨S_, .f32⟩
  | 5 => ⟨S16x4096x4, .f32⟩
  | 6 => ⟨S16x4096x4, .i1⟩
  | 7 => ⟨S16x4096x4, .i1⟩
  | 8 => ⟨S_, .f32⟩
  | 9 => ⟨S16x4096x4, .f32⟩
  | 10 => ⟨S16x4096x4, .i1⟩
  | 11 => ⟨S16x4096x4, .i1⟩
  | 12 => ⟨S_, .f32⟩
  | 13 => ⟨S16x4096x4, .f32⟩
  | 14 => ⟨S16x4096x4, .i1⟩
  | 15 => ⟨S16x4096x4, .i1⟩
  | 16 => ⟨S_, .i32⟩
  | 17 => ⟨S_, .i32⟩
  | 18 => ⟨S_, .f32⟩
  | 19 => ⟨S16x4096x4, .f32⟩
  | 20 => ⟨S16x4096x4, .f32⟩
  | 21 => ⟨S_, .f32⟩
  | 22 => ⟨S16x4096x4, .f32⟩
  | 23 => ⟨S16x4096x4, .f32⟩
  | 24 => ⟨S16x4096x4, .i32⟩
  | 25 => ⟨S_, .i32⟩
  | 26 => ⟨S_, .i32⟩
  | 27 => ⟨S_, .f32⟩
  | 28 => ⟨S16x4096x4, .f32⟩
  | 29 => ⟨S16x4096x4, .f32⟩
  | 30 => ⟨S_, .f32⟩
  | 31 => ⟨S16x4096x4, .f32⟩
  | 32 => ⟨S16x4096x4, .f32⟩
  | 33 => ⟨S16x4096x4, .i32⟩
  | 34 => ⟨S_, .i32⟩
  | 35 => ⟨S16x4096x4, .i32⟩
  | 36 => ⟨S16x4096x4, .i32⟩
  | 37 => ⟨S16x4096x4, .i32⟩
  | 38 => ⟨S16x16384, .i32⟩
  | 39 => ⟨S16x1x16384, .i32⟩
  | 40 => ⟨S16x32x16384, .i32⟩
  | 41 => ⟨S_, .i32⟩
  | 42 => ⟨S16x32x16384, .i32⟩
  | 43 => ⟨S16x32x16384, .i1⟩
  | 44 => ⟨S_, .i32⟩
  | 45 => ⟨S16x32x16384, .i32⟩
  | 46 => ⟨S16x32x16384, .i32⟩
  | 47 => ⟨S16x32x16384, .i32⟩
  | 48 => ⟨S16x32x16384x1, .i32⟩
  | 49 => ⟨S1, .i32⟩
  | 50 => ⟨S_, .i32⟩
  | 51 => ⟨S16x32x16384x1, .i32⟩
  | 52 => ⟨S16x32x16384x1, .i1⟩
  | 53 => ⟨S1x1x1x1, .i32⟩
  | 54 => ⟨S16x32x16384x1, .i32⟩
  | 55 => ⟨S16x32x16384x1, .i1⟩
  | 56 => ⟨S16x32x16384x1, .i1⟩
  | 57 => ⟨S_, .i1⟩
  | 58 => ⟨S16x32x16384, .i1⟩
  | 59 => ⟨S16x32x16384, .f32⟩
  | 60 => ⟨S_, .f32⟩
  | 61 => ⟨S16x32x16384, .f32⟩
  | 62 => ⟨S16x32x16384, .f32⟩
  | 63 => ⟨S16x32x4096x4, .f32⟩
  | 64 => ⟨S16x1x4096x4, .i1⟩
  | 65 => ⟨S16x1x4096x4, .f32⟩
  | 66 => ⟨S16x32x4096x4, .f32⟩
  | 67 => ⟨S16x32x4096x4, .f32⟩
  | 68 => ⟨S16x1x4096x4, .f32⟩
  | 69 => ⟨S16x32x4096x4, .f32⟩
  | 70 => ⟨S16x32x4096x4, .f32⟩
  | 71 => ⟨S_, .f32⟩
  | 72 => ⟨S16x4096x4, .f32⟩
  | 73 => ⟨S16x4096x4, .i1⟩
  | 74 => ⟨S_, .f32⟩
  | 75 => ⟨S16x4096x4, .f32⟩
  | 76 => ⟨S16x4096x4, .i1⟩
  | 77 => ⟨S16x4096x4, .i1⟩
  | 78 => ⟨S_, .f32⟩
  | 79 => ⟨S16x4096x4, .f32⟩
  | 80 => ⟨S16x4096x4, .i1⟩
  | 81 => ⟨S16x4096x4, .i1⟩
  | 82 => ⟨S_, .f32⟩
  | 83 => ⟨S16x4096x4, .f32⟩
  | 84 => ⟨S16x4096x4, .i1⟩
  | 85 => ⟨S16x4096x4, .i1⟩
  | 86 => ⟨S_, .i32⟩
  | 87 => ⟨S_, .i32⟩
  | 88 => ⟨S_, .f32⟩
  | 89 => ⟨S16x4096x4, .f32⟩
  | 90 => ⟨S16x4096x4, .f32⟩
  | 91 => ⟨S_, .f32⟩
  | 92 => ⟨S16x4096x4, .f32⟩
  | 93 => ⟨S16x4096x4, .f32⟩
  | 94 => ⟨S16x4096x4, .i32⟩
  | 95 => ⟨S_, .i32⟩
  | 96 => ⟨S_, .i32⟩
  | 97 => ⟨S_, .f32⟩
  | 98 => ⟨S16x4096x4, .f32⟩
  | 99 => ⟨S16x4096x4, .f32⟩
  | 100 => ⟨S_, .f32⟩
  | 101 => ⟨S16x4096x4, .f32⟩
  | 102 => ⟨S16x4096x4, .f32⟩
  | 103 => ⟨S16x4096x4, .i32⟩
  | 104 => ⟨S_, .i32⟩
  | 105 => ⟨S16x4096x4, .i32⟩
  | 106 => ⟨S16x4096x4, .i32⟩
  | 107 => ⟨S16x4096x4, .i32⟩
  | 108 => ⟨S16x16384, .i32⟩
  | 109 => ⟨S16x1x16384, .i32⟩
  | 110 => ⟨S16x32x16384, .i32⟩
  | 111 => ⟨S_, .i32⟩
  | 112 => ⟨S16x32x16384, .i32⟩
  | 113 => ⟨S16x32x16384, .i1⟩
  | 114 => ⟨S_, .i32⟩
  | 115 => ⟨S16x32x16384, .i32⟩
  | 116 => ⟨S16x32x16384, .i32⟩
  | 117 => ⟨S16x32x16384, .i32⟩
  | 118 => ⟨S16x32x16384x1, .i32⟩
  | 119 => ⟨S1, .i32⟩
  | 120 => ⟨S_, .i32⟩
  | 121 => ⟨S16x32x16384x1, .i32⟩
  | 122 => ⟨S16x32x16384x1, .i1⟩
  | 123 => ⟨S1x1x1x1, .i32⟩
  | 124 => ⟨S16x32x16384x1, .i32⟩
  | 125 => ⟨S16x32x16384x1, .i1⟩
  | 126 => ⟨S16x32x16384x1, .i1⟩
  | 127 => ⟨S_, .i1⟩
  | _ => ⟨S4x2x256x32x32, .f32⟩

abbrev hbmTy0_48 (i : Nat) : BufTy := match i % 128 with
  | 0 => ⟨S16x32x16384, .i1⟩
  | 1 => ⟨S16x32x16384, .f32⟩
  | 2 => ⟨S_, .f32⟩
  | 3 => ⟨S16x32x16384, .f32⟩
  | 4 => ⟨S16x32x16384, .f32⟩
  | 5 => ⟨S16x32x4096x4, .f32⟩
  | 6 => ⟨S16x1x4096x4, .i1⟩
  | 7 => ⟨S16x1x4096x4, .f32⟩
  | 8 => ⟨S16x32x4096x4, .f32⟩
  | 9 => ⟨S16x32x4096x4, .f32⟩
  | 10 => ⟨S16x1x4096x4, .f32⟩
  | 11 => ⟨S16x32x4096x4, .f32⟩
  | 12 => ⟨S16x32x4096x4, .f32⟩
  | 13 => ⟨S16x32x4096x4, .f32⟩
  | 14 => ⟨S_, .f32⟩
  | 15 => ⟨S16x4096x4, .f32⟩
  | 16 => ⟨S16x4096x4, .i1⟩
  | 17 => ⟨S_, .f32⟩
  | 18 => ⟨S16x4096x4, .f32⟩
  | 19 => ⟨S16x4096x4, .i1⟩
  | 20 => ⟨S16x4096x4, .i1⟩
  | 21 => ⟨S_, .f32⟩
  | 22 => ⟨S16x4096x4, .f32⟩
  | 23 => ⟨S16x4096x4, .i1⟩
  | 24 => ⟨S16x4096x4, .i1⟩
  | 25 => ⟨S_, .f32⟩
  | 26 => ⟨S16x4096x4, .f32⟩
  | 27 => ⟨S16x4096x4, .i1⟩
  | 28 => ⟨S16x4096x4, .i1⟩
  | 29 => ⟨S_, .i32⟩
  | 30 => ⟨S_, .i32⟩
  | 31 => ⟨S_, .f32⟩
  | 32 => ⟨S16x4096x4, .f32⟩
  | 33 => ⟨S16x4096x4, .f32⟩
  | 34 => ⟨S_, .f32⟩
  | 35 => ⟨S16x4096x4, .f32⟩
  | 36 => ⟨S16x4096x4, .f32⟩
  | 37 => ⟨S16x4096x4, .i32⟩
  | 38 => ⟨S_, .i32⟩
  | 39 => ⟨S_, .i32⟩
  | 40 => ⟨S_, .f32⟩
  | 41 => ⟨S16x4096x4, .f32⟩
  | 42 => ⟨S16x4096x4, .f32⟩
  | 43 => ⟨S_, .f32⟩
  | 44 => ⟨S16x4096x4, .f32⟩
  | 45 => ⟨S16x4096x4, .f32⟩
  | 46 => ⟨S16x4096x4, .i32⟩
  | 47 => ⟨S_, .i32⟩
  | 48 => ⟨S16x4096x4, .i32⟩
  | 49 => ⟨S16x4096x4, .i32⟩
  | 50 => ⟨S16x4096x4, .i32⟩
  | 51 => ⟨S16x16384, .i32⟩
  | 52 => ⟨S16x1x16384, .i32⟩
  | 53 => ⟨S16x32x16384, .i32⟩
  | 54 => ⟨S_, .i32⟩
  | 55 => ⟨S16x32x16384, .i32⟩
  | 56 => ⟨S16x32x16384, .i1⟩
  | 57 => ⟨S_, .i32⟩
  | 58 => ⟨S16x32x16384, .i32⟩
  | 59 => ⟨S16x32x16384, .i32⟩
  | 60 => ⟨S16x32x16384, .i32⟩
  | 61 => ⟨S16x32x16384x1, .i32⟩
  | 62 => ⟨S1, .i32⟩
  | 63 => ⟨S_, .i32⟩
  | 64 => ⟨S16x32x16384x1, .i32⟩
  | 65 => ⟨S16x32x16384x1, .i1⟩
  | 66 => ⟨S1x1x1x1, .i32⟩
  | 67 => ⟨S16x32x16384x1, .i32⟩
  | 68 => ⟨S16x32x16384x1, .i1⟩
  | 69 => ⟨S16x32x16384x1, .i1⟩
  | 70 => ⟨S_, .i1⟩
  | 71 => ⟨S16x32x16384, .i1⟩
  | 72 => ⟨S16x32x16384, .f32⟩
  | 73 => ⟨S_, .f32⟩
  | 74 => ⟨S16x32x16384, .f32⟩
  | 75 => ⟨S16x32x16384, .f32⟩
  | 76 => ⟨S16x32x4096x4, .f32⟩
  | 77 => ⟨S16x1x4096x4, .i1⟩
  | 78 => ⟨S16x1x4096x4, .f32⟩
  | 79 => ⟨S16x32x4096x4, .f32⟩
  | 80 => ⟨S16x32x4096x4, .f32⟩
  | 81 => ⟨S16x1x4096x4, .f32⟩
  | 82 => ⟨S16x32x4096x4, .f32⟩
  | 83 => ⟨S16x32x4096x4, .f32⟩
  | 84 => ⟨S16x32x4096x4, .f32⟩
  | 85 => ⟨S_, .f32⟩
  | 86 => ⟨S16x4096x4, .f32⟩
  | 87 => ⟨S16x4096x4, .i1⟩
  | 88 => ⟨S_, .f32⟩
  | 89 => ⟨S16x4096x4, .f32⟩
  | 90 => ⟨S16x4096x4, .i1⟩
  | 91 => ⟨S16x4096x4, .i1⟩
  | 92 => ⟨S_, .f32⟩
  | 93 => ⟨S16x4096x4, .f32⟩
  | 94 => ⟨S16x4096x4, .i1⟩
  | 95 => ⟨S16x4096x4, .i1⟩
  | 96 => ⟨S_, .f32⟩
  | 97 => ⟨S16x4096x4, .f32⟩
  | 98 => ⟨S16x4096x4, .i1⟩
  | 99 => ⟨S16x4096x4, .i1⟩
  | 100 => ⟨S_, .i32⟩
  | 101 => ⟨S_, .i32⟩
  | 102 => ⟨S_, .f32⟩
  | 103 => ⟨S16x4096x4, .f32⟩
  | 104 => ⟨S16x4096x4, .f32⟩
  | 105 => ⟨S_, .f32⟩
  | 106 => ⟨S16x4096x4, .f32⟩
  | 107 => ⟨S16x4096x4, .f32⟩
  | 108 => ⟨S16x4096x4, .i32⟩
  | 109 => ⟨S_, .i32⟩
  | 110 => ⟨S_, .i32⟩
  | 111 => ⟨S_, .f32⟩
  | 112 => ⟨S16x4096x4, .f32⟩
  | 113 => ⟨S16x4096x4, .f32⟩
  | 114 => ⟨S_, .f32⟩
  | 115 => ⟨S16x4096x4, .f32⟩
  | 116 => ⟨S16x4096x4, .f32⟩
  | 117 => ⟨S16x4096x4, .i32⟩
  | 118 => ⟨S_, .i32⟩
  | 119 => ⟨S16x4096x4, .i32⟩
  | 120 => ⟨S16x4096x4, .i32⟩
  | 121 => ⟨S16x4096x4, .i32⟩
  | 122 => ⟨S16x16384, .i32⟩
  | 123 => ⟨S16x1x16384, .i32⟩
  | 124 => ⟨S16x32x16384, .i32⟩
  | 125 => ⟨S_, .i32⟩
  | 126 => ⟨S16x32x16384, .i32⟩
  | 127 => ⟨S16x32x16384, .i1⟩
  | _ => ⟨S4x2x256x32x32, .f32⟩

abbrev hbmTy0_49 (i : Nat) : BufTy := match i % 128 with
  | 0 => ⟨S_, .i32⟩
  | 1 => ⟨S16x32x16384, .i32⟩
  | 2 => ⟨S16x32x16384, .i32⟩
  | 3 => ⟨S16x32x16384, .i32⟩
  | 4 => ⟨S16x32x16384x1, .i32⟩
  | 5 => ⟨S1, .i32⟩
  | 6 => ⟨S_, .i32⟩
  | 7 => ⟨S16x32x16384x1, .i32⟩
  | 8 => ⟨S16x32x16384x1, .i1⟩
  | 9 => ⟨S1x1x1x1, .i32⟩
  | 10 => ⟨S16x32x16384x1, .i32⟩
  | 11 => ⟨S16x32x16384x1, .i1⟩
  | 12 => ⟨S16x32x16384x1, .i1⟩
  | 13 => ⟨S_, .i1⟩
  | 14 => ⟨S16x32x16384, .i1⟩
  | 15 => ⟨S16x32x16384, .f32⟩
  | 16 => ⟨S_, .f32⟩
  | 17 => ⟨S16x32x16384, .f32⟩
  | 18 => ⟨S16x32x16384, .f32⟩
  | 19 => ⟨S16x32x4096x4, .f32⟩
  | 20 => ⟨S16x1x4096x4, .i1⟩
  | 21 => ⟨S16x1x4096x4, .f32⟩
  | 22 => ⟨S16x32x4096x4, .f32⟩
  | 23 => ⟨S16x32x4096x4, .f32⟩
  | 24 => ⟨S16x1x4096x4, .f32⟩
  | 25 => ⟨S16x32x4096x4, .f32⟩
  | 26 => ⟨S16x32x4096x4, .f32⟩
  | 27 => ⟨S16x32x4096x4, .f32⟩
  | 28 => ⟨S16x32x4096x1x4, .f32⟩
  | 29 => ⟨S16x32x4096x1x4, .f32⟩
  | 30 => ⟨S16x32x4096x1x4, .f32⟩
  | 31 => ⟨S16x32x4096x1x4, .f32⟩
  | 32 => ⟨S16x32x4096x4x4, .f32⟩
  | 33 => ⟨S16x32x4096x16, .f32⟩
  | 34 => ⟨S2x8x4096x4x4, .f32⟩
  | 35 => ⟨S16x1x4096x16, .f32⟩
  | 36 => ⟨S16x32x4096x16, .f32⟩
  | 37 => ⟨S16x32x4096x16, .f32⟩
  | 38 => ⟨S_, .f32⟩
  | 39 => ⟨S16x32x4096, .f32⟩
  | 40 => ⟨S2x256x4096, .f32⟩
  | 41 => ⟨S2x4096x256, .f32⟩
  | 42 => ⟨S1x256x256, .f32⟩
  | 43 => ⟨S256x256, .f32⟩
  | 44 => ⟨S2x4096x256, .f32⟩
  | 45 => ⟨S1x256, .f32⟩
  | 46 => ⟨S256, .f32⟩
  | 47 => ⟨S1x1x256, .f32⟩
  | 48 => ⟨S2x4096x256, .f32⟩
  | 49 => ⟨S2x4096x256, .f32⟩
  | 50 => ⟨S2x4096x256, .f32⟩
  | 51 => ⟨S1x256, .f32⟩
  | 52 => ⟨S256, .f32⟩
  | 53 => ⟨S1x256, .f32⟩
  | 54 => ⟨S256, .f32⟩
  | 55 => ⟨S_, .f32⟩
  | 56 => ⟨S2x4096, .f32⟩
  | 57 => ⟨S2x4096x1, .f32⟩
  | 58 => ⟨S_, .f32⟩
  | 59 => ⟨S2x4096x1, .f32⟩
  | 60 => ⟨S2x4096x1, .f32⟩
  | 61 => ⟨S2x4096x256, .f32⟩
  | 62 => ⟨S2x4096x256, .f32⟩
  | 63 => ⟨S2x4096x256, .f32⟩
  | 64 => ⟨S_, .f32⟩
  | 65 => ⟨S2x4096, .f32⟩
  | 66 => ⟨S2x4096x1, .f32⟩
  | 67 => ⟨S_, .f32⟩
  | 68 => ⟨S2x4096x1, .f32⟩
  | 69 => ⟨S2x4096x1, .f32⟩
  | 70 => ⟨S2x4096x256, .f32⟩
  | 71 => ⟨S2x4096x256, .f32⟩
  | 72 => ⟨S_, .f32⟩
  | 73 => ⟨S2x4096x1, .f32⟩
  | 74 => ⟨S2x4096x1, .f32⟩
  | 75 => ⟨S2x4096x1, .f32⟩
  | 76 => ⟨S2x4096x256, .f32⟩
  | 77 => ⟨S2x4096x256, .f32⟩
  | 78 => ⟨S1x1x256, .f32⟩
  | 79 => ⟨S2x4096x256, .f32⟩
  | 80 => ⟨S2x4096x256, .f32⟩
  | 81 => ⟨S1x1x256, .f32⟩
  | 82 => ⟨S2x4096x256, .f32⟩
  | 83 => ⟨S2x4096x256, .f32⟩
  | 84 => ⟨S1x256x1024, .f32⟩
  | 85 => ⟨S256x1024, .f32⟩
  | 86 => ⟨S2x4096x1024, .f32⟩
  | 87 => ⟨S1x1024, .f32⟩
  | 88 => ⟨S1024, .f32⟩
  | 89 => ⟨S1x1x1024, .f32⟩
  | 90 => ⟨S2x4096x1024, .f32⟩
  | 91 => ⟨S2x4096x1024, .f32⟩
  | 92 => ⟨S_, .f32⟩
  | 93 => ⟨S2x4096x1024, .f32⟩
  | 94 => ⟨S2x4096x1024, .f32⟩
  | 95 => ⟨S1x1024x256, .f32⟩
  | 96 => ⟨S1024x256, .f32⟩
  | 97 => ⟨S2x4096x256, .f32⟩
  | 98 => ⟨S1x256, .f32⟩
  | 99 => ⟨S256, .f32⟩
  | 100 => ⟨S1x1x256, .f32⟩
  | 101 => ⟨S2x4096x256, .f32⟩
  | 102 => ⟨S2x4096x256, .f32⟩
  | 103 => ⟨S2x4096x256, .f32⟩
  | 104 => ⟨S1x256, .f32⟩
  | 105 => ⟨S256, .f32⟩
  | 106 => ⟨S1x256, .f32⟩
  | 107 => ⟨S256, .f32⟩
  | 108 => ⟨S_, .f32⟩
  | 109 => ⟨S2x4096, .f32⟩
  | 110 => ⟨S2x4096x1, .f32⟩
  | 111 => ⟨S_, .f32⟩
  | 112 => ⟨S2x4096x1, .f32⟩
  | 113 => ⟨S2x4096x1, .f32⟩
  | 114 => ⟨S2x4096x256, .f32⟩
  | 115 => ⟨S2x4096x256, .f32⟩
  | 116 => ⟨S2x4096x256, .f32⟩
  | 117 => ⟨S_, .f32⟩
  | 118 => ⟨S2x4096, .f32⟩
  | 119 => ⟨S2x4096x1, .f32⟩
  | 120 => ⟨S_, .f32⟩
  | 121 => ⟨S2x4096x1, .f32⟩
  | 122 => ⟨S2x4096x1, .f32⟩
  | 123 => ⟨S2x4096x256, .f32⟩
  | 124 => ⟨S2x4096x256, .f32⟩
  | 125 => ⟨S_, .f32⟩
  | 126 => ⟨S2x4096x1, .f32⟩
  | 127 => ⟨S2x4096x1, .f32⟩
  | _ => ⟨S4x2x256x32x32, .f32⟩

abbrev hbmTy0_50 (i : Nat) : BufTy := match i % 128 with
  | 0 => ⟨S2x4096x1, .f32⟩
  | 1 => ⟨S2x4096x256, .f32⟩
  | 2 => ⟨S2x4096x256, .f32⟩
  | 3 => ⟨S1x1x256, .f32⟩
  | 4 => ⟨S2x4096x256, .f32⟩
  | 5 => ⟨S2x4096x256, .f32⟩
  | 6 => ⟨S1x1x256, .f32⟩
  | 7 => ⟨S2x4096x256, .f32⟩
  | 8 => ⟨S2x4096x256, .f32⟩
  | 9 => ⟨S2x4096x256, .f32⟩
  | 10 => ⟨S1x256x256, .f32⟩
  | 11 => ⟨S256x256, .f32⟩
  | 12 => ⟨S2x4096x256, .f32⟩
  | 13 => ⟨S1x256, .f32⟩
  | 14 => ⟨S256, .f32⟩
  | 15 => ⟨S1x1x256, .f32⟩
  | 16 => ⟨S2x4096x256, .f32⟩
  | 17 => ⟨S2x4096x256, .f32⟩
  | 18 => ⟨S2x4096x8x32, .f32⟩
  | 19 => ⟨S1x256x256, .f32⟩
  | 20 => ⟨S256x256, .f32⟩
  | 21 => ⟨S2x4096x256, .f32⟩
  | 22 => ⟨S1x256, .f32⟩
  | 23 => ⟨S256, .f32⟩
  | 24 => ⟨S1x1x256, .f32⟩
  | 25 => ⟨S2x4096x256, .f32⟩
  | 26 => ⟨S2x4096x256, .f32⟩
  | 27 => ⟨S2x4096x8x4x4x2, .f32⟩
  | 28 => ⟨S1x256x128, .f32⟩
  | 29 => ⟨S256x128, .f32⟩
  | 30 => ⟨S2x4096x128, .f32⟩
  | 31 => ⟨S1x128, .f32⟩
  | 32 => ⟨S128, .f32⟩
  | 33 => ⟨S1x1x128, .f32⟩
  | 34 => ⟨S2x4096x128, .f32⟩
  | 35 => ⟨S2x4096x128, .f32⟩
  | 36 => ⟨S2x4096x8x16, .f32⟩
  | 37 => ⟨S_, .f32⟩
  | 38 => ⟨S2x4096x8, .f32⟩
  | 39 => ⟨S_, .f32⟩
  | 40 => ⟨S2x4096x8, .f32⟩
  | 41 => ⟨S2x4096x8, .f32⟩
  | 42 => ⟨S2x4096x8x1, .f32⟩
  | 43 => ⟨S2x4096x8x16, .f32⟩
  | 44 => ⟨S2x4096x8x16, .f32⟩
  | 45 => ⟨S2x4096x8x16, .f32⟩
  | 46 => ⟨S_, .f32⟩
  | 47 => ⟨S2x4096x8, .f32⟩
  | 48 => ⟨S2x4096x8x1, .f32⟩
  | 49 => ⟨S2x4096x8x16, .f32⟩
  | 50 => ⟨S2x4096x8x16, .f32⟩
  | 51 => ⟨S2x4096x8x4x4, .f32⟩
  | 52 => ⟨S2x4096x1x4x1x2, .f32⟩
  | 53 => ⟨S1x1x1x4x1x2, .f32⟩
  | 54 => ⟨S2x4096x8x4x4x2, .f32⟩
  | 55 => ⟨S2x4096x8x4x4x2, .f32⟩
  | 56 => ⟨S2x4096x8x4x4x2, .f32⟩
  | 57 => ⟨S2x4096x8x4x4x2, .f32⟩
  | 58 => ⟨S_, .f32⟩
  | 59 => ⟨S2x4096x8x4x4x2, .f32⟩
  | 60 => ⟨S2x4096x8x4x4x2, .f32⟩
  | 61 => ⟨S_, .f32⟩
  | 62 => ⟨S2x4096x8x4x4x2, .f32⟩
  | 63 => ⟨S2x4096x8x4x4x2, .f32⟩
  | 64 => ⟨S2x1024x8x32, .f32⟩
  | 65 => ⟨S2x8x32x1024, .f32⟩
  | 66 => ⟨S16x32x32x32, .f32⟩
  | 67 => ⟨S2x4096x8x1x4x2, .f32⟩
  | 68 => ⟨S2x4096x8x4x2, .f32⟩
  | 69 => ⟨S2x8x4096x4x2, .f32⟩
  | 70 => ⟨S16x4096x4x2, .f32⟩
  | 71 => ⟨S16x4096x4x1, .f32⟩
  | 72 => ⟨S16x4096x4, .f32⟩
  | 73 => ⟨S_, .f32⟩
  | 74 => ⟨S16x4096x4, .f32⟩
  | 75 => ⟨S16x4096x4, .f32⟩
  | 76 => ⟨S_, .f32⟩
  | 77 => ⟨S16x4096x4, .f32⟩
  | 78 => ⟨S16x4096x4, .f32⟩
  | 79 => ⟨S_, .f32⟩
  | 80 => ⟨S16x4096x4, .f32⟩
  | 81 => ⟨S16x4096x4, .f32⟩
  | 82 => ⟨S_, .f32⟩
  | 83 => ⟨S16x4096x4, .f32⟩
  | 84 => ⟨S16x4096x4, .f32⟩
  | 85 => ⟨S16x4096x4x1, .f32⟩
  | 86 => ⟨S16x4096x4, .f32⟩
  | 87 => ⟨S_, .f32⟩
  | 88 => ⟨S16x4096x4, .f32⟩
  | 89 => ⟨S16x4096x4, .f32⟩
  | 90 => ⟨S_, .f32⟩
  | 91 => ⟨S16x4096x4, .f32⟩
  | 92 => ⟨S16x4096x4, .f32⟩
  | 93 => ⟨S_, .f32⟩
  | 94 => ⟨S16x4096x4, .f32⟩
  | 95 => ⟨S16x4096x4, .f32⟩
  | 96 => ⟨S_, .f32⟩
  | 97 => ⟨S16x4096x4, .f32⟩
  | 98 => ⟨S16x4096x4, .f32⟩
  | 99 => ⟨S16x4096x4, .f32⟩
  | 100 => ⟨S16x4096x4, .f32⟩
  | 101 => ⟨S_, .f32⟩
  | 102 => ⟨S16x4096x4, .f32⟩
  | 103 => ⟨S16x4096x4, .f32⟩
  | 104 => ⟨S_, .f32⟩
  | 105 => ⟨S16x4096x4, .f32⟩
  | 106 => ⟨S16x4096x4, .f32⟩
  | 107 => ⟨S16x4096x4, .f32⟩
  | 108 => ⟨S16x4096x4, .f32⟩
  | 109 => ⟨S16x4096x4, .f32⟩
  | 110 => ⟨S16x4096x4, .f32⟩
  | 111 => ⟨S16x4096x4, .f32⟩
  | 112 => ⟨S16x4096x4, .f32⟩
  | 113 => ⟨S16x4096x4, .f32⟩
  | 114 => ⟨S16x4096x4, .f32⟩
  | 115 => ⟨S16x4096x4, .f32⟩
  | 116 => ⟨S16x4096x4, .f32⟩
  | 117 => ⟨S16x4096x4, .f32⟩
  | 118 => ⟨S16x4096x4, .f32⟩
  | 119 => ⟨S16x32x1024, .f32⟩
  | 120 => ⟨S_, .f32⟩
  | 121 => ⟨S16x4096x4, .f32⟩
  | 122 => ⟨S16x4096x4, .i1⟩
  | 123 => ⟨S_, .f32⟩
  | 124 => ⟨S16x4096x4, .f32⟩
  | 125 => ⟨S16x4096x4, .i1⟩
  | 126 => ⟨S16x4096x4, .i1⟩
  | 127 => ⟨S_, .f32⟩
  | _ => ⟨S4x2x256x32x32, .f32⟩

abbrev hbmTy0_51 (i : Nat) : BufTy := match i % 128 with
  | 0 => ⟨S16x4096x4, .f32⟩
  | 1 => ⟨S16x4096x4, .i1⟩
  | 2 => ⟨S16x4096x4, .i1⟩
  | 3 => ⟨S_, .f32⟩
  | 4 => ⟨S16x4096x4, .f32⟩
  | 5 => ⟨S16x4096x4, .i1⟩
  | 6 => ⟨S16x4096x4, .i1⟩
  | 7 => ⟨S_, .i32⟩
  | 8 => ⟨S_, .i32⟩
  | 9 => ⟨S_, .f32⟩
  | 10 => ⟨S16x4096x4, .f32⟩
  | 11 => ⟨S16x4096x4, .f32⟩
  | 12 => ⟨S_, .f32⟩
  | 13 => ⟨S16x4096x4, .f32⟩
  | 14 => ⟨S16x4096x4, .f32⟩
  | 15 => ⟨S16x4096x4, .i32⟩
  | 16 => ⟨S_, .i32⟩
  | 17 => ⟨S_, .i32⟩
  | 18 => ⟨S_, .f32⟩
  | 19 => ⟨S16x4096x4, .f32⟩
  | 20 => ⟨S16x4096x4, .f32⟩
  | 21 => ⟨S_, .f32⟩
  | 22 => ⟨S16x4096x4, .f32⟩
  | 23 => ⟨S16x4096x4, .f32⟩
  | 24 => ⟨S16x4096x4, .i32⟩
  | 25 => ⟨S_, .i32⟩
  | 26 => ⟨S16x4096x4, .i32⟩
  | 27 => ⟨S16x4096x4, .i32⟩
  | 28 => ⟨S16x4096x4, .i32⟩
  | 29 => ⟨S16x16384, .i32⟩
  | 30 => ⟨S16x1x16384, .i32⟩
  | 31 => ⟨S16x32x16384, .i32⟩
  | 32 => ⟨S_, .i32⟩
  | 33 => ⟨S16x32x16384, .i32⟩
  | 34 => ⟨S16x32x16384, .i1⟩
  | 35 => ⟨S_, .i32⟩
  | 36 => ⟨S16x32x16384, .i32⟩
  | 37 => ⟨S16x32x16384, .i32⟩
  | 38 => ⟨S16x32x16384, .i32⟩
  | 39 => ⟨S16x32x16384x1, .i32⟩
  | 40 => ⟨S1, .i32⟩
  | 41 => ⟨S_, .i32⟩
  | 42 => ⟨S16x32x16384x1, .i32⟩
  | 43 => ⟨S16x32x16384x1, .i1⟩
  | 44 => ⟨S1x1x1x1, .i32⟩
  | 45 => ⟨S16x32x16384x1, .i32⟩
  | 46 => ⟨S16x32x16384x1, .i1⟩
  | 47 => ⟨S16x32x16384x1, .i1⟩
  | 48 => ⟨S_, .i1⟩
  | 49 => ⟨S16x32x16384, .i1⟩
  | 50 => ⟨S16x32x16384, .f32⟩
  | 51 => ⟨S_, .f32⟩
  | 52 => ⟨S16x32x16384, .f32⟩
  | 53 => ⟨S16x32x16384, .f32⟩
  | 54 => ⟨S16x32x4096x4, .f32⟩
  | 55 => ⟨S16x1x4096x4, .i1⟩
  | 56 => ⟨S16x1x4096x4, .f32⟩
  | 57 => ⟨S16x32x4096x4, .f32⟩
  | 58 => ⟨S16x32x4096x4, .f32⟩
  | 59 => ⟨S16x1x4096x4, .f32⟩
  | 60 => ⟨S16x32x4096x4, .f32⟩
  | 61 => ⟨S16x32x4096x4, .f32⟩
  | 62 => ⟨S_, .f32⟩
  | 63 => ⟨S16x4096x4, .f32⟩
  | 64 => ⟨S16x4096x4, .i1⟩
  | 65 => ⟨S_, .f32⟩
  | 66 => ⟨S16x4096x4, .f32⟩
  | 67 => ⟨S16x4096x4, .i1⟩
  | 68 => ⟨S16x4096x4, .i1⟩
  | 69 => ⟨S_, .f32⟩
  | 70 => ⟨S16x4096x4, .f32⟩
  | 71 => ⟨S16x4096x4, .i1⟩
  | 72 => ⟨S16x4096x4, .i1⟩
  | 73 => ⟨S_, .f32⟩
  | 74 => ⟨S16x4096x4, .f32⟩
  | 75 => ⟨S16x4096x4, .i1⟩
  | 76 => ⟨S16x4096x4, .i1⟩
  | 77 => ⟨S_, .i32⟩
  | 78 => ⟨S_, .i32⟩
  | 79 => ⟨S_, .f32⟩
  | 80 => ⟨S16x4096x4, .f32⟩
  | 81 => ⟨S16x4096x4, .f32⟩
  | 82 => ⟨S_, .f32⟩
  | 83 => ⟨S16x4096x4, .f32⟩
  | 84 => ⟨S16x4096x4, .f32⟩
  | 85 => ⟨S16x4096x4, .i32⟩
  | 86 => ⟨S_, .i32⟩
  | 87 => ⟨S_, .i32⟩
  | 88 => ⟨S_, .f32⟩
  | 89 => ⟨S16x4096x4, .f32⟩
  | 90 => ⟨S16x4096x4, .f32⟩
  | 91 => ⟨S_, .f32⟩
  | 92 => ⟨S16x4096x4, .f32⟩
  | 93 => ⟨S16x4096x4, .f32⟩
  | 94 => ⟨S16x4096x4, .i32⟩
  | 95 => ⟨S_, .i32⟩
  | 96 => ⟨S16x4096x4, .i32⟩
  | 97 => ⟨S16x4096x4, .i32⟩
  | 98 => ⟨S16x4096x4, .i32⟩
  | 99 => ⟨S16x16384, .i32⟩
  | 100 => ⟨S16x1x16384, .i32⟩
  | 101 => ⟨S16x32x16384, .i32⟩
  | 102 => ⟨S_, .i32⟩
  | 103 => ⟨S16x32x16384, .i32⟩
  | 104 => ⟨S16x32x16384, .i1⟩
  | 105 => ⟨S_, .i32⟩
  | 106 => ⟨S16x32x16384, .i32⟩
  | 107 => ⟨S16x32x16384, .i32⟩
  | 108 => ⟨S16x32x16384, .i32⟩
  | 109 => ⟨S16x32x16384x1, .i32⟩
  | 110 => ⟨S1, .i32⟩
  | 111 => ⟨S_, .i32⟩
  | 112 => ⟨S16x32x16384x1, .i32⟩
  | 113 => ⟨S16x32x16384x1, .i1⟩
  | 114 => ⟨S1x1x1x1, .i32⟩
  | 115 => ⟨S16x32x16384x1, .i32⟩
  | 116 => ⟨S16x32x16384x1, .i1⟩
  | 117 => ⟨S16x32x16384x1, .i1⟩
  | 118 => ⟨S_, .i1⟩
  | 119 => ⟨S16x32x16384, .i1⟩
  | 120 => ⟨S16x32x16384, .f32⟩
  | 121 => ⟨S_, .f32⟩
  | 122 => ⟨S16x32x16384, .f32⟩
  | 123 => ⟨S16x32x16384, .f32⟩
  | 124 => ⟨S16x32x4096x4, .f32⟩
  | 125 => ⟨S16x1x4096x4, .i1⟩
  | 126 => ⟨S16x1x4096x4, .f32⟩
  | 127 => ⟨S16x32x4096x4, .f32⟩
  | _ => ⟨S4x2x256x32x32, .f32⟩

abbrev hbmTy0_52 (i : Nat) : BufTy := match i % 128 with
  | 0 => ⟨S16x32x4096x4, .f32⟩
  | 1 => ⟨S16x1x4096x4, .f32⟩
  | 2 => ⟨S16x32x4096x4, .f32⟩
  | 3 => ⟨S16x32x4096x4, .f32⟩
  | 4 => ⟨S16x32x4096x4, .f32⟩
  | 5 => ⟨S_, .f32⟩
  | 6 => ⟨S16x4096x4, .f32⟩
  | 7 => ⟨S16x4096x4, .i1⟩
  | 8 => ⟨S_, .f32⟩
  | 9 => ⟨S16x4096x4, .f32⟩
  | 10 => ⟨S16x4096x4, .i1⟩
  | 11 => ⟨S16x4096x4, .i1⟩
  | 12 => ⟨S_, .f32⟩
  | 13 => ⟨S16x4096x4, .f32⟩
  | 14 => ⟨S16x4096x4, .i1⟩
  | 15 => ⟨S16x4096x4, .i1⟩
  | 16 => ⟨S_, .f32⟩
  | 17 => ⟨S16x4096x4, .f32⟩
  | 18 => ⟨S16x4096x4, .i1⟩
  | 19 => ⟨S16x4096x4, .i1⟩
  | 20 => ⟨S_, .i32⟩
  | 21 => ⟨S_, .i32⟩
  | 22 => ⟨S_, .f32⟩
  | 23 => ⟨S16x4096x4, .f32⟩
  | 24 => ⟨S16x4096x4, .f32⟩
  | 25 => ⟨S_, .f32⟩
  | 26 => ⟨S16x4096x4, .f32⟩
  | 27 => ⟨S16x4096x4, .f32⟩
  | 28 => ⟨S16x4096x4, .i32⟩
  | 29 => ⟨S_, .i32⟩
  | 30 => ⟨S_, .i32⟩
  | 31 => ⟨S_, .f32⟩
  | 32 => ⟨S16x4096x4, .f32⟩
  | 33 => ⟨S16x4096x4, .f32⟩
  | 34 => ⟨S_, .f32⟩
  | 35 => ⟨S16x4096x4, .f32⟩
  | 36 => ⟨S16x4096x4, .f32⟩
  | 37 => ⟨S16x4096x4, .i32⟩
  | 38 => ⟨S_, .i32⟩
  | 39 => ⟨S16x4096x4, .i32⟩
  | 40 => ⟨S16x4096x4, .i32⟩
  | 41 => ⟨S16x4096x4, .i32⟩
  | 42 => ⟨S16x16384, .i32⟩
  | 43 => ⟨S16x1x16384, .i32⟩
  | 44 => ⟨S16x32x16384, .i32⟩
  | 45 => ⟨S_, .i32⟩
  | 46 => ⟨S16x32x16384, .i32⟩
  | 47 => ⟨S16x32x16384, .i1⟩
  | 48 => ⟨S_, .i32⟩
  | 49 => ⟨S16x32x16384, .i32⟩
  | 50 => ⟨S16x32x16384, .i32⟩
  | 51 => ⟨S16x32x16384, .i32⟩
  | 52 => ⟨S16x32x16384x1, .i32⟩
  | 53 => ⟨S1, .i32⟩
  | 54 => ⟨S_, .i32⟩
  | 55 => ⟨S16x32x16384x1, .i32⟩
  | 56 => ⟨S16x32x16384x1, .i1⟩
  | 57 => ⟨S1x1x1x1, .i32⟩
  | 58 => ⟨S16x32x16384x1, .i32⟩
  | 59 => ⟨S16x32x16384x1, .i1⟩
  | 60 => ⟨S16x32x16384x1, .i1⟩
  | 61 => ⟨S_, .i1⟩
  | 62 => ⟨S16x32x16384, .i1⟩
  | 63 => ⟨S16x32x16384, .f32⟩
  | 64 => ⟨S_, .f32⟩
  | 65 => ⟨S16x32x16384, .f32⟩
  | 66 => ⟨S16x32x16384, .f32⟩
  | 67 => ⟨S16x32x4096x4, .f32⟩
  | 68 => ⟨S16x1x4096x4, .i1⟩
  | 69 => ⟨S16x1x4096x4, .f32⟩
  | 70 => ⟨S16x32x4096x4, .f32⟩
  | 71 => ⟨S16x32x4096x4, .f32⟩
  | 72 => ⟨S16x1x4096x4, .f32⟩
  | 73 => ⟨S16x32x4096x4, .f32⟩
  | 74 => ⟨S16x32x4096x4, .f32⟩
  | 75 => ⟨S16x32x4096x4, .f32⟩
  | 76 => ⟨S_, .f32⟩
  | 77 => ⟨S16x4096x4, .f32⟩
  | 78 => ⟨S16x4096x4, .i1⟩
  | 79 => ⟨S_, .f32⟩
  | 80 => ⟨S16x4096x4, .f32⟩
  | 81 => ⟨S16x4096x4, .i1⟩
  | 82 => ⟨S16x4096x4, .i1⟩
  | 83 => ⟨S_, .f32⟩
  | 84 => ⟨S16x4096x4, .f32⟩
  | 85 => ⟨S16x4096x4, .i1⟩
  | 86 => ⟨S16x4096x4, .i1⟩
  | 87 => ⟨S_, .f32⟩
  | 88 => ⟨S16x4096x4, .f32⟩
  | 89 => ⟨S16x4096x4, .i1⟩
  | 90 => ⟨S16x4096x4, .i1⟩
  | 91 => ⟨S_, .i32⟩
  | 92 => ⟨S_, .i32⟩
  | 93 => ⟨S_, .f32⟩
  | 94 => ⟨S16x4096x4, .f32⟩
  | 95 => ⟨S16x4096x4, .f32⟩
  | 96 => ⟨S_, .f32⟩
  | 97 => ⟨S16x4096x4, .f32⟩
  | 98 => ⟨S16x4096x4, .f32⟩
  | 99 => ⟨S16x4096x4, .i32⟩
  | 100 => ⟨S_, .i32⟩
  | 101 => ⟨S_, .i32⟩
  | 102 => ⟨S_, .f32⟩
  | 103 => ⟨S16x4096x4, .f32⟩
  | 104 => ⟨S16x4096x4, .f32⟩
  | 105 => ⟨S_, .f32⟩
  | 106 => ⟨S16x4096x4, .f32⟩
  | 107 => ⟨S16x4096x4, .f32⟩
  | 108 => ⟨S16x4096x4, .i32⟩
  | 109 => ⟨S_, .i32⟩
  | 110 => ⟨S16x4096x4, .i32⟩
  | 111 => ⟨S16x4096x4, .i32⟩
  | 112 => ⟨S16x4096x4, .i32⟩
  | 113 => ⟨S16x16384, .i32⟩
  | 114 => ⟨S16x1x16384, .i32⟩
  | 115 => ⟨S16x32x16384, .i32⟩
  | 116 => ⟨S_, .i32⟩
  | 117 => ⟨S16x32x16384, .i32⟩
  | 118 => ⟨S16x32x16384, .i1⟩
  | 119 => ⟨S_, .i32⟩
  | 120 => ⟨S16x32x16384, .i32⟩
  | 121 => ⟨S16x32x16384, .i32⟩
  | 122 => ⟨S16x32x16384, .i32⟩
  | 123 => ⟨S16x32x16384x1, .i32⟩
  | 124 => ⟨S1, .i32⟩
  | 125 => ⟨S_, .i32⟩
  | 126 => ⟨S16x32x16384x1, .i32⟩
  | 127 => ⟨S16x32x16384x1, .i1⟩
  | _ => ⟨S4x2x256x32x32, .f32⟩

abbrev hbmTy0_53 (i : Nat) : BufTy := match i % 128 with
  | 0 => ⟨S1x1x1x1, .i32⟩
  | 1 => ⟨S16x32x16384x1, .i32⟩
  | 2 => ⟨S16x32x16384x1, .i1⟩
  | 3 => ⟨S16x32x16384x1, .i1⟩
  | 4 => ⟨S_, .i1⟩
  | 5 => ⟨S16x32x16384, .i1⟩
  | 6 => ⟨S16x32x16384, .f32⟩
  | 7 => ⟨S_, .f32⟩
  | 8 => ⟨S16x32x16384, .f32⟩
  | 9 => ⟨S16x32x16384, .f32⟩
  | 10 => ⟨S16x32x4096x4, .f32⟩
  | 11 => ⟨S16x1x4096x4, .i1⟩
  | 12 => ⟨S16x1x4096x4, .f32⟩
  | 13 => ⟨S16x32x4096x4, .f32⟩
  | 14 => ⟨S16x32x4096x4, .f32⟩
  | 15 => ⟨S16x1x4096x4, .f32⟩
  | 16 => ⟨S16x32x4096x4, .f32⟩
  | 17 => ⟨S16x32x4096x4, .f32⟩
  | 18 => ⟨S16x32x4096x4, .f32⟩
  | 19 => ⟨S2x1024x8x32, .f32⟩
  | 20 => ⟨S2x8x32x1024, .f32⟩
  | 21 => ⟨S16x32x32x32, .f32⟩
  | 22 => ⟨S2x4096x8x1x4x2, .f32⟩
  | 23 => ⟨S2x4096x8x4x2, .f32⟩
  | 24 => ⟨S2x8x4096x4x2, .f32⟩
  | 25 => ⟨S16x4096x4x2, .f32⟩
  | 26 => ⟨S16x4096x4x1, .f32⟩
  | 27 => ⟨S16x4096x4, .f32⟩
  | 28 => ⟨S_, .f32⟩
  | 29 => ⟨S16x4096x4, .f32⟩
  | 30 => ⟨S16x4096x4, .f32⟩
  | 31 => ⟨S_, .f32⟩
  | 32 => ⟨S16x4096x4, .f32⟩
  | 33 => ⟨S16x4096x4, .f32⟩
  | 34 => ⟨S_, .f32⟩
  | 35 => ⟨S16x4096x4, .f32⟩
  | 36 => ⟨S16x4096x4, .f32⟩
  | 37 => ⟨S_, .f32⟩
  | 38 => ⟨S16x4096x4, .f32⟩
  | 39 => ⟨S16x4096x4, .f32⟩
  | 40 => ⟨S16x4096x4x1, .f32⟩
  | 41 => ⟨S16x4096x4, .f32⟩
  | 42 => ⟨S_, .f32⟩
  | 43 => ⟨S16x4096x4, .f32⟩
  | 44 => ⟨S16x4096x4, .f32⟩
  | 45 => ⟨S_, .f32⟩
  | 46 => ⟨S16x4096x4, .f32⟩
  | 47 => ⟨S16x4096x4, .f32⟩
  | 48 => ⟨S_, .f32⟩
  | 49 => ⟨S16x4096x4, .f32⟩
  | 50 => ⟨S16x4096x4, .f32⟩
  | 51 => ⟨S_, .f32⟩
  | 52 => ⟨S16x4096x4, .f32⟩
  | 53 => ⟨S16x4096x4, .f32⟩
  | 54 => ⟨S16x4096x4, .f32⟩
  | 55 => ⟨S16x4096x4, .f32⟩
  | 56 => ⟨S_, .f32⟩
  | 57 => ⟨S16x4096x4, .f32⟩
  | 58 => ⟨S16x4096x4, .f32⟩
  | 59 => ⟨S_, .f32⟩
  | 60 => ⟨S16x4096x4, .f32⟩
  | 61 => ⟨S16x4096x4, .f32⟩
  | 62 => ⟨S16x4096x4, .f32⟩
  | 63 => ⟨S16x4096x4, .f32⟩
  | 64 => ⟨S16x4096x4, .f32⟩
  | 65 => ⟨S16x4096x4, .f32⟩
  | 66 => ⟨S16x4096x4, .f32⟩
  | 67 => ⟨S16x4096x4, .f32⟩
  | 68 => ⟨S16x4096x4, .f32⟩
  | 69 => ⟨S16x4096x4, .f32⟩
  | 70 => ⟨S16x4096x4, .f32⟩
  | 71 => ⟨S16x4096x4, .f32⟩
  | 72 => ⟨S16x4096x4, .f32⟩
  | 73 => ⟨S16x4096x4, .f32⟩
  | 74 => ⟨S16x32x1024, .f32⟩
  | 75 => ⟨S_, .f32⟩
  | 76 => ⟨S16x4096x4, .f32⟩
  | 77 => ⟨S16x4096x4, .i1⟩
  | 78 => ⟨S_, .f32⟩
  | 79 => ⟨S16x4096x4, .f32⟩
  | 80 => ⟨S16x4096x4, .i1⟩
  | 81 => ⟨S16x4096x4, .i1⟩
  | 82 => ⟨S_, .f32⟩
  | 83 => ⟨S16x4096x4, .f32⟩
  | 84 => ⟨S16x4096x4, .i1⟩
  | 85 => ⟨S16x4096x4, .i1⟩
  | 86 => ⟨S_, .f32⟩
  | 87 => ⟨S16x4096x4, .f32⟩
  | 88 => ⟨S16x4096x4, .i1⟩
  | 89 => ⟨S16x4096x4, .i1⟩
  | 90 => ⟨S_, .i32⟩
  | 91 => ⟨S_, .i32⟩
  | 92 => ⟨S_, .f32⟩
  | 93 => ⟨S16x4096x4, .f32⟩
  | 94 => ⟨S16x4096x4, .f32⟩
  | 95 => ⟨S_, .f32⟩
  | 96 => ⟨S16x4096x4, .f32⟩
  | 97 => ⟨S16x4096x4, .f32⟩
  | 98 => ⟨S16x4096x4, .i32⟩
  | 99 => ⟨S_, .i32⟩
  | 100 => ⟨S_, .i32⟩
  | 101 => ⟨S_, .f32⟩
  | 102 => ⟨S16x4096x4, .f32⟩
  | 103 => ⟨S16x4096x4, .f32⟩
  | 104 => ⟨S_, .f32⟩
  | 105 => ⟨S16x4096x4, .f32⟩
  | 106 => ⟨S16x4096x4, .f32⟩
  | 107 => ⟨S16x4096x4, .i32⟩
  | 108 => ⟨S_, .i32⟩
  | 109 => ⟨S16x4096x4, .i32⟩
  | 110 => ⟨S16x4096x4, .i32⟩
  | 111 => ⟨S16x4096x4, .i32⟩
  | 112 => ⟨S16x16384, .i32⟩
  | 113 => ⟨S16x1x16384, .i32⟩
  | 114 => ⟨S16x32x16384, .i32⟩
  | 115 => ⟨S_, .i32⟩
  | 116 => ⟨S16x32x16384, .i32⟩
  | 117 => ⟨S16x32x16384, .i1⟩
  | 118 => ⟨S_, .i32⟩
  | 119 => ⟨S16x32x16384, .i32⟩
  | 120 => ⟨S16x32x16384, .i32⟩
  | 121 => ⟨S16x32x16384, .i32⟩
  | 122 => ⟨S16x32x16384x1, .i32⟩
  | 123 => ⟨S1, .i32⟩
  | 124 => ⟨S_, .i32⟩
  | 125 => ⟨S16x32x16384x1, .i32⟩
  | 126 => ⟨S16x32x16384x1, .i1⟩
  | 127 => ⟨S1x1x1x1, .i32⟩
  | _ => ⟨S4x2x256x32x32, .f32⟩

abbrev hbmTy0_54 (i : Nat) : BufTy := match i % 128 with
  | 0 => ⟨S16x32x16384x1, .i32⟩
  | 1 => ⟨S16x32x16384x1, .i1⟩
  | 2 => ⟨S16x32x16384x1, .i1⟩
  | 3 => ⟨S_, .i1⟩
  | 4 => ⟨S16x32x16384, .i1⟩
  | 5 => ⟨S16x32x16384, .f32⟩
  | 6 => ⟨S_, .f32⟩
  | 7 => ⟨S16x32x16384, .f32⟩
  | 8 => ⟨S16x32x16384, .f32⟩
  | 9 => ⟨S16x32x4096x4, .f32⟩
  | 10 => ⟨S16x1x4096x4, .i1⟩
  | 11 => ⟨S16x1x4096x4, .f32⟩
  | 12 => ⟨S16x32x4096x4, .f32⟩
  | 13 => ⟨S16x32x4096x4, .f32⟩
  | 14 => ⟨S16x1x4096x4, .f32⟩
  | 15 => ⟨S16x32x4096x4, .f32⟩
  | 16 => ⟨S16x32x4096x4, .f32⟩
  | 17 => ⟨S_, .f32⟩
  | 18 => ⟨S16x4096x4, .f32⟩
  | 19 => ⟨S16x4096x4, .i1⟩
  | 20 => ⟨S_, .f32⟩
  | 21 => ⟨S16x4096x4, .f32⟩
  | 22 => ⟨S16x4096x4, .i1⟩
  | 23 => ⟨S16x4096x4, .i1⟩
  | 24 => ⟨S_, .f32⟩
  | 25 => ⟨S16x4096x4, .f32⟩
  | 26 => ⟨S16x4096x4, .i1⟩
  | 27 => ⟨S16x4096x4, .i1⟩
  | 28 => ⟨S_, .f32⟩
  | 29 => ⟨S16x4096x4, .f32⟩
  | 30 => ⟨S16x4096x4, .i1⟩
  | 31 => ⟨S16x4096x4, .i1⟩
  | 32 => ⟨S_, .i32⟩
  | 33 => ⟨S_, .i32⟩
  | 34 => ⟨S_, .f32⟩
  | 35 => ⟨S16x4096x4, .f32⟩
  | 36 => ⟨S16x4096x4, .f32⟩
  | 37 => ⟨S_, .f32⟩
  | 38 => ⟨S16x4096x4, .f32⟩
  | 39 => ⟨S16x4096x4, .f32⟩
  | 40 => ⟨S16x4096x4, .i32⟩
  | 41 => ⟨S_, .i32⟩
  | 42 => ⟨S_, .i32⟩
  | 43 => ⟨S_, .f32⟩
  | 44 => ⟨S16x4096x4, .f32⟩
  | 45 => ⟨S16x4096x4, .f32⟩
  | 46 => ⟨S_, .f32⟩
  | 47 => ⟨S16x4096x4, .f32⟩
  | 48 => ⟨S16x4096x4, .f32⟩
  | 49 => ⟨S16x4096x4, .i32⟩
  | 50 => ⟨S_, .i32⟩
  | 51 => ⟨S16x4096x4, .i32⟩
  | 52 => ⟨S16x4096x4, .i32⟩
  | 53 => ⟨S16x4096x4, .i32⟩
  | 54 => ⟨S16x16384, .i32⟩
  | 55 => ⟨S16x1x16384, .i32⟩
  | 56 => ⟨S16x32x16384, .i32⟩
  | 57 => ⟨S_, .i32⟩
  | 58 => ⟨S16x32x16384, .i32⟩
  | 59 => ⟨S16x32x16384, .i1⟩
  | 60 => ⟨S_, .i32⟩
  | 61 => ⟨S16x32x16384, .i32⟩
  | 62 => ⟨S16x32x16384, .i32⟩
  | 63 => ⟨S16x32x16384, .i32⟩
  | 64 => ⟨S16x32x16384x1, .i32⟩
  | 65 => ⟨S1, .i32⟩
  | 66 => ⟨S_, .i32⟩
  | 67 => ⟨S16x32x16384x1, .i32⟩
  | 68 => ⟨S16x32x16384x1, .i1⟩
  | 69 => ⟨S1x1x1x1, .i32⟩
  | 70 => ⟨S16x32x16384x1, .i32⟩
  | 71 => ⟨S16x32x16384x1, .i1⟩
  | 72 => ⟨S16x32x16384x1, .i1⟩
  | 73 => ⟨S_, .i1⟩
  | 74 => ⟨S16x32x16384, .i1⟩
  | 75 => ⟨S16x32x16384, .f32⟩
  | 76 => ⟨S_, .f32⟩
  | 77 => ⟨S16x32x16384, .f32⟩
  | 78 => ⟨S16x32x16384, .f32⟩
  | 79 => ⟨S16x32x4096x4, .f32⟩
  | 80 => ⟨S16x1x4096x4, .i1⟩
  | 81 => ⟨S16x1x4096x4, .f32⟩
  | 82 => ⟨S16x32x4096x4, .f32⟩
  | 83 => ⟨S16x32x4096x4, .f32⟩
  | 84 => ⟨S16x1x4096x4, .f32⟩
  | 85 => ⟨S16x32x4096x4, .f32⟩
  | 86 => ⟨S16x32x4096x4, .f32⟩
  | 87 => ⟨S16x32x4096x4, .f32⟩
  | 88 => ⟨S_, .f32⟩
  | 89 => ⟨S16x4096x4, .f32⟩
  | 90 => ⟨S16x4096x4, .i1⟩
  | 91 => ⟨S_, .f32⟩
  | 92 => ⟨S16x4096x4, .f32⟩
  | 93 => ⟨S16x4096x4, .i1⟩
  | 94 => ⟨S16x4096x4, .i1⟩
  | 95 => ⟨S_, .f32⟩
  | 96 => ⟨S16x4096x4, .f32⟩
  | 97 => ⟨S16x4096x4, .i1⟩
  | 98 => ⟨S16x4096x4, .i1⟩
  | 99 => ⟨S_, .f32⟩
  | 100 => ⟨S16x4096x4, .f32⟩
  | 101 => ⟨S16x4096x4, .i1⟩
  | 102 => ⟨S16x4096x4, .i1⟩
  | 103 => ⟨S_, .i32⟩
  | 104 => ⟨S_, .i32⟩
  | 105 => ⟨S_, .f32⟩
  | 106 => ⟨S16x4096x4, .f32⟩
  | 107 => ⟨S16x4096x4, .f32⟩
  | 108 => ⟨S_, .f32⟩
  | 109 => ⟨S16x4096x4, .f32⟩
  | 110 => ⟨S16x4096x4, .f32⟩
  | 111 => ⟨S16x4096x4, .i32⟩
  | 112 => ⟨S_, .i32⟩
  | 113 => ⟨S_, .i32⟩
  | 114 => ⟨S_, .f32⟩
  | 115 => ⟨S16x4096x4, .f32⟩
  | 116 => ⟨S16x4096x4, .f32⟩
  | 117 => ⟨S_, .f32⟩
  | 118 => ⟨S16x4096x4, .f32⟩
  | 119 => ⟨S16x4096x4, .f32⟩
  | 120 => ⟨S16x4096x4, .i32⟩
  | 121 => ⟨S_, .i32⟩
  | 122 => ⟨S16x4096x4, .i32⟩
  | 123 => ⟨S16x4096x4, .i32⟩
  | 124 => ⟨S16x4096x4, .i32⟩
  | 125 => ⟨S16x16384, .i32⟩
  | 126 => ⟨S16x1x16384, .i32⟩
  | 127 => ⟨S16x32x16384, .i32⟩
  | _ => ⟨S4x2x256x32x32, .f32⟩

abbrev hbmTy0_55 (i : Nat) : BufTy := match i % 128 with
  | 0 => ⟨S_, .i32⟩
  | 1 => ⟨S16x32x16384, .i32⟩
  | 2 => ⟨S16x32x16384, .i1⟩
  | 3 => ⟨S_, .i32⟩
  | 4 => ⟨S16x32x16384, .i32⟩
  | 5 => ⟨S16x32x16384, .i32⟩
  | 6 => ⟨S16x32x16384, .i32⟩
  | 7 => ⟨S16x32x16384x1, .i32⟩
  | 8 => ⟨S1, .i32⟩
  | 9 => ⟨S_, .i32⟩
  | 10 => ⟨S16x32x16384x1, .i32⟩
  | 11 => ⟨S16x32x16384x1, .i1⟩
  | 12 => ⟨S1x1x1x1, .i32⟩
  | 13 => ⟨S16x32x16384x1, .i32⟩
  | 14 => ⟨S16x32x16384x1, .i1⟩
  | 15 => ⟨S16x32x16384x1, .i1⟩
  | 16 => ⟨S_, .i1⟩
  | 17 => ⟨S16x32x16384, .i1⟩
  | 18 => ⟨S16x32x16384, .f32⟩
  | 19 => ⟨S_, .f32⟩
  | 20 => ⟨S16x32x16384, .f32⟩
  | 21 => ⟨S16x32x16384, .f32⟩
  | 22 => ⟨S16x32x4096x4, .f32⟩
  | 23 => ⟨S16x1x4096x4, .i1⟩
  | 24 => ⟨S16x1x4096x4, .f32⟩
  | 25 => ⟨S16x32x4096x4, .f32⟩
  | 26 => ⟨S16x32x4096x4, .f32⟩
  | 27 => ⟨S16x1x4096x4, .f32⟩
  | 28 => ⟨S16x32x4096x4, .f32⟩
  | 29 => ⟨S16x32x4096x4, .f32⟩
  | 30 => ⟨S16x32x4096x4, .f32⟩
  | 31 => ⟨S_, .f32⟩
  | 32 => ⟨S16x4096x4, .f32⟩
  | 33 => ⟨S16x4096x4, .i1⟩
  | 34 => ⟨S_, .f32⟩
  | 35 => ⟨S16x4096x4, .f32⟩
  | 36 => ⟨S16x4096x4, .i1⟩
  | 37 => ⟨S16x4096x4, .i1⟩
  | 38 => ⟨S_, .f32⟩
  | 39 => ⟨S16x4096x4, .f32⟩
  | 40 => ⟨S16x4096x4, .i1⟩
  | 41 => ⟨S16x4096x4, .i1⟩
  | 42 => ⟨S_, .f32⟩
  | 43 => ⟨S16x4096x4, .f32⟩
  | 44 => ⟨S16x4096x4, .i1⟩
  | 45 => ⟨S16x4096x4, .i1⟩
  | 46 => ⟨S_, .i32⟩
  | 47 => ⟨S_, .i32⟩
  | 48 => ⟨S_, .f32⟩
  | 49 => ⟨S16x4096x4, .f32⟩
  | 50 => ⟨S16x4096x4, .f32⟩
  | 51 => ⟨S_, .f32⟩
  | 52 => ⟨S16x4096x4, .f32⟩
  | 53 => ⟨S16x4096x4, .f32⟩
  | 54 => ⟨S16x4096x4, .i32⟩
  | 55 => ⟨S_, .i32⟩
  | 56 => ⟨S_, .i32⟩
  | 57 => ⟨S_, .f32⟩
  | 58 => ⟨S16x4096x4, .f32⟩
  | 59 => ⟨S16x4096x4, .f32⟩
  | 60 => ⟨S_, .f32⟩
  | 61 => ⟨S16x4096x4, .f32⟩
  | 62 => ⟨S16x4096x4, .f32⟩
  | 63 => ⟨S16x4096x4, .i32⟩
  | 64 => ⟨S_, .i32⟩
  | 65 => ⟨S16x4096x4, .i32⟩
  | 66 => ⟨S16x4096x4, .i32⟩
  | 67 => ⟨S16x4096x4, .i32⟩
  | 68 => ⟨S16x16384, .i32⟩
  | 69 => ⟨S16x1x16384, .i32⟩
  | 70 => ⟨S16x32x16384, .i32⟩
  | 71 => ⟨S_, .i32⟩
  | 72 => ⟨S16x32x16384, .i32⟩
  | 73 => ⟨S16x32x16384, .i1⟩
  | 74 => ⟨S_, .i32⟩
  | 75 => ⟨S16x32x16384, .i32⟩
  | 76 => ⟨S16x32x16384, .i32⟩
  | 77 => ⟨S16x32x16384, .i32⟩
  | 78 => ⟨S16x32x16384x1, .i32⟩
  | 79 => ⟨S1, .i32⟩
  | 80 => ⟨S_, .i32⟩
  | 81 => ⟨S16x32x16384x1, .i32⟩
  | 82 => ⟨S16x32x16384x1, .i1⟩
  | 83 => ⟨S1x1x1x1, .i32⟩
  | 84 => ⟨S16x32x16384x1, .i32⟩
  | 85 => ⟨S16x32x16384x1, .i1⟩
  | 86 => ⟨S16x32x16384x1, .i1⟩
  | 87 => ⟨S_, .i1⟩
  | 88 => ⟨S16x32x16384, .i1⟩
  | 89 => ⟨S16x32x16384, .f32⟩
  | 90 => ⟨S_, .f32⟩
  | 91 => ⟨S16x32x16384, .f32⟩
  | 92 => ⟨S16x32x16384, .f32⟩
  | 93 => ⟨S16x32x4096x4, .f32⟩
  | 94 => ⟨S16x1x4096x4, .i1⟩
  | 95 => ⟨S16x1x4096x4, .f32⟩
  | 96 => ⟨S16x32x4096x4, .f32⟩
  | 97 => ⟨S16x32x4096x4, .f32⟩
  | 98 => ⟨S16x1x4096x4, .f32⟩
  | 99 => ⟨S16x32x4096x4, .f32⟩
  | 100 => ⟨S16x32x4096x4, .f32⟩
  | 101 => ⟨S16x32x4096x4, .f32⟩
  | 102 => ⟨S2x1024x8x32, .f32⟩
  | 103 => ⟨S2x8x32x1024, .f32⟩
  | 104 => ⟨S16x32x32x32, .f32⟩
  | 105 => ⟨S2x4096x8x1x4x2, .f32⟩
  | 106 => ⟨S2x4096x8x4x2, .f32⟩
  | 107 => ⟨S2x8x4096x4x2, .f32⟩
  | 108 => ⟨S16x4096x4x2, .f32⟩
  | 109 => ⟨S16x4096x4x1, .f32⟩
  | 110 => ⟨S16x4096x4, .f32⟩
  | 111 => ⟨S_, .f32⟩
  | 112 => ⟨S16x4096x4, .f32⟩
  | 113 => ⟨S16x4096x4, .f32⟩
  | 114 => ⟨S_, .f32⟩
  | 115 => ⟨S16x4096x4, .f32⟩
  | 116 => ⟨S16x4096x4, .f32⟩
  | 117 => ⟨S_, .f32⟩
  | 118 => ⟨S16x4096x4, .f32⟩
  | 119 => ⟨S16x4096x4, .f32⟩
  | 120 => ⟨S_, .f32⟩
  | 121 => ⟨S16x4096x4, .f32⟩
  | 122 => ⟨S16x4096x4, .f32⟩
  | 123 => ⟨S16x4096x4x1, .f32⟩
  | 124 => ⟨S16x4096x4, .f32⟩
  | 125 => ⟨S_, .f32⟩
  | 126 => ⟨S16x4096x4, .f32⟩
  | 127 => ⟨S16x4096x4, .f32⟩
  | _ => ⟨S4x2x256x32x32, .f32⟩

abbrev hbmTy0_56 (i : Nat) : BufTy := match i % 128 with
  | 0 => ⟨S_, .f32⟩
  | 1 => ⟨S16x4096x4, .f32⟩
  | 2 => ⟨S16x4096x4, .f32⟩
  | 3 => ⟨S_, .f32⟩
  | 4 => ⟨S16x4096x4, .f32⟩
  | 5 => ⟨S16x4096x4, .f32⟩
  | 6 => ⟨S_, .f32⟩
  | 7 => ⟨S16x4096x4, .f32⟩
  | 8 => ⟨S16x4096x4, .f32⟩
  | 9 => ⟨S16x4096x4, .f32⟩
  | 10 => ⟨S16x4096x4, .f32⟩
  | 11 => ⟨S_, .f32⟩
  | 12 => ⟨S16x4096x4, .f32⟩
  | 13 => ⟨S16x4096x4, .f32⟩
  | 14 => ⟨S_, .f32⟩
  | 15 => ⟨S16x4096x4, .f32⟩
  | 16 => ⟨S16x4096x4, .f32⟩
  | 17 => ⟨S16x4096x4, .f32⟩
  | 18 => ⟨S16x4096x4, .f32⟩
  | 19 => ⟨S16x4096x4, .f32⟩
  | 20 => ⟨S16x4096x4, .f32⟩
  | 21 => ⟨S16x4096x4, .f32⟩
  | 22 => ⟨S16x4096x4, .f32⟩
  | 23 => ⟨S16x4096x4, .f32⟩
  | 24 => ⟨S16x4096x4, .f32⟩
  | 25 => ⟨S16x4096x4, .f32⟩
  | 26 => ⟨S16x4096x4, .f32⟩
  | 27 => ⟨S16x4096x4, .f32⟩
  | 28 => ⟨S16x4096x4, .f32⟩
  | 29 => ⟨S16x32x1024, .f32⟩
  | 30 => ⟨S_, .f32⟩
  | 31 => ⟨S16x4096x4, .f32⟩
  | 32 => ⟨S16x4096x4, .i1⟩
  | 33 => ⟨S_, .f32⟩
  | 34 => ⟨S16x4096x4, .f32⟩
  | 35 => ⟨S16x4096x4, .i1⟩
  | 36 => ⟨S16x4096x4, .i1⟩
  | 37 => ⟨S_, .f32⟩
  | 38 => ⟨S16x4096x4, .f32⟩
  | 39 => ⟨S16x4096x4, .i1⟩
  | 40 => ⟨S16x4096x4, .i1⟩
  | 41 => ⟨S_, .f32⟩
  | 42 => ⟨S16x4096x4, .f32⟩
  | 43 => ⟨S16x4096x4, .i1⟩
  | 44 => ⟨S16x4096x4, .i1⟩
  | 45 => ⟨S_, .i32⟩
  | 46 => ⟨S_, .i32⟩
  | 47 => ⟨S_, .f32⟩
  | 48 => ⟨S16x4096x4, .f32⟩
  | 49 => ⟨S16x4096x4, .f32⟩
  | 50 => ⟨S_, .f32⟩
  | 51 => ⟨S16x4096x4, .f32⟩
  | 52 => ⟨S16x4096x4, .f32⟩
  | 53 => ⟨S16x4096x4, .i32⟩
  | 54 => ⟨S_, .i32⟩
  | 55 => ⟨S_, .i32⟩
  | 56 => ⟨S_, .f32⟩
  | 57 => ⟨S16x4096x4, .f32⟩
  | 58 => ⟨S16x4096x4, .f32⟩
  | 59 => ⟨S_, .f32⟩
  | 60 => ⟨S16x4096x4, .f32⟩
  | 61 => ⟨S16x4096x4, .f32⟩
  | 62 => ⟨S16x4096x4, .i32⟩
  | 63 => ⟨S_, .i32⟩
  | 64 => ⟨S16x4096x4, .i32⟩
  | 65 => ⟨S16x4096x4, .i32⟩
  | 66 => ⟨S16x4096x4, .i32⟩
  | 67 => ⟨S16x16384, .i32⟩
  | 68 => ⟨S16x1x16384, .i32⟩
  | 69 => ⟨S16x32x16384, .i32⟩
  | 70 => ⟨S_, .i32⟩
  | 71 => ⟨S16x32x16384, .i32⟩
  | 72 => ⟨S16x32x16384, .i1⟩
  | 73 => ⟨S_, .i32⟩
  | 74 => ⟨S16x32x16384, .i32⟩
  | 75 => ⟨S16x32x16384, .i32⟩
  | 76 => ⟨S16x32x16384, .i32⟩
  | 77 => ⟨S16x32x16384x1, .i32⟩
  | 78 => ⟨S1, .i32⟩
  | 79 => ⟨S_, .i32⟩
  | 80 => ⟨S16x32x16384x1, .i32⟩
  | 81 => ⟨S16x32x16384x1, .i1⟩
  | 82 => ⟨S1x1x1x1, .i32⟩
  | 83 => ⟨S16x32x16384x1, .i32⟩
  | 84 => ⟨S16x32x16384x1, .i1⟩
  | 85 => ⟨S16x32x16384x1, .i1⟩
  | 86 => ⟨S_, .i1⟩
  | 87 => ⟨S16x32x16384, .i1⟩
  | 88 => ⟨S16x32x16384, .f32⟩
  | 89 => ⟨S_, .f32⟩
  | 90 => ⟨S16x32x16384, .f32⟩
  | 91 => ⟨S16x32x16384, .f32⟩
  | 92 => ⟨S16x32x4096x4, .f32⟩
  | 93 => ⟨S16x1x4096x4, .i1⟩
  | 94 => ⟨S16x1x4096x4, .f32⟩
  | 95 => ⟨S16x32x4096x4, .f32⟩
  | 96 => ⟨S16x32x4096x4, .f32⟩
  | 97 => ⟨S16x1x4096x4, .f32⟩
  | 98 => ⟨S16x32x4096x4, .f32⟩
  | 99 => ⟨S16x32x4096x4, .f32⟩
  | 100 => ⟨S_, .f32⟩
  | 101 => ⟨S16x4096x4, .f32⟩
  | 102 => ⟨S16x4096x4, .i1⟩
  | 103 => ⟨S_, .f32⟩
  | 104 => ⟨S16x4096x4, .f32⟩
  | 105 => ⟨S16x4096x4, .i1⟩
  | 106 => ⟨S16x4096x4, .i1⟩
  | 107 => ⟨S_, .f32⟩
  | 108 => ⟨S16x4096x4, .f32⟩
  | 109 => ⟨S16x4096x4, .i1⟩
  | 110 => ⟨S16x4096x4, .i1⟩
  | 111 => ⟨S_, .f32⟩
  | 112 => ⟨S16x4096x4, .f32⟩
  | 113 => ⟨S16x4096x4, .i1⟩
  | 114 => ⟨S16x4096x4, .i1⟩
  | 115 => ⟨S_, .i32⟩
  | 116 => ⟨S_, .i32⟩
  | 117 => ⟨S_, .f32⟩
  | 118 => ⟨S16x4096x4, .f32⟩
  | 119 => ⟨S16x4096x4, .f32⟩
  | 120 => ⟨S_, .f32⟩
  | 121 => ⟨S16x4096x4, .f32⟩
  | 122 => ⟨S16x4096x4, .f32⟩
  | 123 => ⟨S16x4096x4, .i32⟩
  | 124 => ⟨S_, .i32⟩
  | 125 => ⟨S_, .i32⟩
  | 126 => ⟨S_, .f32⟩
  | 127 => ⟨S16x4096x4, .f32⟩
  | _ => ⟨S4x2x256x32x32, .f32⟩

abbrev hbmTy0_57 (i : Nat) : BufTy := match i % 128 with
  | 0 => ⟨S16x4096x4, .f32⟩
  | 1 => ⟨S_, .f32⟩
  | 2 => ⟨S16x4096x4, .f32⟩
  | 3 => ⟨S16x4096x4, .f32⟩
  | 4 => ⟨S16x4096x4, .i32⟩
  | 5 => ⟨S_, .i32⟩
  | 6 => ⟨S16x4096x4, .i32⟩
  | 7 => ⟨S16x4096x4, .i32⟩
  | 8 => ⟨S16x4096x4, .i32⟩
  | 9 => ⟨S16x16384, .i32⟩
  | 10 => ⟨S16x1x16384, .i32⟩
  | 11 => ⟨S16x32x16384, .i32⟩
  | 12 => ⟨S_, .i32⟩
  | 13 => ⟨S16x32x16384, .i32⟩
  | 14 => ⟨S16x32x16384, .i1⟩
  | 15 => ⟨S_, .i32⟩
  | 16 => ⟨S16x32x16384, .i32⟩
  | 17 => ⟨S16x32x16384, .i32⟩
  | 18 => ⟨S16x32x16384, .i32⟩
  | 19 => ⟨S16x32x16384x1, .i32⟩
  | 20 => ⟨S1, .i32⟩
  | 21 => ⟨S_, .i32⟩
  | 22 => ⟨S16x32x16384x1, .i32⟩
  | 23 => ⟨S16x32x16384x1, .i1⟩
  | 24 => ⟨S1x1x1x1, .i32⟩
  | 25 => ⟨S16x32x16384x1, .i32⟩
  | 26 => ⟨S16x32x16384x1, .i1⟩
  | 27 => ⟨S16x32x16384x1, .i1⟩
  | 28 => ⟨S_, .i1⟩
  | 29 => ⟨S16x32x16384, .i1⟩
  | 30 => ⟨S16x32x16384, .f32⟩
  | 31 => ⟨S_, .f32⟩
  | 32 => ⟨S16x32x16384, .f32⟩
  | 33 => ⟨S16x32x16384, .f32⟩
  | 34 => ⟨S16x32x4096x4, .f32⟩
  | 35 => ⟨S16x1x4096x4, .i1⟩
  | 36 => ⟨S16x1x4096x4, .f32⟩
  | 37 => ⟨S16x32x4096x4, .f32⟩
  | 38 => ⟨S16x32x4096x4, .f32⟩
  | 39 => ⟨S16x1x4096x4, .f32⟩
  | 40 => ⟨S16x32x4096x4, .f32⟩
  | 41 => ⟨S16x32x4096x4, .f32⟩
  | 42 => ⟨S16x32x4096x4, .f32⟩
  | 43 => ⟨S_, .f32⟩
  | 44 => ⟨S16x4096x4, .f32⟩
  | 45 => ⟨S16x4096x4, .i1⟩
  | 46 => ⟨S_, .f32⟩
  | 47 => ⟨S16x4096x4, .f32⟩
  | 48 => ⟨S16x4096x4, .i1⟩
  | 49 => ⟨S16x4096x4, .i1⟩
  | 50 => ⟨S_, .f32⟩
  | 51 => ⟨S16x4096x4, .f32⟩
  | 52 => ⟨S16x4096x4, .i1⟩
  | 53 => ⟨S16x4096x4, .i1⟩
  | 54 => ⟨S_, .f32⟩
  | 55 => ⟨S16x4096x4, .f32⟩
  | 56 => ⟨S16x4096x4, .i1⟩
  | 57 => ⟨S16x4096x4, .i1⟩
  | 58 => ⟨S_, .i32⟩
  | 59 => ⟨S_, .i32⟩
  | 60 => ⟨S_, .f32⟩
  | 61 => ⟨S16x4096x4, .f32⟩
  | 62 => ⟨S16x4096x4, .f32⟩
  | 63 => ⟨S_, .f32⟩
  | 64 => ⟨S16x4096x4, .f32⟩
  | 65 => ⟨S16x4096x4, .f32⟩
  | 66 => ⟨S16x4096x4, .i32⟩
  | 67 => ⟨S_, .i32⟩
  | 68 => ⟨S_, .i32⟩
  | 69 => ⟨S_, .f32⟩
  | 70 => ⟨S16x4096x4, .f32⟩
  | 71 => ⟨S16x4096x4, .f32⟩
  | 72 => ⟨S_, .f32⟩
  | 73 => ⟨S16x4096x4, .f32⟩
  | 74 => ⟨S16x4096x4, .f32⟩
  | 75 => ⟨S16x4096x4, .i32⟩
  | 76 => ⟨S_, .i32⟩
  | 77 => ⟨S16x4096x4, .i32⟩
  | 78 => ⟨S16x4096x4, .i32⟩
  | 79 => ⟨S16x4096x4, .i32⟩
  | 80 => ⟨S16x16384, .i32⟩
  | 81 => ⟨S16x1x16384, .i32⟩
  | 82 => ⟨S16x32x16384, .i32⟩
  | 83 => ⟨S_, .i32⟩
  | 84 => ⟨S16x32x16384, .i32⟩
  | 85 => ⟨S16x32x16384, .i1⟩
  | 86 => ⟨S_, .i32⟩
  | 87 => ⟨S16x32x16384, .i32⟩
  | 88 => ⟨S16x32x16384, .i32⟩
  | 89 => ⟨S16x32x16384, .i32⟩
  | 90 => ⟨S16x32x16384x1, .i32⟩
  | 91 => ⟨S1, .i32⟩
  | 92 => ⟨S_, .i32⟩
  | 93 => ⟨S16x32x16384x1, .i32⟩
  | 94 => ⟨S16x32x16384x1, .i1⟩
  | 95 => ⟨S1x1x1x1, .i32⟩
  | 96 => ⟨S16x32x16384x1, .i32⟩
  | 97 => ⟨S16x32x16384x1, .i1⟩
  | 98 => ⟨S16x32x16384x1, .i1⟩
  | 99 => ⟨S_, .i1⟩
  | 100 => ⟨S16x32x16384, .i1⟩
  | 101 => ⟨S16x32x16384, .f32⟩
  | 102 => ⟨S_, .f32⟩
  | 103 => ⟨S16x32x16384, .f32⟩
  | 104 => ⟨S16x32x16384, .f32⟩
  | 105 => ⟨S16x32x4096x4, .f32⟩
  | 106 => ⟨S16x1x4096x4, .i1⟩
  | 107 => ⟨S16x1x4096x4, .f32⟩
  | 108 => ⟨S16x32x4096x4, .f32⟩
  | 109 => ⟨S16x32x4096x4, .f32⟩
  | 110 => ⟨S16x1x4096x4, .f32⟩
  | 111 => ⟨S16x32x4096x4, .f32⟩
  | 112 => ⟨S16x32x4096x4, .f32⟩
  | 113 => ⟨S16x32x4096x4, .f32⟩
  | 114 => ⟨S_, .f32⟩
  | 115 => ⟨S16x4096x4, .f32⟩
  | 116 => ⟨S16x4096x4, .i1⟩
  | 117 => ⟨S_, .f32⟩
  | 118 => ⟨S16x4096x4, .f32⟩
  | 119 => ⟨S16x4096x4, .i1⟩
  | 120 => ⟨S16x4096x4, .i1⟩
  | 121 => ⟨S_, .f32⟩
  | 122 => ⟨S16x4096x4, .f32⟩
  | 123 => ⟨S16x4096x4, .i1⟩
  | 124 => ⟨S16x4096x4, .i1⟩
  | 125 => ⟨S_, .f32⟩
  | 126 => ⟨S16x4096x4, .f32⟩
  | 127 => ⟨S16x4096x4, .i1⟩
  | _ => ⟨S4x2x256x32x32, .f32⟩

abbrev hbmTy0_58 (i : Nat) : BufTy := match i % 128 with
  | 0 => ⟨S16x4096x4, .i1⟩
  | 1 => ⟨S_, .i32⟩
  | 2 => ⟨S_, .i32⟩
  | 3 => ⟨S_, .f32⟩
  | 4 => ⟨S16x4096x4, .f32⟩
  | 5 => ⟨S16x4096x4, .f32⟩
  | 6 => ⟨S_, .f32⟩
  | 7 => ⟨S16x4096x4, .f32⟩
  | 8 => ⟨S16x4096x4, .f32⟩
  | 9 => ⟨S16x4096x4, .i32⟩
  | 10 => ⟨S_, .i32⟩
  | 11 => ⟨S_, .i32⟩
  | 12 => ⟨S_, .f32⟩
  | 13 => ⟨S16x4096x4, .f32⟩
  | 14 => ⟨S16x4096x4, .f32⟩
  | 15 => ⟨S_, .f32⟩
  | 16 => ⟨S16x4096x4, .f32⟩
  | 17 => ⟨S16x4096x4, .f32⟩
  | 18 => ⟨S16x4096x4, .i32⟩
  | 19 => ⟨S_, .i32⟩
  | 20 => ⟨S16x4096x4, .i32⟩
  | 21 => ⟨S16x4096x4, .i32⟩
  | 22 => ⟨S16x4096x4, .i32⟩
  | 23 => ⟨S16x16384, .i32⟩
  | 24 => ⟨S16x1x16384, .i32⟩
  | 25 => ⟨S16x32x16384, .i32⟩
  | 26 => ⟨S_, .i32⟩
  | 27 => ⟨S16x32x16384, .i32⟩
  | 28 => ⟨S16x32x16384, .i1⟩
  | 29 => ⟨S_, .i32⟩
  | 30 => ⟨S16x32x16384, .i32⟩
  | 31 => ⟨S16x32x16384, .i32⟩
  | 32 => ⟨S16x32x16384, .i32⟩
  | 33 => ⟨S16x32x16384x1, .i32⟩
  | 34 => ⟨S1, .i32⟩
  | 35 => ⟨S_, .i32⟩
  | 36 => ⟨S16x32x16384x1, .i32⟩
  | 37 => ⟨S16x32x16384x1, .i1⟩
  | 38 => ⟨S1x1x1x1, .i32⟩
  | 39 => ⟨S16x32x16384x1, .i32⟩
  | 40 => ⟨S16x32x16384x1, .i1⟩
  | 41 => ⟨S16x32x16384x1, .i1⟩
  | 42 => ⟨S_, .i1⟩
  | 43 => ⟨S16x32x16384, .i1⟩
  | 44 => ⟨S16x32x16384, .f32⟩
  | 45 => ⟨S_, .f32⟩
  | 46 => ⟨S16x32x16384, .f32⟩
  | 47 => ⟨S16x32x16384, .f32⟩
  | 48 => ⟨S16x32x4096x4, .f32⟩
  | 49 => ⟨S16x1x4096x4, .i1⟩
  | 50 => ⟨S16x1x4096x4, .f32⟩
  | 51 => ⟨S16x32x4096x4, .f32⟩
  | 52 => ⟨S16x32x4096x4, .f32⟩
  | 53 => ⟨S16x1x4096x4, .f32⟩
  | 54 => ⟨S16x32x4096x4, .f32⟩
  | 55 => ⟨S16x32x4096x4, .f32⟩
  | 56 => ⟨S16x32x4096x4, .f32⟩
  | 57 => ⟨S2x1024x8x32, .f32⟩
  | 58 => ⟨S2x8x32x1024, .f32⟩
  | 59 => ⟨S16x32x32x32, .f32⟩
  | 60 => ⟨S2x4096x8x1x4x2, .f32⟩
  | 61 => ⟨S2x4096x8x4x2, .f32⟩
  | 62 => ⟨S2x8x4096x4x2, .f32⟩
  | 63 => ⟨S16x4096x4x2, .f32⟩
  | 64 => ⟨S16x4096x4x1, .f32⟩
  | 65 => ⟨S16x4096x4, .f32⟩
  | 66 => ⟨S_, .f32⟩
  | 67 => ⟨S16x4096x4, .f32⟩
  | 68 => ⟨S16x4096x4, .f32⟩
  | 69 => ⟨S_, .f32⟩
  | 70 => ⟨S16x4096x4, .f32⟩
  | 71 => ⟨S16x4096x4, .f32⟩
  | 72 => ⟨S_, .f32⟩
  | 73 => ⟨S16x4096x4, .f32⟩
  | 74 => ⟨S16x4096x4, .f32⟩
  | 75 => ⟨S_, .f32⟩
  | 76 => ⟨S16x4096x4, .f32⟩
  | 77 => ⟨S16x4096x4, .f32⟩
  | 78 => ⟨S16x4096x4x1, .f32⟩
  | 79 => ⟨S16x4096x4, .f32⟩
  | 80 => ⟨S_, .f32⟩
  | 81 => ⟨S16x4096x4, .f32⟩
  | 82 => ⟨S16x4096x4, .f32⟩
  | 83 => ⟨S_, .f32⟩
  | 84 => ⟨S16x4096x4, .f32⟩
  | 85 => ⟨S16x4096x4, .f32⟩
  | 86 => ⟨S_, .f32⟩
  | 87 => ⟨S16x4096x4, .f32⟩
  | 88 => ⟨S16x4096x4, .f32⟩
  | 89 => ⟨S_, .f32⟩
  | 90 => ⟨S16x4096x4, .f32⟩
  | 91 => ⟨S16x4096x4, .f32⟩
  | 92 => ⟨S16x4096x4, .f32⟩
  | 93 => ⟨S16x4096x4, .f32⟩
  | 94 => ⟨S_, .f32⟩
  | 95 => ⟨S16x4096x4, .f32⟩
  | 96 => ⟨S16x4096x4, .f32⟩
  | 97 => ⟨S_, .f32⟩
  | 98 => ⟨S16x4096x4, .f32⟩
  | 99 => ⟨S16x4096x4, .f32⟩
  | 100 => ⟨S16x4096x4, .f32⟩
  | 101 => ⟨S16x4096x4, .f32⟩
  | 102 => ⟨S16x4096x4, .f32⟩
  | 103 => ⟨S16x4096x4, .f32⟩
  | 104 => ⟨S16x4096x4, .f32⟩
  | 105 => ⟨S16x4096x4, .f32⟩
  | 106 => ⟨S16x4096x4, .f32⟩
  | 107 => ⟨S16x4096x4, .f32⟩
  | 108 => ⟨S16x4096x4, .f32⟩
  | 109 => ⟨S16x4096x4, .f32⟩
  | 110 => ⟨S16x4096x4, .f32⟩
  | 111 => ⟨S16x4096x4, .f32⟩
  | 112 => ⟨S16x32x1024, .f32⟩
  | 113 => ⟨S_, .f32⟩
  | 114 => ⟨S16x4096x4, .f32⟩
  | 115 => ⟨S16x4096x4, .i1⟩
  | 116 => ⟨S_, .f32⟩
  | 117 => ⟨S16x4096x4, .f32⟩
  | 118 => ⟨S16x4096x4, .i1⟩
  | 119 => ⟨S16x4096x4, .i1⟩
  | 120 => ⟨S_, .f32⟩
  | 121 => ⟨S16x4096x4, .f32⟩
  | 122 => ⟨S16x4096x4, .i1⟩
  | 123 => ⟨S16x4096x4, .i1⟩
  | 124 => ⟨S_, .f32⟩
  | 125 => ⟨S16x4096x4, .f32⟩
  | 126 => ⟨S16x4096x4, .i1⟩
  | 127 => ⟨S16x4096x4, .i1⟩
  | _ => ⟨S4x2x256x32x32, .f32⟩

abbrev hbmTy0_59 (i : Nat) : BufTy := match i % 128 with
  | 0 => ⟨S_, .i32⟩
  | 1 => ⟨S_, .i32⟩
  | 2 => ⟨S_, .f32⟩
  | 3 => ⟨S16x4096x4, .f32⟩
  | 4 => ⟨S16x4096x4, .f32⟩
  | 5 => ⟨S_, .f32⟩
  | 6 => ⟨S16x4096x4, .f32⟩
  | 7 => ⟨S16x4096x4, .f32⟩
  | 8 => ⟨S16x4096x4, .i32⟩
  | 9 => ⟨S_, .i32⟩
  | 10 => ⟨S_, .i32⟩
  | 11 => ⟨S_, .f32⟩
  | 12 => ⟨S16x4096x4, .f32⟩
  | 13 => ⟨S16x4096x4, .f32⟩
  | 14 => ⟨S_, .f32⟩
  | 15 => ⟨S16x4096x4, .f32⟩
  | 16 => ⟨S16x4096x4, .f32⟩
  | 17 => ⟨S16x4096x4, .i32⟩
  | 18 => ⟨S_, .i32⟩
  | 19 => ⟨S16x4096x4, .i32⟩
  | 20 => ⟨S16x4096x4, .i32⟩
  | 21 => ⟨S16x4096x4, .i32⟩
  | 22 => ⟨S16x16384, .i32⟩
  | 23 => ⟨S16x1x16384, .i32⟩
  | 24 => ⟨S16x32x16384, .i32⟩
  | 25 => ⟨S_, .i32⟩
  | 26 => ⟨S16x32x16384, .i32⟩
  | 27 => ⟨S16x32x16384, .i1⟩
  | 28 => ⟨S_, .i32⟩
  | 29 => ⟨S16x32x16384, .i32⟩
  | 30 => ⟨S16x32x16384, .i32⟩
  | 31 => ⟨S16x32x16384, .i32⟩
  | 32 => ⟨S16x32x16384x1, .i32⟩
  | 33 => ⟨S1, .i32⟩
  | 34 => ⟨S_, .i32⟩
  | 35 => ⟨S16x32x16384x1, .i32⟩
  | 36 => ⟨S16x32x16384x1, .i1⟩
  | 37 => ⟨S1x1x1x1, .i32⟩
  | 38 => ⟨S16x32x16384x1, .i32⟩
  | 39 => ⟨S16x32x16384x1, .i1⟩
  | 40 => ⟨S16x32x16384x1, .i1⟩
  | 41 => ⟨S_, .i1⟩
  | 42 => ⟨S16x32x16384, .i1⟩
  | 43 => ⟨S16x32x16384, .f32⟩
  | 44 => ⟨S_, .f32⟩
  | 45 => ⟨S16x32x16384, .f32⟩
  | 46 => ⟨S16x32x16384, .f32⟩
  | 47 => ⟨S16x32x4096x4, .f32⟩
  | 48 => ⟨S16x1x4096x4, .i1⟩
  | 49 => ⟨S16x1x4096x4, .f32⟩
  | 50 => ⟨S16x32x4096x4, .f32⟩
  | 51 => ⟨S16x32x4096x4, .f32⟩
  | 52 => ⟨S16x1x4096x4, .f32⟩
  | 53 => ⟨S16x32x4096x4, .f32⟩
  | 54 => ⟨S16x32x4096x4, .f32⟩
  | 55 => ⟨S_, .f32⟩
  | 56 => ⟨S16x4096x4, .f32⟩
  | 57 => ⟨S16x4096x4, .i1⟩
  | 58 => ⟨S_, .f32⟩
  | 59 => ⟨S16x4096x4, .f32⟩
  | 60 => ⟨S16x4096x4, .i1⟩
  | 61 => ⟨S16x4096x4, .i1⟩
  | 62 => ⟨S_, .f32⟩
  | 63 => ⟨S16x4096x4, .f32⟩
  | 64 => ⟨S16x4096x4, .i1⟩
  | 65 => ⟨S16x4096x4, .i1⟩
  | 66 => ⟨S_, .f32⟩
  | 67 => ⟨S16x4096x4, .f32⟩
  | 68 => ⟨S16x4096x4, .i1⟩
  | 69 => ⟨S16x4096x4, .i1⟩
  | 70 => ⟨S_, .i32⟩
  | 71 => ⟨S_, .i32⟩
  | 72 => ⟨S_, .f32⟩
  | 73 => ⟨S16x4096x4, .f32⟩
  | 74 => ⟨S16x4096x4, .f32⟩
  | 75 => ⟨S_, .f32⟩
  | 76 => ⟨S16x4096x4, .f32⟩
  | 77 => ⟨S16x4096x4, .f32⟩
  | 78 => ⟨S16x4096x4, .i32⟩
  | 79 => ⟨S_, .i32⟩
  | 80 => ⟨S_, .i32⟩
  | 81 => ⟨S_, .f32⟩
  | 82 => ⟨S16x4096x4, .f32⟩
  | 83 => ⟨S16x4096x4, .f32⟩
  | 84 => ⟨S_, .f32⟩
  | 85 => ⟨S16x4096x4, .f32⟩
  | 86 => ⟨S16x4096x4, .f32⟩
  | 87 => ⟨S16x4096x4, .i32⟩
  | 88 => ⟨S_, .i32⟩
  | 89 => ⟨S16x4096x4, .i32⟩
  | 90 => ⟨S16x4096x4, .i32⟩
  | 91 => ⟨S16x4096x4, .i32⟩
  | 92 => ⟨S16x16384, .i32⟩
  | 93 => ⟨S16x1x16384, .i32⟩
  | 94 => ⟨S16x32x16384, .i32⟩
  | 95 => ⟨S_, .i32⟩
  | 96 => ⟨S16x32x16384, .i32⟩
  | 97 => ⟨S16x32x16384, .i1⟩
  | 98 => ⟨S_, .i32⟩
  | 99 => ⟨S16x32x16384, .i32⟩
  | 100 => ⟨S16x32x16384, .i32⟩
  | 101 => ⟨S16x32x16384, .i32⟩
  | 102 => ⟨S16x32x16384x1, .i32⟩
  | 103 => ⟨S1, .i32⟩
  | 104 => ⟨S_, .i32⟩
  | 105 => ⟨S16x32x16384x1, .i32⟩
  | 106 => ⟨S16x32x16384x1, .i1⟩
  | 107 => ⟨S1x1x1x1, .i32⟩
  | 108 => ⟨S16x32x16384x1, .i32⟩
  | 109 => ⟨S16x32x16384x1, .i1⟩
  | 110 => ⟨S16x32x16384x1, .i1⟩
  | 111 => ⟨S_, .i1⟩
  | 112 => ⟨S16x32x16384, .i1⟩
  | 113 => ⟨S16x32x16384, .f32⟩
  | 114 => ⟨S_, .f32⟩
  | 115 => ⟨S16x32x16384, .f32⟩
  | 116 => ⟨S16x32x16384, .f32⟩
  | 117 => ⟨S16x32x4096x4, .f32⟩
  | 118 => ⟨S16x1x4096x4, .i1⟩
  | 119 => ⟨S16x1x4096x4, .f32⟩
  | 120 => ⟨S16x32x4096x4, .f32⟩
  | 121 => ⟨S16x32x4096x4, .f32⟩
  | 122 => ⟨S16x1x4096x4, .f32⟩
  | 123 => ⟨S16x32x4096x4, .f32⟩
  | 124 => ⟨S16x32x4096x4, .f32⟩
  | 125 => ⟨S16x32x4096x4, .f32⟩
  | 126 => ⟨S_, .f32⟩
  | 127 => ⟨S16x4096x4, .f32⟩
  | _ => ⟨S4x2x256x32x32, .f32⟩

abbrev hbmTy0_60 (i : Nat) : BufTy := match i % 128 with
  | 0 => ⟨S16x4096x4, .i1⟩
  | 1 => ⟨S_, .f32⟩
  | 2 => ⟨S16x4096x4, .f32⟩
  | 3 => ⟨S16x4096x4, .i1⟩
  | 4 => ⟨S16x4096x4, .i1⟩
  | 5 => ⟨S_, .f32⟩
  | 6 => ⟨S16x4096x4, .f32⟩
  | 7 => ⟨S16x4096x4, .i1⟩
  | 8 => ⟨S16x4096x4, .i1⟩
  | 9 => ⟨S_, .f32⟩
  | 10 => ⟨S16x4096x4, .f32⟩
  | 11 => ⟨S16x4096x4, .i1⟩
  | 12 => ⟨S16x4096x4, .i1⟩
  | 13 => ⟨S_, .i32⟩
  | 14 => ⟨S_, .i32⟩
  | 15 => ⟨S_, .f32⟩
  | 16 => ⟨S16x4096x4, .f32⟩
  | 17 => ⟨S16x4096x4, .f32⟩
  | 18 => ⟨S_, .f32⟩
  | 19 => ⟨S16x4096x4, .f32⟩
  | 20 => ⟨S16x4096x4, .f32⟩
  | 21 => ⟨S16x4096x4, .i32⟩
  | 22 => ⟨S_, .i32⟩
  | 23 => ⟨S_, .i32⟩
  | 24 => ⟨S_, .f32⟩
  | 25 => ⟨S16x4096x4, .f32⟩
  | 26 => ⟨S16x4096x4, .f32⟩
  | 27 => ⟨S_, .f32⟩
  | 28 => ⟨S16x4096x4, .f32⟩
  | 29 => ⟨S16x4096x4, .f32⟩
  | 30 => ⟨S16x4096x4, .i32⟩
  | 31 => ⟨S_, .i32⟩
  | 32 => ⟨S16x4096x4, .i32⟩
  | 33 => ⟨S16x4096x4, .i32⟩
  | 34 => ⟨S16x4096x4, .i32⟩
  | 35 => ⟨S16x16384, .i32⟩
  | 36 => ⟨S16x1x16384, .i32⟩
  | 37 => ⟨S16x32x16384, .i32⟩
  | 38 => ⟨S_, .i32⟩
  | 39 => ⟨S16x32x16384, .i32⟩
  | 40 => ⟨S16x32x16384, .i1⟩
  | 41 => ⟨S_, .i32⟩
  | 42 => ⟨S16x32x16384, .i32⟩
  | 43 => ⟨S16x32x16384, .i32⟩
  | 44 => ⟨S16x32x16384, .i32⟩
  | 45 => ⟨S16x32x16384x1, .i32⟩
  | 46 => ⟨S1, .i32⟩
  | 47 => ⟨S_, .i32⟩
  | 48 => ⟨S16x32x16384x1, .i32⟩
  | 49 => ⟨S16x32x16384x1, .i1⟩
  | 50 => ⟨S1x1x1x1, .i32⟩
  | 51 => ⟨S16x32x16384x1, .i32⟩
  | 52 => ⟨S16x32x16384x1, .i1⟩
  | 53 => ⟨S16x32x16384x1, .i1⟩
  | 54 => ⟨S_, .i1⟩
  | 55 => ⟨S16x32x16384, .i1⟩
  | 56 => ⟨S16x32x16384, .f32⟩
  | 57 => ⟨S_, .f32⟩
  | 58 => ⟨S16x32x16384, .f32⟩
  | 59 => ⟨S16x32x16384, .f32⟩
  | 60 => ⟨S16x32x4096x4, .f32⟩
  | 61 => ⟨S16x1x4096x4, .i1⟩
  | 62 => ⟨S16x1x4096x4, .f32⟩
  | 63 => ⟨S16x32x4096x4, .f32⟩
  | 64 => ⟨S16x32x4096x4, .f32⟩
  | 65 => ⟨S16x1x4096x4, .f32⟩
  | 66 => ⟨S16x32x4096x4, .f32⟩
  | 67 => ⟨S16x32x4096x4, .f32⟩
  | 68 => ⟨S16x32x4096x4, .f32⟩
  | 69 => ⟨S_, .f32⟩
  | 70 => ⟨S16x4096x4, .f32⟩
  | 71 => ⟨S16x4096x4, .i1⟩
  | 72 => ⟨S_, .f32⟩
  | 73 => ⟨S16x4096x4, .f32⟩
  | 74 => ⟨S16x4096x4, .i1⟩
  | 75 => ⟨S16x4096x4, .i1⟩
  | 76 => ⟨S_, .f32⟩
  | 77 => ⟨S16x4096x4, .f32⟩
  | 78 => ⟨S16x4096x4, .i1⟩
  | 79 => ⟨S16x4096x4, .i1⟩
  | 80 => ⟨S_, .f32⟩
  | 81 => ⟨S16x4096x4, .f32⟩
  | 82 => ⟨S16x4096x4, .i1⟩
  | 83 => ⟨S16x4096x4, .i1⟩
  | 84 => ⟨S_, .i32⟩
  | 85 => ⟨S_, .i32⟩
  | 86 => ⟨S_, .f32⟩
  | 87 => ⟨S16x4096x4, .f32⟩
  | 88 => ⟨S16x4096x4, .f32⟩
  | 89 => ⟨S_, .f32⟩
  | 90 => ⟨S16x4096x4, .f32⟩
  | 91 => ⟨S16x4096x4, .f32⟩
  | 92 => ⟨S16x4096x4, .i32⟩
  | 93 => ⟨S_, .i32⟩
  | 94 => ⟨S_, .i32⟩
  | 95 => ⟨S_, .f32⟩
  | 96 => ⟨S16x4096x4, .f32⟩
  | 97 => ⟨S16x4096x4, .f32⟩
  | 98 => ⟨S_, .f32⟩
  | 99 => ⟨S16x4096x4, .f32⟩
  | 100 => ⟨S16x4096x4, .f32⟩
  | 101 => ⟨S16x4096x4, .i32⟩
  | 102 => ⟨S_, .i32⟩
  | 103 => ⟨S16x4096x4, .i32⟩
  | 104 => ⟨S16x4096x4, .i32⟩
  | 105 => ⟨S16x4096x4, .i32⟩
  | 106 => ⟨S16x16384, .i32⟩
  | 107 => ⟨S16x1x16384, .i32⟩
  | 108 => ⟨S16x32x16384, .i32⟩
  | 109 => ⟨S_, .i32⟩
  | 110 => ⟨S16x32x16384, .i32⟩
  | 111 => ⟨S16x32x16384, .i1⟩
  | 112 => ⟨S_, .i32⟩
  | 113 => ⟨S16x32x16384, .i32⟩
  | 114 => ⟨S16x32x16384, .i32⟩
  | 115 => ⟨S16x32x16384, .i32⟩
  | 116 => ⟨S16x32x16384x1, .i32⟩
  | 117 => ⟨S1, .i32⟩
  | 118 => ⟨S_, .i32⟩
  | 119 => ⟨S16x32x16384x1, .i32⟩
  | 120 => ⟨S16x32x16384x1, .i1⟩
  | 121 => ⟨S1x1x1x1, .i32⟩
  | 122 => ⟨S16x32x16384x1, .i32⟩
  | 123 => ⟨S16x32x16384x1, .i1⟩
  | 124 => ⟨S16x32x16384x1, .i1⟩
  | 125 => ⟨S_, .i1⟩
  | 126 => ⟨S16x32x16384, .i1⟩
  | 127 => ⟨S16x32x16384, .f32⟩
  | _ => ⟨S4x2x256x32x32, .f32⟩

abbrev hbmTy0_61 (i : Nat) : BufTy := match i % 128 with
  | 0 => ⟨S_, .f32⟩
  | 1 => ⟨S16x32x16384, .f32⟩
  | 2 => ⟨S16x32x16384, .f32⟩
  | 3 => ⟨S16x32x4096x4, .f32⟩
  | 4 => ⟨S16x1x4096x4, .i1⟩
  | 5 => ⟨S16x1x4096x4, .f32⟩
  | 6 => ⟨S16x32x4096x4, .f32⟩
  | 7 => ⟨S16x32x4096x4, .f32⟩
  | 8 => ⟨S16x1x4096x4, .f32⟩
  | 9 => ⟨S16x32x4096x4, .f32⟩
  | 10 => ⟨S16x32x4096x4, .f32⟩
  | 11 => ⟨S16x32x4096x4, .f32⟩
  | 12 => ⟨S16x32x4096x1x4, .f32⟩
  | 13 => ⟨S16x32x4096x1x4, .f32⟩
  | 14 => ⟨S16x32x4096x1x4, .f32⟩
  | 15 => ⟨S16x32x4096x1x4, .f32⟩
  | 16 => ⟨S16x32x4096x4x4, .f32⟩
  | 17 => ⟨S16x32x4096x16, .f32⟩
  | 18 => ⟨S2x8x4096x4x4, .f32⟩
  | 19 => ⟨S16x1x4096x16, .f32⟩
  | 20 => ⟨S16x32x4096x16, .f32⟩
  | 21 => ⟨S16x32x4096x16, .f32⟩
  | 22 => ⟨S_, .f32⟩
  | 23 => ⟨S16x32x4096, .f32⟩
  | 24 => ⟨S2x256x4096, .f32⟩
  | 25 => ⟨S2x4096x256, .f32⟩
  | 26 => ⟨S1x256x256, .f32⟩
  | 27 => ⟨S256x256, .f32⟩
  | 28 => ⟨S2x4096x256, .f32⟩
  | 29 => ⟨S1x256, .f32⟩
  | 30 => ⟨S256, .f32⟩
  | 31 => ⟨S1x1x256, .f32⟩
  | 32 => ⟨S2x4096x256, .f32⟩
  | 33 => ⟨S2x4096x256, .f32⟩
  | 34 => ⟨S2x4096x256, .f32⟩
  | 35 => ⟨S1x256, .f32⟩
  | 36 => ⟨S256, .f32⟩
  | 37 => ⟨S1x256, .f32⟩
  | 38 => ⟨S256, .f32⟩
  | 39 => ⟨S_, .f32⟩
  | 40 => ⟨S2x4096, .f32⟩
  | 41 => ⟨S2x4096x1, .f32⟩
  | 42 => ⟨S_, .f32⟩
  | 43 => ⟨S2x4096x1, .f32⟩
  | 44 => ⟨S2x4096x1, .f32⟩
  | 45 => ⟨S2x4096x256, .f32⟩
  | 46 => ⟨S2x4096x256, .f32⟩
  | 47 => ⟨S2x4096x256, .f32⟩
  | 48 => ⟨S_, .f32⟩
  | 49 => ⟨S2x4096, .f32⟩
  | 50 => ⟨S2x4096x1, .f32⟩
  | 51 => ⟨S_, .f32⟩
  | 52 => ⟨S2x4096x1, .f32⟩
  | 53 => ⟨S2x4096x1, .f32⟩
  | 54 => ⟨S2x4096x256, .f32⟩
  | 55 => ⟨S2x4096x256, .f32⟩
  | 56 => ⟨S_, .f32⟩
  | 57 => ⟨S2x4096x1, .f32⟩
  | 58 => ⟨S2x4096x1, .f32⟩
  | 59 => ⟨S2x4096x1, .f32⟩
  | 60 => ⟨S2x4096x256, .f32⟩
  | 61 => ⟨S2x4096x256, .f32⟩
  | 62 => ⟨S1x1x256, .f32⟩
  | 63 => ⟨S2x4096x256, .f32⟩
  | 64 => ⟨S2x4096x256, .f32⟩
  | 65 => ⟨S1x1x256, .f32⟩
  | 66 => ⟨S2x4096x256, .f32⟩
  | 67 => ⟨S2x4096x256, .f32⟩
  | 68 => ⟨S1x256x1024, .f32⟩
  | 69 => ⟨S256x1024, .f32⟩
  | 70 => ⟨S2x4096x1024, .f32⟩
  | 71 => ⟨S1x1024, .f32⟩
  | 72 => ⟨S1024, .f32⟩
  | 73 => ⟨S1x1x1024, .f32⟩
  | 74 => ⟨S2x4096x1024, .f32⟩
  | 75 => ⟨S2x4096x1024, .f32⟩
  | 76 => ⟨S_, .f32⟩
  | 77 => ⟨S2x4096x1024, .f32⟩
  | 78 => ⟨S2x4096x1024, .f32⟩
  | 79 => ⟨S1x1024x256, .f32⟩
  | 80 => ⟨S1024x256, .f32⟩
  | 81 => ⟨S2x4096x256, .f32⟩
  | 82 => ⟨S1x256, .f32⟩
  | 83 => ⟨S256, .f32⟩
  | 84 => ⟨S1x1x256, .f32⟩
  | 85 => ⟨S2x4096x256, .f32⟩
  | 86 => ⟨S2x4096x256, .f32⟩
  | 87 => ⟨S2x4096x256, .f32⟩
  | 88 => ⟨S1x256, .f32⟩
  | 89 => ⟨S256, .f32⟩
  | 90 => ⟨S1x256, .f32⟩
  | 91 => ⟨S256, .f32⟩
  | 92 => ⟨S_, .f32⟩
  | 93 => ⟨S2x4096, .f32⟩
  | 94 => ⟨S2x4096x1, .f32⟩
  | 95 => ⟨S_, .f32⟩
  | 96 => ⟨S2x4096x1, .f32⟩
  | 97 => ⟨S2x4096x1, .f32⟩
  | 98 => ⟨S2x4096x256, .f32⟩
  | 99 => ⟨S2x4096x256, .f32⟩
  | 100 => ⟨S2x4096x256, .f32⟩
  | 101 => ⟨S_, .f32⟩
  | 102 => ⟨S2x4096, .f32⟩
  | 103 => ⟨S2x4096x1, .f32⟩
  | 104 => ⟨S_, .f32⟩
  | 105 => ⟨S2x4096x1, .f32⟩
  | 106 => ⟨S2x4096x1, .f32⟩
  | 107 => ⟨S2x4096x256, .f32⟩
  | 108 => ⟨S2x4096x256, .f32⟩
  | 109 => ⟨S_, .f32⟩
  | 110 => ⟨S2x4096x1, .f32⟩
  | 111 => ⟨S2x4096x1, .f32⟩
  | 112 => ⟨S2x4096x1, .f32⟩
  | 113 => ⟨S2x4096x256, .f32⟩
  | 114 => ⟨S2x4096x256, .f32⟩
  | 115 => ⟨S1x1x256, .f32⟩
  | 116 => ⟨S2x4096x256, .f32⟩
  | 117 => ⟨S2x4096x256, .f32⟩
  | 118 => ⟨S1x1x256, .f32⟩
  | 119 => ⟨S2x4096x256, .f32⟩
  | 120 => ⟨S2x4096x256, .f32⟩
  | 121 => ⟨S2x4096x256, .f32⟩
  | 122 => ⟨S1x256x256, .f32⟩
  | 123 => ⟨S256x256, .f32⟩
  | 124 => ⟨S2x4096x256, .f32⟩
  | 125 => ⟨S1x256, .f32⟩
  | 126 => ⟨S256, .f32⟩
  | 127 => ⟨S1x1x256, .f32⟩
  | _ => ⟨S4x2x256x32x32, .f32⟩

abbrev hbmTy0_62 (i : Nat) : BufTy := match i % 128 with
  | 0 => ⟨S2x4096x256, .f32⟩
  | 1 => ⟨S2x4096x256, .f32⟩
  | 2 => ⟨S2x4096x8x32, .f32⟩
  | 3 => ⟨S1x256x256, .f32⟩
  | 4 => ⟨S256x256, .f32⟩
  | 5 => ⟨S2x4096x256, .f32⟩
  | 6 => ⟨S1x256, .f32⟩
  | 7 => ⟨S256, .f32⟩
  | 8 => ⟨S1x1x256, .f32⟩
  | 9 => ⟨S2x4096x256, .f32⟩
  | 10 => ⟨S2x4096x256, .f32⟩
  | 11 => ⟨S2x4096x8x4x4x2, .f32⟩
  | 12 => ⟨S1x256x128, .f32⟩
  | 13 => ⟨S256x128, .f32⟩
  | 14 => ⟨S2x4096x128, .f32⟩
  | 15 => ⟨S1x128, .f32⟩
  | 16 => ⟨S128, .f32⟩
  | 17 => ⟨S1x1x128, .f32⟩
  | 18 => ⟨S2x4096x128, .f32⟩
  | 19 => ⟨S2x4096x128, .f32⟩
  | 20 => ⟨S2x4096x8x16, .f32⟩
  | 21 => ⟨S_, .f32⟩
  | 22 => ⟨S2x4096x8, .f32⟩
  | 23 => ⟨S_, .f32⟩
  | 24 => ⟨S2x4096x8, .f32⟩
  | 25 => ⟨S2x4096x8, .f32⟩
  | 26 => ⟨S2x4096x8x1, .f32⟩
  | 27 => ⟨S2x4096x8x16, .f32⟩
  | 28 => ⟨S2x4096x8x16, .f32⟩
  | 29 => ⟨S2x4096x8x16, .f32⟩
  | 30 => ⟨S_, .f32⟩
  | 31 => ⟨S2x4096x8, .f32⟩
  | 32 => ⟨S2x4096x8x1, .f32⟩
  | 33 => ⟨S2x4096x8x16, .f32⟩
  | 34 => ⟨S2x4096x8x16, .f32⟩
  | 35 => ⟨S2x4096x8x4x4, .f32⟩
  | 36 => ⟨S2x4096x1x4x1x2, .f32⟩
  | 37 => ⟨S1x1x1x4x1x2, .f32⟩
  | 38 => ⟨S2x4096x8x4x4x2, .f32⟩
  | 39 => ⟨S2x4096x8x4x4x2, .f32⟩
  | 40 => ⟨S2x4096x8x4x4x2, .f32⟩
  | 41 => ⟨S2x4096x8x4x4x2, .f32⟩
  | 42 => ⟨S_, .f32⟩
  | 43 => ⟨S2x4096x8x4x4x2, .f32⟩
  | 44 => ⟨S2x4096x8x4x4x2, .f32⟩
  | 45 => ⟨S_, .f32⟩
  | 46 => ⟨S2x4096x8x4x4x2, .f32⟩
  | 47 => ⟨S2x4096x8x4x4x2, .f32⟩
  | 48 => ⟨S2x1024x8x32, .f32⟩
  | 49 => ⟨S2x8x32x1024, .f32⟩
  | 50 => ⟨S16x32x32x32, .f32⟩
  | 51 => ⟨S2x4096x8x1x4x2, .f32⟩
  | 52 => ⟨S2x4096x8x4x2, .f32⟩
  | 53 => ⟨S2x8x4096x4x2, .f32⟩
  | 54 => ⟨S16x4096x4x2, .f32⟩
  | 55 => ⟨S16x4096x4x1, .f32⟩
  | 56 => ⟨S16x4096x4, .f32⟩
  | 57 => ⟨S_, .f32⟩
  | 58 => ⟨S16x4096x4, .f32⟩
  | 59 => ⟨S16x4096x4, .f32⟩
  | 60 => ⟨S_, .f32⟩
  | 61 => ⟨S16x4096x4, .f32⟩
  | 62 => ⟨S16x4096x4, .f32⟩
  | 63 => ⟨S_, .f32⟩
  | 64 => ⟨S16x4096x4, .f32⟩
  | 65 => ⟨S16x4096x4, .f32⟩
  | 66 => ⟨S_, .f32⟩
  | 67 => ⟨S16x4096x4, .f32⟩
  | 68 => ⟨S16x4096x4, .f32⟩
  | 69 => ⟨S16x4096x4x1, .f32⟩
  | 70 => ⟨S16x4096x4, .f32⟩
  | 71 => ⟨S_, .f32⟩
  | 72 => ⟨S16x4096x4, .f32⟩
  | 73 => ⟨S16x4096x4, .f32⟩
  | 74 => ⟨S_, .f32⟩
  | 75 => ⟨S16x4096x4, .f32⟩
  | 76 => ⟨S16x4096x4, .f32⟩
  | 77 => ⟨S_, .f32⟩
  | 78 => ⟨S16x4096x4, .f32⟩
  | 79 => ⟨S16x4096x4, .f32⟩
  | 80 => ⟨S_, .f32⟩
  | 81 => ⟨S16x4096x4, .f32⟩
  | 82 => ⟨S16x4096x4, .f32⟩
  | 83 => ⟨S16x4096x4, .f32⟩
  | 84 => ⟨S16x4096x4, .f32⟩
  | 85 => ⟨S_, .f32⟩
  | 86 => ⟨S16x4096x4, .f32⟩
  | 87 => ⟨S16x4096x4, .f32⟩
  | 88 => ⟨S_, .f32⟩
  | 89 => ⟨S16x4096x4, .f32⟩
  | 90 => ⟨S16x4096x4, .f32⟩
  | 91 => ⟨S16x4096x4, .f32⟩
  | 92 => ⟨S16x4096x4, .f32⟩
  | 93 => ⟨S16x4096x4, .f32⟩
  | 94 => ⟨S16x4096x4, .f32⟩
  | 95 => ⟨S16x4096x4, .f32⟩
  | 96 => ⟨S16x4096x4, .f32⟩
  | 97 => ⟨S16x4096x4, .f32⟩
  | 98 => ⟨S16x4096x4, .f32⟩
  | 99 => ⟨S16x4096x4, .f32⟩
  | 100 => ⟨S16x4096x4, .f32⟩
  | 101 => ⟨S16x4096x4, .f32⟩
  | 102 => ⟨S16x4096x4, .f32⟩
  | 103 => ⟨S16x32x1024, .f32⟩
  | 104 => ⟨S_, .f32⟩
  | 105 => ⟨S16x4096x4, .f32⟩
  | 106 => ⟨S16x4096x4, .i1⟩
  | 107 => ⟨S_, .f32⟩
  | 108 => ⟨S16x4096x4, .f32⟩
  | 109 => ⟨S16x4096x4, .i1⟩
  | 110 => ⟨S16x4096x4, .i1⟩
  | 111 => ⟨S_, .f32⟩
  | 112 => ⟨S16x4096x4, .f32⟩
  | 113 => ⟨S16x4096x4, .i1⟩
  | 114 => ⟨S16x4096x4, .i1⟩
  | 115 => ⟨S_, .f32⟩
  | 116 => ⟨S16x4096x4, .f32⟩
  | 117 => ⟨S16x4096x4, .i1⟩
  | 118 => ⟨S16x4096x4, .i1⟩
  | 119 => ⟨S_, .i32⟩
  | 120 => ⟨S_, .i32⟩
  | 121 => ⟨S_, .f32⟩
  | 122 => ⟨S16x4096x4, .f32⟩
  | 123 => ⟨S16x4096x4, .f32⟩
  | 124 => ⟨S_, .f32⟩
  | 125 => ⟨S16x4096x4, .f32⟩
  | 126 => ⟨S16x4096x4, .f32⟩
  | 127 => ⟨S16x4096x4, .i32⟩
  | _ => ⟨S4x2x256x32x32, .f32⟩

abbrev hbmTy0_63 (i : Nat) : BufTy := match i % 128 with
  | 0 => ⟨S_, .i32⟩
  | 1 => ⟨S_, .i32⟩
  | 2 => ⟨S_, .f32⟩
  | 3 => ⟨S16x4096x4, .f32⟩
  | 4 => ⟨S16x4096x4, .f32⟩
  | 5 => ⟨S_, .f32⟩
  | 6 => ⟨S16x4096x4, .f32⟩
  | 7 => ⟨S16x4096x4, .f32⟩
  | 8 => ⟨S16x4096x4, .i32⟩
  | 9 => ⟨S_, .i32⟩
  | 10 => ⟨S16x4096x4, .i32⟩
  | 11 => ⟨S16x4096x4, .i32⟩
  | 12 => ⟨S16x4096x4, .i32⟩
  | 13 => ⟨S16x16384, .i32⟩
  | 14 => ⟨S16x1x16384, .i32⟩
  | 15 => ⟨S16x32x16384, .i32⟩
  | 16 => ⟨S_, .i32⟩
  | 17 => ⟨S16x32x16384, .i32⟩
  | 18 => ⟨S16x32x16384, .i1⟩
  | 19 => ⟨S_, .i32⟩
  | 20 => ⟨S16x32x16384, .i32⟩
  | 21 => ⟨S16x32x16384, .i32⟩
  | 22 => ⟨S16x32x16384, .i32⟩
  | 23 => ⟨S16x32x16384x1, .i32⟩
  | 24 => ⟨S1, .i32⟩
  | 25 => ⟨S_, .i32⟩
  | 26 => ⟨S16x32x16384x1, .i32⟩
  | 27 => ⟨S16x32x16384x1, .i1⟩
  | 28 => ⟨S1x1x1x1, .i32⟩
  | 29 => ⟨S16x32x16384x1, .i32⟩
  | 30 => ⟨S16x32x16384x1, .i1⟩
  | 31 => ⟨S16x32x16384x1, .i1⟩
  | 32 => ⟨S_, .i1⟩
  | 33 => ⟨S16x32x16384, .i1⟩
  | 34 => ⟨S16x32x16384, .f32⟩
  | 35 => ⟨S_, .f32⟩
  | 36 => ⟨S16x32x16384, .f32⟩
  | 37 => ⟨S16x32x16384, .f32⟩
  | 38 => ⟨S16x32x4096x4, .f32⟩
  | 39 => ⟨S16x1x4096x4, .i1⟩
  | 40 => ⟨S16x1x4096x4, .f32⟩
  | 41 => ⟨S16x32x4096x4, .f32⟩
  | 42 => ⟨S16x32x4096x4, .f32⟩
  | 43 => ⟨S16x1x4096x4, .f32⟩
  | 44 => ⟨S16x32x4096x4, .f32⟩
  | 45 => ⟨S16x32x4096x4, .f32⟩
  | 46 => ⟨S_, .f32⟩
  | 47 => ⟨S16x4096x4, .f32⟩
  | 48 => ⟨S16x4096x4, .i1⟩
  | 49 => ⟨S_, .f32⟩
  | 50 => ⟨S16x4096x4, .f32⟩
  | 51 => ⟨S16x4096x4, .i1⟩
  | 52 => ⟨S16x4096x4, .i1⟩
  | 53 => ⟨S_, .f32⟩
  | 54 => ⟨S16x4096x4, .f32⟩
  | 55 => ⟨S16x4096x4, .i1⟩
  | 56 => ⟨S16x4096x4, .i1⟩
  | 57 => ⟨S_, .f32⟩
  | 58 => ⟨S16x4096x4, .f32⟩
  | 59 => ⟨S16x4096x4, .i1⟩
  | 60 => ⟨S16x4096x4, .i1⟩
  | 61 => ⟨S_, .i32⟩
  | 62 => ⟨S_, .i32⟩
  | 63 => ⟨S_, .f32⟩
  | 64 => ⟨S16x4096x4, .f32⟩
  | 65 => ⟨S16x4096x4, .f32⟩
  | 66 => ⟨S_, .f32⟩
  | 67 => ⟨S16x4096x4, .f32⟩
  | 68 => ⟨S16x4096x4, .f32⟩
  | 69 => ⟨S16x4096x4, .i32⟩
  | 70 => ⟨S_, .i32⟩
  | 71 => ⟨S_, .i32⟩
  | 72 => ⟨S_, .f32⟩
  | 73 => ⟨S16x4096x4, .f32⟩
  | 74 => ⟨S16x4096x4, .f32⟩
  | 75 => ⟨S_, .f32⟩
  | 76 => ⟨S16x4096x4, .f32⟩
  | 77 => ⟨S16x4096x4, .f32⟩
  | 78 => ⟨S16x4096x4, .i32⟩
  | 79 => ⟨S_, .i32⟩
  | 80 => ⟨S16x4096x4, .i32⟩
  | 81 => ⟨S16x4096x4, .i32⟩
  | 82 => ⟨S16x4096x4, .i32⟩
  | 83 => ⟨S16x16384, .i32⟩
  | 84 => ⟨S16x1x16384, .i32⟩
  | 85 => ⟨S16x32x16384, .i32⟩
  | 86 => ⟨S_, .i32⟩
  | 87 => ⟨S16x32x16384, .i32⟩
  | 88 => ⟨S16x32x16384, .i1⟩
  | 89 => ⟨S_, .i32⟩
  | 90 => ⟨S16x32x16384, .i32⟩
  | 91 => ⟨S16x32x16384, .i32⟩
  | 92 => ⟨S16x32x16384, .i32⟩
  | 93 => ⟨S16x32x16384x1, .i32⟩
  | 94 => ⟨S1, .i32⟩
  | 95 => ⟨S_, .i32⟩
  | 96 => ⟨S16x32x16384x1, .i32⟩
  | 97 => ⟨S16x32x16384x1, .i1⟩
  | 98 => ⟨S1x1x1x1, .i32⟩
  | 99 => ⟨S16x32x16384x1, .i32⟩
  | 100 => ⟨S16x32x16384x1, .i1⟩
  | 101 => ⟨S16x32x16384x1, .i1⟩
  | 102 => ⟨S_, .i1⟩
  | 103 => ⟨S16x32x16384, .i1⟩
  | 104 => ⟨S16x32x16384, .f32⟩
  | 105 => ⟨S_, .f32⟩
  | 106 => ⟨S16x32x16384, .f32⟩
  | 107 => ⟨S16x32x16384, .f32⟩
  | 108 => ⟨S16x32x4096x4, .f32⟩
  | 109 => ⟨S16x1x4096x4, .i1⟩
  | 110 => ⟨S16x1x4096x4, .f32⟩
  | 111 => ⟨S16x32x4096x4, .f32⟩
  | 112 => ⟨S16x32x4096x4, .f32⟩
  | 113 => ⟨S16x1x4096x4, .f32⟩
  | 114 => ⟨S16x32x4096x4, .f32⟩
  | 115 => ⟨S16x32x4096x4, .f32⟩
  | 116 => ⟨S16x32x4096x4, .f32⟩
  | 117 => ⟨S_, .f32⟩
  | 118 => ⟨S16x4096x4, .f32⟩
  | 119 => ⟨S16x4096x4, .i1⟩
  | 120 => ⟨S_, .f32⟩
  | 121 => ⟨S16x4096x4, .f32⟩
  | 122 => ⟨S16x4096x4, .i1⟩
  | 123 => ⟨S16x4096x4, .i1⟩
  | 124 => ⟨S_, .f32⟩
  | 125 => ⟨S16x4096x4, .f32⟩
  | 126 => ⟨S16x4096x4, .i1⟩
  | 127 => ⟨S16x4096x4, .i1⟩
  | _ => ⟨S4x2x256x32x32, .f32⟩

abbrev hbmTy0_64 (i : Nat) : BufTy := match i % 128 with
  | 0 => ⟨S_, .f32⟩
  | 1 => ⟨S16x4096x4, .f32⟩
  | 2 => ⟨S16x4096x4, .i1⟩
  | 3 => ⟨S16x4096x4, .i1⟩
  | 4 => ⟨S_, .i32⟩
  | 5 => ⟨S_, .i32⟩
  | 6 => ⟨S_, .f32⟩
  | 7 => ⟨S16x4096x4, .f32⟩
  | 8 => ⟨S16x4096x4, .f32⟩
  | 9 => ⟨S_, .f32⟩
  | 10 => ⟨S16x4096x4, .f32⟩
  | 11 => ⟨S16x4096x4, .f32⟩
  | 12 => ⟨S16x4096x4, .i32⟩
  | 13 => ⟨S_, .i32⟩
  | 14 => ⟨S_, .i32⟩
  | 15 => ⟨S_, .f32⟩
  | 16 => ⟨S16x4096x4, .f32⟩
  | 17 => ⟨S16x4096x4, .f32⟩
  | 18 => ⟨S_, .f32⟩
  | 19 => ⟨S16x4096x4, .f32⟩
  | 20 => ⟨S16x4096x4, .f32⟩
  | 21 => ⟨S16x4096x4, .i32⟩
  | 22 => ⟨S_, .i32⟩
  | 23 => ⟨S16x4096x4, .i32⟩
  | 24 => ⟨S16x4096x4, .i32⟩
  | 25 => ⟨S16x4096x4, .i32⟩
  | 26 => ⟨S16x16384, .i32⟩
  | 27 => ⟨S16x1x16384, .i32⟩
  | 28 => ⟨S16x32x16384, .i32⟩
  | 29 => ⟨S_, .i32⟩
  | 30 => ⟨S16x32x16384, .i32⟩
  | 31 => ⟨S16x32x16384, .i1⟩
  | 32 => ⟨S_, .i32⟩
  | 33 => ⟨S16x32x16384, .i32⟩
  | 34 => ⟨S16x32x16384, .i32⟩
  | 35 => ⟨S16x32x16384, .i32⟩
  | 36 => ⟨S16x32x16384x1, .i32⟩
  | 37 => ⟨S1, .i32⟩
  | 38 => ⟨S_, .i32⟩
  | 39 => ⟨S16x32x16384x1, .i32⟩
  | 40 => ⟨S16x32x16384x1, .i1⟩
  | 41 => ⟨S1x1x1x1, .i32⟩
  | 42 => ⟨S16x32x16384x1, .i32⟩
  | 43 => ⟨S16x32x16384x1, .i1⟩
  | 44 => ⟨S16x32x16384x1, .i1⟩
  | 45 => ⟨S_, .i1⟩
  | 46 => ⟨S16x32x16384, .i1⟩
  | 47 => ⟨S16x32x16384, .f32⟩
  | 48 => ⟨S_, .f32⟩
  | 49 => ⟨S16x32x16384, .f32⟩
  | 50 => ⟨S16x32x16384, .f32⟩
  | 51 => ⟨S16x32x4096x4, .f32⟩
  | 52 => ⟨S16x1x4096x4, .i1⟩
  | 53 => ⟨S16x1x4096x4, .f32⟩
  | 54 => ⟨S16x32x4096x4, .f32⟩
  | 55 => ⟨S16x32x4096x4, .f32⟩
  | 56 => ⟨S16x1x4096x4, .f32⟩
  | 57 => ⟨S16x32x4096x4, .f32⟩
  | 58 => ⟨S16x32x4096x4, .f32⟩
  | 59 => ⟨S16x32x4096x4, .f32⟩
  | 60 => ⟨S_, .f32⟩
  | 61 => ⟨S16x4096x4, .f32⟩
  | 62 => ⟨S16x4096x4, .i1⟩
  | 63 => ⟨S_, .f32⟩
  | 64 => ⟨S16x4096x4, .f32⟩
  | 65 => ⟨S16x4096x4, .i1⟩
  | 66 => ⟨S16x4096x4, .i1⟩
  | 67 => ⟨S_, .f32⟩
  | 68 => ⟨S16x4096x4, .f32⟩
  | 69 => ⟨S16x4096x4, .i1⟩
  | 70 => ⟨S16x4096x4, .i1⟩
  | 71 => ⟨S_, .f32⟩
  | 72 => ⟨S16x4096x4, .f32⟩
  | 73 => ⟨S16x4096x4, .i1⟩
  | 74 => ⟨S16x4096x4, .i1⟩
  | 75 => ⟨S_, .i32⟩
  | 76 => ⟨S_, .i32⟩
  | 77 => ⟨S_, .f32⟩
  | 78 => ⟨S16x4096x4, .f32⟩
  | 79 => ⟨S16x4096x4, .f32⟩
  | 80 => ⟨S_, .f32⟩
  | 81 => ⟨S16x4096x4, .f32⟩
  | 82 => ⟨S16x4096x4, .f32⟩
  | 83 => ⟨S16x4096x4, .i32⟩
  | 84 => ⟨S_, .i32⟩
  | 85 => ⟨S_, .i32⟩
  | 86 => ⟨S_, .f32⟩
  | 87 => ⟨S16x4096x4, .f32⟩
  | 88 => ⟨S16x4096x4, .f32⟩
  | 89 => ⟨S_, .f32⟩
  | 90 => ⟨S16x4096x4, .f32⟩
  | 91 => ⟨S16x4096x4, .f32⟩
  | 92 => ⟨S16x4096x4, .i32⟩
  | 93 => ⟨S_, .i32⟩
  | 94 => ⟨S16x4096x4, .i32⟩
  | 95 => ⟨S16x4096x4, .i32⟩
  | 96 => ⟨S16x4096x4, .i32⟩
  | 97 => ⟨S16x16384, .i32⟩
  | 98 => ⟨S16x1x16384, .i32⟩
  | 99 => ⟨S16x32x16384, .i32⟩
  | 100 => ⟨S_, .i32⟩
  | 101 => ⟨S16x32x16384, .i32⟩
  | 102 => ⟨S16x32x16384, .i1⟩
  | 103 => ⟨S_, .i32⟩
  | 104 => ⟨S16x32x16384, .i32⟩
  | 105 => ⟨S16x32x16384, .i32⟩
  | 106 => ⟨S16x32x16384, .i32⟩
  | 107 => ⟨S16x32x16384x1, .i32⟩
  | 108 => ⟨S1, .i32⟩
  | 109 => ⟨S_, .i32⟩
  | 110 => ⟨S16x32x16384x1, .i32⟩
  | 111 => ⟨S16x32x16384x1, .i1⟩
  | 112 => ⟨S1x1x1x1, .i32⟩
  | 113 => ⟨S16x32x16384x1, .i32⟩
  | 114 => ⟨S16x32x16384x1, .i1⟩
  | 115 => ⟨S16x32x16384x1, .i1⟩
  | 116 => ⟨S_, .i1⟩
  | 117 => ⟨S16x32x16384, .i1⟩
  | 118 => ⟨S16x32x16384, .f32⟩
  | 119 => ⟨S_, .f32⟩
  | 120 => ⟨S16x32x16384, .f32⟩
  | 121 => ⟨S16x32x16384, .f32⟩
  | 122 => ⟨S16x32x4096x4, .f32⟩
  | 123 => ⟨S16x1x4096x4, .i1⟩
  | 124 => ⟨S16x1x4096x4, .f32⟩
  | 125 => ⟨S16x32x4096x4, .f32⟩
  | 126 => ⟨S16x32x4096x4, .f32⟩
  | 127 => ⟨S16x1x4096x4, .f32⟩
  | _ => ⟨S4x2x256x32x32, .f32⟩

abbrev hbmTy0_65 (i : Nat) : BufTy := match i % 128 with
  | 0 => ⟨S16x32x4096x4, .f32⟩
  | 1 => ⟨S16x32x4096x4, .f32⟩
  | 2 => ⟨S16x32x4096x4, .f32⟩
  | 3 => ⟨S2x1024x8x32, .f32⟩
  | 4 => ⟨S2x8x32x1024, .f32⟩
  | 5 => ⟨S16x32x32x32, .f32⟩
  | 6 => ⟨S2x4096x8x1x4x2, .f32⟩
  | 7 => ⟨S2x4096x8x4x2, .f32⟩
  | 8 => ⟨S2x8x4096x4x2, .f32⟩
  | 9 => ⟨S16x4096x4x2, .f32⟩
  | 10 => ⟨S16x4096x4x1, .f32⟩
  | 11 => ⟨S16x4096x4, .f32⟩
  | 12 => ⟨S_, .f32⟩
  | 13 => ⟨S16x4096x4, .f32⟩
  | 14 => ⟨S16x4096x4, .f32⟩
  | 15 => ⟨S_, .f32⟩
  | 16 => ⟨S16x4096x4, .f32⟩
  | 17 => ⟨S16x4096x4, .f32⟩
  | 18 => ⟨S_, .f32⟩
  | 19 => ⟨S16x4096x4, .f32⟩
  | 20 => ⟨S16x4096x4, .f32⟩
  | 21 => ⟨S_, .f32⟩
  | 22 => ⟨S16x4096x4, .f32⟩
  | 23 => ⟨S16x4096x4, .f32⟩
  | 24 => ⟨S16x4096x4x1, .f32⟩
  | 25 => ⟨S16x4096x4, .f32⟩
  | 26 => ⟨S_, .f32⟩
  | 27 => ⟨S16x4096x4, .f32⟩
  | 28 => ⟨S16x4096x4, .f32⟩
  | 29 => ⟨S_, .f32⟩
  | 30 => ⟨S16x4096x4, .f32⟩
  | 31 => ⟨S16x4096x4, .f32⟩
  | 32 => ⟨S_, .f32⟩
  | 33 => ⟨S16x4096x4, .f32⟩
  | 34 => ⟨S16x4096x4, .f32⟩
  | 35 => ⟨S_, .f32⟩
  | 36 => ⟨S16x4096x4, .f32⟩
  | 37 => ⟨S16x4096x4, .f32⟩
  | 38 => ⟨S16x4096x4, .f32⟩
  | 39 => ⟨S16x4096x4, .f32⟩
  | 40 => ⟨S_, .f32⟩
  | 41 => ⟨S16x4096x4, .f32⟩
  | 42 => ⟨S16x4096x4, .f32⟩
  | 43 => ⟨S_, .f32⟩
  | 44 => ⟨S16x4096x4, .f32⟩
  | 45 => ⟨S16x4096x4, .f32⟩
  | 46 => ⟨S16x4096x4, .f32⟩
  | 47 => ⟨S16x4096x4, .f32⟩
  | 48 => ⟨S16x4096x4, .f32⟩
  | 49 => ⟨S16x4096x4, .f32⟩
  | 50 => ⟨S16x4096x4, .f32⟩
  | 51 => ⟨S16x4096x4, .f32⟩
  | 52 => ⟨S16x4096x4, .f32⟩
  | 53 => ⟨S16x4096x4, .f32⟩
  | 54 => ⟨S16x4096x4, .f32⟩
  | 55 => ⟨S16x4096x4, .f32⟩
  | 56 => ⟨S16x4096x4, .f32⟩
  | 57 => ⟨S16x4096x4, .f32⟩
  | 58 => ⟨S16x32x1024, .f32⟩
  | 59 => ⟨S_, .f32⟩
  | 60 => ⟨S16x4096x4, .f32⟩
  | 61 => ⟨S16x4096x4, .i1⟩
  | 62 => ⟨S_, .f32⟩
  | 63 => ⟨S16x4096x4, .f32⟩
  | 64 => ⟨S16x4096x4, .i1⟩
  | 65 => ⟨S16x4096x4, .i1⟩
  | 66 => ⟨S_, .f32⟩
  | 67 => ⟨S16x4096x4, .f32⟩
  | 68 => ⟨S16x4096x4, .i1⟩
  | 69 => ⟨S16x4096x4, .i1⟩
  | 70 => ⟨S_, .f32⟩
  | 71 => ⟨S16x4096x4, .f32⟩
  | 72 => ⟨S16x4096x4, .i1⟩
  | 73 => ⟨S16x4096x4, .i1⟩
  | 74 => ⟨S_, .i32⟩
  | 75 => ⟨S_, .i32⟩
  | 76 => ⟨S_, .f32⟩
  | 77 => ⟨S16x4096x4, .f32⟩
  | 78 => ⟨S16x4096x4, .f32⟩
  | 79 => ⟨S_, .f32⟩
  | 80 => ⟨S16x4096x4, .f32⟩
  | 81 => ⟨S16x4096x4, .f32⟩
  | 82 => ⟨S16x4096x4, .i32⟩
  | 83 => ⟨S_, .i32⟩
  | 84 => ⟨S_, .i32⟩
  | 85 => ⟨S_, .f32⟩
  | 86 => ⟨S16x4096x4, .f32⟩
  | 87 => ⟨S16x4096x4, .f32⟩
  | 88 => ⟨S_, .f32⟩
  | 89 => ⟨S16x4096x4, .f32⟩
  | 90 => ⟨S16x4096x4, .f32⟩
  | 91 => ⟨S16x4096x4, .i32⟩
  | 92 => ⟨S_, .i32⟩
  | 93 => ⟨S16x4096x4, .i32⟩
  | 94 => ⟨S16x4096x4, .i32⟩
  | 95 => ⟨S16x4096x4, .i32⟩
  | 96 => ⟨S16x16384, .i32⟩
  | 97 => ⟨S16x1x16384, .i32⟩
  | 98 => ⟨S16x32x16384, .i32⟩
  | 99 => ⟨S_, .i32⟩
  | 100 => ⟨S16x32x16384, .i32⟩
  | 101 => ⟨S16x32x16384, .i1⟩
  | 102 => ⟨S_, .i32⟩
  | 103 => ⟨S16x32x16384, .i32⟩
  | 104 => ⟨S16x32x16384, .i32⟩
  | 105 => ⟨S16x32x16384, .i32⟩
  | 106 => ⟨S16x32x16384x1, .i32⟩
  | 107 => ⟨S1, .i32⟩
  | 108 => ⟨S_, .i32⟩
  | 109 => ⟨S16x32x16384x1, .i32⟩
  | 110 => ⟨S16x32x16384x1, .i1⟩
  | 111 => ⟨S1x1x1x1, .i32⟩
  | 112 => ⟨S16x32x16384x1, .i32⟩
  | 113 => ⟨S16x32x16384x1, .i1⟩
  | 114 => ⟨S16x32x16384x1, .i1⟩
  | 115 => ⟨S_, .i1⟩
  | 116 => ⟨S16x32x16384, .i1⟩
  | 117 => ⟨S16x32x16384, .f32⟩
  | 118 => ⟨S_, .f32⟩
  | 119 => ⟨S16x32x16384, .f32⟩
  | 120 => ⟨S16x32x16384, .f32⟩
  | 121 => ⟨S16x32x4096x4, .f32⟩
  | 122 => ⟨S16x1x4096x4, .i1⟩
  | 123 => ⟨S16x1x4096x4, .f32⟩
  | 124 => ⟨S16x32x4096x4, .f32⟩
  | 125 => ⟨S16x32x4096x4, .f32⟩
  | 126 => ⟨S16x1x4096x4, .f32⟩
  | 127 => ⟨S16x32x4096x4, .f32⟩
  | _ => ⟨S4x2x256x32x32, .f32⟩

abbrev hbmTy0_66 (i : Nat) : BufTy := match i % 128 with
  | 0 => ⟨S16x32x4096x4, .f32⟩
  | 1 => ⟨S_, .f32⟩
  | 2 => ⟨S16x4096x4, .f32⟩
  | 3 => ⟨S16x4096x4, .i1⟩
  | 4 => ⟨S_, .f32⟩
  | 5 => ⟨S16x4096x4, .f32⟩
  | 6 => ⟨S16x4096x4, .i1⟩
  | 7 => ⟨S16x4096x4, .i1⟩
  | 8 => ⟨S_, .f32⟩
  | 9 => ⟨S16x4096x4, .f32⟩
  | 10 => ⟨S16x4096x4, .i1⟩
  | 11 => ⟨S16x4096x4, .i1⟩
  | 12 => ⟨S_, .f32⟩
  | 13 => ⟨S16x4096x4, .f32⟩
  | 14 => ⟨S16x4096x4, .i1⟩
  | 15 => ⟨S16x4096x4, .i1⟩
  | 16 => ⟨S_, .i32⟩
  | 17 => ⟨S_, .i32⟩
  | 18 => ⟨S_, .f32⟩
  | 19 => ⟨S16x4096x4, .f32⟩
  | 20 => ⟨S16x4096x4, .f32⟩
  | 21 => ⟨S_, .f32⟩
  | 22 => ⟨S16x4096x4, .f32⟩
  | 23 => ⟨S16x4096x4, .f32⟩
  | 24 => ⟨S16x4096x4, .i32⟩
  | 25 => ⟨S_, .i32⟩
  | 26 => ⟨S_, .i32⟩
  | 27 => ⟨S_, .f32⟩
  | 28 => ⟨S16x4096x4, .f32⟩
  | 29 => ⟨S16x4096x4, .f32⟩
  | 30 => ⟨S_, .f32⟩
  | 31 => ⟨S16x4096x4, .f32⟩
  | 32 => ⟨S16x4096x4, .f32⟩
  | 33 => ⟨S16x4096x4, .i32⟩
  | 34 => ⟨S_, .i32⟩
  | 35 => ⟨S16x4096x4, .i32⟩
  | 36 => ⟨S16x4096x4, .i32⟩
  | 37 => ⟨S16x4096x4, .i32⟩
  | 38 => ⟨S16x16384, .i32⟩
  | 39 => ⟨S16x1x16384, .i32⟩
  | 40 => ⟨S16x32x16384, .i32⟩
  | 41 => ⟨S_, .i32⟩
  | 42 => ⟨S16x32x16384, .i32⟩
  | 43 => ⟨S16x32x16384, .i1⟩
  | 44 => ⟨S_, .i32⟩
  | 45 => ⟨S16x32x16384, .i32⟩
  | 46 => ⟨S16x32x16384, .i32⟩
  | 47 => ⟨S16x32x16384, .i32⟩
  | 48 => ⟨S16x32x16384x1, .i32⟩
  | 49 => ⟨S1, .i32⟩
  | 50 => ⟨S_, .i32⟩
  | 51 => ⟨S16x32x16384x1, .i32⟩
  | 52 => ⟨S16x32x16384x1, .i1⟩
  | 53 => ⟨S1x1x1x1, .i32⟩
  | 54 => ⟨S16x32x16384x1, .i32⟩
  | 55 => ⟨S16x32x16384x1, .i1⟩
  | 56 => ⟨S16x32x16384x1, .i1⟩
  | 57 => ⟨S_, .i1⟩
  | 58 => ⟨S16x32x16384, .i1⟩
  | 59 => ⟨S16x32x16384, .f32⟩
  | 60 => ⟨S_, .f32⟩
  | 61 => ⟨S16x32x16384, .f32⟩
  | 62 => ⟨S16x32x16384, .f32⟩
  | 63 => ⟨S16x32x4096x4, .f32⟩
  | 64 => ⟨S16x1x4096x4, .i1⟩
  | 65 => ⟨S16x1x4096x4, .f32⟩
  | 66 => ⟨S16x32x4096x4, .f32⟩
  | 67 => ⟨S16x32x4096x4, .f32⟩
  | 68 => ⟨S16x1x4096x4, .f32⟩
  | 69 => ⟨S16x32x4096x4, .f32⟩
  | 70 => ⟨S16x32x4096x4, .f32⟩
  | 71 => ⟨S16x32x4096x4, .f32⟩
  | 72 => ⟨S_, .f32⟩
  | 73 => ⟨S16x4096x4, .f32⟩
  | 74 => ⟨S16x4096x4, .i1⟩
  | 75 => ⟨S_, .f32⟩
  | 76 => ⟨S16x4096x4, .f32⟩
  | 77 => ⟨S16x4096x4, .i1⟩
  | 78 => ⟨S16x4096x4, .i1⟩
  | 79 => ⟨S_, .f32⟩
  | 80 => ⟨S16x4096x4, .f32⟩
  | 81 => ⟨S16x4096x4, .i1⟩
  | 82 => ⟨S16x4096x4, .i1⟩
  | 83 => ⟨S_, .f32⟩
  | 84 => ⟨S16x4096x4, .f32⟩
  | 85 => ⟨S16x4096x4, .i1⟩
  | 86 => ⟨S16x4096x4, .i1⟩
  | 87 => ⟨S_, .i32⟩
  | 88 => ⟨S_, .i32⟩
  | 89 => ⟨S_, .f32⟩
  | 90 => ⟨S16x4096x4, .f32⟩
  | 91 => ⟨S16x4096x4, .f32⟩
  | 92 => ⟨S_, .f32⟩
  | 93 => ⟨S16x4096x4, .f32⟩
  | 94 => ⟨S16x4096x4, .f32⟩
  | 95 => ⟨S16x4096x4, .i32⟩
  | 96 => ⟨S_, .i32⟩
  | 97 => ⟨S_, .i32⟩
  | 98 => ⟨S_, .f32⟩
  | 99 => ⟨S16x4096x4, .f32⟩
  | 100 => ⟨S16x4096x4, .f32⟩
  | 101 => ⟨S_, .f32⟩
  | 102 => ⟨S16x4096x4, .f32⟩
  | 103 => ⟨S16x4096x4, .f32⟩
  | 104 => ⟨S16x4096x4, .i32⟩
  | 105 => ⟨S_, .i32⟩
  | 106 => ⟨S16x4096x4, .i32⟩
  | 107 => ⟨S16x4096x4, .i32⟩
  | 108 => ⟨S16x4096x4, .i32⟩
  | 109 => ⟨S16x16384, .i32⟩
  | 110 => ⟨S16x1x16384, .i32⟩
  | 111 => ⟨S16x32x16384, .i32⟩
  | 112 => ⟨S_, .i32⟩
  | 113 => ⟨S16x32x16384, .i32⟩
  | 114 => ⟨S16x32x16384, .i1⟩
  | 115 => ⟨S_, .i32⟩
  | 116 => ⟨S16x32x16384, .i32⟩
  | 117 => ⟨S16x32x16384, .i32⟩
  | 118 => ⟨S16x32x16384, .i32⟩
  | 119 => ⟨S16x32x16384x1, .i32⟩
  | 120 => ⟨S1, .i32⟩
  | 121 => ⟨S_, .i32⟩
  | 122 => ⟨S16x32x16384x1, .i32⟩
  | 123 => ⟨S16x32x16384x1, .i1⟩
  | 124 => ⟨S1x1x1x1, .i32⟩
  | 125 => ⟨S16x32x16384x1, .i32⟩
  | 126 => ⟨S16x32x16384x1, .i1⟩
  | 127 => ⟨S16x32x16384x1, .i1⟩
  | _ => ⟨S4x2x256x32x32, .f32⟩

abbrev hbmTy0_67 (i : Nat) : BufTy := match i % 128 with
  | 0 => ⟨S_, .i1⟩
  | 1 => ⟨S16x32x16384, .i1⟩
  | 2 => ⟨S16x32x16384, .f32⟩
  | 3 => ⟨S_, .f32⟩
  | 4 => ⟨S16x32x16384, .f32⟩
  | 5 => ⟨S16x32x16384, .f32⟩
  | 6 => ⟨S16x32x4096x4, .f32⟩
  | 7 => ⟨S16x1x4096x4, .i1⟩
  | 8 => ⟨S16x1x4096x4, .f32⟩
  | 9 => ⟨S16x32x4096x4, .f32⟩
  | 10 => ⟨S16x32x4096x4, .f32⟩
  | 11 => ⟨S16x1x4096x4, .f32⟩
  | 12 => ⟨S16x32x4096x4, .f32⟩
  | 13 => ⟨S16x32x4096x4, .f32⟩
  | 14 => ⟨S16x32x4096x4, .f32⟩
  | 15 => ⟨S_, .f32⟩
  | 16 => ⟨S16x4096x4, .f32⟩
  | 17 => ⟨S16x4096x4, .i1⟩
  | 18 => ⟨S_, .f32⟩
  | 19 => ⟨S16x4096x4, .f32⟩
  | 20 => ⟨S16x4096x4, .i1⟩
  | 21 => ⟨S16x4096x4, .i1⟩
  | 22 => ⟨S_, .f32⟩
  | 23 => ⟨S16x4096x4, .f32⟩
  | 24 => ⟨S16x4096x4, .i1⟩
  | 25 => ⟨S16x4096x4, .i1⟩
  | 26 => ⟨S_, .f32⟩
  | 27 => ⟨S16x4096x4, .f32⟩
  | 28 => ⟨S16x4096x4, .i1⟩
  | 29 => ⟨S16x4096x4, .i1⟩
  | 30 => ⟨S_, .i32⟩
  | 31 => ⟨S_, .i32⟩
  | 32 => ⟨S_, .f32⟩
  | 33 => ⟨S16x4096x4, .f32⟩
  | 34 => ⟨S16x4096x4, .f32⟩
  | 35 => ⟨S_, .f32⟩
  | 36 => ⟨S16x4096x4, .f32⟩
  | 37 => ⟨S16x4096x4, .f32⟩
  | 38 => ⟨S16x4096x4, .i32⟩
  | 39 => ⟨S_, .i32⟩
  | 40 => ⟨S_, .i32⟩
  | 41 => ⟨S_, .f32⟩
  | 42 => ⟨S16x4096x4, .f32⟩
  | 43 => ⟨S16x4096x4, .f32⟩
  | 44 => ⟨S_, .f32⟩
  | 45 => ⟨S16x4096x4, .f32⟩
  | 46 => ⟨S16x4096x4, .f32⟩
  | 47 => ⟨S16x4096x4, .i32⟩
  | 48 => ⟨S_, .i32⟩
  | 49 => ⟨S16x4096x4, .i32⟩
  | 50 => ⟨S16x4096x4, .i32⟩
  | 51 => ⟨S16x4096x4, .i32⟩
  | 52 => ⟨S16x16384, .i32⟩
  | 53 => ⟨S16x1x16384, .i32⟩
  | 54 => ⟨S16x32x16384, .i32⟩
  | 55 => ⟨S_, .i32⟩
  | 56 => ⟨S16x32x16384, .i32⟩
  | 57 => ⟨S16x32x16384, .i1⟩
  | 58 => ⟨S_, .i32⟩
  | 59 => ⟨S16x32x16384, .i32⟩
  | 60 => ⟨S16x32x16384, .i32⟩
  | 61 => ⟨S16x32x16384, .i32⟩
  | 62 => ⟨S16x32x16384x1, .i32⟩
  | 63 => ⟨S1, .i32⟩
  | 64 => ⟨S_, .i32⟩
  | 65 => ⟨S16x32x16384x1, .i32⟩
  | 66 => ⟨S16x32x16384x1, .i1⟩
  | 67 => ⟨S1x1x1x1, .i32⟩
  | 68 => ⟨S16x32x16384x1, .i32⟩
  | 69 => ⟨S16x32x16384x1, .i1⟩
  | 70 => ⟨S16x32x16384x1, .i1⟩
  | 71 => ⟨S_, .i1⟩
  | 72 => ⟨S16x32x16384, .i1⟩
  | 73 => ⟨S16x32x16384, .f32⟩
  | 74 => ⟨S_, .f32⟩
  | 75 => ⟨S16x32x16384, .f32⟩
  | 76 => ⟨S16x32x16384, .f32⟩
  | 77 => ⟨S16x32x4096x4, .f32⟩
  | 78 => ⟨S16x1x4096x4, .i1⟩
  | 79 => ⟨S16x1x4096x4, .f32⟩
  | 80 => ⟨S16x32x4096x4, .f32⟩
  | 81 => ⟨S16x32x4096x4, .f32⟩
  | 82 => ⟨S16x1x4096x4, .f32⟩
  | 83 => ⟨S16x32x4096x4, .f32⟩
  | 84 => ⟨S16x32x4096x4, .f32⟩
  | 85 => ⟨S16x32x4096x4, .f32⟩
  | 86 => ⟨S2x1024x8x32, .f32⟩
  | 87 => ⟨S2x8x32x1024, .f32⟩
  | 88 => ⟨S16x32x32x32, .f32⟩
  | 89 => ⟨S2x4096x8x1x4x2, .f32⟩
  | 90 => ⟨S2x4096x8x4x2, .f32⟩
  | 91 => ⟨S2x8x4096x4x2, .f32⟩
  | 92 => ⟨S16x4096x4x2, .f32⟩
  | 93 => ⟨S16x4096x4x1, .f32⟩
  | 94 => ⟨S16x4096x4, .f32⟩
  | 95 => ⟨S_, .f32⟩
  | 96 => ⟨S16x4096x4, .f32⟩
  | 97 => ⟨S16x4096x4, .f32⟩
  | 98 => ⟨S_, .f32⟩
  | 99 => ⟨S16x4096x4, .f32⟩
  | 100 => ⟨S16x4096x4, .f32⟩
  | 101 => ⟨S_, .f32⟩
  | 102 => ⟨S16x4096x4, .f32⟩
  | 103 => ⟨S16x4096x4, .f32⟩
  | 104 => ⟨S_, .f32⟩
  | 105 => ⟨S16x4096x4, .f32⟩
  | 106 => ⟨S16x4096x4, .f32⟩
  | 107 => ⟨S16x4096x4x1, .f32⟩
  | 108 => ⟨S16x4096x4, .f32⟩
  | 109 => ⟨S_, .f32⟩
  | 110 => ⟨S16x4096x4, .f32⟩
  | 111 => ⟨S16x4096x4, .f32⟩
  | 112 => ⟨S_, .f32⟩
  | 113 => ⟨S16x4096x4, .f32⟩
  | 114 => ⟨S16x4096x4, .f32⟩
  | 115 => ⟨S_, .f32⟩
  | 116 => ⟨S16x4096x4, .f32⟩
  | 117 => ⟨S16x4096x4, .f32⟩
  | 118 => ⟨S_, .f32⟩
  | 119 => ⟨S16x4096x4, .f32⟩
  | 120 => ⟨S16x4096x4, .f32⟩
  | 121 => ⟨S16x4096x4, .f32⟩
  | 122 => ⟨S16x4096x4, .f32⟩
  | 123 => ⟨S_, .f32⟩
  | 124 => ⟨S16x4096x4, .f32⟩
  | 125 => ⟨S16x4096x4, .f32⟩
  | 126 => ⟨S_, .f32⟩
  | 127 => ⟨S16x4096x4, .f32⟩
  | _ => ⟨S4x2x256x32x32, .f32⟩

abbrev hbmTy0_68 (i : Nat) : BufTy := match i % 128 with
  | 0 => ⟨S16x4096x4, .f32⟩
  | 1 => ⟨S16x4096x4, .f32⟩
  | 2 => ⟨S16x4096x4, .f32⟩
  | 3 => ⟨S16x4096x4, .f32⟩
  | 4 => ⟨S16x4096x4, .f32⟩
  | 5 => ⟨S16x4096x4, .f32⟩
  | 6 => ⟨S16x4096x4, .f32⟩
  | 7 => ⟨S16x4096x4, .f32⟩
  | 8 => ⟨S16x4096x4, .f32⟩
  | 9 => ⟨S16x4096x4, .f32⟩
  | 10 => ⟨S16x4096x4, .f32⟩
  | 11 => ⟨S16x4096x4, .f32⟩
  | 12 => ⟨S16x4096x4, .f32⟩
  | 13 => ⟨S16x32x1024, .f32⟩
  | 14 => ⟨S_, .f32⟩
  | 15 => ⟨S16x4096x4, .f32⟩
  | 16 => ⟨S16x4096x4, .i1⟩
  | 17 => ⟨S_, .f32⟩
  | 18 => ⟨S16x4096x4, .f32⟩
  | 19 => ⟨S16x4096x4, .i1⟩
  | 20 => ⟨S16x4096x4, .i1⟩
  | 21 => ⟨S_, .f32⟩
  | 22 => ⟨S16x4096x4, .f32⟩
  | 23 => ⟨S16x4096x4, .i1⟩
  | 24 => ⟨S16x4096x4, .i1⟩
  | 25 => ⟨S_, .f32⟩
  | 26 => ⟨S16x4096x4, .f32⟩
  | 27 => ⟨S16x4096x4, .i1⟩
  | 28 => ⟨S16x4096x4, .i1⟩
  | 29 => ⟨S_, .i32⟩
  | 30 => ⟨S_, .i32⟩
  | 31 => ⟨S_, .f32⟩
  | 32 => ⟨S16x4096x4, .f32⟩
  | 33 => ⟨S16x4096x4, .f32⟩
  | 34 => ⟨S_, .f32⟩
  | 35 => ⟨S16x4096x4, .f32⟩
  | 36 => ⟨S16x4096x4, .f32⟩
  | 37 => ⟨S16x4096x4, .i32⟩
  | 38 => ⟨S_, .i32⟩
  | 39 => ⟨S_, .i32⟩
  | 40 => ⟨S_, .f32⟩
  | 41 => ⟨S16x4096x4, .f32⟩
  | 42 => ⟨S16x4096x4, .f32⟩
  | 43 => ⟨S_, .f32⟩
  | 44 => ⟨S16x4096x4, .f32⟩
  | 45 => ⟨S16x4096x4, .f32⟩
  | 46 => ⟨S16x4096x4, .i32⟩
  | 47 => ⟨S_, .i32⟩
  | 48 => ⟨S16x4096x4, .i32⟩
  | 49 => ⟨S16x4096x4, .i32⟩
  | 50 => ⟨S16x4096x4, .i32⟩
  | 51 => ⟨S16x16384, .i32⟩
  | 52 => ⟨S16x1x16384, .i32⟩
  | 53 => ⟨S16x32x16384, .i32⟩
  | 54 => ⟨S_, .i32⟩
  | 55 => ⟨S16x32x16384, .i32⟩
  | 56 => ⟨S16x32x16384, .i1⟩
  | 57 => ⟨S_, .i32⟩
  | 58 => ⟨S16x32x16384, .i32⟩
  | 59 => ⟨S16x32x16384, .i32⟩
  | 60 => ⟨S16x32x16384, .i32⟩
  | 61 => ⟨S16x32x16384x1, .i32⟩
  | 62 => ⟨S1, .i32⟩
  | 63 => ⟨S_, .i32⟩
  | 64 => ⟨S16x32x16384x1, .i32⟩
  | 65 => ⟨S16x32x16384x1, .i1⟩
  | 66 => ⟨S1x1x1x1, .i32⟩
  | 67 => ⟨S16x32x16384x1, .i32⟩
  | 68 => ⟨S16x32x16384x1, .i1⟩
  | 69 => ⟨S16x32x16384x1, .i1⟩
  | 70 => ⟨S_, .i1⟩
  | 71 => ⟨S16x32x16384, .i1⟩
  | 72 => ⟨S16x32x16384, .f32⟩
  | 73 => ⟨S_, .f32⟩
  | 74 => ⟨S16x32x16384, .f32⟩
  | 75 => ⟨S16x32x16384, .f32⟩
  | 76 => ⟨S16x32x4096x4, .f32⟩
  | 77 => ⟨S16x1x4096x4, .i1⟩
  | 78 => ⟨S16x1x4096x4, .f32⟩
  | 79 => ⟨S16x32x4096x4, .f32⟩
  | 80 => ⟨S16x32x4096x4, .f32⟩
  | 81 => ⟨S16x1x4096x4, .f32⟩
  | 82 => ⟨S16x32x4096x4, .f32⟩
  | 83 => ⟨S16x32x4096x4, .f32⟩
  | 84 => ⟨S_, .f32⟩
  | 85 => ⟨S16x4096x4, .f32⟩
  | 86 => ⟨S16x4096x4, .i1⟩
  | 87 => ⟨S_, .f32⟩
  | 88 => ⟨S16x4096x4, .f32⟩
  | 89 => ⟨S16x4096x4, .i1⟩
  | 90 => ⟨S16x4096x4, .i1⟩
  | 91 => ⟨S_, .f32⟩
  | 92 => ⟨S16x4096x4, .f32⟩
  | 93 => ⟨S16x4096x4, .i1⟩
  | 94 => ⟨S16x4096x4, .i1⟩
  | 95 => ⟨S_, .f32⟩
  | 96 => ⟨S16x4096x4, .f32⟩
  | 97 => ⟨S16x4096x4, .i1⟩
  | 98 => ⟨S16x4096x4, .i1⟩
  | 99 => ⟨S_, .i32⟩
  | 100 => ⟨S_, .i32⟩
  | 101 => ⟨S_, .f32⟩
  | 102 => ⟨S16x4096x4, .f32⟩
  | 103 => ⟨S16x4096x4, .f32⟩
  | 104 => ⟨S_, .f32⟩
  | 105 => ⟨S16x4096x4, .f32⟩
  | 106 => ⟨S16x4096x4, .f32⟩
  | 107 => ⟨S16x4096x4, .i32⟩
  | 108 => ⟨S_, .i32⟩
  | 109 => ⟨S_, .i32⟩
  | 110 => ⟨S_, .f32⟩
  | 111 => ⟨S16x4096x4, .f32⟩
  | 112 => ⟨S16x4096x4, .f32⟩
  | 113 => ⟨S_, .f32⟩
  | 114 => ⟨S16x4096x4, .f32⟩
  | 115 => ⟨S16x4096x4, .f32⟩
  | 116 => ⟨S16x4096x4, .i32⟩
  | 117 => ⟨S_, .i32⟩
  | 118 => ⟨S16x4096x4, .i32⟩
  | 119 => ⟨S16x4096x4, .i32⟩
  | 120 => ⟨S16x4096x4, .i32⟩
  | 121 => ⟨S16x16384, .i32⟩
  | 122 => ⟨S16x1x16384, .i32⟩
  | 123 => ⟨S16x32x16384, .i32⟩
  | 124 => ⟨S_, .i32⟩
  | 125 => ⟨S16x32x16384, .i32⟩
  | 126 => ⟨S16x32x16384, .i1⟩
  | 127 => ⟨S_, .i32⟩
  | _ => ⟨S4x2x256x32x32, .f32⟩

abbrev hbmTy0_69 (i : Nat) : BufTy := match i % 128 with
  | 0 => ⟨S16x32x16384, .i32⟩
  | 1 => ⟨S16x32x16384, .i32⟩
  | 2 => ⟨S16x32x16384, .i32⟩
  | 3 => ⟨S16x32x16384x1, .i32⟩
  | 4 => ⟨S1, .i32⟩
  | 5 => ⟨S_, .i32⟩
  | 6 => ⟨S16x32x16384x1, .i32⟩
  | 7 => ⟨S16x32x16384x1, .i1⟩
  | 8 => ⟨S1x1x1x1, .i32⟩
  | 9 => ⟨S16x32x16384x1, .i32⟩
  | 10 => ⟨S16x32x16384x1, .i1⟩
  | 11 => ⟨S16x32x16384x1, .i1⟩
  | 12 => ⟨S_, .i1⟩
  | 13 => ⟨S16x32x16384, .i1⟩
  | 14 => ⟨S16x32x16384, .f32⟩
  | 15 => ⟨S_, .f32⟩
  | 16 => ⟨S16x32x16384, .f32⟩
  | 17 => ⟨S16x32x16384, .f32⟩
  | 18 => ⟨S16x32x4096x4, .f32⟩
  | 19 => ⟨S16x1x4096x4, .i1⟩
  | 20 => ⟨S16x1x4096x4, .f32⟩
  | 21 => ⟨S16x32x4096x4, .f32⟩
  | 22 => ⟨S16x32x4096x4, .f32⟩
  | 23 => ⟨S16x1x4096x4, .f32⟩
  | 24 => ⟨S16x32x4096x4, .f32⟩
  | 25 => ⟨S16x32x4096x4, .f32⟩
  | 26 => ⟨S16x32x4096x4, .f32⟩
  | 27 => ⟨S_, .f32⟩
  | 28 => ⟨S16x4096x4, .f32⟩
  | 29 => ⟨S16x4096x4, .i1⟩
  | 30 => ⟨S_, .f32⟩
  | 31 => ⟨S16x4096x4, .f32⟩
  | 32 => ⟨S16x4096x4, .i1⟩
  | 33 => ⟨S16x4096x4, .i1⟩
  | 34 => ⟨S_, .f32⟩
  | 35 => ⟨S16x4096x4, .f32⟩
  | 36 => ⟨S16x4096x4, .i1⟩
  | 37 => ⟨S16x4096x4, .i1⟩
  | 38 => ⟨S_, .f32⟩
  | 39 => ⟨S16x4096x4, .f32⟩
  | 40 => ⟨S16x4096x4, .i1⟩
  | 41 => ⟨S16x4096x4, .i1⟩
  | 42 => ⟨S_, .i32⟩
  | 43 => ⟨S_, .i32⟩
  | 44 => ⟨S_, .f32⟩
  | 45 => ⟨S16x4096x4, .f32⟩
  | 46 => ⟨S16x4096x4, .f32⟩
  | 47 => ⟨S_, .f32⟩
  | 48 => ⟨S16x4096x4, .f32⟩
  | 49 => ⟨S16x4096x4, .f32⟩
  | 50 => ⟨S16x4096x4, .i32⟩
  | 51 => ⟨S_, .i32⟩
  | 52 => ⟨S_, .i32⟩
  | 53 => ⟨S_, .f32⟩
  | 54 => ⟨S16x4096x4, .f32⟩
  | 55 => ⟨S16x4096x4, .f32⟩
  | 56 => ⟨S_, .f32⟩
  | 57 => ⟨S16x4096x4, .f32⟩
  | 58 => ⟨S16x4096x4, .f32⟩
  | 59 => ⟨S16x4096x4, .i32⟩
  | 60 => ⟨S_, .i32⟩
  | 61 => ⟨S16x4096x4, .i32⟩
  | 62 => ⟨S16x4096x4, .i32⟩
  | 63 => ⟨S16x4096x4, .i32⟩
  | 64 => ⟨S16x16384, .i32⟩
  | 65 => ⟨S16x1x16384, .i32⟩
  | 66 => ⟨S16x32x16384, .i32⟩
  | 67 => ⟨S_, .i32⟩
  | 68 => ⟨S16x32x16384, .i32⟩
  | 69 => ⟨S16x32x16384, .i1⟩
  | 70 => ⟨S_, .i32⟩
  | 71 => ⟨S16x32x16384, .i32⟩
  | 72 => ⟨S16x32x16384, .i32⟩
  | 73 => ⟨S16x32x16384, .i32⟩
  | 74 => ⟨S16x32x16384x1, .i32⟩
  | 75 => ⟨S1, .i32⟩
  | 76 => ⟨S_, .i32⟩
  | 77 => ⟨S16x32x16384x1, .i32⟩
  | 78 => ⟨S16x32x16384x1, .i1⟩
  | 79 => ⟨S1x1x1x1, .i32⟩
  | 80 => ⟨S16x32x16384x1, .i32⟩
  | 81 => ⟨S16x32x16384x1, .i1⟩
  | 82 => ⟨S16x32x16384x1, .i1⟩
  | 83 => ⟨S_, .i1⟩
  | 84 => ⟨S16x32x16384, .i1⟩
  | 85 => ⟨S16x32x16384, .f32⟩
  | 86 => ⟨S_, .f32⟩
  | 87 => ⟨S16x32x16384, .f32⟩
  | 88 => ⟨S16x32x16384, .f32⟩
  | 89 => ⟨S16x32x4096x4, .f32⟩
  | 90 => ⟨S16x1x4096x4, .i1⟩
  | 91 => ⟨S16x1x4096x4, .f32⟩
  | 92 => ⟨S16x32x4096x4, .f32⟩
  | 93 => ⟨S16x32x4096x4, .f32⟩
  | 94 => ⟨S16x1x4096x4, .f32⟩
  | 95 => ⟨S16x32x4096x4, .f32⟩
  | 96 => ⟨S16x32x4096x4, .f32⟩
  | 97 => ⟨S16x32x4096x4, .f32⟩
  | 98 => ⟨S_, .f32⟩
  | 99 => ⟨S16x4096x4, .f32⟩
  | 100 => ⟨S16x4096x4, .i1⟩
  | 101 => ⟨S_, .f32⟩
  | 102 => ⟨S16x4096x4, .f32⟩
  | 103 => ⟨S16x4096x4, .i1⟩
  | 104 => ⟨S16x4096x4, .i1⟩
  | 105 => ⟨S_, .f32⟩
  | 106 => ⟨S16x4096x4, .f32⟩
  | 107 => ⟨S16x4096x4, .i1⟩
  | 108 => ⟨S16x4096x4, .i1⟩
  | 109 => ⟨S_, .f32⟩
  | 110 => ⟨S16x4096x4, .f32⟩
  | 111 => ⟨S16x4096x4, .i1⟩
  | 112 => ⟨S16x4096x4, .i1⟩
  | 113 => ⟨S_, .i32⟩
  | 114 => ⟨S_, .i32⟩
  | 115 => ⟨S_, .f32⟩
  | 116 => ⟨S16x4096x4, .f32⟩
  | 117 => ⟨S16x4096x4, .f32⟩
  | 118 => ⟨S_, .f32⟩
  | 119 => ⟨S16x4096x4, .f32⟩
  | 120 => ⟨S16x4096x4, .f32⟩
  | 121 => ⟨S16x4096x4, .i32⟩
  | 122 => ⟨S_, .i32⟩
  | 123 => ⟨S_, .i32⟩
  | 124 => ⟨S_, .f32⟩
  | 125 => ⟨S16x4096x4, .f32⟩
  | 126 => ⟨S16x4096x4, .f32⟩
  | 127 => ⟨S_, .f32⟩
  | _ => ⟨S4x2x256x32x32, .f32⟩

abbrev hbmTy0_70 (i : Nat) : BufTy := match i % 128 with
  | 0 => ⟨S16x4096x4, .f32⟩
  | 1 => ⟨S16x4096x4, .f32⟩
  | 2 => ⟨S16x4096x4, .i32⟩
  | 3 => ⟨S_, .i32⟩
  | 4 => ⟨S16x4096x4, .i32⟩
  | 5 => ⟨S16x4096x4, .i32⟩
  | 6 => ⟨S16x4096x4, .i32⟩
  | 7 => ⟨S16x16384, .i32⟩
  | 8 => ⟨S16x1x16384, .i32⟩
  | 9 => ⟨S16x32x16384, .i32⟩
  | 10 => ⟨S_, .i32⟩
  | 11 => ⟨S16x32x16384, .i32⟩
  | 12 => ⟨S16x32x16384, .i1⟩
  | 13 => ⟨S_, .i32⟩
  | 14 => ⟨S16x32x16384, .i32⟩
  | 15 => ⟨S16x32x16384, .i32⟩
  | 16 => ⟨S16x32x16384, .i32⟩
  | 17 => ⟨S16x32x16384x1, .i32⟩
  | 18 => ⟨S1, .i32⟩
  | 19 => ⟨S_, .i32⟩
  | 20 => ⟨S16x32x16384x1, .i32⟩
  | 21 => ⟨S16x32x16384x1, .i1⟩
  | 22 => ⟨S1x1x1x1, .i32⟩
  | 23 => ⟨S16x32x16384x1, .i32⟩
  | 24 => ⟨S16x32x16384x1, .i1⟩
  | 25 => ⟨S16x32x16384x1, .i1⟩
  | 26 => ⟨S_, .i1⟩
  | 27 => ⟨S16x32x16384, .i1⟩
  | 28 => ⟨S16x32x16384, .f32⟩
  | 29 => ⟨S_, .f32⟩
  | 30 => ⟨S16x32x16384, .f32⟩
  | 31 => ⟨S16x32x16384, .f32⟩
  | 32 => ⟨S16x32x4096x4, .f32⟩
  | 33 => ⟨S16x1x4096x4, .i1⟩
  | 34 => ⟨S16x1x4096x4, .f32⟩
  | 35 => ⟨S16x32x4096x4, .f32⟩
  | 36 => ⟨S16x32x4096x4, .f32⟩
  | 37 => ⟨S16x1x4096x4, .f32⟩
  | 38 => ⟨S16x32x4096x4, .f32⟩
  | 39 => ⟨S16x32x4096x4, .f32⟩
  | 40 => ⟨S16x32x4096x4, .f32⟩
  | 41 => ⟨S2x1024x8x32, .f32⟩
  | 42 => ⟨S2x8x32x1024, .f32⟩
  | 43 => ⟨S16x32x32x32, .f32⟩
  | 44 => ⟨S2x4096x8x1x4x2, .f32⟩
  | 45 => ⟨S2x4096x8x4x2, .f32⟩
  | 46 => ⟨S2x8x4096x4x2, .f32⟩
  | 47 => ⟨S16x4096x4x2, .f32⟩
  | 48 => ⟨S16x4096x4x1, .f32⟩
  | 49 => ⟨S16x4096x4, .f32⟩
  | 50 => ⟨S_, .f32⟩
  | 51 => ⟨S16x4096x4, .f32⟩
  | 52 => ⟨S16x4096x4, .f32⟩
  | 53 => ⟨S_, .f32⟩
  | 54 => ⟨S16x4096x4, .f32⟩
  | 55 => ⟨S16x4096x4, .f32⟩
  | 56 => ⟨S_, .f32⟩
  | 57 => ⟨S16x4096x4, .f32⟩
  | 58 => ⟨S16x4096x4, .f32⟩
  | 59 => ⟨S_, .f32⟩
  | 60 => ⟨S16x4096x4, .f32⟩
  | 61 => ⟨S16x4096x4, .f32⟩
  | 62 => ⟨S16x4096x4x1, .f32⟩
  | 63 => ⟨S16x4096x4, .f32⟩
  | 64 => ⟨S_, .f32⟩
  | 65 => ⟨S16x4096x4, .f32⟩
  | 66 => ⟨S16x4096x4, .f32⟩
  | 67 => ⟨S_, .f32⟩
  | 68 => ⟨S16x4096x4, .f32⟩
  | 69 => ⟨S16x4096x4, .f32⟩
  | 70 => ⟨S_, .f32⟩
  | 71 => ⟨S16x4096x4, .f32⟩
  | 72 => ⟨S16x4096x4, .f32⟩
  | 73 => ⟨S_, .f32⟩
  | 74 => ⟨S16x4096x4, .f32⟩
  | 75 => ⟨S16x4096x4, .f32⟩
  | 76 => ⟨S16x4096x4, .f32⟩
  | 77 => ⟨S16x4096x4, .f32⟩
  | 78 => ⟨S_, .f32⟩
  | 79 => ⟨S16x4096x4, .f32⟩
  | 80 => ⟨S16x4096x4, .f32⟩
  | 81 => ⟨S_, .f32⟩
  | 82 => ⟨S16x4096x4, .f32⟩
  | 83 => ⟨S16x4096x4, .f32⟩
  | 84 => ⟨S16x4096x4, .f32⟩
  | 85 => ⟨S16x4096x4, .f32⟩
  | 86 => ⟨S16x4096x4, .f32⟩
  | 87 => ⟨S16x4096x4, .f32⟩
  | 88 => ⟨S16x4096x4, .f32⟩
  | 89 => ⟨S16x4096x4, .f32⟩
  | 90 => ⟨S16x4096x4, .f32⟩
  | 91 => ⟨S16x4096x4, .f32⟩
  | 92 => ⟨S16x4096x4, .f32⟩
  | 93 => ⟨S16x4096x4, .f32⟩
  | 94 => ⟨S16x4096x4, .f32⟩
  | 95 => ⟨S16x4096x4, .f32⟩
  | 96 => ⟨S16x32x1024, .f32⟩
  | 97 => ⟨S_, .f32⟩
  | 98 => ⟨S16x4096x4, .f32⟩
  | 99 => ⟨S16x4096x4, .i1⟩
  | 100 => ⟨S_, .f32⟩
  | 101 => ⟨S16x4096x4, .f32⟩
  | 102 => ⟨S16x4096x4, .i1⟩
  | 103 => ⟨S16x4096x4, .i1⟩
  | 104 => ⟨S_, .f32⟩
  | 105 => ⟨S16x4096x4, .f32⟩
  | 106 => ⟨S16x4096x4, .i1⟩
  | 107 => ⟨S16x4096x4, .i1⟩
  | 108 => ⟨S_, .f32⟩
  | 109 => ⟨S16x4096x4, .f32⟩
  | 110 => ⟨S16x4096x4, .i1⟩
  | 111 => ⟨S16x4096x4, .i1⟩
  | 112 => ⟨S_, .i32⟩
  | 113 => ⟨S_, .i32⟩
  | 114 => ⟨S_, .f32⟩
  | 115 => ⟨S16x4096x4, .f32⟩
  | 116 => ⟨S16x4096x4, .f32⟩
  | 117 => ⟨S_, .f32⟩
  | 118 => ⟨S16x4096x4, .f32⟩
  | 119 => ⟨S16x4096x4, .f32⟩
  | 120 => ⟨S16x4096x4, .i32⟩
  | 121 => ⟨S_, .i32⟩
  | 122 => ⟨S_, .i32⟩
  | 123 => ⟨S_, .f32⟩
  | 124 => ⟨S16x4096x4, .f32⟩
  | 125 => ⟨S16x4096x4, .f32⟩
  | 126 => ⟨S_, .f32⟩
  | 127 => ⟨S16x4096x4, .f32⟩
  | _ => ⟨S4x2x256x32x32, .f32⟩

abbrev hbmTy0_71 (i : Nat) : BufTy := match i % 128 with
  | 0 => ⟨S16x4096x4, .f32⟩
  | 1 => ⟨S16x4096x4, .i32⟩
  | 2 => ⟨S_, .i32⟩
  | 3 => ⟨S16x4096x4, .i32⟩
  | 4 => ⟨S16x4096x4, .i32⟩
  | 5 => ⟨S16x4096x4, .i32⟩
  | 6 => ⟨S16x16384, .i32⟩
  | 7 => ⟨S16x1x16384, .i32⟩
  | 8 => ⟨S16x32x16384, .i32⟩
  | 9 => ⟨S_, .i32⟩
  | 10 => ⟨S16x32x16384, .i32⟩
  | 11 => ⟨S16x32x16384, .i1⟩
  | 12 => ⟨S_, .i32⟩
  | 13 => ⟨S16x32x16384, .i32⟩
  | 14 => ⟨S16x32x16384, .i32⟩
  | 15 => ⟨S16x32x16384, .i32⟩
  | 16 => ⟨S16x32x16384x1, .i32⟩
  | 17 => ⟨S1, .i32⟩
  | 18 => ⟨S_, .i32⟩
  | 19 => ⟨S16x32x16384x1, .i32⟩
  | 20 => ⟨S16x32x16384x1, .i1⟩
  | 21 => ⟨S1x1x1x1, .i32⟩
  | 22 => ⟨S16x32x16384x1, .i32⟩
  | 23 => ⟨S16x32x16384x1, .i1⟩
  | 24 => ⟨S16x32x16384x1, .i1⟩
  | 25 => ⟨S_, .i1⟩
  | 26 => ⟨S16x32x16384, .i1⟩
  | 27 => ⟨S16x32x16384, .f32⟩
  | 28 => ⟨S_, .f32⟩
  | 29 => ⟨S16x32x16384, .f32⟩
  | 30 => ⟨S16x32x16384, .f32⟩
  | 31 => ⟨S16x32x4096x4, .f32⟩
  | 32 => ⟨S16x1x4096x4, .i1⟩
  | 33 => ⟨S16x1x4096x4, .f32⟩
  | 34 => ⟨S16x32x4096x4, .f32⟩
  | 35 => ⟨S16x32x4096x4, .f32⟩
  | 36 => ⟨S16x1x4096x4, .f32⟩
  | 37 => ⟨S16x32x4096x4, .f32⟩
  | 38 => ⟨S16x32x4096x4, .f32⟩
  | 39 => ⟨S_, .f32⟩
  | 40 => ⟨S16x4096x4, .f32⟩
  | 41 => ⟨S16x4096x4, .i1⟩
  | 42 => ⟨S_, .f32⟩
  | 43 => ⟨S16x4096x4, .f32⟩
  | 44 => ⟨S16x4096x4, .i1⟩
  | 45 => ⟨S16x4096x4, .i1⟩
  | 46 => ⟨S_, .f32⟩
  | 47 => ⟨S16x4096x4, .f32⟩
  | 48 => ⟨S16x4096x4, .i1⟩
  | 49 => ⟨S16x4096x4, .i1⟩
  | 50 => ⟨S_, .f32⟩
  | 51 => ⟨S16x4096x4, .f32⟩
  | 52 => ⟨S16x4096x4, .i1⟩
  | 53 => ⟨S16x4096x4, .i1⟩
  | 54 => ⟨S_, .i32⟩
  | 55 => ⟨S_, .i32⟩
  | 56 => ⟨S_, .f32⟩
  | 57 => ⟨S16x4096x4, .f32⟩
  | 58 => ⟨S16x4096x4, .f32⟩
  | 59 => ⟨S_, .f32⟩
  | 60 => ⟨S16x4096x4, .f32⟩
  | 61 => ⟨S16x4096x4, .f32⟩
  | 62 => ⟨S16x4096x4, .i32⟩
  | 63 => ⟨S_, .i32⟩
  | 64 => ⟨S_, .i32⟩
  | 65 => ⟨S_, .f32⟩
  | 66 => ⟨S16x4096x4, .f32⟩
  | 67 => ⟨S16x4096x4, .f32⟩
  | 68 => ⟨S_, .f32⟩
  | 69 => ⟨S16x4096x4, .f32⟩
  | 70 => ⟨S16x4096x4, .f32⟩
  | 71 => ⟨S16x4096x4, .i32⟩
  | 72 => ⟨S_, .i32⟩
  | 73 => ⟨S16x4096x4, .i32⟩
  | 74 => ⟨S16x4096x4, .i32⟩
  | 75 => ⟨S16x4096x4, .i32⟩
  | 76 => ⟨S16x16384, .i32⟩
  | 77 => ⟨S16x1x16384, .i32⟩
  | 78 => ⟨S16x32x16384, .i32⟩
  | 79 => ⟨S_, .i32⟩
  | 80 => ⟨S16x32x16384, .i32⟩
  | 81 => ⟨S16x32x16384, .i1⟩
  | 82 => ⟨S_, .i32⟩
  | 83 => ⟨S16x32x16384, .i32⟩
  | 84 => ⟨S16x32x16384, .i32⟩
  | 85 => ⟨S16x32x16384, .i32⟩
  | 86 => ⟨S16x32x16384x1, .i32⟩
  | 87 => ⟨S1, .i32⟩
  | 88 => ⟨S_, .i32⟩
  | 89 => ⟨S16x32x16384x1, .i32⟩
  | 90 => ⟨S16x32x16384x1, .i1⟩
  | 91 => ⟨S1x1x1x1, .i32⟩
  | 92 => ⟨S16x32x16384x1, .i32⟩
  | 93 => ⟨S16x32x16384x1, .i1⟩
  | 94 => ⟨S16x32x16384x1, .i1⟩
  | 95 => ⟨S_, .i1⟩
  | 96 => ⟨S16x32x16384, .i1⟩
  | 97 => ⟨S16x32x16384, .f32⟩
  | 98 => ⟨S_, .f32⟩
  | 99 => ⟨S16x32x16384, .f32⟩
  | 100 => ⟨S16x32x16384, .f32⟩
  | 101 => ⟨S16x32x4096x4, .f32⟩
  | 102 => ⟨S16x1x4096x4, .i1⟩
  | 103 => ⟨S16x1x4096x4, .f32⟩
  | 104 => ⟨S16x32x4096x4, .f32⟩
  | 105 => ⟨S16x32x4096x4, .f32⟩
  | 106 => ⟨S16x1x4096x4, .f32⟩
  | 107 => ⟨S16x32x4096x4, .f32⟩
  | 108 => ⟨S16x32x4096x4, .f32⟩
  | 109 => ⟨S16x32x4096x4, .f32⟩
  | 110 => ⟨S_, .f32⟩
  | 111 => ⟨S16x4096x4, .f32⟩
  | 112 => ⟨S16x4096x4, .i1⟩
  | 113 => ⟨S_, .f32⟩
  | 114 => ⟨S16x4096x4, .f32⟩
  | 115 => ⟨S16x4096x4, .i1⟩
  | 116 => ⟨S16x4096x4, .i1⟩
  | 117 => ⟨S_, .f32⟩
  | 118 => ⟨S16x4096x4, .f32⟩
  | 119 => ⟨S16x4096x4, .i1⟩
  | 120 => ⟨S16x4096x4, .i1⟩
  | 121 => ⟨S_, .f32⟩
  | 122 => ⟨S16x4096x4, .f32⟩
  | 123 => ⟨S16x4096x4, .i1⟩
  | 124 => ⟨S16x4096x4, .i1⟩
  | 125 => ⟨S_, .i32⟩
  | 126 => ⟨S_, .i32⟩
  | 127 => ⟨S_, .f32⟩
  | _ => ⟨S4x2x256x32x32, .f32⟩

abbrev hbmTy0_72 (i : Nat) : BufTy := match i % 128 with
  | 0 => ⟨S16x4096x4, .f32⟩
  | 1 => ⟨S16x4096x4, .f32⟩
  | 2 => ⟨S_, .f32⟩
  | 3 => ⟨S16x4096x4, .f32⟩
  | 4 => ⟨S16x4096x4, .f32⟩
  | 5 => ⟨S16x4096x4, .i32⟩
  | 6 => ⟨S_, .i32⟩
  | 7 => ⟨S_, .i32⟩
  | 8 => ⟨S_, .f32⟩
  | 9 => ⟨S16x4096x4, .f32⟩
  | 10 => ⟨S16x4096x4, .f32⟩
  | 11 => ⟨S_, .f32⟩
  | 12 => ⟨S16x4096x4, .f32⟩
  | 13 => ⟨S16x4096x4, .f32⟩
  | 14 => ⟨S16x4096x4, .i32⟩
  | 15 => ⟨S_, .i32⟩
  | 16 => ⟨S16x4096x4, .i32⟩
  | 17 => ⟨S16x4096x4, .i32⟩
  | 18 => ⟨S16x4096x4, .i32⟩
  | 19 => ⟨S16x16384, .i32⟩
  | 20 => ⟨S16x1x16384, .i32⟩
  | 21 => ⟨S16x32x16384, .i32⟩
  | 22 => ⟨S_, .i32⟩
  | 23 => ⟨S16x32x16384, .i32⟩
  | 24 => ⟨S16x32x16384, .i1⟩
  | 25 => ⟨S_, .i32⟩
  | 26 => ⟨S16x32x16384, .i32⟩
  | 27 => ⟨S16x32x16384, .i32⟩
  | 28 => ⟨S16x32x16384, .i32⟩
  | 29 => ⟨S16x32x16384x1, .i32⟩
  | 30 => ⟨S1, .i32⟩
  | 31 => ⟨S_, .i32⟩
  | 32 => ⟨S16x32x16384x1, .i32⟩
  | 33 => ⟨S16x32x16384x1, .i1⟩
  | 34 => ⟨S1x1x1x1, .i32⟩
  | 35 => ⟨S16x32x16384x1, .i32⟩
  | 36 => ⟨S16x32x16384x1, .i1⟩
  | 37 => ⟨S16x32x16384x1, .i1⟩
  | 38 => ⟨S_, .i1⟩
  | 39 => ⟨S16x32x16384, .i1⟩
  | 40 => ⟨S16x32x16384, .f32⟩
  | 41 => ⟨S_, .f32⟩
  | 42 => ⟨S16x32x16384, .f32⟩
  | 43 => ⟨S16x32x16384, .f32⟩
  | 44 => ⟨S16x32x4096x4, .f32⟩
  | 45 => ⟨S16x1x4096x4, .i1⟩
  | 46 => ⟨S16x1x4096x4, .f32⟩
  | 47 => ⟨S16x32x4096x4, .f32⟩
  | 48 => ⟨S16x32x4096x4, .f32⟩
  | 49 => ⟨S16x1x4096x4, .f32⟩
  | 50 => ⟨S16x32x4096x4, .f32⟩
  | 51 => ⟨S16x32x4096x4, .f32⟩
  | 52 => ⟨S16x32x4096x4, .f32⟩
  | 53 => ⟨S_, .f32⟩
  | 54 => ⟨S16x4096x4, .f32⟩
  | 55 => ⟨S16x4096x4, .i1⟩
  | 56 => ⟨S_, .f32⟩
  | 57 => ⟨S16x4096x4, .f32⟩
  | 58 => ⟨S16x4096x4, .i1⟩
  | 59 => ⟨S16x4096x4, .i1⟩
  | 60 => ⟨S_, .f32⟩
  | 61 => ⟨S16x4096x4, .f32⟩
  | 62 => ⟨S16x4096x4, .i1⟩
  | 63 => ⟨S16x4096x4, .i1⟩
  | 64 => ⟨S_, .f32⟩
  | 65 => ⟨S16x4096x4, .f32⟩
  | 66 => ⟨S16x4096x4, .i1⟩
  | 67 => ⟨S16x4096x4, .i1⟩
  | 68 => ⟨S_, .i32⟩
  | 69 => ⟨S_, .i32⟩
  | 70 => ⟨S_, .f32⟩
  | 71 => ⟨S16x4096x4, .f32⟩
  | 72 => ⟨S16x4096x4, .f32⟩
  | 73 => ⟨S_, .f32⟩
  | 74 => ⟨S16x4096x4, .f32⟩
  | 75 => ⟨S16x4096x4, .f32⟩
  | 76 => ⟨S16x4096x4, .i32⟩
  | 77 => ⟨S_, .i32⟩
  | 78 => ⟨S_, .i32⟩
  | 79 => ⟨S_, .f32⟩
  | 80 => ⟨S16x4096x4, .f32⟩
  | 81 => ⟨S16x4096x4, .f32⟩
  | 82 => ⟨S_, .f32⟩
  | 83 => ⟨S16x4096x4, .f32⟩
  | 84 => ⟨S16x4096x4, .f32⟩
  | 85 => ⟨S16x4096x4, .i32⟩
  | 86 => ⟨S_, .i32⟩
  | 87 => ⟨S16x4096x4, .i32⟩
  | 88 => ⟨S16x4096x4, .i32⟩
  | 89 => ⟨S16x4096x4, .i32⟩
  | 90 => ⟨S16x16384, .i32⟩
  | 91 => ⟨S16x1x16384, .i32⟩
  | 92 => ⟨S16x32x16384, .i32⟩
  | 93 => ⟨S_, .i32⟩
  | 94 => ⟨S16x32x16384, .i32⟩
  | 95 => ⟨S16x32x16384, .i1⟩
  | 96 => ⟨S_, .i32⟩
  | 97 => ⟨S16x32x16384, .i32⟩
  | 98 => ⟨S16x32x16384, .i32⟩
  | 99 => ⟨S16x32x16384, .i32⟩
  | 100 => ⟨S16x32x16384x1, .i32⟩
  | 101 => ⟨S1, .i32⟩
  | 102 => ⟨S_, .i32⟩
  | 103 => ⟨S16x32x16384x1, .i32⟩
  | 104 => ⟨S16x32x16384x1, .i1⟩
  | 105 => ⟨S1x1x1x1, .i32⟩
  | 106 => ⟨S16x32x16384x1, .i32⟩
  | 107 => ⟨S16x32x16384x1, .i1⟩
  | 108 => ⟨S16x32x16384x1, .i1⟩
  | 109 => ⟨S_, .i1⟩
  | 110 => ⟨S16x32x16384, .i1⟩
  | 111 => ⟨S16x32x16384, .f32⟩
  | 112 => ⟨S_, .f32⟩
  | 113 => ⟨S16x32x16384, .f32⟩
  | 114 => ⟨S16x32x16384, .f32⟩
  | 115 => ⟨S16x32x4096x4, .f32⟩
  | 116 => ⟨S16x1x4096x4, .i1⟩
  | 117 => ⟨S16x1x4096x4, .f32⟩
  | 118 => ⟨S16x32x4096x4, .f32⟩
  | 119 => ⟨S16x32x4096x4, .f32⟩
  | 120 => ⟨S16x1x4096x4, .f32⟩
  | 121 => ⟨S16x32x4096x4, .f32⟩
  | 122 => ⟨S16x32x4096x4, .f32⟩
  | 123 => ⟨S16x32x4096x4, .f32⟩
  | 124 => ⟨S16x32x4096x1x4, .f32⟩
  | 125 => ⟨S16x32x4096x1x4, .f32⟩
  | 126 => ⟨S16x32x4096x1x4, .f32⟩
  | 127 => ⟨S16x32x4096x1x4, .f32⟩
  | _ => ⟨S4x2x256x32x32, .f32⟩

abbrev hbmTy0_73 (i : Nat) : BufTy := match i % 128 with
  | 0 => ⟨S16x32x4096x4x4, .f32⟩
  | 1 => ⟨S16x32x4096x16, .f32⟩
  | 2 => ⟨S2x8x4096x4x4, .f32⟩
  | 3 => ⟨S16x1x4096x16, .f32⟩
  | 4 => ⟨S16x32x4096x16, .f32⟩
  | 5 => ⟨S16x32x4096x16, .f32⟩
  | 6 => ⟨S_, .f32⟩
  | 7 => ⟨S16x32x4096, .f32⟩
  | 8 => ⟨S2x256x4096, .f32⟩
  | 9 => ⟨S2x4096x256, .f32⟩
  | 10 => ⟨S1x256x256, .f32⟩
  | 11 => ⟨S256x256, .f32⟩
  | 12 => ⟨S2x4096x256, .f32⟩
  | 13 => ⟨S1x256, .f32⟩
  | 14 => ⟨S256, .f32⟩
  | 15 => ⟨S1x1x256, .f32⟩
  | 16 => ⟨S2x4096x256, .f32⟩
  | 17 => ⟨S2x4096x256, .f32⟩
  | 18 => ⟨S2x4096x256, .f32⟩
  | 19 => ⟨S1x256, .f32⟩
  | 20 => ⟨S256, .f32⟩
  | 21 => ⟨S1x256, .f32⟩
  | 22 => ⟨S256, .f32⟩
  | 23 => ⟨S_, .f32⟩
  | 24 => ⟨S2x4096, .f32⟩
  | 25 => ⟨S2x4096x1, .f32⟩
  | 26 => ⟨S_, .f32⟩
  | 27 => ⟨S2x4096x1, .f32⟩
  | 28 => ⟨S2x4096x1, .f32⟩
  | 29 => ⟨S2x4096x256, .f32⟩
  | 30 => ⟨S2x4096x256, .f32⟩
  | 31 => ⟨S2x4096x256, .f32⟩
  | 32 => ⟨S_, .f32⟩
  | 33 => ⟨S2x4096, .f32⟩
  | 34 => ⟨S2x4096x1, .f32⟩
  | 35 => ⟨S_, .f32⟩
  | 36 => ⟨S2x4096x1, .f32⟩
  | 37 => ⟨S2x4096x1, .f32⟩
  | 38 => ⟨S2x4096x256, .f32⟩
  | 39 => ⟨S2x4096x256, .f32⟩
  | 40 => ⟨S_, .f32⟩
  | 41 => ⟨S2x4096x1, .f32⟩
  | 42 => ⟨S2x4096x1, .f32⟩
  | 43 => ⟨S2x4096x1, .f32⟩
  | 44 => ⟨S2x4096x256, .f32⟩
  | 45 => ⟨S2x4096x256, .f32⟩
  | 46 => ⟨S1x1x256, .f32⟩
  | 47 => ⟨S2x4096x256, .f32⟩
  | 48 => ⟨S2x4096x256, .f32⟩
  | 49 => ⟨S1x1x256, .f32⟩
  | 50 => ⟨S2x4096x256, .f32⟩
  | 51 => ⟨S2x4096x256, .f32⟩
  | 52 => ⟨S1x256x1024, .f32⟩
  | 53 => ⟨S256x1024, .f32⟩
  | 54 => ⟨S2x4096x1024, .f32⟩
  | 55 => ⟨S1x1024, .f32⟩
  | 56 => ⟨S1024, .f32⟩
  | 57 => ⟨S1x1x1024, .f32⟩
  | 58 => ⟨S2x4096x1024, .f32⟩
  | 59 => ⟨S2x4096x1024, .f32⟩
  | 60 => ⟨S_, .f32⟩
  | 61 => ⟨S2x4096x1024, .f32⟩
  | 62 => ⟨S2x4096x1024, .f32⟩
  | 63 => ⟨S1x1024x256, .f32⟩
  | 64 => ⟨S1024x256, .f32⟩
  | 65 => ⟨S2x4096x256, .f32⟩
  | 66 => ⟨S1x256, .f32⟩
  | 67 => ⟨S256, .f32⟩
  | 68 => ⟨S1x1x256, .f32⟩
  | 69 => ⟨S2x4096x256, .f32⟩
  | 70 => ⟨S2x4096x256, .f32⟩
  | 71 => ⟨S2x4096x256, .f32⟩
  | 72 => ⟨S1x256, .f32⟩
  | 73 => ⟨S256, .f32⟩
  | 74 => ⟨S1x256, .f32⟩
  | 75 => ⟨S256, .f32⟩
  | 76 => ⟨S_, .f32⟩
  | 77 => ⟨S2x4096, .f32⟩
  | 78 => ⟨S2x4096x1, .f32⟩
  | 79 => ⟨S_, .f32⟩
  | 80 => ⟨S2x4096x1, .f32⟩
  | 81 => ⟨S2x4096x1, .f32⟩
  | 82 => ⟨S2x4096x256, .f32⟩
  | 83 => ⟨S2x4096x256, .f32⟩
  | 84 => ⟨S2x4096x256, .f32⟩
  | 85 => ⟨S_, .f32⟩
  | 86 => ⟨S2x4096, .f32⟩
  | 87 => ⟨S2x4096x1, .f32⟩
  | 88 => ⟨S_, .f32⟩
  | 89 => ⟨S2x4096x1, .f32⟩
  | 90 => ⟨S2x4096x1, .f32⟩
  | 91 => ⟨S2x4096x256, .f32⟩
  | 92 => ⟨S2x4096x256, .f32⟩
  | 93 => ⟨S_, .f32⟩
  | 94 => ⟨S2x4096x1, .f32⟩
  | 95 => ⟨S2x4096x1, .f32⟩
  | 96 => ⟨S2x4096x1, .f32⟩
  | 97 => ⟨S2x4096x256, .f32⟩
  | 98 => ⟨S2x4096x256, .f32⟩
  | 99 => ⟨S1x1x256, .f32⟩
  | 100 => ⟨S2x4096x256, .f32⟩
  | 101 => ⟨S2x4096x256, .f32⟩
  | 102 => ⟨S1x1x256, .f32⟩
  | 103 => ⟨S2x4096x256, .f32⟩
  | 104 => ⟨S2x4096x256, .f32⟩
  | _ => ⟨S4x2x256x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | 34 => hbmTy0_34 i
  | 35 => hbmTy0_35 i
  | 36 => hbmTy0_36 i
  | 37 => hbmTy0_37 i
  | 38 => hbmTy0_38 i
  | 39 => hbmTy0_39 i
  | 40 => hbmTy0_40 i
  | 41 => hbmTy0_41 i
  | 42 => hbmTy0_42 i
  | 43 => hbmTy0_43 i
  | 44 => hbmTy0_44 i
  | 45 => hbmTy0_45 i
  | 46 => hbmTy0_46 i
  | 47 => hbmTy0_47 i
  | 48 => hbmTy0_48 i
  | 49 => hbmTy0_49 i
  | 50 => hbmTy0_50 i
  | 51 => hbmTy0_51 i
  | 52 => hbmTy0_52 i
  | 53 => hbmTy0_53 i
  | 54 => hbmTy0_54 i
  | 55 => hbmTy0_55 i
  | 56 => hbmTy0_56 i
  | 57 => hbmTy0_57 i
  | 58 => hbmTy0_58 i
  | 59 => hbmTy0_59 i
  | 60 => hbmTy0_60 i
  | 61 => hbmTy0_61 i
  | 62 => hbmTy0_62 i
  | 63 => hbmTy0_63 i
  | 64 => hbmTy0_64 i
  | 65 => hbmTy0_65 i
  | 66 => hbmTy0_66 i
  | 67 => hbmTy0_67 i
  | 68 => hbmTy0_68 i
  | 69 => hbmTy0_69 i
  | 70 => hbmTy0_70 i
  | 71 => hbmTy0_71 i
  | 72 => hbmTy0_72 i
  | 73 => hbmTy0_73 i
  | _ => ⟨S4x2x256x32x32, .f32⟩

abbrev bufTy : (tb : Table) → Fin (tcTables nBuf tb) → BufTy
  | .hbm, ⟨i, _⟩ => hbmTy i
  | _, _ => ⟨S4x2x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_cst_1 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_cst : Ref sig .tc := ⟨.hbm, 36, rfl⟩
abbrev main_call0_v3 : Ref sig .tc := ⟨.hbm, 37, rfl⟩
abbrev main_call0_v4 : Ref sig .tc := ⟨.hbm, 38, rfl⟩
abbrev main_call0_cst_0 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_v15 : Ref sig .tc := ⟨.hbm, 51, rfl⟩
abbrev main_call0_v16 : Ref sig .tc := ⟨.hbm, 52, rfl⟩
abbrev main_v10 : Ref sig .tc := ⟨.hbm, 53, rfl⟩
abbrev main_cst_3 : Ref sig .tc := ⟨.hbm, 54, rfl⟩
abbrev main_cst_4 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_cst : Ref sig .tc := ⟨.hbm, 59, rfl⟩
abbrev main_call1_v3 : Ref sig .tc := ⟨.hbm, 60, rfl⟩
abbrev main_call1_v4 : Ref sig .tc := ⟨.hbm, 61, rfl⟩
abbrev main_call1_cst_0 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_cst_1 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_v15 : Ref sig .tc := ⟨.hbm, 74, rfl⟩
abbrev main_call1_v16 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_cst_5 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_cst_6 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_cst_7 : Ref sig .tc := ⟨.hbm, 104, rfl⟩
abbrev main_cst_8 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_call2_cst : Ref sig .tc := ⟨.hbm, 109, rfl⟩
abbrev main_call2_v3 : Ref sig .tc := ⟨.hbm, 110, rfl⟩
abbrev main_call2_v4 : Ref sig .tc := ⟨.hbm, 111, rfl⟩
abbrev main_call2_cst_0 : Ref sig .tc := ⟨.hbm, 112, rfl⟩
abbrev main_call2_v5 : Ref sig .tc := ⟨.hbm, 113, rfl⟩
abbrev main_call2_v6 : Ref sig .tc := ⟨.hbm, 114, rfl⟩
abbrev main_call2_v7 : Ref sig .tc := ⟨.hbm, 115, rfl⟩
abbrev main_call2_cst_1 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_v15 : Ref sig .tc := ⟨.hbm, 124, rfl⟩
abbrev main_call2_v16 : Ref sig .tc := ⟨.hbm, 125, rfl⟩
abbrev main_v37 : Ref sig .tc := ⟨.hbm, 126, rfl⟩
abbrev main_cst_9 : Ref sig .tc := ⟨.hbm, 127, rfl⟩
abbrev main_cst_10 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_cst : Ref sig .tc := ⟨.hbm, 132, rfl⟩
abbrev main_call3_v3 : Ref sig .tc := ⟨.hbm, 133, rfl⟩
abbrev main_call3_v4 : Ref sig .tc := ⟨.hbm, 134, rfl⟩
abbrev main_call3_cst_0 : Ref sig .tc := ⟨.hbm, 135, rfl⟩
abbrev main_call3_v5 : Ref sig .tc := ⟨.hbm, 136, rfl⟩
abbrev main_call3_v6 : Ref sig .tc := ⟨.hbm, 137, rfl⟩
abbrev main_call3_v7 : Ref sig .tc := ⟨.hbm, 138, rfl⟩
abbrev main_call3_cst_1 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_v12 : Ref sig .tc := ⟨.hbm, 144, rfl⟩
abbrev main_call3_v13 : Ref sig .tc := ⟨.hbm, 145, rfl⟩
abbrev main_call3_v14 : Ref sig .tc := ⟨.hbm, 146, rfl⟩
abbrev main_call3_v15 : Ref sig .tc := ⟨.hbm, 147, rfl⟩
abbrev main_call3_v16 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_cst_11 : Ref sig .tc := ⟨.hbm, 157, rfl⟩
abbrev main_v46 : Ref sig .tc := ⟨.hbm, 158, rfl⟩
abbrev main_v47 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_v51 : Ref sig .tc := ⟨.hbm, 163, rfl⟩
abbrev main_v52 : Ref sig .tc := ⟨.hbm, 164, rfl⟩
abbrev main_v53 : Ref sig .tc := ⟨.hbm, 165, rfl⟩
abbrev main_v54 : Ref sig .tc := ⟨.hbm, 166, rfl⟩
abbrev main_v55 : Ref sig .tc := ⟨.hbm, 167, rfl⟩
abbrev main_cst_12 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩
abbrev main_v61 : Ref sig .tc := ⟨.hbm, 174, rfl⟩
abbrev main_v62 : Ref sig .tc := ⟨.hbm, 175, rfl⟩
abbrev main_v63 : Ref sig .tc := ⟨.hbm, 176, rfl⟩
abbrev main_cst_13 : Ref sig .tc := ⟨.hbm, 177, rfl⟩
abbrev main_cst_14 : Ref sig .tc := ⟨.hbm, 178, rfl⟩
abbrev main_call4_v0 : Ref sig .tc := ⟨.hbm, 179, rfl⟩
abbrev main_call4_v1 : Ref sig .tc := ⟨.hbm, 180, rfl⟩
abbrev main_call4_v2 : Ref sig .tc := ⟨.hbm, 181, rfl⟩
abbrev main_call4_cst : Ref sig .tc := ⟨.hbm, 182, rfl⟩
abbrev main_call4_v3 : Ref sig .tc := ⟨.hbm, 183, rfl⟩
abbrev main_call4_v4 : Ref sig .tc := ⟨.hbm, 184, rfl⟩
abbrev main_call4_cst_0 : Ref sig .tc := ⟨.hbm, 185, rfl⟩
abbrev main_call4_v5 : Ref sig .tc := ⟨.hbm, 186, rfl⟩
abbrev main_call4_v6 : Ref sig .tc := ⟨.hbm, 187, rfl⟩
abbrev main_call4_v7 : Ref sig .tc := ⟨.hbm, 188, rfl⟩
abbrev main_call4_cst_1 : Ref sig .tc := ⟨.hbm, 189, rfl⟩
abbrev main_call4_v8 : Ref sig .tc := ⟨.hbm, 190, rfl⟩
abbrev main_call4_v9 : Ref sig .tc := ⟨.hbm, 191, rfl⟩
abbrev main_call4_v10 : Ref sig .tc := ⟨.hbm, 192, rfl⟩
abbrev main_call4_v11 : Ref sig .tc := ⟨.hbm, 193, rfl⟩
abbrev main_call4_v12 : Ref sig .tc := ⟨.hbm, 194, rfl⟩
abbrev main_call4_v13 : Ref sig .tc := ⟨.hbm, 195, rfl⟩
abbrev main_call4_v14 : Ref sig .tc := ⟨.hbm, 196, rfl⟩
abbrev main_call4_v15 : Ref sig .tc := ⟨.hbm, 197, rfl⟩
abbrev main_call4_v16 : Ref sig .tc := ⟨.hbm, 198, rfl⟩
abbrev main_v64 : Ref sig .tc := ⟨.hbm, 199, rfl⟩
abbrev main_cst_15 : Ref sig .tc := ⟨.hbm, 200, rfl⟩
abbrev main_cst_16 : Ref sig .tc := ⟨.hbm, 201, rfl⟩
abbrev main_call5_v0 : Ref sig .tc := ⟨.hbm, 202, rfl⟩
abbrev main_call5_v1 : Ref sig .tc := ⟨.hbm, 203, rfl⟩
abbrev main_call5_v2 : Ref sig .tc := ⟨.hbm, 204, rfl⟩
abbrev main_call5_cst : Ref sig .tc := ⟨.hbm, 205, rfl⟩
abbrev main_call5_v3 : Ref sig .tc := ⟨.hbm, 206, rfl⟩
abbrev main_call5_v4 : Ref sig .tc := ⟨.hbm, 207, rfl⟩
abbrev main_call5_cst_0 : Ref sig .tc := ⟨.hbm, 208, rfl⟩
abbrev main_call5_v5 : Ref sig .tc := ⟨.hbm, 209, rfl⟩
abbrev main_call5_v6 : Ref sig .tc := ⟨.hbm, 210, rfl⟩
abbrev main_call5_v7 : Ref sig .tc := ⟨.hbm, 211, rfl⟩
abbrev main_call5_cst_1 : Ref sig .tc := ⟨.hbm, 212, rfl⟩
abbrev main_call5_v8 : Ref sig .tc := ⟨.hbm, 213, rfl⟩
abbrev main_call5_v9 : Ref sig .tc := ⟨.hbm, 214, rfl⟩
abbrev main_call5_v10 : Ref sig .tc := ⟨.hbm, 215, rfl⟩
abbrev main_call5_v11 : Ref sig .tc := ⟨.hbm, 216, rfl⟩
abbrev main_call5_v12 : Ref sig .tc := ⟨.hbm, 217, rfl⟩
abbrev main_call5_v13 : Ref sig .tc := ⟨.hbm, 218, rfl⟩
abbrev main_call5_v14 : Ref sig .tc := ⟨.hbm, 219, rfl⟩
abbrev main_call5_v15 : Ref sig .tc := ⟨.hbm, 220, rfl⟩
abbrev main_call5_v16 : Ref sig .tc := ⟨.hbm, 221, rfl⟩
abbrev main_v65 : Ref sig .tc := ⟨.hbm, 222, rfl⟩
abbrev main_v66 : Ref sig .tc := ⟨.hbm, 223, rfl⟩
abbrev main_v67 : Ref sig .tc := ⟨.hbm, 224, rfl⟩
abbrev main_v68 : Ref sig .tc := ⟨.hbm, 225, rfl⟩
abbrev main_v69 : Ref sig .tc := ⟨.hbm, 226, rfl⟩
abbrev main_v70 : Ref sig .tc := ⟨.hbm, 227, rfl⟩
abbrev main_v71 : Ref sig .tc := ⟨.hbm, 228, rfl⟩
abbrev main_v72 : Ref sig .tc := ⟨.hbm, 229, rfl⟩
abbrev main_cst_17 : Ref sig .tc := ⟨.hbm, 230, rfl⟩
abbrev main_v73 : Ref sig .tc := ⟨.hbm, 231, rfl⟩
abbrev main_v74 : Ref sig .tc := ⟨.hbm, 232, rfl⟩
abbrev main_v75 : Ref sig .tc := ⟨.hbm, 233, rfl⟩
abbrev main_v76 : Ref sig .tc := ⟨.hbm, 234, rfl⟩
abbrev main_v77 : Ref sig .tc := ⟨.hbm, 235, rfl⟩
abbrev main_v78 : Ref sig .tc := ⟨.hbm, 236, rfl⟩
abbrev main_v79 : Ref sig .tc := ⟨.hbm, 237, rfl⟩
abbrev main_v80 : Ref sig .tc := ⟨.hbm, 238, rfl⟩
abbrev main_v81 : Ref sig .tc := ⟨.hbm, 239, rfl⟩
abbrev main_v82 : Ref sig .tc := ⟨.hbm, 240, rfl⟩
abbrev main_cst_18 : Ref sig .tc := ⟨.hbm, 241, rfl⟩
abbrev main_v83 : Ref sig .tc := ⟨.hbm, 242, rfl⟩
abbrev main_v84 : Ref sig .tc := ⟨.hbm, 243, rfl⟩
abbrev main_v85 : Ref sig .tc := ⟨.hbm, 244, rfl⟩
abbrev main_v86 : Ref sig .tc := ⟨.hbm, 245, rfl⟩
abbrev main_v87 : Ref sig .tc := ⟨.hbm, 246, rfl⟩
abbrev main_v88 : Ref sig .tc := ⟨.hbm, 247, rfl⟩
abbrev main_v89 : Ref sig .tc := ⟨.hbm, 248, rfl⟩
abbrev main_v90 : Ref sig .tc := ⟨.hbm, 249, rfl⟩
abbrev main_cst_19 : Ref sig .tc := ⟨.hbm, 250, rfl⟩
abbrev main_cst_20 : Ref sig .tc := ⟨.hbm, 251, rfl⟩
abbrev main_call6_v0 : Ref sig .tc := ⟨.hbm, 252, rfl⟩
abbrev main_call6_v1 : Ref sig .tc := ⟨.hbm, 253, rfl⟩
abbrev main_call6_v2 : Ref sig .tc := ⟨.hbm, 254, rfl⟩
abbrev main_call6_cst : Ref sig .tc := ⟨.hbm, 255, rfl⟩
abbrev main_call6_v3 : Ref sig .tc := ⟨.hbm, 256, rfl⟩
abbrev main_call6_v4 : Ref sig .tc := ⟨.hbm, 257, rfl⟩
abbrev main_call6_cst_0 : Ref sig .tc := ⟨.hbm, 258, rfl⟩
abbrev main_call6_v5 : Ref sig .tc := ⟨.hbm, 259, rfl⟩
abbrev main_call6_v6 : Ref sig .tc := ⟨.hbm, 260, rfl⟩
abbrev main_call6_v7 : Ref sig .tc := ⟨.hbm, 261, rfl⟩
abbrev main_call6_cst_1 : Ref sig .tc := ⟨.hbm, 262, rfl⟩
abbrev main_call6_v8 : Ref sig .tc := ⟨.hbm, 263, rfl⟩
abbrev main_call6_v9 : Ref sig .tc := ⟨.hbm, 264, rfl⟩
abbrev main_call6_v10 : Ref sig .tc := ⟨.hbm, 265, rfl⟩
abbrev main_call6_v11 : Ref sig .tc := ⟨.hbm, 266, rfl⟩
abbrev main_call6_v12 : Ref sig .tc := ⟨.hbm, 267, rfl⟩
abbrev main_call6_v13 : Ref sig .tc := ⟨.hbm, 268, rfl⟩
abbrev main_call6_v14 : Ref sig .tc := ⟨.hbm, 269, rfl⟩
abbrev main_call6_v15 : Ref sig .tc := ⟨.hbm, 270, rfl⟩
abbrev main_call6_v16 : Ref sig .tc := ⟨.hbm, 271, rfl⟩
abbrev main_v91 : Ref sig .tc := ⟨.hbm, 272, rfl⟩
abbrev main_cst_21 : Ref sig .tc := ⟨.hbm, 273, rfl⟩
abbrev main_cst_22 : Ref sig .tc := ⟨.hbm, 274, rfl⟩
abbrev main_call7_v0 : Ref sig .tc := ⟨.hbm, 275, rfl⟩
abbrev main_call7_v1 : Ref sig .tc := ⟨.hbm, 276, rfl⟩
abbrev main_call7_v2 : Ref sig .tc := ⟨.hbm, 277, rfl⟩
abbrev main_call7_cst : Ref sig .tc := ⟨.hbm, 278, rfl⟩
abbrev main_call7_v3 : Ref sig .tc := ⟨.hbm, 279, rfl⟩
abbrev main_call7_v4 : Ref sig .tc := ⟨.hbm, 280, rfl⟩
abbrev main_call7_cst_0 : Ref sig .tc := ⟨.hbm, 281, rfl⟩
abbrev main_call7_v5 : Ref sig .tc := ⟨.hbm, 282, rfl⟩
abbrev main_call7_v6 : Ref sig .tc := ⟨.hbm, 283, rfl⟩
abbrev main_call7_v7 : Ref sig .tc := ⟨.hbm, 284, rfl⟩
abbrev main_call7_cst_1 : Ref sig .tc := ⟨.hbm, 285, rfl⟩
abbrev main_call7_v8 : Ref sig .tc := ⟨.hbm, 286, rfl⟩
abbrev main_call7_v9 : Ref sig .tc := ⟨.hbm, 287, rfl⟩
abbrev main_call7_v10 : Ref sig .tc := ⟨.hbm, 288, rfl⟩
abbrev main_call7_v11 : Ref sig .tc := ⟨.hbm, 289, rfl⟩
abbrev main_call7_v12 : Ref sig .tc := ⟨.hbm, 290, rfl⟩
abbrev main_call7_v13 : Ref sig .tc := ⟨.hbm, 291, rfl⟩
abbrev main_call7_v14 : Ref sig .tc := ⟨.hbm, 292, rfl⟩
abbrev main_call7_v15 : Ref sig .tc := ⟨.hbm, 293, rfl⟩
abbrev main_call7_v16 : Ref sig .tc := ⟨.hbm, 294, rfl⟩
abbrev main_v92 : Ref sig .tc := ⟨.hbm, 295, rfl⟩
abbrev main_v93 : Ref sig .tc := ⟨.hbm, 296, rfl⟩
abbrev main_v94 : Ref sig .tc := ⟨.hbm, 297, rfl⟩
abbrev main_v95 : Ref sig .tc := ⟨.hbm, 298, rfl⟩
abbrev main_v96 : Ref sig .tc := ⟨.hbm, 299, rfl⟩
abbrev main_v97 : Ref sig .tc := ⟨.hbm, 300, rfl⟩
abbrev main_v98 : Ref sig .tc := ⟨.hbm, 301, rfl⟩
abbrev main_v99 : Ref sig .tc := ⟨.hbm, 302, rfl⟩
abbrev main_cst_23 : Ref sig .tc := ⟨.hbm, 303, rfl⟩
abbrev main_v100 : Ref sig .tc := ⟨.hbm, 304, rfl⟩
abbrev main_v101 : Ref sig .tc := ⟨.hbm, 305, rfl⟩
abbrev main_v102 : Ref sig .tc := ⟨.hbm, 306, rfl⟩
abbrev main_v103 : Ref sig .tc := ⟨.hbm, 307, rfl⟩
abbrev main_v104 : Ref sig .tc := ⟨.hbm, 308, rfl⟩
abbrev main_v105 : Ref sig .tc := ⟨.hbm, 309, rfl⟩
abbrev main_v106 : Ref sig .tc := ⟨.hbm, 310, rfl⟩
abbrev main_v107 : Ref sig .tc := ⟨.hbm, 311, rfl⟩
abbrev main_v108 : Ref sig .tc := ⟨.hbm, 312, rfl⟩
abbrev main_v109 : Ref sig .tc := ⟨.hbm, 313, rfl⟩
abbrev main_cst_24 : Ref sig .tc := ⟨.hbm, 314, rfl⟩
abbrev main_v110 : Ref sig .tc := ⟨.hbm, 315, rfl⟩
abbrev main_v111 : Ref sig .tc := ⟨.hbm, 316, rfl⟩
abbrev main_v112 : Ref sig .tc := ⟨.hbm, 317, rfl⟩
abbrev main_v113 : Ref sig .tc := ⟨.hbm, 318, rfl⟩
abbrev main_v114 : Ref sig .tc := ⟨.hbm, 319, rfl⟩
abbrev main_v115 : Ref sig .tc := ⟨.hbm, 320, rfl⟩
abbrev main_v116 : Ref sig .tc := ⟨.hbm, 321, rfl⟩
abbrev main_v117 : Ref sig .tc := ⟨.hbm, 322, rfl⟩
abbrev main_v118 : Ref sig .tc := ⟨.hbm, 323, rfl⟩
abbrev main_v119 : Ref sig .tc := ⟨.hbm, 324, rfl⟩
abbrev main_v120 : Ref sig .tc := ⟨.hbm, 325, rfl⟩
abbrev main_v121 : Ref sig .tc := ⟨.hbm, 326, rfl⟩
abbrev main_v122 : Ref sig .tc := ⟨.hbm, 327, rfl⟩
abbrev main_v123 : Ref sig .tc := ⟨.hbm, 328, rfl⟩
abbrev main_v124 : Ref sig .tc := ⟨.hbm, 329, rfl⟩
abbrev main_v125 : Ref sig .tc := ⟨.hbm, 330, rfl⟩
abbrev main_v126 : Ref sig .tc := ⟨.hbm, 331, rfl⟩
abbrev main_v127 : Ref sig .tc := ⟨.hbm, 332, rfl⟩
abbrev main_v128 : Ref sig .tc := ⟨.hbm, 333, rfl⟩
abbrev main_v129 : Ref sig .tc := ⟨.hbm, 334, rfl⟩
abbrev main_v130 : Ref sig .tc := ⟨.hbm, 335, rfl⟩
abbrev main_v131 : Ref sig .tc := ⟨.hbm, 336, rfl⟩
abbrev main_v132 : Ref sig .tc := ⟨.hbm, 337, rfl⟩
abbrev main_v133 : Ref sig .tc := ⟨.hbm, 338, rfl⟩
abbrev main_v134 : Ref sig .tc := ⟨.hbm, 339, rfl⟩
abbrev main_v135 : Ref sig .tc := ⟨.hbm, 340, rfl⟩
abbrev main_v136 : Ref sig .tc := ⟨.hbm, 341, rfl⟩
abbrev main_v137 : Ref sig .tc := ⟨.hbm, 342, rfl⟩
abbrev main_v138 : Ref sig .tc := ⟨.hbm, 343, rfl⟩
abbrev main_v139 : Ref sig .tc := ⟨.hbm, 344, rfl⟩
abbrev main_v140 : Ref sig .tc := ⟨.hbm, 345, rfl⟩
abbrev main_v141 : Ref sig .tc := ⟨.hbm, 346, rfl⟩
abbrev main_v142 : Ref sig .tc := ⟨.hbm, 347, rfl⟩
abbrev main_v143 : Ref sig .tc := ⟨.hbm, 348, rfl⟩
abbrev main_v144 : Ref sig .tc := ⟨.hbm, 349, rfl⟩
abbrev main_v145 : Ref sig .tc := ⟨.hbm, 350, rfl⟩
abbrev main_v146 : Ref sig .tc := ⟨.hbm, 351, rfl⟩
abbrev main_v147 : Ref sig .tc := ⟨.hbm, 352, rfl⟩
abbrev main_v148 : Ref sig .tc := ⟨.hbm, 353, rfl⟩
abbrev main_v149 : Ref sig .tc := ⟨.hbm, 354, rfl⟩
abbrev main_v150 : Ref sig .tc := ⟨.hbm, 355, rfl⟩
abbrev main_v151 : Ref sig .tc := ⟨.hbm, 356, rfl⟩
abbrev main_cst_25 : Ref sig .tc := ⟨.hbm, 357, rfl⟩
abbrev main_v152 : Ref sig .tc := ⟨.hbm, 358, rfl⟩
abbrev main_cst_26 : Ref sig .tc := ⟨.hbm, 359, rfl⟩
abbrev main_v153 : Ref sig .tc := ⟨.hbm, 360, rfl⟩
abbrev main_v154 : Ref sig .tc := ⟨.hbm, 361, rfl⟩
abbrev main_v155 : Ref sig .tc := ⟨.hbm, 362, rfl⟩
abbrev main_v156 : Ref sig .tc := ⟨.hbm, 363, rfl⟩
abbrev main_v157 : Ref sig .tc := ⟨.hbm, 364, rfl⟩
abbrev main_v158 : Ref sig .tc := ⟨.hbm, 365, rfl⟩
abbrev main_cst_27 : Ref sig .tc := ⟨.hbm, 366, rfl⟩
abbrev main_v159 : Ref sig .tc := ⟨.hbm, 367, rfl⟩
abbrev main_v160 : Ref sig .tc := ⟨.hbm, 368, rfl⟩
abbrev main_v161 : Ref sig .tc := ⟨.hbm, 369, rfl⟩
abbrev main_v162 : Ref sig .tc := ⟨.hbm, 370, rfl⟩
abbrev main_v163 : Ref sig .tc := ⟨.hbm, 371, rfl⟩
abbrev main_v164 : Ref sig .tc := ⟨.hbm, 372, rfl⟩
abbrev main_v165 : Ref sig .tc := ⟨.hbm, 373, rfl⟩
abbrev main_v166 : Ref sig .tc := ⟨.hbm, 374, rfl⟩
abbrev main_v167 : Ref sig .tc := ⟨.hbm, 375, rfl⟩
abbrev main_v168 : Ref sig .tc := ⟨.hbm, 376, rfl⟩
abbrev main_v169 : Ref sig .tc := ⟨.hbm, 377, rfl⟩
abbrev main_cst_28 : Ref sig .tc := ⟨.hbm, 378, rfl⟩
abbrev main_v170 : Ref sig .tc := ⟨.hbm, 379, rfl⟩
abbrev main_v171 : Ref sig .tc := ⟨.hbm, 380, rfl⟩
abbrev main_cst_29 : Ref sig .tc := ⟨.hbm, 381, rfl⟩
abbrev main_v172 : Ref sig .tc := ⟨.hbm, 382, rfl⟩
abbrev main_v173 : Ref sig .tc := ⟨.hbm, 383, rfl⟩
abbrev main_v174 : Ref sig .tc := ⟨.hbm, 384, rfl⟩
abbrev main_v175 : Ref sig .tc := ⟨.hbm, 385, rfl⟩
abbrev main_v176 : Ref sig .tc := ⟨.hbm, 386, rfl⟩
abbrev main_v177 : Ref sig .tc := ⟨.hbm, 387, rfl⟩
abbrev main_v178 : Ref sig .tc := ⟨.hbm, 388, rfl⟩
abbrev main_v179 : Ref sig .tc := ⟨.hbm, 389, rfl⟩
abbrev main_v180 : Ref sig .tc := ⟨.hbm, 390, rfl⟩
abbrev main_v181 : Ref sig .tc := ⟨.hbm, 391, rfl⟩
abbrev main_v182 : Ref sig .tc := ⟨.hbm, 392, rfl⟩
abbrev main_cst_30 : Ref sig .tc := ⟨.hbm, 393, rfl⟩
abbrev main_v183 : Ref sig .tc := ⟨.hbm, 394, rfl⟩
abbrev main_v184 : Ref sig .tc := ⟨.hbm, 395, rfl⟩
abbrev main_cst_31 : Ref sig .tc := ⟨.hbm, 396, rfl⟩
abbrev main_v185 : Ref sig .tc := ⟨.hbm, 397, rfl⟩
abbrev main_v186 : Ref sig .tc := ⟨.hbm, 398, rfl⟩
abbrev main_cst_32 : Ref sig .tc := ⟨.hbm, 399, rfl⟩
abbrev main_v187 : Ref sig .tc := ⟨.hbm, 400, rfl⟩
abbrev main_v188 : Ref sig .tc := ⟨.hbm, 401, rfl⟩
abbrev main_cst_33 : Ref sig .tc := ⟨.hbm, 402, rfl⟩
abbrev main_v189 : Ref sig .tc := ⟨.hbm, 403, rfl⟩
abbrev main_v190 : Ref sig .tc := ⟨.hbm, 404, rfl⟩
abbrev main_v191 : Ref sig .tc := ⟨.hbm, 405, rfl⟩
abbrev main_v192 : Ref sig .tc := ⟨.hbm, 406, rfl⟩
abbrev main_cst_34 : Ref sig .tc := ⟨.hbm, 407, rfl⟩
abbrev main_v193 : Ref sig .tc := ⟨.hbm, 408, rfl⟩
abbrev main_v194 : Ref sig .tc := ⟨.hbm, 409, rfl⟩
abbrev main_cst_35 : Ref sig .tc := ⟨.hbm, 410, rfl⟩
abbrev main_v195 : Ref sig .tc := ⟨.hbm, 411, rfl⟩
abbrev main_v196 : Ref sig .tc := ⟨.hbm, 412, rfl⟩
abbrev main_cst_36 : Ref sig .tc := ⟨.hbm, 413, rfl⟩
abbrev main_v197 : Ref sig .tc := ⟨.hbm, 414, rfl⟩
abbrev main_v198 : Ref sig .tc := ⟨.hbm, 415, rfl⟩
abbrev main_cst_37 : Ref sig .tc := ⟨.hbm, 416, rfl⟩
abbrev main_v199 : Ref sig .tc := ⟨.hbm, 417, rfl⟩
abbrev main_v200 : Ref sig .tc := ⟨.hbm, 418, rfl⟩
abbrev main_v201 : Ref sig .tc := ⟨.hbm, 419, rfl⟩
abbrev main_v202 : Ref sig .tc := ⟨.hbm, 420, rfl⟩
abbrev main_cst_38 : Ref sig .tc := ⟨.hbm, 421, rfl⟩
abbrev main_v203 : Ref sig .tc := ⟨.hbm, 422, rfl⟩
abbrev main_v204 : Ref sig .tc := ⟨.hbm, 423, rfl⟩
abbrev main_cst_39 : Ref sig .tc := ⟨.hbm, 424, rfl⟩
abbrev main_v205 : Ref sig .tc := ⟨.hbm, 425, rfl⟩
abbrev main_v206 : Ref sig .tc := ⟨.hbm, 426, rfl⟩
abbrev main_v207 : Ref sig .tc := ⟨.hbm, 427, rfl⟩
abbrev main_v208 : Ref sig .tc := ⟨.hbm, 428, rfl⟩
abbrev main_v209 : Ref sig .tc := ⟨.hbm, 429, rfl⟩
abbrev main_v210 : Ref sig .tc := ⟨.hbm, 430, rfl⟩
abbrev main_v211 : Ref sig .tc := ⟨.hbm, 431, rfl⟩
abbrev main_v212 : Ref sig .tc := ⟨.hbm, 432, rfl⟩
abbrev main_v213 : Ref sig .tc := ⟨.hbm, 433, rfl⟩
abbrev main_v214 : Ref sig .tc := ⟨.hbm, 434, rfl⟩
abbrev main_v215 : Ref sig .tc := ⟨.hbm, 435, rfl⟩
abbrev main_v216 : Ref sig .tc := ⟨.hbm, 436, rfl⟩
abbrev main_v217 : Ref sig .tc := ⟨.hbm, 437, rfl⟩
abbrev main_v218 : Ref sig .tc := ⟨.hbm, 438, rfl⟩
abbrev main_v219 : Ref sig .tc := ⟨.hbm, 439, rfl⟩
abbrev main_cst_40 : Ref sig .tc := ⟨.hbm, 440, rfl⟩
abbrev main_v220 : Ref sig .tc := ⟨.hbm, 441, rfl⟩
abbrev main_v221 : Ref sig .tc := ⟨.hbm, 442, rfl⟩
abbrev main_cst_41 : Ref sig .tc := ⟨.hbm, 443, rfl⟩
abbrev main_v222 : Ref sig .tc := ⟨.hbm, 444, rfl⟩
abbrev main_v223 : Ref sig .tc := ⟨.hbm, 445, rfl⟩
abbrev main_v224 : Ref sig .tc := ⟨.hbm, 446, rfl⟩
abbrev main_cst_42 : Ref sig .tc := ⟨.hbm, 447, rfl⟩
abbrev main_v225 : Ref sig .tc := ⟨.hbm, 448, rfl⟩
abbrev main_v226 : Ref sig .tc := ⟨.hbm, 449, rfl⟩
abbrev main_v227 : Ref sig .tc := ⟨.hbm, 450, rfl⟩
abbrev main_cst_43 : Ref sig .tc := ⟨.hbm, 451, rfl⟩
abbrev main_v228 : Ref sig .tc := ⟨.hbm, 452, rfl⟩
abbrev main_v229 : Ref sig .tc := ⟨.hbm, 453, rfl⟩
abbrev main_v230 : Ref sig .tc := ⟨.hbm, 454, rfl⟩
abbrev main_c : Ref sig .tc := ⟨.hbm, 455, rfl⟩
abbrev main_c_44 : Ref sig .tc := ⟨.hbm, 456, rfl⟩
abbrev main_call8_v0 : Ref sig .tc := ⟨.hbm, 457, rfl⟩
abbrev main_call8_v1 : Ref sig .tc := ⟨.hbm, 458, rfl⟩
abbrev main_call8_v2 : Ref sig .tc := ⟨.hbm, 459, rfl⟩
abbrev main_call8_v3 : Ref sig .tc := ⟨.hbm, 460, rfl⟩
abbrev main_call8_v4 : Ref sig .tc := ⟨.hbm, 461, rfl⟩
abbrev main_v231 : Ref sig .tc := ⟨.hbm, 462, rfl⟩
abbrev main_v232 : Ref sig .tc := ⟨.hbm, 463, rfl⟩
abbrev main_c_45 : Ref sig .tc := ⟨.hbm, 464, rfl⟩
abbrev main_c_46 : Ref sig .tc := ⟨.hbm, 465, rfl⟩
abbrev main_call9_v0 : Ref sig .tc := ⟨.hbm, 466, rfl⟩
abbrev main_call9_v1 : Ref sig .tc := ⟨.hbm, 467, rfl⟩
abbrev main_call9_v2 : Ref sig .tc := ⟨.hbm, 468, rfl⟩
abbrev main_call9_v3 : Ref sig .tc := ⟨.hbm, 469, rfl⟩
abbrev main_call9_v4 : Ref sig .tc := ⟨.hbm, 470, rfl⟩
abbrev main_v233 : Ref sig .tc := ⟨.hbm, 471, rfl⟩
abbrev main_v234 : Ref sig .tc := ⟨.hbm, 472, rfl⟩
abbrev main_c_47 : Ref sig .tc := ⟨.hbm, 473, rfl⟩
abbrev main_v235 : Ref sig .tc := ⟨.hbm, 474, rfl⟩
abbrev main_v236 : Ref sig .tc := ⟨.hbm, 475, rfl⟩
abbrev main_v237 : Ref sig .tc := ⟨.hbm, 476, rfl⟩
abbrev main_v238 : Ref sig .tc := ⟨.hbm, 477, rfl⟩
abbrev main_v239 : Ref sig .tc := ⟨.hbm, 478, rfl⟩
abbrev main_v240 : Ref sig .tc := ⟨.hbm, 479, rfl⟩
abbrev main_call10_c : Ref sig .tc := ⟨.hbm, 480, rfl⟩
abbrev main_call10_v0 : Ref sig .tc := ⟨.hbm, 481, rfl⟩
abbrev main_call10_v1 : Ref sig .tc := ⟨.hbm, 482, rfl⟩
abbrev main_call10_c_0 : Ref sig .tc := ⟨.hbm, 483, rfl⟩
abbrev main_call10_v2 : Ref sig .tc := ⟨.hbm, 484, rfl⟩
abbrev main_call10_v3 : Ref sig .tc := ⟨.hbm, 485, rfl⟩
abbrev main_call10_v4 : Ref sig .tc := ⟨.hbm, 486, rfl⟩
abbrev main_call10_v5 : Ref sig .tc := ⟨.hbm, 487, rfl⟩
abbrev main_call10_c_1 : Ref sig .tc := ⟨.hbm, 488, rfl⟩
abbrev main_call10_c_2 : Ref sig .tc := ⟨.hbm, 489, rfl⟩
abbrev main_call10_v6 : Ref sig .tc := ⟨.hbm, 490, rfl⟩
abbrev main_call10_v7 : Ref sig .tc := ⟨.hbm, 491, rfl⟩
abbrev main_call10_v8 : Ref sig .tc := ⟨.hbm, 492, rfl⟩
abbrev main_call10_v9 : Ref sig .tc := ⟨.hbm, 493, rfl⟩
abbrev main_call10_v10 : Ref sig .tc := ⟨.hbm, 494, rfl⟩
abbrev main_call10_v11 : Ref sig .tc := ⟨.hbm, 495, rfl⟩
abbrev main_call10_c_3 : Ref sig .tc := ⟨.hbm, 496, rfl⟩
abbrev main_call10_v12 : Ref sig .tc := ⟨.hbm, 497, rfl⟩
abbrev main_call10_v13 : Ref sig .tc := ⟨.hbm, 498, rfl⟩
abbrev main_call10_cst : Ref sig .tc := ⟨.hbm, 499, rfl⟩
abbrev main_call10_v14 : Ref sig .tc := ⟨.hbm, 500, rfl⟩
abbrev main_v241 : Ref sig .tc := ⟨.hbm, 501, rfl⟩
abbrev main_v242 : Ref sig .tc := ⟨.hbm, 502, rfl⟩
abbrev main_v243 : Ref sig .tc := ⟨.hbm, 503, rfl⟩
abbrev main_v244 : Ref sig .tc := ⟨.hbm, 504, rfl⟩
abbrev main_v245 : Ref sig .tc := ⟨.hbm, 505, rfl⟩
abbrev main_v246 : Ref sig .tc := ⟨.hbm, 506, rfl⟩
abbrev main_v247 : Ref sig .tc := ⟨.hbm, 507, rfl⟩
abbrev main_v248 : Ref sig .tc := ⟨.hbm, 508, rfl⟩
abbrev main_v249 : Ref sig .tc := ⟨.hbm, 509, rfl⟩
abbrev main_cst_48 : Ref sig .tc := ⟨.hbm, 510, rfl⟩
abbrev main_v250 : Ref sig .tc := ⟨.hbm, 511, rfl⟩
abbrev main_v251 : Ref sig .tc := ⟨.hbm, 512, rfl⟩
abbrev main_cst_49 : Ref sig .tc := ⟨.hbm, 513, rfl⟩
abbrev main_v252 : Ref sig .tc := ⟨.hbm, 514, rfl⟩
abbrev main_v253 : Ref sig .tc := ⟨.hbm, 515, rfl⟩
abbrev main_v254 : Ref sig .tc := ⟨.hbm, 516, rfl⟩
abbrev main_cst_50 : Ref sig .tc := ⟨.hbm, 517, rfl⟩
abbrev main_v255 : Ref sig .tc := ⟨.hbm, 518, rfl⟩
abbrev main_v256 : Ref sig .tc := ⟨.hbm, 519, rfl⟩
abbrev main_v257 : Ref sig .tc := ⟨.hbm, 520, rfl⟩
abbrev main_cst_51 : Ref sig .tc := ⟨.hbm, 521, rfl⟩
abbrev main_v258 : Ref sig .tc := ⟨.hbm, 522, rfl⟩
abbrev main_v259 : Ref sig .tc := ⟨.hbm, 523, rfl⟩
abbrev main_v260 : Ref sig .tc := ⟨.hbm, 524, rfl⟩
abbrev main_c_52 : Ref sig .tc := ⟨.hbm, 525, rfl⟩
abbrev main_c_53 : Ref sig .tc := ⟨.hbm, 526, rfl⟩
abbrev main_call11_v0 : Ref sig .tc := ⟨.hbm, 527, rfl⟩
abbrev main_call11_v1 : Ref sig .tc := ⟨.hbm, 528, rfl⟩
abbrev main_call11_v2 : Ref sig .tc := ⟨.hbm, 529, rfl⟩
abbrev main_call11_v3 : Ref sig .tc := ⟨.hbm, 530, rfl⟩
abbrev main_call11_v4 : Ref sig .tc := ⟨.hbm, 531, rfl⟩
abbrev main_v261 : Ref sig .tc := ⟨.hbm, 532, rfl⟩
abbrev main_v262 : Ref sig .tc := ⟨.hbm, 533, rfl⟩
abbrev main_c_54 : Ref sig .tc := ⟨.hbm, 534, rfl⟩
abbrev main_c_55 : Ref sig .tc := ⟨.hbm, 535, rfl⟩
abbrev main_call12_v0 : Ref sig .tc := ⟨.hbm, 536, rfl⟩
abbrev main_call12_v1 : Ref sig .tc := ⟨.hbm, 537, rfl⟩
abbrev main_call12_v2 : Ref sig .tc := ⟨.hbm, 538, rfl⟩
abbrev main_call12_v3 : Ref sig .tc := ⟨.hbm, 539, rfl⟩
abbrev main_call12_v4 : Ref sig .tc := ⟨.hbm, 540, rfl⟩
abbrev main_v263 : Ref sig .tc := ⟨.hbm, 541, rfl⟩
abbrev main_v264 : Ref sig .tc := ⟨.hbm, 542, rfl⟩
abbrev main_c_56 : Ref sig .tc := ⟨.hbm, 543, rfl⟩
abbrev main_v265 : Ref sig .tc := ⟨.hbm, 544, rfl⟩
abbrev main_v266 : Ref sig .tc := ⟨.hbm, 545, rfl⟩
abbrev main_v267 : Ref sig .tc := ⟨.hbm, 546, rfl⟩
abbrev main_v268 : Ref sig .tc := ⟨.hbm, 547, rfl⟩
abbrev main_v269 : Ref sig .tc := ⟨.hbm, 548, rfl⟩
abbrev main_v270 : Ref sig .tc := ⟨.hbm, 549, rfl⟩
abbrev main_call13_c : Ref sig .tc := ⟨.hbm, 550, rfl⟩
abbrev main_call13_v0 : Ref sig .tc := ⟨.hbm, 551, rfl⟩
abbrev main_call13_v1 : Ref sig .tc := ⟨.hbm, 552, rfl⟩
abbrev main_call13_c_0 : Ref sig .tc := ⟨.hbm, 553, rfl⟩
abbrev main_call13_v2 : Ref sig .tc := ⟨.hbm, 554, rfl⟩
abbrev main_call13_v3 : Ref sig .tc := ⟨.hbm, 555, rfl⟩
abbrev main_call13_v4 : Ref sig .tc := ⟨.hbm, 556, rfl⟩
abbrev main_call13_v5 : Ref sig .tc := ⟨.hbm, 557, rfl⟩
abbrev main_call13_c_1 : Ref sig .tc := ⟨.hbm, 558, rfl⟩
abbrev main_call13_c_2 : Ref sig .tc := ⟨.hbm, 559, rfl⟩
abbrev main_call13_v6 : Ref sig .tc := ⟨.hbm, 560, rfl⟩
abbrev main_call13_v7 : Ref sig .tc := ⟨.hbm, 561, rfl⟩
abbrev main_call13_v8 : Ref sig .tc := ⟨.hbm, 562, rfl⟩
abbrev main_call13_v9 : Ref sig .tc := ⟨.hbm, 563, rfl⟩
abbrev main_call13_v10 : Ref sig .tc := ⟨.hbm, 564, rfl⟩
abbrev main_call13_v11 : Ref sig .tc := ⟨.hbm, 565, rfl⟩
abbrev main_call13_c_3 : Ref sig .tc := ⟨.hbm, 566, rfl⟩
abbrev main_call13_v12 : Ref sig .tc := ⟨.hbm, 567, rfl⟩
abbrev main_call13_v13 : Ref sig .tc := ⟨.hbm, 568, rfl⟩
abbrev main_call13_cst : Ref sig .tc := ⟨.hbm, 569, rfl⟩
abbrev main_call13_v14 : Ref sig .tc := ⟨.hbm, 570, rfl⟩
abbrev main_v271 : Ref sig .tc := ⟨.hbm, 571, rfl⟩
abbrev main_v272 : Ref sig .tc := ⟨.hbm, 572, rfl⟩
abbrev main_v273 : Ref sig .tc := ⟨.hbm, 573, rfl⟩
abbrev main_v274 : Ref sig .tc := ⟨.hbm, 574, rfl⟩
abbrev main_v275 : Ref sig .tc := ⟨.hbm, 575, rfl⟩
abbrev main_v276 : Ref sig .tc := ⟨.hbm, 576, rfl⟩
abbrev main_v277 : Ref sig .tc := ⟨.hbm, 577, rfl⟩
abbrev main_v278 : Ref sig .tc := ⟨.hbm, 578, rfl⟩
abbrev main_v279 : Ref sig .tc := ⟨.hbm, 579, rfl⟩
abbrev main_v280 : Ref sig .tc := ⟨.hbm, 580, rfl⟩
abbrev main_cst_57 : Ref sig .tc := ⟨.hbm, 581, rfl⟩
abbrev main_v281 : Ref sig .tc := ⟨.hbm, 582, rfl⟩
abbrev main_v282 : Ref sig .tc := ⟨.hbm, 583, rfl⟩
abbrev main_cst_58 : Ref sig .tc := ⟨.hbm, 584, rfl⟩
abbrev main_v283 : Ref sig .tc := ⟨.hbm, 585, rfl⟩
abbrev main_v284 : Ref sig .tc := ⟨.hbm, 586, rfl⟩
abbrev main_v285 : Ref sig .tc := ⟨.hbm, 587, rfl⟩
abbrev main_cst_59 : Ref sig .tc := ⟨.hbm, 588, rfl⟩
abbrev main_v286 : Ref sig .tc := ⟨.hbm, 589, rfl⟩
abbrev main_v287 : Ref sig .tc := ⟨.hbm, 590, rfl⟩
abbrev main_v288 : Ref sig .tc := ⟨.hbm, 591, rfl⟩
abbrev main_cst_60 : Ref sig .tc := ⟨.hbm, 592, rfl⟩
abbrev main_v289 : Ref sig .tc := ⟨.hbm, 593, rfl⟩
abbrev main_v290 : Ref sig .tc := ⟨.hbm, 594, rfl⟩
abbrev main_v291 : Ref sig .tc := ⟨.hbm, 595, rfl⟩
abbrev main_c_61 : Ref sig .tc := ⟨.hbm, 596, rfl⟩
abbrev main_c_62 : Ref sig .tc := ⟨.hbm, 597, rfl⟩
abbrev main_call14_v0 : Ref sig .tc := ⟨.hbm, 598, rfl⟩
abbrev main_call14_v1 : Ref sig .tc := ⟨.hbm, 599, rfl⟩
abbrev main_call14_v2 : Ref sig .tc := ⟨.hbm, 600, rfl⟩
abbrev main_call14_v3 : Ref sig .tc := ⟨.hbm, 601, rfl⟩
abbrev main_call14_v4 : Ref sig .tc := ⟨.hbm, 602, rfl⟩
abbrev main_v292 : Ref sig .tc := ⟨.hbm, 603, rfl⟩
abbrev main_v293 : Ref sig .tc := ⟨.hbm, 604, rfl⟩
abbrev main_c_63 : Ref sig .tc := ⟨.hbm, 605, rfl⟩
abbrev main_c_64 : Ref sig .tc := ⟨.hbm, 606, rfl⟩
abbrev main_call15_v0 : Ref sig .tc := ⟨.hbm, 607, rfl⟩
abbrev main_call15_v1 : Ref sig .tc := ⟨.hbm, 608, rfl⟩
abbrev main_call15_v2 : Ref sig .tc := ⟨.hbm, 609, rfl⟩
abbrev main_call15_v3 : Ref sig .tc := ⟨.hbm, 610, rfl⟩
abbrev main_call15_v4 : Ref sig .tc := ⟨.hbm, 611, rfl⟩
abbrev main_v294 : Ref sig .tc := ⟨.hbm, 612, rfl⟩
abbrev main_v295 : Ref sig .tc := ⟨.hbm, 613, rfl⟩
abbrev main_c_65 : Ref sig .tc := ⟨.hbm, 614, rfl⟩
abbrev main_v296 : Ref sig .tc := ⟨.hbm, 615, rfl⟩
abbrev main_v297 : Ref sig .tc := ⟨.hbm, 616, rfl⟩
abbrev main_v298 : Ref sig .tc := ⟨.hbm, 617, rfl⟩
abbrev main_v299 : Ref sig .tc := ⟨.hbm, 618, rfl⟩
abbrev main_v300 : Ref sig .tc := ⟨.hbm, 619, rfl⟩
abbrev main_v301 : Ref sig .tc := ⟨.hbm, 620, rfl⟩
abbrev main_call16_c : Ref sig .tc := ⟨.hbm, 621, rfl⟩
abbrev main_call16_v0 : Ref sig .tc := ⟨.hbm, 622, rfl⟩
abbrev main_call16_v1 : Ref sig .tc := ⟨.hbm, 623, rfl⟩
abbrev main_call16_c_0 : Ref sig .tc := ⟨.hbm, 624, rfl⟩
abbrev main_call16_v2 : Ref sig .tc := ⟨.hbm, 625, rfl⟩
abbrev main_call16_v3 : Ref sig .tc := ⟨.hbm, 626, rfl⟩
abbrev main_call16_v4 : Ref sig .tc := ⟨.hbm, 627, rfl⟩
abbrev main_call16_v5 : Ref sig .tc := ⟨.hbm, 628, rfl⟩
abbrev main_call16_c_1 : Ref sig .tc := ⟨.hbm, 629, rfl⟩
abbrev main_call16_c_2 : Ref sig .tc := ⟨.hbm, 630, rfl⟩
abbrev main_call16_v6 : Ref sig .tc := ⟨.hbm, 631, rfl⟩
abbrev main_call16_v7 : Ref sig .tc := ⟨.hbm, 632, rfl⟩
abbrev main_call16_v8 : Ref sig .tc := ⟨.hbm, 633, rfl⟩
abbrev main_call16_v9 : Ref sig .tc := ⟨.hbm, 634, rfl⟩
abbrev main_call16_v10 : Ref sig .tc := ⟨.hbm, 635, rfl⟩
abbrev main_call16_v11 : Ref sig .tc := ⟨.hbm, 636, rfl⟩
abbrev main_call16_c_3 : Ref sig .tc := ⟨.hbm, 637, rfl⟩
abbrev main_call16_v12 : Ref sig .tc := ⟨.hbm, 638, rfl⟩
abbrev main_call16_v13 : Ref sig .tc := ⟨.hbm, 639, rfl⟩
abbrev main_call16_cst : Ref sig .tc := ⟨.hbm, 640, rfl⟩
abbrev main_call16_v14 : Ref sig .tc := ⟨.hbm, 641, rfl⟩
abbrev main_v302 : Ref sig .tc := ⟨.hbm, 642, rfl⟩
abbrev main_v303 : Ref sig .tc := ⟨.hbm, 643, rfl⟩
abbrev main_v304 : Ref sig .tc := ⟨.hbm, 644, rfl⟩
abbrev main_v305 : Ref sig .tc := ⟨.hbm, 645, rfl⟩
abbrev main_v306 : Ref sig .tc := ⟨.hbm, 646, rfl⟩
abbrev main_v307 : Ref sig .tc := ⟨.hbm, 647, rfl⟩
abbrev main_v308 : Ref sig .tc := ⟨.hbm, 648, rfl⟩
abbrev main_v309 : Ref sig .tc := ⟨.hbm, 649, rfl⟩
abbrev main_v310 : Ref sig .tc := ⟨.hbm, 650, rfl⟩
abbrev main_v311 : Ref sig .tc := ⟨.hbm, 651, rfl⟩
abbrev main_cst_66 : Ref sig .tc := ⟨.hbm, 652, rfl⟩
abbrev main_v312 : Ref sig .tc := ⟨.hbm, 653, rfl⟩
abbrev main_v313 : Ref sig .tc := ⟨.hbm, 654, rfl⟩
abbrev main_cst_67 : Ref sig .tc := ⟨.hbm, 655, rfl⟩
abbrev main_v314 : Ref sig .tc := ⟨.hbm, 656, rfl⟩
abbrev main_v315 : Ref sig .tc := ⟨.hbm, 657, rfl⟩
abbrev main_v316 : Ref sig .tc := ⟨.hbm, 658, rfl⟩
abbrev main_cst_68 : Ref sig .tc := ⟨.hbm, 659, rfl⟩
abbrev main_v317 : Ref sig .tc := ⟨.hbm, 660, rfl⟩
abbrev main_v318 : Ref sig .tc := ⟨.hbm, 661, rfl⟩
abbrev main_v319 : Ref sig .tc := ⟨.hbm, 662, rfl⟩
abbrev main_cst_69 : Ref sig .tc := ⟨.hbm, 663, rfl⟩
abbrev main_v320 : Ref sig .tc := ⟨.hbm, 664, rfl⟩
abbrev main_v321 : Ref sig .tc := ⟨.hbm, 665, rfl⟩
abbrev main_v322 : Ref sig .tc := ⟨.hbm, 666, rfl⟩
abbrev main_c_70 : Ref sig .tc := ⟨.hbm, 667, rfl⟩
abbrev main_c_71 : Ref sig .tc := ⟨.hbm, 668, rfl⟩
abbrev main_call17_v0 : Ref sig .tc := ⟨.hbm, 669, rfl⟩
abbrev main_call17_v1 : Ref sig .tc := ⟨.hbm, 670, rfl⟩
abbrev main_call17_v2 : Ref sig .tc := ⟨.hbm, 671, rfl⟩
abbrev main_call17_v3 : Ref sig .tc := ⟨.hbm, 672, rfl⟩
abbrev main_call17_v4 : Ref sig .tc := ⟨.hbm, 673, rfl⟩
abbrev main_v323 : Ref sig .tc := ⟨.hbm, 674, rfl⟩
abbrev main_v324 : Ref sig .tc := ⟨.hbm, 675, rfl⟩
abbrev main_c_72 : Ref sig .tc := ⟨.hbm, 676, rfl⟩
abbrev main_c_73 : Ref sig .tc := ⟨.hbm, 677, rfl⟩
abbrev main_call18_v0 : Ref sig .tc := ⟨.hbm, 678, rfl⟩
abbrev main_call18_v1 : Ref sig .tc := ⟨.hbm, 679, rfl⟩
abbrev main_call18_v2 : Ref sig .tc := ⟨.hbm, 680, rfl⟩
abbrev main_call18_v3 : Ref sig .tc := ⟨.hbm, 681, rfl⟩
abbrev main_call18_v4 : Ref sig .tc := ⟨.hbm, 682, rfl⟩
abbrev main_v325 : Ref sig .tc := ⟨.hbm, 683, rfl⟩
abbrev main_v326 : Ref sig .tc := ⟨.hbm, 684, rfl⟩
abbrev main_c_74 : Ref sig .tc := ⟨.hbm, 685, rfl⟩
abbrev main_v327 : Ref sig .tc := ⟨.hbm, 686, rfl⟩
abbrev main_v328 : Ref sig .tc := ⟨.hbm, 687, rfl⟩
abbrev main_v329 : Ref sig .tc := ⟨.hbm, 688, rfl⟩
abbrev main_v330 : Ref sig .tc := ⟨.hbm, 689, rfl⟩
abbrev main_v331 : Ref sig .tc := ⟨.hbm, 690, rfl⟩
abbrev main_v332 : Ref sig .tc := ⟨.hbm, 691, rfl⟩
abbrev main_call19_c : Ref sig .tc := ⟨.hbm, 692, rfl⟩
abbrev main_call19_v0 : Ref sig .tc := ⟨.hbm, 693, rfl⟩
abbrev main_call19_v1 : Ref sig .tc := ⟨.hbm, 694, rfl⟩
abbrev main_call19_c_0 : Ref sig .tc := ⟨.hbm, 695, rfl⟩
abbrev main_call19_v2 : Ref sig .tc := ⟨.hbm, 696, rfl⟩
abbrev main_call19_v3 : Ref sig .tc := ⟨.hbm, 697, rfl⟩
abbrev main_call19_v4 : Ref sig .tc := ⟨.hbm, 698, rfl⟩
abbrev main_call19_v5 : Ref sig .tc := ⟨.hbm, 699, rfl⟩
abbrev main_call19_c_1 : Ref sig .tc := ⟨.hbm, 700, rfl⟩
abbrev main_call19_c_2 : Ref sig .tc := ⟨.hbm, 701, rfl⟩
abbrev main_call19_v6 : Ref sig .tc := ⟨.hbm, 702, rfl⟩
abbrev main_call19_v7 : Ref sig .tc := ⟨.hbm, 703, rfl⟩
abbrev main_call19_v8 : Ref sig .tc := ⟨.hbm, 704, rfl⟩
abbrev main_call19_v9 : Ref sig .tc := ⟨.hbm, 705, rfl⟩
abbrev main_call19_v10 : Ref sig .tc := ⟨.hbm, 706, rfl⟩
abbrev main_call19_v11 : Ref sig .tc := ⟨.hbm, 707, rfl⟩
abbrev main_call19_c_3 : Ref sig .tc := ⟨.hbm, 708, rfl⟩
abbrev main_call19_v12 : Ref sig .tc := ⟨.hbm, 709, rfl⟩
abbrev main_call19_v13 : Ref sig .tc := ⟨.hbm, 710, rfl⟩
abbrev main_call19_cst : Ref sig .tc := ⟨.hbm, 711, rfl⟩
abbrev main_call19_v14 : Ref sig .tc := ⟨.hbm, 712, rfl⟩
abbrev main_v333 : Ref sig .tc := ⟨.hbm, 713, rfl⟩
abbrev main_v334 : Ref sig .tc := ⟨.hbm, 714, rfl⟩
abbrev main_v335 : Ref sig .tc := ⟨.hbm, 715, rfl⟩
abbrev main_v336 : Ref sig .tc := ⟨.hbm, 716, rfl⟩
abbrev main_v337 : Ref sig .tc := ⟨.hbm, 717, rfl⟩
abbrev main_v338 : Ref sig .tc := ⟨.hbm, 718, rfl⟩
abbrev main_v339 : Ref sig .tc := ⟨.hbm, 719, rfl⟩
abbrev main_v340 : Ref sig .tc := ⟨.hbm, 720, rfl⟩
abbrev main_v341 : Ref sig .tc := ⟨.hbm, 721, rfl⟩
abbrev main_v342 : Ref sig .tc := ⟨.hbm, 722, rfl⟩
abbrev main_v343 : Ref sig .tc := ⟨.hbm, 723, rfl⟩
abbrev main_v344 : Ref sig .tc := ⟨.hbm, 724, rfl⟩
abbrev main_v345 : Ref sig .tc := ⟨.hbm, 725, rfl⟩
abbrev main_v346 : Ref sig .tc := ⟨.hbm, 726, rfl⟩
abbrev main_v347 : Ref sig .tc := ⟨.hbm, 727, rfl⟩
abbrev main_v348 : Ref sig .tc := ⟨.hbm, 728, rfl⟩
abbrev main_v349 : Ref sig .tc := ⟨.hbm, 729, rfl⟩
abbrev main_v350 : Ref sig .tc := ⟨.hbm, 730, rfl⟩
abbrev main_v351 : Ref sig .tc := ⟨.hbm, 731, rfl⟩
abbrev main_cst_75 : Ref sig .tc := ⟨.hbm, 732, rfl⟩
abbrev main_v352 : Ref sig .tc := ⟨.hbm, 733, rfl⟩
abbrev main_v353 : Ref sig .tc := ⟨.hbm, 734, rfl⟩
abbrev main_cst_76 : Ref sig .tc := ⟨.hbm, 735, rfl⟩
abbrev main_v354 : Ref sig .tc := ⟨.hbm, 736, rfl⟩
abbrev main_v355 : Ref sig .tc := ⟨.hbm, 737, rfl⟩
abbrev main_cst_77 : Ref sig .tc := ⟨.hbm, 738, rfl⟩
abbrev main_v356 : Ref sig .tc := ⟨.hbm, 739, rfl⟩
abbrev main_v357 : Ref sig .tc := ⟨.hbm, 740, rfl⟩
abbrev main_cst_78 : Ref sig .tc := ⟨.hbm, 741, rfl⟩
abbrev main_v358 : Ref sig .tc := ⟨.hbm, 742, rfl⟩
abbrev main_v359 : Ref sig .tc := ⟨.hbm, 743, rfl⟩
abbrev main_v360 : Ref sig .tc := ⟨.hbm, 744, rfl⟩
abbrev main_v361 : Ref sig .tc := ⟨.hbm, 745, rfl⟩
abbrev main_cst_79 : Ref sig .tc := ⟨.hbm, 746, rfl⟩
abbrev main_v362 : Ref sig .tc := ⟨.hbm, 747, rfl⟩
abbrev main_v363 : Ref sig .tc := ⟨.hbm, 748, rfl⟩
abbrev main_cst_80 : Ref sig .tc := ⟨.hbm, 749, rfl⟩
abbrev main_v364 : Ref sig .tc := ⟨.hbm, 750, rfl⟩
abbrev main_v365 : Ref sig .tc := ⟨.hbm, 751, rfl⟩
abbrev main_cst_81 : Ref sig .tc := ⟨.hbm, 752, rfl⟩
abbrev main_v366 : Ref sig .tc := ⟨.hbm, 753, rfl⟩
abbrev main_v367 : Ref sig .tc := ⟨.hbm, 754, rfl⟩
abbrev main_cst_82 : Ref sig .tc := ⟨.hbm, 755, rfl⟩
abbrev main_v368 : Ref sig .tc := ⟨.hbm, 756, rfl⟩
abbrev main_v369 : Ref sig .tc := ⟨.hbm, 757, rfl⟩
abbrev main_v370 : Ref sig .tc := ⟨.hbm, 758, rfl⟩
abbrev main_v371 : Ref sig .tc := ⟨.hbm, 759, rfl⟩
abbrev main_cst_83 : Ref sig .tc := ⟨.hbm, 760, rfl⟩
abbrev main_v372 : Ref sig .tc := ⟨.hbm, 761, rfl⟩
abbrev main_v373 : Ref sig .tc := ⟨.hbm, 762, rfl⟩
abbrev main_cst_84 : Ref sig .tc := ⟨.hbm, 763, rfl⟩
abbrev main_v374 : Ref sig .tc := ⟨.hbm, 764, rfl⟩
abbrev main_v375 : Ref sig .tc := ⟨.hbm, 765, rfl⟩
abbrev main_v376 : Ref sig .tc := ⟨.hbm, 766, rfl⟩
abbrev main_v377 : Ref sig .tc := ⟨.hbm, 767, rfl⟩
abbrev main_v378 : Ref sig .tc := ⟨.hbm, 768, rfl⟩
abbrev main_v379 : Ref sig .tc := ⟨.hbm, 769, rfl⟩
abbrev main_v380 : Ref sig .tc := ⟨.hbm, 770, rfl⟩
abbrev main_v381 : Ref sig .tc := ⟨.hbm, 771, rfl⟩
abbrev main_v382 : Ref sig .tc := ⟨.hbm, 772, rfl⟩
abbrev main_v383 : Ref sig .tc := ⟨.hbm, 773, rfl⟩
abbrev main_v384 : Ref sig .tc := ⟨.hbm, 774, rfl⟩
abbrev main_v385 : Ref sig .tc := ⟨.hbm, 775, rfl⟩
abbrev main_v386 : Ref sig .tc := ⟨.hbm, 776, rfl⟩
abbrev main_v387 : Ref sig .tc := ⟨.hbm, 777, rfl⟩
abbrev main_v388 : Ref sig .tc := ⟨.hbm, 778, rfl⟩
abbrev main_cst_85 : Ref sig .tc := ⟨.hbm, 779, rfl⟩
abbrev main_v389 : Ref sig .tc := ⟨.hbm, 780, rfl⟩
abbrev main_v390 : Ref sig .tc := ⟨.hbm, 781, rfl⟩
abbrev main_cst_86 : Ref sig .tc := ⟨.hbm, 782, rfl⟩
abbrev main_v391 : Ref sig .tc := ⟨.hbm, 783, rfl⟩
abbrev main_v392 : Ref sig .tc := ⟨.hbm, 784, rfl⟩
abbrev main_v393 : Ref sig .tc := ⟨.hbm, 785, rfl⟩
abbrev main_cst_87 : Ref sig .tc := ⟨.hbm, 786, rfl⟩
abbrev main_v394 : Ref sig .tc := ⟨.hbm, 787, rfl⟩
abbrev main_v395 : Ref sig .tc := ⟨.hbm, 788, rfl⟩
abbrev main_v396 : Ref sig .tc := ⟨.hbm, 789, rfl⟩
abbrev main_cst_88 : Ref sig .tc := ⟨.hbm, 790, rfl⟩
abbrev main_v397 : Ref sig .tc := ⟨.hbm, 791, rfl⟩
abbrev main_v398 : Ref sig .tc := ⟨.hbm, 792, rfl⟩
abbrev main_v399 : Ref sig .tc := ⟨.hbm, 793, rfl⟩
abbrev main_c_89 : Ref sig .tc := ⟨.hbm, 794, rfl⟩
abbrev main_c_90 : Ref sig .tc := ⟨.hbm, 795, rfl⟩
abbrev main_call20_v0 : Ref sig .tc := ⟨.hbm, 796, rfl⟩
abbrev main_call20_v1 : Ref sig .tc := ⟨.hbm, 797, rfl⟩
abbrev main_call20_v2 : Ref sig .tc := ⟨.hbm, 798, rfl⟩
abbrev main_call20_v3 : Ref sig .tc := ⟨.hbm, 799, rfl⟩
abbrev main_call20_v4 : Ref sig .tc := ⟨.hbm, 800, rfl⟩
abbrev main_v400 : Ref sig .tc := ⟨.hbm, 801, rfl⟩
abbrev main_v401 : Ref sig .tc := ⟨.hbm, 802, rfl⟩
abbrev main_c_91 : Ref sig .tc := ⟨.hbm, 803, rfl⟩
abbrev main_c_92 : Ref sig .tc := ⟨.hbm, 804, rfl⟩
abbrev main_call21_v0 : Ref sig .tc := ⟨.hbm, 805, rfl⟩
abbrev main_call21_v1 : Ref sig .tc := ⟨.hbm, 806, rfl⟩
abbrev main_call21_v2 : Ref sig .tc := ⟨.hbm, 807, rfl⟩
abbrev main_call21_v3 : Ref sig .tc := ⟨.hbm, 808, rfl⟩
abbrev main_call21_v4 : Ref sig .tc := ⟨.hbm, 809, rfl⟩
abbrev main_v402 : Ref sig .tc := ⟨.hbm, 810, rfl⟩
abbrev main_v403 : Ref sig .tc := ⟨.hbm, 811, rfl⟩
abbrev main_c_93 : Ref sig .tc := ⟨.hbm, 812, rfl⟩
abbrev main_v404 : Ref sig .tc := ⟨.hbm, 813, rfl⟩
abbrev main_v405 : Ref sig .tc := ⟨.hbm, 814, rfl⟩
abbrev main_v406 : Ref sig .tc := ⟨.hbm, 815, rfl⟩
abbrev main_v407 : Ref sig .tc := ⟨.hbm, 816, rfl⟩
abbrev main_v408 : Ref sig .tc := ⟨.hbm, 817, rfl⟩
abbrev main_v409 : Ref sig .tc := ⟨.hbm, 818, rfl⟩
abbrev main_call22_c : Ref sig .tc := ⟨.hbm, 819, rfl⟩
abbrev main_call22_v0 : Ref sig .tc := ⟨.hbm, 820, rfl⟩
abbrev main_call22_v1 : Ref sig .tc := ⟨.hbm, 821, rfl⟩
abbrev main_call22_c_0 : Ref sig .tc := ⟨.hbm, 822, rfl⟩
abbrev main_call22_v2 : Ref sig .tc := ⟨.hbm, 823, rfl⟩
abbrev main_call22_v3 : Ref sig .tc := ⟨.hbm, 824, rfl⟩
abbrev main_call22_v4 : Ref sig .tc := ⟨.hbm, 825, rfl⟩
abbrev main_call22_v5 : Ref sig .tc := ⟨.hbm, 826, rfl⟩
abbrev main_call22_c_1 : Ref sig .tc := ⟨.hbm, 827, rfl⟩
abbrev main_call22_c_2 : Ref sig .tc := ⟨.hbm, 828, rfl⟩
abbrev main_call22_v6 : Ref sig .tc := ⟨.hbm, 829, rfl⟩
abbrev main_call22_v7 : Ref sig .tc := ⟨.hbm, 830, rfl⟩
abbrev main_call22_v8 : Ref sig .tc := ⟨.hbm, 831, rfl⟩
abbrev main_call22_v9 : Ref sig .tc := ⟨.hbm, 832, rfl⟩
abbrev main_call22_v10 : Ref sig .tc := ⟨.hbm, 833, rfl⟩
abbrev main_call22_v11 : Ref sig .tc := ⟨.hbm, 834, rfl⟩
abbrev main_call22_c_3 : Ref sig .tc := ⟨.hbm, 835, rfl⟩
abbrev main_call22_v12 : Ref sig .tc := ⟨.hbm, 836, rfl⟩
abbrev main_call22_v13 : Ref sig .tc := ⟨.hbm, 837, rfl⟩
abbrev main_call22_cst : Ref sig .tc := ⟨.hbm, 838, rfl⟩
abbrev main_call22_v14 : Ref sig .tc := ⟨.hbm, 839, rfl⟩
abbrev main_v410 : Ref sig .tc := ⟨.hbm, 840, rfl⟩
abbrev main_v411 : Ref sig .tc := ⟨.hbm, 841, rfl⟩
abbrev main_v412 : Ref sig .tc := ⟨.hbm, 842, rfl⟩
abbrev main_v413 : Ref sig .tc := ⟨.hbm, 843, rfl⟩
abbrev main_v414 : Ref sig .tc := ⟨.hbm, 844, rfl⟩
abbrev main_v415 : Ref sig .tc := ⟨.hbm, 845, rfl⟩
abbrev main_v416 : Ref sig .tc := ⟨.hbm, 846, rfl⟩
abbrev main_v417 : Ref sig .tc := ⟨.hbm, 847, rfl⟩
abbrev main_v418 : Ref sig .tc := ⟨.hbm, 848, rfl⟩
abbrev main_cst_94 : Ref sig .tc := ⟨.hbm, 849, rfl⟩
abbrev main_v419 : Ref sig .tc := ⟨.hbm, 850, rfl⟩
abbrev main_v420 : Ref sig .tc := ⟨.hbm, 851, rfl⟩
abbrev main_cst_95 : Ref sig .tc := ⟨.hbm, 852, rfl⟩
abbrev main_v421 : Ref sig .tc := ⟨.hbm, 853, rfl⟩
abbrev main_v422 : Ref sig .tc := ⟨.hbm, 854, rfl⟩
abbrev main_v423 : Ref sig .tc := ⟨.hbm, 855, rfl⟩
abbrev main_cst_96 : Ref sig .tc := ⟨.hbm, 856, rfl⟩
abbrev main_v424 : Ref sig .tc := ⟨.hbm, 857, rfl⟩
abbrev main_v425 : Ref sig .tc := ⟨.hbm, 858, rfl⟩
abbrev main_v426 : Ref sig .tc := ⟨.hbm, 859, rfl⟩
abbrev main_cst_97 : Ref sig .tc := ⟨.hbm, 860, rfl⟩
abbrev main_v427 : Ref sig .tc := ⟨.hbm, 861, rfl⟩
abbrev main_v428 : Ref sig .tc := ⟨.hbm, 862, rfl⟩
abbrev main_v429 : Ref sig .tc := ⟨.hbm, 863, rfl⟩
abbrev main_c_98 : Ref sig .tc := ⟨.hbm, 864, rfl⟩
abbrev main_c_99 : Ref sig .tc := ⟨.hbm, 865, rfl⟩
abbrev main_call23_v0 : Ref sig .tc := ⟨.hbm, 866, rfl⟩
abbrev main_call23_v1 : Ref sig .tc := ⟨.hbm, 867, rfl⟩
abbrev main_call23_v2 : Ref sig .tc := ⟨.hbm, 868, rfl⟩
abbrev main_call23_v3 : Ref sig .tc := ⟨.hbm, 869, rfl⟩
abbrev main_call23_v4 : Ref sig .tc := ⟨.hbm, 870, rfl⟩
abbrev main_v430 : Ref sig .tc := ⟨.hbm, 871, rfl⟩
abbrev main_v431 : Ref sig .tc := ⟨.hbm, 872, rfl⟩
abbrev main_c_100 : Ref sig .tc := ⟨.hbm, 873, rfl⟩
abbrev main_c_101 : Ref sig .tc := ⟨.hbm, 874, rfl⟩
abbrev main_call24_v0 : Ref sig .tc := ⟨.hbm, 875, rfl⟩
abbrev main_call24_v1 : Ref sig .tc := ⟨.hbm, 876, rfl⟩
abbrev main_call24_v2 : Ref sig .tc := ⟨.hbm, 877, rfl⟩
abbrev main_call24_v3 : Ref sig .tc := ⟨.hbm, 878, rfl⟩
abbrev main_call24_v4 : Ref sig .tc := ⟨.hbm, 879, rfl⟩
abbrev main_v432 : Ref sig .tc := ⟨.hbm, 880, rfl⟩
abbrev main_v433 : Ref sig .tc := ⟨.hbm, 881, rfl⟩
abbrev main_c_102 : Ref sig .tc := ⟨.hbm, 882, rfl⟩
abbrev main_v434 : Ref sig .tc := ⟨.hbm, 883, rfl⟩
abbrev main_v435 : Ref sig .tc := ⟨.hbm, 884, rfl⟩
abbrev main_v436 : Ref sig .tc := ⟨.hbm, 885, rfl⟩
abbrev main_v437 : Ref sig .tc := ⟨.hbm, 886, rfl⟩
abbrev main_v438 : Ref sig .tc := ⟨.hbm, 887, rfl⟩
abbrev main_v439 : Ref sig .tc := ⟨.hbm, 888, rfl⟩
abbrev main_call25_c : Ref sig .tc := ⟨.hbm, 889, rfl⟩
abbrev main_call25_v0 : Ref sig .tc := ⟨.hbm, 890, rfl⟩
abbrev main_call25_v1 : Ref sig .tc := ⟨.hbm, 891, rfl⟩
abbrev main_call25_c_0 : Ref sig .tc := ⟨.hbm, 892, rfl⟩
abbrev main_call25_v2 : Ref sig .tc := ⟨.hbm, 893, rfl⟩
abbrev main_call25_v3 : Ref sig .tc := ⟨.hbm, 894, rfl⟩
abbrev main_call25_v4 : Ref sig .tc := ⟨.hbm, 895, rfl⟩
abbrev main_call25_v5 : Ref sig .tc := ⟨.hbm, 896, rfl⟩
abbrev main_call25_c_1 : Ref sig .tc := ⟨.hbm, 897, rfl⟩
abbrev main_call25_c_2 : Ref sig .tc := ⟨.hbm, 898, rfl⟩
abbrev main_call25_v6 : Ref sig .tc := ⟨.hbm, 899, rfl⟩
abbrev main_call25_v7 : Ref sig .tc := ⟨.hbm, 900, rfl⟩
abbrev main_call25_v8 : Ref sig .tc := ⟨.hbm, 901, rfl⟩
abbrev main_call25_v9 : Ref sig .tc := ⟨.hbm, 902, rfl⟩
abbrev main_call25_v10 : Ref sig .tc := ⟨.hbm, 903, rfl⟩
abbrev main_call25_v11 : Ref sig .tc := ⟨.hbm, 904, rfl⟩
abbrev main_call25_c_3 : Ref sig .tc := ⟨.hbm, 905, rfl⟩
abbrev main_call25_v12 : Ref sig .tc := ⟨.hbm, 906, rfl⟩
abbrev main_call25_v13 : Ref sig .tc := ⟨.hbm, 907, rfl⟩
abbrev main_call25_cst : Ref sig .tc := ⟨.hbm, 908, rfl⟩
abbrev main_call25_v14 : Ref sig .tc := ⟨.hbm, 909, rfl⟩
abbrev main_v440 : Ref sig .tc := ⟨.hbm, 910, rfl⟩
abbrev main_v441 : Ref sig .tc := ⟨.hbm, 911, rfl⟩
abbrev main_v442 : Ref sig .tc := ⟨.hbm, 912, rfl⟩
abbrev main_v443 : Ref sig .tc := ⟨.hbm, 913, rfl⟩
abbrev main_v444 : Ref sig .tc := ⟨.hbm, 914, rfl⟩
abbrev main_v445 : Ref sig .tc := ⟨.hbm, 915, rfl⟩
abbrev main_v446 : Ref sig .tc := ⟨.hbm, 916, rfl⟩
abbrev main_v447 : Ref sig .tc := ⟨.hbm, 917, rfl⟩
abbrev main_v448 : Ref sig .tc := ⟨.hbm, 918, rfl⟩
abbrev main_v449 : Ref sig .tc := ⟨.hbm, 919, rfl⟩
abbrev main_cst_103 : Ref sig .tc := ⟨.hbm, 920, rfl⟩
abbrev main_v450 : Ref sig .tc := ⟨.hbm, 921, rfl⟩
abbrev main_v451 : Ref sig .tc := ⟨.hbm, 922, rfl⟩
abbrev main_cst_104 : Ref sig .tc := ⟨.hbm, 923, rfl⟩
abbrev main_v452 : Ref sig .tc := ⟨.hbm, 924, rfl⟩
abbrev main_v453 : Ref sig .tc := ⟨.hbm, 925, rfl⟩
abbrev main_v454 : Ref sig .tc := ⟨.hbm, 926, rfl⟩
abbrev main_cst_105 : Ref sig .tc := ⟨.hbm, 927, rfl⟩
abbrev main_v455 : Ref sig .tc := ⟨.hbm, 928, rfl⟩
abbrev main_v456 : Ref sig .tc := ⟨.hbm, 929, rfl⟩
abbrev main_v457 : Ref sig .tc := ⟨.hbm, 930, rfl⟩
abbrev main_cst_106 : Ref sig .tc := ⟨.hbm, 931, rfl⟩
abbrev main_v458 : Ref sig .tc := ⟨.hbm, 932, rfl⟩
abbrev main_v459 : Ref sig .tc := ⟨.hbm, 933, rfl⟩
abbrev main_v460 : Ref sig .tc := ⟨.hbm, 934, rfl⟩
abbrev main_c_107 : Ref sig .tc := ⟨.hbm, 935, rfl⟩
abbrev main_c_108 : Ref sig .tc := ⟨.hbm, 936, rfl⟩
abbrev main_call26_v0 : Ref sig .tc := ⟨.hbm, 937, rfl⟩
abbrev main_call26_v1 : Ref sig .tc := ⟨.hbm, 938, rfl⟩
abbrev main_call26_v2 : Ref sig .tc := ⟨.hbm, 939, rfl⟩
abbrev main_call26_v3 : Ref sig .tc := ⟨.hbm, 940, rfl⟩
abbrev main_call26_v4 : Ref sig .tc := ⟨.hbm, 941, rfl⟩
abbrev main_v461 : Ref sig .tc := ⟨.hbm, 942, rfl⟩
abbrev main_v462 : Ref sig .tc := ⟨.hbm, 943, rfl⟩
abbrev main_c_109 : Ref sig .tc := ⟨.hbm, 944, rfl⟩
abbrev main_c_110 : Ref sig .tc := ⟨.hbm, 945, rfl⟩
abbrev main_call27_v0 : Ref sig .tc := ⟨.hbm, 946, rfl⟩
abbrev main_call27_v1 : Ref sig .tc := ⟨.hbm, 947, rfl⟩
abbrev main_call27_v2 : Ref sig .tc := ⟨.hbm, 948, rfl⟩
abbrev main_call27_v3 : Ref sig .tc := ⟨.hbm, 949, rfl⟩
abbrev main_call27_v4 : Ref sig .tc := ⟨.hbm, 950, rfl⟩
abbrev main_v463 : Ref sig .tc := ⟨.hbm, 951, rfl⟩
abbrev main_v464 : Ref sig .tc := ⟨.hbm, 952, rfl⟩
abbrev main_c_111 : Ref sig .tc := ⟨.hbm, 953, rfl⟩
abbrev main_v465 : Ref sig .tc := ⟨.hbm, 954, rfl⟩
abbrev main_v466 : Ref sig .tc := ⟨.hbm, 955, rfl⟩
abbrev main_v467 : Ref sig .tc := ⟨.hbm, 956, rfl⟩
abbrev main_v468 : Ref sig .tc := ⟨.hbm, 957, rfl⟩
abbrev main_v469 : Ref sig .tc := ⟨.hbm, 958, rfl⟩
abbrev main_v470 : Ref sig .tc := ⟨.hbm, 959, rfl⟩
abbrev main_call28_c : Ref sig .tc := ⟨.hbm, 960, rfl⟩
abbrev main_call28_v0 : Ref sig .tc := ⟨.hbm, 961, rfl⟩
abbrev main_call28_v1 : Ref sig .tc := ⟨.hbm, 962, rfl⟩
abbrev main_call28_c_0 : Ref sig .tc := ⟨.hbm, 963, rfl⟩
abbrev main_call28_v2 : Ref sig .tc := ⟨.hbm, 964, rfl⟩
abbrev main_call28_v3 : Ref sig .tc := ⟨.hbm, 965, rfl⟩
abbrev main_call28_v4 : Ref sig .tc := ⟨.hbm, 966, rfl⟩
abbrev main_call28_v5 : Ref sig .tc := ⟨.hbm, 967, rfl⟩
abbrev main_call28_c_1 : Ref sig .tc := ⟨.hbm, 968, rfl⟩
abbrev main_call28_c_2 : Ref sig .tc := ⟨.hbm, 969, rfl⟩
abbrev main_call28_v6 : Ref sig .tc := ⟨.hbm, 970, rfl⟩
abbrev main_call28_v7 : Ref sig .tc := ⟨.hbm, 971, rfl⟩
abbrev main_call28_v8 : Ref sig .tc := ⟨.hbm, 972, rfl⟩
abbrev main_call28_v9 : Ref sig .tc := ⟨.hbm, 973, rfl⟩
abbrev main_call28_v10 : Ref sig .tc := ⟨.hbm, 974, rfl⟩
abbrev main_call28_v11 : Ref sig .tc := ⟨.hbm, 975, rfl⟩
abbrev main_call28_c_3 : Ref sig .tc := ⟨.hbm, 976, rfl⟩
abbrev main_call28_v12 : Ref sig .tc := ⟨.hbm, 977, rfl⟩
abbrev main_call28_v13 : Ref sig .tc := ⟨.hbm, 978, rfl⟩
abbrev main_call28_cst : Ref sig .tc := ⟨.hbm, 979, rfl⟩
abbrev main_call28_v14 : Ref sig .tc := ⟨.hbm, 980, rfl⟩
abbrev main_v471 : Ref sig .tc := ⟨.hbm, 981, rfl⟩
abbrev main_v472 : Ref sig .tc := ⟨.hbm, 982, rfl⟩
abbrev main_v473 : Ref sig .tc := ⟨.hbm, 983, rfl⟩
abbrev main_v474 : Ref sig .tc := ⟨.hbm, 984, rfl⟩
abbrev main_v475 : Ref sig .tc := ⟨.hbm, 985, rfl⟩
abbrev main_v476 : Ref sig .tc := ⟨.hbm, 986, rfl⟩
abbrev main_v477 : Ref sig .tc := ⟨.hbm, 987, rfl⟩
abbrev main_v478 : Ref sig .tc := ⟨.hbm, 988, rfl⟩
abbrev main_v479 : Ref sig .tc := ⟨.hbm, 989, rfl⟩
abbrev main_v480 : Ref sig .tc := ⟨.hbm, 990, rfl⟩
abbrev main_cst_112 : Ref sig .tc := ⟨.hbm, 991, rfl⟩
abbrev main_v481 : Ref sig .tc := ⟨.hbm, 992, rfl⟩
abbrev main_v482 : Ref sig .tc := ⟨.hbm, 993, rfl⟩
abbrev main_cst_113 : Ref sig .tc := ⟨.hbm, 994, rfl⟩
abbrev main_v483 : Ref sig .tc := ⟨.hbm, 995, rfl⟩
abbrev main_v484 : Ref sig .tc := ⟨.hbm, 996, rfl⟩
abbrev main_v485 : Ref sig .tc := ⟨.hbm, 997, rfl⟩
abbrev main_cst_114 : Ref sig .tc := ⟨.hbm, 998, rfl⟩
abbrev main_v486 : Ref sig .tc := ⟨.hbm, 999, rfl⟩
abbrev main_v487 : Ref sig .tc := ⟨.hbm, 1000, rfl⟩
abbrev main_v488 : Ref sig .tc := ⟨.hbm, 1001, rfl⟩
abbrev main_cst_115 : Ref sig .tc := ⟨.hbm, 1002, rfl⟩
abbrev main_v489 : Ref sig .tc := ⟨.hbm, 1003, rfl⟩
abbrev main_v490 : Ref sig .tc := ⟨.hbm, 1004, rfl⟩
abbrev main_v491 : Ref sig .tc := ⟨.hbm, 1005, rfl⟩
abbrev main_c_116 : Ref sig .tc := ⟨.hbm, 1006, rfl⟩
abbrev main_c_117 : Ref sig .tc := ⟨.hbm, 1007, rfl⟩
abbrev main_call29_v0 : Ref sig .tc := ⟨.hbm, 1008, rfl⟩
abbrev main_call29_v1 : Ref sig .tc := ⟨.hbm, 1009, rfl⟩
abbrev main_call29_v2 : Ref sig .tc := ⟨.hbm, 1010, rfl⟩
abbrev main_call29_v3 : Ref sig .tc := ⟨.hbm, 1011, rfl⟩
abbrev main_call29_v4 : Ref sig .tc := ⟨.hbm, 1012, rfl⟩
abbrev main_v492 : Ref sig .tc := ⟨.hbm, 1013, rfl⟩
abbrev main_v493 : Ref sig .tc := ⟨.hbm, 1014, rfl⟩
abbrev main_c_118 : Ref sig .tc := ⟨.hbm, 1015, rfl⟩
abbrev main_c_119 : Ref sig .tc := ⟨.hbm, 1016, rfl⟩
abbrev main_call30_v0 : Ref sig .tc := ⟨.hbm, 1017, rfl⟩
abbrev main_call30_v1 : Ref sig .tc := ⟨.hbm, 1018, rfl⟩
abbrev main_call30_v2 : Ref sig .tc := ⟨.hbm, 1019, rfl⟩
abbrev main_call30_v3 : Ref sig .tc := ⟨.hbm, 1020, rfl⟩
abbrev main_call30_v4 : Ref sig .tc := ⟨.hbm, 1021, rfl⟩
abbrev main_v494 : Ref sig .tc := ⟨.hbm, 1022, rfl⟩
abbrev main_v495 : Ref sig .tc := ⟨.hbm, 1023, rfl⟩
abbrev main_c_120 : Ref sig .tc := ⟨.hbm, 1024, rfl⟩
abbrev main_v496 : Ref sig .tc := ⟨.hbm, 1025, rfl⟩
abbrev main_v497 : Ref sig .tc := ⟨.hbm, 1026, rfl⟩
abbrev main_v498 : Ref sig .tc := ⟨.hbm, 1027, rfl⟩
abbrev main_v499 : Ref sig .tc := ⟨.hbm, 1028, rfl⟩
abbrev main_v500 : Ref sig .tc := ⟨.hbm, 1029, rfl⟩
abbrev main_v501 : Ref sig .tc := ⟨.hbm, 1030, rfl⟩
abbrev main_call31_c : Ref sig .tc := ⟨.hbm, 1031, rfl⟩
abbrev main_call31_v0 : Ref sig .tc := ⟨.hbm, 1032, rfl⟩
abbrev main_call31_v1 : Ref sig .tc := ⟨.hbm, 1033, rfl⟩
abbrev main_call31_c_0 : Ref sig .tc := ⟨.hbm, 1034, rfl⟩
abbrev main_call31_v2 : Ref sig .tc := ⟨.hbm, 1035, rfl⟩
abbrev main_call31_v3 : Ref sig .tc := ⟨.hbm, 1036, rfl⟩
abbrev main_call31_v4 : Ref sig .tc := ⟨.hbm, 1037, rfl⟩
abbrev main_call31_v5 : Ref sig .tc := ⟨.hbm, 1038, rfl⟩
abbrev main_call31_c_1 : Ref sig .tc := ⟨.hbm, 1039, rfl⟩
abbrev main_call31_c_2 : Ref sig .tc := ⟨.hbm, 1040, rfl⟩
abbrev main_call31_v6 : Ref sig .tc := ⟨.hbm, 1041, rfl⟩
abbrev main_call31_v7 : Ref sig .tc := ⟨.hbm, 1042, rfl⟩
abbrev main_call31_v8 : Ref sig .tc := ⟨.hbm, 1043, rfl⟩
abbrev main_call31_v9 : Ref sig .tc := ⟨.hbm, 1044, rfl⟩
abbrev main_call31_v10 : Ref sig .tc := ⟨.hbm, 1045, rfl⟩
abbrev main_call31_v11 : Ref sig .tc := ⟨.hbm, 1046, rfl⟩
abbrev main_call31_c_3 : Ref sig .tc := ⟨.hbm, 1047, rfl⟩
abbrev main_call31_v12 : Ref sig .tc := ⟨.hbm, 1048, rfl⟩
abbrev main_call31_v13 : Ref sig .tc := ⟨.hbm, 1049, rfl⟩
abbrev main_call31_cst : Ref sig .tc := ⟨.hbm, 1050, rfl⟩
abbrev main_call31_v14 : Ref sig .tc := ⟨.hbm, 1051, rfl⟩
abbrev main_v502 : Ref sig .tc := ⟨.hbm, 1052, rfl⟩
abbrev main_v503 : Ref sig .tc := ⟨.hbm, 1053, rfl⟩
abbrev main_v504 : Ref sig .tc := ⟨.hbm, 1054, rfl⟩
abbrev main_v505 : Ref sig .tc := ⟨.hbm, 1055, rfl⟩
abbrev main_v506 : Ref sig .tc := ⟨.hbm, 1056, rfl⟩
abbrev main_v507 : Ref sig .tc := ⟨.hbm, 1057, rfl⟩
abbrev main_v508 : Ref sig .tc := ⟨.hbm, 1058, rfl⟩
abbrev main_v509 : Ref sig .tc := ⟨.hbm, 1059, rfl⟩
abbrev main_v510 : Ref sig .tc := ⟨.hbm, 1060, rfl⟩
abbrev main_v511 : Ref sig .tc := ⟨.hbm, 1061, rfl⟩
abbrev main_v512 : Ref sig .tc := ⟨.hbm, 1062, rfl⟩
abbrev main_v513 : Ref sig .tc := ⟨.hbm, 1063, rfl⟩
abbrev main_v514 : Ref sig .tc := ⟨.hbm, 1064, rfl⟩
abbrev main_v515 : Ref sig .tc := ⟨.hbm, 1065, rfl⟩
abbrev main_v516 : Ref sig .tc := ⟨.hbm, 1066, rfl⟩
abbrev main_v517 : Ref sig .tc := ⟨.hbm, 1067, rfl⟩
abbrev main_v518 : Ref sig .tc := ⟨.hbm, 1068, rfl⟩
abbrev main_v519 : Ref sig .tc := ⟨.hbm, 1069, rfl⟩
abbrev main_v520 : Ref sig .tc := ⟨.hbm, 1070, rfl⟩
abbrev main_cst_121 : Ref sig .tc := ⟨.hbm, 1071, rfl⟩
abbrev main_v521 : Ref sig .tc := ⟨.hbm, 1072, rfl⟩
abbrev main_v522 : Ref sig .tc := ⟨.hbm, 1073, rfl⟩
abbrev main_cst_122 : Ref sig .tc := ⟨.hbm, 1074, rfl⟩
abbrev main_v523 : Ref sig .tc := ⟨.hbm, 1075, rfl⟩
abbrev main_v524 : Ref sig .tc := ⟨.hbm, 1076, rfl⟩
abbrev main_cst_123 : Ref sig .tc := ⟨.hbm, 1077, rfl⟩
abbrev main_v525 : Ref sig .tc := ⟨.hbm, 1078, rfl⟩
abbrev main_v526 : Ref sig .tc := ⟨.hbm, 1079, rfl⟩
abbrev main_cst_124 : Ref sig .tc := ⟨.hbm, 1080, rfl⟩
abbrev main_v527 : Ref sig .tc := ⟨.hbm, 1081, rfl⟩
abbrev main_v528 : Ref sig .tc := ⟨.hbm, 1082, rfl⟩
abbrev main_v529 : Ref sig .tc := ⟨.hbm, 1083, rfl⟩
abbrev main_v530 : Ref sig .tc := ⟨.hbm, 1084, rfl⟩
abbrev main_cst_125 : Ref sig .tc := ⟨.hbm, 1085, rfl⟩
abbrev main_v531 : Ref sig .tc := ⟨.hbm, 1086, rfl⟩
abbrev main_v532 : Ref sig .tc := ⟨.hbm, 1087, rfl⟩
abbrev main_cst_126 : Ref sig .tc := ⟨.hbm, 1088, rfl⟩
abbrev main_v533 : Ref sig .tc := ⟨.hbm, 1089, rfl⟩
abbrev main_v534 : Ref sig .tc := ⟨.hbm, 1090, rfl⟩
abbrev main_cst_127 : Ref sig .tc := ⟨.hbm, 1091, rfl⟩
abbrev main_v535 : Ref sig .tc := ⟨.hbm, 1092, rfl⟩
abbrev main_v536 : Ref sig .tc := ⟨.hbm, 1093, rfl⟩
abbrev main_cst_128 : Ref sig .tc := ⟨.hbm, 1094, rfl⟩
abbrev main_v537 : Ref sig .tc := ⟨.hbm, 1095, rfl⟩
abbrev main_v538 : Ref sig .tc := ⟨.hbm, 1096, rfl⟩
abbrev main_v539 : Ref sig .tc := ⟨.hbm, 1097, rfl⟩
abbrev main_v540 : Ref sig .tc := ⟨.hbm, 1098, rfl⟩
abbrev main_cst_129 : Ref sig .tc := ⟨.hbm, 1099, rfl⟩
abbrev main_v541 : Ref sig .tc := ⟨.hbm, 1100, rfl⟩
abbrev main_v542 : Ref sig .tc := ⟨.hbm, 1101, rfl⟩
abbrev main_cst_130 : Ref sig .tc := ⟨.hbm, 1102, rfl⟩
abbrev main_v543 : Ref sig .tc := ⟨.hbm, 1103, rfl⟩
abbrev main_v544 : Ref sig .tc := ⟨.hbm, 1104, rfl⟩
abbrev main_v545 : Ref sig .tc := ⟨.hbm, 1105, rfl⟩
abbrev main_v546 : Ref sig .tc := ⟨.hbm, 1106, rfl⟩
abbrev main_v547 : Ref sig .tc := ⟨.hbm, 1107, rfl⟩
abbrev main_v548 : Ref sig .tc := ⟨.hbm, 1108, rfl⟩
abbrev main_v549 : Ref sig .tc := ⟨.hbm, 1109, rfl⟩
abbrev main_v550 : Ref sig .tc := ⟨.hbm, 1110, rfl⟩
abbrev main_v551 : Ref sig .tc := ⟨.hbm, 1111, rfl⟩
abbrev main_v552 : Ref sig .tc := ⟨.hbm, 1112, rfl⟩
abbrev main_v553 : Ref sig .tc := ⟨.hbm, 1113, rfl⟩
abbrev main_v554 : Ref sig .tc := ⟨.hbm, 1114, rfl⟩
abbrev main_v555 : Ref sig .tc := ⟨.hbm, 1115, rfl⟩
abbrev main_v556 : Ref sig .tc := ⟨.hbm, 1116, rfl⟩
abbrev main_v557 : Ref sig .tc := ⟨.hbm, 1117, rfl⟩
abbrev main_cst_131 : Ref sig .tc := ⟨.hbm, 1118, rfl⟩
abbrev main_v558 : Ref sig .tc := ⟨.hbm, 1119, rfl⟩
abbrev main_v559 : Ref sig .tc := ⟨.hbm, 1120, rfl⟩
abbrev main_cst_132 : Ref sig .tc := ⟨.hbm, 1121, rfl⟩
abbrev main_v560 : Ref sig .tc := ⟨.hbm, 1122, rfl⟩
abbrev main_v561 : Ref sig .tc := ⟨.hbm, 1123, rfl⟩
abbrev main_v562 : Ref sig .tc := ⟨.hbm, 1124, rfl⟩
abbrev main_cst_133 : Ref sig .tc := ⟨.hbm, 1125, rfl⟩
abbrev main_v563 : Ref sig .tc := ⟨.hbm, 1126, rfl⟩
abbrev main_v564 : Ref sig .tc := ⟨.hbm, 1127, rfl⟩
abbrev main_v565 : Ref sig .tc := ⟨.hbm, 1128, rfl⟩
abbrev main_cst_134 : Ref sig .tc := ⟨.hbm, 1129, rfl⟩
abbrev main_v566 : Ref sig .tc := ⟨.hbm, 1130, rfl⟩
abbrev main_v567 : Ref sig .tc := ⟨.hbm, 1131, rfl⟩
abbrev main_v568 : Ref sig .tc := ⟨.hbm, 1132, rfl⟩
abbrev main_c_135 : Ref sig .tc := ⟨.hbm, 1133, rfl⟩
abbrev main_c_136 : Ref sig .tc := ⟨.hbm, 1134, rfl⟩
abbrev main_call32_v0 : Ref sig .tc := ⟨.hbm, 1135, rfl⟩
abbrev main_call32_v1 : Ref sig .tc := ⟨.hbm, 1136, rfl⟩
abbrev main_call32_v2 : Ref sig .tc := ⟨.hbm, 1137, rfl⟩
abbrev main_call32_v3 : Ref sig .tc := ⟨.hbm, 1138, rfl⟩
abbrev main_call32_v4 : Ref sig .tc := ⟨.hbm, 1139, rfl⟩
abbrev main_v569 : Ref sig .tc := ⟨.hbm, 1140, rfl⟩
abbrev main_v570 : Ref sig .tc := ⟨.hbm, 1141, rfl⟩
abbrev main_c_137 : Ref sig .tc := ⟨.hbm, 1142, rfl⟩
abbrev main_c_138 : Ref sig .tc := ⟨.hbm, 1143, rfl⟩
abbrev main_call33_v0 : Ref sig .tc := ⟨.hbm, 1144, rfl⟩
abbrev main_call33_v1 : Ref sig .tc := ⟨.hbm, 1145, rfl⟩
abbrev main_call33_v2 : Ref sig .tc := ⟨.hbm, 1146, rfl⟩
abbrev main_call33_v3 : Ref sig .tc := ⟨.hbm, 1147, rfl⟩
abbrev main_call33_v4 : Ref sig .tc := ⟨.hbm, 1148, rfl⟩
abbrev main_v571 : Ref sig .tc := ⟨.hbm, 1149, rfl⟩
abbrev main_v572 : Ref sig .tc := ⟨.hbm, 1150, rfl⟩
abbrev main_c_139 : Ref sig .tc := ⟨.hbm, 1151, rfl⟩
abbrev main_v573 : Ref sig .tc := ⟨.hbm, 1152, rfl⟩
abbrev main_v574 : Ref sig .tc := ⟨.hbm, 1153, rfl⟩
abbrev main_v575 : Ref sig .tc := ⟨.hbm, 1154, rfl⟩
abbrev main_v576 : Ref sig .tc := ⟨.hbm, 1155, rfl⟩
abbrev main_v577 : Ref sig .tc := ⟨.hbm, 1156, rfl⟩
abbrev main_v578 : Ref sig .tc := ⟨.hbm, 1157, rfl⟩
abbrev main_call34_c : Ref sig .tc := ⟨.hbm, 1158, rfl⟩
abbrev main_call34_v0 : Ref sig .tc := ⟨.hbm, 1159, rfl⟩
abbrev main_call34_v1 : Ref sig .tc := ⟨.hbm, 1160, rfl⟩
abbrev main_call34_c_0 : Ref sig .tc := ⟨.hbm, 1161, rfl⟩
abbrev main_call34_v2 : Ref sig .tc := ⟨.hbm, 1162, rfl⟩
abbrev main_call34_v3 : Ref sig .tc := ⟨.hbm, 1163, rfl⟩
abbrev main_call34_v4 : Ref sig .tc := ⟨.hbm, 1164, rfl⟩
abbrev main_call34_v5 : Ref sig .tc := ⟨.hbm, 1165, rfl⟩
abbrev main_call34_c_1 : Ref sig .tc := ⟨.hbm, 1166, rfl⟩
abbrev main_call34_c_2 : Ref sig .tc := ⟨.hbm, 1167, rfl⟩
abbrev main_call34_v6 : Ref sig .tc := ⟨.hbm, 1168, rfl⟩
abbrev main_call34_v7 : Ref sig .tc := ⟨.hbm, 1169, rfl⟩
abbrev main_call34_v8 : Ref sig .tc := ⟨.hbm, 1170, rfl⟩
abbrev main_call34_v9 : Ref sig .tc := ⟨.hbm, 1171, rfl⟩
abbrev main_call34_v10 : Ref sig .tc := ⟨.hbm, 1172, rfl⟩
abbrev main_call34_v11 : Ref sig .tc := ⟨.hbm, 1173, rfl⟩
abbrev main_call34_c_3 : Ref sig .tc := ⟨.hbm, 1174, rfl⟩
abbrev main_call34_v12 : Ref sig .tc := ⟨.hbm, 1175, rfl⟩
abbrev main_call34_v13 : Ref sig .tc := ⟨.hbm, 1176, rfl⟩
abbrev main_call34_cst : Ref sig .tc := ⟨.hbm, 1177, rfl⟩
abbrev main_call34_v14 : Ref sig .tc := ⟨.hbm, 1178, rfl⟩
abbrev main_v579 : Ref sig .tc := ⟨.hbm, 1179, rfl⟩
abbrev main_v580 : Ref sig .tc := ⟨.hbm, 1180, rfl⟩
abbrev main_v581 : Ref sig .tc := ⟨.hbm, 1181, rfl⟩
abbrev main_v582 : Ref sig .tc := ⟨.hbm, 1182, rfl⟩
abbrev main_v583 : Ref sig .tc := ⟨.hbm, 1183, rfl⟩
abbrev main_v584 : Ref sig .tc := ⟨.hbm, 1184, rfl⟩
abbrev main_v585 : Ref sig .tc := ⟨.hbm, 1185, rfl⟩
abbrev main_v586 : Ref sig .tc := ⟨.hbm, 1186, rfl⟩
abbrev main_v587 : Ref sig .tc := ⟨.hbm, 1187, rfl⟩
abbrev main_cst_140 : Ref sig .tc := ⟨.hbm, 1188, rfl⟩
abbrev main_v588 : Ref sig .tc := ⟨.hbm, 1189, rfl⟩
abbrev main_v589 : Ref sig .tc := ⟨.hbm, 1190, rfl⟩
abbrev main_cst_141 : Ref sig .tc := ⟨.hbm, 1191, rfl⟩
abbrev main_v590 : Ref sig .tc := ⟨.hbm, 1192, rfl⟩
abbrev main_v591 : Ref sig .tc := ⟨.hbm, 1193, rfl⟩
abbrev main_v592 : Ref sig .tc := ⟨.hbm, 1194, rfl⟩
abbrev main_cst_142 : Ref sig .tc := ⟨.hbm, 1195, rfl⟩
abbrev main_v593 : Ref sig .tc := ⟨.hbm, 1196, rfl⟩
abbrev main_v594 : Ref sig .tc := ⟨.hbm, 1197, rfl⟩
abbrev main_v595 : Ref sig .tc := ⟨.hbm, 1198, rfl⟩
abbrev main_cst_143 : Ref sig .tc := ⟨.hbm, 1199, rfl⟩
abbrev main_v596 : Ref sig .tc := ⟨.hbm, 1200, rfl⟩
abbrev main_v597 : Ref sig .tc := ⟨.hbm, 1201, rfl⟩
abbrev main_v598 : Ref sig .tc := ⟨.hbm, 1202, rfl⟩
abbrev main_c_144 : Ref sig .tc := ⟨.hbm, 1203, rfl⟩
abbrev main_c_145 : Ref sig .tc := ⟨.hbm, 1204, rfl⟩
abbrev main_call35_v0 : Ref sig .tc := ⟨.hbm, 1205, rfl⟩
abbrev main_call35_v1 : Ref sig .tc := ⟨.hbm, 1206, rfl⟩
abbrev main_call35_v2 : Ref sig .tc := ⟨.hbm, 1207, rfl⟩
abbrev main_call35_v3 : Ref sig .tc := ⟨.hbm, 1208, rfl⟩
abbrev main_call35_v4 : Ref sig .tc := ⟨.hbm, 1209, rfl⟩
abbrev main_v599 : Ref sig .tc := ⟨.hbm, 1210, rfl⟩
abbrev main_v600 : Ref sig .tc := ⟨.hbm, 1211, rfl⟩
abbrev main_c_146 : Ref sig .tc := ⟨.hbm, 1212, rfl⟩
abbrev main_c_147 : Ref sig .tc := ⟨.hbm, 1213, rfl⟩
abbrev main_call36_v0 : Ref sig .tc := ⟨.hbm, 1214, rfl⟩
abbrev main_call36_v1 : Ref sig .tc := ⟨.hbm, 1215, rfl⟩
abbrev main_call36_v2 : Ref sig .tc := ⟨.hbm, 1216, rfl⟩
abbrev main_call36_v3 : Ref sig .tc := ⟨.hbm, 1217, rfl⟩
abbrev main_call36_v4 : Ref sig .tc := ⟨.hbm, 1218, rfl⟩
abbrev main_v601 : Ref sig .tc := ⟨.hbm, 1219, rfl⟩
abbrev main_v602 : Ref sig .tc := ⟨.hbm, 1220, rfl⟩
abbrev main_c_148 : Ref sig .tc := ⟨.hbm, 1221, rfl⟩
abbrev main_v603 : Ref sig .tc := ⟨.hbm, 1222, rfl⟩
abbrev main_v604 : Ref sig .tc := ⟨.hbm, 1223, rfl⟩
abbrev main_v605 : Ref sig .tc := ⟨.hbm, 1224, rfl⟩
abbrev main_v606 : Ref sig .tc := ⟨.hbm, 1225, rfl⟩
abbrev main_v607 : Ref sig .tc := ⟨.hbm, 1226, rfl⟩
abbrev main_v608 : Ref sig .tc := ⟨.hbm, 1227, rfl⟩
abbrev main_call37_c : Ref sig .tc := ⟨.hbm, 1228, rfl⟩
abbrev main_call37_v0 : Ref sig .tc := ⟨.hbm, 1229, rfl⟩
abbrev main_call37_v1 : Ref sig .tc := ⟨.hbm, 1230, rfl⟩
abbrev main_call37_c_0 : Ref sig .tc := ⟨.hbm, 1231, rfl⟩
abbrev main_call37_v2 : Ref sig .tc := ⟨.hbm, 1232, rfl⟩
abbrev main_call37_v3 : Ref sig .tc := ⟨.hbm, 1233, rfl⟩
abbrev main_call37_v4 : Ref sig .tc := ⟨.hbm, 1234, rfl⟩
abbrev main_call37_v5 : Ref sig .tc := ⟨.hbm, 1235, rfl⟩
abbrev main_call37_c_1 : Ref sig .tc := ⟨.hbm, 1236, rfl⟩
abbrev main_call37_c_2 : Ref sig .tc := ⟨.hbm, 1237, rfl⟩
abbrev main_call37_v6 : Ref sig .tc := ⟨.hbm, 1238, rfl⟩
abbrev main_call37_v7 : Ref sig .tc := ⟨.hbm, 1239, rfl⟩
abbrev main_call37_v8 : Ref sig .tc := ⟨.hbm, 1240, rfl⟩
abbrev main_call37_v9 : Ref sig .tc := ⟨.hbm, 1241, rfl⟩
abbrev main_call37_v10 : Ref sig .tc := ⟨.hbm, 1242, rfl⟩
abbrev main_call37_v11 : Ref sig .tc := ⟨.hbm, 1243, rfl⟩
abbrev main_call37_c_3 : Ref sig .tc := ⟨.hbm, 1244, rfl⟩
abbrev main_call37_v12 : Ref sig .tc := ⟨.hbm, 1245, rfl⟩
abbrev main_call37_v13 : Ref sig .tc := ⟨.hbm, 1246, rfl⟩
abbrev main_call37_cst : Ref sig .tc := ⟨.hbm, 1247, rfl⟩
abbrev main_call37_v14 : Ref sig .tc := ⟨.hbm, 1248, rfl⟩
abbrev main_v609 : Ref sig .tc := ⟨.hbm, 1249, rfl⟩
abbrev main_v610 : Ref sig .tc := ⟨.hbm, 1250, rfl⟩
abbrev main_v611 : Ref sig .tc := ⟨.hbm, 1251, rfl⟩
abbrev main_v612 : Ref sig .tc := ⟨.hbm, 1252, rfl⟩
abbrev main_v613 : Ref sig .tc := ⟨.hbm, 1253, rfl⟩
abbrev main_v614 : Ref sig .tc := ⟨.hbm, 1254, rfl⟩
abbrev main_v615 : Ref sig .tc := ⟨.hbm, 1255, rfl⟩
abbrev main_v616 : Ref sig .tc := ⟨.hbm, 1256, rfl⟩
abbrev main_v617 : Ref sig .tc := ⟨.hbm, 1257, rfl⟩
abbrev main_v618 : Ref sig .tc := ⟨.hbm, 1258, rfl⟩
abbrev main_cst_149 : Ref sig .tc := ⟨.hbm, 1259, rfl⟩
abbrev main_v619 : Ref sig .tc := ⟨.hbm, 1260, rfl⟩
abbrev main_v620 : Ref sig .tc := ⟨.hbm, 1261, rfl⟩
abbrev main_cst_150 : Ref sig .tc := ⟨.hbm, 1262, rfl⟩
abbrev main_v621 : Ref sig .tc := ⟨.hbm, 1263, rfl⟩
abbrev main_v622 : Ref sig .tc := ⟨.hbm, 1264, rfl⟩
abbrev main_v623 : Ref sig .tc := ⟨.hbm, 1265, rfl⟩
abbrev main_cst_151 : Ref sig .tc := ⟨.hbm, 1266, rfl⟩
abbrev main_v624 : Ref sig .tc := ⟨.hbm, 1267, rfl⟩
abbrev main_v625 : Ref sig .tc := ⟨.hbm, 1268, rfl⟩
abbrev main_v626 : Ref sig .tc := ⟨.hbm, 1269, rfl⟩
abbrev main_cst_152 : Ref sig .tc := ⟨.hbm, 1270, rfl⟩
abbrev main_v627 : Ref sig .tc := ⟨.hbm, 1271, rfl⟩
abbrev main_v628 : Ref sig .tc := ⟨.hbm, 1272, rfl⟩
abbrev main_v629 : Ref sig .tc := ⟨.hbm, 1273, rfl⟩
abbrev main_c_153 : Ref sig .tc := ⟨.hbm, 1274, rfl⟩
abbrev main_c_154 : Ref sig .tc := ⟨.hbm, 1275, rfl⟩
abbrev main_call38_v0 : Ref sig .tc := ⟨.hbm, 1276, rfl⟩
abbrev main_call38_v1 : Ref sig .tc := ⟨.hbm, 1277, rfl⟩
abbrev main_call38_v2 : Ref sig .tc := ⟨.hbm, 1278, rfl⟩
abbrev main_call38_v3 : Ref sig .tc := ⟨.hbm, 1279, rfl⟩
abbrev main_call38_v4 : Ref sig .tc := ⟨.hbm, 1280, rfl⟩
abbrev main_v630 : Ref sig .tc := ⟨.hbm, 1281, rfl⟩
abbrev main_v631 : Ref sig .tc := ⟨.hbm, 1282, rfl⟩
abbrev main_c_155 : Ref sig .tc := ⟨.hbm, 1283, rfl⟩
abbrev main_c_156 : Ref sig .tc := ⟨.hbm, 1284, rfl⟩
abbrev main_call39_v0 : Ref sig .tc := ⟨.hbm, 1285, rfl⟩
abbrev main_call39_v1 : Ref sig .tc := ⟨.hbm, 1286, rfl⟩
abbrev main_call39_v2 : Ref sig .tc := ⟨.hbm, 1287, rfl⟩
abbrev main_call39_v3 : Ref sig .tc := ⟨.hbm, 1288, rfl⟩
abbrev main_call39_v4 : Ref sig .tc := ⟨.hbm, 1289, rfl⟩
abbrev main_v632 : Ref sig .tc := ⟨.hbm, 1290, rfl⟩
abbrev main_v633 : Ref sig .tc := ⟨.hbm, 1291, rfl⟩
abbrev main_c_157 : Ref sig .tc := ⟨.hbm, 1292, rfl⟩
abbrev main_v634 : Ref sig .tc := ⟨.hbm, 1293, rfl⟩
abbrev main_v635 : Ref sig .tc := ⟨.hbm, 1294, rfl⟩
abbrev main_v636 : Ref sig .tc := ⟨.hbm, 1295, rfl⟩
abbrev main_v637 : Ref sig .tc := ⟨.hbm, 1296, rfl⟩
abbrev main_v638 : Ref sig .tc := ⟨.hbm, 1297, rfl⟩
abbrev main_v639 : Ref sig .tc := ⟨.hbm, 1298, rfl⟩
abbrev main_call40_c : Ref sig .tc := ⟨.hbm, 1299, rfl⟩
abbrev main_call40_v0 : Ref sig .tc := ⟨.hbm, 1300, rfl⟩
abbrev main_call40_v1 : Ref sig .tc := ⟨.hbm, 1301, rfl⟩
abbrev main_call40_c_0 : Ref sig .tc := ⟨.hbm, 1302, rfl⟩
abbrev main_call40_v2 : Ref sig .tc := ⟨.hbm, 1303, rfl⟩
abbrev main_call40_v3 : Ref sig .tc := ⟨.hbm, 1304, rfl⟩
abbrev main_call40_v4 : Ref sig .tc := ⟨.hbm, 1305, rfl⟩
abbrev main_call40_v5 : Ref sig .tc := ⟨.hbm, 1306, rfl⟩
abbrev main_call40_c_1 : Ref sig .tc := ⟨.hbm, 1307, rfl⟩
abbrev main_call40_c_2 : Ref sig .tc := ⟨.hbm, 1308, rfl⟩
abbrev main_call40_v6 : Ref sig .tc := ⟨.hbm, 1309, rfl⟩
abbrev main_call40_v7 : Ref sig .tc := ⟨.hbm, 1310, rfl⟩
abbrev main_call40_v8 : Ref sig .tc := ⟨.hbm, 1311, rfl⟩
abbrev main_call40_v9 : Ref sig .tc := ⟨.hbm, 1312, rfl⟩
abbrev main_call40_v10 : Ref sig .tc := ⟨.hbm, 1313, rfl⟩
abbrev main_call40_v11 : Ref sig .tc := ⟨.hbm, 1314, rfl⟩
abbrev main_call40_c_3 : Ref sig .tc := ⟨.hbm, 1315, rfl⟩
abbrev main_call40_v12 : Ref sig .tc := ⟨.hbm, 1316, rfl⟩
abbrev main_call40_v13 : Ref sig .tc := ⟨.hbm, 1317, rfl⟩
abbrev main_call40_cst : Ref sig .tc := ⟨.hbm, 1318, rfl⟩
abbrev main_call40_v14 : Ref sig .tc := ⟨.hbm, 1319, rfl⟩
abbrev main_v640 : Ref sig .tc := ⟨.hbm, 1320, rfl⟩
abbrev main_v641 : Ref sig .tc := ⟨.hbm, 1321, rfl⟩
abbrev main_v642 : Ref sig .tc := ⟨.hbm, 1322, rfl⟩
abbrev main_v643 : Ref sig .tc := ⟨.hbm, 1323, rfl⟩
abbrev main_v644 : Ref sig .tc := ⟨.hbm, 1324, rfl⟩
abbrev main_v645 : Ref sig .tc := ⟨.hbm, 1325, rfl⟩
abbrev main_v646 : Ref sig .tc := ⟨.hbm, 1326, rfl⟩
abbrev main_v647 : Ref sig .tc := ⟨.hbm, 1327, rfl⟩
abbrev main_v648 : Ref sig .tc := ⟨.hbm, 1328, rfl⟩
abbrev main_v649 : Ref sig .tc := ⟨.hbm, 1329, rfl⟩
abbrev main_cst_158 : Ref sig .tc := ⟨.hbm, 1330, rfl⟩
abbrev main_v650 : Ref sig .tc := ⟨.hbm, 1331, rfl⟩
abbrev main_v651 : Ref sig .tc := ⟨.hbm, 1332, rfl⟩
abbrev main_cst_159 : Ref sig .tc := ⟨.hbm, 1333, rfl⟩
abbrev main_v652 : Ref sig .tc := ⟨.hbm, 1334, rfl⟩
abbrev main_v653 : Ref sig .tc := ⟨.hbm, 1335, rfl⟩
abbrev main_v654 : Ref sig .tc := ⟨.hbm, 1336, rfl⟩
abbrev main_cst_160 : Ref sig .tc := ⟨.hbm, 1337, rfl⟩
abbrev main_v655 : Ref sig .tc := ⟨.hbm, 1338, rfl⟩
abbrev main_v656 : Ref sig .tc := ⟨.hbm, 1339, rfl⟩
abbrev main_v657 : Ref sig .tc := ⟨.hbm, 1340, rfl⟩
abbrev main_cst_161 : Ref sig .tc := ⟨.hbm, 1341, rfl⟩
abbrev main_v658 : Ref sig .tc := ⟨.hbm, 1342, rfl⟩
abbrev main_v659 : Ref sig .tc := ⟨.hbm, 1343, rfl⟩
abbrev main_v660 : Ref sig .tc := ⟨.hbm, 1344, rfl⟩
abbrev main_c_162 : Ref sig .tc := ⟨.hbm, 1345, rfl⟩
abbrev main_c_163 : Ref sig .tc := ⟨.hbm, 1346, rfl⟩
abbrev main_call41_v0 : Ref sig .tc := ⟨.hbm, 1347, rfl⟩
abbrev main_call41_v1 : Ref sig .tc := ⟨.hbm, 1348, rfl⟩
abbrev main_call41_v2 : Ref sig .tc := ⟨.hbm, 1349, rfl⟩
abbrev main_call41_v3 : Ref sig .tc := ⟨.hbm, 1350, rfl⟩
abbrev main_call41_v4 : Ref sig .tc := ⟨.hbm, 1351, rfl⟩
abbrev main_v661 : Ref sig .tc := ⟨.hbm, 1352, rfl⟩
abbrev main_v662 : Ref sig .tc := ⟨.hbm, 1353, rfl⟩
abbrev main_c_164 : Ref sig .tc := ⟨.hbm, 1354, rfl⟩
abbrev main_c_165 : Ref sig .tc := ⟨.hbm, 1355, rfl⟩
abbrev main_call42_v0 : Ref sig .tc := ⟨.hbm, 1356, rfl⟩
abbrev main_call42_v1 : Ref sig .tc := ⟨.hbm, 1357, rfl⟩
abbrev main_call42_v2 : Ref sig .tc := ⟨.hbm, 1358, rfl⟩
abbrev main_call42_v3 : Ref sig .tc := ⟨.hbm, 1359, rfl⟩
abbrev main_call42_v4 : Ref sig .tc := ⟨.hbm, 1360, rfl⟩
abbrev main_v663 : Ref sig .tc := ⟨.hbm, 1361, rfl⟩
abbrev main_v664 : Ref sig .tc := ⟨.hbm, 1362, rfl⟩
abbrev main_c_166 : Ref sig .tc := ⟨.hbm, 1363, rfl⟩
abbrev main_v665 : Ref sig .tc := ⟨.hbm, 1364, rfl⟩
abbrev main_v666 : Ref sig .tc := ⟨.hbm, 1365, rfl⟩
abbrev main_v667 : Ref sig .tc := ⟨.hbm, 1366, rfl⟩
abbrev main_v668 : Ref sig .tc := ⟨.hbm, 1367, rfl⟩
abbrev main_v669 : Ref sig .tc := ⟨.hbm, 1368, rfl⟩
abbrev main_v670 : Ref sig .tc := ⟨.hbm, 1369, rfl⟩
abbrev main_call43_c : Ref sig .tc := ⟨.hbm, 1370, rfl⟩
abbrev main_call43_v0 : Ref sig .tc := ⟨.hbm, 1371, rfl⟩
abbrev main_call43_v1 : Ref sig .tc := ⟨.hbm, 1372, rfl⟩
abbrev main_call43_c_0 : Ref sig .tc := ⟨.hbm, 1373, rfl⟩
abbrev main_call43_v2 : Ref sig .tc := ⟨.hbm, 1374, rfl⟩
abbrev main_call43_v3 : Ref sig .tc := ⟨.hbm, 1375, rfl⟩
abbrev main_call43_v4 : Ref sig .tc := ⟨.hbm, 1376, rfl⟩
abbrev main_call43_v5 : Ref sig .tc := ⟨.hbm, 1377, rfl⟩
abbrev main_call43_c_1 : Ref sig .tc := ⟨.hbm, 1378, rfl⟩
abbrev main_call43_c_2 : Ref sig .tc := ⟨.hbm, 1379, rfl⟩
abbrev main_call43_v6 : Ref sig .tc := ⟨.hbm, 1380, rfl⟩
abbrev main_call43_v7 : Ref sig .tc := ⟨.hbm, 1381, rfl⟩
abbrev main_call43_v8 : Ref sig .tc := ⟨.hbm, 1382, rfl⟩
abbrev main_call43_v9 : Ref sig .tc := ⟨.hbm, 1383, rfl⟩
abbrev main_call43_v10 : Ref sig .tc := ⟨.hbm, 1384, rfl⟩
abbrev main_call43_v11 : Ref sig .tc := ⟨.hbm, 1385, rfl⟩
abbrev main_call43_c_3 : Ref sig .tc := ⟨.hbm, 1386, rfl⟩
abbrev main_call43_v12 : Ref sig .tc := ⟨.hbm, 1387, rfl⟩
abbrev main_call43_v13 : Ref sig .tc := ⟨.hbm, 1388, rfl⟩
abbrev main_call43_cst : Ref sig .tc := ⟨.hbm, 1389, rfl⟩
abbrev main_call43_v14 : Ref sig .tc := ⟨.hbm, 1390, rfl⟩
abbrev main_v671 : Ref sig .tc := ⟨.hbm, 1391, rfl⟩
abbrev main_v672 : Ref sig .tc := ⟨.hbm, 1392, rfl⟩
abbrev main_v673 : Ref sig .tc := ⟨.hbm, 1393, rfl⟩
abbrev main_v674 : Ref sig .tc := ⟨.hbm, 1394, rfl⟩
abbrev main_v675 : Ref sig .tc := ⟨.hbm, 1395, rfl⟩
abbrev main_v676 : Ref sig .tc := ⟨.hbm, 1396, rfl⟩
abbrev main_v677 : Ref sig .tc := ⟨.hbm, 1397, rfl⟩
abbrev main_v678 : Ref sig .tc := ⟨.hbm, 1398, rfl⟩
abbrev main_v679 : Ref sig .tc := ⟨.hbm, 1399, rfl⟩
abbrev main_v680 : Ref sig .tc := ⟨.hbm, 1400, rfl⟩
abbrev main_v681 : Ref sig .tc := ⟨.hbm, 1401, rfl⟩
abbrev main_v682 : Ref sig .tc := ⟨.hbm, 1402, rfl⟩
abbrev main_v683 : Ref sig .tc := ⟨.hbm, 1403, rfl⟩
abbrev main_v684 : Ref sig .tc := ⟨.hbm, 1404, rfl⟩
abbrev main_v685 : Ref sig .tc := ⟨.hbm, 1405, rfl⟩
abbrev main_v686 : Ref sig .tc := ⟨.hbm, 1406, rfl⟩
abbrev main_v687 : Ref sig .tc := ⟨.hbm, 1407, rfl⟩
abbrev main_v688 : Ref sig .tc := ⟨.hbm, 1408, rfl⟩
abbrev main_v689 : Ref sig .tc := ⟨.hbm, 1409, rfl⟩
abbrev main_cst_167 : Ref sig .tc := ⟨.hbm, 1410, rfl⟩
abbrev main_v690 : Ref sig .tc := ⟨.hbm, 1411, rfl⟩
abbrev main_v691 : Ref sig .tc := ⟨.hbm, 1412, rfl⟩
abbrev main_cst_168 : Ref sig .tc := ⟨.hbm, 1413, rfl⟩
abbrev main_v692 : Ref sig .tc := ⟨.hbm, 1414, rfl⟩
abbrev main_v693 : Ref sig .tc := ⟨.hbm, 1415, rfl⟩
abbrev main_cst_169 : Ref sig .tc := ⟨.hbm, 1416, rfl⟩
abbrev main_v694 : Ref sig .tc := ⟨.hbm, 1417, rfl⟩
abbrev main_v695 : Ref sig .tc := ⟨.hbm, 1418, rfl⟩
abbrev main_cst_170 : Ref sig .tc := ⟨.hbm, 1419, rfl⟩
abbrev main_v696 : Ref sig .tc := ⟨.hbm, 1420, rfl⟩
abbrev main_v697 : Ref sig .tc := ⟨.hbm, 1421, rfl⟩
abbrev main_v698 : Ref sig .tc := ⟨.hbm, 1422, rfl⟩
abbrev main_v699 : Ref sig .tc := ⟨.hbm, 1423, rfl⟩
abbrev main_cst_171 : Ref sig .tc := ⟨.hbm, 1424, rfl⟩
abbrev main_v700 : Ref sig .tc := ⟨.hbm, 1425, rfl⟩
abbrev main_v701 : Ref sig .tc := ⟨.hbm, 1426, rfl⟩
abbrev main_cst_172 : Ref sig .tc := ⟨.hbm, 1427, rfl⟩
abbrev main_v702 : Ref sig .tc := ⟨.hbm, 1428, rfl⟩
abbrev main_v703 : Ref sig .tc := ⟨.hbm, 1429, rfl⟩
abbrev main_cst_173 : Ref sig .tc := ⟨.hbm, 1430, rfl⟩
abbrev main_v704 : Ref sig .tc := ⟨.hbm, 1431, rfl⟩
abbrev main_v705 : Ref sig .tc := ⟨.hbm, 1432, rfl⟩
abbrev main_cst_174 : Ref sig .tc := ⟨.hbm, 1433, rfl⟩
abbrev main_v706 : Ref sig .tc := ⟨.hbm, 1434, rfl⟩
abbrev main_v707 : Ref sig .tc := ⟨.hbm, 1435, rfl⟩
abbrev main_v708 : Ref sig .tc := ⟨.hbm, 1436, rfl⟩
abbrev main_v709 : Ref sig .tc := ⟨.hbm, 1437, rfl⟩
abbrev main_cst_175 : Ref sig .tc := ⟨.hbm, 1438, rfl⟩
abbrev main_v710 : Ref sig .tc := ⟨.hbm, 1439, rfl⟩
abbrev main_v711 : Ref sig .tc := ⟨.hbm, 1440, rfl⟩
abbrev main_cst_176 : Ref sig .tc := ⟨.hbm, 1441, rfl⟩
abbrev main_v712 : Ref sig .tc := ⟨.hbm, 1442, rfl⟩
abbrev main_v713 : Ref sig .tc := ⟨.hbm, 1443, rfl⟩
abbrev main_v714 : Ref sig .tc := ⟨.hbm, 1444, rfl⟩
abbrev main_v715 : Ref sig .tc := ⟨.hbm, 1445, rfl⟩
abbrev main_v716 : Ref sig .tc := ⟨.hbm, 1446, rfl⟩
abbrev main_v717 : Ref sig .tc := ⟨.hbm, 1447, rfl⟩
abbrev main_v718 : Ref sig .tc := ⟨.hbm, 1448, rfl⟩
abbrev main_v719 : Ref sig .tc := ⟨.hbm, 1449, rfl⟩
abbrev main_v720 : Ref sig .tc := ⟨.hbm, 1450, rfl⟩
abbrev main_v721 : Ref sig .tc := ⟨.hbm, 1451, rfl⟩
abbrev main_v722 : Ref sig .tc := ⟨.hbm, 1452, rfl⟩
abbrev main_v723 : Ref sig .tc := ⟨.hbm, 1453, rfl⟩
abbrev main_v724 : Ref sig .tc := ⟨.hbm, 1454, rfl⟩
abbrev main_v725 : Ref sig .tc := ⟨.hbm, 1455, rfl⟩
abbrev main_v726 : Ref sig .tc := ⟨.hbm, 1456, rfl⟩
abbrev main_cst_177 : Ref sig .tc := ⟨.hbm, 1457, rfl⟩
abbrev main_v727 : Ref sig .tc := ⟨.hbm, 1458, rfl⟩
abbrev main_v728 : Ref sig .tc := ⟨.hbm, 1459, rfl⟩
abbrev main_cst_178 : Ref sig .tc := ⟨.hbm, 1460, rfl⟩
abbrev main_v729 : Ref sig .tc := ⟨.hbm, 1461, rfl⟩
abbrev main_v730 : Ref sig .tc := ⟨.hbm, 1462, rfl⟩
abbrev main_v731 : Ref sig .tc := ⟨.hbm, 1463, rfl⟩
abbrev main_cst_179 : Ref sig .tc := ⟨.hbm, 1464, rfl⟩
abbrev main_v732 : Ref sig .tc := ⟨.hbm, 1465, rfl⟩
abbrev main_v733 : Ref sig .tc := ⟨.hbm, 1466, rfl⟩
abbrev main_v734 : Ref sig .tc := ⟨.hbm, 1467, rfl⟩
abbrev main_cst_180 : Ref sig .tc := ⟨.hbm, 1468, rfl⟩
abbrev main_v735 : Ref sig .tc := ⟨.hbm, 1469, rfl⟩
abbrev main_v736 : Ref sig .tc := ⟨.hbm, 1470, rfl⟩
abbrev main_v737 : Ref sig .tc := ⟨.hbm, 1471, rfl⟩
abbrev main_c_181 : Ref sig .tc := ⟨.hbm, 1472, rfl⟩
abbrev main_c_182 : Ref sig .tc := ⟨.hbm, 1473, rfl⟩
abbrev main_call44_v0 : Ref sig .tc := ⟨.hbm, 1474, rfl⟩
abbrev main_call44_v1 : Ref sig .tc := ⟨.hbm, 1475, rfl⟩
abbrev main_call44_v2 : Ref sig .tc := ⟨.hbm, 1476, rfl⟩
abbrev main_call44_v3 : Ref sig .tc := ⟨.hbm, 1477, rfl⟩
abbrev main_call44_v4 : Ref sig .tc := ⟨.hbm, 1478, rfl⟩
abbrev main_v738 : Ref sig .tc := ⟨.hbm, 1479, rfl⟩
abbrev main_v739 : Ref sig .tc := ⟨.hbm, 1480, rfl⟩
abbrev main_c_183 : Ref sig .tc := ⟨.hbm, 1481, rfl⟩
abbrev main_c_184 : Ref sig .tc := ⟨.hbm, 1482, rfl⟩
abbrev main_call45_v0 : Ref sig .tc := ⟨.hbm, 1483, rfl⟩
abbrev main_call45_v1 : Ref sig .tc := ⟨.hbm, 1484, rfl⟩
abbrev main_call45_v2 : Ref sig .tc := ⟨.hbm, 1485, rfl⟩
abbrev main_call45_v3 : Ref sig .tc := ⟨.hbm, 1486, rfl⟩
abbrev main_call45_v4 : Ref sig .tc := ⟨.hbm, 1487, rfl⟩
abbrev main_v740 : Ref sig .tc := ⟨.hbm, 1488, rfl⟩
abbrev main_v741 : Ref sig .tc := ⟨.hbm, 1489, rfl⟩
abbrev main_c_185 : Ref sig .tc := ⟨.hbm, 1490, rfl⟩
abbrev main_v742 : Ref sig .tc := ⟨.hbm, 1491, rfl⟩
abbrev main_v743 : Ref sig .tc := ⟨.hbm, 1492, rfl⟩
abbrev main_v744 : Ref sig .tc := ⟨.hbm, 1493, rfl⟩
abbrev main_v745 : Ref sig .tc := ⟨.hbm, 1494, rfl⟩
abbrev main_v746 : Ref sig .tc := ⟨.hbm, 1495, rfl⟩
abbrev main_v747 : Ref sig .tc := ⟨.hbm, 1496, rfl⟩
abbrev main_call46_c : Ref sig .tc := ⟨.hbm, 1497, rfl⟩
abbrev main_call46_v0 : Ref sig .tc := ⟨.hbm, 1498, rfl⟩
abbrev main_call46_v1 : Ref sig .tc := ⟨.hbm, 1499, rfl⟩
abbrev main_call46_c_0 : Ref sig .tc := ⟨.hbm, 1500, rfl⟩
abbrev main_call46_v2 : Ref sig .tc := ⟨.hbm, 1501, rfl⟩
abbrev main_call46_v3 : Ref sig .tc := ⟨.hbm, 1502, rfl⟩
abbrev main_call46_v4 : Ref sig .tc := ⟨.hbm, 1503, rfl⟩
abbrev main_call46_v5 : Ref sig .tc := ⟨.hbm, 1504, rfl⟩
abbrev main_call46_c_1 : Ref sig .tc := ⟨.hbm, 1505, rfl⟩
abbrev main_call46_c_2 : Ref sig .tc := ⟨.hbm, 1506, rfl⟩
abbrev main_call46_v6 : Ref sig .tc := ⟨.hbm, 1507, rfl⟩
abbrev main_call46_v7 : Ref sig .tc := ⟨.hbm, 1508, rfl⟩
abbrev main_call46_v8 : Ref sig .tc := ⟨.hbm, 1509, rfl⟩
abbrev main_call46_v9 : Ref sig .tc := ⟨.hbm, 1510, rfl⟩
abbrev main_call46_v10 : Ref sig .tc := ⟨.hbm, 1511, rfl⟩
abbrev main_call46_v11 : Ref sig .tc := ⟨.hbm, 1512, rfl⟩
abbrev main_call46_c_3 : Ref sig .tc := ⟨.hbm, 1513, rfl⟩
abbrev main_call46_v12 : Ref sig .tc := ⟨.hbm, 1514, rfl⟩
abbrev main_call46_v13 : Ref sig .tc := ⟨.hbm, 1515, rfl⟩
abbrev main_call46_cst : Ref sig .tc := ⟨.hbm, 1516, rfl⟩
abbrev main_call46_v14 : Ref sig .tc := ⟨.hbm, 1517, rfl⟩
abbrev main_v748 : Ref sig .tc := ⟨.hbm, 1518, rfl⟩
abbrev main_v749 : Ref sig .tc := ⟨.hbm, 1519, rfl⟩
abbrev main_v750 : Ref sig .tc := ⟨.hbm, 1520, rfl⟩
abbrev main_v751 : Ref sig .tc := ⟨.hbm, 1521, rfl⟩
abbrev main_v752 : Ref sig .tc := ⟨.hbm, 1522, rfl⟩
abbrev main_v753 : Ref sig .tc := ⟨.hbm, 1523, rfl⟩
abbrev main_v754 : Ref sig .tc := ⟨.hbm, 1524, rfl⟩
abbrev main_v755 : Ref sig .tc := ⟨.hbm, 1525, rfl⟩
abbrev main_v756 : Ref sig .tc := ⟨.hbm, 1526, rfl⟩
abbrev main_cst_186 : Ref sig .tc := ⟨.hbm, 1527, rfl⟩
abbrev main_v757 : Ref sig .tc := ⟨.hbm, 1528, rfl⟩
abbrev main_v758 : Ref sig .tc := ⟨.hbm, 1529, rfl⟩
abbrev main_cst_187 : Ref sig .tc := ⟨.hbm, 1530, rfl⟩
abbrev main_v759 : Ref sig .tc := ⟨.hbm, 1531, rfl⟩
abbrev main_v760 : Ref sig .tc := ⟨.hbm, 1532, rfl⟩
abbrev main_v761 : Ref sig .tc := ⟨.hbm, 1533, rfl⟩
abbrev main_cst_188 : Ref sig .tc := ⟨.hbm, 1534, rfl⟩
abbrev main_v762 : Ref sig .tc := ⟨.hbm, 1535, rfl⟩
abbrev main_v763 : Ref sig .tc := ⟨.hbm, 1536, rfl⟩
abbrev main_v764 : Ref sig .tc := ⟨.hbm, 1537, rfl⟩
abbrev main_cst_189 : Ref sig .tc := ⟨.hbm, 1538, rfl⟩
abbrev main_v765 : Ref sig .tc := ⟨.hbm, 1539, rfl⟩
abbrev main_v766 : Ref sig .tc := ⟨.hbm, 1540, rfl⟩
abbrev main_v767 : Ref sig .tc := ⟨.hbm, 1541, rfl⟩
abbrev main_c_190 : Ref sig .tc := ⟨.hbm, 1542, rfl⟩
abbrev main_c_191 : Ref sig .tc := ⟨.hbm, 1543, rfl⟩
abbrev main_call47_v0 : Ref sig .tc := ⟨.hbm, 1544, rfl⟩
abbrev main_call47_v1 : Ref sig .tc := ⟨.hbm, 1545, rfl⟩
abbrev main_call47_v2 : Ref sig .tc := ⟨.hbm, 1546, rfl⟩
abbrev main_call47_v3 : Ref sig .tc := ⟨.hbm, 1547, rfl⟩
abbrev main_call47_v4 : Ref sig .tc := ⟨.hbm, 1548, rfl⟩
abbrev main_v768 : Ref sig .tc := ⟨.hbm, 1549, rfl⟩
abbrev main_v769 : Ref sig .tc := ⟨.hbm, 1550, rfl⟩
abbrev main_c_192 : Ref sig .tc := ⟨.hbm, 1551, rfl⟩
abbrev main_c_193 : Ref sig .tc := ⟨.hbm, 1552, rfl⟩
abbrev main_call48_v0 : Ref sig .tc := ⟨.hbm, 1553, rfl⟩
abbrev main_call48_v1 : Ref sig .tc := ⟨.hbm, 1554, rfl⟩
abbrev main_call48_v2 : Ref sig .tc := ⟨.hbm, 1555, rfl⟩
abbrev main_call48_v3 : Ref sig .tc := ⟨.hbm, 1556, rfl⟩
abbrev main_call48_v4 : Ref sig .tc := ⟨.hbm, 1557, rfl⟩
abbrev main_v770 : Ref sig .tc := ⟨.hbm, 1558, rfl⟩
abbrev main_v771 : Ref sig .tc := ⟨.hbm, 1559, rfl⟩
abbrev main_c_194 : Ref sig .tc := ⟨.hbm, 1560, rfl⟩
abbrev main_v772 : Ref sig .tc := ⟨.hbm, 1561, rfl⟩
abbrev main_v773 : Ref sig .tc := ⟨.hbm, 1562, rfl⟩
abbrev main_v774 : Ref sig .tc := ⟨.hbm, 1563, rfl⟩
abbrev main_v775 : Ref sig .tc := ⟨.hbm, 1564, rfl⟩
abbrev main_v776 : Ref sig .tc := ⟨.hbm, 1565, rfl⟩
abbrev main_v777 : Ref sig .tc := ⟨.hbm, 1566, rfl⟩
abbrev main_call49_c : Ref sig .tc := ⟨.hbm, 1567, rfl⟩
abbrev main_call49_v0 : Ref sig .tc := ⟨.hbm, 1568, rfl⟩
abbrev main_call49_v1 : Ref sig .tc := ⟨.hbm, 1569, rfl⟩
abbrev main_call49_c_0 : Ref sig .tc := ⟨.hbm, 1570, rfl⟩
abbrev main_call49_v2 : Ref sig .tc := ⟨.hbm, 1571, rfl⟩
abbrev main_call49_v3 : Ref sig .tc := ⟨.hbm, 1572, rfl⟩
abbrev main_call49_v4 : Ref sig .tc := ⟨.hbm, 1573, rfl⟩
abbrev main_call49_v5 : Ref sig .tc := ⟨.hbm, 1574, rfl⟩
abbrev main_call49_c_1 : Ref sig .tc := ⟨.hbm, 1575, rfl⟩
abbrev main_call49_c_2 : Ref sig .tc := ⟨.hbm, 1576, rfl⟩
abbrev main_call49_v6 : Ref sig .tc := ⟨.hbm, 1577, rfl⟩
abbrev main_call49_v7 : Ref sig .tc := ⟨.hbm, 1578, rfl⟩
abbrev main_call49_v8 : Ref sig .tc := ⟨.hbm, 1579, rfl⟩
abbrev main_call49_v9 : Ref sig .tc := ⟨.hbm, 1580, rfl⟩
abbrev main_call49_v10 : Ref sig .tc := ⟨.hbm, 1581, rfl⟩
abbrev main_call49_v11 : Ref sig .tc := ⟨.hbm, 1582, rfl⟩
abbrev main_call49_c_3 : Ref sig .tc := ⟨.hbm, 1583, rfl⟩
abbrev main_call49_v12 : Ref sig .tc := ⟨.hbm, 1584, rfl⟩
abbrev main_call49_v13 : Ref sig .tc := ⟨.hbm, 1585, rfl⟩
abbrev main_call49_cst : Ref sig .tc := ⟨.hbm, 1586, rfl⟩
abbrev main_call49_v14 : Ref sig .tc := ⟨.hbm, 1587, rfl⟩
abbrev main_v778 : Ref sig .tc := ⟨.hbm, 1588, rfl⟩
abbrev main_v779 : Ref sig .tc := ⟨.hbm, 1589, rfl⟩
abbrev main_v780 : Ref sig .tc := ⟨.hbm, 1590, rfl⟩
abbrev main_v781 : Ref sig .tc := ⟨.hbm, 1591, rfl⟩
abbrev main_v782 : Ref sig .tc := ⟨.hbm, 1592, rfl⟩
abbrev main_v783 : Ref sig .tc := ⟨.hbm, 1593, rfl⟩
abbrev main_v784 : Ref sig .tc := ⟨.hbm, 1594, rfl⟩
abbrev main_v785 : Ref sig .tc := ⟨.hbm, 1595, rfl⟩
abbrev main_v786 : Ref sig .tc := ⟨.hbm, 1596, rfl⟩
abbrev main_v787 : Ref sig .tc := ⟨.hbm, 1597, rfl⟩
abbrev main_cst_195 : Ref sig .tc := ⟨.hbm, 1598, rfl⟩
abbrev main_v788 : Ref sig .tc := ⟨.hbm, 1599, rfl⟩
abbrev main_v789 : Ref sig .tc := ⟨.hbm, 1600, rfl⟩
abbrev main_cst_196 : Ref sig .tc := ⟨.hbm, 1601, rfl⟩
abbrev main_v790 : Ref sig .tc := ⟨.hbm, 1602, rfl⟩
abbrev main_v791 : Ref sig .tc := ⟨.hbm, 1603, rfl⟩
abbrev main_v792 : Ref sig .tc := ⟨.hbm, 1604, rfl⟩
abbrev main_cst_197 : Ref sig .tc := ⟨.hbm, 1605, rfl⟩
abbrev main_v793 : Ref sig .tc := ⟨.hbm, 1606, rfl⟩
abbrev main_v794 : Ref sig .tc := ⟨.hbm, 1607, rfl⟩
abbrev main_v795 : Ref sig .tc := ⟨.hbm, 1608, rfl⟩
abbrev main_cst_198 : Ref sig .tc := ⟨.hbm, 1609, rfl⟩
abbrev main_v796 : Ref sig .tc := ⟨.hbm, 1610, rfl⟩
abbrev main_v797 : Ref sig .tc := ⟨.hbm, 1611, rfl⟩
abbrev main_v798 : Ref sig .tc := ⟨.hbm, 1612, rfl⟩
abbrev main_c_199 : Ref sig .tc := ⟨.hbm, 1613, rfl⟩
abbrev main_c_200 : Ref sig .tc := ⟨.hbm, 1614, rfl⟩
abbrev main_call50_v0 : Ref sig .tc := ⟨.hbm, 1615, rfl⟩
abbrev main_call50_v1 : Ref sig .tc := ⟨.hbm, 1616, rfl⟩
abbrev main_call50_v2 : Ref sig .tc := ⟨.hbm, 1617, rfl⟩
abbrev main_call50_v3 : Ref sig .tc := ⟨.hbm, 1618, rfl⟩
abbrev main_call50_v4 : Ref sig .tc := ⟨.hbm, 1619, rfl⟩
abbrev main_v799 : Ref sig .tc := ⟨.hbm, 1620, rfl⟩
abbrev main_v800 : Ref sig .tc := ⟨.hbm, 1621, rfl⟩
abbrev main_c_201 : Ref sig .tc := ⟨.hbm, 1622, rfl⟩
abbrev main_c_202 : Ref sig .tc := ⟨.hbm, 1623, rfl⟩
abbrev main_call51_v0 : Ref sig .tc := ⟨.hbm, 1624, rfl⟩
abbrev main_call51_v1 : Ref sig .tc := ⟨.hbm, 1625, rfl⟩
abbrev main_call51_v2 : Ref sig .tc := ⟨.hbm, 1626, rfl⟩
abbrev main_call51_v3 : Ref sig .tc := ⟨.hbm, 1627, rfl⟩
abbrev main_call51_v4 : Ref sig .tc := ⟨.hbm, 1628, rfl⟩
abbrev main_v801 : Ref sig .tc := ⟨.hbm, 1629, rfl⟩
abbrev main_v802 : Ref sig .tc := ⟨.hbm, 1630, rfl⟩
abbrev main_c_203 : Ref sig .tc := ⟨.hbm, 1631, rfl⟩
abbrev main_v803 : Ref sig .tc := ⟨.hbm, 1632, rfl⟩
abbrev main_v804 : Ref sig .tc := ⟨.hbm, 1633, rfl⟩
abbrev main_v805 : Ref sig .tc := ⟨.hbm, 1634, rfl⟩
abbrev main_v806 : Ref sig .tc := ⟨.hbm, 1635, rfl⟩
abbrev main_v807 : Ref sig .tc := ⟨.hbm, 1636, rfl⟩
abbrev main_v808 : Ref sig .tc := ⟨.hbm, 1637, rfl⟩
abbrev main_call52_c : Ref sig .tc := ⟨.hbm, 1638, rfl⟩
abbrev main_call52_v0 : Ref sig .tc := ⟨.hbm, 1639, rfl⟩
abbrev main_call52_v1 : Ref sig .tc := ⟨.hbm, 1640, rfl⟩
abbrev main_call52_c_0 : Ref sig .tc := ⟨.hbm, 1641, rfl⟩
abbrev main_call52_v2 : Ref sig .tc := ⟨.hbm, 1642, rfl⟩
abbrev main_call52_v3 : Ref sig .tc := ⟨.hbm, 1643, rfl⟩
abbrev main_call52_v4 : Ref sig .tc := ⟨.hbm, 1644, rfl⟩
abbrev main_call52_v5 : Ref sig .tc := ⟨.hbm, 1645, rfl⟩
abbrev main_call52_c_1 : Ref sig .tc := ⟨.hbm, 1646, rfl⟩
abbrev main_call52_c_2 : Ref sig .tc := ⟨.hbm, 1647, rfl⟩
abbrev main_call52_v6 : Ref sig .tc := ⟨.hbm, 1648, rfl⟩
abbrev main_call52_v7 : Ref sig .tc := ⟨.hbm, 1649, rfl⟩
abbrev main_call52_v8 : Ref sig .tc := ⟨.hbm, 1650, rfl⟩
abbrev main_call52_v9 : Ref sig .tc := ⟨.hbm, 1651, rfl⟩
abbrev main_call52_v10 : Ref sig .tc := ⟨.hbm, 1652, rfl⟩
abbrev main_call52_v11 : Ref sig .tc := ⟨.hbm, 1653, rfl⟩
abbrev main_call52_c_3 : Ref sig .tc := ⟨.hbm, 1654, rfl⟩
abbrev main_call52_v12 : Ref sig .tc := ⟨.hbm, 1655, rfl⟩
abbrev main_call52_v13 : Ref sig .tc := ⟨.hbm, 1656, rfl⟩
abbrev main_call52_cst : Ref sig .tc := ⟨.hbm, 1657, rfl⟩
abbrev main_call52_v14 : Ref sig .tc := ⟨.hbm, 1658, rfl⟩
abbrev main_v809 : Ref sig .tc := ⟨.hbm, 1659, rfl⟩
abbrev main_v810 : Ref sig .tc := ⟨.hbm, 1660, rfl⟩
abbrev main_v811 : Ref sig .tc := ⟨.hbm, 1661, rfl⟩
abbrev main_v812 : Ref sig .tc := ⟨.hbm, 1662, rfl⟩
abbrev main_v813 : Ref sig .tc := ⟨.hbm, 1663, rfl⟩
abbrev main_v814 : Ref sig .tc := ⟨.hbm, 1664, rfl⟩
abbrev main_v815 : Ref sig .tc := ⟨.hbm, 1665, rfl⟩
abbrev main_v816 : Ref sig .tc := ⟨.hbm, 1666, rfl⟩
abbrev main_v817 : Ref sig .tc := ⟨.hbm, 1667, rfl⟩
abbrev main_v818 : Ref sig .tc := ⟨.hbm, 1668, rfl⟩
abbrev main_cst_204 : Ref sig .tc := ⟨.hbm, 1669, rfl⟩
abbrev main_v819 : Ref sig .tc := ⟨.hbm, 1670, rfl⟩
abbrev main_v820 : Ref sig .tc := ⟨.hbm, 1671, rfl⟩
abbrev main_cst_205 : Ref sig .tc := ⟨.hbm, 1672, rfl⟩
abbrev main_v821 : Ref sig .tc := ⟨.hbm, 1673, rfl⟩
abbrev main_v822 : Ref sig .tc := ⟨.hbm, 1674, rfl⟩
abbrev main_v823 : Ref sig .tc := ⟨.hbm, 1675, rfl⟩
abbrev main_cst_206 : Ref sig .tc := ⟨.hbm, 1676, rfl⟩
abbrev main_v824 : Ref sig .tc := ⟨.hbm, 1677, rfl⟩
abbrev main_v825 : Ref sig .tc := ⟨.hbm, 1678, rfl⟩
abbrev main_v826 : Ref sig .tc := ⟨.hbm, 1679, rfl⟩
abbrev main_cst_207 : Ref sig .tc := ⟨.hbm, 1680, rfl⟩
abbrev main_v827 : Ref sig .tc := ⟨.hbm, 1681, rfl⟩
abbrev main_v828 : Ref sig .tc := ⟨.hbm, 1682, rfl⟩
abbrev main_v829 : Ref sig .tc := ⟨.hbm, 1683, rfl⟩
abbrev main_c_208 : Ref sig .tc := ⟨.hbm, 1684, rfl⟩
abbrev main_c_209 : Ref sig .tc := ⟨.hbm, 1685, rfl⟩
abbrev main_call53_v0 : Ref sig .tc := ⟨.hbm, 1686, rfl⟩
abbrev main_call53_v1 : Ref sig .tc := ⟨.hbm, 1687, rfl⟩
abbrev main_call53_v2 : Ref sig .tc := ⟨.hbm, 1688, rfl⟩
abbrev main_call53_v3 : Ref sig .tc := ⟨.hbm, 1689, rfl⟩
abbrev main_call53_v4 : Ref sig .tc := ⟨.hbm, 1690, rfl⟩
abbrev main_v830 : Ref sig .tc := ⟨.hbm, 1691, rfl⟩
abbrev main_v831 : Ref sig .tc := ⟨.hbm, 1692, rfl⟩
abbrev main_c_210 : Ref sig .tc := ⟨.hbm, 1693, rfl⟩
abbrev main_c_211 : Ref sig .tc := ⟨.hbm, 1694, rfl⟩
abbrev main_call54_v0 : Ref sig .tc := ⟨.hbm, 1695, rfl⟩
abbrev main_call54_v1 : Ref sig .tc := ⟨.hbm, 1696, rfl⟩
abbrev main_call54_v2 : Ref sig .tc := ⟨.hbm, 1697, rfl⟩
abbrev main_call54_v3 : Ref sig .tc := ⟨.hbm, 1698, rfl⟩
abbrev main_call54_v4 : Ref sig .tc := ⟨.hbm, 1699, rfl⟩
abbrev main_v832 : Ref sig .tc := ⟨.hbm, 1700, rfl⟩
abbrev main_v833 : Ref sig .tc := ⟨.hbm, 1701, rfl⟩
abbrev main_c_212 : Ref sig .tc := ⟨.hbm, 1702, rfl⟩
abbrev main_v834 : Ref sig .tc := ⟨.hbm, 1703, rfl⟩
abbrev main_v835 : Ref sig .tc := ⟨.hbm, 1704, rfl⟩
abbrev main_v836 : Ref sig .tc := ⟨.hbm, 1705, rfl⟩
abbrev main_v837 : Ref sig .tc := ⟨.hbm, 1706, rfl⟩
abbrev main_v838 : Ref sig .tc := ⟨.hbm, 1707, rfl⟩
abbrev main_v839 : Ref sig .tc := ⟨.hbm, 1708, rfl⟩
abbrev main_call55_c : Ref sig .tc := ⟨.hbm, 1709, rfl⟩
abbrev main_call55_v0 : Ref sig .tc := ⟨.hbm, 1710, rfl⟩
abbrev main_call55_v1 : Ref sig .tc := ⟨.hbm, 1711, rfl⟩
abbrev main_call55_c_0 : Ref sig .tc := ⟨.hbm, 1712, rfl⟩
abbrev main_call55_v2 : Ref sig .tc := ⟨.hbm, 1713, rfl⟩
abbrev main_call55_v3 : Ref sig .tc := ⟨.hbm, 1714, rfl⟩
abbrev main_call55_v4 : Ref sig .tc := ⟨.hbm, 1715, rfl⟩
abbrev main_call55_v5 : Ref sig .tc := ⟨.hbm, 1716, rfl⟩
abbrev main_call55_c_1 : Ref sig .tc := ⟨.hbm, 1717, rfl⟩
abbrev main_call55_c_2 : Ref sig .tc := ⟨.hbm, 1718, rfl⟩
abbrev main_call55_v6 : Ref sig .tc := ⟨.hbm, 1719, rfl⟩
abbrev main_call55_v7 : Ref sig .tc := ⟨.hbm, 1720, rfl⟩
abbrev main_call55_v8 : Ref sig .tc := ⟨.hbm, 1721, rfl⟩
abbrev main_call55_v9 : Ref sig .tc := ⟨.hbm, 1722, rfl⟩
abbrev main_call55_v10 : Ref sig .tc := ⟨.hbm, 1723, rfl⟩
abbrev main_call55_v11 : Ref sig .tc := ⟨.hbm, 1724, rfl⟩
abbrev main_call55_c_3 : Ref sig .tc := ⟨.hbm, 1725, rfl⟩
abbrev main_call55_v12 : Ref sig .tc := ⟨.hbm, 1726, rfl⟩
abbrev main_call55_v13 : Ref sig .tc := ⟨.hbm, 1727, rfl⟩
abbrev main_call55_cst : Ref sig .tc := ⟨.hbm, 1728, rfl⟩
abbrev main_call55_v14 : Ref sig .tc := ⟨.hbm, 1729, rfl⟩
abbrev main_v840 : Ref sig .tc := ⟨.hbm, 1730, rfl⟩
abbrev main_v841 : Ref sig .tc := ⟨.hbm, 1731, rfl⟩
abbrev main_v842 : Ref sig .tc := ⟨.hbm, 1732, rfl⟩
abbrev main_v843 : Ref sig .tc := ⟨.hbm, 1733, rfl⟩
abbrev main_v844 : Ref sig .tc := ⟨.hbm, 1734, rfl⟩
abbrev main_v845 : Ref sig .tc := ⟨.hbm, 1735, rfl⟩
abbrev main_v846 : Ref sig .tc := ⟨.hbm, 1736, rfl⟩
abbrev main_v847 : Ref sig .tc := ⟨.hbm, 1737, rfl⟩
abbrev main_v848 : Ref sig .tc := ⟨.hbm, 1738, rfl⟩
abbrev main_v849 : Ref sig .tc := ⟨.hbm, 1739, rfl⟩
abbrev main_v850 : Ref sig .tc := ⟨.hbm, 1740, rfl⟩
abbrev main_v851 : Ref sig .tc := ⟨.hbm, 1741, rfl⟩
abbrev main_v852 : Ref sig .tc := ⟨.hbm, 1742, rfl⟩
abbrev main_v853 : Ref sig .tc := ⟨.hbm, 1743, rfl⟩
abbrev main_v854 : Ref sig .tc := ⟨.hbm, 1744, rfl⟩
abbrev main_v855 : Ref sig .tc := ⟨.hbm, 1745, rfl⟩
abbrev main_v856 : Ref sig .tc := ⟨.hbm, 1746, rfl⟩
abbrev main_v857 : Ref sig .tc := ⟨.hbm, 1747, rfl⟩
abbrev main_v858 : Ref sig .tc := ⟨.hbm, 1748, rfl⟩
abbrev main_v859 : Ref sig .tc := ⟨.hbm, 1749, rfl⟩
abbrev main_cst_213 : Ref sig .tc := ⟨.hbm, 1750, rfl⟩
abbrev main_v860 : Ref sig .tc := ⟨.hbm, 1751, rfl⟩
abbrev main_v861 : Ref sig .tc := ⟨.hbm, 1752, rfl⟩
abbrev main_v862 : Ref sig .tc := ⟨.hbm, 1753, rfl⟩
abbrev main_v863 : Ref sig .tc := ⟨.hbm, 1754, rfl⟩
abbrev main_v864 : Ref sig .tc := ⟨.hbm, 1755, rfl⟩
abbrev main_v865 : Ref sig .tc := ⟨.hbm, 1756, rfl⟩
abbrev main_v866 : Ref sig .tc := ⟨.hbm, 1757, rfl⟩
abbrev main_v867 : Ref sig .tc := ⟨.hbm, 1758, rfl⟩
abbrev main_v868 : Ref sig .tc := ⟨.hbm, 1759, rfl⟩
abbrev main_v869 : Ref sig .tc := ⟨.hbm, 1760, rfl⟩
abbrev main_v870 : Ref sig .tc := ⟨.hbm, 1761, rfl⟩
abbrev main_v871 : Ref sig .tc := ⟨.hbm, 1762, rfl⟩
abbrev main_v872 : Ref sig .tc := ⟨.hbm, 1763, rfl⟩
abbrev main_v873 : Ref sig .tc := ⟨.hbm, 1764, rfl⟩
abbrev main_v874 : Ref sig .tc := ⟨.hbm, 1765, rfl⟩
abbrev main_v875 : Ref sig .tc := ⟨.hbm, 1766, rfl⟩
abbrev main_cst_214 : Ref sig .tc := ⟨.hbm, 1767, rfl⟩
abbrev main_v876 : Ref sig .tc := ⟨.hbm, 1768, rfl⟩
abbrev main_v877 : Ref sig .tc := ⟨.hbm, 1769, rfl⟩
abbrev main_cst_215 : Ref sig .tc := ⟨.hbm, 1770, rfl⟩
abbrev main_v878 : Ref sig .tc := ⟨.hbm, 1771, rfl⟩
abbrev main_v879 : Ref sig .tc := ⟨.hbm, 1772, rfl⟩
abbrev main_v880 : Ref sig .tc := ⟨.hbm, 1773, rfl⟩
abbrev main_v881 : Ref sig .tc := ⟨.hbm, 1774, rfl⟩
abbrev main_v882 : Ref sig .tc := ⟨.hbm, 1775, rfl⟩
abbrev main_cst_216 : Ref sig .tc := ⟨.hbm, 1776, rfl⟩
abbrev main_v883 : Ref sig .tc := ⟨.hbm, 1777, rfl⟩
abbrev main_v884 : Ref sig .tc := ⟨.hbm, 1778, rfl⟩
abbrev main_cst_217 : Ref sig .tc := ⟨.hbm, 1779, rfl⟩
abbrev main_v885 : Ref sig .tc := ⟨.hbm, 1780, rfl⟩
abbrev main_v886 : Ref sig .tc := ⟨.hbm, 1781, rfl⟩
abbrev main_v887 : Ref sig .tc := ⟨.hbm, 1782, rfl⟩
abbrev main_v888 : Ref sig .tc := ⟨.hbm, 1783, rfl⟩
abbrev main_cst_218 : Ref sig .tc := ⟨.hbm, 1784, rfl⟩
abbrev main_v889 : Ref sig .tc := ⟨.hbm, 1785, rfl⟩
abbrev main_v890 : Ref sig .tc := ⟨.hbm, 1786, rfl⟩
abbrev main_v891 : Ref sig .tc := ⟨.hbm, 1787, rfl⟩
abbrev main_v892 : Ref sig .tc := ⟨.hbm, 1788, rfl⟩
abbrev main_v893 : Ref sig .tc := ⟨.hbm, 1789, rfl⟩
abbrev main_v894 : Ref sig .tc := ⟨.hbm, 1790, rfl⟩
abbrev main_v895 : Ref sig .tc := ⟨.hbm, 1791, rfl⟩
abbrev main_v896 : Ref sig .tc := ⟨.hbm, 1792, rfl⟩
abbrev main_v897 : Ref sig .tc := ⟨.hbm, 1793, rfl⟩
abbrev main_v898 : Ref sig .tc := ⟨.hbm, 1794, rfl⟩
abbrev main_v899 : Ref sig .tc := ⟨.hbm, 1795, rfl⟩
abbrev main_v900 : Ref sig .tc := ⟨.hbm, 1796, rfl⟩
abbrev main_v901 : Ref sig .tc := ⟨.hbm, 1797, rfl⟩
abbrev main_v902 : Ref sig .tc := ⟨.hbm, 1798, rfl⟩
abbrev main_v903 : Ref sig .tc := ⟨.hbm, 1799, rfl⟩
abbrev main_v904 : Ref sig .tc := ⟨.hbm, 1800, rfl⟩
abbrev main_v905 : Ref sig .tc := ⟨.hbm, 1801, rfl⟩
abbrev main_v906 : Ref sig .tc := ⟨.hbm, 1802, rfl⟩
abbrev main_v907 : Ref sig .tc := ⟨.hbm, 1803, rfl⟩
abbrev main_call56_cst : Ref sig .tc := ⟨.hbm, 1804, rfl⟩
abbrev main_call56_v0 : Ref sig .tc := ⟨.hbm, 1805, rfl⟩
abbrev main_v908 : Ref sig .tc := ⟨.hbm, 1806, rfl⟩
abbrev main_v909 : Ref sig .tc := ⟨.hbm, 1807, rfl⟩
abbrev main_v910 : Ref sig .tc := ⟨.hbm, 1808, rfl⟩
abbrev main_v911 : Ref sig .tc := ⟨.hbm, 1809, rfl⟩
abbrev main_v912 : Ref sig .tc := ⟨.hbm, 1810, rfl⟩
abbrev main_v913 : Ref sig .tc := ⟨.hbm, 1811, rfl⟩
abbrev main_v914 : Ref sig .tc := ⟨.hbm, 1812, rfl⟩
abbrev main_v915 : Ref sig .tc := ⟨.hbm, 1813, rfl⟩
abbrev main_v916 : Ref sig .tc := ⟨.hbm, 1814, rfl⟩
abbrev main_v917 : Ref sig .tc := ⟨.hbm, 1815, rfl⟩
abbrev main_v918 : Ref sig .tc := ⟨.hbm, 1816, rfl⟩
abbrev main_v919 : Ref sig .tc := ⟨.hbm, 1817, rfl⟩
abbrev main_v920 : Ref sig .tc := ⟨.hbm, 1818, rfl⟩
abbrev main_v921 : Ref sig .tc := ⟨.hbm, 1819, rfl⟩
abbrev main_cst_219 : Ref sig .tc := ⟨.hbm, 1820, rfl⟩
abbrev main_v922 : Ref sig .tc := ⟨.hbm, 1821, rfl⟩
abbrev main_v923 : Ref sig .tc := ⟨.hbm, 1822, rfl⟩
abbrev main_cst_220 : Ref sig .tc := ⟨.hbm, 1823, rfl⟩
abbrev main_v924 : Ref sig .tc := ⟨.hbm, 1824, rfl⟩
abbrev main_v925 : Ref sig .tc := ⟨.hbm, 1825, rfl⟩
abbrev main_v926 : Ref sig .tc := ⟨.hbm, 1826, rfl⟩
abbrev main_v927 : Ref sig .tc := ⟨.hbm, 1827, rfl⟩
abbrev main_v928 : Ref sig .tc := ⟨.hbm, 1828, rfl⟩
abbrev main_cst_221 : Ref sig .tc := ⟨.hbm, 1829, rfl⟩
abbrev main_v929 : Ref sig .tc := ⟨.hbm, 1830, rfl⟩
abbrev main_v930 : Ref sig .tc := ⟨.hbm, 1831, rfl⟩
abbrev main_cst_222 : Ref sig .tc := ⟨.hbm, 1832, rfl⟩
abbrev main_v931 : Ref sig .tc := ⟨.hbm, 1833, rfl⟩
abbrev main_v932 : Ref sig .tc := ⟨.hbm, 1834, rfl⟩
abbrev main_v933 : Ref sig .tc := ⟨.hbm, 1835, rfl⟩
abbrev main_v934 : Ref sig .tc := ⟨.hbm, 1836, rfl⟩
abbrev main_cst_223 : Ref sig .tc := ⟨.hbm, 1837, rfl⟩
abbrev main_v935 : Ref sig .tc := ⟨.hbm, 1838, rfl⟩
abbrev main_v936 : Ref sig .tc := ⟨.hbm, 1839, rfl⟩
abbrev main_v937 : Ref sig .tc := ⟨.hbm, 1840, rfl⟩
abbrev main_v938 : Ref sig .tc := ⟨.hbm, 1841, rfl⟩
abbrev main_v939 : Ref sig .tc := ⟨.hbm, 1842, rfl⟩
abbrev main_v940 : Ref sig .tc := ⟨.hbm, 1843, rfl⟩
abbrev main_v941 : Ref sig .tc := ⟨.hbm, 1844, rfl⟩
abbrev main_v942 : Ref sig .tc := ⟨.hbm, 1845, rfl⟩
abbrev main_v943 : Ref sig .tc := ⟨.hbm, 1846, rfl⟩
abbrev main_v944 : Ref sig .tc := ⟨.hbm, 1847, rfl⟩
abbrev main_v945 : Ref sig .tc := ⟨.hbm, 1848, rfl⟩
abbrev main_v946 : Ref sig .tc := ⟨.hbm, 1849, rfl⟩
abbrev main_v947 : Ref sig .tc := ⟨.hbm, 1850, rfl⟩
abbrev main_v948 : Ref sig .tc := ⟨.hbm, 1851, rfl⟩
abbrev main_v949 : Ref sig .tc := ⟨.hbm, 1852, rfl⟩
abbrev main_v950 : Ref sig .tc := ⟨.hbm, 1853, rfl⟩
abbrev main_v951 : Ref sig .tc := ⟨.hbm, 1854, rfl⟩
abbrev main_v952 : Ref sig .tc := ⟨.hbm, 1855, rfl⟩
abbrev main_v953 : Ref sig .tc := ⟨.hbm, 1856, rfl⟩
abbrev main_v954 : Ref sig .tc := ⟨.hbm, 1857, rfl⟩
abbrev main_v955 : Ref sig .tc := ⟨.hbm, 1858, rfl⟩
abbrev main_v956 : Ref sig .tc := ⟨.hbm, 1859, rfl⟩
abbrev main_v957 : Ref sig .tc := ⟨.hbm, 1860, rfl⟩
abbrev main_v958 : Ref sig .tc := ⟨.hbm, 1861, rfl⟩
abbrev main_v959 : Ref sig .tc := ⟨.hbm, 1862, rfl⟩
abbrev main_v960 : Ref sig .tc := ⟨.hbm, 1863, rfl⟩
abbrev main_v961 : Ref sig .tc := ⟨.hbm, 1864, rfl⟩
abbrev main_v962 : Ref sig .tc := ⟨.hbm, 1865, rfl⟩
abbrev main_v963 : Ref sig .tc := ⟨.hbm, 1866, rfl⟩
abbrev main_v964 : Ref sig .tc := ⟨.hbm, 1867, rfl⟩
abbrev main_v965 : Ref sig .tc := ⟨.hbm, 1868, rfl⟩
abbrev main_v966 : Ref sig .tc := ⟨.hbm, 1869, rfl⟩
abbrev main_v967 : Ref sig .tc := ⟨.hbm, 1870, rfl⟩
abbrev main_v968 : Ref sig .tc := ⟨.hbm, 1871, rfl⟩
abbrev main_v969 : Ref sig .tc := ⟨.hbm, 1872, rfl⟩
abbrev main_v970 : Ref sig .tc := ⟨.hbm, 1873, rfl⟩
abbrev main_v971 : Ref sig .tc := ⟨.hbm, 1874, rfl⟩
abbrev main_v972 : Ref sig .tc := ⟨.hbm, 1875, rfl⟩
abbrev main_v973 : Ref sig .tc := ⟨.hbm, 1876, rfl⟩
abbrev main_cst_224 : Ref sig .tc := ⟨.hbm, 1877, rfl⟩
abbrev main_v974 : Ref sig .tc := ⟨.hbm, 1878, rfl⟩
abbrev main_cst_225 : Ref sig .tc := ⟨.hbm, 1879, rfl⟩
abbrev main_v975 : Ref sig .tc := ⟨.hbm, 1880, rfl⟩
abbrev main_v976 : Ref sig .tc := ⟨.hbm, 1881, rfl⟩
abbrev main_v977 : Ref sig .tc := ⟨.hbm, 1882, rfl⟩
abbrev main_v978 : Ref sig .tc := ⟨.hbm, 1883, rfl⟩
abbrev main_v979 : Ref sig .tc := ⟨.hbm, 1884, rfl⟩
abbrev main_v980 : Ref sig .tc := ⟨.hbm, 1885, rfl⟩
abbrev main_cst_226 : Ref sig .tc := ⟨.hbm, 1886, rfl⟩
abbrev main_v981 : Ref sig .tc := ⟨.hbm, 1887, rfl⟩
abbrev main_v982 : Ref sig .tc := ⟨.hbm, 1888, rfl⟩
abbrev main_v983 : Ref sig .tc := ⟨.hbm, 1889, rfl⟩
abbrev main_v984 : Ref sig .tc := ⟨.hbm, 1890, rfl⟩
abbrev main_v985 : Ref sig .tc := ⟨.hbm, 1891, rfl⟩
abbrev main_v986 : Ref sig .tc := ⟨.hbm, 1892, rfl⟩
abbrev main_v987 : Ref sig .tc := ⟨.hbm, 1893, rfl⟩
abbrev main_v988 : Ref sig .tc := ⟨.hbm, 1894, rfl⟩
abbrev main_v989 : Ref sig .tc := ⟨.hbm, 1895, rfl⟩
abbrev main_v990 : Ref sig .tc := ⟨.hbm, 1896, rfl⟩
abbrev main_v991 : Ref sig .tc := ⟨.hbm, 1897, rfl⟩
abbrev main_cst_227 : Ref sig .tc := ⟨.hbm, 1898, rfl⟩
abbrev main_v992 : Ref sig .tc := ⟨.hbm, 1899, rfl⟩
abbrev main_v993 : Ref sig .tc := ⟨.hbm, 1900, rfl⟩
abbrev main_cst_228 : Ref sig .tc := ⟨.hbm, 1901, rfl⟩
abbrev main_v994 : Ref sig .tc := ⟨.hbm, 1902, rfl⟩
abbrev main_v995 : Ref sig .tc := ⟨.hbm, 1903, rfl⟩
abbrev main_v996 : Ref sig .tc := ⟨.hbm, 1904, rfl⟩
abbrev main_v997 : Ref sig .tc := ⟨.hbm, 1905, rfl⟩
abbrev main_v998 : Ref sig .tc := ⟨.hbm, 1906, rfl⟩
abbrev main_v999 : Ref sig .tc := ⟨.hbm, 1907, rfl⟩
abbrev main_v1000 : Ref sig .tc := ⟨.hbm, 1908, rfl⟩
abbrev main_v1001 : Ref sig .tc := ⟨.hbm, 1909, rfl⟩
abbrev main_v1002 : Ref sig .tc := ⟨.hbm, 1910, rfl⟩
abbrev main_v1003 : Ref sig .tc := ⟨.hbm, 1911, rfl⟩
abbrev main_v1004 : Ref sig .tc := ⟨.hbm, 1912, rfl⟩
abbrev main_cst_229 : Ref sig .tc := ⟨.hbm, 1913, rfl⟩
abbrev main_v1005 : Ref sig .tc := ⟨.hbm, 1914, rfl⟩
abbrev main_v1006 : Ref sig .tc := ⟨.hbm, 1915, rfl⟩
abbrev main_cst_230 : Ref sig .tc := ⟨.hbm, 1916, rfl⟩
abbrev main_v1007 : Ref sig .tc := ⟨.hbm, 1917, rfl⟩
abbrev main_v1008 : Ref sig .tc := ⟨.hbm, 1918, rfl⟩
abbrev main_cst_231 : Ref sig .tc := ⟨.hbm, 1919, rfl⟩
abbrev main_v1009 : Ref sig .tc := ⟨.hbm, 1920, rfl⟩
abbrev main_v1010 : Ref sig .tc := ⟨.hbm, 1921, rfl⟩
abbrev main_cst_232 : Ref sig .tc := ⟨.hbm, 1922, rfl⟩
abbrev main_v1011 : Ref sig .tc := ⟨.hbm, 1923, rfl⟩
abbrev main_v1012 : Ref sig .tc := ⟨.hbm, 1924, rfl⟩
abbrev main_v1013 : Ref sig .tc := ⟨.hbm, 1925, rfl⟩
abbrev main_v1014 : Ref sig .tc := ⟨.hbm, 1926, rfl⟩
abbrev main_cst_233 : Ref sig .tc := ⟨.hbm, 1927, rfl⟩
abbrev main_v1015 : Ref sig .tc := ⟨.hbm, 1928, rfl⟩
abbrev main_v1016 : Ref sig .tc := ⟨.hbm, 1929, rfl⟩
abbrev main_cst_234 : Ref sig .tc := ⟨.hbm, 1930, rfl⟩
abbrev main_v1017 : Ref sig .tc := ⟨.hbm, 1931, rfl⟩
abbrev main_v1018 : Ref sig .tc := ⟨.hbm, 1932, rfl⟩
abbrev main_cst_235 : Ref sig .tc := ⟨.hbm, 1933, rfl⟩
abbrev main_v1019 : Ref sig .tc := ⟨.hbm, 1934, rfl⟩
abbrev main_v1020 : Ref sig .tc := ⟨.hbm, 1935, rfl⟩
abbrev main_cst_236 : Ref sig .tc := ⟨.hbm, 1936, rfl⟩
abbrev main_v1021 : Ref sig .tc := ⟨.hbm, 1937, rfl⟩
abbrev main_v1022 : Ref sig .tc := ⟨.hbm, 1938, rfl⟩
abbrev main_v1023 : Ref sig .tc := ⟨.hbm, 1939, rfl⟩
abbrev main_v1024 : Ref sig .tc := ⟨.hbm, 1940, rfl⟩
abbrev main_cst_237 : Ref sig .tc := ⟨.hbm, 1941, rfl⟩
abbrev main_v1025 : Ref sig .tc := ⟨.hbm, 1942, rfl⟩
abbrev main_v1026 : Ref sig .tc := ⟨.hbm, 1943, rfl⟩
abbrev main_cst_238 : Ref sig .tc := ⟨.hbm, 1944, rfl⟩
abbrev main_v1027 : Ref sig .tc := ⟨.hbm, 1945, rfl⟩
abbrev main_v1028 : Ref sig .tc := ⟨.hbm, 1946, rfl⟩
abbrev main_v1029 : Ref sig .tc := ⟨.hbm, 1947, rfl⟩
abbrev main_v1030 : Ref sig .tc := ⟨.hbm, 1948, rfl⟩
abbrev main_v1031 : Ref sig .tc := ⟨.hbm, 1949, rfl⟩
abbrev main_v1032 : Ref sig .tc := ⟨.hbm, 1950, rfl⟩
abbrev main_v1033 : Ref sig .tc := ⟨.hbm, 1951, rfl⟩
abbrev main_v1034 : Ref sig .tc := ⟨.hbm, 1952, rfl⟩
abbrev main_v1035 : Ref sig .tc := ⟨.hbm, 1953, rfl⟩
abbrev main_v1036 : Ref sig .tc := ⟨.hbm, 1954, rfl⟩
abbrev main_v1037 : Ref sig .tc := ⟨.hbm, 1955, rfl⟩
abbrev main_v1038 : Ref sig .tc := ⟨.hbm, 1956, rfl⟩
abbrev main_v1039 : Ref sig .tc := ⟨.hbm, 1957, rfl⟩
abbrev main_v1040 : Ref sig .tc := ⟨.hbm, 1958, rfl⟩
abbrev main_v1041 : Ref sig .tc := ⟨.hbm, 1959, rfl⟩
abbrev main_cst_239 : Ref sig .tc := ⟨.hbm, 1960, rfl⟩
abbrev main_v1042 : Ref sig .tc := ⟨.hbm, 1961, rfl⟩
abbrev main_v1043 : Ref sig .tc := ⟨.hbm, 1962, rfl⟩
abbrev main_cst_240 : Ref sig .tc := ⟨.hbm, 1963, rfl⟩
abbrev main_v1044 : Ref sig .tc := ⟨.hbm, 1964, rfl⟩
abbrev main_v1045 : Ref sig .tc := ⟨.hbm, 1965, rfl⟩
abbrev main_v1046 : Ref sig .tc := ⟨.hbm, 1966, rfl⟩
abbrev main_cst_241 : Ref sig .tc := ⟨.hbm, 1967, rfl⟩
abbrev main_v1047 : Ref sig .tc := ⟨.hbm, 1968, rfl⟩
abbrev main_v1048 : Ref sig .tc := ⟨.hbm, 1969, rfl⟩
abbrev main_v1049 : Ref sig .tc := ⟨.hbm, 1970, rfl⟩
abbrev main_cst_242 : Ref sig .tc := ⟨.hbm, 1971, rfl⟩
abbrev main_v1050 : Ref sig .tc := ⟨.hbm, 1972, rfl⟩
abbrev main_v1051 : Ref sig .tc := ⟨.hbm, 1973, rfl⟩
abbrev main_v1052 : Ref sig .tc := ⟨.hbm, 1974, rfl⟩
abbrev main_c_243 : Ref sig .tc := ⟨.hbm, 1975, rfl⟩
abbrev main_c_244 : Ref sig .tc := ⟨.hbm, 1976, rfl⟩
abbrev main_call57_v0 : Ref sig .tc := ⟨.hbm, 1977, rfl⟩
abbrev main_call57_v1 : Ref sig .tc := ⟨.hbm, 1978, rfl⟩
abbrev main_call57_v2 : Ref sig .tc := ⟨.hbm, 1979, rfl⟩
abbrev main_call57_v3 : Ref sig .tc := ⟨.hbm, 1980, rfl⟩
abbrev main_call57_v4 : Ref sig .tc := ⟨.hbm, 1981, rfl⟩
abbrev main_v1053 : Ref sig .tc := ⟨.hbm, 1982, rfl⟩
abbrev main_v1054 : Ref sig .tc := ⟨.hbm, 1983, rfl⟩
abbrev main_c_245 : Ref sig .tc := ⟨.hbm, 1984, rfl⟩
abbrev main_c_246 : Ref sig .tc := ⟨.hbm, 1985, rfl⟩
abbrev main_call58_v0 : Ref sig .tc := ⟨.hbm, 1986, rfl⟩
abbrev main_call58_v1 : Ref sig .tc := ⟨.hbm, 1987, rfl⟩
abbrev main_call58_v2 : Ref sig .tc := ⟨.hbm, 1988, rfl⟩
abbrev main_call58_v3 : Ref sig .tc := ⟨.hbm, 1989, rfl⟩
abbrev main_call58_v4 : Ref sig .tc := ⟨.hbm, 1990, rfl⟩
abbrev main_v1055 : Ref sig .tc := ⟨.hbm, 1991, rfl⟩
abbrev main_v1056 : Ref sig .tc := ⟨.hbm, 1992, rfl⟩
abbrev main_c_247 : Ref sig .tc := ⟨.hbm, 1993, rfl⟩
abbrev main_v1057 : Ref sig .tc := ⟨.hbm, 1994, rfl⟩
abbrev main_v1058 : Ref sig .tc := ⟨.hbm, 1995, rfl⟩
abbrev main_v1059 : Ref sig .tc := ⟨.hbm, 1996, rfl⟩
abbrev main_v1060 : Ref sig .tc := ⟨.hbm, 1997, rfl⟩
abbrev main_v1061 : Ref sig .tc := ⟨.hbm, 1998, rfl⟩
abbrev main_v1062 : Ref sig .tc := ⟨.hbm, 1999, rfl⟩
abbrev main_call59_c : Ref sig .tc := ⟨.hbm, 2000, rfl⟩
abbrev main_call59_v0 : Ref sig .tc := ⟨.hbm, 2001, rfl⟩
abbrev main_call59_v1 : Ref sig .tc := ⟨.hbm, 2002, rfl⟩
abbrev main_call59_c_0 : Ref sig .tc := ⟨.hbm, 2003, rfl⟩
abbrev main_call59_v2 : Ref sig .tc := ⟨.hbm, 2004, rfl⟩
abbrev main_call59_v3 : Ref sig .tc := ⟨.hbm, 2005, rfl⟩
abbrev main_call59_v4 : Ref sig .tc := ⟨.hbm, 2006, rfl⟩
abbrev main_call59_v5 : Ref sig .tc := ⟨.hbm, 2007, rfl⟩
abbrev main_call59_c_1 : Ref sig .tc := ⟨.hbm, 2008, rfl⟩
abbrev main_call59_c_2 : Ref sig .tc := ⟨.hbm, 2009, rfl⟩
abbrev main_call59_v6 : Ref sig .tc := ⟨.hbm, 2010, rfl⟩
abbrev main_call59_v7 : Ref sig .tc := ⟨.hbm, 2011, rfl⟩
abbrev main_call59_v8 : Ref sig .tc := ⟨.hbm, 2012, rfl⟩
abbrev main_call59_v9 : Ref sig .tc := ⟨.hbm, 2013, rfl⟩
abbrev main_call59_v10 : Ref sig .tc := ⟨.hbm, 2014, rfl⟩
abbrev main_call59_v11 : Ref sig .tc := ⟨.hbm, 2015, rfl⟩
abbrev main_call59_c_3 : Ref sig .tc := ⟨.hbm, 2016, rfl⟩
abbrev main_call59_v12 : Ref sig .tc := ⟨.hbm, 2017, rfl⟩
abbrev main_call59_v13 : Ref sig .tc := ⟨.hbm, 2018, rfl⟩
abbrev main_call59_cst : Ref sig .tc := ⟨.hbm, 2019, rfl⟩
abbrev main_call59_v14 : Ref sig .tc := ⟨.hbm, 2020, rfl⟩
abbrev main_v1063 : Ref sig .tc := ⟨.hbm, 2021, rfl⟩
abbrev main_v1064 : Ref sig .tc := ⟨.hbm, 2022, rfl⟩
abbrev main_v1065 : Ref sig .tc := ⟨.hbm, 2023, rfl⟩
abbrev main_v1066 : Ref sig .tc := ⟨.hbm, 2024, rfl⟩
abbrev main_v1067 : Ref sig .tc := ⟨.hbm, 2025, rfl⟩
abbrev main_v1068 : Ref sig .tc := ⟨.hbm, 2026, rfl⟩
abbrev main_v1069 : Ref sig .tc := ⟨.hbm, 2027, rfl⟩
abbrev main_v1070 : Ref sig .tc := ⟨.hbm, 2028, rfl⟩
abbrev main_v1071 : Ref sig .tc := ⟨.hbm, 2029, rfl⟩
abbrev main_cst_248 : Ref sig .tc := ⟨.hbm, 2030, rfl⟩
abbrev main_v1072 : Ref sig .tc := ⟨.hbm, 2031, rfl⟩
abbrev main_v1073 : Ref sig .tc := ⟨.hbm, 2032, rfl⟩
abbrev main_cst_249 : Ref sig .tc := ⟨.hbm, 2033, rfl⟩
abbrev main_v1074 : Ref sig .tc := ⟨.hbm, 2034, rfl⟩
abbrev main_v1075 : Ref sig .tc := ⟨.hbm, 2035, rfl⟩
abbrev main_v1076 : Ref sig .tc := ⟨.hbm, 2036, rfl⟩
abbrev main_cst_250 : Ref sig .tc := ⟨.hbm, 2037, rfl⟩
abbrev main_v1077 : Ref sig .tc := ⟨.hbm, 2038, rfl⟩
abbrev main_v1078 : Ref sig .tc := ⟨.hbm, 2039, rfl⟩
abbrev main_v1079 : Ref sig .tc := ⟨.hbm, 2040, rfl⟩
abbrev main_cst_251 : Ref sig .tc := ⟨.hbm, 2041, rfl⟩
abbrev main_v1080 : Ref sig .tc := ⟨.hbm, 2042, rfl⟩
abbrev main_v1081 : Ref sig .tc := ⟨.hbm, 2043, rfl⟩
abbrev main_v1082 : Ref sig .tc := ⟨.hbm, 2044, rfl⟩
abbrev main_c_252 : Ref sig .tc := ⟨.hbm, 2045, rfl⟩
abbrev main_c_253 : Ref sig .tc := ⟨.hbm, 2046, rfl⟩
abbrev main_call60_v0 : Ref sig .tc := ⟨.hbm, 2047, rfl⟩
abbrev main_call60_v1 : Ref sig .tc := ⟨.hbm, 2048, rfl⟩
abbrev main_call60_v2 : Ref sig .tc := ⟨.hbm, 2049, rfl⟩
abbrev main_call60_v3 : Ref sig .tc := ⟨.hbm, 2050, rfl⟩
abbrev main_call60_v4 : Ref sig .tc := ⟨.hbm, 2051, rfl⟩
abbrev main_v1083 : Ref sig .tc := ⟨.hbm, 2052, rfl⟩
abbrev main_v1084 : Ref sig .tc := ⟨.hbm, 2053, rfl⟩
abbrev main_c_254 : Ref sig .tc := ⟨.hbm, 2054, rfl⟩
abbrev main_c_255 : Ref sig .tc := ⟨.hbm, 2055, rfl⟩
abbrev main_call61_v0 : Ref sig .tc := ⟨.hbm, 2056, rfl⟩
abbrev main_call61_v1 : Ref sig .tc := ⟨.hbm, 2057, rfl⟩
abbrev main_call61_v2 : Ref sig .tc := ⟨.hbm, 2058, rfl⟩
abbrev main_call61_v3 : Ref sig .tc := ⟨.hbm, 2059, rfl⟩
abbrev main_call61_v4 : Ref sig .tc := ⟨.hbm, 2060, rfl⟩
abbrev main_v1085 : Ref sig .tc := ⟨.hbm, 2061, rfl⟩
abbrev main_v1086 : Ref sig .tc := ⟨.hbm, 2062, rfl⟩
abbrev main_c_256 : Ref sig .tc := ⟨.hbm, 2063, rfl⟩
abbrev main_v1087 : Ref sig .tc := ⟨.hbm, 2064, rfl⟩
abbrev main_v1088 : Ref sig .tc := ⟨.hbm, 2065, rfl⟩
abbrev main_v1089 : Ref sig .tc := ⟨.hbm, 2066, rfl⟩
abbrev main_v1090 : Ref sig .tc := ⟨.hbm, 2067, rfl⟩
abbrev main_v1091 : Ref sig .tc := ⟨.hbm, 2068, rfl⟩
abbrev main_v1092 : Ref sig .tc := ⟨.hbm, 2069, rfl⟩
abbrev main_call62_c : Ref sig .tc := ⟨.hbm, 2070, rfl⟩
abbrev main_call62_v0 : Ref sig .tc := ⟨.hbm, 2071, rfl⟩
abbrev main_call62_v1 : Ref sig .tc := ⟨.hbm, 2072, rfl⟩
abbrev main_call62_c_0 : Ref sig .tc := ⟨.hbm, 2073, rfl⟩
abbrev main_call62_v2 : Ref sig .tc := ⟨.hbm, 2074, rfl⟩
abbrev main_call62_v3 : Ref sig .tc := ⟨.hbm, 2075, rfl⟩
abbrev main_call62_v4 : Ref sig .tc := ⟨.hbm, 2076, rfl⟩
abbrev main_call62_v5 : Ref sig .tc := ⟨.hbm, 2077, rfl⟩
abbrev main_call62_c_1 : Ref sig .tc := ⟨.hbm, 2078, rfl⟩
abbrev main_call62_c_2 : Ref sig .tc := ⟨.hbm, 2079, rfl⟩
abbrev main_call62_v6 : Ref sig .tc := ⟨.hbm, 2080, rfl⟩
abbrev main_call62_v7 : Ref sig .tc := ⟨.hbm, 2081, rfl⟩
abbrev main_call62_v8 : Ref sig .tc := ⟨.hbm, 2082, rfl⟩
abbrev main_call62_v9 : Ref sig .tc := ⟨.hbm, 2083, rfl⟩
abbrev main_call62_v10 : Ref sig .tc := ⟨.hbm, 2084, rfl⟩
abbrev main_call62_v11 : Ref sig .tc := ⟨.hbm, 2085, rfl⟩
abbrev main_call62_c_3 : Ref sig .tc := ⟨.hbm, 2086, rfl⟩
abbrev main_call62_v12 : Ref sig .tc := ⟨.hbm, 2087, rfl⟩
abbrev main_call62_v13 : Ref sig .tc := ⟨.hbm, 2088, rfl⟩
abbrev main_call62_cst : Ref sig .tc := ⟨.hbm, 2089, rfl⟩
abbrev main_call62_v14 : Ref sig .tc := ⟨.hbm, 2090, rfl⟩
abbrev main_v1093 : Ref sig .tc := ⟨.hbm, 2091, rfl⟩
abbrev main_v1094 : Ref sig .tc := ⟨.hbm, 2092, rfl⟩
abbrev main_v1095 : Ref sig .tc := ⟨.hbm, 2093, rfl⟩
abbrev main_v1096 : Ref sig .tc := ⟨.hbm, 2094, rfl⟩
abbrev main_v1097 : Ref sig .tc := ⟨.hbm, 2095, rfl⟩
abbrev main_v1098 : Ref sig .tc := ⟨.hbm, 2096, rfl⟩
abbrev main_v1099 : Ref sig .tc := ⟨.hbm, 2097, rfl⟩
abbrev main_v1100 : Ref sig .tc := ⟨.hbm, 2098, rfl⟩
abbrev main_v1101 : Ref sig .tc := ⟨.hbm, 2099, rfl⟩
abbrev main_v1102 : Ref sig .tc := ⟨.hbm, 2100, rfl⟩
abbrev main_cst_257 : Ref sig .tc := ⟨.hbm, 2101, rfl⟩
abbrev main_v1103 : Ref sig .tc := ⟨.hbm, 2102, rfl⟩
abbrev main_v1104 : Ref sig .tc := ⟨.hbm, 2103, rfl⟩
abbrev main_cst_258 : Ref sig .tc := ⟨.hbm, 2104, rfl⟩
abbrev main_v1105 : Ref sig .tc := ⟨.hbm, 2105, rfl⟩
abbrev main_v1106 : Ref sig .tc := ⟨.hbm, 2106, rfl⟩
abbrev main_v1107 : Ref sig .tc := ⟨.hbm, 2107, rfl⟩
abbrev main_cst_259 : Ref sig .tc := ⟨.hbm, 2108, rfl⟩
abbrev main_v1108 : Ref sig .tc := ⟨.hbm, 2109, rfl⟩
abbrev main_v1109 : Ref sig .tc := ⟨.hbm, 2110, rfl⟩
abbrev main_v1110 : Ref sig .tc := ⟨.hbm, 2111, rfl⟩
abbrev main_cst_260 : Ref sig .tc := ⟨.hbm, 2112, rfl⟩
abbrev main_v1111 : Ref sig .tc := ⟨.hbm, 2113, rfl⟩
abbrev main_v1112 : Ref sig .tc := ⟨.hbm, 2114, rfl⟩
abbrev main_v1113 : Ref sig .tc := ⟨.hbm, 2115, rfl⟩
abbrev main_c_261 : Ref sig .tc := ⟨.hbm, 2116, rfl⟩
abbrev main_c_262 : Ref sig .tc := ⟨.hbm, 2117, rfl⟩
abbrev main_call63_v0 : Ref sig .tc := ⟨.hbm, 2118, rfl⟩
abbrev main_call63_v1 : Ref sig .tc := ⟨.hbm, 2119, rfl⟩
abbrev main_call63_v2 : Ref sig .tc := ⟨.hbm, 2120, rfl⟩
abbrev main_call63_v3 : Ref sig .tc := ⟨.hbm, 2121, rfl⟩
abbrev main_call63_v4 : Ref sig .tc := ⟨.hbm, 2122, rfl⟩
abbrev main_v1114 : Ref sig .tc := ⟨.hbm, 2123, rfl⟩
abbrev main_v1115 : Ref sig .tc := ⟨.hbm, 2124, rfl⟩
abbrev main_c_263 : Ref sig .tc := ⟨.hbm, 2125, rfl⟩
abbrev main_c_264 : Ref sig .tc := ⟨.hbm, 2126, rfl⟩
abbrev main_call64_v0 : Ref sig .tc := ⟨.hbm, 2127, rfl⟩
abbrev main_call64_v1 : Ref sig .tc := ⟨.hbm, 2128, rfl⟩
abbrev main_call64_v2 : Ref sig .tc := ⟨.hbm, 2129, rfl⟩
abbrev main_call64_v3 : Ref sig .tc := ⟨.hbm, 2130, rfl⟩
abbrev main_call64_v4 : Ref sig .tc := ⟨.hbm, 2131, rfl⟩
abbrev main_v1116 : Ref sig .tc := ⟨.hbm, 2132, rfl⟩
abbrev main_v1117 : Ref sig .tc := ⟨.hbm, 2133, rfl⟩
abbrev main_c_265 : Ref sig .tc := ⟨.hbm, 2134, rfl⟩
abbrev main_v1118 : Ref sig .tc := ⟨.hbm, 2135, rfl⟩
abbrev main_v1119 : Ref sig .tc := ⟨.hbm, 2136, rfl⟩
abbrev main_v1120 : Ref sig .tc := ⟨.hbm, 2137, rfl⟩
abbrev main_v1121 : Ref sig .tc := ⟨.hbm, 2138, rfl⟩
abbrev main_v1122 : Ref sig .tc := ⟨.hbm, 2139, rfl⟩
abbrev main_v1123 : Ref sig .tc := ⟨.hbm, 2140, rfl⟩
abbrev main_call65_c : Ref sig .tc := ⟨.hbm, 2141, rfl⟩
abbrev main_call65_v0 : Ref sig .tc := ⟨.hbm, 2142, rfl⟩
abbrev main_call65_v1 : Ref sig .tc := ⟨.hbm, 2143, rfl⟩
abbrev main_call65_c_0 : Ref sig .tc := ⟨.hbm, 2144, rfl⟩
abbrev main_call65_v2 : Ref sig .tc := ⟨.hbm, 2145, rfl⟩
abbrev main_call65_v3 : Ref sig .tc := ⟨.hbm, 2146, rfl⟩
abbrev main_call65_v4 : Ref sig .tc := ⟨.hbm, 2147, rfl⟩
abbrev main_call65_v5 : Ref sig .tc := ⟨.hbm, 2148, rfl⟩
abbrev main_call65_c_1 : Ref sig .tc := ⟨.hbm, 2149, rfl⟩
abbrev main_call65_c_2 : Ref sig .tc := ⟨.hbm, 2150, rfl⟩
abbrev main_call65_v6 : Ref sig .tc := ⟨.hbm, 2151, rfl⟩
abbrev main_call65_v7 : Ref sig .tc := ⟨.hbm, 2152, rfl⟩
abbrev main_call65_v8 : Ref sig .tc := ⟨.hbm, 2153, rfl⟩
abbrev main_call65_v9 : Ref sig .tc := ⟨.hbm, 2154, rfl⟩
abbrev main_call65_v10 : Ref sig .tc := ⟨.hbm, 2155, rfl⟩
abbrev main_call65_v11 : Ref sig .tc := ⟨.hbm, 2156, rfl⟩
abbrev main_call65_c_3 : Ref sig .tc := ⟨.hbm, 2157, rfl⟩
abbrev main_call65_v12 : Ref sig .tc := ⟨.hbm, 2158, rfl⟩
abbrev main_call65_v13 : Ref sig .tc := ⟨.hbm, 2159, rfl⟩
abbrev main_call65_cst : Ref sig .tc := ⟨.hbm, 2160, rfl⟩
abbrev main_call65_v14 : Ref sig .tc := ⟨.hbm, 2161, rfl⟩
abbrev main_v1124 : Ref sig .tc := ⟨.hbm, 2162, rfl⟩
abbrev main_v1125 : Ref sig .tc := ⟨.hbm, 2163, rfl⟩
abbrev main_v1126 : Ref sig .tc := ⟨.hbm, 2164, rfl⟩
abbrev main_v1127 : Ref sig .tc := ⟨.hbm, 2165, rfl⟩
abbrev main_v1128 : Ref sig .tc := ⟨.hbm, 2166, rfl⟩
abbrev main_v1129 : Ref sig .tc := ⟨.hbm, 2167, rfl⟩
abbrev main_v1130 : Ref sig .tc := ⟨.hbm, 2168, rfl⟩
abbrev main_v1131 : Ref sig .tc := ⟨.hbm, 2169, rfl⟩
abbrev main_v1132 : Ref sig .tc := ⟨.hbm, 2170, rfl⟩
abbrev main_v1133 : Ref sig .tc := ⟨.hbm, 2171, rfl⟩
abbrev main_cst_266 : Ref sig .tc := ⟨.hbm, 2172, rfl⟩
abbrev main_v1134 : Ref sig .tc := ⟨.hbm, 2173, rfl⟩
abbrev main_v1135 : Ref sig .tc := ⟨.hbm, 2174, rfl⟩
abbrev main_cst_267 : Ref sig .tc := ⟨.hbm, 2175, rfl⟩
abbrev main_v1136 : Ref sig .tc := ⟨.hbm, 2176, rfl⟩
abbrev main_v1137 : Ref sig .tc := ⟨.hbm, 2177, rfl⟩
abbrev main_v1138 : Ref sig .tc := ⟨.hbm, 2178, rfl⟩
abbrev main_cst_268 : Ref sig .tc := ⟨.hbm, 2179, rfl⟩
abbrev main_v1139 : Ref sig .tc := ⟨.hbm, 2180, rfl⟩
abbrev main_v1140 : Ref sig .tc := ⟨.hbm, 2181, rfl⟩
abbrev main_v1141 : Ref sig .tc := ⟨.hbm, 2182, rfl⟩
abbrev main_cst_269 : Ref sig .tc := ⟨.hbm, 2183, rfl⟩
abbrev main_v1142 : Ref sig .tc := ⟨.hbm, 2184, rfl⟩
abbrev main_v1143 : Ref sig .tc := ⟨.hbm, 2185, rfl⟩
abbrev main_v1144 : Ref sig .tc := ⟨.hbm, 2186, rfl⟩
abbrev main_c_270 : Ref sig .tc := ⟨.hbm, 2187, rfl⟩
abbrev main_c_271 : Ref sig .tc := ⟨.hbm, 2188, rfl⟩
abbrev main_call66_v0 : Ref sig .tc := ⟨.hbm, 2189, rfl⟩
abbrev main_call66_v1 : Ref sig .tc := ⟨.hbm, 2190, rfl⟩
abbrev main_call66_v2 : Ref sig .tc := ⟨.hbm, 2191, rfl⟩
abbrev main_call66_v3 : Ref sig .tc := ⟨.hbm, 2192, rfl⟩
abbrev main_call66_v4 : Ref sig .tc := ⟨.hbm, 2193, rfl⟩
abbrev main_v1145 : Ref sig .tc := ⟨.hbm, 2194, rfl⟩
abbrev main_v1146 : Ref sig .tc := ⟨.hbm, 2195, rfl⟩
abbrev main_c_272 : Ref sig .tc := ⟨.hbm, 2196, rfl⟩
abbrev main_c_273 : Ref sig .tc := ⟨.hbm, 2197, rfl⟩
abbrev main_call67_v0 : Ref sig .tc := ⟨.hbm, 2198, rfl⟩
abbrev main_call67_v1 : Ref sig .tc := ⟨.hbm, 2199, rfl⟩
abbrev main_call67_v2 : Ref sig .tc := ⟨.hbm, 2200, rfl⟩
abbrev main_call67_v3 : Ref sig .tc := ⟨.hbm, 2201, rfl⟩
abbrev main_call67_v4 : Ref sig .tc := ⟨.hbm, 2202, rfl⟩
abbrev main_v1147 : Ref sig .tc := ⟨.hbm, 2203, rfl⟩
abbrev main_v1148 : Ref sig .tc := ⟨.hbm, 2204, rfl⟩
abbrev main_c_274 : Ref sig .tc := ⟨.hbm, 2205, rfl⟩
abbrev main_v1149 : Ref sig .tc := ⟨.hbm, 2206, rfl⟩
abbrev main_v1150 : Ref sig .tc := ⟨.hbm, 2207, rfl⟩
abbrev main_v1151 : Ref sig .tc := ⟨.hbm, 2208, rfl⟩
abbrev main_v1152 : Ref sig .tc := ⟨.hbm, 2209, rfl⟩
abbrev main_v1153 : Ref sig .tc := ⟨.hbm, 2210, rfl⟩
abbrev main_v1154 : Ref sig .tc := ⟨.hbm, 2211, rfl⟩
abbrev main_call68_c : Ref sig .tc := ⟨.hbm, 2212, rfl⟩
abbrev main_call68_v0 : Ref sig .tc := ⟨.hbm, 2213, rfl⟩
abbrev main_call68_v1 : Ref sig .tc := ⟨.hbm, 2214, rfl⟩
abbrev main_call68_c_0 : Ref sig .tc := ⟨.hbm, 2215, rfl⟩
abbrev main_call68_v2 : Ref sig .tc := ⟨.hbm, 2216, rfl⟩
abbrev main_call68_v3 : Ref sig .tc := ⟨.hbm, 2217, rfl⟩
abbrev main_call68_v4 : Ref sig .tc := ⟨.hbm, 2218, rfl⟩
abbrev main_call68_v5 : Ref sig .tc := ⟨.hbm, 2219, rfl⟩
abbrev main_call68_c_1 : Ref sig .tc := ⟨.hbm, 2220, rfl⟩
abbrev main_call68_c_2 : Ref sig .tc := ⟨.hbm, 2221, rfl⟩
abbrev main_call68_v6 : Ref sig .tc := ⟨.hbm, 2222, rfl⟩
abbrev main_call68_v7 : Ref sig .tc := ⟨.hbm, 2223, rfl⟩
abbrev main_call68_v8 : Ref sig .tc := ⟨.hbm, 2224, rfl⟩
abbrev main_call68_v9 : Ref sig .tc := ⟨.hbm, 2225, rfl⟩
abbrev main_call68_v10 : Ref sig .tc := ⟨.hbm, 2226, rfl⟩
abbrev main_call68_v11 : Ref sig .tc := ⟨.hbm, 2227, rfl⟩
abbrev main_call68_c_3 : Ref sig .tc := ⟨.hbm, 2228, rfl⟩
abbrev main_call68_v12 : Ref sig .tc := ⟨.hbm, 2229, rfl⟩
abbrev main_call68_v13 : Ref sig .tc := ⟨.hbm, 2230, rfl⟩
abbrev main_call68_cst : Ref sig .tc := ⟨.hbm, 2231, rfl⟩
abbrev main_call68_v14 : Ref sig .tc := ⟨.hbm, 2232, rfl⟩
abbrev main_v1155 : Ref sig .tc := ⟨.hbm, 2233, rfl⟩
abbrev main_v1156 : Ref sig .tc := ⟨.hbm, 2234, rfl⟩
abbrev main_v1157 : Ref sig .tc := ⟨.hbm, 2235, rfl⟩
abbrev main_v1158 : Ref sig .tc := ⟨.hbm, 2236, rfl⟩
abbrev main_v1159 : Ref sig .tc := ⟨.hbm, 2237, rfl⟩
abbrev main_v1160 : Ref sig .tc := ⟨.hbm, 2238, rfl⟩
abbrev main_v1161 : Ref sig .tc := ⟨.hbm, 2239, rfl⟩
abbrev main_v1162 : Ref sig .tc := ⟨.hbm, 2240, rfl⟩
abbrev main_v1163 : Ref sig .tc := ⟨.hbm, 2241, rfl⟩
abbrev main_v1164 : Ref sig .tc := ⟨.hbm, 2242, rfl⟩
abbrev main_v1165 : Ref sig .tc := ⟨.hbm, 2243, rfl⟩
abbrev main_v1166 : Ref sig .tc := ⟨.hbm, 2244, rfl⟩
abbrev main_v1167 : Ref sig .tc := ⟨.hbm, 2245, rfl⟩
abbrev main_v1168 : Ref sig .tc := ⟨.hbm, 2246, rfl⟩
abbrev main_v1169 : Ref sig .tc := ⟨.hbm, 2247, rfl⟩
abbrev main_v1170 : Ref sig .tc := ⟨.hbm, 2248, rfl⟩
abbrev main_v1171 : Ref sig .tc := ⟨.hbm, 2249, rfl⟩
abbrev main_v1172 : Ref sig .tc := ⟨.hbm, 2250, rfl⟩
abbrev main_v1173 : Ref sig .tc := ⟨.hbm, 2251, rfl⟩
abbrev main_cst_275 : Ref sig .tc := ⟨.hbm, 2252, rfl⟩
abbrev main_v1174 : Ref sig .tc := ⟨.hbm, 2253, rfl⟩
abbrev main_v1175 : Ref sig .tc := ⟨.hbm, 2254, rfl⟩
abbrev main_cst_276 : Ref sig .tc := ⟨.hbm, 2255, rfl⟩
abbrev main_v1176 : Ref sig .tc := ⟨.hbm, 2256, rfl⟩
abbrev main_v1177 : Ref sig .tc := ⟨.hbm, 2257, rfl⟩
abbrev main_cst_277 : Ref sig .tc := ⟨.hbm, 2258, rfl⟩
abbrev main_v1178 : Ref sig .tc := ⟨.hbm, 2259, rfl⟩
abbrev main_v1179 : Ref sig .tc := ⟨.hbm, 2260, rfl⟩
abbrev main_cst_278 : Ref sig .tc := ⟨.hbm, 2261, rfl⟩
abbrev main_v1180 : Ref sig .tc := ⟨.hbm, 2262, rfl⟩
abbrev main_v1181 : Ref sig .tc := ⟨.hbm, 2263, rfl⟩
abbrev main_v1182 : Ref sig .tc := ⟨.hbm, 2264, rfl⟩
abbrev main_v1183 : Ref sig .tc := ⟨.hbm, 2265, rfl⟩
abbrev main_cst_279 : Ref sig .tc := ⟨.hbm, 2266, rfl⟩
abbrev main_v1184 : Ref sig .tc := ⟨.hbm, 2267, rfl⟩
abbrev main_v1185 : Ref sig .tc := ⟨.hbm, 2268, rfl⟩
abbrev main_cst_280 : Ref sig .tc := ⟨.hbm, 2269, rfl⟩
abbrev main_v1186 : Ref sig .tc := ⟨.hbm, 2270, rfl⟩
abbrev main_v1187 : Ref sig .tc := ⟨.hbm, 2271, rfl⟩
abbrev main_cst_281 : Ref sig .tc := ⟨.hbm, 2272, rfl⟩
abbrev main_v1188 : Ref sig .tc := ⟨.hbm, 2273, rfl⟩
abbrev main_v1189 : Ref sig .tc := ⟨.hbm, 2274, rfl⟩
abbrev main_cst_282 : Ref sig .tc := ⟨.hbm, 2275, rfl⟩
abbrev main_v1190 : Ref sig .tc := ⟨.hbm, 2276, rfl⟩
abbrev main_v1191 : Ref sig .tc := ⟨.hbm, 2277, rfl⟩
abbrev main_v1192 : Ref sig .tc := ⟨.hbm, 2278, rfl⟩
abbrev main_v1193 : Ref sig .tc := ⟨.hbm, 2279, rfl⟩
abbrev main_cst_283 : Ref sig .tc := ⟨.hbm, 2280, rfl⟩
abbrev main_v1194 : Ref sig .tc := ⟨.hbm, 2281, rfl⟩
abbrev main_v1195 : Ref sig .tc := ⟨.hbm, 2282, rfl⟩
abbrev main_cst_284 : Ref sig .tc := ⟨.hbm, 2283, rfl⟩
abbrev main_v1196 : Ref sig .tc := ⟨.hbm, 2284, rfl⟩
abbrev main_v1197 : Ref sig .tc := ⟨.hbm, 2285, rfl⟩
abbrev main_v1198 : Ref sig .tc := ⟨.hbm, 2286, rfl⟩
abbrev main_v1199 : Ref sig .tc := ⟨.hbm, 2287, rfl⟩
abbrev main_v1200 : Ref sig .tc := ⟨.hbm, 2288, rfl⟩
abbrev main_v1201 : Ref sig .tc := ⟨.hbm, 2289, rfl⟩
abbrev main_v1202 : Ref sig .tc := ⟨.hbm, 2290, rfl⟩
abbrev main_v1203 : Ref sig .tc := ⟨.hbm, 2291, rfl⟩
abbrev main_v1204 : Ref sig .tc := ⟨.hbm, 2292, rfl⟩
abbrev main_v1205 : Ref sig .tc := ⟨.hbm, 2293, rfl⟩
abbrev main_v1206 : Ref sig .tc := ⟨.hbm, 2294, rfl⟩
abbrev main_v1207 : Ref sig .tc := ⟨.hbm, 2295, rfl⟩
abbrev main_v1208 : Ref sig .tc := ⟨.hbm, 2296, rfl⟩
abbrev main_v1209 : Ref sig .tc := ⟨.hbm, 2297, rfl⟩
abbrev main_v1210 : Ref sig .tc := ⟨.hbm, 2298, rfl⟩
abbrev main_cst_285 : Ref sig .tc := ⟨.hbm, 2299, rfl⟩
abbrev main_v1211 : Ref sig .tc := ⟨.hbm, 2300, rfl⟩
abbrev main_v1212 : Ref sig .tc := ⟨.hbm, 2301, rfl⟩
abbrev main_cst_286 : Ref sig .tc := ⟨.hbm, 2302, rfl⟩
abbrev main_v1213 : Ref sig .tc := ⟨.hbm, 2303, rfl⟩
abbrev main_v1214 : Ref sig .tc := ⟨.hbm, 2304, rfl⟩
abbrev main_v1215 : Ref sig .tc := ⟨.hbm, 2305, rfl⟩
abbrev main_cst_287 : Ref sig .tc := ⟨.hbm, 2306, rfl⟩
abbrev main_v1216 : Ref sig .tc := ⟨.hbm, 2307, rfl⟩
abbrev main_v1217 : Ref sig .tc := ⟨.hbm, 2308, rfl⟩
abbrev main_v1218 : Ref sig .tc := ⟨.hbm, 2309, rfl⟩
abbrev main_cst_288 : Ref sig .tc := ⟨.hbm, 2310, rfl⟩
abbrev main_v1219 : Ref sig .tc := ⟨.hbm, 2311, rfl⟩
abbrev main_v1220 : Ref sig .tc := ⟨.hbm, 2312, rfl⟩
abbrev main_v1221 : Ref sig .tc := ⟨.hbm, 2313, rfl⟩
abbrev main_c_289 : Ref sig .tc := ⟨.hbm, 2314, rfl⟩
abbrev main_c_290 : Ref sig .tc := ⟨.hbm, 2315, rfl⟩
abbrev main_call69_v0 : Ref sig .tc := ⟨.hbm, 2316, rfl⟩
abbrev main_call69_v1 : Ref sig .tc := ⟨.hbm, 2317, rfl⟩
abbrev main_call69_v2 : Ref sig .tc := ⟨.hbm, 2318, rfl⟩
abbrev main_call69_v3 : Ref sig .tc := ⟨.hbm, 2319, rfl⟩
abbrev main_call69_v4 : Ref sig .tc := ⟨.hbm, 2320, rfl⟩
abbrev main_v1222 : Ref sig .tc := ⟨.hbm, 2321, rfl⟩
abbrev main_v1223 : Ref sig .tc := ⟨.hbm, 2322, rfl⟩
abbrev main_c_291 : Ref sig .tc := ⟨.hbm, 2323, rfl⟩
abbrev main_c_292 : Ref sig .tc := ⟨.hbm, 2324, rfl⟩
abbrev main_call70_v0 : Ref sig .tc := ⟨.hbm, 2325, rfl⟩
abbrev main_call70_v1 : Ref sig .tc := ⟨.hbm, 2326, rfl⟩
abbrev main_call70_v2 : Ref sig .tc := ⟨.hbm, 2327, rfl⟩
abbrev main_call70_v3 : Ref sig .tc := ⟨.hbm, 2328, rfl⟩
abbrev main_call70_v4 : Ref sig .tc := ⟨.hbm, 2329, rfl⟩
abbrev main_v1224 : Ref sig .tc := ⟨.hbm, 2330, rfl⟩
abbrev main_v1225 : Ref sig .tc := ⟨.hbm, 2331, rfl⟩
abbrev main_c_293 : Ref sig .tc := ⟨.hbm, 2332, rfl⟩
abbrev main_v1226 : Ref sig .tc := ⟨.hbm, 2333, rfl⟩
abbrev main_v1227 : Ref sig .tc := ⟨.hbm, 2334, rfl⟩
abbrev main_v1228 : Ref sig .tc := ⟨.hbm, 2335, rfl⟩
abbrev main_v1229 : Ref sig .tc := ⟨.hbm, 2336, rfl⟩
abbrev main_v1230 : Ref sig .tc := ⟨.hbm, 2337, rfl⟩
abbrev main_v1231 : Ref sig .tc := ⟨.hbm, 2338, rfl⟩
abbrev main_call71_c : Ref sig .tc := ⟨.hbm, 2339, rfl⟩
abbrev main_call71_v0 : Ref sig .tc := ⟨.hbm, 2340, rfl⟩
abbrev main_call71_v1 : Ref sig .tc := ⟨.hbm, 2341, rfl⟩
abbrev main_call71_c_0 : Ref sig .tc := ⟨.hbm, 2342, rfl⟩
abbrev main_call71_v2 : Ref sig .tc := ⟨.hbm, 2343, rfl⟩
abbrev main_call71_v3 : Ref sig .tc := ⟨.hbm, 2344, rfl⟩
abbrev main_call71_v4 : Ref sig .tc := ⟨.hbm, 2345, rfl⟩
abbrev main_call71_v5 : Ref sig .tc := ⟨.hbm, 2346, rfl⟩
abbrev main_call71_c_1 : Ref sig .tc := ⟨.hbm, 2347, rfl⟩
abbrev main_call71_c_2 : Ref sig .tc := ⟨.hbm, 2348, rfl⟩
abbrev main_call71_v6 : Ref sig .tc := ⟨.hbm, 2349, rfl⟩
abbrev main_call71_v7 : Ref sig .tc := ⟨.hbm, 2350, rfl⟩
abbrev main_call71_v8 : Ref sig .tc := ⟨.hbm, 2351, rfl⟩
abbrev main_call71_v9 : Ref sig .tc := ⟨.hbm, 2352, rfl⟩
abbrev main_call71_v10 : Ref sig .tc := ⟨.hbm, 2353, rfl⟩
abbrev main_call71_v11 : Ref sig .tc := ⟨.hbm, 2354, rfl⟩
abbrev main_call71_c_3 : Ref sig .tc := ⟨.hbm, 2355, rfl⟩
abbrev main_call71_v12 : Ref sig .tc := ⟨.hbm, 2356, rfl⟩
abbrev main_call71_v13 : Ref sig .tc := ⟨.hbm, 2357, rfl⟩
abbrev main_call71_cst : Ref sig .tc := ⟨.hbm, 2358, rfl⟩
abbrev main_call71_v14 : Ref sig .tc := ⟨.hbm, 2359, rfl⟩
abbrev main_v1232 : Ref sig .tc := ⟨.hbm, 2360, rfl⟩
abbrev main_v1233 : Ref sig .tc := ⟨.hbm, 2361, rfl⟩
abbrev main_v1234 : Ref sig .tc := ⟨.hbm, 2362, rfl⟩
abbrev main_v1235 : Ref sig .tc := ⟨.hbm, 2363, rfl⟩
abbrev main_v1236 : Ref sig .tc := ⟨.hbm, 2364, rfl⟩
abbrev main_v1237 : Ref sig .tc := ⟨.hbm, 2365, rfl⟩
abbrev main_v1238 : Ref sig .tc := ⟨.hbm, 2366, rfl⟩
abbrev main_v1239 : Ref sig .tc := ⟨.hbm, 2367, rfl⟩
abbrev main_v1240 : Ref sig .tc := ⟨.hbm, 2368, rfl⟩
abbrev main_cst_294 : Ref sig .tc := ⟨.hbm, 2369, rfl⟩
abbrev main_v1241 : Ref sig .tc := ⟨.hbm, 2370, rfl⟩
abbrev main_v1242 : Ref sig .tc := ⟨.hbm, 2371, rfl⟩
abbrev main_cst_295 : Ref sig .tc := ⟨.hbm, 2372, rfl⟩
abbrev main_v1243 : Ref sig .tc := ⟨.hbm, 2373, rfl⟩
abbrev main_v1244 : Ref sig .tc := ⟨.hbm, 2374, rfl⟩
abbrev main_v1245 : Ref sig .tc := ⟨.hbm, 2375, rfl⟩
abbrev main_cst_296 : Ref sig .tc := ⟨.hbm, 2376, rfl⟩
abbrev main_v1246 : Ref sig .tc := ⟨.hbm, 2377, rfl⟩
abbrev main_v1247 : Ref sig .tc := ⟨.hbm, 2378, rfl⟩
abbrev main_v1248 : Ref sig .tc := ⟨.hbm, 2379, rfl⟩
abbrev main_cst_297 : Ref sig .tc := ⟨.hbm, 2380, rfl⟩
abbrev main_v1249 : Ref sig .tc := ⟨.hbm, 2381, rfl⟩
abbrev main_v1250 : Ref sig .tc := ⟨.hbm, 2382, rfl⟩
abbrev main_v1251 : Ref sig .tc := ⟨.hbm, 2383, rfl⟩
abbrev main_c_298 : Ref sig .tc := ⟨.hbm, 2384, rfl⟩
abbrev main_c_299 : Ref sig .tc := ⟨.hbm, 2385, rfl⟩
abbrev main_call72_v0 : Ref sig .tc := ⟨.hbm, 2386, rfl⟩
abbrev main_call72_v1 : Ref sig .tc := ⟨.hbm, 2387, rfl⟩
abbrev main_call72_v2 : Ref sig .tc := ⟨.hbm, 2388, rfl⟩
abbrev main_call72_v3 : Ref sig .tc := ⟨.hbm, 2389, rfl⟩
abbrev main_call72_v4 : Ref sig .tc := ⟨.hbm, 2390, rfl⟩
abbrev main_v1252 : Ref sig .tc := ⟨.hbm, 2391, rfl⟩
abbrev main_v1253 : Ref sig .tc := ⟨.hbm, 2392, rfl⟩
abbrev main_c_300 : Ref sig .tc := ⟨.hbm, 2393, rfl⟩
abbrev main_c_301 : Ref sig .tc := ⟨.hbm, 2394, rfl⟩
abbrev main_call73_v0 : Ref sig .tc := ⟨.hbm, 2395, rfl⟩
abbrev main_call73_v1 : Ref sig .tc := ⟨.hbm, 2396, rfl⟩
abbrev main_call73_v2 : Ref sig .tc := ⟨.hbm, 2397, rfl⟩
abbrev main_call73_v3 : Ref sig .tc := ⟨.hbm, 2398, rfl⟩
abbrev main_call73_v4 : Ref sig .tc := ⟨.hbm, 2399, rfl⟩
abbrev main_v1254 : Ref sig .tc := ⟨.hbm, 2400, rfl⟩
abbrev main_v1255 : Ref sig .tc := ⟨.hbm, 2401, rfl⟩
abbrev main_c_302 : Ref sig .tc := ⟨.hbm, 2402, rfl⟩
abbrev main_v1256 : Ref sig .tc := ⟨.hbm, 2403, rfl⟩
abbrev main_v1257 : Ref sig .tc := ⟨.hbm, 2404, rfl⟩
abbrev main_v1258 : Ref sig .tc := ⟨.hbm, 2405, rfl⟩
abbrev main_v1259 : Ref sig .tc := ⟨.hbm, 2406, rfl⟩
abbrev main_v1260 : Ref sig .tc := ⟨.hbm, 2407, rfl⟩
abbrev main_v1261 : Ref sig .tc := ⟨.hbm, 2408, rfl⟩
abbrev main_call74_c : Ref sig .tc := ⟨.hbm, 2409, rfl⟩
abbrev main_call74_v0 : Ref sig .tc := ⟨.hbm, 2410, rfl⟩
abbrev main_call74_v1 : Ref sig .tc := ⟨.hbm, 2411, rfl⟩
abbrev main_call74_c_0 : Ref sig .tc := ⟨.hbm, 2412, rfl⟩
abbrev main_call74_v2 : Ref sig .tc := ⟨.hbm, 2413, rfl⟩
abbrev main_call74_v3 : Ref sig .tc := ⟨.hbm, 2414, rfl⟩
abbrev main_call74_v4 : Ref sig .tc := ⟨.hbm, 2415, rfl⟩
abbrev main_call74_v5 : Ref sig .tc := ⟨.hbm, 2416, rfl⟩
abbrev main_call74_c_1 : Ref sig .tc := ⟨.hbm, 2417, rfl⟩
abbrev main_call74_c_2 : Ref sig .tc := ⟨.hbm, 2418, rfl⟩
abbrev main_call74_v6 : Ref sig .tc := ⟨.hbm, 2419, rfl⟩
abbrev main_call74_v7 : Ref sig .tc := ⟨.hbm, 2420, rfl⟩
abbrev main_call74_v8 : Ref sig .tc := ⟨.hbm, 2421, rfl⟩
abbrev main_call74_v9 : Ref sig .tc := ⟨.hbm, 2422, rfl⟩
abbrev main_call74_v10 : Ref sig .tc := ⟨.hbm, 2423, rfl⟩
abbrev main_call74_v11 : Ref sig .tc := ⟨.hbm, 2424, rfl⟩
abbrev main_call74_c_3 : Ref sig .tc := ⟨.hbm, 2425, rfl⟩
abbrev main_call74_v12 : Ref sig .tc := ⟨.hbm, 2426, rfl⟩
abbrev main_call74_v13 : Ref sig .tc := ⟨.hbm, 2427, rfl⟩
abbrev main_call74_cst : Ref sig .tc := ⟨.hbm, 2428, rfl⟩
abbrev main_call74_v14 : Ref sig .tc := ⟨.hbm, 2429, rfl⟩
abbrev main_v1262 : Ref sig .tc := ⟨.hbm, 2430, rfl⟩
abbrev main_v1263 : Ref sig .tc := ⟨.hbm, 2431, rfl⟩
abbrev main_v1264 : Ref sig .tc := ⟨.hbm, 2432, rfl⟩
abbrev main_v1265 : Ref sig .tc := ⟨.hbm, 2433, rfl⟩
abbrev main_v1266 : Ref sig .tc := ⟨.hbm, 2434, rfl⟩
abbrev main_v1267 : Ref sig .tc := ⟨.hbm, 2435, rfl⟩
abbrev main_v1268 : Ref sig .tc := ⟨.hbm, 2436, rfl⟩
abbrev main_v1269 : Ref sig .tc := ⟨.hbm, 2437, rfl⟩
abbrev main_v1270 : Ref sig .tc := ⟨.hbm, 2438, rfl⟩
abbrev main_v1271 : Ref sig .tc := ⟨.hbm, 2439, rfl⟩
abbrev main_cst_303 : Ref sig .tc := ⟨.hbm, 2440, rfl⟩
abbrev main_v1272 : Ref sig .tc := ⟨.hbm, 2441, rfl⟩
abbrev main_v1273 : Ref sig .tc := ⟨.hbm, 2442, rfl⟩
abbrev main_cst_304 : Ref sig .tc := ⟨.hbm, 2443, rfl⟩
abbrev main_v1274 : Ref sig .tc := ⟨.hbm, 2444, rfl⟩
abbrev main_v1275 : Ref sig .tc := ⟨.hbm, 2445, rfl⟩
abbrev main_v1276 : Ref sig .tc := ⟨.hbm, 2446, rfl⟩
abbrev main_cst_305 : Ref sig .tc := ⟨.hbm, 2447, rfl⟩
abbrev main_v1277 : Ref sig .tc := ⟨.hbm, 2448, rfl⟩
abbrev main_v1278 : Ref sig .tc := ⟨.hbm, 2449, rfl⟩
abbrev main_v1279 : Ref sig .tc := ⟨.hbm, 2450, rfl⟩
abbrev main_cst_306 : Ref sig .tc := ⟨.hbm, 2451, rfl⟩
abbrev main_v1280 : Ref sig .tc := ⟨.hbm, 2452, rfl⟩
abbrev main_v1281 : Ref sig .tc := ⟨.hbm, 2453, rfl⟩
abbrev main_v1282 : Ref sig .tc := ⟨.hbm, 2454, rfl⟩
abbrev main_c_307 : Ref sig .tc := ⟨.hbm, 2455, rfl⟩
abbrev main_c_308 : Ref sig .tc := ⟨.hbm, 2456, rfl⟩
abbrev main_call75_v0 : Ref sig .tc := ⟨.hbm, 2457, rfl⟩
abbrev main_call75_v1 : Ref sig .tc := ⟨.hbm, 2458, rfl⟩
abbrev main_call75_v2 : Ref sig .tc := ⟨.hbm, 2459, rfl⟩
abbrev main_call75_v3 : Ref sig .tc := ⟨.hbm, 2460, rfl⟩
abbrev main_call75_v4 : Ref sig .tc := ⟨.hbm, 2461, rfl⟩
abbrev main_v1283 : Ref sig .tc := ⟨.hbm, 2462, rfl⟩
abbrev main_v1284 : Ref sig .tc := ⟨.hbm, 2463, rfl⟩
abbrev main_c_309 : Ref sig .tc := ⟨.hbm, 2464, rfl⟩
abbrev main_c_310 : Ref sig .tc := ⟨.hbm, 2465, rfl⟩
abbrev main_call76_v0 : Ref sig .tc := ⟨.hbm, 2466, rfl⟩
abbrev main_call76_v1 : Ref sig .tc := ⟨.hbm, 2467, rfl⟩
abbrev main_call76_v2 : Ref sig .tc := ⟨.hbm, 2468, rfl⟩
abbrev main_call76_v3 : Ref sig .tc := ⟨.hbm, 2469, rfl⟩
abbrev main_call76_v4 : Ref sig .tc := ⟨.hbm, 2470, rfl⟩
abbrev main_v1285 : Ref sig .tc := ⟨.hbm, 2471, rfl⟩
abbrev main_v1286 : Ref sig .tc := ⟨.hbm, 2472, rfl⟩
abbrev main_c_311 : Ref sig .tc := ⟨.hbm, 2473, rfl⟩
abbrev main_v1287 : Ref sig .tc := ⟨.hbm, 2474, rfl⟩
abbrev main_v1288 : Ref sig .tc := ⟨.hbm, 2475, rfl⟩
abbrev main_v1289 : Ref sig .tc := ⟨.hbm, 2476, rfl⟩
abbrev main_v1290 : Ref sig .tc := ⟨.hbm, 2477, rfl⟩
abbrev main_v1291 : Ref sig .tc := ⟨.hbm, 2478, rfl⟩
abbrev main_v1292 : Ref sig .tc := ⟨.hbm, 2479, rfl⟩
abbrev main_call77_c : Ref sig .tc := ⟨.hbm, 2480, rfl⟩
abbrev main_call77_v0 : Ref sig .tc := ⟨.hbm, 2481, rfl⟩
abbrev main_call77_v1 : Ref sig .tc := ⟨.hbm, 2482, rfl⟩
abbrev main_call77_c_0 : Ref sig .tc := ⟨.hbm, 2483, rfl⟩
abbrev main_call77_v2 : Ref sig .tc := ⟨.hbm, 2484, rfl⟩
abbrev main_call77_v3 : Ref sig .tc := ⟨.hbm, 2485, rfl⟩
abbrev main_call77_v4 : Ref sig .tc := ⟨.hbm, 2486, rfl⟩
abbrev main_call77_v5 : Ref sig .tc := ⟨.hbm, 2487, rfl⟩
abbrev main_call77_c_1 : Ref sig .tc := ⟨.hbm, 2488, rfl⟩
abbrev main_call77_c_2 : Ref sig .tc := ⟨.hbm, 2489, rfl⟩
abbrev main_call77_v6 : Ref sig .tc := ⟨.hbm, 2490, rfl⟩
abbrev main_call77_v7 : Ref sig .tc := ⟨.hbm, 2491, rfl⟩
abbrev main_call77_v8 : Ref sig .tc := ⟨.hbm, 2492, rfl⟩
abbrev main_call77_v9 : Ref sig .tc := ⟨.hbm, 2493, rfl⟩
abbrev main_call77_v10 : Ref sig .tc := ⟨.hbm, 2494, rfl⟩
abbrev main_call77_v11 : Ref sig .tc := ⟨.hbm, 2495, rfl⟩
abbrev main_call77_c_3 : Ref sig .tc := ⟨.hbm, 2496, rfl⟩
abbrev main_call77_v12 : Ref sig .tc := ⟨.hbm, 2497, rfl⟩
abbrev main_call77_v13 : Ref sig .tc := ⟨.hbm, 2498, rfl⟩
abbrev main_call77_cst : Ref sig .tc := ⟨.hbm, 2499, rfl⟩
abbrev main_call77_v14 : Ref sig .tc := ⟨.hbm, 2500, rfl⟩
abbrev main_v1293 : Ref sig .tc := ⟨.hbm, 2501, rfl⟩
abbrev main_v1294 : Ref sig .tc := ⟨.hbm, 2502, rfl⟩
abbrev main_v1295 : Ref sig .tc := ⟨.hbm, 2503, rfl⟩
abbrev main_v1296 : Ref sig .tc := ⟨.hbm, 2504, rfl⟩
abbrev main_v1297 : Ref sig .tc := ⟨.hbm, 2505, rfl⟩
abbrev main_v1298 : Ref sig .tc := ⟨.hbm, 2506, rfl⟩
abbrev main_v1299 : Ref sig .tc := ⟨.hbm, 2507, rfl⟩
abbrev main_v1300 : Ref sig .tc := ⟨.hbm, 2508, rfl⟩
abbrev main_v1301 : Ref sig .tc := ⟨.hbm, 2509, rfl⟩
abbrev main_v1302 : Ref sig .tc := ⟨.hbm, 2510, rfl⟩
abbrev main_cst_312 : Ref sig .tc := ⟨.hbm, 2511, rfl⟩
abbrev main_v1303 : Ref sig .tc := ⟨.hbm, 2512, rfl⟩
abbrev main_v1304 : Ref sig .tc := ⟨.hbm, 2513, rfl⟩
abbrev main_cst_313 : Ref sig .tc := ⟨.hbm, 2514, rfl⟩
abbrev main_v1305 : Ref sig .tc := ⟨.hbm, 2515, rfl⟩
abbrev main_v1306 : Ref sig .tc := ⟨.hbm, 2516, rfl⟩
abbrev main_v1307 : Ref sig .tc := ⟨.hbm, 2517, rfl⟩
abbrev main_cst_314 : Ref sig .tc := ⟨.hbm, 2518, rfl⟩
abbrev main_v1308 : Ref sig .tc := ⟨.hbm, 2519, rfl⟩
abbrev main_v1309 : Ref sig .tc := ⟨.hbm, 2520, rfl⟩
abbrev main_v1310 : Ref sig .tc := ⟨.hbm, 2521, rfl⟩
abbrev main_cst_315 : Ref sig .tc := ⟨.hbm, 2522, rfl⟩
abbrev main_v1311 : Ref sig .tc := ⟨.hbm, 2523, rfl⟩
abbrev main_v1312 : Ref sig .tc := ⟨.hbm, 2524, rfl⟩
abbrev main_v1313 : Ref sig .tc := ⟨.hbm, 2525, rfl⟩
abbrev main_c_316 : Ref sig .tc := ⟨.hbm, 2526, rfl⟩
abbrev main_c_317 : Ref sig .tc := ⟨.hbm, 2527, rfl⟩
abbrev main_call78_v0 : Ref sig .tc := ⟨.hbm, 2528, rfl⟩
abbrev main_call78_v1 : Ref sig .tc := ⟨.hbm, 2529, rfl⟩
abbrev main_call78_v2 : Ref sig .tc := ⟨.hbm, 2530, rfl⟩
abbrev main_call78_v3 : Ref sig .tc := ⟨.hbm, 2531, rfl⟩
abbrev main_call78_v4 : Ref sig .tc := ⟨.hbm, 2532, rfl⟩
abbrev main_v1314 : Ref sig .tc := ⟨.hbm, 2533, rfl⟩
abbrev main_v1315 : Ref sig .tc := ⟨.hbm, 2534, rfl⟩
abbrev main_c_318 : Ref sig .tc := ⟨.hbm, 2535, rfl⟩
abbrev main_c_319 : Ref sig .tc := ⟨.hbm, 2536, rfl⟩
abbrev main_call79_v0 : Ref sig .tc := ⟨.hbm, 2537, rfl⟩
abbrev main_call79_v1 : Ref sig .tc := ⟨.hbm, 2538, rfl⟩
abbrev main_call79_v2 : Ref sig .tc := ⟨.hbm, 2539, rfl⟩
abbrev main_call79_v3 : Ref sig .tc := ⟨.hbm, 2540, rfl⟩
abbrev main_call79_v4 : Ref sig .tc := ⟨.hbm, 2541, rfl⟩
abbrev main_v1316 : Ref sig .tc := ⟨.hbm, 2542, rfl⟩
abbrev main_v1317 : Ref sig .tc := ⟨.hbm, 2543, rfl⟩
abbrev main_c_320 : Ref sig .tc := ⟨.hbm, 2544, rfl⟩
abbrev main_v1318 : Ref sig .tc := ⟨.hbm, 2545, rfl⟩
abbrev main_v1319 : Ref sig .tc := ⟨.hbm, 2546, rfl⟩
abbrev main_v1320 : Ref sig .tc := ⟨.hbm, 2547, rfl⟩
abbrev main_v1321 : Ref sig .tc := ⟨.hbm, 2548, rfl⟩
abbrev main_v1322 : Ref sig .tc := ⟨.hbm, 2549, rfl⟩
abbrev main_v1323 : Ref sig .tc := ⟨.hbm, 2550, rfl⟩
abbrev main_call80_c : Ref sig .tc := ⟨.hbm, 2551, rfl⟩
abbrev main_call80_v0 : Ref sig .tc := ⟨.hbm, 2552, rfl⟩
abbrev main_call80_v1 : Ref sig .tc := ⟨.hbm, 2553, rfl⟩
abbrev main_call80_c_0 : Ref sig .tc := ⟨.hbm, 2554, rfl⟩
abbrev main_call80_v2 : Ref sig .tc := ⟨.hbm, 2555, rfl⟩
abbrev main_call80_v3 : Ref sig .tc := ⟨.hbm, 2556, rfl⟩
abbrev main_call80_v4 : Ref sig .tc := ⟨.hbm, 2557, rfl⟩
abbrev main_call80_v5 : Ref sig .tc := ⟨.hbm, 2558, rfl⟩
abbrev main_call80_c_1 : Ref sig .tc := ⟨.hbm, 2559, rfl⟩
abbrev main_call80_c_2 : Ref sig .tc := ⟨.hbm, 2560, rfl⟩
abbrev main_call80_v6 : Ref sig .tc := ⟨.hbm, 2561, rfl⟩
abbrev main_call80_v7 : Ref sig .tc := ⟨.hbm, 2562, rfl⟩
abbrev main_call80_v8 : Ref sig .tc := ⟨.hbm, 2563, rfl⟩
abbrev main_call80_v9 : Ref sig .tc := ⟨.hbm, 2564, rfl⟩
abbrev main_call80_v10 : Ref sig .tc := ⟨.hbm, 2565, rfl⟩
abbrev main_call80_v11 : Ref sig .tc := ⟨.hbm, 2566, rfl⟩
abbrev main_call80_c_3 : Ref sig .tc := ⟨.hbm, 2567, rfl⟩
abbrev main_call80_v12 : Ref sig .tc := ⟨.hbm, 2568, rfl⟩
abbrev main_call80_v13 : Ref sig .tc := ⟨.hbm, 2569, rfl⟩
abbrev main_call80_cst : Ref sig .tc := ⟨.hbm, 2570, rfl⟩
abbrev main_call80_v14 : Ref sig .tc := ⟨.hbm, 2571, rfl⟩
abbrev main_v1324 : Ref sig .tc := ⟨.hbm, 2572, rfl⟩
abbrev main_v1325 : Ref sig .tc := ⟨.hbm, 2573, rfl⟩
abbrev main_v1326 : Ref sig .tc := ⟨.hbm, 2574, rfl⟩
abbrev main_v1327 : Ref sig .tc := ⟨.hbm, 2575, rfl⟩
abbrev main_v1328 : Ref sig .tc := ⟨.hbm, 2576, rfl⟩
abbrev main_v1329 : Ref sig .tc := ⟨.hbm, 2577, rfl⟩
abbrev main_v1330 : Ref sig .tc := ⟨.hbm, 2578, rfl⟩
abbrev main_v1331 : Ref sig .tc := ⟨.hbm, 2579, rfl⟩
abbrev main_v1332 : Ref sig .tc := ⟨.hbm, 2580, rfl⟩
abbrev main_v1333 : Ref sig .tc := ⟨.hbm, 2581, rfl⟩
abbrev main_v1334 : Ref sig .tc := ⟨.hbm, 2582, rfl⟩
abbrev main_v1335 : Ref sig .tc := ⟨.hbm, 2583, rfl⟩
abbrev main_v1336 : Ref sig .tc := ⟨.hbm, 2584, rfl⟩
abbrev main_v1337 : Ref sig .tc := ⟨.hbm, 2585, rfl⟩
abbrev main_v1338 : Ref sig .tc := ⟨.hbm, 2586, rfl⟩
abbrev main_v1339 : Ref sig .tc := ⟨.hbm, 2587, rfl⟩
abbrev main_v1340 : Ref sig .tc := ⟨.hbm, 2588, rfl⟩
abbrev main_v1341 : Ref sig .tc := ⟨.hbm, 2589, rfl⟩
abbrev main_v1342 : Ref sig .tc := ⟨.hbm, 2590, rfl⟩
abbrev main_cst_321 : Ref sig .tc := ⟨.hbm, 2591, rfl⟩
abbrev main_v1343 : Ref sig .tc := ⟨.hbm, 2592, rfl⟩
abbrev main_v1344 : Ref sig .tc := ⟨.hbm, 2593, rfl⟩
abbrev main_cst_322 : Ref sig .tc := ⟨.hbm, 2594, rfl⟩
abbrev main_v1345 : Ref sig .tc := ⟨.hbm, 2595, rfl⟩
abbrev main_v1346 : Ref sig .tc := ⟨.hbm, 2596, rfl⟩
abbrev main_cst_323 : Ref sig .tc := ⟨.hbm, 2597, rfl⟩
abbrev main_v1347 : Ref sig .tc := ⟨.hbm, 2598, rfl⟩
abbrev main_v1348 : Ref sig .tc := ⟨.hbm, 2599, rfl⟩
abbrev main_cst_324 : Ref sig .tc := ⟨.hbm, 2600, rfl⟩
abbrev main_v1349 : Ref sig .tc := ⟨.hbm, 2601, rfl⟩
abbrev main_v1350 : Ref sig .tc := ⟨.hbm, 2602, rfl⟩
abbrev main_v1351 : Ref sig .tc := ⟨.hbm, 2603, rfl⟩
abbrev main_v1352 : Ref sig .tc := ⟨.hbm, 2604, rfl⟩
abbrev main_cst_325 : Ref sig .tc := ⟨.hbm, 2605, rfl⟩
abbrev main_v1353 : Ref sig .tc := ⟨.hbm, 2606, rfl⟩
abbrev main_v1354 : Ref sig .tc := ⟨.hbm, 2607, rfl⟩
abbrev main_cst_326 : Ref sig .tc := ⟨.hbm, 2608, rfl⟩
abbrev main_v1355 : Ref sig .tc := ⟨.hbm, 2609, rfl⟩
abbrev main_v1356 : Ref sig .tc := ⟨.hbm, 2610, rfl⟩
abbrev main_cst_327 : Ref sig .tc := ⟨.hbm, 2611, rfl⟩
abbrev main_v1357 : Ref sig .tc := ⟨.hbm, 2612, rfl⟩
abbrev main_v1358 : Ref sig .tc := ⟨.hbm, 2613, rfl⟩
abbrev main_cst_328 : Ref sig .tc := ⟨.hbm, 2614, rfl⟩
abbrev main_v1359 : Ref sig .tc := ⟨.hbm, 2615, rfl⟩
abbrev main_v1360 : Ref sig .tc := ⟨.hbm, 2616, rfl⟩
abbrev main_v1361 : Ref sig .tc := ⟨.hbm, 2617, rfl⟩
abbrev main_v1362 : Ref sig .tc := ⟨.hbm, 2618, rfl⟩
abbrev main_cst_329 : Ref sig .tc := ⟨.hbm, 2619, rfl⟩
abbrev main_v1363 : Ref sig .tc := ⟨.hbm, 2620, rfl⟩
abbrev main_v1364 : Ref sig .tc := ⟨.hbm, 2621, rfl⟩
abbrev main_cst_330 : Ref sig .tc := ⟨.hbm, 2622, rfl⟩
abbrev main_v1365 : Ref sig .tc := ⟨.hbm, 2623, rfl⟩
abbrev main_v1366 : Ref sig .tc := ⟨.hbm, 2624, rfl⟩
abbrev main_v1367 : Ref sig .tc := ⟨.hbm, 2625, rfl⟩
abbrev main_v1368 : Ref sig .tc := ⟨.hbm, 2626, rfl⟩
abbrev main_v1369 : Ref sig .tc := ⟨.hbm, 2627, rfl⟩
abbrev main_v1370 : Ref sig .tc := ⟨.hbm, 2628, rfl⟩
abbrev main_v1371 : Ref sig .tc := ⟨.hbm, 2629, rfl⟩
abbrev main_v1372 : Ref sig .tc := ⟨.hbm, 2630, rfl⟩
abbrev main_v1373 : Ref sig .tc := ⟨.hbm, 2631, rfl⟩
abbrev main_v1374 : Ref sig .tc := ⟨.hbm, 2632, rfl⟩
abbrev main_v1375 : Ref sig .tc := ⟨.hbm, 2633, rfl⟩
abbrev main_v1376 : Ref sig .tc := ⟨.hbm, 2634, rfl⟩
abbrev main_v1377 : Ref sig .tc := ⟨.hbm, 2635, rfl⟩
abbrev main_v1378 : Ref sig .tc := ⟨.hbm, 2636, rfl⟩
abbrev main_v1379 : Ref sig .tc := ⟨.hbm, 2637, rfl⟩
abbrev main_cst_331 : Ref sig .tc := ⟨.hbm, 2638, rfl⟩
abbrev main_v1380 : Ref sig .tc := ⟨.hbm, 2639, rfl⟩
abbrev main_v1381 : Ref sig .tc := ⟨.hbm, 2640, rfl⟩
abbrev main_cst_332 : Ref sig .tc := ⟨.hbm, 2641, rfl⟩
abbrev main_v1382 : Ref sig .tc := ⟨.hbm, 2642, rfl⟩
abbrev main_v1383 : Ref sig .tc := ⟨.hbm, 2643, rfl⟩
abbrev main_v1384 : Ref sig .tc := ⟨.hbm, 2644, rfl⟩
abbrev main_cst_333 : Ref sig .tc := ⟨.hbm, 2645, rfl⟩
abbrev main_v1385 : Ref sig .tc := ⟨.hbm, 2646, rfl⟩
abbrev main_v1386 : Ref sig .tc := ⟨.hbm, 2647, rfl⟩
abbrev main_v1387 : Ref sig .tc := ⟨.hbm, 2648, rfl⟩
abbrev main_cst_334 : Ref sig .tc := ⟨.hbm, 2649, rfl⟩
abbrev main_v1388 : Ref sig .tc := ⟨.hbm, 2650, rfl⟩
abbrev main_v1389 : Ref sig .tc := ⟨.hbm, 2651, rfl⟩
abbrev main_v1390 : Ref sig .tc := ⟨.hbm, 2652, rfl⟩
abbrev main_c_335 : Ref sig .tc := ⟨.hbm, 2653, rfl⟩
abbrev main_c_336 : Ref sig .tc := ⟨.hbm, 2654, rfl⟩
abbrev main_call81_v0 : Ref sig .tc := ⟨.hbm, 2655, rfl⟩
abbrev main_call81_v1 : Ref sig .tc := ⟨.hbm, 2656, rfl⟩
abbrev main_call81_v2 : Ref sig .tc := ⟨.hbm, 2657, rfl⟩
abbrev main_call81_v3 : Ref sig .tc := ⟨.hbm, 2658, rfl⟩
abbrev main_call81_v4 : Ref sig .tc := ⟨.hbm, 2659, rfl⟩
abbrev main_v1391 : Ref sig .tc := ⟨.hbm, 2660, rfl⟩
abbrev main_v1392 : Ref sig .tc := ⟨.hbm, 2661, rfl⟩
abbrev main_c_337 : Ref sig .tc := ⟨.hbm, 2662, rfl⟩
abbrev main_c_338 : Ref sig .tc := ⟨.hbm, 2663, rfl⟩
abbrev main_call82_v0 : Ref sig .tc := ⟨.hbm, 2664, rfl⟩
abbrev main_call82_v1 : Ref sig .tc := ⟨.hbm, 2665, rfl⟩
abbrev main_call82_v2 : Ref sig .tc := ⟨.hbm, 2666, rfl⟩
abbrev main_call82_v3 : Ref sig .tc := ⟨.hbm, 2667, rfl⟩
abbrev main_call82_v4 : Ref sig .tc := ⟨.hbm, 2668, rfl⟩
abbrev main_v1393 : Ref sig .tc := ⟨.hbm, 2669, rfl⟩
abbrev main_v1394 : Ref sig .tc := ⟨.hbm, 2670, rfl⟩
abbrev main_c_339 : Ref sig .tc := ⟨.hbm, 2671, rfl⟩
abbrev main_v1395 : Ref sig .tc := ⟨.hbm, 2672, rfl⟩
abbrev main_v1396 : Ref sig .tc := ⟨.hbm, 2673, rfl⟩
abbrev main_v1397 : Ref sig .tc := ⟨.hbm, 2674, rfl⟩
abbrev main_v1398 : Ref sig .tc := ⟨.hbm, 2675, rfl⟩
abbrev main_v1399 : Ref sig .tc := ⟨.hbm, 2676, rfl⟩
abbrev main_v1400 : Ref sig .tc := ⟨.hbm, 2677, rfl⟩
abbrev main_call83_c : Ref sig .tc := ⟨.hbm, 2678, rfl⟩
abbrev main_call83_v0 : Ref sig .tc := ⟨.hbm, 2679, rfl⟩
abbrev main_call83_v1 : Ref sig .tc := ⟨.hbm, 2680, rfl⟩
abbrev main_call83_c_0 : Ref sig .tc := ⟨.hbm, 2681, rfl⟩
abbrev main_call83_v2 : Ref sig .tc := ⟨.hbm, 2682, rfl⟩
abbrev main_call83_v3 : Ref sig .tc := ⟨.hbm, 2683, rfl⟩
abbrev main_call83_v4 : Ref sig .tc := ⟨.hbm, 2684, rfl⟩
abbrev main_call83_v5 : Ref sig .tc := ⟨.hbm, 2685, rfl⟩
abbrev main_call83_c_1 : Ref sig .tc := ⟨.hbm, 2686, rfl⟩
abbrev main_call83_c_2 : Ref sig .tc := ⟨.hbm, 2687, rfl⟩
abbrev main_call83_v6 : Ref sig .tc := ⟨.hbm, 2688, rfl⟩
abbrev main_call83_v7 : Ref sig .tc := ⟨.hbm, 2689, rfl⟩
abbrev main_call83_v8 : Ref sig .tc := ⟨.hbm, 2690, rfl⟩
abbrev main_call83_v9 : Ref sig .tc := ⟨.hbm, 2691, rfl⟩
abbrev main_call83_v10 : Ref sig .tc := ⟨.hbm, 2692, rfl⟩
abbrev main_call83_v11 : Ref sig .tc := ⟨.hbm, 2693, rfl⟩
abbrev main_call83_c_3 : Ref sig .tc := ⟨.hbm, 2694, rfl⟩
abbrev main_call83_v12 : Ref sig .tc := ⟨.hbm, 2695, rfl⟩
abbrev main_call83_v13 : Ref sig .tc := ⟨.hbm, 2696, rfl⟩
abbrev main_call83_cst : Ref sig .tc := ⟨.hbm, 2697, rfl⟩
abbrev main_call83_v14 : Ref sig .tc := ⟨.hbm, 2698, rfl⟩
abbrev main_v1401 : Ref sig .tc := ⟨.hbm, 2699, rfl⟩
abbrev main_v1402 : Ref sig .tc := ⟨.hbm, 2700, rfl⟩
abbrev main_v1403 : Ref sig .tc := ⟨.hbm, 2701, rfl⟩
abbrev main_v1404 : Ref sig .tc := ⟨.hbm, 2702, rfl⟩
abbrev main_v1405 : Ref sig .tc := ⟨.hbm, 2703, rfl⟩
abbrev main_v1406 : Ref sig .tc := ⟨.hbm, 2704, rfl⟩
abbrev main_v1407 : Ref sig .tc := ⟨.hbm, 2705, rfl⟩
abbrev main_v1408 : Ref sig .tc := ⟨.hbm, 2706, rfl⟩
abbrev main_v1409 : Ref sig .tc := ⟨.hbm, 2707, rfl⟩
abbrev main_cst_340 : Ref sig .tc := ⟨.hbm, 2708, rfl⟩
abbrev main_v1410 : Ref sig .tc := ⟨.hbm, 2709, rfl⟩
abbrev main_v1411 : Ref sig .tc := ⟨.hbm, 2710, rfl⟩
abbrev main_cst_341 : Ref sig .tc := ⟨.hbm, 2711, rfl⟩
abbrev main_v1412 : Ref sig .tc := ⟨.hbm, 2712, rfl⟩
abbrev main_v1413 : Ref sig .tc := ⟨.hbm, 2713, rfl⟩
abbrev main_v1414 : Ref sig .tc := ⟨.hbm, 2714, rfl⟩
abbrev main_cst_342 : Ref sig .tc := ⟨.hbm, 2715, rfl⟩
abbrev main_v1415 : Ref sig .tc := ⟨.hbm, 2716, rfl⟩
abbrev main_v1416 : Ref sig .tc := ⟨.hbm, 2717, rfl⟩
abbrev main_v1417 : Ref sig .tc := ⟨.hbm, 2718, rfl⟩
abbrev main_cst_343 : Ref sig .tc := ⟨.hbm, 2719, rfl⟩
abbrev main_v1418 : Ref sig .tc := ⟨.hbm, 2720, rfl⟩
abbrev main_v1419 : Ref sig .tc := ⟨.hbm, 2721, rfl⟩
abbrev main_v1420 : Ref sig .tc := ⟨.hbm, 2722, rfl⟩
abbrev main_c_344 : Ref sig .tc := ⟨.hbm, 2723, rfl⟩
abbrev main_c_345 : Ref sig .tc := ⟨.hbm, 2724, rfl⟩
abbrev main_call84_v0 : Ref sig .tc := ⟨.hbm, 2725, rfl⟩
abbrev main_call84_v1 : Ref sig .tc := ⟨.hbm, 2726, rfl⟩
abbrev main_call84_v2 : Ref sig .tc := ⟨.hbm, 2727, rfl⟩
abbrev main_call84_v3 : Ref sig .tc := ⟨.hbm, 2728, rfl⟩
abbrev main_call84_v4 : Ref sig .tc := ⟨.hbm, 2729, rfl⟩
abbrev main_v1421 : Ref sig .tc := ⟨.hbm, 2730, rfl⟩
abbrev main_v1422 : Ref sig .tc := ⟨.hbm, 2731, rfl⟩
abbrev main_c_346 : Ref sig .tc := ⟨.hbm, 2732, rfl⟩
abbrev main_c_347 : Ref sig .tc := ⟨.hbm, 2733, rfl⟩
abbrev main_call85_v0 : Ref sig .tc := ⟨.hbm, 2734, rfl⟩
abbrev main_call85_v1 : Ref sig .tc := ⟨.hbm, 2735, rfl⟩
abbrev main_call85_v2 : Ref sig .tc := ⟨.hbm, 2736, rfl⟩
abbrev main_call85_v3 : Ref sig .tc := ⟨.hbm, 2737, rfl⟩
abbrev main_call85_v4 : Ref sig .tc := ⟨.hbm, 2738, rfl⟩
abbrev main_v1423 : Ref sig .tc := ⟨.hbm, 2739, rfl⟩
abbrev main_v1424 : Ref sig .tc := ⟨.hbm, 2740, rfl⟩
abbrev main_c_348 : Ref sig .tc := ⟨.hbm, 2741, rfl⟩
abbrev main_v1425 : Ref sig .tc := ⟨.hbm, 2742, rfl⟩
abbrev main_v1426 : Ref sig .tc := ⟨.hbm, 2743, rfl⟩
abbrev main_v1427 : Ref sig .tc := ⟨.hbm, 2744, rfl⟩
abbrev main_v1428 : Ref sig .tc := ⟨.hbm, 2745, rfl⟩
abbrev main_v1429 : Ref sig .tc := ⟨.hbm, 2746, rfl⟩
abbrev main_v1430 : Ref sig .tc := ⟨.hbm, 2747, rfl⟩
abbrev main_call86_c : Ref sig .tc := ⟨.hbm, 2748, rfl⟩
abbrev main_call86_v0 : Ref sig .tc := ⟨.hbm, 2749, rfl⟩
abbrev main_call86_v1 : Ref sig .tc := ⟨.hbm, 2750, rfl⟩
abbrev main_call86_c_0 : Ref sig .tc := ⟨.hbm, 2751, rfl⟩
abbrev main_call86_v2 : Ref sig .tc := ⟨.hbm, 2752, rfl⟩
abbrev main_call86_v3 : Ref sig .tc := ⟨.hbm, 2753, rfl⟩
abbrev main_call86_v4 : Ref sig .tc := ⟨.hbm, 2754, rfl⟩
abbrev main_call86_v5 : Ref sig .tc := ⟨.hbm, 2755, rfl⟩
abbrev main_call86_c_1 : Ref sig .tc := ⟨.hbm, 2756, rfl⟩
abbrev main_call86_c_2 : Ref sig .tc := ⟨.hbm, 2757, rfl⟩
abbrev main_call86_v6 : Ref sig .tc := ⟨.hbm, 2758, rfl⟩
abbrev main_call86_v7 : Ref sig .tc := ⟨.hbm, 2759, rfl⟩
abbrev main_call86_v8 : Ref sig .tc := ⟨.hbm, 2760, rfl⟩
abbrev main_call86_v9 : Ref sig .tc := ⟨.hbm, 2761, rfl⟩
abbrev main_call86_v10 : Ref sig .tc := ⟨.hbm, 2762, rfl⟩
abbrev main_call86_v11 : Ref sig .tc := ⟨.hbm, 2763, rfl⟩
abbrev main_call86_c_3 : Ref sig .tc := ⟨.hbm, 2764, rfl⟩
abbrev main_call86_v12 : Ref sig .tc := ⟨.hbm, 2765, rfl⟩
abbrev main_call86_v13 : Ref sig .tc := ⟨.hbm, 2766, rfl⟩
abbrev main_call86_cst : Ref sig .tc := ⟨.hbm, 2767, rfl⟩
abbrev main_call86_v14 : Ref sig .tc := ⟨.hbm, 2768, rfl⟩
abbrev main_v1431 : Ref sig .tc := ⟨.hbm, 2769, rfl⟩
abbrev main_v1432 : Ref sig .tc := ⟨.hbm, 2770, rfl⟩
abbrev main_v1433 : Ref sig .tc := ⟨.hbm, 2771, rfl⟩
abbrev main_v1434 : Ref sig .tc := ⟨.hbm, 2772, rfl⟩
abbrev main_v1435 : Ref sig .tc := ⟨.hbm, 2773, rfl⟩
abbrev main_v1436 : Ref sig .tc := ⟨.hbm, 2774, rfl⟩
abbrev main_v1437 : Ref sig .tc := ⟨.hbm, 2775, rfl⟩
abbrev main_v1438 : Ref sig .tc := ⟨.hbm, 2776, rfl⟩
abbrev main_v1439 : Ref sig .tc := ⟨.hbm, 2777, rfl⟩
abbrev main_v1440 : Ref sig .tc := ⟨.hbm, 2778, rfl⟩
abbrev main_cst_349 : Ref sig .tc := ⟨.hbm, 2779, rfl⟩
abbrev main_v1441 : Ref sig .tc := ⟨.hbm, 2780, rfl⟩
abbrev main_v1442 : Ref sig .tc := ⟨.hbm, 2781, rfl⟩
abbrev main_cst_350 : Ref sig .tc := ⟨.hbm, 2782, rfl⟩
abbrev main_v1443 : Ref sig .tc := ⟨.hbm, 2783, rfl⟩
abbrev main_v1444 : Ref sig .tc := ⟨.hbm, 2784, rfl⟩
abbrev main_v1445 : Ref sig .tc := ⟨.hbm, 2785, rfl⟩
abbrev main_cst_351 : Ref sig .tc := ⟨.hbm, 2786, rfl⟩
abbrev main_v1446 : Ref sig .tc := ⟨.hbm, 2787, rfl⟩
abbrev main_v1447 : Ref sig .tc := ⟨.hbm, 2788, rfl⟩
abbrev main_v1448 : Ref sig .tc := ⟨.hbm, 2789, rfl⟩
abbrev main_cst_352 : Ref sig .tc := ⟨.hbm, 2790, rfl⟩
abbrev main_v1449 : Ref sig .tc := ⟨.hbm, 2791, rfl⟩
abbrev main_v1450 : Ref sig .tc := ⟨.hbm, 2792, rfl⟩
abbrev main_v1451 : Ref sig .tc := ⟨.hbm, 2793, rfl⟩
abbrev main_c_353 : Ref sig .tc := ⟨.hbm, 2794, rfl⟩
abbrev main_c_354 : Ref sig .tc := ⟨.hbm, 2795, rfl⟩
abbrev main_call87_v0 : Ref sig .tc := ⟨.hbm, 2796, rfl⟩
abbrev main_call87_v1 : Ref sig .tc := ⟨.hbm, 2797, rfl⟩
abbrev main_call87_v2 : Ref sig .tc := ⟨.hbm, 2798, rfl⟩
abbrev main_call87_v3 : Ref sig .tc := ⟨.hbm, 2799, rfl⟩
abbrev main_call87_v4 : Ref sig .tc := ⟨.hbm, 2800, rfl⟩
abbrev main_v1452 : Ref sig .tc := ⟨.hbm, 2801, rfl⟩
abbrev main_v1453 : Ref sig .tc := ⟨.hbm, 2802, rfl⟩
abbrev main_c_355 : Ref sig .tc := ⟨.hbm, 2803, rfl⟩
abbrev main_c_356 : Ref sig .tc := ⟨.hbm, 2804, rfl⟩
abbrev main_call88_v0 : Ref sig .tc := ⟨.hbm, 2805, rfl⟩
abbrev main_call88_v1 : Ref sig .tc := ⟨.hbm, 2806, rfl⟩
abbrev main_call88_v2 : Ref sig .tc := ⟨.hbm, 2807, rfl⟩
abbrev main_call88_v3 : Ref sig .tc := ⟨.hbm, 2808, rfl⟩
abbrev main_call88_v4 : Ref sig .tc := ⟨.hbm, 2809, rfl⟩
abbrev main_v1454 : Ref sig .tc := ⟨.hbm, 2810, rfl⟩
abbrev main_v1455 : Ref sig .tc := ⟨.hbm, 2811, rfl⟩
abbrev main_c_357 : Ref sig .tc := ⟨.hbm, 2812, rfl⟩
abbrev main_v1456 : Ref sig .tc := ⟨.hbm, 2813, rfl⟩
abbrev main_v1457 : Ref sig .tc := ⟨.hbm, 2814, rfl⟩
abbrev main_v1458 : Ref sig .tc := ⟨.hbm, 2815, rfl⟩
abbrev main_v1459 : Ref sig .tc := ⟨.hbm, 2816, rfl⟩
abbrev main_v1460 : Ref sig .tc := ⟨.hbm, 2817, rfl⟩
abbrev main_v1461 : Ref sig .tc := ⟨.hbm, 2818, rfl⟩
abbrev main_call89_c : Ref sig .tc := ⟨.hbm, 2819, rfl⟩
abbrev main_call89_v0 : Ref sig .tc := ⟨.hbm, 2820, rfl⟩
abbrev main_call89_v1 : Ref sig .tc := ⟨.hbm, 2821, rfl⟩
abbrev main_call89_c_0 : Ref sig .tc := ⟨.hbm, 2822, rfl⟩
abbrev main_call89_v2 : Ref sig .tc := ⟨.hbm, 2823, rfl⟩
abbrev main_call89_v3 : Ref sig .tc := ⟨.hbm, 2824, rfl⟩
abbrev main_call89_v4 : Ref sig .tc := ⟨.hbm, 2825, rfl⟩
abbrev main_call89_v5 : Ref sig .tc := ⟨.hbm, 2826, rfl⟩
abbrev main_call89_c_1 : Ref sig .tc := ⟨.hbm, 2827, rfl⟩
abbrev main_call89_c_2 : Ref sig .tc := ⟨.hbm, 2828, rfl⟩
abbrev main_call89_v6 : Ref sig .tc := ⟨.hbm, 2829, rfl⟩
abbrev main_call89_v7 : Ref sig .tc := ⟨.hbm, 2830, rfl⟩
abbrev main_call89_v8 : Ref sig .tc := ⟨.hbm, 2831, rfl⟩
abbrev main_call89_v9 : Ref sig .tc := ⟨.hbm, 2832, rfl⟩
abbrev main_call89_v10 : Ref sig .tc := ⟨.hbm, 2833, rfl⟩
abbrev main_call89_v11 : Ref sig .tc := ⟨.hbm, 2834, rfl⟩
abbrev main_call89_c_3 : Ref sig .tc := ⟨.hbm, 2835, rfl⟩
abbrev main_call89_v12 : Ref sig .tc := ⟨.hbm, 2836, rfl⟩
abbrev main_call89_v13 : Ref sig .tc := ⟨.hbm, 2837, rfl⟩
abbrev main_call89_cst : Ref sig .tc := ⟨.hbm, 2838, rfl⟩
abbrev main_call89_v14 : Ref sig .tc := ⟨.hbm, 2839, rfl⟩
abbrev main_v1462 : Ref sig .tc := ⟨.hbm, 2840, rfl⟩
abbrev main_v1463 : Ref sig .tc := ⟨.hbm, 2841, rfl⟩
abbrev main_v1464 : Ref sig .tc := ⟨.hbm, 2842, rfl⟩
abbrev main_v1465 : Ref sig .tc := ⟨.hbm, 2843, rfl⟩
abbrev main_v1466 : Ref sig .tc := ⟨.hbm, 2844, rfl⟩
abbrev main_v1467 : Ref sig .tc := ⟨.hbm, 2845, rfl⟩
abbrev main_v1468 : Ref sig .tc := ⟨.hbm, 2846, rfl⟩
abbrev main_v1469 : Ref sig .tc := ⟨.hbm, 2847, rfl⟩
abbrev main_v1470 : Ref sig .tc := ⟨.hbm, 2848, rfl⟩
abbrev main_v1471 : Ref sig .tc := ⟨.hbm, 2849, rfl⟩
abbrev main_cst_358 : Ref sig .tc := ⟨.hbm, 2850, rfl⟩
abbrev main_v1472 : Ref sig .tc := ⟨.hbm, 2851, rfl⟩
abbrev main_v1473 : Ref sig .tc := ⟨.hbm, 2852, rfl⟩
abbrev main_cst_359 : Ref sig .tc := ⟨.hbm, 2853, rfl⟩
abbrev main_v1474 : Ref sig .tc := ⟨.hbm, 2854, rfl⟩
abbrev main_v1475 : Ref sig .tc := ⟨.hbm, 2855, rfl⟩
abbrev main_v1476 : Ref sig .tc := ⟨.hbm, 2856, rfl⟩
abbrev main_cst_360 : Ref sig .tc := ⟨.hbm, 2857, rfl⟩
abbrev main_v1477 : Ref sig .tc := ⟨.hbm, 2858, rfl⟩
abbrev main_v1478 : Ref sig .tc := ⟨.hbm, 2859, rfl⟩
abbrev main_v1479 : Ref sig .tc := ⟨.hbm, 2860, rfl⟩
abbrev main_cst_361 : Ref sig .tc := ⟨.hbm, 2861, rfl⟩
abbrev main_v1480 : Ref sig .tc := ⟨.hbm, 2862, rfl⟩
abbrev main_v1481 : Ref sig .tc := ⟨.hbm, 2863, rfl⟩
abbrev main_v1482 : Ref sig .tc := ⟨.hbm, 2864, rfl⟩
abbrev main_c_362 : Ref sig .tc := ⟨.hbm, 2865, rfl⟩
abbrev main_c_363 : Ref sig .tc := ⟨.hbm, 2866, rfl⟩
abbrev main_call90_v0 : Ref sig .tc := ⟨.hbm, 2867, rfl⟩
abbrev main_call90_v1 : Ref sig .tc := ⟨.hbm, 2868, rfl⟩
abbrev main_call90_v2 : Ref sig .tc := ⟨.hbm, 2869, rfl⟩
abbrev main_call90_v3 : Ref sig .tc := ⟨.hbm, 2870, rfl⟩
abbrev main_call90_v4 : Ref sig .tc := ⟨.hbm, 2871, rfl⟩
abbrev main_v1483 : Ref sig .tc := ⟨.hbm, 2872, rfl⟩
abbrev main_v1484 : Ref sig .tc := ⟨.hbm, 2873, rfl⟩
abbrev main_c_364 : Ref sig .tc := ⟨.hbm, 2874, rfl⟩
abbrev main_c_365 : Ref sig .tc := ⟨.hbm, 2875, rfl⟩
abbrev main_call91_v0 : Ref sig .tc := ⟨.hbm, 2876, rfl⟩
abbrev main_call91_v1 : Ref sig .tc := ⟨.hbm, 2877, rfl⟩
abbrev main_call91_v2 : Ref sig .tc := ⟨.hbm, 2878, rfl⟩
abbrev main_call91_v3 : Ref sig .tc := ⟨.hbm, 2879, rfl⟩
abbrev main_call91_v4 : Ref sig .tc := ⟨.hbm, 2880, rfl⟩
abbrev main_v1485 : Ref sig .tc := ⟨.hbm, 2881, rfl⟩
abbrev main_v1486 : Ref sig .tc := ⟨.hbm, 2882, rfl⟩
abbrev main_c_366 : Ref sig .tc := ⟨.hbm, 2883, rfl⟩
abbrev main_v1487 : Ref sig .tc := ⟨.hbm, 2884, rfl⟩
abbrev main_v1488 : Ref sig .tc := ⟨.hbm, 2885, rfl⟩
abbrev main_v1489 : Ref sig .tc := ⟨.hbm, 2886, rfl⟩
abbrev main_v1490 : Ref sig .tc := ⟨.hbm, 2887, rfl⟩
abbrev main_v1491 : Ref sig .tc := ⟨.hbm, 2888, rfl⟩
abbrev main_v1492 : Ref sig .tc := ⟨.hbm, 2889, rfl⟩
abbrev main_call92_c : Ref sig .tc := ⟨.hbm, 2890, rfl⟩
abbrev main_call92_v0 : Ref sig .tc := ⟨.hbm, 2891, rfl⟩
abbrev main_call92_v1 : Ref sig .tc := ⟨.hbm, 2892, rfl⟩
abbrev main_call92_c_0 : Ref sig .tc := ⟨.hbm, 2893, rfl⟩
abbrev main_call92_v2 : Ref sig .tc := ⟨.hbm, 2894, rfl⟩
abbrev main_call92_v3 : Ref sig .tc := ⟨.hbm, 2895, rfl⟩
abbrev main_call92_v4 : Ref sig .tc := ⟨.hbm, 2896, rfl⟩
abbrev main_call92_v5 : Ref sig .tc := ⟨.hbm, 2897, rfl⟩
abbrev main_call92_c_1 : Ref sig .tc := ⟨.hbm, 2898, rfl⟩
abbrev main_call92_c_2 : Ref sig .tc := ⟨.hbm, 2899, rfl⟩
abbrev main_call92_v6 : Ref sig .tc := ⟨.hbm, 2900, rfl⟩
abbrev main_call92_v7 : Ref sig .tc := ⟨.hbm, 2901, rfl⟩
abbrev main_call92_v8 : Ref sig .tc := ⟨.hbm, 2902, rfl⟩
abbrev main_call92_v9 : Ref sig .tc := ⟨.hbm, 2903, rfl⟩
abbrev main_call92_v10 : Ref sig .tc := ⟨.hbm, 2904, rfl⟩
abbrev main_call92_v11 : Ref sig .tc := ⟨.hbm, 2905, rfl⟩
abbrev main_call92_c_3 : Ref sig .tc := ⟨.hbm, 2906, rfl⟩
abbrev main_call92_v12 : Ref sig .tc := ⟨.hbm, 2907, rfl⟩
abbrev main_call92_v13 : Ref sig .tc := ⟨.hbm, 2908, rfl⟩
abbrev main_call92_cst : Ref sig .tc := ⟨.hbm, 2909, rfl⟩
abbrev main_call92_v14 : Ref sig .tc := ⟨.hbm, 2910, rfl⟩
abbrev main_v1493 : Ref sig .tc := ⟨.hbm, 2911, rfl⟩
abbrev main_v1494 : Ref sig .tc := ⟨.hbm, 2912, rfl⟩
abbrev main_v1495 : Ref sig .tc := ⟨.hbm, 2913, rfl⟩
abbrev main_v1496 : Ref sig .tc := ⟨.hbm, 2914, rfl⟩
abbrev main_v1497 : Ref sig .tc := ⟨.hbm, 2915, rfl⟩
abbrev main_v1498 : Ref sig .tc := ⟨.hbm, 2916, rfl⟩
abbrev main_v1499 : Ref sig .tc := ⟨.hbm, 2917, rfl⟩
abbrev main_v1500 : Ref sig .tc := ⟨.hbm, 2918, rfl⟩
abbrev main_v1501 : Ref sig .tc := ⟨.hbm, 2919, rfl⟩
abbrev main_v1502 : Ref sig .tc := ⟨.hbm, 2920, rfl⟩
abbrev main_v1503 : Ref sig .tc := ⟨.hbm, 2921, rfl⟩
abbrev main_v1504 : Ref sig .tc := ⟨.hbm, 2922, rfl⟩
abbrev main_v1505 : Ref sig .tc := ⟨.hbm, 2923, rfl⟩
abbrev main_v1506 : Ref sig .tc := ⟨.hbm, 2924, rfl⟩
abbrev main_v1507 : Ref sig .tc := ⟨.hbm, 2925, rfl⟩
abbrev main_v1508 : Ref sig .tc := ⟨.hbm, 2926, rfl⟩
abbrev main_v1509 : Ref sig .tc := ⟨.hbm, 2927, rfl⟩
abbrev main_v1510 : Ref sig .tc := ⟨.hbm, 2928, rfl⟩
abbrev main_v1511 : Ref sig .tc := ⟨.hbm, 2929, rfl⟩
abbrev main_cst_367 : Ref sig .tc := ⟨.hbm, 2930, rfl⟩
abbrev main_v1512 : Ref sig .tc := ⟨.hbm, 2931, rfl⟩
abbrev main_v1513 : Ref sig .tc := ⟨.hbm, 2932, rfl⟩
abbrev main_cst_368 : Ref sig .tc := ⟨.hbm, 2933, rfl⟩
abbrev main_v1514 : Ref sig .tc := ⟨.hbm, 2934, rfl⟩
abbrev main_v1515 : Ref sig .tc := ⟨.hbm, 2935, rfl⟩
abbrev main_cst_369 : Ref sig .tc := ⟨.hbm, 2936, rfl⟩
abbrev main_v1516 : Ref sig .tc := ⟨.hbm, 2937, rfl⟩
abbrev main_v1517 : Ref sig .tc := ⟨.hbm, 2938, rfl⟩
abbrev main_cst_370 : Ref sig .tc := ⟨.hbm, 2939, rfl⟩
abbrev main_v1518 : Ref sig .tc := ⟨.hbm, 2940, rfl⟩
abbrev main_v1519 : Ref sig .tc := ⟨.hbm, 2941, rfl⟩
abbrev main_v1520 : Ref sig .tc := ⟨.hbm, 2942, rfl⟩
abbrev main_v1521 : Ref sig .tc := ⟨.hbm, 2943, rfl⟩
abbrev main_cst_371 : Ref sig .tc := ⟨.hbm, 2944, rfl⟩
abbrev main_v1522 : Ref sig .tc := ⟨.hbm, 2945, rfl⟩
abbrev main_v1523 : Ref sig .tc := ⟨.hbm, 2946, rfl⟩
abbrev main_cst_372 : Ref sig .tc := ⟨.hbm, 2947, rfl⟩
abbrev main_v1524 : Ref sig .tc := ⟨.hbm, 2948, rfl⟩
abbrev main_v1525 : Ref sig .tc := ⟨.hbm, 2949, rfl⟩
abbrev main_cst_373 : Ref sig .tc := ⟨.hbm, 2950, rfl⟩
abbrev main_v1526 : Ref sig .tc := ⟨.hbm, 2951, rfl⟩
abbrev main_v1527 : Ref sig .tc := ⟨.hbm, 2952, rfl⟩
abbrev main_cst_374 : Ref sig .tc := ⟨.hbm, 2953, rfl⟩
abbrev main_v1528 : Ref sig .tc := ⟨.hbm, 2954, rfl⟩
abbrev main_v1529 : Ref sig .tc := ⟨.hbm, 2955, rfl⟩
abbrev main_v1530 : Ref sig .tc := ⟨.hbm, 2956, rfl⟩
abbrev main_v1531 : Ref sig .tc := ⟨.hbm, 2957, rfl⟩
abbrev main_cst_375 : Ref sig .tc := ⟨.hbm, 2958, rfl⟩
abbrev main_v1532 : Ref sig .tc := ⟨.hbm, 2959, rfl⟩
abbrev main_v1533 : Ref sig .tc := ⟨.hbm, 2960, rfl⟩
abbrev main_cst_376 : Ref sig .tc := ⟨.hbm, 2961, rfl⟩
abbrev main_v1534 : Ref sig .tc := ⟨.hbm, 2962, rfl⟩
abbrev main_v1535 : Ref sig .tc := ⟨.hbm, 2963, rfl⟩
abbrev main_v1536 : Ref sig .tc := ⟨.hbm, 2964, rfl⟩
abbrev main_v1537 : Ref sig .tc := ⟨.hbm, 2965, rfl⟩
abbrev main_v1538 : Ref sig .tc := ⟨.hbm, 2966, rfl⟩
abbrev main_v1539 : Ref sig .tc := ⟨.hbm, 2967, rfl⟩
abbrev main_v1540 : Ref sig .tc := ⟨.hbm, 2968, rfl⟩
abbrev main_v1541 : Ref sig .tc := ⟨.hbm, 2969, rfl⟩
abbrev main_v1542 : Ref sig .tc := ⟨.hbm, 2970, rfl⟩
abbrev main_v1543 : Ref sig .tc := ⟨.hbm, 2971, rfl⟩
abbrev main_v1544 : Ref sig .tc := ⟨.hbm, 2972, rfl⟩
abbrev main_v1545 : Ref sig .tc := ⟨.hbm, 2973, rfl⟩
abbrev main_v1546 : Ref sig .tc := ⟨.hbm, 2974, rfl⟩
abbrev main_v1547 : Ref sig .tc := ⟨.hbm, 2975, rfl⟩
abbrev main_v1548 : Ref sig .tc := ⟨.hbm, 2976, rfl⟩
abbrev main_cst_377 : Ref sig .tc := ⟨.hbm, 2977, rfl⟩
abbrev main_v1549 : Ref sig .tc := ⟨.hbm, 2978, rfl⟩
abbrev main_v1550 : Ref sig .tc := ⟨.hbm, 2979, rfl⟩
abbrev main_cst_378 : Ref sig .tc := ⟨.hbm, 2980, rfl⟩
abbrev main_v1551 : Ref sig .tc := ⟨.hbm, 2981, rfl⟩
abbrev main_v1552 : Ref sig .tc := ⟨.hbm, 2982, rfl⟩
abbrev main_v1553 : Ref sig .tc := ⟨.hbm, 2983, rfl⟩
abbrev main_cst_379 : Ref sig .tc := ⟨.hbm, 2984, rfl⟩
abbrev main_v1554 : Ref sig .tc := ⟨.hbm, 2985, rfl⟩
abbrev main_v1555 : Ref sig .tc := ⟨.hbm, 2986, rfl⟩
abbrev main_v1556 : Ref sig .tc := ⟨.hbm, 2987, rfl⟩
abbrev main_cst_380 : Ref sig .tc := ⟨.hbm, 2988, rfl⟩
abbrev main_v1557 : Ref sig .tc := ⟨.hbm, 2989, rfl⟩
abbrev main_v1558 : Ref sig .tc := ⟨.hbm, 2990, rfl⟩
abbrev main_v1559 : Ref sig .tc := ⟨.hbm, 2991, rfl⟩
abbrev main_c_381 : Ref sig .tc := ⟨.hbm, 2992, rfl⟩
abbrev main_c_382 : Ref sig .tc := ⟨.hbm, 2993, rfl⟩
abbrev main_call93_v0 : Ref sig .tc := ⟨.hbm, 2994, rfl⟩
abbrev main_call93_v1 : Ref sig .tc := ⟨.hbm, 2995, rfl⟩
abbrev main_call93_v2 : Ref sig .tc := ⟨.hbm, 2996, rfl⟩
abbrev main_call93_v3 : Ref sig .tc := ⟨.hbm, 2997, rfl⟩
abbrev main_call93_v4 : Ref sig .tc := ⟨.hbm, 2998, rfl⟩
abbrev main_v1560 : Ref sig .tc := ⟨.hbm, 2999, rfl⟩
abbrev main_v1561 : Ref sig .tc := ⟨.hbm, 3000, rfl⟩
abbrev main_c_383 : Ref sig .tc := ⟨.hbm, 3001, rfl⟩
abbrev main_c_384 : Ref sig .tc := ⟨.hbm, 3002, rfl⟩
abbrev main_call94_v0 : Ref sig .tc := ⟨.hbm, 3003, rfl⟩
abbrev main_call94_v1 : Ref sig .tc := ⟨.hbm, 3004, rfl⟩
abbrev main_call94_v2 : Ref sig .tc := ⟨.hbm, 3005, rfl⟩
abbrev main_call94_v3 : Ref sig .tc := ⟨.hbm, 3006, rfl⟩
abbrev main_call94_v4 : Ref sig .tc := ⟨.hbm, 3007, rfl⟩
abbrev main_v1562 : Ref sig .tc := ⟨.hbm, 3008, rfl⟩
abbrev main_v1563 : Ref sig .tc := ⟨.hbm, 3009, rfl⟩
abbrev main_c_385 : Ref sig .tc := ⟨.hbm, 3010, rfl⟩
abbrev main_v1564 : Ref sig .tc := ⟨.hbm, 3011, rfl⟩
abbrev main_v1565 : Ref sig .tc := ⟨.hbm, 3012, rfl⟩
abbrev main_v1566 : Ref sig .tc := ⟨.hbm, 3013, rfl⟩
abbrev main_v1567 : Ref sig .tc := ⟨.hbm, 3014, rfl⟩
abbrev main_v1568 : Ref sig .tc := ⟨.hbm, 3015, rfl⟩
abbrev main_v1569 : Ref sig .tc := ⟨.hbm, 3016, rfl⟩
abbrev main_call95_c : Ref sig .tc := ⟨.hbm, 3017, rfl⟩
abbrev main_call95_v0 : Ref sig .tc := ⟨.hbm, 3018, rfl⟩
abbrev main_call95_v1 : Ref sig .tc := ⟨.hbm, 3019, rfl⟩
abbrev main_call95_c_0 : Ref sig .tc := ⟨.hbm, 3020, rfl⟩
abbrev main_call95_v2 : Ref sig .tc := ⟨.hbm, 3021, rfl⟩
abbrev main_call95_v3 : Ref sig .tc := ⟨.hbm, 3022, rfl⟩
abbrev main_call95_v4 : Ref sig .tc := ⟨.hbm, 3023, rfl⟩
abbrev main_call95_v5 : Ref sig .tc := ⟨.hbm, 3024, rfl⟩
abbrev main_call95_c_1 : Ref sig .tc := ⟨.hbm, 3025, rfl⟩
abbrev main_call95_c_2 : Ref sig .tc := ⟨.hbm, 3026, rfl⟩
abbrev main_call95_v6 : Ref sig .tc := ⟨.hbm, 3027, rfl⟩
abbrev main_call95_v7 : Ref sig .tc := ⟨.hbm, 3028, rfl⟩
abbrev main_call95_v8 : Ref sig .tc := ⟨.hbm, 3029, rfl⟩
abbrev main_call95_v9 : Ref sig .tc := ⟨.hbm, 3030, rfl⟩
abbrev main_call95_v10 : Ref sig .tc := ⟨.hbm, 3031, rfl⟩
abbrev main_call95_v11 : Ref sig .tc := ⟨.hbm, 3032, rfl⟩
abbrev main_call95_c_3 : Ref sig .tc := ⟨.hbm, 3033, rfl⟩
abbrev main_call95_v12 : Ref sig .tc := ⟨.hbm, 3034, rfl⟩
abbrev main_call95_v13 : Ref sig .tc := ⟨.hbm, 3035, rfl⟩
abbrev main_call95_cst : Ref sig .tc := ⟨.hbm, 3036, rfl⟩
abbrev main_call95_v14 : Ref sig .tc := ⟨.hbm, 3037, rfl⟩
abbrev main_v1570 : Ref sig .tc := ⟨.hbm, 3038, rfl⟩
abbrev main_v1571 : Ref sig .tc := ⟨.hbm, 3039, rfl⟩
abbrev main_v1572 : Ref sig .tc := ⟨.hbm, 3040, rfl⟩
abbrev main_v1573 : Ref sig .tc := ⟨.hbm, 3041, rfl⟩
abbrev main_v1574 : Ref sig .tc := ⟨.hbm, 3042, rfl⟩
abbrev main_v1575 : Ref sig .tc := ⟨.hbm, 3043, rfl⟩
abbrev main_v1576 : Ref sig .tc := ⟨.hbm, 3044, rfl⟩
abbrev main_v1577 : Ref sig .tc := ⟨.hbm, 3045, rfl⟩
abbrev main_v1578 : Ref sig .tc := ⟨.hbm, 3046, rfl⟩
abbrev main_cst_386 : Ref sig .tc := ⟨.hbm, 3047, rfl⟩
abbrev main_v1579 : Ref sig .tc := ⟨.hbm, 3048, rfl⟩
abbrev main_v1580 : Ref sig .tc := ⟨.hbm, 3049, rfl⟩
abbrev main_cst_387 : Ref sig .tc := ⟨.hbm, 3050, rfl⟩
abbrev main_v1581 : Ref sig .tc := ⟨.hbm, 3051, rfl⟩
abbrev main_v1582 : Ref sig .tc := ⟨.hbm, 3052, rfl⟩
abbrev main_v1583 : Ref sig .tc := ⟨.hbm, 3053, rfl⟩
abbrev main_cst_388 : Ref sig .tc := ⟨.hbm, 3054, rfl⟩
abbrev main_v1584 : Ref sig .tc := ⟨.hbm, 3055, rfl⟩
abbrev main_v1585 : Ref sig .tc := ⟨.hbm, 3056, rfl⟩
abbrev main_v1586 : Ref sig .tc := ⟨.hbm, 3057, rfl⟩
abbrev main_cst_389 : Ref sig .tc := ⟨.hbm, 3058, rfl⟩
abbrev main_v1587 : Ref sig .tc := ⟨.hbm, 3059, rfl⟩
abbrev main_v1588 : Ref sig .tc := ⟨.hbm, 3060, rfl⟩
abbrev main_v1589 : Ref sig .tc := ⟨.hbm, 3061, rfl⟩
abbrev main_c_390 : Ref sig .tc := ⟨.hbm, 3062, rfl⟩
abbrev main_c_391 : Ref sig .tc := ⟨.hbm, 3063, rfl⟩
abbrev main_call96_v0 : Ref sig .tc := ⟨.hbm, 3064, rfl⟩
abbrev main_call96_v1 : Ref sig .tc := ⟨.hbm, 3065, rfl⟩
abbrev main_call96_v2 : Ref sig .tc := ⟨.hbm, 3066, rfl⟩
abbrev main_call96_v3 : Ref sig .tc := ⟨.hbm, 3067, rfl⟩
abbrev main_call96_v4 : Ref sig .tc := ⟨.hbm, 3068, rfl⟩
abbrev main_v1590 : Ref sig .tc := ⟨.hbm, 3069, rfl⟩
abbrev main_v1591 : Ref sig .tc := ⟨.hbm, 3070, rfl⟩
abbrev main_c_392 : Ref sig .tc := ⟨.hbm, 3071, rfl⟩
abbrev main_c_393 : Ref sig .tc := ⟨.hbm, 3072, rfl⟩
abbrev main_call97_v0 : Ref sig .tc := ⟨.hbm, 3073, rfl⟩
abbrev main_call97_v1 : Ref sig .tc := ⟨.hbm, 3074, rfl⟩
abbrev main_call97_v2 : Ref sig .tc := ⟨.hbm, 3075, rfl⟩
abbrev main_call97_v3 : Ref sig .tc := ⟨.hbm, 3076, rfl⟩
abbrev main_call97_v4 : Ref sig .tc := ⟨.hbm, 3077, rfl⟩
abbrev main_v1592 : Ref sig .tc := ⟨.hbm, 3078, rfl⟩
abbrev main_v1593 : Ref sig .tc := ⟨.hbm, 3079, rfl⟩
abbrev main_c_394 : Ref sig .tc := ⟨.hbm, 3080, rfl⟩
abbrev main_v1594 : Ref sig .tc := ⟨.hbm, 3081, rfl⟩
abbrev main_v1595 : Ref sig .tc := ⟨.hbm, 3082, rfl⟩
abbrev main_v1596 : Ref sig .tc := ⟨.hbm, 3083, rfl⟩
abbrev main_v1597 : Ref sig .tc := ⟨.hbm, 3084, rfl⟩
abbrev main_v1598 : Ref sig .tc := ⟨.hbm, 3085, rfl⟩
abbrev main_v1599 : Ref sig .tc := ⟨.hbm, 3086, rfl⟩
abbrev main_call98_c : Ref sig .tc := ⟨.hbm, 3087, rfl⟩
abbrev main_call98_v0 : Ref sig .tc := ⟨.hbm, 3088, rfl⟩
abbrev main_call98_v1 : Ref sig .tc := ⟨.hbm, 3089, rfl⟩
abbrev main_call98_c_0 : Ref sig .tc := ⟨.hbm, 3090, rfl⟩
abbrev main_call98_v2 : Ref sig .tc := ⟨.hbm, 3091, rfl⟩
abbrev main_call98_v3 : Ref sig .tc := ⟨.hbm, 3092, rfl⟩
abbrev main_call98_v4 : Ref sig .tc := ⟨.hbm, 3093, rfl⟩
abbrev main_call98_v5 : Ref sig .tc := ⟨.hbm, 3094, rfl⟩
abbrev main_call98_c_1 : Ref sig .tc := ⟨.hbm, 3095, rfl⟩
abbrev main_call98_c_2 : Ref sig .tc := ⟨.hbm, 3096, rfl⟩
abbrev main_call98_v6 : Ref sig .tc := ⟨.hbm, 3097, rfl⟩
abbrev main_call98_v7 : Ref sig .tc := ⟨.hbm, 3098, rfl⟩
abbrev main_call98_v8 : Ref sig .tc := ⟨.hbm, 3099, rfl⟩
abbrev main_call98_v9 : Ref sig .tc := ⟨.hbm, 3100, rfl⟩
abbrev main_call98_v10 : Ref sig .tc := ⟨.hbm, 3101, rfl⟩
abbrev main_call98_v11 : Ref sig .tc := ⟨.hbm, 3102, rfl⟩
abbrev main_call98_c_3 : Ref sig .tc := ⟨.hbm, 3103, rfl⟩
abbrev main_call98_v12 : Ref sig .tc := ⟨.hbm, 3104, rfl⟩
abbrev main_call98_v13 : Ref sig .tc := ⟨.hbm, 3105, rfl⟩
abbrev main_call98_cst : Ref sig .tc := ⟨.hbm, 3106, rfl⟩
abbrev main_call98_v14 : Ref sig .tc := ⟨.hbm, 3107, rfl⟩
abbrev main_v1600 : Ref sig .tc := ⟨.hbm, 3108, rfl⟩
abbrev main_v1601 : Ref sig .tc := ⟨.hbm, 3109, rfl⟩
abbrev main_v1602 : Ref sig .tc := ⟨.hbm, 3110, rfl⟩
abbrev main_v1603 : Ref sig .tc := ⟨.hbm, 3111, rfl⟩
abbrev main_v1604 : Ref sig .tc := ⟨.hbm, 3112, rfl⟩
abbrev main_v1605 : Ref sig .tc := ⟨.hbm, 3113, rfl⟩
abbrev main_v1606 : Ref sig .tc := ⟨.hbm, 3114, rfl⟩
abbrev main_v1607 : Ref sig .tc := ⟨.hbm, 3115, rfl⟩
abbrev main_v1608 : Ref sig .tc := ⟨.hbm, 3116, rfl⟩
abbrev main_v1609 : Ref sig .tc := ⟨.hbm, 3117, rfl⟩
abbrev main_cst_395 : Ref sig .tc := ⟨.hbm, 3118, rfl⟩
abbrev main_v1610 : Ref sig .tc := ⟨.hbm, 3119, rfl⟩
abbrev main_v1611 : Ref sig .tc := ⟨.hbm, 3120, rfl⟩
abbrev main_cst_396 : Ref sig .tc := ⟨.hbm, 3121, rfl⟩
abbrev main_v1612 : Ref sig .tc := ⟨.hbm, 3122, rfl⟩
abbrev main_v1613 : Ref sig .tc := ⟨.hbm, 3123, rfl⟩
abbrev main_v1614 : Ref sig .tc := ⟨.hbm, 3124, rfl⟩
abbrev main_cst_397 : Ref sig .tc := ⟨.hbm, 3125, rfl⟩
abbrev main_v1615 : Ref sig .tc := ⟨.hbm, 3126, rfl⟩
abbrev main_v1616 : Ref sig .tc := ⟨.hbm, 3127, rfl⟩
abbrev main_v1617 : Ref sig .tc := ⟨.hbm, 3128, rfl⟩
abbrev main_cst_398 : Ref sig .tc := ⟨.hbm, 3129, rfl⟩
abbrev main_v1618 : Ref sig .tc := ⟨.hbm, 3130, rfl⟩
abbrev main_v1619 : Ref sig .tc := ⟨.hbm, 3131, rfl⟩
abbrev main_v1620 : Ref sig .tc := ⟨.hbm, 3132, rfl⟩
abbrev main_c_399 : Ref sig .tc := ⟨.hbm, 3133, rfl⟩
abbrev main_c_400 : Ref sig .tc := ⟨.hbm, 3134, rfl⟩
abbrev main_call99_v0 : Ref sig .tc := ⟨.hbm, 3135, rfl⟩
abbrev main_call99_v1 : Ref sig .tc := ⟨.hbm, 3136, rfl⟩
abbrev main_call99_v2 : Ref sig .tc := ⟨.hbm, 3137, rfl⟩
abbrev main_call99_v3 : Ref sig .tc := ⟨.hbm, 3138, rfl⟩
abbrev main_call99_v4 : Ref sig .tc := ⟨.hbm, 3139, rfl⟩
abbrev main_v1621 : Ref sig .tc := ⟨.hbm, 3140, rfl⟩
abbrev main_v1622 : Ref sig .tc := ⟨.hbm, 3141, rfl⟩
abbrev main_c_401 : Ref sig .tc := ⟨.hbm, 3142, rfl⟩
abbrev main_c_402 : Ref sig .tc := ⟨.hbm, 3143, rfl⟩
abbrev main_call100_v0 : Ref sig .tc := ⟨.hbm, 3144, rfl⟩
abbrev main_call100_v1 : Ref sig .tc := ⟨.hbm, 3145, rfl⟩
abbrev main_call100_v2 : Ref sig .tc := ⟨.hbm, 3146, rfl⟩
abbrev main_call100_v3 : Ref sig .tc := ⟨.hbm, 3147, rfl⟩
abbrev main_call100_v4 : Ref sig .tc := ⟨.hbm, 3148, rfl⟩
abbrev main_v1623 : Ref sig .tc := ⟨.hbm, 3149, rfl⟩
abbrev main_v1624 : Ref sig .tc := ⟨.hbm, 3150, rfl⟩
abbrev main_c_403 : Ref sig .tc := ⟨.hbm, 3151, rfl⟩
abbrev main_v1625 : Ref sig .tc := ⟨.hbm, 3152, rfl⟩
abbrev main_v1626 : Ref sig .tc := ⟨.hbm, 3153, rfl⟩
abbrev main_v1627 : Ref sig .tc := ⟨.hbm, 3154, rfl⟩
abbrev main_v1628 : Ref sig .tc := ⟨.hbm, 3155, rfl⟩
abbrev main_v1629 : Ref sig .tc := ⟨.hbm, 3156, rfl⟩
abbrev main_v1630 : Ref sig .tc := ⟨.hbm, 3157, rfl⟩
abbrev main_call101_c : Ref sig .tc := ⟨.hbm, 3158, rfl⟩
abbrev main_call101_v0 : Ref sig .tc := ⟨.hbm, 3159, rfl⟩
abbrev main_call101_v1 : Ref sig .tc := ⟨.hbm, 3160, rfl⟩
abbrev main_call101_c_0 : Ref sig .tc := ⟨.hbm, 3161, rfl⟩
abbrev main_call101_v2 : Ref sig .tc := ⟨.hbm, 3162, rfl⟩
abbrev main_call101_v3 : Ref sig .tc := ⟨.hbm, 3163, rfl⟩
abbrev main_call101_v4 : Ref sig .tc := ⟨.hbm, 3164, rfl⟩
abbrev main_call101_v5 : Ref sig .tc := ⟨.hbm, 3165, rfl⟩
abbrev main_call101_c_1 : Ref sig .tc := ⟨.hbm, 3166, rfl⟩
abbrev main_call101_c_2 : Ref sig .tc := ⟨.hbm, 3167, rfl⟩
abbrev main_call101_v6 : Ref sig .tc := ⟨.hbm, 3168, rfl⟩
abbrev main_call101_v7 : Ref sig .tc := ⟨.hbm, 3169, rfl⟩
abbrev main_call101_v8 : Ref sig .tc := ⟨.hbm, 3170, rfl⟩
abbrev main_call101_v9 : Ref sig .tc := ⟨.hbm, 3171, rfl⟩
abbrev main_call101_v10 : Ref sig .tc := ⟨.hbm, 3172, rfl⟩
abbrev main_call101_v11 : Ref sig .tc := ⟨.hbm, 3173, rfl⟩
abbrev main_call101_c_3 : Ref sig .tc := ⟨.hbm, 3174, rfl⟩
abbrev main_call101_v12 : Ref sig .tc := ⟨.hbm, 3175, rfl⟩
abbrev main_call101_v13 : Ref sig .tc := ⟨.hbm, 3176, rfl⟩
abbrev main_call101_cst : Ref sig .tc := ⟨.hbm, 3177, rfl⟩
abbrev main_call101_v14 : Ref sig .tc := ⟨.hbm, 3178, rfl⟩
abbrev main_v1631 : Ref sig .tc := ⟨.hbm, 3179, rfl⟩
abbrev main_v1632 : Ref sig .tc := ⟨.hbm, 3180, rfl⟩
abbrev main_v1633 : Ref sig .tc := ⟨.hbm, 3181, rfl⟩
abbrev main_v1634 : Ref sig .tc := ⟨.hbm, 3182, rfl⟩
abbrev main_v1635 : Ref sig .tc := ⟨.hbm, 3183, rfl⟩
abbrev main_v1636 : Ref sig .tc := ⟨.hbm, 3184, rfl⟩
abbrev main_v1637 : Ref sig .tc := ⟨.hbm, 3185, rfl⟩
abbrev main_v1638 : Ref sig .tc := ⟨.hbm, 3186, rfl⟩
abbrev main_v1639 : Ref sig .tc := ⟨.hbm, 3187, rfl⟩
abbrev main_v1640 : Ref sig .tc := ⟨.hbm, 3188, rfl⟩
abbrev main_cst_404 : Ref sig .tc := ⟨.hbm, 3189, rfl⟩
abbrev main_v1641 : Ref sig .tc := ⟨.hbm, 3190, rfl⟩
abbrev main_v1642 : Ref sig .tc := ⟨.hbm, 3191, rfl⟩
abbrev main_cst_405 : Ref sig .tc := ⟨.hbm, 3192, rfl⟩
abbrev main_v1643 : Ref sig .tc := ⟨.hbm, 3193, rfl⟩
abbrev main_v1644 : Ref sig .tc := ⟨.hbm, 3194, rfl⟩
abbrev main_v1645 : Ref sig .tc := ⟨.hbm, 3195, rfl⟩
abbrev main_cst_406 : Ref sig .tc := ⟨.hbm, 3196, rfl⟩
abbrev main_v1646 : Ref sig .tc := ⟨.hbm, 3197, rfl⟩
abbrev main_v1647 : Ref sig .tc := ⟨.hbm, 3198, rfl⟩
abbrev main_v1648 : Ref sig .tc := ⟨.hbm, 3199, rfl⟩
abbrev main_cst_407 : Ref sig .tc := ⟨.hbm, 3200, rfl⟩
abbrev main_v1649 : Ref sig .tc := ⟨.hbm, 3201, rfl⟩
abbrev main_v1650 : Ref sig .tc := ⟨.hbm, 3202, rfl⟩
abbrev main_v1651 : Ref sig .tc := ⟨.hbm, 3203, rfl⟩
abbrev main_c_408 : Ref sig .tc := ⟨.hbm, 3204, rfl⟩
abbrev main_c_409 : Ref sig .tc := ⟨.hbm, 3205, rfl⟩
abbrev main_call102_v0 : Ref sig .tc := ⟨.hbm, 3206, rfl⟩
abbrev main_call102_v1 : Ref sig .tc := ⟨.hbm, 3207, rfl⟩
abbrev main_call102_v2 : Ref sig .tc := ⟨.hbm, 3208, rfl⟩
abbrev main_call102_v3 : Ref sig .tc := ⟨.hbm, 3209, rfl⟩
abbrev main_call102_v4 : Ref sig .tc := ⟨.hbm, 3210, rfl⟩
abbrev main_v1652 : Ref sig .tc := ⟨.hbm, 3211, rfl⟩
abbrev main_v1653 : Ref sig .tc := ⟨.hbm, 3212, rfl⟩
abbrev main_c_410 : Ref sig .tc := ⟨.hbm, 3213, rfl⟩
abbrev main_c_411 : Ref sig .tc := ⟨.hbm, 3214, rfl⟩
abbrev main_call103_v0 : Ref sig .tc := ⟨.hbm, 3215, rfl⟩
abbrev main_call103_v1 : Ref sig .tc := ⟨.hbm, 3216, rfl⟩
abbrev main_call103_v2 : Ref sig .tc := ⟨.hbm, 3217, rfl⟩
abbrev main_call103_v3 : Ref sig .tc := ⟨.hbm, 3218, rfl⟩
abbrev main_call103_v4 : Ref sig .tc := ⟨.hbm, 3219, rfl⟩
abbrev main_v1654 : Ref sig .tc := ⟨.hbm, 3220, rfl⟩
abbrev main_v1655 : Ref sig .tc := ⟨.hbm, 3221, rfl⟩
abbrev main_c_412 : Ref sig .tc := ⟨.hbm, 3222, rfl⟩
abbrev main_v1656 : Ref sig .tc := ⟨.hbm, 3223, rfl⟩
abbrev main_v1657 : Ref sig .tc := ⟨.hbm, 3224, rfl⟩
abbrev main_v1658 : Ref sig .tc := ⟨.hbm, 3225, rfl⟩
abbrev main_v1659 : Ref sig .tc := ⟨.hbm, 3226, rfl⟩
abbrev main_v1660 : Ref sig .tc := ⟨.hbm, 3227, rfl⟩
abbrev main_v1661 : Ref sig .tc := ⟨.hbm, 3228, rfl⟩
abbrev main_call104_c : Ref sig .tc := ⟨.hbm, 3229, rfl⟩
abbrev main_call104_v0 : Ref sig .tc := ⟨.hbm, 3230, rfl⟩
abbrev main_call104_v1 : Ref sig .tc := ⟨.hbm, 3231, rfl⟩
abbrev main_call104_c_0 : Ref sig .tc := ⟨.hbm, 3232, rfl⟩
abbrev main_call104_v2 : Ref sig .tc := ⟨.hbm, 3233, rfl⟩
abbrev main_call104_v3 : Ref sig .tc := ⟨.hbm, 3234, rfl⟩
abbrev main_call104_v4 : Ref sig .tc := ⟨.hbm, 3235, rfl⟩
abbrev main_call104_v5 : Ref sig .tc := ⟨.hbm, 3236, rfl⟩
abbrev main_call104_c_1 : Ref sig .tc := ⟨.hbm, 3237, rfl⟩
abbrev main_call104_c_2 : Ref sig .tc := ⟨.hbm, 3238, rfl⟩
abbrev main_call104_v6 : Ref sig .tc := ⟨.hbm, 3239, rfl⟩
abbrev main_call104_v7 : Ref sig .tc := ⟨.hbm, 3240, rfl⟩
abbrev main_call104_v8 : Ref sig .tc := ⟨.hbm, 3241, rfl⟩
abbrev main_call104_v9 : Ref sig .tc := ⟨.hbm, 3242, rfl⟩
abbrev main_call104_v10 : Ref sig .tc := ⟨.hbm, 3243, rfl⟩
abbrev main_call104_v11 : Ref sig .tc := ⟨.hbm, 3244, rfl⟩
abbrev main_call104_c_3 : Ref sig .tc := ⟨.hbm, 3245, rfl⟩
abbrev main_call104_v12 : Ref sig .tc := ⟨.hbm, 3246, rfl⟩
abbrev main_call104_v13 : Ref sig .tc := ⟨.hbm, 3247, rfl⟩
abbrev main_call104_cst : Ref sig .tc := ⟨.hbm, 3248, rfl⟩
abbrev main_call104_v14 : Ref sig .tc := ⟨.hbm, 3249, rfl⟩
abbrev main_v1662 : Ref sig .tc := ⟨.hbm, 3250, rfl⟩
abbrev main_v1663 : Ref sig .tc := ⟨.hbm, 3251, rfl⟩
abbrev main_v1664 : Ref sig .tc := ⟨.hbm, 3252, rfl⟩
abbrev main_v1665 : Ref sig .tc := ⟨.hbm, 3253, rfl⟩
abbrev main_v1666 : Ref sig .tc := ⟨.hbm, 3254, rfl⟩
abbrev main_v1667 : Ref sig .tc := ⟨.hbm, 3255, rfl⟩
abbrev main_v1668 : Ref sig .tc := ⟨.hbm, 3256, rfl⟩
abbrev main_v1669 : Ref sig .tc := ⟨.hbm, 3257, rfl⟩
abbrev main_v1670 : Ref sig .tc := ⟨.hbm, 3258, rfl⟩
abbrev main_v1671 : Ref sig .tc := ⟨.hbm, 3259, rfl⟩
abbrev main_v1672 : Ref sig .tc := ⟨.hbm, 3260, rfl⟩
abbrev main_v1673 : Ref sig .tc := ⟨.hbm, 3261, rfl⟩
abbrev main_v1674 : Ref sig .tc := ⟨.hbm, 3262, rfl⟩
abbrev main_v1675 : Ref sig .tc := ⟨.hbm, 3263, rfl⟩
abbrev main_v1676 : Ref sig .tc := ⟨.hbm, 3264, rfl⟩
abbrev main_v1677 : Ref sig .tc := ⟨.hbm, 3265, rfl⟩
abbrev main_v1678 : Ref sig .tc := ⟨.hbm, 3266, rfl⟩
abbrev main_v1679 : Ref sig .tc := ⟨.hbm, 3267, rfl⟩
abbrev main_v1680 : Ref sig .tc := ⟨.hbm, 3268, rfl⟩
abbrev main_v1681 : Ref sig .tc := ⟨.hbm, 3269, rfl⟩
abbrev main_cst_413 : Ref sig .tc := ⟨.hbm, 3270, rfl⟩
abbrev main_v1682 : Ref sig .tc := ⟨.hbm, 3271, rfl⟩
abbrev main_v1683 : Ref sig .tc := ⟨.hbm, 3272, rfl⟩
abbrev main_v1684 : Ref sig .tc := ⟨.hbm, 3273, rfl⟩
abbrev main_v1685 : Ref sig .tc := ⟨.hbm, 3274, rfl⟩
abbrev main_v1686 : Ref sig .tc := ⟨.hbm, 3275, rfl⟩
abbrev main_v1687 : Ref sig .tc := ⟨.hbm, 3276, rfl⟩
abbrev main_v1688 : Ref sig .tc := ⟨.hbm, 3277, rfl⟩
abbrev main_v1689 : Ref sig .tc := ⟨.hbm, 3278, rfl⟩
abbrev main_v1690 : Ref sig .tc := ⟨.hbm, 3279, rfl⟩
abbrev main_v1691 : Ref sig .tc := ⟨.hbm, 3280, rfl⟩
abbrev main_v1692 : Ref sig .tc := ⟨.hbm, 3281, rfl⟩
abbrev main_v1693 : Ref sig .tc := ⟨.hbm, 3282, rfl⟩
abbrev main_v1694 : Ref sig .tc := ⟨.hbm, 3283, rfl⟩
abbrev main_v1695 : Ref sig .tc := ⟨.hbm, 3284, rfl⟩
abbrev main_v1696 : Ref sig .tc := ⟨.hbm, 3285, rfl⟩
abbrev main_v1697 : Ref sig .tc := ⟨.hbm, 3286, rfl⟩
abbrev main_cst_414 : Ref sig .tc := ⟨.hbm, 3287, rfl⟩
abbrev main_v1698 : Ref sig .tc := ⟨.hbm, 3288, rfl⟩
abbrev main_v1699 : Ref sig .tc := ⟨.hbm, 3289, rfl⟩
abbrev main_cst_415 : Ref sig .tc := ⟨.hbm, 3290, rfl⟩
abbrev main_v1700 : Ref sig .tc := ⟨.hbm, 3291, rfl⟩
abbrev main_v1701 : Ref sig .tc := ⟨.hbm, 3292, rfl⟩
abbrev main_v1702 : Ref sig .tc := ⟨.hbm, 3293, rfl⟩
abbrev main_v1703 : Ref sig .tc := ⟨.hbm, 3294, rfl⟩
abbrev main_v1704 : Ref sig .tc := ⟨.hbm, 3295, rfl⟩
abbrev main_cst_416 : Ref sig .tc := ⟨.hbm, 3296, rfl⟩
abbrev main_v1705 : Ref sig .tc := ⟨.hbm, 3297, rfl⟩
abbrev main_v1706 : Ref sig .tc := ⟨.hbm, 3298, rfl⟩
abbrev main_cst_417 : Ref sig .tc := ⟨.hbm, 3299, rfl⟩
abbrev main_v1707 : Ref sig .tc := ⟨.hbm, 3300, rfl⟩
abbrev main_v1708 : Ref sig .tc := ⟨.hbm, 3301, rfl⟩
abbrev main_v1709 : Ref sig .tc := ⟨.hbm, 3302, rfl⟩
abbrev main_v1710 : Ref sig .tc := ⟨.hbm, 3303, rfl⟩
abbrev main_cst_418 : Ref sig .tc := ⟨.hbm, 3304, rfl⟩
abbrev main_v1711 : Ref sig .tc := ⟨.hbm, 3305, rfl⟩
abbrev main_v1712 : Ref sig .tc := ⟨.hbm, 3306, rfl⟩
abbrev main_v1713 : Ref sig .tc := ⟨.hbm, 3307, rfl⟩
abbrev main_v1714 : Ref sig .tc := ⟨.hbm, 3308, rfl⟩
abbrev main_v1715 : Ref sig .tc := ⟨.hbm, 3309, rfl⟩
abbrev main_v1716 : Ref sig .tc := ⟨.hbm, 3310, rfl⟩
abbrev main_v1717 : Ref sig .tc := ⟨.hbm, 3311, rfl⟩
abbrev main_v1718 : Ref sig .tc := ⟨.hbm, 3312, rfl⟩
abbrev main_v1719 : Ref sig .tc := ⟨.hbm, 3313, rfl⟩
abbrev main_v1720 : Ref sig .tc := ⟨.hbm, 3314, rfl⟩
abbrev main_v1721 : Ref sig .tc := ⟨.hbm, 3315, rfl⟩
abbrev main_v1722 : Ref sig .tc := ⟨.hbm, 3316, rfl⟩
abbrev main_v1723 : Ref sig .tc := ⟨.hbm, 3317, rfl⟩
abbrev main_v1724 : Ref sig .tc := ⟨.hbm, 3318, rfl⟩
abbrev main_v1725 : Ref sig .tc := ⟨.hbm, 3319, rfl⟩
abbrev main_v1726 : Ref sig .tc := ⟨.hbm, 3320, rfl⟩
abbrev main_v1727 : Ref sig .tc := ⟨.hbm, 3321, rfl⟩
abbrev main_v1728 : Ref sig .tc := ⟨.hbm, 3322, rfl⟩
abbrev main_v1729 : Ref sig .tc := ⟨.hbm, 3323, rfl⟩
abbrev main_call105_cst : Ref sig .tc := ⟨.hbm, 3324, rfl⟩
abbrev main_call105_v0 : Ref sig .tc := ⟨.hbm, 3325, rfl⟩
abbrev main_v1730 : Ref sig .tc := ⟨.hbm, 3326, rfl⟩
abbrev main_v1731 : Ref sig .tc := ⟨.hbm, 3327, rfl⟩
abbrev main_v1732 : Ref sig .tc := ⟨.hbm, 3328, rfl⟩
abbrev main_v1733 : Ref sig .tc := ⟨.hbm, 3329, rfl⟩
abbrev main_v1734 : Ref sig .tc := ⟨.hbm, 3330, rfl⟩
abbrev main_v1735 : Ref sig .tc := ⟨.hbm, 3331, rfl⟩
abbrev main_v1736 : Ref sig .tc := ⟨.hbm, 3332, rfl⟩
abbrev main_v1737 : Ref sig .tc := ⟨.hbm, 3333, rfl⟩
abbrev main_v1738 : Ref sig .tc := ⟨.hbm, 3334, rfl⟩
abbrev main_v1739 : Ref sig .tc := ⟨.hbm, 3335, rfl⟩
abbrev main_v1740 : Ref sig .tc := ⟨.hbm, 3336, rfl⟩
abbrev main_v1741 : Ref sig .tc := ⟨.hbm, 3337, rfl⟩
abbrev main_v1742 : Ref sig .tc := ⟨.hbm, 3338, rfl⟩
abbrev main_v1743 : Ref sig .tc := ⟨.hbm, 3339, rfl⟩
abbrev main_cst_419 : Ref sig .tc := ⟨.hbm, 3340, rfl⟩
abbrev main_v1744 : Ref sig .tc := ⟨.hbm, 3341, rfl⟩
abbrev main_v1745 : Ref sig .tc := ⟨.hbm, 3342, rfl⟩
abbrev main_cst_420 : Ref sig .tc := ⟨.hbm, 3343, rfl⟩
abbrev main_v1746 : Ref sig .tc := ⟨.hbm, 3344, rfl⟩
abbrev main_v1747 : Ref sig .tc := ⟨.hbm, 3345, rfl⟩
abbrev main_v1748 : Ref sig .tc := ⟨.hbm, 3346, rfl⟩
abbrev main_v1749 : Ref sig .tc := ⟨.hbm, 3347, rfl⟩
abbrev main_v1750 : Ref sig .tc := ⟨.hbm, 3348, rfl⟩
abbrev main_cst_421 : Ref sig .tc := ⟨.hbm, 3349, rfl⟩
abbrev main_v1751 : Ref sig .tc := ⟨.hbm, 3350, rfl⟩
abbrev main_v1752 : Ref sig .tc := ⟨.hbm, 3351, rfl⟩
abbrev main_cst_422 : Ref sig .tc := ⟨.hbm, 3352, rfl⟩
abbrev main_v1753 : Ref sig .tc := ⟨.hbm, 3353, rfl⟩
abbrev main_v1754 : Ref sig .tc := ⟨.hbm, 3354, rfl⟩
abbrev main_v1755 : Ref sig .tc := ⟨.hbm, 3355, rfl⟩
abbrev main_v1756 : Ref sig .tc := ⟨.hbm, 3356, rfl⟩
abbrev main_cst_423 : Ref sig .tc := ⟨.hbm, 3357, rfl⟩
abbrev main_v1757 : Ref sig .tc := ⟨.hbm, 3358, rfl⟩
abbrev main_v1758 : Ref sig .tc := ⟨.hbm, 3359, rfl⟩
abbrev main_v1759 : Ref sig .tc := ⟨.hbm, 3360, rfl⟩
abbrev main_v1760 : Ref sig .tc := ⟨.hbm, 3361, rfl⟩
abbrev main_v1761 : Ref sig .tc := ⟨.hbm, 3362, rfl⟩
abbrev main_v1762 : Ref sig .tc := ⟨.hbm, 3363, rfl⟩
abbrev main_v1763 : Ref sig .tc := ⟨.hbm, 3364, rfl⟩
abbrev main_v1764 : Ref sig .tc := ⟨.hbm, 3365, rfl⟩
abbrev main_v1765 : Ref sig .tc := ⟨.hbm, 3366, rfl⟩
abbrev main_v1766 : Ref sig .tc := ⟨.hbm, 3367, rfl⟩
abbrev main_v1767 : Ref sig .tc := ⟨.hbm, 3368, rfl⟩
abbrev main_v1768 : Ref sig .tc := ⟨.hbm, 3369, rfl⟩
abbrev main_v1769 : Ref sig .tc := ⟨.hbm, 3370, rfl⟩
abbrev main_v1770 : Ref sig .tc := ⟨.hbm, 3371, rfl⟩
abbrev main_v1771 : Ref sig .tc := ⟨.hbm, 3372, rfl⟩
abbrev main_v1772 : Ref sig .tc := ⟨.hbm, 3373, rfl⟩
abbrev main_v1773 : Ref sig .tc := ⟨.hbm, 3374, rfl⟩
abbrev main_v1774 : Ref sig .tc := ⟨.hbm, 3375, rfl⟩
abbrev main_v1775 : Ref sig .tc := ⟨.hbm, 3376, rfl⟩
abbrev main_v1776 : Ref sig .tc := ⟨.hbm, 3377, rfl⟩
abbrev main_v1777 : Ref sig .tc := ⟨.hbm, 3378, rfl⟩
abbrev main_v1778 : Ref sig .tc := ⟨.hbm, 3379, rfl⟩
abbrev main_v1779 : Ref sig .tc := ⟨.hbm, 3380, rfl⟩
abbrev main_v1780 : Ref sig .tc := ⟨.hbm, 3381, rfl⟩
abbrev main_v1781 : Ref sig .tc := ⟨.hbm, 3382, rfl⟩
abbrev main_v1782 : Ref sig .tc := ⟨.hbm, 3383, rfl⟩
abbrev main_v1783 : Ref sig .tc := ⟨.hbm, 3384, rfl⟩
abbrev main_v1784 : Ref sig .tc := ⟨.hbm, 3385, rfl⟩
abbrev main_v1785 : Ref sig .tc := ⟨.hbm, 3386, rfl⟩
abbrev main_v1786 : Ref sig .tc := ⟨.hbm, 3387, rfl⟩
abbrev main_v1787 : Ref sig .tc := ⟨.hbm, 3388, rfl⟩
abbrev main_v1788 : Ref sig .tc := ⟨.hbm, 3389, rfl⟩
abbrev main_v1789 : Ref sig .tc := ⟨.hbm, 3390, rfl⟩
abbrev main_v1790 : Ref sig .tc := ⟨.hbm, 3391, rfl⟩
abbrev main_v1791 : Ref sig .tc := ⟨.hbm, 3392, rfl⟩
abbrev main_v1792 : Ref sig .tc := ⟨.hbm, 3393, rfl⟩
abbrev main_v1793 : Ref sig .tc := ⟨.hbm, 3394, rfl⟩
abbrev main_v1794 : Ref sig .tc := ⟨.hbm, 3395, rfl⟩
abbrev main_v1795 : Ref sig .tc := ⟨.hbm, 3396, rfl⟩
abbrev main_cst_424 : Ref sig .tc := ⟨.hbm, 3397, rfl⟩
abbrev main_v1796 : Ref sig .tc := ⟨.hbm, 3398, rfl⟩
abbrev main_cst_425 : Ref sig .tc := ⟨.hbm, 3399, rfl⟩
abbrev main_v1797 : Ref sig .tc := ⟨.hbm, 3400, rfl⟩
abbrev main_v1798 : Ref sig .tc := ⟨.hbm, 3401, rfl⟩
abbrev main_v1799 : Ref sig .tc := ⟨.hbm, 3402, rfl⟩
abbrev main_v1800 : Ref sig .tc := ⟨.hbm, 3403, rfl⟩
abbrev main_v1801 : Ref sig .tc := ⟨.hbm, 3404, rfl⟩
abbrev main_v1802 : Ref sig .tc := ⟨.hbm, 3405, rfl⟩
abbrev main_cst_426 : Ref sig .tc := ⟨.hbm, 3406, rfl⟩
abbrev main_v1803 : Ref sig .tc := ⟨.hbm, 3407, rfl⟩
abbrev main_v1804 : Ref sig .tc := ⟨.hbm, 3408, rfl⟩
abbrev main_v1805 : Ref sig .tc := ⟨.hbm, 3409, rfl⟩
abbrev main_v1806 : Ref sig .tc := ⟨.hbm, 3410, rfl⟩
abbrev main_v1807 : Ref sig .tc := ⟨.hbm, 3411, rfl⟩
abbrev main_v1808 : Ref sig .tc := ⟨.hbm, 3412, rfl⟩
abbrev main_v1809 : Ref sig .tc := ⟨.hbm, 3413, rfl⟩
abbrev main_v1810 : Ref sig .tc := ⟨.hbm, 3414, rfl⟩
abbrev main_v1811 : Ref sig .tc := ⟨.hbm, 3415, rfl⟩
abbrev main_v1812 : Ref sig .tc := ⟨.hbm, 3416, rfl⟩
abbrev main_v1813 : Ref sig .tc := ⟨.hbm, 3417, rfl⟩
abbrev main_cst_427 : Ref sig .tc := ⟨.hbm, 3418, rfl⟩
abbrev main_v1814 : Ref sig .tc := ⟨.hbm, 3419, rfl⟩
abbrev main_v1815 : Ref sig .tc := ⟨.hbm, 3420, rfl⟩
abbrev main_cst_428 : Ref sig .tc := ⟨.hbm, 3421, rfl⟩
abbrev main_v1816 : Ref sig .tc := ⟨.hbm, 3422, rfl⟩
abbrev main_v1817 : Ref sig .tc := ⟨.hbm, 3423, rfl⟩
abbrev main_v1818 : Ref sig .tc := ⟨.hbm, 3424, rfl⟩
abbrev main_v1819 : Ref sig .tc := ⟨.hbm, 3425, rfl⟩
abbrev main_v1820 : Ref sig .tc := ⟨.hbm, 3426, rfl⟩
abbrev main_v1821 : Ref sig .tc := ⟨.hbm, 3427, rfl⟩
abbrev main_v1822 : Ref sig .tc := ⟨.hbm, 3428, rfl⟩
abbrev main_v1823 : Ref sig .tc := ⟨.hbm, 3429, rfl⟩
abbrev main_v1824 : Ref sig .tc := ⟨.hbm, 3430, rfl⟩
abbrev main_v1825 : Ref sig .tc := ⟨.hbm, 3431, rfl⟩
abbrev main_v1826 : Ref sig .tc := ⟨.hbm, 3432, rfl⟩
abbrev main_cst_429 : Ref sig .tc := ⟨.hbm, 3433, rfl⟩
abbrev main_v1827 : Ref sig .tc := ⟨.hbm, 3434, rfl⟩
abbrev main_v1828 : Ref sig .tc := ⟨.hbm, 3435, rfl⟩
abbrev main_cst_430 : Ref sig .tc := ⟨.hbm, 3436, rfl⟩
abbrev main_v1829 : Ref sig .tc := ⟨.hbm, 3437, rfl⟩
abbrev main_v1830 : Ref sig .tc := ⟨.hbm, 3438, rfl⟩
abbrev main_cst_431 : Ref sig .tc := ⟨.hbm, 3439, rfl⟩
abbrev main_v1831 : Ref sig .tc := ⟨.hbm, 3440, rfl⟩
abbrev main_v1832 : Ref sig .tc := ⟨.hbm, 3441, rfl⟩
abbrev main_cst_432 : Ref sig .tc := ⟨.hbm, 3442, rfl⟩
abbrev main_v1833 : Ref sig .tc := ⟨.hbm, 3443, rfl⟩
abbrev main_v1834 : Ref sig .tc := ⟨.hbm, 3444, rfl⟩
abbrev main_v1835 : Ref sig .tc := ⟨.hbm, 3445, rfl⟩
abbrev main_v1836 : Ref sig .tc := ⟨.hbm, 3446, rfl⟩
abbrev main_cst_433 : Ref sig .tc := ⟨.hbm, 3447, rfl⟩
abbrev main_v1837 : Ref sig .tc := ⟨.hbm, 3448, rfl⟩
abbrev main_v1838 : Ref sig .tc := ⟨.hbm, 3449, rfl⟩
abbrev main_cst_434 : Ref sig .tc := ⟨.hbm, 3450, rfl⟩
abbrev main_v1839 : Ref sig .tc := ⟨.hbm, 3451, rfl⟩
abbrev main_v1840 : Ref sig .tc := ⟨.hbm, 3452, rfl⟩
abbrev main_cst_435 : Ref sig .tc := ⟨.hbm, 3453, rfl⟩
abbrev main_v1841 : Ref sig .tc := ⟨.hbm, 3454, rfl⟩
abbrev main_v1842 : Ref sig .tc := ⟨.hbm, 3455, rfl⟩
abbrev main_cst_436 : Ref sig .tc := ⟨.hbm, 3456, rfl⟩
abbrev main_v1843 : Ref sig .tc := ⟨.hbm, 3457, rfl⟩
abbrev main_v1844 : Ref sig .tc := ⟨.hbm, 3458, rfl⟩
abbrev main_v1845 : Ref sig .tc := ⟨.hbm, 3459, rfl⟩
abbrev main_v1846 : Ref sig .tc := ⟨.hbm, 3460, rfl⟩
abbrev main_cst_437 : Ref sig .tc := ⟨.hbm, 3461, rfl⟩
abbrev main_v1847 : Ref sig .tc := ⟨.hbm, 3462, rfl⟩
abbrev main_v1848 : Ref sig .tc := ⟨.hbm, 3463, rfl⟩
abbrev main_cst_438 : Ref sig .tc := ⟨.hbm, 3464, rfl⟩
abbrev main_v1849 : Ref sig .tc := ⟨.hbm, 3465, rfl⟩
abbrev main_v1850 : Ref sig .tc := ⟨.hbm, 3466, rfl⟩
abbrev main_v1851 : Ref sig .tc := ⟨.hbm, 3467, rfl⟩
abbrev main_v1852 : Ref sig .tc := ⟨.hbm, 3468, rfl⟩
abbrev main_v1853 : Ref sig .tc := ⟨.hbm, 3469, rfl⟩
abbrev main_v1854 : Ref sig .tc := ⟨.hbm, 3470, rfl⟩
abbrev main_v1855 : Ref sig .tc := ⟨.hbm, 3471, rfl⟩
abbrev main_v1856 : Ref sig .tc := ⟨.hbm, 3472, rfl⟩
abbrev main_v1857 : Ref sig .tc := ⟨.hbm, 3473, rfl⟩
abbrev main_v1858 : Ref sig .tc := ⟨.hbm, 3474, rfl⟩
abbrev main_v1859 : Ref sig .tc := ⟨.hbm, 3475, rfl⟩
abbrev main_v1860 : Ref sig .tc := ⟨.hbm, 3476, rfl⟩
abbrev main_v1861 : Ref sig .tc := ⟨.hbm, 3477, rfl⟩
abbrev main_v1862 : Ref sig .tc := ⟨.hbm, 3478, rfl⟩
abbrev main_v1863 : Ref sig .tc := ⟨.hbm, 3479, rfl⟩
abbrev main_cst_439 : Ref sig .tc := ⟨.hbm, 3480, rfl⟩
abbrev main_v1864 : Ref sig .tc := ⟨.hbm, 3481, rfl⟩
abbrev main_v1865 : Ref sig .tc := ⟨.hbm, 3482, rfl⟩
abbrev main_cst_440 : Ref sig .tc := ⟨.hbm, 3483, rfl⟩
abbrev main_v1866 : Ref sig .tc := ⟨.hbm, 3484, rfl⟩
abbrev main_v1867 : Ref sig .tc := ⟨.hbm, 3485, rfl⟩
abbrev main_v1868 : Ref sig .tc := ⟨.hbm, 3486, rfl⟩
abbrev main_cst_441 : Ref sig .tc := ⟨.hbm, 3487, rfl⟩
abbrev main_v1869 : Ref sig .tc := ⟨.hbm, 3488, rfl⟩
abbrev main_v1870 : Ref sig .tc := ⟨.hbm, 3489, rfl⟩
abbrev main_v1871 : Ref sig .tc := ⟨.hbm, 3490, rfl⟩
abbrev main_cst_442 : Ref sig .tc := ⟨.hbm, 3491, rfl⟩
abbrev main_v1872 : Ref sig .tc := ⟨.hbm, 3492, rfl⟩
abbrev main_v1873 : Ref sig .tc := ⟨.hbm, 3493, rfl⟩
abbrev main_v1874 : Ref sig .tc := ⟨.hbm, 3494, rfl⟩
abbrev main_c_443 : Ref sig .tc := ⟨.hbm, 3495, rfl⟩
abbrev main_c_444 : Ref sig .tc := ⟨.hbm, 3496, rfl⟩
abbrev main_call106_v0 : Ref sig .tc := ⟨.hbm, 3497, rfl⟩
abbrev main_call106_v1 : Ref sig .tc := ⟨.hbm, 3498, rfl⟩
abbrev main_call106_v2 : Ref sig .tc := ⟨.hbm, 3499, rfl⟩
abbrev main_call106_v3 : Ref sig .tc := ⟨.hbm, 3500, rfl⟩
abbrev main_call106_v4 : Ref sig .tc := ⟨.hbm, 3501, rfl⟩
abbrev main_v1875 : Ref sig .tc := ⟨.hbm, 3502, rfl⟩
abbrev main_v1876 : Ref sig .tc := ⟨.hbm, 3503, rfl⟩
abbrev main_c_445 : Ref sig .tc := ⟨.hbm, 3504, rfl⟩
abbrev main_c_446 : Ref sig .tc := ⟨.hbm, 3505, rfl⟩
abbrev main_call107_v0 : Ref sig .tc := ⟨.hbm, 3506, rfl⟩
abbrev main_call107_v1 : Ref sig .tc := ⟨.hbm, 3507, rfl⟩
abbrev main_call107_v2 : Ref sig .tc := ⟨.hbm, 3508, rfl⟩
abbrev main_call107_v3 : Ref sig .tc := ⟨.hbm, 3509, rfl⟩
abbrev main_call107_v4 : Ref sig .tc := ⟨.hbm, 3510, rfl⟩
abbrev main_v1877 : Ref sig .tc := ⟨.hbm, 3511, rfl⟩
abbrev main_v1878 : Ref sig .tc := ⟨.hbm, 3512, rfl⟩
abbrev main_c_447 : Ref sig .tc := ⟨.hbm, 3513, rfl⟩
abbrev main_v1879 : Ref sig .tc := ⟨.hbm, 3514, rfl⟩
abbrev main_v1880 : Ref sig .tc := ⟨.hbm, 3515, rfl⟩
abbrev main_v1881 : Ref sig .tc := ⟨.hbm, 3516, rfl⟩
abbrev main_v1882 : Ref sig .tc := ⟨.hbm, 3517, rfl⟩
abbrev main_v1883 : Ref sig .tc := ⟨.hbm, 3518, rfl⟩
abbrev main_v1884 : Ref sig .tc := ⟨.hbm, 3519, rfl⟩
abbrev main_call108_c : Ref sig .tc := ⟨.hbm, 3520, rfl⟩
abbrev main_call108_v0 : Ref sig .tc := ⟨.hbm, 3521, rfl⟩
abbrev main_call108_v1 : Ref sig .tc := ⟨.hbm, 3522, rfl⟩
abbrev main_call108_c_0 : Ref sig .tc := ⟨.hbm, 3523, rfl⟩
abbrev main_call108_v2 : Ref sig .tc := ⟨.hbm, 3524, rfl⟩
abbrev main_call108_v3 : Ref sig .tc := ⟨.hbm, 3525, rfl⟩
abbrev main_call108_v4 : Ref sig .tc := ⟨.hbm, 3526, rfl⟩
abbrev main_call108_v5 : Ref sig .tc := ⟨.hbm, 3527, rfl⟩
abbrev main_call108_c_1 : Ref sig .tc := ⟨.hbm, 3528, rfl⟩
abbrev main_call108_c_2 : Ref sig .tc := ⟨.hbm, 3529, rfl⟩
abbrev main_call108_v6 : Ref sig .tc := ⟨.hbm, 3530, rfl⟩
abbrev main_call108_v7 : Ref sig .tc := ⟨.hbm, 3531, rfl⟩
abbrev main_call108_v8 : Ref sig .tc := ⟨.hbm, 3532, rfl⟩
abbrev main_call108_v9 : Ref sig .tc := ⟨.hbm, 3533, rfl⟩
abbrev main_call108_v10 : Ref sig .tc := ⟨.hbm, 3534, rfl⟩
abbrev main_call108_v11 : Ref sig .tc := ⟨.hbm, 3535, rfl⟩
abbrev main_call108_c_3 : Ref sig .tc := ⟨.hbm, 3536, rfl⟩
abbrev main_call108_v12 : Ref sig .tc := ⟨.hbm, 3537, rfl⟩
abbrev main_call108_v13 : Ref sig .tc := ⟨.hbm, 3538, rfl⟩
abbrev main_call108_cst : Ref sig .tc := ⟨.hbm, 3539, rfl⟩
abbrev main_call108_v14 : Ref sig .tc := ⟨.hbm, 3540, rfl⟩
abbrev main_v1885 : Ref sig .tc := ⟨.hbm, 3541, rfl⟩
abbrev main_v1886 : Ref sig .tc := ⟨.hbm, 3542, rfl⟩
abbrev main_v1887 : Ref sig .tc := ⟨.hbm, 3543, rfl⟩
abbrev main_v1888 : Ref sig .tc := ⟨.hbm, 3544, rfl⟩
abbrev main_v1889 : Ref sig .tc := ⟨.hbm, 3545, rfl⟩
abbrev main_v1890 : Ref sig .tc := ⟨.hbm, 3546, rfl⟩
abbrev main_v1891 : Ref sig .tc := ⟨.hbm, 3547, rfl⟩
abbrev main_v1892 : Ref sig .tc := ⟨.hbm, 3548, rfl⟩
abbrev main_v1893 : Ref sig .tc := ⟨.hbm, 3549, rfl⟩
abbrev main_cst_448 : Ref sig .tc := ⟨.hbm, 3550, rfl⟩
abbrev main_v1894 : Ref sig .tc := ⟨.hbm, 3551, rfl⟩
abbrev main_v1895 : Ref sig .tc := ⟨.hbm, 3552, rfl⟩
abbrev main_cst_449 : Ref sig .tc := ⟨.hbm, 3553, rfl⟩
abbrev main_v1896 : Ref sig .tc := ⟨.hbm, 3554, rfl⟩
abbrev main_v1897 : Ref sig .tc := ⟨.hbm, 3555, rfl⟩
abbrev main_v1898 : Ref sig .tc := ⟨.hbm, 3556, rfl⟩
abbrev main_cst_450 : Ref sig .tc := ⟨.hbm, 3557, rfl⟩
abbrev main_v1899 : Ref sig .tc := ⟨.hbm, 3558, rfl⟩
abbrev main_v1900 : Ref sig .tc := ⟨.hbm, 3559, rfl⟩
abbrev main_v1901 : Ref sig .tc := ⟨.hbm, 3560, rfl⟩
abbrev main_cst_451 : Ref sig .tc := ⟨.hbm, 3561, rfl⟩
abbrev main_v1902 : Ref sig .tc := ⟨.hbm, 3562, rfl⟩
abbrev main_v1903 : Ref sig .tc := ⟨.hbm, 3563, rfl⟩
abbrev main_v1904 : Ref sig .tc := ⟨.hbm, 3564, rfl⟩
abbrev main_c_452 : Ref sig .tc := ⟨.hbm, 3565, rfl⟩
abbrev main_c_453 : Ref sig .tc := ⟨.hbm, 3566, rfl⟩
abbrev main_call109_v0 : Ref sig .tc := ⟨.hbm, 3567, rfl⟩
abbrev main_call109_v1 : Ref sig .tc := ⟨.hbm, 3568, rfl⟩
abbrev main_call109_v2 : Ref sig .tc := ⟨.hbm, 3569, rfl⟩
abbrev main_call109_v3 : Ref sig .tc := ⟨.hbm, 3570, rfl⟩
abbrev main_call109_v4 : Ref sig .tc := ⟨.hbm, 3571, rfl⟩
abbrev main_v1905 : Ref sig .tc := ⟨.hbm, 3572, rfl⟩
abbrev main_v1906 : Ref sig .tc := ⟨.hbm, 3573, rfl⟩
abbrev main_c_454 : Ref sig .tc := ⟨.hbm, 3574, rfl⟩
abbrev main_c_455 : Ref sig .tc := ⟨.hbm, 3575, rfl⟩
abbrev main_call110_v0 : Ref sig .tc := ⟨.hbm, 3576, rfl⟩
abbrev main_call110_v1 : Ref sig .tc := ⟨.hbm, 3577, rfl⟩
abbrev main_call110_v2 : Ref sig .tc := ⟨.hbm, 3578, rfl⟩
abbrev main_call110_v3 : Ref sig .tc := ⟨.hbm, 3579, rfl⟩
abbrev main_call110_v4 : Ref sig .tc := ⟨.hbm, 3580, rfl⟩
abbrev main_v1907 : Ref sig .tc := ⟨.hbm, 3581, rfl⟩
abbrev main_v1908 : Ref sig .tc := ⟨.hbm, 3582, rfl⟩
abbrev main_c_456 : Ref sig .tc := ⟨.hbm, 3583, rfl⟩
abbrev main_v1909 : Ref sig .tc := ⟨.hbm, 3584, rfl⟩
abbrev main_v1910 : Ref sig .tc := ⟨.hbm, 3585, rfl⟩
abbrev main_v1911 : Ref sig .tc := ⟨.hbm, 3586, rfl⟩
abbrev main_v1912 : Ref sig .tc := ⟨.hbm, 3587, rfl⟩
abbrev main_v1913 : Ref sig .tc := ⟨.hbm, 3588, rfl⟩
abbrev main_v1914 : Ref sig .tc := ⟨.hbm, 3589, rfl⟩
abbrev main_call111_c : Ref sig .tc := ⟨.hbm, 3590, rfl⟩
abbrev main_call111_v0 : Ref sig .tc := ⟨.hbm, 3591, rfl⟩
abbrev main_call111_v1 : Ref sig .tc := ⟨.hbm, 3592, rfl⟩
abbrev main_call111_c_0 : Ref sig .tc := ⟨.hbm, 3593, rfl⟩
abbrev main_call111_v2 : Ref sig .tc := ⟨.hbm, 3594, rfl⟩
abbrev main_call111_v3 : Ref sig .tc := ⟨.hbm, 3595, rfl⟩
abbrev main_call111_v4 : Ref sig .tc := ⟨.hbm, 3596, rfl⟩
abbrev main_call111_v5 : Ref sig .tc := ⟨.hbm, 3597, rfl⟩
abbrev main_call111_c_1 : Ref sig .tc := ⟨.hbm, 3598, rfl⟩
abbrev main_call111_c_2 : Ref sig .tc := ⟨.hbm, 3599, rfl⟩
abbrev main_call111_v6 : Ref sig .tc := ⟨.hbm, 3600, rfl⟩
abbrev main_call111_v7 : Ref sig .tc := ⟨.hbm, 3601, rfl⟩
abbrev main_call111_v8 : Ref sig .tc := ⟨.hbm, 3602, rfl⟩
abbrev main_call111_v9 : Ref sig .tc := ⟨.hbm, 3603, rfl⟩
abbrev main_call111_v10 : Ref sig .tc := ⟨.hbm, 3604, rfl⟩
abbrev main_call111_v11 : Ref sig .tc := ⟨.hbm, 3605, rfl⟩
abbrev main_call111_c_3 : Ref sig .tc := ⟨.hbm, 3606, rfl⟩
abbrev main_call111_v12 : Ref sig .tc := ⟨.hbm, 3607, rfl⟩
abbrev main_call111_v13 : Ref sig .tc := ⟨.hbm, 3608, rfl⟩
abbrev main_call111_cst : Ref sig .tc := ⟨.hbm, 3609, rfl⟩
abbrev main_call111_v14 : Ref sig .tc := ⟨.hbm, 3610, rfl⟩
abbrev main_v1915 : Ref sig .tc := ⟨.hbm, 3611, rfl⟩
abbrev main_v1916 : Ref sig .tc := ⟨.hbm, 3612, rfl⟩
abbrev main_v1917 : Ref sig .tc := ⟨.hbm, 3613, rfl⟩
abbrev main_v1918 : Ref sig .tc := ⟨.hbm, 3614, rfl⟩
abbrev main_v1919 : Ref sig .tc := ⟨.hbm, 3615, rfl⟩
abbrev main_v1920 : Ref sig .tc := ⟨.hbm, 3616, rfl⟩
abbrev main_v1921 : Ref sig .tc := ⟨.hbm, 3617, rfl⟩
abbrev main_v1922 : Ref sig .tc := ⟨.hbm, 3618, rfl⟩
abbrev main_v1923 : Ref sig .tc := ⟨.hbm, 3619, rfl⟩
abbrev main_v1924 : Ref sig .tc := ⟨.hbm, 3620, rfl⟩
abbrev main_cst_457 : Ref sig .tc := ⟨.hbm, 3621, rfl⟩
abbrev main_v1925 : Ref sig .tc := ⟨.hbm, 3622, rfl⟩
abbrev main_v1926 : Ref sig .tc := ⟨.hbm, 3623, rfl⟩
abbrev main_cst_458 : Ref sig .tc := ⟨.hbm, 3624, rfl⟩
abbrev main_v1927 : Ref sig .tc := ⟨.hbm, 3625, rfl⟩
abbrev main_v1928 : Ref sig .tc := ⟨.hbm, 3626, rfl⟩
abbrev main_v1929 : Ref sig .tc := ⟨.hbm, 3627, rfl⟩
abbrev main_cst_459 : Ref sig .tc := ⟨.hbm, 3628, rfl⟩
abbrev main_v1930 : Ref sig .tc := ⟨.hbm, 3629, rfl⟩
abbrev main_v1931 : Ref sig .tc := ⟨.hbm, 3630, rfl⟩
abbrev main_v1932 : Ref sig .tc := ⟨.hbm, 3631, rfl⟩
abbrev main_cst_460 : Ref sig .tc := ⟨.hbm, 3632, rfl⟩
abbrev main_v1933 : Ref sig .tc := ⟨.hbm, 3633, rfl⟩
abbrev main_v1934 : Ref sig .tc := ⟨.hbm, 3634, rfl⟩
abbrev main_v1935 : Ref sig .tc := ⟨.hbm, 3635, rfl⟩
abbrev main_c_461 : Ref sig .tc := ⟨.hbm, 3636, rfl⟩
abbrev main_c_462 : Ref sig .tc := ⟨.hbm, 3637, rfl⟩
abbrev main_call112_v0 : Ref sig .tc := ⟨.hbm, 3638, rfl⟩
abbrev main_call112_v1 : Ref sig .tc := ⟨.hbm, 3639, rfl⟩
abbrev main_call112_v2 : Ref sig .tc := ⟨.hbm, 3640, rfl⟩
abbrev main_call112_v3 : Ref sig .tc := ⟨.hbm, 3641, rfl⟩
abbrev main_call112_v4 : Ref sig .tc := ⟨.hbm, 3642, rfl⟩
abbrev main_v1936 : Ref sig .tc := ⟨.hbm, 3643, rfl⟩
abbrev main_v1937 : Ref sig .tc := ⟨.hbm, 3644, rfl⟩
abbrev main_c_463 : Ref sig .tc := ⟨.hbm, 3645, rfl⟩
abbrev main_c_464 : Ref sig .tc := ⟨.hbm, 3646, rfl⟩
abbrev main_call113_v0 : Ref sig .tc := ⟨.hbm, 3647, rfl⟩
abbrev main_call113_v1 : Ref sig .tc := ⟨.hbm, 3648, rfl⟩
abbrev main_call113_v2 : Ref sig .tc := ⟨.hbm, 3649, rfl⟩
abbrev main_call113_v3 : Ref sig .tc := ⟨.hbm, 3650, rfl⟩
abbrev main_call113_v4 : Ref sig .tc := ⟨.hbm, 3651, rfl⟩
abbrev main_v1938 : Ref sig .tc := ⟨.hbm, 3652, rfl⟩
abbrev main_v1939 : Ref sig .tc := ⟨.hbm, 3653, rfl⟩
abbrev main_c_465 : Ref sig .tc := ⟨.hbm, 3654, rfl⟩
abbrev main_v1940 : Ref sig .tc := ⟨.hbm, 3655, rfl⟩
abbrev main_v1941 : Ref sig .tc := ⟨.hbm, 3656, rfl⟩
abbrev main_v1942 : Ref sig .tc := ⟨.hbm, 3657, rfl⟩
abbrev main_v1943 : Ref sig .tc := ⟨.hbm, 3658, rfl⟩
abbrev main_v1944 : Ref sig .tc := ⟨.hbm, 3659, rfl⟩
abbrev main_v1945 : Ref sig .tc := ⟨.hbm, 3660, rfl⟩
abbrev main_call114_c : Ref sig .tc := ⟨.hbm, 3661, rfl⟩
abbrev main_call114_v0 : Ref sig .tc := ⟨.hbm, 3662, rfl⟩
abbrev main_call114_v1 : Ref sig .tc := ⟨.hbm, 3663, rfl⟩
abbrev main_call114_c_0 : Ref sig .tc := ⟨.hbm, 3664, rfl⟩
abbrev main_call114_v2 : Ref sig .tc := ⟨.hbm, 3665, rfl⟩
abbrev main_call114_v3 : Ref sig .tc := ⟨.hbm, 3666, rfl⟩
abbrev main_call114_v4 : Ref sig .tc := ⟨.hbm, 3667, rfl⟩
abbrev main_call114_v5 : Ref sig .tc := ⟨.hbm, 3668, rfl⟩
abbrev main_call114_c_1 : Ref sig .tc := ⟨.hbm, 3669, rfl⟩
abbrev main_call114_c_2 : Ref sig .tc := ⟨.hbm, 3670, rfl⟩
abbrev main_call114_v6 : Ref sig .tc := ⟨.hbm, 3671, rfl⟩
abbrev main_call114_v7 : Ref sig .tc := ⟨.hbm, 3672, rfl⟩
abbrev main_call114_v8 : Ref sig .tc := ⟨.hbm, 3673, rfl⟩
abbrev main_call114_v9 : Ref sig .tc := ⟨.hbm, 3674, rfl⟩
abbrev main_call114_v10 : Ref sig .tc := ⟨.hbm, 3675, rfl⟩
abbrev main_call114_v11 : Ref sig .tc := ⟨.hbm, 3676, rfl⟩
abbrev main_call114_c_3 : Ref sig .tc := ⟨.hbm, 3677, rfl⟩
abbrev main_call114_v12 : Ref sig .tc := ⟨.hbm, 3678, rfl⟩
abbrev main_call114_v13 : Ref sig .tc := ⟨.hbm, 3679, rfl⟩
abbrev main_call114_cst : Ref sig .tc := ⟨.hbm, 3680, rfl⟩
abbrev main_call114_v14 : Ref sig .tc := ⟨.hbm, 3681, rfl⟩
abbrev main_v1946 : Ref sig .tc := ⟨.hbm, 3682, rfl⟩
abbrev main_v1947 : Ref sig .tc := ⟨.hbm, 3683, rfl⟩
abbrev main_v1948 : Ref sig .tc := ⟨.hbm, 3684, rfl⟩
abbrev main_v1949 : Ref sig .tc := ⟨.hbm, 3685, rfl⟩
abbrev main_v1950 : Ref sig .tc := ⟨.hbm, 3686, rfl⟩
abbrev main_v1951 : Ref sig .tc := ⟨.hbm, 3687, rfl⟩
abbrev main_v1952 : Ref sig .tc := ⟨.hbm, 3688, rfl⟩
abbrev main_v1953 : Ref sig .tc := ⟨.hbm, 3689, rfl⟩
abbrev main_v1954 : Ref sig .tc := ⟨.hbm, 3690, rfl⟩
abbrev main_v1955 : Ref sig .tc := ⟨.hbm, 3691, rfl⟩
abbrev main_cst_466 : Ref sig .tc := ⟨.hbm, 3692, rfl⟩
abbrev main_v1956 : Ref sig .tc := ⟨.hbm, 3693, rfl⟩
abbrev main_v1957 : Ref sig .tc := ⟨.hbm, 3694, rfl⟩
abbrev main_cst_467 : Ref sig .tc := ⟨.hbm, 3695, rfl⟩
abbrev main_v1958 : Ref sig .tc := ⟨.hbm, 3696, rfl⟩
abbrev main_v1959 : Ref sig .tc := ⟨.hbm, 3697, rfl⟩
abbrev main_v1960 : Ref sig .tc := ⟨.hbm, 3698, rfl⟩
abbrev main_cst_468 : Ref sig .tc := ⟨.hbm, 3699, rfl⟩
abbrev main_v1961 : Ref sig .tc := ⟨.hbm, 3700, rfl⟩
abbrev main_v1962 : Ref sig .tc := ⟨.hbm, 3701, rfl⟩
abbrev main_v1963 : Ref sig .tc := ⟨.hbm, 3702, rfl⟩
abbrev main_cst_469 : Ref sig .tc := ⟨.hbm, 3703, rfl⟩
abbrev main_v1964 : Ref sig .tc := ⟨.hbm, 3704, rfl⟩
abbrev main_v1965 : Ref sig .tc := ⟨.hbm, 3705, rfl⟩
abbrev main_v1966 : Ref sig .tc := ⟨.hbm, 3706, rfl⟩
abbrev main_c_470 : Ref sig .tc := ⟨.hbm, 3707, rfl⟩
abbrev main_c_471 : Ref sig .tc := ⟨.hbm, 3708, rfl⟩
abbrev main_call115_v0 : Ref sig .tc := ⟨.hbm, 3709, rfl⟩
abbrev main_call115_v1 : Ref sig .tc := ⟨.hbm, 3710, rfl⟩
abbrev main_call115_v2 : Ref sig .tc := ⟨.hbm, 3711, rfl⟩
abbrev main_call115_v3 : Ref sig .tc := ⟨.hbm, 3712, rfl⟩
abbrev main_call115_v4 : Ref sig .tc := ⟨.hbm, 3713, rfl⟩
abbrev main_v1967 : Ref sig .tc := ⟨.hbm, 3714, rfl⟩
abbrev main_v1968 : Ref sig .tc := ⟨.hbm, 3715, rfl⟩
abbrev main_c_472 : Ref sig .tc := ⟨.hbm, 3716, rfl⟩
abbrev main_c_473 : Ref sig .tc := ⟨.hbm, 3717, rfl⟩
abbrev main_call116_v0 : Ref sig .tc := ⟨.hbm, 3718, rfl⟩
abbrev main_call116_v1 : Ref sig .tc := ⟨.hbm, 3719, rfl⟩
abbrev main_call116_v2 : Ref sig .tc := ⟨.hbm, 3720, rfl⟩
abbrev main_call116_v3 : Ref sig .tc := ⟨.hbm, 3721, rfl⟩
abbrev main_call116_v4 : Ref sig .tc := ⟨.hbm, 3722, rfl⟩
abbrev main_v1969 : Ref sig .tc := ⟨.hbm, 3723, rfl⟩
abbrev main_v1970 : Ref sig .tc := ⟨.hbm, 3724, rfl⟩
abbrev main_c_474 : Ref sig .tc := ⟨.hbm, 3725, rfl⟩
abbrev main_v1971 : Ref sig .tc := ⟨.hbm, 3726, rfl⟩
abbrev main_v1972 : Ref sig .tc := ⟨.hbm, 3727, rfl⟩
abbrev main_v1973 : Ref sig .tc := ⟨.hbm, 3728, rfl⟩
abbrev main_v1974 : Ref sig .tc := ⟨.hbm, 3729, rfl⟩
abbrev main_v1975 : Ref sig .tc := ⟨.hbm, 3730, rfl⟩
abbrev main_v1976 : Ref sig .tc := ⟨.hbm, 3731, rfl⟩
abbrev main_call117_c : Ref sig .tc := ⟨.hbm, 3732, rfl⟩
abbrev main_call117_v0 : Ref sig .tc := ⟨.hbm, 3733, rfl⟩
abbrev main_call117_v1 : Ref sig .tc := ⟨.hbm, 3734, rfl⟩
abbrev main_call117_c_0 : Ref sig .tc := ⟨.hbm, 3735, rfl⟩
abbrev main_call117_v2 : Ref sig .tc := ⟨.hbm, 3736, rfl⟩
abbrev main_call117_v3 : Ref sig .tc := ⟨.hbm, 3737, rfl⟩
abbrev main_call117_v4 : Ref sig .tc := ⟨.hbm, 3738, rfl⟩
abbrev main_call117_v5 : Ref sig .tc := ⟨.hbm, 3739, rfl⟩
abbrev main_call117_c_1 : Ref sig .tc := ⟨.hbm, 3740, rfl⟩
abbrev main_call117_c_2 : Ref sig .tc := ⟨.hbm, 3741, rfl⟩
abbrev main_call117_v6 : Ref sig .tc := ⟨.hbm, 3742, rfl⟩
abbrev main_call117_v7 : Ref sig .tc := ⟨.hbm, 3743, rfl⟩
abbrev main_call117_v8 : Ref sig .tc := ⟨.hbm, 3744, rfl⟩
abbrev main_call117_v9 : Ref sig .tc := ⟨.hbm, 3745, rfl⟩
abbrev main_call117_v10 : Ref sig .tc := ⟨.hbm, 3746, rfl⟩
abbrev main_call117_v11 : Ref sig .tc := ⟨.hbm, 3747, rfl⟩
abbrev main_call117_c_3 : Ref sig .tc := ⟨.hbm, 3748, rfl⟩
abbrev main_call117_v12 : Ref sig .tc := ⟨.hbm, 3749, rfl⟩
abbrev main_call117_v13 : Ref sig .tc := ⟨.hbm, 3750, rfl⟩
abbrev main_call117_cst : Ref sig .tc := ⟨.hbm, 3751, rfl⟩
abbrev main_call117_v14 : Ref sig .tc := ⟨.hbm, 3752, rfl⟩
abbrev main_v1977 : Ref sig .tc := ⟨.hbm, 3753, rfl⟩
abbrev main_v1978 : Ref sig .tc := ⟨.hbm, 3754, rfl⟩
abbrev main_v1979 : Ref sig .tc := ⟨.hbm, 3755, rfl⟩
abbrev main_v1980 : Ref sig .tc := ⟨.hbm, 3756, rfl⟩
abbrev main_v1981 : Ref sig .tc := ⟨.hbm, 3757, rfl⟩
abbrev main_v1982 : Ref sig .tc := ⟨.hbm, 3758, rfl⟩
abbrev main_v1983 : Ref sig .tc := ⟨.hbm, 3759, rfl⟩
abbrev main_v1984 : Ref sig .tc := ⟨.hbm, 3760, rfl⟩
abbrev main_v1985 : Ref sig .tc := ⟨.hbm, 3761, rfl⟩
abbrev main_v1986 : Ref sig .tc := ⟨.hbm, 3762, rfl⟩
abbrev main_v1987 : Ref sig .tc := ⟨.hbm, 3763, rfl⟩
abbrev main_v1988 : Ref sig .tc := ⟨.hbm, 3764, rfl⟩
abbrev main_v1989 : Ref sig .tc := ⟨.hbm, 3765, rfl⟩
abbrev main_v1990 : Ref sig .tc := ⟨.hbm, 3766, rfl⟩
abbrev main_v1991 : Ref sig .tc := ⟨.hbm, 3767, rfl⟩
abbrev main_v1992 : Ref sig .tc := ⟨.hbm, 3768, rfl⟩
abbrev main_v1993 : Ref sig .tc := ⟨.hbm, 3769, rfl⟩
abbrev main_v1994 : Ref sig .tc := ⟨.hbm, 3770, rfl⟩
abbrev main_v1995 : Ref sig .tc := ⟨.hbm, 3771, rfl⟩
abbrev main_cst_475 : Ref sig .tc := ⟨.hbm, 3772, rfl⟩
abbrev main_v1996 : Ref sig .tc := ⟨.hbm, 3773, rfl⟩
abbrev main_v1997 : Ref sig .tc := ⟨.hbm, 3774, rfl⟩
abbrev main_cst_476 : Ref sig .tc := ⟨.hbm, 3775, rfl⟩
abbrev main_v1998 : Ref sig .tc := ⟨.hbm, 3776, rfl⟩
abbrev main_v1999 : Ref sig .tc := ⟨.hbm, 3777, rfl⟩
abbrev main_cst_477 : Ref sig .tc := ⟨.hbm, 3778, rfl⟩
abbrev main_v2000 : Ref sig .tc := ⟨.hbm, 3779, rfl⟩
abbrev main_v2001 : Ref sig .tc := ⟨.hbm, 3780, rfl⟩
abbrev main_cst_478 : Ref sig .tc := ⟨.hbm, 3781, rfl⟩
abbrev main_v2002 : Ref sig .tc := ⟨.hbm, 3782, rfl⟩
abbrev main_v2003 : Ref sig .tc := ⟨.hbm, 3783, rfl⟩
abbrev main_v2004 : Ref sig .tc := ⟨.hbm, 3784, rfl⟩
abbrev main_v2005 : Ref sig .tc := ⟨.hbm, 3785, rfl⟩
abbrev main_cst_479 : Ref sig .tc := ⟨.hbm, 3786, rfl⟩
abbrev main_v2006 : Ref sig .tc := ⟨.hbm, 3787, rfl⟩
abbrev main_v2007 : Ref sig .tc := ⟨.hbm, 3788, rfl⟩
abbrev main_cst_480 : Ref sig .tc := ⟨.hbm, 3789, rfl⟩
abbrev main_v2008 : Ref sig .tc := ⟨.hbm, 3790, rfl⟩
abbrev main_v2009 : Ref sig .tc := ⟨.hbm, 3791, rfl⟩
abbrev main_cst_481 : Ref sig .tc := ⟨.hbm, 3792, rfl⟩
abbrev main_v2010 : Ref sig .tc := ⟨.hbm, 3793, rfl⟩
abbrev main_v2011 : Ref sig .tc := ⟨.hbm, 3794, rfl⟩
abbrev main_cst_482 : Ref sig .tc := ⟨.hbm, 3795, rfl⟩
abbrev main_v2012 : Ref sig .tc := ⟨.hbm, 3796, rfl⟩
abbrev main_v2013 : Ref sig .tc := ⟨.hbm, 3797, rfl⟩
abbrev main_v2014 : Ref sig .tc := ⟨.hbm, 3798, rfl⟩
abbrev main_v2015 : Ref sig .tc := ⟨.hbm, 3799, rfl⟩
abbrev main_cst_483 : Ref sig .tc := ⟨.hbm, 3800, rfl⟩
abbrev main_v2016 : Ref sig .tc := ⟨.hbm, 3801, rfl⟩
abbrev main_v2017 : Ref sig .tc := ⟨.hbm, 3802, rfl⟩
abbrev main_cst_484 : Ref sig .tc := ⟨.hbm, 3803, rfl⟩
abbrev main_v2018 : Ref sig .tc := ⟨.hbm, 3804, rfl⟩
abbrev main_v2019 : Ref sig .tc := ⟨.hbm, 3805, rfl⟩
abbrev main_v2020 : Ref sig .tc := ⟨.hbm, 3806, rfl⟩
abbrev main_v2021 : Ref sig .tc := ⟨.hbm, 3807, rfl⟩
abbrev main_v2022 : Ref sig .tc := ⟨.hbm, 3808, rfl⟩
abbrev main_v2023 : Ref sig .tc := ⟨.hbm, 3809, rfl⟩
abbrev main_v2024 : Ref sig .tc := ⟨.hbm, 3810, rfl⟩
abbrev main_v2025 : Ref sig .tc := ⟨.hbm, 3811, rfl⟩
abbrev main_v2026 : Ref sig .tc := ⟨.hbm, 3812, rfl⟩
abbrev main_v2027 : Ref sig .tc := ⟨.hbm, 3813, rfl⟩
abbrev main_v2028 : Ref sig .tc := ⟨.hbm, 3814, rfl⟩
abbrev main_v2029 : Ref sig .tc := ⟨.hbm, 3815, rfl⟩
abbrev main_v2030 : Ref sig .tc := ⟨.hbm, 3816, rfl⟩
abbrev main_v2031 : Ref sig .tc := ⟨.hbm, 3817, rfl⟩
abbrev main_v2032 : Ref sig .tc := ⟨.hbm, 3818, rfl⟩
abbrev main_cst_485 : Ref sig .tc := ⟨.hbm, 3819, rfl⟩
abbrev main_v2033 : Ref sig .tc := ⟨.hbm, 3820, rfl⟩
abbrev main_v2034 : Ref sig .tc := ⟨.hbm, 3821, rfl⟩
abbrev main_cst_486 : Ref sig .tc := ⟨.hbm, 3822, rfl⟩
abbrev main_v2035 : Ref sig .tc := ⟨.hbm, 3823, rfl⟩
abbrev main_v2036 : Ref sig .tc := ⟨.hbm, 3824, rfl⟩
abbrev main_v2037 : Ref sig .tc := ⟨.hbm, 3825, rfl⟩
abbrev main_cst_487 : Ref sig .tc := ⟨.hbm, 3826, rfl⟩
abbrev main_v2038 : Ref sig .tc := ⟨.hbm, 3827, rfl⟩
abbrev main_v2039 : Ref sig .tc := ⟨.hbm, 3828, rfl⟩
abbrev main_v2040 : Ref sig .tc := ⟨.hbm, 3829, rfl⟩
abbrev main_cst_488 : Ref sig .tc := ⟨.hbm, 3830, rfl⟩
abbrev main_v2041 : Ref sig .tc := ⟨.hbm, 3831, rfl⟩
abbrev main_v2042 : Ref sig .tc := ⟨.hbm, 3832, rfl⟩
abbrev main_v2043 : Ref sig .tc := ⟨.hbm, 3833, rfl⟩
abbrev main_c_489 : Ref sig .tc := ⟨.hbm, 3834, rfl⟩
abbrev main_c_490 : Ref sig .tc := ⟨.hbm, 3835, rfl⟩
abbrev main_call118_v0 : Ref sig .tc := ⟨.hbm, 3836, rfl⟩
abbrev main_call118_v1 : Ref sig .tc := ⟨.hbm, 3837, rfl⟩
abbrev main_call118_v2 : Ref sig .tc := ⟨.hbm, 3838, rfl⟩
abbrev main_call118_v3 : Ref sig .tc := ⟨.hbm, 3839, rfl⟩
abbrev main_call118_v4 : Ref sig .tc := ⟨.hbm, 3840, rfl⟩
abbrev main_v2044 : Ref sig .tc := ⟨.hbm, 3841, rfl⟩
abbrev main_v2045 : Ref sig .tc := ⟨.hbm, 3842, rfl⟩
abbrev main_c_491 : Ref sig .tc := ⟨.hbm, 3843, rfl⟩
abbrev main_c_492 : Ref sig .tc := ⟨.hbm, 3844, rfl⟩
abbrev main_call119_v0 : Ref sig .tc := ⟨.hbm, 3845, rfl⟩
abbrev main_call119_v1 : Ref sig .tc := ⟨.hbm, 3846, rfl⟩
abbrev main_call119_v2 : Ref sig .tc := ⟨.hbm, 3847, rfl⟩
abbrev main_call119_v3 : Ref sig .tc := ⟨.hbm, 3848, rfl⟩
abbrev main_call119_v4 : Ref sig .tc := ⟨.hbm, 3849, rfl⟩
abbrev main_v2046 : Ref sig .tc := ⟨.hbm, 3850, rfl⟩
abbrev main_v2047 : Ref sig .tc := ⟨.hbm, 3851, rfl⟩
abbrev main_c_493 : Ref sig .tc := ⟨.hbm, 3852, rfl⟩
abbrev main_v2048 : Ref sig .tc := ⟨.hbm, 3853, rfl⟩
abbrev main_v2049 : Ref sig .tc := ⟨.hbm, 3854, rfl⟩
abbrev main_v2050 : Ref sig .tc := ⟨.hbm, 3855, rfl⟩
abbrev main_v2051 : Ref sig .tc := ⟨.hbm, 3856, rfl⟩
abbrev main_v2052 : Ref sig .tc := ⟨.hbm, 3857, rfl⟩
abbrev main_v2053 : Ref sig .tc := ⟨.hbm, 3858, rfl⟩
abbrev main_call120_c : Ref sig .tc := ⟨.hbm, 3859, rfl⟩
abbrev main_call120_v0 : Ref sig .tc := ⟨.hbm, 3860, rfl⟩
abbrev main_call120_v1 : Ref sig .tc := ⟨.hbm, 3861, rfl⟩
abbrev main_call120_c_0 : Ref sig .tc := ⟨.hbm, 3862, rfl⟩
abbrev main_call120_v2 : Ref sig .tc := ⟨.hbm, 3863, rfl⟩
abbrev main_call120_v3 : Ref sig .tc := ⟨.hbm, 3864, rfl⟩
abbrev main_call120_v4 : Ref sig .tc := ⟨.hbm, 3865, rfl⟩
abbrev main_call120_v5 : Ref sig .tc := ⟨.hbm, 3866, rfl⟩
abbrev main_call120_c_1 : Ref sig .tc := ⟨.hbm, 3867, rfl⟩
abbrev main_call120_c_2 : Ref sig .tc := ⟨.hbm, 3868, rfl⟩
abbrev main_call120_v6 : Ref sig .tc := ⟨.hbm, 3869, rfl⟩
abbrev main_call120_v7 : Ref sig .tc := ⟨.hbm, 3870, rfl⟩
abbrev main_call120_v8 : Ref sig .tc := ⟨.hbm, 3871, rfl⟩
abbrev main_call120_v9 : Ref sig .tc := ⟨.hbm, 3872, rfl⟩
abbrev main_call120_v10 : Ref sig .tc := ⟨.hbm, 3873, rfl⟩
abbrev main_call120_v11 : Ref sig .tc := ⟨.hbm, 3874, rfl⟩
abbrev main_call120_c_3 : Ref sig .tc := ⟨.hbm, 3875, rfl⟩
abbrev main_call120_v12 : Ref sig .tc := ⟨.hbm, 3876, rfl⟩
abbrev main_call120_v13 : Ref sig .tc := ⟨.hbm, 3877, rfl⟩
abbrev main_call120_cst : Ref sig .tc := ⟨.hbm, 3878, rfl⟩
abbrev main_call120_v14 : Ref sig .tc := ⟨.hbm, 3879, rfl⟩
abbrev main_v2054 : Ref sig .tc := ⟨.hbm, 3880, rfl⟩
abbrev main_v2055 : Ref sig .tc := ⟨.hbm, 3881, rfl⟩
abbrev main_v2056 : Ref sig .tc := ⟨.hbm, 3882, rfl⟩
abbrev main_v2057 : Ref sig .tc := ⟨.hbm, 3883, rfl⟩
abbrev main_v2058 : Ref sig .tc := ⟨.hbm, 3884, rfl⟩
abbrev main_v2059 : Ref sig .tc := ⟨.hbm, 3885, rfl⟩
abbrev main_v2060 : Ref sig .tc := ⟨.hbm, 3886, rfl⟩
abbrev main_v2061 : Ref sig .tc := ⟨.hbm, 3887, rfl⟩
abbrev main_v2062 : Ref sig .tc := ⟨.hbm, 3888, rfl⟩
abbrev main_cst_494 : Ref sig .tc := ⟨.hbm, 3889, rfl⟩
abbrev main_v2063 : Ref sig .tc := ⟨.hbm, 3890, rfl⟩
abbrev main_v2064 : Ref sig .tc := ⟨.hbm, 3891, rfl⟩
abbrev main_cst_495 : Ref sig .tc := ⟨.hbm, 3892, rfl⟩
abbrev main_v2065 : Ref sig .tc := ⟨.hbm, 3893, rfl⟩
abbrev main_v2066 : Ref sig .tc := ⟨.hbm, 3894, rfl⟩
abbrev main_v2067 : Ref sig .tc := ⟨.hbm, 3895, rfl⟩
abbrev main_cst_496 : Ref sig .tc := ⟨.hbm, 3896, rfl⟩
abbrev main_v2068 : Ref sig .tc := ⟨.hbm, 3897, rfl⟩
abbrev main_v2069 : Ref sig .tc := ⟨.hbm, 3898, rfl⟩
abbrev main_v2070 : Ref sig .tc := ⟨.hbm, 3899, rfl⟩
abbrev main_cst_497 : Ref sig .tc := ⟨.hbm, 3900, rfl⟩
abbrev main_v2071 : Ref sig .tc := ⟨.hbm, 3901, rfl⟩
abbrev main_v2072 : Ref sig .tc := ⟨.hbm, 3902, rfl⟩
abbrev main_v2073 : Ref sig .tc := ⟨.hbm, 3903, rfl⟩
abbrev main_c_498 : Ref sig .tc := ⟨.hbm, 3904, rfl⟩
abbrev main_c_499 : Ref sig .tc := ⟨.hbm, 3905, rfl⟩
abbrev main_call121_v0 : Ref sig .tc := ⟨.hbm, 3906, rfl⟩
abbrev main_call121_v1 : Ref sig .tc := ⟨.hbm, 3907, rfl⟩
abbrev main_call121_v2 : Ref sig .tc := ⟨.hbm, 3908, rfl⟩
abbrev main_call121_v3 : Ref sig .tc := ⟨.hbm, 3909, rfl⟩
abbrev main_call121_v4 : Ref sig .tc := ⟨.hbm, 3910, rfl⟩
abbrev main_v2074 : Ref sig .tc := ⟨.hbm, 3911, rfl⟩
abbrev main_v2075 : Ref sig .tc := ⟨.hbm, 3912, rfl⟩
abbrev main_c_500 : Ref sig .tc := ⟨.hbm, 3913, rfl⟩
abbrev main_c_501 : Ref sig .tc := ⟨.hbm, 3914, rfl⟩
abbrev main_call122_v0 : Ref sig .tc := ⟨.hbm, 3915, rfl⟩
abbrev main_call122_v1 : Ref sig .tc := ⟨.hbm, 3916, rfl⟩
abbrev main_call122_v2 : Ref sig .tc := ⟨.hbm, 3917, rfl⟩
abbrev main_call122_v3 : Ref sig .tc := ⟨.hbm, 3918, rfl⟩
abbrev main_call122_v4 : Ref sig .tc := ⟨.hbm, 3919, rfl⟩
abbrev main_v2076 : Ref sig .tc := ⟨.hbm, 3920, rfl⟩
abbrev main_v2077 : Ref sig .tc := ⟨.hbm, 3921, rfl⟩
abbrev main_c_502 : Ref sig .tc := ⟨.hbm, 3922, rfl⟩
abbrev main_v2078 : Ref sig .tc := ⟨.hbm, 3923, rfl⟩
abbrev main_v2079 : Ref sig .tc := ⟨.hbm, 3924, rfl⟩
abbrev main_v2080 : Ref sig .tc := ⟨.hbm, 3925, rfl⟩
abbrev main_v2081 : Ref sig .tc := ⟨.hbm, 3926, rfl⟩
abbrev main_v2082 : Ref sig .tc := ⟨.hbm, 3927, rfl⟩
abbrev main_v2083 : Ref sig .tc := ⟨.hbm, 3928, rfl⟩
abbrev main_call123_c : Ref sig .tc := ⟨.hbm, 3929, rfl⟩
abbrev main_call123_v0 : Ref sig .tc := ⟨.hbm, 3930, rfl⟩
abbrev main_call123_v1 : Ref sig .tc := ⟨.hbm, 3931, rfl⟩
abbrev main_call123_c_0 : Ref sig .tc := ⟨.hbm, 3932, rfl⟩
abbrev main_call123_v2 : Ref sig .tc := ⟨.hbm, 3933, rfl⟩
abbrev main_call123_v3 : Ref sig .tc := ⟨.hbm, 3934, rfl⟩
abbrev main_call123_v4 : Ref sig .tc := ⟨.hbm, 3935, rfl⟩
abbrev main_call123_v5 : Ref sig .tc := ⟨.hbm, 3936, rfl⟩
abbrev main_call123_c_1 : Ref sig .tc := ⟨.hbm, 3937, rfl⟩
abbrev main_call123_c_2 : Ref sig .tc := ⟨.hbm, 3938, rfl⟩
abbrev main_call123_v6 : Ref sig .tc := ⟨.hbm, 3939, rfl⟩
abbrev main_call123_v7 : Ref sig .tc := ⟨.hbm, 3940, rfl⟩
abbrev main_call123_v8 : Ref sig .tc := ⟨.hbm, 3941, rfl⟩
abbrev main_call123_v9 : Ref sig .tc := ⟨.hbm, 3942, rfl⟩
abbrev main_call123_v10 : Ref sig .tc := ⟨.hbm, 3943, rfl⟩
abbrev main_call123_v11 : Ref sig .tc := ⟨.hbm, 3944, rfl⟩
abbrev main_call123_c_3 : Ref sig .tc := ⟨.hbm, 3945, rfl⟩
abbrev main_call123_v12 : Ref sig .tc := ⟨.hbm, 3946, rfl⟩
abbrev main_call123_v13 : Ref sig .tc := ⟨.hbm, 3947, rfl⟩
abbrev main_call123_cst : Ref sig .tc := ⟨.hbm, 3948, rfl⟩
abbrev main_call123_v14 : Ref sig .tc := ⟨.hbm, 3949, rfl⟩
abbrev main_v2084 : Ref sig .tc := ⟨.hbm, 3950, rfl⟩
abbrev main_v2085 : Ref sig .tc := ⟨.hbm, 3951, rfl⟩
abbrev main_v2086 : Ref sig .tc := ⟨.hbm, 3952, rfl⟩
abbrev main_v2087 : Ref sig .tc := ⟨.hbm, 3953, rfl⟩
abbrev main_v2088 : Ref sig .tc := ⟨.hbm, 3954, rfl⟩
abbrev main_v2089 : Ref sig .tc := ⟨.hbm, 3955, rfl⟩
abbrev main_v2090 : Ref sig .tc := ⟨.hbm, 3956, rfl⟩
abbrev main_v2091 : Ref sig .tc := ⟨.hbm, 3957, rfl⟩
abbrev main_v2092 : Ref sig .tc := ⟨.hbm, 3958, rfl⟩
abbrev main_v2093 : Ref sig .tc := ⟨.hbm, 3959, rfl⟩
abbrev main_cst_503 : Ref sig .tc := ⟨.hbm, 3960, rfl⟩
abbrev main_v2094 : Ref sig .tc := ⟨.hbm, 3961, rfl⟩
abbrev main_v2095 : Ref sig .tc := ⟨.hbm, 3962, rfl⟩
abbrev main_cst_504 : Ref sig .tc := ⟨.hbm, 3963, rfl⟩
abbrev main_v2096 : Ref sig .tc := ⟨.hbm, 3964, rfl⟩
abbrev main_v2097 : Ref sig .tc := ⟨.hbm, 3965, rfl⟩
abbrev main_v2098 : Ref sig .tc := ⟨.hbm, 3966, rfl⟩
abbrev main_cst_505 : Ref sig .tc := ⟨.hbm, 3967, rfl⟩
abbrev main_v2099 : Ref sig .tc := ⟨.hbm, 3968, rfl⟩
abbrev main_v2100 : Ref sig .tc := ⟨.hbm, 3969, rfl⟩
abbrev main_v2101 : Ref sig .tc := ⟨.hbm, 3970, rfl⟩
abbrev main_cst_506 : Ref sig .tc := ⟨.hbm, 3971, rfl⟩
abbrev main_v2102 : Ref sig .tc := ⟨.hbm, 3972, rfl⟩
abbrev main_v2103 : Ref sig .tc := ⟨.hbm, 3973, rfl⟩
abbrev main_v2104 : Ref sig .tc := ⟨.hbm, 3974, rfl⟩
abbrev main_c_507 : Ref sig .tc := ⟨.hbm, 3975, rfl⟩
abbrev main_c_508 : Ref sig .tc := ⟨.hbm, 3976, rfl⟩
abbrev main_call124_v0 : Ref sig .tc := ⟨.hbm, 3977, rfl⟩
abbrev main_call124_v1 : Ref sig .tc := ⟨.hbm, 3978, rfl⟩
abbrev main_call124_v2 : Ref sig .tc := ⟨.hbm, 3979, rfl⟩
abbrev main_call124_v3 : Ref sig .tc := ⟨.hbm, 3980, rfl⟩
abbrev main_call124_v4 : Ref sig .tc := ⟨.hbm, 3981, rfl⟩
abbrev main_v2105 : Ref sig .tc := ⟨.hbm, 3982, rfl⟩
abbrev main_v2106 : Ref sig .tc := ⟨.hbm, 3983, rfl⟩
abbrev main_c_509 : Ref sig .tc := ⟨.hbm, 3984, rfl⟩
abbrev main_c_510 : Ref sig .tc := ⟨.hbm, 3985, rfl⟩
abbrev main_call125_v0 : Ref sig .tc := ⟨.hbm, 3986, rfl⟩
abbrev main_call125_v1 : Ref sig .tc := ⟨.hbm, 3987, rfl⟩
abbrev main_call125_v2 : Ref sig .tc := ⟨.hbm, 3988, rfl⟩
abbrev main_call125_v3 : Ref sig .tc := ⟨.hbm, 3989, rfl⟩
abbrev main_call125_v4 : Ref sig .tc := ⟨.hbm, 3990, rfl⟩
abbrev main_v2107 : Ref sig .tc := ⟨.hbm, 3991, rfl⟩
abbrev main_v2108 : Ref sig .tc := ⟨.hbm, 3992, rfl⟩
abbrev main_c_511 : Ref sig .tc := ⟨.hbm, 3993, rfl⟩
abbrev main_v2109 : Ref sig .tc := ⟨.hbm, 3994, rfl⟩
abbrev main_v2110 : Ref sig .tc := ⟨.hbm, 3995, rfl⟩
abbrev main_v2111 : Ref sig .tc := ⟨.hbm, 3996, rfl⟩
abbrev main_v2112 : Ref sig .tc := ⟨.hbm, 3997, rfl⟩
abbrev main_v2113 : Ref sig .tc := ⟨.hbm, 3998, rfl⟩
abbrev main_v2114 : Ref sig .tc := ⟨.hbm, 3999, rfl⟩
abbrev main_call126_c : Ref sig .tc := ⟨.hbm, 4000, rfl⟩
abbrev main_call126_v0 : Ref sig .tc := ⟨.hbm, 4001, rfl⟩
abbrev main_call126_v1 : Ref sig .tc := ⟨.hbm, 4002, rfl⟩
abbrev main_call126_c_0 : Ref sig .tc := ⟨.hbm, 4003, rfl⟩
abbrev main_call126_v2 : Ref sig .tc := ⟨.hbm, 4004, rfl⟩
abbrev main_call126_v3 : Ref sig .tc := ⟨.hbm, 4005, rfl⟩
abbrev main_call126_v4 : Ref sig .tc := ⟨.hbm, 4006, rfl⟩
abbrev main_call126_v5 : Ref sig .tc := ⟨.hbm, 4007, rfl⟩
abbrev main_call126_c_1 : Ref sig .tc := ⟨.hbm, 4008, rfl⟩
abbrev main_call126_c_2 : Ref sig .tc := ⟨.hbm, 4009, rfl⟩
abbrev main_call126_v6 : Ref sig .tc := ⟨.hbm, 4010, rfl⟩
abbrev main_call126_v7 : Ref sig .tc := ⟨.hbm, 4011, rfl⟩
abbrev main_call126_v8 : Ref sig .tc := ⟨.hbm, 4012, rfl⟩
abbrev main_call126_v9 : Ref sig .tc := ⟨.hbm, 4013, rfl⟩
abbrev main_call126_v10 : Ref sig .tc := ⟨.hbm, 4014, rfl⟩
abbrev main_call126_v11 : Ref sig .tc := ⟨.hbm, 4015, rfl⟩
abbrev main_call126_c_3 : Ref sig .tc := ⟨.hbm, 4016, rfl⟩
abbrev main_call126_v12 : Ref sig .tc := ⟨.hbm, 4017, rfl⟩
abbrev main_call126_v13 : Ref sig .tc := ⟨.hbm, 4018, rfl⟩
abbrev main_call126_cst : Ref sig .tc := ⟨.hbm, 4019, rfl⟩
abbrev main_call126_v14 : Ref sig .tc := ⟨.hbm, 4020, rfl⟩
abbrev main_v2115 : Ref sig .tc := ⟨.hbm, 4021, rfl⟩
abbrev main_v2116 : Ref sig .tc := ⟨.hbm, 4022, rfl⟩
abbrev main_v2117 : Ref sig .tc := ⟨.hbm, 4023, rfl⟩
abbrev main_v2118 : Ref sig .tc := ⟨.hbm, 4024, rfl⟩
abbrev main_v2119 : Ref sig .tc := ⟨.hbm, 4025, rfl⟩
abbrev main_v2120 : Ref sig .tc := ⟨.hbm, 4026, rfl⟩
abbrev main_v2121 : Ref sig .tc := ⟨.hbm, 4027, rfl⟩
abbrev main_v2122 : Ref sig .tc := ⟨.hbm, 4028, rfl⟩
abbrev main_v2123 : Ref sig .tc := ⟨.hbm, 4029, rfl⟩
abbrev main_v2124 : Ref sig .tc := ⟨.hbm, 4030, rfl⟩
abbrev main_cst_512 : Ref sig .tc := ⟨.hbm, 4031, rfl⟩
abbrev main_v2125 : Ref sig .tc := ⟨.hbm, 4032, rfl⟩
abbrev main_v2126 : Ref sig .tc := ⟨.hbm, 4033, rfl⟩
abbrev main_cst_513 : Ref sig .tc := ⟨.hbm, 4034, rfl⟩
abbrev main_v2127 : Ref sig .tc := ⟨.hbm, 4035, rfl⟩
abbrev main_v2128 : Ref sig .tc := ⟨.hbm, 4036, rfl⟩
abbrev main_v2129 : Ref sig .tc := ⟨.hbm, 4037, rfl⟩
abbrev main_cst_514 : Ref sig .tc := ⟨.hbm, 4038, rfl⟩
abbrev main_v2130 : Ref sig .tc := ⟨.hbm, 4039, rfl⟩
abbrev main_v2131 : Ref sig .tc := ⟨.hbm, 4040, rfl⟩
abbrev main_v2132 : Ref sig .tc := ⟨.hbm, 4041, rfl⟩
abbrev main_cst_515 : Ref sig .tc := ⟨.hbm, 4042, rfl⟩
abbrev main_v2133 : Ref sig .tc := ⟨.hbm, 4043, rfl⟩
abbrev main_v2134 : Ref sig .tc := ⟨.hbm, 4044, rfl⟩
abbrev main_v2135 : Ref sig .tc := ⟨.hbm, 4045, rfl⟩
abbrev main_c_516 : Ref sig .tc := ⟨.hbm, 4046, rfl⟩
abbrev main_c_517 : Ref sig .tc := ⟨.hbm, 4047, rfl⟩
abbrev main_call127_v0 : Ref sig .tc := ⟨.hbm, 4048, rfl⟩
abbrev main_call127_v1 : Ref sig .tc := ⟨.hbm, 4049, rfl⟩
abbrev main_call127_v2 : Ref sig .tc := ⟨.hbm, 4050, rfl⟩
abbrev main_call127_v3 : Ref sig .tc := ⟨.hbm, 4051, rfl⟩
abbrev main_call127_v4 : Ref sig .tc := ⟨.hbm, 4052, rfl⟩
abbrev main_v2136 : Ref sig .tc := ⟨.hbm, 4053, rfl⟩
abbrev main_v2137 : Ref sig .tc := ⟨.hbm, 4054, rfl⟩
abbrev main_c_518 : Ref sig .tc := ⟨.hbm, 4055, rfl⟩
abbrev main_c_519 : Ref sig .tc := ⟨.hbm, 4056, rfl⟩
abbrev main_call128_v0 : Ref sig .tc := ⟨.hbm, 4057, rfl⟩
abbrev main_call128_v1 : Ref sig .tc := ⟨.hbm, 4058, rfl⟩
abbrev main_call128_v2 : Ref sig .tc := ⟨.hbm, 4059, rfl⟩
abbrev main_call128_v3 : Ref sig .tc := ⟨.hbm, 4060, rfl⟩
abbrev main_call128_v4 : Ref sig .tc := ⟨.hbm, 4061, rfl⟩
abbrev main_v2138 : Ref sig .tc := ⟨.hbm, 4062, rfl⟩
abbrev main_v2139 : Ref sig .tc := ⟨.hbm, 4063, rfl⟩
abbrev main_c_520 : Ref sig .tc := ⟨.hbm, 4064, rfl⟩
abbrev main_v2140 : Ref sig .tc := ⟨.hbm, 4065, rfl⟩
abbrev main_v2141 : Ref sig .tc := ⟨.hbm, 4066, rfl⟩
abbrev main_v2142 : Ref sig .tc := ⟨.hbm, 4067, rfl⟩
abbrev main_v2143 : Ref sig .tc := ⟨.hbm, 4068, rfl⟩
abbrev main_v2144 : Ref sig .tc := ⟨.hbm, 4069, rfl⟩
abbrev main_v2145 : Ref sig .tc := ⟨.hbm, 4070, rfl⟩
abbrev main_call129_c : Ref sig .tc := ⟨.hbm, 4071, rfl⟩
abbrev main_call129_v0 : Ref sig .tc := ⟨.hbm, 4072, rfl⟩
abbrev main_call129_v1 : Ref sig .tc := ⟨.hbm, 4073, rfl⟩
abbrev main_call129_c_0 : Ref sig .tc := ⟨.hbm, 4074, rfl⟩
abbrev main_call129_v2 : Ref sig .tc := ⟨.hbm, 4075, rfl⟩
abbrev main_call129_v3 : Ref sig .tc := ⟨.hbm, 4076, rfl⟩
abbrev main_call129_v4 : Ref sig .tc := ⟨.hbm, 4077, rfl⟩
abbrev main_call129_v5 : Ref sig .tc := ⟨.hbm, 4078, rfl⟩
abbrev main_call129_c_1 : Ref sig .tc := ⟨.hbm, 4079, rfl⟩
abbrev main_call129_c_2 : Ref sig .tc := ⟨.hbm, 4080, rfl⟩
abbrev main_call129_v6 : Ref sig .tc := ⟨.hbm, 4081, rfl⟩
abbrev main_call129_v7 : Ref sig .tc := ⟨.hbm, 4082, rfl⟩
abbrev main_call129_v8 : Ref sig .tc := ⟨.hbm, 4083, rfl⟩
abbrev main_call129_v9 : Ref sig .tc := ⟨.hbm, 4084, rfl⟩
abbrev main_call129_v10 : Ref sig .tc := ⟨.hbm, 4085, rfl⟩
abbrev main_call129_v11 : Ref sig .tc := ⟨.hbm, 4086, rfl⟩
abbrev main_call129_c_3 : Ref sig .tc := ⟨.hbm, 4087, rfl⟩
abbrev main_call129_v12 : Ref sig .tc := ⟨.hbm, 4088, rfl⟩
abbrev main_call129_v13 : Ref sig .tc := ⟨.hbm, 4089, rfl⟩
abbrev main_call129_cst : Ref sig .tc := ⟨.hbm, 4090, rfl⟩
abbrev main_call129_v14 : Ref sig .tc := ⟨.hbm, 4091, rfl⟩
abbrev main_v2146 : Ref sig .tc := ⟨.hbm, 4092, rfl⟩
abbrev main_v2147 : Ref sig .tc := ⟨.hbm, 4093, rfl⟩
abbrev main_v2148 : Ref sig .tc := ⟨.hbm, 4094, rfl⟩
abbrev main_v2149 : Ref sig .tc := ⟨.hbm, 4095, rfl⟩

abbrev main_v2150 : Ref sig .tc := ⟨.hbm, 4096, rfl⟩
abbrev main_v2151 : Ref sig .tc := ⟨.hbm, 4097, rfl⟩
abbrev main_v2152 : Ref sig .tc := ⟨.hbm, 4098, rfl⟩
abbrev main_v2153 : Ref sig .tc := ⟨.hbm, 4099, rfl⟩
abbrev main_v2154 : Ref sig .tc := ⟨.hbm, 4100, rfl⟩
abbrev main_v2155 : Ref sig .tc := ⟨.hbm, 4101, rfl⟩
abbrev main_v2156 : Ref sig .tc := ⟨.hbm, 4102, rfl⟩
abbrev main_v2157 : Ref sig .tc := ⟨.hbm, 4103, rfl⟩
abbrev main_v2158 : Ref sig .tc := ⟨.hbm, 4104, rfl⟩
abbrev main_v2159 : Ref sig .tc := ⟨.hbm, 4105, rfl⟩
abbrev main_v2160 : Ref sig .tc := ⟨.hbm, 4106, rfl⟩
abbrev main_v2161 : Ref sig .tc := ⟨.hbm, 4107, rfl⟩
abbrev main_v2162 : Ref sig .tc := ⟨.hbm, 4108, rfl⟩
abbrev main_v2163 : Ref sig .tc := ⟨.hbm, 4109, rfl⟩
abbrev main_v2164 : Ref sig .tc := ⟨.hbm, 4110, rfl⟩
abbrev main_cst_521 : Ref sig .tc := ⟨.hbm, 4111, rfl⟩
abbrev main_v2165 : Ref sig .tc := ⟨.hbm, 4112, rfl⟩
abbrev main_v2166 : Ref sig .tc := ⟨.hbm, 4113, rfl⟩
abbrev main_cst_522 : Ref sig .tc := ⟨.hbm, 4114, rfl⟩
abbrev main_v2167 : Ref sig .tc := ⟨.hbm, 4115, rfl⟩
abbrev main_v2168 : Ref sig .tc := ⟨.hbm, 4116, rfl⟩
abbrev main_cst_523 : Ref sig .tc := ⟨.hbm, 4117, rfl⟩
abbrev main_v2169 : Ref sig .tc := ⟨.hbm, 4118, rfl⟩
abbrev main_v2170 : Ref sig .tc := ⟨.hbm, 4119, rfl⟩
abbrev main_cst_524 : Ref sig .tc := ⟨.hbm, 4120, rfl⟩
abbrev main_v2171 : Ref sig .tc := ⟨.hbm, 4121, rfl⟩
abbrev main_v2172 : Ref sig .tc := ⟨.hbm, 4122, rfl⟩
abbrev main_v2173 : Ref sig .tc := ⟨.hbm, 4123, rfl⟩
abbrev main_v2174 : Ref sig .tc := ⟨.hbm, 4124, rfl⟩
abbrev main_cst_525 : Ref sig .tc := ⟨.hbm, 4125, rfl⟩
abbrev main_v2175 : Ref sig .tc := ⟨.hbm, 4126, rfl⟩
abbrev main_v2176 : Ref sig .tc := ⟨.hbm, 4127, rfl⟩
abbrev main_cst_526 : Ref sig .tc := ⟨.hbm, 4128, rfl⟩
abbrev main_v2177 : Ref sig .tc := ⟨.hbm, 4129, rfl⟩
abbrev main_v2178 : Ref sig .tc := ⟨.hbm, 4130, rfl⟩
abbrev main_cst_527 : Ref sig .tc := ⟨.hbm, 4131, rfl⟩
abbrev main_v2179 : Ref sig .tc := ⟨.hbm, 4132, rfl⟩
abbrev main_v2180 : Ref sig .tc := ⟨.hbm, 4133, rfl⟩
abbrev main_cst_528 : Ref sig .tc := ⟨.hbm, 4134, rfl⟩
abbrev main_v2181 : Ref sig .tc := ⟨.hbm, 4135, rfl⟩
abbrev main_v2182 : Ref sig .tc := ⟨.hbm, 4136, rfl⟩
abbrev main_v2183 : Ref sig .tc := ⟨.hbm, 4137, rfl⟩
abbrev main_v2184 : Ref sig .tc := ⟨.hbm, 4138, rfl⟩
abbrev main_cst_529 : Ref sig .tc := ⟨.hbm, 4139, rfl⟩
abbrev main_v2185 : Ref sig .tc := ⟨.hbm, 4140, rfl⟩
abbrev main_v2186 : Ref sig .tc := ⟨.hbm, 4141, rfl⟩
abbrev main_cst_530 : Ref sig .tc := ⟨.hbm, 4142, rfl⟩
abbrev main_v2187 : Ref sig .tc := ⟨.hbm, 4143, rfl⟩
abbrev main_v2188 : Ref sig .tc := ⟨.hbm, 4144, rfl⟩
abbrev main_v2189 : Ref sig .tc := ⟨.hbm, 4145, rfl⟩
abbrev main_v2190 : Ref sig .tc := ⟨.hbm, 4146, rfl⟩
abbrev main_v2191 : Ref sig .tc := ⟨.hbm, 4147, rfl⟩
abbrev main_v2192 : Ref sig .tc := ⟨.hbm, 4148, rfl⟩
abbrev main_v2193 : Ref sig .tc := ⟨.hbm, 4149, rfl⟩
abbrev main_v2194 : Ref sig .tc := ⟨.hbm, 4150, rfl⟩
abbrev main_v2195 : Ref sig .tc := ⟨.hbm, 4151, rfl⟩
abbrev main_v2196 : Ref sig .tc := ⟨.hbm, 4152, rfl⟩
abbrev main_v2197 : Ref sig .tc := ⟨.hbm, 4153, rfl⟩
abbrev main_v2198 : Ref sig .tc := ⟨.hbm, 4154, rfl⟩
abbrev main_v2199 : Ref sig .tc := ⟨.hbm, 4155, rfl⟩
abbrev main_v2200 : Ref sig .tc := ⟨.hbm, 4156, rfl⟩
abbrev main_v2201 : Ref sig .tc := ⟨.hbm, 4157, rfl⟩
abbrev main_cst_531 : Ref sig .tc := ⟨.hbm, 4158, rfl⟩
abbrev main_v2202 : Ref sig .tc := ⟨.hbm, 4159, rfl⟩
abbrev main_v2203 : Ref sig .tc := ⟨.hbm, 4160, rfl⟩
abbrev main_cst_532 : Ref sig .tc := ⟨.hbm, 4161, rfl⟩
abbrev main_v2204 : Ref sig .tc := ⟨.hbm, 4162, rfl⟩
abbrev main_v2205 : Ref sig .tc := ⟨.hbm, 4163, rfl⟩
abbrev main_v2206 : Ref sig .tc := ⟨.hbm, 4164, rfl⟩
abbrev main_cst_533 : Ref sig .tc := ⟨.hbm, 4165, rfl⟩
abbrev main_v2207 : Ref sig .tc := ⟨.hbm, 4166, rfl⟩
abbrev main_v2208 : Ref sig .tc := ⟨.hbm, 4167, rfl⟩
abbrev main_v2209 : Ref sig .tc := ⟨.hbm, 4168, rfl⟩
abbrev main_cst_534 : Ref sig .tc := ⟨.hbm, 4169, rfl⟩
abbrev main_v2210 : Ref sig .tc := ⟨.hbm, 4170, rfl⟩
abbrev main_v2211 : Ref sig .tc := ⟨.hbm, 4171, rfl⟩
abbrev main_v2212 : Ref sig .tc := ⟨.hbm, 4172, rfl⟩
abbrev main_c_535 : Ref sig .tc := ⟨.hbm, 4173, rfl⟩
abbrev main_c_536 : Ref sig .tc := ⟨.hbm, 4174, rfl⟩
abbrev main_call130_v0 : Ref sig .tc := ⟨.hbm, 4175, rfl⟩
abbrev main_call130_v1 : Ref sig .tc := ⟨.hbm, 4176, rfl⟩
abbrev main_call130_v2 : Ref sig .tc := ⟨.hbm, 4177, rfl⟩
abbrev main_call130_v3 : Ref sig .tc := ⟨.hbm, 4178, rfl⟩
abbrev main_call130_v4 : Ref sig .tc := ⟨.hbm, 4179, rfl⟩
abbrev main_v2213 : Ref sig .tc := ⟨.hbm, 4180, rfl⟩
abbrev main_v2214 : Ref sig .tc := ⟨.hbm, 4181, rfl⟩
abbrev main_c_537 : Ref sig .tc := ⟨.hbm, 4182, rfl⟩
abbrev main_c_538 : Ref sig .tc := ⟨.hbm, 4183, rfl⟩
abbrev main_call131_v0 : Ref sig .tc := ⟨.hbm, 4184, rfl⟩
abbrev main_call131_v1 : Ref sig .tc := ⟨.hbm, 4185, rfl⟩
abbrev main_call131_v2 : Ref sig .tc := ⟨.hbm, 4186, rfl⟩
abbrev main_call131_v3 : Ref sig .tc := ⟨.hbm, 4187, rfl⟩
abbrev main_call131_v4 : Ref sig .tc := ⟨.hbm, 4188, rfl⟩
abbrev main_v2215 : Ref sig .tc := ⟨.hbm, 4189, rfl⟩
abbrev main_v2216 : Ref sig .tc := ⟨.hbm, 4190, rfl⟩
abbrev main_c_539 : Ref sig .tc := ⟨.hbm, 4191, rfl⟩
abbrev main_v2217 : Ref sig .tc := ⟨.hbm, 4192, rfl⟩
abbrev main_v2218 : Ref sig .tc := ⟨.hbm, 4193, rfl⟩
abbrev main_v2219 : Ref sig .tc := ⟨.hbm, 4194, rfl⟩
abbrev main_v2220 : Ref sig .tc := ⟨.hbm, 4195, rfl⟩
abbrev main_v2221 : Ref sig .tc := ⟨.hbm, 4196, rfl⟩
abbrev main_v2222 : Ref sig .tc := ⟨.hbm, 4197, rfl⟩
abbrev main_call132_c : Ref sig .tc := ⟨.hbm, 4198, rfl⟩
abbrev main_call132_v0 : Ref sig .tc := ⟨.hbm, 4199, rfl⟩
abbrev main_call132_v1 : Ref sig .tc := ⟨.hbm, 4200, rfl⟩
abbrev main_call132_c_0 : Ref sig .tc := ⟨.hbm, 4201, rfl⟩
abbrev main_call132_v2 : Ref sig .tc := ⟨.hbm, 4202, rfl⟩
abbrev main_call132_v3 : Ref sig .tc := ⟨.hbm, 4203, rfl⟩
abbrev main_call132_v4 : Ref sig .tc := ⟨.hbm, 4204, rfl⟩
abbrev main_call132_v5 : Ref sig .tc := ⟨.hbm, 4205, rfl⟩
abbrev main_call132_c_1 : Ref sig .tc := ⟨.hbm, 4206, rfl⟩
abbrev main_call132_c_2 : Ref sig .tc := ⟨.hbm, 4207, rfl⟩
abbrev main_call132_v6 : Ref sig .tc := ⟨.hbm, 4208, rfl⟩
abbrev main_call132_v7 : Ref sig .tc := ⟨.hbm, 4209, rfl⟩
abbrev main_call132_v8 : Ref sig .tc := ⟨.hbm, 4210, rfl⟩
abbrev main_call132_v9 : Ref sig .tc := ⟨.hbm, 4211, rfl⟩
abbrev main_call132_v10 : Ref sig .tc := ⟨.hbm, 4212, rfl⟩
abbrev main_call132_v11 : Ref sig .tc := ⟨.hbm, 4213, rfl⟩
abbrev main_call132_c_3 : Ref sig .tc := ⟨.hbm, 4214, rfl⟩
abbrev main_call132_v12 : Ref sig .tc := ⟨.hbm, 4215, rfl⟩
abbrev main_call132_v13 : Ref sig .tc := ⟨.hbm, 4216, rfl⟩
abbrev main_call132_cst : Ref sig .tc := ⟨.hbm, 4217, rfl⟩
abbrev main_call132_v14 : Ref sig .tc := ⟨.hbm, 4218, rfl⟩
abbrev main_v2223 : Ref sig .tc := ⟨.hbm, 4219, rfl⟩
abbrev main_v2224 : Ref sig .tc := ⟨.hbm, 4220, rfl⟩
abbrev main_v2225 : Ref sig .tc := ⟨.hbm, 4221, rfl⟩
abbrev main_v2226 : Ref sig .tc := ⟨.hbm, 4222, rfl⟩
abbrev main_v2227 : Ref sig .tc := ⟨.hbm, 4223, rfl⟩
abbrev main_v2228 : Ref sig .tc := ⟨.hbm, 4224, rfl⟩
abbrev main_v2229 : Ref sig .tc := ⟨.hbm, 4225, rfl⟩
abbrev main_v2230 : Ref sig .tc := ⟨.hbm, 4226, rfl⟩
abbrev main_v2231 : Ref sig .tc := ⟨.hbm, 4227, rfl⟩
abbrev main_cst_540 : Ref sig .tc := ⟨.hbm, 4228, rfl⟩
abbrev main_v2232 : Ref sig .tc := ⟨.hbm, 4229, rfl⟩
abbrev main_v2233 : Ref sig .tc := ⟨.hbm, 4230, rfl⟩
abbrev main_cst_541 : Ref sig .tc := ⟨.hbm, 4231, rfl⟩
abbrev main_v2234 : Ref sig .tc := ⟨.hbm, 4232, rfl⟩
abbrev main_v2235 : Ref sig .tc := ⟨.hbm, 4233, rfl⟩
abbrev main_v2236 : Ref sig .tc := ⟨.hbm, 4234, rfl⟩
abbrev main_cst_542 : Ref sig .tc := ⟨.hbm, 4235, rfl⟩
abbrev main_v2237 : Ref sig .tc := ⟨.hbm, 4236, rfl⟩
abbrev main_v2238 : Ref sig .tc := ⟨.hbm, 4237, rfl⟩
abbrev main_v2239 : Ref sig .tc := ⟨.hbm, 4238, rfl⟩
abbrev main_cst_543 : Ref sig .tc := ⟨.hbm, 4239, rfl⟩
abbrev main_v2240 : Ref sig .tc := ⟨.hbm, 4240, rfl⟩
abbrev main_v2241 : Ref sig .tc := ⟨.hbm, 4241, rfl⟩
abbrev main_v2242 : Ref sig .tc := ⟨.hbm, 4242, rfl⟩
abbrev main_c_544 : Ref sig .tc := ⟨.hbm, 4243, rfl⟩
abbrev main_c_545 : Ref sig .tc := ⟨.hbm, 4244, rfl⟩
abbrev main_call133_v0 : Ref sig .tc := ⟨.hbm, 4245, rfl⟩
abbrev main_call133_v1 : Ref sig .tc := ⟨.hbm, 4246, rfl⟩
abbrev main_call133_v2 : Ref sig .tc := ⟨.hbm, 4247, rfl⟩
abbrev main_call133_v3 : Ref sig .tc := ⟨.hbm, 4248, rfl⟩
abbrev main_call133_v4 : Ref sig .tc := ⟨.hbm, 4249, rfl⟩
abbrev main_v2243 : Ref sig .tc := ⟨.hbm, 4250, rfl⟩
abbrev main_v2244 : Ref sig .tc := ⟨.hbm, 4251, rfl⟩
abbrev main_c_546 : Ref sig .tc := ⟨.hbm, 4252, rfl⟩
abbrev main_c_547 : Ref sig .tc := ⟨.hbm, 4253, rfl⟩
abbrev main_call134_v0 : Ref sig .tc := ⟨.hbm, 4254, rfl⟩
abbrev main_call134_v1 : Ref sig .tc := ⟨.hbm, 4255, rfl⟩
abbrev main_call134_v2 : Ref sig .tc := ⟨.hbm, 4256, rfl⟩
abbrev main_call134_v3 : Ref sig .tc := ⟨.hbm, 4257, rfl⟩
abbrev main_call134_v4 : Ref sig .tc := ⟨.hbm, 4258, rfl⟩
abbrev main_v2245 : Ref sig .tc := ⟨.hbm, 4259, rfl⟩
abbrev main_v2246 : Ref sig .tc := ⟨.hbm, 4260, rfl⟩
abbrev main_c_548 : Ref sig .tc := ⟨.hbm, 4261, rfl⟩
abbrev main_v2247 : Ref sig .tc := ⟨.hbm, 4262, rfl⟩
abbrev main_v2248 : Ref sig .tc := ⟨.hbm, 4263, rfl⟩
abbrev main_v2249 : Ref sig .tc := ⟨.hbm, 4264, rfl⟩
abbrev main_v2250 : Ref sig .tc := ⟨.hbm, 4265, rfl⟩
abbrev main_v2251 : Ref sig .tc := ⟨.hbm, 4266, rfl⟩
abbrev main_v2252 : Ref sig .tc := ⟨.hbm, 4267, rfl⟩
abbrev main_call135_c : Ref sig .tc := ⟨.hbm, 4268, rfl⟩
abbrev main_call135_v0 : Ref sig .tc := ⟨.hbm, 4269, rfl⟩
abbrev main_call135_v1 : Ref sig .tc := ⟨.hbm, 4270, rfl⟩
abbrev main_call135_c_0 : Ref sig .tc := ⟨.hbm, 4271, rfl⟩
abbrev main_call135_v2 : Ref sig .tc := ⟨.hbm, 4272, rfl⟩
abbrev main_call135_v3 : Ref sig .tc := ⟨.hbm, 4273, rfl⟩
abbrev main_call135_v4 : Ref sig .tc := ⟨.hbm, 4274, rfl⟩
abbrev main_call135_v5 : Ref sig .tc := ⟨.hbm, 4275, rfl⟩
abbrev main_call135_c_1 : Ref sig .tc := ⟨.hbm, 4276, rfl⟩
abbrev main_call135_c_2 : Ref sig .tc := ⟨.hbm, 4277, rfl⟩
abbrev main_call135_v6 : Ref sig .tc := ⟨.hbm, 4278, rfl⟩
abbrev main_call135_v7 : Ref sig .tc := ⟨.hbm, 4279, rfl⟩
abbrev main_call135_v8 : Ref sig .tc := ⟨.hbm, 4280, rfl⟩
abbrev main_call135_v9 : Ref sig .tc := ⟨.hbm, 4281, rfl⟩
abbrev main_call135_v10 : Ref sig .tc := ⟨.hbm, 4282, rfl⟩
abbrev main_call135_v11 : Ref sig .tc := ⟨.hbm, 4283, rfl⟩
abbrev main_call135_c_3 : Ref sig .tc := ⟨.hbm, 4284, rfl⟩
abbrev main_call135_v12 : Ref sig .tc := ⟨.hbm, 4285, rfl⟩
abbrev main_call135_v13 : Ref sig .tc := ⟨.hbm, 4286, rfl⟩
abbrev main_call135_cst : Ref sig .tc := ⟨.hbm, 4287, rfl⟩
abbrev main_call135_v14 : Ref sig .tc := ⟨.hbm, 4288, rfl⟩
abbrev main_v2253 : Ref sig .tc := ⟨.hbm, 4289, rfl⟩
abbrev main_v2254 : Ref sig .tc := ⟨.hbm, 4290, rfl⟩
abbrev main_v2255 : Ref sig .tc := ⟨.hbm, 4291, rfl⟩
abbrev main_v2256 : Ref sig .tc := ⟨.hbm, 4292, rfl⟩
abbrev main_v2257 : Ref sig .tc := ⟨.hbm, 4293, rfl⟩
abbrev main_v2258 : Ref sig .tc := ⟨.hbm, 4294, rfl⟩
abbrev main_v2259 : Ref sig .tc := ⟨.hbm, 4295, rfl⟩
abbrev main_v2260 : Ref sig .tc := ⟨.hbm, 4296, rfl⟩
abbrev main_v2261 : Ref sig .tc := ⟨.hbm, 4297, rfl⟩
abbrev main_v2262 : Ref sig .tc := ⟨.hbm, 4298, rfl⟩
abbrev main_cst_549 : Ref sig .tc := ⟨.hbm, 4299, rfl⟩
abbrev main_v2263 : Ref sig .tc := ⟨.hbm, 4300, rfl⟩
abbrev main_v2264 : Ref sig .tc := ⟨.hbm, 4301, rfl⟩
abbrev main_cst_550 : Ref sig .tc := ⟨.hbm, 4302, rfl⟩
abbrev main_v2265 : Ref sig .tc := ⟨.hbm, 4303, rfl⟩
abbrev main_v2266 : Ref sig .tc := ⟨.hbm, 4304, rfl⟩
abbrev main_v2267 : Ref sig .tc := ⟨.hbm, 4305, rfl⟩
abbrev main_cst_551 : Ref sig .tc := ⟨.hbm, 4306, rfl⟩
abbrev main_v2268 : Ref sig .tc := ⟨.hbm, 4307, rfl⟩
abbrev main_v2269 : Ref sig .tc := ⟨.hbm, 4308, rfl⟩
abbrev main_v2270 : Ref sig .tc := ⟨.hbm, 4309, rfl⟩
abbrev main_cst_552 : Ref sig .tc := ⟨.hbm, 4310, rfl⟩
abbrev main_v2271 : Ref sig .tc := ⟨.hbm, 4311, rfl⟩
abbrev main_v2272 : Ref sig .tc := ⟨.hbm, 4312, rfl⟩
abbrev main_v2273 : Ref sig .tc := ⟨.hbm, 4313, rfl⟩
abbrev main_c_553 : Ref sig .tc := ⟨.hbm, 4314, rfl⟩
abbrev main_c_554 : Ref sig .tc := ⟨.hbm, 4315, rfl⟩
abbrev main_call136_v0 : Ref sig .tc := ⟨.hbm, 4316, rfl⟩
abbrev main_call136_v1 : Ref sig .tc := ⟨.hbm, 4317, rfl⟩
abbrev main_call136_v2 : Ref sig .tc := ⟨.hbm, 4318, rfl⟩
abbrev main_call136_v3 : Ref sig .tc := ⟨.hbm, 4319, rfl⟩
abbrev main_call136_v4 : Ref sig .tc := ⟨.hbm, 4320, rfl⟩
abbrev main_v2274 : Ref sig .tc := ⟨.hbm, 4321, rfl⟩
abbrev main_v2275 : Ref sig .tc := ⟨.hbm, 4322, rfl⟩
abbrev main_c_555 : Ref sig .tc := ⟨.hbm, 4323, rfl⟩
abbrev main_c_556 : Ref sig .tc := ⟨.hbm, 4324, rfl⟩
abbrev main_call137_v0 : Ref sig .tc := ⟨.hbm, 4325, rfl⟩
abbrev main_call137_v1 : Ref sig .tc := ⟨.hbm, 4326, rfl⟩
abbrev main_call137_v2 : Ref sig .tc := ⟨.hbm, 4327, rfl⟩
abbrev main_call137_v3 : Ref sig .tc := ⟨.hbm, 4328, rfl⟩
abbrev main_call137_v4 : Ref sig .tc := ⟨.hbm, 4329, rfl⟩
abbrev main_v2276 : Ref sig .tc := ⟨.hbm, 4330, rfl⟩
abbrev main_v2277 : Ref sig .tc := ⟨.hbm, 4331, rfl⟩
abbrev main_c_557 : Ref sig .tc := ⟨.hbm, 4332, rfl⟩
abbrev main_v2278 : Ref sig .tc := ⟨.hbm, 4333, rfl⟩
abbrev main_v2279 : Ref sig .tc := ⟨.hbm, 4334, rfl⟩
abbrev main_v2280 : Ref sig .tc := ⟨.hbm, 4335, rfl⟩
abbrev main_v2281 : Ref sig .tc := ⟨.hbm, 4336, rfl⟩
abbrev main_v2282 : Ref sig .tc := ⟨.hbm, 4337, rfl⟩
abbrev main_v2283 : Ref sig .tc := ⟨.hbm, 4338, rfl⟩
abbrev main_call138_c : Ref sig .tc := ⟨.hbm, 4339, rfl⟩
abbrev main_call138_v0 : Ref sig .tc := ⟨.hbm, 4340, rfl⟩
abbrev main_call138_v1 : Ref sig .tc := ⟨.hbm, 4341, rfl⟩
abbrev main_call138_c_0 : Ref sig .tc := ⟨.hbm, 4342, rfl⟩
abbrev main_call138_v2 : Ref sig .tc := ⟨.hbm, 4343, rfl⟩
abbrev main_call138_v3 : Ref sig .tc := ⟨.hbm, 4344, rfl⟩
abbrev main_call138_v4 : Ref sig .tc := ⟨.hbm, 4345, rfl⟩
abbrev main_call138_v5 : Ref sig .tc := ⟨.hbm, 4346, rfl⟩
abbrev main_call138_c_1 : Ref sig .tc := ⟨.hbm, 4347, rfl⟩
abbrev main_call138_c_2 : Ref sig .tc := ⟨.hbm, 4348, rfl⟩
abbrev main_call138_v6 : Ref sig .tc := ⟨.hbm, 4349, rfl⟩
abbrev main_call138_v7 : Ref sig .tc := ⟨.hbm, 4350, rfl⟩
abbrev main_call138_v8 : Ref sig .tc := ⟨.hbm, 4351, rfl⟩
abbrev main_call138_v9 : Ref sig .tc := ⟨.hbm, 4352, rfl⟩
abbrev main_call138_v10 : Ref sig .tc := ⟨.hbm, 4353, rfl⟩
abbrev main_call138_v11 : Ref sig .tc := ⟨.hbm, 4354, rfl⟩
abbrev main_call138_c_3 : Ref sig .tc := ⟨.hbm, 4355, rfl⟩
abbrev main_call138_v12 : Ref sig .tc := ⟨.hbm, 4356, rfl⟩
abbrev main_call138_v13 : Ref sig .tc := ⟨.hbm, 4357, rfl⟩
abbrev main_call138_cst : Ref sig .tc := ⟨.hbm, 4358, rfl⟩
abbrev main_call138_v14 : Ref sig .tc := ⟨.hbm, 4359, rfl⟩
abbrev main_v2284 : Ref sig .tc := ⟨.hbm, 4360, rfl⟩
abbrev main_v2285 : Ref sig .tc := ⟨.hbm, 4361, rfl⟩
abbrev main_v2286 : Ref sig .tc := ⟨.hbm, 4362, rfl⟩
abbrev main_v2287 : Ref sig .tc := ⟨.hbm, 4363, rfl⟩
abbrev main_v2288 : Ref sig .tc := ⟨.hbm, 4364, rfl⟩
abbrev main_v2289 : Ref sig .tc := ⟨.hbm, 4365, rfl⟩
abbrev main_v2290 : Ref sig .tc := ⟨.hbm, 4366, rfl⟩
abbrev main_v2291 : Ref sig .tc := ⟨.hbm, 4367, rfl⟩
abbrev main_v2292 : Ref sig .tc := ⟨.hbm, 4368, rfl⟩
abbrev main_v2293 : Ref sig .tc := ⟨.hbm, 4369, rfl⟩
abbrev main_cst_558 : Ref sig .tc := ⟨.hbm, 4370, rfl⟩
abbrev main_v2294 : Ref sig .tc := ⟨.hbm, 4371, rfl⟩
abbrev main_v2295 : Ref sig .tc := ⟨.hbm, 4372, rfl⟩
abbrev main_cst_559 : Ref sig .tc := ⟨.hbm, 4373, rfl⟩
abbrev main_v2296 : Ref sig .tc := ⟨.hbm, 4374, rfl⟩
abbrev main_v2297 : Ref sig .tc := ⟨.hbm, 4375, rfl⟩
abbrev main_v2298 : Ref sig .tc := ⟨.hbm, 4376, rfl⟩
abbrev main_cst_560 : Ref sig .tc := ⟨.hbm, 4377, rfl⟩
abbrev main_v2299 : Ref sig .tc := ⟨.hbm, 4378, rfl⟩
abbrev main_v2300 : Ref sig .tc := ⟨.hbm, 4379, rfl⟩
abbrev main_v2301 : Ref sig .tc := ⟨.hbm, 4380, rfl⟩
abbrev main_cst_561 : Ref sig .tc := ⟨.hbm, 4381, rfl⟩
abbrev main_v2302 : Ref sig .tc := ⟨.hbm, 4382, rfl⟩
abbrev main_v2303 : Ref sig .tc := ⟨.hbm, 4383, rfl⟩
abbrev main_v2304 : Ref sig .tc := ⟨.hbm, 4384, rfl⟩
abbrev main_c_562 : Ref sig .tc := ⟨.hbm, 4385, rfl⟩
abbrev main_c_563 : Ref sig .tc := ⟨.hbm, 4386, rfl⟩
abbrev main_call139_v0 : Ref sig .tc := ⟨.hbm, 4387, rfl⟩
abbrev main_call139_v1 : Ref sig .tc := ⟨.hbm, 4388, rfl⟩
abbrev main_call139_v2 : Ref sig .tc := ⟨.hbm, 4389, rfl⟩
abbrev main_call139_v3 : Ref sig .tc := ⟨.hbm, 4390, rfl⟩
abbrev main_call139_v4 : Ref sig .tc := ⟨.hbm, 4391, rfl⟩
abbrev main_v2305 : Ref sig .tc := ⟨.hbm, 4392, rfl⟩
abbrev main_v2306 : Ref sig .tc := ⟨.hbm, 4393, rfl⟩
abbrev main_c_564 : Ref sig .tc := ⟨.hbm, 4394, rfl⟩
abbrev main_c_565 : Ref sig .tc := ⟨.hbm, 4395, rfl⟩
abbrev main_call140_v0 : Ref sig .tc := ⟨.hbm, 4396, rfl⟩
abbrev main_call140_v1 : Ref sig .tc := ⟨.hbm, 4397, rfl⟩
abbrev main_call140_v2 : Ref sig .tc := ⟨.hbm, 4398, rfl⟩
abbrev main_call140_v3 : Ref sig .tc := ⟨.hbm, 4399, rfl⟩
abbrev main_call140_v4 : Ref sig .tc := ⟨.hbm, 4400, rfl⟩
abbrev main_v2307 : Ref sig .tc := ⟨.hbm, 4401, rfl⟩
abbrev main_v2308 : Ref sig .tc := ⟨.hbm, 4402, rfl⟩
abbrev main_c_566 : Ref sig .tc := ⟨.hbm, 4403, rfl⟩
abbrev main_v2309 : Ref sig .tc := ⟨.hbm, 4404, rfl⟩
abbrev main_v2310 : Ref sig .tc := ⟨.hbm, 4405, rfl⟩
abbrev main_v2311 : Ref sig .tc := ⟨.hbm, 4406, rfl⟩
abbrev main_v2312 : Ref sig .tc := ⟨.hbm, 4407, rfl⟩
abbrev main_v2313 : Ref sig .tc := ⟨.hbm, 4408, rfl⟩
abbrev main_v2314 : Ref sig .tc := ⟨.hbm, 4409, rfl⟩
abbrev main_call141_c : Ref sig .tc := ⟨.hbm, 4410, rfl⟩
abbrev main_call141_v0 : Ref sig .tc := ⟨.hbm, 4411, rfl⟩
abbrev main_call141_v1 : Ref sig .tc := ⟨.hbm, 4412, rfl⟩
abbrev main_call141_c_0 : Ref sig .tc := ⟨.hbm, 4413, rfl⟩
abbrev main_call141_v2 : Ref sig .tc := ⟨.hbm, 4414, rfl⟩
abbrev main_call141_v3 : Ref sig .tc := ⟨.hbm, 4415, rfl⟩
abbrev main_call141_v4 : Ref sig .tc := ⟨.hbm, 4416, rfl⟩
abbrev main_call141_v5 : Ref sig .tc := ⟨.hbm, 4417, rfl⟩
abbrev main_call141_c_1 : Ref sig .tc := ⟨.hbm, 4418, rfl⟩
abbrev main_call141_c_2 : Ref sig .tc := ⟨.hbm, 4419, rfl⟩
abbrev main_call141_v6 : Ref sig .tc := ⟨.hbm, 4420, rfl⟩
abbrev main_call141_v7 : Ref sig .tc := ⟨.hbm, 4421, rfl⟩
abbrev main_call141_v8 : Ref sig .tc := ⟨.hbm, 4422, rfl⟩
abbrev main_call141_v9 : Ref sig .tc := ⟨.hbm, 4423, rfl⟩
abbrev main_call141_v10 : Ref sig .tc := ⟨.hbm, 4424, rfl⟩
abbrev main_call141_v11 : Ref sig .tc := ⟨.hbm, 4425, rfl⟩
abbrev main_call141_c_3 : Ref sig .tc := ⟨.hbm, 4426, rfl⟩
abbrev main_call141_v12 : Ref sig .tc := ⟨.hbm, 4427, rfl⟩
abbrev main_call141_v13 : Ref sig .tc := ⟨.hbm, 4428, rfl⟩
abbrev main_call141_cst : Ref sig .tc := ⟨.hbm, 4429, rfl⟩
abbrev main_call141_v14 : Ref sig .tc := ⟨.hbm, 4430, rfl⟩
abbrev main_v2315 : Ref sig .tc := ⟨.hbm, 4431, rfl⟩
abbrev main_v2316 : Ref sig .tc := ⟨.hbm, 4432, rfl⟩
abbrev main_v2317 : Ref sig .tc := ⟨.hbm, 4433, rfl⟩
abbrev main_v2318 : Ref sig .tc := ⟨.hbm, 4434, rfl⟩
abbrev main_v2319 : Ref sig .tc := ⟨.hbm, 4435, rfl⟩
abbrev main_v2320 : Ref sig .tc := ⟨.hbm, 4436, rfl⟩
abbrev main_v2321 : Ref sig .tc := ⟨.hbm, 4437, rfl⟩
abbrev main_v2322 : Ref sig .tc := ⟨.hbm, 4438, rfl⟩
abbrev main_v2323 : Ref sig .tc := ⟨.hbm, 4439, rfl⟩
abbrev main_v2324 : Ref sig .tc := ⟨.hbm, 4440, rfl⟩
abbrev main_v2325 : Ref sig .tc := ⟨.hbm, 4441, rfl⟩
abbrev main_v2326 : Ref sig .tc := ⟨.hbm, 4442, rfl⟩
abbrev main_v2327 : Ref sig .tc := ⟨.hbm, 4443, rfl⟩
abbrev main_v2328 : Ref sig .tc := ⟨.hbm, 4444, rfl⟩
abbrev main_v2329 : Ref sig .tc := ⟨.hbm, 4445, rfl⟩
abbrev main_v2330 : Ref sig .tc := ⟨.hbm, 4446, rfl⟩
abbrev main_v2331 : Ref sig .tc := ⟨.hbm, 4447, rfl⟩
abbrev main_v2332 : Ref sig .tc := ⟨.hbm, 4448, rfl⟩
abbrev main_v2333 : Ref sig .tc := ⟨.hbm, 4449, rfl⟩
abbrev main_cst_567 : Ref sig .tc := ⟨.hbm, 4450, rfl⟩
abbrev main_v2334 : Ref sig .tc := ⟨.hbm, 4451, rfl⟩
abbrev main_v2335 : Ref sig .tc := ⟨.hbm, 4452, rfl⟩
abbrev main_cst_568 : Ref sig .tc := ⟨.hbm, 4453, rfl⟩
abbrev main_v2336 : Ref sig .tc := ⟨.hbm, 4454, rfl⟩
abbrev main_v2337 : Ref sig .tc := ⟨.hbm, 4455, rfl⟩
abbrev main_cst_569 : Ref sig .tc := ⟨.hbm, 4456, rfl⟩
abbrev main_v2338 : Ref sig .tc := ⟨.hbm, 4457, rfl⟩
abbrev main_v2339 : Ref sig .tc := ⟨.hbm, 4458, rfl⟩
abbrev main_cst_570 : Ref sig .tc := ⟨.hbm, 4459, rfl⟩
abbrev main_v2340 : Ref sig .tc := ⟨.hbm, 4460, rfl⟩
abbrev main_v2341 : Ref sig .tc := ⟨.hbm, 4461, rfl⟩
abbrev main_v2342 : Ref sig .tc := ⟨.hbm, 4462, rfl⟩
abbrev main_v2343 : Ref sig .tc := ⟨.hbm, 4463, rfl⟩
abbrev main_cst_571 : Ref sig .tc := ⟨.hbm, 4464, rfl⟩
abbrev main_v2344 : Ref sig .tc := ⟨.hbm, 4465, rfl⟩
abbrev main_v2345 : Ref sig .tc := ⟨.hbm, 4466, rfl⟩
abbrev main_cst_572 : Ref sig .tc := ⟨.hbm, 4467, rfl⟩
abbrev main_v2346 : Ref sig .tc := ⟨.hbm, 4468, rfl⟩
abbrev main_v2347 : Ref sig .tc := ⟨.hbm, 4469, rfl⟩
abbrev main_cst_573 : Ref sig .tc := ⟨.hbm, 4470, rfl⟩
abbrev main_v2348 : Ref sig .tc := ⟨.hbm, 4471, rfl⟩
abbrev main_v2349 : Ref sig .tc := ⟨.hbm, 4472, rfl⟩
abbrev main_cst_574 : Ref sig .tc := ⟨.hbm, 4473, rfl⟩
abbrev main_v2350 : Ref sig .tc := ⟨.hbm, 4474, rfl⟩
abbrev main_v2351 : Ref sig .tc := ⟨.hbm, 4475, rfl⟩
abbrev main_v2352 : Ref sig .tc := ⟨.hbm, 4476, rfl⟩
abbrev main_v2353 : Ref sig .tc := ⟨.hbm, 4477, rfl⟩
abbrev main_cst_575 : Ref sig .tc := ⟨.hbm, 4478, rfl⟩
abbrev main_v2354 : Ref sig .tc := ⟨.hbm, 4479, rfl⟩
abbrev main_v2355 : Ref sig .tc := ⟨.hbm, 4480, rfl⟩
abbrev main_cst_576 : Ref sig .tc := ⟨.hbm, 4481, rfl⟩
abbrev main_v2356 : Ref sig .tc := ⟨.hbm, 4482, rfl⟩
abbrev main_v2357 : Ref sig .tc := ⟨.hbm, 4483, rfl⟩
abbrev main_v2358 : Ref sig .tc := ⟨.hbm, 4484, rfl⟩
abbrev main_v2359 : Ref sig .tc := ⟨.hbm, 4485, rfl⟩
abbrev main_v2360 : Ref sig .tc := ⟨.hbm, 4486, rfl⟩
abbrev main_v2361 : Ref sig .tc := ⟨.hbm, 4487, rfl⟩
abbrev main_v2362 : Ref sig .tc := ⟨.hbm, 4488, rfl⟩
abbrev main_v2363 : Ref sig .tc := ⟨.hbm, 4489, rfl⟩
abbrev main_v2364 : Ref sig .tc := ⟨.hbm, 4490, rfl⟩
abbrev main_v2365 : Ref sig .tc := ⟨.hbm, 4491, rfl⟩
abbrev main_v2366 : Ref sig .tc := ⟨.hbm, 4492, rfl⟩
abbrev main_v2367 : Ref sig .tc := ⟨.hbm, 4493, rfl⟩
abbrev main_v2368 : Ref sig .tc := ⟨.hbm, 4494, rfl⟩
abbrev main_v2369 : Ref sig .tc := ⟨.hbm, 4495, rfl⟩
abbrev main_v2370 : Ref sig .tc := ⟨.hbm, 4496, rfl⟩
abbrev main_cst_577 : Ref sig .tc := ⟨.hbm, 4497, rfl⟩
abbrev main_v2371 : Ref sig .tc := ⟨.hbm, 4498, rfl⟩
abbrev main_v2372 : Ref sig .tc := ⟨.hbm, 4499, rfl⟩
abbrev main_cst_578 : Ref sig .tc := ⟨.hbm, 4500, rfl⟩
abbrev main_v2373 : Ref sig .tc := ⟨.hbm, 4501, rfl⟩
abbrev main_v2374 : Ref sig .tc := ⟨.hbm, 4502, rfl⟩
abbrev main_v2375 : Ref sig .tc := ⟨.hbm, 4503, rfl⟩
abbrev main_cst_579 : Ref sig .tc := ⟨.hbm, 4504, rfl⟩
abbrev main_v2376 : Ref sig .tc := ⟨.hbm, 4505, rfl⟩
abbrev main_v2377 : Ref sig .tc := ⟨.hbm, 4506, rfl⟩
abbrev main_v2378 : Ref sig .tc := ⟨.hbm, 4507, rfl⟩
abbrev main_cst_580 : Ref sig .tc := ⟨.hbm, 4508, rfl⟩
abbrev main_v2379 : Ref sig .tc := ⟨.hbm, 4509, rfl⟩
abbrev main_v2380 : Ref sig .tc := ⟨.hbm, 4510, rfl⟩
abbrev main_v2381 : Ref sig .tc := ⟨.hbm, 4511, rfl⟩
abbrev main_c_581 : Ref sig .tc := ⟨.hbm, 4512, rfl⟩
abbrev main_c_582 : Ref sig .tc := ⟨.hbm, 4513, rfl⟩
abbrev main_call142_v0 : Ref sig .tc := ⟨.hbm, 4514, rfl⟩
abbrev main_call142_v1 : Ref sig .tc := ⟨.hbm, 4515, rfl⟩
abbrev main_call142_v2 : Ref sig .tc := ⟨.hbm, 4516, rfl⟩
abbrev main_call142_v3 : Ref sig .tc := ⟨.hbm, 4517, rfl⟩
abbrev main_call142_v4 : Ref sig .tc := ⟨.hbm, 4518, rfl⟩
abbrev main_v2382 : Ref sig .tc := ⟨.hbm, 4519, rfl⟩
abbrev main_v2383 : Ref sig .tc := ⟨.hbm, 4520, rfl⟩
abbrev main_c_583 : Ref sig .tc := ⟨.hbm, 4521, rfl⟩
abbrev main_c_584 : Ref sig .tc := ⟨.hbm, 4522, rfl⟩
abbrev main_call143_v0 : Ref sig .tc := ⟨.hbm, 4523, rfl⟩
abbrev main_call143_v1 : Ref sig .tc := ⟨.hbm, 4524, rfl⟩
abbrev main_call143_v2 : Ref sig .tc := ⟨.hbm, 4525, rfl⟩
abbrev main_call143_v3 : Ref sig .tc := ⟨.hbm, 4526, rfl⟩
abbrev main_call143_v4 : Ref sig .tc := ⟨.hbm, 4527, rfl⟩
abbrev main_v2384 : Ref sig .tc := ⟨.hbm, 4528, rfl⟩
abbrev main_v2385 : Ref sig .tc := ⟨.hbm, 4529, rfl⟩
abbrev main_c_585 : Ref sig .tc := ⟨.hbm, 4530, rfl⟩
abbrev main_v2386 : Ref sig .tc := ⟨.hbm, 4531, rfl⟩
abbrev main_v2387 : Ref sig .tc := ⟨.hbm, 4532, rfl⟩
abbrev main_v2388 : Ref sig .tc := ⟨.hbm, 4533, rfl⟩
abbrev main_v2389 : Ref sig .tc := ⟨.hbm, 4534, rfl⟩
abbrev main_v2390 : Ref sig .tc := ⟨.hbm, 4535, rfl⟩
abbrev main_v2391 : Ref sig .tc := ⟨.hbm, 4536, rfl⟩
abbrev main_call144_c : Ref sig .tc := ⟨.hbm, 4537, rfl⟩
abbrev main_call144_v0 : Ref sig .tc := ⟨.hbm, 4538, rfl⟩
abbrev main_call144_v1 : Ref sig .tc := ⟨.hbm, 4539, rfl⟩
abbrev main_call144_c_0 : Ref sig .tc := ⟨.hbm, 4540, rfl⟩
abbrev main_call144_v2 : Ref sig .tc := ⟨.hbm, 4541, rfl⟩
abbrev main_call144_v3 : Ref sig .tc := ⟨.hbm, 4542, rfl⟩
abbrev main_call144_v4 : Ref sig .tc := ⟨.hbm, 4543, rfl⟩
abbrev main_call144_v5 : Ref sig .tc := ⟨.hbm, 4544, rfl⟩
abbrev main_call144_c_1 : Ref sig .tc := ⟨.hbm, 4545, rfl⟩
abbrev main_call144_c_2 : Ref sig .tc := ⟨.hbm, 4546, rfl⟩
abbrev main_call144_v6 : Ref sig .tc := ⟨.hbm, 4547, rfl⟩
abbrev main_call144_v7 : Ref sig .tc := ⟨.hbm, 4548, rfl⟩
abbrev main_call144_v8 : Ref sig .tc := ⟨.hbm, 4549, rfl⟩
abbrev main_call144_v9 : Ref sig .tc := ⟨.hbm, 4550, rfl⟩
abbrev main_call144_v10 : Ref sig .tc := ⟨.hbm, 4551, rfl⟩
abbrev main_call144_v11 : Ref sig .tc := ⟨.hbm, 4552, rfl⟩
abbrev main_call144_c_3 : Ref sig .tc := ⟨.hbm, 4553, rfl⟩
abbrev main_call144_v12 : Ref sig .tc := ⟨.hbm, 4554, rfl⟩
abbrev main_call144_v13 : Ref sig .tc := ⟨.hbm, 4555, rfl⟩
abbrev main_call144_cst : Ref sig .tc := ⟨.hbm, 4556, rfl⟩
abbrev main_call144_v14 : Ref sig .tc := ⟨.hbm, 4557, rfl⟩
abbrev main_v2392 : Ref sig .tc := ⟨.hbm, 4558, rfl⟩
abbrev main_v2393 : Ref sig .tc := ⟨.hbm, 4559, rfl⟩
abbrev main_v2394 : Ref sig .tc := ⟨.hbm, 4560, rfl⟩
abbrev main_v2395 : Ref sig .tc := ⟨.hbm, 4561, rfl⟩
abbrev main_v2396 : Ref sig .tc := ⟨.hbm, 4562, rfl⟩
abbrev main_v2397 : Ref sig .tc := ⟨.hbm, 4563, rfl⟩
abbrev main_v2398 : Ref sig .tc := ⟨.hbm, 4564, rfl⟩
abbrev main_v2399 : Ref sig .tc := ⟨.hbm, 4565, rfl⟩
abbrev main_v2400 : Ref sig .tc := ⟨.hbm, 4566, rfl⟩
abbrev main_cst_586 : Ref sig .tc := ⟨.hbm, 4567, rfl⟩
abbrev main_v2401 : Ref sig .tc := ⟨.hbm, 4568, rfl⟩
abbrev main_v2402 : Ref sig .tc := ⟨.hbm, 4569, rfl⟩
abbrev main_cst_587 : Ref sig .tc := ⟨.hbm, 4570, rfl⟩
abbrev main_v2403 : Ref sig .tc := ⟨.hbm, 4571, rfl⟩
abbrev main_v2404 : Ref sig .tc := ⟨.hbm, 4572, rfl⟩
abbrev main_v2405 : Ref sig .tc := ⟨.hbm, 4573, rfl⟩
abbrev main_cst_588 : Ref sig .tc := ⟨.hbm, 4574, rfl⟩
abbrev main_v2406 : Ref sig .tc := ⟨.hbm, 4575, rfl⟩
abbrev main_v2407 : Ref sig .tc := ⟨.hbm, 4576, rfl⟩
abbrev main_v2408 : Ref sig .tc := ⟨.hbm, 4577, rfl⟩
abbrev main_cst_589 : Ref sig .tc := ⟨.hbm, 4578, rfl⟩
abbrev main_v2409 : Ref sig .tc := ⟨.hbm, 4579, rfl⟩
abbrev main_v2410 : Ref sig .tc := ⟨.hbm, 4580, rfl⟩
abbrev main_v2411 : Ref sig .tc := ⟨.hbm, 4581, rfl⟩
abbrev main_c_590 : Ref sig .tc := ⟨.hbm, 4582, rfl⟩
abbrev main_c_591 : Ref sig .tc := ⟨.hbm, 4583, rfl⟩
abbrev main_call145_v0 : Ref sig .tc := ⟨.hbm, 4584, rfl⟩
abbrev main_call145_v1 : Ref sig .tc := ⟨.hbm, 4585, rfl⟩
abbrev main_call145_v2 : Ref sig .tc := ⟨.hbm, 4586, rfl⟩
abbrev main_call145_v3 : Ref sig .tc := ⟨.hbm, 4587, rfl⟩
abbrev main_call145_v4 : Ref sig .tc := ⟨.hbm, 4588, rfl⟩
abbrev main_v2412 : Ref sig .tc := ⟨.hbm, 4589, rfl⟩
abbrev main_v2413 : Ref sig .tc := ⟨.hbm, 4590, rfl⟩
abbrev main_c_592 : Ref sig .tc := ⟨.hbm, 4591, rfl⟩
abbrev main_c_593 : Ref sig .tc := ⟨.hbm, 4592, rfl⟩
abbrev main_call146_v0 : Ref sig .tc := ⟨.hbm, 4593, rfl⟩
abbrev main_call146_v1 : Ref sig .tc := ⟨.hbm, 4594, rfl⟩
abbrev main_call146_v2 : Ref sig .tc := ⟨.hbm, 4595, rfl⟩
abbrev main_call146_v3 : Ref sig .tc := ⟨.hbm, 4596, rfl⟩
abbrev main_call146_v4 : Ref sig .tc := ⟨.hbm, 4597, rfl⟩
abbrev main_v2414 : Ref sig .tc := ⟨.hbm, 4598, rfl⟩
abbrev main_v2415 : Ref sig .tc := ⟨.hbm, 4599, rfl⟩
abbrev main_c_594 : Ref sig .tc := ⟨.hbm, 4600, rfl⟩
abbrev main_v2416 : Ref sig .tc := ⟨.hbm, 4601, rfl⟩
abbrev main_v2417 : Ref sig .tc := ⟨.hbm, 4602, rfl⟩
abbrev main_v2418 : Ref sig .tc := ⟨.hbm, 4603, rfl⟩
abbrev main_v2419 : Ref sig .tc := ⟨.hbm, 4604, rfl⟩
abbrev main_v2420 : Ref sig .tc := ⟨.hbm, 4605, rfl⟩
abbrev main_v2421 : Ref sig .tc := ⟨.hbm, 4606, rfl⟩
abbrev main_call147_c : Ref sig .tc := ⟨.hbm, 4607, rfl⟩
abbrev main_call147_v0 : Ref sig .tc := ⟨.hbm, 4608, rfl⟩
abbrev main_call147_v1 : Ref sig .tc := ⟨.hbm, 4609, rfl⟩
abbrev main_call147_c_0 : Ref sig .tc := ⟨.hbm, 4610, rfl⟩
abbrev main_call147_v2 : Ref sig .tc := ⟨.hbm, 4611, rfl⟩
abbrev main_call147_v3 : Ref sig .tc := ⟨.hbm, 4612, rfl⟩
abbrev main_call147_v4 : Ref sig .tc := ⟨.hbm, 4613, rfl⟩
abbrev main_call147_v5 : Ref sig .tc := ⟨.hbm, 4614, rfl⟩
abbrev main_call147_c_1 : Ref sig .tc := ⟨.hbm, 4615, rfl⟩
abbrev main_call147_c_2 : Ref sig .tc := ⟨.hbm, 4616, rfl⟩
abbrev main_call147_v6 : Ref sig .tc := ⟨.hbm, 4617, rfl⟩
abbrev main_call147_v7 : Ref sig .tc := ⟨.hbm, 4618, rfl⟩
abbrev main_call147_v8 : Ref sig .tc := ⟨.hbm, 4619, rfl⟩
abbrev main_call147_v9 : Ref sig .tc := ⟨.hbm, 4620, rfl⟩
abbrev main_call147_v10 : Ref sig .tc := ⟨.hbm, 4621, rfl⟩
abbrev main_call147_v11 : Ref sig .tc := ⟨.hbm, 4622, rfl⟩
abbrev main_call147_c_3 : Ref sig .tc := ⟨.hbm, 4623, rfl⟩
abbrev main_call147_v12 : Ref sig .tc := ⟨.hbm, 4624, rfl⟩
abbrev main_call147_v13 : Ref sig .tc := ⟨.hbm, 4625, rfl⟩
abbrev main_call147_cst : Ref sig .tc := ⟨.hbm, 4626, rfl⟩
abbrev main_call147_v14 : Ref sig .tc := ⟨.hbm, 4627, rfl⟩
abbrev main_v2422 : Ref sig .tc := ⟨.hbm, 4628, rfl⟩
abbrev main_v2423 : Ref sig .tc := ⟨.hbm, 4629, rfl⟩
abbrev main_v2424 : Ref sig .tc := ⟨.hbm, 4630, rfl⟩
abbrev main_v2425 : Ref sig .tc := ⟨.hbm, 4631, rfl⟩
abbrev main_v2426 : Ref sig .tc := ⟨.hbm, 4632, rfl⟩
abbrev main_v2427 : Ref sig .tc := ⟨.hbm, 4633, rfl⟩
abbrev main_v2428 : Ref sig .tc := ⟨.hbm, 4634, rfl⟩
abbrev main_v2429 : Ref sig .tc := ⟨.hbm, 4635, rfl⟩
abbrev main_v2430 : Ref sig .tc := ⟨.hbm, 4636, rfl⟩
abbrev main_v2431 : Ref sig .tc := ⟨.hbm, 4637, rfl⟩
abbrev main_cst_595 : Ref sig .tc := ⟨.hbm, 4638, rfl⟩
abbrev main_v2432 : Ref sig .tc := ⟨.hbm, 4639, rfl⟩
abbrev main_v2433 : Ref sig .tc := ⟨.hbm, 4640, rfl⟩
abbrev main_cst_596 : Ref sig .tc := ⟨.hbm, 4641, rfl⟩
abbrev main_v2434 : Ref sig .tc := ⟨.hbm, 4642, rfl⟩
abbrev main_v2435 : Ref sig .tc := ⟨.hbm, 4643, rfl⟩
abbrev main_v2436 : Ref sig .tc := ⟨.hbm, 4644, rfl⟩
abbrev main_cst_597 : Ref sig .tc := ⟨.hbm, 4645, rfl⟩
abbrev main_v2437 : Ref sig .tc := ⟨.hbm, 4646, rfl⟩
abbrev main_v2438 : Ref sig .tc := ⟨.hbm, 4647, rfl⟩
abbrev main_v2439 : Ref sig .tc := ⟨.hbm, 4648, rfl⟩
abbrev main_cst_598 : Ref sig .tc := ⟨.hbm, 4649, rfl⟩
abbrev main_v2440 : Ref sig .tc := ⟨.hbm, 4650, rfl⟩
abbrev main_v2441 : Ref sig .tc := ⟨.hbm, 4651, rfl⟩
abbrev main_v2442 : Ref sig .tc := ⟨.hbm, 4652, rfl⟩
abbrev main_c_599 : Ref sig .tc := ⟨.hbm, 4653, rfl⟩
abbrev main_c_600 : Ref sig .tc := ⟨.hbm, 4654, rfl⟩
abbrev main_call148_v0 : Ref sig .tc := ⟨.hbm, 4655, rfl⟩
abbrev main_call148_v1 : Ref sig .tc := ⟨.hbm, 4656, rfl⟩
abbrev main_call148_v2 : Ref sig .tc := ⟨.hbm, 4657, rfl⟩
abbrev main_call148_v3 : Ref sig .tc := ⟨.hbm, 4658, rfl⟩
abbrev main_call148_v4 : Ref sig .tc := ⟨.hbm, 4659, rfl⟩
abbrev main_v2443 : Ref sig .tc := ⟨.hbm, 4660, rfl⟩
abbrev main_v2444 : Ref sig .tc := ⟨.hbm, 4661, rfl⟩
abbrev main_c_601 : Ref sig .tc := ⟨.hbm, 4662, rfl⟩
abbrev main_c_602 : Ref sig .tc := ⟨.hbm, 4663, rfl⟩
abbrev main_call149_v0 : Ref sig .tc := ⟨.hbm, 4664, rfl⟩
abbrev main_call149_v1 : Ref sig .tc := ⟨.hbm, 4665, rfl⟩
abbrev main_call149_v2 : Ref sig .tc := ⟨.hbm, 4666, rfl⟩
abbrev main_call149_v3 : Ref sig .tc := ⟨.hbm, 4667, rfl⟩
abbrev main_call149_v4 : Ref sig .tc := ⟨.hbm, 4668, rfl⟩
abbrev main_v2445 : Ref sig .tc := ⟨.hbm, 4669, rfl⟩
abbrev main_v2446 : Ref sig .tc := ⟨.hbm, 4670, rfl⟩
abbrev main_c_603 : Ref sig .tc := ⟨.hbm, 4671, rfl⟩
abbrev main_v2447 : Ref sig .tc := ⟨.hbm, 4672, rfl⟩
abbrev main_v2448 : Ref sig .tc := ⟨.hbm, 4673, rfl⟩
abbrev main_v2449 : Ref sig .tc := ⟨.hbm, 4674, rfl⟩
abbrev main_v2450 : Ref sig .tc := ⟨.hbm, 4675, rfl⟩
abbrev main_v2451 : Ref sig .tc := ⟨.hbm, 4676, rfl⟩
abbrev main_v2452 : Ref sig .tc := ⟨.hbm, 4677, rfl⟩
abbrev main_call150_c : Ref sig .tc := ⟨.hbm, 4678, rfl⟩
abbrev main_call150_v0 : Ref sig .tc := ⟨.hbm, 4679, rfl⟩
abbrev main_call150_v1 : Ref sig .tc := ⟨.hbm, 4680, rfl⟩
abbrev main_call150_c_0 : Ref sig .tc := ⟨.hbm, 4681, rfl⟩
abbrev main_call150_v2 : Ref sig .tc := ⟨.hbm, 4682, rfl⟩
abbrev main_call150_v3 : Ref sig .tc := ⟨.hbm, 4683, rfl⟩
abbrev main_call150_v4 : Ref sig .tc := ⟨.hbm, 4684, rfl⟩
abbrev main_call150_v5 : Ref sig .tc := ⟨.hbm, 4685, rfl⟩
abbrev main_call150_c_1 : Ref sig .tc := ⟨.hbm, 4686, rfl⟩
abbrev main_call150_c_2 : Ref sig .tc := ⟨.hbm, 4687, rfl⟩
abbrev main_call150_v6 : Ref sig .tc := ⟨.hbm, 4688, rfl⟩
abbrev main_call150_v7 : Ref sig .tc := ⟨.hbm, 4689, rfl⟩
abbrev main_call150_v8 : Ref sig .tc := ⟨.hbm, 4690, rfl⟩
abbrev main_call150_v9 : Ref sig .tc := ⟨.hbm, 4691, rfl⟩
abbrev main_call150_v10 : Ref sig .tc := ⟨.hbm, 4692, rfl⟩
abbrev main_call150_v11 : Ref sig .tc := ⟨.hbm, 4693, rfl⟩
abbrev main_call150_c_3 : Ref sig .tc := ⟨.hbm, 4694, rfl⟩
abbrev main_call150_v12 : Ref sig .tc := ⟨.hbm, 4695, rfl⟩
abbrev main_call150_v13 : Ref sig .tc := ⟨.hbm, 4696, rfl⟩
abbrev main_call150_cst : Ref sig .tc := ⟨.hbm, 4697, rfl⟩
abbrev main_call150_v14 : Ref sig .tc := ⟨.hbm, 4698, rfl⟩
abbrev main_v2453 : Ref sig .tc := ⟨.hbm, 4699, rfl⟩
abbrev main_v2454 : Ref sig .tc := ⟨.hbm, 4700, rfl⟩
abbrev main_v2455 : Ref sig .tc := ⟨.hbm, 4701, rfl⟩
abbrev main_v2456 : Ref sig .tc := ⟨.hbm, 4702, rfl⟩
abbrev main_v2457 : Ref sig .tc := ⟨.hbm, 4703, rfl⟩
abbrev main_v2458 : Ref sig .tc := ⟨.hbm, 4704, rfl⟩
abbrev main_v2459 : Ref sig .tc := ⟨.hbm, 4705, rfl⟩
abbrev main_v2460 : Ref sig .tc := ⟨.hbm, 4706, rfl⟩
abbrev main_v2461 : Ref sig .tc := ⟨.hbm, 4707, rfl⟩
abbrev main_v2462 : Ref sig .tc := ⟨.hbm, 4708, rfl⟩
abbrev main_cst_604 : Ref sig .tc := ⟨.hbm, 4709, rfl⟩
abbrev main_v2463 : Ref sig .tc := ⟨.hbm, 4710, rfl⟩
abbrev main_v2464 : Ref sig .tc := ⟨.hbm, 4711, rfl⟩
abbrev main_cst_605 : Ref sig .tc := ⟨.hbm, 4712, rfl⟩
abbrev main_v2465 : Ref sig .tc := ⟨.hbm, 4713, rfl⟩
abbrev main_v2466 : Ref sig .tc := ⟨.hbm, 4714, rfl⟩
abbrev main_v2467 : Ref sig .tc := ⟨.hbm, 4715, rfl⟩
abbrev main_cst_606 : Ref sig .tc := ⟨.hbm, 4716, rfl⟩
abbrev main_v2468 : Ref sig .tc := ⟨.hbm, 4717, rfl⟩
abbrev main_v2469 : Ref sig .tc := ⟨.hbm, 4718, rfl⟩
abbrev main_v2470 : Ref sig .tc := ⟨.hbm, 4719, rfl⟩
abbrev main_cst_607 : Ref sig .tc := ⟨.hbm, 4720, rfl⟩
abbrev main_v2471 : Ref sig .tc := ⟨.hbm, 4721, rfl⟩
abbrev main_v2472 : Ref sig .tc := ⟨.hbm, 4722, rfl⟩
abbrev main_v2473 : Ref sig .tc := ⟨.hbm, 4723, rfl⟩
abbrev main_c_608 : Ref sig .tc := ⟨.hbm, 4724, rfl⟩
abbrev main_c_609 : Ref sig .tc := ⟨.hbm, 4725, rfl⟩
abbrev main_call151_v0 : Ref sig .tc := ⟨.hbm, 4726, rfl⟩
abbrev main_call151_v1 : Ref sig .tc := ⟨.hbm, 4727, rfl⟩
abbrev main_call151_v2 : Ref sig .tc := ⟨.hbm, 4728, rfl⟩
abbrev main_call151_v3 : Ref sig .tc := ⟨.hbm, 4729, rfl⟩
abbrev main_call151_v4 : Ref sig .tc := ⟨.hbm, 4730, rfl⟩
abbrev main_v2474 : Ref sig .tc := ⟨.hbm, 4731, rfl⟩
abbrev main_v2475 : Ref sig .tc := ⟨.hbm, 4732, rfl⟩
abbrev main_c_610 : Ref sig .tc := ⟨.hbm, 4733, rfl⟩
abbrev main_c_611 : Ref sig .tc := ⟨.hbm, 4734, rfl⟩
abbrev main_call152_v0 : Ref sig .tc := ⟨.hbm, 4735, rfl⟩
abbrev main_call152_v1 : Ref sig .tc := ⟨.hbm, 4736, rfl⟩
abbrev main_call152_v2 : Ref sig .tc := ⟨.hbm, 4737, rfl⟩
abbrev main_call152_v3 : Ref sig .tc := ⟨.hbm, 4738, rfl⟩
abbrev main_call152_v4 : Ref sig .tc := ⟨.hbm, 4739, rfl⟩
abbrev main_v2476 : Ref sig .tc := ⟨.hbm, 4740, rfl⟩
abbrev main_v2477 : Ref sig .tc := ⟨.hbm, 4741, rfl⟩
abbrev main_c_612 : Ref sig .tc := ⟨.hbm, 4742, rfl⟩
abbrev main_v2478 : Ref sig .tc := ⟨.hbm, 4743, rfl⟩
abbrev main_v2479 : Ref sig .tc := ⟨.hbm, 4744, rfl⟩
abbrev main_v2480 : Ref sig .tc := ⟨.hbm, 4745, rfl⟩
abbrev main_v2481 : Ref sig .tc := ⟨.hbm, 4746, rfl⟩
abbrev main_v2482 : Ref sig .tc := ⟨.hbm, 4747, rfl⟩
abbrev main_v2483 : Ref sig .tc := ⟨.hbm, 4748, rfl⟩
abbrev main_call153_c : Ref sig .tc := ⟨.hbm, 4749, rfl⟩
abbrev main_call153_v0 : Ref sig .tc := ⟨.hbm, 4750, rfl⟩
abbrev main_call153_v1 : Ref sig .tc := ⟨.hbm, 4751, rfl⟩
abbrev main_call153_c_0 : Ref sig .tc := ⟨.hbm, 4752, rfl⟩
abbrev main_call153_v2 : Ref sig .tc := ⟨.hbm, 4753, rfl⟩
abbrev main_call153_v3 : Ref sig .tc := ⟨.hbm, 4754, rfl⟩
abbrev main_call153_v4 : Ref sig .tc := ⟨.hbm, 4755, rfl⟩
abbrev main_call153_v5 : Ref sig .tc := ⟨.hbm, 4756, rfl⟩
abbrev main_call153_c_1 : Ref sig .tc := ⟨.hbm, 4757, rfl⟩
abbrev main_call153_c_2 : Ref sig .tc := ⟨.hbm, 4758, rfl⟩
abbrev main_call153_v6 : Ref sig .tc := ⟨.hbm, 4759, rfl⟩
abbrev main_call153_v7 : Ref sig .tc := ⟨.hbm, 4760, rfl⟩
abbrev main_call153_v8 : Ref sig .tc := ⟨.hbm, 4761, rfl⟩
abbrev main_call153_v9 : Ref sig .tc := ⟨.hbm, 4762, rfl⟩
abbrev main_call153_v10 : Ref sig .tc := ⟨.hbm, 4763, rfl⟩
abbrev main_call153_v11 : Ref sig .tc := ⟨.hbm, 4764, rfl⟩
abbrev main_call153_c_3 : Ref sig .tc := ⟨.hbm, 4765, rfl⟩
abbrev main_call153_v12 : Ref sig .tc := ⟨.hbm, 4766, rfl⟩
abbrev main_call153_v13 : Ref sig .tc := ⟨.hbm, 4767, rfl⟩
abbrev main_call153_cst : Ref sig .tc := ⟨.hbm, 4768, rfl⟩
abbrev main_call153_v14 : Ref sig .tc := ⟨.hbm, 4769, rfl⟩
abbrev main_v2484 : Ref sig .tc := ⟨.hbm, 4770, rfl⟩
abbrev main_v2485 : Ref sig .tc := ⟨.hbm, 4771, rfl⟩
abbrev main_v2486 : Ref sig .tc := ⟨.hbm, 4772, rfl⟩
abbrev main_v2487 : Ref sig .tc := ⟨.hbm, 4773, rfl⟩
abbrev main_v2488 : Ref sig .tc := ⟨.hbm, 4774, rfl⟩
abbrev main_v2489 : Ref sig .tc := ⟨.hbm, 4775, rfl⟩
abbrev main_v2490 : Ref sig .tc := ⟨.hbm, 4776, rfl⟩
abbrev main_v2491 : Ref sig .tc := ⟨.hbm, 4777, rfl⟩
abbrev main_v2492 : Ref sig .tc := ⟨.hbm, 4778, rfl⟩
abbrev main_v2493 : Ref sig .tc := ⟨.hbm, 4779, rfl⟩
abbrev main_v2494 : Ref sig .tc := ⟨.hbm, 4780, rfl⟩
abbrev main_v2495 : Ref sig .tc := ⟨.hbm, 4781, rfl⟩
abbrev main_v2496 : Ref sig .tc := ⟨.hbm, 4782, rfl⟩
abbrev main_v2497 : Ref sig .tc := ⟨.hbm, 4783, rfl⟩
abbrev main_v2498 : Ref sig .tc := ⟨.hbm, 4784, rfl⟩
abbrev main_v2499 : Ref sig .tc := ⟨.hbm, 4785, rfl⟩
abbrev main_v2500 : Ref sig .tc := ⟨.hbm, 4786, rfl⟩
abbrev main_v2501 : Ref sig .tc := ⟨.hbm, 4787, rfl⟩
abbrev main_v2502 : Ref sig .tc := ⟨.hbm, 4788, rfl⟩
abbrev main_v2503 : Ref sig .tc := ⟨.hbm, 4789, rfl⟩
abbrev main_cst_613 : Ref sig .tc := ⟨.hbm, 4790, rfl⟩
abbrev main_v2504 : Ref sig .tc := ⟨.hbm, 4791, rfl⟩
abbrev main_v2505 : Ref sig .tc := ⟨.hbm, 4792, rfl⟩
abbrev main_v2506 : Ref sig .tc := ⟨.hbm, 4793, rfl⟩
abbrev main_v2507 : Ref sig .tc := ⟨.hbm, 4794, rfl⟩
abbrev main_v2508 : Ref sig .tc := ⟨.hbm, 4795, rfl⟩
abbrev main_v2509 : Ref sig .tc := ⟨.hbm, 4796, rfl⟩
abbrev main_v2510 : Ref sig .tc := ⟨.hbm, 4797, rfl⟩
abbrev main_v2511 : Ref sig .tc := ⟨.hbm, 4798, rfl⟩
abbrev main_v2512 : Ref sig .tc := ⟨.hbm, 4799, rfl⟩
abbrev main_v2513 : Ref sig .tc := ⟨.hbm, 4800, rfl⟩
abbrev main_v2514 : Ref sig .tc := ⟨.hbm, 4801, rfl⟩
abbrev main_v2515 : Ref sig .tc := ⟨.hbm, 4802, rfl⟩
abbrev main_v2516 : Ref sig .tc := ⟨.hbm, 4803, rfl⟩
abbrev main_v2517 : Ref sig .tc := ⟨.hbm, 4804, rfl⟩
abbrev main_v2518 : Ref sig .tc := ⟨.hbm, 4805, rfl⟩
abbrev main_v2519 : Ref sig .tc := ⟨.hbm, 4806, rfl⟩
abbrev main_cst_614 : Ref sig .tc := ⟨.hbm, 4807, rfl⟩
abbrev main_v2520 : Ref sig .tc := ⟨.hbm, 4808, rfl⟩
abbrev main_v2521 : Ref sig .tc := ⟨.hbm, 4809, rfl⟩
abbrev main_cst_615 : Ref sig .tc := ⟨.hbm, 4810, rfl⟩
abbrev main_v2522 : Ref sig .tc := ⟨.hbm, 4811, rfl⟩
abbrev main_v2523 : Ref sig .tc := ⟨.hbm, 4812, rfl⟩
abbrev main_v2524 : Ref sig .tc := ⟨.hbm, 4813, rfl⟩
abbrev main_v2525 : Ref sig .tc := ⟨.hbm, 4814, rfl⟩
abbrev main_v2526 : Ref sig .tc := ⟨.hbm, 4815, rfl⟩
abbrev main_cst_616 : Ref sig .tc := ⟨.hbm, 4816, rfl⟩
abbrev main_v2527 : Ref sig .tc := ⟨.hbm, 4817, rfl⟩
abbrev main_v2528 : Ref sig .tc := ⟨.hbm, 4818, rfl⟩
abbrev main_cst_617 : Ref sig .tc := ⟨.hbm, 4819, rfl⟩
abbrev main_v2529 : Ref sig .tc := ⟨.hbm, 4820, rfl⟩
abbrev main_v2530 : Ref sig .tc := ⟨.hbm, 4821, rfl⟩
abbrev main_v2531 : Ref sig .tc := ⟨.hbm, 4822, rfl⟩
abbrev main_v2532 : Ref sig .tc := ⟨.hbm, 4823, rfl⟩
abbrev main_cst_618 : Ref sig .tc := ⟨.hbm, 4824, rfl⟩
abbrev main_v2533 : Ref sig .tc := ⟨.hbm, 4825, rfl⟩
abbrev main_v2534 : Ref sig .tc := ⟨.hbm, 4826, rfl⟩
abbrev main_v2535 : Ref sig .tc := ⟨.hbm, 4827, rfl⟩
abbrev main_v2536 : Ref sig .tc := ⟨.hbm, 4828, rfl⟩
abbrev main_v2537 : Ref sig .tc := ⟨.hbm, 4829, rfl⟩
abbrev main_v2538 : Ref sig .tc := ⟨.hbm, 4830, rfl⟩
abbrev main_v2539 : Ref sig .tc := ⟨.hbm, 4831, rfl⟩
abbrev main_v2540 : Ref sig .tc := ⟨.hbm, 4832, rfl⟩
abbrev main_v2541 : Ref sig .tc := ⟨.hbm, 4833, rfl⟩
abbrev main_v2542 : Ref sig .tc := ⟨.hbm, 4834, rfl⟩
abbrev main_v2543 : Ref sig .tc := ⟨.hbm, 4835, rfl⟩
abbrev main_v2544 : Ref sig .tc := ⟨.hbm, 4836, rfl⟩
abbrev main_v2545 : Ref sig .tc := ⟨.hbm, 4837, rfl⟩
abbrev main_v2546 : Ref sig .tc := ⟨.hbm, 4838, rfl⟩
abbrev main_v2547 : Ref sig .tc := ⟨.hbm, 4839, rfl⟩
abbrev main_v2548 : Ref sig .tc := ⟨.hbm, 4840, rfl⟩
abbrev main_v2549 : Ref sig .tc := ⟨.hbm, 4841, rfl⟩
abbrev main_v2550 : Ref sig .tc := ⟨.hbm, 4842, rfl⟩
abbrev main_v2551 : Ref sig .tc := ⟨.hbm, 4843, rfl⟩
abbrev main_call154_cst : Ref sig .tc := ⟨.hbm, 4844, rfl⟩
abbrev main_call154_v0 : Ref sig .tc := ⟨.hbm, 4845, rfl⟩
abbrev main_v2552 : Ref sig .tc := ⟨.hbm, 4846, rfl⟩
abbrev main_v2553 : Ref sig .tc := ⟨.hbm, 4847, rfl⟩
abbrev main_v2554 : Ref sig .tc := ⟨.hbm, 4848, rfl⟩
abbrev main_v2555 : Ref sig .tc := ⟨.hbm, 4849, rfl⟩
abbrev main_v2556 : Ref sig .tc := ⟨.hbm, 4850, rfl⟩
abbrev main_v2557 : Ref sig .tc := ⟨.hbm, 4851, rfl⟩
abbrev main_v2558 : Ref sig .tc := ⟨.hbm, 4852, rfl⟩
abbrev main_v2559 : Ref sig .tc := ⟨.hbm, 4853, rfl⟩
abbrev main_v2560 : Ref sig .tc := ⟨.hbm, 4854, rfl⟩
abbrev main_v2561 : Ref sig .tc := ⟨.hbm, 4855, rfl⟩
abbrev main_v2562 : Ref sig .tc := ⟨.hbm, 4856, rfl⟩
abbrev main_v2563 : Ref sig .tc := ⟨.hbm, 4857, rfl⟩
abbrev main_v2564 : Ref sig .tc := ⟨.hbm, 4858, rfl⟩
abbrev main_v2565 : Ref sig .tc := ⟨.hbm, 4859, rfl⟩
abbrev main_cst_619 : Ref sig .tc := ⟨.hbm, 4860, rfl⟩
abbrev main_v2566 : Ref sig .tc := ⟨.hbm, 4861, rfl⟩
abbrev main_v2567 : Ref sig .tc := ⟨.hbm, 4862, rfl⟩
abbrev main_cst_620 : Ref sig .tc := ⟨.hbm, 4863, rfl⟩
abbrev main_v2568 : Ref sig .tc := ⟨.hbm, 4864, rfl⟩
abbrev main_v2569 : Ref sig .tc := ⟨.hbm, 4865, rfl⟩
abbrev main_v2570 : Ref sig .tc := ⟨.hbm, 4866, rfl⟩
abbrev main_v2571 : Ref sig .tc := ⟨.hbm, 4867, rfl⟩
abbrev main_v2572 : Ref sig .tc := ⟨.hbm, 4868, rfl⟩
abbrev main_cst_621 : Ref sig .tc := ⟨.hbm, 4869, rfl⟩
abbrev main_v2573 : Ref sig .tc := ⟨.hbm, 4870, rfl⟩
abbrev main_v2574 : Ref sig .tc := ⟨.hbm, 4871, rfl⟩
abbrev main_cst_622 : Ref sig .tc := ⟨.hbm, 4872, rfl⟩
abbrev main_v2575 : Ref sig .tc := ⟨.hbm, 4873, rfl⟩
abbrev main_v2576 : Ref sig .tc := ⟨.hbm, 4874, rfl⟩
abbrev main_v2577 : Ref sig .tc := ⟨.hbm, 4875, rfl⟩
abbrev main_v2578 : Ref sig .tc := ⟨.hbm, 4876, rfl⟩
abbrev main_cst_623 : Ref sig .tc := ⟨.hbm, 4877, rfl⟩
abbrev main_v2579 : Ref sig .tc := ⟨.hbm, 4878, rfl⟩
abbrev main_v2580 : Ref sig .tc := ⟨.hbm, 4879, rfl⟩
abbrev main_v2581 : Ref sig .tc := ⟨.hbm, 4880, rfl⟩
abbrev main_v2582 : Ref sig .tc := ⟨.hbm, 4881, rfl⟩
abbrev main_v2583 : Ref sig .tc := ⟨.hbm, 4882, rfl⟩
abbrev main_v2584 : Ref sig .tc := ⟨.hbm, 4883, rfl⟩
abbrev main_v2585 : Ref sig .tc := ⟨.hbm, 4884, rfl⟩
abbrev main_v2586 : Ref sig .tc := ⟨.hbm, 4885, rfl⟩
abbrev main_v2587 : Ref sig .tc := ⟨.hbm, 4886, rfl⟩
abbrev main_v2588 : Ref sig .tc := ⟨.hbm, 4887, rfl⟩
abbrev main_v2589 : Ref sig .tc := ⟨.hbm, 4888, rfl⟩
abbrev main_v2590 : Ref sig .tc := ⟨.hbm, 4889, rfl⟩
abbrev main_v2591 : Ref sig .tc := ⟨.hbm, 4890, rfl⟩
abbrev main_v2592 : Ref sig .tc := ⟨.hbm, 4891, rfl⟩
abbrev main_v2593 : Ref sig .tc := ⟨.hbm, 4892, rfl⟩
abbrev main_v2594 : Ref sig .tc := ⟨.hbm, 4893, rfl⟩
abbrev main_v2595 : Ref sig .tc := ⟨.hbm, 4894, rfl⟩
abbrev main_v2596 : Ref sig .tc := ⟨.hbm, 4895, rfl⟩
abbrev main_v2597 : Ref sig .tc := ⟨.hbm, 4896, rfl⟩
abbrev main_v2598 : Ref sig .tc := ⟨.hbm, 4897, rfl⟩
abbrev main_v2599 : Ref sig .tc := ⟨.hbm, 4898, rfl⟩
abbrev main_v2600 : Ref sig .tc := ⟨.hbm, 4899, rfl⟩
abbrev main_v2601 : Ref sig .tc := ⟨.hbm, 4900, rfl⟩
abbrev main_v2602 : Ref sig .tc := ⟨.hbm, 4901, rfl⟩
abbrev main_v2603 : Ref sig .tc := ⟨.hbm, 4902, rfl⟩
abbrev main_v2604 : Ref sig .tc := ⟨.hbm, 4903, rfl⟩
abbrev main_v2605 : Ref sig .tc := ⟨.hbm, 4904, rfl⟩
abbrev main_v2606 : Ref sig .tc := ⟨.hbm, 4905, rfl⟩
abbrev main_v2607 : Ref sig .tc := ⟨.hbm, 4906, rfl⟩
abbrev main_v2608 : Ref sig .tc := ⟨.hbm, 4907, rfl⟩
abbrev main_v2609 : Ref sig .tc := ⟨.hbm, 4908, rfl⟩
abbrev main_v2610 : Ref sig .tc := ⟨.hbm, 4909, rfl⟩
abbrev main_v2611 : Ref sig .tc := ⟨.hbm, 4910, rfl⟩
abbrev main_v2612 : Ref sig .tc := ⟨.hbm, 4911, rfl⟩
abbrev main_v2613 : Ref sig .tc := ⟨.hbm, 4912, rfl⟩
abbrev main_v2614 : Ref sig .tc := ⟨.hbm, 4913, rfl⟩
abbrev main_v2615 : Ref sig .tc := ⟨.hbm, 4914, rfl⟩
abbrev main_v2616 : Ref sig .tc := ⟨.hbm, 4915, rfl⟩
abbrev main_v2617 : Ref sig .tc := ⟨.hbm, 4916, rfl⟩
abbrev main_cst_624 : Ref sig .tc := ⟨.hbm, 4917, rfl⟩
abbrev main_v2618 : Ref sig .tc := ⟨.hbm, 4918, rfl⟩
abbrev main_cst_625 : Ref sig .tc := ⟨.hbm, 4919, rfl⟩
abbrev main_v2619 : Ref sig .tc := ⟨.hbm, 4920, rfl⟩
abbrev main_v2620 : Ref sig .tc := ⟨.hbm, 4921, rfl⟩
abbrev main_v2621 : Ref sig .tc := ⟨.hbm, 4922, rfl⟩
abbrev main_v2622 : Ref sig .tc := ⟨.hbm, 4923, rfl⟩
abbrev main_v2623 : Ref sig .tc := ⟨.hbm, 4924, rfl⟩
abbrev main_v2624 : Ref sig .tc := ⟨.hbm, 4925, rfl⟩
abbrev main_cst_626 : Ref sig .tc := ⟨.hbm, 4926, rfl⟩
abbrev main_v2625 : Ref sig .tc := ⟨.hbm, 4927, rfl⟩
abbrev main_v2626 : Ref sig .tc := ⟨.hbm, 4928, rfl⟩
abbrev main_v2627 : Ref sig .tc := ⟨.hbm, 4929, rfl⟩
abbrev main_v2628 : Ref sig .tc := ⟨.hbm, 4930, rfl⟩
abbrev main_v2629 : Ref sig .tc := ⟨.hbm, 4931, rfl⟩
abbrev main_v2630 : Ref sig .tc := ⟨.hbm, 4932, rfl⟩
abbrev main_v2631 : Ref sig .tc := ⟨.hbm, 4933, rfl⟩
abbrev main_v2632 : Ref sig .tc := ⟨.hbm, 4934, rfl⟩
abbrev main_v2633 : Ref sig .tc := ⟨.hbm, 4935, rfl⟩
abbrev main_v2634 : Ref sig .tc := ⟨.hbm, 4936, rfl⟩
abbrev main_v2635 : Ref sig .tc := ⟨.hbm, 4937, rfl⟩
abbrev main_cst_627 : Ref sig .tc := ⟨.hbm, 4938, rfl⟩
abbrev main_v2636 : Ref sig .tc := ⟨.hbm, 4939, rfl⟩
abbrev main_v2637 : Ref sig .tc := ⟨.hbm, 4940, rfl⟩
abbrev main_cst_628 : Ref sig .tc := ⟨.hbm, 4941, rfl⟩
abbrev main_v2638 : Ref sig .tc := ⟨.hbm, 4942, rfl⟩
abbrev main_v2639 : Ref sig .tc := ⟨.hbm, 4943, rfl⟩
abbrev main_v2640 : Ref sig .tc := ⟨.hbm, 4944, rfl⟩
abbrev main_v2641 : Ref sig .tc := ⟨.hbm, 4945, rfl⟩
abbrev main_v2642 : Ref sig .tc := ⟨.hbm, 4946, rfl⟩
abbrev main_v2643 : Ref sig .tc := ⟨.hbm, 4947, rfl⟩
abbrev main_v2644 : Ref sig .tc := ⟨.hbm, 4948, rfl⟩
abbrev main_v2645 : Ref sig .tc := ⟨.hbm, 4949, rfl⟩
abbrev main_v2646 : Ref sig .tc := ⟨.hbm, 4950, rfl⟩
abbrev main_v2647 : Ref sig .tc := ⟨.hbm, 4951, rfl⟩
abbrev main_v2648 : Ref sig .tc := ⟨.hbm, 4952, rfl⟩
abbrev main_cst_629 : Ref sig .tc := ⟨.hbm, 4953, rfl⟩
abbrev main_v2649 : Ref sig .tc := ⟨.hbm, 4954, rfl⟩
abbrev main_v2650 : Ref sig .tc := ⟨.hbm, 4955, rfl⟩
abbrev main_cst_630 : Ref sig .tc := ⟨.hbm, 4956, rfl⟩
abbrev main_v2651 : Ref sig .tc := ⟨.hbm, 4957, rfl⟩
abbrev main_v2652 : Ref sig .tc := ⟨.hbm, 4958, rfl⟩
abbrev main_cst_631 : Ref sig .tc := ⟨.hbm, 4959, rfl⟩
abbrev main_v2653 : Ref sig .tc := ⟨.hbm, 4960, rfl⟩
abbrev main_v2654 : Ref sig .tc := ⟨.hbm, 4961, rfl⟩
abbrev main_cst_632 : Ref sig .tc := ⟨.hbm, 4962, rfl⟩
abbrev main_v2655 : Ref sig .tc := ⟨.hbm, 4963, rfl⟩
abbrev main_v2656 : Ref sig .tc := ⟨.hbm, 4964, rfl⟩
abbrev main_v2657 : Ref sig .tc := ⟨.hbm, 4965, rfl⟩
abbrev main_v2658 : Ref sig .tc := ⟨.hbm, 4966, rfl⟩
abbrev main_cst_633 : Ref sig .tc := ⟨.hbm, 4967, rfl⟩
abbrev main_v2659 : Ref sig .tc := ⟨.hbm, 4968, rfl⟩
abbrev main_v2660 : Ref sig .tc := ⟨.hbm, 4969, rfl⟩
abbrev main_cst_634 : Ref sig .tc := ⟨.hbm, 4970, rfl⟩
abbrev main_v2661 : Ref sig .tc := ⟨.hbm, 4971, rfl⟩
abbrev main_v2662 : Ref sig .tc := ⟨.hbm, 4972, rfl⟩
abbrev main_cst_635 : Ref sig .tc := ⟨.hbm, 4973, rfl⟩
abbrev main_v2663 : Ref sig .tc := ⟨.hbm, 4974, rfl⟩
abbrev main_v2664 : Ref sig .tc := ⟨.hbm, 4975, rfl⟩
abbrev main_cst_636 : Ref sig .tc := ⟨.hbm, 4976, rfl⟩
abbrev main_v2665 : Ref sig .tc := ⟨.hbm, 4977, rfl⟩
abbrev main_v2666 : Ref sig .tc := ⟨.hbm, 4978, rfl⟩
abbrev main_v2667 : Ref sig .tc := ⟨.hbm, 4979, rfl⟩
abbrev main_v2668 : Ref sig .tc := ⟨.hbm, 4980, rfl⟩
abbrev main_cst_637 : Ref sig .tc := ⟨.hbm, 4981, rfl⟩
abbrev main_v2669 : Ref sig .tc := ⟨.hbm, 4982, rfl⟩
abbrev main_v2670 : Ref sig .tc := ⟨.hbm, 4983, rfl⟩
abbrev main_cst_638 : Ref sig .tc := ⟨.hbm, 4984, rfl⟩
abbrev main_v2671 : Ref sig .tc := ⟨.hbm, 4985, rfl⟩
abbrev main_v2672 : Ref sig .tc := ⟨.hbm, 4986, rfl⟩
abbrev main_v2673 : Ref sig .tc := ⟨.hbm, 4987, rfl⟩
abbrev main_v2674 : Ref sig .tc := ⟨.hbm, 4988, rfl⟩
abbrev main_v2675 : Ref sig .tc := ⟨.hbm, 4989, rfl⟩
abbrev main_v2676 : Ref sig .tc := ⟨.hbm, 4990, rfl⟩
abbrev main_v2677 : Ref sig .tc := ⟨.hbm, 4991, rfl⟩
abbrev main_v2678 : Ref sig .tc := ⟨.hbm, 4992, rfl⟩
abbrev main_v2679 : Ref sig .tc := ⟨.hbm, 4993, rfl⟩
abbrev main_v2680 : Ref sig .tc := ⟨.hbm, 4994, rfl⟩
abbrev main_v2681 : Ref sig .tc := ⟨.hbm, 4995, rfl⟩
abbrev main_v2682 : Ref sig .tc := ⟨.hbm, 4996, rfl⟩
abbrev main_v2683 : Ref sig .tc := ⟨.hbm, 4997, rfl⟩
abbrev main_v2684 : Ref sig .tc := ⟨.hbm, 4998, rfl⟩
abbrev main_v2685 : Ref sig .tc := ⟨.hbm, 4999, rfl⟩
abbrev main_cst_639 : Ref sig .tc := ⟨.hbm, 5000, rfl⟩
abbrev main_v2686 : Ref sig .tc := ⟨.hbm, 5001, rfl⟩
abbrev main_v2687 : Ref sig .tc := ⟨.hbm, 5002, rfl⟩
abbrev main_cst_640 : Ref sig .tc := ⟨.hbm, 5003, rfl⟩
abbrev main_v2688 : Ref sig .tc := ⟨.hbm, 5004, rfl⟩
abbrev main_v2689 : Ref sig .tc := ⟨.hbm, 5005, rfl⟩
abbrev main_v2690 : Ref sig .tc := ⟨.hbm, 5006, rfl⟩
abbrev main_cst_641 : Ref sig .tc := ⟨.hbm, 5007, rfl⟩
abbrev main_v2691 : Ref sig .tc := ⟨.hbm, 5008, rfl⟩
abbrev main_v2692 : Ref sig .tc := ⟨.hbm, 5009, rfl⟩
abbrev main_v2693 : Ref sig .tc := ⟨.hbm, 5010, rfl⟩
abbrev main_cst_642 : Ref sig .tc := ⟨.hbm, 5011, rfl⟩
abbrev main_v2694 : Ref sig .tc := ⟨.hbm, 5012, rfl⟩
abbrev main_v2695 : Ref sig .tc := ⟨.hbm, 5013, rfl⟩
abbrev main_v2696 : Ref sig .tc := ⟨.hbm, 5014, rfl⟩
abbrev main_c_643 : Ref sig .tc := ⟨.hbm, 5015, rfl⟩
abbrev main_c_644 : Ref sig .tc := ⟨.hbm, 5016, rfl⟩
abbrev main_call155_v0 : Ref sig .tc := ⟨.hbm, 5017, rfl⟩
abbrev main_call155_v1 : Ref sig .tc := ⟨.hbm, 5018, rfl⟩
abbrev main_call155_v2 : Ref sig .tc := ⟨.hbm, 5019, rfl⟩
abbrev main_call155_v3 : Ref sig .tc := ⟨.hbm, 5020, rfl⟩
abbrev main_call155_v4 : Ref sig .tc := ⟨.hbm, 5021, rfl⟩
abbrev main_v2697 : Ref sig .tc := ⟨.hbm, 5022, rfl⟩
abbrev main_v2698 : Ref sig .tc := ⟨.hbm, 5023, rfl⟩
abbrev main_c_645 : Ref sig .tc := ⟨.hbm, 5024, rfl⟩
abbrev main_c_646 : Ref sig .tc := ⟨.hbm, 5025, rfl⟩
abbrev main_call156_v0 : Ref sig .tc := ⟨.hbm, 5026, rfl⟩
abbrev main_call156_v1 : Ref sig .tc := ⟨.hbm, 5027, rfl⟩
abbrev main_call156_v2 : Ref sig .tc := ⟨.hbm, 5028, rfl⟩
abbrev main_call156_v3 : Ref sig .tc := ⟨.hbm, 5029, rfl⟩
abbrev main_call156_v4 : Ref sig .tc := ⟨.hbm, 5030, rfl⟩
abbrev main_v2699 : Ref sig .tc := ⟨.hbm, 5031, rfl⟩
abbrev main_v2700 : Ref sig .tc := ⟨.hbm, 5032, rfl⟩
abbrev main_c_647 : Ref sig .tc := ⟨.hbm, 5033, rfl⟩
abbrev main_v2701 : Ref sig .tc := ⟨.hbm, 5034, rfl⟩
abbrev main_v2702 : Ref sig .tc := ⟨.hbm, 5035, rfl⟩
abbrev main_v2703 : Ref sig .tc := ⟨.hbm, 5036, rfl⟩
abbrev main_v2704 : Ref sig .tc := ⟨.hbm, 5037, rfl⟩
abbrev main_v2705 : Ref sig .tc := ⟨.hbm, 5038, rfl⟩
abbrev main_v2706 : Ref sig .tc := ⟨.hbm, 5039, rfl⟩
abbrev main_call157_c : Ref sig .tc := ⟨.hbm, 5040, rfl⟩
abbrev main_call157_v0 : Ref sig .tc := ⟨.hbm, 5041, rfl⟩
abbrev main_call157_v1 : Ref sig .tc := ⟨.hbm, 5042, rfl⟩
abbrev main_call157_c_0 : Ref sig .tc := ⟨.hbm, 5043, rfl⟩
abbrev main_call157_v2 : Ref sig .tc := ⟨.hbm, 5044, rfl⟩
abbrev main_call157_v3 : Ref sig .tc := ⟨.hbm, 5045, rfl⟩
abbrev main_call157_v4 : Ref sig .tc := ⟨.hbm, 5046, rfl⟩
abbrev main_call157_v5 : Ref sig .tc := ⟨.hbm, 5047, rfl⟩
abbrev main_call157_c_1 : Ref sig .tc := ⟨.hbm, 5048, rfl⟩
abbrev main_call157_c_2 : Ref sig .tc := ⟨.hbm, 5049, rfl⟩
abbrev main_call157_v6 : Ref sig .tc := ⟨.hbm, 5050, rfl⟩
abbrev main_call157_v7 : Ref sig .tc := ⟨.hbm, 5051, rfl⟩
abbrev main_call157_v8 : Ref sig .tc := ⟨.hbm, 5052, rfl⟩
abbrev main_call157_v9 : Ref sig .tc := ⟨.hbm, 5053, rfl⟩
abbrev main_call157_v10 : Ref sig .tc := ⟨.hbm, 5054, rfl⟩
abbrev main_call157_v11 : Ref sig .tc := ⟨.hbm, 5055, rfl⟩
abbrev main_call157_c_3 : Ref sig .tc := ⟨.hbm, 5056, rfl⟩
abbrev main_call157_v12 : Ref sig .tc := ⟨.hbm, 5057, rfl⟩
abbrev main_call157_v13 : Ref sig .tc := ⟨.hbm, 5058, rfl⟩
abbrev main_call157_cst : Ref sig .tc := ⟨.hbm, 5059, rfl⟩
abbrev main_call157_v14 : Ref sig .tc := ⟨.hbm, 5060, rfl⟩
abbrev main_v2707 : Ref sig .tc := ⟨.hbm, 5061, rfl⟩
abbrev main_v2708 : Ref sig .tc := ⟨.hbm, 5062, rfl⟩
abbrev main_v2709 : Ref sig .tc := ⟨.hbm, 5063, rfl⟩
abbrev main_v2710 : Ref sig .tc := ⟨.hbm, 5064, rfl⟩
abbrev main_v2711 : Ref sig .tc := ⟨.hbm, 5065, rfl⟩
abbrev main_v2712 : Ref sig .tc := ⟨.hbm, 5066, rfl⟩
abbrev main_v2713 : Ref sig .tc := ⟨.hbm, 5067, rfl⟩
abbrev main_v2714 : Ref sig .tc := ⟨.hbm, 5068, rfl⟩
abbrev main_v2715 : Ref sig .tc := ⟨.hbm, 5069, rfl⟩
abbrev main_cst_648 : Ref sig .tc := ⟨.hbm, 5070, rfl⟩
abbrev main_v2716 : Ref sig .tc := ⟨.hbm, 5071, rfl⟩
abbrev main_v2717 : Ref sig .tc := ⟨.hbm, 5072, rfl⟩
abbrev main_cst_649 : Ref sig .tc := ⟨.hbm, 5073, rfl⟩
abbrev main_v2718 : Ref sig .tc := ⟨.hbm, 5074, rfl⟩
abbrev main_v2719 : Ref sig .tc := ⟨.hbm, 5075, rfl⟩
abbrev main_v2720 : Ref sig .tc := ⟨.hbm, 5076, rfl⟩
abbrev main_cst_650 : Ref sig .tc := ⟨.hbm, 5077, rfl⟩
abbrev main_v2721 : Ref sig .tc := ⟨.hbm, 5078, rfl⟩
abbrev main_v2722 : Ref sig .tc := ⟨.hbm, 5079, rfl⟩
abbrev main_v2723 : Ref sig .tc := ⟨.hbm, 5080, rfl⟩
abbrev main_cst_651 : Ref sig .tc := ⟨.hbm, 5081, rfl⟩
abbrev main_v2724 : Ref sig .tc := ⟨.hbm, 5082, rfl⟩
abbrev main_v2725 : Ref sig .tc := ⟨.hbm, 5083, rfl⟩
abbrev main_v2726 : Ref sig .tc := ⟨.hbm, 5084, rfl⟩
abbrev main_c_652 : Ref sig .tc := ⟨.hbm, 5085, rfl⟩
abbrev main_c_653 : Ref sig .tc := ⟨.hbm, 5086, rfl⟩
abbrev main_call158_v0 : Ref sig .tc := ⟨.hbm, 5087, rfl⟩
abbrev main_call158_v1 : Ref sig .tc := ⟨.hbm, 5088, rfl⟩
abbrev main_call158_v2 : Ref sig .tc := ⟨.hbm, 5089, rfl⟩
abbrev main_call158_v3 : Ref sig .tc := ⟨.hbm, 5090, rfl⟩
abbrev main_call158_v4 : Ref sig .tc := ⟨.hbm, 5091, rfl⟩
abbrev main_v2727 : Ref sig .tc := ⟨.hbm, 5092, rfl⟩
abbrev main_v2728 : Ref sig .tc := ⟨.hbm, 5093, rfl⟩
abbrev main_c_654 : Ref sig .tc := ⟨.hbm, 5094, rfl⟩
abbrev main_c_655 : Ref sig .tc := ⟨.hbm, 5095, rfl⟩
abbrev main_call159_v0 : Ref sig .tc := ⟨.hbm, 5096, rfl⟩
abbrev main_call159_v1 : Ref sig .tc := ⟨.hbm, 5097, rfl⟩
abbrev main_call159_v2 : Ref sig .tc := ⟨.hbm, 5098, rfl⟩
abbrev main_call159_v3 : Ref sig .tc := ⟨.hbm, 5099, rfl⟩
abbrev main_call159_v4 : Ref sig .tc := ⟨.hbm, 5100, rfl⟩
abbrev main_v2729 : Ref sig .tc := ⟨.hbm, 5101, rfl⟩
abbrev main_v2730 : Ref sig .tc := ⟨.hbm, 5102, rfl⟩
abbrev main_c_656 : Ref sig .tc := ⟨.hbm, 5103, rfl⟩
abbrev main_v2731 : Ref sig .tc := ⟨.hbm, 5104, rfl⟩
abbrev main_v2732 : Ref sig .tc := ⟨.hbm, 5105, rfl⟩
abbrev main_v2733 : Ref sig .tc := ⟨.hbm, 5106, rfl⟩
abbrev main_v2734 : Ref sig .tc := ⟨.hbm, 5107, rfl⟩
abbrev main_v2735 : Ref sig .tc := ⟨.hbm, 5108, rfl⟩
abbrev main_v2736 : Ref sig .tc := ⟨.hbm, 5109, rfl⟩
abbrev main_call160_c : Ref sig .tc := ⟨.hbm, 5110, rfl⟩
abbrev main_call160_v0 : Ref sig .tc := ⟨.hbm, 5111, rfl⟩
abbrev main_call160_v1 : Ref sig .tc := ⟨.hbm, 5112, rfl⟩
abbrev main_call160_c_0 : Ref sig .tc := ⟨.hbm, 5113, rfl⟩
abbrev main_call160_v2 : Ref sig .tc := ⟨.hbm, 5114, rfl⟩
abbrev main_call160_v3 : Ref sig .tc := ⟨.hbm, 5115, rfl⟩
abbrev main_call160_v4 : Ref sig .tc := ⟨.hbm, 5116, rfl⟩
abbrev main_call160_v5 : Ref sig .tc := ⟨.hbm, 5117, rfl⟩
abbrev main_call160_c_1 : Ref sig .tc := ⟨.hbm, 5118, rfl⟩
abbrev main_call160_c_2 : Ref sig .tc := ⟨.hbm, 5119, rfl⟩
abbrev main_call160_v6 : Ref sig .tc := ⟨.hbm, 5120, rfl⟩
abbrev main_call160_v7 : Ref sig .tc := ⟨.hbm, 5121, rfl⟩
abbrev main_call160_v8 : Ref sig .tc := ⟨.hbm, 5122, rfl⟩
abbrev main_call160_v9 : Ref sig .tc := ⟨.hbm, 5123, rfl⟩
abbrev main_call160_v10 : Ref sig .tc := ⟨.hbm, 5124, rfl⟩
abbrev main_call160_v11 : Ref sig .tc := ⟨.hbm, 5125, rfl⟩
abbrev main_call160_c_3 : Ref sig .tc := ⟨.hbm, 5126, rfl⟩
abbrev main_call160_v12 : Ref sig .tc := ⟨.hbm, 5127, rfl⟩
abbrev main_call160_v13 : Ref sig .tc := ⟨.hbm, 5128, rfl⟩
abbrev main_call160_cst : Ref sig .tc := ⟨.hbm, 5129, rfl⟩
abbrev main_call160_v14 : Ref sig .tc := ⟨.hbm, 5130, rfl⟩
abbrev main_v2737 : Ref sig .tc := ⟨.hbm, 5131, rfl⟩
abbrev main_v2738 : Ref sig .tc := ⟨.hbm, 5132, rfl⟩
abbrev main_v2739 : Ref sig .tc := ⟨.hbm, 5133, rfl⟩
abbrev main_v2740 : Ref sig .tc := ⟨.hbm, 5134, rfl⟩
abbrev main_v2741 : Ref sig .tc := ⟨.hbm, 5135, rfl⟩
abbrev main_v2742 : Ref sig .tc := ⟨.hbm, 5136, rfl⟩
abbrev main_v2743 : Ref sig .tc := ⟨.hbm, 5137, rfl⟩
abbrev main_v2744 : Ref sig .tc := ⟨.hbm, 5138, rfl⟩
abbrev main_v2745 : Ref sig .tc := ⟨.hbm, 5139, rfl⟩
abbrev main_v2746 : Ref sig .tc := ⟨.hbm, 5140, rfl⟩
abbrev main_cst_657 : Ref sig .tc := ⟨.hbm, 5141, rfl⟩
abbrev main_v2747 : Ref sig .tc := ⟨.hbm, 5142, rfl⟩
abbrev main_v2748 : Ref sig .tc := ⟨.hbm, 5143, rfl⟩
abbrev main_cst_658 : Ref sig .tc := ⟨.hbm, 5144, rfl⟩
abbrev main_v2749 : Ref sig .tc := ⟨.hbm, 5145, rfl⟩
abbrev main_v2750 : Ref sig .tc := ⟨.hbm, 5146, rfl⟩
abbrev main_v2751 : Ref sig .tc := ⟨.hbm, 5147, rfl⟩
abbrev main_cst_659 : Ref sig .tc := ⟨.hbm, 5148, rfl⟩
abbrev main_v2752 : Ref sig .tc := ⟨.hbm, 5149, rfl⟩
abbrev main_v2753 : Ref sig .tc := ⟨.hbm, 5150, rfl⟩
abbrev main_v2754 : Ref sig .tc := ⟨.hbm, 5151, rfl⟩
abbrev main_cst_660 : Ref sig .tc := ⟨.hbm, 5152, rfl⟩
abbrev main_v2755 : Ref sig .tc := ⟨.hbm, 5153, rfl⟩
abbrev main_v2756 : Ref sig .tc := ⟨.hbm, 5154, rfl⟩
abbrev main_v2757 : Ref sig .tc := ⟨.hbm, 5155, rfl⟩
abbrev main_c_661 : Ref sig .tc := ⟨.hbm, 5156, rfl⟩
abbrev main_c_662 : Ref sig .tc := ⟨.hbm, 5157, rfl⟩
abbrev main_call161_v0 : Ref sig .tc := ⟨.hbm, 5158, rfl⟩
abbrev main_call161_v1 : Ref sig .tc := ⟨.hbm, 5159, rfl⟩
abbrev main_call161_v2 : Ref sig .tc := ⟨.hbm, 5160, rfl⟩
abbrev main_call161_v3 : Ref sig .tc := ⟨.hbm, 5161, rfl⟩
abbrev main_call161_v4 : Ref sig .tc := ⟨.hbm, 5162, rfl⟩
abbrev main_v2758 : Ref sig .tc := ⟨.hbm, 5163, rfl⟩
abbrev main_v2759 : Ref sig .tc := ⟨.hbm, 5164, rfl⟩
abbrev main_c_663 : Ref sig .tc := ⟨.hbm, 5165, rfl⟩
abbrev main_c_664 : Ref sig .tc := ⟨.hbm, 5166, rfl⟩
abbrev main_call162_v0 : Ref sig .tc := ⟨.hbm, 5167, rfl⟩
abbrev main_call162_v1 : Ref sig .tc := ⟨.hbm, 5168, rfl⟩
abbrev main_call162_v2 : Ref sig .tc := ⟨.hbm, 5169, rfl⟩
abbrev main_call162_v3 : Ref sig .tc := ⟨.hbm, 5170, rfl⟩
abbrev main_call162_v4 : Ref sig .tc := ⟨.hbm, 5171, rfl⟩
abbrev main_v2760 : Ref sig .tc := ⟨.hbm, 5172, rfl⟩
abbrev main_v2761 : Ref sig .tc := ⟨.hbm, 5173, rfl⟩
abbrev main_c_665 : Ref sig .tc := ⟨.hbm, 5174, rfl⟩
abbrev main_v2762 : Ref sig .tc := ⟨.hbm, 5175, rfl⟩
abbrev main_v2763 : Ref sig .tc := ⟨.hbm, 5176, rfl⟩
abbrev main_v2764 : Ref sig .tc := ⟨.hbm, 5177, rfl⟩
abbrev main_v2765 : Ref sig .tc := ⟨.hbm, 5178, rfl⟩
abbrev main_v2766 : Ref sig .tc := ⟨.hbm, 5179, rfl⟩
abbrev main_v2767 : Ref sig .tc := ⟨.hbm, 5180, rfl⟩
abbrev main_call163_c : Ref sig .tc := ⟨.hbm, 5181, rfl⟩
abbrev main_call163_v0 : Ref sig .tc := ⟨.hbm, 5182, rfl⟩
abbrev main_call163_v1 : Ref sig .tc := ⟨.hbm, 5183, rfl⟩
abbrev main_call163_c_0 : Ref sig .tc := ⟨.hbm, 5184, rfl⟩
abbrev main_call163_v2 : Ref sig .tc := ⟨.hbm, 5185, rfl⟩
abbrev main_call163_v3 : Ref sig .tc := ⟨.hbm, 5186, rfl⟩
abbrev main_call163_v4 : Ref sig .tc := ⟨.hbm, 5187, rfl⟩
abbrev main_call163_v5 : Ref sig .tc := ⟨.hbm, 5188, rfl⟩
abbrev main_call163_c_1 : Ref sig .tc := ⟨.hbm, 5189, rfl⟩
abbrev main_call163_c_2 : Ref sig .tc := ⟨.hbm, 5190, rfl⟩
abbrev main_call163_v6 : Ref sig .tc := ⟨.hbm, 5191, rfl⟩
abbrev main_call163_v7 : Ref sig .tc := ⟨.hbm, 5192, rfl⟩
abbrev main_call163_v8 : Ref sig .tc := ⟨.hbm, 5193, rfl⟩
abbrev main_call163_v9 : Ref sig .tc := ⟨.hbm, 5194, rfl⟩
abbrev main_call163_v10 : Ref sig .tc := ⟨.hbm, 5195, rfl⟩
abbrev main_call163_v11 : Ref sig .tc := ⟨.hbm, 5196, rfl⟩
abbrev main_call163_c_3 : Ref sig .tc := ⟨.hbm, 5197, rfl⟩
abbrev main_call163_v12 : Ref sig .tc := ⟨.hbm, 5198, rfl⟩
abbrev main_call163_v13 : Ref sig .tc := ⟨.hbm, 5199, rfl⟩
abbrev main_call163_cst : Ref sig .tc := ⟨.hbm, 5200, rfl⟩
abbrev main_call163_v14 : Ref sig .tc := ⟨.hbm, 5201, rfl⟩
abbrev main_v2768 : Ref sig .tc := ⟨.hbm, 5202, rfl⟩
abbrev main_v2769 : Ref sig .tc := ⟨.hbm, 5203, rfl⟩
abbrev main_v2770 : Ref sig .tc := ⟨.hbm, 5204, rfl⟩
abbrev main_v2771 : Ref sig .tc := ⟨.hbm, 5205, rfl⟩
abbrev main_v2772 : Ref sig .tc := ⟨.hbm, 5206, rfl⟩
abbrev main_v2773 : Ref sig .tc := ⟨.hbm, 5207, rfl⟩
abbrev main_v2774 : Ref sig .tc := ⟨.hbm, 5208, rfl⟩
abbrev main_v2775 : Ref sig .tc := ⟨.hbm, 5209, rfl⟩
abbrev main_v2776 : Ref sig .tc := ⟨.hbm, 5210, rfl⟩
abbrev main_v2777 : Ref sig .tc := ⟨.hbm, 5211, rfl⟩
abbrev main_cst_666 : Ref sig .tc := ⟨.hbm, 5212, rfl⟩
abbrev main_v2778 : Ref sig .tc := ⟨.hbm, 5213, rfl⟩
abbrev main_v2779 : Ref sig .tc := ⟨.hbm, 5214, rfl⟩
abbrev main_cst_667 : Ref sig .tc := ⟨.hbm, 5215, rfl⟩
abbrev main_v2780 : Ref sig .tc := ⟨.hbm, 5216, rfl⟩
abbrev main_v2781 : Ref sig .tc := ⟨.hbm, 5217, rfl⟩
abbrev main_v2782 : Ref sig .tc := ⟨.hbm, 5218, rfl⟩
abbrev main_cst_668 : Ref sig .tc := ⟨.hbm, 5219, rfl⟩
abbrev main_v2783 : Ref sig .tc := ⟨.hbm, 5220, rfl⟩
abbrev main_v2784 : Ref sig .tc := ⟨.hbm, 5221, rfl⟩
abbrev main_v2785 : Ref sig .tc := ⟨.hbm, 5222, rfl⟩
abbrev main_cst_669 : Ref sig .tc := ⟨.hbm, 5223, rfl⟩
abbrev main_v2786 : Ref sig .tc := ⟨.hbm, 5224, rfl⟩
abbrev main_v2787 : Ref sig .tc := ⟨.hbm, 5225, rfl⟩
abbrev main_v2788 : Ref sig .tc := ⟨.hbm, 5226, rfl⟩
abbrev main_c_670 : Ref sig .tc := ⟨.hbm, 5227, rfl⟩
abbrev main_c_671 : Ref sig .tc := ⟨.hbm, 5228, rfl⟩
abbrev main_call164_v0 : Ref sig .tc := ⟨.hbm, 5229, rfl⟩
abbrev main_call164_v1 : Ref sig .tc := ⟨.hbm, 5230, rfl⟩
abbrev main_call164_v2 : Ref sig .tc := ⟨.hbm, 5231, rfl⟩
abbrev main_call164_v3 : Ref sig .tc := ⟨.hbm, 5232, rfl⟩
abbrev main_call164_v4 : Ref sig .tc := ⟨.hbm, 5233, rfl⟩
abbrev main_v2789 : Ref sig .tc := ⟨.hbm, 5234, rfl⟩
abbrev main_v2790 : Ref sig .tc := ⟨.hbm, 5235, rfl⟩
abbrev main_c_672 : Ref sig .tc := ⟨.hbm, 5236, rfl⟩
abbrev main_c_673 : Ref sig .tc := ⟨.hbm, 5237, rfl⟩
abbrev main_call165_v0 : Ref sig .tc := ⟨.hbm, 5238, rfl⟩
abbrev main_call165_v1 : Ref sig .tc := ⟨.hbm, 5239, rfl⟩
abbrev main_call165_v2 : Ref sig .tc := ⟨.hbm, 5240, rfl⟩
abbrev main_call165_v3 : Ref sig .tc := ⟨.hbm, 5241, rfl⟩
abbrev main_call165_v4 : Ref sig .tc := ⟨.hbm, 5242, rfl⟩
abbrev main_v2791 : Ref sig .tc := ⟨.hbm, 5243, rfl⟩
abbrev main_v2792 : Ref sig .tc := ⟨.hbm, 5244, rfl⟩
abbrev main_c_674 : Ref sig .tc := ⟨.hbm, 5245, rfl⟩
abbrev main_v2793 : Ref sig .tc := ⟨.hbm, 5246, rfl⟩
abbrev main_v2794 : Ref sig .tc := ⟨.hbm, 5247, rfl⟩
abbrev main_v2795 : Ref sig .tc := ⟨.hbm, 5248, rfl⟩
abbrev main_v2796 : Ref sig .tc := ⟨.hbm, 5249, rfl⟩
abbrev main_v2797 : Ref sig .tc := ⟨.hbm, 5250, rfl⟩
abbrev main_v2798 : Ref sig .tc := ⟨.hbm, 5251, rfl⟩
abbrev main_call166_c : Ref sig .tc := ⟨.hbm, 5252, rfl⟩
abbrev main_call166_v0 : Ref sig .tc := ⟨.hbm, 5253, rfl⟩
abbrev main_call166_v1 : Ref sig .tc := ⟨.hbm, 5254, rfl⟩
abbrev main_call166_c_0 : Ref sig .tc := ⟨.hbm, 5255, rfl⟩
abbrev main_call166_v2 : Ref sig .tc := ⟨.hbm, 5256, rfl⟩
abbrev main_call166_v3 : Ref sig .tc := ⟨.hbm, 5257, rfl⟩
abbrev main_call166_v4 : Ref sig .tc := ⟨.hbm, 5258, rfl⟩
abbrev main_call166_v5 : Ref sig .tc := ⟨.hbm, 5259, rfl⟩
abbrev main_call166_c_1 : Ref sig .tc := ⟨.hbm, 5260, rfl⟩
abbrev main_call166_c_2 : Ref sig .tc := ⟨.hbm, 5261, rfl⟩
abbrev main_call166_v6 : Ref sig .tc := ⟨.hbm, 5262, rfl⟩
abbrev main_call166_v7 : Ref sig .tc := ⟨.hbm, 5263, rfl⟩
abbrev main_call166_v8 : Ref sig .tc := ⟨.hbm, 5264, rfl⟩
abbrev main_call166_v9 : Ref sig .tc := ⟨.hbm, 5265, rfl⟩
abbrev main_call166_v10 : Ref sig .tc := ⟨.hbm, 5266, rfl⟩
abbrev main_call166_v11 : Ref sig .tc := ⟨.hbm, 5267, rfl⟩
abbrev main_call166_c_3 : Ref sig .tc := ⟨.hbm, 5268, rfl⟩
abbrev main_call166_v12 : Ref sig .tc := ⟨.hbm, 5269, rfl⟩
abbrev main_call166_v13 : Ref sig .tc := ⟨.hbm, 5270, rfl⟩
abbrev main_call166_cst : Ref sig .tc := ⟨.hbm, 5271, rfl⟩
abbrev main_call166_v14 : Ref sig .tc := ⟨.hbm, 5272, rfl⟩
abbrev main_v2799 : Ref sig .tc := ⟨.hbm, 5273, rfl⟩
abbrev main_v2800 : Ref sig .tc := ⟨.hbm, 5274, rfl⟩
abbrev main_v2801 : Ref sig .tc := ⟨.hbm, 5275, rfl⟩
abbrev main_v2802 : Ref sig .tc := ⟨.hbm, 5276, rfl⟩
abbrev main_v2803 : Ref sig .tc := ⟨.hbm, 5277, rfl⟩
abbrev main_v2804 : Ref sig .tc := ⟨.hbm, 5278, rfl⟩
abbrev main_v2805 : Ref sig .tc := ⟨.hbm, 5279, rfl⟩
abbrev main_v2806 : Ref sig .tc := ⟨.hbm, 5280, rfl⟩
abbrev main_v2807 : Ref sig .tc := ⟨.hbm, 5281, rfl⟩
abbrev main_v2808 : Ref sig .tc := ⟨.hbm, 5282, rfl⟩
abbrev main_v2809 : Ref sig .tc := ⟨.hbm, 5283, rfl⟩
abbrev main_v2810 : Ref sig .tc := ⟨.hbm, 5284, rfl⟩
abbrev main_v2811 : Ref sig .tc := ⟨.hbm, 5285, rfl⟩
abbrev main_v2812 : Ref sig .tc := ⟨.hbm, 5286, rfl⟩
abbrev main_v2813 : Ref sig .tc := ⟨.hbm, 5287, rfl⟩
abbrev main_v2814 : Ref sig .tc := ⟨.hbm, 5288, rfl⟩
abbrev main_v2815 : Ref sig .tc := ⟨.hbm, 5289, rfl⟩
abbrev main_v2816 : Ref sig .tc := ⟨.hbm, 5290, rfl⟩
abbrev main_v2817 : Ref sig .tc := ⟨.hbm, 5291, rfl⟩
abbrev main_cst_675 : Ref sig .tc := ⟨.hbm, 5292, rfl⟩
abbrev main_v2818 : Ref sig .tc := ⟨.hbm, 5293, rfl⟩
abbrev main_v2819 : Ref sig .tc := ⟨.hbm, 5294, rfl⟩
abbrev main_cst_676 : Ref sig .tc := ⟨.hbm, 5295, rfl⟩
abbrev main_v2820 : Ref sig .tc := ⟨.hbm, 5296, rfl⟩
abbrev main_v2821 : Ref sig .tc := ⟨.hbm, 5297, rfl⟩
abbrev main_cst_677 : Ref sig .tc := ⟨.hbm, 5298, rfl⟩
abbrev main_v2822 : Ref sig .tc := ⟨.hbm, 5299, rfl⟩
abbrev main_v2823 : Ref sig .tc := ⟨.hbm, 5300, rfl⟩
abbrev main_cst_678 : Ref sig .tc := ⟨.hbm, 5301, rfl⟩
abbrev main_v2824 : Ref sig .tc := ⟨.hbm, 5302, rfl⟩
abbrev main_v2825 : Ref sig .tc := ⟨.hbm, 5303, rfl⟩
abbrev main_v2826 : Ref sig .tc := ⟨.hbm, 5304, rfl⟩
abbrev main_v2827 : Ref sig .tc := ⟨.hbm, 5305, rfl⟩
abbrev main_cst_679 : Ref sig .tc := ⟨.hbm, 5306, rfl⟩
abbrev main_v2828 : Ref sig .tc := ⟨.hbm, 5307, rfl⟩
abbrev main_v2829 : Ref sig .tc := ⟨.hbm, 5308, rfl⟩
abbrev main_cst_680 : Ref sig .tc := ⟨.hbm, 5309, rfl⟩
abbrev main_v2830 : Ref sig .tc := ⟨.hbm, 5310, rfl⟩
abbrev main_v2831 : Ref sig .tc := ⟨.hbm, 5311, rfl⟩
abbrev main_cst_681 : Ref sig .tc := ⟨.hbm, 5312, rfl⟩
abbrev main_v2832 : Ref sig .tc := ⟨.hbm, 5313, rfl⟩
abbrev main_v2833 : Ref sig .tc := ⟨.hbm, 5314, rfl⟩
abbrev main_cst_682 : Ref sig .tc := ⟨.hbm, 5315, rfl⟩
abbrev main_v2834 : Ref sig .tc := ⟨.hbm, 5316, rfl⟩
abbrev main_v2835 : Ref sig .tc := ⟨.hbm, 5317, rfl⟩
abbrev main_v2836 : Ref sig .tc := ⟨.hbm, 5318, rfl⟩
abbrev main_v2837 : Ref sig .tc := ⟨.hbm, 5319, rfl⟩
abbrev main_cst_683 : Ref sig .tc := ⟨.hbm, 5320, rfl⟩
abbrev main_v2838 : Ref sig .tc := ⟨.hbm, 5321, rfl⟩
abbrev main_v2839 : Ref sig .tc := ⟨.hbm, 5322, rfl⟩
abbrev main_cst_684 : Ref sig .tc := ⟨.hbm, 5323, rfl⟩
abbrev main_v2840 : Ref sig .tc := ⟨.hbm, 5324, rfl⟩
abbrev main_v2841 : Ref sig .tc := ⟨.hbm, 5325, rfl⟩
abbrev main_v2842 : Ref sig .tc := ⟨.hbm, 5326, rfl⟩
abbrev main_v2843 : Ref sig .tc := ⟨.hbm, 5327, rfl⟩
abbrev main_v2844 : Ref sig .tc := ⟨.hbm, 5328, rfl⟩
abbrev main_v2845 : Ref sig .tc := ⟨.hbm, 5329, rfl⟩
abbrev main_v2846 : Ref sig .tc := ⟨.hbm, 5330, rfl⟩
abbrev main_v2847 : Ref sig .tc := ⟨.hbm, 5331, rfl⟩
abbrev main_v2848 : Ref sig .tc := ⟨.hbm, 5332, rfl⟩
abbrev main_v2849 : Ref sig .tc := ⟨.hbm, 5333, rfl⟩
abbrev main_v2850 : Ref sig .tc := ⟨.hbm, 5334, rfl⟩
abbrev main_v2851 : Ref sig .tc := ⟨.hbm, 5335, rfl⟩
abbrev main_v2852 : Ref sig .tc := ⟨.hbm, 5336, rfl⟩
abbrev main_v2853 : Ref sig .tc := ⟨.hbm, 5337, rfl⟩
abbrev main_v2854 : Ref sig .tc := ⟨.hbm, 5338, rfl⟩
abbrev main_cst_685 : Ref sig .tc := ⟨.hbm, 5339, rfl⟩
abbrev main_v2855 : Ref sig .tc := ⟨.hbm, 5340, rfl⟩
abbrev main_v2856 : Ref sig .tc := ⟨.hbm, 5341, rfl⟩
abbrev main_cst_686 : Ref sig .tc := ⟨.hbm, 5342, rfl⟩
abbrev main_v2857 : Ref sig .tc := ⟨.hbm, 5343, rfl⟩
abbrev main_v2858 : Ref sig .tc := ⟨.hbm, 5344, rfl⟩
abbrev main_v2859 : Ref sig .tc := ⟨.hbm, 5345, rfl⟩
abbrev main_cst_687 : Ref sig .tc := ⟨.hbm, 5346, rfl⟩
abbrev main_v2860 : Ref sig .tc := ⟨.hbm, 5347, rfl⟩
abbrev main_v2861 : Ref sig .tc := ⟨.hbm, 5348, rfl⟩
abbrev main_v2862 : Ref sig .tc := ⟨.hbm, 5349, rfl⟩
abbrev main_cst_688 : Ref sig .tc := ⟨.hbm, 5350, rfl⟩
abbrev main_v2863 : Ref sig .tc := ⟨.hbm, 5351, rfl⟩
abbrev main_v2864 : Ref sig .tc := ⟨.hbm, 5352, rfl⟩
abbrev main_v2865 : Ref sig .tc := ⟨.hbm, 5353, rfl⟩
abbrev main_c_689 : Ref sig .tc := ⟨.hbm, 5354, rfl⟩
abbrev main_c_690 : Ref sig .tc := ⟨.hbm, 5355, rfl⟩
abbrev main_call167_v0 : Ref sig .tc := ⟨.hbm, 5356, rfl⟩
abbrev main_call167_v1 : Ref sig .tc := ⟨.hbm, 5357, rfl⟩
abbrev main_call167_v2 : Ref sig .tc := ⟨.hbm, 5358, rfl⟩
abbrev main_call167_v3 : Ref sig .tc := ⟨.hbm, 5359, rfl⟩
abbrev main_call167_v4 : Ref sig .tc := ⟨.hbm, 5360, rfl⟩
abbrev main_v2866 : Ref sig .tc := ⟨.hbm, 5361, rfl⟩
abbrev main_v2867 : Ref sig .tc := ⟨.hbm, 5362, rfl⟩
abbrev main_c_691 : Ref sig .tc := ⟨.hbm, 5363, rfl⟩
abbrev main_c_692 : Ref sig .tc := ⟨.hbm, 5364, rfl⟩
abbrev main_call168_v0 : Ref sig .tc := ⟨.hbm, 5365, rfl⟩
abbrev main_call168_v1 : Ref sig .tc := ⟨.hbm, 5366, rfl⟩
abbrev main_call168_v2 : Ref sig .tc := ⟨.hbm, 5367, rfl⟩
abbrev main_call168_v3 : Ref sig .tc := ⟨.hbm, 5368, rfl⟩
abbrev main_call168_v4 : Ref sig .tc := ⟨.hbm, 5369, rfl⟩
abbrev main_v2868 : Ref sig .tc := ⟨.hbm, 5370, rfl⟩
abbrev main_v2869 : Ref sig .tc := ⟨.hbm, 5371, rfl⟩
abbrev main_c_693 : Ref sig .tc := ⟨.hbm, 5372, rfl⟩
abbrev main_v2870 : Ref sig .tc := ⟨.hbm, 5373, rfl⟩
abbrev main_v2871 : Ref sig .tc := ⟨.hbm, 5374, rfl⟩
abbrev main_v2872 : Ref sig .tc := ⟨.hbm, 5375, rfl⟩
abbrev main_v2873 : Ref sig .tc := ⟨.hbm, 5376, rfl⟩
abbrev main_v2874 : Ref sig .tc := ⟨.hbm, 5377, rfl⟩
abbrev main_v2875 : Ref sig .tc := ⟨.hbm, 5378, rfl⟩
abbrev main_call169_c : Ref sig .tc := ⟨.hbm, 5379, rfl⟩
abbrev main_call169_v0 : Ref sig .tc := ⟨.hbm, 5380, rfl⟩
abbrev main_call169_v1 : Ref sig .tc := ⟨.hbm, 5381, rfl⟩
abbrev main_call169_c_0 : Ref sig .tc := ⟨.hbm, 5382, rfl⟩
abbrev main_call169_v2 : Ref sig .tc := ⟨.hbm, 5383, rfl⟩
abbrev main_call169_v3 : Ref sig .tc := ⟨.hbm, 5384, rfl⟩
abbrev main_call169_v4 : Ref sig .tc := ⟨.hbm, 5385, rfl⟩
abbrev main_call169_v5 : Ref sig .tc := ⟨.hbm, 5386, rfl⟩
abbrev main_call169_c_1 : Ref sig .tc := ⟨.hbm, 5387, rfl⟩
abbrev main_call169_c_2 : Ref sig .tc := ⟨.hbm, 5388, rfl⟩
abbrev main_call169_v6 : Ref sig .tc := ⟨.hbm, 5389, rfl⟩
abbrev main_call169_v7 : Ref sig .tc := ⟨.hbm, 5390, rfl⟩
abbrev main_call169_v8 : Ref sig .tc := ⟨.hbm, 5391, rfl⟩
abbrev main_call169_v9 : Ref sig .tc := ⟨.hbm, 5392, rfl⟩
abbrev main_call169_v10 : Ref sig .tc := ⟨.hbm, 5393, rfl⟩
abbrev main_call169_v11 : Ref sig .tc := ⟨.hbm, 5394, rfl⟩
abbrev main_call169_c_3 : Ref sig .tc := ⟨.hbm, 5395, rfl⟩
abbrev main_call169_v12 : Ref sig .tc := ⟨.hbm, 5396, rfl⟩
abbrev main_call169_v13 : Ref sig .tc := ⟨.hbm, 5397, rfl⟩
abbrev main_call169_cst : Ref sig .tc := ⟨.hbm, 5398, rfl⟩
abbrev main_call169_v14 : Ref sig .tc := ⟨.hbm, 5399, rfl⟩
abbrev main_v2876 : Ref sig .tc := ⟨.hbm, 5400, rfl⟩
abbrev main_v2877 : Ref sig .tc := ⟨.hbm, 5401, rfl⟩
abbrev main_v2878 : Ref sig .tc := ⟨.hbm, 5402, rfl⟩
abbrev main_v2879 : Ref sig .tc := ⟨.hbm, 5403, rfl⟩
abbrev main_v2880 : Ref sig .tc := ⟨.hbm, 5404, rfl⟩
abbrev main_v2881 : Ref sig .tc := ⟨.hbm, 5405, rfl⟩
abbrev main_v2882 : Ref sig .tc := ⟨.hbm, 5406, rfl⟩
abbrev main_v2883 : Ref sig .tc := ⟨.hbm, 5407, rfl⟩
abbrev main_v2884 : Ref sig .tc := ⟨.hbm, 5408, rfl⟩
abbrev main_cst_694 : Ref sig .tc := ⟨.hbm, 5409, rfl⟩
abbrev main_v2885 : Ref sig .tc := ⟨.hbm, 5410, rfl⟩
abbrev main_v2886 : Ref sig .tc := ⟨.hbm, 5411, rfl⟩
abbrev main_cst_695 : Ref sig .tc := ⟨.hbm, 5412, rfl⟩
abbrev main_v2887 : Ref sig .tc := ⟨.hbm, 5413, rfl⟩
abbrev main_v2888 : Ref sig .tc := ⟨.hbm, 5414, rfl⟩
abbrev main_v2889 : Ref sig .tc := ⟨.hbm, 5415, rfl⟩
abbrev main_cst_696 : Ref sig .tc := ⟨.hbm, 5416, rfl⟩
abbrev main_v2890 : Ref sig .tc := ⟨.hbm, 5417, rfl⟩
abbrev main_v2891 : Ref sig .tc := ⟨.hbm, 5418, rfl⟩
abbrev main_v2892 : Ref sig .tc := ⟨.hbm, 5419, rfl⟩
abbrev main_cst_697 : Ref sig .tc := ⟨.hbm, 5420, rfl⟩
abbrev main_v2893 : Ref sig .tc := ⟨.hbm, 5421, rfl⟩
abbrev main_v2894 : Ref sig .tc := ⟨.hbm, 5422, rfl⟩
abbrev main_v2895 : Ref sig .tc := ⟨.hbm, 5423, rfl⟩
abbrev main_c_698 : Ref sig .tc := ⟨.hbm, 5424, rfl⟩
abbrev main_c_699 : Ref sig .tc := ⟨.hbm, 5425, rfl⟩
abbrev main_call170_v0 : Ref sig .tc := ⟨.hbm, 5426, rfl⟩
abbrev main_call170_v1 : Ref sig .tc := ⟨.hbm, 5427, rfl⟩
abbrev main_call170_v2 : Ref sig .tc := ⟨.hbm, 5428, rfl⟩
abbrev main_call170_v3 : Ref sig .tc := ⟨.hbm, 5429, rfl⟩
abbrev main_call170_v4 : Ref sig .tc := ⟨.hbm, 5430, rfl⟩
abbrev main_v2896 : Ref sig .tc := ⟨.hbm, 5431, rfl⟩
abbrev main_v2897 : Ref sig .tc := ⟨.hbm, 5432, rfl⟩
abbrev main_c_700 : Ref sig .tc := ⟨.hbm, 5433, rfl⟩
abbrev main_c_701 : Ref sig .tc := ⟨.hbm, 5434, rfl⟩
abbrev main_call171_v0 : Ref sig .tc := ⟨.hbm, 5435, rfl⟩
abbrev main_call171_v1 : Ref sig .tc := ⟨.hbm, 5436, rfl⟩
abbrev main_call171_v2 : Ref sig .tc := ⟨.hbm, 5437, rfl⟩
abbrev main_call171_v3 : Ref sig .tc := ⟨.hbm, 5438, rfl⟩
abbrev main_call171_v4 : Ref sig .tc := ⟨.hbm, 5439, rfl⟩
abbrev main_v2898 : Ref sig .tc := ⟨.hbm, 5440, rfl⟩
abbrev main_v2899 : Ref sig .tc := ⟨.hbm, 5441, rfl⟩
abbrev main_c_702 : Ref sig .tc := ⟨.hbm, 5442, rfl⟩
abbrev main_v2900 : Ref sig .tc := ⟨.hbm, 5443, rfl⟩
abbrev main_v2901 : Ref sig .tc := ⟨.hbm, 5444, rfl⟩
abbrev main_v2902 : Ref sig .tc := ⟨.hbm, 5445, rfl⟩
abbrev main_v2903 : Ref sig .tc := ⟨.hbm, 5446, rfl⟩
abbrev main_v2904 : Ref sig .tc := ⟨.hbm, 5447, rfl⟩
abbrev main_v2905 : Ref sig .tc := ⟨.hbm, 5448, rfl⟩
abbrev main_call172_c : Ref sig .tc := ⟨.hbm, 5449, rfl⟩
abbrev main_call172_v0 : Ref sig .tc := ⟨.hbm, 5450, rfl⟩
abbrev main_call172_v1 : Ref sig .tc := ⟨.hbm, 5451, rfl⟩
abbrev main_call172_c_0 : Ref sig .tc := ⟨.hbm, 5452, rfl⟩
abbrev main_call172_v2 : Ref sig .tc := ⟨.hbm, 5453, rfl⟩
abbrev main_call172_v3 : Ref sig .tc := ⟨.hbm, 5454, rfl⟩
abbrev main_call172_v4 : Ref sig .tc := ⟨.hbm, 5455, rfl⟩
abbrev main_call172_v5 : Ref sig .tc := ⟨.hbm, 5456, rfl⟩
abbrev main_call172_c_1 : Ref sig .tc := ⟨.hbm, 5457, rfl⟩
abbrev main_call172_c_2 : Ref sig .tc := ⟨.hbm, 5458, rfl⟩
abbrev main_call172_v6 : Ref sig .tc := ⟨.hbm, 5459, rfl⟩
abbrev main_call172_v7 : Ref sig .tc := ⟨.hbm, 5460, rfl⟩
abbrev main_call172_v8 : Ref sig .tc := ⟨.hbm, 5461, rfl⟩
abbrev main_call172_v9 : Ref sig .tc := ⟨.hbm, 5462, rfl⟩
abbrev main_call172_v10 : Ref sig .tc := ⟨.hbm, 5463, rfl⟩
abbrev main_call172_v11 : Ref sig .tc := ⟨.hbm, 5464, rfl⟩
abbrev main_call172_c_3 : Ref sig .tc := ⟨.hbm, 5465, rfl⟩
abbrev main_call172_v12 : Ref sig .tc := ⟨.hbm, 5466, rfl⟩
abbrev main_call172_v13 : Ref sig .tc := ⟨.hbm, 5467, rfl⟩
abbrev main_call172_cst : Ref sig .tc := ⟨.hbm, 5468, rfl⟩
abbrev main_call172_v14 : Ref sig .tc := ⟨.hbm, 5469, rfl⟩
abbrev main_v2906 : Ref sig .tc := ⟨.hbm, 5470, rfl⟩
abbrev main_v2907 : Ref sig .tc := ⟨.hbm, 5471, rfl⟩
abbrev main_v2908 : Ref sig .tc := ⟨.hbm, 5472, rfl⟩
abbrev main_v2909 : Ref sig .tc := ⟨.hbm, 5473, rfl⟩
abbrev main_v2910 : Ref sig .tc := ⟨.hbm, 5474, rfl⟩
abbrev main_v2911 : Ref sig .tc := ⟨.hbm, 5475, rfl⟩
abbrev main_v2912 : Ref sig .tc := ⟨.hbm, 5476, rfl⟩
abbrev main_v2913 : Ref sig .tc := ⟨.hbm, 5477, rfl⟩
abbrev main_v2914 : Ref sig .tc := ⟨.hbm, 5478, rfl⟩
abbrev main_v2915 : Ref sig .tc := ⟨.hbm, 5479, rfl⟩
abbrev main_cst_703 : Ref sig .tc := ⟨.hbm, 5480, rfl⟩
abbrev main_v2916 : Ref sig .tc := ⟨.hbm, 5481, rfl⟩
abbrev main_v2917 : Ref sig .tc := ⟨.hbm, 5482, rfl⟩
abbrev main_cst_704 : Ref sig .tc := ⟨.hbm, 5483, rfl⟩
abbrev main_v2918 : Ref sig .tc := ⟨.hbm, 5484, rfl⟩
abbrev main_v2919 : Ref sig .tc := ⟨.hbm, 5485, rfl⟩
abbrev main_v2920 : Ref sig .tc := ⟨.hbm, 5486, rfl⟩
abbrev main_cst_705 : Ref sig .tc := ⟨.hbm, 5487, rfl⟩
abbrev main_v2921 : Ref sig .tc := ⟨.hbm, 5488, rfl⟩
abbrev main_v2922 : Ref sig .tc := ⟨.hbm, 5489, rfl⟩
abbrev main_v2923 : Ref sig .tc := ⟨.hbm, 5490, rfl⟩
abbrev main_cst_706 : Ref sig .tc := ⟨.hbm, 5491, rfl⟩
abbrev main_v2924 : Ref sig .tc := ⟨.hbm, 5492, rfl⟩
abbrev main_v2925 : Ref sig .tc := ⟨.hbm, 5493, rfl⟩
abbrev main_v2926 : Ref sig .tc := ⟨.hbm, 5494, rfl⟩
abbrev main_c_707 : Ref sig .tc := ⟨.hbm, 5495, rfl⟩
abbrev main_c_708 : Ref sig .tc := ⟨.hbm, 5496, rfl⟩
abbrev main_call173_v0 : Ref sig .tc := ⟨.hbm, 5497, rfl⟩
abbrev main_call173_v1 : Ref sig .tc := ⟨.hbm, 5498, rfl⟩
abbrev main_call173_v2 : Ref sig .tc := ⟨.hbm, 5499, rfl⟩
abbrev main_call173_v3 : Ref sig .tc := ⟨.hbm, 5500, rfl⟩
abbrev main_call173_v4 : Ref sig .tc := ⟨.hbm, 5501, rfl⟩
abbrev main_v2927 : Ref sig .tc := ⟨.hbm, 5502, rfl⟩
abbrev main_v2928 : Ref sig .tc := ⟨.hbm, 5503, rfl⟩
abbrev main_c_709 : Ref sig .tc := ⟨.hbm, 5504, rfl⟩
abbrev main_c_710 : Ref sig .tc := ⟨.hbm, 5505, rfl⟩
abbrev main_call174_v0 : Ref sig .tc := ⟨.hbm, 5506, rfl⟩
abbrev main_call174_v1 : Ref sig .tc := ⟨.hbm, 5507, rfl⟩
abbrev main_call174_v2 : Ref sig .tc := ⟨.hbm, 5508, rfl⟩
abbrev main_call174_v3 : Ref sig .tc := ⟨.hbm, 5509, rfl⟩
abbrev main_call174_v4 : Ref sig .tc := ⟨.hbm, 5510, rfl⟩
abbrev main_v2929 : Ref sig .tc := ⟨.hbm, 5511, rfl⟩
abbrev main_v2930 : Ref sig .tc := ⟨.hbm, 5512, rfl⟩
abbrev main_c_711 : Ref sig .tc := ⟨.hbm, 5513, rfl⟩
abbrev main_v2931 : Ref sig .tc := ⟨.hbm, 5514, rfl⟩
abbrev main_v2932 : Ref sig .tc := ⟨.hbm, 5515, rfl⟩
abbrev main_v2933 : Ref sig .tc := ⟨.hbm, 5516, rfl⟩
abbrev main_v2934 : Ref sig .tc := ⟨.hbm, 5517, rfl⟩
abbrev main_v2935 : Ref sig .tc := ⟨.hbm, 5518, rfl⟩
abbrev main_v2936 : Ref sig .tc := ⟨.hbm, 5519, rfl⟩
abbrev main_call175_c : Ref sig .tc := ⟨.hbm, 5520, rfl⟩
abbrev main_call175_v0 : Ref sig .tc := ⟨.hbm, 5521, rfl⟩
abbrev main_call175_v1 : Ref sig .tc := ⟨.hbm, 5522, rfl⟩
abbrev main_call175_c_0 : Ref sig .tc := ⟨.hbm, 5523, rfl⟩
abbrev main_call175_v2 : Ref sig .tc := ⟨.hbm, 5524, rfl⟩
abbrev main_call175_v3 : Ref sig .tc := ⟨.hbm, 5525, rfl⟩
abbrev main_call175_v4 : Ref sig .tc := ⟨.hbm, 5526, rfl⟩
abbrev main_call175_v5 : Ref sig .tc := ⟨.hbm, 5527, rfl⟩
abbrev main_call175_c_1 : Ref sig .tc := ⟨.hbm, 5528, rfl⟩
abbrev main_call175_c_2 : Ref sig .tc := ⟨.hbm, 5529, rfl⟩
abbrev main_call175_v6 : Ref sig .tc := ⟨.hbm, 5530, rfl⟩
abbrev main_call175_v7 : Ref sig .tc := ⟨.hbm, 5531, rfl⟩
abbrev main_call175_v8 : Ref sig .tc := ⟨.hbm, 5532, rfl⟩
abbrev main_call175_v9 : Ref sig .tc := ⟨.hbm, 5533, rfl⟩
abbrev main_call175_v10 : Ref sig .tc := ⟨.hbm, 5534, rfl⟩
abbrev main_call175_v11 : Ref sig .tc := ⟨.hbm, 5535, rfl⟩
abbrev main_call175_c_3 : Ref sig .tc := ⟨.hbm, 5536, rfl⟩
abbrev main_call175_v12 : Ref sig .tc := ⟨.hbm, 5537, rfl⟩
abbrev main_call175_v13 : Ref sig .tc := ⟨.hbm, 5538, rfl⟩
abbrev main_call175_cst : Ref sig .tc := ⟨.hbm, 5539, rfl⟩
abbrev main_call175_v14 : Ref sig .tc := ⟨.hbm, 5540, rfl⟩
abbrev main_v2937 : Ref sig .tc := ⟨.hbm, 5541, rfl⟩
abbrev main_v2938 : Ref sig .tc := ⟨.hbm, 5542, rfl⟩
abbrev main_v2939 : Ref sig .tc := ⟨.hbm, 5543, rfl⟩
abbrev main_v2940 : Ref sig .tc := ⟨.hbm, 5544, rfl⟩
abbrev main_v2941 : Ref sig .tc := ⟨.hbm, 5545, rfl⟩
abbrev main_v2942 : Ref sig .tc := ⟨.hbm, 5546, rfl⟩
abbrev main_v2943 : Ref sig .tc := ⟨.hbm, 5547, rfl⟩
abbrev main_v2944 : Ref sig .tc := ⟨.hbm, 5548, rfl⟩
abbrev main_v2945 : Ref sig .tc := ⟨.hbm, 5549, rfl⟩
abbrev main_v2946 : Ref sig .tc := ⟨.hbm, 5550, rfl⟩
abbrev main_cst_712 : Ref sig .tc := ⟨.hbm, 5551, rfl⟩
abbrev main_v2947 : Ref sig .tc := ⟨.hbm, 5552, rfl⟩
abbrev main_v2948 : Ref sig .tc := ⟨.hbm, 5553, rfl⟩
abbrev main_cst_713 : Ref sig .tc := ⟨.hbm, 5554, rfl⟩
abbrev main_v2949 : Ref sig .tc := ⟨.hbm, 5555, rfl⟩
abbrev main_v2950 : Ref sig .tc := ⟨.hbm, 5556, rfl⟩
abbrev main_v2951 : Ref sig .tc := ⟨.hbm, 5557, rfl⟩
abbrev main_cst_714 : Ref sig .tc := ⟨.hbm, 5558, rfl⟩
abbrev main_v2952 : Ref sig .tc := ⟨.hbm, 5559, rfl⟩
abbrev main_v2953 : Ref sig .tc := ⟨.hbm, 5560, rfl⟩
abbrev main_v2954 : Ref sig .tc := ⟨.hbm, 5561, rfl⟩
abbrev main_cst_715 : Ref sig .tc := ⟨.hbm, 5562, rfl⟩
abbrev main_v2955 : Ref sig .tc := ⟨.hbm, 5563, rfl⟩
abbrev main_v2956 : Ref sig .tc := ⟨.hbm, 5564, rfl⟩
abbrev main_v2957 : Ref sig .tc := ⟨.hbm, 5565, rfl⟩
abbrev main_c_716 : Ref sig .tc := ⟨.hbm, 5566, rfl⟩
abbrev main_c_717 : Ref sig .tc := ⟨.hbm, 5567, rfl⟩
abbrev main_call176_v0 : Ref sig .tc := ⟨.hbm, 5568, rfl⟩
abbrev main_call176_v1 : Ref sig .tc := ⟨.hbm, 5569, rfl⟩
abbrev main_call176_v2 : Ref sig .tc := ⟨.hbm, 5570, rfl⟩
abbrev main_call176_v3 : Ref sig .tc := ⟨.hbm, 5571, rfl⟩
abbrev main_call176_v4 : Ref sig .tc := ⟨.hbm, 5572, rfl⟩
abbrev main_v2958 : Ref sig .tc := ⟨.hbm, 5573, rfl⟩
abbrev main_v2959 : Ref sig .tc := ⟨.hbm, 5574, rfl⟩
abbrev main_c_718 : Ref sig .tc := ⟨.hbm, 5575, rfl⟩
abbrev main_c_719 : Ref sig .tc := ⟨.hbm, 5576, rfl⟩
abbrev main_call177_v0 : Ref sig .tc := ⟨.hbm, 5577, rfl⟩
abbrev main_call177_v1 : Ref sig .tc := ⟨.hbm, 5578, rfl⟩
abbrev main_call177_v2 : Ref sig .tc := ⟨.hbm, 5579, rfl⟩
abbrev main_call177_v3 : Ref sig .tc := ⟨.hbm, 5580, rfl⟩
abbrev main_call177_v4 : Ref sig .tc := ⟨.hbm, 5581, rfl⟩
abbrev main_v2960 : Ref sig .tc := ⟨.hbm, 5582, rfl⟩
abbrev main_v2961 : Ref sig .tc := ⟨.hbm, 5583, rfl⟩
abbrev main_c_720 : Ref sig .tc := ⟨.hbm, 5584, rfl⟩
abbrev main_v2962 : Ref sig .tc := ⟨.hbm, 5585, rfl⟩
abbrev main_v2963 : Ref sig .tc := ⟨.hbm, 5586, rfl⟩
abbrev main_v2964 : Ref sig .tc := ⟨.hbm, 5587, rfl⟩
abbrev main_v2965 : Ref sig .tc := ⟨.hbm, 5588, rfl⟩
abbrev main_v2966 : Ref sig .tc := ⟨.hbm, 5589, rfl⟩
abbrev main_v2967 : Ref sig .tc := ⟨.hbm, 5590, rfl⟩
abbrev main_call178_c : Ref sig .tc := ⟨.hbm, 5591, rfl⟩
abbrev main_call178_v0 : Ref sig .tc := ⟨.hbm, 5592, rfl⟩
abbrev main_call178_v1 : Ref sig .tc := ⟨.hbm, 5593, rfl⟩
abbrev main_call178_c_0 : Ref sig .tc := ⟨.hbm, 5594, rfl⟩
abbrev main_call178_v2 : Ref sig .tc := ⟨.hbm, 5595, rfl⟩
abbrev main_call178_v3 : Ref sig .tc := ⟨.hbm, 5596, rfl⟩
abbrev main_call178_v4 : Ref sig .tc := ⟨.hbm, 5597, rfl⟩
abbrev main_call178_v5 : Ref sig .tc := ⟨.hbm, 5598, rfl⟩
abbrev main_call178_c_1 : Ref sig .tc := ⟨.hbm, 5599, rfl⟩
abbrev main_call178_c_2 : Ref sig .tc := ⟨.hbm, 5600, rfl⟩
abbrev main_call178_v6 : Ref sig .tc := ⟨.hbm, 5601, rfl⟩
abbrev main_call178_v7 : Ref sig .tc := ⟨.hbm, 5602, rfl⟩
abbrev main_call178_v8 : Ref sig .tc := ⟨.hbm, 5603, rfl⟩
abbrev main_call178_v9 : Ref sig .tc := ⟨.hbm, 5604, rfl⟩
abbrev main_call178_v10 : Ref sig .tc := ⟨.hbm, 5605, rfl⟩
abbrev main_call178_v11 : Ref sig .tc := ⟨.hbm, 5606, rfl⟩
abbrev main_call178_c_3 : Ref sig .tc := ⟨.hbm, 5607, rfl⟩
abbrev main_call178_v12 : Ref sig .tc := ⟨.hbm, 5608, rfl⟩
abbrev main_call178_v13 : Ref sig .tc := ⟨.hbm, 5609, rfl⟩
abbrev main_call178_cst : Ref sig .tc := ⟨.hbm, 5610, rfl⟩
abbrev main_call178_v14 : Ref sig .tc := ⟨.hbm, 5611, rfl⟩
abbrev main_v2968 : Ref sig .tc := ⟨.hbm, 5612, rfl⟩
abbrev main_v2969 : Ref sig .tc := ⟨.hbm, 5613, rfl⟩
abbrev main_v2970 : Ref sig .tc := ⟨.hbm, 5614, rfl⟩
abbrev main_v2971 : Ref sig .tc := ⟨.hbm, 5615, rfl⟩
abbrev main_v2972 : Ref sig .tc := ⟨.hbm, 5616, rfl⟩
abbrev main_v2973 : Ref sig .tc := ⟨.hbm, 5617, rfl⟩
abbrev main_v2974 : Ref sig .tc := ⟨.hbm, 5618, rfl⟩
abbrev main_v2975 : Ref sig .tc := ⟨.hbm, 5619, rfl⟩
abbrev main_v2976 : Ref sig .tc := ⟨.hbm, 5620, rfl⟩
abbrev main_v2977 : Ref sig .tc := ⟨.hbm, 5621, rfl⟩
abbrev main_v2978 : Ref sig .tc := ⟨.hbm, 5622, rfl⟩
abbrev main_v2979 : Ref sig .tc := ⟨.hbm, 5623, rfl⟩
abbrev main_v2980 : Ref sig .tc := ⟨.hbm, 5624, rfl⟩
abbrev main_v2981 : Ref sig .tc := ⟨.hbm, 5625, rfl⟩
abbrev main_v2982 : Ref sig .tc := ⟨.hbm, 5626, rfl⟩
abbrev main_v2983 : Ref sig .tc := ⟨.hbm, 5627, rfl⟩
abbrev main_v2984 : Ref sig .tc := ⟨.hbm, 5628, rfl⟩
abbrev main_v2985 : Ref sig .tc := ⟨.hbm, 5629, rfl⟩
abbrev main_v2986 : Ref sig .tc := ⟨.hbm, 5630, rfl⟩
abbrev main_cst_721 : Ref sig .tc := ⟨.hbm, 5631, rfl⟩
abbrev main_v2987 : Ref sig .tc := ⟨.hbm, 5632, rfl⟩
abbrev main_v2988 : Ref sig .tc := ⟨.hbm, 5633, rfl⟩
abbrev main_cst_722 : Ref sig .tc := ⟨.hbm, 5634, rfl⟩
abbrev main_v2989 : Ref sig .tc := ⟨.hbm, 5635, rfl⟩
abbrev main_v2990 : Ref sig .tc := ⟨.hbm, 5636, rfl⟩
abbrev main_cst_723 : Ref sig .tc := ⟨.hbm, 5637, rfl⟩
abbrev main_v2991 : Ref sig .tc := ⟨.hbm, 5638, rfl⟩
abbrev main_v2992 : Ref sig .tc := ⟨.hbm, 5639, rfl⟩
abbrev main_cst_724 : Ref sig .tc := ⟨.hbm, 5640, rfl⟩
abbrev main_v2993 : Ref sig .tc := ⟨.hbm, 5641, rfl⟩
abbrev main_v2994 : Ref sig .tc := ⟨.hbm, 5642, rfl⟩
abbrev main_v2995 : Ref sig .tc := ⟨.hbm, 5643, rfl⟩
abbrev main_v2996 : Ref sig .tc := ⟨.hbm, 5644, rfl⟩
abbrev main_cst_725 : Ref sig .tc := ⟨.hbm, 5645, rfl⟩
abbrev main_v2997 : Ref sig .tc := ⟨.hbm, 5646, rfl⟩
abbrev main_v2998 : Ref sig .tc := ⟨.hbm, 5647, rfl⟩
abbrev main_cst_726 : Ref sig .tc := ⟨.hbm, 5648, rfl⟩
abbrev main_v2999 : Ref sig .tc := ⟨.hbm, 5649, rfl⟩
abbrev main_v3000 : Ref sig .tc := ⟨.hbm, 5650, rfl⟩
abbrev main_cst_727 : Ref sig .tc := ⟨.hbm, 5651, rfl⟩
abbrev main_v3001 : Ref sig .tc := ⟨.hbm, 5652, rfl⟩
abbrev main_v3002 : Ref sig .tc := ⟨.hbm, 5653, rfl⟩
abbrev main_cst_728 : Ref sig .tc := ⟨.hbm, 5654, rfl⟩
abbrev main_v3003 : Ref sig .tc := ⟨.hbm, 5655, rfl⟩
abbrev main_v3004 : Ref sig .tc := ⟨.hbm, 5656, rfl⟩
abbrev main_v3005 : Ref sig .tc := ⟨.hbm, 5657, rfl⟩
abbrev main_v3006 : Ref sig .tc := ⟨.hbm, 5658, rfl⟩
abbrev main_cst_729 : Ref sig .tc := ⟨.hbm, 5659, rfl⟩
abbrev main_v3007 : Ref sig .tc := ⟨.hbm, 5660, rfl⟩
abbrev main_v3008 : Ref sig .tc := ⟨.hbm, 5661, rfl⟩
abbrev main_cst_730 : Ref sig .tc := ⟨.hbm, 5662, rfl⟩
abbrev main_v3009 : Ref sig .tc := ⟨.hbm, 5663, rfl⟩
abbrev main_v3010 : Ref sig .tc := ⟨.hbm, 5664, rfl⟩
abbrev main_v3011 : Ref sig .tc := ⟨.hbm, 5665, rfl⟩
abbrev main_v3012 : Ref sig .tc := ⟨.hbm, 5666, rfl⟩
abbrev main_v3013 : Ref sig .tc := ⟨.hbm, 5667, rfl⟩
abbrev main_v3014 : Ref sig .tc := ⟨.hbm, 5668, rfl⟩
abbrev main_v3015 : Ref sig .tc := ⟨.hbm, 5669, rfl⟩
abbrev main_v3016 : Ref sig .tc := ⟨.hbm, 5670, rfl⟩
abbrev main_v3017 : Ref sig .tc := ⟨.hbm, 5671, rfl⟩
abbrev main_v3018 : Ref sig .tc := ⟨.hbm, 5672, rfl⟩
abbrev main_v3019 : Ref sig .tc := ⟨.hbm, 5673, rfl⟩
abbrev main_v3020 : Ref sig .tc := ⟨.hbm, 5674, rfl⟩
abbrev main_v3021 : Ref sig .tc := ⟨.hbm, 5675, rfl⟩
abbrev main_v3022 : Ref sig .tc := ⟨.hbm, 5676, rfl⟩
abbrev main_v3023 : Ref sig .tc := ⟨.hbm, 5677, rfl⟩
abbrev main_cst_731 : Ref sig .tc := ⟨.hbm, 5678, rfl⟩
abbrev main_v3024 : Ref sig .tc := ⟨.hbm, 5679, rfl⟩
abbrev main_v3025 : Ref sig .tc := ⟨.hbm, 5680, rfl⟩
abbrev main_cst_732 : Ref sig .tc := ⟨.hbm, 5681, rfl⟩
abbrev main_v3026 : Ref sig .tc := ⟨.hbm, 5682, rfl⟩
abbrev main_v3027 : Ref sig .tc := ⟨.hbm, 5683, rfl⟩
abbrev main_v3028 : Ref sig .tc := ⟨.hbm, 5684, rfl⟩
abbrev main_cst_733 : Ref sig .tc := ⟨.hbm, 5685, rfl⟩
abbrev main_v3029 : Ref sig .tc := ⟨.hbm, 5686, rfl⟩
abbrev main_v3030 : Ref sig .tc := ⟨.hbm, 5687, rfl⟩
abbrev main_v3031 : Ref sig .tc := ⟨.hbm, 5688, rfl⟩
abbrev main_cst_734 : Ref sig .tc := ⟨.hbm, 5689, rfl⟩
abbrev main_v3032 : Ref sig .tc := ⟨.hbm, 5690, rfl⟩
abbrev main_v3033 : Ref sig .tc := ⟨.hbm, 5691, rfl⟩
abbrev main_v3034 : Ref sig .tc := ⟨.hbm, 5692, rfl⟩
abbrev main_c_735 : Ref sig .tc := ⟨.hbm, 5693, rfl⟩
abbrev main_c_736 : Ref sig .tc := ⟨.hbm, 5694, rfl⟩
abbrev main_call179_v0 : Ref sig .tc := ⟨.hbm, 5695, rfl⟩
abbrev main_call179_v1 : Ref sig .tc := ⟨.hbm, 5696, rfl⟩
abbrev main_call179_v2 : Ref sig .tc := ⟨.hbm, 5697, rfl⟩
abbrev main_call179_v3 : Ref sig .tc := ⟨.hbm, 5698, rfl⟩
abbrev main_call179_v4 : Ref sig .tc := ⟨.hbm, 5699, rfl⟩
abbrev main_v3035 : Ref sig .tc := ⟨.hbm, 5700, rfl⟩
abbrev main_v3036 : Ref sig .tc := ⟨.hbm, 5701, rfl⟩
abbrev main_c_737 : Ref sig .tc := ⟨.hbm, 5702, rfl⟩
abbrev main_c_738 : Ref sig .tc := ⟨.hbm, 5703, rfl⟩
abbrev main_call180_v0 : Ref sig .tc := ⟨.hbm, 5704, rfl⟩
abbrev main_call180_v1 : Ref sig .tc := ⟨.hbm, 5705, rfl⟩
abbrev main_call180_v2 : Ref sig .tc := ⟨.hbm, 5706, rfl⟩
abbrev main_call180_v3 : Ref sig .tc := ⟨.hbm, 5707, rfl⟩
abbrev main_call180_v4 : Ref sig .tc := ⟨.hbm, 5708, rfl⟩
abbrev main_v3037 : Ref sig .tc := ⟨.hbm, 5709, rfl⟩
abbrev main_v3038 : Ref sig .tc := ⟨.hbm, 5710, rfl⟩
abbrev main_c_739 : Ref sig .tc := ⟨.hbm, 5711, rfl⟩
abbrev main_v3039 : Ref sig .tc := ⟨.hbm, 5712, rfl⟩
abbrev main_v3040 : Ref sig .tc := ⟨.hbm, 5713, rfl⟩
abbrev main_v3041 : Ref sig .tc := ⟨.hbm, 5714, rfl⟩
abbrev main_v3042 : Ref sig .tc := ⟨.hbm, 5715, rfl⟩
abbrev main_v3043 : Ref sig .tc := ⟨.hbm, 5716, rfl⟩
abbrev main_v3044 : Ref sig .tc := ⟨.hbm, 5717, rfl⟩
abbrev main_call181_c : Ref sig .tc := ⟨.hbm, 5718, rfl⟩
abbrev main_call181_v0 : Ref sig .tc := ⟨.hbm, 5719, rfl⟩
abbrev main_call181_v1 : Ref sig .tc := ⟨.hbm, 5720, rfl⟩
abbrev main_call181_c_0 : Ref sig .tc := ⟨.hbm, 5721, rfl⟩
abbrev main_call181_v2 : Ref sig .tc := ⟨.hbm, 5722, rfl⟩
abbrev main_call181_v3 : Ref sig .tc := ⟨.hbm, 5723, rfl⟩
abbrev main_call181_v4 : Ref sig .tc := ⟨.hbm, 5724, rfl⟩
abbrev main_call181_v5 : Ref sig .tc := ⟨.hbm, 5725, rfl⟩
abbrev main_call181_c_1 : Ref sig .tc := ⟨.hbm, 5726, rfl⟩
abbrev main_call181_c_2 : Ref sig .tc := ⟨.hbm, 5727, rfl⟩
abbrev main_call181_v6 : Ref sig .tc := ⟨.hbm, 5728, rfl⟩
abbrev main_call181_v7 : Ref sig .tc := ⟨.hbm, 5729, rfl⟩
abbrev main_call181_v8 : Ref sig .tc := ⟨.hbm, 5730, rfl⟩
abbrev main_call181_v9 : Ref sig .tc := ⟨.hbm, 5731, rfl⟩
abbrev main_call181_v10 : Ref sig .tc := ⟨.hbm, 5732, rfl⟩
abbrev main_call181_v11 : Ref sig .tc := ⟨.hbm, 5733, rfl⟩
abbrev main_call181_c_3 : Ref sig .tc := ⟨.hbm, 5734, rfl⟩
abbrev main_call181_v12 : Ref sig .tc := ⟨.hbm, 5735, rfl⟩
abbrev main_call181_v13 : Ref sig .tc := ⟨.hbm, 5736, rfl⟩
abbrev main_call181_cst : Ref sig .tc := ⟨.hbm, 5737, rfl⟩
abbrev main_call181_v14 : Ref sig .tc := ⟨.hbm, 5738, rfl⟩
abbrev main_v3045 : Ref sig .tc := ⟨.hbm, 5739, rfl⟩
abbrev main_v3046 : Ref sig .tc := ⟨.hbm, 5740, rfl⟩
abbrev main_v3047 : Ref sig .tc := ⟨.hbm, 5741, rfl⟩
abbrev main_v3048 : Ref sig .tc := ⟨.hbm, 5742, rfl⟩
abbrev main_v3049 : Ref sig .tc := ⟨.hbm, 5743, rfl⟩
abbrev main_v3050 : Ref sig .tc := ⟨.hbm, 5744, rfl⟩
abbrev main_v3051 : Ref sig .tc := ⟨.hbm, 5745, rfl⟩
abbrev main_v3052 : Ref sig .tc := ⟨.hbm, 5746, rfl⟩
abbrev main_v3053 : Ref sig .tc := ⟨.hbm, 5747, rfl⟩
abbrev main_cst_740 : Ref sig .tc := ⟨.hbm, 5748, rfl⟩
abbrev main_v3054 : Ref sig .tc := ⟨.hbm, 5749, rfl⟩
abbrev main_v3055 : Ref sig .tc := ⟨.hbm, 5750, rfl⟩
abbrev main_cst_741 : Ref sig .tc := ⟨.hbm, 5751, rfl⟩
abbrev main_v3056 : Ref sig .tc := ⟨.hbm, 5752, rfl⟩
abbrev main_v3057 : Ref sig .tc := ⟨.hbm, 5753, rfl⟩
abbrev main_v3058 : Ref sig .tc := ⟨.hbm, 5754, rfl⟩
abbrev main_cst_742 : Ref sig .tc := ⟨.hbm, 5755, rfl⟩
abbrev main_v3059 : Ref sig .tc := ⟨.hbm, 5756, rfl⟩
abbrev main_v3060 : Ref sig .tc := ⟨.hbm, 5757, rfl⟩
abbrev main_v3061 : Ref sig .tc := ⟨.hbm, 5758, rfl⟩
abbrev main_cst_743 : Ref sig .tc := ⟨.hbm, 5759, rfl⟩
abbrev main_v3062 : Ref sig .tc := ⟨.hbm, 5760, rfl⟩
abbrev main_v3063 : Ref sig .tc := ⟨.hbm, 5761, rfl⟩
abbrev main_v3064 : Ref sig .tc := ⟨.hbm, 5762, rfl⟩
abbrev main_c_744 : Ref sig .tc := ⟨.hbm, 5763, rfl⟩
abbrev main_c_745 : Ref sig .tc := ⟨.hbm, 5764, rfl⟩
abbrev main_call182_v0 : Ref sig .tc := ⟨.hbm, 5765, rfl⟩
abbrev main_call182_v1 : Ref sig .tc := ⟨.hbm, 5766, rfl⟩
abbrev main_call182_v2 : Ref sig .tc := ⟨.hbm, 5767, rfl⟩
abbrev main_call182_v3 : Ref sig .tc := ⟨.hbm, 5768, rfl⟩
abbrev main_call182_v4 : Ref sig .tc := ⟨.hbm, 5769, rfl⟩
abbrev main_v3065 : Ref sig .tc := ⟨.hbm, 5770, rfl⟩
abbrev main_v3066 : Ref sig .tc := ⟨.hbm, 5771, rfl⟩
abbrev main_c_746 : Ref sig .tc := ⟨.hbm, 5772, rfl⟩
abbrev main_c_747 : Ref sig .tc := ⟨.hbm, 5773, rfl⟩
abbrev main_call183_v0 : Ref sig .tc := ⟨.hbm, 5774, rfl⟩
abbrev main_call183_v1 : Ref sig .tc := ⟨.hbm, 5775, rfl⟩
abbrev main_call183_v2 : Ref sig .tc := ⟨.hbm, 5776, rfl⟩
abbrev main_call183_v3 : Ref sig .tc := ⟨.hbm, 5777, rfl⟩
abbrev main_call183_v4 : Ref sig .tc := ⟨.hbm, 5778, rfl⟩
abbrev main_v3067 : Ref sig .tc := ⟨.hbm, 5779, rfl⟩
abbrev main_v3068 : Ref sig .tc := ⟨.hbm, 5780, rfl⟩
abbrev main_c_748 : Ref sig .tc := ⟨.hbm, 5781, rfl⟩
abbrev main_v3069 : Ref sig .tc := ⟨.hbm, 5782, rfl⟩
abbrev main_v3070 : Ref sig .tc := ⟨.hbm, 5783, rfl⟩
abbrev main_v3071 : Ref sig .tc := ⟨.hbm, 5784, rfl⟩
abbrev main_v3072 : Ref sig .tc := ⟨.hbm, 5785, rfl⟩
abbrev main_v3073 : Ref sig .tc := ⟨.hbm, 5786, rfl⟩
abbrev main_v3074 : Ref sig .tc := ⟨.hbm, 5787, rfl⟩
abbrev main_call184_c : Ref sig .tc := ⟨.hbm, 5788, rfl⟩
abbrev main_call184_v0 : Ref sig .tc := ⟨.hbm, 5789, rfl⟩
abbrev main_call184_v1 : Ref sig .tc := ⟨.hbm, 5790, rfl⟩
abbrev main_call184_c_0 : Ref sig .tc := ⟨.hbm, 5791, rfl⟩
abbrev main_call184_v2 : Ref sig .tc := ⟨.hbm, 5792, rfl⟩
abbrev main_call184_v3 : Ref sig .tc := ⟨.hbm, 5793, rfl⟩
abbrev main_call184_v4 : Ref sig .tc := ⟨.hbm, 5794, rfl⟩
abbrev main_call184_v5 : Ref sig .tc := ⟨.hbm, 5795, rfl⟩
abbrev main_call184_c_1 : Ref sig .tc := ⟨.hbm, 5796, rfl⟩
abbrev main_call184_c_2 : Ref sig .tc := ⟨.hbm, 5797, rfl⟩
abbrev main_call184_v6 : Ref sig .tc := ⟨.hbm, 5798, rfl⟩
abbrev main_call184_v7 : Ref sig .tc := ⟨.hbm, 5799, rfl⟩
abbrev main_call184_v8 : Ref sig .tc := ⟨.hbm, 5800, rfl⟩
abbrev main_call184_v9 : Ref sig .tc := ⟨.hbm, 5801, rfl⟩
abbrev main_call184_v10 : Ref sig .tc := ⟨.hbm, 5802, rfl⟩
abbrev main_call184_v11 : Ref sig .tc := ⟨.hbm, 5803, rfl⟩
abbrev main_call184_c_3 : Ref sig .tc := ⟨.hbm, 5804, rfl⟩
abbrev main_call184_v12 : Ref sig .tc := ⟨.hbm, 5805, rfl⟩
abbrev main_call184_v13 : Ref sig .tc := ⟨.hbm, 5806, rfl⟩
abbrev main_call184_cst : Ref sig .tc := ⟨.hbm, 5807, rfl⟩
abbrev main_call184_v14 : Ref sig .tc := ⟨.hbm, 5808, rfl⟩
abbrev main_v3075 : Ref sig .tc := ⟨.hbm, 5809, rfl⟩
abbrev main_v3076 : Ref sig .tc := ⟨.hbm, 5810, rfl⟩
abbrev main_v3077 : Ref sig .tc := ⟨.hbm, 5811, rfl⟩
abbrev main_v3078 : Ref sig .tc := ⟨.hbm, 5812, rfl⟩
abbrev main_v3079 : Ref sig .tc := ⟨.hbm, 5813, rfl⟩
abbrev main_v3080 : Ref sig .tc := ⟨.hbm, 5814, rfl⟩
abbrev main_v3081 : Ref sig .tc := ⟨.hbm, 5815, rfl⟩
abbrev main_v3082 : Ref sig .tc := ⟨.hbm, 5816, rfl⟩
abbrev main_v3083 : Ref sig .tc := ⟨.hbm, 5817, rfl⟩
abbrev main_v3084 : Ref sig .tc := ⟨.hbm, 5818, rfl⟩
abbrev main_cst_749 : Ref sig .tc := ⟨.hbm, 5819, rfl⟩
abbrev main_v3085 : Ref sig .tc := ⟨.hbm, 5820, rfl⟩
abbrev main_v3086 : Ref sig .tc := ⟨.hbm, 5821, rfl⟩
abbrev main_cst_750 : Ref sig .tc := ⟨.hbm, 5822, rfl⟩
abbrev main_v3087 : Ref sig .tc := ⟨.hbm, 5823, rfl⟩
abbrev main_v3088 : Ref sig .tc := ⟨.hbm, 5824, rfl⟩
abbrev main_v3089 : Ref sig .tc := ⟨.hbm, 5825, rfl⟩
abbrev main_cst_751 : Ref sig .tc := ⟨.hbm, 5826, rfl⟩
abbrev main_v3090 : Ref sig .tc := ⟨.hbm, 5827, rfl⟩
abbrev main_v3091 : Ref sig .tc := ⟨.hbm, 5828, rfl⟩
abbrev main_v3092 : Ref sig .tc := ⟨.hbm, 5829, rfl⟩
abbrev main_cst_752 : Ref sig .tc := ⟨.hbm, 5830, rfl⟩
abbrev main_v3093 : Ref sig .tc := ⟨.hbm, 5831, rfl⟩
abbrev main_v3094 : Ref sig .tc := ⟨.hbm, 5832, rfl⟩
abbrev main_v3095 : Ref sig .tc := ⟨.hbm, 5833, rfl⟩
abbrev main_c_753 : Ref sig .tc := ⟨.hbm, 5834, rfl⟩
abbrev main_c_754 : Ref sig .tc := ⟨.hbm, 5835, rfl⟩
abbrev main_call185_v0 : Ref sig .tc := ⟨.hbm, 5836, rfl⟩
abbrev main_call185_v1 : Ref sig .tc := ⟨.hbm, 5837, rfl⟩
abbrev main_call185_v2 : Ref sig .tc := ⟨.hbm, 5838, rfl⟩
abbrev main_call185_v3 : Ref sig .tc := ⟨.hbm, 5839, rfl⟩
abbrev main_call185_v4 : Ref sig .tc := ⟨.hbm, 5840, rfl⟩
abbrev main_v3096 : Ref sig .tc := ⟨.hbm, 5841, rfl⟩
abbrev main_v3097 : Ref sig .tc := ⟨.hbm, 5842, rfl⟩
abbrev main_c_755 : Ref sig .tc := ⟨.hbm, 5843, rfl⟩
abbrev main_c_756 : Ref sig .tc := ⟨.hbm, 5844, rfl⟩
abbrev main_call186_v0 : Ref sig .tc := ⟨.hbm, 5845, rfl⟩
abbrev main_call186_v1 : Ref sig .tc := ⟨.hbm, 5846, rfl⟩
abbrev main_call186_v2 : Ref sig .tc := ⟨.hbm, 5847, rfl⟩
abbrev main_call186_v3 : Ref sig .tc := ⟨.hbm, 5848, rfl⟩
abbrev main_call186_v4 : Ref sig .tc := ⟨.hbm, 5849, rfl⟩
abbrev main_v3098 : Ref sig .tc := ⟨.hbm, 5850, rfl⟩
abbrev main_v3099 : Ref sig .tc := ⟨.hbm, 5851, rfl⟩
abbrev main_c_757 : Ref sig .tc := ⟨.hbm, 5852, rfl⟩
abbrev main_v3100 : Ref sig .tc := ⟨.hbm, 5853, rfl⟩
abbrev main_v3101 : Ref sig .tc := ⟨.hbm, 5854, rfl⟩
abbrev main_v3102 : Ref sig .tc := ⟨.hbm, 5855, rfl⟩
abbrev main_v3103 : Ref sig .tc := ⟨.hbm, 5856, rfl⟩
abbrev main_v3104 : Ref sig .tc := ⟨.hbm, 5857, rfl⟩
abbrev main_v3105 : Ref sig .tc := ⟨.hbm, 5858, rfl⟩
abbrev main_call187_c : Ref sig .tc := ⟨.hbm, 5859, rfl⟩
abbrev main_call187_v0 : Ref sig .tc := ⟨.hbm, 5860, rfl⟩
abbrev main_call187_v1 : Ref sig .tc := ⟨.hbm, 5861, rfl⟩
abbrev main_call187_c_0 : Ref sig .tc := ⟨.hbm, 5862, rfl⟩
abbrev main_call187_v2 : Ref sig .tc := ⟨.hbm, 5863, rfl⟩
abbrev main_call187_v3 : Ref sig .tc := ⟨.hbm, 5864, rfl⟩
abbrev main_call187_v4 : Ref sig .tc := ⟨.hbm, 5865, rfl⟩
abbrev main_call187_v5 : Ref sig .tc := ⟨.hbm, 5866, rfl⟩
abbrev main_call187_c_1 : Ref sig .tc := ⟨.hbm, 5867, rfl⟩
abbrev main_call187_c_2 : Ref sig .tc := ⟨.hbm, 5868, rfl⟩
abbrev main_call187_v6 : Ref sig .tc := ⟨.hbm, 5869, rfl⟩
abbrev main_call187_v7 : Ref sig .tc := ⟨.hbm, 5870, rfl⟩
abbrev main_call187_v8 : Ref sig .tc := ⟨.hbm, 5871, rfl⟩
abbrev main_call187_v9 : Ref sig .tc := ⟨.hbm, 5872, rfl⟩
abbrev main_call187_v10 : Ref sig .tc := ⟨.hbm, 5873, rfl⟩
abbrev main_call187_v11 : Ref sig .tc := ⟨.hbm, 5874, rfl⟩
abbrev main_call187_c_3 : Ref sig .tc := ⟨.hbm, 5875, rfl⟩
abbrev main_call187_v12 : Ref sig .tc := ⟨.hbm, 5876, rfl⟩
abbrev main_call187_v13 : Ref sig .tc := ⟨.hbm, 5877, rfl⟩
abbrev main_call187_cst : Ref sig .tc := ⟨.hbm, 5878, rfl⟩
abbrev main_call187_v14 : Ref sig .tc := ⟨.hbm, 5879, rfl⟩
abbrev main_v3106 : Ref sig .tc := ⟨.hbm, 5880, rfl⟩
abbrev main_v3107 : Ref sig .tc := ⟨.hbm, 5881, rfl⟩
abbrev main_v3108 : Ref sig .tc := ⟨.hbm, 5882, rfl⟩
abbrev main_v3109 : Ref sig .tc := ⟨.hbm, 5883, rfl⟩
abbrev main_v3110 : Ref sig .tc := ⟨.hbm, 5884, rfl⟩
abbrev main_v3111 : Ref sig .tc := ⟨.hbm, 5885, rfl⟩
abbrev main_v3112 : Ref sig .tc := ⟨.hbm, 5886, rfl⟩
abbrev main_v3113 : Ref sig .tc := ⟨.hbm, 5887, rfl⟩
abbrev main_v3114 : Ref sig .tc := ⟨.hbm, 5888, rfl⟩
abbrev main_v3115 : Ref sig .tc := ⟨.hbm, 5889, rfl⟩
abbrev main_cst_758 : Ref sig .tc := ⟨.hbm, 5890, rfl⟩
abbrev main_v3116 : Ref sig .tc := ⟨.hbm, 5891, rfl⟩
abbrev main_v3117 : Ref sig .tc := ⟨.hbm, 5892, rfl⟩
abbrev main_cst_759 : Ref sig .tc := ⟨.hbm, 5893, rfl⟩
abbrev main_v3118 : Ref sig .tc := ⟨.hbm, 5894, rfl⟩
abbrev main_v3119 : Ref sig .tc := ⟨.hbm, 5895, rfl⟩
abbrev main_v3120 : Ref sig .tc := ⟨.hbm, 5896, rfl⟩
abbrev main_cst_760 : Ref sig .tc := ⟨.hbm, 5897, rfl⟩
abbrev main_v3121 : Ref sig .tc := ⟨.hbm, 5898, rfl⟩
abbrev main_v3122 : Ref sig .tc := ⟨.hbm, 5899, rfl⟩
abbrev main_v3123 : Ref sig .tc := ⟨.hbm, 5900, rfl⟩
abbrev main_cst_761 : Ref sig .tc := ⟨.hbm, 5901, rfl⟩
abbrev main_v3124 : Ref sig .tc := ⟨.hbm, 5902, rfl⟩
abbrev main_v3125 : Ref sig .tc := ⟨.hbm, 5903, rfl⟩
abbrev main_v3126 : Ref sig .tc := ⟨.hbm, 5904, rfl⟩
abbrev main_c_762 : Ref sig .tc := ⟨.hbm, 5905, rfl⟩
abbrev main_c_763 : Ref sig .tc := ⟨.hbm, 5906, rfl⟩
abbrev main_call188_v0 : Ref sig .tc := ⟨.hbm, 5907, rfl⟩
abbrev main_call188_v1 : Ref sig .tc := ⟨.hbm, 5908, rfl⟩
abbrev main_call188_v2 : Ref sig .tc := ⟨.hbm, 5909, rfl⟩
abbrev main_call188_v3 : Ref sig .tc := ⟨.hbm, 5910, rfl⟩
abbrev main_call188_v4 : Ref sig .tc := ⟨.hbm, 5911, rfl⟩
abbrev main_v3127 : Ref sig .tc := ⟨.hbm, 5912, rfl⟩
abbrev main_v3128 : Ref sig .tc := ⟨.hbm, 5913, rfl⟩
abbrev main_c_764 : Ref sig .tc := ⟨.hbm, 5914, rfl⟩
abbrev main_c_765 : Ref sig .tc := ⟨.hbm, 5915, rfl⟩
abbrev main_call189_v0 : Ref sig .tc := ⟨.hbm, 5916, rfl⟩
abbrev main_call189_v1 : Ref sig .tc := ⟨.hbm, 5917, rfl⟩
abbrev main_call189_v2 : Ref sig .tc := ⟨.hbm, 5918, rfl⟩
abbrev main_call189_v3 : Ref sig .tc := ⟨.hbm, 5919, rfl⟩
abbrev main_call189_v4 : Ref sig .tc := ⟨.hbm, 5920, rfl⟩
abbrev main_v3129 : Ref sig .tc := ⟨.hbm, 5921, rfl⟩
abbrev main_v3130 : Ref sig .tc := ⟨.hbm, 5922, rfl⟩
abbrev main_c_766 : Ref sig .tc := ⟨.hbm, 5923, rfl⟩
abbrev main_v3131 : Ref sig .tc := ⟨.hbm, 5924, rfl⟩
abbrev main_v3132 : Ref sig .tc := ⟨.hbm, 5925, rfl⟩
abbrev main_v3133 : Ref sig .tc := ⟨.hbm, 5926, rfl⟩
abbrev main_v3134 : Ref sig .tc := ⟨.hbm, 5927, rfl⟩
abbrev main_v3135 : Ref sig .tc := ⟨.hbm, 5928, rfl⟩
abbrev main_v3136 : Ref sig .tc := ⟨.hbm, 5929, rfl⟩
abbrev main_call190_c : Ref sig .tc := ⟨.hbm, 5930, rfl⟩
abbrev main_call190_v0 : Ref sig .tc := ⟨.hbm, 5931, rfl⟩
abbrev main_call190_v1 : Ref sig .tc := ⟨.hbm, 5932, rfl⟩
abbrev main_call190_c_0 : Ref sig .tc := ⟨.hbm, 5933, rfl⟩
abbrev main_call190_v2 : Ref sig .tc := ⟨.hbm, 5934, rfl⟩
abbrev main_call190_v3 : Ref sig .tc := ⟨.hbm, 5935, rfl⟩
abbrev main_call190_v4 : Ref sig .tc := ⟨.hbm, 5936, rfl⟩
abbrev main_call190_v5 : Ref sig .tc := ⟨.hbm, 5937, rfl⟩
abbrev main_call190_c_1 : Ref sig .tc := ⟨.hbm, 5938, rfl⟩
abbrev main_call190_c_2 : Ref sig .tc := ⟨.hbm, 5939, rfl⟩
abbrev main_call190_v6 : Ref sig .tc := ⟨.hbm, 5940, rfl⟩
abbrev main_call190_v7 : Ref sig .tc := ⟨.hbm, 5941, rfl⟩
abbrev main_call190_v8 : Ref sig .tc := ⟨.hbm, 5942, rfl⟩
abbrev main_call190_v9 : Ref sig .tc := ⟨.hbm, 5943, rfl⟩
abbrev main_call190_v10 : Ref sig .tc := ⟨.hbm, 5944, rfl⟩
abbrev main_call190_v11 : Ref sig .tc := ⟨.hbm, 5945, rfl⟩
abbrev main_call190_c_3 : Ref sig .tc := ⟨.hbm, 5946, rfl⟩
abbrev main_call190_v12 : Ref sig .tc := ⟨.hbm, 5947, rfl⟩
abbrev main_call190_v13 : Ref sig .tc := ⟨.hbm, 5948, rfl⟩
abbrev main_call190_cst : Ref sig .tc := ⟨.hbm, 5949, rfl⟩
abbrev main_call190_v14 : Ref sig .tc := ⟨.hbm, 5950, rfl⟩
abbrev main_v3137 : Ref sig .tc := ⟨.hbm, 5951, rfl⟩
abbrev main_v3138 : Ref sig .tc := ⟨.hbm, 5952, rfl⟩
abbrev main_v3139 : Ref sig .tc := ⟨.hbm, 5953, rfl⟩
abbrev main_v3140 : Ref sig .tc := ⟨.hbm, 5954, rfl⟩
abbrev main_v3141 : Ref sig .tc := ⟨.hbm, 5955, rfl⟩
abbrev main_v3142 : Ref sig .tc := ⟨.hbm, 5956, rfl⟩
abbrev main_v3143 : Ref sig .tc := ⟨.hbm, 5957, rfl⟩
abbrev main_v3144 : Ref sig .tc := ⟨.hbm, 5958, rfl⟩
abbrev main_v3145 : Ref sig .tc := ⟨.hbm, 5959, rfl⟩
abbrev main_v3146 : Ref sig .tc := ⟨.hbm, 5960, rfl⟩
abbrev main_v3147 : Ref sig .tc := ⟨.hbm, 5961, rfl⟩
abbrev main_v3148 : Ref sig .tc := ⟨.hbm, 5962, rfl⟩
abbrev main_v3149 : Ref sig .tc := ⟨.hbm, 5963, rfl⟩
abbrev main_v3150 : Ref sig .tc := ⟨.hbm, 5964, rfl⟩
abbrev main_v3151 : Ref sig .tc := ⟨.hbm, 5965, rfl⟩
abbrev main_v3152 : Ref sig .tc := ⟨.hbm, 5966, rfl⟩
abbrev main_v3153 : Ref sig .tc := ⟨.hbm, 5967, rfl⟩
abbrev main_v3154 : Ref sig .tc := ⟨.hbm, 5968, rfl⟩
abbrev main_v3155 : Ref sig .tc := ⟨.hbm, 5969, rfl⟩
abbrev main_cst_767 : Ref sig .tc := ⟨.hbm, 5970, rfl⟩
abbrev main_v3156 : Ref sig .tc := ⟨.hbm, 5971, rfl⟩
abbrev main_v3157 : Ref sig .tc := ⟨.hbm, 5972, rfl⟩
abbrev main_cst_768 : Ref sig .tc := ⟨.hbm, 5973, rfl⟩
abbrev main_v3158 : Ref sig .tc := ⟨.hbm, 5974, rfl⟩
abbrev main_v3159 : Ref sig .tc := ⟨.hbm, 5975, rfl⟩
abbrev main_cst_769 : Ref sig .tc := ⟨.hbm, 5976, rfl⟩
abbrev main_v3160 : Ref sig .tc := ⟨.hbm, 5977, rfl⟩
abbrev main_v3161 : Ref sig .tc := ⟨.hbm, 5978, rfl⟩
abbrev main_cst_770 : Ref sig .tc := ⟨.hbm, 5979, rfl⟩
abbrev main_v3162 : Ref sig .tc := ⟨.hbm, 5980, rfl⟩
abbrev main_v3163 : Ref sig .tc := ⟨.hbm, 5981, rfl⟩
abbrev main_v3164 : Ref sig .tc := ⟨.hbm, 5982, rfl⟩
abbrev main_v3165 : Ref sig .tc := ⟨.hbm, 5983, rfl⟩
abbrev main_cst_771 : Ref sig .tc := ⟨.hbm, 5984, rfl⟩
abbrev main_v3166 : Ref sig .tc := ⟨.hbm, 5985, rfl⟩
abbrev main_v3167 : Ref sig .tc := ⟨.hbm, 5986, rfl⟩
abbrev main_cst_772 : Ref sig .tc := ⟨.hbm, 5987, rfl⟩
abbrev main_v3168 : Ref sig .tc := ⟨.hbm, 5988, rfl⟩
abbrev main_v3169 : Ref sig .tc := ⟨.hbm, 5989, rfl⟩
abbrev main_cst_773 : Ref sig .tc := ⟨.hbm, 5990, rfl⟩
abbrev main_v3170 : Ref sig .tc := ⟨.hbm, 5991, rfl⟩
abbrev main_v3171 : Ref sig .tc := ⟨.hbm, 5992, rfl⟩
abbrev main_cst_774 : Ref sig .tc := ⟨.hbm, 5993, rfl⟩
abbrev main_v3172 : Ref sig .tc := ⟨.hbm, 5994, rfl⟩
abbrev main_v3173 : Ref sig .tc := ⟨.hbm, 5995, rfl⟩
abbrev main_v3174 : Ref sig .tc := ⟨.hbm, 5996, rfl⟩
abbrev main_v3175 : Ref sig .tc := ⟨.hbm, 5997, rfl⟩
abbrev main_cst_775 : Ref sig .tc := ⟨.hbm, 5998, rfl⟩
abbrev main_v3176 : Ref sig .tc := ⟨.hbm, 5999, rfl⟩
abbrev main_v3177 : Ref sig .tc := ⟨.hbm, 6000, rfl⟩
abbrev main_cst_776 : Ref sig .tc := ⟨.hbm, 6001, rfl⟩
abbrev main_v3178 : Ref sig .tc := ⟨.hbm, 6002, rfl⟩
abbrev main_v3179 : Ref sig .tc := ⟨.hbm, 6003, rfl⟩
abbrev main_v3180 : Ref sig .tc := ⟨.hbm, 6004, rfl⟩
abbrev main_v3181 : Ref sig .tc := ⟨.hbm, 6005, rfl⟩
abbrev main_v3182 : Ref sig .tc := ⟨.hbm, 6006, rfl⟩
abbrev main_v3183 : Ref sig .tc := ⟨.hbm, 6007, rfl⟩
abbrev main_v3184 : Ref sig .tc := ⟨.hbm, 6008, rfl⟩
abbrev main_v3185 : Ref sig .tc := ⟨.hbm, 6009, rfl⟩
abbrev main_v3186 : Ref sig .tc := ⟨.hbm, 6010, rfl⟩
abbrev main_v3187 : Ref sig .tc := ⟨.hbm, 6011, rfl⟩
abbrev main_v3188 : Ref sig .tc := ⟨.hbm, 6012, rfl⟩
abbrev main_v3189 : Ref sig .tc := ⟨.hbm, 6013, rfl⟩
abbrev main_v3190 : Ref sig .tc := ⟨.hbm, 6014, rfl⟩
abbrev main_v3191 : Ref sig .tc := ⟨.hbm, 6015, rfl⟩
abbrev main_v3192 : Ref sig .tc := ⟨.hbm, 6016, rfl⟩
abbrev main_cst_777 : Ref sig .tc := ⟨.hbm, 6017, rfl⟩
abbrev main_v3193 : Ref sig .tc := ⟨.hbm, 6018, rfl⟩
abbrev main_v3194 : Ref sig .tc := ⟨.hbm, 6019, rfl⟩
abbrev main_cst_778 : Ref sig .tc := ⟨.hbm, 6020, rfl⟩
abbrev main_v3195 : Ref sig .tc := ⟨.hbm, 6021, rfl⟩
abbrev main_v3196 : Ref sig .tc := ⟨.hbm, 6022, rfl⟩
abbrev main_v3197 : Ref sig .tc := ⟨.hbm, 6023, rfl⟩
abbrev main_cst_779 : Ref sig .tc := ⟨.hbm, 6024, rfl⟩
abbrev main_v3198 : Ref sig .tc := ⟨.hbm, 6025, rfl⟩
abbrev main_v3199 : Ref sig .tc := ⟨.hbm, 6026, rfl⟩
abbrev main_v3200 : Ref sig .tc := ⟨.hbm, 6027, rfl⟩
abbrev main_cst_780 : Ref sig .tc := ⟨.hbm, 6028, rfl⟩
abbrev main_v3201 : Ref sig .tc := ⟨.hbm, 6029, rfl⟩
abbrev main_v3202 : Ref sig .tc := ⟨.hbm, 6030, rfl⟩
abbrev main_v3203 : Ref sig .tc := ⟨.hbm, 6031, rfl⟩
abbrev main_c_781 : Ref sig .tc := ⟨.hbm, 6032, rfl⟩
abbrev main_c_782 : Ref sig .tc := ⟨.hbm, 6033, rfl⟩
abbrev main_call191_v0 : Ref sig .tc := ⟨.hbm, 6034, rfl⟩
abbrev main_call191_v1 : Ref sig .tc := ⟨.hbm, 6035, rfl⟩
abbrev main_call191_v2 : Ref sig .tc := ⟨.hbm, 6036, rfl⟩
abbrev main_call191_v3 : Ref sig .tc := ⟨.hbm, 6037, rfl⟩
abbrev main_call191_v4 : Ref sig .tc := ⟨.hbm, 6038, rfl⟩
abbrev main_v3204 : Ref sig .tc := ⟨.hbm, 6039, rfl⟩
abbrev main_v3205 : Ref sig .tc := ⟨.hbm, 6040, rfl⟩
abbrev main_c_783 : Ref sig .tc := ⟨.hbm, 6041, rfl⟩
abbrev main_c_784 : Ref sig .tc := ⟨.hbm, 6042, rfl⟩
abbrev main_call192_v0 : Ref sig .tc := ⟨.hbm, 6043, rfl⟩
abbrev main_call192_v1 : Ref sig .tc := ⟨.hbm, 6044, rfl⟩
abbrev main_call192_v2 : Ref sig .tc := ⟨.hbm, 6045, rfl⟩
abbrev main_call192_v3 : Ref sig .tc := ⟨.hbm, 6046, rfl⟩
abbrev main_call192_v4 : Ref sig .tc := ⟨.hbm, 6047, rfl⟩
abbrev main_v3206 : Ref sig .tc := ⟨.hbm, 6048, rfl⟩
abbrev main_v3207 : Ref sig .tc := ⟨.hbm, 6049, rfl⟩
abbrev main_c_785 : Ref sig .tc := ⟨.hbm, 6050, rfl⟩
abbrev main_v3208 : Ref sig .tc := ⟨.hbm, 6051, rfl⟩
abbrev main_v3209 : Ref sig .tc := ⟨.hbm, 6052, rfl⟩
abbrev main_v3210 : Ref sig .tc := ⟨.hbm, 6053, rfl⟩
abbrev main_v3211 : Ref sig .tc := ⟨.hbm, 6054, rfl⟩
abbrev main_v3212 : Ref sig .tc := ⟨.hbm, 6055, rfl⟩
abbrev main_v3213 : Ref sig .tc := ⟨.hbm, 6056, rfl⟩
abbrev main_call193_c : Ref sig .tc := ⟨.hbm, 6057, rfl⟩
abbrev main_call193_v0 : Ref sig .tc := ⟨.hbm, 6058, rfl⟩
abbrev main_call193_v1 : Ref sig .tc := ⟨.hbm, 6059, rfl⟩
abbrev main_call193_c_0 : Ref sig .tc := ⟨.hbm, 6060, rfl⟩
abbrev main_call193_v2 : Ref sig .tc := ⟨.hbm, 6061, rfl⟩
abbrev main_call193_v3 : Ref sig .tc := ⟨.hbm, 6062, rfl⟩
abbrev main_call193_v4 : Ref sig .tc := ⟨.hbm, 6063, rfl⟩
abbrev main_call193_v5 : Ref sig .tc := ⟨.hbm, 6064, rfl⟩
abbrev main_call193_c_1 : Ref sig .tc := ⟨.hbm, 6065, rfl⟩
abbrev main_call193_c_2 : Ref sig .tc := ⟨.hbm, 6066, rfl⟩
abbrev main_call193_v6 : Ref sig .tc := ⟨.hbm, 6067, rfl⟩
abbrev main_call193_v7 : Ref sig .tc := ⟨.hbm, 6068, rfl⟩
abbrev main_call193_v8 : Ref sig .tc := ⟨.hbm, 6069, rfl⟩
abbrev main_call193_v9 : Ref sig .tc := ⟨.hbm, 6070, rfl⟩
abbrev main_call193_v10 : Ref sig .tc := ⟨.hbm, 6071, rfl⟩
abbrev main_call193_v11 : Ref sig .tc := ⟨.hbm, 6072, rfl⟩
abbrev main_call193_c_3 : Ref sig .tc := ⟨.hbm, 6073, rfl⟩
abbrev main_call193_v12 : Ref sig .tc := ⟨.hbm, 6074, rfl⟩
abbrev main_call193_v13 : Ref sig .tc := ⟨.hbm, 6075, rfl⟩
abbrev main_call193_cst : Ref sig .tc := ⟨.hbm, 6076, rfl⟩
abbrev main_call193_v14 : Ref sig .tc := ⟨.hbm, 6077, rfl⟩
abbrev main_v3214 : Ref sig .tc := ⟨.hbm, 6078, rfl⟩
abbrev main_v3215 : Ref sig .tc := ⟨.hbm, 6079, rfl⟩
abbrev main_v3216 : Ref sig .tc := ⟨.hbm, 6080, rfl⟩
abbrev main_v3217 : Ref sig .tc := ⟨.hbm, 6081, rfl⟩
abbrev main_v3218 : Ref sig .tc := ⟨.hbm, 6082, rfl⟩
abbrev main_v3219 : Ref sig .tc := ⟨.hbm, 6083, rfl⟩
abbrev main_v3220 : Ref sig .tc := ⟨.hbm, 6084, rfl⟩
abbrev main_v3221 : Ref sig .tc := ⟨.hbm, 6085, rfl⟩
abbrev main_v3222 : Ref sig .tc := ⟨.hbm, 6086, rfl⟩
abbrev main_cst_786 : Ref sig .tc := ⟨.hbm, 6087, rfl⟩
abbrev main_v3223 : Ref sig .tc := ⟨.hbm, 6088, rfl⟩
abbrev main_v3224 : Ref sig .tc := ⟨.hbm, 6089, rfl⟩
abbrev main_cst_787 : Ref sig .tc := ⟨.hbm, 6090, rfl⟩
abbrev main_v3225 : Ref sig .tc := ⟨.hbm, 6091, rfl⟩
abbrev main_v3226 : Ref sig .tc := ⟨.hbm, 6092, rfl⟩
abbrev main_v3227 : Ref sig .tc := ⟨.hbm, 6093, rfl⟩
abbrev main_cst_788 : Ref sig .tc := ⟨.hbm, 6094, rfl⟩
abbrev main_v3228 : Ref sig .tc := ⟨.hbm, 6095, rfl⟩
abbrev main_v3229 : Ref sig .tc := ⟨.hbm, 6096, rfl⟩
abbrev main_v3230 : Ref sig .tc := ⟨.hbm, 6097, rfl⟩
abbrev main_cst_789 : Ref sig .tc := ⟨.hbm, 6098, rfl⟩
abbrev main_v3231 : Ref sig .tc := ⟨.hbm, 6099, rfl⟩
abbrev main_v3232 : Ref sig .tc := ⟨.hbm, 6100, rfl⟩
abbrev main_v3233 : Ref sig .tc := ⟨.hbm, 6101, rfl⟩
abbrev main_c_790 : Ref sig .tc := ⟨.hbm, 6102, rfl⟩
abbrev main_c_791 : Ref sig .tc := ⟨.hbm, 6103, rfl⟩
abbrev main_call194_v0 : Ref sig .tc := ⟨.hbm, 6104, rfl⟩
abbrev main_call194_v1 : Ref sig .tc := ⟨.hbm, 6105, rfl⟩
abbrev main_call194_v2 : Ref sig .tc := ⟨.hbm, 6106, rfl⟩
abbrev main_call194_v3 : Ref sig .tc := ⟨.hbm, 6107, rfl⟩
abbrev main_call194_v4 : Ref sig .tc := ⟨.hbm, 6108, rfl⟩
abbrev main_v3234 : Ref sig .tc := ⟨.hbm, 6109, rfl⟩
abbrev main_v3235 : Ref sig .tc := ⟨.hbm, 6110, rfl⟩
abbrev main_c_792 : Ref sig .tc := ⟨.hbm, 6111, rfl⟩
abbrev main_c_793 : Ref sig .tc := ⟨.hbm, 6112, rfl⟩
abbrev main_call195_v0 : Ref sig .tc := ⟨.hbm, 6113, rfl⟩
abbrev main_call195_v1 : Ref sig .tc := ⟨.hbm, 6114, rfl⟩
abbrev main_call195_v2 : Ref sig .tc := ⟨.hbm, 6115, rfl⟩
abbrev main_call195_v3 : Ref sig .tc := ⟨.hbm, 6116, rfl⟩
abbrev main_call195_v4 : Ref sig .tc := ⟨.hbm, 6117, rfl⟩
abbrev main_v3236 : Ref sig .tc := ⟨.hbm, 6118, rfl⟩
abbrev main_v3237 : Ref sig .tc := ⟨.hbm, 6119, rfl⟩
abbrev main_c_794 : Ref sig .tc := ⟨.hbm, 6120, rfl⟩
abbrev main_v3238 : Ref sig .tc := ⟨.hbm, 6121, rfl⟩
abbrev main_v3239 : Ref sig .tc := ⟨.hbm, 6122, rfl⟩
abbrev main_v3240 : Ref sig .tc := ⟨.hbm, 6123, rfl⟩
abbrev main_v3241 : Ref sig .tc := ⟨.hbm, 6124, rfl⟩
abbrev main_v3242 : Ref sig .tc := ⟨.hbm, 6125, rfl⟩
abbrev main_v3243 : Ref sig .tc := ⟨.hbm, 6126, rfl⟩
abbrev main_call196_c : Ref sig .tc := ⟨.hbm, 6127, rfl⟩
abbrev main_call196_v0 : Ref sig .tc := ⟨.hbm, 6128, rfl⟩
abbrev main_call196_v1 : Ref sig .tc := ⟨.hbm, 6129, rfl⟩
abbrev main_call196_c_0 : Ref sig .tc := ⟨.hbm, 6130, rfl⟩
abbrev main_call196_v2 : Ref sig .tc := ⟨.hbm, 6131, rfl⟩
abbrev main_call196_v3 : Ref sig .tc := ⟨.hbm, 6132, rfl⟩
abbrev main_call196_v4 : Ref sig .tc := ⟨.hbm, 6133, rfl⟩
abbrev main_call196_v5 : Ref sig .tc := ⟨.hbm, 6134, rfl⟩
abbrev main_call196_c_1 : Ref sig .tc := ⟨.hbm, 6135, rfl⟩
abbrev main_call196_c_2 : Ref sig .tc := ⟨.hbm, 6136, rfl⟩
abbrev main_call196_v6 : Ref sig .tc := ⟨.hbm, 6137, rfl⟩
abbrev main_call196_v7 : Ref sig .tc := ⟨.hbm, 6138, rfl⟩
abbrev main_call196_v8 : Ref sig .tc := ⟨.hbm, 6139, rfl⟩
abbrev main_call196_v9 : Ref sig .tc := ⟨.hbm, 6140, rfl⟩
abbrev main_call196_v10 : Ref sig .tc := ⟨.hbm, 6141, rfl⟩
abbrev main_call196_v11 : Ref sig .tc := ⟨.hbm, 6142, rfl⟩
abbrev main_call196_c_3 : Ref sig .tc := ⟨.hbm, 6143, rfl⟩
abbrev main_call196_v12 : Ref sig .tc := ⟨.hbm, 6144, rfl⟩
abbrev main_call196_v13 : Ref sig .tc := ⟨.hbm, 6145, rfl⟩
abbrev main_call196_cst : Ref sig .tc := ⟨.hbm, 6146, rfl⟩
abbrev main_call196_v14 : Ref sig .tc := ⟨.hbm, 6147, rfl⟩
abbrev main_v3244 : Ref sig .tc := ⟨.hbm, 6148, rfl⟩
abbrev main_v3245 : Ref sig .tc := ⟨.hbm, 6149, rfl⟩
abbrev main_v3246 : Ref sig .tc := ⟨.hbm, 6150, rfl⟩
abbrev main_v3247 : Ref sig .tc := ⟨.hbm, 6151, rfl⟩
abbrev main_v3248 : Ref sig .tc := ⟨.hbm, 6152, rfl⟩
abbrev main_v3249 : Ref sig .tc := ⟨.hbm, 6153, rfl⟩
abbrev main_v3250 : Ref sig .tc := ⟨.hbm, 6154, rfl⟩
abbrev main_v3251 : Ref sig .tc := ⟨.hbm, 6155, rfl⟩
abbrev main_v3252 : Ref sig .tc := ⟨.hbm, 6156, rfl⟩
abbrev main_v3253 : Ref sig .tc := ⟨.hbm, 6157, rfl⟩
abbrev main_cst_795 : Ref sig .tc := ⟨.hbm, 6158, rfl⟩
abbrev main_v3254 : Ref sig .tc := ⟨.hbm, 6159, rfl⟩
abbrev main_v3255 : Ref sig .tc := ⟨.hbm, 6160, rfl⟩
abbrev main_cst_796 : Ref sig .tc := ⟨.hbm, 6161, rfl⟩
abbrev main_v3256 : Ref sig .tc := ⟨.hbm, 6162, rfl⟩
abbrev main_v3257 : Ref sig .tc := ⟨.hbm, 6163, rfl⟩
abbrev main_v3258 : Ref sig .tc := ⟨.hbm, 6164, rfl⟩
abbrev main_cst_797 : Ref sig .tc := ⟨.hbm, 6165, rfl⟩
abbrev main_v3259 : Ref sig .tc := ⟨.hbm, 6166, rfl⟩
abbrev main_v3260 : Ref sig .tc := ⟨.hbm, 6167, rfl⟩
abbrev main_v3261 : Ref sig .tc := ⟨.hbm, 6168, rfl⟩
abbrev main_cst_798 : Ref sig .tc := ⟨.hbm, 6169, rfl⟩
abbrev main_v3262 : Ref sig .tc := ⟨.hbm, 6170, rfl⟩
abbrev main_v3263 : Ref sig .tc := ⟨.hbm, 6171, rfl⟩
abbrev main_v3264 : Ref sig .tc := ⟨.hbm, 6172, rfl⟩
abbrev main_c_799 : Ref sig .tc := ⟨.hbm, 6173, rfl⟩
abbrev main_c_800 : Ref sig .tc := ⟨.hbm, 6174, rfl⟩
abbrev main_call197_v0 : Ref sig .tc := ⟨.hbm, 6175, rfl⟩
abbrev main_call197_v1 : Ref sig .tc := ⟨.hbm, 6176, rfl⟩
abbrev main_call197_v2 : Ref sig .tc := ⟨.hbm, 6177, rfl⟩
abbrev main_call197_v3 : Ref sig .tc := ⟨.hbm, 6178, rfl⟩
abbrev main_call197_v4 : Ref sig .tc := ⟨.hbm, 6179, rfl⟩
abbrev main_v3265 : Ref sig .tc := ⟨.hbm, 6180, rfl⟩
abbrev main_v3266 : Ref sig .tc := ⟨.hbm, 6181, rfl⟩
abbrev main_c_801 : Ref sig .tc := ⟨.hbm, 6182, rfl⟩
abbrev main_c_802 : Ref sig .tc := ⟨.hbm, 6183, rfl⟩
abbrev main_call198_v0 : Ref sig .tc := ⟨.hbm, 6184, rfl⟩
abbrev main_call198_v1 : Ref sig .tc := ⟨.hbm, 6185, rfl⟩
abbrev main_call198_v2 : Ref sig .tc := ⟨.hbm, 6186, rfl⟩
abbrev main_call198_v3 : Ref sig .tc := ⟨.hbm, 6187, rfl⟩
abbrev main_call198_v4 : Ref sig .tc := ⟨.hbm, 6188, rfl⟩
abbrev main_v3267 : Ref sig .tc := ⟨.hbm, 6189, rfl⟩
abbrev main_v3268 : Ref sig .tc := ⟨.hbm, 6190, rfl⟩
abbrev main_c_803 : Ref sig .tc := ⟨.hbm, 6191, rfl⟩
abbrev main_v3269 : Ref sig .tc := ⟨.hbm, 6192, rfl⟩
abbrev main_v3270 : Ref sig .tc := ⟨.hbm, 6193, rfl⟩
abbrev main_v3271 : Ref sig .tc := ⟨.hbm, 6194, rfl⟩
abbrev main_v3272 : Ref sig .tc := ⟨.hbm, 6195, rfl⟩
abbrev main_v3273 : Ref sig .tc := ⟨.hbm, 6196, rfl⟩
abbrev main_v3274 : Ref sig .tc := ⟨.hbm, 6197, rfl⟩
abbrev main_call199_c : Ref sig .tc := ⟨.hbm, 6198, rfl⟩
abbrev main_call199_v0 : Ref sig .tc := ⟨.hbm, 6199, rfl⟩
abbrev main_call199_v1 : Ref sig .tc := ⟨.hbm, 6200, rfl⟩
abbrev main_call199_c_0 : Ref sig .tc := ⟨.hbm, 6201, rfl⟩
abbrev main_call199_v2 : Ref sig .tc := ⟨.hbm, 6202, rfl⟩
abbrev main_call199_v3 : Ref sig .tc := ⟨.hbm, 6203, rfl⟩
abbrev main_call199_v4 : Ref sig .tc := ⟨.hbm, 6204, rfl⟩
abbrev main_call199_v5 : Ref sig .tc := ⟨.hbm, 6205, rfl⟩
abbrev main_call199_c_1 : Ref sig .tc := ⟨.hbm, 6206, rfl⟩
abbrev main_call199_c_2 : Ref sig .tc := ⟨.hbm, 6207, rfl⟩
abbrev main_call199_v6 : Ref sig .tc := ⟨.hbm, 6208, rfl⟩
abbrev main_call199_v7 : Ref sig .tc := ⟨.hbm, 6209, rfl⟩
abbrev main_call199_v8 : Ref sig .tc := ⟨.hbm, 6210, rfl⟩
abbrev main_call199_v9 : Ref sig .tc := ⟨.hbm, 6211, rfl⟩
abbrev main_call199_v10 : Ref sig .tc := ⟨.hbm, 6212, rfl⟩
abbrev main_call199_v11 : Ref sig .tc := ⟨.hbm, 6213, rfl⟩
abbrev main_call199_c_3 : Ref sig .tc := ⟨.hbm, 6214, rfl⟩
abbrev main_call199_v12 : Ref sig .tc := ⟨.hbm, 6215, rfl⟩
abbrev main_call199_v13 : Ref sig .tc := ⟨.hbm, 6216, rfl⟩
abbrev main_call199_cst : Ref sig .tc := ⟨.hbm, 6217, rfl⟩
abbrev main_call199_v14 : Ref sig .tc := ⟨.hbm, 6218, rfl⟩
abbrev main_v3275 : Ref sig .tc := ⟨.hbm, 6219, rfl⟩
abbrev main_v3276 : Ref sig .tc := ⟨.hbm, 6220, rfl⟩
abbrev main_v3277 : Ref sig .tc := ⟨.hbm, 6221, rfl⟩
abbrev main_v3278 : Ref sig .tc := ⟨.hbm, 6222, rfl⟩
abbrev main_v3279 : Ref sig .tc := ⟨.hbm, 6223, rfl⟩
abbrev main_v3280 : Ref sig .tc := ⟨.hbm, 6224, rfl⟩
abbrev main_v3281 : Ref sig .tc := ⟨.hbm, 6225, rfl⟩
abbrev main_v3282 : Ref sig .tc := ⟨.hbm, 6226, rfl⟩
abbrev main_v3283 : Ref sig .tc := ⟨.hbm, 6227, rfl⟩
abbrev main_v3284 : Ref sig .tc := ⟨.hbm, 6228, rfl⟩
abbrev main_cst_804 : Ref sig .tc := ⟨.hbm, 6229, rfl⟩
abbrev main_v3285 : Ref sig .tc := ⟨.hbm, 6230, rfl⟩
abbrev main_v3286 : Ref sig .tc := ⟨.hbm, 6231, rfl⟩
abbrev main_cst_805 : Ref sig .tc := ⟨.hbm, 6232, rfl⟩
abbrev main_v3287 : Ref sig .tc := ⟨.hbm, 6233, rfl⟩
abbrev main_v3288 : Ref sig .tc := ⟨.hbm, 6234, rfl⟩
abbrev main_v3289 : Ref sig .tc := ⟨.hbm, 6235, rfl⟩
abbrev main_cst_806 : Ref sig .tc := ⟨.hbm, 6236, rfl⟩
abbrev main_v3290 : Ref sig .tc := ⟨.hbm, 6237, rfl⟩
abbrev main_v3291 : Ref sig .tc := ⟨.hbm, 6238, rfl⟩
abbrev main_v3292 : Ref sig .tc := ⟨.hbm, 6239, rfl⟩
abbrev main_cst_807 : Ref sig .tc := ⟨.hbm, 6240, rfl⟩
abbrev main_v3293 : Ref sig .tc := ⟨.hbm, 6241, rfl⟩
abbrev main_v3294 : Ref sig .tc := ⟨.hbm, 6242, rfl⟩
abbrev main_v3295 : Ref sig .tc := ⟨.hbm, 6243, rfl⟩
abbrev main_c_808 : Ref sig .tc := ⟨.hbm, 6244, rfl⟩
abbrev main_c_809 : Ref sig .tc := ⟨.hbm, 6245, rfl⟩
abbrev main_call200_v0 : Ref sig .tc := ⟨.hbm, 6246, rfl⟩
abbrev main_call200_v1 : Ref sig .tc := ⟨.hbm, 6247, rfl⟩
abbrev main_call200_v2 : Ref sig .tc := ⟨.hbm, 6248, rfl⟩
abbrev main_call200_v3 : Ref sig .tc := ⟨.hbm, 6249, rfl⟩
abbrev main_call200_v4 : Ref sig .tc := ⟨.hbm, 6250, rfl⟩
abbrev main_v3296 : Ref sig .tc := ⟨.hbm, 6251, rfl⟩
abbrev main_v3297 : Ref sig .tc := ⟨.hbm, 6252, rfl⟩
abbrev main_c_810 : Ref sig .tc := ⟨.hbm, 6253, rfl⟩
abbrev main_c_811 : Ref sig .tc := ⟨.hbm, 6254, rfl⟩
abbrev main_call201_v0 : Ref sig .tc := ⟨.hbm, 6255, rfl⟩
abbrev main_call201_v1 : Ref sig .tc := ⟨.hbm, 6256, rfl⟩
abbrev main_call201_v2 : Ref sig .tc := ⟨.hbm, 6257, rfl⟩
abbrev main_call201_v3 : Ref sig .tc := ⟨.hbm, 6258, rfl⟩
abbrev main_call201_v4 : Ref sig .tc := ⟨.hbm, 6259, rfl⟩
abbrev main_v3298 : Ref sig .tc := ⟨.hbm, 6260, rfl⟩
abbrev main_v3299 : Ref sig .tc := ⟨.hbm, 6261, rfl⟩
abbrev main_c_812 : Ref sig .tc := ⟨.hbm, 6262, rfl⟩
abbrev main_v3300 : Ref sig .tc := ⟨.hbm, 6263, rfl⟩
abbrev main_v3301 : Ref sig .tc := ⟨.hbm, 6264, rfl⟩
abbrev main_v3302 : Ref sig .tc := ⟨.hbm, 6265, rfl⟩
abbrev main_v3303 : Ref sig .tc := ⟨.hbm, 6266, rfl⟩
abbrev main_v3304 : Ref sig .tc := ⟨.hbm, 6267, rfl⟩
abbrev main_v3305 : Ref sig .tc := ⟨.hbm, 6268, rfl⟩
abbrev main_call202_c : Ref sig .tc := ⟨.hbm, 6269, rfl⟩
abbrev main_call202_v0 : Ref sig .tc := ⟨.hbm, 6270, rfl⟩
abbrev main_call202_v1 : Ref sig .tc := ⟨.hbm, 6271, rfl⟩
abbrev main_call202_c_0 : Ref sig .tc := ⟨.hbm, 6272, rfl⟩
abbrev main_call202_v2 : Ref sig .tc := ⟨.hbm, 6273, rfl⟩
abbrev main_call202_v3 : Ref sig .tc := ⟨.hbm, 6274, rfl⟩
abbrev main_call202_v4 : Ref sig .tc := ⟨.hbm, 6275, rfl⟩
abbrev main_call202_v5 : Ref sig .tc := ⟨.hbm, 6276, rfl⟩
abbrev main_call202_c_1 : Ref sig .tc := ⟨.hbm, 6277, rfl⟩
abbrev main_call202_c_2 : Ref sig .tc := ⟨.hbm, 6278, rfl⟩
abbrev main_call202_v6 : Ref sig .tc := ⟨.hbm, 6279, rfl⟩
abbrev main_call202_v7 : Ref sig .tc := ⟨.hbm, 6280, rfl⟩
abbrev main_call202_v8 : Ref sig .tc := ⟨.hbm, 6281, rfl⟩
abbrev main_call202_v9 : Ref sig .tc := ⟨.hbm, 6282, rfl⟩
abbrev main_call202_v10 : Ref sig .tc := ⟨.hbm, 6283, rfl⟩
abbrev main_call202_v11 : Ref sig .tc := ⟨.hbm, 6284, rfl⟩
abbrev main_call202_c_3 : Ref sig .tc := ⟨.hbm, 6285, rfl⟩
abbrev main_call202_v12 : Ref sig .tc := ⟨.hbm, 6286, rfl⟩
abbrev main_call202_v13 : Ref sig .tc := ⟨.hbm, 6287, rfl⟩
abbrev main_call202_cst : Ref sig .tc := ⟨.hbm, 6288, rfl⟩
abbrev main_call202_v14 : Ref sig .tc := ⟨.hbm, 6289, rfl⟩
abbrev main_v3306 : Ref sig .tc := ⟨.hbm, 6290, rfl⟩
abbrev main_v3307 : Ref sig .tc := ⟨.hbm, 6291, rfl⟩
abbrev main_v3308 : Ref sig .tc := ⟨.hbm, 6292, rfl⟩
abbrev main_v3309 : Ref sig .tc := ⟨.hbm, 6293, rfl⟩
abbrev main_v3310 : Ref sig .tc := ⟨.hbm, 6294, rfl⟩
abbrev main_v3311 : Ref sig .tc := ⟨.hbm, 6295, rfl⟩
abbrev main_v3312 : Ref sig .tc := ⟨.hbm, 6296, rfl⟩
abbrev main_v3313 : Ref sig .tc := ⟨.hbm, 6297, rfl⟩
abbrev main_v3314 : Ref sig .tc := ⟨.hbm, 6298, rfl⟩
abbrev main_v3315 : Ref sig .tc := ⟨.hbm, 6299, rfl⟩
abbrev main_v3316 : Ref sig .tc := ⟨.hbm, 6300, rfl⟩
abbrev main_v3317 : Ref sig .tc := ⟨.hbm, 6301, rfl⟩
abbrev main_v3318 : Ref sig .tc := ⟨.hbm, 6302, rfl⟩
abbrev main_v3319 : Ref sig .tc := ⟨.hbm, 6303, rfl⟩
abbrev main_v3320 : Ref sig .tc := ⟨.hbm, 6304, rfl⟩
abbrev main_v3321 : Ref sig .tc := ⟨.hbm, 6305, rfl⟩
abbrev main_v3322 : Ref sig .tc := ⟨.hbm, 6306, rfl⟩
abbrev main_v3323 : Ref sig .tc := ⟨.hbm, 6307, rfl⟩
abbrev main_v3324 : Ref sig .tc := ⟨.hbm, 6308, rfl⟩
abbrev main_v3325 : Ref sig .tc := ⟨.hbm, 6309, rfl⟩
abbrev main_cst_813 : Ref sig .tc := ⟨.hbm, 6310, rfl⟩
abbrev main_v3326 : Ref sig .tc := ⟨.hbm, 6311, rfl⟩
abbrev main_v3327 : Ref sig .tc := ⟨.hbm, 6312, rfl⟩
abbrev main_v3328 : Ref sig .tc := ⟨.hbm, 6313, rfl⟩
abbrev main_v3329 : Ref sig .tc := ⟨.hbm, 6314, rfl⟩
abbrev main_v3330 : Ref sig .tc := ⟨.hbm, 6315, rfl⟩
abbrev main_v3331 : Ref sig .tc := ⟨.hbm, 6316, rfl⟩
abbrev main_v3332 : Ref sig .tc := ⟨.hbm, 6317, rfl⟩
abbrev main_v3333 : Ref sig .tc := ⟨.hbm, 6318, rfl⟩
abbrev main_v3334 : Ref sig .tc := ⟨.hbm, 6319, rfl⟩
abbrev main_v3335 : Ref sig .tc := ⟨.hbm, 6320, rfl⟩
abbrev main_v3336 : Ref sig .tc := ⟨.hbm, 6321, rfl⟩
abbrev main_v3337 : Ref sig .tc := ⟨.hbm, 6322, rfl⟩
abbrev main_v3338 : Ref sig .tc := ⟨.hbm, 6323, rfl⟩
abbrev main_v3339 : Ref sig .tc := ⟨.hbm, 6324, rfl⟩
abbrev main_v3340 : Ref sig .tc := ⟨.hbm, 6325, rfl⟩
abbrev main_v3341 : Ref sig .tc := ⟨.hbm, 6326, rfl⟩
abbrev main_cst_814 : Ref sig .tc := ⟨.hbm, 6327, rfl⟩
abbrev main_v3342 : Ref sig .tc := ⟨.hbm, 6328, rfl⟩
abbrev main_v3343 : Ref sig .tc := ⟨.hbm, 6329, rfl⟩
abbrev main_cst_815 : Ref sig .tc := ⟨.hbm, 6330, rfl⟩
abbrev main_v3344 : Ref sig .tc := ⟨.hbm, 6331, rfl⟩
abbrev main_v3345 : Ref sig .tc := ⟨.hbm, 6332, rfl⟩
abbrev main_v3346 : Ref sig .tc := ⟨.hbm, 6333, rfl⟩
abbrev main_v3347 : Ref sig .tc := ⟨.hbm, 6334, rfl⟩
abbrev main_v3348 : Ref sig .tc := ⟨.hbm, 6335, rfl⟩
abbrev main_cst_816 : Ref sig .tc := ⟨.hbm, 6336, rfl⟩
abbrev main_v3349 : Ref sig .tc := ⟨.hbm, 6337, rfl⟩
abbrev main_v3350 : Ref sig .tc := ⟨.hbm, 6338, rfl⟩
abbrev main_cst_817 : Ref sig .tc := ⟨.hbm, 6339, rfl⟩
abbrev main_v3351 : Ref sig .tc := ⟨.hbm, 6340, rfl⟩
abbrev main_v3352 : Ref sig .tc := ⟨.hbm, 6341, rfl⟩
abbrev main_v3353 : Ref sig .tc := ⟨.hbm, 6342, rfl⟩
abbrev main_v3354 : Ref sig .tc := ⟨.hbm, 6343, rfl⟩
abbrev main_cst_818 : Ref sig .tc := ⟨.hbm, 6344, rfl⟩
abbrev main_v3355 : Ref sig .tc := ⟨.hbm, 6345, rfl⟩
abbrev main_v3356 : Ref sig .tc := ⟨.hbm, 6346, rfl⟩
abbrev main_v3357 : Ref sig .tc := ⟨.hbm, 6347, rfl⟩
abbrev main_v3358 : Ref sig .tc := ⟨.hbm, 6348, rfl⟩
abbrev main_v3359 : Ref sig .tc := ⟨.hbm, 6349, rfl⟩
abbrev main_v3360 : Ref sig .tc := ⟨.hbm, 6350, rfl⟩
abbrev main_v3361 : Ref sig .tc := ⟨.hbm, 6351, rfl⟩
abbrev main_v3362 : Ref sig .tc := ⟨.hbm, 6352, rfl⟩
abbrev main_v3363 : Ref sig .tc := ⟨.hbm, 6353, rfl⟩
abbrev main_v3364 : Ref sig .tc := ⟨.hbm, 6354, rfl⟩
abbrev main_v3365 : Ref sig .tc := ⟨.hbm, 6355, rfl⟩
abbrev main_v3366 : Ref sig .tc := ⟨.hbm, 6356, rfl⟩
abbrev main_v3367 : Ref sig .tc := ⟨.hbm, 6357, rfl⟩
abbrev main_v3368 : Ref sig .tc := ⟨.hbm, 6358, rfl⟩
abbrev main_v3369 : Ref sig .tc := ⟨.hbm, 6359, rfl⟩
abbrev main_v3370 : Ref sig .tc := ⟨.hbm, 6360, rfl⟩
abbrev main_v3371 : Ref sig .tc := ⟨.hbm, 6361, rfl⟩
abbrev main_v3372 : Ref sig .tc := ⟨.hbm, 6362, rfl⟩
abbrev main_v3373 : Ref sig .tc := ⟨.hbm, 6363, rfl⟩
abbrev main_call203_cst : Ref sig .tc := ⟨.hbm, 6364, rfl⟩
abbrev main_call203_v0 : Ref sig .tc := ⟨.hbm, 6365, rfl⟩
abbrev main_v3374 : Ref sig .tc := ⟨.hbm, 6366, rfl⟩
abbrev main_v3375 : Ref sig .tc := ⟨.hbm, 6367, rfl⟩
abbrev main_v3376 : Ref sig .tc := ⟨.hbm, 6368, rfl⟩
abbrev main_v3377 : Ref sig .tc := ⟨.hbm, 6369, rfl⟩
abbrev main_v3378 : Ref sig .tc := ⟨.hbm, 6370, rfl⟩
abbrev main_v3379 : Ref sig .tc := ⟨.hbm, 6371, rfl⟩
abbrev main_v3380 : Ref sig .tc := ⟨.hbm, 6372, rfl⟩
abbrev main_v3381 : Ref sig .tc := ⟨.hbm, 6373, rfl⟩
abbrev main_v3382 : Ref sig .tc := ⟨.hbm, 6374, rfl⟩
abbrev main_v3383 : Ref sig .tc := ⟨.hbm, 6375, rfl⟩
abbrev main_v3384 : Ref sig .tc := ⟨.hbm, 6376, rfl⟩
abbrev main_v3385 : Ref sig .tc := ⟨.hbm, 6377, rfl⟩
abbrev main_v3386 : Ref sig .tc := ⟨.hbm, 6378, rfl⟩
abbrev main_v3387 : Ref sig .tc := ⟨.hbm, 6379, rfl⟩
abbrev main_cst_819 : Ref sig .tc := ⟨.hbm, 6380, rfl⟩
abbrev main_v3388 : Ref sig .tc := ⟨.hbm, 6381, rfl⟩
abbrev main_v3389 : Ref sig .tc := ⟨.hbm, 6382, rfl⟩
abbrev main_cst_820 : Ref sig .tc := ⟨.hbm, 6383, rfl⟩
abbrev main_v3390 : Ref sig .tc := ⟨.hbm, 6384, rfl⟩
abbrev main_v3391 : Ref sig .tc := ⟨.hbm, 6385, rfl⟩
abbrev main_v3392 : Ref sig .tc := ⟨.hbm, 6386, rfl⟩
abbrev main_v3393 : Ref sig .tc := ⟨.hbm, 6387, rfl⟩
abbrev main_v3394 : Ref sig .tc := ⟨.hbm, 6388, rfl⟩
abbrev main_cst_821 : Ref sig .tc := ⟨.hbm, 6389, rfl⟩
abbrev main_v3395 : Ref sig .tc := ⟨.hbm, 6390, rfl⟩
abbrev main_v3396 : Ref sig .tc := ⟨.hbm, 6391, rfl⟩
abbrev main_cst_822 : Ref sig .tc := ⟨.hbm, 6392, rfl⟩
abbrev main_v3397 : Ref sig .tc := ⟨.hbm, 6393, rfl⟩
abbrev main_v3398 : Ref sig .tc := ⟨.hbm, 6394, rfl⟩
abbrev main_v3399 : Ref sig .tc := ⟨.hbm, 6395, rfl⟩
abbrev main_v3400 : Ref sig .tc := ⟨.hbm, 6396, rfl⟩
abbrev main_cst_823 : Ref sig .tc := ⟨.hbm, 6397, rfl⟩
abbrev main_v3401 : Ref sig .tc := ⟨.hbm, 6398, rfl⟩
abbrev main_v3402 : Ref sig .tc := ⟨.hbm, 6399, rfl⟩
abbrev main_v3403 : Ref sig .tc := ⟨.hbm, 6400, rfl⟩
abbrev main_v3404 : Ref sig .tc := ⟨.hbm, 6401, rfl⟩
abbrev main_v3405 : Ref sig .tc := ⟨.hbm, 6402, rfl⟩
abbrev main_v3406 : Ref sig .tc := ⟨.hbm, 6403, rfl⟩
abbrev main_v3407 : Ref sig .tc := ⟨.hbm, 6404, rfl⟩
abbrev main_v3408 : Ref sig .tc := ⟨.hbm, 6405, rfl⟩
abbrev main_v3409 : Ref sig .tc := ⟨.hbm, 6406, rfl⟩
abbrev main_v3410 : Ref sig .tc := ⟨.hbm, 6407, rfl⟩
abbrev main_v3411 : Ref sig .tc := ⟨.hbm, 6408, rfl⟩
abbrev main_v3412 : Ref sig .tc := ⟨.hbm, 6409, rfl⟩
abbrev main_v3413 : Ref sig .tc := ⟨.hbm, 6410, rfl⟩
abbrev main_v3414 : Ref sig .tc := ⟨.hbm, 6411, rfl⟩
abbrev main_v3415 : Ref sig .tc := ⟨.hbm, 6412, rfl⟩
abbrev main_v3416 : Ref sig .tc := ⟨.hbm, 6413, rfl⟩
abbrev main_v3417 : Ref sig .tc := ⟨.hbm, 6414, rfl⟩
abbrev main_v3418 : Ref sig .tc := ⟨.hbm, 6415, rfl⟩
abbrev main_v3419 : Ref sig .tc := ⟨.hbm, 6416, rfl⟩
abbrev main_v3420 : Ref sig .tc := ⟨.hbm, 6417, rfl⟩
abbrev main_v3421 : Ref sig .tc := ⟨.hbm, 6418, rfl⟩
abbrev main_v3422 : Ref sig .tc := ⟨.hbm, 6419, rfl⟩
abbrev main_v3423 : Ref sig .tc := ⟨.hbm, 6420, rfl⟩
abbrev main_v3424 : Ref sig .tc := ⟨.hbm, 6421, rfl⟩
abbrev main_v3425 : Ref sig .tc := ⟨.hbm, 6422, rfl⟩
abbrev main_v3426 : Ref sig .tc := ⟨.hbm, 6423, rfl⟩
abbrev main_v3427 : Ref sig .tc := ⟨.hbm, 6424, rfl⟩
abbrev main_v3428 : Ref sig .tc := ⟨.hbm, 6425, rfl⟩
abbrev main_v3429 : Ref sig .tc := ⟨.hbm, 6426, rfl⟩
abbrev main_v3430 : Ref sig .tc := ⟨.hbm, 6427, rfl⟩
abbrev main_v3431 : Ref sig .tc := ⟨.hbm, 6428, rfl⟩
abbrev main_v3432 : Ref sig .tc := ⟨.hbm, 6429, rfl⟩
abbrev main_v3433 : Ref sig .tc := ⟨.hbm, 6430, rfl⟩
abbrev main_v3434 : Ref sig .tc := ⟨.hbm, 6431, rfl⟩
abbrev main_v3435 : Ref sig .tc := ⟨.hbm, 6432, rfl⟩
abbrev main_v3436 : Ref sig .tc := ⟨.hbm, 6433, rfl⟩
abbrev main_v3437 : Ref sig .tc := ⟨.hbm, 6434, rfl⟩
abbrev main_v3438 : Ref sig .tc := ⟨.hbm, 6435, rfl⟩
abbrev main_v3439 : Ref sig .tc := ⟨.hbm, 6436, rfl⟩
abbrev main_cst_824 : Ref sig .tc := ⟨.hbm, 6437, rfl⟩
abbrev main_v3440 : Ref sig .tc := ⟨.hbm, 6438, rfl⟩
abbrev main_cst_825 : Ref sig .tc := ⟨.hbm, 6439, rfl⟩
abbrev main_v3441 : Ref sig .tc := ⟨.hbm, 6440, rfl⟩
abbrev main_v3442 : Ref sig .tc := ⟨.hbm, 6441, rfl⟩
abbrev main_v3443 : Ref sig .tc := ⟨.hbm, 6442, rfl⟩
abbrev main_v3444 : Ref sig .tc := ⟨.hbm, 6443, rfl⟩
abbrev main_v3445 : Ref sig .tc := ⟨.hbm, 6444, rfl⟩
abbrev main_v3446 : Ref sig .tc := ⟨.hbm, 6445, rfl⟩
abbrev main_cst_826 : Ref sig .tc := ⟨.hbm, 6446, rfl⟩
abbrev main_v3447 : Ref sig .tc := ⟨.hbm, 6447, rfl⟩
abbrev main_v3448 : Ref sig .tc := ⟨.hbm, 6448, rfl⟩
abbrev main_v3449 : Ref sig .tc := ⟨.hbm, 6449, rfl⟩
abbrev main_v3450 : Ref sig .tc := ⟨.hbm, 6450, rfl⟩
abbrev main_v3451 : Ref sig .tc := ⟨.hbm, 6451, rfl⟩
abbrev main_v3452 : Ref sig .tc := ⟨.hbm, 6452, rfl⟩
abbrev main_v3453 : Ref sig .tc := ⟨.hbm, 6453, rfl⟩
abbrev main_v3454 : Ref sig .tc := ⟨.hbm, 6454, rfl⟩
abbrev main_v3455 : Ref sig .tc := ⟨.hbm, 6455, rfl⟩
abbrev main_v3456 : Ref sig .tc := ⟨.hbm, 6456, rfl⟩
abbrev main_v3457 : Ref sig .tc := ⟨.hbm, 6457, rfl⟩
abbrev main_cst_827 : Ref sig .tc := ⟨.hbm, 6458, rfl⟩
abbrev main_v3458 : Ref sig .tc := ⟨.hbm, 6459, rfl⟩
abbrev main_v3459 : Ref sig .tc := ⟨.hbm, 6460, rfl⟩
abbrev main_cst_828 : Ref sig .tc := ⟨.hbm, 6461, rfl⟩
abbrev main_v3460 : Ref sig .tc := ⟨.hbm, 6462, rfl⟩
abbrev main_v3461 : Ref sig .tc := ⟨.hbm, 6463, rfl⟩
abbrev main_v3462 : Ref sig .tc := ⟨.hbm, 6464, rfl⟩
abbrev main_v3463 : Ref sig .tc := ⟨.hbm, 6465, rfl⟩
abbrev main_v3464 : Ref sig .tc := ⟨.hbm, 6466, rfl⟩
abbrev main_v3465 : Ref sig .tc := ⟨.hbm, 6467, rfl⟩
abbrev main_v3466 : Ref sig .tc := ⟨.hbm, 6468, rfl⟩
abbrev main_v3467 : Ref sig .tc := ⟨.hbm, 6469, rfl⟩
abbrev main_v3468 : Ref sig .tc := ⟨.hbm, 6470, rfl⟩
abbrev main_v3469 : Ref sig .tc := ⟨.hbm, 6471, rfl⟩
abbrev main_v3470 : Ref sig .tc := ⟨.hbm, 6472, rfl⟩
abbrev main_cst_829 : Ref sig .tc := ⟨.hbm, 6473, rfl⟩
abbrev main_v3471 : Ref sig .tc := ⟨.hbm, 6474, rfl⟩
abbrev main_v3472 : Ref sig .tc := ⟨.hbm, 6475, rfl⟩
abbrev main_cst_830 : Ref sig .tc := ⟨.hbm, 6476, rfl⟩
abbrev main_v3473 : Ref sig .tc := ⟨.hbm, 6477, rfl⟩
abbrev main_v3474 : Ref sig .tc := ⟨.hbm, 6478, rfl⟩
abbrev main_cst_831 : Ref sig .tc := ⟨.hbm, 6479, rfl⟩
abbrev main_v3475 : Ref sig .tc := ⟨.hbm, 6480, rfl⟩
abbrev main_v3476 : Ref sig .tc := ⟨.hbm, 6481, rfl⟩
abbrev main_cst_832 : Ref sig .tc := ⟨.hbm, 6482, rfl⟩
abbrev main_v3477 : Ref sig .tc := ⟨.hbm, 6483, rfl⟩
abbrev main_v3478 : Ref sig .tc := ⟨.hbm, 6484, rfl⟩
abbrev main_v3479 : Ref sig .tc := ⟨.hbm, 6485, rfl⟩
abbrev main_v3480 : Ref sig .tc := ⟨.hbm, 6486, rfl⟩
abbrev main_cst_833 : Ref sig .tc := ⟨.hbm, 6487, rfl⟩
abbrev main_v3481 : Ref sig .tc := ⟨.hbm, 6488, rfl⟩
abbrev main_v3482 : Ref sig .tc := ⟨.hbm, 6489, rfl⟩
abbrev main_cst_834 : Ref sig .tc := ⟨.hbm, 6490, rfl⟩
abbrev main_v3483 : Ref sig .tc := ⟨.hbm, 6491, rfl⟩
abbrev main_v3484 : Ref sig .tc := ⟨.hbm, 6492, rfl⟩
abbrev main_cst_835 : Ref sig .tc := ⟨.hbm, 6493, rfl⟩
abbrev main_v3485 : Ref sig .tc := ⟨.hbm, 6494, rfl⟩
abbrev main_v3486 : Ref sig .tc := ⟨.hbm, 6495, rfl⟩
abbrev main_cst_836 : Ref sig .tc := ⟨.hbm, 6496, rfl⟩
abbrev main_v3487 : Ref sig .tc := ⟨.hbm, 6497, rfl⟩
abbrev main_v3488 : Ref sig .tc := ⟨.hbm, 6498, rfl⟩
abbrev main_v3489 : Ref sig .tc := ⟨.hbm, 6499, rfl⟩
abbrev main_v3490 : Ref sig .tc := ⟨.hbm, 6500, rfl⟩
abbrev main_cst_837 : Ref sig .tc := ⟨.hbm, 6501, rfl⟩
abbrev main_v3491 : Ref sig .tc := ⟨.hbm, 6502, rfl⟩
abbrev main_v3492 : Ref sig .tc := ⟨.hbm, 6503, rfl⟩
abbrev main_cst_838 : Ref sig .tc := ⟨.hbm, 6504, rfl⟩
abbrev main_v3493 : Ref sig .tc := ⟨.hbm, 6505, rfl⟩
abbrev main_v3494 : Ref sig .tc := ⟨.hbm, 6506, rfl⟩
abbrev main_v3495 : Ref sig .tc := ⟨.hbm, 6507, rfl⟩
abbrev main_v3496 : Ref sig .tc := ⟨.hbm, 6508, rfl⟩
abbrev main_v3497 : Ref sig .tc := ⟨.hbm, 6509, rfl⟩
abbrev main_v3498 : Ref sig .tc := ⟨.hbm, 6510, rfl⟩
abbrev main_v3499 : Ref sig .tc := ⟨.hbm, 6511, rfl⟩
abbrev main_v3500 : Ref sig .tc := ⟨.hbm, 6512, rfl⟩
abbrev main_v3501 : Ref sig .tc := ⟨.hbm, 6513, rfl⟩
abbrev main_v3502 : Ref sig .tc := ⟨.hbm, 6514, rfl⟩
abbrev main_v3503 : Ref sig .tc := ⟨.hbm, 6515, rfl⟩
abbrev main_v3504 : Ref sig .tc := ⟨.hbm, 6516, rfl⟩
abbrev main_v3505 : Ref sig .tc := ⟨.hbm, 6517, rfl⟩
abbrev main_v3506 : Ref sig .tc := ⟨.hbm, 6518, rfl⟩
abbrev main_v3507 : Ref sig .tc := ⟨.hbm, 6519, rfl⟩
abbrev main_cst_839 : Ref sig .tc := ⟨.hbm, 6520, rfl⟩
abbrev main_v3508 : Ref sig .tc := ⟨.hbm, 6521, rfl⟩
abbrev main_v3509 : Ref sig .tc := ⟨.hbm, 6522, rfl⟩
abbrev main_cst_840 : Ref sig .tc := ⟨.hbm, 6523, rfl⟩
abbrev main_v3510 : Ref sig .tc := ⟨.hbm, 6524, rfl⟩
abbrev main_v3511 : Ref sig .tc := ⟨.hbm, 6525, rfl⟩
abbrev main_v3512 : Ref sig .tc := ⟨.hbm, 6526, rfl⟩
abbrev main_cst_841 : Ref sig .tc := ⟨.hbm, 6527, rfl⟩
abbrev main_v3513 : Ref sig .tc := ⟨.hbm, 6528, rfl⟩
abbrev main_v3514 : Ref sig .tc := ⟨.hbm, 6529, rfl⟩
abbrev main_v3515 : Ref sig .tc := ⟨.hbm, 6530, rfl⟩
abbrev main_cst_842 : Ref sig .tc := ⟨.hbm, 6531, rfl⟩
abbrev main_v3516 : Ref sig .tc := ⟨.hbm, 6532, rfl⟩
abbrev main_v3517 : Ref sig .tc := ⟨.hbm, 6533, rfl⟩
abbrev main_v3518 : Ref sig .tc := ⟨.hbm, 6534, rfl⟩
abbrev main_c_843 : Ref sig .tc := ⟨.hbm, 6535, rfl⟩
abbrev main_c_844 : Ref sig .tc := ⟨.hbm, 6536, rfl⟩
abbrev main_call204_v0 : Ref sig .tc := ⟨.hbm, 6537, rfl⟩
abbrev main_call204_v1 : Ref sig .tc := ⟨.hbm, 6538, rfl⟩
abbrev main_call204_v2 : Ref sig .tc := ⟨.hbm, 6539, rfl⟩
abbrev main_call204_v3 : Ref sig .tc := ⟨.hbm, 6540, rfl⟩
abbrev main_call204_v4 : Ref sig .tc := ⟨.hbm, 6541, rfl⟩
abbrev main_v3519 : Ref sig .tc := ⟨.hbm, 6542, rfl⟩
abbrev main_v3520 : Ref sig .tc := ⟨.hbm, 6543, rfl⟩
abbrev main_c_845 : Ref sig .tc := ⟨.hbm, 6544, rfl⟩
abbrev main_c_846 : Ref sig .tc := ⟨.hbm, 6545, rfl⟩
abbrev main_call205_v0 : Ref sig .tc := ⟨.hbm, 6546, rfl⟩
abbrev main_call205_v1 : Ref sig .tc := ⟨.hbm, 6547, rfl⟩
abbrev main_call205_v2 : Ref sig .tc := ⟨.hbm, 6548, rfl⟩
abbrev main_call205_v3 : Ref sig .tc := ⟨.hbm, 6549, rfl⟩
abbrev main_call205_v4 : Ref sig .tc := ⟨.hbm, 6550, rfl⟩
abbrev main_v3521 : Ref sig .tc := ⟨.hbm, 6551, rfl⟩
abbrev main_v3522 : Ref sig .tc := ⟨.hbm, 6552, rfl⟩
abbrev main_c_847 : Ref sig .tc := ⟨.hbm, 6553, rfl⟩
abbrev main_v3523 : Ref sig .tc := ⟨.hbm, 6554, rfl⟩
abbrev main_v3524 : Ref sig .tc := ⟨.hbm, 6555, rfl⟩
abbrev main_v3525 : Ref sig .tc := ⟨.hbm, 6556, rfl⟩
abbrev main_v3526 : Ref sig .tc := ⟨.hbm, 6557, rfl⟩
abbrev main_v3527 : Ref sig .tc := ⟨.hbm, 6558, rfl⟩
abbrev main_v3528 : Ref sig .tc := ⟨.hbm, 6559, rfl⟩
abbrev main_call206_c : Ref sig .tc := ⟨.hbm, 6560, rfl⟩
abbrev main_call206_v0 : Ref sig .tc := ⟨.hbm, 6561, rfl⟩
abbrev main_call206_v1 : Ref sig .tc := ⟨.hbm, 6562, rfl⟩
abbrev main_call206_c_0 : Ref sig .tc := ⟨.hbm, 6563, rfl⟩
abbrev main_call206_v2 : Ref sig .tc := ⟨.hbm, 6564, rfl⟩
abbrev main_call206_v3 : Ref sig .tc := ⟨.hbm, 6565, rfl⟩
abbrev main_call206_v4 : Ref sig .tc := ⟨.hbm, 6566, rfl⟩
abbrev main_call206_v5 : Ref sig .tc := ⟨.hbm, 6567, rfl⟩
abbrev main_call206_c_1 : Ref sig .tc := ⟨.hbm, 6568, rfl⟩
abbrev main_call206_c_2 : Ref sig .tc := ⟨.hbm, 6569, rfl⟩
abbrev main_call206_v6 : Ref sig .tc := ⟨.hbm, 6570, rfl⟩
abbrev main_call206_v7 : Ref sig .tc := ⟨.hbm, 6571, rfl⟩
abbrev main_call206_v8 : Ref sig .tc := ⟨.hbm, 6572, rfl⟩
abbrev main_call206_v9 : Ref sig .tc := ⟨.hbm, 6573, rfl⟩
abbrev main_call206_v10 : Ref sig .tc := ⟨.hbm, 6574, rfl⟩
abbrev main_call206_v11 : Ref sig .tc := ⟨.hbm, 6575, rfl⟩
abbrev main_call206_c_3 : Ref sig .tc := ⟨.hbm, 6576, rfl⟩
abbrev main_call206_v12 : Ref sig .tc := ⟨.hbm, 6577, rfl⟩
abbrev main_call206_v13 : Ref sig .tc := ⟨.hbm, 6578, rfl⟩
abbrev main_call206_cst : Ref sig .tc := ⟨.hbm, 6579, rfl⟩
abbrev main_call206_v14 : Ref sig .tc := ⟨.hbm, 6580, rfl⟩
abbrev main_v3529 : Ref sig .tc := ⟨.hbm, 6581, rfl⟩
abbrev main_v3530 : Ref sig .tc := ⟨.hbm, 6582, rfl⟩
abbrev main_v3531 : Ref sig .tc := ⟨.hbm, 6583, rfl⟩
abbrev main_v3532 : Ref sig .tc := ⟨.hbm, 6584, rfl⟩
abbrev main_v3533 : Ref sig .tc := ⟨.hbm, 6585, rfl⟩
abbrev main_v3534 : Ref sig .tc := ⟨.hbm, 6586, rfl⟩
abbrev main_v3535 : Ref sig .tc := ⟨.hbm, 6587, rfl⟩
abbrev main_v3536 : Ref sig .tc := ⟨.hbm, 6588, rfl⟩
abbrev main_v3537 : Ref sig .tc := ⟨.hbm, 6589, rfl⟩
abbrev main_cst_848 : Ref sig .tc := ⟨.hbm, 6590, rfl⟩
abbrev main_v3538 : Ref sig .tc := ⟨.hbm, 6591, rfl⟩
abbrev main_v3539 : Ref sig .tc := ⟨.hbm, 6592, rfl⟩
abbrev main_cst_849 : Ref sig .tc := ⟨.hbm, 6593, rfl⟩
abbrev main_v3540 : Ref sig .tc := ⟨.hbm, 6594, rfl⟩
abbrev main_v3541 : Ref sig .tc := ⟨.hbm, 6595, rfl⟩
abbrev main_v3542 : Ref sig .tc := ⟨.hbm, 6596, rfl⟩
abbrev main_cst_850 : Ref sig .tc := ⟨.hbm, 6597, rfl⟩
abbrev main_v3543 : Ref sig .tc := ⟨.hbm, 6598, rfl⟩
abbrev main_v3544 : Ref sig .tc := ⟨.hbm, 6599, rfl⟩
abbrev main_v3545 : Ref sig .tc := ⟨.hbm, 6600, rfl⟩
abbrev main_cst_851 : Ref sig .tc := ⟨.hbm, 6601, rfl⟩
abbrev main_v3546 : Ref sig .tc := ⟨.hbm, 6602, rfl⟩
abbrev main_v3547 : Ref sig .tc := ⟨.hbm, 6603, rfl⟩
abbrev main_v3548 : Ref sig .tc := ⟨.hbm, 6604, rfl⟩
abbrev main_c_852 : Ref sig .tc := ⟨.hbm, 6605, rfl⟩
abbrev main_c_853 : Ref sig .tc := ⟨.hbm, 6606, rfl⟩
abbrev main_call207_v0 : Ref sig .tc := ⟨.hbm, 6607, rfl⟩
abbrev main_call207_v1 : Ref sig .tc := ⟨.hbm, 6608, rfl⟩
abbrev main_call207_v2 : Ref sig .tc := ⟨.hbm, 6609, rfl⟩
abbrev main_call207_v3 : Ref sig .tc := ⟨.hbm, 6610, rfl⟩
abbrev main_call207_v4 : Ref sig .tc := ⟨.hbm, 6611, rfl⟩
abbrev main_v3549 : Ref sig .tc := ⟨.hbm, 6612, rfl⟩
abbrev main_v3550 : Ref sig .tc := ⟨.hbm, 6613, rfl⟩
abbrev main_c_854 : Ref sig .tc := ⟨.hbm, 6614, rfl⟩
abbrev main_c_855 : Ref sig .tc := ⟨.hbm, 6615, rfl⟩
abbrev main_call208_v0 : Ref sig .tc := ⟨.hbm, 6616, rfl⟩
abbrev main_call208_v1 : Ref sig .tc := ⟨.hbm, 6617, rfl⟩
abbrev main_call208_v2 : Ref sig .tc := ⟨.hbm, 6618, rfl⟩
abbrev main_call208_v3 : Ref sig .tc := ⟨.hbm, 6619, rfl⟩
abbrev main_call208_v4 : Ref sig .tc := ⟨.hbm, 6620, rfl⟩
abbrev main_v3551 : Ref sig .tc := ⟨.hbm, 6621, rfl⟩
abbrev main_v3552 : Ref sig .tc := ⟨.hbm, 6622, rfl⟩
abbrev main_c_856 : Ref sig .tc := ⟨.hbm, 6623, rfl⟩
abbrev main_v3553 : Ref sig .tc := ⟨.hbm, 6624, rfl⟩
abbrev main_v3554 : Ref sig .tc := ⟨.hbm, 6625, rfl⟩
abbrev main_v3555 : Ref sig .tc := ⟨.hbm, 6626, rfl⟩
abbrev main_v3556 : Ref sig .tc := ⟨.hbm, 6627, rfl⟩
abbrev main_v3557 : Ref sig .tc := ⟨.hbm, 6628, rfl⟩
abbrev main_v3558 : Ref sig .tc := ⟨.hbm, 6629, rfl⟩
abbrev main_call209_c : Ref sig .tc := ⟨.hbm, 6630, rfl⟩
abbrev main_call209_v0 : Ref sig .tc := ⟨.hbm, 6631, rfl⟩
abbrev main_call209_v1 : Ref sig .tc := ⟨.hbm, 6632, rfl⟩
abbrev main_call209_c_0 : Ref sig .tc := ⟨.hbm, 6633, rfl⟩
abbrev main_call209_v2 : Ref sig .tc := ⟨.hbm, 6634, rfl⟩
abbrev main_call209_v3 : Ref sig .tc := ⟨.hbm, 6635, rfl⟩
abbrev main_call209_v4 : Ref sig .tc := ⟨.hbm, 6636, rfl⟩
abbrev main_call209_v5 : Ref sig .tc := ⟨.hbm, 6637, rfl⟩
abbrev main_call209_c_1 : Ref sig .tc := ⟨.hbm, 6638, rfl⟩
abbrev main_call209_c_2 : Ref sig .tc := ⟨.hbm, 6639, rfl⟩
abbrev main_call209_v6 : Ref sig .tc := ⟨.hbm, 6640, rfl⟩
abbrev main_call209_v7 : Ref sig .tc := ⟨.hbm, 6641, rfl⟩
abbrev main_call209_v8 : Ref sig .tc := ⟨.hbm, 6642, rfl⟩
abbrev main_call209_v9 : Ref sig .tc := ⟨.hbm, 6643, rfl⟩
abbrev main_call209_v10 : Ref sig .tc := ⟨.hbm, 6644, rfl⟩
abbrev main_call209_v11 : Ref sig .tc := ⟨.hbm, 6645, rfl⟩
abbrev main_call209_c_3 : Ref sig .tc := ⟨.hbm, 6646, rfl⟩
abbrev main_call209_v12 : Ref sig .tc := ⟨.hbm, 6647, rfl⟩
abbrev main_call209_v13 : Ref sig .tc := ⟨.hbm, 6648, rfl⟩
abbrev main_call209_cst : Ref sig .tc := ⟨.hbm, 6649, rfl⟩
abbrev main_call209_v14 : Ref sig .tc := ⟨.hbm, 6650, rfl⟩
abbrev main_v3559 : Ref sig .tc := ⟨.hbm, 6651, rfl⟩
abbrev main_v3560 : Ref sig .tc := ⟨.hbm, 6652, rfl⟩
abbrev main_v3561 : Ref sig .tc := ⟨.hbm, 6653, rfl⟩
abbrev main_v3562 : Ref sig .tc := ⟨.hbm, 6654, rfl⟩
abbrev main_v3563 : Ref sig .tc := ⟨.hbm, 6655, rfl⟩
abbrev main_v3564 : Ref sig .tc := ⟨.hbm, 6656, rfl⟩
abbrev main_v3565 : Ref sig .tc := ⟨.hbm, 6657, rfl⟩
abbrev main_v3566 : Ref sig .tc := ⟨.hbm, 6658, rfl⟩
abbrev main_v3567 : Ref sig .tc := ⟨.hbm, 6659, rfl⟩
abbrev main_v3568 : Ref sig .tc := ⟨.hbm, 6660, rfl⟩
abbrev main_cst_857 : Ref sig .tc := ⟨.hbm, 6661, rfl⟩
abbrev main_v3569 : Ref sig .tc := ⟨.hbm, 6662, rfl⟩
abbrev main_v3570 : Ref sig .tc := ⟨.hbm, 6663, rfl⟩
abbrev main_cst_858 : Ref sig .tc := ⟨.hbm, 6664, rfl⟩
abbrev main_v3571 : Ref sig .tc := ⟨.hbm, 6665, rfl⟩
abbrev main_v3572 : Ref sig .tc := ⟨.hbm, 6666, rfl⟩
abbrev main_v3573 : Ref sig .tc := ⟨.hbm, 6667, rfl⟩
abbrev main_cst_859 : Ref sig .tc := ⟨.hbm, 6668, rfl⟩
abbrev main_v3574 : Ref sig .tc := ⟨.hbm, 6669, rfl⟩
abbrev main_v3575 : Ref sig .tc := ⟨.hbm, 6670, rfl⟩
abbrev main_v3576 : Ref sig .tc := ⟨.hbm, 6671, rfl⟩
abbrev main_cst_860 : Ref sig .tc := ⟨.hbm, 6672, rfl⟩
abbrev main_v3577 : Ref sig .tc := ⟨.hbm, 6673, rfl⟩
abbrev main_v3578 : Ref sig .tc := ⟨.hbm, 6674, rfl⟩
abbrev main_v3579 : Ref sig .tc := ⟨.hbm, 6675, rfl⟩
abbrev main_c_861 : Ref sig .tc := ⟨.hbm, 6676, rfl⟩
abbrev main_c_862 : Ref sig .tc := ⟨.hbm, 6677, rfl⟩
abbrev main_call210_v0 : Ref sig .tc := ⟨.hbm, 6678, rfl⟩
abbrev main_call210_v1 : Ref sig .tc := ⟨.hbm, 6679, rfl⟩
abbrev main_call210_v2 : Ref sig .tc := ⟨.hbm, 6680, rfl⟩
abbrev main_call210_v3 : Ref sig .tc := ⟨.hbm, 6681, rfl⟩
abbrev main_call210_v4 : Ref sig .tc := ⟨.hbm, 6682, rfl⟩
abbrev main_v3580 : Ref sig .tc := ⟨.hbm, 6683, rfl⟩
abbrev main_v3581 : Ref sig .tc := ⟨.hbm, 6684, rfl⟩
abbrev main_c_863 : Ref sig .tc := ⟨.hbm, 6685, rfl⟩
abbrev main_c_864 : Ref sig .tc := ⟨.hbm, 6686, rfl⟩
abbrev main_call211_v0 : Ref sig .tc := ⟨.hbm, 6687, rfl⟩
abbrev main_call211_v1 : Ref sig .tc := ⟨.hbm, 6688, rfl⟩
abbrev main_call211_v2 : Ref sig .tc := ⟨.hbm, 6689, rfl⟩
abbrev main_call211_v3 : Ref sig .tc := ⟨.hbm, 6690, rfl⟩
abbrev main_call211_v4 : Ref sig .tc := ⟨.hbm, 6691, rfl⟩
abbrev main_v3582 : Ref sig .tc := ⟨.hbm, 6692, rfl⟩
abbrev main_v3583 : Ref sig .tc := ⟨.hbm, 6693, rfl⟩
abbrev main_c_865 : Ref sig .tc := ⟨.hbm, 6694, rfl⟩
abbrev main_v3584 : Ref sig .tc := ⟨.hbm, 6695, rfl⟩
abbrev main_v3585 : Ref sig .tc := ⟨.hbm, 6696, rfl⟩
abbrev main_v3586 : Ref sig .tc := ⟨.hbm, 6697, rfl⟩
abbrev main_v3587 : Ref sig .tc := ⟨.hbm, 6698, rfl⟩
abbrev main_v3588 : Ref sig .tc := ⟨.hbm, 6699, rfl⟩
abbrev main_v3589 : Ref sig .tc := ⟨.hbm, 6700, rfl⟩
abbrev main_call212_c : Ref sig .tc := ⟨.hbm, 6701, rfl⟩
abbrev main_call212_v0 : Ref sig .tc := ⟨.hbm, 6702, rfl⟩
abbrev main_call212_v1 : Ref sig .tc := ⟨.hbm, 6703, rfl⟩
abbrev main_call212_c_0 : Ref sig .tc := ⟨.hbm, 6704, rfl⟩
abbrev main_call212_v2 : Ref sig .tc := ⟨.hbm, 6705, rfl⟩
abbrev main_call212_v3 : Ref sig .tc := ⟨.hbm, 6706, rfl⟩
abbrev main_call212_v4 : Ref sig .tc := ⟨.hbm, 6707, rfl⟩
abbrev main_call212_v5 : Ref sig .tc := ⟨.hbm, 6708, rfl⟩
abbrev main_call212_c_1 : Ref sig .tc := ⟨.hbm, 6709, rfl⟩
abbrev main_call212_c_2 : Ref sig .tc := ⟨.hbm, 6710, rfl⟩
abbrev main_call212_v6 : Ref sig .tc := ⟨.hbm, 6711, rfl⟩
abbrev main_call212_v7 : Ref sig .tc := ⟨.hbm, 6712, rfl⟩
abbrev main_call212_v8 : Ref sig .tc := ⟨.hbm, 6713, rfl⟩
abbrev main_call212_v9 : Ref sig .tc := ⟨.hbm, 6714, rfl⟩
abbrev main_call212_v10 : Ref sig .tc := ⟨.hbm, 6715, rfl⟩
abbrev main_call212_v11 : Ref sig .tc := ⟨.hbm, 6716, rfl⟩
abbrev main_call212_c_3 : Ref sig .tc := ⟨.hbm, 6717, rfl⟩
abbrev main_call212_v12 : Ref sig .tc := ⟨.hbm, 6718, rfl⟩
abbrev main_call212_v13 : Ref sig .tc := ⟨.hbm, 6719, rfl⟩
abbrev main_call212_cst : Ref sig .tc := ⟨.hbm, 6720, rfl⟩
abbrev main_call212_v14 : Ref sig .tc := ⟨.hbm, 6721, rfl⟩
abbrev main_v3590 : Ref sig .tc := ⟨.hbm, 6722, rfl⟩
abbrev main_v3591 : Ref sig .tc := ⟨.hbm, 6723, rfl⟩
abbrev main_v3592 : Ref sig .tc := ⟨.hbm, 6724, rfl⟩
abbrev main_v3593 : Ref sig .tc := ⟨.hbm, 6725, rfl⟩
abbrev main_v3594 : Ref sig .tc := ⟨.hbm, 6726, rfl⟩
abbrev main_v3595 : Ref sig .tc := ⟨.hbm, 6727, rfl⟩
abbrev main_v3596 : Ref sig .tc := ⟨.hbm, 6728, rfl⟩
abbrev main_v3597 : Ref sig .tc := ⟨.hbm, 6729, rfl⟩
abbrev main_v3598 : Ref sig .tc := ⟨.hbm, 6730, rfl⟩
abbrev main_v3599 : Ref sig .tc := ⟨.hbm, 6731, rfl⟩
abbrev main_cst_866 : Ref sig .tc := ⟨.hbm, 6732, rfl⟩
abbrev main_v3600 : Ref sig .tc := ⟨.hbm, 6733, rfl⟩
abbrev main_v3601 : Ref sig .tc := ⟨.hbm, 6734, rfl⟩
abbrev main_cst_867 : Ref sig .tc := ⟨.hbm, 6735, rfl⟩
abbrev main_v3602 : Ref sig .tc := ⟨.hbm, 6736, rfl⟩
abbrev main_v3603 : Ref sig .tc := ⟨.hbm, 6737, rfl⟩
abbrev main_v3604 : Ref sig .tc := ⟨.hbm, 6738, rfl⟩
abbrev main_cst_868 : Ref sig .tc := ⟨.hbm, 6739, rfl⟩
abbrev main_v3605 : Ref sig .tc := ⟨.hbm, 6740, rfl⟩
abbrev main_v3606 : Ref sig .tc := ⟨.hbm, 6741, rfl⟩
abbrev main_v3607 : Ref sig .tc := ⟨.hbm, 6742, rfl⟩
abbrev main_cst_869 : Ref sig .tc := ⟨.hbm, 6743, rfl⟩
abbrev main_v3608 : Ref sig .tc := ⟨.hbm, 6744, rfl⟩
abbrev main_v3609 : Ref sig .tc := ⟨.hbm, 6745, rfl⟩
abbrev main_v3610 : Ref sig .tc := ⟨.hbm, 6746, rfl⟩
abbrev main_c_870 : Ref sig .tc := ⟨.hbm, 6747, rfl⟩
abbrev main_c_871 : Ref sig .tc := ⟨.hbm, 6748, rfl⟩
abbrev main_call213_v0 : Ref sig .tc := ⟨.hbm, 6749, rfl⟩
abbrev main_call213_v1 : Ref sig .tc := ⟨.hbm, 6750, rfl⟩
abbrev main_call213_v2 : Ref sig .tc := ⟨.hbm, 6751, rfl⟩
abbrev main_call213_v3 : Ref sig .tc := ⟨.hbm, 6752, rfl⟩
abbrev main_call213_v4 : Ref sig .tc := ⟨.hbm, 6753, rfl⟩
abbrev main_v3611 : Ref sig .tc := ⟨.hbm, 6754, rfl⟩
abbrev main_v3612 : Ref sig .tc := ⟨.hbm, 6755, rfl⟩
abbrev main_c_872 : Ref sig .tc := ⟨.hbm, 6756, rfl⟩
abbrev main_c_873 : Ref sig .tc := ⟨.hbm, 6757, rfl⟩
abbrev main_call214_v0 : Ref sig .tc := ⟨.hbm, 6758, rfl⟩
abbrev main_call214_v1 : Ref sig .tc := ⟨.hbm, 6759, rfl⟩
abbrev main_call214_v2 : Ref sig .tc := ⟨.hbm, 6760, rfl⟩
abbrev main_call214_v3 : Ref sig .tc := ⟨.hbm, 6761, rfl⟩
abbrev main_call214_v4 : Ref sig .tc := ⟨.hbm, 6762, rfl⟩
abbrev main_v3613 : Ref sig .tc := ⟨.hbm, 6763, rfl⟩
abbrev main_v3614 : Ref sig .tc := ⟨.hbm, 6764, rfl⟩
abbrev main_c_874 : Ref sig .tc := ⟨.hbm, 6765, rfl⟩
abbrev main_v3615 : Ref sig .tc := ⟨.hbm, 6766, rfl⟩
abbrev main_v3616 : Ref sig .tc := ⟨.hbm, 6767, rfl⟩
abbrev main_v3617 : Ref sig .tc := ⟨.hbm, 6768, rfl⟩
abbrev main_v3618 : Ref sig .tc := ⟨.hbm, 6769, rfl⟩
abbrev main_v3619 : Ref sig .tc := ⟨.hbm, 6770, rfl⟩
abbrev main_v3620 : Ref sig .tc := ⟨.hbm, 6771, rfl⟩
abbrev main_call215_c : Ref sig .tc := ⟨.hbm, 6772, rfl⟩
abbrev main_call215_v0 : Ref sig .tc := ⟨.hbm, 6773, rfl⟩
abbrev main_call215_v1 : Ref sig .tc := ⟨.hbm, 6774, rfl⟩
abbrev main_call215_c_0 : Ref sig .tc := ⟨.hbm, 6775, rfl⟩
abbrev main_call215_v2 : Ref sig .tc := ⟨.hbm, 6776, rfl⟩
abbrev main_call215_v3 : Ref sig .tc := ⟨.hbm, 6777, rfl⟩
abbrev main_call215_v4 : Ref sig .tc := ⟨.hbm, 6778, rfl⟩
abbrev main_call215_v5 : Ref sig .tc := ⟨.hbm, 6779, rfl⟩
abbrev main_call215_c_1 : Ref sig .tc := ⟨.hbm, 6780, rfl⟩
abbrev main_call215_c_2 : Ref sig .tc := ⟨.hbm, 6781, rfl⟩
abbrev main_call215_v6 : Ref sig .tc := ⟨.hbm, 6782, rfl⟩
abbrev main_call215_v7 : Ref sig .tc := ⟨.hbm, 6783, rfl⟩
abbrev main_call215_v8 : Ref sig .tc := ⟨.hbm, 6784, rfl⟩
abbrev main_call215_v9 : Ref sig .tc := ⟨.hbm, 6785, rfl⟩
abbrev main_call215_v10 : Ref sig .tc := ⟨.hbm, 6786, rfl⟩
abbrev main_call215_v11 : Ref sig .tc := ⟨.hbm, 6787, rfl⟩
abbrev main_call215_c_3 : Ref sig .tc := ⟨.hbm, 6788, rfl⟩
abbrev main_call215_v12 : Ref sig .tc := ⟨.hbm, 6789, rfl⟩
abbrev main_call215_v13 : Ref sig .tc := ⟨.hbm, 6790, rfl⟩
abbrev main_call215_cst : Ref sig .tc := ⟨.hbm, 6791, rfl⟩
abbrev main_call215_v14 : Ref sig .tc := ⟨.hbm, 6792, rfl⟩
abbrev main_v3621 : Ref sig .tc := ⟨.hbm, 6793, rfl⟩
abbrev main_v3622 : Ref sig .tc := ⟨.hbm, 6794, rfl⟩
abbrev main_v3623 : Ref sig .tc := ⟨.hbm, 6795, rfl⟩
abbrev main_v3624 : Ref sig .tc := ⟨.hbm, 6796, rfl⟩
abbrev main_v3625 : Ref sig .tc := ⟨.hbm, 6797, rfl⟩
abbrev main_v3626 : Ref sig .tc := ⟨.hbm, 6798, rfl⟩
abbrev main_v3627 : Ref sig .tc := ⟨.hbm, 6799, rfl⟩
abbrev main_v3628 : Ref sig .tc := ⟨.hbm, 6800, rfl⟩
abbrev main_v3629 : Ref sig .tc := ⟨.hbm, 6801, rfl⟩
abbrev main_v3630 : Ref sig .tc := ⟨.hbm, 6802, rfl⟩
abbrev main_v3631 : Ref sig .tc := ⟨.hbm, 6803, rfl⟩
abbrev main_v3632 : Ref sig .tc := ⟨.hbm, 6804, rfl⟩
abbrev main_v3633 : Ref sig .tc := ⟨.hbm, 6805, rfl⟩
abbrev main_v3634 : Ref sig .tc := ⟨.hbm, 6806, rfl⟩
abbrev main_v3635 : Ref sig .tc := ⟨.hbm, 6807, rfl⟩
abbrev main_v3636 : Ref sig .tc := ⟨.hbm, 6808, rfl⟩
abbrev main_v3637 : Ref sig .tc := ⟨.hbm, 6809, rfl⟩
abbrev main_v3638 : Ref sig .tc := ⟨.hbm, 6810, rfl⟩
abbrev main_v3639 : Ref sig .tc := ⟨.hbm, 6811, rfl⟩
abbrev main_cst_875 : Ref sig .tc := ⟨.hbm, 6812, rfl⟩
abbrev main_v3640 : Ref sig .tc := ⟨.hbm, 6813, rfl⟩
abbrev main_v3641 : Ref sig .tc := ⟨.hbm, 6814, rfl⟩
abbrev main_cst_876 : Ref sig .tc := ⟨.hbm, 6815, rfl⟩
abbrev main_v3642 : Ref sig .tc := ⟨.hbm, 6816, rfl⟩
abbrev main_v3643 : Ref sig .tc := ⟨.hbm, 6817, rfl⟩
abbrev main_cst_877 : Ref sig .tc := ⟨.hbm, 6818, rfl⟩
abbrev main_v3644 : Ref sig .tc := ⟨.hbm, 6819, rfl⟩
abbrev main_v3645 : Ref sig .tc := ⟨.hbm, 6820, rfl⟩
abbrev main_cst_878 : Ref sig .tc := ⟨.hbm, 6821, rfl⟩
abbrev main_v3646 : Ref sig .tc := ⟨.hbm, 6822, rfl⟩
abbrev main_v3647 : Ref sig .tc := ⟨.hbm, 6823, rfl⟩
abbrev main_v3648 : Ref sig .tc := ⟨.hbm, 6824, rfl⟩
abbrev main_v3649 : Ref sig .tc := ⟨.hbm, 6825, rfl⟩
abbrev main_cst_879 : Ref sig .tc := ⟨.hbm, 6826, rfl⟩
abbrev main_v3650 : Ref sig .tc := ⟨.hbm, 6827, rfl⟩
abbrev main_v3651 : Ref sig .tc := ⟨.hbm, 6828, rfl⟩
abbrev main_cst_880 : Ref sig .tc := ⟨.hbm, 6829, rfl⟩
abbrev main_v3652 : Ref sig .tc := ⟨.hbm, 6830, rfl⟩
abbrev main_v3653 : Ref sig .tc := ⟨.hbm, 6831, rfl⟩
abbrev main_cst_881 : Ref sig .tc := ⟨.hbm, 6832, rfl⟩
abbrev main_v3654 : Ref sig .tc := ⟨.hbm, 6833, rfl⟩
abbrev main_v3655 : Ref sig .tc := ⟨.hbm, 6834, rfl⟩
abbrev main_cst_882 : Ref sig .tc := ⟨.hbm, 6835, rfl⟩
abbrev main_v3656 : Ref sig .tc := ⟨.hbm, 6836, rfl⟩
abbrev main_v3657 : Ref sig .tc := ⟨.hbm, 6837, rfl⟩
abbrev main_v3658 : Ref sig .tc := ⟨.hbm, 6838, rfl⟩
abbrev main_v3659 : Ref sig .tc := ⟨.hbm, 6839, rfl⟩
abbrev main_cst_883 : Ref sig .tc := ⟨.hbm, 6840, rfl⟩
abbrev main_v3660 : Ref sig .tc := ⟨.hbm, 6841, rfl⟩
abbrev main_v3661 : Ref sig .tc := ⟨.hbm, 6842, rfl⟩
abbrev main_cst_884 : Ref sig .tc := ⟨.hbm, 6843, rfl⟩
abbrev main_v3662 : Ref sig .tc := ⟨.hbm, 6844, rfl⟩
abbrev main_v3663 : Ref sig .tc := ⟨.hbm, 6845, rfl⟩
abbrev main_v3664 : Ref sig .tc := ⟨.hbm, 6846, rfl⟩
abbrev main_v3665 : Ref sig .tc := ⟨.hbm, 6847, rfl⟩
abbrev main_v3666 : Ref sig .tc := ⟨.hbm, 6848, rfl⟩
abbrev main_v3667 : Ref sig .tc := ⟨.hbm, 6849, rfl⟩
abbrev main_v3668 : Ref sig .tc := ⟨.hbm, 6850, rfl⟩
abbrev main_v3669 : Ref sig .tc := ⟨.hbm, 6851, rfl⟩
abbrev main_v3670 : Ref sig .tc := ⟨.hbm, 6852, rfl⟩
abbrev main_v3671 : Ref sig .tc := ⟨.hbm, 6853, rfl⟩
abbrev main_v3672 : Ref sig .tc := ⟨.hbm, 6854, rfl⟩
abbrev main_v3673 : Ref sig .tc := ⟨.hbm, 6855, rfl⟩
abbrev main_v3674 : Ref sig .tc := ⟨.hbm, 6856, rfl⟩
abbrev main_v3675 : Ref sig .tc := ⟨.hbm, 6857, rfl⟩
abbrev main_v3676 : Ref sig .tc := ⟨.hbm, 6858, rfl⟩
abbrev main_cst_885 : Ref sig .tc := ⟨.hbm, 6859, rfl⟩
abbrev main_v3677 : Ref sig .tc := ⟨.hbm, 6860, rfl⟩
abbrev main_v3678 : Ref sig .tc := ⟨.hbm, 6861, rfl⟩
abbrev main_cst_886 : Ref sig .tc := ⟨.hbm, 6862, rfl⟩
abbrev main_v3679 : Ref sig .tc := ⟨.hbm, 6863, rfl⟩
abbrev main_v3680 : Ref sig .tc := ⟨.hbm, 6864, rfl⟩
abbrev main_v3681 : Ref sig .tc := ⟨.hbm, 6865, rfl⟩
abbrev main_cst_887 : Ref sig .tc := ⟨.hbm, 6866, rfl⟩
abbrev main_v3682 : Ref sig .tc := ⟨.hbm, 6867, rfl⟩
abbrev main_v3683 : Ref sig .tc := ⟨.hbm, 6868, rfl⟩
abbrev main_v3684 : Ref sig .tc := ⟨.hbm, 6869, rfl⟩
abbrev main_cst_888 : Ref sig .tc := ⟨.hbm, 6870, rfl⟩
abbrev main_v3685 : Ref sig .tc := ⟨.hbm, 6871, rfl⟩
abbrev main_v3686 : Ref sig .tc := ⟨.hbm, 6872, rfl⟩
abbrev main_v3687 : Ref sig .tc := ⟨.hbm, 6873, rfl⟩
abbrev main_c_889 : Ref sig .tc := ⟨.hbm, 6874, rfl⟩
abbrev main_c_890 : Ref sig .tc := ⟨.hbm, 6875, rfl⟩
abbrev main_call216_v0 : Ref sig .tc := ⟨.hbm, 6876, rfl⟩
abbrev main_call216_v1 : Ref sig .tc := ⟨.hbm, 6877, rfl⟩
abbrev main_call216_v2 : Ref sig .tc := ⟨.hbm, 6878, rfl⟩
abbrev main_call216_v3 : Ref sig .tc := ⟨.hbm, 6879, rfl⟩
abbrev main_call216_v4 : Ref sig .tc := ⟨.hbm, 6880, rfl⟩
abbrev main_v3688 : Ref sig .tc := ⟨.hbm, 6881, rfl⟩
abbrev main_v3689 : Ref sig .tc := ⟨.hbm, 6882, rfl⟩
abbrev main_c_891 : Ref sig .tc := ⟨.hbm, 6883, rfl⟩
abbrev main_c_892 : Ref sig .tc := ⟨.hbm, 6884, rfl⟩
abbrev main_call217_v0 : Ref sig .tc := ⟨.hbm, 6885, rfl⟩
abbrev main_call217_v1 : Ref sig .tc := ⟨.hbm, 6886, rfl⟩
abbrev main_call217_v2 : Ref sig .tc := ⟨.hbm, 6887, rfl⟩
abbrev main_call217_v3 : Ref sig .tc := ⟨.hbm, 6888, rfl⟩
abbrev main_call217_v4 : Ref sig .tc := ⟨.hbm, 6889, rfl⟩
abbrev main_v3690 : Ref sig .tc := ⟨.hbm, 6890, rfl⟩
abbrev main_v3691 : Ref sig .tc := ⟨.hbm, 6891, rfl⟩
abbrev main_c_893 : Ref sig .tc := ⟨.hbm, 6892, rfl⟩
abbrev main_v3692 : Ref sig .tc := ⟨.hbm, 6893, rfl⟩
abbrev main_v3693 : Ref sig .tc := ⟨.hbm, 6894, rfl⟩
abbrev main_v3694 : Ref sig .tc := ⟨.hbm, 6895, rfl⟩
abbrev main_v3695 : Ref sig .tc := ⟨.hbm, 6896, rfl⟩
abbrev main_v3696 : Ref sig .tc := ⟨.hbm, 6897, rfl⟩
abbrev main_v3697 : Ref sig .tc := ⟨.hbm, 6898, rfl⟩
abbrev main_call218_c : Ref sig .tc := ⟨.hbm, 6899, rfl⟩
abbrev main_call218_v0 : Ref sig .tc := ⟨.hbm, 6900, rfl⟩
abbrev main_call218_v1 : Ref sig .tc := ⟨.hbm, 6901, rfl⟩
abbrev main_call218_c_0 : Ref sig .tc := ⟨.hbm, 6902, rfl⟩
abbrev main_call218_v2 : Ref sig .tc := ⟨.hbm, 6903, rfl⟩
abbrev main_call218_v3 : Ref sig .tc := ⟨.hbm, 6904, rfl⟩
abbrev main_call218_v4 : Ref sig .tc := ⟨.hbm, 6905, rfl⟩
abbrev main_call218_v5 : Ref sig .tc := ⟨.hbm, 6906, rfl⟩
abbrev main_call218_c_1 : Ref sig .tc := ⟨.hbm, 6907, rfl⟩
abbrev main_call218_c_2 : Ref sig .tc := ⟨.hbm, 6908, rfl⟩
abbrev main_call218_v6 : Ref sig .tc := ⟨.hbm, 6909, rfl⟩
abbrev main_call218_v7 : Ref sig .tc := ⟨.hbm, 6910, rfl⟩
abbrev main_call218_v8 : Ref sig .tc := ⟨.hbm, 6911, rfl⟩
abbrev main_call218_v9 : Ref sig .tc := ⟨.hbm, 6912, rfl⟩
abbrev main_call218_v10 : Ref sig .tc := ⟨.hbm, 6913, rfl⟩
abbrev main_call218_v11 : Ref sig .tc := ⟨.hbm, 6914, rfl⟩
abbrev main_call218_c_3 : Ref sig .tc := ⟨.hbm, 6915, rfl⟩
abbrev main_call218_v12 : Ref sig .tc := ⟨.hbm, 6916, rfl⟩
abbrev main_call218_v13 : Ref sig .tc := ⟨.hbm, 6917, rfl⟩
abbrev main_call218_cst : Ref sig .tc := ⟨.hbm, 6918, rfl⟩
abbrev main_call218_v14 : Ref sig .tc := ⟨.hbm, 6919, rfl⟩
abbrev main_v3698 : Ref sig .tc := ⟨.hbm, 6920, rfl⟩
abbrev main_v3699 : Ref sig .tc := ⟨.hbm, 6921, rfl⟩
abbrev main_v3700 : Ref sig .tc := ⟨.hbm, 6922, rfl⟩
abbrev main_v3701 : Ref sig .tc := ⟨.hbm, 6923, rfl⟩
abbrev main_v3702 : Ref sig .tc := ⟨.hbm, 6924, rfl⟩
abbrev main_v3703 : Ref sig .tc := ⟨.hbm, 6925, rfl⟩
abbrev main_v3704 : Ref sig .tc := ⟨.hbm, 6926, rfl⟩
abbrev main_v3705 : Ref sig .tc := ⟨.hbm, 6927, rfl⟩
abbrev main_v3706 : Ref sig .tc := ⟨.hbm, 6928, rfl⟩
abbrev main_cst_894 : Ref sig .tc := ⟨.hbm, 6929, rfl⟩
abbrev main_v3707 : Ref sig .tc := ⟨.hbm, 6930, rfl⟩
abbrev main_v3708 : Ref sig .tc := ⟨.hbm, 6931, rfl⟩
abbrev main_cst_895 : Ref sig .tc := ⟨.hbm, 6932, rfl⟩
abbrev main_v3709 : Ref sig .tc := ⟨.hbm, 6933, rfl⟩
abbrev main_v3710 : Ref sig .tc := ⟨.hbm, 6934, rfl⟩
abbrev main_v3711 : Ref sig .tc := ⟨.hbm, 6935, rfl⟩
abbrev main_cst_896 : Ref sig .tc := ⟨.hbm, 6936, rfl⟩
abbrev main_v3712 : Ref sig .tc := ⟨.hbm, 6937, rfl⟩
abbrev main_v3713 : Ref sig .tc := ⟨.hbm, 6938, rfl⟩
abbrev main_v3714 : Ref sig .tc := ⟨.hbm, 6939, rfl⟩
abbrev main_cst_897 : Ref sig .tc := ⟨.hbm, 6940, rfl⟩
abbrev main_v3715 : Ref sig .tc := ⟨.hbm, 6941, rfl⟩
abbrev main_v3716 : Ref sig .tc := ⟨.hbm, 6942, rfl⟩
abbrev main_v3717 : Ref sig .tc := ⟨.hbm, 6943, rfl⟩
abbrev main_c_898 : Ref sig .tc := ⟨.hbm, 6944, rfl⟩
abbrev main_c_899 : Ref sig .tc := ⟨.hbm, 6945, rfl⟩
abbrev main_call219_v0 : Ref sig .tc := ⟨.hbm, 6946, rfl⟩
abbrev main_call219_v1 : Ref sig .tc := ⟨.hbm, 6947, rfl⟩
abbrev main_call219_v2 : Ref sig .tc := ⟨.hbm, 6948, rfl⟩
abbrev main_call219_v3 : Ref sig .tc := ⟨.hbm, 6949, rfl⟩
abbrev main_call219_v4 : Ref sig .tc := ⟨.hbm, 6950, rfl⟩
abbrev main_v3718 : Ref sig .tc := ⟨.hbm, 6951, rfl⟩
abbrev main_v3719 : Ref sig .tc := ⟨.hbm, 6952, rfl⟩
abbrev main_c_900 : Ref sig .tc := ⟨.hbm, 6953, rfl⟩
abbrev main_c_901 : Ref sig .tc := ⟨.hbm, 6954, rfl⟩
abbrev main_call220_v0 : Ref sig .tc := ⟨.hbm, 6955, rfl⟩
abbrev main_call220_v1 : Ref sig .tc := ⟨.hbm, 6956, rfl⟩
abbrev main_call220_v2 : Ref sig .tc := ⟨.hbm, 6957, rfl⟩
abbrev main_call220_v3 : Ref sig .tc := ⟨.hbm, 6958, rfl⟩
abbrev main_call220_v4 : Ref sig .tc := ⟨.hbm, 6959, rfl⟩
abbrev main_v3720 : Ref sig .tc := ⟨.hbm, 6960, rfl⟩
abbrev main_v3721 : Ref sig .tc := ⟨.hbm, 6961, rfl⟩
abbrev main_c_902 : Ref sig .tc := ⟨.hbm, 6962, rfl⟩
abbrev main_v3722 : Ref sig .tc := ⟨.hbm, 6963, rfl⟩
abbrev main_v3723 : Ref sig .tc := ⟨.hbm, 6964, rfl⟩
abbrev main_v3724 : Ref sig .tc := ⟨.hbm, 6965, rfl⟩
abbrev main_v3725 : Ref sig .tc := ⟨.hbm, 6966, rfl⟩
abbrev main_v3726 : Ref sig .tc := ⟨.hbm, 6967, rfl⟩
abbrev main_v3727 : Ref sig .tc := ⟨.hbm, 6968, rfl⟩
abbrev main_call221_c : Ref sig .tc := ⟨.hbm, 6969, rfl⟩
abbrev main_call221_v0 : Ref sig .tc := ⟨.hbm, 6970, rfl⟩
abbrev main_call221_v1 : Ref sig .tc := ⟨.hbm, 6971, rfl⟩
abbrev main_call221_c_0 : Ref sig .tc := ⟨.hbm, 6972, rfl⟩
abbrev main_call221_v2 : Ref sig .tc := ⟨.hbm, 6973, rfl⟩
abbrev main_call221_v3 : Ref sig .tc := ⟨.hbm, 6974, rfl⟩
abbrev main_call221_v4 : Ref sig .tc := ⟨.hbm, 6975, rfl⟩
abbrev main_call221_v5 : Ref sig .tc := ⟨.hbm, 6976, rfl⟩
abbrev main_call221_c_1 : Ref sig .tc := ⟨.hbm, 6977, rfl⟩
abbrev main_call221_c_2 : Ref sig .tc := ⟨.hbm, 6978, rfl⟩
abbrev main_call221_v6 : Ref sig .tc := ⟨.hbm, 6979, rfl⟩
abbrev main_call221_v7 : Ref sig .tc := ⟨.hbm, 6980, rfl⟩
abbrev main_call221_v8 : Ref sig .tc := ⟨.hbm, 6981, rfl⟩
abbrev main_call221_v9 : Ref sig .tc := ⟨.hbm, 6982, rfl⟩
abbrev main_call221_v10 : Ref sig .tc := ⟨.hbm, 6983, rfl⟩
abbrev main_call221_v11 : Ref sig .tc := ⟨.hbm, 6984, rfl⟩
abbrev main_call221_c_3 : Ref sig .tc := ⟨.hbm, 6985, rfl⟩
abbrev main_call221_v12 : Ref sig .tc := ⟨.hbm, 6986, rfl⟩
abbrev main_call221_v13 : Ref sig .tc := ⟨.hbm, 6987, rfl⟩
abbrev main_call221_cst : Ref sig .tc := ⟨.hbm, 6988, rfl⟩
abbrev main_call221_v14 : Ref sig .tc := ⟨.hbm, 6989, rfl⟩
abbrev main_v3728 : Ref sig .tc := ⟨.hbm, 6990, rfl⟩
abbrev main_v3729 : Ref sig .tc := ⟨.hbm, 6991, rfl⟩
abbrev main_v3730 : Ref sig .tc := ⟨.hbm, 6992, rfl⟩
abbrev main_v3731 : Ref sig .tc := ⟨.hbm, 6993, rfl⟩
abbrev main_v3732 : Ref sig .tc := ⟨.hbm, 6994, rfl⟩
abbrev main_v3733 : Ref sig .tc := ⟨.hbm, 6995, rfl⟩
abbrev main_v3734 : Ref sig .tc := ⟨.hbm, 6996, rfl⟩
abbrev main_v3735 : Ref sig .tc := ⟨.hbm, 6997, rfl⟩
abbrev main_v3736 : Ref sig .tc := ⟨.hbm, 6998, rfl⟩
abbrev main_v3737 : Ref sig .tc := ⟨.hbm, 6999, rfl⟩
abbrev main_cst_903 : Ref sig .tc := ⟨.hbm, 7000, rfl⟩
abbrev main_v3738 : Ref sig .tc := ⟨.hbm, 7001, rfl⟩
abbrev main_v3739 : Ref sig .tc := ⟨.hbm, 7002, rfl⟩
abbrev main_cst_904 : Ref sig .tc := ⟨.hbm, 7003, rfl⟩
abbrev main_v3740 : Ref sig .tc := ⟨.hbm, 7004, rfl⟩
abbrev main_v3741 : Ref sig .tc := ⟨.hbm, 7005, rfl⟩
abbrev main_v3742 : Ref sig .tc := ⟨.hbm, 7006, rfl⟩
abbrev main_cst_905 : Ref sig .tc := ⟨.hbm, 7007, rfl⟩
abbrev main_v3743 : Ref sig .tc := ⟨.hbm, 7008, rfl⟩
abbrev main_v3744 : Ref sig .tc := ⟨.hbm, 7009, rfl⟩
abbrev main_v3745 : Ref sig .tc := ⟨.hbm, 7010, rfl⟩
abbrev main_cst_906 : Ref sig .tc := ⟨.hbm, 7011, rfl⟩
abbrev main_v3746 : Ref sig .tc := ⟨.hbm, 7012, rfl⟩
abbrev main_v3747 : Ref sig .tc := ⟨.hbm, 7013, rfl⟩
abbrev main_v3748 : Ref sig .tc := ⟨.hbm, 7014, rfl⟩
abbrev main_c_907 : Ref sig .tc := ⟨.hbm, 7015, rfl⟩
abbrev main_c_908 : Ref sig .tc := ⟨.hbm, 7016, rfl⟩
abbrev main_call222_v0 : Ref sig .tc := ⟨.hbm, 7017, rfl⟩
abbrev main_call222_v1 : Ref sig .tc := ⟨.hbm, 7018, rfl⟩
abbrev main_call222_v2 : Ref sig .tc := ⟨.hbm, 7019, rfl⟩
abbrev main_call222_v3 : Ref sig .tc := ⟨.hbm, 7020, rfl⟩
abbrev main_call222_v4 : Ref sig .tc := ⟨.hbm, 7021, rfl⟩
abbrev main_v3749 : Ref sig .tc := ⟨.hbm, 7022, rfl⟩
abbrev main_v3750 : Ref sig .tc := ⟨.hbm, 7023, rfl⟩
abbrev main_c_909 : Ref sig .tc := ⟨.hbm, 7024, rfl⟩
abbrev main_c_910 : Ref sig .tc := ⟨.hbm, 7025, rfl⟩
abbrev main_call223_v0 : Ref sig .tc := ⟨.hbm, 7026, rfl⟩
abbrev main_call223_v1 : Ref sig .tc := ⟨.hbm, 7027, rfl⟩
abbrev main_call223_v2 : Ref sig .tc := ⟨.hbm, 7028, rfl⟩
abbrev main_call223_v3 : Ref sig .tc := ⟨.hbm, 7029, rfl⟩
abbrev main_call223_v4 : Ref sig .tc := ⟨.hbm, 7030, rfl⟩
abbrev main_v3751 : Ref sig .tc := ⟨.hbm, 7031, rfl⟩
abbrev main_v3752 : Ref sig .tc := ⟨.hbm, 7032, rfl⟩
abbrev main_c_911 : Ref sig .tc := ⟨.hbm, 7033, rfl⟩
abbrev main_v3753 : Ref sig .tc := ⟨.hbm, 7034, rfl⟩
abbrev main_v3754 : Ref sig .tc := ⟨.hbm, 7035, rfl⟩
abbrev main_v3755 : Ref sig .tc := ⟨.hbm, 7036, rfl⟩
abbrev main_v3756 : Ref sig .tc := ⟨.hbm, 7037, rfl⟩
abbrev main_v3757 : Ref sig .tc := ⟨.hbm, 7038, rfl⟩
abbrev main_v3758 : Ref sig .tc := ⟨.hbm, 7039, rfl⟩
abbrev main_call224_c : Ref sig .tc := ⟨.hbm, 7040, rfl⟩
abbrev main_call224_v0 : Ref sig .tc := ⟨.hbm, 7041, rfl⟩
abbrev main_call224_v1 : Ref sig .tc := ⟨.hbm, 7042, rfl⟩
abbrev main_call224_c_0 : Ref sig .tc := ⟨.hbm, 7043, rfl⟩
abbrev main_call224_v2 : Ref sig .tc := ⟨.hbm, 7044, rfl⟩
abbrev main_call224_v3 : Ref sig .tc := ⟨.hbm, 7045, rfl⟩
abbrev main_call224_v4 : Ref sig .tc := ⟨.hbm, 7046, rfl⟩
abbrev main_call224_v5 : Ref sig .tc := ⟨.hbm, 7047, rfl⟩
abbrev main_call224_c_1 : Ref sig .tc := ⟨.hbm, 7048, rfl⟩
abbrev main_call224_c_2 : Ref sig .tc := ⟨.hbm, 7049, rfl⟩
abbrev main_call224_v6 : Ref sig .tc := ⟨.hbm, 7050, rfl⟩
abbrev main_call224_v7 : Ref sig .tc := ⟨.hbm, 7051, rfl⟩
abbrev main_call224_v8 : Ref sig .tc := ⟨.hbm, 7052, rfl⟩
abbrev main_call224_v9 : Ref sig .tc := ⟨.hbm, 7053, rfl⟩
abbrev main_call224_v10 : Ref sig .tc := ⟨.hbm, 7054, rfl⟩
abbrev main_call224_v11 : Ref sig .tc := ⟨.hbm, 7055, rfl⟩
abbrev main_call224_c_3 : Ref sig .tc := ⟨.hbm, 7056, rfl⟩
abbrev main_call224_v12 : Ref sig .tc := ⟨.hbm, 7057, rfl⟩
abbrev main_call224_v13 : Ref sig .tc := ⟨.hbm, 7058, rfl⟩
abbrev main_call224_cst : Ref sig .tc := ⟨.hbm, 7059, rfl⟩
abbrev main_call224_v14 : Ref sig .tc := ⟨.hbm, 7060, rfl⟩
abbrev main_v3759 : Ref sig .tc := ⟨.hbm, 7061, rfl⟩
abbrev main_v3760 : Ref sig .tc := ⟨.hbm, 7062, rfl⟩
abbrev main_v3761 : Ref sig .tc := ⟨.hbm, 7063, rfl⟩
abbrev main_v3762 : Ref sig .tc := ⟨.hbm, 7064, rfl⟩
abbrev main_v3763 : Ref sig .tc := ⟨.hbm, 7065, rfl⟩
abbrev main_v3764 : Ref sig .tc := ⟨.hbm, 7066, rfl⟩
abbrev main_v3765 : Ref sig .tc := ⟨.hbm, 7067, rfl⟩
abbrev main_v3766 : Ref sig .tc := ⟨.hbm, 7068, rfl⟩
abbrev main_v3767 : Ref sig .tc := ⟨.hbm, 7069, rfl⟩
abbrev main_v3768 : Ref sig .tc := ⟨.hbm, 7070, rfl⟩
abbrev main_cst_912 : Ref sig .tc := ⟨.hbm, 7071, rfl⟩
abbrev main_v3769 : Ref sig .tc := ⟨.hbm, 7072, rfl⟩
abbrev main_v3770 : Ref sig .tc := ⟨.hbm, 7073, rfl⟩
abbrev main_cst_913 : Ref sig .tc := ⟨.hbm, 7074, rfl⟩
abbrev main_v3771 : Ref sig .tc := ⟨.hbm, 7075, rfl⟩
abbrev main_v3772 : Ref sig .tc := ⟨.hbm, 7076, rfl⟩
abbrev main_v3773 : Ref sig .tc := ⟨.hbm, 7077, rfl⟩
abbrev main_cst_914 : Ref sig .tc := ⟨.hbm, 7078, rfl⟩
abbrev main_v3774 : Ref sig .tc := ⟨.hbm, 7079, rfl⟩
abbrev main_v3775 : Ref sig .tc := ⟨.hbm, 7080, rfl⟩
abbrev main_v3776 : Ref sig .tc := ⟨.hbm, 7081, rfl⟩
abbrev main_cst_915 : Ref sig .tc := ⟨.hbm, 7082, rfl⟩
abbrev main_v3777 : Ref sig .tc := ⟨.hbm, 7083, rfl⟩
abbrev main_v3778 : Ref sig .tc := ⟨.hbm, 7084, rfl⟩
abbrev main_v3779 : Ref sig .tc := ⟨.hbm, 7085, rfl⟩
abbrev main_c_916 : Ref sig .tc := ⟨.hbm, 7086, rfl⟩
abbrev main_c_917 : Ref sig .tc := ⟨.hbm, 7087, rfl⟩
abbrev main_call225_v0 : Ref sig .tc := ⟨.hbm, 7088, rfl⟩
abbrev main_call225_v1 : Ref sig .tc := ⟨.hbm, 7089, rfl⟩
abbrev main_call225_v2 : Ref sig .tc := ⟨.hbm, 7090, rfl⟩
abbrev main_call225_v3 : Ref sig .tc := ⟨.hbm, 7091, rfl⟩
abbrev main_call225_v4 : Ref sig .tc := ⟨.hbm, 7092, rfl⟩
abbrev main_v3780 : Ref sig .tc := ⟨.hbm, 7093, rfl⟩
abbrev main_v3781 : Ref sig .tc := ⟨.hbm, 7094, rfl⟩
abbrev main_c_918 : Ref sig .tc := ⟨.hbm, 7095, rfl⟩
abbrev main_c_919 : Ref sig .tc := ⟨.hbm, 7096, rfl⟩
abbrev main_call226_v0 : Ref sig .tc := ⟨.hbm, 7097, rfl⟩
abbrev main_call226_v1 : Ref sig .tc := ⟨.hbm, 7098, rfl⟩
abbrev main_call226_v2 : Ref sig .tc := ⟨.hbm, 7099, rfl⟩
abbrev main_call226_v3 : Ref sig .tc := ⟨.hbm, 7100, rfl⟩
abbrev main_call226_v4 : Ref sig .tc := ⟨.hbm, 7101, rfl⟩
abbrev main_v3782 : Ref sig .tc := ⟨.hbm, 7102, rfl⟩
abbrev main_v3783 : Ref sig .tc := ⟨.hbm, 7103, rfl⟩
abbrev main_c_920 : Ref sig .tc := ⟨.hbm, 7104, rfl⟩
abbrev main_v3784 : Ref sig .tc := ⟨.hbm, 7105, rfl⟩
abbrev main_v3785 : Ref sig .tc := ⟨.hbm, 7106, rfl⟩
abbrev main_v3786 : Ref sig .tc := ⟨.hbm, 7107, rfl⟩
abbrev main_v3787 : Ref sig .tc := ⟨.hbm, 7108, rfl⟩
abbrev main_v3788 : Ref sig .tc := ⟨.hbm, 7109, rfl⟩
abbrev main_v3789 : Ref sig .tc := ⟨.hbm, 7110, rfl⟩
abbrev main_call227_c : Ref sig .tc := ⟨.hbm, 7111, rfl⟩
abbrev main_call227_v0 : Ref sig .tc := ⟨.hbm, 7112, rfl⟩
abbrev main_call227_v1 : Ref sig .tc := ⟨.hbm, 7113, rfl⟩
abbrev main_call227_c_0 : Ref sig .tc := ⟨.hbm, 7114, rfl⟩
abbrev main_call227_v2 : Ref sig .tc := ⟨.hbm, 7115, rfl⟩
abbrev main_call227_v3 : Ref sig .tc := ⟨.hbm, 7116, rfl⟩
abbrev main_call227_v4 : Ref sig .tc := ⟨.hbm, 7117, rfl⟩
abbrev main_call227_v5 : Ref sig .tc := ⟨.hbm, 7118, rfl⟩
abbrev main_call227_c_1 : Ref sig .tc := ⟨.hbm, 7119, rfl⟩
abbrev main_call227_c_2 : Ref sig .tc := ⟨.hbm, 7120, rfl⟩
abbrev main_call227_v6 : Ref sig .tc := ⟨.hbm, 7121, rfl⟩
abbrev main_call227_v7 : Ref sig .tc := ⟨.hbm, 7122, rfl⟩
abbrev main_call227_v8 : Ref sig .tc := ⟨.hbm, 7123, rfl⟩
abbrev main_call227_v9 : Ref sig .tc := ⟨.hbm, 7124, rfl⟩
abbrev main_call227_v10 : Ref sig .tc := ⟨.hbm, 7125, rfl⟩
abbrev main_call227_v11 : Ref sig .tc := ⟨.hbm, 7126, rfl⟩
abbrev main_call227_c_3 : Ref sig .tc := ⟨.hbm, 7127, rfl⟩
abbrev main_call227_v12 : Ref sig .tc := ⟨.hbm, 7128, rfl⟩
abbrev main_call227_v13 : Ref sig .tc := ⟨.hbm, 7129, rfl⟩
abbrev main_call227_cst : Ref sig .tc := ⟨.hbm, 7130, rfl⟩
abbrev main_call227_v14 : Ref sig .tc := ⟨.hbm, 7131, rfl⟩
abbrev main_v3790 : Ref sig .tc := ⟨.hbm, 7132, rfl⟩
abbrev main_v3791 : Ref sig .tc := ⟨.hbm, 7133, rfl⟩
abbrev main_v3792 : Ref sig .tc := ⟨.hbm, 7134, rfl⟩
abbrev main_v3793 : Ref sig .tc := ⟨.hbm, 7135, rfl⟩
abbrev main_v3794 : Ref sig .tc := ⟨.hbm, 7136, rfl⟩
abbrev main_v3795 : Ref sig .tc := ⟨.hbm, 7137, rfl⟩
abbrev main_v3796 : Ref sig .tc := ⟨.hbm, 7138, rfl⟩
abbrev main_v3797 : Ref sig .tc := ⟨.hbm, 7139, rfl⟩
abbrev main_v3798 : Ref sig .tc := ⟨.hbm, 7140, rfl⟩
abbrev main_v3799 : Ref sig .tc := ⟨.hbm, 7141, rfl⟩
abbrev main_v3800 : Ref sig .tc := ⟨.hbm, 7142, rfl⟩
abbrev main_v3801 : Ref sig .tc := ⟨.hbm, 7143, rfl⟩
abbrev main_v3802 : Ref sig .tc := ⟨.hbm, 7144, rfl⟩
abbrev main_v3803 : Ref sig .tc := ⟨.hbm, 7145, rfl⟩
abbrev main_v3804 : Ref sig .tc := ⟨.hbm, 7146, rfl⟩
abbrev main_v3805 : Ref sig .tc := ⟨.hbm, 7147, rfl⟩
abbrev main_v3806 : Ref sig .tc := ⟨.hbm, 7148, rfl⟩
abbrev main_v3807 : Ref sig .tc := ⟨.hbm, 7149, rfl⟩
abbrev main_v3808 : Ref sig .tc := ⟨.hbm, 7150, rfl⟩
abbrev main_cst_921 : Ref sig .tc := ⟨.hbm, 7151, rfl⟩
abbrev main_v3809 : Ref sig .tc := ⟨.hbm, 7152, rfl⟩
abbrev main_v3810 : Ref sig .tc := ⟨.hbm, 7153, rfl⟩
abbrev main_cst_922 : Ref sig .tc := ⟨.hbm, 7154, rfl⟩
abbrev main_v3811 : Ref sig .tc := ⟨.hbm, 7155, rfl⟩
abbrev main_v3812 : Ref sig .tc := ⟨.hbm, 7156, rfl⟩
abbrev main_cst_923 : Ref sig .tc := ⟨.hbm, 7157, rfl⟩
abbrev main_v3813 : Ref sig .tc := ⟨.hbm, 7158, rfl⟩
abbrev main_v3814 : Ref sig .tc := ⟨.hbm, 7159, rfl⟩
abbrev main_cst_924 : Ref sig .tc := ⟨.hbm, 7160, rfl⟩
abbrev main_v3815 : Ref sig .tc := ⟨.hbm, 7161, rfl⟩
abbrev main_v3816 : Ref sig .tc := ⟨.hbm, 7162, rfl⟩
abbrev main_v3817 : Ref sig .tc := ⟨.hbm, 7163, rfl⟩
abbrev main_v3818 : Ref sig .tc := ⟨.hbm, 7164, rfl⟩
abbrev main_cst_925 : Ref sig .tc := ⟨.hbm, 7165, rfl⟩
abbrev main_v3819 : Ref sig .tc := ⟨.hbm, 7166, rfl⟩
abbrev main_v3820 : Ref sig .tc := ⟨.hbm, 7167, rfl⟩
abbrev main_cst_926 : Ref sig .tc := ⟨.hbm, 7168, rfl⟩
abbrev main_v3821 : Ref sig .tc := ⟨.hbm, 7169, rfl⟩
abbrev main_v3822 : Ref sig .tc := ⟨.hbm, 7170, rfl⟩
abbrev main_cst_927 : Ref sig .tc := ⟨.hbm, 7171, rfl⟩
abbrev main_v3823 : Ref sig .tc := ⟨.hbm, 7172, rfl⟩
abbrev main_v3824 : Ref sig .tc := ⟨.hbm, 7173, rfl⟩
abbrev main_cst_928 : Ref sig .tc := ⟨.hbm, 7174, rfl⟩
abbrev main_v3825 : Ref sig .tc := ⟨.hbm, 7175, rfl⟩
abbrev main_v3826 : Ref sig .tc := ⟨.hbm, 7176, rfl⟩
abbrev main_v3827 : Ref sig .tc := ⟨.hbm, 7177, rfl⟩
abbrev main_v3828 : Ref sig .tc := ⟨.hbm, 7178, rfl⟩
abbrev main_cst_929 : Ref sig .tc := ⟨.hbm, 7179, rfl⟩
abbrev main_v3829 : Ref sig .tc := ⟨.hbm, 7180, rfl⟩
abbrev main_v3830 : Ref sig .tc := ⟨.hbm, 7181, rfl⟩
abbrev main_cst_930 : Ref sig .tc := ⟨.hbm, 7182, rfl⟩
abbrev main_v3831 : Ref sig .tc := ⟨.hbm, 7183, rfl⟩
abbrev main_v3832 : Ref sig .tc := ⟨.hbm, 7184, rfl⟩
abbrev main_v3833 : Ref sig .tc := ⟨.hbm, 7185, rfl⟩
abbrev main_v3834 : Ref sig .tc := ⟨.hbm, 7186, rfl⟩
abbrev main_v3835 : Ref sig .tc := ⟨.hbm, 7187, rfl⟩
abbrev main_v3836 : Ref sig .tc := ⟨.hbm, 7188, rfl⟩
abbrev main_v3837 : Ref sig .tc := ⟨.hbm, 7189, rfl⟩
abbrev main_v3838 : Ref sig .tc := ⟨.hbm, 7190, rfl⟩
abbrev main_v3839 : Ref sig .tc := ⟨.hbm, 7191, rfl⟩
abbrev main_v3840 : Ref sig .tc := ⟨.hbm, 7192, rfl⟩
abbrev main_v3841 : Ref sig .tc := ⟨.hbm, 7193, rfl⟩
abbrev main_v3842 : Ref sig .tc := ⟨.hbm, 7194, rfl⟩
abbrev main_v3843 : Ref sig .tc := ⟨.hbm, 7195, rfl⟩
abbrev main_v3844 : Ref sig .tc := ⟨.hbm, 7196, rfl⟩
abbrev main_v3845 : Ref sig .tc := ⟨.hbm, 7197, rfl⟩
abbrev main_cst_931 : Ref sig .tc := ⟨.hbm, 7198, rfl⟩
abbrev main_v3846 : Ref sig .tc := ⟨.hbm, 7199, rfl⟩
abbrev main_v3847 : Ref sig .tc := ⟨.hbm, 7200, rfl⟩
abbrev main_cst_932 : Ref sig .tc := ⟨.hbm, 7201, rfl⟩
abbrev main_v3848 : Ref sig .tc := ⟨.hbm, 7202, rfl⟩
abbrev main_v3849 : Ref sig .tc := ⟨.hbm, 7203, rfl⟩
abbrev main_v3850 : Ref sig .tc := ⟨.hbm, 7204, rfl⟩
abbrev main_cst_933 : Ref sig .tc := ⟨.hbm, 7205, rfl⟩
abbrev main_v3851 : Ref sig .tc := ⟨.hbm, 7206, rfl⟩
abbrev main_v3852 : Ref sig .tc := ⟨.hbm, 7207, rfl⟩
abbrev main_v3853 : Ref sig .tc := ⟨.hbm, 7208, rfl⟩
abbrev main_cst_934 : Ref sig .tc := ⟨.hbm, 7209, rfl⟩
abbrev main_v3854 : Ref sig .tc := ⟨.hbm, 7210, rfl⟩
abbrev main_v3855 : Ref sig .tc := ⟨.hbm, 7211, rfl⟩
abbrev main_v3856 : Ref sig .tc := ⟨.hbm, 7212, rfl⟩
abbrev main_c_935 : Ref sig .tc := ⟨.hbm, 7213, rfl⟩
abbrev main_c_936 : Ref sig .tc := ⟨.hbm, 7214, rfl⟩
abbrev main_call228_v0 : Ref sig .tc := ⟨.hbm, 7215, rfl⟩
abbrev main_call228_v1 : Ref sig .tc := ⟨.hbm, 7216, rfl⟩
abbrev main_call228_v2 : Ref sig .tc := ⟨.hbm, 7217, rfl⟩
abbrev main_call228_v3 : Ref sig .tc := ⟨.hbm, 7218, rfl⟩
abbrev main_call228_v4 : Ref sig .tc := ⟨.hbm, 7219, rfl⟩
abbrev main_v3857 : Ref sig .tc := ⟨.hbm, 7220, rfl⟩
abbrev main_v3858 : Ref sig .tc := ⟨.hbm, 7221, rfl⟩
abbrev main_c_937 : Ref sig .tc := ⟨.hbm, 7222, rfl⟩
abbrev main_c_938 : Ref sig .tc := ⟨.hbm, 7223, rfl⟩
abbrev main_call229_v0 : Ref sig .tc := ⟨.hbm, 7224, rfl⟩
abbrev main_call229_v1 : Ref sig .tc := ⟨.hbm, 7225, rfl⟩
abbrev main_call229_v2 : Ref sig .tc := ⟨.hbm, 7226, rfl⟩
abbrev main_call229_v3 : Ref sig .tc := ⟨.hbm, 7227, rfl⟩
abbrev main_call229_v4 : Ref sig .tc := ⟨.hbm, 7228, rfl⟩
abbrev main_v3859 : Ref sig .tc := ⟨.hbm, 7229, rfl⟩
abbrev main_v3860 : Ref sig .tc := ⟨.hbm, 7230, rfl⟩
abbrev main_c_939 : Ref sig .tc := ⟨.hbm, 7231, rfl⟩
abbrev main_v3861 : Ref sig .tc := ⟨.hbm, 7232, rfl⟩
abbrev main_v3862 : Ref sig .tc := ⟨.hbm, 7233, rfl⟩
abbrev main_v3863 : Ref sig .tc := ⟨.hbm, 7234, rfl⟩
abbrev main_v3864 : Ref sig .tc := ⟨.hbm, 7235, rfl⟩
abbrev main_v3865 : Ref sig .tc := ⟨.hbm, 7236, rfl⟩
abbrev main_v3866 : Ref sig .tc := ⟨.hbm, 7237, rfl⟩
abbrev main_call230_c : Ref sig .tc := ⟨.hbm, 7238, rfl⟩
abbrev main_call230_v0 : Ref sig .tc := ⟨.hbm, 7239, rfl⟩
abbrev main_call230_v1 : Ref sig .tc := ⟨.hbm, 7240, rfl⟩
abbrev main_call230_c_0 : Ref sig .tc := ⟨.hbm, 7241, rfl⟩
abbrev main_call230_v2 : Ref sig .tc := ⟨.hbm, 7242, rfl⟩
abbrev main_call230_v3 : Ref sig .tc := ⟨.hbm, 7243, rfl⟩
abbrev main_call230_v4 : Ref sig .tc := ⟨.hbm, 7244, rfl⟩
abbrev main_call230_v5 : Ref sig .tc := ⟨.hbm, 7245, rfl⟩
abbrev main_call230_c_1 : Ref sig .tc := ⟨.hbm, 7246, rfl⟩
abbrev main_call230_c_2 : Ref sig .tc := ⟨.hbm, 7247, rfl⟩
abbrev main_call230_v6 : Ref sig .tc := ⟨.hbm, 7248, rfl⟩
abbrev main_call230_v7 : Ref sig .tc := ⟨.hbm, 7249, rfl⟩
abbrev main_call230_v8 : Ref sig .tc := ⟨.hbm, 7250, rfl⟩
abbrev main_call230_v9 : Ref sig .tc := ⟨.hbm, 7251, rfl⟩
abbrev main_call230_v10 : Ref sig .tc := ⟨.hbm, 7252, rfl⟩
abbrev main_call230_v11 : Ref sig .tc := ⟨.hbm, 7253, rfl⟩
abbrev main_call230_c_3 : Ref sig .tc := ⟨.hbm, 7254, rfl⟩
abbrev main_call230_v12 : Ref sig .tc := ⟨.hbm, 7255, rfl⟩
abbrev main_call230_v13 : Ref sig .tc := ⟨.hbm, 7256, rfl⟩
abbrev main_call230_cst : Ref sig .tc := ⟨.hbm, 7257, rfl⟩
abbrev main_call230_v14 : Ref sig .tc := ⟨.hbm, 7258, rfl⟩
abbrev main_v3867 : Ref sig .tc := ⟨.hbm, 7259, rfl⟩
abbrev main_v3868 : Ref sig .tc := ⟨.hbm, 7260, rfl⟩
abbrev main_v3869 : Ref sig .tc := ⟨.hbm, 7261, rfl⟩
abbrev main_v3870 : Ref sig .tc := ⟨.hbm, 7262, rfl⟩
abbrev main_v3871 : Ref sig .tc := ⟨.hbm, 7263, rfl⟩
abbrev main_v3872 : Ref sig .tc := ⟨.hbm, 7264, rfl⟩
abbrev main_v3873 : Ref sig .tc := ⟨.hbm, 7265, rfl⟩
abbrev main_v3874 : Ref sig .tc := ⟨.hbm, 7266, rfl⟩
abbrev main_v3875 : Ref sig .tc := ⟨.hbm, 7267, rfl⟩
abbrev main_cst_940 : Ref sig .tc := ⟨.hbm, 7268, rfl⟩
abbrev main_v3876 : Ref sig .tc := ⟨.hbm, 7269, rfl⟩
abbrev main_v3877 : Ref sig .tc := ⟨.hbm, 7270, rfl⟩
abbrev main_cst_941 : Ref sig .tc := ⟨.hbm, 7271, rfl⟩
abbrev main_v3878 : Ref sig .tc := ⟨.hbm, 7272, rfl⟩
abbrev main_v3879 : Ref sig .tc := ⟨.hbm, 7273, rfl⟩
abbrev main_v3880 : Ref sig .tc := ⟨.hbm, 7274, rfl⟩
abbrev main_cst_942 : Ref sig .tc := ⟨.hbm, 7275, rfl⟩
abbrev main_v3881 : Ref sig .tc := ⟨.hbm, 7276, rfl⟩
abbrev main_v3882 : Ref sig .tc := ⟨.hbm, 7277, rfl⟩
abbrev main_v3883 : Ref sig .tc := ⟨.hbm, 7278, rfl⟩
abbrev main_cst_943 : Ref sig .tc := ⟨.hbm, 7279, rfl⟩
abbrev main_v3884 : Ref sig .tc := ⟨.hbm, 7280, rfl⟩
abbrev main_v3885 : Ref sig .tc := ⟨.hbm, 7281, rfl⟩
abbrev main_v3886 : Ref sig .tc := ⟨.hbm, 7282, rfl⟩
abbrev main_c_944 : Ref sig .tc := ⟨.hbm, 7283, rfl⟩
abbrev main_c_945 : Ref sig .tc := ⟨.hbm, 7284, rfl⟩
abbrev main_call231_v0 : Ref sig .tc := ⟨.hbm, 7285, rfl⟩
abbrev main_call231_v1 : Ref sig .tc := ⟨.hbm, 7286, rfl⟩
abbrev main_call231_v2 : Ref sig .tc := ⟨.hbm, 7287, rfl⟩
abbrev main_call231_v3 : Ref sig .tc := ⟨.hbm, 7288, rfl⟩
abbrev main_call231_v4 : Ref sig .tc := ⟨.hbm, 7289, rfl⟩
abbrev main_v3887 : Ref sig .tc := ⟨.hbm, 7290, rfl⟩
abbrev main_v3888 : Ref sig .tc := ⟨.hbm, 7291, rfl⟩
abbrev main_c_946 : Ref sig .tc := ⟨.hbm, 7292, rfl⟩
abbrev main_c_947 : Ref sig .tc := ⟨.hbm, 7293, rfl⟩
abbrev main_call232_v0 : Ref sig .tc := ⟨.hbm, 7294, rfl⟩
abbrev main_call232_v1 : Ref sig .tc := ⟨.hbm, 7295, rfl⟩
abbrev main_call232_v2 : Ref sig .tc := ⟨.hbm, 7296, rfl⟩
abbrev main_call232_v3 : Ref sig .tc := ⟨.hbm, 7297, rfl⟩
abbrev main_call232_v4 : Ref sig .tc := ⟨.hbm, 7298, rfl⟩
abbrev main_v3889 : Ref sig .tc := ⟨.hbm, 7299, rfl⟩
abbrev main_v3890 : Ref sig .tc := ⟨.hbm, 7300, rfl⟩
abbrev main_c_948 : Ref sig .tc := ⟨.hbm, 7301, rfl⟩
abbrev main_v3891 : Ref sig .tc := ⟨.hbm, 7302, rfl⟩
abbrev main_v3892 : Ref sig .tc := ⟨.hbm, 7303, rfl⟩
abbrev main_v3893 : Ref sig .tc := ⟨.hbm, 7304, rfl⟩
abbrev main_v3894 : Ref sig .tc := ⟨.hbm, 7305, rfl⟩
abbrev main_v3895 : Ref sig .tc := ⟨.hbm, 7306, rfl⟩
abbrev main_v3896 : Ref sig .tc := ⟨.hbm, 7307, rfl⟩
abbrev main_call233_c : Ref sig .tc := ⟨.hbm, 7308, rfl⟩
abbrev main_call233_v0 : Ref sig .tc := ⟨.hbm, 7309, rfl⟩
abbrev main_call233_v1 : Ref sig .tc := ⟨.hbm, 7310, rfl⟩
abbrev main_call233_c_0 : Ref sig .tc := ⟨.hbm, 7311, rfl⟩
abbrev main_call233_v2 : Ref sig .tc := ⟨.hbm, 7312, rfl⟩
abbrev main_call233_v3 : Ref sig .tc := ⟨.hbm, 7313, rfl⟩
abbrev main_call233_v4 : Ref sig .tc := ⟨.hbm, 7314, rfl⟩
abbrev main_call233_v5 : Ref sig .tc := ⟨.hbm, 7315, rfl⟩
abbrev main_call233_c_1 : Ref sig .tc := ⟨.hbm, 7316, rfl⟩
abbrev main_call233_c_2 : Ref sig .tc := ⟨.hbm, 7317, rfl⟩
abbrev main_call233_v6 : Ref sig .tc := ⟨.hbm, 7318, rfl⟩
abbrev main_call233_v7 : Ref sig .tc := ⟨.hbm, 7319, rfl⟩
abbrev main_call233_v8 : Ref sig .tc := ⟨.hbm, 7320, rfl⟩
abbrev main_call233_v9 : Ref sig .tc := ⟨.hbm, 7321, rfl⟩
abbrev main_call233_v10 : Ref sig .tc := ⟨.hbm, 7322, rfl⟩
abbrev main_call233_v11 : Ref sig .tc := ⟨.hbm, 7323, rfl⟩
abbrev main_call233_c_3 : Ref sig .tc := ⟨.hbm, 7324, rfl⟩
abbrev main_call233_v12 : Ref sig .tc := ⟨.hbm, 7325, rfl⟩
abbrev main_call233_v13 : Ref sig .tc := ⟨.hbm, 7326, rfl⟩
abbrev main_call233_cst : Ref sig .tc := ⟨.hbm, 7327, rfl⟩
abbrev main_call233_v14 : Ref sig .tc := ⟨.hbm, 7328, rfl⟩
abbrev main_v3897 : Ref sig .tc := ⟨.hbm, 7329, rfl⟩
abbrev main_v3898 : Ref sig .tc := ⟨.hbm, 7330, rfl⟩
abbrev main_v3899 : Ref sig .tc := ⟨.hbm, 7331, rfl⟩
abbrev main_v3900 : Ref sig .tc := ⟨.hbm, 7332, rfl⟩
abbrev main_v3901 : Ref sig .tc := ⟨.hbm, 7333, rfl⟩
abbrev main_v3902 : Ref sig .tc := ⟨.hbm, 7334, rfl⟩
abbrev main_v3903 : Ref sig .tc := ⟨.hbm, 7335, rfl⟩
abbrev main_v3904 : Ref sig .tc := ⟨.hbm, 7336, rfl⟩
abbrev main_v3905 : Ref sig .tc := ⟨.hbm, 7337, rfl⟩
abbrev main_v3906 : Ref sig .tc := ⟨.hbm, 7338, rfl⟩
abbrev main_cst_949 : Ref sig .tc := ⟨.hbm, 7339, rfl⟩
abbrev main_v3907 : Ref sig .tc := ⟨.hbm, 7340, rfl⟩
abbrev main_v3908 : Ref sig .tc := ⟨.hbm, 7341, rfl⟩
abbrev main_cst_950 : Ref sig .tc := ⟨.hbm, 7342, rfl⟩
abbrev main_v3909 : Ref sig .tc := ⟨.hbm, 7343, rfl⟩
abbrev main_v3910 : Ref sig .tc := ⟨.hbm, 7344, rfl⟩
abbrev main_v3911 : Ref sig .tc := ⟨.hbm, 7345, rfl⟩
abbrev main_cst_951 : Ref sig .tc := ⟨.hbm, 7346, rfl⟩
abbrev main_v3912 : Ref sig .tc := ⟨.hbm, 7347, rfl⟩
abbrev main_v3913 : Ref sig .tc := ⟨.hbm, 7348, rfl⟩
abbrev main_v3914 : Ref sig .tc := ⟨.hbm, 7349, rfl⟩
abbrev main_cst_952 : Ref sig .tc := ⟨.hbm, 7350, rfl⟩
abbrev main_v3915 : Ref sig .tc := ⟨.hbm, 7351, rfl⟩
abbrev main_v3916 : Ref sig .tc := ⟨.hbm, 7352, rfl⟩
abbrev main_v3917 : Ref sig .tc := ⟨.hbm, 7353, rfl⟩
abbrev main_c_953 : Ref sig .tc := ⟨.hbm, 7354, rfl⟩
abbrev main_c_954 : Ref sig .tc := ⟨.hbm, 7355, rfl⟩
abbrev main_call234_v0 : Ref sig .tc := ⟨.hbm, 7356, rfl⟩
abbrev main_call234_v1 : Ref sig .tc := ⟨.hbm, 7357, rfl⟩
abbrev main_call234_v2 : Ref sig .tc := ⟨.hbm, 7358, rfl⟩
abbrev main_call234_v3 : Ref sig .tc := ⟨.hbm, 7359, rfl⟩
abbrev main_call234_v4 : Ref sig .tc := ⟨.hbm, 7360, rfl⟩
abbrev main_v3918 : Ref sig .tc := ⟨.hbm, 7361, rfl⟩
abbrev main_v3919 : Ref sig .tc := ⟨.hbm, 7362, rfl⟩
abbrev main_c_955 : Ref sig .tc := ⟨.hbm, 7363, rfl⟩
abbrev main_c_956 : Ref sig .tc := ⟨.hbm, 7364, rfl⟩
abbrev main_call235_v0 : Ref sig .tc := ⟨.hbm, 7365, rfl⟩
abbrev main_call235_v1 : Ref sig .tc := ⟨.hbm, 7366, rfl⟩
abbrev main_call235_v2 : Ref sig .tc := ⟨.hbm, 7367, rfl⟩
abbrev main_call235_v3 : Ref sig .tc := ⟨.hbm, 7368, rfl⟩
abbrev main_call235_v4 : Ref sig .tc := ⟨.hbm, 7369, rfl⟩
abbrev main_v3920 : Ref sig .tc := ⟨.hbm, 7370, rfl⟩
abbrev main_v3921 : Ref sig .tc := ⟨.hbm, 7371, rfl⟩
abbrev main_c_957 : Ref sig .tc := ⟨.hbm, 7372, rfl⟩
abbrev main_v3922 : Ref sig .tc := ⟨.hbm, 7373, rfl⟩
abbrev main_v3923 : Ref sig .tc := ⟨.hbm, 7374, rfl⟩
abbrev main_v3924 : Ref sig .tc := ⟨.hbm, 7375, rfl⟩
abbrev main_v3925 : Ref sig .tc := ⟨.hbm, 7376, rfl⟩
abbrev main_v3926 : Ref sig .tc := ⟨.hbm, 7377, rfl⟩
abbrev main_v3927 : Ref sig .tc := ⟨.hbm, 7378, rfl⟩
abbrev main_call236_c : Ref sig .tc := ⟨.hbm, 7379, rfl⟩
abbrev main_call236_v0 : Ref sig .tc := ⟨.hbm, 7380, rfl⟩
abbrev main_call236_v1 : Ref sig .tc := ⟨.hbm, 7381, rfl⟩
abbrev main_call236_c_0 : Ref sig .tc := ⟨.hbm, 7382, rfl⟩
abbrev main_call236_v2 : Ref sig .tc := ⟨.hbm, 7383, rfl⟩
abbrev main_call236_v3 : Ref sig .tc := ⟨.hbm, 7384, rfl⟩
abbrev main_call236_v4 : Ref sig .tc := ⟨.hbm, 7385, rfl⟩
abbrev main_call236_v5 : Ref sig .tc := ⟨.hbm, 7386, rfl⟩
abbrev main_call236_c_1 : Ref sig .tc := ⟨.hbm, 7387, rfl⟩
abbrev main_call236_c_2 : Ref sig .tc := ⟨.hbm, 7388, rfl⟩
abbrev main_call236_v6 : Ref sig .tc := ⟨.hbm, 7389, rfl⟩
abbrev main_call236_v7 : Ref sig .tc := ⟨.hbm, 7390, rfl⟩
abbrev main_call236_v8 : Ref sig .tc := ⟨.hbm, 7391, rfl⟩
abbrev main_call236_v9 : Ref sig .tc := ⟨.hbm, 7392, rfl⟩
abbrev main_call236_v10 : Ref sig .tc := ⟨.hbm, 7393, rfl⟩
abbrev main_call236_v11 : Ref sig .tc := ⟨.hbm, 7394, rfl⟩
abbrev main_call236_c_3 : Ref sig .tc := ⟨.hbm, 7395, rfl⟩
abbrev main_call236_v12 : Ref sig .tc := ⟨.hbm, 7396, rfl⟩
abbrev main_call236_v13 : Ref sig .tc := ⟨.hbm, 7397, rfl⟩
abbrev main_call236_cst : Ref sig .tc := ⟨.hbm, 7398, rfl⟩
abbrev main_call236_v14 : Ref sig .tc := ⟨.hbm, 7399, rfl⟩
abbrev main_v3928 : Ref sig .tc := ⟨.hbm, 7400, rfl⟩
abbrev main_v3929 : Ref sig .tc := ⟨.hbm, 7401, rfl⟩
abbrev main_v3930 : Ref sig .tc := ⟨.hbm, 7402, rfl⟩
abbrev main_v3931 : Ref sig .tc := ⟨.hbm, 7403, rfl⟩
abbrev main_v3932 : Ref sig .tc := ⟨.hbm, 7404, rfl⟩
abbrev main_v3933 : Ref sig .tc := ⟨.hbm, 7405, rfl⟩
abbrev main_v3934 : Ref sig .tc := ⟨.hbm, 7406, rfl⟩
abbrev main_v3935 : Ref sig .tc := ⟨.hbm, 7407, rfl⟩
abbrev main_v3936 : Ref sig .tc := ⟨.hbm, 7408, rfl⟩
abbrev main_v3937 : Ref sig .tc := ⟨.hbm, 7409, rfl⟩
abbrev main_cst_958 : Ref sig .tc := ⟨.hbm, 7410, rfl⟩
abbrev main_v3938 : Ref sig .tc := ⟨.hbm, 7411, rfl⟩
abbrev main_v3939 : Ref sig .tc := ⟨.hbm, 7412, rfl⟩
abbrev main_cst_959 : Ref sig .tc := ⟨.hbm, 7413, rfl⟩
abbrev main_v3940 : Ref sig .tc := ⟨.hbm, 7414, rfl⟩
abbrev main_v3941 : Ref sig .tc := ⟨.hbm, 7415, rfl⟩
abbrev main_v3942 : Ref sig .tc := ⟨.hbm, 7416, rfl⟩
abbrev main_cst_960 : Ref sig .tc := ⟨.hbm, 7417, rfl⟩
abbrev main_v3943 : Ref sig .tc := ⟨.hbm, 7418, rfl⟩
abbrev main_v3944 : Ref sig .tc := ⟨.hbm, 7419, rfl⟩
abbrev main_v3945 : Ref sig .tc := ⟨.hbm, 7420, rfl⟩
abbrev main_cst_961 : Ref sig .tc := ⟨.hbm, 7421, rfl⟩
abbrev main_v3946 : Ref sig .tc := ⟨.hbm, 7422, rfl⟩
abbrev main_v3947 : Ref sig .tc := ⟨.hbm, 7423, rfl⟩
abbrev main_v3948 : Ref sig .tc := ⟨.hbm, 7424, rfl⟩
abbrev main_c_962 : Ref sig .tc := ⟨.hbm, 7425, rfl⟩
abbrev main_c_963 : Ref sig .tc := ⟨.hbm, 7426, rfl⟩
abbrev main_call237_v0 : Ref sig .tc := ⟨.hbm, 7427, rfl⟩
abbrev main_call237_v1 : Ref sig .tc := ⟨.hbm, 7428, rfl⟩
abbrev main_call237_v2 : Ref sig .tc := ⟨.hbm, 7429, rfl⟩
abbrev main_call237_v3 : Ref sig .tc := ⟨.hbm, 7430, rfl⟩
abbrev main_call237_v4 : Ref sig .tc := ⟨.hbm, 7431, rfl⟩
abbrev main_v3949 : Ref sig .tc := ⟨.hbm, 7432, rfl⟩
abbrev main_v3950 : Ref sig .tc := ⟨.hbm, 7433, rfl⟩
abbrev main_c_964 : Ref sig .tc := ⟨.hbm, 7434, rfl⟩
abbrev main_c_965 : Ref sig .tc := ⟨.hbm, 7435, rfl⟩
abbrev main_call238_v0 : Ref sig .tc := ⟨.hbm, 7436, rfl⟩
abbrev main_call238_v1 : Ref sig .tc := ⟨.hbm, 7437, rfl⟩
abbrev main_call238_v2 : Ref sig .tc := ⟨.hbm, 7438, rfl⟩
abbrev main_call238_v3 : Ref sig .tc := ⟨.hbm, 7439, rfl⟩
abbrev main_call238_v4 : Ref sig .tc := ⟨.hbm, 7440, rfl⟩
abbrev main_v3951 : Ref sig .tc := ⟨.hbm, 7441, rfl⟩
abbrev main_v3952 : Ref sig .tc := ⟨.hbm, 7442, rfl⟩
abbrev main_c_966 : Ref sig .tc := ⟨.hbm, 7443, rfl⟩
abbrev main_v3953 : Ref sig .tc := ⟨.hbm, 7444, rfl⟩
abbrev main_v3954 : Ref sig .tc := ⟨.hbm, 7445, rfl⟩
abbrev main_v3955 : Ref sig .tc := ⟨.hbm, 7446, rfl⟩
abbrev main_v3956 : Ref sig .tc := ⟨.hbm, 7447, rfl⟩
abbrev main_v3957 : Ref sig .tc := ⟨.hbm, 7448, rfl⟩
abbrev main_v3958 : Ref sig .tc := ⟨.hbm, 7449, rfl⟩
abbrev main_call239_c : Ref sig .tc := ⟨.hbm, 7450, rfl⟩
abbrev main_call239_v0 : Ref sig .tc := ⟨.hbm, 7451, rfl⟩
abbrev main_call239_v1 : Ref sig .tc := ⟨.hbm, 7452, rfl⟩
abbrev main_call239_c_0 : Ref sig .tc := ⟨.hbm, 7453, rfl⟩
abbrev main_call239_v2 : Ref sig .tc := ⟨.hbm, 7454, rfl⟩
abbrev main_call239_v3 : Ref sig .tc := ⟨.hbm, 7455, rfl⟩
abbrev main_call239_v4 : Ref sig .tc := ⟨.hbm, 7456, rfl⟩
abbrev main_call239_v5 : Ref sig .tc := ⟨.hbm, 7457, rfl⟩
abbrev main_call239_c_1 : Ref sig .tc := ⟨.hbm, 7458, rfl⟩
abbrev main_call239_c_2 : Ref sig .tc := ⟨.hbm, 7459, rfl⟩
abbrev main_call239_v6 : Ref sig .tc := ⟨.hbm, 7460, rfl⟩
abbrev main_call239_v7 : Ref sig .tc := ⟨.hbm, 7461, rfl⟩
abbrev main_call239_v8 : Ref sig .tc := ⟨.hbm, 7462, rfl⟩
abbrev main_call239_v9 : Ref sig .tc := ⟨.hbm, 7463, rfl⟩
abbrev main_call239_v10 : Ref sig .tc := ⟨.hbm, 7464, rfl⟩
abbrev main_call239_v11 : Ref sig .tc := ⟨.hbm, 7465, rfl⟩
abbrev main_call239_c_3 : Ref sig .tc := ⟨.hbm, 7466, rfl⟩
abbrev main_call239_v12 : Ref sig .tc := ⟨.hbm, 7467, rfl⟩
abbrev main_call239_v13 : Ref sig .tc := ⟨.hbm, 7468, rfl⟩
abbrev main_call239_cst : Ref sig .tc := ⟨.hbm, 7469, rfl⟩
abbrev main_call239_v14 : Ref sig .tc := ⟨.hbm, 7470, rfl⟩
abbrev main_v3959 : Ref sig .tc := ⟨.hbm, 7471, rfl⟩
abbrev main_v3960 : Ref sig .tc := ⟨.hbm, 7472, rfl⟩
abbrev main_v3961 : Ref sig .tc := ⟨.hbm, 7473, rfl⟩
abbrev main_v3962 : Ref sig .tc := ⟨.hbm, 7474, rfl⟩
abbrev main_v3963 : Ref sig .tc := ⟨.hbm, 7475, rfl⟩
abbrev main_v3964 : Ref sig .tc := ⟨.hbm, 7476, rfl⟩
abbrev main_v3965 : Ref sig .tc := ⟨.hbm, 7477, rfl⟩
abbrev main_v3966 : Ref sig .tc := ⟨.hbm, 7478, rfl⟩
abbrev main_v3967 : Ref sig .tc := ⟨.hbm, 7479, rfl⟩
abbrev main_v3968 : Ref sig .tc := ⟨.hbm, 7480, rfl⟩
abbrev main_v3969 : Ref sig .tc := ⟨.hbm, 7481, rfl⟩
abbrev main_v3970 : Ref sig .tc := ⟨.hbm, 7482, rfl⟩
abbrev main_v3971 : Ref sig .tc := ⟨.hbm, 7483, rfl⟩
abbrev main_v3972 : Ref sig .tc := ⟨.hbm, 7484, rfl⟩
abbrev main_v3973 : Ref sig .tc := ⟨.hbm, 7485, rfl⟩
abbrev main_v3974 : Ref sig .tc := ⟨.hbm, 7486, rfl⟩
abbrev main_v3975 : Ref sig .tc := ⟨.hbm, 7487, rfl⟩
abbrev main_v3976 : Ref sig .tc := ⟨.hbm, 7488, rfl⟩
abbrev main_v3977 : Ref sig .tc := ⟨.hbm, 7489, rfl⟩
abbrev main_cst_967 : Ref sig .tc := ⟨.hbm, 7490, rfl⟩
abbrev main_v3978 : Ref sig .tc := ⟨.hbm, 7491, rfl⟩
abbrev main_v3979 : Ref sig .tc := ⟨.hbm, 7492, rfl⟩
abbrev main_cst_968 : Ref sig .tc := ⟨.hbm, 7493, rfl⟩
abbrev main_v3980 : Ref sig .tc := ⟨.hbm, 7494, rfl⟩
abbrev main_v3981 : Ref sig .tc := ⟨.hbm, 7495, rfl⟩
abbrev main_cst_969 : Ref sig .tc := ⟨.hbm, 7496, rfl⟩
abbrev main_v3982 : Ref sig .tc := ⟨.hbm, 7497, rfl⟩
abbrev main_v3983 : Ref sig .tc := ⟨.hbm, 7498, rfl⟩
abbrev main_cst_970 : Ref sig .tc := ⟨.hbm, 7499, rfl⟩
abbrev main_v3984 : Ref sig .tc := ⟨.hbm, 7500, rfl⟩
abbrev main_v3985 : Ref sig .tc := ⟨.hbm, 7501, rfl⟩
abbrev main_v3986 : Ref sig .tc := ⟨.hbm, 7502, rfl⟩
abbrev main_v3987 : Ref sig .tc := ⟨.hbm, 7503, rfl⟩
abbrev main_cst_971 : Ref sig .tc := ⟨.hbm, 7504, rfl⟩
abbrev main_v3988 : Ref sig .tc := ⟨.hbm, 7505, rfl⟩
abbrev main_v3989 : Ref sig .tc := ⟨.hbm, 7506, rfl⟩
abbrev main_cst_972 : Ref sig .tc := ⟨.hbm, 7507, rfl⟩
abbrev main_v3990 : Ref sig .tc := ⟨.hbm, 7508, rfl⟩
abbrev main_v3991 : Ref sig .tc := ⟨.hbm, 7509, rfl⟩
abbrev main_cst_973 : Ref sig .tc := ⟨.hbm, 7510, rfl⟩
abbrev main_v3992 : Ref sig .tc := ⟨.hbm, 7511, rfl⟩
abbrev main_v3993 : Ref sig .tc := ⟨.hbm, 7512, rfl⟩
abbrev main_cst_974 : Ref sig .tc := ⟨.hbm, 7513, rfl⟩
abbrev main_v3994 : Ref sig .tc := ⟨.hbm, 7514, rfl⟩
abbrev main_v3995 : Ref sig .tc := ⟨.hbm, 7515, rfl⟩
abbrev main_v3996 : Ref sig .tc := ⟨.hbm, 7516, rfl⟩
abbrev main_v3997 : Ref sig .tc := ⟨.hbm, 7517, rfl⟩
abbrev main_cst_975 : Ref sig .tc := ⟨.hbm, 7518, rfl⟩
abbrev main_v3998 : Ref sig .tc := ⟨.hbm, 7519, rfl⟩
abbrev main_v3999 : Ref sig .tc := ⟨.hbm, 7520, rfl⟩
abbrev main_cst_976 : Ref sig .tc := ⟨.hbm, 7521, rfl⟩
abbrev main_v4000 : Ref sig .tc := ⟨.hbm, 7522, rfl⟩
abbrev main_v4001 : Ref sig .tc := ⟨.hbm, 7523, rfl⟩
abbrev main_v4002 : Ref sig .tc := ⟨.hbm, 7524, rfl⟩
abbrev main_v4003 : Ref sig .tc := ⟨.hbm, 7525, rfl⟩
abbrev main_v4004 : Ref sig .tc := ⟨.hbm, 7526, rfl⟩
abbrev main_v4005 : Ref sig .tc := ⟨.hbm, 7527, rfl⟩
abbrev main_v4006 : Ref sig .tc := ⟨.hbm, 7528, rfl⟩
abbrev main_v4007 : Ref sig .tc := ⟨.hbm, 7529, rfl⟩
abbrev main_v4008 : Ref sig .tc := ⟨.hbm, 7530, rfl⟩
abbrev main_v4009 : Ref sig .tc := ⟨.hbm, 7531, rfl⟩
abbrev main_v4010 : Ref sig .tc := ⟨.hbm, 7532, rfl⟩
abbrev main_v4011 : Ref sig .tc := ⟨.hbm, 7533, rfl⟩
abbrev main_v4012 : Ref sig .tc := ⟨.hbm, 7534, rfl⟩
abbrev main_v4013 : Ref sig .tc := ⟨.hbm, 7535, rfl⟩
abbrev main_v4014 : Ref sig .tc := ⟨.hbm, 7536, rfl⟩
abbrev main_cst_977 : Ref sig .tc := ⟨.hbm, 7537, rfl⟩
abbrev main_v4015 : Ref sig .tc := ⟨.hbm, 7538, rfl⟩
abbrev main_v4016 : Ref sig .tc := ⟨.hbm, 7539, rfl⟩
abbrev main_cst_978 : Ref sig .tc := ⟨.hbm, 7540, rfl⟩
abbrev main_v4017 : Ref sig .tc := ⟨.hbm, 7541, rfl⟩
abbrev main_v4018 : Ref sig .tc := ⟨.hbm, 7542, rfl⟩
abbrev main_v4019 : Ref sig .tc := ⟨.hbm, 7543, rfl⟩
abbrev main_cst_979 : Ref sig .tc := ⟨.hbm, 7544, rfl⟩
abbrev main_v4020 : Ref sig .tc := ⟨.hbm, 7545, rfl⟩
abbrev main_v4021 : Ref sig .tc := ⟨.hbm, 7546, rfl⟩
abbrev main_v4022 : Ref sig .tc := ⟨.hbm, 7547, rfl⟩
abbrev main_cst_980 : Ref sig .tc := ⟨.hbm, 7548, rfl⟩
abbrev main_v4023 : Ref sig .tc := ⟨.hbm, 7549, rfl⟩
abbrev main_v4024 : Ref sig .tc := ⟨.hbm, 7550, rfl⟩
abbrev main_v4025 : Ref sig .tc := ⟨.hbm, 7551, rfl⟩
abbrev main_c_981 : Ref sig .tc := ⟨.hbm, 7552, rfl⟩
abbrev main_c_982 : Ref sig .tc := ⟨.hbm, 7553, rfl⟩
abbrev main_call240_v0 : Ref sig .tc := ⟨.hbm, 7554, rfl⟩
abbrev main_call240_v1 : Ref sig .tc := ⟨.hbm, 7555, rfl⟩
abbrev main_call240_v2 : Ref sig .tc := ⟨.hbm, 7556, rfl⟩
abbrev main_call240_v3 : Ref sig .tc := ⟨.hbm, 7557, rfl⟩
abbrev main_call240_v4 : Ref sig .tc := ⟨.hbm, 7558, rfl⟩
abbrev main_v4026 : Ref sig .tc := ⟨.hbm, 7559, rfl⟩
abbrev main_v4027 : Ref sig .tc := ⟨.hbm, 7560, rfl⟩
abbrev main_c_983 : Ref sig .tc := ⟨.hbm, 7561, rfl⟩
abbrev main_c_984 : Ref sig .tc := ⟨.hbm, 7562, rfl⟩
abbrev main_call241_v0 : Ref sig .tc := ⟨.hbm, 7563, rfl⟩
abbrev main_call241_v1 : Ref sig .tc := ⟨.hbm, 7564, rfl⟩
abbrev main_call241_v2 : Ref sig .tc := ⟨.hbm, 7565, rfl⟩
abbrev main_call241_v3 : Ref sig .tc := ⟨.hbm, 7566, rfl⟩
abbrev main_call241_v4 : Ref sig .tc := ⟨.hbm, 7567, rfl⟩
abbrev main_v4028 : Ref sig .tc := ⟨.hbm, 7568, rfl⟩
abbrev main_v4029 : Ref sig .tc := ⟨.hbm, 7569, rfl⟩
abbrev main_c_985 : Ref sig .tc := ⟨.hbm, 7570, rfl⟩
abbrev main_v4030 : Ref sig .tc := ⟨.hbm, 7571, rfl⟩
abbrev main_v4031 : Ref sig .tc := ⟨.hbm, 7572, rfl⟩
abbrev main_v4032 : Ref sig .tc := ⟨.hbm, 7573, rfl⟩
abbrev main_v4033 : Ref sig .tc := ⟨.hbm, 7574, rfl⟩
abbrev main_v4034 : Ref sig .tc := ⟨.hbm, 7575, rfl⟩
abbrev main_v4035 : Ref sig .tc := ⟨.hbm, 7576, rfl⟩
abbrev main_call242_c : Ref sig .tc := ⟨.hbm, 7577, rfl⟩
abbrev main_call242_v0 : Ref sig .tc := ⟨.hbm, 7578, rfl⟩
abbrev main_call242_v1 : Ref sig .tc := ⟨.hbm, 7579, rfl⟩
abbrev main_call242_c_0 : Ref sig .tc := ⟨.hbm, 7580, rfl⟩
abbrev main_call242_v2 : Ref sig .tc := ⟨.hbm, 7581, rfl⟩
abbrev main_call242_v3 : Ref sig .tc := ⟨.hbm, 7582, rfl⟩
abbrev main_call242_v4 : Ref sig .tc := ⟨.hbm, 7583, rfl⟩
abbrev main_call242_v5 : Ref sig .tc := ⟨.hbm, 7584, rfl⟩
abbrev main_call242_c_1 : Ref sig .tc := ⟨.hbm, 7585, rfl⟩
abbrev main_call242_c_2 : Ref sig .tc := ⟨.hbm, 7586, rfl⟩
abbrev main_call242_v6 : Ref sig .tc := ⟨.hbm, 7587, rfl⟩
abbrev main_call242_v7 : Ref sig .tc := ⟨.hbm, 7588, rfl⟩
abbrev main_call242_v8 : Ref sig .tc := ⟨.hbm, 7589, rfl⟩
abbrev main_call242_v9 : Ref sig .tc := ⟨.hbm, 7590, rfl⟩
abbrev main_call242_v10 : Ref sig .tc := ⟨.hbm, 7591, rfl⟩
abbrev main_call242_v11 : Ref sig .tc := ⟨.hbm, 7592, rfl⟩
abbrev main_call242_c_3 : Ref sig .tc := ⟨.hbm, 7593, rfl⟩
abbrev main_call242_v12 : Ref sig .tc := ⟨.hbm, 7594, rfl⟩
abbrev main_call242_v13 : Ref sig .tc := ⟨.hbm, 7595, rfl⟩
abbrev main_call242_cst : Ref sig .tc := ⟨.hbm, 7596, rfl⟩
abbrev main_call242_v14 : Ref sig .tc := ⟨.hbm, 7597, rfl⟩
abbrev main_v4036 : Ref sig .tc := ⟨.hbm, 7598, rfl⟩
abbrev main_v4037 : Ref sig .tc := ⟨.hbm, 7599, rfl⟩
abbrev main_v4038 : Ref sig .tc := ⟨.hbm, 7600, rfl⟩
abbrev main_v4039 : Ref sig .tc := ⟨.hbm, 7601, rfl⟩
abbrev main_v4040 : Ref sig .tc := ⟨.hbm, 7602, rfl⟩
abbrev main_v4041 : Ref sig .tc := ⟨.hbm, 7603, rfl⟩
abbrev main_v4042 : Ref sig .tc := ⟨.hbm, 7604, rfl⟩
abbrev main_v4043 : Ref sig .tc := ⟨.hbm, 7605, rfl⟩
abbrev main_v4044 : Ref sig .tc := ⟨.hbm, 7606, rfl⟩
abbrev main_cst_986 : Ref sig .tc := ⟨.hbm, 7607, rfl⟩
abbrev main_v4045 : Ref sig .tc := ⟨.hbm, 7608, rfl⟩
abbrev main_v4046 : Ref sig .tc := ⟨.hbm, 7609, rfl⟩
abbrev main_cst_987 : Ref sig .tc := ⟨.hbm, 7610, rfl⟩
abbrev main_v4047 : Ref sig .tc := ⟨.hbm, 7611, rfl⟩
abbrev main_v4048 : Ref sig .tc := ⟨.hbm, 7612, rfl⟩
abbrev main_v4049 : Ref sig .tc := ⟨.hbm, 7613, rfl⟩
abbrev main_cst_988 : Ref sig .tc := ⟨.hbm, 7614, rfl⟩
abbrev main_v4050 : Ref sig .tc := ⟨.hbm, 7615, rfl⟩
abbrev main_v4051 : Ref sig .tc := ⟨.hbm, 7616, rfl⟩
abbrev main_v4052 : Ref sig .tc := ⟨.hbm, 7617, rfl⟩
abbrev main_cst_989 : Ref sig .tc := ⟨.hbm, 7618, rfl⟩
abbrev main_v4053 : Ref sig .tc := ⟨.hbm, 7619, rfl⟩
abbrev main_v4054 : Ref sig .tc := ⟨.hbm, 7620, rfl⟩
abbrev main_v4055 : Ref sig .tc := ⟨.hbm, 7621, rfl⟩
abbrev main_c_990 : Ref sig .tc := ⟨.hbm, 7622, rfl⟩
abbrev main_c_991 : Ref sig .tc := ⟨.hbm, 7623, rfl⟩
abbrev main_call243_v0 : Ref sig .tc := ⟨.hbm, 7624, rfl⟩
abbrev main_call243_v1 : Ref sig .tc := ⟨.hbm, 7625, rfl⟩
abbrev main_call243_v2 : Ref sig .tc := ⟨.hbm, 7626, rfl⟩
abbrev main_call243_v3 : Ref sig .tc := ⟨.hbm, 7627, rfl⟩
abbrev main_call243_v4 : Ref sig .tc := ⟨.hbm, 7628, rfl⟩
abbrev main_v4056 : Ref sig .tc := ⟨.hbm, 7629, rfl⟩
abbrev main_v4057 : Ref sig .tc := ⟨.hbm, 7630, rfl⟩
abbrev main_c_992 : Ref sig .tc := ⟨.hbm, 7631, rfl⟩
abbrev main_c_993 : Ref sig .tc := ⟨.hbm, 7632, rfl⟩
abbrev main_call244_v0 : Ref sig .tc := ⟨.hbm, 7633, rfl⟩
abbrev main_call244_v1 : Ref sig .tc := ⟨.hbm, 7634, rfl⟩
abbrev main_call244_v2 : Ref sig .tc := ⟨.hbm, 7635, rfl⟩
abbrev main_call244_v3 : Ref sig .tc := ⟨.hbm, 7636, rfl⟩
abbrev main_call244_v4 : Ref sig .tc := ⟨.hbm, 7637, rfl⟩
abbrev main_v4058 : Ref sig .tc := ⟨.hbm, 7638, rfl⟩
abbrev main_v4059 : Ref sig .tc := ⟨.hbm, 7639, rfl⟩
abbrev main_c_994 : Ref sig .tc := ⟨.hbm, 7640, rfl⟩
abbrev main_v4060 : Ref sig .tc := ⟨.hbm, 7641, rfl⟩
abbrev main_v4061 : Ref sig .tc := ⟨.hbm, 7642, rfl⟩
abbrev main_v4062 : Ref sig .tc := ⟨.hbm, 7643, rfl⟩
abbrev main_v4063 : Ref sig .tc := ⟨.hbm, 7644, rfl⟩
abbrev main_v4064 : Ref sig .tc := ⟨.hbm, 7645, rfl⟩
abbrev main_v4065 : Ref sig .tc := ⟨.hbm, 7646, rfl⟩
abbrev main_call245_c : Ref sig .tc := ⟨.hbm, 7647, rfl⟩
abbrev main_call245_v0 : Ref sig .tc := ⟨.hbm, 7648, rfl⟩
abbrev main_call245_v1 : Ref sig .tc := ⟨.hbm, 7649, rfl⟩
abbrev main_call245_c_0 : Ref sig .tc := ⟨.hbm, 7650, rfl⟩
abbrev main_call245_v2 : Ref sig .tc := ⟨.hbm, 7651, rfl⟩
abbrev main_call245_v3 : Ref sig .tc := ⟨.hbm, 7652, rfl⟩
abbrev main_call245_v4 : Ref sig .tc := ⟨.hbm, 7653, rfl⟩
abbrev main_call245_v5 : Ref sig .tc := ⟨.hbm, 7654, rfl⟩
abbrev main_call245_c_1 : Ref sig .tc := ⟨.hbm, 7655, rfl⟩
abbrev main_call245_c_2 : Ref sig .tc := ⟨.hbm, 7656, rfl⟩
abbrev main_call245_v6 : Ref sig .tc := ⟨.hbm, 7657, rfl⟩
abbrev main_call245_v7 : Ref sig .tc := ⟨.hbm, 7658, rfl⟩
abbrev main_call245_v8 : Ref sig .tc := ⟨.hbm, 7659, rfl⟩
abbrev main_call245_v9 : Ref sig .tc := ⟨.hbm, 7660, rfl⟩
abbrev main_call245_v10 : Ref sig .tc := ⟨.hbm, 7661, rfl⟩
abbrev main_call245_v11 : Ref sig .tc := ⟨.hbm, 7662, rfl⟩
abbrev main_call245_c_3 : Ref sig .tc := ⟨.hbm, 7663, rfl⟩
abbrev main_call245_v12 : Ref sig .tc := ⟨.hbm, 7664, rfl⟩
abbrev main_call245_v13 : Ref sig .tc := ⟨.hbm, 7665, rfl⟩
abbrev main_call245_cst : Ref sig .tc := ⟨.hbm, 7666, rfl⟩
abbrev main_call245_v14 : Ref sig .tc := ⟨.hbm, 7667, rfl⟩
abbrev main_v4066 : Ref sig .tc := ⟨.hbm, 7668, rfl⟩
abbrev main_v4067 : Ref sig .tc := ⟨.hbm, 7669, rfl⟩
abbrev main_v4068 : Ref sig .tc := ⟨.hbm, 7670, rfl⟩
abbrev main_v4069 : Ref sig .tc := ⟨.hbm, 7671, rfl⟩
abbrev main_v4070 : Ref sig .tc := ⟨.hbm, 7672, rfl⟩
abbrev main_v4071 : Ref sig .tc := ⟨.hbm, 7673, rfl⟩
abbrev main_v4072 : Ref sig .tc := ⟨.hbm, 7674, rfl⟩
abbrev main_v4073 : Ref sig .tc := ⟨.hbm, 7675, rfl⟩
abbrev main_v4074 : Ref sig .tc := ⟨.hbm, 7676, rfl⟩
abbrev main_v4075 : Ref sig .tc := ⟨.hbm, 7677, rfl⟩
abbrev main_cst_995 : Ref sig .tc := ⟨.hbm, 7678, rfl⟩
abbrev main_v4076 : Ref sig .tc := ⟨.hbm, 7679, rfl⟩
abbrev main_v4077 : Ref sig .tc := ⟨.hbm, 7680, rfl⟩
abbrev main_cst_996 : Ref sig .tc := ⟨.hbm, 7681, rfl⟩
abbrev main_v4078 : Ref sig .tc := ⟨.hbm, 7682, rfl⟩
abbrev main_v4079 : Ref sig .tc := ⟨.hbm, 7683, rfl⟩
abbrev main_v4080 : Ref sig .tc := ⟨.hbm, 7684, rfl⟩
abbrev main_cst_997 : Ref sig .tc := ⟨.hbm, 7685, rfl⟩
abbrev main_v4081 : Ref sig .tc := ⟨.hbm, 7686, rfl⟩
abbrev main_v4082 : Ref sig .tc := ⟨.hbm, 7687, rfl⟩
abbrev main_v4083 : Ref sig .tc := ⟨.hbm, 7688, rfl⟩
abbrev main_cst_998 : Ref sig .tc := ⟨.hbm, 7689, rfl⟩
abbrev main_v4084 : Ref sig .tc := ⟨.hbm, 7690, rfl⟩
abbrev main_v4085 : Ref sig .tc := ⟨.hbm, 7691, rfl⟩
abbrev main_v4086 : Ref sig .tc := ⟨.hbm, 7692, rfl⟩
abbrev main_c_999 : Ref sig .tc := ⟨.hbm, 7693, rfl⟩
abbrev main_c_1000 : Ref sig .tc := ⟨.hbm, 7694, rfl⟩
abbrev main_call246_v0 : Ref sig .tc := ⟨.hbm, 7695, rfl⟩
abbrev main_call246_v1 : Ref sig .tc := ⟨.hbm, 7696, rfl⟩
abbrev main_call246_v2 : Ref sig .tc := ⟨.hbm, 7697, rfl⟩
abbrev main_call246_v3 : Ref sig .tc := ⟨.hbm, 7698, rfl⟩
abbrev main_call246_v4 : Ref sig .tc := ⟨.hbm, 7699, rfl⟩
abbrev main_v4087 : Ref sig .tc := ⟨.hbm, 7700, rfl⟩
abbrev main_v4088 : Ref sig .tc := ⟨.hbm, 7701, rfl⟩
abbrev main_c_1001 : Ref sig .tc := ⟨.hbm, 7702, rfl⟩
abbrev main_c_1002 : Ref sig .tc := ⟨.hbm, 7703, rfl⟩
abbrev main_call247_v0 : Ref sig .tc := ⟨.hbm, 7704, rfl⟩
abbrev main_call247_v1 : Ref sig .tc := ⟨.hbm, 7705, rfl⟩
abbrev main_call247_v2 : Ref sig .tc := ⟨.hbm, 7706, rfl⟩
abbrev main_call247_v3 : Ref sig .tc := ⟨.hbm, 7707, rfl⟩
abbrev main_call247_v4 : Ref sig .tc := ⟨.hbm, 7708, rfl⟩
abbrev main_v4089 : Ref sig .tc := ⟨.hbm, 7709, rfl⟩
abbrev main_v4090 : Ref sig .tc := ⟨.hbm, 7710, rfl⟩
abbrev main_c_1003 : Ref sig .tc := ⟨.hbm, 7711, rfl⟩
abbrev main_v4091 : Ref sig .tc := ⟨.hbm, 7712, rfl⟩
abbrev main_v4092 : Ref sig .tc := ⟨.hbm, 7713, rfl⟩
abbrev main_v4093 : Ref sig .tc := ⟨.hbm, 7714, rfl⟩
abbrev main_v4094 : Ref sig .tc := ⟨.hbm, 7715, rfl⟩
abbrev main_v4095 : Ref sig .tc := ⟨.hbm, 7716, rfl⟩
abbrev main_v4096 : Ref sig .tc := ⟨.hbm, 7717, rfl⟩
abbrev main_call248_c : Ref sig .tc := ⟨.hbm, 7718, rfl⟩
abbrev main_call248_v0 : Ref sig .tc := ⟨.hbm, 7719, rfl⟩
abbrev main_call248_v1 : Ref sig .tc := ⟨.hbm, 7720, rfl⟩
abbrev main_call248_c_0 : Ref sig .tc := ⟨.hbm, 7721, rfl⟩
abbrev main_call248_v2 : Ref sig .tc := ⟨.hbm, 7722, rfl⟩
abbrev main_call248_v3 : Ref sig .tc := ⟨.hbm, 7723, rfl⟩
abbrev main_call248_v4 : Ref sig .tc := ⟨.hbm, 7724, rfl⟩
abbrev main_call248_v5 : Ref sig .tc := ⟨.hbm, 7725, rfl⟩
abbrev main_call248_c_1 : Ref sig .tc := ⟨.hbm, 7726, rfl⟩
abbrev main_call248_c_2 : Ref sig .tc := ⟨.hbm, 7727, rfl⟩
abbrev main_call248_v6 : Ref sig .tc := ⟨.hbm, 7728, rfl⟩
abbrev main_call248_v7 : Ref sig .tc := ⟨.hbm, 7729, rfl⟩
abbrev main_call248_v8 : Ref sig .tc := ⟨.hbm, 7730, rfl⟩
abbrev main_call248_v9 : Ref sig .tc := ⟨.hbm, 7731, rfl⟩
abbrev main_call248_v10 : Ref sig .tc := ⟨.hbm, 7732, rfl⟩
abbrev main_call248_v11 : Ref sig .tc := ⟨.hbm, 7733, rfl⟩
abbrev main_call248_c_3 : Ref sig .tc := ⟨.hbm, 7734, rfl⟩
abbrev main_call248_v12 : Ref sig .tc := ⟨.hbm, 7735, rfl⟩
abbrev main_call248_v13 : Ref sig .tc := ⟨.hbm, 7736, rfl⟩
abbrev main_call248_cst : Ref sig .tc := ⟨.hbm, 7737, rfl⟩
abbrev main_call248_v14 : Ref sig .tc := ⟨.hbm, 7738, rfl⟩
abbrev main_v4097 : Ref sig .tc := ⟨.hbm, 7739, rfl⟩
abbrev main_v4098 : Ref sig .tc := ⟨.hbm, 7740, rfl⟩
abbrev main_v4099 : Ref sig .tc := ⟨.hbm, 7741, rfl⟩
abbrev main_v4100 : Ref sig .tc := ⟨.hbm, 7742, rfl⟩
abbrev main_v4101 : Ref sig .tc := ⟨.hbm, 7743, rfl⟩
abbrev main_v4102 : Ref sig .tc := ⟨.hbm, 7744, rfl⟩
abbrev main_v4103 : Ref sig .tc := ⟨.hbm, 7745, rfl⟩
abbrev main_v4104 : Ref sig .tc := ⟨.hbm, 7746, rfl⟩
abbrev main_v4105 : Ref sig .tc := ⟨.hbm, 7747, rfl⟩
abbrev main_v4106 : Ref sig .tc := ⟨.hbm, 7748, rfl⟩
abbrev main_cst_1004 : Ref sig .tc := ⟨.hbm, 7749, rfl⟩
abbrev main_v4107 : Ref sig .tc := ⟨.hbm, 7750, rfl⟩
abbrev main_v4108 : Ref sig .tc := ⟨.hbm, 7751, rfl⟩
abbrev main_cst_1005 : Ref sig .tc := ⟨.hbm, 7752, rfl⟩
abbrev main_v4109 : Ref sig .tc := ⟨.hbm, 7753, rfl⟩
abbrev main_v4110 : Ref sig .tc := ⟨.hbm, 7754, rfl⟩
abbrev main_v4111 : Ref sig .tc := ⟨.hbm, 7755, rfl⟩
abbrev main_cst_1006 : Ref sig .tc := ⟨.hbm, 7756, rfl⟩
abbrev main_v4112 : Ref sig .tc := ⟨.hbm, 7757, rfl⟩
abbrev main_v4113 : Ref sig .tc := ⟨.hbm, 7758, rfl⟩
abbrev main_v4114 : Ref sig .tc := ⟨.hbm, 7759, rfl⟩
abbrev main_cst_1007 : Ref sig .tc := ⟨.hbm, 7760, rfl⟩
abbrev main_v4115 : Ref sig .tc := ⟨.hbm, 7761, rfl⟩
abbrev main_v4116 : Ref sig .tc := ⟨.hbm, 7762, rfl⟩
abbrev main_v4117 : Ref sig .tc := ⟨.hbm, 7763, rfl⟩
abbrev main_c_1008 : Ref sig .tc := ⟨.hbm, 7764, rfl⟩
abbrev main_c_1009 : Ref sig .tc := ⟨.hbm, 7765, rfl⟩
abbrev main_call249_v0 : Ref sig .tc := ⟨.hbm, 7766, rfl⟩
abbrev main_call249_v1 : Ref sig .tc := ⟨.hbm, 7767, rfl⟩
abbrev main_call249_v2 : Ref sig .tc := ⟨.hbm, 7768, rfl⟩
abbrev main_call249_v3 : Ref sig .tc := ⟨.hbm, 7769, rfl⟩
abbrev main_call249_v4 : Ref sig .tc := ⟨.hbm, 7770, rfl⟩
abbrev main_v4118 : Ref sig .tc := ⟨.hbm, 7771, rfl⟩
abbrev main_v4119 : Ref sig .tc := ⟨.hbm, 7772, rfl⟩
abbrev main_c_1010 : Ref sig .tc := ⟨.hbm, 7773, rfl⟩
abbrev main_c_1011 : Ref sig .tc := ⟨.hbm, 7774, rfl⟩
abbrev main_call250_v0 : Ref sig .tc := ⟨.hbm, 7775, rfl⟩
abbrev main_call250_v1 : Ref sig .tc := ⟨.hbm, 7776, rfl⟩
abbrev main_call250_v2 : Ref sig .tc := ⟨.hbm, 7777, rfl⟩
abbrev main_call250_v3 : Ref sig .tc := ⟨.hbm, 7778, rfl⟩
abbrev main_call250_v4 : Ref sig .tc := ⟨.hbm, 7779, rfl⟩
abbrev main_v4120 : Ref sig .tc := ⟨.hbm, 7780, rfl⟩
abbrev main_v4121 : Ref sig .tc := ⟨.hbm, 7781, rfl⟩
abbrev main_c_1012 : Ref sig .tc := ⟨.hbm, 7782, rfl⟩
abbrev main_v4122 : Ref sig .tc := ⟨.hbm, 7783, rfl⟩
abbrev main_v4123 : Ref sig .tc := ⟨.hbm, 7784, rfl⟩
abbrev main_v4124 : Ref sig .tc := ⟨.hbm, 7785, rfl⟩
abbrev main_v4125 : Ref sig .tc := ⟨.hbm, 7786, rfl⟩
abbrev main_v4126 : Ref sig .tc := ⟨.hbm, 7787, rfl⟩
abbrev main_v4127 : Ref sig .tc := ⟨.hbm, 7788, rfl⟩
abbrev main_call251_c : Ref sig .tc := ⟨.hbm, 7789, rfl⟩
abbrev main_call251_v0 : Ref sig .tc := ⟨.hbm, 7790, rfl⟩
abbrev main_call251_v1 : Ref sig .tc := ⟨.hbm, 7791, rfl⟩
abbrev main_call251_c_0 : Ref sig .tc := ⟨.hbm, 7792, rfl⟩
abbrev main_call251_v2 : Ref sig .tc := ⟨.hbm, 7793, rfl⟩
abbrev main_call251_v3 : Ref sig .tc := ⟨.hbm, 7794, rfl⟩
abbrev main_call251_v4 : Ref sig .tc := ⟨.hbm, 7795, rfl⟩
abbrev main_call251_v5 : Ref sig .tc := ⟨.hbm, 7796, rfl⟩
abbrev main_call251_c_1 : Ref sig .tc := ⟨.hbm, 7797, rfl⟩
abbrev main_call251_c_2 : Ref sig .tc := ⟨.hbm, 7798, rfl⟩
abbrev main_call251_v6 : Ref sig .tc := ⟨.hbm, 7799, rfl⟩
abbrev main_call251_v7 : Ref sig .tc := ⟨.hbm, 7800, rfl⟩
abbrev main_call251_v8 : Ref sig .tc := ⟨.hbm, 7801, rfl⟩
abbrev main_call251_v9 : Ref sig .tc := ⟨.hbm, 7802, rfl⟩
abbrev main_call251_v10 : Ref sig .tc := ⟨.hbm, 7803, rfl⟩
abbrev main_call251_v11 : Ref sig .tc := ⟨.hbm, 7804, rfl⟩
abbrev main_call251_c_3 : Ref sig .tc := ⟨.hbm, 7805, rfl⟩
abbrev main_call251_v12 : Ref sig .tc := ⟨.hbm, 7806, rfl⟩
abbrev main_call251_v13 : Ref sig .tc := ⟨.hbm, 7807, rfl⟩
abbrev main_call251_cst : Ref sig .tc := ⟨.hbm, 7808, rfl⟩
abbrev main_call251_v14 : Ref sig .tc := ⟨.hbm, 7809, rfl⟩
abbrev main_v4128 : Ref sig .tc := ⟨.hbm, 7810, rfl⟩
abbrev main_v4129 : Ref sig .tc := ⟨.hbm, 7811, rfl⟩
abbrev main_v4130 : Ref sig .tc := ⟨.hbm, 7812, rfl⟩
abbrev main_v4131 : Ref sig .tc := ⟨.hbm, 7813, rfl⟩
abbrev main_v4132 : Ref sig .tc := ⟨.hbm, 7814, rfl⟩
abbrev main_v4133 : Ref sig .tc := ⟨.hbm, 7815, rfl⟩
abbrev main_v4134 : Ref sig .tc := ⟨.hbm, 7816, rfl⟩
abbrev main_v4135 : Ref sig .tc := ⟨.hbm, 7817, rfl⟩
abbrev main_v4136 : Ref sig .tc := ⟨.hbm, 7818, rfl⟩
abbrev main_v4137 : Ref sig .tc := ⟨.hbm, 7819, rfl⟩
abbrev main_v4138 : Ref sig .tc := ⟨.hbm, 7820, rfl⟩
abbrev main_v4139 : Ref sig .tc := ⟨.hbm, 7821, rfl⟩
abbrev main_v4140 : Ref sig .tc := ⟨.hbm, 7822, rfl⟩
abbrev main_v4141 : Ref sig .tc := ⟨.hbm, 7823, rfl⟩
abbrev main_v4142 : Ref sig .tc := ⟨.hbm, 7824, rfl⟩
abbrev main_v4143 : Ref sig .tc := ⟨.hbm, 7825, rfl⟩
abbrev main_v4144 : Ref sig .tc := ⟨.hbm, 7826, rfl⟩
abbrev main_v4145 : Ref sig .tc := ⟨.hbm, 7827, rfl⟩
abbrev main_v4146 : Ref sig .tc := ⟨.hbm, 7828, rfl⟩
abbrev main_v4147 : Ref sig .tc := ⟨.hbm, 7829, rfl⟩
abbrev main_cst_1013 : Ref sig .tc := ⟨.hbm, 7830, rfl⟩
abbrev main_v4148 : Ref sig .tc := ⟨.hbm, 7831, rfl⟩
abbrev main_v4149 : Ref sig .tc := ⟨.hbm, 7832, rfl⟩
abbrev main_v4150 : Ref sig .tc := ⟨.hbm, 7833, rfl⟩
abbrev main_v4151 : Ref sig .tc := ⟨.hbm, 7834, rfl⟩
abbrev main_v4152 : Ref sig .tc := ⟨.hbm, 7835, rfl⟩
abbrev main_v4153 : Ref sig .tc := ⟨.hbm, 7836, rfl⟩
abbrev main_v4154 : Ref sig .tc := ⟨.hbm, 7837, rfl⟩
abbrev main_v4155 : Ref sig .tc := ⟨.hbm, 7838, rfl⟩
abbrev main_v4156 : Ref sig .tc := ⟨.hbm, 7839, rfl⟩
abbrev main_v4157 : Ref sig .tc := ⟨.hbm, 7840, rfl⟩
abbrev main_v4158 : Ref sig .tc := ⟨.hbm, 7841, rfl⟩
abbrev main_v4159 : Ref sig .tc := ⟨.hbm, 7842, rfl⟩
abbrev main_v4160 : Ref sig .tc := ⟨.hbm, 7843, rfl⟩
abbrev main_v4161 : Ref sig .tc := ⟨.hbm, 7844, rfl⟩
abbrev main_v4162 : Ref sig .tc := ⟨.hbm, 7845, rfl⟩
abbrev main_v4163 : Ref sig .tc := ⟨.hbm, 7846, rfl⟩
abbrev main_cst_1014 : Ref sig .tc := ⟨.hbm, 7847, rfl⟩
abbrev main_v4164 : Ref sig .tc := ⟨.hbm, 7848, rfl⟩
abbrev main_v4165 : Ref sig .tc := ⟨.hbm, 7849, rfl⟩
abbrev main_cst_1015 : Ref sig .tc := ⟨.hbm, 7850, rfl⟩
abbrev main_v4166 : Ref sig .tc := ⟨.hbm, 7851, rfl⟩
abbrev main_v4167 : Ref sig .tc := ⟨.hbm, 7852, rfl⟩
abbrev main_v4168 : Ref sig .tc := ⟨.hbm, 7853, rfl⟩
abbrev main_v4169 : Ref sig .tc := ⟨.hbm, 7854, rfl⟩
abbrev main_v4170 : Ref sig .tc := ⟨.hbm, 7855, rfl⟩
abbrev main_cst_1016 : Ref sig .tc := ⟨.hbm, 7856, rfl⟩
abbrev main_v4171 : Ref sig .tc := ⟨.hbm, 7857, rfl⟩
abbrev main_v4172 : Ref sig .tc := ⟨.hbm, 7858, rfl⟩
abbrev main_cst_1017 : Ref sig .tc := ⟨.hbm, 7859, rfl⟩
abbrev main_v4173 : Ref sig .tc := ⟨.hbm, 7860, rfl⟩
abbrev main_v4174 : Ref sig .tc := ⟨.hbm, 7861, rfl⟩
abbrev main_v4175 : Ref sig .tc := ⟨.hbm, 7862, rfl⟩
abbrev main_v4176 : Ref sig .tc := ⟨.hbm, 7863, rfl⟩
abbrev main_cst_1018 : Ref sig .tc := ⟨.hbm, 7864, rfl⟩
abbrev main_v4177 : Ref sig .tc := ⟨.hbm, 7865, rfl⟩
abbrev main_v4178 : Ref sig .tc := ⟨.hbm, 7866, rfl⟩
abbrev main_v4179 : Ref sig .tc := ⟨.hbm, 7867, rfl⟩
abbrev main_v4180 : Ref sig .tc := ⟨.hbm, 7868, rfl⟩
abbrev main_v4181 : Ref sig .tc := ⟨.hbm, 7869, rfl⟩
abbrev main_v4182 : Ref sig .tc := ⟨.hbm, 7870, rfl⟩
abbrev main_v4183 : Ref sig .tc := ⟨.hbm, 7871, rfl⟩
abbrev main_v4184 : Ref sig .tc := ⟨.hbm, 7872, rfl⟩
abbrev main_v4185 : Ref sig .tc := ⟨.hbm, 7873, rfl⟩
abbrev main_v4186 : Ref sig .tc := ⟨.hbm, 7874, rfl⟩
abbrev main_v4187 : Ref sig .tc := ⟨.hbm, 7875, rfl⟩
abbrev main_v4188 : Ref sig .tc := ⟨.hbm, 7876, rfl⟩
abbrev main_v4189 : Ref sig .tc := ⟨.hbm, 7877, rfl⟩
abbrev main_v4190 : Ref sig .tc := ⟨.hbm, 7878, rfl⟩
abbrev main_v4191 : Ref sig .tc := ⟨.hbm, 7879, rfl⟩
abbrev main_v4192 : Ref sig .tc := ⟨.hbm, 7880, rfl⟩
abbrev main_v4193 : Ref sig .tc := ⟨.hbm, 7881, rfl⟩
abbrev main_v4194 : Ref sig .tc := ⟨.hbm, 7882, rfl⟩
abbrev main_v4195 : Ref sig .tc := ⟨.hbm, 7883, rfl⟩
abbrev main_call252_cst : Ref sig .tc := ⟨.hbm, 7884, rfl⟩
abbrev main_call252_v0 : Ref sig .tc := ⟨.hbm, 7885, rfl⟩
abbrev main_v4196 : Ref sig .tc := ⟨.hbm, 7886, rfl⟩
abbrev main_v4197 : Ref sig .tc := ⟨.hbm, 7887, rfl⟩
abbrev main_v4198 : Ref sig .tc := ⟨.hbm, 7888, rfl⟩
abbrev main_v4199 : Ref sig .tc := ⟨.hbm, 7889, rfl⟩
abbrev main_v4200 : Ref sig .tc := ⟨.hbm, 7890, rfl⟩
abbrev main_v4201 : Ref sig .tc := ⟨.hbm, 7891, rfl⟩
abbrev main_v4202 : Ref sig .tc := ⟨.hbm, 7892, rfl⟩
abbrev main_v4203 : Ref sig .tc := ⟨.hbm, 7893, rfl⟩
abbrev main_v4204 : Ref sig .tc := ⟨.hbm, 7894, rfl⟩
abbrev main_v4205 : Ref sig .tc := ⟨.hbm, 7895, rfl⟩
abbrev main_v4206 : Ref sig .tc := ⟨.hbm, 7896, rfl⟩
abbrev main_v4207 : Ref sig .tc := ⟨.hbm, 7897, rfl⟩
abbrev main_v4208 : Ref sig .tc := ⟨.hbm, 7898, rfl⟩
abbrev main_v4209 : Ref sig .tc := ⟨.hbm, 7899, rfl⟩
abbrev main_cst_1019 : Ref sig .tc := ⟨.hbm, 7900, rfl⟩
abbrev main_v4210 : Ref sig .tc := ⟨.hbm, 7901, rfl⟩
abbrev main_v4211 : Ref sig .tc := ⟨.hbm, 7902, rfl⟩
abbrev main_cst_1020 : Ref sig .tc := ⟨.hbm, 7903, rfl⟩
abbrev main_v4212 : Ref sig .tc := ⟨.hbm, 7904, rfl⟩
abbrev main_v4213 : Ref sig .tc := ⟨.hbm, 7905, rfl⟩
abbrev main_v4214 : Ref sig .tc := ⟨.hbm, 7906, rfl⟩
abbrev main_v4215 : Ref sig .tc := ⟨.hbm, 7907, rfl⟩
abbrev main_v4216 : Ref sig .tc := ⟨.hbm, 7908, rfl⟩
abbrev main_cst_1021 : Ref sig .tc := ⟨.hbm, 7909, rfl⟩
abbrev main_v4217 : Ref sig .tc := ⟨.hbm, 7910, rfl⟩
abbrev main_v4218 : Ref sig .tc := ⟨.hbm, 7911, rfl⟩
abbrev main_cst_1022 : Ref sig .tc := ⟨.hbm, 7912, rfl⟩
abbrev main_v4219 : Ref sig .tc := ⟨.hbm, 7913, rfl⟩
abbrev main_v4220 : Ref sig .tc := ⟨.hbm, 7914, rfl⟩
abbrev main_v4221 : Ref sig .tc := ⟨.hbm, 7915, rfl⟩
abbrev main_v4222 : Ref sig .tc := ⟨.hbm, 7916, rfl⟩
abbrev main_cst_1023 : Ref sig .tc := ⟨.hbm, 7917, rfl⟩
abbrev main_v4223 : Ref sig .tc := ⟨.hbm, 7918, rfl⟩
abbrev main_v4224 : Ref sig .tc := ⟨.hbm, 7919, rfl⟩
abbrev main_v4225 : Ref sig .tc := ⟨.hbm, 7920, rfl⟩
abbrev main_v4226 : Ref sig .tc := ⟨.hbm, 7921, rfl⟩
abbrev main_v4227 : Ref sig .tc := ⟨.hbm, 7922, rfl⟩
abbrev main_v4228 : Ref sig .tc := ⟨.hbm, 7923, rfl⟩
abbrev main_v4229 : Ref sig .tc := ⟨.hbm, 7924, rfl⟩
abbrev main_v4230 : Ref sig .tc := ⟨.hbm, 7925, rfl⟩
abbrev main_v4231 : Ref sig .tc := ⟨.hbm, 7926, rfl⟩
abbrev main_v4232 : Ref sig .tc := ⟨.hbm, 7927, rfl⟩
abbrev main_v4233 : Ref sig .tc := ⟨.hbm, 7928, rfl⟩
abbrev main_v4234 : Ref sig .tc := ⟨.hbm, 7929, rfl⟩
abbrev main_v4235 : Ref sig .tc := ⟨.hbm, 7930, rfl⟩
abbrev main_v4236 : Ref sig .tc := ⟨.hbm, 7931, rfl⟩
abbrev main_v4237 : Ref sig .tc := ⟨.hbm, 7932, rfl⟩
abbrev main_v4238 : Ref sig .tc := ⟨.hbm, 7933, rfl⟩
abbrev main_v4239 : Ref sig .tc := ⟨.hbm, 7934, rfl⟩
abbrev main_v4240 : Ref sig .tc := ⟨.hbm, 7935, rfl⟩
abbrev main_v4241 : Ref sig .tc := ⟨.hbm, 7936, rfl⟩
abbrev main_v4242 : Ref sig .tc := ⟨.hbm, 7937, rfl⟩
abbrev main_v4243 : Ref sig .tc := ⟨.hbm, 7938, rfl⟩
abbrev main_v4244 : Ref sig .tc := ⟨.hbm, 7939, rfl⟩
abbrev main_v4245 : Ref sig .tc := ⟨.hbm, 7940, rfl⟩
abbrev main_v4246 : Ref sig .tc := ⟨.hbm, 7941, rfl⟩
abbrev main_v4247 : Ref sig .tc := ⟨.hbm, 7942, rfl⟩
abbrev main_v4248 : Ref sig .tc := ⟨.hbm, 7943, rfl⟩
abbrev main_v4249 : Ref sig .tc := ⟨.hbm, 7944, rfl⟩
abbrev main_v4250 : Ref sig .tc := ⟨.hbm, 7945, rfl⟩
abbrev main_v4251 : Ref sig .tc := ⟨.hbm, 7946, rfl⟩
abbrev main_v4252 : Ref sig .tc := ⟨.hbm, 7947, rfl⟩
abbrev main_v4253 : Ref sig .tc := ⟨.hbm, 7948, rfl⟩
abbrev main_v4254 : Ref sig .tc := ⟨.hbm, 7949, rfl⟩
abbrev main_v4255 : Ref sig .tc := ⟨.hbm, 7950, rfl⟩
abbrev main_v4256 : Ref sig .tc := ⟨.hbm, 7951, rfl⟩
abbrev main_v4257 : Ref sig .tc := ⟨.hbm, 7952, rfl⟩
abbrev main_v4258 : Ref sig .tc := ⟨.hbm, 7953, rfl⟩
abbrev main_v4259 : Ref sig .tc := ⟨.hbm, 7954, rfl⟩
abbrev main_v4260 : Ref sig .tc := ⟨.hbm, 7955, rfl⟩
abbrev main_v4261 : Ref sig .tc := ⟨.hbm, 7956, rfl⟩
abbrev main_cst_1024 : Ref sig .tc := ⟨.hbm, 7957, rfl⟩
abbrev main_v4262 : Ref sig .tc := ⟨.hbm, 7958, rfl⟩
abbrev main_cst_1025 : Ref sig .tc := ⟨.hbm, 7959, rfl⟩
abbrev main_v4263 : Ref sig .tc := ⟨.hbm, 7960, rfl⟩
abbrev main_v4264 : Ref sig .tc := ⟨.hbm, 7961, rfl⟩
abbrev main_v4265 : Ref sig .tc := ⟨.hbm, 7962, rfl⟩
abbrev main_v4266 : Ref sig .tc := ⟨.hbm, 7963, rfl⟩
abbrev main_v4267 : Ref sig .tc := ⟨.hbm, 7964, rfl⟩
abbrev main_v4268 : Ref sig .tc := ⟨.hbm, 7965, rfl⟩
abbrev main_cst_1026 : Ref sig .tc := ⟨.hbm, 7966, rfl⟩
abbrev main_v4269 : Ref sig .tc := ⟨.hbm, 7967, rfl⟩
abbrev main_v4270 : Ref sig .tc := ⟨.hbm, 7968, rfl⟩
abbrev main_v4271 : Ref sig .tc := ⟨.hbm, 7969, rfl⟩
abbrev main_v4272 : Ref sig .tc := ⟨.hbm, 7970, rfl⟩
abbrev main_v4273 : Ref sig .tc := ⟨.hbm, 7971, rfl⟩
abbrev main_v4274 : Ref sig .tc := ⟨.hbm, 7972, rfl⟩
abbrev main_v4275 : Ref sig .tc := ⟨.hbm, 7973, rfl⟩
abbrev main_v4276 : Ref sig .tc := ⟨.hbm, 7974, rfl⟩
abbrev main_v4277 : Ref sig .tc := ⟨.hbm, 7975, rfl⟩
abbrev main_v4278 : Ref sig .tc := ⟨.hbm, 7976, rfl⟩
abbrev main_v4279 : Ref sig .tc := ⟨.hbm, 7977, rfl⟩
abbrev main_cst_1027 : Ref sig .tc := ⟨.hbm, 7978, rfl⟩
abbrev main_v4280 : Ref sig .tc := ⟨.hbm, 7979, rfl⟩
abbrev main_v4281 : Ref sig .tc := ⟨.hbm, 7980, rfl⟩
abbrev main_cst_1028 : Ref sig .tc := ⟨.hbm, 7981, rfl⟩
abbrev main_v4282 : Ref sig .tc := ⟨.hbm, 7982, rfl⟩
abbrev main_v4283 : Ref sig .tc := ⟨.hbm, 7983, rfl⟩
abbrev main_v4284 : Ref sig .tc := ⟨.hbm, 7984, rfl⟩
abbrev main_v4285 : Ref sig .tc := ⟨.hbm, 7985, rfl⟩
abbrev main_v4286 : Ref sig .tc := ⟨.hbm, 7986, rfl⟩
abbrev main_v4287 : Ref sig .tc := ⟨.hbm, 7987, rfl⟩
abbrev main_v4288 : Ref sig .tc := ⟨.hbm, 7988, rfl⟩
abbrev main_v4289 : Ref sig .tc := ⟨.hbm, 7989, rfl⟩
abbrev main_v4290 : Ref sig .tc := ⟨.hbm, 7990, rfl⟩
abbrev main_v4291 : Ref sig .tc := ⟨.hbm, 7991, rfl⟩
abbrev main_v4292 : Ref sig .tc := ⟨.hbm, 7992, rfl⟩
abbrev main_cst_1029 : Ref sig .tc := ⟨.hbm, 7993, rfl⟩
abbrev main_v4293 : Ref sig .tc := ⟨.hbm, 7994, rfl⟩
abbrev main_v4294 : Ref sig .tc := ⟨.hbm, 7995, rfl⟩
abbrev main_cst_1030 : Ref sig .tc := ⟨.hbm, 7996, rfl⟩
abbrev main_v4295 : Ref sig .tc := ⟨.hbm, 7997, rfl⟩
abbrev main_v4296 : Ref sig .tc := ⟨.hbm, 7998, rfl⟩
abbrev main_cst_1031 : Ref sig .tc := ⟨.hbm, 7999, rfl⟩
abbrev main_v4297 : Ref sig .tc := ⟨.hbm, 8000, rfl⟩
abbrev main_v4298 : Ref sig .tc := ⟨.hbm, 8001, rfl⟩
abbrev main_cst_1032 : Ref sig .tc := ⟨.hbm, 8002, rfl⟩
abbrev main_v4299 : Ref sig .tc := ⟨.hbm, 8003, rfl⟩
abbrev main_v4300 : Ref sig .tc := ⟨.hbm, 8004, rfl⟩
abbrev main_v4301 : Ref sig .tc := ⟨.hbm, 8005, rfl⟩
abbrev main_v4302 : Ref sig .tc := ⟨.hbm, 8006, rfl⟩
abbrev main_cst_1033 : Ref sig .tc := ⟨.hbm, 8007, rfl⟩
abbrev main_v4303 : Ref sig .tc := ⟨.hbm, 8008, rfl⟩
abbrev main_v4304 : Ref sig .tc := ⟨.hbm, 8009, rfl⟩
abbrev main_cst_1034 : Ref sig .tc := ⟨.hbm, 8010, rfl⟩
abbrev main_v4305 : Ref sig .tc := ⟨.hbm, 8011, rfl⟩
abbrev main_v4306 : Ref sig .tc := ⟨.hbm, 8012, rfl⟩
abbrev main_cst_1035 : Ref sig .tc := ⟨.hbm, 8013, rfl⟩
abbrev main_v4307 : Ref sig .tc := ⟨.hbm, 8014, rfl⟩
abbrev main_v4308 : Ref sig .tc := ⟨.hbm, 8015, rfl⟩
abbrev main_cst_1036 : Ref sig .tc := ⟨.hbm, 8016, rfl⟩
abbrev main_v4309 : Ref sig .tc := ⟨.hbm, 8017, rfl⟩
abbrev main_v4310 : Ref sig .tc := ⟨.hbm, 8018, rfl⟩
abbrev main_v4311 : Ref sig .tc := ⟨.hbm, 8019, rfl⟩
abbrev main_v4312 : Ref sig .tc := ⟨.hbm, 8020, rfl⟩
abbrev main_cst_1037 : Ref sig .tc := ⟨.hbm, 8021, rfl⟩
abbrev main_v4313 : Ref sig .tc := ⟨.hbm, 8022, rfl⟩
abbrev main_v4314 : Ref sig .tc := ⟨.hbm, 8023, rfl⟩
abbrev main_cst_1038 : Ref sig .tc := ⟨.hbm, 8024, rfl⟩
abbrev main_v4315 : Ref sig .tc := ⟨.hbm, 8025, rfl⟩
abbrev main_v4316 : Ref sig .tc := ⟨.hbm, 8026, rfl⟩
abbrev main_v4317 : Ref sig .tc := ⟨.hbm, 8027, rfl⟩
abbrev main_v4318 : Ref sig .tc := ⟨.hbm, 8028, rfl⟩
abbrev main_v4319 : Ref sig .tc := ⟨.hbm, 8029, rfl⟩
abbrev main_v4320 : Ref sig .tc := ⟨.hbm, 8030, rfl⟩
abbrev main_v4321 : Ref sig .tc := ⟨.hbm, 8031, rfl⟩
abbrev main_v4322 : Ref sig .tc := ⟨.hbm, 8032, rfl⟩
abbrev main_v4323 : Ref sig .tc := ⟨.hbm, 8033, rfl⟩
abbrev main_v4324 : Ref sig .tc := ⟨.hbm, 8034, rfl⟩
abbrev main_v4325 : Ref sig .tc := ⟨.hbm, 8035, rfl⟩
abbrev main_v4326 : Ref sig .tc := ⟨.hbm, 8036, rfl⟩
abbrev main_v4327 : Ref sig .tc := ⟨.hbm, 8037, rfl⟩
abbrev main_v4328 : Ref sig .tc := ⟨.hbm, 8038, rfl⟩
abbrev main_v4329 : Ref sig .tc := ⟨.hbm, 8039, rfl⟩
abbrev main_cst_1039 : Ref sig .tc := ⟨.hbm, 8040, rfl⟩
abbrev main_v4330 : Ref sig .tc := ⟨.hbm, 8041, rfl⟩
abbrev main_v4331 : Ref sig .tc := ⟨.hbm, 8042, rfl⟩
abbrev main_cst_1040 : Ref sig .tc := ⟨.hbm, 8043, rfl⟩
abbrev main_v4332 : Ref sig .tc := ⟨.hbm, 8044, rfl⟩
abbrev main_v4333 : Ref sig .tc := ⟨.hbm, 8045, rfl⟩
abbrev main_v4334 : Ref sig .tc := ⟨.hbm, 8046, rfl⟩
abbrev main_cst_1041 : Ref sig .tc := ⟨.hbm, 8047, rfl⟩
abbrev main_v4335 : Ref sig .tc := ⟨.hbm, 8048, rfl⟩
abbrev main_v4336 : Ref sig .tc := ⟨.hbm, 8049, rfl⟩
abbrev main_v4337 : Ref sig .tc := ⟨.hbm, 8050, rfl⟩
abbrev main_cst_1042 : Ref sig .tc := ⟨.hbm, 8051, rfl⟩
abbrev main_v4338 : Ref sig .tc := ⟨.hbm, 8052, rfl⟩
abbrev main_v4339 : Ref sig .tc := ⟨.hbm, 8053, rfl⟩
abbrev main_v4340 : Ref sig .tc := ⟨.hbm, 8054, rfl⟩
abbrev main_c_1043 : Ref sig .tc := ⟨.hbm, 8055, rfl⟩
abbrev main_c_1044 : Ref sig .tc := ⟨.hbm, 8056, rfl⟩
abbrev main_call253_v0 : Ref sig .tc := ⟨.hbm, 8057, rfl⟩
abbrev main_call253_v1 : Ref sig .tc := ⟨.hbm, 8058, rfl⟩
abbrev main_call253_v2 : Ref sig .tc := ⟨.hbm, 8059, rfl⟩
abbrev main_call253_v3 : Ref sig .tc := ⟨.hbm, 8060, rfl⟩
abbrev main_call253_v4 : Ref sig .tc := ⟨.hbm, 8061, rfl⟩
abbrev main_v4341 : Ref sig .tc := ⟨.hbm, 8062, rfl⟩
abbrev main_v4342 : Ref sig .tc := ⟨.hbm, 8063, rfl⟩
abbrev main_c_1045 : Ref sig .tc := ⟨.hbm, 8064, rfl⟩
abbrev main_c_1046 : Ref sig .tc := ⟨.hbm, 8065, rfl⟩
abbrev main_call254_v0 : Ref sig .tc := ⟨.hbm, 8066, rfl⟩
abbrev main_call254_v1 : Ref sig .tc := ⟨.hbm, 8067, rfl⟩
abbrev main_call254_v2 : Ref sig .tc := ⟨.hbm, 8068, rfl⟩
abbrev main_call254_v3 : Ref sig .tc := ⟨.hbm, 8069, rfl⟩
abbrev main_call254_v4 : Ref sig .tc := ⟨.hbm, 8070, rfl⟩
abbrev main_v4343 : Ref sig .tc := ⟨.hbm, 8071, rfl⟩
abbrev main_v4344 : Ref sig .tc := ⟨.hbm, 8072, rfl⟩
abbrev main_c_1047 : Ref sig .tc := ⟨.hbm, 8073, rfl⟩
abbrev main_v4345 : Ref sig .tc := ⟨.hbm, 8074, rfl⟩
abbrev main_v4346 : Ref sig .tc := ⟨.hbm, 8075, rfl⟩
abbrev main_v4347 : Ref sig .tc := ⟨.hbm, 8076, rfl⟩
abbrev main_v4348 : Ref sig .tc := ⟨.hbm, 8077, rfl⟩
abbrev main_v4349 : Ref sig .tc := ⟨.hbm, 8078, rfl⟩
abbrev main_v4350 : Ref sig .tc := ⟨.hbm, 8079, rfl⟩
abbrev main_call255_c : Ref sig .tc := ⟨.hbm, 8080, rfl⟩
abbrev main_call255_v0 : Ref sig .tc := ⟨.hbm, 8081, rfl⟩
abbrev main_call255_v1 : Ref sig .tc := ⟨.hbm, 8082, rfl⟩
abbrev main_call255_c_0 : Ref sig .tc := ⟨.hbm, 8083, rfl⟩
abbrev main_call255_v2 : Ref sig .tc := ⟨.hbm, 8084, rfl⟩
abbrev main_call255_v3 : Ref sig .tc := ⟨.hbm, 8085, rfl⟩
abbrev main_call255_v4 : Ref sig .tc := ⟨.hbm, 8086, rfl⟩
abbrev main_call255_v5 : Ref sig .tc := ⟨.hbm, 8087, rfl⟩
abbrev main_call255_c_1 : Ref sig .tc := ⟨.hbm, 8088, rfl⟩
abbrev main_call255_c_2 : Ref sig .tc := ⟨.hbm, 8089, rfl⟩
abbrev main_call255_v6 : Ref sig .tc := ⟨.hbm, 8090, rfl⟩
abbrev main_call255_v7 : Ref sig .tc := ⟨.hbm, 8091, rfl⟩
abbrev main_call255_v8 : Ref sig .tc := ⟨.hbm, 8092, rfl⟩
abbrev main_call255_v9 : Ref sig .tc := ⟨.hbm, 8093, rfl⟩
abbrev main_call255_v10 : Ref sig .tc := ⟨.hbm, 8094, rfl⟩
abbrev main_call255_v11 : Ref sig .tc := ⟨.hbm, 8095, rfl⟩
abbrev main_call255_c_3 : Ref sig .tc := ⟨.hbm, 8096, rfl⟩
abbrev main_call255_v12 : Ref sig .tc := ⟨.hbm, 8097, rfl⟩
abbrev main_call255_v13 : Ref sig .tc := ⟨.hbm, 8098, rfl⟩
abbrev main_call255_cst : Ref sig .tc := ⟨.hbm, 8099, rfl⟩
abbrev main_call255_v14 : Ref sig .tc := ⟨.hbm, 8100, rfl⟩
abbrev main_v4351 : Ref sig .tc := ⟨.hbm, 8101, rfl⟩
abbrev main_v4352 : Ref sig .tc := ⟨.hbm, 8102, rfl⟩
abbrev main_v4353 : Ref sig .tc := ⟨.hbm, 8103, rfl⟩
abbrev main_v4354 : Ref sig .tc := ⟨.hbm, 8104, rfl⟩
abbrev main_v4355 : Ref sig .tc := ⟨.hbm, 8105, rfl⟩
abbrev main_v4356 : Ref sig .tc := ⟨.hbm, 8106, rfl⟩
abbrev main_v4357 : Ref sig .tc := ⟨.hbm, 8107, rfl⟩
abbrev main_v4358 : Ref sig .tc := ⟨.hbm, 8108, rfl⟩
abbrev main_v4359 : Ref sig .tc := ⟨.hbm, 8109, rfl⟩
abbrev main_cst_1048 : Ref sig .tc := ⟨.hbm, 8110, rfl⟩
abbrev main_v4360 : Ref sig .tc := ⟨.hbm, 8111, rfl⟩
abbrev main_v4361 : Ref sig .tc := ⟨.hbm, 8112, rfl⟩
abbrev main_cst_1049 : Ref sig .tc := ⟨.hbm, 8113, rfl⟩
abbrev main_v4362 : Ref sig .tc := ⟨.hbm, 8114, rfl⟩
abbrev main_v4363 : Ref sig .tc := ⟨.hbm, 8115, rfl⟩
abbrev main_v4364 : Ref sig .tc := ⟨.hbm, 8116, rfl⟩
abbrev main_cst_1050 : Ref sig .tc := ⟨.hbm, 8117, rfl⟩
abbrev main_v4365 : Ref sig .tc := ⟨.hbm, 8118, rfl⟩
abbrev main_v4366 : Ref sig .tc := ⟨.hbm, 8119, rfl⟩
abbrev main_v4367 : Ref sig .tc := ⟨.hbm, 8120, rfl⟩
abbrev main_cst_1051 : Ref sig .tc := ⟨.hbm, 8121, rfl⟩
abbrev main_v4368 : Ref sig .tc := ⟨.hbm, 8122, rfl⟩
abbrev main_v4369 : Ref sig .tc := ⟨.hbm, 8123, rfl⟩
abbrev main_v4370 : Ref sig .tc := ⟨.hbm, 8124, rfl⟩
abbrev main_c_1052 : Ref sig .tc := ⟨.hbm, 8125, rfl⟩
abbrev main_c_1053 : Ref sig .tc := ⟨.hbm, 8126, rfl⟩
abbrev main_call256_v0 : Ref sig .tc := ⟨.hbm, 8127, rfl⟩
abbrev main_call256_v1 : Ref sig .tc := ⟨.hbm, 8128, rfl⟩
abbrev main_call256_v2 : Ref sig .tc := ⟨.hbm, 8129, rfl⟩
abbrev main_call256_v3 : Ref sig .tc := ⟨.hbm, 8130, rfl⟩
abbrev main_call256_v4 : Ref sig .tc := ⟨.hbm, 8131, rfl⟩
abbrev main_v4371 : Ref sig .tc := ⟨.hbm, 8132, rfl⟩
abbrev main_v4372 : Ref sig .tc := ⟨.hbm, 8133, rfl⟩
abbrev main_c_1054 : Ref sig .tc := ⟨.hbm, 8134, rfl⟩
abbrev main_c_1055 : Ref sig .tc := ⟨.hbm, 8135, rfl⟩
abbrev main_call257_v0 : Ref sig .tc := ⟨.hbm, 8136, rfl⟩
abbrev main_call257_v1 : Ref sig .tc := ⟨.hbm, 8137, rfl⟩
abbrev main_call257_v2 : Ref sig .tc := ⟨.hbm, 8138, rfl⟩
abbrev main_call257_v3 : Ref sig .tc := ⟨.hbm, 8139, rfl⟩
abbrev main_call257_v4 : Ref sig .tc := ⟨.hbm, 8140, rfl⟩
abbrev main_v4373 : Ref sig .tc := ⟨.hbm, 8141, rfl⟩
abbrev main_v4374 : Ref sig .tc := ⟨.hbm, 8142, rfl⟩
abbrev main_c_1056 : Ref sig .tc := ⟨.hbm, 8143, rfl⟩
abbrev main_v4375 : Ref sig .tc := ⟨.hbm, 8144, rfl⟩
abbrev main_v4376 : Ref sig .tc := ⟨.hbm, 8145, rfl⟩
abbrev main_v4377 : Ref sig .tc := ⟨.hbm, 8146, rfl⟩
abbrev main_v4378 : Ref sig .tc := ⟨.hbm, 8147, rfl⟩
abbrev main_v4379 : Ref sig .tc := ⟨.hbm, 8148, rfl⟩
abbrev main_v4380 : Ref sig .tc := ⟨.hbm, 8149, rfl⟩
abbrev main_call258_c : Ref sig .tc := ⟨.hbm, 8150, rfl⟩
abbrev main_call258_v0 : Ref sig .tc := ⟨.hbm, 8151, rfl⟩
abbrev main_call258_v1 : Ref sig .tc := ⟨.hbm, 8152, rfl⟩
abbrev main_call258_c_0 : Ref sig .tc := ⟨.hbm, 8153, rfl⟩
abbrev main_call258_v2 : Ref sig .tc := ⟨.hbm, 8154, rfl⟩
abbrev main_call258_v3 : Ref sig .tc := ⟨.hbm, 8155, rfl⟩
abbrev main_call258_v4 : Ref sig .tc := ⟨.hbm, 8156, rfl⟩
abbrev main_call258_v5 : Ref sig .tc := ⟨.hbm, 8157, rfl⟩
abbrev main_call258_c_1 : Ref sig .tc := ⟨.hbm, 8158, rfl⟩
abbrev main_call258_c_2 : Ref sig .tc := ⟨.hbm, 8159, rfl⟩
abbrev main_call258_v6 : Ref sig .tc := ⟨.hbm, 8160, rfl⟩
abbrev main_call258_v7 : Ref sig .tc := ⟨.hbm, 8161, rfl⟩
abbrev main_call258_v8 : Ref sig .tc := ⟨.hbm, 8162, rfl⟩
abbrev main_call258_v9 : Ref sig .tc := ⟨.hbm, 8163, rfl⟩
abbrev main_call258_v10 : Ref sig .tc := ⟨.hbm, 8164, rfl⟩
abbrev main_call258_v11 : Ref sig .tc := ⟨.hbm, 8165, rfl⟩
abbrev main_call258_c_3 : Ref sig .tc := ⟨.hbm, 8166, rfl⟩
abbrev main_call258_v12 : Ref sig .tc := ⟨.hbm, 8167, rfl⟩
abbrev main_call258_v13 : Ref sig .tc := ⟨.hbm, 8168, rfl⟩
abbrev main_call258_cst : Ref sig .tc := ⟨.hbm, 8169, rfl⟩
abbrev main_call258_v14 : Ref sig .tc := ⟨.hbm, 8170, rfl⟩
abbrev main_v4381 : Ref sig .tc := ⟨.hbm, 8171, rfl⟩
abbrev main_v4382 : Ref sig .tc := ⟨.hbm, 8172, rfl⟩
abbrev main_v4383 : Ref sig .tc := ⟨.hbm, 8173, rfl⟩
abbrev main_v4384 : Ref sig .tc := ⟨.hbm, 8174, rfl⟩
abbrev main_v4385 : Ref sig .tc := ⟨.hbm, 8175, rfl⟩
abbrev main_v4386 : Ref sig .tc := ⟨.hbm, 8176, rfl⟩
abbrev main_v4387 : Ref sig .tc := ⟨.hbm, 8177, rfl⟩
abbrev main_v4388 : Ref sig .tc := ⟨.hbm, 8178, rfl⟩
abbrev main_v4389 : Ref sig .tc := ⟨.hbm, 8179, rfl⟩
abbrev main_v4390 : Ref sig .tc := ⟨.hbm, 8180, rfl⟩
abbrev main_cst_1057 : Ref sig .tc := ⟨.hbm, 8181, rfl⟩
abbrev main_v4391 : Ref sig .tc := ⟨.hbm, 8182, rfl⟩
abbrev main_v4392 : Ref sig .tc := ⟨.hbm, 8183, rfl⟩
abbrev main_cst_1058 : Ref sig .tc := ⟨.hbm, 8184, rfl⟩
abbrev main_v4393 : Ref sig .tc := ⟨.hbm, 8185, rfl⟩
abbrev main_v4394 : Ref sig .tc := ⟨.hbm, 8186, rfl⟩
abbrev main_v4395 : Ref sig .tc := ⟨.hbm, 8187, rfl⟩
abbrev main_cst_1059 : Ref sig .tc := ⟨.hbm, 8188, rfl⟩
abbrev main_v4396 : Ref sig .tc := ⟨.hbm, 8189, rfl⟩
abbrev main_v4397 : Ref sig .tc := ⟨.hbm, 8190, rfl⟩
abbrev main_v4398 : Ref sig .tc := ⟨.hbm, 8191, rfl⟩
abbrev main_cst_1060 : Ref sig .tc := ⟨.hbm, 8192, rfl⟩
abbrev main_v4399 : Ref sig .tc := ⟨.hbm, 8193, rfl⟩
abbrev main_v4400 : Ref sig .tc := ⟨.hbm, 8194, rfl⟩
abbrev main_v4401 : Ref sig .tc := ⟨.hbm, 8195, rfl⟩
abbrev main_c_1061 : Ref sig .tc := ⟨.hbm, 8196, rfl⟩
abbrev main_c_1062 : Ref sig .tc := ⟨.hbm, 8197, rfl⟩
abbrev main_call259_v0 : Ref sig .tc := ⟨.hbm, 8198, rfl⟩
abbrev main_call259_v1 : Ref sig .tc := ⟨.hbm, 8199, rfl⟩
abbrev main_call259_v2 : Ref sig .tc := ⟨.hbm, 8200, rfl⟩
abbrev main_call259_v3 : Ref sig .tc := ⟨.hbm, 8201, rfl⟩
abbrev main_call259_v4 : Ref sig .tc := ⟨.hbm, 8202, rfl⟩
abbrev main_v4402 : Ref sig .tc := ⟨.hbm, 8203, rfl⟩
abbrev main_v4403 : Ref sig .tc := ⟨.hbm, 8204, rfl⟩
abbrev main_c_1063 : Ref sig .tc := ⟨.hbm, 8205, rfl⟩
abbrev main_c_1064 : Ref sig .tc := ⟨.hbm, 8206, rfl⟩
abbrev main_call260_v0 : Ref sig .tc := ⟨.hbm, 8207, rfl⟩
abbrev main_call260_v1 : Ref sig .tc := ⟨.hbm, 8208, rfl⟩
abbrev main_call260_v2 : Ref sig .tc := ⟨.hbm, 8209, rfl⟩
abbrev main_call260_v3 : Ref sig .tc := ⟨.hbm, 8210, rfl⟩
abbrev main_call260_v4 : Ref sig .tc := ⟨.hbm, 8211, rfl⟩
abbrev main_v4404 : Ref sig .tc := ⟨.hbm, 8212, rfl⟩
abbrev main_v4405 : Ref sig .tc := ⟨.hbm, 8213, rfl⟩
abbrev main_c_1065 : Ref sig .tc := ⟨.hbm, 8214, rfl⟩
abbrev main_v4406 : Ref sig .tc := ⟨.hbm, 8215, rfl⟩
abbrev main_v4407 : Ref sig .tc := ⟨.hbm, 8216, rfl⟩
abbrev main_v4408 : Ref sig .tc := ⟨.hbm, 8217, rfl⟩
abbrev main_v4409 : Ref sig .tc := ⟨.hbm, 8218, rfl⟩
abbrev main_v4410 : Ref sig .tc := ⟨.hbm, 8219, rfl⟩
abbrev main_v4411 : Ref sig .tc := ⟨.hbm, 8220, rfl⟩
abbrev main_call261_c : Ref sig .tc := ⟨.hbm, 8221, rfl⟩
abbrev main_call261_v0 : Ref sig .tc := ⟨.hbm, 8222, rfl⟩
abbrev main_call261_v1 : Ref sig .tc := ⟨.hbm, 8223, rfl⟩
abbrev main_call261_c_0 : Ref sig .tc := ⟨.hbm, 8224, rfl⟩
abbrev main_call261_v2 : Ref sig .tc := ⟨.hbm, 8225, rfl⟩
abbrev main_call261_v3 : Ref sig .tc := ⟨.hbm, 8226, rfl⟩
abbrev main_call261_v4 : Ref sig .tc := ⟨.hbm, 8227, rfl⟩
abbrev main_call261_v5 : Ref sig .tc := ⟨.hbm, 8228, rfl⟩
abbrev main_call261_c_1 : Ref sig .tc := ⟨.hbm, 8229, rfl⟩
abbrev main_call261_c_2 : Ref sig .tc := ⟨.hbm, 8230, rfl⟩
abbrev main_call261_v6 : Ref sig .tc := ⟨.hbm, 8231, rfl⟩
abbrev main_call261_v7 : Ref sig .tc := ⟨.hbm, 8232, rfl⟩
abbrev main_call261_v8 : Ref sig .tc := ⟨.hbm, 8233, rfl⟩
abbrev main_call261_v9 : Ref sig .tc := ⟨.hbm, 8234, rfl⟩
abbrev main_call261_v10 : Ref sig .tc := ⟨.hbm, 8235, rfl⟩
abbrev main_call261_v11 : Ref sig .tc := ⟨.hbm, 8236, rfl⟩
abbrev main_call261_c_3 : Ref sig .tc := ⟨.hbm, 8237, rfl⟩
abbrev main_call261_v12 : Ref sig .tc := ⟨.hbm, 8238, rfl⟩
abbrev main_call261_v13 : Ref sig .tc := ⟨.hbm, 8239, rfl⟩
abbrev main_call261_cst : Ref sig .tc := ⟨.hbm, 8240, rfl⟩
abbrev main_call261_v14 : Ref sig .tc := ⟨.hbm, 8241, rfl⟩
abbrev main_v4412 : Ref sig .tc := ⟨.hbm, 8242, rfl⟩
abbrev main_v4413 : Ref sig .tc := ⟨.hbm, 8243, rfl⟩
abbrev main_v4414 : Ref sig .tc := ⟨.hbm, 8244, rfl⟩
abbrev main_v4415 : Ref sig .tc := ⟨.hbm, 8245, rfl⟩
abbrev main_v4416 : Ref sig .tc := ⟨.hbm, 8246, rfl⟩
abbrev main_v4417 : Ref sig .tc := ⟨.hbm, 8247, rfl⟩
abbrev main_v4418 : Ref sig .tc := ⟨.hbm, 8248, rfl⟩
abbrev main_v4419 : Ref sig .tc := ⟨.hbm, 8249, rfl⟩
abbrev main_v4420 : Ref sig .tc := ⟨.hbm, 8250, rfl⟩
abbrev main_v4421 : Ref sig .tc := ⟨.hbm, 8251, rfl⟩
abbrev main_cst_1066 : Ref sig .tc := ⟨.hbm, 8252, rfl⟩
abbrev main_v4422 : Ref sig .tc := ⟨.hbm, 8253, rfl⟩
abbrev main_v4423 : Ref sig .tc := ⟨.hbm, 8254, rfl⟩
abbrev main_cst_1067 : Ref sig .tc := ⟨.hbm, 8255, rfl⟩
abbrev main_v4424 : Ref sig .tc := ⟨.hbm, 8256, rfl⟩
abbrev main_v4425 : Ref sig .tc := ⟨.hbm, 8257, rfl⟩
abbrev main_v4426 : Ref sig .tc := ⟨.hbm, 8258, rfl⟩
abbrev main_cst_1068 : Ref sig .tc := ⟨.hbm, 8259, rfl⟩
abbrev main_v4427 : Ref sig .tc := ⟨.hbm, 8260, rfl⟩
abbrev main_v4428 : Ref sig .tc := ⟨.hbm, 8261, rfl⟩
abbrev main_v4429 : Ref sig .tc := ⟨.hbm, 8262, rfl⟩
abbrev main_cst_1069 : Ref sig .tc := ⟨.hbm, 8263, rfl⟩
abbrev main_v4430 : Ref sig .tc := ⟨.hbm, 8264, rfl⟩
abbrev main_v4431 : Ref sig .tc := ⟨.hbm, 8265, rfl⟩
abbrev main_v4432 : Ref sig .tc := ⟨.hbm, 8266, rfl⟩
abbrev main_c_1070 : Ref sig .tc := ⟨.hbm, 8267, rfl⟩
abbrev main_c_1071 : Ref sig .tc := ⟨.hbm, 8268, rfl⟩
abbrev main_call262_v0 : Ref sig .tc := ⟨.hbm, 8269, rfl⟩
abbrev main_call262_v1 : Ref sig .tc := ⟨.hbm, 8270, rfl⟩
abbrev main_call262_v2 : Ref sig .tc := ⟨.hbm, 8271, rfl⟩
abbrev main_call262_v3 : Ref sig .tc := ⟨.hbm, 8272, rfl⟩
abbrev main_call262_v4 : Ref sig .tc := ⟨.hbm, 8273, rfl⟩
abbrev main_v4433 : Ref sig .tc := ⟨.hbm, 8274, rfl⟩
abbrev main_v4434 : Ref sig .tc := ⟨.hbm, 8275, rfl⟩
abbrev main_c_1072 : Ref sig .tc := ⟨.hbm, 8276, rfl⟩
abbrev main_c_1073 : Ref sig .tc := ⟨.hbm, 8277, rfl⟩
abbrev main_call263_v0 : Ref sig .tc := ⟨.hbm, 8278, rfl⟩
abbrev main_call263_v1 : Ref sig .tc := ⟨.hbm, 8279, rfl⟩
abbrev main_call263_v2 : Ref sig .tc := ⟨.hbm, 8280, rfl⟩
abbrev main_call263_v3 : Ref sig .tc := ⟨.hbm, 8281, rfl⟩
abbrev main_call263_v4 : Ref sig .tc := ⟨.hbm, 8282, rfl⟩
abbrev main_v4435 : Ref sig .tc := ⟨.hbm, 8283, rfl⟩
abbrev main_v4436 : Ref sig .tc := ⟨.hbm, 8284, rfl⟩
abbrev main_c_1074 : Ref sig .tc := ⟨.hbm, 8285, rfl⟩
abbrev main_v4437 : Ref sig .tc := ⟨.hbm, 8286, rfl⟩
abbrev main_v4438 : Ref sig .tc := ⟨.hbm, 8287, rfl⟩
abbrev main_v4439 : Ref sig .tc := ⟨.hbm, 8288, rfl⟩
abbrev main_v4440 : Ref sig .tc := ⟨.hbm, 8289, rfl⟩
abbrev main_v4441 : Ref sig .tc := ⟨.hbm, 8290, rfl⟩
abbrev main_v4442 : Ref sig .tc := ⟨.hbm, 8291, rfl⟩
abbrev main_call264_c : Ref sig .tc := ⟨.hbm, 8292, rfl⟩
abbrev main_call264_v0 : Ref sig .tc := ⟨.hbm, 8293, rfl⟩
abbrev main_call264_v1 : Ref sig .tc := ⟨.hbm, 8294, rfl⟩
abbrev main_call264_c_0 : Ref sig .tc := ⟨.hbm, 8295, rfl⟩
abbrev main_call264_v2 : Ref sig .tc := ⟨.hbm, 8296, rfl⟩
abbrev main_call264_v3 : Ref sig .tc := ⟨.hbm, 8297, rfl⟩
abbrev main_call264_v4 : Ref sig .tc := ⟨.hbm, 8298, rfl⟩
abbrev main_call264_v5 : Ref sig .tc := ⟨.hbm, 8299, rfl⟩
abbrev main_call264_c_1 : Ref sig .tc := ⟨.hbm, 8300, rfl⟩
abbrev main_call264_c_2 : Ref sig .tc := ⟨.hbm, 8301, rfl⟩
abbrev main_call264_v6 : Ref sig .tc := ⟨.hbm, 8302, rfl⟩
abbrev main_call264_v7 : Ref sig .tc := ⟨.hbm, 8303, rfl⟩
abbrev main_call264_v8 : Ref sig .tc := ⟨.hbm, 8304, rfl⟩
abbrev main_call264_v9 : Ref sig .tc := ⟨.hbm, 8305, rfl⟩
abbrev main_call264_v10 : Ref sig .tc := ⟨.hbm, 8306, rfl⟩
abbrev main_call264_v11 : Ref sig .tc := ⟨.hbm, 8307, rfl⟩
abbrev main_call264_c_3 : Ref sig .tc := ⟨.hbm, 8308, rfl⟩
abbrev main_call264_v12 : Ref sig .tc := ⟨.hbm, 8309, rfl⟩
abbrev main_call264_v13 : Ref sig .tc := ⟨.hbm, 8310, rfl⟩
abbrev main_call264_cst : Ref sig .tc := ⟨.hbm, 8311, rfl⟩
abbrev main_call264_v14 : Ref sig .tc := ⟨.hbm, 8312, rfl⟩
abbrev main_v4443 : Ref sig .tc := ⟨.hbm, 8313, rfl⟩
abbrev main_v4444 : Ref sig .tc := ⟨.hbm, 8314, rfl⟩
abbrev main_v4445 : Ref sig .tc := ⟨.hbm, 8315, rfl⟩
abbrev main_v4446 : Ref sig .tc := ⟨.hbm, 8316, rfl⟩
abbrev main_v4447 : Ref sig .tc := ⟨.hbm, 8317, rfl⟩
abbrev main_v4448 : Ref sig .tc := ⟨.hbm, 8318, rfl⟩
abbrev main_v4449 : Ref sig .tc := ⟨.hbm, 8319, rfl⟩
abbrev main_v4450 : Ref sig .tc := ⟨.hbm, 8320, rfl⟩
abbrev main_v4451 : Ref sig .tc := ⟨.hbm, 8321, rfl⟩
abbrev main_v4452 : Ref sig .tc := ⟨.hbm, 8322, rfl⟩
abbrev main_v4453 : Ref sig .tc := ⟨.hbm, 8323, rfl⟩
abbrev main_v4454 : Ref sig .tc := ⟨.hbm, 8324, rfl⟩
abbrev main_v4455 : Ref sig .tc := ⟨.hbm, 8325, rfl⟩
abbrev main_v4456 : Ref sig .tc := ⟨.hbm, 8326, rfl⟩
abbrev main_v4457 : Ref sig .tc := ⟨.hbm, 8327, rfl⟩
abbrev main_v4458 : Ref sig .tc := ⟨.hbm, 8328, rfl⟩
abbrev main_v4459 : Ref sig .tc := ⟨.hbm, 8329, rfl⟩
abbrev main_v4460 : Ref sig .tc := ⟨.hbm, 8330, rfl⟩
abbrev main_v4461 : Ref sig .tc := ⟨.hbm, 8331, rfl⟩
abbrev main_cst_1075 : Ref sig .tc := ⟨.hbm, 8332, rfl⟩
abbrev main_v4462 : Ref sig .tc := ⟨.hbm, 8333, rfl⟩
abbrev main_v4463 : Ref sig .tc := ⟨.hbm, 8334, rfl⟩
abbrev main_cst_1076 : Ref sig .tc := ⟨.hbm, 8335, rfl⟩
abbrev main_v4464 : Ref sig .tc := ⟨.hbm, 8336, rfl⟩
abbrev main_v4465 : Ref sig .tc := ⟨.hbm, 8337, rfl⟩
abbrev main_cst_1077 : Ref sig .tc := ⟨.hbm, 8338, rfl⟩
abbrev main_v4466 : Ref sig .tc := ⟨.hbm, 8339, rfl⟩
abbrev main_v4467 : Ref sig .tc := ⟨.hbm, 8340, rfl⟩
abbrev main_cst_1078 : Ref sig .tc := ⟨.hbm, 8341, rfl⟩
abbrev main_v4468 : Ref sig .tc := ⟨.hbm, 8342, rfl⟩
abbrev main_v4469 : Ref sig .tc := ⟨.hbm, 8343, rfl⟩
abbrev main_v4470 : Ref sig .tc := ⟨.hbm, 8344, rfl⟩
abbrev main_v4471 : Ref sig .tc := ⟨.hbm, 8345, rfl⟩
abbrev main_cst_1079 : Ref sig .tc := ⟨.hbm, 8346, rfl⟩
abbrev main_v4472 : Ref sig .tc := ⟨.hbm, 8347, rfl⟩
abbrev main_v4473 : Ref sig .tc := ⟨.hbm, 8348, rfl⟩
abbrev main_cst_1080 : Ref sig .tc := ⟨.hbm, 8349, rfl⟩
abbrev main_v4474 : Ref sig .tc := ⟨.hbm, 8350, rfl⟩
abbrev main_v4475 : Ref sig .tc := ⟨.hbm, 8351, rfl⟩
abbrev main_cst_1081 : Ref sig .tc := ⟨.hbm, 8352, rfl⟩
abbrev main_v4476 : Ref sig .tc := ⟨.hbm, 8353, rfl⟩
abbrev main_v4477 : Ref sig .tc := ⟨.hbm, 8354, rfl⟩
abbrev main_cst_1082 : Ref sig .tc := ⟨.hbm, 8355, rfl⟩
abbrev main_v4478 : Ref sig .tc := ⟨.hbm, 8356, rfl⟩
abbrev main_v4479 : Ref sig .tc := ⟨.hbm, 8357, rfl⟩
abbrev main_v4480 : Ref sig .tc := ⟨.hbm, 8358, rfl⟩
abbrev main_v4481 : Ref sig .tc := ⟨.hbm, 8359, rfl⟩
abbrev main_cst_1083 : Ref sig .tc := ⟨.hbm, 8360, rfl⟩
abbrev main_v4482 : Ref sig .tc := ⟨.hbm, 8361, rfl⟩
abbrev main_v4483 : Ref sig .tc := ⟨.hbm, 8362, rfl⟩
abbrev main_cst_1084 : Ref sig .tc := ⟨.hbm, 8363, rfl⟩
abbrev main_v4484 : Ref sig .tc := ⟨.hbm, 8364, rfl⟩
abbrev main_v4485 : Ref sig .tc := ⟨.hbm, 8365, rfl⟩
abbrev main_v4486 : Ref sig .tc := ⟨.hbm, 8366, rfl⟩
abbrev main_v4487 : Ref sig .tc := ⟨.hbm, 8367, rfl⟩
abbrev main_v4488 : Ref sig .tc := ⟨.hbm, 8368, rfl⟩
abbrev main_v4489 : Ref sig .tc := ⟨.hbm, 8369, rfl⟩
abbrev main_v4490 : Ref sig .tc := ⟨.hbm, 8370, rfl⟩
abbrev main_v4491 : Ref sig .tc := ⟨.hbm, 8371, rfl⟩
abbrev main_v4492 : Ref sig .tc := ⟨.hbm, 8372, rfl⟩
abbrev main_v4493 : Ref sig .tc := ⟨.hbm, 8373, rfl⟩
abbrev main_v4494 : Ref sig .tc := ⟨.hbm, 8374, rfl⟩
abbrev main_v4495 : Ref sig .tc := ⟨.hbm, 8375, rfl⟩
abbrev main_v4496 : Ref sig .tc := ⟨.hbm, 8376, rfl⟩
abbrev main_v4497 : Ref sig .tc := ⟨.hbm, 8377, rfl⟩
abbrev main_v4498 : Ref sig .tc := ⟨.hbm, 8378, rfl⟩
abbrev main_cst_1085 : Ref sig .tc := ⟨.hbm, 8379, rfl⟩
abbrev main_v4499 : Ref sig .tc := ⟨.hbm, 8380, rfl⟩
abbrev main_v4500 : Ref sig .tc := ⟨.hbm, 8381, rfl⟩
abbrev main_cst_1086 : Ref sig .tc := ⟨.hbm, 8382, rfl⟩
abbrev main_v4501 : Ref sig .tc := ⟨.hbm, 8383, rfl⟩
abbrev main_v4502 : Ref sig .tc := ⟨.hbm, 8384, rfl⟩
abbrev main_v4503 : Ref sig .tc := ⟨.hbm, 8385, rfl⟩
abbrev main_cst_1087 : Ref sig .tc := ⟨.hbm, 8386, rfl⟩
abbrev main_v4504 : Ref sig .tc := ⟨.hbm, 8387, rfl⟩
abbrev main_v4505 : Ref sig .tc := ⟨.hbm, 8388, rfl⟩
abbrev main_v4506 : Ref sig .tc := ⟨.hbm, 8389, rfl⟩
abbrev main_cst_1088 : Ref sig .tc := ⟨.hbm, 8390, rfl⟩
abbrev main_v4507 : Ref sig .tc := ⟨.hbm, 8391, rfl⟩
abbrev main_v4508 : Ref sig .tc := ⟨.hbm, 8392, rfl⟩
abbrev main_v4509 : Ref sig .tc := ⟨.hbm, 8393, rfl⟩
abbrev main_c_1089 : Ref sig .tc := ⟨.hbm, 8394, rfl⟩
abbrev main_c_1090 : Ref sig .tc := ⟨.hbm, 8395, rfl⟩
abbrev main_call265_v0 : Ref sig .tc := ⟨.hbm, 8396, rfl⟩
abbrev main_call265_v1 : Ref sig .tc := ⟨.hbm, 8397, rfl⟩
abbrev main_call265_v2 : Ref sig .tc := ⟨.hbm, 8398, rfl⟩
abbrev main_call265_v3 : Ref sig .tc := ⟨.hbm, 8399, rfl⟩
abbrev main_call265_v4 : Ref sig .tc := ⟨.hbm, 8400, rfl⟩
abbrev main_v4510 : Ref sig .tc := ⟨.hbm, 8401, rfl⟩
abbrev main_v4511 : Ref sig .tc := ⟨.hbm, 8402, rfl⟩
abbrev main_c_1091 : Ref sig .tc := ⟨.hbm, 8403, rfl⟩
abbrev main_c_1092 : Ref sig .tc := ⟨.hbm, 8404, rfl⟩
abbrev main_call266_v0 : Ref sig .tc := ⟨.hbm, 8405, rfl⟩
abbrev main_call266_v1 : Ref sig .tc := ⟨.hbm, 8406, rfl⟩
abbrev main_call266_v2 : Ref sig .tc := ⟨.hbm, 8407, rfl⟩
abbrev main_call266_v3 : Ref sig .tc := ⟨.hbm, 8408, rfl⟩
abbrev main_call266_v4 : Ref sig .tc := ⟨.hbm, 8409, rfl⟩
abbrev main_v4512 : Ref sig .tc := ⟨.hbm, 8410, rfl⟩
abbrev main_v4513 : Ref sig .tc := ⟨.hbm, 8411, rfl⟩
abbrev main_c_1093 : Ref sig .tc := ⟨.hbm, 8412, rfl⟩
abbrev main_v4514 : Ref sig .tc := ⟨.hbm, 8413, rfl⟩
abbrev main_v4515 : Ref sig .tc := ⟨.hbm, 8414, rfl⟩
abbrev main_v4516 : Ref sig .tc := ⟨.hbm, 8415, rfl⟩
abbrev main_v4517 : Ref sig .tc := ⟨.hbm, 8416, rfl⟩
abbrev main_v4518 : Ref sig .tc := ⟨.hbm, 8417, rfl⟩
abbrev main_v4519 : Ref sig .tc := ⟨.hbm, 8418, rfl⟩
abbrev main_call267_c : Ref sig .tc := ⟨.hbm, 8419, rfl⟩
abbrev main_call267_v0 : Ref sig .tc := ⟨.hbm, 8420, rfl⟩
abbrev main_call267_v1 : Ref sig .tc := ⟨.hbm, 8421, rfl⟩
abbrev main_call267_c_0 : Ref sig .tc := ⟨.hbm, 8422, rfl⟩
abbrev main_call267_v2 : Ref sig .tc := ⟨.hbm, 8423, rfl⟩
abbrev main_call267_v3 : Ref sig .tc := ⟨.hbm, 8424, rfl⟩
abbrev main_call267_v4 : Ref sig .tc := ⟨.hbm, 8425, rfl⟩
abbrev main_call267_v5 : Ref sig .tc := ⟨.hbm, 8426, rfl⟩
abbrev main_call267_c_1 : Ref sig .tc := ⟨.hbm, 8427, rfl⟩
abbrev main_call267_c_2 : Ref sig .tc := ⟨.hbm, 8428, rfl⟩
abbrev main_call267_v6 : Ref sig .tc := ⟨.hbm, 8429, rfl⟩
abbrev main_call267_v7 : Ref sig .tc := ⟨.hbm, 8430, rfl⟩
abbrev main_call267_v8 : Ref sig .tc := ⟨.hbm, 8431, rfl⟩
abbrev main_call267_v9 : Ref sig .tc := ⟨.hbm, 8432, rfl⟩
abbrev main_call267_v10 : Ref sig .tc := ⟨.hbm, 8433, rfl⟩
abbrev main_call267_v11 : Ref sig .tc := ⟨.hbm, 8434, rfl⟩
abbrev main_call267_c_3 : Ref sig .tc := ⟨.hbm, 8435, rfl⟩
abbrev main_call267_v12 : Ref sig .tc := ⟨.hbm, 8436, rfl⟩
abbrev main_call267_v13 : Ref sig .tc := ⟨.hbm, 8437, rfl⟩
abbrev main_call267_cst : Ref sig .tc := ⟨.hbm, 8438, rfl⟩
abbrev main_call267_v14 : Ref sig .tc := ⟨.hbm, 8439, rfl⟩
abbrev main_v4520 : Ref sig .tc := ⟨.hbm, 8440, rfl⟩
abbrev main_v4521 : Ref sig .tc := ⟨.hbm, 8441, rfl⟩
abbrev main_v4522 : Ref sig .tc := ⟨.hbm, 8442, rfl⟩
abbrev main_v4523 : Ref sig .tc := ⟨.hbm, 8443, rfl⟩
abbrev main_v4524 : Ref sig .tc := ⟨.hbm, 8444, rfl⟩
abbrev main_v4525 : Ref sig .tc := ⟨.hbm, 8445, rfl⟩
abbrev main_v4526 : Ref sig .tc := ⟨.hbm, 8446, rfl⟩
abbrev main_v4527 : Ref sig .tc := ⟨.hbm, 8447, rfl⟩
abbrev main_v4528 : Ref sig .tc := ⟨.hbm, 8448, rfl⟩
abbrev main_cst_1094 : Ref sig .tc := ⟨.hbm, 8449, rfl⟩
abbrev main_v4529 : Ref sig .tc := ⟨.hbm, 8450, rfl⟩
abbrev main_v4530 : Ref sig .tc := ⟨.hbm, 8451, rfl⟩
abbrev main_cst_1095 : Ref sig .tc := ⟨.hbm, 8452, rfl⟩
abbrev main_v4531 : Ref sig .tc := ⟨.hbm, 8453, rfl⟩
abbrev main_v4532 : Ref sig .tc := ⟨.hbm, 8454, rfl⟩
abbrev main_v4533 : Ref sig .tc := ⟨.hbm, 8455, rfl⟩
abbrev main_cst_1096 : Ref sig .tc := ⟨.hbm, 8456, rfl⟩
abbrev main_v4534 : Ref sig .tc := ⟨.hbm, 8457, rfl⟩
abbrev main_v4535 : Ref sig .tc := ⟨.hbm, 8458, rfl⟩
abbrev main_v4536 : Ref sig .tc := ⟨.hbm, 8459, rfl⟩
abbrev main_cst_1097 : Ref sig .tc := ⟨.hbm, 8460, rfl⟩
abbrev main_v4537 : Ref sig .tc := ⟨.hbm, 8461, rfl⟩
abbrev main_v4538 : Ref sig .tc := ⟨.hbm, 8462, rfl⟩
abbrev main_v4539 : Ref sig .tc := ⟨.hbm, 8463, rfl⟩
abbrev main_c_1098 : Ref sig .tc := ⟨.hbm, 8464, rfl⟩
abbrev main_c_1099 : Ref sig .tc := ⟨.hbm, 8465, rfl⟩
abbrev main_call268_v0 : Ref sig .tc := ⟨.hbm, 8466, rfl⟩
abbrev main_call268_v1 : Ref sig .tc := ⟨.hbm, 8467, rfl⟩
abbrev main_call268_v2 : Ref sig .tc := ⟨.hbm, 8468, rfl⟩
abbrev main_call268_v3 : Ref sig .tc := ⟨.hbm, 8469, rfl⟩
abbrev main_call268_v4 : Ref sig .tc := ⟨.hbm, 8470, rfl⟩
abbrev main_v4540 : Ref sig .tc := ⟨.hbm, 8471, rfl⟩
abbrev main_v4541 : Ref sig .tc := ⟨.hbm, 8472, rfl⟩
abbrev main_c_1100 : Ref sig .tc := ⟨.hbm, 8473, rfl⟩
abbrev main_c_1101 : Ref sig .tc := ⟨.hbm, 8474, rfl⟩
abbrev main_call269_v0 : Ref sig .tc := ⟨.hbm, 8475, rfl⟩
abbrev main_call269_v1 : Ref sig .tc := ⟨.hbm, 8476, rfl⟩
abbrev main_call269_v2 : Ref sig .tc := ⟨.hbm, 8477, rfl⟩
abbrev main_call269_v3 : Ref sig .tc := ⟨.hbm, 8478, rfl⟩
abbrev main_call269_v4 : Ref sig .tc := ⟨.hbm, 8479, rfl⟩
abbrev main_v4542 : Ref sig .tc := ⟨.hbm, 8480, rfl⟩
abbrev main_v4543 : Ref sig .tc := ⟨.hbm, 8481, rfl⟩
abbrev main_c_1102 : Ref sig .tc := ⟨.hbm, 8482, rfl⟩
abbrev main_v4544 : Ref sig .tc := ⟨.hbm, 8483, rfl⟩
abbrev main_v4545 : Ref sig .tc := ⟨.hbm, 8484, rfl⟩
abbrev main_v4546 : Ref sig .tc := ⟨.hbm, 8485, rfl⟩
abbrev main_v4547 : Ref sig .tc := ⟨.hbm, 8486, rfl⟩
abbrev main_v4548 : Ref sig .tc := ⟨.hbm, 8487, rfl⟩
abbrev main_v4549 : Ref sig .tc := ⟨.hbm, 8488, rfl⟩
abbrev main_call270_c : Ref sig .tc := ⟨.hbm, 8489, rfl⟩
abbrev main_call270_v0 : Ref sig .tc := ⟨.hbm, 8490, rfl⟩
abbrev main_call270_v1 : Ref sig .tc := ⟨.hbm, 8491, rfl⟩
abbrev main_call270_c_0 : Ref sig .tc := ⟨.hbm, 8492, rfl⟩
abbrev main_call270_v2 : Ref sig .tc := ⟨.hbm, 8493, rfl⟩
abbrev main_call270_v3 : Ref sig .tc := ⟨.hbm, 8494, rfl⟩
abbrev main_call270_v4 : Ref sig .tc := ⟨.hbm, 8495, rfl⟩
abbrev main_call270_v5 : Ref sig .tc := ⟨.hbm, 8496, rfl⟩
abbrev main_call270_c_1 : Ref sig .tc := ⟨.hbm, 8497, rfl⟩
abbrev main_call270_c_2 : Ref sig .tc := ⟨.hbm, 8498, rfl⟩
abbrev main_call270_v6 : Ref sig .tc := ⟨.hbm, 8499, rfl⟩
abbrev main_call270_v7 : Ref sig .tc := ⟨.hbm, 8500, rfl⟩
abbrev main_call270_v8 : Ref sig .tc := ⟨.hbm, 8501, rfl⟩
abbrev main_call270_v9 : Ref sig .tc := ⟨.hbm, 8502, rfl⟩
abbrev main_call270_v10 : Ref sig .tc := ⟨.hbm, 8503, rfl⟩
abbrev main_call270_v11 : Ref sig .tc := ⟨.hbm, 8504, rfl⟩
abbrev main_call270_c_3 : Ref sig .tc := ⟨.hbm, 8505, rfl⟩
abbrev main_call270_v12 : Ref sig .tc := ⟨.hbm, 8506, rfl⟩
abbrev main_call270_v13 : Ref sig .tc := ⟨.hbm, 8507, rfl⟩
abbrev main_call270_cst : Ref sig .tc := ⟨.hbm, 8508, rfl⟩
abbrev main_call270_v14 : Ref sig .tc := ⟨.hbm, 8509, rfl⟩
abbrev main_v4550 : Ref sig .tc := ⟨.hbm, 8510, rfl⟩
abbrev main_v4551 : Ref sig .tc := ⟨.hbm, 8511, rfl⟩
abbrev main_v4552 : Ref sig .tc := ⟨.hbm, 8512, rfl⟩
abbrev main_v4553 : Ref sig .tc := ⟨.hbm, 8513, rfl⟩
abbrev main_v4554 : Ref sig .tc := ⟨.hbm, 8514, rfl⟩
abbrev main_v4555 : Ref sig .tc := ⟨.hbm, 8515, rfl⟩
abbrev main_v4556 : Ref sig .tc := ⟨.hbm, 8516, rfl⟩
abbrev main_v4557 : Ref sig .tc := ⟨.hbm, 8517, rfl⟩
abbrev main_v4558 : Ref sig .tc := ⟨.hbm, 8518, rfl⟩
abbrev main_v4559 : Ref sig .tc := ⟨.hbm, 8519, rfl⟩
abbrev main_cst_1103 : Ref sig .tc := ⟨.hbm, 8520, rfl⟩
abbrev main_v4560 : Ref sig .tc := ⟨.hbm, 8521, rfl⟩
abbrev main_v4561 : Ref sig .tc := ⟨.hbm, 8522, rfl⟩
abbrev main_cst_1104 : Ref sig .tc := ⟨.hbm, 8523, rfl⟩
abbrev main_v4562 : Ref sig .tc := ⟨.hbm, 8524, rfl⟩
abbrev main_v4563 : Ref sig .tc := ⟨.hbm, 8525, rfl⟩
abbrev main_v4564 : Ref sig .tc := ⟨.hbm, 8526, rfl⟩
abbrev main_cst_1105 : Ref sig .tc := ⟨.hbm, 8527, rfl⟩
abbrev main_v4565 : Ref sig .tc := ⟨.hbm, 8528, rfl⟩
abbrev main_v4566 : Ref sig .tc := ⟨.hbm, 8529, rfl⟩
abbrev main_v4567 : Ref sig .tc := ⟨.hbm, 8530, rfl⟩
abbrev main_cst_1106 : Ref sig .tc := ⟨.hbm, 8531, rfl⟩
abbrev main_v4568 : Ref sig .tc := ⟨.hbm, 8532, rfl⟩
abbrev main_v4569 : Ref sig .tc := ⟨.hbm, 8533, rfl⟩
abbrev main_v4570 : Ref sig .tc := ⟨.hbm, 8534, rfl⟩
abbrev main_c_1107 : Ref sig .tc := ⟨.hbm, 8535, rfl⟩
abbrev main_c_1108 : Ref sig .tc := ⟨.hbm, 8536, rfl⟩
abbrev main_call271_v0 : Ref sig .tc := ⟨.hbm, 8537, rfl⟩
abbrev main_call271_v1 : Ref sig .tc := ⟨.hbm, 8538, rfl⟩
abbrev main_call271_v2 : Ref sig .tc := ⟨.hbm, 8539, rfl⟩
abbrev main_call271_v3 : Ref sig .tc := ⟨.hbm, 8540, rfl⟩
abbrev main_call271_v4 : Ref sig .tc := ⟨.hbm, 8541, rfl⟩
abbrev main_v4571 : Ref sig .tc := ⟨.hbm, 8542, rfl⟩
abbrev main_v4572 : Ref sig .tc := ⟨.hbm, 8543, rfl⟩
abbrev main_c_1109 : Ref sig .tc := ⟨.hbm, 8544, rfl⟩
abbrev main_c_1110 : Ref sig .tc := ⟨.hbm, 8545, rfl⟩
abbrev main_call272_v0 : Ref sig .tc := ⟨.hbm, 8546, rfl⟩
abbrev main_call272_v1 : Ref sig .tc := ⟨.hbm, 8547, rfl⟩
abbrev main_call272_v2 : Ref sig .tc := ⟨.hbm, 8548, rfl⟩
abbrev main_call272_v3 : Ref sig .tc := ⟨.hbm, 8549, rfl⟩
abbrev main_call272_v4 : Ref sig .tc := ⟨.hbm, 8550, rfl⟩
abbrev main_v4573 : Ref sig .tc := ⟨.hbm, 8551, rfl⟩
abbrev main_v4574 : Ref sig .tc := ⟨.hbm, 8552, rfl⟩
abbrev main_c_1111 : Ref sig .tc := ⟨.hbm, 8553, rfl⟩
abbrev main_v4575 : Ref sig .tc := ⟨.hbm, 8554, rfl⟩
abbrev main_v4576 : Ref sig .tc := ⟨.hbm, 8555, rfl⟩
abbrev main_v4577 : Ref sig .tc := ⟨.hbm, 8556, rfl⟩
abbrev main_v4578 : Ref sig .tc := ⟨.hbm, 8557, rfl⟩
abbrev main_v4579 : Ref sig .tc := ⟨.hbm, 8558, rfl⟩
abbrev main_v4580 : Ref sig .tc := ⟨.hbm, 8559, rfl⟩
abbrev main_call273_c : Ref sig .tc := ⟨.hbm, 8560, rfl⟩
abbrev main_call273_v0 : Ref sig .tc := ⟨.hbm, 8561, rfl⟩
abbrev main_call273_v1 : Ref sig .tc := ⟨.hbm, 8562, rfl⟩
abbrev main_call273_c_0 : Ref sig .tc := ⟨.hbm, 8563, rfl⟩
abbrev main_call273_v2 : Ref sig .tc := ⟨.hbm, 8564, rfl⟩
abbrev main_call273_v3 : Ref sig .tc := ⟨.hbm, 8565, rfl⟩
abbrev main_call273_v4 : Ref sig .tc := ⟨.hbm, 8566, rfl⟩
abbrev main_call273_v5 : Ref sig .tc := ⟨.hbm, 8567, rfl⟩
abbrev main_call273_c_1 : Ref sig .tc := ⟨.hbm, 8568, rfl⟩
abbrev main_call273_c_2 : Ref sig .tc := ⟨.hbm, 8569, rfl⟩
abbrev main_call273_v6 : Ref sig .tc := ⟨.hbm, 8570, rfl⟩
abbrev main_call273_v7 : Ref sig .tc := ⟨.hbm, 8571, rfl⟩
abbrev main_call273_v8 : Ref sig .tc := ⟨.hbm, 8572, rfl⟩
abbrev main_call273_v9 : Ref sig .tc := ⟨.hbm, 8573, rfl⟩
abbrev main_call273_v10 : Ref sig .tc := ⟨.hbm, 8574, rfl⟩
abbrev main_call273_v11 : Ref sig .tc := ⟨.hbm, 8575, rfl⟩
abbrev main_call273_c_3 : Ref sig .tc := ⟨.hbm, 8576, rfl⟩
abbrev main_call273_v12 : Ref sig .tc := ⟨.hbm, 8577, rfl⟩
abbrev main_call273_v13 : Ref sig .tc := ⟨.hbm, 8578, rfl⟩
abbrev main_call273_cst : Ref sig .tc := ⟨.hbm, 8579, rfl⟩
abbrev main_call273_v14 : Ref sig .tc := ⟨.hbm, 8580, rfl⟩
abbrev main_v4581 : Ref sig .tc := ⟨.hbm, 8581, rfl⟩
abbrev main_v4582 : Ref sig .tc := ⟨.hbm, 8582, rfl⟩
abbrev main_v4583 : Ref sig .tc := ⟨.hbm, 8583, rfl⟩
abbrev main_v4584 : Ref sig .tc := ⟨.hbm, 8584, rfl⟩
abbrev main_v4585 : Ref sig .tc := ⟨.hbm, 8585, rfl⟩
abbrev main_v4586 : Ref sig .tc := ⟨.hbm, 8586, rfl⟩
abbrev main_v4587 : Ref sig .tc := ⟨.hbm, 8587, rfl⟩
abbrev main_v4588 : Ref sig .tc := ⟨.hbm, 8588, rfl⟩
abbrev main_v4589 : Ref sig .tc := ⟨.hbm, 8589, rfl⟩
abbrev main_v4590 : Ref sig .tc := ⟨.hbm, 8590, rfl⟩
abbrev main_cst_1112 : Ref sig .tc := ⟨.hbm, 8591, rfl⟩
abbrev main_v4591 : Ref sig .tc := ⟨.hbm, 8592, rfl⟩
abbrev main_v4592 : Ref sig .tc := ⟨.hbm, 8593, rfl⟩
abbrev main_cst_1113 : Ref sig .tc := ⟨.hbm, 8594, rfl⟩
abbrev main_v4593 : Ref sig .tc := ⟨.hbm, 8595, rfl⟩
abbrev main_v4594 : Ref sig .tc := ⟨.hbm, 8596, rfl⟩
abbrev main_v4595 : Ref sig .tc := ⟨.hbm, 8597, rfl⟩
abbrev main_cst_1114 : Ref sig .tc := ⟨.hbm, 8598, rfl⟩
abbrev main_v4596 : Ref sig .tc := ⟨.hbm, 8599, rfl⟩
abbrev main_v4597 : Ref sig .tc := ⟨.hbm, 8600, rfl⟩
abbrev main_v4598 : Ref sig .tc := ⟨.hbm, 8601, rfl⟩
abbrev main_cst_1115 : Ref sig .tc := ⟨.hbm, 8602, rfl⟩
abbrev main_v4599 : Ref sig .tc := ⟨.hbm, 8603, rfl⟩
abbrev main_v4600 : Ref sig .tc := ⟨.hbm, 8604, rfl⟩
abbrev main_v4601 : Ref sig .tc := ⟨.hbm, 8605, rfl⟩
abbrev main_c_1116 : Ref sig .tc := ⟨.hbm, 8606, rfl⟩
abbrev main_c_1117 : Ref sig .tc := ⟨.hbm, 8607, rfl⟩
abbrev main_call274_v0 : Ref sig .tc := ⟨.hbm, 8608, rfl⟩
abbrev main_call274_v1 : Ref sig .tc := ⟨.hbm, 8609, rfl⟩
abbrev main_call274_v2 : Ref sig .tc := ⟨.hbm, 8610, rfl⟩
abbrev main_call274_v3 : Ref sig .tc := ⟨.hbm, 8611, rfl⟩
abbrev main_call274_v4 : Ref sig .tc := ⟨.hbm, 8612, rfl⟩
abbrev main_v4602 : Ref sig .tc := ⟨.hbm, 8613, rfl⟩
abbrev main_v4603 : Ref sig .tc := ⟨.hbm, 8614, rfl⟩
abbrev main_c_1118 : Ref sig .tc := ⟨.hbm, 8615, rfl⟩
abbrev main_c_1119 : Ref sig .tc := ⟨.hbm, 8616, rfl⟩
abbrev main_call275_v0 : Ref sig .tc := ⟨.hbm, 8617, rfl⟩
abbrev main_call275_v1 : Ref sig .tc := ⟨.hbm, 8618, rfl⟩
abbrev main_call275_v2 : Ref sig .tc := ⟨.hbm, 8619, rfl⟩
abbrev main_call275_v3 : Ref sig .tc := ⟨.hbm, 8620, rfl⟩
abbrev main_call275_v4 : Ref sig .tc := ⟨.hbm, 8621, rfl⟩
abbrev main_v4604 : Ref sig .tc := ⟨.hbm, 8622, rfl⟩
abbrev main_v4605 : Ref sig .tc := ⟨.hbm, 8623, rfl⟩
abbrev main_c_1120 : Ref sig .tc := ⟨.hbm, 8624, rfl⟩
abbrev main_v4606 : Ref sig .tc := ⟨.hbm, 8625, rfl⟩
abbrev main_v4607 : Ref sig .tc := ⟨.hbm, 8626, rfl⟩
abbrev main_v4608 : Ref sig .tc := ⟨.hbm, 8627, rfl⟩
abbrev main_v4609 : Ref sig .tc := ⟨.hbm, 8628, rfl⟩
abbrev main_v4610 : Ref sig .tc := ⟨.hbm, 8629, rfl⟩
abbrev main_v4611 : Ref sig .tc := ⟨.hbm, 8630, rfl⟩
abbrev main_call276_c : Ref sig .tc := ⟨.hbm, 8631, rfl⟩
abbrev main_call276_v0 : Ref sig .tc := ⟨.hbm, 8632, rfl⟩
abbrev main_call276_v1 : Ref sig .tc := ⟨.hbm, 8633, rfl⟩
abbrev main_call276_c_0 : Ref sig .tc := ⟨.hbm, 8634, rfl⟩
abbrev main_call276_v2 : Ref sig .tc := ⟨.hbm, 8635, rfl⟩
abbrev main_call276_v3 : Ref sig .tc := ⟨.hbm, 8636, rfl⟩
abbrev main_call276_v4 : Ref sig .tc := ⟨.hbm, 8637, rfl⟩
abbrev main_call276_v5 : Ref sig .tc := ⟨.hbm, 8638, rfl⟩
abbrev main_call276_c_1 : Ref sig .tc := ⟨.hbm, 8639, rfl⟩
abbrev main_call276_c_2 : Ref sig .tc := ⟨.hbm, 8640, rfl⟩
abbrev main_call276_v6 : Ref sig .tc := ⟨.hbm, 8641, rfl⟩
abbrev main_call276_v7 : Ref sig .tc := ⟨.hbm, 8642, rfl⟩
abbrev main_call276_v8 : Ref sig .tc := ⟨.hbm, 8643, rfl⟩
abbrev main_call276_v9 : Ref sig .tc := ⟨.hbm, 8644, rfl⟩
abbrev main_call276_v10 : Ref sig .tc := ⟨.hbm, 8645, rfl⟩
abbrev main_call276_v11 : Ref sig .tc := ⟨.hbm, 8646, rfl⟩
abbrev main_call276_c_3 : Ref sig .tc := ⟨.hbm, 8647, rfl⟩
abbrev main_call276_v12 : Ref sig .tc := ⟨.hbm, 8648, rfl⟩
abbrev main_call276_v13 : Ref sig .tc := ⟨.hbm, 8649, rfl⟩
abbrev main_call276_cst : Ref sig .tc := ⟨.hbm, 8650, rfl⟩
abbrev main_call276_v14 : Ref sig .tc := ⟨.hbm, 8651, rfl⟩
abbrev main_v4612 : Ref sig .tc := ⟨.hbm, 8652, rfl⟩
abbrev main_v4613 : Ref sig .tc := ⟨.hbm, 8653, rfl⟩
abbrev main_v4614 : Ref sig .tc := ⟨.hbm, 8654, rfl⟩
abbrev main_v4615 : Ref sig .tc := ⟨.hbm, 8655, rfl⟩
abbrev main_v4616 : Ref sig .tc := ⟨.hbm, 8656, rfl⟩
abbrev main_v4617 : Ref sig .tc := ⟨.hbm, 8657, rfl⟩
abbrev main_v4618 : Ref sig .tc := ⟨.hbm, 8658, rfl⟩
abbrev main_v4619 : Ref sig .tc := ⟨.hbm, 8659, rfl⟩
abbrev main_v4620 : Ref sig .tc := ⟨.hbm, 8660, rfl⟩
abbrev main_v4621 : Ref sig .tc := ⟨.hbm, 8661, rfl⟩
abbrev main_v4622 : Ref sig .tc := ⟨.hbm, 8662, rfl⟩
abbrev main_v4623 : Ref sig .tc := ⟨.hbm, 8663, rfl⟩
abbrev main_v4624 : Ref sig .tc := ⟨.hbm, 8664, rfl⟩
abbrev main_v4625 : Ref sig .tc := ⟨.hbm, 8665, rfl⟩
abbrev main_v4626 : Ref sig .tc := ⟨.hbm, 8666, rfl⟩
abbrev main_v4627 : Ref sig .tc := ⟨.hbm, 8667, rfl⟩
abbrev main_v4628 : Ref sig .tc := ⟨.hbm, 8668, rfl⟩
abbrev main_v4629 : Ref sig .tc := ⟨.hbm, 8669, rfl⟩
abbrev main_v4630 : Ref sig .tc := ⟨.hbm, 8670, rfl⟩
abbrev main_cst_1121 : Ref sig .tc := ⟨.hbm, 8671, rfl⟩
abbrev main_v4631 : Ref sig .tc := ⟨.hbm, 8672, rfl⟩
abbrev main_v4632 : Ref sig .tc := ⟨.hbm, 8673, rfl⟩
abbrev main_cst_1122 : Ref sig .tc := ⟨.hbm, 8674, rfl⟩
abbrev main_v4633 : Ref sig .tc := ⟨.hbm, 8675, rfl⟩
abbrev main_v4634 : Ref sig .tc := ⟨.hbm, 8676, rfl⟩
abbrev main_cst_1123 : Ref sig .tc := ⟨.hbm, 8677, rfl⟩
abbrev main_v4635 : Ref sig .tc := ⟨.hbm, 8678, rfl⟩
abbrev main_v4636 : Ref sig .tc := ⟨.hbm, 8679, rfl⟩
abbrev main_cst_1124 : Ref sig .tc := ⟨.hbm, 8680, rfl⟩
abbrev main_v4637 : Ref sig .tc := ⟨.hbm, 8681, rfl⟩
abbrev main_v4638 : Ref sig .tc := ⟨.hbm, 8682, rfl⟩
abbrev main_v4639 : Ref sig .tc := ⟨.hbm, 8683, rfl⟩
abbrev main_v4640 : Ref sig .tc := ⟨.hbm, 8684, rfl⟩
abbrev main_cst_1125 : Ref sig .tc := ⟨.hbm, 8685, rfl⟩
abbrev main_v4641 : Ref sig .tc := ⟨.hbm, 8686, rfl⟩
abbrev main_v4642 : Ref sig .tc := ⟨.hbm, 8687, rfl⟩
abbrev main_cst_1126 : Ref sig .tc := ⟨.hbm, 8688, rfl⟩
abbrev main_v4643 : Ref sig .tc := ⟨.hbm, 8689, rfl⟩
abbrev main_v4644 : Ref sig .tc := ⟨.hbm, 8690, rfl⟩
abbrev main_cst_1127 : Ref sig .tc := ⟨.hbm, 8691, rfl⟩
abbrev main_v4645 : Ref sig .tc := ⟨.hbm, 8692, rfl⟩
abbrev main_v4646 : Ref sig .tc := ⟨.hbm, 8693, rfl⟩
abbrev main_cst_1128 : Ref sig .tc := ⟨.hbm, 8694, rfl⟩
abbrev main_v4647 : Ref sig .tc := ⟨.hbm, 8695, rfl⟩
abbrev main_v4648 : Ref sig .tc := ⟨.hbm, 8696, rfl⟩
abbrev main_v4649 : Ref sig .tc := ⟨.hbm, 8697, rfl⟩
abbrev main_v4650 : Ref sig .tc := ⟨.hbm, 8698, rfl⟩
abbrev main_cst_1129 : Ref sig .tc := ⟨.hbm, 8699, rfl⟩
abbrev main_v4651 : Ref sig .tc := ⟨.hbm, 8700, rfl⟩
abbrev main_v4652 : Ref sig .tc := ⟨.hbm, 8701, rfl⟩
abbrev main_cst_1130 : Ref sig .tc := ⟨.hbm, 8702, rfl⟩
abbrev main_v4653 : Ref sig .tc := ⟨.hbm, 8703, rfl⟩
abbrev main_v4654 : Ref sig .tc := ⟨.hbm, 8704, rfl⟩
abbrev main_v4655 : Ref sig .tc := ⟨.hbm, 8705, rfl⟩
abbrev main_v4656 : Ref sig .tc := ⟨.hbm, 8706, rfl⟩
abbrev main_v4657 : Ref sig .tc := ⟨.hbm, 8707, rfl⟩
abbrev main_v4658 : Ref sig .tc := ⟨.hbm, 8708, rfl⟩
abbrev main_v4659 : Ref sig .tc := ⟨.hbm, 8709, rfl⟩
abbrev main_v4660 : Ref sig .tc := ⟨.hbm, 8710, rfl⟩
abbrev main_v4661 : Ref sig .tc := ⟨.hbm, 8711, rfl⟩
abbrev main_v4662 : Ref sig .tc := ⟨.hbm, 8712, rfl⟩
abbrev main_v4663 : Ref sig .tc := ⟨.hbm, 8713, rfl⟩
abbrev main_v4664 : Ref sig .tc := ⟨.hbm, 8714, rfl⟩
abbrev main_v4665 : Ref sig .tc := ⟨.hbm, 8715, rfl⟩
abbrev main_v4666 : Ref sig .tc := ⟨.hbm, 8716, rfl⟩
abbrev main_v4667 : Ref sig .tc := ⟨.hbm, 8717, rfl⟩
abbrev main_cst_1131 : Ref sig .tc := ⟨.hbm, 8718, rfl⟩
abbrev main_v4668 : Ref sig .tc := ⟨.hbm, 8719, rfl⟩
abbrev main_v4669 : Ref sig .tc := ⟨.hbm, 8720, rfl⟩
abbrev main_cst_1132 : Ref sig .tc := ⟨.hbm, 8721, rfl⟩
abbrev main_v4670 : Ref sig .tc := ⟨.hbm, 8722, rfl⟩
abbrev main_v4671 : Ref sig .tc := ⟨.hbm, 8723, rfl⟩
abbrev main_v4672 : Ref sig .tc := ⟨.hbm, 8724, rfl⟩
abbrev main_cst_1133 : Ref sig .tc := ⟨.hbm, 8725, rfl⟩
abbrev main_v4673 : Ref sig .tc := ⟨.hbm, 8726, rfl⟩
abbrev main_v4674 : Ref sig .tc := ⟨.hbm, 8727, rfl⟩
abbrev main_v4675 : Ref sig .tc := ⟨.hbm, 8728, rfl⟩
abbrev main_cst_1134 : Ref sig .tc := ⟨.hbm, 8729, rfl⟩
abbrev main_v4676 : Ref sig .tc := ⟨.hbm, 8730, rfl⟩
abbrev main_v4677 : Ref sig .tc := ⟨.hbm, 8731, rfl⟩
abbrev main_v4678 : Ref sig .tc := ⟨.hbm, 8732, rfl⟩
abbrev main_c_1135 : Ref sig .tc := ⟨.hbm, 8733, rfl⟩
abbrev main_c_1136 : Ref sig .tc := ⟨.hbm, 8734, rfl⟩
abbrev main_call277_v0 : Ref sig .tc := ⟨.hbm, 8735, rfl⟩
abbrev main_call277_v1 : Ref sig .tc := ⟨.hbm, 8736, rfl⟩
abbrev main_call277_v2 : Ref sig .tc := ⟨.hbm, 8737, rfl⟩
abbrev main_call277_v3 : Ref sig .tc := ⟨.hbm, 8738, rfl⟩
abbrev main_call277_v4 : Ref sig .tc := ⟨.hbm, 8739, rfl⟩
abbrev main_v4679 : Ref sig .tc := ⟨.hbm, 8740, rfl⟩
abbrev main_v4680 : Ref sig .tc := ⟨.hbm, 8741, rfl⟩
abbrev main_c_1137 : Ref sig .tc := ⟨.hbm, 8742, rfl⟩
abbrev main_c_1138 : Ref sig .tc := ⟨.hbm, 8743, rfl⟩
abbrev main_call278_v0 : Ref sig .tc := ⟨.hbm, 8744, rfl⟩
abbrev main_call278_v1 : Ref sig .tc := ⟨.hbm, 8745, rfl⟩
abbrev main_call278_v2 : Ref sig .tc := ⟨.hbm, 8746, rfl⟩
abbrev main_call278_v3 : Ref sig .tc := ⟨.hbm, 8747, rfl⟩
abbrev main_call278_v4 : Ref sig .tc := ⟨.hbm, 8748, rfl⟩
abbrev main_v4681 : Ref sig .tc := ⟨.hbm, 8749, rfl⟩
abbrev main_v4682 : Ref sig .tc := ⟨.hbm, 8750, rfl⟩
abbrev main_c_1139 : Ref sig .tc := ⟨.hbm, 8751, rfl⟩
abbrev main_v4683 : Ref sig .tc := ⟨.hbm, 8752, rfl⟩
abbrev main_v4684 : Ref sig .tc := ⟨.hbm, 8753, rfl⟩
abbrev main_v4685 : Ref sig .tc := ⟨.hbm, 8754, rfl⟩
abbrev main_v4686 : Ref sig .tc := ⟨.hbm, 8755, rfl⟩
abbrev main_v4687 : Ref sig .tc := ⟨.hbm, 8756, rfl⟩
abbrev main_v4688 : Ref sig .tc := ⟨.hbm, 8757, rfl⟩
abbrev main_call279_c : Ref sig .tc := ⟨.hbm, 8758, rfl⟩
abbrev main_call279_v0 : Ref sig .tc := ⟨.hbm, 8759, rfl⟩
abbrev main_call279_v1 : Ref sig .tc := ⟨.hbm, 8760, rfl⟩
abbrev main_call279_c_0 : Ref sig .tc := ⟨.hbm, 8761, rfl⟩
abbrev main_call279_v2 : Ref sig .tc := ⟨.hbm, 8762, rfl⟩
abbrev main_call279_v3 : Ref sig .tc := ⟨.hbm, 8763, rfl⟩
abbrev main_call279_v4 : Ref sig .tc := ⟨.hbm, 8764, rfl⟩
abbrev main_call279_v5 : Ref sig .tc := ⟨.hbm, 8765, rfl⟩
abbrev main_call279_c_1 : Ref sig .tc := ⟨.hbm, 8766, rfl⟩
abbrev main_call279_c_2 : Ref sig .tc := ⟨.hbm, 8767, rfl⟩
abbrev main_call279_v6 : Ref sig .tc := ⟨.hbm, 8768, rfl⟩
abbrev main_call279_v7 : Ref sig .tc := ⟨.hbm, 8769, rfl⟩
abbrev main_call279_v8 : Ref sig .tc := ⟨.hbm, 8770, rfl⟩
abbrev main_call279_v9 : Ref sig .tc := ⟨.hbm, 8771, rfl⟩
abbrev main_call279_v10 : Ref sig .tc := ⟨.hbm, 8772, rfl⟩
abbrev main_call279_v11 : Ref sig .tc := ⟨.hbm, 8773, rfl⟩
abbrev main_call279_c_3 : Ref sig .tc := ⟨.hbm, 8774, rfl⟩
abbrev main_call279_v12 : Ref sig .tc := ⟨.hbm, 8775, rfl⟩
abbrev main_call279_v13 : Ref sig .tc := ⟨.hbm, 8776, rfl⟩
abbrev main_call279_cst : Ref sig .tc := ⟨.hbm, 8777, rfl⟩
abbrev main_call279_v14 : Ref sig .tc := ⟨.hbm, 8778, rfl⟩
abbrev main_v4689 : Ref sig .tc := ⟨.hbm, 8779, rfl⟩
abbrev main_v4690 : Ref sig .tc := ⟨.hbm, 8780, rfl⟩
abbrev main_v4691 : Ref sig .tc := ⟨.hbm, 8781, rfl⟩
abbrev main_v4692 : Ref sig .tc := ⟨.hbm, 8782, rfl⟩
abbrev main_v4693 : Ref sig .tc := ⟨.hbm, 8783, rfl⟩
abbrev main_v4694 : Ref sig .tc := ⟨.hbm, 8784, rfl⟩
abbrev main_v4695 : Ref sig .tc := ⟨.hbm, 8785, rfl⟩
abbrev main_v4696 : Ref sig .tc := ⟨.hbm, 8786, rfl⟩
abbrev main_v4697 : Ref sig .tc := ⟨.hbm, 8787, rfl⟩
abbrev main_cst_1140 : Ref sig .tc := ⟨.hbm, 8788, rfl⟩
abbrev main_v4698 : Ref sig .tc := ⟨.hbm, 8789, rfl⟩
abbrev main_v4699 : Ref sig .tc := ⟨.hbm, 8790, rfl⟩
abbrev main_cst_1141 : Ref sig .tc := ⟨.hbm, 8791, rfl⟩
abbrev main_v4700 : Ref sig .tc := ⟨.hbm, 8792, rfl⟩
abbrev main_v4701 : Ref sig .tc := ⟨.hbm, 8793, rfl⟩
abbrev main_v4702 : Ref sig .tc := ⟨.hbm, 8794, rfl⟩
abbrev main_cst_1142 : Ref sig .tc := ⟨.hbm, 8795, rfl⟩
abbrev main_v4703 : Ref sig .tc := ⟨.hbm, 8796, rfl⟩
abbrev main_v4704 : Ref sig .tc := ⟨.hbm, 8797, rfl⟩
abbrev main_v4705 : Ref sig .tc := ⟨.hbm, 8798, rfl⟩
abbrev main_cst_1143 : Ref sig .tc := ⟨.hbm, 8799, rfl⟩
abbrev main_v4706 : Ref sig .tc := ⟨.hbm, 8800, rfl⟩
abbrev main_v4707 : Ref sig .tc := ⟨.hbm, 8801, rfl⟩
abbrev main_v4708 : Ref sig .tc := ⟨.hbm, 8802, rfl⟩
abbrev main_c_1144 : Ref sig .tc := ⟨.hbm, 8803, rfl⟩
abbrev main_c_1145 : Ref sig .tc := ⟨.hbm, 8804, rfl⟩
abbrev main_call280_v0 : Ref sig .tc := ⟨.hbm, 8805, rfl⟩
abbrev main_call280_v1 : Ref sig .tc := ⟨.hbm, 8806, rfl⟩
abbrev main_call280_v2 : Ref sig .tc := ⟨.hbm, 8807, rfl⟩
abbrev main_call280_v3 : Ref sig .tc := ⟨.hbm, 8808, rfl⟩
abbrev main_call280_v4 : Ref sig .tc := ⟨.hbm, 8809, rfl⟩
abbrev main_v4709 : Ref sig .tc := ⟨.hbm, 8810, rfl⟩
abbrev main_v4710 : Ref sig .tc := ⟨.hbm, 8811, rfl⟩
abbrev main_c_1146 : Ref sig .tc := ⟨.hbm, 8812, rfl⟩
abbrev main_c_1147 : Ref sig .tc := ⟨.hbm, 8813, rfl⟩
abbrev main_call281_v0 : Ref sig .tc := ⟨.hbm, 8814, rfl⟩
abbrev main_call281_v1 : Ref sig .tc := ⟨.hbm, 8815, rfl⟩
abbrev main_call281_v2 : Ref sig .tc := ⟨.hbm, 8816, rfl⟩
abbrev main_call281_v3 : Ref sig .tc := ⟨.hbm, 8817, rfl⟩
abbrev main_call281_v4 : Ref sig .tc := ⟨.hbm, 8818, rfl⟩
abbrev main_v4711 : Ref sig .tc := ⟨.hbm, 8819, rfl⟩
abbrev main_v4712 : Ref sig .tc := ⟨.hbm, 8820, rfl⟩
abbrev main_c_1148 : Ref sig .tc := ⟨.hbm, 8821, rfl⟩
abbrev main_v4713 : Ref sig .tc := ⟨.hbm, 8822, rfl⟩
abbrev main_v4714 : Ref sig .tc := ⟨.hbm, 8823, rfl⟩
abbrev main_v4715 : Ref sig .tc := ⟨.hbm, 8824, rfl⟩
abbrev main_v4716 : Ref sig .tc := ⟨.hbm, 8825, rfl⟩
abbrev main_v4717 : Ref sig .tc := ⟨.hbm, 8826, rfl⟩
abbrev main_v4718 : Ref sig .tc := ⟨.hbm, 8827, rfl⟩
abbrev main_call282_c : Ref sig .tc := ⟨.hbm, 8828, rfl⟩
abbrev main_call282_v0 : Ref sig .tc := ⟨.hbm, 8829, rfl⟩
abbrev main_call282_v1 : Ref sig .tc := ⟨.hbm, 8830, rfl⟩
abbrev main_call282_c_0 : Ref sig .tc := ⟨.hbm, 8831, rfl⟩
abbrev main_call282_v2 : Ref sig .tc := ⟨.hbm, 8832, rfl⟩
abbrev main_call282_v3 : Ref sig .tc := ⟨.hbm, 8833, rfl⟩
abbrev main_call282_v4 : Ref sig .tc := ⟨.hbm, 8834, rfl⟩
abbrev main_call282_v5 : Ref sig .tc := ⟨.hbm, 8835, rfl⟩
abbrev main_call282_c_1 : Ref sig .tc := ⟨.hbm, 8836, rfl⟩
abbrev main_call282_c_2 : Ref sig .tc := ⟨.hbm, 8837, rfl⟩
abbrev main_call282_v6 : Ref sig .tc := ⟨.hbm, 8838, rfl⟩
abbrev main_call282_v7 : Ref sig .tc := ⟨.hbm, 8839, rfl⟩
abbrev main_call282_v8 : Ref sig .tc := ⟨.hbm, 8840, rfl⟩
abbrev main_call282_v9 : Ref sig .tc := ⟨.hbm, 8841, rfl⟩
abbrev main_call282_v10 : Ref sig .tc := ⟨.hbm, 8842, rfl⟩
abbrev main_call282_v11 : Ref sig .tc := ⟨.hbm, 8843, rfl⟩
abbrev main_call282_c_3 : Ref sig .tc := ⟨.hbm, 8844, rfl⟩
abbrev main_call282_v12 : Ref sig .tc := ⟨.hbm, 8845, rfl⟩
abbrev main_call282_v13 : Ref sig .tc := ⟨.hbm, 8846, rfl⟩
abbrev main_call282_cst : Ref sig .tc := ⟨.hbm, 8847, rfl⟩
abbrev main_call282_v14 : Ref sig .tc := ⟨.hbm, 8848, rfl⟩
abbrev main_v4719 : Ref sig .tc := ⟨.hbm, 8849, rfl⟩
abbrev main_v4720 : Ref sig .tc := ⟨.hbm, 8850, rfl⟩
abbrev main_v4721 : Ref sig .tc := ⟨.hbm, 8851, rfl⟩
abbrev main_v4722 : Ref sig .tc := ⟨.hbm, 8852, rfl⟩
abbrev main_v4723 : Ref sig .tc := ⟨.hbm, 8853, rfl⟩
abbrev main_v4724 : Ref sig .tc := ⟨.hbm, 8854, rfl⟩
abbrev main_v4725 : Ref sig .tc := ⟨.hbm, 8855, rfl⟩
abbrev main_v4726 : Ref sig .tc := ⟨.hbm, 8856, rfl⟩
abbrev main_v4727 : Ref sig .tc := ⟨.hbm, 8857, rfl⟩
abbrev main_v4728 : Ref sig .tc := ⟨.hbm, 8858, rfl⟩
abbrev main_cst_1149 : Ref sig .tc := ⟨.hbm, 8859, rfl⟩
abbrev main_v4729 : Ref sig .tc := ⟨.hbm, 8860, rfl⟩
abbrev main_v4730 : Ref sig .tc := ⟨.hbm, 8861, rfl⟩
abbrev main_cst_1150 : Ref sig .tc := ⟨.hbm, 8862, rfl⟩
abbrev main_v4731 : Ref sig .tc := ⟨.hbm, 8863, rfl⟩
abbrev main_v4732 : Ref sig .tc := ⟨.hbm, 8864, rfl⟩
abbrev main_v4733 : Ref sig .tc := ⟨.hbm, 8865, rfl⟩
abbrev main_cst_1151 : Ref sig .tc := ⟨.hbm, 8866, rfl⟩
abbrev main_v4734 : Ref sig .tc := ⟨.hbm, 8867, rfl⟩
abbrev main_v4735 : Ref sig .tc := ⟨.hbm, 8868, rfl⟩
abbrev main_v4736 : Ref sig .tc := ⟨.hbm, 8869, rfl⟩
abbrev main_cst_1152 : Ref sig .tc := ⟨.hbm, 8870, rfl⟩
abbrev main_v4737 : Ref sig .tc := ⟨.hbm, 8871, rfl⟩
abbrev main_v4738 : Ref sig .tc := ⟨.hbm, 8872, rfl⟩
abbrev main_v4739 : Ref sig .tc := ⟨.hbm, 8873, rfl⟩
abbrev main_c_1153 : Ref sig .tc := ⟨.hbm, 8874, rfl⟩
abbrev main_c_1154 : Ref sig .tc := ⟨.hbm, 8875, rfl⟩
abbrev main_call283_v0 : Ref sig .tc := ⟨.hbm, 8876, rfl⟩
abbrev main_call283_v1 : Ref sig .tc := ⟨.hbm, 8877, rfl⟩
abbrev main_call283_v2 : Ref sig .tc := ⟨.hbm, 8878, rfl⟩
abbrev main_call283_v3 : Ref sig .tc := ⟨.hbm, 8879, rfl⟩
abbrev main_call283_v4 : Ref sig .tc := ⟨.hbm, 8880, rfl⟩
abbrev main_v4740 : Ref sig .tc := ⟨.hbm, 8881, rfl⟩
abbrev main_v4741 : Ref sig .tc := ⟨.hbm, 8882, rfl⟩
abbrev main_c_1155 : Ref sig .tc := ⟨.hbm, 8883, rfl⟩
abbrev main_c_1156 : Ref sig .tc := ⟨.hbm, 8884, rfl⟩
abbrev main_call284_v0 : Ref sig .tc := ⟨.hbm, 8885, rfl⟩
abbrev main_call284_v1 : Ref sig .tc := ⟨.hbm, 8886, rfl⟩
abbrev main_call284_v2 : Ref sig .tc := ⟨.hbm, 8887, rfl⟩
abbrev main_call284_v3 : Ref sig .tc := ⟨.hbm, 8888, rfl⟩
abbrev main_call284_v4 : Ref sig .tc := ⟨.hbm, 8889, rfl⟩
abbrev main_v4742 : Ref sig .tc := ⟨.hbm, 8890, rfl⟩
abbrev main_v4743 : Ref sig .tc := ⟨.hbm, 8891, rfl⟩
abbrev main_c_1157 : Ref sig .tc := ⟨.hbm, 8892, rfl⟩
abbrev main_v4744 : Ref sig .tc := ⟨.hbm, 8893, rfl⟩
abbrev main_v4745 : Ref sig .tc := ⟨.hbm, 8894, rfl⟩
abbrev main_v4746 : Ref sig .tc := ⟨.hbm, 8895, rfl⟩
abbrev main_v4747 : Ref sig .tc := ⟨.hbm, 8896, rfl⟩
abbrev main_v4748 : Ref sig .tc := ⟨.hbm, 8897, rfl⟩
abbrev main_v4749 : Ref sig .tc := ⟨.hbm, 8898, rfl⟩
abbrev main_call285_c : Ref sig .tc := ⟨.hbm, 8899, rfl⟩
abbrev main_call285_v0 : Ref sig .tc := ⟨.hbm, 8900, rfl⟩
abbrev main_call285_v1 : Ref sig .tc := ⟨.hbm, 8901, rfl⟩
abbrev main_call285_c_0 : Ref sig .tc := ⟨.hbm, 8902, rfl⟩
abbrev main_call285_v2 : Ref sig .tc := ⟨.hbm, 8903, rfl⟩
abbrev main_call285_v3 : Ref sig .tc := ⟨.hbm, 8904, rfl⟩
abbrev main_call285_v4 : Ref sig .tc := ⟨.hbm, 8905, rfl⟩
abbrev main_call285_v5 : Ref sig .tc := ⟨.hbm, 8906, rfl⟩
abbrev main_call285_c_1 : Ref sig .tc := ⟨.hbm, 8907, rfl⟩
abbrev main_call285_c_2 : Ref sig .tc := ⟨.hbm, 8908, rfl⟩
abbrev main_call285_v6 : Ref sig .tc := ⟨.hbm, 8909, rfl⟩
abbrev main_call285_v7 : Ref sig .tc := ⟨.hbm, 8910, rfl⟩
abbrev main_call285_v8 : Ref sig .tc := ⟨.hbm, 8911, rfl⟩
abbrev main_call285_v9 : Ref sig .tc := ⟨.hbm, 8912, rfl⟩
abbrev main_call285_v10 : Ref sig .tc := ⟨.hbm, 8913, rfl⟩
abbrev main_call285_v11 : Ref sig .tc := ⟨.hbm, 8914, rfl⟩
abbrev main_call285_c_3 : Ref sig .tc := ⟨.hbm, 8915, rfl⟩
abbrev main_call285_v12 : Ref sig .tc := ⟨.hbm, 8916, rfl⟩
abbrev main_call285_v13 : Ref sig .tc := ⟨.hbm, 8917, rfl⟩
abbrev main_call285_cst : Ref sig .tc := ⟨.hbm, 8918, rfl⟩
abbrev main_call285_v14 : Ref sig .tc := ⟨.hbm, 8919, rfl⟩
abbrev main_v4750 : Ref sig .tc := ⟨.hbm, 8920, rfl⟩
abbrev main_v4751 : Ref sig .tc := ⟨.hbm, 8921, rfl⟩
abbrev main_v4752 : Ref sig .tc := ⟨.hbm, 8922, rfl⟩
abbrev main_v4753 : Ref sig .tc := ⟨.hbm, 8923, rfl⟩
abbrev main_v4754 : Ref sig .tc := ⟨.hbm, 8924, rfl⟩
abbrev main_v4755 : Ref sig .tc := ⟨.hbm, 8925, rfl⟩
abbrev main_v4756 : Ref sig .tc := ⟨.hbm, 8926, rfl⟩
abbrev main_v4757 : Ref sig .tc := ⟨.hbm, 8927, rfl⟩
abbrev main_v4758 : Ref sig .tc := ⟨.hbm, 8928, rfl⟩
abbrev main_v4759 : Ref sig .tc := ⟨.hbm, 8929, rfl⟩
abbrev main_cst_1158 : Ref sig .tc := ⟨.hbm, 8930, rfl⟩
abbrev main_v4760 : Ref sig .tc := ⟨.hbm, 8931, rfl⟩
abbrev main_v4761 : Ref sig .tc := ⟨.hbm, 8932, rfl⟩
abbrev main_cst_1159 : Ref sig .tc := ⟨.hbm, 8933, rfl⟩
abbrev main_v4762 : Ref sig .tc := ⟨.hbm, 8934, rfl⟩
abbrev main_v4763 : Ref sig .tc := ⟨.hbm, 8935, rfl⟩
abbrev main_v4764 : Ref sig .tc := ⟨.hbm, 8936, rfl⟩
abbrev main_cst_1160 : Ref sig .tc := ⟨.hbm, 8937, rfl⟩
abbrev main_v4765 : Ref sig .tc := ⟨.hbm, 8938, rfl⟩
abbrev main_v4766 : Ref sig .tc := ⟨.hbm, 8939, rfl⟩
abbrev main_v4767 : Ref sig .tc := ⟨.hbm, 8940, rfl⟩
abbrev main_cst_1161 : Ref sig .tc := ⟨.hbm, 8941, rfl⟩
abbrev main_v4768 : Ref sig .tc := ⟨.hbm, 8942, rfl⟩
abbrev main_v4769 : Ref sig .tc := ⟨.hbm, 8943, rfl⟩
abbrev main_v4770 : Ref sig .tc := ⟨.hbm, 8944, rfl⟩
abbrev main_c_1162 : Ref sig .tc := ⟨.hbm, 8945, rfl⟩
abbrev main_c_1163 : Ref sig .tc := ⟨.hbm, 8946, rfl⟩
abbrev main_call286_v0 : Ref sig .tc := ⟨.hbm, 8947, rfl⟩
abbrev main_call286_v1 : Ref sig .tc := ⟨.hbm, 8948, rfl⟩
abbrev main_call286_v2 : Ref sig .tc := ⟨.hbm, 8949, rfl⟩
abbrev main_call286_v3 : Ref sig .tc := ⟨.hbm, 8950, rfl⟩
abbrev main_call286_v4 : Ref sig .tc := ⟨.hbm, 8951, rfl⟩
abbrev main_v4771 : Ref sig .tc := ⟨.hbm, 8952, rfl⟩
abbrev main_v4772 : Ref sig .tc := ⟨.hbm, 8953, rfl⟩
abbrev main_c_1164 : Ref sig .tc := ⟨.hbm, 8954, rfl⟩
abbrev main_c_1165 : Ref sig .tc := ⟨.hbm, 8955, rfl⟩
abbrev main_call287_v0 : Ref sig .tc := ⟨.hbm, 8956, rfl⟩
abbrev main_call287_v1 : Ref sig .tc := ⟨.hbm, 8957, rfl⟩
abbrev main_call287_v2 : Ref sig .tc := ⟨.hbm, 8958, rfl⟩
abbrev main_call287_v3 : Ref sig .tc := ⟨.hbm, 8959, rfl⟩
abbrev main_call287_v4 : Ref sig .tc := ⟨.hbm, 8960, rfl⟩
abbrev main_v4773 : Ref sig .tc := ⟨.hbm, 8961, rfl⟩
abbrev main_v4774 : Ref sig .tc := ⟨.hbm, 8962, rfl⟩
abbrev main_c_1166 : Ref sig .tc := ⟨.hbm, 8963, rfl⟩
abbrev main_v4775 : Ref sig .tc := ⟨.hbm, 8964, rfl⟩
abbrev main_v4776 : Ref sig .tc := ⟨.hbm, 8965, rfl⟩
abbrev main_v4777 : Ref sig .tc := ⟨.hbm, 8966, rfl⟩
abbrev main_v4778 : Ref sig .tc := ⟨.hbm, 8967, rfl⟩
abbrev main_v4779 : Ref sig .tc := ⟨.hbm, 8968, rfl⟩
abbrev main_v4780 : Ref sig .tc := ⟨.hbm, 8969, rfl⟩
abbrev main_call288_c : Ref sig .tc := ⟨.hbm, 8970, rfl⟩
abbrev main_call288_v0 : Ref sig .tc := ⟨.hbm, 8971, rfl⟩
abbrev main_call288_v1 : Ref sig .tc := ⟨.hbm, 8972, rfl⟩
abbrev main_call288_c_0 : Ref sig .tc := ⟨.hbm, 8973, rfl⟩
abbrev main_call288_v2 : Ref sig .tc := ⟨.hbm, 8974, rfl⟩
abbrev main_call288_v3 : Ref sig .tc := ⟨.hbm, 8975, rfl⟩
abbrev main_call288_v4 : Ref sig .tc := ⟨.hbm, 8976, rfl⟩
abbrev main_call288_v5 : Ref sig .tc := ⟨.hbm, 8977, rfl⟩
abbrev main_call288_c_1 : Ref sig .tc := ⟨.hbm, 8978, rfl⟩
abbrev main_call288_c_2 : Ref sig .tc := ⟨.hbm, 8979, rfl⟩
abbrev main_call288_v6 : Ref sig .tc := ⟨.hbm, 8980, rfl⟩
abbrev main_call288_v7 : Ref sig .tc := ⟨.hbm, 8981, rfl⟩
abbrev main_call288_v8 : Ref sig .tc := ⟨.hbm, 8982, rfl⟩
abbrev main_call288_v9 : Ref sig .tc := ⟨.hbm, 8983, rfl⟩
abbrev main_call288_v10 : Ref sig .tc := ⟨.hbm, 8984, rfl⟩
abbrev main_call288_v11 : Ref sig .tc := ⟨.hbm, 8985, rfl⟩
abbrev main_call288_c_3 : Ref sig .tc := ⟨.hbm, 8986, rfl⟩
abbrev main_call288_v12 : Ref sig .tc := ⟨.hbm, 8987, rfl⟩
abbrev main_call288_v13 : Ref sig .tc := ⟨.hbm, 8988, rfl⟩
abbrev main_call288_cst : Ref sig .tc := ⟨.hbm, 8989, rfl⟩
abbrev main_call288_v14 : Ref sig .tc := ⟨.hbm, 8990, rfl⟩
abbrev main_v4781 : Ref sig .tc := ⟨.hbm, 8991, rfl⟩
abbrev main_v4782 : Ref sig .tc := ⟨.hbm, 8992, rfl⟩
abbrev main_v4783 : Ref sig .tc := ⟨.hbm, 8993, rfl⟩
abbrev main_v4784 : Ref sig .tc := ⟨.hbm, 8994, rfl⟩
abbrev main_v4785 : Ref sig .tc := ⟨.hbm, 8995, rfl⟩
abbrev main_v4786 : Ref sig .tc := ⟨.hbm, 8996, rfl⟩
abbrev main_v4787 : Ref sig .tc := ⟨.hbm, 8997, rfl⟩
abbrev main_v4788 : Ref sig .tc := ⟨.hbm, 8998, rfl⟩
abbrev main_v4789 : Ref sig .tc := ⟨.hbm, 8999, rfl⟩
abbrev main_v4790 : Ref sig .tc := ⟨.hbm, 9000, rfl⟩
abbrev main_v4791 : Ref sig .tc := ⟨.hbm, 9001, rfl⟩
abbrev main_v4792 : Ref sig .tc := ⟨.hbm, 9002, rfl⟩
abbrev main_v4793 : Ref sig .tc := ⟨.hbm, 9003, rfl⟩
abbrev main_v4794 : Ref sig .tc := ⟨.hbm, 9004, rfl⟩
abbrev main_v4795 : Ref sig .tc := ⟨.hbm, 9005, rfl⟩
abbrev main_v4796 : Ref sig .tc := ⟨.hbm, 9006, rfl⟩
abbrev main_v4797 : Ref sig .tc := ⟨.hbm, 9007, rfl⟩
abbrev main_v4798 : Ref sig .tc := ⟨.hbm, 9008, rfl⟩
abbrev main_v4799 : Ref sig .tc := ⟨.hbm, 9009, rfl⟩
abbrev main_cst_1167 : Ref sig .tc := ⟨.hbm, 9010, rfl⟩
abbrev main_v4800 : Ref sig .tc := ⟨.hbm, 9011, rfl⟩
abbrev main_v4801 : Ref sig .tc := ⟨.hbm, 9012, rfl⟩
abbrev main_cst_1168 : Ref sig .tc := ⟨.hbm, 9013, rfl⟩
abbrev main_v4802 : Ref sig .tc := ⟨.hbm, 9014, rfl⟩
abbrev main_v4803 : Ref sig .tc := ⟨.hbm, 9015, rfl⟩
abbrev main_cst_1169 : Ref sig .tc := ⟨.hbm, 9016, rfl⟩
abbrev main_v4804 : Ref sig .tc := ⟨.hbm, 9017, rfl⟩
abbrev main_v4805 : Ref sig .tc := ⟨.hbm, 9018, rfl⟩
abbrev main_cst_1170 : Ref sig .tc := ⟨.hbm, 9019, rfl⟩
abbrev main_v4806 : Ref sig .tc := ⟨.hbm, 9020, rfl⟩
abbrev main_v4807 : Ref sig .tc := ⟨.hbm, 9021, rfl⟩
abbrev main_v4808 : Ref sig .tc := ⟨.hbm, 9022, rfl⟩
abbrev main_v4809 : Ref sig .tc := ⟨.hbm, 9023, rfl⟩
abbrev main_cst_1171 : Ref sig .tc := ⟨.hbm, 9024, rfl⟩
abbrev main_v4810 : Ref sig .tc := ⟨.hbm, 9025, rfl⟩
abbrev main_v4811 : Ref sig .tc := ⟨.hbm, 9026, rfl⟩
abbrev main_cst_1172 : Ref sig .tc := ⟨.hbm, 9027, rfl⟩
abbrev main_v4812 : Ref sig .tc := ⟨.hbm, 9028, rfl⟩
abbrev main_v4813 : Ref sig .tc := ⟨.hbm, 9029, rfl⟩
abbrev main_cst_1173 : Ref sig .tc := ⟨.hbm, 9030, rfl⟩
abbrev main_v4814 : Ref sig .tc := ⟨.hbm, 9031, rfl⟩
abbrev main_v4815 : Ref sig .tc := ⟨.hbm, 9032, rfl⟩
abbrev main_cst_1174 : Ref sig .tc := ⟨.hbm, 9033, rfl⟩
abbrev main_v4816 : Ref sig .tc := ⟨.hbm, 9034, rfl⟩
abbrev main_v4817 : Ref sig .tc := ⟨.hbm, 9035, rfl⟩
abbrev main_v4818 : Ref sig .tc := ⟨.hbm, 9036, rfl⟩
abbrev main_v4819 : Ref sig .tc := ⟨.hbm, 9037, rfl⟩
abbrev main_cst_1175 : Ref sig .tc := ⟨.hbm, 9038, rfl⟩
abbrev main_v4820 : Ref sig .tc := ⟨.hbm, 9039, rfl⟩
abbrev main_v4821 : Ref sig .tc := ⟨.hbm, 9040, rfl⟩
abbrev main_cst_1176 : Ref sig .tc := ⟨.hbm, 9041, rfl⟩
abbrev main_v4822 : Ref sig .tc := ⟨.hbm, 9042, rfl⟩
abbrev main_v4823 : Ref sig .tc := ⟨.hbm, 9043, rfl⟩
abbrev main_v4824 : Ref sig .tc := ⟨.hbm, 9044, rfl⟩
abbrev main_v4825 : Ref sig .tc := ⟨.hbm, 9045, rfl⟩
abbrev main_v4826 : Ref sig .tc := ⟨.hbm, 9046, rfl⟩
abbrev main_v4827 : Ref sig .tc := ⟨.hbm, 9047, rfl⟩
abbrev main_v4828 : Ref sig .tc := ⟨.hbm, 9048, rfl⟩
abbrev main_v4829 : Ref sig .tc := ⟨.hbm, 9049, rfl⟩
abbrev main_v4830 : Ref sig .tc := ⟨.hbm, 9050, rfl⟩
abbrev main_v4831 : Ref sig .tc := ⟨.hbm, 9051, rfl⟩
abbrev main_v4832 : Ref sig .tc := ⟨.hbm, 9052, rfl⟩
abbrev main_v4833 : Ref sig .tc := ⟨.hbm, 9053, rfl⟩
abbrev main_v4834 : Ref sig .tc := ⟨.hbm, 9054, rfl⟩
abbrev main_v4835 : Ref sig .tc := ⟨.hbm, 9055, rfl⟩
abbrev main_v4836 : Ref sig .tc := ⟨.hbm, 9056, rfl⟩
abbrev main_cst_1177 : Ref sig .tc := ⟨.hbm, 9057, rfl⟩
abbrev main_v4837 : Ref sig .tc := ⟨.hbm, 9058, rfl⟩
abbrev main_v4838 : Ref sig .tc := ⟨.hbm, 9059, rfl⟩
abbrev main_cst_1178 : Ref sig .tc := ⟨.hbm, 9060, rfl⟩
abbrev main_v4839 : Ref sig .tc := ⟨.hbm, 9061, rfl⟩
abbrev main_v4840 : Ref sig .tc := ⟨.hbm, 9062, rfl⟩
abbrev main_v4841 : Ref sig .tc := ⟨.hbm, 9063, rfl⟩
abbrev main_cst_1179 : Ref sig .tc := ⟨.hbm, 9064, rfl⟩
abbrev main_v4842 : Ref sig .tc := ⟨.hbm, 9065, rfl⟩
abbrev main_v4843 : Ref sig .tc := ⟨.hbm, 9066, rfl⟩
abbrev main_v4844 : Ref sig .tc := ⟨.hbm, 9067, rfl⟩
abbrev main_cst_1180 : Ref sig .tc := ⟨.hbm, 9068, rfl⟩
abbrev main_v4845 : Ref sig .tc := ⟨.hbm, 9069, rfl⟩
abbrev main_v4846 : Ref sig .tc := ⟨.hbm, 9070, rfl⟩
abbrev main_v4847 : Ref sig .tc := ⟨.hbm, 9071, rfl⟩
abbrev main_c_1181 : Ref sig .tc := ⟨.hbm, 9072, rfl⟩
abbrev main_c_1182 : Ref sig .tc := ⟨.hbm, 9073, rfl⟩
abbrev main_call289_v0 : Ref sig .tc := ⟨.hbm, 9074, rfl⟩
abbrev main_call289_v1 : Ref sig .tc := ⟨.hbm, 9075, rfl⟩
abbrev main_call289_v2 : Ref sig .tc := ⟨.hbm, 9076, rfl⟩
abbrev main_call289_v3 : Ref sig .tc := ⟨.hbm, 9077, rfl⟩
abbrev main_call289_v4 : Ref sig .tc := ⟨.hbm, 9078, rfl⟩
abbrev main_v4848 : Ref sig .tc := ⟨.hbm, 9079, rfl⟩
abbrev main_v4849 : Ref sig .tc := ⟨.hbm, 9080, rfl⟩
abbrev main_c_1183 : Ref sig .tc := ⟨.hbm, 9081, rfl⟩
abbrev main_c_1184 : Ref sig .tc := ⟨.hbm, 9082, rfl⟩
abbrev main_call290_v0 : Ref sig .tc := ⟨.hbm, 9083, rfl⟩
abbrev main_call290_v1 : Ref sig .tc := ⟨.hbm, 9084, rfl⟩
abbrev main_call290_v2 : Ref sig .tc := ⟨.hbm, 9085, rfl⟩
abbrev main_call290_v3 : Ref sig .tc := ⟨.hbm, 9086, rfl⟩
abbrev main_call290_v4 : Ref sig .tc := ⟨.hbm, 9087, rfl⟩
abbrev main_v4850 : Ref sig .tc := ⟨.hbm, 9088, rfl⟩
abbrev main_v4851 : Ref sig .tc := ⟨.hbm, 9089, rfl⟩
abbrev main_c_1185 : Ref sig .tc := ⟨.hbm, 9090, rfl⟩
abbrev main_v4852 : Ref sig .tc := ⟨.hbm, 9091, rfl⟩
abbrev main_v4853 : Ref sig .tc := ⟨.hbm, 9092, rfl⟩
abbrev main_v4854 : Ref sig .tc := ⟨.hbm, 9093, rfl⟩
abbrev main_v4855 : Ref sig .tc := ⟨.hbm, 9094, rfl⟩
abbrev main_v4856 : Ref sig .tc := ⟨.hbm, 9095, rfl⟩
abbrev main_v4857 : Ref sig .tc := ⟨.hbm, 9096, rfl⟩
abbrev main_call291_c : Ref sig .tc := ⟨.hbm, 9097, rfl⟩
abbrev main_call291_v0 : Ref sig .tc := ⟨.hbm, 9098, rfl⟩
abbrev main_call291_v1 : Ref sig .tc := ⟨.hbm, 9099, rfl⟩
abbrev main_call291_c_0 : Ref sig .tc := ⟨.hbm, 9100, rfl⟩
abbrev main_call291_v2 : Ref sig .tc := ⟨.hbm, 9101, rfl⟩
abbrev main_call291_v3 : Ref sig .tc := ⟨.hbm, 9102, rfl⟩
abbrev main_call291_v4 : Ref sig .tc := ⟨.hbm, 9103, rfl⟩
abbrev main_call291_v5 : Ref sig .tc := ⟨.hbm, 9104, rfl⟩
abbrev main_call291_c_1 : Ref sig .tc := ⟨.hbm, 9105, rfl⟩
abbrev main_call291_c_2 : Ref sig .tc := ⟨.hbm, 9106, rfl⟩
abbrev main_call291_v6 : Ref sig .tc := ⟨.hbm, 9107, rfl⟩
abbrev main_call291_v7 : Ref sig .tc := ⟨.hbm, 9108, rfl⟩
abbrev main_call291_v8 : Ref sig .tc := ⟨.hbm, 9109, rfl⟩
abbrev main_call291_v9 : Ref sig .tc := ⟨.hbm, 9110, rfl⟩
abbrev main_call291_v10 : Ref sig .tc := ⟨.hbm, 9111, rfl⟩
abbrev main_call291_v11 : Ref sig .tc := ⟨.hbm, 9112, rfl⟩
abbrev main_call291_c_3 : Ref sig .tc := ⟨.hbm, 9113, rfl⟩
abbrev main_call291_v12 : Ref sig .tc := ⟨.hbm, 9114, rfl⟩
abbrev main_call291_v13 : Ref sig .tc := ⟨.hbm, 9115, rfl⟩
abbrev main_call291_cst : Ref sig .tc := ⟨.hbm, 9116, rfl⟩
abbrev main_call291_v14 : Ref sig .tc := ⟨.hbm, 9117, rfl⟩
abbrev main_v4858 : Ref sig .tc := ⟨.hbm, 9118, rfl⟩
abbrev main_v4859 : Ref sig .tc := ⟨.hbm, 9119, rfl⟩
abbrev main_v4860 : Ref sig .tc := ⟨.hbm, 9120, rfl⟩
abbrev main_v4861 : Ref sig .tc := ⟨.hbm, 9121, rfl⟩
abbrev main_v4862 : Ref sig .tc := ⟨.hbm, 9122, rfl⟩
abbrev main_v4863 : Ref sig .tc := ⟨.hbm, 9123, rfl⟩
abbrev main_v4864 : Ref sig .tc := ⟨.hbm, 9124, rfl⟩
abbrev main_v4865 : Ref sig .tc := ⟨.hbm, 9125, rfl⟩
abbrev main_v4866 : Ref sig .tc := ⟨.hbm, 9126, rfl⟩
abbrev main_cst_1186 : Ref sig .tc := ⟨.hbm, 9127, rfl⟩
abbrev main_v4867 : Ref sig .tc := ⟨.hbm, 9128, rfl⟩
abbrev main_v4868 : Ref sig .tc := ⟨.hbm, 9129, rfl⟩
abbrev main_cst_1187 : Ref sig .tc := ⟨.hbm, 9130, rfl⟩
abbrev main_v4869 : Ref sig .tc := ⟨.hbm, 9131, rfl⟩
abbrev main_v4870 : Ref sig .tc := ⟨.hbm, 9132, rfl⟩
abbrev main_v4871 : Ref sig .tc := ⟨.hbm, 9133, rfl⟩
abbrev main_cst_1188 : Ref sig .tc := ⟨.hbm, 9134, rfl⟩
abbrev main_v4872 : Ref sig .tc := ⟨.hbm, 9135, rfl⟩
abbrev main_v4873 : Ref sig .tc := ⟨.hbm, 9136, rfl⟩
abbrev main_v4874 : Ref sig .tc := ⟨.hbm, 9137, rfl⟩
abbrev main_cst_1189 : Ref sig .tc := ⟨.hbm, 9138, rfl⟩
abbrev main_v4875 : Ref sig .tc := ⟨.hbm, 9139, rfl⟩
abbrev main_v4876 : Ref sig .tc := ⟨.hbm, 9140, rfl⟩
abbrev main_v4877 : Ref sig .tc := ⟨.hbm, 9141, rfl⟩
abbrev main_c_1190 : Ref sig .tc := ⟨.hbm, 9142, rfl⟩
abbrev main_c_1191 : Ref sig .tc := ⟨.hbm, 9143, rfl⟩
abbrev main_call292_v0 : Ref sig .tc := ⟨.hbm, 9144, rfl⟩
abbrev main_call292_v1 : Ref sig .tc := ⟨.hbm, 9145, rfl⟩
abbrev main_call292_v2 : Ref sig .tc := ⟨.hbm, 9146, rfl⟩
abbrev main_call292_v3 : Ref sig .tc := ⟨.hbm, 9147, rfl⟩
abbrev main_call292_v4 : Ref sig .tc := ⟨.hbm, 9148, rfl⟩
abbrev main_v4878 : Ref sig .tc := ⟨.hbm, 9149, rfl⟩
abbrev main_v4879 : Ref sig .tc := ⟨.hbm, 9150, rfl⟩
abbrev main_c_1192 : Ref sig .tc := ⟨.hbm, 9151, rfl⟩
abbrev main_c_1193 : Ref sig .tc := ⟨.hbm, 9152, rfl⟩
abbrev main_call293_v0 : Ref sig .tc := ⟨.hbm, 9153, rfl⟩
abbrev main_call293_v1 : Ref sig .tc := ⟨.hbm, 9154, rfl⟩
abbrev main_call293_v2 : Ref sig .tc := ⟨.hbm, 9155, rfl⟩
abbrev main_call293_v3 : Ref sig .tc := ⟨.hbm, 9156, rfl⟩
abbrev main_call293_v4 : Ref sig .tc := ⟨.hbm, 9157, rfl⟩
abbrev main_v4880 : Ref sig .tc := ⟨.hbm, 9158, rfl⟩
abbrev main_v4881 : Ref sig .tc := ⟨.hbm, 9159, rfl⟩
abbrev main_c_1194 : Ref sig .tc := ⟨.hbm, 9160, rfl⟩
abbrev main_v4882 : Ref sig .tc := ⟨.hbm, 9161, rfl⟩
abbrev main_v4883 : Ref sig .tc := ⟨.hbm, 9162, rfl⟩
abbrev main_v4884 : Ref sig .tc := ⟨.hbm, 9163, rfl⟩
abbrev main_v4885 : Ref sig .tc := ⟨.hbm, 9164, rfl⟩
abbrev main_v4886 : Ref sig .tc := ⟨.hbm, 9165, rfl⟩
abbrev main_v4887 : Ref sig .tc := ⟨.hbm, 9166, rfl⟩
abbrev main_call294_c : Ref sig .tc := ⟨.hbm, 9167, rfl⟩
abbrev main_call294_v0 : Ref sig .tc := ⟨.hbm, 9168, rfl⟩
abbrev main_call294_v1 : Ref sig .tc := ⟨.hbm, 9169, rfl⟩
abbrev main_call294_c_0 : Ref sig .tc := ⟨.hbm, 9170, rfl⟩
abbrev main_call294_v2 : Ref sig .tc := ⟨.hbm, 9171, rfl⟩
abbrev main_call294_v3 : Ref sig .tc := ⟨.hbm, 9172, rfl⟩
abbrev main_call294_v4 : Ref sig .tc := ⟨.hbm, 9173, rfl⟩
abbrev main_call294_v5 : Ref sig .tc := ⟨.hbm, 9174, rfl⟩
abbrev main_call294_c_1 : Ref sig .tc := ⟨.hbm, 9175, rfl⟩
abbrev main_call294_c_2 : Ref sig .tc := ⟨.hbm, 9176, rfl⟩
abbrev main_call294_v6 : Ref sig .tc := ⟨.hbm, 9177, rfl⟩
abbrev main_call294_v7 : Ref sig .tc := ⟨.hbm, 9178, rfl⟩
abbrev main_call294_v8 : Ref sig .tc := ⟨.hbm, 9179, rfl⟩
abbrev main_call294_v9 : Ref sig .tc := ⟨.hbm, 9180, rfl⟩
abbrev main_call294_v10 : Ref sig .tc := ⟨.hbm, 9181, rfl⟩
abbrev main_call294_v11 : Ref sig .tc := ⟨.hbm, 9182, rfl⟩
abbrev main_call294_c_3 : Ref sig .tc := ⟨.hbm, 9183, rfl⟩
abbrev main_call294_v12 : Ref sig .tc := ⟨.hbm, 9184, rfl⟩
abbrev main_call294_v13 : Ref sig .tc := ⟨.hbm, 9185, rfl⟩
abbrev main_call294_cst : Ref sig .tc := ⟨.hbm, 9186, rfl⟩
abbrev main_call294_v14 : Ref sig .tc := ⟨.hbm, 9187, rfl⟩
abbrev main_v4888 : Ref sig .tc := ⟨.hbm, 9188, rfl⟩
abbrev main_v4889 : Ref sig .tc := ⟨.hbm, 9189, rfl⟩
abbrev main_v4890 : Ref sig .tc := ⟨.hbm, 9190, rfl⟩
abbrev main_v4891 : Ref sig .tc := ⟨.hbm, 9191, rfl⟩
abbrev main_v4892 : Ref sig .tc := ⟨.hbm, 9192, rfl⟩
abbrev main_v4893 : Ref sig .tc := ⟨.hbm, 9193, rfl⟩
abbrev main_v4894 : Ref sig .tc := ⟨.hbm, 9194, rfl⟩
abbrev main_v4895 : Ref sig .tc := ⟨.hbm, 9195, rfl⟩
abbrev main_v4896 : Ref sig .tc := ⟨.hbm, 9196, rfl⟩
abbrev main_v4897 : Ref sig .tc := ⟨.hbm, 9197, rfl⟩
abbrev main_cst_1195 : Ref sig .tc := ⟨.hbm, 9198, rfl⟩
abbrev main_v4898 : Ref sig .tc := ⟨.hbm, 9199, rfl⟩
abbrev main_v4899 : Ref sig .tc := ⟨.hbm, 9200, rfl⟩
abbrev main_cst_1196 : Ref sig .tc := ⟨.hbm, 9201, rfl⟩
abbrev main_v4900 : Ref sig .tc := ⟨.hbm, 9202, rfl⟩
abbrev main_v4901 : Ref sig .tc := ⟨.hbm, 9203, rfl⟩
abbrev main_v4902 : Ref sig .tc := ⟨.hbm, 9204, rfl⟩
abbrev main_cst_1197 : Ref sig .tc := ⟨.hbm, 9205, rfl⟩
abbrev main_v4903 : Ref sig .tc := ⟨.hbm, 9206, rfl⟩
abbrev main_v4904 : Ref sig .tc := ⟨.hbm, 9207, rfl⟩
abbrev main_v4905 : Ref sig .tc := ⟨.hbm, 9208, rfl⟩
abbrev main_cst_1198 : Ref sig .tc := ⟨.hbm, 9209, rfl⟩
abbrev main_v4906 : Ref sig .tc := ⟨.hbm, 9210, rfl⟩
abbrev main_v4907 : Ref sig .tc := ⟨.hbm, 9211, rfl⟩
abbrev main_v4908 : Ref sig .tc := ⟨.hbm, 9212, rfl⟩
abbrev main_c_1199 : Ref sig .tc := ⟨.hbm, 9213, rfl⟩
abbrev main_c_1200 : Ref sig .tc := ⟨.hbm, 9214, rfl⟩
abbrev main_call295_v0 : Ref sig .tc := ⟨.hbm, 9215, rfl⟩
abbrev main_call295_v1 : Ref sig .tc := ⟨.hbm, 9216, rfl⟩
abbrev main_call295_v2 : Ref sig .tc := ⟨.hbm, 9217, rfl⟩
abbrev main_call295_v3 : Ref sig .tc := ⟨.hbm, 9218, rfl⟩
abbrev main_call295_v4 : Ref sig .tc := ⟨.hbm, 9219, rfl⟩
abbrev main_v4909 : Ref sig .tc := ⟨.hbm, 9220, rfl⟩
abbrev main_v4910 : Ref sig .tc := ⟨.hbm, 9221, rfl⟩
abbrev main_c_1201 : Ref sig .tc := ⟨.hbm, 9222, rfl⟩
abbrev main_c_1202 : Ref sig .tc := ⟨.hbm, 9223, rfl⟩
abbrev main_call296_v0 : Ref sig .tc := ⟨.hbm, 9224, rfl⟩
abbrev main_call296_v1 : Ref sig .tc := ⟨.hbm, 9225, rfl⟩
abbrev main_call296_v2 : Ref sig .tc := ⟨.hbm, 9226, rfl⟩
abbrev main_call296_v3 : Ref sig .tc := ⟨.hbm, 9227, rfl⟩
abbrev main_call296_v4 : Ref sig .tc := ⟨.hbm, 9228, rfl⟩
abbrev main_v4911 : Ref sig .tc := ⟨.hbm, 9229, rfl⟩
abbrev main_v4912 : Ref sig .tc := ⟨.hbm, 9230, rfl⟩
abbrev main_c_1203 : Ref sig .tc := ⟨.hbm, 9231, rfl⟩
abbrev main_v4913 : Ref sig .tc := ⟨.hbm, 9232, rfl⟩
abbrev main_v4914 : Ref sig .tc := ⟨.hbm, 9233, rfl⟩
abbrev main_v4915 : Ref sig .tc := ⟨.hbm, 9234, rfl⟩
abbrev main_v4916 : Ref sig .tc := ⟨.hbm, 9235, rfl⟩
abbrev main_v4917 : Ref sig .tc := ⟨.hbm, 9236, rfl⟩
abbrev main_v4918 : Ref sig .tc := ⟨.hbm, 9237, rfl⟩
abbrev main_call297_c : Ref sig .tc := ⟨.hbm, 9238, rfl⟩
abbrev main_call297_v0 : Ref sig .tc := ⟨.hbm, 9239, rfl⟩
abbrev main_call297_v1 : Ref sig .tc := ⟨.hbm, 9240, rfl⟩
abbrev main_call297_c_0 : Ref sig .tc := ⟨.hbm, 9241, rfl⟩
abbrev main_call297_v2 : Ref sig .tc := ⟨.hbm, 9242, rfl⟩
abbrev main_call297_v3 : Ref sig .tc := ⟨.hbm, 9243, rfl⟩
abbrev main_call297_v4 : Ref sig .tc := ⟨.hbm, 9244, rfl⟩
abbrev main_call297_v5 : Ref sig .tc := ⟨.hbm, 9245, rfl⟩
abbrev main_call297_c_1 : Ref sig .tc := ⟨.hbm, 9246, rfl⟩
abbrev main_call297_c_2 : Ref sig .tc := ⟨.hbm, 9247, rfl⟩
abbrev main_call297_v6 : Ref sig .tc := ⟨.hbm, 9248, rfl⟩
abbrev main_call297_v7 : Ref sig .tc := ⟨.hbm, 9249, rfl⟩
abbrev main_call297_v8 : Ref sig .tc := ⟨.hbm, 9250, rfl⟩
abbrev main_call297_v9 : Ref sig .tc := ⟨.hbm, 9251, rfl⟩
abbrev main_call297_v10 : Ref sig .tc := ⟨.hbm, 9252, rfl⟩
abbrev main_call297_v11 : Ref sig .tc := ⟨.hbm, 9253, rfl⟩
abbrev main_call297_c_3 : Ref sig .tc := ⟨.hbm, 9254, rfl⟩
abbrev main_call297_v12 : Ref sig .tc := ⟨.hbm, 9255, rfl⟩
abbrev main_call297_v13 : Ref sig .tc := ⟨.hbm, 9256, rfl⟩
abbrev main_call297_cst : Ref sig .tc := ⟨.hbm, 9257, rfl⟩
abbrev main_call297_v14 : Ref sig .tc := ⟨.hbm, 9258, rfl⟩
abbrev main_v4919 : Ref sig .tc := ⟨.hbm, 9259, rfl⟩
abbrev main_v4920 : Ref sig .tc := ⟨.hbm, 9260, rfl⟩
abbrev main_v4921 : Ref sig .tc := ⟨.hbm, 9261, rfl⟩
abbrev main_v4922 : Ref sig .tc := ⟨.hbm, 9262, rfl⟩
abbrev main_v4923 : Ref sig .tc := ⟨.hbm, 9263, rfl⟩
abbrev main_v4924 : Ref sig .tc := ⟨.hbm, 9264, rfl⟩
abbrev main_v4925 : Ref sig .tc := ⟨.hbm, 9265, rfl⟩
abbrev main_v4926 : Ref sig .tc := ⟨.hbm, 9266, rfl⟩
abbrev main_v4927 : Ref sig .tc := ⟨.hbm, 9267, rfl⟩
abbrev main_v4928 : Ref sig .tc := ⟨.hbm, 9268, rfl⟩
abbrev main_cst_1204 : Ref sig .tc := ⟨.hbm, 9269, rfl⟩
abbrev main_v4929 : Ref sig .tc := ⟨.hbm, 9270, rfl⟩
abbrev main_v4930 : Ref sig .tc := ⟨.hbm, 9271, rfl⟩
abbrev main_cst_1205 : Ref sig .tc := ⟨.hbm, 9272, rfl⟩
abbrev main_v4931 : Ref sig .tc := ⟨.hbm, 9273, rfl⟩
abbrev main_v4932 : Ref sig .tc := ⟨.hbm, 9274, rfl⟩
abbrev main_v4933 : Ref sig .tc := ⟨.hbm, 9275, rfl⟩
abbrev main_cst_1206 : Ref sig .tc := ⟨.hbm, 9276, rfl⟩
abbrev main_v4934 : Ref sig .tc := ⟨.hbm, 9277, rfl⟩
abbrev main_v4935 : Ref sig .tc := ⟨.hbm, 9278, rfl⟩
abbrev main_v4936 : Ref sig .tc := ⟨.hbm, 9279, rfl⟩
abbrev main_cst_1207 : Ref sig .tc := ⟨.hbm, 9280, rfl⟩
abbrev main_v4937 : Ref sig .tc := ⟨.hbm, 9281, rfl⟩
abbrev main_v4938 : Ref sig .tc := ⟨.hbm, 9282, rfl⟩
abbrev main_v4939 : Ref sig .tc := ⟨.hbm, 9283, rfl⟩
abbrev main_c_1208 : Ref sig .tc := ⟨.hbm, 9284, rfl⟩
abbrev main_c_1209 : Ref sig .tc := ⟨.hbm, 9285, rfl⟩
abbrev main_call298_v0 : Ref sig .tc := ⟨.hbm, 9286, rfl⟩
abbrev main_call298_v1 : Ref sig .tc := ⟨.hbm, 9287, rfl⟩
abbrev main_call298_v2 : Ref sig .tc := ⟨.hbm, 9288, rfl⟩
abbrev main_call298_v3 : Ref sig .tc := ⟨.hbm, 9289, rfl⟩
abbrev main_call298_v4 : Ref sig .tc := ⟨.hbm, 9290, rfl⟩
abbrev main_v4940 : Ref sig .tc := ⟨.hbm, 9291, rfl⟩
abbrev main_v4941 : Ref sig .tc := ⟨.hbm, 9292, rfl⟩
abbrev main_c_1210 : Ref sig .tc := ⟨.hbm, 9293, rfl⟩
abbrev main_c_1211 : Ref sig .tc := ⟨.hbm, 9294, rfl⟩
abbrev main_call299_v0 : Ref sig .tc := ⟨.hbm, 9295, rfl⟩
abbrev main_call299_v1 : Ref sig .tc := ⟨.hbm, 9296, rfl⟩
abbrev main_call299_v2 : Ref sig .tc := ⟨.hbm, 9297, rfl⟩
abbrev main_call299_v3 : Ref sig .tc := ⟨.hbm, 9298, rfl⟩
abbrev main_call299_v4 : Ref sig .tc := ⟨.hbm, 9299, rfl⟩
abbrev main_v4942 : Ref sig .tc := ⟨.hbm, 9300, rfl⟩
abbrev main_v4943 : Ref sig .tc := ⟨.hbm, 9301, rfl⟩
abbrev main_c_1212 : Ref sig .tc := ⟨.hbm, 9302, rfl⟩
abbrev main_v4944 : Ref sig .tc := ⟨.hbm, 9303, rfl⟩
abbrev main_v4945 : Ref sig .tc := ⟨.hbm, 9304, rfl⟩
abbrev main_v4946 : Ref sig .tc := ⟨.hbm, 9305, rfl⟩
abbrev main_v4947 : Ref sig .tc := ⟨.hbm, 9306, rfl⟩
abbrev main_v4948 : Ref sig .tc := ⟨.hbm, 9307, rfl⟩
abbrev main_v4949 : Ref sig .tc := ⟨.hbm, 9308, rfl⟩
abbrev main_call300_c : Ref sig .tc := ⟨.hbm, 9309, rfl⟩
abbrev main_call300_v0 : Ref sig .tc := ⟨.hbm, 9310, rfl⟩
abbrev main_call300_v1 : Ref sig .tc := ⟨.hbm, 9311, rfl⟩
abbrev main_call300_c_0 : Ref sig .tc := ⟨.hbm, 9312, rfl⟩
abbrev main_call300_v2 : Ref sig .tc := ⟨.hbm, 9313, rfl⟩
abbrev main_call300_v3 : Ref sig .tc := ⟨.hbm, 9314, rfl⟩
abbrev main_call300_v4 : Ref sig .tc := ⟨.hbm, 9315, rfl⟩
abbrev main_call300_v5 : Ref sig .tc := ⟨.hbm, 9316, rfl⟩
abbrev main_call300_c_1 : Ref sig .tc := ⟨.hbm, 9317, rfl⟩
abbrev main_call300_c_2 : Ref sig .tc := ⟨.hbm, 9318, rfl⟩
abbrev main_call300_v6 : Ref sig .tc := ⟨.hbm, 9319, rfl⟩
abbrev main_call300_v7 : Ref sig .tc := ⟨.hbm, 9320, rfl⟩
abbrev main_call300_v8 : Ref sig .tc := ⟨.hbm, 9321, rfl⟩
abbrev main_call300_v9 : Ref sig .tc := ⟨.hbm, 9322, rfl⟩
abbrev main_call300_v10 : Ref sig .tc := ⟨.hbm, 9323, rfl⟩
abbrev main_call300_v11 : Ref sig .tc := ⟨.hbm, 9324, rfl⟩
abbrev main_call300_c_3 : Ref sig .tc := ⟨.hbm, 9325, rfl⟩
abbrev main_call300_v12 : Ref sig .tc := ⟨.hbm, 9326, rfl⟩
abbrev main_call300_v13 : Ref sig .tc := ⟨.hbm, 9327, rfl⟩
abbrev main_call300_cst : Ref sig .tc := ⟨.hbm, 9328, rfl⟩
abbrev main_call300_v14 : Ref sig .tc := ⟨.hbm, 9329, rfl⟩
abbrev main_v4950 : Ref sig .tc := ⟨.hbm, 9330, rfl⟩
abbrev main_v4951 : Ref sig .tc := ⟨.hbm, 9331, rfl⟩
abbrev main_v4952 : Ref sig .tc := ⟨.hbm, 9332, rfl⟩
abbrev main_v4953 : Ref sig .tc := ⟨.hbm, 9333, rfl⟩
abbrev main_v4954 : Ref sig .tc := ⟨.hbm, 9334, rfl⟩
abbrev main_v4955 : Ref sig .tc := ⟨.hbm, 9335, rfl⟩
abbrev main_v4956 : Ref sig .tc := ⟨.hbm, 9336, rfl⟩
abbrev main_v4957 : Ref sig .tc := ⟨.hbm, 9337, rfl⟩
abbrev main_v4958 : Ref sig .tc := ⟨.hbm, 9338, rfl⟩
abbrev main_v4959 : Ref sig .tc := ⟨.hbm, 9339, rfl⟩
abbrev main_v4960 : Ref sig .tc := ⟨.hbm, 9340, rfl⟩
abbrev main_v4961 : Ref sig .tc := ⟨.hbm, 9341, rfl⟩
abbrev main_v4962 : Ref sig .tc := ⟨.hbm, 9342, rfl⟩
abbrev main_v4963 : Ref sig .tc := ⟨.hbm, 9343, rfl⟩
abbrev main_v4964 : Ref sig .tc := ⟨.hbm, 9344, rfl⟩
abbrev main_v4965 : Ref sig .tc := ⟨.hbm, 9345, rfl⟩
abbrev main_v4966 : Ref sig .tc := ⟨.hbm, 9346, rfl⟩
abbrev main_v4967 : Ref sig .tc := ⟨.hbm, 9347, rfl⟩
abbrev main_v4968 : Ref sig .tc := ⟨.hbm, 9348, rfl⟩
abbrev main_v4969 : Ref sig .tc := ⟨.hbm, 9349, rfl⟩
abbrev main_cst_1213 : Ref sig .tc := ⟨.hbm, 9350, rfl⟩
abbrev main_v4970 : Ref sig .tc := ⟨.hbm, 9351, rfl⟩
abbrev main_v4971 : Ref sig .tc := ⟨.hbm, 9352, rfl⟩
abbrev main_v4972 : Ref sig .tc := ⟨.hbm, 9353, rfl⟩
abbrev main_v4973 : Ref sig .tc := ⟨.hbm, 9354, rfl⟩
abbrev main_v4974 : Ref sig .tc := ⟨.hbm, 9355, rfl⟩
abbrev main_v4975 : Ref sig .tc := ⟨.hbm, 9356, rfl⟩
abbrev main_v4976 : Ref sig .tc := ⟨.hbm, 9357, rfl⟩
abbrev main_v4977 : Ref sig .tc := ⟨.hbm, 9358, rfl⟩
abbrev main_v4978 : Ref sig .tc := ⟨.hbm, 9359, rfl⟩
abbrev main_v4979 : Ref sig .tc := ⟨.hbm, 9360, rfl⟩
abbrev main_v4980 : Ref sig .tc := ⟨.hbm, 9361, rfl⟩
abbrev main_v4981 : Ref sig .tc := ⟨.hbm, 9362, rfl⟩
abbrev main_v4982 : Ref sig .tc := ⟨.hbm, 9363, rfl⟩
abbrev main_v4983 : Ref sig .tc := ⟨.hbm, 9364, rfl⟩
abbrev main_v4984 : Ref sig .tc := ⟨.hbm, 9365, rfl⟩
abbrev main_v4985 : Ref sig .tc := ⟨.hbm, 9366, rfl⟩
abbrev main_cst_1214 : Ref sig .tc := ⟨.hbm, 9367, rfl⟩
abbrev main_v4986 : Ref sig .tc := ⟨.hbm, 9368, rfl⟩
abbrev main_v4987 : Ref sig .tc := ⟨.hbm, 9369, rfl⟩
abbrev main_cst_1215 : Ref sig .tc := ⟨.hbm, 9370, rfl⟩
abbrev main_v4988 : Ref sig .tc := ⟨.hbm, 9371, rfl⟩
abbrev main_v4989 : Ref sig .tc := ⟨.hbm, 9372, rfl⟩
abbrev main_v4990 : Ref sig .tc := ⟨.hbm, 9373, rfl⟩
abbrev main_v4991 : Ref sig .tc := ⟨.hbm, 9374, rfl⟩
abbrev main_v4992 : Ref sig .tc := ⟨.hbm, 9375, rfl⟩
abbrev main_cst_1216 : Ref sig .tc := ⟨.hbm, 9376, rfl⟩
abbrev main_v4993 : Ref sig .tc := ⟨.hbm, 9377, rfl⟩
abbrev main_v4994 : Ref sig .tc := ⟨.hbm, 9378, rfl⟩
abbrev main_cst_1217 : Ref sig .tc := ⟨.hbm, 9379, rfl⟩
abbrev main_v4995 : Ref sig .tc := ⟨.hbm, 9380, rfl⟩
abbrev main_v4996 : Ref sig .tc := ⟨.hbm, 9381, rfl⟩
abbrev main_v4997 : Ref sig .tc := ⟨.hbm, 9382, rfl⟩
abbrev main_v4998 : Ref sig .tc := ⟨.hbm, 9383, rfl⟩
abbrev main_cst_1218 : Ref sig .tc := ⟨.hbm, 9384, rfl⟩
abbrev main_v4999 : Ref sig .tc := ⟨.hbm, 9385, rfl⟩
abbrev main_v5000 : Ref sig .tc := ⟨.hbm, 9386, rfl⟩
abbrev main_v5001 : Ref sig .tc := ⟨.hbm, 9387, rfl⟩
abbrev main_v5002 : Ref sig .tc := ⟨.hbm, 9388, rfl⟩
abbrev main_v5003 : Ref sig .tc := ⟨.hbm, 9389, rfl⟩
abbrev main_v5004 : Ref sig .tc := ⟨.hbm, 9390, rfl⟩
abbrev main_v5005 : Ref sig .tc := ⟨.hbm, 9391, rfl⟩
abbrev main_v5006 : Ref sig .tc := ⟨.hbm, 9392, rfl⟩
abbrev main_v5007 : Ref sig .tc := ⟨.hbm, 9393, rfl⟩
abbrev main_v5008 : Ref sig .tc := ⟨.hbm, 9394, rfl⟩
abbrev main_v5009 : Ref sig .tc := ⟨.hbm, 9395, rfl⟩
abbrev main_v5010 : Ref sig .tc := ⟨.hbm, 9396, rfl⟩
abbrev main_v5011 : Ref sig .tc := ⟨.hbm, 9397, rfl⟩
abbrev main_v5012 : Ref sig .tc := ⟨.hbm, 9398, rfl⟩
abbrev main_v5013 : Ref sig .tc := ⟨.hbm, 9399, rfl⟩
abbrev main_v5014 : Ref sig .tc := ⟨.hbm, 9400, rfl⟩
abbrev main_v5015 : Ref sig .tc := ⟨.hbm, 9401, rfl⟩
abbrev main_v5016 : Ref sig .tc := ⟨.hbm, 9402, rfl⟩
abbrev main_v5017 : Ref sig .tc := ⟨.hbm, 9403, rfl⟩
abbrev main_call301_cst : Ref sig .tc := ⟨.hbm, 9404, rfl⟩
abbrev main_call301_v0 : Ref sig .tc := ⟨.hbm, 9405, rfl⟩
abbrev main_v5018 : Ref sig .tc := ⟨.hbm, 9406, rfl⟩
abbrev main_v5019 : Ref sig .tc := ⟨.hbm, 9407, rfl⟩
abbrev main_v5020 : Ref sig .tc := ⟨.hbm, 9408, rfl⟩
abbrev main_v5021 : Ref sig .tc := ⟨.hbm, 9409, rfl⟩
abbrev main_v5022 : Ref sig .tc := ⟨.hbm, 9410, rfl⟩
abbrev main_v5023 : Ref sig .tc := ⟨.hbm, 9411, rfl⟩
abbrev main_v5024 : Ref sig .tc := ⟨.hbm, 9412, rfl⟩
abbrev main_v5025 : Ref sig .tc := ⟨.hbm, 9413, rfl⟩
abbrev main_v5026 : Ref sig .tc := ⟨.hbm, 9414, rfl⟩
abbrev main_v5027 : Ref sig .tc := ⟨.hbm, 9415, rfl⟩
abbrev main_v5028 : Ref sig .tc := ⟨.hbm, 9416, rfl⟩
abbrev main_v5029 : Ref sig .tc := ⟨.hbm, 9417, rfl⟩
abbrev main_v5030 : Ref sig .tc := ⟨.hbm, 9418, rfl⟩
abbrev main_v5031 : Ref sig .tc := ⟨.hbm, 9419, rfl⟩
abbrev main_cst_1219 : Ref sig .tc := ⟨.hbm, 9420, rfl⟩
abbrev main_v5032 : Ref sig .tc := ⟨.hbm, 9421, rfl⟩
abbrev main_v5033 : Ref sig .tc := ⟨.hbm, 9422, rfl⟩
abbrev main_cst_1220 : Ref sig .tc := ⟨.hbm, 9423, rfl⟩
abbrev main_v5034 : Ref sig .tc := ⟨.hbm, 9424, rfl⟩
abbrev main_v5035 : Ref sig .tc := ⟨.hbm, 9425, rfl⟩
abbrev main_v5036 : Ref sig .tc := ⟨.hbm, 9426, rfl⟩
abbrev main_v5037 : Ref sig .tc := ⟨.hbm, 9427, rfl⟩
abbrev main_v5038 : Ref sig .tc := ⟨.hbm, 9428, rfl⟩
abbrev main_cst_1221 : Ref sig .tc := ⟨.hbm, 9429, rfl⟩
abbrev main_v5039 : Ref sig .tc := ⟨.hbm, 9430, rfl⟩
abbrev main_v5040 : Ref sig .tc := ⟨.hbm, 9431, rfl⟩
abbrev main_cst_1222 : Ref sig .tc := ⟨.hbm, 9432, rfl⟩
abbrev main_v5041 : Ref sig .tc := ⟨.hbm, 9433, rfl⟩
abbrev main_v5042 : Ref sig .tc := ⟨.hbm, 9434, rfl⟩
abbrev main_v5043 : Ref sig .tc := ⟨.hbm, 9435, rfl⟩
abbrev main_v5044 : Ref sig .tc := ⟨.hbm, 9436, rfl⟩
abbrev main_cst_1223 : Ref sig .tc := ⟨.hbm, 9437, rfl⟩
abbrev main_v5045 : Ref sig .tc := ⟨.hbm, 9438, rfl⟩
abbrev main_v5046 : Ref sig .tc := ⟨.hbm, 9439, rfl⟩
abbrev main_v5047 : Ref sig .tc := ⟨.hbm, 9440, rfl⟩
abbrev main_v5048 : Ref sig .tc := ⟨.hbm, 9441, rfl⟩
abbrev main_v5049 : Ref sig .tc := ⟨.hbm, 9442, rfl⟩
abbrev main_v5050 : Ref sig .tc := ⟨.hbm, 9443, rfl⟩
abbrev main_v5051 : Ref sig .tc := ⟨.hbm, 9444, rfl⟩
abbrev main_v5052 : Ref sig .tc := ⟨.hbm, 9445, rfl⟩
abbrev main_v5053 : Ref sig .tc := ⟨.hbm, 9446, rfl⟩
abbrev main_v5054 : Ref sig .tc := ⟨.hbm, 9447, rfl⟩
abbrev main_v5055 : Ref sig .tc := ⟨.hbm, 9448, rfl⟩

abbrev nD : Nat := 1
abbrev τ : Topo := Topo.v7x

variable {F : FTy → Type} [FloatOps F]
-- ==== Proof.Tidy.lean ====
/- Straight lines that leave the arguments alone: each operation touches buffers of the core only, makes nothing
   afresh and writes one buffer numbered past the nineteen arguments. -/
module

public import Idealize.ShloMosaic.Lib.StableHlo.RunLoop

@[expose] public section

noncomputable section

namespace Cert.Tidy

open Idealize.ShloMosaic Idealize.ShloMosaic.StableHlo

variable {τ : Topo} {s : RefSig} {F : FTy → Type}

/-- The first nineteen buffers of the main memory: the arguments. -/
def IsArg (r : Ref s .tc) : Prop := r.space = .hbm ∧ r.idx.val < 19

/-- The computed test that a buffer is not an argument. -/
def past (r : Ref s .tc) : Bool := Nat.ble 19 r.idx.val

/-- The core's own buffers touched, nothing made afresh, no argument written. -/
def Clean (op : HloOp τ s (Elt F)) : Prop :=
  op.bufs ⊆ tcRefs τ s ∧ op.fresh = ∅ ∧ ∀ r : Ref s .tc, IsArg r → Proc.devRef .tc r ∉ op.writes

/-- Every operation of every line is clean. -/
def Lines (L : List (List (HloOp τ s (Elt F)))) : Prop := ∀ l ∈ L, ∀ op ∈ l, Clean op

/-- No lines at all touch no argument. -/
theorem Lines.nil : Lines ([] : List (List (HloOp τ s (Elt F)))) := fun _ h => nomatch h

variable {l : List (HloOp τ s (Elt F))} {L L' : List (List (HloOp τ s (Elt F)))}

/-- An empty line is clean. -/
theorem Lines.next (t : Lines L) : Lines ([] :: L) := fun l hl => by
  rcases List.mem_cons.mp hl with rfl | hl
  · exact fun _ h => nomatch h
  · exact t l hl

/-- A clean operation before clean lines. -/
theorem Lines.cons {op : HloOp τ s (Elt F)} (h : Clean op) (t : Lines (l :: L)) : Lines ((op :: l) :: L) := fun k hk => by
  rcases List.mem_cons.mp hk with rfl | hk
  · intro o ho
    rcases List.mem_cons.mp ho with rfl | ho
    · exact h
    · exact t l List.mem_cons_self o ho
  · exact t k (List.mem_cons_of_mem _ hk)

/-- Clean lines one after the other. -/
theorem Lines.append (h : Lines L) (h' : Lines L') : Lines (L ++ L') := fun l hl =>
  (List.mem_append.mp hl).elim (h l) (h' l)

/-- An operation that writes one buffer past the arguments is clean. -/
theorem clean {op : HloOp τ s (Elt F)} {y : Ref s .tc} (hb : op.bufs ⊆ tcRefs τ s) (hf : op.fresh = ∅) (hw : op.writes = {Proc.devRef .tc y}) (h : past y = true) :
    Clean op := by
  refine ⟨hb, hf, fun r hr => ?_⟩
  rw [hw, Finset.mem_singleton]
  refine devRef_ne_of_ne fun e => ?_
  subst e
  have := Nat.ble_eq.mp h
  exact absurd hr.2 (by omega)

/-- An operation of one operand whose result is no argument keeps the lines clean. -/
theorem Lines.unary {x y : Ref s .tc} {f : x.ty.Contents (Elt F) → y.ty.Contents (Elt F)} {hx hy} (h : past y = true) (t : Lines (l :: L)) :
    Lines (((StableHlo.unary x y f hx hy : HloOp τ s (Elt F)) :: l) :: L) := .cons (clean (unary_bufs_sub ..) rfl rfl h) t

/-- The same for two operands. -/
theorem Lines.binary {a b y : Ref s .tc} {f : a.ty.Contents (Elt F) → b.ty.Contents (Elt F) → y.ty.Contents (Elt F)} {ha hb hy}
    (h : past y = true) (t : Lines (l :: L)) :
    Lines (((StableHlo.binary a b y f ha hb hy : HloOp τ s (Elt F)) :: l) :: L) := .cons (clean (binary_bufs_sub ..) rfl rfl h) t

/-- The same for no operand. -/
theorem Lines.nullary {y : Ref s .tc} {v : y.ty.Contents (Elt F)} {hy} (h : past y = true) (t : Lines (l :: L)) :
    Lines (((StableHlo.nullary y v hy : HloOp τ s (Elt F)) :: l) :: L) := .cons (clean (nullary_bufs_sub ..) rfl rfl h) t

/-- The same for three operands. -/
theorem Lines.ternary {c a b y : Ref s .tc}
    {f : c.ty.Contents (Elt F) → a.ty.Contents (Elt F) → b.ty.Contents (Elt F) → y.ty.Contents (Elt F)} {hc ha hb hy}
    (h : past y = true) (t : Lines (l :: L)) :
    Lines (((StableHlo.ternary c a b y f hc ha hb hy : HloOp τ s (Elt F)) :: l) :: L) := .cons (clean (ternary_bufs_sub ..) rfl rfl h) t

/-- The same for a reshape. -/
theorem Lines.reshape {x y : Ref s .tc} {he hn hx hy} (h : past y = true) (t : Lines (l :: L)) :
    Lines (((StableHlo.reshape x y he hn hx hy : HloOp τ s (Elt F)) :: l) :: L) := .cons (clean (reshape_bufs_sub ..) rfl rfl h) t

/-- The same for any number of operands. -/
theorem Lines.nary {n : Nat} {xs : Fin n → Ref s .tc} {y : Ref s .tc} {f : ((i : Fin n) → (xs i).ty.Contents (Elt F)) → y.ty.Contents (Elt F)}
    {hx hy} (h : past y = true) (t : Lines (l :: L)) :
    Lines (((StableHlo.nary xs y f hx hy : HloOp τ s (Elt F)) :: l) :: L) := .cons (clean (nary_bufs_sub ..) rfl rfl h) t

/-- The lines make nothing afresh. -/
theorem Lines.fresh (h : Lines L) : L.Forall fun ops => ops.Forall fun op => op.fresh = ∅ :=
  List.forall_iff_forall_mem.mpr fun l hl => List.forall_iff_forall_mem.mpr fun op ho => (h l hl op ho).2.1

/-- The lines touch the core's own buffers only. -/
theorem Lines.sub (h : Lines L) : L.Forall fun ops => ops.Forall fun op => op.bufs ⊆ tcRefs τ s :=
  List.forall_iff_forall_mem.mpr fun l hl => List.forall_iff_forall_mem.mpr fun op ho => (h l hl op ho).1

/-- The lines leave an argument as it was. -/
theorem Lines.keep (h : Lines L) (V : Valuation τ s (Elt F)) {r : Ref s .tc} (hr : IsArg r) :
    after L.flatten V (Proc.devRef .tc r) = V (Proc.devRef .tc r) :=
  after_of_forall_not_mem _ _ fun op ho => by
    obtain ⟨l, hl, ho⟩ := List.mem_flatten.mp ho
    exact (h l hl op ho).2.2 r hr

end Cert.Tidy

end
-- ==== Proof.KernelIdealTidy0.lean ====
/- The host operations of the kernel over the ideal numbers, windows 0 to 12: each leaves the arguments alone. -/
module

public import proofs.«01_k».proof.Proof.Tidy
public import proofs.«01_k».proof.Proof.Gen.KernelIdeal.Launch

@[expose] public section

set_option maxRecDepth 8948
set_option maxHeartbeats 20000000

noncomputable section

namespace Cert.KernelIdealTidy

open Idealize.ShloMosaic Idealize.ShloMosaic.StableHlo Cert.Tidy Cert.KernelIdeal Cert.KernelIdeal.Gen

variable {F : FTy → Type} [FloatOps F]

/-- The stretches of windows 0 to 12. -/
abbrev lines0 : List (List (HloOp τ sig (Elt F))) :=
  [main_part0_ops0, main_part0_ops1, main_part0_ops2, main_part0_ops3, main_part0_ops4, main_part0_ops5,
    main_part0_ops6, main_part0_ops7, main_part0_ops8, main_part1_ops0, main_part1_ops1, main_part1_ops2,
    main_part1_ops3, main_part1_ops4, main_part1_ops5, main_part1_ops6, main_part1_ops7, main_part1_ops8,
    main_part2_ops0, main_part3_ops0, main_part4_ops0, main_part4_ops1, main_part4_ops2, main_part4_ops3,
    main_part4_ops4, main_part4_ops5, main_part4_ops6, main_part5_ops0, main_part5_ops1, main_part5_ops2,
    main_part5_ops3, main_part5_ops4, main_part5_ops5, main_part5_ops6, main_part5_ops7, main_part5_ops8,
    main_part6_ops0, main_part6_ops1, main_part6_ops2, main_part6_ops3, main_part6_ops4, main_part6_ops5,
    main_part6_ops6, main_part6_ops7, main_part6_ops8, main_part6_ops9, main_part6_ops10, main_part7_ops0,
    main_part8_ops0, main_part8_ops1, main_part8_ops2, main_part8_ops3, main_part8_ops4, main_part8_ops5,
    main_part8_ops6, main_part8_ops7, main_part8_ops8, main_part8_ops9, main_part8_ops10, main_part9_ops0,
    main_part9_ops1, main_part9_ops2, main_part9_ops3, main_part9_ops4, main_part9_ops5, main_part9_ops6,
    main_part9_ops7, main_part9_ops8, main_part10_ops0, main_part10_ops1, main_part10_ops2, main_part10_ops3,
    main_part10_ops4, main_part10_ops5, main_part10_ops6, main_part11_ops0, main_part11_ops1, main_part11_ops2,
    main_part11_ops3, main_part11_ops4, main_part12_ops0, main_part12_ops1, main_part12_ops2, main_part12_ops3,
    main_part12_ops4, main_part12_ops5, main_part12_ops6, main_part12_ops7, main_part12_ops8]

/-- They are clean. -/
theorem tidy0 : Lines (lines0 (F := F)) := by
  delta lines0
  repeat'
    first
      | with_reducible refine Lines.unary ?_ ?_
      | with_reducible refine Lines.binary ?_ ?_
      | with_reducible refine Lines.nullary ?_ ?_
      | with_reducible refine Lines.reshape ?_ ?_
      | with_reducible refine Lines.ternary ?_ ?_
      | with_reducible refine Lines.nary ?_ ?_
      | with_reducible refine Lines.next ?_
      | exact rfl
      | exact Lines.nil

end Cert.KernelIdealTidy

end
-- ==== Proof.KernelIdealTidy1.lean ====
/- The host operations of the kernel over the ideal numbers, windows 13 to 25: each leaves the arguments alone. -/
module

public import proofs.«01_k».proof.Proof.Tidy
public import proofs.«01_k».proof.Proof.Gen.KernelIdeal.Launch

@[expose] public section

set_option maxRecDepth 8948
set_option maxHeartbeats 20000000

noncomputable section

namespace Cert.KernelIdealTidy

open Idealize.ShloMosaic Idealize.ShloMosaic.StableHlo Cert.Tidy Cert.KernelIdeal Cert.KernelIdeal.Gen

variable {F : FTy → Type} [FloatOps F]

/-- The stretches of windows 13 to 25. -/
abbrev lines1 : List (List (HloOp τ sig (Elt F))) :=
  [main_part13_ops0, main_part13_ops1, main_part13_ops2, main_part13_ops3, main_part13_ops4, main_part13_ops5,
    main_part13_ops6, main_part13_ops7, main_part13_ops8, main_part13_ops9, main_part13_ops10, main_part14_ops0,
    main_part14_ops1, main_part15_ops0, main_part15_ops1, main_part15_ops2, main_part15_ops3, main_part15_ops4,
    main_part15_ops5, main_part15_ops6, main_part16_ops0, main_part16_ops1, main_part16_ops2, main_part16_ops3,
    main_part16_ops4, main_part16_ops5, main_part16_ops6, main_part16_ops7, main_part16_ops8, main_part16_ops9,
    main_part16_ops10, main_part16_ops11, main_part16_ops12, main_part17_ops0, main_part17_ops1, main_part17_ops2,
    main_part17_ops3, main_part17_ops4, main_part17_ops5, main_part17_ops6, main_part18_ops0, main_part18_ops1,
    main_part18_ops2, main_part19_ops0, main_part20_ops0, main_part21_ops0, main_part21_ops1, main_part21_ops2,
    main_part21_ops3, main_part21_ops4, main_part21_ops5, main_part21_ops6, main_part22_ops0, main_part22_ops1,
    main_part22_ops2, main_part22_ops3, main_part22_ops4, main_part22_ops5, main_part22_ops6, main_part22_ops7,
    main_part23_ops0, main_part23_ops1, main_part23_ops2, main_part23_ops3, main_part23_ops4, main_part23_ops5,
    main_part23_ops6, main_part23_ops7, main_part23_ops8, main_part23_ops9, main_part23_ops10, main_part24_ops0,
    main_part25_ops0, main_part25_ops1, main_part25_ops2, main_part25_ops3, main_part25_ops4, main_part25_ops5,
    main_part25_ops6, main_part25_ops7, main_part25_ops8, main_part25_ops9, main_part25_ops10]

/-- They are clean. -/
theorem tidy1 : Lines (lines1 (F := F)) := by
  delta lines1
  repeat'
    first
      | with_reducible refine Lines.unary ?_ ?_
      | with_reducible refine Lines.binary ?_ ?_
      | with_reducible refine Lines.nullary ?_ ?_
      | with_reducible refine Lines.reshape ?_ ?_
      | with_reducible refine Lines.ternary ?_ ?_
      | with_reducible refine Lines.nary ?_ ?_
      | with_reducible refine Lines.next ?_
      | exact rfl
      | exact Lines.nil

end Cert.KernelIdealTidy

end
-- ==== Proof.KernelIdealTidy2.lean ====
/- The host operations of the kernel over the ideal numbers, windows 26 to 38: each leaves the arguments alone. -/
module

public import proofs.«01_k».proof.Proof.Tidy
public import proofs.«01_k».proof.Proof.Gen.KernelIdeal.Launch

@[expose] public section

set_option maxRecDepth 8948
set_option maxHeartbeats 20000000

noncomputable section

namespace Cert.KernelIdealTidy

open Idealize.ShloMosaic Idealize.ShloMosaic.StableHlo Cert.Tidy Cert.KernelIdeal Cert.KernelIdeal.Gen

variable {F : FTy → Type} [FloatOps F]

/-- The stretches of windows 26 to 38. -/
abbrev lines2 : List (List (HloOp τ sig (Elt F))) :=
  [main_part26_ops0, main_part26_ops1, main_part26_ops2, main_part26_ops3, main_part26_ops4, main_part26_ops5,
    main_part26_ops6, main_part26_ops7, main_part26_ops8, main_part27_ops0, main_part27_ops1, main_part27_ops2,
    main_part27_ops3, main_part27_ops4, main_part27_ops5, main_part27_ops6, main_part28_ops0, main_part28_ops1,
    main_part28_ops2, main_part28_ops3, main_part28_ops4, main_part29_ops0, main_part29_ops1, main_part29_ops2,
    main_part29_ops3, main_part29_ops4, main_part29_ops5, main_part29_ops6, main_part29_ops7, main_part29_ops8,
    main_part30_ops0, main_part30_ops1, main_part30_ops2, main_part30_ops3, main_part30_ops4, main_part30_ops5,
    main_part30_ops6, main_part30_ops7, main_part30_ops8, main_part30_ops9, main_part30_ops10, main_part31_ops0,
    main_part31_ops1, main_part31_ops2, main_part32_ops0, main_part32_ops1, main_part32_ops2, main_part32_ops3,
    main_part32_ops4, main_part32_ops5, main_part32_ops6, main_part33_ops0, main_part33_ops1, main_part33_ops2,
    main_part33_ops3, main_part33_ops4, main_part33_ops5, main_part33_ops6, main_part33_ops7, main_part33_ops8,
    main_part33_ops9, main_part33_ops10, main_part33_ops11, main_part33_ops12, main_part34_ops0, main_part34_ops1,
    main_part34_ops2, main_part34_ops3, main_part34_ops4, main_part34_ops5, main_part34_ops6, main_part35_ops0,
    main_part35_ops1, main_part35_ops2, main_part36_ops0, main_part37_ops0, main_part38_ops0, main_part38_ops1,
    main_part38_ops2, main_part38_ops3, main_part38_ops4, main_part38_ops5, main_part38_ops6]

/-- They are clean. -/
theorem tidy2 : Lines (lines2 (F := F)) := by
  delta lines2
  repeat'
    first
      | with_reducible refine Lines.unary ?_ ?_
      | with_reducible refine Lines.binary ?_ ?_
      | with_reducible refine Lines.nullary ?_ ?_
      | with_reducible refine Lines.reshape ?_ ?_
      | with_reducible refine Lines.ternary ?_ ?_
      | with_reducible refine Lines.nary ?_ ?_
      | with_reducible refine Lines.next ?_
      | exact rfl
      | exact Lines.nil

end Cert.KernelIdealTidy

end
-- ==== Proof.KernelIdealTidy3.lean ====
/- The host operations of the kernel over the ideal numbers, windows 39 to 51: each leaves the arguments alone. -/
module

public import proofs.«01_k».proof.Proof.Tidy
public import proofs.«01_k».proof.Proof.Gen.KernelIdeal.Launch

@[expose] public section

set_option maxRecDepth 8948
set_option maxHeartbeats 20000000

noncomputable section

namespace Cert.KernelIdealTidy

open Idealize.ShloMosaic Idealize.ShloMosaic.StableHlo Cert.Tidy Cert.KernelIdeal Cert.KernelIdeal.Gen

variable {F : FTy → Type} [FloatOps F]

/-- The stretches of windows 39 to 51. -/
abbrev lines3 : List (List (HloOp τ sig (Elt F))) :=
  [main_part39_ops0, main_part39_ops1, main_part39_ops2, main_part39_ops3, main_part39_ops4, main_part39_ops5,
    main_part39_ops6, main_part40_ops0, main_part40_ops1, main_part40_ops2, main_part40_ops3, main_part40_ops4,
    main_part40_ops5, main_part40_ops6, main_part40_ops7, main_part40_ops8, main_part40_ops9, main_part40_ops10,
    main_part40_ops11, main_part40_ops12, main_part41_ops0, main_part42_ops0, main_part42_ops1, main_part42_ops2,
    main_part42_ops3, main_part42_ops4, main_part42_ops5, main_part42_ops6, main_part42_ops7, main_part42_ops8,
    main_part43_ops0, main_part43_ops1, main_part43_ops2, main_part43_ops3, main_part43_ops4, main_part43_ops5,
    main_part43_ops6, main_part43_ops7, main_part43_ops8, main_part43_ops9, main_part44_ops0, main_part44_ops1,
    main_part44_ops2, main_part44_ops3, main_part44_ops4, main_part44_ops5, main_part44_ops6, main_part45_ops0,
    main_part45_ops1, main_part45_ops2, main_part45_ops3, main_part45_ops4, main_part46_ops0, main_part46_ops1,
    main_part46_ops2, main_part46_ops3, main_part46_ops4, main_part46_ops5, main_part46_ops6, main_part46_ops7,
    main_part46_ops8, main_part47_ops0, main_part47_ops1, main_part47_ops2, main_part47_ops3, main_part47_ops4,
    main_part47_ops5, main_part47_ops6, main_part47_ops7, main_part47_ops8, main_part47_ops9, main_part47_ops10,
    main_part48_ops0, main_part48_ops1, main_part48_ops2, main_part49_ops0, main_part49_ops1, main_part49_ops2,
    main_part49_ops3, main_part49_ops4, main_part49_ops5, main_part49_ops6, main_part50_ops0, main_part50_ops1,
    main_part50_ops2, main_part50_ops3, main_part50_ops4, main_part50_ops5, main_part50_ops6, main_part50_ops7,
    main_part50_ops8, main_part50_ops9, main_part50_ops10, main_part50_ops11, main_part51_ops0, main_part51_ops1,
    main_part51_ops2, main_part51_ops3, main_part51_ops4, main_part51_ops5, main_part51_ops6]

/-- They are clean. -/
theorem tidy3 : Lines (lines3 (F := F)) := by
  delta lines3
  repeat'
    first
      | with_reducible refine Lines.unary ?_ ?_
      | with_reducible refine Lines.binary ?_ ?_
      | with_reducible refine Lines.nullary ?_ ?_
      | with_reducible refine Lines.reshape ?_ ?_
      | with_reducible refine Lines.ternary ?_ ?_
      | with_reducible refine Lines.nary ?_ ?_
      | with_reducible refine Lines.next ?_
      | exact rfl
      | exact Lines.nil

end Cert.KernelIdealTidy

end
-- ==== Proof.KernelIdealTidy4.lean ====
/- The host operations of the kernel over the ideal numbers, windows 52 to 64: each leaves the arguments alone. -/
module

public import proofs.«01_k».proof.Proof.Tidy
public import proofs.«01_k».proof.Proof.Gen.KernelIdeal.Launch

@[expose] public section

set_option maxRecDepth 8948
set_option maxHeartbeats 20000000

noncomputable section

namespace Cert.KernelIdealTidy

open Idealize.ShloMosaic Idealize.ShloMosaic.StableHlo Cert.Tidy Cert.KernelIdeal Cert.KernelIdeal.Gen

variable {F : FTy → Type} [FloatOps F]

/-- The stretches of windows 52 to 64. -/
abbrev lines4 : List (List (HloOp τ sig (Elt F))) :=
  [main_part52_ops0, main_part52_ops1, main_part52_ops2, main_part53_ops0, main_part54_ops0, main_part55_ops0,
    main_part55_ops1, main_part55_ops2, main_part55_ops3, main_part55_ops4, main_part55_ops5, main_part55_ops6,
    main_part56_ops0, main_part56_ops1, main_part56_ops2, main_part56_ops3, main_part56_ops4, main_part56_ops5,
    main_part56_ops6, main_part57_ops0, main_part57_ops1, main_part57_ops2, main_part57_ops3, main_part57_ops4,
    main_part57_ops5, main_part57_ops6, main_part57_ops7, main_part57_ops8, main_part57_ops9, main_part57_ops10,
    main_part57_ops11, main_part57_ops12, main_part58_ops0, main_part59_ops0, main_part59_ops1, main_part59_ops2,
    main_part59_ops3, main_part59_ops4, main_part59_ops5, main_part59_ops6, main_part59_ops7, main_part59_ops8,
    main_part60_ops0, main_part60_ops1, main_part60_ops2, main_part60_ops3, main_part60_ops4, main_part60_ops5,
    main_part60_ops6, main_part60_ops7, main_part60_ops8, main_part60_ops9, main_part60_ops10, main_part61_ops0,
    main_part61_ops1, main_part61_ops2, main_part61_ops3, main_part61_ops4, main_part61_ops5, main_part61_ops6,
    main_part62_ops0, main_part62_ops1, main_part62_ops2, main_part62_ops3, main_part62_ops4, main_part63_ops0,
    main_part63_ops1, main_part63_ops2, main_part63_ops3, main_part63_ops4, main_part63_ops5, main_part63_ops6,
    main_part63_ops7, main_part63_ops8, main_part64_ops0, main_part64_ops1, main_part64_ops2, main_part64_ops3,
    main_part64_ops4, main_part64_ops5, main_part64_ops6, main_part64_ops7, main_part64_ops8, main_part64_ops9,
    main_part64_ops10]

/-- They are clean. -/
theorem tidy4 : Lines (lines4 (F := F)) := by
  delta lines4
  repeat'
    first
      | with_reducible refine Lines.unary ?_ ?_
      | with_reducible refine Lines.binary ?_ ?_
      | with_reducible refine Lines.nullary ?_ ?_
      | with_reducible refine Lines.reshape ?_ ?_
      | with_reducible refine Lines.ternary ?_ ?_
      | with_reducible refine Lines.nary ?_ ?_
      | with_reducible refine Lines.next ?_
      | exact rfl
      | exact Lines.nil

end Cert.KernelIdealTidy

end
-- ==== Proof.KernelIdealTidy5.lean ====
/- The host operations of the kernel over the ideal numbers, windows 65 to 77: each leaves the arguments alone. -/
module

public import proofs.«01_k».proof.Proof.Tidy
public import proofs.«01_k».proof.Proof.Gen.KernelIdeal.Launch

@[expose] public section

set_option maxRecDepth 8948
set_option maxHeartbeats 20000000

noncomputable section

namespace Cert.KernelIdealTidy

open Idealize.ShloMosaic Idealize.ShloMosaic.StableHlo Cert.Tidy Cert.KernelIdeal Cert.KernelIdeal.Gen

variable {F : FTy → Type} [FloatOps F]

/-- The stretches of windows 65 to 77. -/
abbrev lines5 : List (List (HloOp τ sig (Elt F))) :=
  [main_part65_ops0, main_part65_ops1, main_part65_ops2, main_part66_ops0, main_part66_ops1, main_part66_ops2,
    main_part66_ops3, main_part66_ops4, main_part66_ops5, main_part66_ops6, main_part67_ops0, main_part67_ops1,
    main_part67_ops2, main_part67_ops3, main_part67_ops4, main_part67_ops5, main_part67_ops6, main_part67_ops7,
    main_part67_ops8, main_part67_ops9, main_part67_ops10, main_part68_ops0, main_part68_ops1, main_part68_ops2,
    main_part68_ops3, main_part68_ops4, main_part68_ops5, main_part68_ops6, main_part68_ops7, main_part68_ops8,
    main_part69_ops0, main_part69_ops1, main_part69_ops2, main_part70_ops0, main_part71_ops0, main_part72_ops0,
    main_part72_ops1, main_part72_ops2, main_part72_ops3, main_part72_ops4, main_part72_ops5, main_part73_ops0,
    main_part73_ops1, main_part73_ops2, main_part73_ops3, main_part73_ops4, main_part73_ops5, main_part73_ops6,
    main_part74_ops0, main_part74_ops1, main_part74_ops2, main_part74_ops3, main_part74_ops4, main_part74_ops5,
    main_part74_ops6, main_part74_ops7, main_part74_ops8, main_part74_ops9, main_part74_ops10, main_part74_ops11,
    main_part74_ops12, main_part75_ops0, main_part76_ops0, main_part76_ops1, main_part76_ops2, main_part76_ops3,
    main_part76_ops4, main_part76_ops5, main_part76_ops6, main_part77_ops0, main_part77_ops1, main_part77_ops2,
    main_part77_ops3, main_part77_ops4, main_part77_ops5, main_part77_ops6, main_part77_ops7, main_part77_ops8,
    main_part77_ops9, main_part77_ops10, main_part77_ops11]

/-- They are clean. -/
theorem tidy5 : Lines (lines5 (F := F)) := by
  delta lines5
  repeat'
    first
      | with_reducible refine Lines.unary ?_ ?_
      | with_reducible refine Lines.binary ?_ ?_
      | with_reducible refine Lines.nullary ?_ ?_
      | with_reducible refine Lines.reshape ?_ ?_
      | with_reducible refine Lines.ternary ?_ ?_
      | with_reducible refine Lines.nary ?_ ?_
      | with_reducible refine Lines.next ?_
      | exact rfl
      | exact Lines.nil

end Cert.KernelIdealTidy

end
-- ==== Proof.KernelIdealTidy6.lean ====
/- The host operations of the kernel over the ideal numbers, windows 78 to 90: each leaves the arguments alone. -/
module

public import proofs.«01_k».proof.Proof.Tidy
public import proofs.«01_k».proof.Proof.Gen.KernelIdeal.Launch

@[expose] public section

set_option maxRecDepth 8948
set_option maxHeartbeats 20000000

noncomputable section

namespace Cert.KernelIdealTidy

open Idealize.ShloMosaic Idealize.ShloMosaic.StableHlo Cert.Tidy Cert.KernelIdeal Cert.KernelIdeal.Gen

variable {F : FTy → Type} [FloatOps F]

/-- The stretches of windows 78 to 90. -/
abbrev lines6 : List (List (HloOp τ sig (Elt F))) :=
  [main_part78_ops0, main_part78_ops1, main_part78_ops2, main_part78_ops3, main_part78_ops4, main_part78_ops5,
    main_part78_ops6, main_part79_ops0, main_part79_ops1, main_part79_ops2, main_part80_ops0, main_part80_ops1,
    main_part80_ops2, main_part80_ops3, main_part80_ops4, main_part80_ops5, main_part80_ops6, main_part80_ops7,
    main_part80_ops8, main_part80_ops9, main_part81_ops0, main_part81_ops1, main_part81_ops2, main_part81_ops3,
    main_part81_ops4, main_part81_ops5, main_part81_ops6, main_part81_ops7, main_part81_ops8, main_part81_ops9,
    main_part82_ops0, main_part82_ops1, main_part82_ops2, main_part83_ops0, main_part83_ops1, main_part83_ops2,
    main_part83_ops3, main_part83_ops4, main_part83_ops5, main_part83_ops6, main_part84_ops0, main_part84_ops1,
    main_part84_ops2, main_part84_ops3, main_part84_ops4, main_part84_ops5, main_part84_ops6, main_part84_ops7,
    main_part84_ops8, main_part84_ops9, main_part84_ops10, main_part85_ops0, main_part85_ops1, main_part85_ops2,
    main_part85_ops3, main_part85_ops4, main_part85_ops5, main_part85_ops6, main_part85_ops7, main_part85_ops8,
    main_part86_ops0, main_part86_ops1, main_part86_ops2, main_part87_ops0, main_part88_ops0, main_part89_ops0,
    main_part89_ops1, main_part89_ops2, main_part89_ops3, main_part89_ops4, main_part90_ops0, main_part90_ops1,
    main_part90_ops2, main_part90_ops3, main_part90_ops4, main_part90_ops5, main_part90_ops6, main_part90_ops7,
    main_part90_ops8]

/-- They are clean. -/
theorem tidy6 : Lines (lines6 (F := F)) := by
  delta lines6
  repeat'
    first
      | with_reducible refine Lines.unary ?_ ?_
      | with_reducible refine Lines.binary ?_ ?_
      | with_reducible refine Lines.nullary ?_ ?_
      | with_reducible refine Lines.reshape ?_ ?_
      | with_reducible refine Lines.ternary ?_ ?_
      | with_reducible refine Lines.nary ?_ ?_
      | with_reducible refine Lines.next ?_
      | exact rfl
      | exact Lines.nil

end Cert.KernelIdealTidy

end
-- ==== Proof.KernelIdealTidy7.lean ====
/- The host operations of the kernel over the ideal numbers, windows 91 to 104: each leaves the arguments alone. -/
module

public import proofs.«01_k».proof.Proof.Tidy
public import proofs.«01_k».proof.Proof.Gen.KernelIdeal.Launch

@[expose] public section

set_option maxRecDepth 8948
set_option maxHeartbeats 20000000

noncomputable section

namespace Cert.KernelIdealTidy

open Idealize.ShloMosaic Idealize.ShloMosaic.StableHlo Cert.Tidy Cert.KernelIdeal Cert.KernelIdeal.Gen

variable {F : FTy → Type} [FloatOps F]

/-- The stretches of windows 91 to 104. -/
abbrev lines7 : List (List (HloOp τ sig (Elt F))) :=
  [main_part91_ops0, main_part91_ops1, main_part91_ops2, main_part91_ops3, main_part91_ops4, main_part91_ops5,
    main_part91_ops6, main_part91_ops7, main_part91_ops8, main_part91_ops9, main_part91_ops10, main_part92_ops0,
    main_part92_ops1, main_part93_ops0, main_part93_ops1, main_part93_ops2, main_part93_ops3, main_part93_ops4,
    main_part93_ops5, main_part93_ops6, main_part94_ops0, main_part94_ops1, main_part94_ops2, main_part94_ops3,
    main_part94_ops4, main_part94_ops5, main_part94_ops6, main_part94_ops7, main_part94_ops8, main_part94_ops9,
    main_part94_ops10, main_part94_ops11, main_part94_ops12, main_part95_ops0, main_part95_ops1, main_part95_ops2,
    main_part95_ops3, main_part95_ops4, main_part95_ops5, main_part95_ops6, main_part96_ops0, main_part96_ops1,
    main_part96_ops2, main_part97_ops0, main_part97_ops1, main_part97_ops2, main_part97_ops3, main_part97_ops4,
    main_part97_ops5, main_part97_ops6, main_part97_ops7, main_part97_ops8, main_part97_ops9, main_part97_ops10,
    main_part98_ops0, main_part98_ops1, main_part98_ops2, main_part98_ops3, main_part98_ops4, main_part98_ops5,
    main_part98_ops6, main_part98_ops7, main_part98_ops8, main_part99_ops0, main_part99_ops1, main_part99_ops2,
    main_part99_ops3, main_part99_ops4, main_part100_ops0, main_part100_ops1, main_part100_ops2, main_part100_ops3,
    main_part100_ops4, main_part100_ops5, main_part100_ops6, main_part101_ops0, main_part101_ops1, main_part101_ops2,
    main_part101_ops3, main_part101_ops4, main_part101_ops5, main_part101_ops6, main_part101_ops7, main_part101_ops8,
    main_part101_ops9, main_part101_ops10, main_part102_ops0, main_part102_ops1, main_part102_ops2, main_part102_ops3,
    main_part102_ops4, main_part102_ops5, main_part102_ops6, main_part102_ops7, main_part102_ops8, main_part103_ops0,
    main_part103_ops1, main_part104_ops0]

/-- They are clean. -/
theorem tidy7 : Lines (lines7 (F := F)) := by
  delta lines7
  repeat'
    first
      | with_reducible refine Lines.unary ?_ ?_
      | with_reducible refine Lines.binary ?_ ?_
      | with_reducible refine Lines.nullary ?_ ?_
      | with_reducible refine Lines.reshape ?_ ?_
      | with_reducible refine Lines.ternary ?_ ?_
      | with_reducible refine Lines.nary ?_ ?_
      | with_reducible refine Lines.next ?_
      | exact rfl
      | exact Lines.nil

end Cert.KernelIdealTidy

end
-- ==== Proof.KernelIdealRun.lean ====
/- The kernel over the ideal numbers as a whole: its host program leaves the arguments alone, its one region copies an array, and so every run
   ends with the arguments as launched. The region's part of the text follows the generated certificate of this
   program, which treats the same region. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdealTidy0
public import proofs.«01_k».proof.Proof.KernelIdealTidy1
public import proofs.«01_k».proof.Proof.KernelIdealTidy2
public import proofs.«01_k».proof.Proof.KernelIdealTidy3
public import proofs.«01_k».proof.Proof.KernelIdealTidy4
public import proofs.«01_k».proof.Proof.KernelIdealTidy5
public import proofs.«01_k».proof.Proof.KernelIdealTidy6
public import proofs.«01_k».proof.Proof.KernelIdealTidy7
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The host program before the region, stretch by stretch. -/
def stretches : List (List (HloOp τ sig (Elt F))) :=
  [main_part0_ops0, main_part0_ops1, main_part0_ops2, main_part0_ops3, main_part0_ops4, main_part0_ops5,
    main_part0_ops6, main_part0_ops7, main_part0_ops8, main_part1_ops0, main_part1_ops1, main_part1_ops2,
    main_part1_ops3, main_part1_ops4, main_part1_ops5, main_part1_ops6, main_part1_ops7, main_part1_ops8,
    main_part2_ops0, main_part3_ops0, main_part4_ops0, main_part4_ops1, main_part4_ops2, main_part4_ops3,
    main_part4_ops4, main_part4_ops5, main_part4_ops6, main_part5_ops0, main_part5_ops1, main_part5_ops2,
    main_part5_ops3, main_part5_ops4, main_part5_ops5, main_part5_ops6, main_part5_ops7, main_part5_ops8,
    main_part6_ops0, main_part6_ops1, main_part6_ops2, main_part6_ops3, main_part6_ops4, main_part6_ops5,
    main_part6_ops6, main_part6_ops7, main_part6_ops8, main_part6_ops9, main_part6_ops10, main_part7_ops0,
    main_part8_ops0, main_part8_ops1, main_part8_ops2, main_part8_ops3, main_part8_ops4, main_part8_ops5,
    main_part8_ops6, main_part8_ops7, main_part8_ops8, main_part8_ops9, main_part8_ops10, main_part9_ops0,
    main_part9_ops1, main_part9_ops2, main_part9_ops3, main_part9_ops4, main_part9_ops5, main_part9_ops6,
    main_part9_ops7, main_part9_ops8, main_part10_ops0, main_part10_ops1, main_part10_ops2, main_part10_ops3,
    main_part10_ops4, main_part10_ops5, main_part10_ops6, main_part11_ops0, main_part11_ops1, main_part11_ops2,
    main_part11_ops3, main_part11_ops4, main_part12_ops0, main_part12_ops1, main_part12_ops2, main_part12_ops3,
    main_part12_ops4, main_part12_ops5, main_part12_ops6, main_part12_ops7, main_part12_ops8, main_part13_ops0,
    main_part13_ops1, main_part13_ops2, main_part13_ops3, main_part13_ops4, main_part13_ops5, main_part13_ops6,
    main_part13_ops7, main_part13_ops8, main_part13_ops9, main_part13_ops10, main_part14_ops0, main_part14_ops1,
    main_part15_ops0, main_part15_ops1, main_part15_ops2, main_part15_ops3, main_part15_ops4, main_part15_ops5,
    main_part15_ops6, main_part16_ops0, main_part16_ops1, main_part16_ops2, main_part16_ops3, main_part16_ops4,
    main_part16_ops5, main_part16_ops6, main_part16_ops7, main_part16_ops8, main_part16_ops9, main_part16_ops10,
    main_part16_ops11, main_part16_ops12, main_part17_ops0, main_part17_ops1, main_part17_ops2, main_part17_ops3,
    main_part17_ops4, main_part17_ops5, main_part17_ops6, main_part18_ops0, main_part18_ops1, main_part18_ops2,
    main_part19_ops0, main_part20_ops0, main_part21_ops0, main_part21_ops1, main_part21_ops2, main_part21_ops3,
    main_part21_ops4, main_part21_ops5, main_part21_ops6, main_part22_ops0, main_part22_ops1, main_part22_ops2,
    main_part22_ops3, main_part22_ops4, main_part22_ops5, main_part22_ops6, main_part22_ops7, main_part23_ops0,
    main_part23_ops1, main_part23_ops2, main_part23_ops3, main_part23_ops4, main_part23_ops5, main_part23_ops6,
    main_part23_ops7, main_part23_ops8, main_part23_ops9, main_part23_ops10, main_part24_ops0, main_part25_ops0,
    main_part25_ops1, main_part25_ops2, main_part25_ops3, main_part25_ops4, main_part25_ops5, main_part25_ops6,
    main_part25_ops7, main_part25_ops8, main_part25_ops9, main_part25_ops10, main_part26_ops0, main_part26_ops1,
    main_part26_ops2, main_part26_ops3, main_part26_ops4, main_part26_ops5, main_part26_ops6, main_part26_ops7,
    main_part26_ops8, main_part27_ops0, main_part27_ops1, main_part27_ops2, main_part27_ops3, main_part27_ops4,
    main_part27_ops5, main_part27_ops6, main_part28_ops0, main_part28_ops1, main_part28_ops2, main_part28_ops3,
    main_part28_ops4, main_part29_ops0, main_part29_ops1, main_part29_ops2, main_part29_ops3, main_part29_ops4,
    main_part29_ops5, main_part29_ops6, main_part29_ops7, main_part29_ops8, main_part30_ops0, main_part30_ops1,
    main_part30_ops2, main_part30_ops3, main_part30_ops4, main_part30_ops5, main_part30_ops6, main_part30_ops7,
    main_part30_ops8, main_part30_ops9, main_part30_ops10, main_part31_ops0, main_part31_ops1, main_part31_ops2,
    main_part32_ops0, main_part32_ops1, main_part32_ops2, main_part32_ops3, main_part32_ops4, main_part32_ops5,
    main_part32_ops6, main_part33_ops0, main_part33_ops1, main_part33_ops2, main_part33_ops3, main_part33_ops4,
    main_part33_ops5, main_part33_ops6, main_part33_ops7, main_part33_ops8, main_part33_ops9, main_part33_ops10,
    main_part33_ops11, main_part33_ops12, main_part34_ops0, main_part34_ops1, main_part34_ops2, main_part34_ops3,
    main_part34_ops4, main_part34_ops5, main_part34_ops6, main_part35_ops0, main_part35_ops1, main_part35_ops2,
    main_part36_ops0, main_part37_ops0, main_part38_ops0, main_part38_ops1, main_part38_ops2, main_part38_ops3,
    main_part38_ops4, main_part38_ops5, main_part38_ops6, main_part39_ops0, main_part39_ops1, main_part39_ops2,
    main_part39_ops3, main_part39_ops4, main_part39_ops5, main_part39_ops6, main_part40_ops0, main_part40_ops1,
    main_part40_ops2, main_part40_ops3, main_part40_ops4, main_part40_ops5, main_part40_ops6, main_part40_ops7,
    main_part40_ops8, main_part40_ops9, main_part40_ops10, main_part40_ops11, main_part40_ops12, main_part41_ops0,
    main_part42_ops0, main_part42_ops1, main_part42_ops2, main_part42_ops3, main_part42_ops4, main_part42_ops5,
    main_part42_ops6, main_part42_ops7, main_part42_ops8, main_part43_ops0, main_part43_ops1, main_part43_ops2,
    main_part43_ops3, main_part43_ops4, main_part43_ops5, main_part43_ops6, main_part43_ops7, main_part43_ops8,
    main_part43_ops9, main_part44_ops0, main_part44_ops1, main_part44_ops2, main_part44_ops3, main_part44_ops4,
    main_part44_ops5, main_part44_ops6, main_part45_ops0, main_part45_ops1, main_part45_ops2, main_part45_ops3,
    main_part45_ops4, main_part46_ops0, main_part46_ops1, main_part46_ops2, main_part46_ops3, main_part46_ops4,
    main_part46_ops5, main_part46_ops6, main_part46_ops7, main_part46_ops8, main_part47_ops0, main_part47_ops1,
    main_part47_ops2, main_part47_ops3, main_part47_ops4, main_part47_ops5, main_part47_ops6, main_part47_ops7,
    main_part47_ops8, main_part47_ops9, main_part47_ops10, main_part48_ops0, main_part48_ops1, main_part48_ops2,
    main_part49_ops0, main_part49_ops1, main_part49_ops2, main_part49_ops3, main_part49_ops4, main_part49_ops5,
    main_part49_ops6, main_part50_ops0, main_part50_ops1, main_part50_ops2, main_part50_ops3, main_part50_ops4,
    main_part50_ops5, main_part50_ops6, main_part50_ops7, main_part50_ops8, main_part50_ops9, main_part50_ops10,
    main_part50_ops11, main_part51_ops0, main_part51_ops1, main_part51_ops2, main_part51_ops3, main_part51_ops4,
    main_part51_ops5, main_part51_ops6, main_part52_ops0, main_part52_ops1, main_part52_ops2, main_part53_ops0,
    main_part54_ops0, main_part55_ops0, main_part55_ops1, main_part55_ops2, main_part55_ops3, main_part55_ops4,
    main_part55_ops5, main_part55_ops6, main_part56_ops0, main_part56_ops1, main_part56_ops2, main_part56_ops3,
    main_part56_ops4, main_part56_ops5, main_part56_ops6, main_part57_ops0, main_part57_ops1, main_part57_ops2,
    main_part57_ops3, main_part57_ops4, main_part57_ops5, main_part57_ops6, main_part57_ops7, main_part57_ops8,
    main_part57_ops9, main_part57_ops10, main_part57_ops11, main_part57_ops12, main_part58_ops0, main_part59_ops0,
    main_part59_ops1, main_part59_ops2, main_part59_ops3, main_part59_ops4, main_part59_ops5, main_part59_ops6,
    main_part59_ops7, main_part59_ops8, main_part60_ops0, main_part60_ops1, main_part60_ops2, main_part60_ops3,
    main_part60_ops4, main_part60_ops5, main_part60_ops6, main_part60_ops7, main_part60_ops8, main_part60_ops9,
    main_part60_ops10, main_part61_ops0, main_part61_ops1, main_part61_ops2, main_part61_ops3, main_part61_ops4,
    main_part61_ops5, main_part61_ops6, main_part62_ops0, main_part62_ops1, main_part62_ops2, main_part62_ops3,
    main_part62_ops4, main_part63_ops0, main_part63_ops1, main_part63_ops2, main_part63_ops3, main_part63_ops4,
    main_part63_ops5, main_part63_ops6, main_part63_ops7, main_part63_ops8, main_part64_ops0, main_part64_ops1,
    main_part64_ops2, main_part64_ops3, main_part64_ops4, main_part64_ops5, main_part64_ops6, main_part64_ops7,
    main_part64_ops8, main_part64_ops9, main_part64_ops10, main_part65_ops0, main_part65_ops1, main_part65_ops2,
    main_part66_ops0, main_part66_ops1, main_part66_ops2, main_part66_ops3, main_part66_ops4, main_part66_ops5,
    main_part66_ops6, main_part67_ops0, main_part67_ops1, main_part67_ops2, main_part67_ops3, main_part67_ops4,
    main_part67_ops5, main_part67_ops6, main_part67_ops7, main_part67_ops8, main_part67_ops9, main_part67_ops10,
    main_part68_ops0, main_part68_ops1, main_part68_ops2, main_part68_ops3, main_part68_ops4, main_part68_ops5,
    main_part68_ops6, main_part68_ops7, main_part68_ops8, main_part69_ops0, main_part69_ops1, main_part69_ops2,
    main_part70_ops0, main_part71_ops0, main_part72_ops0, main_part72_ops1, main_part72_ops2, main_part72_ops3,
    main_part72_ops4, main_part72_ops5, main_part73_ops0, main_part73_ops1, main_part73_ops2, main_part73_ops3,
    main_part73_ops4, main_part73_ops5, main_part73_ops6, main_part74_ops0, main_part74_ops1, main_part74_ops2,
    main_part74_ops3, main_part74_ops4, main_part74_ops5, main_part74_ops6, main_part74_ops7, main_part74_ops8,
    main_part74_ops9, main_part74_ops10, main_part74_ops11, main_part74_ops12, main_part75_ops0, main_part76_ops0,
    main_part76_ops1, main_part76_ops2, main_part76_ops3, main_part76_ops4, main_part76_ops5, main_part76_ops6,
    main_part77_ops0, main_part77_ops1, main_part77_ops2, main_part77_ops3, main_part77_ops4, main_part77_ops5,
    main_part77_ops6, main_part77_ops7, main_part77_ops8, main_part77_ops9, main_part77_ops10, main_part77_ops11,
    main_part78_ops0, main_part78_ops1, main_part78_ops2, main_part78_ops3, main_part78_ops4, main_part78_ops5,
    main_part78_ops6, main_part79_ops0, main_part79_ops1, main_part79_ops2, main_part80_ops0, main_part80_ops1,
    main_part80_ops2, main_part80_ops3, main_part80_ops4, main_part80_ops5, main_part80_ops6, main_part80_ops7,
    main_part80_ops8, main_part80_ops9, main_part81_ops0, main_part81_ops1, main_part81_ops2, main_part81_ops3,
    main_part81_ops4, main_part81_ops5, main_part81_ops6, main_part81_ops7, main_part81_ops8, main_part81_ops9,
    main_part82_ops0, main_part82_ops1, main_part82_ops2, main_part83_ops0, main_part83_ops1, main_part83_ops2,
    main_part83_ops3, main_part83_ops4, main_part83_ops5, main_part83_ops6, main_part84_ops0, main_part84_ops1,
    main_part84_ops2, main_part84_ops3, main_part84_ops4, main_part84_ops5, main_part84_ops6, main_part84_ops7,
    main_part84_ops8, main_part84_ops9, main_part84_ops10, main_part85_ops0, main_part85_ops1, main_part85_ops2,
    main_part85_ops3, main_part85_ops4, main_part85_ops5, main_part85_ops6, main_part85_ops7, main_part85_ops8,
    main_part86_ops0, main_part86_ops1, main_part86_ops2, main_part87_ops0, main_part88_ops0, main_part89_ops0,
    main_part89_ops1, main_part89_ops2, main_part89_ops3, main_part89_ops4, main_part90_ops0, main_part90_ops1,
    main_part90_ops2, main_part90_ops3, main_part90_ops4, main_part90_ops5, main_part90_ops6, main_part90_ops7,
    main_part90_ops8, main_part91_ops0, main_part91_ops1, main_part91_ops2, main_part91_ops3, main_part91_ops4,
    main_part91_ops5, main_part91_ops6, main_part91_ops7, main_part91_ops8, main_part91_ops9, main_part91_ops10,
    main_part92_ops0, main_part92_ops1, main_part93_ops0, main_part93_ops1, main_part93_ops2, main_part93_ops3,
    main_part93_ops4, main_part93_ops5, main_part93_ops6, main_part94_ops0, main_part94_ops1, main_part94_ops2,
    main_part94_ops3, main_part94_ops4, main_part94_ops5, main_part94_ops6, main_part94_ops7, main_part94_ops8,
    main_part94_ops9, main_part94_ops10, main_part94_ops11, main_part94_ops12, main_part95_ops0, main_part95_ops1,
    main_part95_ops2, main_part95_ops3, main_part95_ops4, main_part95_ops5, main_part95_ops6, main_part96_ops0,
    main_part96_ops1, main_part96_ops2, main_part97_ops0, main_part97_ops1, main_part97_ops2, main_part97_ops3,
    main_part97_ops4, main_part97_ops5, main_part97_ops6, main_part97_ops7, main_part97_ops8, main_part97_ops9,
    main_part97_ops10, main_part98_ops0, main_part98_ops1, main_part98_ops2, main_part98_ops3, main_part98_ops4,
    main_part98_ops5, main_part98_ops6, main_part98_ops7, main_part98_ops8, main_part99_ops0, main_part99_ops1,
    main_part99_ops2, main_part99_ops3, main_part99_ops4, main_part100_ops0, main_part100_ops1, main_part100_ops2,
    main_part100_ops3, main_part100_ops4, main_part100_ops5, main_part100_ops6, main_part101_ops0, main_part101_ops1,
    main_part101_ops2, main_part101_ops3, main_part101_ops4, main_part101_ops5, main_part101_ops6, main_part101_ops7,
    main_part101_ops8, main_part101_ops9, main_part101_ops10, main_part102_ops0, main_part102_ops1, main_part102_ops2,
    main_part102_ops3, main_part102_ops4, main_part102_ops5, main_part102_ops6, main_part102_ops7, main_part102_ops8,
    main_part103_ops0, main_part103_ops1, main_part104_ops0]

open Cert.KernelIdealTidy in
/-- It leaves the arguments alone. -/
theorem stretches_tidy : Cert.Tidy.Lines (stretches (F := F)) :=
  tidy0.append (tidy1.append (tidy2.append (tidy3.append (tidy4.append (tidy5.append (tidy6.append tidy7))))))

/-- Core `c`'s buffers when the region is entered: after the host program, from the launch's memory. -/
abbrev V (c : Dev nD) (b : Ref sig .tc) : Buf (Elt F) ((c : Thread nD τ).loc b) :=
  StableHlo.after (List.flatten stretches) (fun b => m (c, b)) b

set_option maxHeartbeats 8000000 in
/-- @main is the host program and then the region. -/
theorem main_stretches (c : Dev nD) : main (F := F) c = Pipeline.chain (stretches.map StableHlo.seq ++ [Prog.lift (.customCall (Pipeline.entry 0) ())]) :=
  main_chain_windows c

/-- @main up to the region, at the certificate's variants `𝒱₀`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_tidy.sub stretches_tidy.fresh main_stretches

/-- The region finds an argument as launched. -/
theorem V_arg (c : Dev nD) {b : Ref sig .tc} (h : Cert.Tidy.IsArg b) : V m c b = m ((c : Thread nD τ).loc b) :=
  stretches_tidy.keep _ h

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1140000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_arg m c (b := main_arg0) ⟨rfl, by decide⟩),
      ((h c).2 main_arg1 (Pipeline.mem_restRefs_of main_arg1 (by decide) (by decide))).trans (V_arg m c (b := main_arg1) ⟨rfl, by decide⟩),
      ((h c).2 main_arg2 (Pipeline.mem_restRefs_of main_arg2 (by decide) (by decide))).trans (V_arg m c (b := main_arg2) ⟨rfl, by decide⟩),
      ((h c).2 main_arg3 (Pipeline.mem_restRefs_of main_arg3 (by decide) (by decide))).trans (V_arg m c (b := main_arg3) ⟨rfl, by decide⟩),
      ((h c).2 main_arg4 (Pipeline.mem_restRefs_of main_arg4 (by decide) (by decide))).trans (V_arg m c (b := main_arg4) ⟨rfl, by decide⟩),
      ((h c).2 main_arg5 (Pipeline.mem_restRefs_of main_arg5 (by decide) (by decide))).trans (V_arg m c (b := main_arg5) ⟨rfl, by decide⟩),
      ((h c).2 main_arg6 (Pipeline.mem_restRefs_of main_arg6 (by decide) (by decide))).trans (V_arg m c (b := main_arg6) ⟨rfl, by decide⟩),
      ((h c).2 main_arg7 (Pipeline.mem_restRefs_of main_arg7 (by decide) (by decide))).trans (V_arg m c (b := main_arg7) ⟨rfl, by decide⟩),
      ((h c).2 main_arg8 (Pipeline.mem_restRefs_of main_arg8 (by decide) (by decide))).trans (V_arg m c (b := main_arg8) ⟨rfl, by decide⟩),
      ((h c).2 main_arg9 (Pipeline.mem_restRefs_of main_arg9 (by decide) (by decide))).trans (V_arg m c (b := main_arg9) ⟨rfl, by decide⟩),
      ((h c).2 main_arg10 (Pipeline.mem_restRefs_of main_arg10 (by decide) (by decide))).trans (V_arg m c (b := main_arg10) ⟨rfl, by decide⟩),
      ((h c).2 main_arg11 (Pipeline.mem_restRefs_of main_arg11 (by decide) (by decide))).trans (V_arg m c (b := main_arg11) ⟨rfl, by decide⟩),
      ((h c).2 main_arg12 (Pipeline.mem_restRefs_of main_arg12 (by decide) (by decide))).trans (V_arg m c (b := main_arg12) ⟨rfl, by decide⟩),
      ((h c).2 main_arg13 (Pipeline.mem_restRefs_of main_arg13 (by decide) (by decide))).trans (V_arg m c (b := main_arg13) ⟨rfl, by decide⟩),
      ((h c).2 main_arg14 (Pipeline.mem_restRefs_of main_arg14 (by decide) (by decide))).trans (V_arg m c (b := main_arg14) ⟨rfl, by decide⟩),
      ((h c).2 main_arg15 (Pipeline.mem_restRefs_of main_arg15 (by decide) (by decide))).trans (V_arg m c (b := main_arg15) ⟨rfl, by decide⟩),
      ((h c).2 main_arg16 (Pipeline.mem_restRefs_of main_arg16 (by decide) (by decide))).trans (V_arg m c (b := main_arg16) ⟨rfl, by decide⟩),
      ((h c).2 main_arg17 (Pipeline.mem_restRefs_of main_arg17 (by decide) (by decide))).trans (V_arg m c (b := main_arg17) ⟨rfl, by decide⟩),
      ((h c).2 main_arg18 (Pipeline.mem_restRefs_of main_arg18 (by decide) (by decide))).trans (V_arg m c (b := main_arg18) ⟨rfl, by decide⟩)⟩) h

/-! ## The body's accesses -/

/-- The whole block, as the body loads and stores it. -/
abbrev r0_0 : Rect S2x4096x256 := Rect.unit (s := S2x4096x256) ![0, 0, 0] S2x4096x256.size inb_S2x4096x256_S2x4096x256_0_0_0

/-! ## What the body leaves in each output window's buffer -/

/-- Window 1's staging buffer after the body, from the input windows' blocks: its 1 store as pieces, LAST
    FIRST . -/
def out0_1 (x0 : Vec F S2x4096x256 .f32) : Vec F S2x4096x256 .f32 :=
  View.canon [⟨r0_0, k0_pay1 (View.ld x0 r0_0)⟩]

/-- Its stores tile the buffer (checked by evaluation), so they cover it. -/
theorem cover0_1 (p0 : Vec F S2x4096x256 .f32) (y : S2x4096x256.Idx) :
    ∃ pc ∈ ([⟨r0_0, p0⟩] : List (View.Piece (Elt F) S2x4096x256 .f32)), y ∈ pc.1.set :=
  View.cover_of_tiled [⟨r0_0, p0⟩] S2x4096x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs , through every part call. -/
theorem sound_kernel (c : Dev nD) (E : Set ℕ) (arg0 : Memref sig .tc .vmem S2x4096x256 .f32) (harg0 : arg0.IsWhole) (arg1 : Memref sig .tc .vmem S2x4096x256 .f32) (harg1 : arg1.IsWhole)
    (x0 : Vec F S2x4096x256 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__touch arg0 harg0 arg1 harg1) K := by
  simp only [cc0__touch_eq_skeleton]; unfold cc0__touch_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the one pipeline on core `c`: the arrays as the region finds them (`V`); after the body at
    point `t` each input's buffer at its block and each output's at `out0_W` of the input blocks; the invariant the
    class's ; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
/-- The result's block after the body is what the body stores. -/
theorem after0_1 (c : Dev nD) (t : Fin cfg0.N) : (dats m 0 c).after 1 t = out0_1 (iblk m c 0 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` , -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it . -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.KernelIdeal.Gen

end
-- ==== Proof.Value.lean ====
/- What the kernel's region leaves in the result: a copy of the host program's last value. The reading of the block
   index by index follows the generated certificate of this program. -/
module

public import proofs.«01_k».proof.Proof.KernelIdealRun
public import Idealize.ShloMosaic.Lib.Pipeline.Value
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

set_option backward.proofsInPublic true in
/-- Where block index `y` reads `P0` (its occurrence 1 in `E1`). -/
abbrev ix1_0 (y : S2x4096x256.Idx) : S2x4096x256.Idx := fun a => match a with | ⟨0, _⟩ => ⟨(y 0).val, by have hy0 : (y 0).val < 2 := (y 0).isLt; have hy1 : (y 1).val < 4096 := (y 1).isLt; have hy2 : (y 2).val < 256 := (y 2).isLt; show (y 0).val < 2; omega⟩ | ⟨1, _⟩ => ⟨(y 1).val, by have hy0 : (y 0).val < 2 := (y 0).isLt; have hy1 : (y 1).val < 4096 := (y 1).isLt; have hy2 : (y 2).val < 256 := (y 2).isLt; show (y 1).val < 4096; omega⟩ | ⟨2, _⟩ => ⟨(y 2).val, by have hy0 : (y 0).val < 2 := (y 0).isLt; have hy1 : (y 1).val < 4096 := (y 1).isLt; have hy2 : (y 2).val < 256 := (y 2).isLt; show (y 2).val < 256; omega⟩

/-- What the pieces leave in the block, stated for arbitrary vectors `P` of the loads' shapes: the body's pointwise
    operations over the loads and over the values it reduces or computes whole from them, each read where the block index's
    element came from through the body's slices, transposes, shape casts and broadcasts. -/
abbrev E1 (P0 : Vec F S2x4096x256 .f32) : Vec F S2x4096x256 .f32 := fun y => (P0 (ix1_0 y))

/-- Piece 0's payload as the tree of vector operations. -/
theorem lay1_0_eq (P0 : Vec F S2x4096x256 .f32) : k0_pay1 P0 = shapeCast S2x4096x256 P0 shapeCasts_S2x4096x256_S2x4096x256 := rfl

/-- Piece 0 (through `r0_0`) at its index `x` is `E1` at the block index under it. -/
theorem piece1_0 (P0 : Vec F S2x4096x256 .f32) (x : S2x4096x256.Idx) : (k0_pay1 P0) x = E1 P0 (r0_0.idx x) := by
  have hx0 : (x 0).val < 2 := (x 0).isLt
  have hx1 : (x 1).val < 4096 := (x 1).isLt
  have hx2 : (x 2).val < 256 := (x 2).isLt
  rw [lay1_0_eq P0]
  show (shapeCast S2x4096x256 P0 shapeCasts_S2x4096x256_S2x4096x256) x = (P0 (ix1_0 (r0_0.idx x)))
  refine (shapeCast_apply _ _ x x rfl).trans ?_
  refine congrArg _ (funext fun a => Fin.ext ?_)
  match a with | ⟨0, _⟩ => show (x 0).val = (0 + 1 * (x 0).val); omega | ⟨1, _⟩ => show (x 1).val = (0 + 1 * (x 1).val); omega | ⟨2, _⟩ => show (x 2).val = (0 + 1 * (x 2).val); omega

/-- THE CANON OF THE PIECES is `E1`: what point after point leaves in the block (the frame's `out0_1` is this canon at
    the point's operands), stated over the operands as variables — each piece at its index is `E1` at the block index under
    it (`piece1_j`), and the pieces cover the block (the frame's `cover0_1`). -/
theorem canon1_eq (P0 : Vec F S2x4096x256 .f32) (y : S2x4096x256.Idx) :
    View.canon [⟨r0_0, k0_pay1 P0⟩] y = E1 P0 y := by
  refine View.canon_apply_of_pieces (E1 P0) _ ?_ y (cover0_1 _ y)
  intro pc hpc
  rcases List.mem_cons.mp hpc with rfl | hpc  -- piece 0, through `r0_0`
  · exact fun x => piece1_0 P0 x
  nomatch hpc

set_option maxHeartbeats 2000000 in
/-- The result array ends as the host program's last value. -/
theorem copied (c : Dev nD) : (dats m 0 c).arrAt 1 cfg0.N = V m c main_v5055 := by
  refine (dats m 0 c).arrAt_eq_of_covers 1 _ (by decide +kernel) fun t hf y => ?_
  blk_simp
  rw [after0_1]
  unfold out0_1
  rw [canon1_eq]
  have e₀ : ∀ z : S2x4096x256.Idx, (win0_0.blk t).view.emb z = z := fun z => funext fun a => Fin.ext (Pipeline.Window.rect_emb_val_of_index_zero win0_0 t a rfl z)
  have e₁ : ∀ z : S2x4096x256.Idx, (win0_1.blk t).view.emb z = z := fun z => funext fun a => Fin.ext (Pipeline.Window.rect_emb_val_of_index_zero win0_1 t a rfl z)
  have e : (win0_0.blk t).view.emb (r0_0.idx (ix1_0 y)) = (win0_1.blk t).view.emb y := by
    refine ((e₀ _).trans ?_).trans (e₁ y).symm
    funext a
    match a with
    | ⟨0, _⟩ => exact Fin.ext (by show 0 + 1 * (y 0).val = (y 0).val; omega)
    | ⟨1, _⟩ => exact Fin.ext (by show 0 + 1 * (y 1).val = (y 1).val; omega)
    | ⟨2, _⟩ => exact Fin.ext (by show 0 + 1 * (y 2).val = (y 2).val; omega)
  unfold iblk
  generalize V m c = W
  exact congrArg (W main_v5055) e

end Cert.KernelIdeal.Value

end
-- ==== Proof.Sim.lean ====
/- Two straight lines of host operations over two signatures, run side by side: buffers of the one
   matched with buffers of the other by their numbers, each pair of operations shown to leave matched
   buffers with the same contents. Nothing here mentions a particular program. -/
module

public import Idealize.ShloMosaic.Lib.StableHlo.RunLoop

@[expose] public section

noncomputable section

namespace Cert.Sim

open Idealize.ShloMosaic Idealize.ShloMosaic.StableHlo

variable {τ₁ τ₂ : Topo} {s₁ s₂ : RefSig} {F : FTy → Type}

/-- Buffer `x` lies in device memory under number `k`. -/
def At {s : RefSig} (x : Ref s .tc) (k : Nat) : Prop := x.space = .hbm ∧ (x.idx : Nat) = k

/-- A number belongs to one buffer at most. -/
theorem At.unique {s : RefSig} {x y : Ref s .tc} {k : Nat} (hx : At x k) (hy : At y k) : x = y := by
  obtain ⟨sx, ix, px⟩ := x
  obtain ⟨sy, iy, py⟩ := y
  obtain ⟨rfl, ex⟩ := hx
  obtain ⟨rfl, ey⟩ := hy
  have : ix = iy := Fin.ext (ex.trans ey.symm)
  subst this
  rfl

/-- How the second line's buffers are matched with the first's over one phase of the run. -/
structure Plan (τ₂ : Topo) (s₂ : RefSig) (F : FTy → Type) where
  /-- The number of the first line's buffer matched with buffer `j` of the second. -/
  mate : Nat → Nat
  /-- The numbers matched when the phase starts. -/
  base : Nat → Bool
  /-- The numbers written in the phase that are matched with nothing. -/
  lone : Nat → Bool
  /-- The phase writes the numbers from here … -/
  start : Nat
  /-- … up to here. -/
  stop : Nat
  /-- What is known of the second line's contents throughout the phase. -/
  known : Valuation τ₂ s₂ (Elt F) → Prop

/-- Number `j` is matched once the numbers below `m` are written. -/
def Dom (p : Plan τ₂ s₂ F) (m j : Nat) : Prop :=
  p.base j = true ∨ (p.start ≤ j ∧ j < m ∧ p.lone j = false)

/-- Matched buffers hold the same contents. -/
def Agree (p : Plan τ₂ s₂ F) (m : Nat) (V : Valuation τ₁ s₁ (Elt F)) (V' : Valuation τ₂ s₂ (Elt F)) : Prop :=
  ∀ j, Dom p m j → ∀ (x : Ref s₁ .tc) (x' : Ref s₂ .tc), At x (p.mate j) → At x' j →
    HEq (V (Proc.devRef .tc x)) (V' (Proc.devRef .tc x'))

/-- The two lines inside a phase, the second having written the numbers below `m`. -/
def St (p : Plan τ₂ s₂ F) (m : Nat) (V : Valuation τ₁ s₁ (Elt F)) (V' : Valuation τ₂ s₂ (Elt F)) : Prop :=
  Agree p m V V' ∧ p.known V'

/-- What a phase must satisfy: matching is one to one, matched buffers have one type, and what is known depends on
    the buffers before the phase only. -/
structure Good (s₁ : RefSig) (p : Plan τ₂ s₂ F) : Prop where
  fresh : ∀ m j, p.start ≤ m → m < p.stop → p.lone m = false → Dom p m j → p.mate j ≠ p.mate m
  below : ∀ j, p.base j = true → j < p.start
  typed : ∀ j (x : Ref s₁ .tc) (x' : Ref s₂ .tc), Dom p p.stop j → At x (p.mate j) → At x' j → x.ty = x'.ty
  keep : ∀ V W : Valuation τ₂ s₂ (Elt F),
    (∀ r : Ref s₂ .tc, (∀ j, p.start ≤ j → ¬ At r j) → W (Proc.devRef .tc r) = V (Proc.devRef .tc r)) → p.known V → p.known W

/-- The computed test that `x` and `x'` are matched buffers, already written. -/
def rd (p : Plan τ₂ s₂ F) (m : Nat) (x : Ref s₁ .tc) (x' : Ref s₂ .tc) : Bool :=
  decide (x.space = .hbm) && decide (x'.space = .hbm) && Nat.beq x.idx.val (p.mate x'.idx.val) && Nat.ble m p.stop &&
    (p.base x'.idx.val || (Nat.ble p.start x'.idx.val && (Nat.blt x'.idx.val m && !(p.lone x'.idx.val))))

/-- The computed test that `y` and `y'` are the matched buffers written when the second line writes number `m`. -/
def wr (p : Plan τ₂ s₂ F) (m : Nat) (y : Ref s₁ .tc) (y' : Ref s₂ .tc) : Bool :=
  decide (y.space = .hbm) && decide (y'.space = .hbm) && Nat.beq y.idx.val (p.mate m) && Nat.beq y'.idx.val m &&
    (Nat.ble p.start m && (Nat.blt m p.stop && !(p.lone m)))

variable {p : Plan τ₂ s₂ F} {m : Nat}

/-- What the test for a matched operand says. -/
theorem rd_spec {x : Ref s₁ .tc} {x' : Ref s₂ .tc} (h : rd p m x x' = true) :
    At x (p.mate x'.idx.val) ∧ At x' x'.idx.val ∧ m ≤ p.stop ∧ Dom p m x'.idx.val := by
  simp only [rd, Bool.and_eq_true, Bool.or_eq_true, decide_eq_true_eq, Nat.beq_eq, Nat.ble_eq, Nat.blt_eq, Bool.not_eq_true'] at h
  obtain ⟨⟨⟨⟨hs, hs'⟩, hk⟩, hm⟩, hd⟩ := h
  exact ⟨⟨hs, hk⟩, ⟨hs', rfl⟩, hm, hd⟩

/-- What the test for a matched result says. -/
theorem wr_spec {y : Ref s₁ .tc} {y' : Ref s₂ .tc} (h : wr p m y y' = true) :
    At y (p.mate m) ∧ At y' m ∧ p.start ≤ m ∧ m < p.stop ∧ p.lone m = false := by
  simp only [wr, Bool.and_eq_true, decide_eq_true_eq, Nat.beq_eq, Nat.ble_eq, Nat.blt_eq, Bool.not_eq_true'] at h
  obtain ⟨⟨⟨⟨hs, hs'⟩, hk⟩, hk'⟩, hb, he, hl⟩ := h
  exact ⟨⟨hs, hk⟩, ⟨hs', hk'⟩, hb, he, hl⟩

/-- Matched buffers agree. -/
theorem St.read {V : Valuation τ₁ s₁ (Elt F)} {V' : Valuation τ₂ s₂ (Elt F)} (h : St p m V V')
    {x : Ref s₁ .tc} {x' : Ref s₂ .tc} (hx : rd p m x x' = true) :
    HEq (V (Proc.devRef .tc x)) (V' (Proc.devRef .tc x')) :=
  have q := rd_spec hx
  h.1 _ q.2.2.2 x x' q.1 q.2.1

/-- A buffer read has its mate's type. -/
theorem Good.rd_ty (g : Good s₁ p) {x : Ref s₁ .tc} {x' : Ref s₂ .tc} (hx : rd p m x x' = true) : x.ty = x'.ty := by
  obtain ⟨h, h', hm, hd⟩ := rd_spec hx
  refine g.typed _ x x' ?_ h h'
  rcases hd with hd | ⟨h₁, h₂, h₃⟩
  · exact .inl hd
  · exact .inr ⟨h₁, by omega, h₃⟩

/-- A buffer written has its mate's type. -/
theorem Good.wr_ty (g : Good s₁ p) {y : Ref s₁ .tc} {y' : Ref s₂ .tc} (hy : wr p m y y' = true) : y.ty = y'.ty := by
  obtain ⟨h, h', hb, he, hl⟩ := wr_spec hy
  exact g.typed m y y' (.inr ⟨hb, he, hl⟩) h h'

/-- The second line writes lone numbers from `m` and then number `q`, the first line writes `q`'s mate, and the two
    hold the same: the state moves on to `q + 1`. -/
theorem St.advance (g : Good s₁ p) {q : Nat} {V W : Valuation τ₁ s₁ (Elt F)} {V' W' : Valuation τ₂ s₂ (Elt F)} {y : Ref s₁ .tc}
    {y' : Ref s₂ .tc} (hy : wr p q y y' = true) (hm : p.start ≤ m) (hq : ∀ j, m ≤ j → j < q → p.lone j = true) (h : St p m V V')
    (hV : ∀ r : Ref s₁ .tc, r ≠ y → W (Proc.devRef .tc r) = V (Proc.devRef .tc r))
    (hV' : ∀ r : Ref s₂ .tc, (∀ j, m ≤ j → j ≤ q → ¬ At r j) → W' (Proc.devRef .tc r) = V' (Proc.devRef .tc r))
    (hv : HEq (W (Proc.devRef .tc y)) (W' (Proc.devRef .tc y'))) : St p (q + 1) W W' := by
  obtain ⟨ay, ay', hb, he, hl⟩ := wr_spec hy
  refine ⟨fun j hj x x' hx hx' => ?_, g.keep _ _ (fun r hr => hV' r fun j hj _ => hr j (by omega)) h.2⟩
  by_cases hjq : j = q
  · subst hjq
    obtain rfl := hx.unique ay
    obtain rfl := hx'.unique ay'
    exact hv
  · have hd : Dom p m j := by
      rcases hj with hj | ⟨h₁, h₂, h₃⟩
      · exact .inl hj
      · refine .inr ⟨h₁, ?_, h₃⟩
        by_contra hc
        have := hq j (by omega) (by omega)
        rw [this] at h₃
        exact Bool.noConfusion h₃
    have hd' : Dom p q j := by
      rcases hd with hd | ⟨h₁, h₂, h₃⟩
      · exact .inl hd
      · exact .inr ⟨h₁, by by_contra hc; exact hjq (by
          rcases hj with hj | ⟨_, h₄, _⟩
          · have := g.below j hj; omega
          · omega), h₃⟩
    have hxy : x ≠ y := by
      rintro rfl
      exact g.fresh q j hb he hl hd' (hx.2.symm.trans ay.2)
    have hx'q : ∀ i, m ≤ i → i ≤ q → ¬ At x' i := by
      intro i h₁ h₂ hi
      have e : j = i := hx'.2.symm.trans hi.2
      subst e
      rcases hd with hd | ⟨_, h₄, _⟩
      · have := g.below j hd; omega
      · omega
    rw [hV x hxy, hV' x' hx'q]
    exact h.1 j hd x x' hx hx'

/-- Running the stretches `L` on the one side and `L'` on the other carries `R` to `R'`. -/
def Sims (R : Valuation τ₁ s₁ (Elt F) → Valuation τ₂ s₂ (Elt F) → Prop) (L : List (List (HloOp τ₁ s₁ (Elt F))))
    (L' : List (List (HloOp τ₂ s₂ (Elt F)))) (R' : Valuation τ₁ s₁ (Elt F) → Valuation τ₂ s₂ (Elt F) → Prop) : Prop :=
  ∀ V V', R V V' → R' (afterL L V) (afterL L' V')

/-- A function applied on each side. -/
theorem heq_app {A A' B B' : Type} {f : A → B} {g : A' → B'} {a : A} {a' : A'} (hA : A = A') (hB : B = B')
    (hf : HEq f g) (ha : HEq a a') : HEq (f a) (g a') := by
  subst hA; subst hB; cases hf; cases ha; rfl

/-- A function of two arguments applied on each side. -/
theorem heq_app₂ {A A' B B' C C' : Type} {f : A → B → C} {g : A' → B' → C'} {a : A} {a' : A'} {c : B} {c' : B'}
    (hA : A = A') (hB : B = B') (hC : C = C') (hf : HEq f g) (ha : HEq a a') (hc : HEq c c') : HEq (f a c) (g a' c') := by
  subst hA; subst hB; subst hC; cases hf; cases ha; cases hc; rfl

/-- A function of three arguments applied on each side. -/
theorem heq_app₃ {A A' B B' C C' E E' : Type} {f : A → B → C → E} {g : A' → B' → C' → E'} {a : A} {a' : A'} {c : B} {c' : B'}
    {e : C} {e' : C'} (hA : A = A') (hB : B = B') (hC : C = C') (hE : E = E') (hf : HEq f g) (ha : HEq a a') (hc : HEq c c')
    (he : HEq e e') : HEq (f a c e) (g a' c' e') := by
  subst hA; subst hB; subst hC; subst hE; cases hf; cases ha; cases hc; cases he; rfl

/-- A function of a family of arguments applied on each side. -/
theorem heq_appPi {m : Nat} {A A' : Fin m → Type} {B B' : Type} {f : ((i : Fin m) → A i) → B} {g : ((i : Fin m) → A' i) → B'}
    {a : (i : Fin m) → A i} {a' : (i : Fin m) → A' i} (hA : ∀ i, A i = A' i) (hB : B = B') (hf : HEq f g)
    (ha : ∀ i, HEq (a i) (a' i)) : HEq (f a) (g a') := by
  have hA' : A = A' := funext hA
  subst hA'; subst hB; cases hf
  have : a = a' := funext fun i => eq_of_heq (ha i)
  subst this; rfl

/-- Equal buffer types have the same contents. -/
theorem contents_eq {T U : BufTy} (h : T = U) : T.Contents (Elt F) = U.Contents (Elt F) := by rw [h]

section Rules

variable {R R₁ R' : Valuation τ₁ s₁ (Elt F) → Valuation τ₂ s₂ (Elt F) → Prop} {L L₁ L₂ : List (List (HloOp τ₁ s₁ (Elt F)))}
  {L' L₁' L₂' : List (List (HloOp τ₂ s₂ (Elt F)))} {l : List (HloOp τ₁ s₁ (Elt F))} {l' : List (HloOp τ₂ s₂ (Elt F))}

/-- Nothing left on either side. -/
theorem Sims.nil : Sims R ([] : List (List (HloOp τ₁ s₁ (Elt F)))) ([] : List (List (HloOp τ₂ s₂ (Elt F)))) R := fun _ _ h => h

/-- The first line's stretch is at its end. -/
theorem Sims.left (t : Sims R L L' R') : Sims R ([] :: L) L' R' := t

/-- The second line's stretch is at its end. -/
theorem Sims.right (t : Sims R L L' R') : Sims R L ([] :: L') R' := t

/-- The contents after two lists of stretches. -/
theorem afterL_two {τ : Topo} {s : RefSig} : ∀ (L₁ L₂ : List (List (HloOp τ s (Elt F)))) (V : Valuation τ s (Elt F)),
    afterL (L₁ ++ L₂) V = afterL L₂ (afterL L₁ V)
  | [], _, _ => rfl
  | ops :: L₁, L₂, V => by rw [List.cons_append, afterL_cons, afterL_cons, afterL_two L₁ L₂]

/-- Two runs one after the other. -/
theorem Sims.append (h₁ : Sims R L₁ L₁' R₁) (h₂ : Sims R₁ L₂ L₂' R') : Sims R (L₁ ++ L₂) (L₁' ++ L₂') R' := by
  intro V V' h
  rw [afterL_two, afterL_two]
  exact h₂ _ _ (h₁ _ _ h)

/-- The relation before may be strengthened. -/
theorem Sims.pre (h : ∀ V V', R V V' → R₁ V V') (t : Sims R₁ L L' R') : Sims R L L' R' := fun V V' hR => t V V' (h V V' hR)

/-- One operation on each side, writing the next pair of buffers with equal contents. -/
theorem Sims.cons (g : Good s₁ p) {op : HloOp τ₁ s₁ (Elt F)} {op' : HloOp τ₂ s₂ (Elt F)} {y : Ref s₁ .tc} {y' : Ref s₂ .tc}
    (hy : wr p m y y' = true)
    (hw : ∀ (V : Valuation τ₁ s₁ (Elt F)) (r : Ref s₁ .tc), r ≠ y → op.result V (Proc.devRef .tc r) = V (Proc.devRef .tc r))
    (hw' : ∀ (V : Valuation τ₂ s₂ (Elt F)) (r : Ref s₂ .tc), r ≠ y' → op'.result V (Proc.devRef .tc r) = V (Proc.devRef .tc r))
    (hv : ∀ (V : Valuation τ₁ s₁ (Elt F)) (V' : Valuation τ₂ s₂ (Elt F)), St p m V V' →
      HEq (op.result V (Proc.devRef .tc y)) (op'.result V' (Proc.devRef .tc y')))
    (t : Sims (St p (m + 1)) (l :: L) (l' :: L') R') : Sims (St p m) ((op :: l) :: L) ((op' :: l') :: L') R' := by
  intro V V' h
  have q := wr_spec hy
  refine t (op.result V) (op'.result V') (.advance g hy q.2.2.1 (fun j h₁ h₂ => by omega) h (hw V) (fun r hr => hw' V' r ?_) (hv V V' h))
  rintro rfl
  exact hr m le_rfl le_rfl q.2.1

/-- Both sides write a constant. -/
theorem Sims.nullary (g : Good s₁ p) {y : Ref s₁ .tc} {y' : Ref s₂ .tc} {v : y.ty.Contents (Elt F)} {v' : y'.ty.Contents (Elt F)} {hy hy'}
    (hw : wr p m y y' = true) (hv : HEq v v') (t : Sims (St p (m + 1)) (l :: L) (l' :: L') R') :
    Sims (St p m) (((StableHlo.nullary y v hy : HloOp τ₁ s₁ (Elt F)) :: l) :: L) (((StableHlo.nullary y' v' hy' : HloOp τ₂ s₂ (Elt F)) :: l') :: L') R' :=
  .cons g hw (fun V r hr => nullary_result_ne _ _ _ V hr) (fun V r hr => nullary_result_ne _ _ _ V hr)
    (fun V V' _ => by rw [nullary_result, nullary_result]; exact hv) t

/-- Both sides apply the same function to matched buffers. -/
theorem Sims.unary (g : Good s₁ p) {x y : Ref s₁ .tc} {x' y' : Ref s₂ .tc} {f : x.ty.Contents (Elt F) → y.ty.Contents (Elt F)}
    {f' : x'.ty.Contents (Elt F) → y'.ty.Contents (Elt F)} {hx hy hx' hy'}
    (hc : (wr p m y y' && rd p m x x') = true) (hf : HEq f f') (t : Sims (St p (m + 1)) (l :: L) (l' :: L') R') :
    Sims (St p m) (((StableHlo.unary x y f hx hy : HloOp τ₁ s₁ (Elt F)) :: l) :: L) (((StableHlo.unary x' y' f' hx' hy' : HloOp τ₂ s₂ (Elt F)) :: l') :: L') R' := by
  simp only [Bool.and_eq_true] at hc
  refine .cons g hc.1 (fun V r hr => unary_result_ne _ _ _ _ _ V hr) (fun V r hr => unary_result_ne _ _ _ _ _ V hr) (fun V V' h => ?_) t
  rw [unary_result, unary_result]
  exact heq_app (contents_eq (g.rd_ty hc.2)) (contents_eq (g.wr_ty hc.1)) hf (h.read hc.2)

/-- Both sides apply the same function to two matched buffers. -/
theorem Sims.binary (g : Good s₁ p) {x z y : Ref s₁ .tc} {x' z' y' : Ref s₂ .tc}
    {f : x.ty.Contents (Elt F) → z.ty.Contents (Elt F) → y.ty.Contents (Elt F)}
    {f' : x'.ty.Contents (Elt F) → z'.ty.Contents (Elt F) → y'.ty.Contents (Elt F)} {hx hz hy hx' hz' hy'}
    (hc : (wr p m y y' && (rd p m x x' && rd p m z z')) = true) (hf : HEq f f') (t : Sims (St p (m + 1)) (l :: L) (l' :: L') R') :
    Sims (St p m) (((StableHlo.binary x z y f hx hz hy : HloOp τ₁ s₁ (Elt F)) :: l) :: L)
      (((StableHlo.binary x' z' y' f' hx' hz' hy' : HloOp τ₂ s₂ (Elt F)) :: l') :: L') R' := by
  simp only [Bool.and_eq_true] at hc
  refine .cons g hc.1 (fun V r hr => binary_result_ne _ _ _ _ _ _ _ V hr) (fun V r hr => binary_result_ne _ _ _ _ _ _ _ V hr)
    (fun V V' h => ?_) t
  rw [binary_result, binary_result]
  exact heq_app₂ (contents_eq (g.rd_ty hc.2.1)) (contents_eq (g.rd_ty hc.2.2)) (contents_eq (g.wr_ty hc.1)) hf (h.read hc.2.1) (h.read hc.2.2)

/-- Both sides apply the same function to three matched buffers. -/
theorem Sims.ternary (g : Good s₁ p) {c x z y : Ref s₁ .tc} {c' x' z' y' : Ref s₂ .tc}
    {f : c.ty.Contents (Elt F) → x.ty.Contents (Elt F) → z.ty.Contents (Elt F) → y.ty.Contents (Elt F)}
    {f' : c'.ty.Contents (Elt F) → x'.ty.Contents (Elt F) → z'.ty.Contents (Elt F) → y'.ty.Contents (Elt F)} {hc hx hz hy hc' hx' hz' hy'}
    (ht : (wr p m y y' && (rd p m c c' && (rd p m x x' && rd p m z z'))) = true) (hf : HEq f f')
    (t : Sims (St p (m + 1)) (l :: L) (l' :: L') R') :
    Sims (St p m) (((StableHlo.ternary c x z y f hc hx hz hy : HloOp τ₁ s₁ (Elt F)) :: l) :: L)
      (((StableHlo.ternary c' x' z' y' f' hc' hx' hz' hy' : HloOp τ₂ s₂ (Elt F)) :: l') :: L') R' := by
  simp only [Bool.and_eq_true] at ht
  refine .cons g ht.1 (fun V r hr => ternary_result_ne _ _ _ _ _ _ _ _ _ V hr)
    (fun V r hr => ternary_result_ne _ _ _ _ _ _ _ _ _ V hr) (fun V V' h => ?_) t
  rw [ternary_result, ternary_result]
  exact heq_app₃ (contents_eq (g.rd_ty ht.2.1)) (contents_eq (g.rd_ty ht.2.2.1)) (contents_eq (g.rd_ty ht.2.2.2)) (contents_eq (g.wr_ty ht.1)) hf
    (h.read ht.2.1) (h.read ht.2.2.1) (h.read ht.2.2.2)

/-- A tensor's elements in row-major order under another shape, with the element type's equality carried along. -/
def recast {T U : BufTy} (he : T.elt = U.elt) (hn : T.shape.ShapeCasts U.shape) (v : T.Contents (Elt F)) : U.Contents (Elt F) :=
  fun i => he ▸ shapeCast U.shape v hn i

/-- Recasting equal contents between equal types gives equal contents. -/
theorem heq_recast {T T' U U' : BufTy} (hT : T = T') (hU : U = U') {he : T.elt = U.elt} {hn : T.shape.ShapeCasts U.shape}
    {he' : T'.elt = U'.elt} {hn' : T'.shape.ShapeCasts U'.shape} {v : T.Contents (Elt F)} {v' : T'.Contents (Elt F)} (h : HEq v v') :
    HEq (recast he hn v) (recast he' hn' v') := by
  subst hT; subst hU; cases h; rfl

/-- Both sides reshape matched buffers. -/
theorem Sims.reshape (g : Good s₁ p) {x y : Ref s₁ .tc} {x' y' : Ref s₂ .tc} {he hn hx hy he' hn' hx' hy'}
    (hc : (wr p m y y' && rd p m x x') = true) (t : Sims (St p (m + 1)) (l :: L) (l' :: L') R') :
    Sims (St p m) (((StableHlo.reshape x y he hn hx hy : HloOp τ₁ s₁ (Elt F)) :: l) :: L)
      (((StableHlo.reshape x' y' he' hn' hx' hy' : HloOp τ₂ s₂ (Elt F)) :: l') :: L') R' := by
  simp only [Bool.and_eq_true] at hc
  refine .cons g hc.1 (fun V r hr => reshape_result_ne _ _ _ _ _ _ V hr) (fun V r hr => reshape_result_ne _ _ _ _ _ _ V hr)
    (fun V V' h => ?_) t
  rw [reshape_result, reshape_result]
  exact heq_recast (g.rd_ty hc.2) (g.wr_ty hc.1) (he := he) (hn := hn) (he' := he') (hn' := hn') (h.read hc.2)

/-- Both sides apply the same function to matched families of buffers. -/
theorem Sims.nary (g : Good s₁ p) {n : Nat} {xs : Fin n → Ref s₁ .tc} {xs' : Fin n → Ref s₂ .tc} {y : Ref s₁ .tc} {y' : Ref s₂ .tc}
    {f : ((i : Fin n) → (xs i).ty.Contents (Elt F)) → y.ty.Contents (Elt F)}
    {f' : ((i : Fin n) → (xs' i).ty.Contents (Elt F)) → y'.ty.Contents (Elt F)} {hx hy hx' hy'}
    (hw : wr p m y y' = true) (hr : ∀ i, rd p m (xs i) (xs' i) = true) (hf : HEq f f') (t : Sims (St p (m + 1)) (l :: L) (l' :: L') R') :
    Sims (St p m) (((StableHlo.nary xs y f hx hy : HloOp τ₁ s₁ (Elt F)) :: l) :: L)
      (((StableHlo.nary xs' y' f' hx' hy' : HloOp τ₂ s₂ (Elt F)) :: l') :: L') R' := by
  refine .cons g hw (fun V r hr => nary_result_ne _ _ _ _ _ V hr) (fun V r hr => nary_result_ne _ _ _ _ _ V hr) (fun V V' h => ?_) t
  rw [nary_result, nary_result]
  exact heq_appPi (fun i => contents_eq (g.rd_ty (hr i))) (contents_eq (g.wr_ty hw)) hf fun i => h.read (hr i)

/-- `Sims.nullary` for a value of known type. -/
theorem Sims.constant (g : Good s₁ p) {T : BufTy} {y : TRef s₁ T} {y' : TRef s₂ T} {v v' : T.Contents (Elt F)}
    (hw : wr p m y.ref y'.ref = true) (hv : v = v') (t : Sims (St p (m + 1)) (l :: L) (l' :: L') R') :
    Sims (St p m) ((TRef.nullary y v :: l) :: L) ((TRef.nullary y' v' :: l') :: L') R' := by
  refine .nullary g hw ?_ t
  subst hv
  exact (cast_heq _ _).trans (cast_heq _ _).symm

/-- `Sims.unary` for values of known types. -/
theorem Sims.map (g : Good s₁ p) {S T : BufTy} {x : TRef s₁ S} {y : TRef s₁ T} {x' : TRef s₂ S} {y' : TRef s₂ T}
    {f f' : S.Contents (Elt F) → T.Contents (Elt F)} (hc : (wr p m y.ref y'.ref && rd p m x.ref x'.ref) = true) (hf : f = f')
    (t : Sims (St p (m + 1)) (l :: L) (l' :: L') R') :
    Sims (St p m) ((TRef.unary x y f :: l) :: L) ((TRef.unary x' y' f' :: l') :: L') R' := by
  simp only [Bool.and_eq_true] at hc
  refine .cons g hc.1 (fun V r hr => unary_result_ne _ _ _ _ _ V hr) (fun V r hr => unary_result_ne _ _ _ _ _ V hr) (fun V V' h => ?_) t
  rw [unary_result, unary_result]
  have ha := h.read hc.2
  subst hf
  refine (cast_heq _ _).trans ((heq_of_eq (congrArg f (eq_of_heq ?_))).trans (cast_heq _ _).symm)
  exact (cast_heq _ _).trans (ha.trans (cast_heq _ _).symm)

/-- `Sims.binary` for values of known types. -/
theorem Sims.map₂ (g : Good s₁ p) {S S₂ T : BufTy} {x : TRef s₁ S} {z : TRef s₁ S₂} {y : TRef s₁ T} {x' : TRef s₂ S} {z' : TRef s₂ S₂}
    {y' : TRef s₂ T} {f f' : S.Contents (Elt F) → S₂.Contents (Elt F) → T.Contents (Elt F)}
    (hc : (wr p m y.ref y'.ref && (rd p m x.ref x'.ref && rd p m z.ref z'.ref)) = true) (hf : f = f')
    (t : Sims (St p (m + 1)) (l :: L) (l' :: L') R') :
    Sims (St p m) ((TRef.binary x z y f :: l) :: L) ((TRef.binary x' z' y' f' :: l') :: L') R' := by
  simp only [Bool.and_eq_true] at hc
  refine .cons g hc.1 (fun V r hr => binary_result_ne _ _ _ _ _ _ _ V hr) (fun V r hr => binary_result_ne _ _ _ _ _ _ _ V hr)
    (fun V V' h => ?_) t
  rw [binary_result, binary_result]
  have ha := h.read hc.2.1
  have hb := h.read hc.2.2
  subst hf
  refine (cast_heq _ _).trans ((heq_of_eq (congrArg₂ f (eq_of_heq ?_) (eq_of_heq ?_))).trans (cast_heq _ _).symm)
  · exact (cast_heq _ _).trans (ha.trans (cast_heq _ _).symm)
  · exact (cast_heq _ _).trans (hb.trans (cast_heq _ _).symm)

/-- `Sims.ternary` for values of known types. -/
theorem Sims.map₃ (g : Good s₁ p) {S₀ S S₂ T : BufTy} {c : TRef s₁ S₀} {x : TRef s₁ S} {z : TRef s₁ S₂} {y : TRef s₁ T} {c' : TRef s₂ S₀}
    {x' : TRef s₂ S} {z' : TRef s₂ S₂} {y' : TRef s₂ T} {f f' : S₀.Contents (Elt F) → S.Contents (Elt F) → S₂.Contents (Elt F) → T.Contents (Elt F)}
    (hc : (wr p m y.ref y'.ref && (rd p m c.ref c'.ref && (rd p m x.ref x'.ref && rd p m z.ref z'.ref))) = true) (hf : f = f')
    (t : Sims (St p (m + 1)) (l :: L) (l' :: L') R') :
    Sims (St p m) ((TRef.ternary c x z y f :: l) :: L) ((TRef.ternary c' x' z' y' f' :: l') :: L') R' := by
  simp only [Bool.and_eq_true] at hc
  refine .cons g hc.1 (fun V r hr => ternary_result_ne _ _ _ _ _ _ _ _ _ V hr)
    (fun V r hr => ternary_result_ne _ _ _ _ _ _ _ _ _ V hr) (fun V V' h => ?_) t
  rw [ternary_result, ternary_result]
  have h₀ := h.read hc.2.1
  have ha := h.read hc.2.2.1
  have hb := h.read hc.2.2.2
  subst hf
  refine (cast_heq _ _).trans (HEq.trans (heq_of_eq ?_) (cast_heq _ _).symm)
  congr 1
  · exact eq_of_heq ((cast_heq _ _).trans (h₀.trans (cast_heq _ _).symm))
  · exact eq_of_heq ((cast_heq _ _).trans (ha.trans (cast_heq _ _).symm))
  · exact eq_of_heq ((cast_heq _ _).trans (hb.trans (cast_heq _ _).symm))

/-- Equality at a third type: the same function met from both sides. -/
theorem heq_mid {A B C : Type} {f : A} {φ : C} {f' : B} (h₁ : HEq f φ) (h₂ : HEq φ f') : HEq f f' := h₁.trans h₂

end Rules

end Cert.Sim

end
-- ==== Proof.Follow.lean ====
/- A program's text followed operation by operation beside a straight line of another program: what the text runs is
   found on the way, so that one pass shows both that the text is a straight line and that the two lines agree. -/
module

public import proofs.«01_k».proof.Proof.Sim

@[expose] public section

noncomputable section

namespace Cert.Sim

open Idealize.ShloMosaic Idealize.ShloMosaic.StableHlo Idealize.SL.Sem

variable {nD : Nat} {τ₁ τ₂ : Topo} {s₁ s₂ : RefSig} {F : FTy → Type} {Λ : Labels}

/-- A core's program. -/
abbrev Txt (nD : Nat) (τ : Topo) (s : RefSig) (F : FTy → Type) (Λ : Labels) : Type 1 := Prog (TpuEff nD τ s (Elt F) Λ .tc) PUnit

/-- The program of one operation. -/
abbrev one {nD : Nat} {τ : Topo} {s : RefSig} {F : FTy → Type} {Λ : Labels} (op : HloOp τ s (Elt F)) : Txt nD τ s F Λ :=
  hlo rfl op fun _ => .ret ⟨⟩

/-- The core's own buffers touched, nothing made afresh. -/
def Tame (op : HloOp τ₂ s₂ (Elt F)) : Prop := op.bufs ⊆ tcRefs τ₂ s₂ ∧ op.fresh = ∅

/-- The text `e` runs the stretches `L`, tame operations all. -/
def Line (e : Txt nD τ₂ s₂ F Λ) (L : List (List (HloOp τ₂ s₂ (Elt F)))) : Prop :=
  e = seq L.flatten ∧ ∀ op ∈ L.flatten, Tame op

/-- Beside the stretches `L` the text `e` carries `R` to `R'`, and is a straight line. -/
def Twin (R : Valuation τ₁ s₁ (Elt F) → Valuation τ₂ s₂ (Elt F) → Prop) (L : List (List (HloOp τ₁ s₁ (Elt F))))
    (e : Txt nD τ₂ s₂ F Λ) (R' : Valuation τ₁ s₁ (Elt F) → Valuation τ₂ s₂ (Elt F) → Prop) : Prop :=
  ∃ l' L', Line e (l' :: L') ∧ Sims R L (l' :: L') R'

/-- Operations, then a text. -/
def seqThen : List (HloOp τ₂ s₂ (Elt F)) → Txt nD τ₂ s₂ F Λ → Txt nD τ₂ s₂ F Λ
  | [], e => e
  | op :: ops, e => one op >>= fun _ => seqThen ops e

variable {R R₁ R' : Valuation τ₁ s₁ (Elt F) → Valuation τ₂ s₂ (Elt F) → Prop} {L L₁ L₂ : List (List (HloOp τ₁ s₁ (Elt F)))}
  {l : List (HloOp τ₁ s₁ (Elt F))} {l' : List (HloOp τ₂ s₂ (Elt F))} {L' : List (List (HloOp τ₂ s₂ (Elt F)))}
  {e f : Txt nD τ₂ s₂ F Λ}

/-- One more operation in front of a straight line. -/
theorem Line.step {op : HloOp τ₂ s₂ (Elt F)} (h : Tame op) (t : Line e (l' :: L')) :
    Line (one op >>= fun _ => e : Txt nD τ₂ s₂ F Λ) ((op :: l') :: L') := by
  refine ⟨?_, fun o ho => ?_⟩
  · rw [t.1]; rfl
  · rw [List.flatten_cons, List.cons_append] at ho
    rcases List.mem_cons.mp ho with rfl | ho
    · exact h
    · exact t.2 o ho

/-- Operations then a text are the straight line of the operations, then the text. -/
theorem seq_bind (ops : List (HloOp τ₂ s₂ (Elt F))) (e : Txt nD τ₂ s₂ F Λ) :
    (seq ops >>= fun _ => e) = seqThen ops e := by
  induction ops with
  | nil => rfl
  | cons op ops ih => rw [seqThen, ← ih]; rfl

/-- The text ends and so does the other line. -/
theorem Twin.done : Twin R ([] : List (List (HloOp τ₁ s₁ (Elt F)))) (pure ⟨⟩ : Txt nD τ₂ s₂ F Λ) R :=
  ⟨[], [], ⟨rfl, fun _ h => nomatch h⟩, fun _ _ h => h⟩

/-- The other line's stretch is at its end. -/
theorem Twin.left (t : Twin R L e R') : Twin R ([] :: L) e R' := t

/-- A last operation is one followed by nothing. -/
theorem Twin.last {op : HloOp τ₂ s₂ (Elt F)}
    (t : Twin R L (one op >>= fun _ => (pure ⟨⟩ : Txt nD τ₂ s₂ F Λ)) R') :
    Twin R L (one op : Txt nD τ₂ s₂ F Λ) R' := t

/-- A call runs its operations. -/
theorem Twin.call {ops : List (HloOp τ₂ s₂ (Elt F))} (h : f = seq ops) (t : Twin R L (seqThen ops e) R') :
    Twin R L (f >>= fun _ => e) R' := by
  rw [h, seq_bind]; exact t

/-- A last call is one followed by nothing. -/
theorem Twin.callLast {ops : List (HloOp τ₂ s₂ (Elt F))} (h : f = seq ops) (t : Twin R L (seqThen ops (pure ⟨⟩ : Txt nD τ₂ s₂ F Λ)) R') : Twin R L f R' := by
  have : f = (f >>= fun _ => pure ⟨⟩) := (bind_pure f).symm
  rw [this]; exact .call h t

/-- The next operation of a call. -/
theorem Twin.open {op : HloOp τ₂ s₂ (Elt F)} {ops : List (HloOp τ₂ s₂ (Elt F))}
    (t : Twin R L (one op >>= fun _ => seqThen ops e : Txt nD τ₂ s₂ F Λ) R') : Twin R L (seqThen (op :: ops) e) R' := t

/-- The end of a call. -/
theorem Twin.close (t : Twin R L e R') : Twin R L (seqThen [] e) R' := t

/-- A straight line may be cut into stretches anywhere. -/
theorem afterL_flat {τ : Topo} {s : RefSig} (L : List (List (HloOp τ s (Elt F)))) (V : Valuation τ s (Elt F)) :
    afterL [L.flatten] V = afterL L V := by
  rw [afterL_eq_after_flatten, afterL_eq_after_flatten, List.flatten_cons, List.flatten_nil, List.append_nil]

/-- Two texts one after the other. -/
theorem Twin.then (h₁ : Twin R L₁ e R₁) (h₂ : Twin R₁ L₂ f R') : Twin R (L₁ ++ L₂) (e >>= fun _ => f) R' := by
  obtain ⟨l, L, ⟨rfl, t⟩, s⟩ := h₁
  obtain ⟨k, K, ⟨rfl, t'⟩, s'⟩ := h₂
  refine ⟨l, L ++ k :: K, ⟨?_, fun op ho => ?_⟩, .append s s'⟩
  · rw [← List.cons_append, List.flatten_append, seq_append]
  · rw [← List.cons_append, List.flatten_append] at ho
    exact (List.mem_append.mp ho).elim (t op) (t' op)

variable {p : Plan τ₂ s₂ F} {m : Nat}

/-- One operation on each side. -/
theorem Twin.cons {R₁ : Valuation τ₁ s₁ (Elt F) → Valuation τ₂ s₂ (Elt F) → Prop} {op : HloOp τ₁ s₁ (Elt F)} {op' : HloOp τ₂ s₂ (Elt F)} (h : Tame op')
    (s : ∀ l' L', Sims R₁ (l :: L) (l' :: L') R' → Sims R ((op :: l) :: L) ((op' :: l') :: L') R')
    (t : Twin R₁ (l :: L) e R') : Twin R ((op :: l) :: L) (one op' >>= fun _ => e : Txt nD τ₂ s₂ F Λ) R' := by
  obtain ⟨l', L', hl, hs⟩ := t
  exact ⟨op' :: l', L', hl.step h, s l' L' hs⟩

/-- Both programs write the same value into matched buffers, and go on. -/
theorem Twin.nullary (g : Good s₁ p) {y : Ref s₁ .tc} {y' : Ref s₂ .tc} {v : y.ty.Contents (Elt F)} {v' : y'.ty.Contents (Elt F)} {hy hy'}
    (hw : wr p m y y' = true) (hv : HEq v v') (t : Twin (St p (m + 1)) (l :: L) e R') :
    Twin (St p m) (((StableHlo.nullary y v hy : HloOp τ₁ s₁ (Elt F)) :: l) :: L)
      (one (StableHlo.nullary y' v' hy') >>= fun _ => e : Txt nD τ₂ s₂ F Λ) R' :=
  .cons ⟨nullary_bufs_sub .., rfl⟩ (fun _ _ => Sims.nullary g hw hv) t

/-- Both apply the same function to one matched operand, and go on. -/
theorem Twin.unary (g : Good s₁ p) {x y : Ref s₁ .tc} {x' y' : Ref s₂ .tc} {f : x.ty.Contents (Elt F) → y.ty.Contents (Elt F)}
    {f' : x'.ty.Contents (Elt F) → y'.ty.Contents (Elt F)} {hx hy hx' hy'}
    (hc : (wr p m y y' && rd p m x x') = true) (hf : HEq f f') (t : Twin (St p (m + 1)) (l :: L) e R') :
    Twin (St p m) (((StableHlo.unary x y f hx hy : HloOp τ₁ s₁ (Elt F)) :: l) :: L)
      (one (StableHlo.unary x' y' f' hx' hy') >>= fun _ => e : Txt nD τ₂ s₂ F Λ) R' :=
  .cons ⟨unary_bufs_sub .., rfl⟩ (fun _ _ => Sims.unary g hc hf) t

/-- Both apply the same function to two matched operands, and go on. -/
theorem Twin.binary (g : Good s₁ p) {x z y : Ref s₁ .tc} {x' z' y' : Ref s₂ .tc}
    {f : x.ty.Contents (Elt F) → z.ty.Contents (Elt F) → y.ty.Contents (Elt F)}
    {f' : x'.ty.Contents (Elt F) → z'.ty.Contents (Elt F) → y'.ty.Contents (Elt F)} {hx hz hy hx' hz' hy'}
    (hc : (wr p m y y' && (rd p m x x' && rd p m z z')) = true) (hf : HEq f f') (t : Twin (St p (m + 1)) (l :: L) e R') :
    Twin (St p m) (((StableHlo.binary x z y f hx hz hy : HloOp τ₁ s₁ (Elt F)) :: l) :: L)
      (one (StableHlo.binary x' z' y' f' hx' hz' hy') >>= fun _ => e : Txt nD τ₂ s₂ F Λ) R' :=
  .cons ⟨binary_bufs_sub .., rfl⟩ (fun _ _ => Sims.binary g hc hf) t

/-- Both apply the same function to three matched operands, and go on. -/
theorem Twin.ternary (g : Good s₁ p) {c x z y : Ref s₁ .tc} {c' x' z' y' : Ref s₂ .tc}
    {f : c.ty.Contents (Elt F) → x.ty.Contents (Elt F) → z.ty.Contents (Elt F) → y.ty.Contents (Elt F)}
    {f' : c'.ty.Contents (Elt F) → x'.ty.Contents (Elt F) → z'.ty.Contents (Elt F) → y'.ty.Contents (Elt F)} {hc hx hz hy hc' hx' hz' hy'}
    (ht : (wr p m y y' && (rd p m c c' && (rd p m x x' && rd p m z z'))) = true) (hf : HEq f f')
    (t : Twin (St p (m + 1)) (l :: L) e R') :
    Twin (St p m) (((StableHlo.ternary c x z y f hc hx hz hy : HloOp τ₁ s₁ (Elt F)) :: l) :: L)
      (one (StableHlo.ternary c' x' z' y' f' hc' hx' hz' hy') >>= fun _ => e : Txt nD τ₂ s₂ F Λ) R' :=
  .cons ⟨ternary_bufs_sub .., rfl⟩ (fun _ _ => Sims.ternary g ht hf) t

/-- Both reshape matched operands alike, and go on. -/
theorem Twin.reshape (g : Good s₁ p) {x y : Ref s₁ .tc} {x' y' : Ref s₂ .tc} {he hn hx hy he' hn' hx' hy'}
    (hc : (wr p m y y' && rd p m x x') = true) (t : Twin (St p (m + 1)) (l :: L) e R') :
    Twin (St p m) (((StableHlo.reshape x y he hn hx hy : HloOp τ₁ s₁ (Elt F)) :: l) :: L)
      (one (StableHlo.reshape x' y' he' hn' hx' hy') >>= fun _ => e : Txt nD τ₂ s₂ F Λ) R' :=
  .cons ⟨reshape_bufs_sub .., rfl⟩ (fun _ _ => Sims.reshape g hc) t

/-- Four arrays joined the same way on both sides. -/
theorem concat_same {α : Type} {t : Shape} {d : Fin t.rank} {s₀ s₁ s₂ s₃ : Shape} {a a' : s₀.Idx → α} {b b' : s₁.Idx → α}
    {c c' : s₂.Idx → α} {e e' : s₃.Idx → α} {h : Shape.Concatenates [s₀, s₁, s₂, s₃] t d}
    (h₀ : HEq a a') (h₁ : HEq b b') (h₂ : HEq c c') (h₃ : HEq e e') :
    HEq (concatenate t d [⟨s₀, a⟩, ⟨s₁, b⟩, ⟨s₂, c⟩, ⟨s₃, e⟩] h) (concatenate t d [⟨s₀, a'⟩, ⟨s₁, b'⟩, ⟨s₂, c'⟩, ⟨s₃, e'⟩] h) := by
  cases h₀; cases h₁; cases h₂; cases h₃; rfl

/-- Both sides apply the same function to four matched buffers. -/
theorem Twin.four (g : Good s₁ p) {x₀ x₁ x₂ x₃ y : Ref s₁ .tc} {x₀' x₁' x₂' x₃' y' : Ref s₂ .tc}
    {f : ((i : Fin 4) → (![x₀, x₁, x₂, x₃] i).ty.Contents (Elt F)) → y.ty.Contents (Elt F)}
    {f' : ((i : Fin 4) → (![x₀', x₁', x₂', x₃'] i).ty.Contents (Elt F)) → y'.ty.Contents (Elt F)} {hx hy hx' hy'}
    (hc : (wr p m y y' && (rd p m x₀ x₀' && (rd p m x₁ x₁' && (rd p m x₂ x₂' && rd p m x₃ x₃')))) = true)
    (hf : ∀ u u', HEq (u 0) (u' 0) → HEq (u 1) (u' 1) → HEq (u 2) (u' 2) → HEq (u 3) (u' 3) → HEq (f u) (f' u'))
    (t : Twin (St p (m + 1)) (l :: L) e R') :
    Twin (St p m) (((StableHlo.nary ![x₀, x₁, x₂, x₃] y f hx hy : HloOp τ₁ s₁ (Elt F)) :: l) :: L)
      (one (StableHlo.nary ![x₀', x₁', x₂', x₃'] y' f' hx' hy') >>= fun _ => e : Txt nD τ₂ s₂ F Λ) R' := by
  simp only [Bool.and_eq_true] at hc
  refine .cons ⟨nary_bufs_sub .., rfl⟩ (fun _ _ t => .cons g hc.1 (fun V r hr => nary_result_ne _ _ _ _ _ V hr)
    (fun V r hr => nary_result_ne _ _ _ _ _ V hr) (fun V V' h => ?_) t) t
  rw [nary_result, nary_result]
  exact hf _ _ (h.read hc.2.1) (h.read hc.2.2.1) (h.read hc.2.2.2.1) (h.read hc.2.2.2.2)

/-- Both write the same constant, and go on. -/
theorem Twin.constant (g : Good s₁ p) {T : BufTy} {y : TRef s₁ T} {y' : TRef s₂ T} {v v' : T.Contents (Elt F)}
    (hw : wr p m y.ref y'.ref = true) (hv : v = v') (t : Twin (St p (m + 1)) (l :: L) e R') :
    Twin (St p m) ((TRef.nullary y v :: l) :: L) (one (TRef.nullary y' v') >>= fun _ => e : Txt nD τ₂ s₂ F Λ) R' :=
  .cons ⟨nullary_bufs_sub .., rfl⟩ (fun _ _ => Sims.constant g hw hv) t

/-- Both apply the same function to one matched operand of a stated type, and go on. -/
theorem Twin.map (g : Good s₁ p) {S T : BufTy} {x : TRef s₁ S} {y : TRef s₁ T} {x' : TRef s₂ S} {y' : TRef s₂ T}
    {f f' : S.Contents (Elt F) → T.Contents (Elt F)} (hc : (wr p m y.ref y'.ref && rd p m x.ref x'.ref) = true) (hf : f = f')
    (t : Twin (St p (m + 1)) (l :: L) e R') :
    Twin (St p m) ((TRef.unary x y f :: l) :: L) (one (TRef.unary x' y' f') >>= fun _ => e : Txt nD τ₂ s₂ F Λ) R' :=
  .cons ⟨unary_bufs_sub .., rfl⟩ (fun _ _ => Sims.map g hc hf) t

/-- Both apply the same function to two matched operands of stated types, and go on. -/
theorem Twin.map₂ (g : Good s₁ p) {S S₂ T : BufTy} {x : TRef s₁ S} {z : TRef s₁ S₂} {y : TRef s₁ T} {x' : TRef s₂ S} {z' : TRef s₂ S₂}
    {y' : TRef s₂ T} {f f' : S.Contents (Elt F) → S₂.Contents (Elt F) → T.Contents (Elt F)}
    (hc : (wr p m y.ref y'.ref && (rd p m x.ref x'.ref && rd p m z.ref z'.ref)) = true) (hf : f = f')
    (t : Twin (St p (m + 1)) (l :: L) e R') :
    Twin (St p m) ((TRef.binary x z y f :: l) :: L) (one (TRef.binary x' z' y' f') >>= fun _ => e : Txt nD τ₂ s₂ F Λ) R' :=
  .cons ⟨binary_bufs_sub .., rfl⟩ (fun _ _ => Sims.map₂ g hc hf) t

/-- Both apply the same function to three matched operands of stated types, and go on. -/
theorem Twin.map₃ (g : Good s₁ p) {S₀ S S₂ T : BufTy} {c : TRef s₁ S₀} {x : TRef s₁ S} {z : TRef s₁ S₂} {y : TRef s₁ T} {c' : TRef s₂ S₀}
    {x' : TRef s₂ S} {z' : TRef s₂ S₂} {y' : TRef s₂ T} {f f' : S₀.Contents (Elt F) → S.Contents (Elt F) → S₂.Contents (Elt F) → T.Contents (Elt F)}
    (hc : (wr p m y.ref y'.ref && (rd p m c.ref c'.ref && (rd p m x.ref x'.ref && rd p m z.ref z'.ref))) = true) (hf : f = f')
    (t : Twin (St p (m + 1)) (l :: L) e R') :
    Twin (St p m) ((TRef.ternary c x z y f :: l) :: L) (one (TRef.ternary c' x' z' y' f') >>= fun _ => e : Txt nD τ₂ s₂ F Λ) R' :=
  .cons ⟨ternary_bufs_sub .., rfl⟩ (fun _ _ => Sims.map₃ g hc hf) t

end Cert.Sim

end
-- ==== Proof.Match.lean ====
/- The kernel's host program and the reference number their buffers alike: buffer `j` of the one is matched with
   buffer `j` of the other, the nineteen arguments first and then the 9430 values in the order they are written. -/
module

public import Mathlib.Tactic.IntervalCases
public import proofs.«01_k».proof.Proof.Follow
public import proofs.«01_k».proof.KernelIdeal
public import proofs.«01_k».proof.ReferenceIdeal

@[expose] public section

set_option maxRecDepth 8948
set_option maxHeartbeats 20000000

noncomputable section

namespace Cert.Match

open Idealize.ShloMosaic Idealize.ShloMosaic.StableHlo Cert.Sim

variable {F : FTy → Type} [FloatOps F]

/-- The same numbers on both sides. -/
abbrev same : Plan Cert.ReferenceIdeal.τ Cert.ReferenceIdeal.sig F where
  mate := id
  base j := Nat.blt j 19
  lone _ := false
  start := 19
  stop := 9449
  known _ := True

/-- A buffer of the kernel in device memory has the type its table gives it. -/
theorem kernel_ty (x : Ref Cert.KernelIdeal.sig .tc) (h : x.space = .hbm) : x.ty = Cert.KernelIdeal.hbmTy x.idx.val := by
  obtain ⟨sp, ix, pf⟩ := x
  subst h
  rfl

/-- A buffer of the reference in device memory has the type its table gives it. -/
theorem reference_ty (x : Ref Cert.ReferenceIdeal.sig .tc) (h : x.space = .hbm) : x.ty = Cert.ReferenceIdeal.hbmTy x.idx.val := by
  obtain ⟨sp, ix, pf⟩ := x
  subst h
  rfl

/-- The two tables agree on the last, incomplete block. -/
theorem tail_same : ∀ k < 105, Cert.KernelIdeal.hbmTy (9344 + k) = Cert.ReferenceIdeal.hbmTy (9344 + k) := by
  decide +kernel

/-- The two tables agree up to the kernel's own result. -/
theorem tables (j : Nat) (h : j < 9449) : Cert.KernelIdeal.hbmTy j = Cert.ReferenceIdeal.hbmTy j := by
  by_cases hj : 9344 ≤ j
  · obtain ⟨k, rfl⟩ := Nat.exists_eq_add_of_le hj
    exact tail_same k (by omega)
  · have hq : j / 128 < 73 := by omega
    delta Cert.KernelIdeal.hbmTy Cert.ReferenceIdeal.hbmTy
    beta_reduce
    generalize hd : j / 128 = q at *
    interval_cases q <;> exact rfl

/-- Matching numbers alike meets what a plan must. -/
theorem good : Good Cert.KernelIdeal.sig (same (F := F)) where
  fresh m j h₁ _ _ hd := by
    rcases hd with hd | ⟨_, h, _⟩
    · have : j < 19 := Nat.blt_eq.mp hd
      exact fun e => by have : j = m := e; have : 19 ≤ m := h₁; omega
    · exact fun e => by have : j = m := e; omega
  below j h := Nat.blt_eq.mp h
  typed j x x' hd hx hx' := by
    rw [kernel_ty x hx.1, reference_ty x' hx'.1, hx.2, hx'.2]
    refine tables j ?_
    rcases hd with hd | ⟨_, h, _⟩
    · have : j < 19 := Nat.blt_eq.mp hd
      omega
    · exact h
  keep _ _ _ _ := trivial

end Cert.Match

end
-- ==== Proof.Calls.lean ====
/- The reference's four functions as straight lines, and following one of their calls. -/
module

public import proofs.«01_k».proof.Proof.Follow
public import proofs.«01_k».proof.Proof.Gen.ReferenceIdeal

@[expose] public section

set_option maxRecDepth 8948

noncomputable section

namespace Cert.Sim

open Idealize.ShloMosaic Idealize.ShloMosaic.StableHlo Idealize.SL.Sem Cert.ReferenceIdeal Cert.ReferenceIdeal.Facts₀ Cert.ReferenceIdeal.Facts

variable {F : FTy → Type} [FloatOps F] {τ₁ : Topo} {s₁ : RefSig}

/-- A piece of the reference's text. -/
abbrev Text : Type 1 := Prog (TpuEff nD τ sig (Elt F) (Pipeline.Sig Λ₀ (Fin 0) fun p => (pcfgs (F := F) p).Adm) .tc) PUnit

/-- The operations of one call of `linspace`. -/
abbrev linspaceOps (arg0 : StableHlo.TRef sig ⟨S_, .f32⟩) (arg1 : StableHlo.TRef sig ⟨S_, .f32⟩) (φ : fn_linspace.Bufs) : List (HloOp τ sig (Elt F)) :=
  [ TRef.unary arg0 φ.v0 id,
    TRef.unary arg1 φ.v1 id,
    TRef.binary φ.v1 φ.v0 φ.v2 subf,
    TRef.nullary φ.cst (constant S_ .f32 0x41F80000#32),
    TRef.binary φ.v2 φ.cst φ.v3 Host.divf,
    TRef.nullary φ.v4 (sitofp .f32 (iotaInDim S31 32 0)),
    TRef.nullary φ.cst_0 (constant S_ .f32 0x41F80000#32),
    TRef.unary φ.cst_0 φ.v5 (broadcastInDim S31 ![] bcast_S_S31),
    TRef.binary φ.v4 φ.v5 φ.v6 Host.divf,
    TRef.reshape φ.v0 φ.v7 (rfl : (.f32 : EltTy) = .f32) shapeCasts_S_S1,
    TRef.nullary φ.cst_1 (constant S_ .f32 0x3F800000#32),
    TRef.unary φ.cst_1 φ.v8 (broadcastInDim S31 ![] bcast_S_S31),
    TRef.binary φ.v8 φ.v6 φ.v9 subf,
    TRef.unary φ.v7 φ.v10 (broadcastInDim S31 ![0] bcast_S1_S31_0),
    TRef.binary φ.v10 φ.v9 φ.v11 mulf,
    TRef.reshape φ.v1 φ.v12 (rfl : (.f32 : EltTy) = .f32) shapeCasts_S_S1,
    TRef.unary φ.v12 φ.v13 (broadcastInDim S31 ![0] bcast_S1_S31_0),
    TRef.binary φ.v13 φ.v6 φ.v14 mulf,
    TRef.binary φ.v11 φ.v14 φ.v15 addf,
    TRef.unary φ.v1 φ.v16 (broadcastInDim S1 ![] bcast_S_S1),
    TRef.binary φ.v15 φ.v16 φ.v17 (fun a b => concatenate S32 0 [⟨S31, a⟩, ⟨S1, b⟩] concatenates_S31_S1_S32_d0) ]

variable {R R' : Valuation τ₁ s₁ (Elt F) → Valuation τ sig (Elt F) → Prop} {L : List (List (HloOp τ₁ s₁ (Elt F)))}
  {e : Text (F := F)} in
/-- Both programs call `linspace`, on matched operands into matched results, and go on. -/
theorem Twin.linspace {arg0 arg1} {φ : fn_linspace.Bufs} (t : Twin R L (seqThen (linspaceOps arg0 arg1 φ) e) R') :
    Twin R L (fn_linspace.body arg0 arg1 φ >>= fun _ => e) R' := .call rfl t

variable {R R' : Valuation τ₁ s₁ (Elt F) → Valuation τ sig (Elt F) → Prop} {L : List (List (HloOp τ₁ s₁ (Elt F)))} in
/-- The same, the reference's text ending with that call. -/
theorem Twin.linspaceLast {arg0 arg1} {φ : fn_linspace.Bufs} (t : Twin R L (seqThen (linspaceOps arg0 arg1 φ) (pure ⟨⟩ : Text (F := F))) R') :
    Twin R L (fn_linspace.body (F := F) arg0 arg1 φ) R' := .callLast rfl t

/-- The operations of one call of `clip`. -/
abbrev clipOps (arg0 : StableHlo.TRef sig ⟨S16x4096x4, .f32⟩) (arg1 : StableHlo.TRef sig ⟨S_, .i32⟩) (arg2 : StableHlo.TRef sig ⟨S_, .i32⟩) (φ : fn_clip.Bufs) : List (HloOp τ sig (Elt F)) :=
  [ TRef.unary arg1 φ.v0 (sitofp .f32),
    TRef.unary φ.v0 φ.v1 (broadcastInDim S16x4096x4 ![] bcast_S_S16x4096x4),
    TRef.binary φ.v1 arg0 φ.v2 maximumf,
    TRef.unary arg2 φ.v3 (sitofp .f32),
    TRef.unary φ.v3 φ.v4 (broadcastInDim S16x4096x4 ![] bcast_S_S16x4096x4),
    TRef.binary φ.v4 φ.v2 φ.v5 minimumf ]

variable {R R' : Valuation τ₁ s₁ (Elt F) → Valuation τ sig (Elt F) → Prop} {L : List (List (HloOp τ₁ s₁ (Elt F)))}
  {e : Text (F := F)} in
/-- Both programs call `clip`, on matched operands into matched results, and go on. -/
theorem Twin.clip {arg0 arg1 arg2} {φ : fn_clip.Bufs} (t : Twin R L (seqThen (clipOps arg0 arg1 arg2 φ) e) R') :
    Twin R L (fn_clip.body arg0 arg1 arg2 φ >>= fun _ => e) R' := .call rfl t

variable {R R' : Valuation τ₁ s₁ (Elt F) → Valuation τ sig (Elt F) → Prop} {L : List (List (HloOp τ₁ s₁ (Elt F)))} in
/-- The same, the reference's text ending with that call. -/
theorem Twin.clipLast {arg0 arg1 arg2} {φ : fn_clip.Bufs} (t : Twin R L (seqThen (clipOps arg0 arg1 arg2 φ) (pure ⟨⟩ : Text (F := F))) R') :
    Twin R L (fn_clip.body (F := F) arg0 arg1 arg2 φ) R' := .callLast rfl t

/-- The operations of one call of `take_along_axis`. -/
abbrev takeOps (arg0 : StableHlo.TRef sig ⟨S16x32x1024, .f32⟩) (arg1 : StableHlo.TRef sig ⟨S16x32x16384, .i32⟩) (φ : fn_take_along_axis.Bufs) : List (HloOp τ sig (Elt F)) :=
  [ TRef.nullary φ.c (constantI S_ 32 0#32),
    TRef.unary φ.c φ.v0 (broadcastInDim S16x32x16384 ![] bcast_S_S16x32x16384),
    TRef.binary arg1 φ.v0 φ.v1 (cmpi .slt),
    TRef.nullary φ.c_0 (constantI S_ 32 1024#32),
    TRef.unary φ.c_0 φ.v2 (broadcastInDim S16x32x16384 ![] bcast_S_S16x32x16384),
    TRef.binary arg1 φ.v2 φ.v3 addi,
    TRef.ternary φ.v1 φ.v3 arg1 φ.v4 select,
    TRef.reshape φ.v4 φ.v5 (rfl : (.i32 : EltTy) = .i32) shapeCasts_S16x32x16384_S16x32x16384x1,
    TRef.nullary φ.c_1 (constantI S1 32 1023#32),
    TRef.nullary φ.c_2 (constantI S_ 32 0#32),
    TRef.unary φ.c_2 φ.v6 (broadcastInDim S16x32x16384x1 ![] bcast_S_S16x32x16384x1),
    TRef.binary φ.v5 φ.v6 φ.v7 (cmpi .sge),
    TRef.unary φ.c_1 φ.v8 (broadcastInDim S1x1x1x1 ![3] bcast_S1_S1x1x1x1_3),
    TRef.unary φ.v8 φ.v9 (broadcastInDim S16x32x16384x1 ![0, 1, 2, 3] bcast_S1x1x1x1_S16x32x16384x1_0_1_2_3),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16x32x16384x1_S16x32x16384_d3 h_S_),
    TRef.binary arg0 φ.v5 φ.v13 (fun x i => Host.gather gather_S16x32x1024_S16x32x16384x1_S16x32x16384_n_2_01_01_2_3_111 x i),
    TRef.nullary φ.cst (constant S_ .f32 0x7FC00000#32),
    TRef.unary φ.cst φ.v14 (broadcastInDim S16x32x16384 ![] bcast_S_S16x32x16384),
    TRef.ternary φ.v12 φ.v13 φ.v14 φ.v15 select ]

variable {R R' : Valuation τ₁ s₁ (Elt F) → Valuation τ sig (Elt F) → Prop} {L : List (List (HloOp τ₁ s₁ (Elt F)))}
  {e : Text (F := F)} in
/-- Both programs call `take_along_axis`, on matched operands into matched results, and go on. -/
theorem Twin.take {arg0 arg1} {φ : fn_take_along_axis.Bufs} (t : Twin R L (seqThen (takeOps arg0 arg1 φ) e) R') :
    Twin R L (fn_take_along_axis.body arg0 arg1 φ >>= fun _ => e) R' := .call rfl t

variable {R R' : Valuation τ₁ s₁ (Elt F) → Valuation τ sig (Elt F) → Prop} {L : List (List (HloOp τ₁ s₁ (Elt F)))} in
/-- The same, the reference's text ending with that call. -/
theorem Twin.takeLast {arg0 arg1} {φ : fn_take_along_axis.Bufs} (t : Twin R L (seqThen (takeOps arg0 arg1 φ) (pure ⟨⟩ : Text (F := F))) R') :
    Twin R L (fn_take_along_axis.body (F := F) arg0 arg1 φ) R' := .callLast rfl t

/-- The operations of one call of `relu`. -/
abbrev reluOps (arg0 : StableHlo.TRef sig ⟨S2x4096x1024, .f32⟩) (φ : fn_relu.Bufs) : List (HloOp τ sig (Elt F)) :=
  [ TRef.nullary φ.cst (constant S_ .f32 0x00000000#32),
    TRef.unary φ.cst φ.v0 (broadcastInDim S2x4096x1024 ![] bcast_S_S2x4096x1024),
    TRef.binary arg0 φ.v0 φ.v1 maximumf ]

variable {R R' : Valuation τ₁ s₁ (Elt F) → Valuation τ sig (Elt F) → Prop} {L : List (List (HloOp τ₁ s₁ (Elt F)))}
  {e : Text (F := F)} in
/-- Both programs call `relu`, on matched operands into matched results, and go on. -/
theorem Twin.relu {arg0} {φ : fn_relu.Bufs} (t : Twin R L (seqThen (reluOps arg0 φ) e) R') :
    Twin R L (fn_relu.body arg0 φ >>= fun _ => e) R' := .call rfl t

variable {R R' : Valuation τ₁ s₁ (Elt F) → Valuation τ sig (Elt F) → Prop} {L : List (List (HloOp τ₁ s₁ (Elt F)))} in
/-- The same, the reference's text ending with that call. -/
theorem Twin.reluLast {arg0} {φ : fn_relu.Bufs} (t : Twin R L (seqThen (reluOps arg0 φ) (pure ⟨⟩ : Text (F := F))) R') :
    Twin R L (fn_relu.body (F := F) arg0 φ) R' := .callLast rfl t

end Cert.Sim

end
-- ==== Proof.Windows00.lean ====
/- The kernel's host operations and the reference side by side, windows 0 to 6. -/
module

public import proofs.«01_k».proof.Proof.Match
public import proofs.«01_k».proof.Proof.Calls
public import proofs.«01_k».proof.Proof.Gen.KernelIdeal.Launch

@[expose] public section

set_option maxRecDepth 8948
set_option maxHeartbeats 20000000

noncomputable section

namespace Cert.Windows

open Idealize.ShloMosaic Idealize.ShloMosaic.StableHlo Cert.Sim Cert.Match Cert.KernelIdeal.Gen

variable {F : FTy → Type} [FloatOps F] (d : Dev Cert.ReferenceIdeal.nD)

/-- Window 0 writes the values numbered from 19 up to 159 alike. -/
theorem window0 : Twin (St (same (F := F)) 19)
    ([main_part0_ops0, main_part0_ops1, main_part0_ops2, main_part0_ops3, main_part0_ops4,
      main_part0_ops5, main_part0_ops6, main_part0_ops7, main_part0_ops8] : List (List (HloOp Cert.KernelIdeal.τ Cert.KernelIdeal.sig (Elt F))))
    (Cert.ReferenceIdeal.main_part0 d) (St same 159) := by
  delta Cert.ReferenceIdeal.main_part0
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 1 writes the values numbered from 159 up to 299 alike. -/
theorem window1 : Twin (St (same (F := F)) 159)
    ([main_part1_ops0, main_part1_ops1, main_part1_ops2, main_part1_ops3, main_part1_ops4,
      main_part1_ops5, main_part1_ops6, main_part1_ops7, main_part1_ops8] : List (List (HloOp Cert.KernelIdeal.τ Cert.KernelIdeal.sig (Elt F))))
    (Cert.ReferenceIdeal.main_part1 d) (St same 299) := by
  delta Cert.ReferenceIdeal.main_part1
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 2 writes the values numbered from 299 up to 359 alike. -/
theorem window2 : Twin (St (same (F := F)) 299)
    ([main_part2_ops0] : List (List (HloOp Cert.KernelIdeal.τ Cert.KernelIdeal.sig (Elt F))))
    (Cert.ReferenceIdeal.main_part2 d) (St same 359) := by
  delta Cert.ReferenceIdeal.main_part2
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 3 writes the values numbered from 359 up to 419 alike. -/
theorem window3 : Twin (St (same (F := F)) 359)
    ([main_part3_ops0] : List (List (HloOp Cert.KernelIdeal.τ Cert.KernelIdeal.sig (Elt F))))
    (Cert.ReferenceIdeal.main_part3 d) (St same 419) := by
  delta Cert.ReferenceIdeal.main_part3
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 4 writes the values numbered from 419 up to 510 alike. -/
theorem window4 : Twin (St (same (F := F)) 419)
    ([main_part4_ops0, main_part4_ops1, main_part4_ops2, main_part4_ops3, main_part4_ops4,
      main_part4_ops5, main_part4_ops6] : List (List (HloOp Cert.KernelIdeal.τ Cert.KernelIdeal.sig (Elt F))))
    (Cert.ReferenceIdeal.main_part4 d) (St same 510) := by
  delta Cert.ReferenceIdeal.main_part4
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 5 writes the values numbered from 510 up to 606 alike. -/
theorem window5 : Twin (St (same (F := F)) 510)
    ([main_part5_ops0, main_part5_ops1, main_part5_ops2, main_part5_ops3, main_part5_ops4,
      main_part5_ops5, main_part5_ops6, main_part5_ops7, main_part5_ops8] : List (List (HloOp Cert.KernelIdeal.τ Cert.KernelIdeal.sig (Elt F))))
    (Cert.ReferenceIdeal.main_part5 d) (St same 606) := by
  delta Cert.ReferenceIdeal.main_part5
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 6 writes the values numbered from 606 up to 723 alike. -/
theorem window6 : Twin (St (same (F := F)) 606)
    ([main_part6_ops0, main_part6_ops1, main_part6_ops2, main_part6_ops3, main_part6_ops4,
      main_part6_ops5, main_part6_ops6, main_part6_ops7, main_part6_ops8, main_part6_ops9,
      main_part6_ops10] : List (List (HloOp Cert.KernelIdeal.τ Cert.KernelIdeal.sig (Elt F))))
    (Cert.ReferenceIdeal.main_part6 d) (St same 723) := by
  delta Cert.ReferenceIdeal.main_part6
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

end Cert.Windows

end
-- ==== Proof.Windows01.lean ====
/- The kernel's host operations and the reference side by side, windows 7 to 13. -/
module

public import proofs.«01_k».proof.Proof.Match
public import proofs.«01_k».proof.Proof.Calls
public import proofs.«01_k».proof.Proof.Gen.KernelIdeal.Launch

@[expose] public section

set_option maxRecDepth 8948
set_option maxHeartbeats 20000000

noncomputable section

namespace Cert.Windows

open Idealize.ShloMosaic Idealize.ShloMosaic.StableHlo Cert.Sim Cert.Match Cert.KernelIdeal.Gen

variable {F : FTy → Type} [FloatOps F] (d : Dev Cert.ReferenceIdeal.nD)

/-- Window 7 writes the values numbered from 723 up to 783 alike. -/
theorem window7 : Twin (St (same (F := F)) 723)
    ([main_part7_ops0] : List (List (HloOp Cert.KernelIdeal.τ Cert.KernelIdeal.sig (Elt F))))
    (Cert.ReferenceIdeal.main_part7 d) (St same 783) := by
  delta Cert.ReferenceIdeal.main_part7
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 8 writes the values numbered from 783 up to 884 alike. -/
theorem window8 : Twin (St (same (F := F)) 783)
    ([main_part8_ops0, main_part8_ops1, main_part8_ops2, main_part8_ops3, main_part8_ops4,
      main_part8_ops5, main_part8_ops6, main_part8_ops7, main_part8_ops8, main_part8_ops9,
      main_part8_ops10] : List (List (HloOp Cert.KernelIdeal.τ Cert.KernelIdeal.sig (Elt F))))
    (Cert.ReferenceIdeal.main_part8 d) (St same 884) := by
  delta Cert.ReferenceIdeal.main_part8
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 9 writes the values numbered from 884 up to 996 alike. -/
theorem window9 : Twin (St (same (F := F)) 884)
    ([main_part9_ops0, main_part9_ops1, main_part9_ops2, main_part9_ops3, main_part9_ops4,
      main_part9_ops5, main_part9_ops6, main_part9_ops7, main_part9_ops8] : List (List (HloOp Cert.KernelIdeal.τ Cert.KernelIdeal.sig (Elt F))))
    (Cert.ReferenceIdeal.main_part9 d) (St same 996) := by
  delta Cert.ReferenceIdeal.main_part9
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 10 writes the values numbered from 996 up to 1087 alike. -/
theorem window10 : Twin (St (same (F := F)) 996)
    ([main_part10_ops0, main_part10_ops1, main_part10_ops2, main_part10_ops3, main_part10_ops4,
      main_part10_ops5, main_part10_ops6] : List (List (HloOp Cert.KernelIdeal.τ Cert.KernelIdeal.sig (Elt F))))
    (Cert.ReferenceIdeal.main_part10 d) (St same 1087) := by
  delta Cert.ReferenceIdeal.main_part10
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 11 writes the values numbered from 1087 up to 1157 alike. -/
theorem window11 : Twin (St (same (F := F)) 1087)
    ([main_part11_ops0, main_part11_ops1, main_part11_ops2, main_part11_ops3, main_part11_ops4] : List (List (HloOp Cert.KernelIdeal.τ Cert.KernelIdeal.sig (Elt F))))
    (Cert.ReferenceIdeal.main_part11 d) (St same 1157) := by
  delta Cert.ReferenceIdeal.main_part11
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 12 writes the values numbered from 1157 up to 1269 alike. -/
theorem window12 : Twin (St (same (F := F)) 1157)
    ([main_part12_ops0, main_part12_ops1, main_part12_ops2, main_part12_ops3, main_part12_ops4,
      main_part12_ops5, main_part12_ops6, main_part12_ops7, main_part12_ops8] : List (List (HloOp Cert.KernelIdeal.τ Cert.KernelIdeal.sig (Elt F))))
    (Cert.ReferenceIdeal.main_part12 d) (St same 1269) := by
  delta Cert.ReferenceIdeal.main_part12
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 13 writes the values numbered from 1269 up to 1370 alike. -/
theorem window13 : Twin (St (same (F := F)) 1269)
    ([main_part13_ops0, main_part13_ops1, main_part13_ops2, main_part13_ops3, main_part13_ops4,
      main_part13_ops5, main_part13_ops6, main_part13_ops7, main_part13_ops8, main_part13_ops9,
      main_part13_ops10] : List (List (HloOp Cert.KernelIdeal.τ Cert.KernelIdeal.sig (Elt F))))
    (Cert.ReferenceIdeal.main_part13 d) (St same 1370) := by
  delta Cert.ReferenceIdeal.main_part13
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

end Cert.Windows

end
-- ==== Proof.Windows02.lean ====
/- The kernel's host operations and the reference side by side, windows 14 to 20. -/
module

public import proofs.«01_k».proof.Proof.Match
public import proofs.«01_k».proof.Proof.Calls
public import proofs.«01_k».proof.Proof.Gen.KernelIdeal.Launch

@[expose] public section

set_option maxRecDepth 8948
set_option maxHeartbeats 20000000

noncomputable section

namespace Cert.Windows

open Idealize.ShloMosaic Idealize.ShloMosaic.StableHlo Cert.Sim Cert.Match Cert.KernelIdeal.Gen

variable {F : FTy → Type} [FloatOps F] (d : Dev Cert.ReferenceIdeal.nD)

/-- Window 14 writes the values numbered from 1370 up to 1451 alike. -/
theorem window14 : Twin (St (same (F := F)) 1370)
    ([main_part14_ops0, main_part14_ops1] : List (List (HloOp Cert.KernelIdeal.τ Cert.KernelIdeal.sig (Elt F))))
    (Cert.ReferenceIdeal.main_part14 d) (St same 1451) := by
  delta Cert.ReferenceIdeal.main_part14
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 15 writes the values numbered from 1451 up to 1542 alike. -/
theorem window15 : Twin (St (same (F := F)) 1451)
    ([main_part15_ops0, main_part15_ops1, main_part15_ops2, main_part15_ops3, main_part15_ops4,
      main_part15_ops5, main_part15_ops6] : List (List (HloOp Cert.KernelIdeal.τ Cert.KernelIdeal.sig (Elt F))))
    (Cert.ReferenceIdeal.main_part15 d) (St same 1542) := by
  delta Cert.ReferenceIdeal.main_part15
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 16 writes the values numbered from 1542 up to 1664 alike. -/
theorem window16 : Twin (St (same (F := F)) 1542)
    ([main_part16_ops0, main_part16_ops1, main_part16_ops2, main_part16_ops3, main_part16_ops4,
      main_part16_ops5, main_part16_ops6, main_part16_ops7, main_part16_ops8, main_part16_ops9,
      main_part16_ops10, main_part16_ops11, main_part16_ops12] : List (List (HloOp Cert.KernelIdeal.τ Cert.KernelIdeal.sig (Elt F))))
    (Cert.ReferenceIdeal.main_part16 d) (St same 1664) := by
  delta Cert.ReferenceIdeal.main_part16
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 17 writes the values numbered from 1664 up to 1755 alike. -/
theorem window17 : Twin (St (same (F := F)) 1664)
    ([main_part17_ops0, main_part17_ops1, main_part17_ops2, main_part17_ops3, main_part17_ops4,
      main_part17_ops5, main_part17_ops6] : List (List (HloOp Cert.KernelIdeal.τ Cert.KernelIdeal.sig (Elt F))))
    (Cert.ReferenceIdeal.main_part17 d) (St same 1755) := by
  delta Cert.ReferenceIdeal.main_part17
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 18 writes the values numbered from 1755 up to 1817 alike. -/
theorem window18 : Twin (St (same (F := F)) 1755)
    ([main_part18_ops0, main_part18_ops1, main_part18_ops2] : List (List (HloOp Cert.KernelIdeal.τ Cert.KernelIdeal.sig (Elt F))))
    (Cert.ReferenceIdeal.main_part18 d) (St same 1817) := by
  delta Cert.ReferenceIdeal.main_part18
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 19 writes the values numbered from 1817 up to 1877 alike. -/
theorem window19 : Twin (St (same (F := F)) 1817)
    ([main_part19_ops0] : List (List (HloOp Cert.KernelIdeal.τ Cert.KernelIdeal.sig (Elt F))))
    (Cert.ReferenceIdeal.main_part19 d) (St same 1877) := by
  delta Cert.ReferenceIdeal.main_part19
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 20 writes the values numbered from 1877 up to 1937 alike. -/
theorem window20 : Twin (St (same (F := F)) 1877)
    ([main_part20_ops0] : List (List (HloOp Cert.KernelIdeal.τ Cert.KernelIdeal.sig (Elt F))))
    (Cert.ReferenceIdeal.main_part20 d) (St same 1937) := by
  delta Cert.ReferenceIdeal.main_part20
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

end Cert.Windows

end
-- ==== Proof.Windows03.lean ====
/- The kernel's host operations and the reference side by side, windows 21 to 27. -/
module

public import proofs.«01_k».proof.Proof.Match
public import proofs.«01_k».proof.Proof.Calls
public import proofs.«01_k».proof.Proof.Gen.KernelIdeal.Launch

@[expose] public section

set_option maxRecDepth 8948
set_option maxHeartbeats 20000000

noncomputable section

namespace Cert.Windows

open Idealize.ShloMosaic Idealize.ShloMosaic.StableHlo Cert.Sim Cert.Match Cert.KernelIdeal.Gen

variable {F : FTy → Type} [FloatOps F] (d : Dev Cert.ReferenceIdeal.nD)

/-- Window 21 writes the values numbered from 1937 up to 2028 alike. -/
theorem window21 : Twin (St (same (F := F)) 1937)
    ([main_part21_ops0, main_part21_ops1, main_part21_ops2, main_part21_ops3, main_part21_ops4,
      main_part21_ops5, main_part21_ops6] : List (List (HloOp Cert.KernelIdeal.τ Cert.KernelIdeal.sig (Elt F))))
    (Cert.ReferenceIdeal.main_part21 d) (St same 2028) := by
  delta Cert.ReferenceIdeal.main_part21
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 22 writes the values numbered from 2028 up to 2124 alike. -/
theorem window22 : Twin (St (same (F := F)) 2028)
    ([main_part22_ops0, main_part22_ops1, main_part22_ops2, main_part22_ops3, main_part22_ops4,
      main_part22_ops5, main_part22_ops6, main_part22_ops7] : List (List (HloOp Cert.KernelIdeal.τ Cert.KernelIdeal.sig (Elt F))))
    (Cert.ReferenceIdeal.main_part22 d) (St same 2124) := by
  delta Cert.ReferenceIdeal.main_part22
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 23 writes the values numbered from 2124 up to 2241 alike. -/
theorem window23 : Twin (St (same (F := F)) 2124)
    ([main_part23_ops0, main_part23_ops1, main_part23_ops2, main_part23_ops3, main_part23_ops4,
      main_part23_ops5, main_part23_ops6, main_part23_ops7, main_part23_ops8, main_part23_ops9,
      main_part23_ops10] : List (List (HloOp Cert.KernelIdeal.τ Cert.KernelIdeal.sig (Elt F))))
    (Cert.ReferenceIdeal.main_part23 d) (St same 2241) := by
  delta Cert.ReferenceIdeal.main_part23
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 24 writes the values numbered from 2241 up to 2301 alike. -/
theorem window24 : Twin (St (same (F := F)) 2241)
    ([main_part24_ops0] : List (List (HloOp Cert.KernelIdeal.τ Cert.KernelIdeal.sig (Elt F))))
    (Cert.ReferenceIdeal.main_part24 d) (St same 2301) := by
  delta Cert.ReferenceIdeal.main_part24
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 25 writes the values numbered from 2301 up to 2402 alike. -/
theorem window25 : Twin (St (same (F := F)) 2301)
    ([main_part25_ops0, main_part25_ops1, main_part25_ops2, main_part25_ops3, main_part25_ops4,
      main_part25_ops5, main_part25_ops6, main_part25_ops7, main_part25_ops8, main_part25_ops9,
      main_part25_ops10] : List (List (HloOp Cert.KernelIdeal.τ Cert.KernelIdeal.sig (Elt F))))
    (Cert.ReferenceIdeal.main_part25 d) (St same 2402) := by
  delta Cert.ReferenceIdeal.main_part25
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 26 writes the values numbered from 2402 up to 2514 alike. -/
theorem window26 : Twin (St (same (F := F)) 2402)
    ([main_part26_ops0, main_part26_ops1, main_part26_ops2, main_part26_ops3, main_part26_ops4,
      main_part26_ops5, main_part26_ops6, main_part26_ops7, main_part26_ops8] : List (List (HloOp Cert.KernelIdeal.τ Cert.KernelIdeal.sig (Elt F))))
    (Cert.ReferenceIdeal.main_part26 d) (St same 2514) := by
  delta Cert.ReferenceIdeal.main_part26
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 27 writes the values numbered from 2514 up to 2605 alike. -/
theorem window27 : Twin (St (same (F := F)) 2514)
    ([main_part27_ops0, main_part27_ops1, main_part27_ops2, main_part27_ops3, main_part27_ops4,
      main_part27_ops5, main_part27_ops6] : List (List (HloOp Cert.KernelIdeal.τ Cert.KernelIdeal.sig (Elt F))))
    (Cert.ReferenceIdeal.main_part27 d) (St same 2605) := by
  delta Cert.ReferenceIdeal.main_part27
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

end Cert.Windows

end
-- ==== Proof.Windows04.lean ====
/- The kernel's host operations and the reference side by side, windows 28 to 34. -/
module

public import proofs.«01_k».proof.Proof.Match
public import proofs.«01_k».proof.Proof.Calls
public import proofs.«01_k».proof.Proof.Gen.KernelIdeal.Launch

@[expose] public section

set_option maxRecDepth 8948
set_option maxHeartbeats 20000000

noncomputable section

namespace Cert.Windows

open Idealize.ShloMosaic Idealize.ShloMosaic.StableHlo Cert.Sim Cert.Match Cert.KernelIdeal.Gen

variable {F : FTy → Type} [FloatOps F] (d : Dev Cert.ReferenceIdeal.nD)

/-- Window 28 writes the values numbered from 2605 up to 2675 alike. -/
theorem window28 : Twin (St (same (F := F)) 2605)
    ([main_part28_ops0, main_part28_ops1, main_part28_ops2, main_part28_ops3, main_part28_ops4] : List (List (HloOp Cert.KernelIdeal.τ Cert.KernelIdeal.sig (Elt F))))
    (Cert.ReferenceIdeal.main_part28 d) (St same 2675) := by
  delta Cert.ReferenceIdeal.main_part28
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 29 writes the values numbered from 2675 up to 2787 alike. -/
theorem window29 : Twin (St (same (F := F)) 2675)
    ([main_part29_ops0, main_part29_ops1, main_part29_ops2, main_part29_ops3, main_part29_ops4,
      main_part29_ops5, main_part29_ops6, main_part29_ops7, main_part29_ops8] : List (List (HloOp Cert.KernelIdeal.τ Cert.KernelIdeal.sig (Elt F))))
    (Cert.ReferenceIdeal.main_part29 d) (St same 2787) := by
  delta Cert.ReferenceIdeal.main_part29
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 30 writes the values numbered from 2787 up to 2888 alike. -/
theorem window30 : Twin (St (same (F := F)) 2787)
    ([main_part30_ops0, main_part30_ops1, main_part30_ops2, main_part30_ops3, main_part30_ops4,
      main_part30_ops5, main_part30_ops6, main_part30_ops7, main_part30_ops8, main_part30_ops9,
      main_part30_ops10] : List (List (HloOp Cert.KernelIdeal.τ Cert.KernelIdeal.sig (Elt F))))
    (Cert.ReferenceIdeal.main_part30 d) (St same 2888) := by
  delta Cert.ReferenceIdeal.main_part30
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 31 writes the values numbered from 2888 up to 2969 alike. -/
theorem window31 : Twin (St (same (F := F)) 2888)
    ([main_part31_ops0, main_part31_ops1, main_part31_ops2] : List (List (HloOp Cert.KernelIdeal.τ Cert.KernelIdeal.sig (Elt F))))
    (Cert.ReferenceIdeal.main_part31 d) (St same 2969) := by
  delta Cert.ReferenceIdeal.main_part31
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 32 writes the values numbered from 2969 up to 3060 alike. -/
theorem window32 : Twin (St (same (F := F)) 2969)
    ([main_part32_ops0, main_part32_ops1, main_part32_ops2, main_part32_ops3, main_part32_ops4,
      main_part32_ops5, main_part32_ops6] : List (List (HloOp Cert.KernelIdeal.τ Cert.KernelIdeal.sig (Elt F))))
    (Cert.ReferenceIdeal.main_part32 d) (St same 3060) := by
  delta Cert.ReferenceIdeal.main_part32
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 33 writes the values numbered from 3060 up to 3182 alike. -/
theorem window33 : Twin (St (same (F := F)) 3060)
    ([main_part33_ops0, main_part33_ops1, main_part33_ops2, main_part33_ops3, main_part33_ops4,
      main_part33_ops5, main_part33_ops6, main_part33_ops7, main_part33_ops8, main_part33_ops9,
      main_part33_ops10, main_part33_ops11, main_part33_ops12] : List (List (HloOp Cert.KernelIdeal.τ Cert.KernelIdeal.sig (Elt F))))
    (Cert.ReferenceIdeal.main_part33 d) (St same 3182) := by
  delta Cert.ReferenceIdeal.main_part33
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 34 writes the values numbered from 3182 up to 3273 alike. -/
theorem window34 : Twin (St (same (F := F)) 3182)
    ([main_part34_ops0, main_part34_ops1, main_part34_ops2, main_part34_ops3, main_part34_ops4,
      main_part34_ops5, main_part34_ops6] : List (List (HloOp Cert.KernelIdeal.τ Cert.KernelIdeal.sig (Elt F))))
    (Cert.ReferenceIdeal.main_part34 d) (St same 3273) := by
  delta Cert.ReferenceIdeal.main_part34
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

end Cert.Windows

end
-- ==== Proof.Windows05.lean ====
/- The kernel's host operations and the reference side by side, windows 35 to 41. -/
module

public import proofs.«01_k».proof.Proof.Match
public import proofs.«01_k».proof.Proof.Calls
public import proofs.«01_k».proof.Proof.Gen.KernelIdeal.Launch

@[expose] public section

set_option maxRecDepth 8948
set_option maxHeartbeats 20000000

noncomputable section

namespace Cert.Windows

open Idealize.ShloMosaic Idealize.ShloMosaic.StableHlo Cert.Sim Cert.Match Cert.KernelIdeal.Gen

variable {F : FTy → Type} [FloatOps F] (d : Dev Cert.ReferenceIdeal.nD)

/-- Window 35 writes the values numbered from 3273 up to 3335 alike. -/
theorem window35 : Twin (St (same (F := F)) 3273)
    ([main_part35_ops0, main_part35_ops1, main_part35_ops2] : List (List (HloOp Cert.KernelIdeal.τ Cert.KernelIdeal.sig (Elt F))))
    (Cert.ReferenceIdeal.main_part35 d) (St same 3335) := by
  delta Cert.ReferenceIdeal.main_part35
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 36 writes the values numbered from 3335 up to 3395 alike. -/
theorem window36 : Twin (St (same (F := F)) 3335)
    ([main_part36_ops0] : List (List (HloOp Cert.KernelIdeal.τ Cert.KernelIdeal.sig (Elt F))))
    (Cert.ReferenceIdeal.main_part36 d) (St same 3395) := by
  delta Cert.ReferenceIdeal.main_part36
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 37 writes the values numbered from 3395 up to 3455 alike. -/
theorem window37 : Twin (St (same (F := F)) 3395)
    ([main_part37_ops0] : List (List (HloOp Cert.KernelIdeal.τ Cert.KernelIdeal.sig (Elt F))))
    (Cert.ReferenceIdeal.main_part37 d) (St same 3455) := by
  delta Cert.ReferenceIdeal.main_part37
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 38 writes the values numbered from 3455 up to 3546 alike. -/
theorem window38 : Twin (St (same (F := F)) 3455)
    ([main_part38_ops0, main_part38_ops1, main_part38_ops2, main_part38_ops3, main_part38_ops4,
      main_part38_ops5, main_part38_ops6] : List (List (HloOp Cert.KernelIdeal.τ Cert.KernelIdeal.sig (Elt F))))
    (Cert.ReferenceIdeal.main_part38 d) (St same 3546) := by
  delta Cert.ReferenceIdeal.main_part38
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 39 writes the values numbered from 3546 up to 3637 alike. -/
theorem window39 : Twin (St (same (F := F)) 3546)
    ([main_part39_ops0, main_part39_ops1, main_part39_ops2, main_part39_ops3, main_part39_ops4,
      main_part39_ops5, main_part39_ops6] : List (List (HloOp Cert.KernelIdeal.τ Cert.KernelIdeal.sig (Elt F))))
    (Cert.ReferenceIdeal.main_part39 d) (St same 3637) := by
  delta Cert.ReferenceIdeal.main_part39
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 40 writes the values numbered from 3637 up to 3759 alike. -/
theorem window40 : Twin (St (same (F := F)) 3637)
    ([main_part40_ops0, main_part40_ops1, main_part40_ops2, main_part40_ops3, main_part40_ops4,
      main_part40_ops5, main_part40_ops6, main_part40_ops7, main_part40_ops8, main_part40_ops9,
      main_part40_ops10, main_part40_ops11, main_part40_ops12] : List (List (HloOp Cert.KernelIdeal.τ Cert.KernelIdeal.sig (Elt F))))
    (Cert.ReferenceIdeal.main_part40 d) (St same 3759) := by
  delta Cert.ReferenceIdeal.main_part40
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 41 writes the values numbered from 3759 up to 3819 alike. -/
theorem window41 : Twin (St (same (F := F)) 3759)
    ([main_part41_ops0] : List (List (HloOp Cert.KernelIdeal.τ Cert.KernelIdeal.sig (Elt F))))
    (Cert.ReferenceIdeal.main_part41 d) (St same 3819) := by
  delta Cert.ReferenceIdeal.main_part41
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

end Cert.Windows

end
-- ==== Proof.Windows06.lean ====
/- The kernel's host operations and the reference side by side, windows 42 to 48. -/
module

public import proofs.«01_k».proof.Proof.Match
public import proofs.«01_k».proof.Proof.Calls
public import proofs.«01_k».proof.Proof.Gen.KernelIdeal.Launch

@[expose] public section

set_option maxRecDepth 8948
set_option maxHeartbeats 20000000

noncomputable section

namespace Cert.Windows

open Idealize.ShloMosaic Idealize.ShloMosaic.StableHlo Cert.Sim Cert.Match Cert.KernelIdeal.Gen

variable {F : FTy → Type} [FloatOps F] (d : Dev Cert.ReferenceIdeal.nD)

/-- Window 42 writes the values numbered from 3819 up to 3915 alike. -/
theorem window42 : Twin (St (same (F := F)) 3819)
    ([main_part42_ops0, main_part42_ops1, main_part42_ops2, main_part42_ops3, main_part42_ops4,
      main_part42_ops5, main_part42_ops6, main_part42_ops7, main_part42_ops8] : List (List (HloOp Cert.KernelIdeal.τ Cert.KernelIdeal.sig (Elt F))))
    (Cert.ReferenceIdeal.main_part42 d) (St same 3915) := by
  delta Cert.ReferenceIdeal.main_part42
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 43 writes the values numbered from 3915 up to 4032 alike. -/
theorem window43 : Twin (St (same (F := F)) 3915)
    ([main_part43_ops0, main_part43_ops1, main_part43_ops2, main_part43_ops3, main_part43_ops4,
      main_part43_ops5, main_part43_ops6, main_part43_ops7, main_part43_ops8, main_part43_ops9] : List (List (HloOp Cert.KernelIdeal.τ Cert.KernelIdeal.sig (Elt F))))
    (Cert.ReferenceIdeal.main_part43 d) (St same 4032) := by
  delta Cert.ReferenceIdeal.main_part43
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 44 writes the values numbered from 4032 up to 4123 alike. -/
theorem window44 : Twin (St (same (F := F)) 4032)
    ([main_part44_ops0, main_part44_ops1, main_part44_ops2, main_part44_ops3, main_part44_ops4,
      main_part44_ops5, main_part44_ops6] : List (List (HloOp Cert.KernelIdeal.τ Cert.KernelIdeal.sig (Elt F))))
    (Cert.ReferenceIdeal.main_part44 d) (St same 4123) := by
  delta Cert.ReferenceIdeal.main_part44
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 45 writes the values numbered from 4123 up to 4193 alike. -/
theorem window45 : Twin (St (same (F := F)) 4123)
    ([main_part45_ops0, main_part45_ops1, main_part45_ops2, main_part45_ops3, main_part45_ops4] : List (List (HloOp Cert.KernelIdeal.τ Cert.KernelIdeal.sig (Elt F))))
    (Cert.ReferenceIdeal.main_part45 d) (St same 4193) := by
  delta Cert.ReferenceIdeal.main_part45
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 46 writes the values numbered from 4193 up to 4305 alike. -/
theorem window46 : Twin (St (same (F := F)) 4193)
    ([main_part46_ops0, main_part46_ops1, main_part46_ops2, main_part46_ops3, main_part46_ops4,
      main_part46_ops5, main_part46_ops6, main_part46_ops7, main_part46_ops8] : List (List (HloOp Cert.KernelIdeal.τ Cert.KernelIdeal.sig (Elt F))))
    (Cert.ReferenceIdeal.main_part46 d) (St same 4305) := by
  delta Cert.ReferenceIdeal.main_part46
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 47 writes the values numbered from 4305 up to 4406 alike. -/
theorem window47 : Twin (St (same (F := F)) 4305)
    ([main_part47_ops0, main_part47_ops1, main_part47_ops2, main_part47_ops3, main_part47_ops4,
      main_part47_ops5, main_part47_ops6, main_part47_ops7, main_part47_ops8, main_part47_ops9,
      main_part47_ops10] : List (List (HloOp Cert.KernelIdeal.τ Cert.KernelIdeal.sig (Elt F))))
    (Cert.ReferenceIdeal.main_part47 d) (St same 4406) := by
  delta Cert.ReferenceIdeal.main_part47
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 48 writes the values numbered from 4406 up to 4487 alike. -/
theorem window48 : Twin (St (same (F := F)) 4406)
    ([main_part48_ops0, main_part48_ops1, main_part48_ops2] : List (List (HloOp Cert.KernelIdeal.τ Cert.KernelIdeal.sig (Elt F))))
    (Cert.ReferenceIdeal.main_part48 d) (St same 4487) := by
  delta Cert.ReferenceIdeal.main_part48
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

end Cert.Windows

end
-- ==== Proof.Windows07.lean ====
/- The kernel's host operations and the reference side by side, windows 49 to 55. -/
module

public import proofs.«01_k».proof.Proof.Match
public import proofs.«01_k».proof.Proof.Calls
public import proofs.«01_k».proof.Proof.Gen.KernelIdeal.Launch

@[expose] public section

set_option maxRecDepth 8948
set_option maxHeartbeats 20000000

noncomputable section

namespace Cert.Windows

open Idealize.ShloMosaic Idealize.ShloMosaic.StableHlo Cert.Sim Cert.Match Cert.KernelIdeal.Gen

variable {F : FTy → Type} [FloatOps F] (d : Dev Cert.ReferenceIdeal.nD)

/-- Window 49 writes the values numbered from 4487 up to 4578 alike. -/
theorem window49 : Twin (St (same (F := F)) 4487)
    ([main_part49_ops0, main_part49_ops1, main_part49_ops2, main_part49_ops3, main_part49_ops4,
      main_part49_ops5, main_part49_ops6] : List (List (HloOp Cert.KernelIdeal.τ Cert.KernelIdeal.sig (Elt F))))
    (Cert.ReferenceIdeal.main_part49 d) (St same 4578) := by
  delta Cert.ReferenceIdeal.main_part49
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 50 writes the values numbered from 4578 up to 4700 alike. -/
theorem window50 : Twin (St (same (F := F)) 4578)
    ([main_part50_ops0, main_part50_ops1, main_part50_ops2, main_part50_ops3, main_part50_ops4,
      main_part50_ops5, main_part50_ops6, main_part50_ops7, main_part50_ops8, main_part50_ops9,
      main_part50_ops10, main_part50_ops11] : List (List (HloOp Cert.KernelIdeal.τ Cert.KernelIdeal.sig (Elt F))))
    (Cert.ReferenceIdeal.main_part50 d) (St same 4700) := by
  delta Cert.ReferenceIdeal.main_part50
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 51 writes the values numbered from 4700 up to 4791 alike. -/
theorem window51 : Twin (St (same (F := F)) 4700)
    ([main_part51_ops0, main_part51_ops1, main_part51_ops2, main_part51_ops3, main_part51_ops4,
      main_part51_ops5, main_part51_ops6] : List (List (HloOp Cert.KernelIdeal.τ Cert.KernelIdeal.sig (Elt F))))
    (Cert.ReferenceIdeal.main_part51 d) (St same 4791) := by
  delta Cert.ReferenceIdeal.main_part51
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 52 writes the values numbered from 4791 up to 4853 alike. -/
theorem window52 : Twin (St (same (F := F)) 4791)
    ([main_part52_ops0, main_part52_ops1, main_part52_ops2] : List (List (HloOp Cert.KernelIdeal.τ Cert.KernelIdeal.sig (Elt F))))
    (Cert.ReferenceIdeal.main_part52 d) (St same 4853) := by
  delta Cert.ReferenceIdeal.main_part52
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 53 writes the values numbered from 4853 up to 4913 alike. -/
theorem window53 : Twin (St (same (F := F)) 4853)
    ([main_part53_ops0] : List (List (HloOp Cert.KernelIdeal.τ Cert.KernelIdeal.sig (Elt F))))
    (Cert.ReferenceIdeal.main_part53 d) (St same 4913) := by
  delta Cert.ReferenceIdeal.main_part53
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 54 writes the values numbered from 4913 up to 4973 alike. -/
theorem window54 : Twin (St (same (F := F)) 4913)
    ([main_part54_ops0] : List (List (HloOp Cert.KernelIdeal.τ Cert.KernelIdeal.sig (Elt F))))
    (Cert.ReferenceIdeal.main_part54 d) (St same 4973) := by
  delta Cert.ReferenceIdeal.main_part54
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 55 writes the values numbered from 4973 up to 5064 alike. -/
theorem window55 : Twin (St (same (F := F)) 4973)
    ([main_part55_ops0, main_part55_ops1, main_part55_ops2, main_part55_ops3, main_part55_ops4,
      main_part55_ops5, main_part55_ops6] : List (List (HloOp Cert.KernelIdeal.τ Cert.KernelIdeal.sig (Elt F))))
    (Cert.ReferenceIdeal.main_part55 d) (St same 5064) := by
  delta Cert.ReferenceIdeal.main_part55
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

end Cert.Windows

end
-- ==== Proof.Windows08.lean ====
/- The kernel's host operations and the reference side by side, windows 56 to 62. -/
module

public import proofs.«01_k».proof.Proof.Match
public import proofs.«01_k».proof.Proof.Calls
public import proofs.«01_k».proof.Proof.Gen.KernelIdeal.Launch

@[expose] public section

set_option maxRecDepth 8948
set_option maxHeartbeats 20000000

noncomputable section

namespace Cert.Windows

open Idealize.ShloMosaic Idealize.ShloMosaic.StableHlo Cert.Sim Cert.Match Cert.KernelIdeal.Gen

variable {F : FTy → Type} [FloatOps F] (d : Dev Cert.ReferenceIdeal.nD)

/-- Window 56 writes the values numbered from 5064 up to 5155 alike. -/
theorem window56 : Twin (St (same (F := F)) 5064)
    ([main_part56_ops0, main_part56_ops1, main_part56_ops2, main_part56_ops3, main_part56_ops4,
      main_part56_ops5, main_part56_ops6] : List (List (HloOp Cert.KernelIdeal.τ Cert.KernelIdeal.sig (Elt F))))
    (Cert.ReferenceIdeal.main_part56 d) (St same 5155) := by
  delta Cert.ReferenceIdeal.main_part56
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 57 writes the values numbered from 5155 up to 5277 alike. -/
theorem window57 : Twin (St (same (F := F)) 5155)
    ([main_part57_ops0, main_part57_ops1, main_part57_ops2, main_part57_ops3, main_part57_ops4,
      main_part57_ops5, main_part57_ops6, main_part57_ops7, main_part57_ops8, main_part57_ops9,
      main_part57_ops10, main_part57_ops11, main_part57_ops12] : List (List (HloOp Cert.KernelIdeal.τ Cert.KernelIdeal.sig (Elt F))))
    (Cert.ReferenceIdeal.main_part57 d) (St same 5277) := by
  delta Cert.ReferenceIdeal.main_part57
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 58 writes the values numbered from 5277 up to 5337 alike. -/
theorem window58 : Twin (St (same (F := F)) 5277)
    ([main_part58_ops0] : List (List (HloOp Cert.KernelIdeal.τ Cert.KernelIdeal.sig (Elt F))))
    (Cert.ReferenceIdeal.main_part58 d) (St same 5337) := by
  delta Cert.ReferenceIdeal.main_part58
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 59 writes the values numbered from 5337 up to 5433 alike. -/
theorem window59 : Twin (St (same (F := F)) 5337)
    ([main_part59_ops0, main_part59_ops1, main_part59_ops2, main_part59_ops3, main_part59_ops4,
      main_part59_ops5, main_part59_ops6, main_part59_ops7, main_part59_ops8] : List (List (HloOp Cert.KernelIdeal.τ Cert.KernelIdeal.sig (Elt F))))
    (Cert.ReferenceIdeal.main_part59 d) (St same 5433) := by
  delta Cert.ReferenceIdeal.main_part59
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 60 writes the values numbered from 5433 up to 5550 alike. -/
theorem window60 : Twin (St (same (F := F)) 5433)
    ([main_part60_ops0, main_part60_ops1, main_part60_ops2, main_part60_ops3, main_part60_ops4,
      main_part60_ops5, main_part60_ops6, main_part60_ops7, main_part60_ops8, main_part60_ops9,
      main_part60_ops10] : List (List (HloOp Cert.KernelIdeal.τ Cert.KernelIdeal.sig (Elt F))))
    (Cert.ReferenceIdeal.main_part60 d) (St same 5550) := by
  delta Cert.ReferenceIdeal.main_part60
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 61 writes the values numbered from 5550 up to 5641 alike. -/
theorem window61 : Twin (St (same (F := F)) 5550)
    ([main_part61_ops0, main_part61_ops1, main_part61_ops2, main_part61_ops3, main_part61_ops4,
      main_part61_ops5, main_part61_ops6] : List (List (HloOp Cert.KernelIdeal.τ Cert.KernelIdeal.sig (Elt F))))
    (Cert.ReferenceIdeal.main_part61 d) (St same 5641) := by
  delta Cert.ReferenceIdeal.main_part61
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 62 writes the values numbered from 5641 up to 5711 alike. -/
theorem window62 : Twin (St (same (F := F)) 5641)
    ([main_part62_ops0, main_part62_ops1, main_part62_ops2, main_part62_ops3, main_part62_ops4] : List (List (HloOp Cert.KernelIdeal.τ Cert.KernelIdeal.sig (Elt F))))
    (Cert.ReferenceIdeal.main_part62 d) (St same 5711) := by
  delta Cert.ReferenceIdeal.main_part62
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

end Cert.Windows

end
-- ==== Proof.Windows09.lean ====
/- The kernel's host operations and the reference side by side, windows 63 to 69. -/
module

public import proofs.«01_k».proof.Proof.Match
public import proofs.«01_k».proof.Proof.Calls
public import proofs.«01_k».proof.Proof.Gen.KernelIdeal.Launch

@[expose] public section

set_option maxRecDepth 8948
set_option maxHeartbeats 20000000

noncomputable section

namespace Cert.Windows

open Idealize.ShloMosaic Idealize.ShloMosaic.StableHlo Cert.Sim Cert.Match Cert.KernelIdeal.Gen

variable {F : FTy → Type} [FloatOps F] (d : Dev Cert.ReferenceIdeal.nD)

/-- Window 63 writes the values numbered from 5711 up to 5823 alike. -/
theorem window63 : Twin (St (same (F := F)) 5711)
    ([main_part63_ops0, main_part63_ops1, main_part63_ops2, main_part63_ops3, main_part63_ops4,
      main_part63_ops5, main_part63_ops6, main_part63_ops7, main_part63_ops8] : List (List (HloOp Cert.KernelIdeal.τ Cert.KernelIdeal.sig (Elt F))))
    (Cert.ReferenceIdeal.main_part63 d) (St same 5823) := by
  delta Cert.ReferenceIdeal.main_part63
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 64 writes the values numbered from 5823 up to 5924 alike. -/
theorem window64 : Twin (St (same (F := F)) 5823)
    ([main_part64_ops0, main_part64_ops1, main_part64_ops2, main_part64_ops3, main_part64_ops4,
      main_part64_ops5, main_part64_ops6, main_part64_ops7, main_part64_ops8, main_part64_ops9,
      main_part64_ops10] : List (List (HloOp Cert.KernelIdeal.τ Cert.KernelIdeal.sig (Elt F))))
    (Cert.ReferenceIdeal.main_part64 d) (St same 5924) := by
  delta Cert.ReferenceIdeal.main_part64
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 65 writes the values numbered from 5924 up to 6005 alike. -/
theorem window65 : Twin (St (same (F := F)) 5924)
    ([main_part65_ops0, main_part65_ops1, main_part65_ops2] : List (List (HloOp Cert.KernelIdeal.τ Cert.KernelIdeal.sig (Elt F))))
    (Cert.ReferenceIdeal.main_part65 d) (St same 6005) := by
  delta Cert.ReferenceIdeal.main_part65
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 66 writes the values numbered from 6005 up to 6096 alike. -/
theorem window66 : Twin (St (same (F := F)) 6005)
    ([main_part66_ops0, main_part66_ops1, main_part66_ops2, main_part66_ops3, main_part66_ops4,
      main_part66_ops5, main_part66_ops6] : List (List (HloOp Cert.KernelIdeal.τ Cert.KernelIdeal.sig (Elt F))))
    (Cert.ReferenceIdeal.main_part66 d) (St same 6096) := by
  delta Cert.ReferenceIdeal.main_part66
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 67 writes the values numbered from 6096 up to 6197 alike. -/
theorem window67 : Twin (St (same (F := F)) 6096)
    ([main_part67_ops0, main_part67_ops1, main_part67_ops2, main_part67_ops3, main_part67_ops4,
      main_part67_ops5, main_part67_ops6, main_part67_ops7, main_part67_ops8, main_part67_ops9,
      main_part67_ops10] : List (List (HloOp Cert.KernelIdeal.τ Cert.KernelIdeal.sig (Elt F))))
    (Cert.ReferenceIdeal.main_part67 d) (St same 6197) := by
  delta Cert.ReferenceIdeal.main_part67
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 68 writes the values numbered from 6197 up to 6309 alike. -/
theorem window68 : Twin (St (same (F := F)) 6197)
    ([main_part68_ops0, main_part68_ops1, main_part68_ops2, main_part68_ops3, main_part68_ops4,
      main_part68_ops5, main_part68_ops6, main_part68_ops7, main_part68_ops8] : List (List (HloOp Cert.KernelIdeal.τ Cert.KernelIdeal.sig (Elt F))))
    (Cert.ReferenceIdeal.main_part68 d) (St same 6309) := by
  delta Cert.ReferenceIdeal.main_part68
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 69 writes the values numbered from 6309 up to 6371 alike. -/
theorem window69 : Twin (St (same (F := F)) 6309)
    ([main_part69_ops0, main_part69_ops1, main_part69_ops2] : List (List (HloOp Cert.KernelIdeal.τ Cert.KernelIdeal.sig (Elt F))))
    (Cert.ReferenceIdeal.main_part69 d) (St same 6371) := by
  delta Cert.ReferenceIdeal.main_part69
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

end Cert.Windows

end
-- ==== Proof.Windows10.lean ====
/- The kernel's host operations and the reference side by side, windows 70 to 76. -/
module

public import proofs.«01_k».proof.Proof.Match
public import proofs.«01_k».proof.Proof.Calls
public import proofs.«01_k».proof.Proof.Gen.KernelIdeal.Launch

@[expose] public section

set_option maxRecDepth 8948
set_option maxHeartbeats 20000000

noncomputable section

namespace Cert.Windows

open Idealize.ShloMosaic Idealize.ShloMosaic.StableHlo Cert.Sim Cert.Match Cert.KernelIdeal.Gen

variable {F : FTy → Type} [FloatOps F] (d : Dev Cert.ReferenceIdeal.nD)

/-- Window 70 writes the values numbered from 6371 up to 6431 alike. -/
theorem window70 : Twin (St (same (F := F)) 6371)
    ([main_part70_ops0] : List (List (HloOp Cert.KernelIdeal.τ Cert.KernelIdeal.sig (Elt F))))
    (Cert.ReferenceIdeal.main_part70 d) (St same 6431) := by
  delta Cert.ReferenceIdeal.main_part70
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 71 writes the values numbered from 6431 up to 6491 alike. -/
theorem window71 : Twin (St (same (F := F)) 6431)
    ([main_part71_ops0] : List (List (HloOp Cert.KernelIdeal.τ Cert.KernelIdeal.sig (Elt F))))
    (Cert.ReferenceIdeal.main_part71 d) (St same 6491) := by
  delta Cert.ReferenceIdeal.main_part71
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 72 writes the values numbered from 6491 up to 6582 alike. -/
theorem window72 : Twin (St (same (F := F)) 6491)
    ([main_part72_ops0, main_part72_ops1, main_part72_ops2, main_part72_ops3, main_part72_ops4,
      main_part72_ops5] : List (List (HloOp Cert.KernelIdeal.τ Cert.KernelIdeal.sig (Elt F))))
    (Cert.ReferenceIdeal.main_part72 d) (St same 6582) := by
  delta Cert.ReferenceIdeal.main_part72
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 73 writes the values numbered from 6582 up to 6673 alike. -/
theorem window73 : Twin (St (same (F := F)) 6582)
    ([main_part73_ops0, main_part73_ops1, main_part73_ops2, main_part73_ops3, main_part73_ops4,
      main_part73_ops5, main_part73_ops6] : List (List (HloOp Cert.KernelIdeal.τ Cert.KernelIdeal.sig (Elt F))))
    (Cert.ReferenceIdeal.main_part73 d) (St same 6673) := by
  delta Cert.ReferenceIdeal.main_part73
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 74 writes the values numbered from 6673 up to 6795 alike. -/
theorem window74 : Twin (St (same (F := F)) 6673)
    ([main_part74_ops0, main_part74_ops1, main_part74_ops2, main_part74_ops3, main_part74_ops4,
      main_part74_ops5, main_part74_ops6, main_part74_ops7, main_part74_ops8, main_part74_ops9,
      main_part74_ops10, main_part74_ops11, main_part74_ops12] : List (List (HloOp Cert.KernelIdeal.τ Cert.KernelIdeal.sig (Elt F))))
    (Cert.ReferenceIdeal.main_part74 d) (St same 6795) := by
  delta Cert.ReferenceIdeal.main_part74
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 75 writes the values numbered from 6795 up to 6855 alike. -/
theorem window75 : Twin (St (same (F := F)) 6795)
    ([main_part75_ops0] : List (List (HloOp Cert.KernelIdeal.τ Cert.KernelIdeal.sig (Elt F))))
    (Cert.ReferenceIdeal.main_part75 d) (St same 6855) := by
  delta Cert.ReferenceIdeal.main_part75
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 76 writes the values numbered from 6855 up to 6946 alike. -/
theorem window76 : Twin (St (same (F := F)) 6855)
    ([main_part76_ops0, main_part76_ops1, main_part76_ops2, main_part76_ops3, main_part76_ops4,
      main_part76_ops5, main_part76_ops6] : List (List (HloOp Cert.KernelIdeal.τ Cert.KernelIdeal.sig (Elt F))))
    (Cert.ReferenceIdeal.main_part76 d) (St same 6946) := by
  delta Cert.ReferenceIdeal.main_part76
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

end Cert.Windows

end
-- ==== Proof.Windows11.lean ====
/- The kernel's host operations and the reference side by side, windows 77 to 83. -/
module

public import proofs.«01_k».proof.Proof.Match
public import proofs.«01_k».proof.Proof.Calls
public import proofs.«01_k».proof.Proof.Gen.KernelIdeal.Launch

@[expose] public section

set_option maxRecDepth 8948
set_option maxHeartbeats 20000000

noncomputable section

namespace Cert.Windows

open Idealize.ShloMosaic Idealize.ShloMosaic.StableHlo Cert.Sim Cert.Match Cert.KernelIdeal.Gen

variable {F : FTy → Type} [FloatOps F] (d : Dev Cert.ReferenceIdeal.nD)

/-- Window 77 writes the values numbered from 6946 up to 7068 alike. -/
theorem window77 : Twin (St (same (F := F)) 6946)
    ([main_part77_ops0, main_part77_ops1, main_part77_ops2, main_part77_ops3, main_part77_ops4,
      main_part77_ops5, main_part77_ops6, main_part77_ops7, main_part77_ops8, main_part77_ops9,
      main_part77_ops10, main_part77_ops11] : List (List (HloOp Cert.KernelIdeal.τ Cert.KernelIdeal.sig (Elt F))))
    (Cert.ReferenceIdeal.main_part77 d) (St same 7068) := by
  delta Cert.ReferenceIdeal.main_part77
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 78 writes the values numbered from 7068 up to 7159 alike. -/
theorem window78 : Twin (St (same (F := F)) 7068)
    ([main_part78_ops0, main_part78_ops1, main_part78_ops2, main_part78_ops3, main_part78_ops4,
      main_part78_ops5, main_part78_ops6] : List (List (HloOp Cert.KernelIdeal.τ Cert.KernelIdeal.sig (Elt F))))
    (Cert.ReferenceIdeal.main_part78 d) (St same 7159) := by
  delta Cert.ReferenceIdeal.main_part78
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 79 writes the values numbered from 7159 up to 7224 alike. -/
theorem window79 : Twin (St (same (F := F)) 7159)
    ([main_part79_ops0, main_part79_ops1, main_part79_ops2] : List (List (HloOp Cert.KernelIdeal.τ Cert.KernelIdeal.sig (Elt F))))
    (Cert.ReferenceIdeal.main_part79 d) (St same 7224) := by
  delta Cert.ReferenceIdeal.main_part79
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 80 writes the values numbered from 7224 up to 7341 alike. -/
theorem window80 : Twin (St (same (F := F)) 7224)
    ([main_part80_ops0, main_part80_ops1, main_part80_ops2, main_part80_ops3, main_part80_ops4,
      main_part80_ops5, main_part80_ops6, main_part80_ops7, main_part80_ops8, main_part80_ops9] : List (List (HloOp Cert.KernelIdeal.τ Cert.KernelIdeal.sig (Elt F))))
    (Cert.ReferenceIdeal.main_part80 d) (St same 7341) := by
  delta Cert.ReferenceIdeal.main_part80
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 81 writes the values numbered from 7341 up to 7442 alike. -/
theorem window81 : Twin (St (same (F := F)) 7341)
    ([main_part81_ops0, main_part81_ops1, main_part81_ops2, main_part81_ops3, main_part81_ops4,
      main_part81_ops5, main_part81_ops6, main_part81_ops7, main_part81_ops8, main_part81_ops9] : List (List (HloOp Cert.KernelIdeal.τ Cert.KernelIdeal.sig (Elt F))))
    (Cert.ReferenceIdeal.main_part81 d) (St same 7442) := by
  delta Cert.ReferenceIdeal.main_part81
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 82 writes the values numbered from 7442 up to 7523 alike. -/
theorem window82 : Twin (St (same (F := F)) 7442)
    ([main_part82_ops0, main_part82_ops1, main_part82_ops2] : List (List (HloOp Cert.KernelIdeal.τ Cert.KernelIdeal.sig (Elt F))))
    (Cert.ReferenceIdeal.main_part82 d) (St same 7523) := by
  delta Cert.ReferenceIdeal.main_part82
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 83 writes the values numbered from 7523 up to 7614 alike. -/
theorem window83 : Twin (St (same (F := F)) 7523)
    ([main_part83_ops0, main_part83_ops1, main_part83_ops2, main_part83_ops3, main_part83_ops4,
      main_part83_ops5, main_part83_ops6] : List (List (HloOp Cert.KernelIdeal.τ Cert.KernelIdeal.sig (Elt F))))
    (Cert.ReferenceIdeal.main_part83 d) (St same 7614) := by
  delta Cert.ReferenceIdeal.main_part83
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

end Cert.Windows

end
-- ==== Proof.Windows12.lean ====
/- The kernel's host operations and the reference side by side, windows 84 to 90. -/
module

public import proofs.«01_k».proof.Proof.Match
public import proofs.«01_k».proof.Proof.Calls
public import proofs.«01_k».proof.Proof.Gen.KernelIdeal.Launch

@[expose] public section

set_option maxRecDepth 8948
set_option maxHeartbeats 20000000

noncomputable section

namespace Cert.Windows

open Idealize.ShloMosaic Idealize.ShloMosaic.StableHlo Cert.Sim Cert.Match Cert.KernelIdeal.Gen

variable {F : FTy → Type} [FloatOps F] (d : Dev Cert.ReferenceIdeal.nD)

/-- Window 84 writes the values numbered from 7614 up to 7715 alike. -/
theorem window84 : Twin (St (same (F := F)) 7614)
    ([main_part84_ops0, main_part84_ops1, main_part84_ops2, main_part84_ops3, main_part84_ops4,
      main_part84_ops5, main_part84_ops6, main_part84_ops7, main_part84_ops8, main_part84_ops9,
      main_part84_ops10] : List (List (HloOp Cert.KernelIdeal.τ Cert.KernelIdeal.sig (Elt F))))
    (Cert.ReferenceIdeal.main_part84 d) (St same 7715) := by
  delta Cert.ReferenceIdeal.main_part84
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 85 writes the values numbered from 7715 up to 7827 alike. -/
theorem window85 : Twin (St (same (F := F)) 7715)
    ([main_part85_ops0, main_part85_ops1, main_part85_ops2, main_part85_ops3, main_part85_ops4,
      main_part85_ops5, main_part85_ops6, main_part85_ops7, main_part85_ops8] : List (List (HloOp Cert.KernelIdeal.τ Cert.KernelIdeal.sig (Elt F))))
    (Cert.ReferenceIdeal.main_part85 d) (St same 7827) := by
  delta Cert.ReferenceIdeal.main_part85
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 86 writes the values numbered from 7827 up to 7889 alike. -/
theorem window86 : Twin (St (same (F := F)) 7827)
    ([main_part86_ops0, main_part86_ops1, main_part86_ops2] : List (List (HloOp Cert.KernelIdeal.τ Cert.KernelIdeal.sig (Elt F))))
    (Cert.ReferenceIdeal.main_part86 d) (St same 7889) := by
  delta Cert.ReferenceIdeal.main_part86
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 87 writes the values numbered from 7889 up to 7949 alike. -/
theorem window87 : Twin (St (same (F := F)) 7889)
    ([main_part87_ops0] : List (List (HloOp Cert.KernelIdeal.τ Cert.KernelIdeal.sig (Elt F))))
    (Cert.ReferenceIdeal.main_part87 d) (St same 7949) := by
  delta Cert.ReferenceIdeal.main_part87
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 88 writes the values numbered from 7949 up to 8009 alike. -/
theorem window88 : Twin (St (same (F := F)) 7949)
    ([main_part88_ops0] : List (List (HloOp Cert.KernelIdeal.τ Cert.KernelIdeal.sig (Elt F))))
    (Cert.ReferenceIdeal.main_part88 d) (St same 8009) := by
  delta Cert.ReferenceIdeal.main_part88
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 89 writes the values numbered from 8009 up to 8079 alike. -/
theorem window89 : Twin (St (same (F := F)) 8009)
    ([main_part89_ops0, main_part89_ops1, main_part89_ops2, main_part89_ops3, main_part89_ops4] : List (List (HloOp Cert.KernelIdeal.τ Cert.KernelIdeal.sig (Elt F))))
    (Cert.ReferenceIdeal.main_part89 d) (St same 8079) := by
  delta Cert.ReferenceIdeal.main_part89
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 90 writes the values numbered from 8079 up to 8191 alike. -/
theorem window90 : Twin (St (same (F := F)) 8079)
    ([main_part90_ops0, main_part90_ops1, main_part90_ops2, main_part90_ops3, main_part90_ops4,
      main_part90_ops5, main_part90_ops6, main_part90_ops7, main_part90_ops8] : List (List (HloOp Cert.KernelIdeal.τ Cert.KernelIdeal.sig (Elt F))))
    (Cert.ReferenceIdeal.main_part90 d) (St same 8191) := by
  delta Cert.ReferenceIdeal.main_part90
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

end Cert.Windows

end
-- ==== Proof.Windows13.lean ====
/- The kernel's host operations and the reference side by side, windows 91 to 97. -/
module

public import proofs.«01_k».proof.Proof.Match
public import proofs.«01_k».proof.Proof.Calls
public import proofs.«01_k».proof.Proof.Gen.KernelIdeal.Launch

@[expose] public section

set_option maxRecDepth 8948
set_option maxHeartbeats 20000000

noncomputable section

namespace Cert.Windows

open Idealize.ShloMosaic Idealize.ShloMosaic.StableHlo Cert.Sim Cert.Match Cert.KernelIdeal.Gen

variable {F : FTy → Type} [FloatOps F] (d : Dev Cert.ReferenceIdeal.nD)

/-- Window 91 writes the values numbered from 8191 up to 8292 alike. -/
theorem window91 : Twin (St (same (F := F)) 8191)
    ([main_part91_ops0, main_part91_ops1, main_part91_ops2, main_part91_ops3, main_part91_ops4,
      main_part91_ops5, main_part91_ops6, main_part91_ops7, main_part91_ops8, main_part91_ops9,
      main_part91_ops10] : List (List (HloOp Cert.KernelIdeal.τ Cert.KernelIdeal.sig (Elt F))))
    (Cert.ReferenceIdeal.main_part91 d) (St same 8292) := by
  delta Cert.ReferenceIdeal.main_part91
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 92 writes the values numbered from 8292 up to 8373 alike. -/
theorem window92 : Twin (St (same (F := F)) 8292)
    ([main_part92_ops0, main_part92_ops1] : List (List (HloOp Cert.KernelIdeal.τ Cert.KernelIdeal.sig (Elt F))))
    (Cert.ReferenceIdeal.main_part92 d) (St same 8373) := by
  delta Cert.ReferenceIdeal.main_part92
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 93 writes the values numbered from 8373 up to 8464 alike. -/
theorem window93 : Twin (St (same (F := F)) 8373)
    ([main_part93_ops0, main_part93_ops1, main_part93_ops2, main_part93_ops3, main_part93_ops4,
      main_part93_ops5, main_part93_ops6] : List (List (HloOp Cert.KernelIdeal.τ Cert.KernelIdeal.sig (Elt F))))
    (Cert.ReferenceIdeal.main_part93 d) (St same 8464) := by
  delta Cert.ReferenceIdeal.main_part93
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 94 writes the values numbered from 8464 up to 8586 alike. -/
theorem window94 : Twin (St (same (F := F)) 8464)
    ([main_part94_ops0, main_part94_ops1, main_part94_ops2, main_part94_ops3, main_part94_ops4,
      main_part94_ops5, main_part94_ops6, main_part94_ops7, main_part94_ops8, main_part94_ops9,
      main_part94_ops10, main_part94_ops11, main_part94_ops12] : List (List (HloOp Cert.KernelIdeal.τ Cert.KernelIdeal.sig (Elt F))))
    (Cert.ReferenceIdeal.main_part94 d) (St same 8586) := by
  delta Cert.ReferenceIdeal.main_part94
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 95 writes the values numbered from 8586 up to 8677 alike. -/
theorem window95 : Twin (St (same (F := F)) 8586)
    ([main_part95_ops0, main_part95_ops1, main_part95_ops2, main_part95_ops3, main_part95_ops4,
      main_part95_ops5, main_part95_ops6] : List (List (HloOp Cert.KernelIdeal.τ Cert.KernelIdeal.sig (Elt F))))
    (Cert.ReferenceIdeal.main_part95 d) (St same 8677) := by
  delta Cert.ReferenceIdeal.main_part95
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 96 writes the values numbered from 8677 up to 8742 alike. -/
theorem window96 : Twin (St (same (F := F)) 8677)
    ([main_part96_ops0, main_part96_ops1, main_part96_ops2] : List (List (HloOp Cert.KernelIdeal.τ Cert.KernelIdeal.sig (Elt F))))
    (Cert.ReferenceIdeal.main_part96 d) (St same 8742) := by
  delta Cert.ReferenceIdeal.main_part96
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 97 writes the values numbered from 8742 up to 8859 alike. -/
theorem window97 : Twin (St (same (F := F)) 8742)
    ([main_part97_ops0, main_part97_ops1, main_part97_ops2, main_part97_ops3, main_part97_ops4,
      main_part97_ops5, main_part97_ops6, main_part97_ops7, main_part97_ops8, main_part97_ops9,
      main_part97_ops10] : List (List (HloOp Cert.KernelIdeal.τ Cert.KernelIdeal.sig (Elt F))))
    (Cert.ReferenceIdeal.main_part97 d) (St same 8859) := by
  delta Cert.ReferenceIdeal.main_part97
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

end Cert.Windows

end
-- ==== Proof.Windows14.lean ====
/- The kernel's host operations and the reference side by side, windows 98 to 104. -/
module

public import proofs.«01_k».proof.Proof.Match
public import proofs.«01_k».proof.Proof.Calls
public import proofs.«01_k».proof.Proof.Gen.KernelIdeal.Launch

@[expose] public section

set_option maxRecDepth 8948
set_option maxHeartbeats 20000000

noncomputable section

namespace Cert.Windows

open Idealize.ShloMosaic Idealize.ShloMosaic.StableHlo Cert.Sim Cert.Match Cert.KernelIdeal.Gen

variable {F : FTy → Type} [FloatOps F] (d : Dev Cert.ReferenceIdeal.nD)

/-- Window 98 writes the values numbered from 8859 up to 8955 alike. -/
theorem window98 : Twin (St (same (F := F)) 8859)
    ([main_part98_ops0, main_part98_ops1, main_part98_ops2, main_part98_ops3, main_part98_ops4,
      main_part98_ops5, main_part98_ops6, main_part98_ops7, main_part98_ops8] : List (List (HloOp Cert.KernelIdeal.τ Cert.KernelIdeal.sig (Elt F))))
    (Cert.ReferenceIdeal.main_part98 d) (St same 8955) := by
  delta Cert.ReferenceIdeal.main_part98
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 99 writes the values numbered from 8955 up to 9041 alike. -/
theorem window99 : Twin (St (same (F := F)) 8955)
    ([main_part99_ops0, main_part99_ops1, main_part99_ops2, main_part99_ops3, main_part99_ops4] : List (List (HloOp Cert.KernelIdeal.τ Cert.KernelIdeal.sig (Elt F))))
    (Cert.ReferenceIdeal.main_part99 d) (St same 9041) := by
  delta Cert.ReferenceIdeal.main_part99
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 100 writes the values numbered from 9041 up to 9132 alike. -/
theorem window100 : Twin (St (same (F := F)) 9041)
    ([main_part100_ops0, main_part100_ops1, main_part100_ops2, main_part100_ops3, main_part100_ops4,
      main_part100_ops5, main_part100_ops6] : List (List (HloOp Cert.KernelIdeal.τ Cert.KernelIdeal.sig (Elt F))))
    (Cert.ReferenceIdeal.main_part100 d) (St same 9132) := by
  delta Cert.ReferenceIdeal.main_part100
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 101 writes the values numbered from 9132 up to 9233 alike. -/
theorem window101 : Twin (St (same (F := F)) 9132)
    ([main_part101_ops0, main_part101_ops1, main_part101_ops2, main_part101_ops3, main_part101_ops4,
      main_part101_ops5, main_part101_ops6, main_part101_ops7, main_part101_ops8, main_part101_ops9,
      main_part101_ops10] : List (List (HloOp Cert.KernelIdeal.τ Cert.KernelIdeal.sig (Elt F))))
    (Cert.ReferenceIdeal.main_part101 d) (St same 9233) := by
  delta Cert.ReferenceIdeal.main_part101
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 102 writes the values numbered from 9233 up to 9345 alike. -/
theorem window102 : Twin (St (same (F := F)) 9233)
    ([main_part102_ops0, main_part102_ops1, main_part102_ops2, main_part102_ops3, main_part102_ops4,
      main_part102_ops5, main_part102_ops6, main_part102_ops7, main_part102_ops8] : List (List (HloOp Cert.KernelIdeal.τ Cert.KernelIdeal.sig (Elt F))))
    (Cert.ReferenceIdeal.main_part102 d) (St same 9345) := by
  delta Cert.ReferenceIdeal.main_part102
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 103 writes the values numbered from 9345 up to 9407 alike. -/
theorem window103 : Twin (St (same (F := F)) 9345)
    ([main_part103_ops0, main_part103_ops1] : List (List (HloOp Cert.KernelIdeal.τ Cert.KernelIdeal.sig (Elt F))))
    (Cert.ReferenceIdeal.main_part103 d) (St same 9407) := by
  delta Cert.ReferenceIdeal.main_part103
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

/-- Window 104 writes the values numbered from 9407 up to 9449 alike. -/
theorem window104 : Twin (St (same (F := F)) 9407)
    ([main_part104_ops0] : List (List (HloOp Cert.KernelIdeal.τ Cert.KernelIdeal.sig (Elt F))))
    (Cert.ReferenceIdeal.main_part104 d) (St same 9449) := by
  delta Cert.ReferenceIdeal.main_part104
  beta_reduce
  repeat'
    first
      | with_reducible refine Twin.map good ?_ ?_ ?_
      | with_reducible refine Twin.map₂ good ?_ ?_ ?_
      | with_reducible refine Twin.unary good ?_ ?_ ?_
      | with_reducible refine Twin.binary good ?_ ?_ ?_
      | with_reducible refine Twin.constant good ?_ ?_ ?_
      | with_reducible refine Twin.map₃ good ?_ ?_ ?_
      | with_reducible refine Twin.nullary good ?_ ?_ ?_
      | with_reducible refine Twin.reshape good ?_ ?_
      | with_reducible refine Twin.ternary good ?_ ?_ ?_
      | with_reducible refine Twin.four good ?_ ?_ ?_
      | with_reducible refine Twin.left ?_
      | with_reducible refine Twin.open ?_
      | with_reducible refine Twin.close ?_
      | with_reducible refine Twin.clip ?_
      | with_reducible refine Twin.take ?_
      | with_reducible refine Twin.relu ?_
      | with_reducible refine Twin.linspace ?_
      | with_reducible exact Twin.done
      | exact heq_mid HEq.rfl HEq.rfl
      | exact rfl
      | decide +kernel
      | exact fun _ _ h₀ h₁ h₂ h₃ => concat_same h₀ h₁ h₂ h₃
      | with_reducible refine Twin.last ?_
      | with_reducible refine Twin.clipLast ?_
      | with_reducible refine Twin.takeLast ?_
      | with_reducible refine Twin.reluLast ?_

end Cert.Windows

end
-- ==== Proof.Whole.lean ====
/- The two programs whole: the reference is one straight line, and beside the kernel's host program it ends with the
   same last value. -/
module

public import proofs.«01_k».proof.Proof.Windows00
public import proofs.«01_k».proof.Proof.Windows01
public import proofs.«01_k».proof.Proof.Windows02
public import proofs.«01_k».proof.Proof.Windows03
public import proofs.«01_k».proof.Proof.Windows04
public import proofs.«01_k».proof.Proof.Windows05
public import proofs.«01_k».proof.Proof.Windows06
public import proofs.«01_k».proof.Proof.Windows07
public import proofs.«01_k».proof.Proof.Windows08
public import proofs.«01_k».proof.Proof.Windows09
public import proofs.«01_k».proof.Proof.Windows10
public import proofs.«01_k».proof.Proof.Windows11
public import proofs.«01_k».proof.Proof.Windows12
public import proofs.«01_k».proof.Proof.Windows13
public import proofs.«01_k».proof.Proof.Windows14
public import proofs.«01_k».proof.Proof.KernelIdealRun
public import Idealize.ShloMosaic.Lib.StableHlo.Run
public import Idealize.ShloMosaic.Lib.Quiescent

@[expose] public section

set_option maxRecDepth 16384
set_option maxHeartbeats 20000000

noncomputable section

namespace Cert.Whole

open Idealize.ShloMosaic Idealize.ShloMosaic.TcCoe Idealize.ShloMosaic.StableHlo Idealize.SL.Sem Cert.Sim Cert.Match Cert.Windows

variable {F : FTy → Type} [FloatOps F]

/-- The windows one after the other. -/
theorem whole (d : Dev Cert.ReferenceIdeal.nD) :
    Twin (St (same (F := F)) 19) Cert.KernelIdeal.Gen.stretches (Cert.ReferenceIdeal.main d) (St same 9449) :=
  (window0 d).then <| (window1 d).then <| (window2 d).then <| (window3 d).then <| (window4 d).then <| (window5 d).then <|
    (window6 d).then <| (window7 d).then <| (window8 d).then <| (window9 d).then <| (window10 d).then <| (window11 d).then <|
    (window12 d).then <| (window13 d).then <| (window14 d).then <| (window15 d).then <| (window16 d).then <| (window17 d).then <|
    (window18 d).then <| (window19 d).then <| (window20 d).then <| (window21 d).then <| (window22 d).then <| (window23 d).then <|
    (window24 d).then <| (window25 d).then <| (window26 d).then <| (window27 d).then <| (window28 d).then <| (window29 d).then <|
    (window30 d).then <| (window31 d).then <| (window32 d).then <| (window33 d).then <| (window34 d).then <| (window35 d).then <|
    (window36 d).then <| (window37 d).then <| (window38 d).then <| (window39 d).then <| (window40 d).then <| (window41 d).then <|
    (window42 d).then <| (window43 d).then <| (window44 d).then <| (window45 d).then <| (window46 d).then <| (window47 d).then <|
    (window48 d).then <| (window49 d).then <| (window50 d).then <| (window51 d).then <| (window52 d).then <| (window53 d).then <|
    (window54 d).then <| (window55 d).then <| (window56 d).then <| (window57 d).then <| (window58 d).then <| (window59 d).then <|
    (window60 d).then <| (window61 d).then <| (window62 d).then <| (window63 d).then <| (window64 d).then <| (window65 d).then <|
    (window66 d).then <| (window67 d).then <| (window68 d).then <| (window69 d).then <| (window70 d).then <| (window71 d).then <|
    (window72 d).then <| (window73 d).then <| (window74 d).then <| (window75 d).then <| (window76 d).then <| (window77 d).then <|
    (window78 d).then <| (window79 d).then <| (window80 d).then <| (window81 d).then <| (window82 d).then <| (window83 d).then <|
    (window84 d).then <| (window85 d).then <| (window86 d).then <| (window87 d).then <| (window88 d).then <| (window89 d).then <|
    (window90 d).then <| (window91 d).then <| (window92 d).then <| (window93 d).then <| (window94 d).then <| (window95 d).then <|
    (window96 d).then <| (window97 d).then <| (window98 d).then <| (window99 d).then <| (window100 d).then <| (window101 d).then <|
    (window102 d).then <| (window103 d).then <| window104 d

/-- The reference's operations on core `d`, in order. -/
def line (d : Dev Cert.ReferenceIdeal.nD) : List (HloOp Cert.ReferenceIdeal.τ Cert.ReferenceIdeal.sig (Elt F)) :=
  ((whole (F := F) d).choose :: (whole (F := F) d).choose_spec.choose).flatten

/-- The reference is that line, and each operation of it touches the core's own buffers only and makes none afresh. -/
theorem line_spec (d : Dev Cert.ReferenceIdeal.nD) : Cert.ReferenceIdeal.main (F := F) d = seq (line d) ∧ ∀ op ∈ line (F := F) d, Tame op :=
  (whole (F := F) d).choose_spec.choose_spec.1

/-- From memories alike on the matched arguments the two straight lines end alike. -/
theorem line_sims (d : Dev Cert.ReferenceIdeal.nD) (V : Valuation Cert.KernelIdeal.τ Cert.KernelIdeal.sig (Elt F))
    (V' : Valuation Cert.ReferenceIdeal.τ Cert.ReferenceIdeal.sig (Elt F)) (h : St same 19 V V') :
    St same 9449 (after Cert.KernelIdeal.Gen.stretches.flatten V) (after (line d) V') := by
  have := (whole (F := F) d).choose_spec.choose_spec.2 V V' h
  rw [afterL_eq_after_flatten, afterL_eq_after_flatten] at this
  exact this

/-- Every run of the reference ends with each buffer as its straight line leaves it. -/
theorem reference_run (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ fun r =>
      ∀ (d : Dev Cert.ReferenceIdeal.nD) (b : Ref Cert.ReferenceIdeal.sig .tc),
        r.2.mem ((d.tc : Thread Cert.ReferenceIdeal.nD Cert.ReferenceIdeal.τ).loc b) = after (line d) (launchContents m d) (Proc.devRef .tc b) :=
  run_seq (by decide) (by decide) _ _ line (fun d => (line_spec d).1)
    (fun d => List.forall_iff_forall_mem.mpr fun op ho => ((line_spec d).2 op ho).1) m g (fun d op ho => ((line_spec d).2 op ho).2)

/-- A run of the reference's straight line leaves an argument as it was: the kernel's does, and it may be started from
    any memory that agrees on the arguments. -/
theorem reference_arg (d : Dev Cert.ReferenceIdeal.nD) (V : Valuation Cert.KernelIdeal.τ Cert.KernelIdeal.sig (Elt F))
    (V' : Valuation Cert.ReferenceIdeal.τ Cert.ReferenceIdeal.sig (Elt F)) (h : St same 19 V V') {x : Ref Cert.KernelIdeal.sig .tc}
    {x' : Ref Cert.ReferenceIdeal.sig .tc} (hx : Cert.Tidy.IsArg x) (hx' : x'.space = .hbm) (e : x.idx.val = x'.idx.val) :
    after (line d) V' (Proc.devRef .tc x') = V' (Proc.devRef .tc x') := by
  have hd : Dom (same (F := F)) 19 x'.idx.val := .inl (Nat.blt_eq.mpr (e ▸ hx.2))
  have hd' : Dom (same (F := F)) 9449 x'.idx.val := .inl (Nat.blt_eq.mpr (e ▸ hx.2))
  have h₀ := h.1 _ hd x x' ⟨hx.1, e⟩ ⟨hx', rfl⟩
  have h₁ := (line_sims d V V' h).1 _ hd' x x' ⟨hx.1, e⟩ ⟨hx', rfl⟩
  rw [Cert.KernelIdeal.Gen.stretches_tidy.keep V hx] at h₁
  exact eq_of_heq (h₁.symm.trans h₀)
end Cert.Whole

end
-- ==== Proof.lean ====
/- The claims: the three programs run quietly, and the kernel's result is the reference's. -/
module

public import proofs.«01_k».proof.Defs
public import proofs.«01_k».proof.Proof.KernelRun
public import proofs.«01_k».proof.Proof.Value
public import proofs.«01_k».proof.Proof.Whole
public import Idealize.ShloMosaic.Adequacy
public import Idealize.ShloMosaic.Init

@[expose] public section

set_option maxRecDepth 16384
set_option maxHeartbeats 4000000

noncomputable section

namespace Cert.Proof

open Idealize.ShloMosaic Idealize.ShloMosaic.TcCoe Idealize.ShloMosaic.StableHlo Idealize.SL.Sem Cert.Sim Cert.Match Cert.Whole

variable {F : FTy → Type} [FloatOps F]

/-- A memory of the kernel and one of the reference agree at the start as soon as they agree on matched arguments. -/
theorem start {V : Valuation Cert.KernelIdeal.τ Cert.KernelIdeal.sig (Elt F)} {V' : Valuation Cert.ReferenceIdeal.τ Cert.ReferenceIdeal.sig (Elt F)}
    (h : ∀ j < 19, ∀ (x : Ref Cert.KernelIdeal.sig .tc) (x' : Ref Cert.ReferenceIdeal.sig .tc), At x j → At x' j →
      HEq (V (Proc.devRef .tc x)) (V' (Proc.devRef .tc x'))) : St same 19 V V' :=
  ⟨fun j hd x x' hx hx' => h j (by
    rcases hd with hd | ⟨h₁, h₂, _⟩
    · exact Nat.blt_eq.mp hd
    · exact absurd h₂ (Nat.not_lt.mpr h₁)) x x' hx hx', trivial⟩

/-- `x'` is the argument of the reference matched with the kernel's buffer `b`. -/
def Mate (b : DevRef Cert.KernelIdeal.τ Cert.KernelIdeal.sig) (x' : Ref Cert.ReferenceIdeal.sig .tc) : Prop :=
  ∃ x : Ref Cert.KernelIdeal.sig .tc, b = Proc.devRef .tc x ∧ At x x'.idx.val ∧ x'.space = .hbm ∧ x'.idx.val < 19

/-- Matched arguments have one type. -/
theorem Mate.ty {b : DevRef Cert.KernelIdeal.τ Cert.KernelIdeal.sig} {x' : Ref Cert.ReferenceIdeal.sig .tc} (h : Mate b x') :
    (Proc.devRef (τ := Cert.ReferenceIdeal.τ) .tc x').ty.Contents (Elt F) = b.ty.Contents (Elt F) := by
  obtain ⟨x, rfl, hx, hs, hl⟩ := h
  exact contents_eq ((good (F := F)).typed x'.idx.val x x' (.inl (Nat.blt_eq.mpr hl)) hx ⟨hs, rfl⟩).symm

open Classical in
/-- A memory of the kernel with the arguments of a given memory of the reference. -/
def donor (V' : Valuation Cert.ReferenceIdeal.τ Cert.ReferenceIdeal.sig (Elt F)) : Valuation Cert.KernelIdeal.τ Cert.KernelIdeal.sig (Elt F) := fun b =>
  if h : ∃ x', Mate b x' then cast h.choose_spec.ty (V' (Proc.devRef .tc h.choose)) else fun _ => default

/-- It agrees with that memory on the arguments. -/
theorem donor_start (V' : Valuation Cert.ReferenceIdeal.τ Cert.ReferenceIdeal.sig (Elt F)) : St same 19 (donor V') V' := by
  refine start fun j hj x x' hx hx' => ?_
  have h : ∃ x', Mate (Proc.devRef .tc x) x' := ⟨x', x, rfl, ⟨hx.1, hx.2.trans hx'.2.symm⟩, hx'.1, hx'.2 ▸ hj⟩
  have e : h.choose = x' := by
    obtain ⟨y, hy, hat, hs, _⟩ := h.choose_spec
    have hxy : x = y := Proc.devRef_injective _ hy
    subst hxy
    exact At.unique (k := j) ⟨hs, hat.2.symm.trans hx.2⟩ hx'
  unfold donor
  rw [dif_pos h]
  refine (cast_heq _ _).trans ?_
  rw [e]

/-- Every run of the reference leaves its arguments as they were. -/
theorem reference_unchanged (m : (ℓ : Loc Cert.ReferenceIdeal.nD Cert.ReferenceIdeal.τ Cert.ReferenceIdeal.sig) → Buf (Elt F) ℓ) (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18) := by
  refine θ_run_mono (reference_run m g) fun r h c => ?_
  have hk : ∀ (x : Ref Cert.KernelIdeal.sig .tc) (x' : Ref Cert.ReferenceIdeal.sig .tc), Cert.Tidy.IsArg x → x'.space = .hbm → x.idx.val = x'.idx.val →
      r.2.mem ((c.tc : Thread Cert.ReferenceIdeal.nD Cert.ReferenceIdeal.τ).loc x') = m ((c.tc : Thread Cert.ReferenceIdeal.nD Cert.ReferenceIdeal.τ).loc x') := fun x x' hx hx' e =>
    (h c x').trans (reference_arg c _ _ (donor_start (launchContents m c)) hx hx' e)
  exact ⟨hk Cert.KernelIdeal.main_arg0 Cert.ReferenceIdeal.main_arg0 ⟨rfl, by decide⟩ rfl rfl,
      hk Cert.KernelIdeal.main_arg1 Cert.ReferenceIdeal.main_arg1 ⟨rfl, by decide⟩ rfl rfl,
      hk Cert.KernelIdeal.main_arg2 Cert.ReferenceIdeal.main_arg2 ⟨rfl, by decide⟩ rfl rfl,
      hk Cert.KernelIdeal.main_arg3 Cert.ReferenceIdeal.main_arg3 ⟨rfl, by decide⟩ rfl rfl,
      hk Cert.KernelIdeal.main_arg4 Cert.ReferenceIdeal.main_arg4 ⟨rfl, by decide⟩ rfl rfl,
      hk Cert.KernelIdeal.main_arg5 Cert.ReferenceIdeal.main_arg5 ⟨rfl, by decide⟩ rfl rfl,
      hk Cert.KernelIdeal.main_arg6 Cert.ReferenceIdeal.main_arg6 ⟨rfl, by decide⟩ rfl rfl,
      hk Cert.KernelIdeal.main_arg7 Cert.ReferenceIdeal.main_arg7 ⟨rfl, by decide⟩ rfl rfl,
      hk Cert.KernelIdeal.main_arg8 Cert.ReferenceIdeal.main_arg8 ⟨rfl, by decide⟩ rfl rfl,
      hk Cert.KernelIdeal.main_arg9 Cert.ReferenceIdeal.main_arg9 ⟨rfl, by decide⟩ rfl rfl,
      hk Cert.KernelIdeal.main_arg10 Cert.ReferenceIdeal.main_arg10 ⟨rfl, by decide⟩ rfl rfl,
      hk Cert.KernelIdeal.main_arg11 Cert.ReferenceIdeal.main_arg11 ⟨rfl, by decide⟩ rfl rfl,
      hk Cert.KernelIdeal.main_arg12 Cert.ReferenceIdeal.main_arg12 ⟨rfl, by decide⟩ rfl rfl,
      hk Cert.KernelIdeal.main_arg13 Cert.ReferenceIdeal.main_arg13 ⟨rfl, by decide⟩ rfl rfl,
      hk Cert.KernelIdeal.main_arg14 Cert.ReferenceIdeal.main_arg14 ⟨rfl, by decide⟩ rfl rfl,
      hk Cert.KernelIdeal.main_arg15 Cert.ReferenceIdeal.main_arg15 ⟨rfl, by decide⟩ rfl rfl,
      hk Cert.KernelIdeal.main_arg16 Cert.ReferenceIdeal.main_arg16 ⟨rfl, by decide⟩ rfl rfl,
      hk Cert.KernelIdeal.main_arg17 Cert.ReferenceIdeal.main_arg17 ⟨rfl, by decide⟩ rfl rfl,
      hk Cert.KernelIdeal.main_arg18 Cert.ReferenceIdeal.main_arg18 ⟨rfl, by decide⟩ rfl rfl⟩

/-- Every run of the reference terminates with its arguments unchanged and every counter at zero. -/
theorem reference_quiescent : Cert.quiescent_ReferenceIdeal (hReferenceIdeal := Cert.ReferenceIdeal.Gen.facts) := fun m g _ =>
  θ_run_mono (reference_unchanged m g) fun r h => ⟨h, sem_eq_zero_of_no_sems (by decide) r.2⟩

/-- Equal contents of one pair of matched arguments, as the matching wants it. -/
theorem pair {V : Valuation Cert.KernelIdeal.τ Cert.KernelIdeal.sig (Elt F)} {V' : Valuation Cert.ReferenceIdeal.τ Cert.ReferenceIdeal.sig (Elt F)} {j : Nat}
    {a x : Ref Cert.KernelIdeal.sig .tc} {a' x' : Ref Cert.ReferenceIdeal.sig .tc} (h : HEq (V' (Proc.devRef .tc a')) (V (Proc.devRef .tc a)))
    (ha : At a j) (ha' : At a' j) (hx : At x j) (hx' : At x' j) : HEq (V (Proc.devRef .tc x)) (V' (Proc.devRef .tc x')) := by
  rw [hx.unique ha, hx'.unique ha']
  exact h.symm

/-- Launch memories equal on the nineteen arguments agree at the start. -/
theorem launch_start (m : (ℓ : Loc Cert.KernelIdeal.nD Cert.KernelIdeal.τ Cert.KernelIdeal.sig) → Buf (Elt F) ℓ) (m' : (ℓ : Loc Cert.ReferenceIdeal.nD Cert.ReferenceIdeal.τ Cert.ReferenceIdeal.sig) → Buf (Elt F) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    St same 19 (fun b => m (c, b)) (launchContents m' c) := by
  obtain ⟨h0, h1, h2, h3, h4, h5, h6, h7, h8, h9, h10, h11, h12, h13, h14, h15, h16, h17, h18⟩ := h
  refine start fun j hj x x' hx hx' => ?_
  interval_cases j
  · exact pair (V := fun b => m (c, b)) (V' := launchContents m' c) (j := 0) (a := Cert.KernelIdeal.main_arg0) (a' := Cert.ReferenceIdeal.main_arg0) (heq_of_eq h0) ⟨rfl, rfl⟩ ⟨rfl, rfl⟩ hx hx'
  · exact pair (V := fun b => m (c, b)) (V' := launchContents m' c) (j := 1) (a := Cert.KernelIdeal.main_arg1) (a' := Cert.ReferenceIdeal.main_arg1) (heq_of_eq h1) ⟨rfl, rfl⟩ ⟨rfl, rfl⟩ hx hx'
  · exact pair (V := fun b => m (c, b)) (V' := launchContents m' c) (j := 2) (a := Cert.KernelIdeal.main_arg2) (a' := Cert.ReferenceIdeal.main_arg2) (heq_of_eq h2) ⟨rfl, rfl⟩ ⟨rfl, rfl⟩ hx hx'
  · exact pair (V := fun b => m (c, b)) (V' := launchContents m' c) (j := 3) (a := Cert.KernelIdeal.main_arg3) (a' := Cert.ReferenceIdeal.main_arg3) (heq_of_eq h3) ⟨rfl, rfl⟩ ⟨rfl, rfl⟩ hx hx'
  · exact pair (V := fun b => m (c, b)) (V' := launchContents m' c) (j := 4) (a := Cert.KernelIdeal.main_arg4) (a' := Cert.ReferenceIdeal.main_arg4) (heq_of_eq h4) ⟨rfl, rfl⟩ ⟨rfl, rfl⟩ hx hx'
  · exact pair (V := fun b => m (c, b)) (V' := launchContents m' c) (j := 5) (a := Cert.KernelIdeal.main_arg5) (a' := Cert.ReferenceIdeal.main_arg5) (heq_of_eq h5) ⟨rfl, rfl⟩ ⟨rfl, rfl⟩ hx hx'
  · exact pair (V := fun b => m (c, b)) (V' := launchContents m' c) (j := 6) (a := Cert.KernelIdeal.main_arg6) (a' := Cert.ReferenceIdeal.main_arg6) (heq_of_eq h6) ⟨rfl, rfl⟩ ⟨rfl, rfl⟩ hx hx'
  · exact pair (V := fun b => m (c, b)) (V' := launchContents m' c) (j := 7) (a := Cert.KernelIdeal.main_arg7) (a' := Cert.ReferenceIdeal.main_arg7) (heq_of_eq h7) ⟨rfl, rfl⟩ ⟨rfl, rfl⟩ hx hx'
  · exact pair (V := fun b => m (c, b)) (V' := launchContents m' c) (j := 8) (a := Cert.KernelIdeal.main_arg8) (a' := Cert.ReferenceIdeal.main_arg8) (heq_of_eq h8) ⟨rfl, rfl⟩ ⟨rfl, rfl⟩ hx hx'
  · exact pair (V := fun b => m (c, b)) (V' := launchContents m' c) (j := 9) (a := Cert.KernelIdeal.main_arg9) (a' := Cert.ReferenceIdeal.main_arg9) (heq_of_eq h9) ⟨rfl, rfl⟩ ⟨rfl, rfl⟩ hx hx'
  · exact pair (V := fun b => m (c, b)) (V' := launchContents m' c) (j := 10) (a := Cert.KernelIdeal.main_arg10) (a' := Cert.ReferenceIdeal.main_arg10) (heq_of_eq h10) ⟨rfl, rfl⟩ ⟨rfl, rfl⟩ hx hx'
  · exact pair (V := fun b => m (c, b)) (V' := launchContents m' c) (j := 11) (a := Cert.KernelIdeal.main_arg11) (a' := Cert.ReferenceIdeal.main_arg11) (heq_of_eq h11) ⟨rfl, rfl⟩ ⟨rfl, rfl⟩ hx hx'
  · exact pair (V := fun b => m (c, b)) (V' := launchContents m' c) (j := 12) (a := Cert.KernelIdeal.main_arg12) (a' := Cert.ReferenceIdeal.main_arg12) (heq_of_eq h12) ⟨rfl, rfl⟩ ⟨rfl, rfl⟩ hx hx'
  · exact pair (V := fun b => m (c, b)) (V' := launchContents m' c) (j := 13) (a := Cert.KernelIdeal.main_arg13) (a' := Cert.ReferenceIdeal.main_arg13) (heq_of_eq h13) ⟨rfl, rfl⟩ ⟨rfl, rfl⟩ hx hx'
  · exact pair (V := fun b => m (c, b)) (V' := launchContents m' c) (j := 14) (a := Cert.KernelIdeal.main_arg14) (a' := Cert.ReferenceIdeal.main_arg14) (heq_of_eq h14) ⟨rfl, rfl⟩ ⟨rfl, rfl⟩ hx hx'
  · exact pair (V := fun b => m (c, b)) (V' := launchContents m' c) (j := 15) (a := Cert.KernelIdeal.main_arg15) (a' := Cert.ReferenceIdeal.main_arg15) (heq_of_eq h15) ⟨rfl, rfl⟩ ⟨rfl, rfl⟩ hx hx'
  · exact pair (V := fun b => m (c, b)) (V' := launchContents m' c) (j := 16) (a := Cert.KernelIdeal.main_arg16) (a' := Cert.ReferenceIdeal.main_arg16) (heq_of_eq h16) ⟨rfl, rfl⟩ ⟨rfl, rfl⟩ hx hx'
  · exact pair (V := fun b => m (c, b)) (V' := launchContents m' c) (j := 17) (a := Cert.KernelIdeal.main_arg17) (a' := Cert.ReferenceIdeal.main_arg17) (heq_of_eq h17) ⟨rfl, rfl⟩ ⟨rfl, rfl⟩ hx hx'
  · exact pair (V := fun b => m (c, b)) (V' := launchContents m' c) (j := 18) (a := Cert.KernelIdeal.main_arg18) (a' := Cert.ReferenceIdeal.main_arg18) (heq_of_eq h18) ⟨rfl, rfl⟩ ⟨rfl, rfl⟩ hx hx'

/-- The reference's last value is the kernel's host program's. -/
theorem last_value (m : (ℓ : Loc Cert.KernelIdeal.nD Cert.KernelIdeal.τ Cert.KernelIdeal.sig) → Buf (Elt F) ℓ) (m' : (ℓ : Loc Cert.ReferenceIdeal.nD Cert.ReferenceIdeal.τ Cert.ReferenceIdeal.sig) → Buf (Elt F) ℓ)
    (c : Dev Cert.KernelIdeal.nD) (h : St same 19 (fun b => m (c, b)) (launchContents m' c)) :
    after (line c) (launchContents m' c) (Proc.devRef .tc Cert.ReferenceIdeal.main_v5055) = Cert.KernelIdeal.Gen.V m c Cert.KernelIdeal.main_v5055 :=
  (eq_of_heq ((line_sims c _ _ h).1 9448 (.inr ⟨by show 19 ≤ 9448; omega, by omega, rfl⟩) Cert.KernelIdeal.main_v5055 Cert.ReferenceIdeal.main_v5055 ⟨rfl, rfl⟩ ⟨rfl, rfl⟩)).symm

/-- Every run of the kernel ends with the host program's last value in the result. -/
theorem kernel_result (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ fun r => ∀ c : Dev Cert.KernelIdeal.nD,
      r.2.mem ((c.tc : Thread Cert.KernelIdeal.nD Cert.KernelIdeal.τ).loc Cert.KernelIdeal.main_v5056) = Cert.KernelIdeal.Gen.V m c Cert.KernelIdeal.main_v5055 :=
  θ_run_mono (Cert.KernelIdeal.Gen.run_main m g) fun _ h c => ((h c).1 1).trans (Cert.KernelIdeal.Value.copied m c)

/-- From memories equal on the arguments the kernel and the reference end with equal results. -/
theorem algebraic :
    Cert.algebraic_KernelIdeal_ReferenceIdeal (hKernelIdeal := Cert.KernelIdeal.Gen.facts) (hReferenceIdeal := Cert.ReferenceIdeal.Gen.facts) :=
  fun m g m' g' _ h => ⟨fun c => Cert.KernelIdeal.Gen.V m c Cert.KernelIdeal.main_v5055,
    θ_run_mono (θ_run_and (kernel_result m g) (Cert.KernelIdeal.Gen.unchanged m g)) fun _ hr c => ⟨hr.1 c, hr.2 c⟩,
    θ_run_mono (θ_run_and (reference_run m' g') (reference_unchanged m' g')) fun _ hr c =>
      ⟨(hr.1 c Cert.ReferenceIdeal.main_v5055).trans (last_value m m' c (launch_start m m' c (h c))), hr.2 c⟩⟩

/-- Everything claimed: the three frames, `preserves` and `algebraic`. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_quiescent, trivial, algebraic⟩

end Cert.Proof

end
